-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_gains_finite [hPre_gains_finite : Cert.Pre_gains_finite.Facts] (m : (ℓ : Loc Cert.KernelIdeal.nD Cert.KernelIdeal.τ Cert.KernelIdeal.sig) → Buf (Elt Ideal) ℓ) : Prop :=
  ∀ c : Dev Cert.KernelIdeal.nD,
    (Cert.Pre_gains_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_gains_finite [hPre_gains_finite : Cert.Pre_gains_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_gains_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Reference16Ideal (m : (ℓ : Loc Cert.Reference16Ideal.nD Cert.Reference16Ideal.τ Cert.Reference16Ideal.sig) → Buf (Elt Ideal) ℓ) : Prop :=
  True

def Pre_Kernel17 (m : (ℓ : Loc Cert.Kernel17.nD Cert.Kernel17.τ Cert.Kernel17.sig) → Buf (Elt Bits) ℓ) : Prop :=
  True

def Pre_Kernel17Ideal (m : (ℓ : Loc Cert.Kernel17Ideal.nD Cert.Kernel17Ideal.τ Cert.Kernel17Ideal.sig) → Buf (Elt Ideal) ℓ) : Prop :=
  True

def Pre_Reference17Ideal (m : (ℓ : Loc Cert.Reference17Ideal.nD Cert.Reference17Ideal.τ Cert.Reference17Ideal.sig) → Buf (Elt Ideal) ℓ) : Prop :=
  True

def Pre_Kernel18 (m : (ℓ : Loc Cert.Kernel18.nD Cert.Kernel18.τ Cert.Kernel18.sig) → Buf (Elt Bits) ℓ) : Prop :=
  True

def Pre_Kernel18Ideal (m : (ℓ : Loc Cert.Kernel18Ideal.nD Cert.Kernel18Ideal.τ Cert.Kernel18Ideal.sig) → Buf (Elt Ideal) ℓ) : Prop :=
  True

def Pre_Reference18Ideal (m : (ℓ : Loc Cert.Reference18Ideal.nD Cert.Reference18Ideal.τ Cert.Reference18Ideal.sig) → Buf (Elt Ideal) ℓ) : Prop :=
  True

def Pre_Kernel19 (m : (ℓ : Loc Cert.Kernel19.nD Cert.Kernel19.τ Cert.Kernel19.sig) → Buf (Elt Bits) ℓ) : Prop :=
  True

def Pre_Kernel19Ideal (m : (ℓ : Loc Cert.Kernel19Ideal.nD Cert.Kernel19Ideal.τ Cert.Kernel19Ideal.sig) → Buf (Elt Ideal) ℓ) : Prop :=
  True

def Pre_Reference19Ideal (m : (ℓ : Loc Cert.Reference19Ideal.nD Cert.Reference19Ideal.τ Cert.Reference19Ideal.sig) → Buf (Elt Ideal) ℓ) : Prop :=
  True

def Pre_Kernel20 (m : (ℓ : Loc Cert.Kernel20.nD Cert.Kernel20.τ Cert.Kernel20.sig) → Buf (Elt Bits) ℓ) : Prop :=
  True

def Pre_Kernel20Ideal (m : (ℓ : Loc Cert.Kernel20Ideal.nD Cert.Kernel20Ideal.τ Cert.Kernel20Ideal.sig) → Buf (Elt Ideal) ℓ) : Prop :=
  True

def Pre_Reference20Ideal (m : (ℓ : Loc Cert.Reference20Ideal.nD Cert.Reference20Ideal.τ Cert.Reference20Ideal.sig) → Buf (Elt Ideal) ℓ) : Prop :=
  True

def Pre_Kernel21 (m : (ℓ : Loc Cert.Kernel21.nD Cert.Kernel21.τ Cert.Kernel21.sig) → Buf (Elt Bits) ℓ) : Prop :=
  True

def Pre_Kernel21Ideal (m : (ℓ : Loc Cert.Kernel21Ideal.nD Cert.Kernel21Ideal.τ Cert.Kernel21Ideal.sig) → Buf (Elt Ideal) ℓ) : Prop :=
  True

def Pre_Reference21Ideal (m : (ℓ : Loc Cert.Reference21Ideal.nD Cert.Reference21Ideal.τ Cert.Reference21Ideal.sig) → Buf (Elt Ideal) ℓ) : Prop :=
  True

def Pre_Kernel22 (m : (ℓ : Loc Cert.Kernel22.nD Cert.Kernel22.τ Cert.Kernel22.sig) → Buf (Elt Bits) ℓ) : Prop :=
  True

def Pre_Kernel22Ideal (m : (ℓ : Loc Cert.Kernel22Ideal.nD Cert.Kernel22Ideal.τ Cert.Kernel22Ideal.sig) → Buf (Elt Ideal) ℓ) : Prop :=
  True

def Pre_Reference22Ideal (m : (ℓ : Loc Cert.Reference22Ideal.nD Cert.Reference22Ideal.τ Cert.Reference22Ideal.sig) → Buf (Elt Ideal) ℓ) : Prop :=
  True

def Pre_Kernel23 (m : (ℓ : Loc Cert.Kernel23.nD Cert.Kernel23.τ Cert.Kernel23.sig) → Buf (Elt Bits) ℓ) : Prop :=
  True

def Pre_Kernel23Ideal (m : (ℓ : Loc Cert.Kernel23Ideal.nD Cert.Kernel23Ideal.τ Cert.Kernel23Ideal.sig) → Buf (Elt Ideal) ℓ) : Prop :=
  True

def Pre_Reference23Ideal (m : (ℓ : Loc Cert.Reference23Ideal.nD Cert.Reference23Ideal.τ Cert.Reference23Ideal.sig) → Buf (Elt Ideal) ℓ) : Prop :=
  True

def Pre_Kernel24 (m : (ℓ : Loc Cert.Kernel24.nD Cert.Kernel24.τ Cert.Kernel24.sig) → Buf (Elt Bits) ℓ) : Prop :=
  True

def Pre_Kernel24Ideal (m : (ℓ : Loc Cert.Kernel24Ideal.nD Cert.Kernel24Ideal.τ Cert.Kernel24Ideal.sig) → Buf (Elt Ideal) ℓ) : Prop :=
  True

def Pre_Reference24Ideal (m : (ℓ : Loc Cert.Reference24Ideal.nD Cert.Reference24Ideal.τ Cert.Reference24Ideal.sig) → Buf (Elt Ideal) ℓ) : Prop :=
  True

def Pre_Kernel25 (m : (ℓ : Loc Cert.Kernel25.nD Cert.Kernel25.τ Cert.Kernel25.sig) → Buf (Elt Bits) ℓ) : Prop :=
  True

def Pre_Kernel25Ideal (m : (ℓ : Loc Cert.Kernel25Ideal.nD Cert.Kernel25Ideal.τ Cert.Kernel25Ideal.sig) → Buf (Elt Ideal) ℓ) : Prop :=
  True

def Pre_Reference25Ideal (m : (ℓ : Loc Cert.Reference25Ideal.nD Cert.Reference25Ideal.τ Cert.Reference25Ideal.sig) → Buf (Elt Ideal) ℓ) : Prop :=
  True

def Pre_Kernel26 (m : (ℓ : Loc Cert.Kernel26.nD Cert.Kernel26.τ Cert.Kernel26.sig) → Buf (Elt Bits) ℓ) : Prop :=
  True

def Pre_Kernel26Ideal (m : (ℓ : Loc Cert.Kernel26Ideal.nD Cert.Kernel26Ideal.τ Cert.Kernel26Ideal.sig) → Buf (Elt Ideal) ℓ) : Prop :=
  True

def Pre_Kernel26Ideal_numbers [hPre_numbers : Cert.Pre_numbers.Facts] (m : (ℓ : Loc Cert.Kernel26Ideal.nD Cert.Kernel26Ideal.τ Cert.Kernel26Ideal.sig) → Buf (Elt Ideal) ℓ) : Prop :=
  ∀ c : Dev Cert.Kernel26Ideal.nD,
    (Cert.Pre_numbers.fn (F := Ideal) (m ((c.tc : Thread Cert.Kernel26Ideal.nD Cert.Kernel26Ideal.τ).loc Cert.Kernel26Ideal.main_arg0)) (m ((c.tc : Thread Cert.Kernel26Ideal.nD Cert.Kernel26Ideal.τ).loc Cert.Kernel26Ideal.main_arg1)) (m ((c.tc : Thread Cert.Kernel26Ideal.nD Cert.Kernel26Ideal.τ).loc Cert.Kernel26Ideal.main_arg2)) (m ((c.tc : Thread Cert.Kernel26Ideal.nD Cert.Kernel26Ideal.τ).loc Cert.Kernel26Ideal.main_arg3)) (m ((c.tc : Thread Cert.Kernel26Ideal.nD Cert.Kernel26Ideal.τ).loc Cert.Kernel26Ideal.main_arg4)) (m ((c.tc : Thread Cert.Kernel26Ideal.nD Cert.Kernel26Ideal.τ).loc Cert.Kernel26Ideal.main_arg5))) = (fun _ => 1#1)

def Pre_Reference26Ideal (m : (ℓ : Loc Cert.Reference26Ideal.nD Cert.Reference26Ideal.τ Cert.Reference26Ideal.sig) → Buf (Elt Ideal) ℓ) : Prop :=
  True

def Pre_Reference26Ideal_numbers [hPre_numbers : Cert.Pre_numbers.Facts] (m : (ℓ : Loc Cert.Reference26Ideal.nD Cert.Reference26Ideal.τ Cert.Reference26Ideal.sig) → Buf (Elt Ideal) ℓ) : Prop :=
  ∀ c : Dev Cert.Reference26Ideal.nD,
    (Cert.Pre_numbers.fn (F := Ideal) (m ((c.tc : Thread Cert.Reference26Ideal.nD Cert.Reference26Ideal.τ).loc Cert.Reference26Ideal.main_arg0)) (m ((c.tc : Thread Cert.Reference26Ideal.nD Cert.Reference26Ideal.τ).loc Cert.Reference26Ideal.main_arg1)) (m ((c.tc : Thread Cert.Reference26Ideal.nD Cert.Reference26Ideal.τ).loc Cert.Reference26Ideal.main_arg2)) (m ((c.tc : Thread Cert.Reference26Ideal.nD Cert.Reference26Ideal.τ).loc Cert.Reference26Ideal.main_arg3)) (m ((c.tc : Thread Cert.Reference26Ideal.nD Cert.Reference26Ideal.τ).loc Cert.Reference26Ideal.main_arg4)) (m ((c.tc : Thread Cert.Reference26Ideal.nD Cert.Reference26Ideal.τ).loc Cert.Reference26Ideal.main_arg5))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_gains_finite [hKernelIdeal : Cert.KernelIdeal.Facts] [hPre_gains_finite : Cert.Pre_gains_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_gains_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_gains_finite [hReferenceIdeal : Cert.ReferenceIdeal.Facts] [hPre_gains_finite : Cert.Pre_gains_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_gains_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3)
      ∧ r.2.mem ((c.tc : Thread Cert.Kernel8.nD Cert.Kernel8.τ).loc Cert.Kernel8.main_arg4) = m ((c.tc : Thread Cert.Kernel8.nD Cert.Kernel8.τ).loc Cert.Kernel8.main_arg4)
      ∧ r.2.mem ((c.tc : Thread Cert.Kernel8.nD Cert.Kernel8.τ).loc Cert.Kernel8.main_arg5) = m ((c.tc : Thread Cert.Kernel8.nD Cert.Kernel8.τ).loc Cert.Kernel8.main_arg5)
      ∧ r.2.mem ((c.tc : Thread Cert.Kernel8.nD Cert.Kernel8.τ).loc Cert.Kernel8.main_arg6) = m ((c.tc : Thread Cert.Kernel8.nD Cert.Kernel8.τ).loc Cert.Kernel8.main_arg6))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
      ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
      ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5)
      ∧ r.2.mem ((c.tc : Thread Cert.Kernel8Ideal.nD Cert.Kernel8Ideal.τ).loc Cert.Kernel8Ideal.main_arg6) = m ((c.tc : Thread Cert.Kernel8Ideal.nD Cert.Kernel8Ideal.τ).loc Cert.Kernel8Ideal.main_arg6))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3)
      ∧ r.2.mem ((c.tc : Thread Cert.Reference8Ideal.nD Cert.Reference8Ideal.τ).loc Cert.Reference8Ideal.main_arg4) = m ((c.tc : Thread Cert.Reference8Ideal.nD Cert.Reference8Ideal.τ).loc Cert.Reference8Ideal.main_arg4)
      ∧ r.2.mem ((c.tc : Thread Cert.Reference8Ideal.nD Cert.Reference8Ideal.τ).loc Cert.Reference8Ideal.main_arg5) = m ((c.tc : Thread Cert.Reference8Ideal.nD Cert.Reference8Ideal.τ).loc Cert.Reference8Ideal.main_arg5)
      ∧ r.2.mem ((c.tc : Thread Cert.Reference8Ideal.nD Cert.Reference8Ideal.τ).loc Cert.Reference8Ideal.main_arg6) = m ((c.tc : Thread Cert.Reference8Ideal.nD Cert.Reference8Ideal.τ).loc Cert.Reference8Ideal.main_arg6))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2)
      ∧ r.2.mem ((c.tc : Thread Cert.Kernel9.nD Cert.Kernel9.τ).loc Cert.Kernel9.main_arg3) = m ((c.tc : Thread Cert.Kernel9.nD Cert.Kernel9.τ).loc Cert.Kernel9.main_arg3)
      ∧ r.2.mem ((c.tc : Thread Cert.Kernel9.nD Cert.Kernel9.τ).loc Cert.Kernel9.main_arg4) = m ((c.tc : Thread Cert.Kernel9.nD Cert.Kernel9.τ).loc Cert.Kernel9.main_arg4)
      ∧ r.2.mem ((c.tc : Thread Cert.Kernel9.nD Cert.Kernel9.τ).loc Cert.Kernel9.main_arg5) = m ((c.tc : Thread Cert.Kernel9.nD Cert.Kernel9.τ).loc Cert.Kernel9.main_arg5)
      ∧ r.2.mem ((c.tc : Thread Cert.Kernel9.nD Cert.Kernel9.τ).loc Cert.Kernel9.main_arg6) = m ((c.tc : Thread Cert.Kernel9.nD Cert.Kernel9.τ).loc Cert.Kernel9.main_arg6))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
      ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
      ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4)
      ∧ r.2.mem ((c.tc : Thread Cert.Kernel9Ideal.nD Cert.Kernel9Ideal.τ).loc Cert.Kernel9Ideal.main_arg5) = m ((c.tc : Thread Cert.Kernel9Ideal.nD Cert.Kernel9Ideal.τ).loc Cert.Kernel9Ideal.main_arg5)
      ∧ r.2.mem ((c.tc : Thread Cert.Kernel9Ideal.nD Cert.Kernel9Ideal.τ).loc Cert.Kernel9Ideal.main_arg6) = m ((c.tc : Thread Cert.Kernel9Ideal.nD Cert.Kernel9Ideal.τ).loc Cert.Kernel9Ideal.main_arg6))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2)
      ∧ r.2.mem ((c.tc : Thread Cert.Reference9Ideal.nD Cert.Reference9Ideal.τ).loc Cert.Reference9Ideal.main_arg3) = m ((c.tc : Thread Cert.Reference9Ideal.nD Cert.Reference9Ideal.τ).loc Cert.Reference9Ideal.main_arg3)
      ∧ r.2.mem ((c.tc : Thread Cert.Reference9Ideal.nD Cert.Reference9Ideal.τ).loc Cert.Reference9Ideal.main_arg4) = m ((c.tc : Thread Cert.Reference9Ideal.nD Cert.Reference9Ideal.τ).loc Cert.Reference9Ideal.main_arg4)
      ∧ r.2.mem ((c.tc : Thread Cert.Reference9Ideal.nD Cert.Reference9Ideal.τ).loc Cert.Reference9Ideal.main_arg5) = m ((c.tc : Thread Cert.Reference9Ideal.nD Cert.Reference9Ideal.τ).loc Cert.Reference9Ideal.main_arg5)
      ∧ r.2.mem ((c.tc : Thread Cert.Reference9Ideal.nD Cert.Reference9Ideal.τ).loc Cert.Reference9Ideal.main_arg6) = m ((c.tc : Thread Cert.Reference9Ideal.nD Cert.Reference9Ideal.τ).loc Cert.Reference9Ideal.main_arg6))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2)
      ∧ r.2.mem ((c.tc : Thread Cert.Kernel11.nD Cert.Kernel11.τ).loc Cert.Kernel11.main_arg3) = m ((c.tc : Thread Cert.Kernel11.nD Cert.Kernel11.τ).loc Cert.Kernel11.main_arg3))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
      ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2)
      ∧ r.2.mem ((c.tc : Thread Cert.Reference11Ideal.nD Cert.Reference11Ideal.τ).loc Cert.Reference11Ideal.main_arg3) = m ((c.tc : Thread Cert.Reference11Ideal.nD Cert.Reference11Ideal.τ).loc Cert.Reference11Ideal.main_arg3))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1)
      ∧ r.2.mem ((c.tc : Thread Cert.Kernel13.nD Cert.Kernel13.τ).loc Cert.Kernel13.main_arg2) = m ((c.tc : Thread Cert.Kernel13.nD Cert.Kernel13.τ).loc Cert.Kernel13.main_arg2)
      ∧ r.2.mem ((c.tc : Thread Cert.Kernel13.nD Cert.Kernel13.τ).loc Cert.Kernel13.main_arg3) = m ((c.tc : Thread Cert.Kernel13.nD Cert.Kernel13.τ).loc Cert.Kernel13.main_arg3))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
      ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
      ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1)
      ∧ r.2.mem ((c.tc : Thread Cert.Reference13Ideal.nD Cert.Reference13Ideal.τ).loc Cert.Reference13Ideal.main_arg2) = m ((c.tc : Thread Cert.Reference13Ideal.nD Cert.Reference13Ideal.τ).loc Cert.Reference13Ideal.main_arg2)
      ∧ r.2.mem ((c.tc : Thread Cert.Reference13Ideal.nD Cert.Reference13Ideal.τ).loc Cert.Reference13Ideal.main_arg3) = m ((c.tc : Thread Cert.Reference13Ideal.nD Cert.Reference13Ideal.τ).loc Cert.Reference13Ideal.main_arg3))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1)
      ∧ r.2.mem ((c.tc : Thread Cert.Kernel14.nD Cert.Kernel14.τ).loc Cert.Kernel14.main_arg2) = m ((c.tc : Thread Cert.Kernel14.nD Cert.Kernel14.τ).loc Cert.Kernel14.main_arg2)
      ∧ r.2.mem ((c.tc : Thread Cert.Kernel14.nD Cert.Kernel14.τ).loc Cert.Kernel14.main_arg3) = m ((c.tc : Thread Cert.Kernel14.nD Cert.Kernel14.τ).loc Cert.Kernel14.main_arg3))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
      ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
      ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1)
      ∧ r.2.mem ((c.tc : Thread Cert.Reference14Ideal.nD Cert.Reference14Ideal.τ).loc Cert.Reference14Ideal.main_arg2) = m ((c.tc : Thread Cert.Reference14Ideal.nD Cert.Reference14Ideal.τ).loc Cert.Reference14Ideal.main_arg2)
      ∧ r.2.mem ((c.tc : Thread Cert.Reference14Ideal.nD Cert.Reference14Ideal.τ).loc Cert.Reference14Ideal.main_arg3) = m ((c.tc : Thread Cert.Reference14Ideal.nD Cert.Reference14Ideal.τ).loc Cert.Reference14Ideal.main_arg3))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1)
      ∧ r.2.mem ((c.tc : Thread Cert.Kernel15.nD Cert.Kernel15.τ).loc Cert.Kernel15.main_arg2) = m ((c.tc : Thread Cert.Kernel15.nD Cert.Kernel15.τ).loc Cert.Kernel15.main_arg2)
      ∧ r.2.mem ((c.tc : Thread Cert.Kernel15.nD Cert.Kernel15.τ).loc Cert.Kernel15.main_arg3) = m ((c.tc : Thread Cert.Kernel15.nD Cert.Kernel15.τ).loc Cert.Kernel15.main_arg3))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
      ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
      ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1)
      ∧ r.2.mem ((c.tc : Thread Cert.Reference15Ideal.nD Cert.Reference15Ideal.τ).loc Cert.Reference15Ideal.main_arg2) = m ((c.tc : Thread Cert.Reference15Ideal.nD Cert.Reference15Ideal.τ).loc Cert.Reference15Ideal.main_arg2)
      ∧ r.2.mem ((c.tc : Thread Cert.Reference15Ideal.nD Cert.Reference15Ideal.τ).loc Cert.Reference15Ideal.main_arg3) = m ((c.tc : Thread Cert.Reference15Ideal.nD Cert.Reference15Ideal.τ).loc Cert.Reference15Ideal.main_arg3))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1)
      ∧ r.2.mem ((c.tc : Thread Cert.Kernel16.nD Cert.Kernel16.τ).loc Cert.Kernel16.main_arg2) = m ((c.tc : Thread Cert.Kernel16.nD Cert.Kernel16.τ).loc Cert.Kernel16.main_arg2)
      ∧ r.2.mem ((c.tc : Thread Cert.Kernel16.nD Cert.Kernel16.τ).loc Cert.Kernel16.main_arg3) = m ((c.tc : Thread Cert.Kernel16.nD Cert.Kernel16.τ).loc Cert.Kernel16.main_arg3))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
      ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2)
      ∧ r.2.mem ((c.tc : Thread Cert.Kernel16Ideal.nD Cert.Kernel16Ideal.τ).loc Cert.Kernel16Ideal.main_arg3) = m ((c.tc : Thread Cert.Kernel16Ideal.nD Cert.Kernel16Ideal.τ).loc Cert.Kernel16Ideal.main_arg3))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1)
      ∧ r.2.mem ((c.tc : Thread Cert.Reference16Ideal.nD Cert.Reference16Ideal.τ).loc Cert.Reference16Ideal.main_arg2) = m ((c.tc : Thread Cert.Reference16Ideal.nD Cert.Reference16Ideal.τ).loc Cert.Reference16Ideal.main_arg2)
      ∧ r.2.mem ((c.tc : Thread Cert.Reference16Ideal.nD Cert.Reference16Ideal.τ).loc Cert.Reference16Ideal.main_arg3) = m ((c.tc : Thread Cert.Reference16Ideal.nD Cert.Reference16Ideal.τ).loc Cert.Reference16Ideal.main_arg3))
      ∧ r.2.sem = fun _ => 0)

def quiescent_Kernel17 [hKernel17 : Cert.Kernel17.Facts] : Prop :=
  ∀ (m : (ℓ : Loc Cert.Kernel17.nD Cert.Kernel17.τ Cert.Kernel17.sig) → Buf (Elt Bits) ℓ) (g : Dev Cert.Kernel17.nD → PrngReg), Pre_Kernel17 m →
    θ_run (Cert.Kernel17.defs (F := Bits)) (onTc (τ := Cert.Kernel17.τ) (Cert.Kernel17.main (F := Bits))) ⟨m, fun _ => 0, g⟩ (fun r => (∀ c : Dev Cert.Kernel17.nD,
      r.2.mem ((c.tc : Thread Cert.Kernel17.nD Cert.Kernel17.τ).loc Cert.Kernel17.main_arg0) = m ((c.tc : Thread Cert.Kernel17.nD Cert.Kernel17.τ).loc Cert.Kernel17.main_arg0)
      ∧ r.2.mem ((c.tc : Thread Cert.Kernel17.nD Cert.Kernel17.τ).loc Cert.Kernel17.main_arg1) = m ((c.tc : Thread Cert.Kernel17.nD Cert.Kernel17.τ).loc Cert.Kernel17.main_arg1)
      ∧ r.2.mem ((c.tc : Thread Cert.Kernel17.nD Cert.Kernel17.τ).loc Cert.Kernel17.main_arg2) = m ((c.tc : Thread Cert.Kernel17.nD Cert.Kernel17.τ).loc Cert.Kernel17.main_arg2)
      ∧ r.2.mem ((c.tc : Thread Cert.Kernel17.nD Cert.Kernel17.τ).loc Cert.Kernel17.main_arg3) = m ((c.tc : Thread Cert.Kernel17.nD Cert.Kernel17.τ).loc Cert.Kernel17.main_arg3))
      ∧ r.2.sem = fun _ => 0)

def quiescent_Kernel17Ideal [hKernel17Ideal : Cert.Kernel17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg), Pre_Kernel17Ideal m →
    θ_run (Cert.Kernel17Ideal.defs (F := Ideal)) (onTc (τ := Cert.Kernel17Ideal.τ) (Cert.Kernel17Ideal.main (F := Ideal))) ⟨m, fun _ => 0, g⟩ (fun r => (∀ c : Dev Cert.Kernel17Ideal.nD,
      r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
      ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
      ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2)
      ∧ r.2.mem ((c.tc : Thread Cert.Kernel17Ideal.nD Cert.Kernel17Ideal.τ).loc Cert.Kernel17Ideal.main_arg3) = m ((c.tc : Thread Cert.Kernel17Ideal.nD Cert.Kernel17Ideal.τ).loc Cert.Kernel17Ideal.main_arg3))
      ∧ r.2.sem = fun _ => 0)

def quiescent_Reference17Ideal [hReference17Ideal : Cert.Reference17Ideal.Facts] : Prop :=
  ∀ (m : (ℓ : Loc Cert.Reference17Ideal.nD Cert.Reference17Ideal.τ Cert.Reference17Ideal.sig) → Buf (Elt Ideal) ℓ) (g : Dev Cert.Reference17Ideal.nD → PrngReg), Pre_Reference17Ideal m →
    θ_run (Cert.Reference17Ideal.defs (F := Ideal)) (onTc (τ := Cert.Reference17Ideal.τ) (Cert.Reference17Ideal.main (F := Ideal))) ⟨m, fun _ => 0, g⟩ (fun r => (∀ c : Dev Cert.Reference17Ideal.nD,
      r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0)
      ∧ r.2.mem ((c.tc : Thread Cert.Reference17Ideal.nD Cert.Reference17Ideal.τ).loc Cert.Reference17Ideal.main_arg1) = m ((c.tc : Thread Cert.Reference17Ideal.nD Cert.Reference17Ideal.τ).loc Cert.Reference17Ideal.main_arg1)
      ∧ r.2.mem ((c.tc : Thread Cert.Reference17Ideal.nD Cert.Reference17Ideal.τ).loc Cert.Reference17Ideal.main_arg2) = m ((c.tc : Thread Cert.Reference17Ideal.nD Cert.Reference17Ideal.τ).loc Cert.Reference17Ideal.main_arg2)
      ∧ r.2.mem ((c.tc : Thread Cert.Reference17Ideal.nD Cert.Reference17Ideal.τ).loc Cert.Reference17Ideal.main_arg3) = m ((c.tc : Thread Cert.Reference17Ideal.nD Cert.Reference17Ideal.τ).loc Cert.Reference17Ideal.main_arg3))
      ∧ r.2.sem = fun _ => 0)

def quiescent_Kernel18 [hKernel18 : Cert.Kernel18.Facts] : Prop :=
  ∀ (m : (ℓ : Loc Cert.Kernel18.nD Cert.Kernel18.τ Cert.Kernel18.sig) → Buf (Elt Bits) ℓ) (g : Dev Cert.Kernel18.nD → PrngReg), Pre_Kernel18 m →
    θ_run (Cert.Kernel18.defs (F := Bits)) (onTc (τ := Cert.Kernel18.τ) (Cert.Kernel18.main (F := Bits))) ⟨m, fun _ => 0, g⟩ (fun r => (∀ c : Dev Cert.Kernel18.nD,
      r.2.mem ((c.tc : Thread Cert.Kernel18.nD Cert.Kernel18.τ).loc Cert.Kernel18.main_arg0) = m ((c.tc : Thread Cert.Kernel18.nD Cert.Kernel18.τ).loc Cert.Kernel18.main_arg0)
      ∧ r.2.mem ((c.tc : Thread Cert.Kernel18.nD Cert.Kernel18.τ).loc Cert.Kernel18.main_arg1) = m ((c.tc : Thread Cert.Kernel18.nD Cert.Kernel18.τ).loc Cert.Kernel18.main_arg1)
      ∧ r.2.mem ((c.tc : Thread Cert.Kernel18.nD Cert.Kernel18.τ).loc Cert.Kernel18.main_arg2) = m ((c.tc : Thread Cert.Kernel18.nD Cert.Kernel18.τ).loc Cert.Kernel18.main_arg2)
      ∧ r.2.mem ((c.tc : Thread Cert.Kernel18.nD Cert.Kernel18.τ).loc Cert.Kernel18.main_arg3) = m ((c.tc : Thread Cert.Kernel18.nD Cert.Kernel18.τ).loc Cert.Kernel18.main_arg3)
      ∧ r.2.mem ((c.tc : Thread Cert.Kernel18.nD Cert.Kernel18.τ).loc Cert.Kernel18.main_arg4) = m ((c.tc : Thread Cert.Kernel18.nD Cert.Kernel18.τ).loc Cert.Kernel18.main_arg4)
      ∧ r.2.mem ((c.tc : Thread Cert.Kernel18.nD Cert.Kernel18.τ).loc Cert.Kernel18.main_arg5) = m ((c.tc : Thread Cert.Kernel18.nD Cert.Kernel18.τ).loc Cert.Kernel18.main_arg5)
      ∧ r.2.mem ((c.tc : Thread Cert.Kernel18.nD Cert.Kernel18.τ).loc Cert.Kernel18.main_arg6) = m ((c.tc : Thread Cert.Kernel18.nD Cert.Kernel18.τ).loc Cert.Kernel18.main_arg6))
      ∧ r.2.sem = fun _ => 0)

def quiescent_Kernel18Ideal [hKernel18Ideal : Cert.Kernel18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg), Pre_Kernel18Ideal m →
    θ_run (Cert.Kernel18Ideal.defs (F := Ideal)) (onTc (τ := Cert.Kernel18Ideal.τ) (Cert.Kernel18Ideal.main (F := Ideal))) ⟨m, fun _ => 0, g⟩ (fun r => (∀ c : Dev Cert.Kernel18Ideal.nD,
      r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
      ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
      ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2)
      ∧ r.2.mem ((c.tc : Thread Cert.Kernel18Ideal.nD Cert.Kernel18Ideal.τ).loc Cert.Kernel18Ideal.main_arg3) = m ((c.tc : Thread Cert.Kernel18Ideal.nD Cert.Kernel18Ideal.τ).loc Cert.Kernel18Ideal.main_arg3)
      ∧ r.2.mem ((c.tc : Thread Cert.Kernel18Ideal.nD Cert.Kernel18Ideal.τ).loc Cert.Kernel18Ideal.main_arg4) = m ((c.tc : Thread Cert.Kernel18Ideal.nD Cert.Kernel18Ideal.τ).loc Cert.Kernel18Ideal.main_arg4)
      ∧ r.2.mem ((c.tc : Thread Cert.Kernel18Ideal.nD Cert.Kernel18Ideal.τ).loc Cert.Kernel18Ideal.main_arg5) = m ((c.tc : Thread Cert.Kernel18Ideal.nD Cert.Kernel18Ideal.τ).loc Cert.Kernel18Ideal.main_arg5)
      ∧ r.2.mem ((c.tc : Thread Cert.Kernel18Ideal.nD Cert.Kernel18Ideal.τ).loc Cert.Kernel18Ideal.main_arg6) = m ((c.tc : Thread Cert.Kernel18Ideal.nD Cert.Kernel18Ideal.τ).loc Cert.Kernel18Ideal.main_arg6))
      ∧ r.2.sem = fun _ => 0)

def quiescent_Reference18Ideal [hReference18Ideal : Cert.Reference18Ideal.Facts] : Prop :=
  ∀ (m : (ℓ : Loc Cert.Reference18Ideal.nD Cert.Reference18Ideal.τ Cert.Reference18Ideal.sig) → Buf (Elt Ideal) ℓ) (g : Dev Cert.Reference18Ideal.nD → PrngReg), Pre_Reference18Ideal m →
    θ_run (Cert.Reference18Ideal.defs (F := Ideal)) (onTc (τ := Cert.Reference18Ideal.τ) (Cert.Reference18Ideal.main (F := Ideal))) ⟨m, fun _ => 0, g⟩ (fun r => (∀ c : Dev Cert.Reference18Ideal.nD,
      r.2.mem ((c.tc : Thread Cert.Reference18Ideal.nD Cert.Reference18Ideal.τ).loc Cert.Reference18Ideal.main_arg0) = m ((c.tc : Thread Cert.Reference18Ideal.nD Cert.Reference18Ideal.τ).loc Cert.Reference18Ideal.main_arg0)
      ∧ r.2.mem ((c.tc : Thread Cert.Reference18Ideal.nD Cert.Reference18Ideal.τ).loc Cert.Reference18Ideal.main_arg1) = m ((c.tc : Thread Cert.Reference18Ideal.nD Cert.Reference18Ideal.τ).loc Cert.Reference18Ideal.main_arg1)
      ∧ r.2.mem ((c.tc : Thread Cert.Reference18Ideal.nD Cert.Reference18Ideal.τ).loc Cert.Reference18Ideal.main_arg2) = m ((c.tc : Thread Cert.Reference18Ideal.nD Cert.Reference18Ideal.τ).loc Cert.Reference18Ideal.main_arg2)
      ∧ r.2.mem ((c.tc : Thread Cert.Reference18Ideal.nD Cert.Reference18Ideal.τ).loc Cert.Reference18Ideal.main_arg3) = m ((c.tc : Thread Cert.Reference18Ideal.nD Cert.Reference18Ideal.τ).loc Cert.Reference18Ideal.main_arg3)
      ∧ r.2.mem ((c.tc : Thread Cert.Reference18Ideal.nD Cert.Reference18Ideal.τ).loc Cert.Reference18Ideal.main_arg4) = m ((c.tc : Thread Cert.Reference18Ideal.nD Cert.Reference18Ideal.τ).loc Cert.Reference18Ideal.main_arg4)
      ∧ r.2.mem ((c.tc : Thread Cert.Reference18Ideal.nD Cert.Reference18Ideal.τ).loc Cert.Reference18Ideal.main_arg5) = m ((c.tc : Thread Cert.Reference18Ideal.nD Cert.Reference18Ideal.τ).loc Cert.Reference18Ideal.main_arg5)
      ∧ r.2.mem ((c.tc : Thread Cert.Reference18Ideal.nD Cert.Reference18Ideal.τ).loc Cert.Reference18Ideal.main_arg6) = m ((c.tc : Thread Cert.Reference18Ideal.nD Cert.Reference18Ideal.τ).loc Cert.Reference18Ideal.main_arg6))
      ∧ r.2.sem = fun _ => 0)

def quiescent_Kernel19 [hKernel19 : Cert.Kernel19.Facts] : Prop :=
  ∀ (m : (ℓ : Loc Cert.Kernel19.nD Cert.Kernel19.τ Cert.Kernel19.sig) → Buf (Elt Bits) ℓ) (g : Dev Cert.Kernel19.nD → PrngReg), Pre_Kernel19 m →
    θ_run (Cert.Kernel19.defs (F := Bits)) (onTc (τ := Cert.Kernel19.τ) (Cert.Kernel19.main (F := Bits))) ⟨m, fun _ => 0, g⟩ (fun r => (∀ c : Dev Cert.Kernel19.nD,
      r.2.mem ((c.tc : Thread Cert.Kernel19.nD Cert.Kernel19.τ).loc Cert.Kernel19.main_arg0) = m ((c.tc : Thread Cert.Kernel19.nD Cert.Kernel19.τ).loc Cert.Kernel19.main_arg0)
      ∧ r.2.mem ((c.tc : Thread Cert.Kernel19.nD Cert.Kernel19.τ).loc Cert.Kernel19.main_arg1) = m ((c.tc : Thread Cert.Kernel19.nD Cert.Kernel19.τ).loc Cert.Kernel19.main_arg1)
      ∧ r.2.mem ((c.tc : Thread Cert.Kernel19.nD Cert.Kernel19.τ).loc Cert.Kernel19.main_arg2) = m ((c.tc : Thread Cert.Kernel19.nD Cert.Kernel19.τ).loc Cert.Kernel19.main_arg2)
      ∧ r.2.mem ((c.tc : Thread Cert.Kernel19.nD Cert.Kernel19.τ).loc Cert.Kernel19.main_arg3) = m ((c.tc : Thread Cert.Kernel19.nD Cert.Kernel19.τ).loc Cert.Kernel19.main_arg3)
      ∧ r.2.mem ((c.tc : Thread Cert.Kernel19.nD Cert.Kernel19.τ).loc Cert.Kernel19.main_arg4) = m ((c.tc : Thread Cert.Kernel19.nD Cert.Kernel19.τ).loc Cert.Kernel19.main_arg4)
      ∧ r.2.mem ((c.tc : Thread Cert.Kernel19.nD Cert.Kernel19.τ).loc Cert.Kernel19.main_arg5) = m ((c.tc : Thread Cert.Kernel19.nD Cert.Kernel19.τ).loc Cert.Kernel19.main_arg5)
      ∧ r.2.mem ((c.tc : Thread Cert.Kernel19.nD Cert.Kernel19.τ).loc Cert.Kernel19.main_arg6) = m ((c.tc : Thread Cert.Kernel19.nD Cert.Kernel19.τ).loc Cert.Kernel19.main_arg6))
      ∧ r.2.sem = fun _ => 0)

def quiescent_Kernel19Ideal [hKernel19Ideal : Cert.Kernel19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg), Pre_Kernel19Ideal m →
    θ_run (Cert.Kernel19Ideal.defs (F := Ideal)) (onTc (τ := Cert.Kernel19Ideal.τ) (Cert.Kernel19Ideal.main (F := Ideal))) ⟨m, fun _ => 0, g⟩ (fun r => (∀ c : Dev Cert.Kernel19Ideal.nD,
      r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
      ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
      ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2)
      ∧ r.2.mem ((c.tc : Thread Cert.Kernel19Ideal.nD Cert.Kernel19Ideal.τ).loc Cert.Kernel19Ideal.main_arg3) = m ((c.tc : Thread Cert.Kernel19Ideal.nD Cert.Kernel19Ideal.τ).loc Cert.Kernel19Ideal.main_arg3)
      ∧ r.2.mem ((c.tc : Thread Cert.Kernel19Ideal.nD Cert.Kernel19Ideal.τ).loc Cert.Kernel19Ideal.main_arg4) = m ((c.tc : Thread Cert.Kernel19Ideal.nD Cert.Kernel19Ideal.τ).loc Cert.Kernel19Ideal.main_arg4)
      ∧ r.2.mem ((c.tc : Thread Cert.Kernel19Ideal.nD Cert.Kernel19Ideal.τ).loc Cert.Kernel19Ideal.main_arg5) = m ((c.tc : Thread Cert.Kernel19Ideal.nD Cert.Kernel19Ideal.τ).loc Cert.Kernel19Ideal.main_arg5)
      ∧ r.2.mem ((c.tc : Thread Cert.Kernel19Ideal.nD Cert.Kernel19Ideal.τ).loc Cert.Kernel19Ideal.main_arg6) = m ((c.tc : Thread Cert.Kernel19Ideal.nD Cert.Kernel19Ideal.τ).loc Cert.Kernel19Ideal.main_arg6))
      ∧ r.2.sem = fun _ => 0)

def quiescent_Reference19Ideal [hReference19Ideal : Cert.Reference19Ideal.Facts] : Prop :=
  ∀ (m : (ℓ : Loc Cert.Reference19Ideal.nD Cert.Reference19Ideal.τ Cert.Reference19Ideal.sig) → Buf (Elt Ideal) ℓ) (g : Dev Cert.Reference19Ideal.nD → PrngReg), Pre_Reference19Ideal m →
    θ_run (Cert.Reference19Ideal.defs (F := Ideal)) (onTc (τ := Cert.Reference19Ideal.τ) (Cert.Reference19Ideal.main (F := Ideal))) ⟨m, fun _ => 0, g⟩ (fun r => (∀ c : Dev Cert.Reference19Ideal.nD,
      r.2.mem ((c.tc : Thread Cert.Reference19Ideal.nD Cert.Reference19Ideal.τ).loc Cert.Reference19Ideal.main_arg0) = m ((c.tc : Thread Cert.Reference19Ideal.nD Cert.Reference19Ideal.τ).loc Cert.Reference19Ideal.main_arg0)
      ∧ r.2.mem ((c.tc : Thread Cert.Reference19Ideal.nD Cert.Reference19Ideal.τ).loc Cert.Reference19Ideal.main_arg1) = m ((c.tc : Thread Cert.Reference19Ideal.nD Cert.Reference19Ideal.τ).loc Cert.Reference19Ideal.main_arg1)
      ∧ r.2.mem ((c.tc : Thread Cert.Reference19Ideal.nD Cert.Reference19Ideal.τ).loc Cert.Reference19Ideal.main_arg2) = m ((c.tc : Thread Cert.Reference19Ideal.nD Cert.Reference19Ideal.τ).loc Cert.Reference19Ideal.main_arg2)
      ∧ r.2.mem ((c.tc : Thread Cert.Reference19Ideal.nD Cert.Reference19Ideal.τ).loc Cert.Reference19Ideal.main_arg3) = m ((c.tc : Thread Cert.Reference19Ideal.nD Cert.Reference19Ideal.τ).loc Cert.Reference19Ideal.main_arg3)
      ∧ r.2.mem ((c.tc : Thread Cert.Reference19Ideal.nD Cert.Reference19Ideal.τ).loc Cert.Reference19Ideal.main_arg4) = m ((c.tc : Thread Cert.Reference19Ideal.nD Cert.Reference19Ideal.τ).loc Cert.Reference19Ideal.main_arg4)
      ∧ r.2.mem ((c.tc : Thread Cert.Reference19Ideal.nD Cert.Reference19Ideal.τ).loc Cert.Reference19Ideal.main_arg5) = m ((c.tc : Thread Cert.Reference19Ideal.nD Cert.Reference19Ideal.τ).loc Cert.Reference19Ideal.main_arg5)
      ∧ r.2.mem ((c.tc : Thread Cert.Reference19Ideal.nD Cert.Reference19Ideal.τ).loc Cert.Reference19Ideal.main_arg6) = m ((c.tc : Thread Cert.Reference19Ideal.nD Cert.Reference19Ideal.τ).loc Cert.Reference19Ideal.main_arg6))
      ∧ r.2.sem = fun _ => 0)

def quiescent_Kernel20 [hKernel20 : Cert.Kernel20.Facts] : Prop :=
  ∀ (m : (ℓ : Loc Cert.Kernel20.nD Cert.Kernel20.τ Cert.Kernel20.sig) → Buf (Elt Bits) ℓ) (g : Dev Cert.Kernel20.nD → PrngReg), Pre_Kernel20 m →
    θ_run (Cert.Kernel20.defs (F := Bits)) (onTc (τ := Cert.Kernel20.τ) (Cert.Kernel20.main (F := Bits))) ⟨m, fun _ => 0, g⟩ (fun r => (∀ c : Dev Cert.Kernel20.nD,
      r.2.mem ((c.tc : Thread Cert.Kernel20.nD Cert.Kernel20.τ).loc Cert.Kernel20.main_arg0) = m ((c.tc : Thread Cert.Kernel20.nD Cert.Kernel20.τ).loc Cert.Kernel20.main_arg0)
      ∧ r.2.mem ((c.tc : Thread Cert.Kernel20.nD Cert.Kernel20.τ).loc Cert.Kernel20.main_arg1) = m ((c.tc : Thread Cert.Kernel20.nD Cert.Kernel20.τ).loc Cert.Kernel20.main_arg1)
      ∧ r.2.mem ((c.tc : Thread Cert.Kernel20.nD Cert.Kernel20.τ).loc Cert.Kernel20.main_arg2) = m ((c.tc : Thread Cert.Kernel20.nD Cert.Kernel20.τ).loc Cert.Kernel20.main_arg2)
      ∧ r.2.mem ((c.tc : Thread Cert.Kernel20.nD Cert.Kernel20.τ).loc Cert.Kernel20.main_arg3) = m ((c.tc : Thread Cert.Kernel20.nD Cert.Kernel20.τ).loc Cert.Kernel20.main_arg3)
      ∧ r.2.mem ((c.tc : Thread Cert.Kernel20.nD Cert.Kernel20.τ).loc Cert.Kernel20.main_arg4) = m ((c.tc : Thread Cert.Kernel20.nD Cert.Kernel20.τ).loc Cert.Kernel20.main_arg4)
      ∧ r.2.mem ((c.tc : Thread Cert.Kernel20.nD Cert.Kernel20.τ).loc Cert.Kernel20.main_arg5) = m ((c.tc : Thread Cert.Kernel20.nD Cert.Kernel20.τ).loc Cert.Kernel20.main_arg5)
      ∧ r.2.mem ((c.tc : Thread Cert.Kernel20.nD Cert.Kernel20.τ).loc Cert.Kernel20.main_arg6) = m ((c.tc : Thread Cert.Kernel20.nD Cert.Kernel20.τ).loc Cert.Kernel20.main_arg6))
      ∧ r.2.sem = fun _ => 0)

def quiescent_Kernel20Ideal [hKernel20Ideal : Cert.Kernel20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg), Pre_Kernel20Ideal m →
    θ_run (Cert.Kernel20Ideal.defs (F := Ideal)) (onTc (τ := Cert.Kernel20Ideal.τ) (Cert.Kernel20Ideal.main (F := Ideal))) ⟨m, fun _ => 0, g⟩ (fun r => (∀ c : Dev Cert.Kernel20Ideal.nD,
      r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
      ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
      ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2)
      ∧ r.2.mem ((c.tc : Thread Cert.Kernel20Ideal.nD Cert.Kernel20Ideal.τ).loc Cert.Kernel20Ideal.main_arg3) = m ((c.tc : Thread Cert.Kernel20Ideal.nD Cert.Kernel20Ideal.τ).loc Cert.Kernel20Ideal.main_arg3)
      ∧ r.2.mem ((c.tc : Thread Cert.Kernel20Ideal.nD Cert.Kernel20Ideal.τ).loc Cert.Kernel20Ideal.main_arg4) = m ((c.tc : Thread Cert.Kernel20Ideal.nD Cert.Kernel20Ideal.τ).loc Cert.Kernel20Ideal.main_arg4)
      ∧ r.2.mem ((c.tc : Thread Cert.Kernel20Ideal.nD Cert.Kernel20Ideal.τ).loc Cert.Kernel20Ideal.main_arg5) = m ((c.tc : Thread Cert.Kernel20Ideal.nD Cert.Kernel20Ideal.τ).loc Cert.Kernel20Ideal.main_arg5)
      ∧ r.2.mem ((c.tc : Thread Cert.Kernel20Ideal.nD Cert.Kernel20Ideal.τ).loc Cert.Kernel20Ideal.main_arg6) = m ((c.tc : Thread Cert.Kernel20Ideal.nD Cert.Kernel20Ideal.τ).loc Cert.Kernel20Ideal.main_arg6))
      ∧ r.2.sem = fun _ => 0)

def quiescent_Reference20Ideal [hReference20Ideal : Cert.Reference20Ideal.Facts] : Prop :=
  ∀ (m : (ℓ : Loc Cert.Reference20Ideal.nD Cert.Reference20Ideal.τ Cert.Reference20Ideal.sig) → Buf (Elt Ideal) ℓ) (g : Dev Cert.Reference20Ideal.nD → PrngReg), Pre_Reference20Ideal m →
    θ_run (Cert.Reference20Ideal.defs (F := Ideal)) (onTc (τ := Cert.Reference20Ideal.τ) (Cert.Reference20Ideal.main (F := Ideal))) ⟨m, fun _ => 0, g⟩ (fun r => (∀ c : Dev Cert.Reference20Ideal.nD,
      r.2.mem ((c.tc : Thread Cert.Reference20Ideal.nD Cert.Reference20Ideal.τ).loc Cert.Reference20Ideal.main_arg0) = m ((c.tc : Thread Cert.Reference20Ideal.nD Cert.Reference20Ideal.τ).loc Cert.Reference20Ideal.main_arg0)
      ∧ r.2.mem ((c.tc : Thread Cert.Reference20Ideal.nD Cert.Reference20Ideal.τ).loc Cert.Reference20Ideal.main_arg1) = m ((c.tc : Thread Cert.Reference20Ideal.nD Cert.Reference20Ideal.τ).loc Cert.Reference20Ideal.main_arg1)
      ∧ r.2.mem ((c.tc : Thread Cert.Reference20Ideal.nD Cert.Reference20Ideal.τ).loc Cert.Reference20Ideal.main_arg2) = m ((c.tc : Thread Cert.Reference20Ideal.nD Cert.Reference20Ideal.τ).loc Cert.Reference20Ideal.main_arg2)
      ∧ r.2.mem ((c.tc : Thread Cert.Reference20Ideal.nD Cert.Reference20Ideal.τ).loc Cert.Reference20Ideal.main_arg3) = m ((c.tc : Thread Cert.Reference20Ideal.nD Cert.Reference20Ideal.τ).loc Cert.Reference20Ideal.main_arg3)
      ∧ r.2.mem ((c.tc : Thread Cert.Reference20Ideal.nD Cert.Reference20Ideal.τ).loc Cert.Reference20Ideal.main_arg4) = m ((c.tc : Thread Cert.Reference20Ideal.nD Cert.Reference20Ideal.τ).loc Cert.Reference20Ideal.main_arg4)
      ∧ r.2.mem ((c.tc : Thread Cert.Reference20Ideal.nD Cert.Reference20Ideal.τ).loc Cert.Reference20Ideal.main_arg5) = m ((c.tc : Thread Cert.Reference20Ideal.nD Cert.Reference20Ideal.τ).loc Cert.Reference20Ideal.main_arg5)
      ∧ r.2.mem ((c.tc : Thread Cert.Reference20Ideal.nD Cert.Reference20Ideal.τ).loc Cert.Reference20Ideal.main_arg6) = m ((c.tc : Thread Cert.Reference20Ideal.nD Cert.Reference20Ideal.τ).loc Cert.Reference20Ideal.main_arg6))
      ∧ r.2.sem = fun _ => 0)

def quiescent_Kernel21 [hKernel21 : Cert.Kernel21.Facts] : Prop :=
  ∀ (m : (ℓ : Loc Cert.Kernel21.nD Cert.Kernel21.τ Cert.Kernel21.sig) → Buf (Elt Bits) ℓ) (g : Dev Cert.Kernel21.nD → PrngReg), Pre_Kernel21 m →
    θ_run (Cert.Kernel21.defs (F := Bits)) (onTc (τ := Cert.Kernel21.τ) (Cert.Kernel21.main (F := Bits))) ⟨m, fun _ => 0, g⟩ (fun r => (∀ c : Dev Cert.Kernel21.nD,
      r.2.mem ((c.tc : Thread Cert.Kernel21.nD Cert.Kernel21.τ).loc Cert.Kernel21.main_arg0) = m ((c.tc : Thread Cert.Kernel21.nD Cert.Kernel21.τ).loc Cert.Kernel21.main_arg0)
      ∧ r.2.mem ((c.tc : Thread Cert.Kernel21.nD Cert.Kernel21.τ).loc Cert.Kernel21.main_arg1) = m ((c.tc : Thread Cert.Kernel21.nD Cert.Kernel21.τ).loc Cert.Kernel21.main_arg1)
      ∧ r.2.mem ((c.tc : Thread Cert.Kernel21.nD Cert.Kernel21.τ).loc Cert.Kernel21.main_arg2) = m ((c.tc : Thread Cert.Kernel21.nD Cert.Kernel21.τ).loc Cert.Kernel21.main_arg2)
      ∧ r.2.mem ((c.tc : Thread Cert.Kernel21.nD Cert.Kernel21.τ).loc Cert.Kernel21.main_arg3) = m ((c.tc : Thread Cert.Kernel21.nD Cert.Kernel21.τ).loc Cert.Kernel21.main_arg3)
      ∧ r.2.mem ((c.tc : Thread Cert.Kernel21.nD Cert.Kernel21.τ).loc Cert.Kernel21.main_arg4) = m ((c.tc : Thread Cert.Kernel21.nD Cert.Kernel21.τ).loc Cert.Kernel21.main_arg4)
      ∧ r.2.mem ((c.tc : Thread Cert.Kernel21.nD Cert.Kernel21.τ).loc Cert.Kernel21.main_arg5) = m ((c.tc : Thread Cert.Kernel21.nD Cert.Kernel21.τ).loc Cert.Kernel21.main_arg5)
      ∧ r.2.mem ((c.tc : Thread Cert.Kernel21.nD Cert.Kernel21.τ).loc Cert.Kernel21.main_arg6) = m ((c.tc : Thread Cert.Kernel21.nD Cert.Kernel21.τ).loc Cert.Kernel21.main_arg6))
      ∧ r.2.sem = fun _ => 0)

def quiescent_Kernel21Ideal [hKernel21Ideal : Cert.Kernel21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg), Pre_Kernel21Ideal m →
    θ_run (Cert.Kernel21Ideal.defs (F := Ideal)) (onTc (τ := Cert.Kernel21Ideal.τ) (Cert.Kernel21Ideal.main (F := Ideal))) ⟨m, fun _ => 0, g⟩ (fun r => (∀ c : Dev Cert.Kernel21Ideal.nD,
      r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
      ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1)
      ∧ r.2.mem ((c.tc : Thread Cert.Kernel21Ideal.nD Cert.Kernel21Ideal.τ).loc Cert.Kernel21Ideal.main_arg2) = m ((c.tc : Thread Cert.Kernel21Ideal.nD Cert.Kernel21Ideal.τ).loc Cert.Kernel21Ideal.main_arg2)
      ∧ r.2.mem ((c.tc : Thread Cert.Kernel21Ideal.nD Cert.Kernel21Ideal.τ).loc Cert.Kernel21Ideal.main_arg3) = m ((c.tc : Thread Cert.Kernel21Ideal.nD Cert.Kernel21Ideal.τ).loc Cert.Kernel21Ideal.main_arg3)
      ∧ r.2.mem ((c.tc : Thread Cert.Kernel21Ideal.nD Cert.Kernel21Ideal.τ).loc Cert.Kernel21Ideal.main_arg4) = m ((c.tc : Thread Cert.Kernel21Ideal.nD Cert.Kernel21Ideal.τ).loc Cert.Kernel21Ideal.main_arg4)
      ∧ r.2.mem ((c.tc : Thread Cert.Kernel21Ideal.nD Cert.Kernel21Ideal.τ).loc Cert.Kernel21Ideal.main_arg5) = m ((c.tc : Thread Cert.Kernel21Ideal.nD Cert.Kernel21Ideal.τ).loc Cert.Kernel21Ideal.main_arg5)
      ∧ r.2.mem ((c.tc : Thread Cert.Kernel21Ideal.nD Cert.Kernel21Ideal.τ).loc Cert.Kernel21Ideal.main_arg6) = m ((c.tc : Thread Cert.Kernel21Ideal.nD Cert.Kernel21Ideal.τ).loc Cert.Kernel21Ideal.main_arg6))
      ∧ r.2.sem = fun _ => 0)

def quiescent_Reference21Ideal [hReference21Ideal : Cert.Reference21Ideal.Facts] : Prop :=
  ∀ (m : (ℓ : Loc Cert.Reference21Ideal.nD Cert.Reference21Ideal.τ Cert.Reference21Ideal.sig) → Buf (Elt Ideal) ℓ) (g : Dev Cert.Reference21Ideal.nD → PrngReg), Pre_Reference21Ideal m →
    θ_run (Cert.Reference21Ideal.defs (F := Ideal)) (onTc (τ := Cert.Reference21Ideal.τ) (Cert.Reference21Ideal.main (F := Ideal))) ⟨m, fun _ => 0, g⟩ (fun r => (∀ c : Dev Cert.Reference21Ideal.nD,
      r.2.mem ((c.tc : Thread Cert.Reference21Ideal.nD Cert.Reference21Ideal.τ).loc Cert.Reference21Ideal.main_arg0) = m ((c.tc : Thread Cert.Reference21Ideal.nD Cert.Reference21Ideal.τ).loc Cert.Reference21Ideal.main_arg0)
      ∧ r.2.mem ((c.tc : Thread Cert.Reference21Ideal.nD Cert.Reference21Ideal.τ).loc Cert.Reference21Ideal.main_arg1) = m ((c.tc : Thread Cert.Reference21Ideal.nD Cert.Reference21Ideal.τ).loc Cert.Reference21Ideal.main_arg1)
      ∧ r.2.mem ((c.tc : Thread Cert.Reference21Ideal.nD Cert.Reference21Ideal.τ).loc Cert.Reference21Ideal.main_arg2) = m ((c.tc : Thread Cert.Reference21Ideal.nD Cert.Reference21Ideal.τ).loc Cert.Reference21Ideal.main_arg2)
      ∧ r.2.mem ((c.tc : Thread Cert.Reference21Ideal.nD Cert.Reference21Ideal.τ).loc Cert.Reference21Ideal.main_arg3) = m ((c.tc : Thread Cert.Reference21Ideal.nD Cert.Reference21Ideal.τ).loc Cert.Reference21Ideal.main_arg3)
      ∧ r.2.mem ((c.tc : Thread Cert.Reference21Ideal.nD Cert.Reference21Ideal.τ).loc Cert.Reference21Ideal.main_arg4) = m ((c.tc : Thread Cert.Reference21Ideal.nD Cert.Reference21Ideal.τ).loc Cert.Reference21Ideal.main_arg4)
      ∧ r.2.mem ((c.tc : Thread Cert.Reference21Ideal.nD Cert.Reference21Ideal.τ).loc Cert.Reference21Ideal.main_arg5) = m ((c.tc : Thread Cert.Reference21Ideal.nD Cert.Reference21Ideal.τ).loc Cert.Reference21Ideal.main_arg5)
      ∧ r.2.mem ((c.tc : Thread Cert.Reference21Ideal.nD Cert.Reference21Ideal.τ).loc Cert.Reference21Ideal.main_arg6) = m ((c.tc : Thread Cert.Reference21Ideal.nD Cert.Reference21Ideal.τ).loc Cert.Reference21Ideal.main_arg6))
      ∧ r.2.sem = fun _ => 0)

def quiescent_Kernel22 [hKernel22 : Cert.Kernel22.Facts] : Prop :=
  ∀ (m : (ℓ : Loc Cert.Kernel22.nD Cert.Kernel22.τ Cert.Kernel22.sig) → Buf (Elt Bits) ℓ) (g : Dev Cert.Kernel22.nD → PrngReg), Pre_Kernel22 m →
    θ_run (Cert.Kernel22.defs (F := Bits)) (onTc (τ := Cert.Kernel22.τ) (Cert.Kernel22.main (F := Bits))) ⟨m, fun _ => 0, g⟩ (fun r => (∀ c : Dev Cert.Kernel22.nD,
      r.2.mem ((c.tc : Thread Cert.Kernel22.nD Cert.Kernel22.τ).loc Cert.Kernel22.main_arg0) = m ((c.tc : Thread Cert.Kernel22.nD Cert.Kernel22.τ).loc Cert.Kernel22.main_arg0)
      ∧ r.2.mem ((c.tc : Thread Cert.Kernel22.nD Cert.Kernel22.τ).loc Cert.Kernel22.main_arg1) = m ((c.tc : Thread Cert.Kernel22.nD Cert.Kernel22.τ).loc Cert.Kernel22.main_arg1))
      ∧ r.2.sem = fun _ => 0)

def quiescent_Kernel22Ideal [hKernel22Ideal : Cert.Kernel22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg), Pre_Kernel22Ideal m →
    θ_run (Cert.Kernel22Ideal.defs (F := Ideal)) (onTc (τ := Cert.Kernel22Ideal.τ) (Cert.Kernel22Ideal.main (F := Ideal))) ⟨m, fun _ => 0, g⟩ (fun r => (∀ c : Dev Cert.Kernel22Ideal.nD,
      r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
      ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1))
      ∧ r.2.sem = fun _ => 0)

def quiescent_Reference22Ideal [hReference22Ideal : Cert.Reference22Ideal.Facts] : Prop :=
  ∀ (m : (ℓ : Loc Cert.Reference22Ideal.nD Cert.Reference22Ideal.τ Cert.Reference22Ideal.sig) → Buf (Elt Ideal) ℓ) (g : Dev Cert.Reference22Ideal.nD → PrngReg), Pre_Reference22Ideal m →
    θ_run (Cert.Reference22Ideal.defs (F := Ideal)) (onTc (τ := Cert.Reference22Ideal.τ) (Cert.Reference22Ideal.main (F := Ideal))) ⟨m, fun _ => 0, g⟩ (fun r => (∀ c : Dev Cert.Reference22Ideal.nD,
      r.2.mem ((c.tc : Thread Cert.Reference22Ideal.nD Cert.Reference22Ideal.τ).loc Cert.Reference22Ideal.main_arg0) = m ((c.tc : Thread Cert.Reference22Ideal.nD Cert.Reference22Ideal.τ).loc Cert.Reference22Ideal.main_arg0)
      ∧ r.2.mem ((c.tc : Thread Cert.Reference22Ideal.nD Cert.Reference22Ideal.τ).loc Cert.Reference22Ideal.main_arg1) = m ((c.tc : Thread Cert.Reference22Ideal.nD Cert.Reference22Ideal.τ).loc Cert.Reference22Ideal.main_arg1))
      ∧ r.2.sem = fun _ => 0)

def quiescent_Kernel23 [hKernel23 : Cert.Kernel23.Facts] : Prop :=
  ∀ (m : (ℓ : Loc Cert.Kernel23.nD Cert.Kernel23.τ Cert.Kernel23.sig) → Buf (Elt Bits) ℓ) (g : Dev Cert.Kernel23.nD → PrngReg), Pre_Kernel23 m →
    θ_run (Cert.Kernel23.defs (F := Bits)) (onTc (τ := Cert.Kernel23.τ) (Cert.Kernel23.main (F := Bits))) ⟨m, fun _ => 0, g⟩ (fun r => (∀ c : Dev Cert.Kernel23.nD,
      r.2.mem ((c.tc : Thread Cert.Kernel23.nD Cert.Kernel23.τ).loc Cert.Kernel23.main_arg0) = m ((c.tc : Thread Cert.Kernel23.nD Cert.Kernel23.τ).loc Cert.Kernel23.main_arg0)
      ∧ r.2.mem ((c.tc : Thread Cert.Kernel23.nD Cert.Kernel23.τ).loc Cert.Kernel23.main_arg1) = m ((c.tc : Thread Cert.Kernel23.nD Cert.Kernel23.τ).loc Cert.Kernel23.main_arg1))
      ∧ r.2.sem = fun _ => 0)

def quiescent_Kernel23Ideal [hKernel23Ideal : Cert.Kernel23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg), Pre_Kernel23Ideal m →
    θ_run (Cert.Kernel23Ideal.defs (F := Ideal)) (onTc (τ := Cert.Kernel23Ideal.τ) (Cert.Kernel23Ideal.main (F := Ideal))) ⟨m, fun _ => 0, g⟩ (fun r => (∀ c : Dev Cert.Kernel23Ideal.nD,
      r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
      ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1))
      ∧ r.2.sem = fun _ => 0)

def quiescent_Reference23Ideal [hReference23Ideal : Cert.Reference23Ideal.Facts] : Prop :=
  ∀ (m : (ℓ : Loc Cert.Reference23Ideal.nD Cert.Reference23Ideal.τ Cert.Reference23Ideal.sig) → Buf (Elt Ideal) ℓ) (g : Dev Cert.Reference23Ideal.nD → PrngReg), Pre_Reference23Ideal m →
    θ_run (Cert.Reference23Ideal.defs (F := Ideal)) (onTc (τ := Cert.Reference23Ideal.τ) (Cert.Reference23Ideal.main (F := Ideal))) ⟨m, fun _ => 0, g⟩ (fun r => (∀ c : Dev Cert.Reference23Ideal.nD,
      r.2.mem ((c.tc : Thread Cert.Reference23Ideal.nD Cert.Reference23Ideal.τ).loc Cert.Reference23Ideal.main_arg0) = m ((c.tc : Thread Cert.Reference23Ideal.nD Cert.Reference23Ideal.τ).loc Cert.Reference23Ideal.main_arg0)
      ∧ r.2.mem ((c.tc : Thread Cert.Reference23Ideal.nD Cert.Reference23Ideal.τ).loc Cert.Reference23Ideal.main_arg1) = m ((c.tc : Thread Cert.Reference23Ideal.nD Cert.Reference23Ideal.τ).loc Cert.Reference23Ideal.main_arg1))
      ∧ r.2.sem = fun _ => 0)

def quiescent_Kernel24 [hKernel24 : Cert.Kernel24.Facts] : Prop :=
  ∀ (m : (ℓ : Loc Cert.Kernel24.nD Cert.Kernel24.τ Cert.Kernel24.sig) → Buf (Elt Bits) ℓ) (g : Dev Cert.Kernel24.nD → PrngReg), Pre_Kernel24 m →
    θ_run (Cert.Kernel24.defs (F := Bits)) (onTc (τ := Cert.Kernel24.τ) (Cert.Kernel24.main (F := Bits))) ⟨m, fun _ => 0, g⟩ (fun r => (∀ c : Dev Cert.Kernel24.nD,
      r.2.mem ((c.tc : Thread Cert.Kernel24.nD Cert.Kernel24.τ).loc Cert.Kernel24.main_arg0) = m ((c.tc : Thread Cert.Kernel24.nD Cert.Kernel24.τ).loc Cert.Kernel24.main_arg0)
      ∧ r.2.mem ((c.tc : Thread Cert.Kernel24.nD Cert.Kernel24.τ).loc Cert.Kernel24.main_arg1) = m ((c.tc : Thread Cert.Kernel24.nD Cert.Kernel24.τ).loc Cert.Kernel24.main_arg1)
      ∧ r.2.mem ((c.tc : Thread Cert.Kernel24.nD Cert.Kernel24.τ).loc Cert.Kernel24.main_arg2) = m ((c.tc : Thread Cert.Kernel24.nD Cert.Kernel24.τ).loc Cert.Kernel24.main_arg2)
      ∧ r.2.mem ((c.tc : Thread Cert.Kernel24.nD Cert.Kernel24.τ).loc Cert.Kernel24.main_arg3) = m ((c.tc : Thread Cert.Kernel24.nD Cert.Kernel24.τ).loc Cert.Kernel24.main_arg3))
      ∧ r.2.sem = fun _ => 0)

def quiescent_Kernel24Ideal [hKernel24Ideal : Cert.Kernel24Ideal.Facts] : Prop :=
  ∀ (m : (ℓ : Loc Cert.Kernel24Ideal.nD Cert.Kernel24Ideal.τ Cert.Kernel24Ideal.sig) → Buf (Elt Ideal) ℓ) (g : Dev Cert.Kernel24Ideal.nD → PrngReg), Pre_Kernel24Ideal m →
    θ_run (Cert.Kernel24Ideal.defs (F := Ideal)) (onTc (τ := Cert.Kernel24Ideal.τ) (Cert.Kernel24Ideal.main (F := Ideal))) ⟨m, fun _ => 0, g⟩ (fun r => (∀ c : Dev Cert.Kernel24Ideal.nD,
      r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
      ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1)
      ∧ r.2.mem ((c.tc : Thread Cert.Kernel24Ideal.nD Cert.Kernel24Ideal.τ).loc Cert.Kernel24Ideal.main_arg2) = m ((c.tc : Thread Cert.Kernel24Ideal.nD Cert.Kernel24Ideal.τ).loc Cert.Kernel24Ideal.main_arg2)
      ∧ r.2.mem ((c.tc : Thread Cert.Kernel24Ideal.nD Cert.Kernel24Ideal.τ).loc Cert.Kernel24Ideal.main_arg3) = m ((c.tc : Thread Cert.Kernel24Ideal.nD Cert.Kernel24Ideal.τ).loc Cert.Kernel24Ideal.main_arg3))
      ∧ r.2.sem = fun _ => 0)

def quiescent_Reference24Ideal [hReference24Ideal : Cert.Reference24Ideal.Facts] : Prop :=
  ∀ (m : (ℓ : Loc Cert.Reference24Ideal.nD Cert.Reference24Ideal.τ Cert.Reference24Ideal.sig) → Buf (Elt Ideal) ℓ) (g : Dev Cert.Reference24Ideal.nD → PrngReg), Pre_Reference24Ideal m →
    θ_run (Cert.Reference24Ideal.defs (F := Ideal)) (onTc (τ := Cert.Reference24Ideal.τ) (Cert.Reference24Ideal.main (F := Ideal))) ⟨m, fun _ => 0, g⟩ (fun r => (∀ c : Dev Cert.Reference24Ideal.nD,
      r.2.mem ((c.tc : Thread Cert.Reference24Ideal.nD Cert.Reference24Ideal.τ).loc Cert.Reference24Ideal.main_arg0) = m ((c.tc : Thread Cert.Reference24Ideal.nD Cert.Reference24Ideal.τ).loc Cert.Reference24Ideal.main_arg0)
      ∧ r.2.mem ((c.tc : Thread Cert.Reference24Ideal.nD Cert.Reference24Ideal.τ).loc Cert.Reference24Ideal.main_arg1) = m ((c.tc : Thread Cert.Reference24Ideal.nD Cert.Reference24Ideal.τ).loc Cert.Reference24Ideal.main_arg1)
      ∧ r.2.mem ((c.tc : Thread Cert.Reference24Ideal.nD Cert.Reference24Ideal.τ).loc Cert.Reference24Ideal.main_arg2) = m ((c.tc : Thread Cert.Reference24Ideal.nD Cert.Reference24Ideal.τ).loc Cert.Reference24Ideal.main_arg2)
      ∧ r.2.mem ((c.tc : Thread Cert.Reference24Ideal.nD Cert.Reference24Ideal.τ).loc Cert.Reference24Ideal.main_arg3) = m ((c.tc : Thread Cert.Reference24Ideal.nD Cert.Reference24Ideal.τ).loc Cert.Reference24Ideal.main_arg3))
      ∧ r.2.sem = fun _ => 0)

def quiescent_Kernel25 [hKernel25 : Cert.Kernel25.Facts] : Prop :=
  ∀ (m : (ℓ : Loc Cert.Kernel25.nD Cert.Kernel25.τ Cert.Kernel25.sig) → Buf (Elt Bits) ℓ) (g : Dev Cert.Kernel25.nD → PrngReg), Pre_Kernel25 m →
    θ_run (Cert.Kernel25.defs (F := Bits)) (onTc (τ := Cert.Kernel25.τ) (Cert.Kernel25.main (F := Bits))) ⟨m, fun _ => 0, g⟩ (fun r => (∀ c : Dev Cert.Kernel25.nD,
      r.2.mem ((c.tc : Thread Cert.Kernel25.nD Cert.Kernel25.τ).loc Cert.Kernel25.main_arg0) = m ((c.tc : Thread Cert.Kernel25.nD Cert.Kernel25.τ).loc Cert.Kernel25.main_arg0)
      ∧ r.2.mem ((c.tc : Thread Cert.Kernel25.nD Cert.Kernel25.τ).loc Cert.Kernel25.main_arg1) = m ((c.tc : Thread Cert.Kernel25.nD Cert.Kernel25.τ).loc Cert.Kernel25.main_arg1)
      ∧ r.2.mem ((c.tc : Thread Cert.Kernel25.nD Cert.Kernel25.τ).loc Cert.Kernel25.main_arg2) = m ((c.tc : Thread Cert.Kernel25.nD Cert.Kernel25.τ).loc Cert.Kernel25.main_arg2))
      ∧ r.2.sem = fun _ => 0)

def quiescent_Kernel25Ideal [hKernel25Ideal : Cert.Kernel25Ideal.Facts] : Prop :=
  ∀ (m : (ℓ : Loc Cert.Kernel25Ideal.nD Cert.Kernel25Ideal.τ Cert.Kernel25Ideal.sig) → Buf (Elt Ideal) ℓ) (g : Dev Cert.Kernel25Ideal.nD → PrngReg), Pre_Kernel25Ideal m →
    θ_run (Cert.Kernel25Ideal.defs (F := Ideal)) (onTc (τ := Cert.Kernel25Ideal.τ) (Cert.Kernel25Ideal.main (F := Ideal))) ⟨m, fun _ => 0, g⟩ (fun r => (∀ c : Dev Cert.Kernel25Ideal.nD,
      r.2.mem ((c.tc : Thread Cert.Kernel25Ideal.nD Cert.Kernel25Ideal.τ).loc Cert.Kernel25Ideal.main_arg0) = m ((c.tc : Thread Cert.Kernel25Ideal.nD Cert.Kernel25Ideal.τ).loc Cert.Kernel25Ideal.main_arg0)
      ∧ r.2.mem ((c.tc : Thread Cert.Kernel25Ideal.nD Cert.Kernel25Ideal.τ).loc Cert.Kernel25Ideal.main_arg1) = m ((c.tc : Thread Cert.Kernel25Ideal.nD Cert.Kernel25Ideal.τ).loc Cert.Kernel25Ideal.main_arg1)
      ∧ r.2.mem ((c.tc : Thread Cert.Kernel25Ideal.nD Cert.Kernel25Ideal.τ).loc Cert.Kernel25Ideal.main_arg2) = m ((c.tc : Thread Cert.Kernel25Ideal.nD Cert.Kernel25Ideal.τ).loc Cert.Kernel25Ideal.main_arg2))
      ∧ r.2.sem = fun _ => 0)

def quiescent_Reference25Ideal [hReference25Ideal : Cert.Reference25Ideal.Facts] : Prop :=
  ∀ (m : (ℓ : Loc Cert.Reference25Ideal.nD Cert.Reference25Ideal.τ Cert.Reference25Ideal.sig) → Buf (Elt Ideal) ℓ) (g : Dev Cert.Reference25Ideal.nD → PrngReg), Pre_Reference25Ideal m →
    θ_run (Cert.Reference25Ideal.defs (F := Ideal)) (onTc (τ := Cert.Reference25Ideal.τ) (Cert.Reference25Ideal.main (F := Ideal))) ⟨m, fun _ => 0, g⟩ (fun r => (∀ c : Dev Cert.Reference25Ideal.nD,
      r.2.mem ((c.tc : Thread Cert.Reference25Ideal.nD Cert.Reference25Ideal.τ).loc Cert.Reference25Ideal.main_arg0) = m ((c.tc : Thread Cert.Reference25Ideal.nD Cert.Reference25Ideal.τ).loc Cert.Reference25Ideal.main_arg0)
      ∧ r.2.mem ((c.tc : Thread Cert.Reference25Ideal.nD Cert.Reference25Ideal.τ).loc Cert.Reference25Ideal.main_arg1) = m ((c.tc : Thread Cert.Reference25Ideal.nD Cert.Reference25Ideal.τ).loc Cert.Reference25Ideal.main_arg1)
      ∧ r.2.mem ((c.tc : Thread Cert.Reference25Ideal.nD Cert.Reference25Ideal.τ).loc Cert.Reference25Ideal.main_arg2) = m ((c.tc : Thread Cert.Reference25Ideal.nD Cert.Reference25Ideal.τ).loc Cert.Reference25Ideal.main_arg2))
      ∧ r.2.sem = fun _ => 0)

def quiescent_Kernel26 [hKernel26 : Cert.Kernel26.Facts] : Prop :=
  ∀ (m : (ℓ : Loc Cert.Kernel26.nD Cert.Kernel26.τ Cert.Kernel26.sig) → Buf (Elt Bits) ℓ) (g : Dev Cert.Kernel26.nD → PrngReg), Pre_Kernel26 m →
    θ_run (Cert.Kernel26.defs (F := Bits)) (onTc (τ := Cert.Kernel26.τ) (Cert.Kernel26.main (F := Bits))) ⟨m, fun _ => 0, g⟩ (fun r => (∀ c : Dev Cert.Kernel26.nD,
      r.2.mem ((c.tc : Thread Cert.Kernel26.nD Cert.Kernel26.τ).loc Cert.Kernel26.main_arg0) = m ((c.tc : Thread Cert.Kernel26.nD Cert.Kernel26.τ).loc Cert.Kernel26.main_arg0)
      ∧ r.2.mem ((c.tc : Thread Cert.Kernel26.nD Cert.Kernel26.τ).loc Cert.Kernel26.main_arg1) = m ((c.tc : Thread Cert.Kernel26.nD Cert.Kernel26.τ).loc Cert.Kernel26.main_arg1)
      ∧ r.2.mem ((c.tc : Thread Cert.Kernel26.nD Cert.Kernel26.τ).loc Cert.Kernel26.main_arg2) = m ((c.tc : Thread Cert.Kernel26.nD Cert.Kernel26.τ).loc Cert.Kernel26.main_arg2)
      ∧ r.2.mem ((c.tc : Thread Cert.Kernel26.nD Cert.Kernel26.τ).loc Cert.Kernel26.main_arg3) = m ((c.tc : Thread Cert.Kernel26.nD Cert.Kernel26.τ).loc Cert.Kernel26.main_arg3)
      ∧ r.2.mem ((c.tc : Thread Cert.Kernel26.nD Cert.Kernel26.τ).loc Cert.Kernel26.main_arg4) = m ((c.tc : Thread Cert.Kernel26.nD Cert.Kernel26.τ).loc Cert.Kernel26.main_arg4)
      ∧ r.2.mem ((c.tc : Thread Cert.Kernel26.nD Cert.Kernel26.τ).loc Cert.Kernel26.main_arg5) = m ((c.tc : Thread Cert.Kernel26.nD Cert.Kernel26.τ).loc Cert.Kernel26.main_arg5))
      ∧ r.2.sem = fun _ => 0)

def quiescent_Kernel26Ideal [hKernel26Ideal : Cert.Kernel26Ideal.Facts] : Prop :=
  ∀ (m : (ℓ : Loc Cert.Kernel26Ideal.nD Cert.Kernel26Ideal.τ Cert.Kernel26Ideal.sig) → Buf (Elt Ideal) ℓ) (g : Dev Cert.Kernel26Ideal.nD → PrngReg), Pre_Kernel26Ideal m →
    θ_run (Cert.Kernel26Ideal.defs (F := Ideal)) (onTc (τ := Cert.Kernel26Ideal.τ) (Cert.Kernel26Ideal.main (F := Ideal))) ⟨m, fun _ => 0, g⟩ (fun r => (∀ c : Dev Cert.Kernel26Ideal.nD,
      r.2.mem ((c.tc : Thread Cert.Kernel26Ideal.nD Cert.Kernel26Ideal.τ).loc Cert.Kernel26Ideal.main_arg0) = m ((c.tc : Thread Cert.Kernel26Ideal.nD Cert.Kernel26Ideal.τ).loc Cert.Kernel26Ideal.main_arg0)
      ∧ r.2.mem ((c.tc : Thread Cert.Kernel26Ideal.nD Cert.Kernel26Ideal.τ).loc Cert.Kernel26Ideal.main_arg1) = m ((c.tc : Thread Cert.Kernel26Ideal.nD Cert.Kernel26Ideal.τ).loc Cert.Kernel26Ideal.main_arg1)
      ∧ r.2.mem ((c.tc : Thread Cert.Kernel26Ideal.nD Cert.Kernel26Ideal.τ).loc Cert.Kernel26Ideal.main_arg2) = m ((c.tc : Thread Cert.Kernel26Ideal.nD Cert.Kernel26Ideal.τ).loc Cert.Kernel26Ideal.main_arg2)
      ∧ r.2.mem ((c.tc : Thread Cert.Kernel26Ideal.nD Cert.Kernel26Ideal.τ).loc Cert.Kernel26Ideal.main_arg3) = m ((c.tc : Thread Cert.Kernel26Ideal.nD Cert.Kernel26Ideal.τ).loc Cert.Kernel26Ideal.main_arg3)
      ∧ r.2.mem ((c.tc : Thread Cert.Kernel26Ideal.nD Cert.Kernel26Ideal.τ).loc Cert.Kernel26Ideal.main_arg4) = m ((c.tc : Thread Cert.Kernel26Ideal.nD Cert.Kernel26Ideal.τ).loc Cert.Kernel26Ideal.main_arg4)
      ∧ r.2.mem ((c.tc : Thread Cert.Kernel26Ideal.nD Cert.Kernel26Ideal.τ).loc Cert.Kernel26Ideal.main_arg5) = m ((c.tc : Thread Cert.Kernel26Ideal.nD Cert.Kernel26Ideal.τ).loc Cert.Kernel26Ideal.main_arg5))
      ∧ r.2.sem = fun _ => 0)

def quiescent_Kernel26Ideal_pre_numbers [hKernel26Ideal : Cert.Kernel26Ideal.Facts] [hPre_numbers : Cert.Pre_numbers.Facts] : Prop :=
  ∀ (m : (ℓ : Loc Cert.Kernel26Ideal.nD Cert.Kernel26Ideal.τ Cert.Kernel26Ideal.sig) → Buf (Elt Ideal) ℓ) (g : Dev Cert.Kernel26Ideal.nD → PrngReg), Pre_Kernel26Ideal_numbers m →
    θ_run (Cert.Kernel26Ideal.defs (F := Ideal)) (onTc (τ := Cert.Kernel26Ideal.τ) (Cert.Kernel26Ideal.main (F := Ideal))) ⟨m, fun _ => 0, g⟩ (fun r => (∀ c : Dev Cert.Kernel26Ideal.nD,
      r.2.mem ((c.tc : Thread Cert.Kernel26Ideal.nD Cert.Kernel26Ideal.τ).loc Cert.Kernel26Ideal.main_arg0) = m ((c.tc : Thread Cert.Kernel26Ideal.nD Cert.Kernel26Ideal.τ).loc Cert.Kernel26Ideal.main_arg0)
      ∧ r.2.mem ((c.tc : Thread Cert.Kernel26Ideal.nD Cert.Kernel26Ideal.τ).loc Cert.Kernel26Ideal.main_arg1) = m ((c.tc : Thread Cert.Kernel26Ideal.nD Cert.Kernel26Ideal.τ).loc Cert.Kernel26Ideal.main_arg1)
      ∧ r.2.mem ((c.tc : Thread Cert.Kernel26Ideal.nD Cert.Kernel26Ideal.τ).loc Cert.Kernel26Ideal.main_arg2) = m ((c.tc : Thread Cert.Kernel26Ideal.nD Cert.Kernel26Ideal.τ).loc Cert.Kernel26Ideal.main_arg2)
      ∧ r.2.mem ((c.tc : Thread Cert.Kernel26Ideal.nD Cert.Kernel26Ideal.τ).loc Cert.Kernel26Ideal.main_arg3) = m ((c.tc : Thread Cert.Kernel26Ideal.nD Cert.Kernel26Ideal.τ).loc Cert.Kernel26Ideal.main_arg3)
      ∧ r.2.mem ((c.tc : Thread Cert.Kernel26Ideal.nD Cert.Kernel26Ideal.τ).loc Cert.Kernel26Ideal.main_arg4) = m ((c.tc : Thread Cert.Kernel26Ideal.nD Cert.Kernel26Ideal.τ).loc Cert.Kernel26Ideal.main_arg4)
      ∧ r.2.mem ((c.tc : Thread Cert.Kernel26Ideal.nD Cert.Kernel26Ideal.τ).loc Cert.Kernel26Ideal.main_arg5) = m ((c.tc : Thread Cert.Kernel26Ideal.nD Cert.Kernel26Ideal.τ).loc Cert.Kernel26Ideal.main_arg5))
      ∧ r.2.sem = fun _ => 0)

def quiescent_Reference26Ideal [hReference26Ideal : Cert.Reference26Ideal.Facts] : Prop :=
  ∀ (m : (ℓ : Loc Cert.Reference26Ideal.nD Cert.Reference26Ideal.τ Cert.Reference26Ideal.sig) → Buf (Elt Ideal) ℓ) (g : Dev Cert.Reference26Ideal.nD → PrngReg), Pre_Reference26Ideal m →
    θ_run (Cert.Reference26Ideal.defs (F := Ideal)) (onTc (τ := Cert.Reference26Ideal.τ) (Cert.Reference26Ideal.main (F := Ideal))) ⟨m, fun _ => 0, g⟩ (fun r => (∀ c : Dev Cert.Reference26Ideal.nD,
      r.2.mem ((c.tc : Thread Cert.Reference26Ideal.nD Cert.Reference26Ideal.τ).loc Cert.Reference26Ideal.main_arg0) = m ((c.tc : Thread Cert.Reference26Ideal.nD Cert.Reference26Ideal.τ).loc Cert.Reference26Ideal.main_arg0)
      ∧ r.2.mem ((c.tc : Thread Cert.Reference26Ideal.nD Cert.Reference26Ideal.τ).loc Cert.Reference26Ideal.main_arg1) = m ((c.tc : Thread Cert.Reference26Ideal.nD Cert.Reference26Ideal.τ).loc Cert.Reference26Ideal.main_arg1)
      ∧ r.2.mem ((c.tc : Thread Cert.Reference26Ideal.nD Cert.Reference26Ideal.τ).loc Cert.Reference26Ideal.main_arg2) = m ((c.tc : Thread Cert.Reference26Ideal.nD Cert.Reference26Ideal.τ).loc Cert.Reference26Ideal.main_arg2)
      ∧ r.2.mem ((c.tc : Thread Cert.Reference26Ideal.nD Cert.Reference26Ideal.τ).loc Cert.Reference26Ideal.main_arg3) = m ((c.tc : Thread Cert.Reference26Ideal.nD Cert.Reference26Ideal.τ).loc Cert.Reference26Ideal.main_arg3)
      ∧ r.2.mem ((c.tc : Thread Cert.Reference26Ideal.nD Cert.Reference26Ideal.τ).loc Cert.Reference26Ideal.main_arg4) = m ((c.tc : Thread Cert.Reference26Ideal.nD Cert.Reference26Ideal.τ).loc Cert.Reference26Ideal.main_arg4)
      ∧ r.2.mem ((c.tc : Thread Cert.Reference26Ideal.nD Cert.Reference26Ideal.τ).loc Cert.Reference26Ideal.main_arg5) = m ((c.tc : Thread Cert.Reference26Ideal.nD Cert.Reference26Ideal.τ).loc Cert.Reference26Ideal.main_arg5))
      ∧ r.2.sem = fun _ => 0)

def quiescent_Reference26Ideal_pre_numbers [hReference26Ideal : Cert.Reference26Ideal.Facts] [hPre_numbers : Cert.Pre_numbers.Facts] : Prop :=
  ∀ (m : (ℓ : Loc Cert.Reference26Ideal.nD Cert.Reference26Ideal.τ Cert.Reference26Ideal.sig) → Buf (Elt Ideal) ℓ) (g : Dev Cert.Reference26Ideal.nD → PrngReg), Pre_Reference26Ideal_numbers m →
    θ_run (Cert.Reference26Ideal.defs (F := Ideal)) (onTc (τ := Cert.Reference26Ideal.τ) (Cert.Reference26Ideal.main (F := Ideal))) ⟨m, fun _ => 0, g⟩ (fun r => (∀ c : Dev Cert.Reference26Ideal.nD,
      r.2.mem ((c.tc : Thread Cert.Reference26Ideal.nD Cert.Reference26Ideal.τ).loc Cert.Reference26Ideal.main_arg0) = m ((c.tc : Thread Cert.Reference26Ideal.nD Cert.Reference26Ideal.τ).loc Cert.Reference26Ideal.main_arg0)
      ∧ r.2.mem ((c.tc : Thread Cert.Reference26Ideal.nD Cert.Reference26Ideal.τ).loc Cert.Reference26Ideal.main_arg1) = m ((c.tc : Thread Cert.Reference26Ideal.nD Cert.Reference26Ideal.τ).loc Cert.Reference26Ideal.main_arg1)
      ∧ r.2.mem ((c.tc : Thread Cert.Reference26Ideal.nD Cert.Reference26Ideal.τ).loc Cert.Reference26Ideal.main_arg2) = m ((c.tc : Thread Cert.Reference26Ideal.nD Cert.Reference26Ideal.τ).loc Cert.Reference26Ideal.main_arg2)
      ∧ r.2.mem ((c.tc : Thread Cert.Reference26Ideal.nD Cert.Reference26Ideal.τ).loc Cert.Reference26Ideal.main_arg3) = m ((c.tc : Thread Cert.Reference26Ideal.nD Cert.Reference26Ideal.τ).loc Cert.Reference26Ideal.main_arg3)
      ∧ r.2.mem ((c.tc : Thread Cert.Reference26Ideal.nD Cert.Reference26Ideal.τ).loc Cert.Reference26Ideal.main_arg4) = m ((c.tc : Thread Cert.Reference26Ideal.nD Cert.Reference26Ideal.τ).loc Cert.Reference26Ideal.main_arg4)
      ∧ r.2.mem ((c.tc : Thread Cert.Reference26Ideal.nD Cert.Reference26Ideal.τ).loc Cert.Reference26Ideal.main_arg5) = m ((c.tc : Thread Cert.Reference26Ideal.nD Cert.Reference26Ideal.τ).loc Cert.Reference26Ideal.main_arg5))
      ∧ r.2.sem = fun _ => 0)

def preserves_Kernel_KernelIdeal : Prop :=
  True

def algebraic_KernelIdeal_ReferenceIdeal_pre_gains_finite [hKernelIdeal : Cert.KernelIdeal.Facts] [hReferenceIdeal : Cert.ReferenceIdeal.Facts] [hPre_gains_finite : Cert.Pre_gains_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_gains_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v47_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v47_2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v63) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)) →
    ∃ (v0 : (c : Dev Cert.Kernel2Ideal.nD) → Buf (Elt Ideal) ((c.tc : Thread Cert.Kernel2Ideal.nD Cert.Kernel2Ideal.τ).loc Cert.Kernel2Ideal.main_v0)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v22) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)) →
    ∃ (v0 : (c : Dev Cert.Kernel3Ideal.nD) → Buf (Elt Ideal) ((c.tc : Thread Cert.Kernel3Ideal.nD Cert.Kernel3Ideal.τ).loc Cert.Kernel3Ideal.main_v0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v14) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v0)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v6) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v0)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v4) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)) →
    ∃ (v0 : (c : Dev Cert.Kernel6Ideal.nD) → Buf (Elt Ideal) ((c.tc : Thread Cert.Kernel6Ideal.nD Cert.Kernel6Ideal.τ).loc Cert.Kernel6Ideal.main_v0)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v9) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)) →
    ∃ (v0 : (c : Dev Cert.Kernel7Ideal.nD) → Buf (Elt Ideal) ((c.tc : Thread Cert.Kernel7Ideal.nD Cert.Kernel7Ideal.τ).loc Cert.Kernel7Ideal.main_v0)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v0) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v11) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)
      ∧ m' ((c.tc : Thread Cert.Reference8Ideal.nD Cert.Reference8Ideal.τ).loc Cert.Reference8Ideal.main_arg4) = m ((c.tc : Thread Cert.Kernel8Ideal.nD Cert.Kernel8Ideal.τ).loc Cert.Kernel8Ideal.main_arg4)
      ∧ m' ((c.tc : Thread Cert.Reference8Ideal.nD Cert.Reference8Ideal.τ).loc Cert.Reference8Ideal.main_arg5) = m ((c.tc : Thread Cert.Kernel8Ideal.nD Cert.Kernel8Ideal.τ).loc Cert.Kernel8Ideal.main_arg5)
      ∧ m' ((c.tc : Thread Cert.Reference8Ideal.nD Cert.Reference8Ideal.τ).loc Cert.Reference8Ideal.main_arg6) = m ((c.tc : Thread Cert.Kernel8Ideal.nD Cert.Kernel8Ideal.τ).loc Cert.Kernel8Ideal.main_arg6)) →
    ∃ (v0 : (c : Dev Cert.Kernel8Ideal.nD) → Buf (Elt Ideal) ((c.tc : Thread Cert.Kernel8Ideal.nD Cert.Kernel8Ideal.τ).loc Cert.Kernel8Ideal.main_v0)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v0) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
          ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
          ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5)
          ∧ r.2.mem ((c.tc : Thread Cert.Kernel8Ideal.nD Cert.Kernel8Ideal.τ).loc Cert.Kernel8Ideal.main_arg6) = m ((c.tc : Thread Cert.Kernel8Ideal.nD Cert.Kernel8Ideal.τ).loc Cert.Kernel8Ideal.main_arg6))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v12) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3)
          ∧ r.2.mem ((c.tc : Thread Cert.Reference8Ideal.nD Cert.Reference8Ideal.τ).loc Cert.Reference8Ideal.main_arg4) = m' ((c.tc : Thread Cert.Reference8Ideal.nD Cert.Reference8Ideal.τ).loc Cert.Reference8Ideal.main_arg4)
          ∧ r.2.mem ((c.tc : Thread Cert.Reference8Ideal.nD Cert.Reference8Ideal.τ).loc Cert.Reference8Ideal.main_arg5) = m' ((c.tc : Thread Cert.Reference8Ideal.nD Cert.Reference8Ideal.τ).loc Cert.Reference8Ideal.main_arg5)
          ∧ r.2.mem ((c.tc : Thread Cert.Reference8Ideal.nD Cert.Reference8Ideal.τ).loc Cert.Reference8Ideal.main_arg6) = m' ((c.tc : Thread Cert.Reference8Ideal.nD Cert.Reference8Ideal.τ).loc Cert.Reference8Ideal.main_arg6))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)
      ∧ m' ((c.tc : Thread Cert.Reference9Ideal.nD Cert.Reference9Ideal.τ).loc Cert.Reference9Ideal.main_arg3) = m ((c.tc : Thread Cert.Kernel9Ideal.nD Cert.Kernel9Ideal.τ).loc Cert.Kernel9Ideal.main_arg3)
      ∧ m' ((c.tc : Thread Cert.Reference9Ideal.nD Cert.Reference9Ideal.τ).loc Cert.Reference9Ideal.main_arg4) = m ((c.tc : Thread Cert.Kernel9Ideal.nD Cert.Kernel9Ideal.τ).loc Cert.Kernel9Ideal.main_arg4)
      ∧ m' ((c.tc : Thread Cert.Reference9Ideal.nD Cert.Reference9Ideal.τ).loc Cert.Reference9Ideal.main_arg5) = m ((c.tc : Thread Cert.Kernel9Ideal.nD Cert.Kernel9Ideal.τ).loc Cert.Kernel9Ideal.main_arg5)
      ∧ m' ((c.tc : Thread Cert.Reference9Ideal.nD Cert.Reference9Ideal.τ).loc Cert.Reference9Ideal.main_arg6) = m ((c.tc : Thread Cert.Kernel9Ideal.nD Cert.Kernel9Ideal.τ).loc Cert.Kernel9Ideal.main_arg6)) →
    ∃ (v0 : (c : Dev Cert.Kernel9Ideal.nD) → Buf (Elt Ideal) ((c.tc : Thread Cert.Kernel9Ideal.nD Cert.Kernel9Ideal.τ).loc Cert.Kernel9Ideal.main_v0)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v0) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
          ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
          ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4)
          ∧ r.2.mem ((c.tc : Thread Cert.Kernel9Ideal.nD Cert.Kernel9Ideal.τ).loc Cert.Kernel9Ideal.main_arg5) = m ((c.tc : Thread Cert.Kernel9Ideal.nD Cert.Kernel9Ideal.τ).loc Cert.Kernel9Ideal.main_arg5)
          ∧ r.2.mem ((c.tc : Thread Cert.Kernel9Ideal.nD Cert.Kernel9Ideal.τ).loc Cert.Kernel9Ideal.main_arg6) = m ((c.tc : Thread Cert.Kernel9Ideal.nD Cert.Kernel9Ideal.τ).loc Cert.Kernel9Ideal.main_arg6))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v10) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2)
          ∧ r.2.mem ((c.tc : Thread Cert.Reference9Ideal.nD Cert.Reference9Ideal.τ).loc Cert.Reference9Ideal.main_arg3) = m' ((c.tc : Thread Cert.Reference9Ideal.nD Cert.Reference9Ideal.τ).loc Cert.Reference9Ideal.main_arg3)
          ∧ r.2.mem ((c.tc : Thread Cert.Reference9Ideal.nD Cert.Reference9Ideal.τ).loc Cert.Reference9Ideal.main_arg4) = m' ((c.tc : Thread Cert.Reference9Ideal.nD Cert.Reference9Ideal.τ).loc Cert.Reference9Ideal.main_arg4)
          ∧ r.2.mem ((c.tc : Thread Cert.Reference9Ideal.nD Cert.Reference9Ideal.τ).loc Cert.Reference9Ideal.main_arg5) = m' ((c.tc : Thread Cert.Reference9Ideal.nD Cert.Reference9Ideal.τ).loc Cert.Reference9Ideal.main_arg5)
          ∧ r.2.mem ((c.tc : Thread Cert.Reference9Ideal.nD Cert.Reference9Ideal.τ).loc Cert.Reference9Ideal.main_arg6) = m' ((c.tc : Thread Cert.Reference9Ideal.nD Cert.Reference9Ideal.τ).loc Cert.Reference9Ideal.main_arg6))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)) →
    ∃ (v0 : (c : Dev Cert.Kernel10Ideal.nD) → Buf (Elt Ideal) ((c.tc : Thread Cert.Kernel10Ideal.nD Cert.Kernel10Ideal.τ).loc Cert.Kernel10Ideal.main_v0)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v0) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v2) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)
      ∧ m' ((c.tc : Thread Cert.Reference11Ideal.nD Cert.Reference11Ideal.τ).loc Cert.Reference11Ideal.main_arg3) = m ((c.tc : Thread Cert.Kernel11Ideal.nD Cert.Kernel11Ideal.τ).loc Cert.Kernel11Ideal.main_arg3)) →
    ∃ (v0 : (c : Dev Cert.Kernel11Ideal.nD) → Buf (Elt Ideal) ((c.tc : Thread Cert.Kernel11Ideal.nD Cert.Kernel11Ideal.τ).loc Cert.Kernel11Ideal.main_v0_0)) (v1 : (c : Dev Cert.Kernel11Ideal.nD) → Buf (Elt Ideal) ((c.tc : Thread Cert.Kernel11Ideal.nD Cert.Kernel11Ideal.τ).loc Cert.Kernel11Ideal.main_v0_1)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v0_0) = v0 c
          ∧ r.2.mem ((c.tc : Thread Cert.Kernel11Ideal.nD Cert.Kernel11Ideal.τ).loc Cert.Kernel11Ideal.main_v0_1) = v1 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
          ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v5) = v0 c
          ∧ r.2.mem ((c.tc : Thread Cert.Reference11Ideal.nD Cert.Reference11Ideal.τ).loc Cert.Reference11Ideal.main_v10) = v1 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2)
          ∧ r.2.mem ((c.tc : Thread Cert.Reference11Ideal.nD Cert.Reference11Ideal.τ).loc Cert.Reference11Ideal.main_arg3) = m' ((c.tc : Thread Cert.Reference11Ideal.nD Cert.Reference11Ideal.τ).loc Cert.Reference11Ideal.main_arg3))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)) →
    ∃ (v0 : (c : Dev Cert.Kernel12Ideal.nD) → Buf (Elt Ideal) ((c.tc : Thread Cert.Kernel12Ideal.nD Cert.Kernel12Ideal.τ).loc Cert.Kernel12Ideal.main_v0)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v0) = v0 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v3) = v0 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)
      ∧ m' ((c.tc : Thread Cert.Reference13Ideal.nD Cert.Reference13Ideal.τ).loc Cert.Reference13Ideal.main_arg2) = m ((c.tc : Thread Cert.Kernel13Ideal.nD Cert.Kernel13Ideal.τ).loc Cert.Kernel13Ideal.main_arg2)
      ∧ m' ((c.tc : Thread Cert.Reference13Ideal.nD Cert.Reference13Ideal.τ).loc Cert.Reference13Ideal.main_arg3) = m ((c.tc : Thread Cert.Kernel13Ideal.nD Cert.Kernel13Ideal.τ).loc Cert.Kernel13Ideal.main_arg3)) →
    ∃ (v0 : (c : Dev Cert.Kernel13Ideal.nD) → Buf (Elt Ideal) ((c.tc : Thread Cert.Kernel13Ideal.nD Cert.Kernel13Ideal.τ).loc Cert.Kernel13Ideal.main_v0_0)) (v1 : (c : Dev Cert.Kernel13Ideal.nD) → Buf (Elt Ideal) ((c.tc : Thread Cert.Kernel13Ideal.nD Cert.Kernel13Ideal.τ).loc Cert.Kernel13Ideal.main_v0_1)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v0_0) = v0 c
          ∧ r.2.mem ((c.tc : Thread Cert.Kernel13Ideal.nD Cert.Kernel13Ideal.τ).loc Cert.Kernel13Ideal.main_v0_1) = v1 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
          ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
          ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v7) = v0 c
          ∧ r.2.mem ((c.tc : Thread Cert.Reference13Ideal.nD Cert.Reference13Ideal.τ).loc Cert.Reference13Ideal.main_v12) = v1 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1)
          ∧ r.2.mem ((c.tc : Thread Cert.Reference13Ideal.nD Cert.Reference13Ideal.τ).loc Cert.Reference13Ideal.main_arg2) = m' ((c.tc : Thread Cert.Reference13Ideal.nD Cert.Reference13Ideal.τ).loc Cert.Reference13Ideal.main_arg2)
          ∧ r.2.mem ((c.tc : Thread Cert.Reference13Ideal.nD Cert.Reference13Ideal.τ).loc Cert.Reference13Ideal.main_arg3) = m' ((c.tc : Thread Cert.Reference13Ideal.nD Cert.Reference13Ideal.τ).loc Cert.Reference13Ideal.main_arg3))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)
      ∧ m' ((c.tc : Thread Cert.Reference14Ideal.nD Cert.Reference14Ideal.τ).loc Cert.Reference14Ideal.main_arg2) = m ((c.tc : Thread Cert.Kernel14Ideal.nD Cert.Kernel14Ideal.τ).loc Cert.Kernel14Ideal.main_arg2)
      ∧ m' ((c.tc : Thread Cert.Reference14Ideal.nD Cert.Reference14Ideal.τ).loc Cert.Reference14Ideal.main_arg3) = m ((c.tc : Thread Cert.Kernel14Ideal.nD Cert.Kernel14Ideal.τ).loc Cert.Kernel14Ideal.main_arg3)) →
    ∃ (v0 : (c : Dev Cert.Kernel14Ideal.nD) → Buf (Elt Ideal) ((c.tc : Thread Cert.Kernel14Ideal.nD Cert.Kernel14Ideal.τ).loc Cert.Kernel14Ideal.main_v1_0)) (v1 : (c : Dev Cert.Kernel14Ideal.nD) → Buf (Elt Ideal) ((c.tc : Thread Cert.Kernel14Ideal.nD Cert.Kernel14Ideal.τ).loc Cert.Kernel14Ideal.main_v1_1)) (v2 : (c : Dev Cert.Kernel14Ideal.nD) → Buf (Elt Ideal) ((c.tc : Thread Cert.Kernel14Ideal.nD Cert.Kernel14Ideal.τ).loc Cert.Kernel14Ideal.main_v1_2)) (v3 : (c : Dev Cert.Kernel14Ideal.nD) → Buf (Elt Ideal) ((c.tc : Thread Cert.Kernel14Ideal.nD Cert.Kernel14Ideal.τ).loc Cert.Kernel14Ideal.main_v1_3)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v1_0) = v0 c
          ∧ r.2.mem ((c.tc : Thread Cert.Kernel14Ideal.nD Cert.Kernel14Ideal.τ).loc Cert.Kernel14Ideal.main_v1_1) = v1 c
          ∧ r.2.mem ((c.tc : Thread Cert.Kernel14Ideal.nD Cert.Kernel14Ideal.τ).loc Cert.Kernel14Ideal.main_v1_2) = v2 c
          ∧ r.2.mem ((c.tc : Thread Cert.Kernel14Ideal.nD Cert.Kernel14Ideal.τ).loc Cert.Kernel14Ideal.main_v1_3) = v3 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
          ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
          ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_arg0) = v0 c
          ∧ r.2.mem ((c.tc : Thread Cert.Reference14Ideal.nD Cert.Reference14Ideal.τ).loc Cert.Reference14Ideal.main_v23) = v1 c
          ∧ r.2.mem ((c.tc : Thread Cert.Reference14Ideal.nD Cert.Reference14Ideal.τ).loc Cert.Reference14Ideal.main_v4) = v2 c
          ∧ r.2.mem ((c.tc : Thread Cert.Reference14Ideal.nD Cert.Reference14Ideal.τ).loc Cert.Reference14Ideal.main_v10) = v3 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1)
          ∧ r.2.mem ((c.tc : Thread Cert.Reference14Ideal.nD Cert.Reference14Ideal.τ).loc Cert.Reference14Ideal.main_arg2) = m' ((c.tc : Thread Cert.Reference14Ideal.nD Cert.Reference14Ideal.τ).loc Cert.Reference14Ideal.main_arg2)
          ∧ r.2.mem ((c.tc : Thread Cert.Reference14Ideal.nD Cert.Reference14Ideal.τ).loc Cert.Reference14Ideal.main_arg3) = m' ((c.tc : Thread Cert.Reference14Ideal.nD Cert.Reference14Ideal.τ).loc Cert.Reference14Ideal.main_arg3))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)
      ∧ m' ((c.tc : Thread Cert.Reference15Ideal.nD Cert.Reference15Ideal.τ).loc Cert.Reference15Ideal.main_arg2) = m ((c.tc : Thread Cert.Kernel15Ideal.nD Cert.Kernel15Ideal.τ).loc Cert.Kernel15Ideal.main_arg2)
      ∧ m' ((c.tc : Thread Cert.Reference15Ideal.nD Cert.Reference15Ideal.τ).loc Cert.Reference15Ideal.main_arg3) = m ((c.tc : Thread Cert.Kernel15Ideal.nD Cert.Kernel15Ideal.τ).loc Cert.Kernel15Ideal.main_arg3)) →
    ∃ (v0 : (c : Dev Cert.Kernel15Ideal.nD) → Buf (Elt Ideal) ((c.tc : Thread Cert.Kernel15Ideal.nD Cert.Kernel15Ideal.τ).loc Cert.Kernel15Ideal.main_v4_0)) (v1 : (c : Dev Cert.Kernel15Ideal.nD) → Buf (Elt Ideal) ((c.tc : Thread Cert.Kernel15Ideal.nD Cert.Kernel15Ideal.τ).loc Cert.Kernel15Ideal.main_v4_1)) (v2 : (c : Dev Cert.Kernel15Ideal.nD) → Buf (Elt Ideal) ((c.tc : Thread Cert.Kernel15Ideal.nD Cert.Kernel15Ideal.τ).loc Cert.Kernel15Ideal.main_v4_2)) (v3 : (c : Dev Cert.Kernel15Ideal.nD) → Buf (Elt Ideal) ((c.tc : Thread Cert.Kernel15Ideal.nD Cert.Kernel15Ideal.τ).loc Cert.Kernel15Ideal.main_v4_3)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v4_0) = v0 c
          ∧ r.2.mem ((c.tc : Thread Cert.Kernel15Ideal.nD Cert.Kernel15Ideal.τ).loc Cert.Kernel15Ideal.main_v4_1) = v1 c
          ∧ r.2.mem ((c.tc : Thread Cert.Kernel15Ideal.nD Cert.Kernel15Ideal.τ).loc Cert.Kernel15Ideal.main_v4_2) = v2 c
          ∧ r.2.mem ((c.tc : Thread Cert.Kernel15Ideal.nD Cert.Kernel15Ideal.τ).loc Cert.Kernel15Ideal.main_v4_3) = v3 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
          ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
          ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v25) = v0 c
          ∧ r.2.mem ((c.tc : Thread Cert.Reference15Ideal.nD Cert.Reference15Ideal.τ).loc Cert.Reference15Ideal.main_v26) = v1 c
          ∧ r.2.mem ((c.tc : Thread Cert.Reference15Ideal.nD Cert.Reference15Ideal.τ).loc Cert.Reference15Ideal.main_v27) = v2 c
          ∧ r.2.mem ((c.tc : Thread Cert.Reference15Ideal.nD Cert.Reference15Ideal.τ).loc Cert.Reference15Ideal.main_v28) = v3 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1)
          ∧ r.2.mem ((c.tc : Thread Cert.Reference15Ideal.nD Cert.Reference15Ideal.τ).loc Cert.Reference15Ideal.main_arg2) = m' ((c.tc : Thread Cert.Reference15Ideal.nD Cert.Reference15Ideal.τ).loc Cert.Reference15Ideal.main_arg2)
          ∧ r.2.mem ((c.tc : Thread Cert.Reference15Ideal.nD Cert.Reference15Ideal.τ).loc Cert.Reference15Ideal.main_arg3) = m' ((c.tc : Thread Cert.Reference15Ideal.nD Cert.Reference15Ideal.τ).loc Cert.Reference15Ideal.main_arg3))

def preserves_Kernel16_Kernel16Ideal : Prop :=
  True

def algebraic_Kernel16Ideal_Reference16Ideal [hKernel16Ideal : Cert.Kernel16Ideal.Facts] [hReference16Ideal : Cert.Reference16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)
      ∧ m' ((c.tc : Thread Cert.Reference16Ideal.nD Cert.Reference16Ideal.τ).loc Cert.Reference16Ideal.main_arg2) = m ((c.tc : Thread Cert.Kernel16Ideal.nD Cert.Kernel16Ideal.τ).loc Cert.Kernel16Ideal.main_arg2)
      ∧ m' ((c.tc : Thread Cert.Reference16Ideal.nD Cert.Reference16Ideal.τ).loc Cert.Reference16Ideal.main_arg3) = m ((c.tc : Thread Cert.Kernel16Ideal.nD Cert.Kernel16Ideal.τ).loc Cert.Kernel16Ideal.main_arg3)) →
    ∃ (v0 : (c : Dev Cert.Kernel16Ideal.nD) → Buf (Elt Ideal) ((c.tc : Thread Cert.Kernel16Ideal.nD Cert.Kernel16Ideal.τ).loc Cert.Kernel16Ideal.main_v0_0)) (v1 : (c : Dev Cert.Kernel16Ideal.nD) → Buf (Elt Ideal) ((c.tc : Thread Cert.Kernel16Ideal.nD Cert.Kernel16Ideal.τ).loc Cert.Kernel16Ideal.main_v0_1)) (v2 : (c : Dev Cert.Kernel16Ideal.nD) → Buf (Elt Ideal) ((c.tc : Thread Cert.Kernel16Ideal.nD Cert.Kernel16Ideal.τ).loc Cert.Kernel16Ideal.main_v0_2)) (v3 : (c : Dev Cert.Kernel16Ideal.nD) → Buf (Elt Ideal) ((c.tc : Thread Cert.Kernel16Ideal.nD Cert.Kernel16Ideal.τ).loc Cert.Kernel16Ideal.main_v0_3)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v0_0) = v0 c
          ∧ r.2.mem ((c.tc : Thread Cert.Kernel16Ideal.nD Cert.Kernel16Ideal.τ).loc Cert.Kernel16Ideal.main_v0_1) = v1 c
          ∧ r.2.mem ((c.tc : Thread Cert.Kernel16Ideal.nD Cert.Kernel16Ideal.τ).loc Cert.Kernel16Ideal.main_v0_2) = v2 c
          ∧ r.2.mem ((c.tc : Thread Cert.Kernel16Ideal.nD Cert.Kernel16Ideal.τ).loc Cert.Kernel16Ideal.main_v0_3) = v3 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
          ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2)
          ∧ r.2.mem ((c.tc : Thread Cert.Kernel16Ideal.nD Cert.Kernel16Ideal.τ).loc Cert.Kernel16Ideal.main_arg3) = m ((c.tc : Thread Cert.Kernel16Ideal.nD Cert.Kernel16Ideal.τ).loc Cert.Kernel16Ideal.main_arg3))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v0) = v0 c
          ∧ r.2.mem ((c.tc : Thread Cert.Reference16Ideal.nD Cert.Reference16Ideal.τ).loc Cert.Reference16Ideal.main_v24) = v1 c
          ∧ r.2.mem ((c.tc : Thread Cert.Reference16Ideal.nD Cert.Reference16Ideal.τ).loc Cert.Reference16Ideal.main_v5) = v2 c
          ∧ r.2.mem ((c.tc : Thread Cert.Reference16Ideal.nD Cert.Reference16Ideal.τ).loc Cert.Reference16Ideal.main_v11) = v3 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1)
          ∧ r.2.mem ((c.tc : Thread Cert.Reference16Ideal.nD Cert.Reference16Ideal.τ).loc Cert.Reference16Ideal.main_arg2) = m' ((c.tc : Thread Cert.Reference16Ideal.nD Cert.Reference16Ideal.τ).loc Cert.Reference16Ideal.main_arg2)
          ∧ r.2.mem ((c.tc : Thread Cert.Reference16Ideal.nD Cert.Reference16Ideal.τ).loc Cert.Reference16Ideal.main_arg3) = m' ((c.tc : Thread Cert.Reference16Ideal.nD Cert.Reference16Ideal.τ).loc Cert.Reference16Ideal.main_arg3))

def preserves_Kernel17_Kernel17Ideal : Prop :=
  True

def algebraic_Kernel17Ideal_Reference17Ideal [hKernel17Ideal : Cert.Kernel17Ideal.Facts] [hReference17Ideal : Cert.Reference17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg)
    (m' : (ℓ : Loc Cert.Reference17Ideal.nD Cert.Reference17Ideal.τ Cert.Reference17Ideal.sig) → Buf (Elt Ideal) ℓ) (g' : Dev Cert.Reference17Ideal.nD → PrngReg), Pre_Kernel17Ideal m →
    (∀ c : Dev Cert.Kernel17Ideal.nD,
      m' ((c.tc : Thread Cert.Reference17Ideal.nD Cert.Reference17Ideal.τ).loc Cert.Reference17Ideal.main_arg0) = m ((c.tc : Thread Cert.Kernel17Ideal.nD Cert.Kernel17Ideal.τ).loc Cert.Kernel17Ideal.main_arg0)
      ∧ m' ((c.tc : Thread Cert.Reference17Ideal.nD Cert.Reference17Ideal.τ).loc Cert.Reference17Ideal.main_arg1) = m ((c.tc : Thread Cert.Kernel17Ideal.nD Cert.Kernel17Ideal.τ).loc Cert.Kernel17Ideal.main_arg1)
      ∧ m' ((c.tc : Thread Cert.Reference17Ideal.nD Cert.Reference17Ideal.τ).loc Cert.Reference17Ideal.main_arg2) = m ((c.tc : Thread Cert.Kernel17Ideal.nD Cert.Kernel17Ideal.τ).loc Cert.Kernel17Ideal.main_arg2)
      ∧ m' ((c.tc : Thread Cert.Reference17Ideal.nD Cert.Reference17Ideal.τ).loc Cert.Reference17Ideal.main_arg3) = m ((c.tc : Thread Cert.Kernel17Ideal.nD Cert.Kernel17Ideal.τ).loc Cert.Kernel17Ideal.main_arg3)) →
    ∃ (v0 : (c : Dev Cert.Kernel17Ideal.nD) → Buf (Elt Ideal) ((c.tc : Thread Cert.Kernel17Ideal.nD Cert.Kernel17Ideal.τ).loc Cert.Kernel17Ideal.main_v4_0)) (v1 : (c : Dev Cert.Kernel17Ideal.nD) → Buf (Elt Ideal) ((c.tc : Thread Cert.Kernel17Ideal.nD Cert.Kernel17Ideal.τ).loc Cert.Kernel17Ideal.main_v4_1)) (v2 : (c : Dev Cert.Kernel17Ideal.nD) → Buf (Elt Ideal) ((c.tc : Thread Cert.Kernel17Ideal.nD Cert.Kernel17Ideal.τ).loc Cert.Kernel17Ideal.main_v4_2)) (v3 : (c : Dev Cert.Kernel17Ideal.nD) → Buf (Elt Ideal) ((c.tc : Thread Cert.Kernel17Ideal.nD Cert.Kernel17Ideal.τ).loc Cert.Kernel17Ideal.main_v4_3)),
      θ_run (Cert.Kernel17Ideal.defs (F := Ideal)) (onTc (τ := Cert.Kernel17Ideal.τ) (Cert.Kernel17Ideal.main (F := Ideal))) ⟨m, fun _ => 0, g⟩ (fun r => ∀ c : Dev Cert.Kernel17Ideal.nD,
          r.2.mem ((c.tc : Thread Cert.Kernel17Ideal.nD Cert.Kernel17Ideal.τ).loc Cert.Kernel17Ideal.main_v4_0) = v0 c
          ∧ r.2.mem ((c.tc : Thread Cert.Kernel17Ideal.nD Cert.Kernel17Ideal.τ).loc Cert.Kernel17Ideal.main_v4_1) = v1 c
          ∧ r.2.mem ((c.tc : Thread Cert.Kernel17Ideal.nD Cert.Kernel17Ideal.τ).loc Cert.Kernel17Ideal.main_v4_2) = v2 c
          ∧ r.2.mem ((c.tc : Thread Cert.Kernel17Ideal.nD Cert.Kernel17Ideal.τ).loc Cert.Kernel17Ideal.main_v4_3) = v3 c
          ∧ r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
          ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
          ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2)
          ∧ r.2.mem ((c.tc : Thread Cert.Kernel17Ideal.nD Cert.Kernel17Ideal.τ).loc Cert.Kernel17Ideal.main_arg3) = m ((c.tc : Thread Cert.Kernel17Ideal.nD Cert.Kernel17Ideal.τ).loc Cert.Kernel17Ideal.main_arg3))
      ∧ θ_run (Cert.Reference17Ideal.defs (F := Ideal)) (onTc (τ := Cert.Reference17Ideal.τ) (Cert.Reference17Ideal.main (F := Ideal))) ⟨m', fun _ => 0, g'⟩ (fun r => ∀ c : Dev Cert.Reference17Ideal.nD,
          r.2.mem ((c.tc : Thread Cert.Reference17Ideal.nD Cert.Reference17Ideal.τ).loc Cert.Reference17Ideal.main_v25) = v0 c
          ∧ r.2.mem ((c.tc : Thread Cert.Reference17Ideal.nD Cert.Reference17Ideal.τ).loc Cert.Reference17Ideal.main_v26) = v1 c
          ∧ r.2.mem ((c.tc : Thread Cert.Reference17Ideal.nD Cert.Reference17Ideal.τ).loc Cert.Reference17Ideal.main_v27) = v2 c
          ∧ r.2.mem ((c.tc : Thread Cert.Reference17Ideal.nD Cert.Reference17Ideal.τ).loc Cert.Reference17Ideal.main_v28) = v3 c
          ∧ r.2.mem ((c.tc : Thread Cert.Reference17Ideal.nD Cert.Reference17Ideal.τ).loc Cert.Reference17Ideal.main_arg0) = m' ((c.tc : Thread Cert.Reference17Ideal.nD Cert.Reference17Ideal.τ).loc Cert.Reference17Ideal.main_arg0)
          ∧ r.2.mem ((c.tc : Thread Cert.Reference17Ideal.nD Cert.Reference17Ideal.τ).loc Cert.Reference17Ideal.main_arg1) = m' ((c.tc : Thread Cert.Reference17Ideal.nD Cert.Reference17Ideal.τ).loc Cert.Reference17Ideal.main_arg1)
          ∧ r.2.mem ((c.tc : Thread Cert.Reference17Ideal.nD Cert.Reference17Ideal.τ).loc Cert.Reference17Ideal.main_arg2) = m' ((c.tc : Thread Cert.Reference17Ideal.nD Cert.Reference17Ideal.τ).loc Cert.Reference17Ideal.main_arg2)
          ∧ r.2.mem ((c.tc : Thread Cert.Reference17Ideal.nD Cert.Reference17Ideal.τ).loc Cert.Reference17Ideal.main_arg3) = m' ((c.tc : Thread Cert.Reference17Ideal.nD Cert.Reference17Ideal.τ).loc Cert.Reference17Ideal.main_arg3))

def preserves_Kernel18_Kernel18Ideal : Prop :=
  True

def algebraic_Kernel18Ideal_Reference18Ideal [hKernel18Ideal : Cert.Kernel18Ideal.Facts] [hReference18Ideal : Cert.Reference18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg)
    (m' : (ℓ : Loc Cert.Reference18Ideal.nD Cert.Reference18Ideal.τ Cert.Reference18Ideal.sig) → Buf (Elt Ideal) ℓ) (g' : Dev Cert.Reference18Ideal.nD → PrngReg), Pre_Kernel18Ideal m →
    (∀ c : Dev Cert.Kernel18Ideal.nD,
      m' ((c.tc : Thread Cert.Reference18Ideal.nD Cert.Reference18Ideal.τ).loc Cert.Reference18Ideal.main_arg0) = m ((c.tc : Thread Cert.Kernel18Ideal.nD Cert.Kernel18Ideal.τ).loc Cert.Kernel18Ideal.main_arg0)
      ∧ m' ((c.tc : Thread Cert.Reference18Ideal.nD Cert.Reference18Ideal.τ).loc Cert.Reference18Ideal.main_arg1) = m ((c.tc : Thread Cert.Kernel18Ideal.nD Cert.Kernel18Ideal.τ).loc Cert.Kernel18Ideal.main_arg1)
      ∧ m' ((c.tc : Thread Cert.Reference18Ideal.nD Cert.Reference18Ideal.τ).loc Cert.Reference18Ideal.main_arg2) = m ((c.tc : Thread Cert.Kernel18Ideal.nD Cert.Kernel18Ideal.τ).loc Cert.Kernel18Ideal.main_arg2)
      ∧ m' ((c.tc : Thread Cert.Reference18Ideal.nD Cert.Reference18Ideal.τ).loc Cert.Reference18Ideal.main_arg3) = m ((c.tc : Thread Cert.Kernel18Ideal.nD Cert.Kernel18Ideal.τ).loc Cert.Kernel18Ideal.main_arg3)
      ∧ m' ((c.tc : Thread Cert.Reference18Ideal.nD Cert.Reference18Ideal.τ).loc Cert.Reference18Ideal.main_arg4) = m ((c.tc : Thread Cert.Kernel18Ideal.nD Cert.Kernel18Ideal.τ).loc Cert.Kernel18Ideal.main_arg4)
      ∧ m' ((c.tc : Thread Cert.Reference18Ideal.nD Cert.Reference18Ideal.τ).loc Cert.Reference18Ideal.main_arg5) = m ((c.tc : Thread Cert.Kernel18Ideal.nD Cert.Kernel18Ideal.τ).loc Cert.Kernel18Ideal.main_arg5)
      ∧ m' ((c.tc : Thread Cert.Reference18Ideal.nD Cert.Reference18Ideal.τ).loc Cert.Reference18Ideal.main_arg6) = m ((c.tc : Thread Cert.Kernel18Ideal.nD Cert.Kernel18Ideal.τ).loc Cert.Kernel18Ideal.main_arg6)) →
    ∃ (v0 : (c : Dev Cert.Kernel18Ideal.nD) → Buf (Elt Ideal) ((c.tc : Thread Cert.Kernel18Ideal.nD Cert.Kernel18Ideal.τ).loc Cert.Kernel18Ideal.main_v0_0)) (v1 : (c : Dev Cert.Kernel18Ideal.nD) → Buf (Elt Ideal) ((c.tc : Thread Cert.Kernel18Ideal.nD Cert.Kernel18Ideal.τ).loc Cert.Kernel18Ideal.main_v0_1)) (v2 : (c : Dev Cert.Kernel18Ideal.nD) → Buf (Elt Ideal) ((c.tc : Thread Cert.Kernel18Ideal.nD Cert.Kernel18Ideal.τ).loc Cert.Kernel18Ideal.main_v0_2)) (v3 : (c : Dev Cert.Kernel18Ideal.nD) → Buf (Elt Ideal) ((c.tc : Thread Cert.Kernel18Ideal.nD Cert.Kernel18Ideal.τ).loc Cert.Kernel18Ideal.main_v0_3)),
      θ_run (Cert.Kernel18Ideal.defs (F := Ideal)) (onTc (τ := Cert.Kernel18Ideal.τ) (Cert.Kernel18Ideal.main (F := Ideal))) ⟨m, fun _ => 0, g⟩ (fun r => ∀ c : Dev Cert.Kernel18Ideal.nD,
          r.2.mem ((c.tc : Thread Cert.Kernel18Ideal.nD Cert.Kernel18Ideal.τ).loc Cert.Kernel18Ideal.main_v0_0) = v0 c
          ∧ r.2.mem ((c.tc : Thread Cert.Kernel18Ideal.nD Cert.Kernel18Ideal.τ).loc Cert.Kernel18Ideal.main_v0_1) = v1 c
          ∧ r.2.mem ((c.tc : Thread Cert.Kernel18Ideal.nD Cert.Kernel18Ideal.τ).loc Cert.Kernel18Ideal.main_v0_2) = v2 c
          ∧ r.2.mem ((c.tc : Thread Cert.Kernel18Ideal.nD Cert.Kernel18Ideal.τ).loc Cert.Kernel18Ideal.main_v0_3) = v3 c
          ∧ r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
          ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
          ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2)
          ∧ r.2.mem ((c.tc : Thread Cert.Kernel18Ideal.nD Cert.Kernel18Ideal.τ).loc Cert.Kernel18Ideal.main_arg3) = m ((c.tc : Thread Cert.Kernel18Ideal.nD Cert.Kernel18Ideal.τ).loc Cert.Kernel18Ideal.main_arg3)
          ∧ r.2.mem ((c.tc : Thread Cert.Kernel18Ideal.nD Cert.Kernel18Ideal.τ).loc Cert.Kernel18Ideal.main_arg4) = m ((c.tc : Thread Cert.Kernel18Ideal.nD Cert.Kernel18Ideal.τ).loc Cert.Kernel18Ideal.main_arg4)
          ∧ r.2.mem ((c.tc : Thread Cert.Kernel18Ideal.nD Cert.Kernel18Ideal.τ).loc Cert.Kernel18Ideal.main_arg5) = m ((c.tc : Thread Cert.Kernel18Ideal.nD Cert.Kernel18Ideal.τ).loc Cert.Kernel18Ideal.main_arg5)
          ∧ r.2.mem ((c.tc : Thread Cert.Kernel18Ideal.nD Cert.Kernel18Ideal.τ).loc Cert.Kernel18Ideal.main_arg6) = m ((c.tc : Thread Cert.Kernel18Ideal.nD Cert.Kernel18Ideal.τ).loc Cert.Kernel18Ideal.main_arg6))
      ∧ θ_run (Cert.Reference18Ideal.defs (F := Ideal)) (onTc (τ := Cert.Reference18Ideal.τ) (Cert.Reference18Ideal.main (F := Ideal))) ⟨m', fun _ => 0, g'⟩ (fun r => ∀ c : Dev Cert.Reference18Ideal.nD,
          r.2.mem ((c.tc : Thread Cert.Reference18Ideal.nD Cert.Reference18Ideal.τ).loc Cert.Reference18Ideal.main_v6) = v0 c
          ∧ r.2.mem ((c.tc : Thread Cert.Reference18Ideal.nD Cert.Reference18Ideal.τ).loc Cert.Reference18Ideal.main_v30) = v1 c
          ∧ r.2.mem ((c.tc : Thread Cert.Reference18Ideal.nD Cert.Reference18Ideal.τ).loc Cert.Reference18Ideal.main_v11) = v2 c
          ∧ r.2.mem ((c.tc : Thread Cert.Reference18Ideal.nD Cert.Reference18Ideal.τ).loc Cert.Reference18Ideal.main_v17) = v3 c
          ∧ r.2.mem ((c.tc : Thread Cert.Reference18Ideal.nD Cert.Reference18Ideal.τ).loc Cert.Reference18Ideal.main_arg0) = m' ((c.tc : Thread Cert.Reference18Ideal.nD Cert.Reference18Ideal.τ).loc Cert.Reference18Ideal.main_arg0)
          ∧ r.2.mem ((c.tc : Thread Cert.Reference18Ideal.nD Cert.Reference18Ideal.τ).loc Cert.Reference18Ideal.main_arg1) = m' ((c.tc : Thread Cert.Reference18Ideal.nD Cert.Reference18Ideal.τ).loc Cert.Reference18Ideal.main_arg1)
          ∧ r.2.mem ((c.tc : Thread Cert.Reference18Ideal.nD Cert.Reference18Ideal.τ).loc Cert.Reference18Ideal.main_arg2) = m' ((c.tc : Thread Cert.Reference18Ideal.nD Cert.Reference18Ideal.τ).loc Cert.Reference18Ideal.main_arg2)
          ∧ r.2.mem ((c.tc : Thread Cert.Reference18Ideal.nD Cert.Reference18Ideal.τ).loc Cert.Reference18Ideal.main_arg3) = m' ((c.tc : Thread Cert.Reference18Ideal.nD Cert.Reference18Ideal.τ).loc Cert.Reference18Ideal.main_arg3)
          ∧ r.2.mem ((c.tc : Thread Cert.Reference18Ideal.nD Cert.Reference18Ideal.τ).loc Cert.Reference18Ideal.main_arg4) = m' ((c.tc : Thread Cert.Reference18Ideal.nD Cert.Reference18Ideal.τ).loc Cert.Reference18Ideal.main_arg4)
          ∧ r.2.mem ((c.tc : Thread Cert.Reference18Ideal.nD Cert.Reference18Ideal.τ).loc Cert.Reference18Ideal.main_arg5) = m' ((c.tc : Thread Cert.Reference18Ideal.nD Cert.Reference18Ideal.τ).loc Cert.Reference18Ideal.main_arg5)
          ∧ r.2.mem ((c.tc : Thread Cert.Reference18Ideal.nD Cert.Reference18Ideal.τ).loc Cert.Reference18Ideal.main_arg6) = m' ((c.tc : Thread Cert.Reference18Ideal.nD Cert.Reference18Ideal.τ).loc Cert.Reference18Ideal.main_arg6))

def preserves_Kernel19_Kernel19Ideal : Prop :=
  True

def algebraic_Kernel19Ideal_Reference19Ideal [hKernel19Ideal : Cert.Kernel19Ideal.Facts] [hReference19Ideal : Cert.Reference19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg)
    (m' : (ℓ : Loc Cert.Reference19Ideal.nD Cert.Reference19Ideal.τ Cert.Reference19Ideal.sig) → Buf (Elt Ideal) ℓ) (g' : Dev Cert.Reference19Ideal.nD → PrngReg), Pre_Kernel19Ideal m →
    (∀ c : Dev Cert.Kernel19Ideal.nD,
      m' ((c.tc : Thread Cert.Reference19Ideal.nD Cert.Reference19Ideal.τ).loc Cert.Reference19Ideal.main_arg0) = m ((c.tc : Thread Cert.Kernel19Ideal.nD Cert.Kernel19Ideal.τ).loc Cert.Kernel19Ideal.main_arg0)
      ∧ m' ((c.tc : Thread Cert.Reference19Ideal.nD Cert.Reference19Ideal.τ).loc Cert.Reference19Ideal.main_arg1) = m ((c.tc : Thread Cert.Kernel19Ideal.nD Cert.Kernel19Ideal.τ).loc Cert.Kernel19Ideal.main_arg1)
      ∧ m' ((c.tc : Thread Cert.Reference19Ideal.nD Cert.Reference19Ideal.τ).loc Cert.Reference19Ideal.main_arg2) = m ((c.tc : Thread Cert.Kernel19Ideal.nD Cert.Kernel19Ideal.τ).loc Cert.Kernel19Ideal.main_arg2)
      ∧ m' ((c.tc : Thread Cert.Reference19Ideal.nD Cert.Reference19Ideal.τ).loc Cert.Reference19Ideal.main_arg3) = m ((c.tc : Thread Cert.Kernel19Ideal.nD Cert.Kernel19Ideal.τ).loc Cert.Kernel19Ideal.main_arg3)
      ∧ m' ((c.tc : Thread Cert.Reference19Ideal.nD Cert.Reference19Ideal.τ).loc Cert.Reference19Ideal.main_arg4) = m ((c.tc : Thread Cert.Kernel19Ideal.nD Cert.Kernel19Ideal.τ).loc Cert.Kernel19Ideal.main_arg4)
      ∧ m' ((c.tc : Thread Cert.Reference19Ideal.nD Cert.Reference19Ideal.τ).loc Cert.Reference19Ideal.main_arg5) = m ((c.tc : Thread Cert.Kernel19Ideal.nD Cert.Kernel19Ideal.τ).loc Cert.Kernel19Ideal.main_arg5)
      ∧ m' ((c.tc : Thread Cert.Reference19Ideal.nD Cert.Reference19Ideal.τ).loc Cert.Reference19Ideal.main_arg6) = m ((c.tc : Thread Cert.Kernel19Ideal.nD Cert.Kernel19Ideal.τ).loc Cert.Kernel19Ideal.main_arg6)) →
    ∃ (v0 : (c : Dev Cert.Kernel19Ideal.nD) → Buf (Elt Ideal) ((c.tc : Thread Cert.Kernel19Ideal.nD Cert.Kernel19Ideal.τ).loc Cert.Kernel19Ideal.main_v0_0)) (v1 : (c : Dev Cert.Kernel19Ideal.nD) → Buf (Elt Ideal) ((c.tc : Thread Cert.Kernel19Ideal.nD Cert.Kernel19Ideal.τ).loc Cert.Kernel19Ideal.main_v0_1)) (v2 : (c : Dev Cert.Kernel19Ideal.nD) → Buf (Elt Ideal) ((c.tc : Thread Cert.Kernel19Ideal.nD Cert.Kernel19Ideal.τ).loc Cert.Kernel19Ideal.main_v0_2)) (v3 : (c : Dev Cert.Kernel19Ideal.nD) → Buf (Elt Ideal) ((c.tc : Thread Cert.Kernel19Ideal.nD Cert.Kernel19Ideal.τ).loc Cert.Kernel19Ideal.main_v0_3)),
      θ_run (Cert.Kernel19Ideal.defs (F := Ideal)) (onTc (τ := Cert.Kernel19Ideal.τ) (Cert.Kernel19Ideal.main (F := Ideal))) ⟨m, fun _ => 0, g⟩ (fun r => ∀ c : Dev Cert.Kernel19Ideal.nD,
          r.2.mem ((c.tc : Thread Cert.Kernel19Ideal.nD Cert.Kernel19Ideal.τ).loc Cert.Kernel19Ideal.main_v0_0) = v0 c
          ∧ r.2.mem ((c.tc : Thread Cert.Kernel19Ideal.nD Cert.Kernel19Ideal.τ).loc Cert.Kernel19Ideal.main_v0_1) = v1 c
          ∧ r.2.mem ((c.tc : Thread Cert.Kernel19Ideal.nD Cert.Kernel19Ideal.τ).loc Cert.Kernel19Ideal.main_v0_2) = v2 c
          ∧ r.2.mem ((c.tc : Thread Cert.Kernel19Ideal.nD Cert.Kernel19Ideal.τ).loc Cert.Kernel19Ideal.main_v0_3) = v3 c
          ∧ r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
          ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
          ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2)
          ∧ r.2.mem ((c.tc : Thread Cert.Kernel19Ideal.nD Cert.Kernel19Ideal.τ).loc Cert.Kernel19Ideal.main_arg3) = m ((c.tc : Thread Cert.Kernel19Ideal.nD Cert.Kernel19Ideal.τ).loc Cert.Kernel19Ideal.main_arg3)
          ∧ r.2.mem ((c.tc : Thread Cert.Kernel19Ideal.nD Cert.Kernel19Ideal.τ).loc Cert.Kernel19Ideal.main_arg4) = m ((c.tc : Thread Cert.Kernel19Ideal.nD Cert.Kernel19Ideal.τ).loc Cert.Kernel19Ideal.main_arg4)
          ∧ r.2.mem ((c.tc : Thread Cert.Kernel19Ideal.nD Cert.Kernel19Ideal.τ).loc Cert.Kernel19Ideal.main_arg5) = m ((c.tc : Thread Cert.Kernel19Ideal.nD Cert.Kernel19Ideal.τ).loc Cert.Kernel19Ideal.main_arg5)
          ∧ r.2.mem ((c.tc : Thread Cert.Kernel19Ideal.nD Cert.Kernel19Ideal.τ).loc Cert.Kernel19Ideal.main_arg6) = m ((c.tc : Thread Cert.Kernel19Ideal.nD Cert.Kernel19Ideal.τ).loc Cert.Kernel19Ideal.main_arg6))
      ∧ θ_run (Cert.Reference19Ideal.defs (F := Ideal)) (onTc (τ := Cert.Reference19Ideal.τ) (Cert.Reference19Ideal.main (F := Ideal))) ⟨m', fun _ => 0, g'⟩ (fun r => ∀ c : Dev Cert.Reference19Ideal.nD,
          r.2.mem ((c.tc : Thread Cert.Reference19Ideal.nD Cert.Reference19Ideal.τ).loc Cert.Reference19Ideal.main_v6) = v0 c
          ∧ r.2.mem ((c.tc : Thread Cert.Reference19Ideal.nD Cert.Reference19Ideal.τ).loc Cert.Reference19Ideal.main_v30) = v1 c
          ∧ r.2.mem ((c.tc : Thread Cert.Reference19Ideal.nD Cert.Reference19Ideal.τ).loc Cert.Reference19Ideal.main_v11) = v2 c
          ∧ r.2.mem ((c.tc : Thread Cert.Reference19Ideal.nD Cert.Reference19Ideal.τ).loc Cert.Reference19Ideal.main_v17) = v3 c
          ∧ r.2.mem ((c.tc : Thread Cert.Reference19Ideal.nD Cert.Reference19Ideal.τ).loc Cert.Reference19Ideal.main_arg0) = m' ((c.tc : Thread Cert.Reference19Ideal.nD Cert.Reference19Ideal.τ).loc Cert.Reference19Ideal.main_arg0)
          ∧ r.2.mem ((c.tc : Thread Cert.Reference19Ideal.nD Cert.Reference19Ideal.τ).loc Cert.Reference19Ideal.main_arg1) = m' ((c.tc : Thread Cert.Reference19Ideal.nD Cert.Reference19Ideal.τ).loc Cert.Reference19Ideal.main_arg1)
          ∧ r.2.mem ((c.tc : Thread Cert.Reference19Ideal.nD Cert.Reference19Ideal.τ).loc Cert.Reference19Ideal.main_arg2) = m' ((c.tc : Thread Cert.Reference19Ideal.nD Cert.Reference19Ideal.τ).loc Cert.Reference19Ideal.main_arg2)
          ∧ r.2.mem ((c.tc : Thread Cert.Reference19Ideal.nD Cert.Reference19Ideal.τ).loc Cert.Reference19Ideal.main_arg3) = m' ((c.tc : Thread Cert.Reference19Ideal.nD Cert.Reference19Ideal.τ).loc Cert.Reference19Ideal.main_arg3)
          ∧ r.2.mem ((c.tc : Thread Cert.Reference19Ideal.nD Cert.Reference19Ideal.τ).loc Cert.Reference19Ideal.main_arg4) = m' ((c.tc : Thread Cert.Reference19Ideal.nD Cert.Reference19Ideal.τ).loc Cert.Reference19Ideal.main_arg4)
          ∧ r.2.mem ((c.tc : Thread Cert.Reference19Ideal.nD Cert.Reference19Ideal.τ).loc Cert.Reference19Ideal.main_arg5) = m' ((c.tc : Thread Cert.Reference19Ideal.nD Cert.Reference19Ideal.τ).loc Cert.Reference19Ideal.main_arg5)
          ∧ r.2.mem ((c.tc : Thread Cert.Reference19Ideal.nD Cert.Reference19Ideal.τ).loc Cert.Reference19Ideal.main_arg6) = m' ((c.tc : Thread Cert.Reference19Ideal.nD Cert.Reference19Ideal.τ).loc Cert.Reference19Ideal.main_arg6))

def preserves_Kernel20_Kernel20Ideal : Prop :=
  True

def algebraic_Kernel20Ideal_Reference20Ideal [hKernel20Ideal : Cert.Kernel20Ideal.Facts] [hReference20Ideal : Cert.Reference20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg)
    (m' : (ℓ : Loc Cert.Reference20Ideal.nD Cert.Reference20Ideal.τ Cert.Reference20Ideal.sig) → Buf (Elt Ideal) ℓ) (g' : Dev Cert.Reference20Ideal.nD → PrngReg), Pre_Kernel20Ideal m →
    (∀ c : Dev Cert.Kernel20Ideal.nD,
      m' ((c.tc : Thread Cert.Reference20Ideal.nD Cert.Reference20Ideal.τ).loc Cert.Reference20Ideal.main_arg0) = m ((c.tc : Thread Cert.Kernel20Ideal.nD Cert.Kernel20Ideal.τ).loc Cert.Kernel20Ideal.main_arg0)
      ∧ m' ((c.tc : Thread Cert.Reference20Ideal.nD Cert.Reference20Ideal.τ).loc Cert.Reference20Ideal.main_arg1) = m ((c.tc : Thread Cert.Kernel20Ideal.nD Cert.Kernel20Ideal.τ).loc Cert.Kernel20Ideal.main_arg1)
      ∧ m' ((c.tc : Thread Cert.Reference20Ideal.nD Cert.Reference20Ideal.τ).loc Cert.Reference20Ideal.main_arg2) = m ((c.tc : Thread Cert.Kernel20Ideal.nD Cert.Kernel20Ideal.τ).loc Cert.Kernel20Ideal.main_arg2)
      ∧ m' ((c.tc : Thread Cert.Reference20Ideal.nD Cert.Reference20Ideal.τ).loc Cert.Reference20Ideal.main_arg3) = m ((c.tc : Thread Cert.Kernel20Ideal.nD Cert.Kernel20Ideal.τ).loc Cert.Kernel20Ideal.main_arg3)
      ∧ m' ((c.tc : Thread Cert.Reference20Ideal.nD Cert.Reference20Ideal.τ).loc Cert.Reference20Ideal.main_arg4) = m ((c.tc : Thread Cert.Kernel20Ideal.nD Cert.Kernel20Ideal.τ).loc Cert.Kernel20Ideal.main_arg4)
      ∧ m' ((c.tc : Thread Cert.Reference20Ideal.nD Cert.Reference20Ideal.τ).loc Cert.Reference20Ideal.main_arg5) = m ((c.tc : Thread Cert.Kernel20Ideal.nD Cert.Kernel20Ideal.τ).loc Cert.Kernel20Ideal.main_arg5)
      ∧ m' ((c.tc : Thread Cert.Reference20Ideal.nD Cert.Reference20Ideal.τ).loc Cert.Reference20Ideal.main_arg6) = m ((c.tc : Thread Cert.Kernel20Ideal.nD Cert.Kernel20Ideal.τ).loc Cert.Kernel20Ideal.main_arg6)) →
    ∃ (v0 : (c : Dev Cert.Kernel20Ideal.nD) → Buf (Elt Ideal) ((c.tc : Thread Cert.Kernel20Ideal.nD Cert.Kernel20Ideal.τ).loc Cert.Kernel20Ideal.main_v0_0)) (v1 : (c : Dev Cert.Kernel20Ideal.nD) → Buf (Elt Ideal) ((c.tc : Thread Cert.Kernel20Ideal.nD Cert.Kernel20Ideal.τ).loc Cert.Kernel20Ideal.main_v0_1)) (v2 : (c : Dev Cert.Kernel20Ideal.nD) → Buf (Elt Ideal) ((c.tc : Thread Cert.Kernel20Ideal.nD Cert.Kernel20Ideal.τ).loc Cert.Kernel20Ideal.main_v0_2)) (v3 : (c : Dev Cert.Kernel20Ideal.nD) → Buf (Elt Ideal) ((c.tc : Thread Cert.Kernel20Ideal.nD Cert.Kernel20Ideal.τ).loc Cert.Kernel20Ideal.main_v0_3)),
      θ_run (Cert.Kernel20Ideal.defs (F := Ideal)) (onTc (τ := Cert.Kernel20Ideal.τ) (Cert.Kernel20Ideal.main (F := Ideal))) ⟨m, fun _ => 0, g⟩ (fun r => ∀ c : Dev Cert.Kernel20Ideal.nD,
          r.2.mem ((c.tc : Thread Cert.Kernel20Ideal.nD Cert.Kernel20Ideal.τ).loc Cert.Kernel20Ideal.main_v0_0) = v0 c
          ∧ r.2.mem ((c.tc : Thread Cert.Kernel20Ideal.nD Cert.Kernel20Ideal.τ).loc Cert.Kernel20Ideal.main_v0_1) = v1 c
          ∧ r.2.mem ((c.tc : Thread Cert.Kernel20Ideal.nD Cert.Kernel20Ideal.τ).loc Cert.Kernel20Ideal.main_v0_2) = v2 c
          ∧ r.2.mem ((c.tc : Thread Cert.Kernel20Ideal.nD Cert.Kernel20Ideal.τ).loc Cert.Kernel20Ideal.main_v0_3) = v3 c
          ∧ r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
          ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
          ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2)
          ∧ r.2.mem ((c.tc : Thread Cert.Kernel20Ideal.nD Cert.Kernel20Ideal.τ).loc Cert.Kernel20Ideal.main_arg3) = m ((c.tc : Thread Cert.Kernel20Ideal.nD Cert.Kernel20Ideal.τ).loc Cert.Kernel20Ideal.main_arg3)
          ∧ r.2.mem ((c.tc : Thread Cert.Kernel20Ideal.nD Cert.Kernel20Ideal.τ).loc Cert.Kernel20Ideal.main_arg4) = m ((c.tc : Thread Cert.Kernel20Ideal.nD Cert.Kernel20Ideal.τ).loc Cert.Kernel20Ideal.main_arg4)
          ∧ r.2.mem ((c.tc : Thread Cert.Kernel20Ideal.nD Cert.Kernel20Ideal.τ).loc Cert.Kernel20Ideal.main_arg5) = m ((c.tc : Thread Cert.Kernel20Ideal.nD Cert.Kernel20Ideal.τ).loc Cert.Kernel20Ideal.main_arg5)
          ∧ r.2.mem ((c.tc : Thread Cert.Kernel20Ideal.nD Cert.Kernel20Ideal.τ).loc Cert.Kernel20Ideal.main_arg6) = m ((c.tc : Thread Cert.Kernel20Ideal.nD Cert.Kernel20Ideal.τ).loc Cert.Kernel20Ideal.main_arg6))
      ∧ θ_run (Cert.Reference20Ideal.defs (F := Ideal)) (onTc (τ := Cert.Reference20Ideal.τ) (Cert.Reference20Ideal.main (F := Ideal))) ⟨m', fun _ => 0, g'⟩ (fun r => ∀ c : Dev Cert.Reference20Ideal.nD,
          r.2.mem ((c.tc : Thread Cert.Reference20Ideal.nD Cert.Reference20Ideal.τ).loc Cert.Reference20Ideal.main_v6) = v0 c
          ∧ r.2.mem ((c.tc : Thread Cert.Reference20Ideal.nD Cert.Reference20Ideal.τ).loc Cert.Reference20Ideal.main_v30) = v1 c
          ∧ r.2.mem ((c.tc : Thread Cert.Reference20Ideal.nD Cert.Reference20Ideal.τ).loc Cert.Reference20Ideal.main_v11) = v2 c
          ∧ r.2.mem ((c.tc : Thread Cert.Reference20Ideal.nD Cert.Reference20Ideal.τ).loc Cert.Reference20Ideal.main_v17) = v3 c
          ∧ r.2.mem ((c.tc : Thread Cert.Reference20Ideal.nD Cert.Reference20Ideal.τ).loc Cert.Reference20Ideal.main_arg0) = m' ((c.tc : Thread Cert.Reference20Ideal.nD Cert.Reference20Ideal.τ).loc Cert.Reference20Ideal.main_arg0)
          ∧ r.2.mem ((c.tc : Thread Cert.Reference20Ideal.nD Cert.Reference20Ideal.τ).loc Cert.Reference20Ideal.main_arg1) = m' ((c.tc : Thread Cert.Reference20Ideal.nD Cert.Reference20Ideal.τ).loc Cert.Reference20Ideal.main_arg1)
          ∧ r.2.mem ((c.tc : Thread Cert.Reference20Ideal.nD Cert.Reference20Ideal.τ).loc Cert.Reference20Ideal.main_arg2) = m' ((c.tc : Thread Cert.Reference20Ideal.nD Cert.Reference20Ideal.τ).loc Cert.Reference20Ideal.main_arg2)
          ∧ r.2.mem ((c.tc : Thread Cert.Reference20Ideal.nD Cert.Reference20Ideal.τ).loc Cert.Reference20Ideal.main_arg3) = m' ((c.tc : Thread Cert.Reference20Ideal.nD Cert.Reference20Ideal.τ).loc Cert.Reference20Ideal.main_arg3)
          ∧ r.2.mem ((c.tc : Thread Cert.Reference20Ideal.nD Cert.Reference20Ideal.τ).loc Cert.Reference20Ideal.main_arg4) = m' ((c.tc : Thread Cert.Reference20Ideal.nD Cert.Reference20Ideal.τ).loc Cert.Reference20Ideal.main_arg4)
          ∧ r.2.mem ((c.tc : Thread Cert.Reference20Ideal.nD Cert.Reference20Ideal.τ).loc Cert.Reference20Ideal.main_arg5) = m' ((c.tc : Thread Cert.Reference20Ideal.nD Cert.Reference20Ideal.τ).loc Cert.Reference20Ideal.main_arg5)
          ∧ r.2.mem ((c.tc : Thread Cert.Reference20Ideal.nD Cert.Reference20Ideal.τ).loc Cert.Reference20Ideal.main_arg6) = m' ((c.tc : Thread Cert.Reference20Ideal.nD Cert.Reference20Ideal.τ).loc Cert.Reference20Ideal.main_arg6))

def preserves_Kernel21_Kernel21Ideal : Prop :=
  True

def algebraic_Kernel21Ideal_Reference21Ideal [hKernel21Ideal : Cert.Kernel21Ideal.Facts] [hReference21Ideal : Cert.Reference21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg)
    (m' : (ℓ : Loc Cert.Reference21Ideal.nD Cert.Reference21Ideal.τ Cert.Reference21Ideal.sig) → Buf (Elt Ideal) ℓ) (g' : Dev Cert.Reference21Ideal.nD → PrngReg), Pre_Kernel21Ideal m →
    (∀ c : Dev Cert.Kernel21Ideal.nD,
      m' ((c.tc : Thread Cert.Reference21Ideal.nD Cert.Reference21Ideal.τ).loc Cert.Reference21Ideal.main_arg0) = m ((c.tc : Thread Cert.Kernel21Ideal.nD Cert.Kernel21Ideal.τ).loc Cert.Kernel21Ideal.main_arg0)
      ∧ m' ((c.tc : Thread Cert.Reference21Ideal.nD Cert.Reference21Ideal.τ).loc Cert.Reference21Ideal.main_arg1) = m ((c.tc : Thread Cert.Kernel21Ideal.nD Cert.Kernel21Ideal.τ).loc Cert.Kernel21Ideal.main_arg1)
      ∧ m' ((c.tc : Thread Cert.Reference21Ideal.nD Cert.Reference21Ideal.τ).loc Cert.Reference21Ideal.main_arg2) = m ((c.tc : Thread Cert.Kernel21Ideal.nD Cert.Kernel21Ideal.τ).loc Cert.Kernel21Ideal.main_arg2)
      ∧ m' ((c.tc : Thread Cert.Reference21Ideal.nD Cert.Reference21Ideal.τ).loc Cert.Reference21Ideal.main_arg3) = m ((c.tc : Thread Cert.Kernel21Ideal.nD Cert.Kernel21Ideal.τ).loc Cert.Kernel21Ideal.main_arg3)
      ∧ m' ((c.tc : Thread Cert.Reference21Ideal.nD Cert.Reference21Ideal.τ).loc Cert.Reference21Ideal.main_arg4) = m ((c.tc : Thread Cert.Kernel21Ideal.nD Cert.Kernel21Ideal.τ).loc Cert.Kernel21Ideal.main_arg4)
      ∧ m' ((c.tc : Thread Cert.Reference21Ideal.nD Cert.Reference21Ideal.τ).loc Cert.Reference21Ideal.main_arg5) = m ((c.tc : Thread Cert.Kernel21Ideal.nD Cert.Kernel21Ideal.τ).loc Cert.Kernel21Ideal.main_arg5)
      ∧ m' ((c.tc : Thread Cert.Reference21Ideal.nD Cert.Reference21Ideal.τ).loc Cert.Reference21Ideal.main_arg6) = m ((c.tc : Thread Cert.Kernel21Ideal.nD Cert.Kernel21Ideal.τ).loc Cert.Kernel21Ideal.main_arg6)) →
    ∃ (v0 : (c : Dev Cert.Kernel21Ideal.nD) → Buf (Elt Ideal) ((c.tc : Thread Cert.Kernel21Ideal.nD Cert.Kernel21Ideal.τ).loc Cert.Kernel21Ideal.main_v0_0)) (v1 : (c : Dev Cert.Kernel21Ideal.nD) → Buf (Elt Ideal) ((c.tc : Thread Cert.Kernel21Ideal.nD Cert.Kernel21Ideal.τ).loc Cert.Kernel21Ideal.main_v0_1)) (v2 : (c : Dev Cert.Kernel21Ideal.nD) → Buf (Elt Ideal) ((c.tc : Thread Cert.Kernel21Ideal.nD Cert.Kernel21Ideal.τ).loc Cert.Kernel21Ideal.main_v0_2)) (v3 : (c : Dev Cert.Kernel21Ideal.nD) → Buf (Elt Ideal) ((c.tc : Thread Cert.Kernel21Ideal.nD Cert.Kernel21Ideal.τ).loc Cert.Kernel21Ideal.main_v0_3)),
      θ_run (Cert.Kernel21Ideal.defs (F := Ideal)) (onTc (τ := Cert.Kernel21Ideal.τ) (Cert.Kernel21Ideal.main (F := Ideal))) ⟨m, fun _ => 0, g⟩ (fun r => ∀ c : Dev Cert.Kernel21Ideal.nD,
          r.2.mem ((c.tc : Thread Cert.Kernel21Ideal.nD Cert.Kernel21Ideal.τ).loc Cert.Kernel21Ideal.main_v0_0) = v0 c
          ∧ r.2.mem ((c.tc : Thread Cert.Kernel21Ideal.nD Cert.Kernel21Ideal.τ).loc Cert.Kernel21Ideal.main_v0_1) = v1 c
          ∧ r.2.mem ((c.tc : Thread Cert.Kernel21Ideal.nD Cert.Kernel21Ideal.τ).loc Cert.Kernel21Ideal.main_v0_2) = v2 c
          ∧ r.2.mem ((c.tc : Thread Cert.Kernel21Ideal.nD Cert.Kernel21Ideal.τ).loc Cert.Kernel21Ideal.main_v0_3) = v3 c
          ∧ r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
          ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1)
          ∧ r.2.mem ((c.tc : Thread Cert.Kernel21Ideal.nD Cert.Kernel21Ideal.τ).loc Cert.Kernel21Ideal.main_arg2) = m ((c.tc : Thread Cert.Kernel21Ideal.nD Cert.Kernel21Ideal.τ).loc Cert.Kernel21Ideal.main_arg2)
          ∧ r.2.mem ((c.tc : Thread Cert.Kernel21Ideal.nD Cert.Kernel21Ideal.τ).loc Cert.Kernel21Ideal.main_arg3) = m ((c.tc : Thread Cert.Kernel21Ideal.nD Cert.Kernel21Ideal.τ).loc Cert.Kernel21Ideal.main_arg3)
          ∧ r.2.mem ((c.tc : Thread Cert.Kernel21Ideal.nD Cert.Kernel21Ideal.τ).loc Cert.Kernel21Ideal.main_arg4) = m ((c.tc : Thread Cert.Kernel21Ideal.nD Cert.Kernel21Ideal.τ).loc Cert.Kernel21Ideal.main_arg4)
          ∧ r.2.mem ((c.tc : Thread Cert.Kernel21Ideal.nD Cert.Kernel21Ideal.τ).loc Cert.Kernel21Ideal.main_arg5) = m ((c.tc : Thread Cert.Kernel21Ideal.nD Cert.Kernel21Ideal.τ).loc Cert.Kernel21Ideal.main_arg5)
          ∧ r.2.mem ((c.tc : Thread Cert.Kernel21Ideal.nD Cert.Kernel21Ideal.τ).loc Cert.Kernel21Ideal.main_arg6) = m ((c.tc : Thread Cert.Kernel21Ideal.nD Cert.Kernel21Ideal.τ).loc Cert.Kernel21Ideal.main_arg6))
      ∧ θ_run (Cert.Reference21Ideal.defs (F := Ideal)) (onTc (τ := Cert.Reference21Ideal.τ) (Cert.Reference21Ideal.main (F := Ideal))) ⟨m', fun _ => 0, g'⟩ (fun r => ∀ c : Dev Cert.Reference21Ideal.nD,
          r.2.mem ((c.tc : Thread Cert.Reference21Ideal.nD Cert.Reference21Ideal.τ).loc Cert.Reference21Ideal.main_v6) = v0 c
          ∧ r.2.mem ((c.tc : Thread Cert.Reference21Ideal.nD Cert.Reference21Ideal.τ).loc Cert.Reference21Ideal.main_v30) = v1 c
          ∧ r.2.mem ((c.tc : Thread Cert.Reference21Ideal.nD Cert.Reference21Ideal.τ).loc Cert.Reference21Ideal.main_v11) = v2 c
          ∧ r.2.mem ((c.tc : Thread Cert.Reference21Ideal.nD Cert.Reference21Ideal.τ).loc Cert.Reference21Ideal.main_v17) = v3 c
          ∧ r.2.mem ((c.tc : Thread Cert.Reference21Ideal.nD Cert.Reference21Ideal.τ).loc Cert.Reference21Ideal.main_arg0) = m' ((c.tc : Thread Cert.Reference21Ideal.nD Cert.Reference21Ideal.τ).loc Cert.Reference21Ideal.main_arg0)
          ∧ r.2.mem ((c.tc : Thread Cert.Reference21Ideal.nD Cert.Reference21Ideal.τ).loc Cert.Reference21Ideal.main_arg1) = m' ((c.tc : Thread Cert.Reference21Ideal.nD Cert.Reference21Ideal.τ).loc Cert.Reference21Ideal.main_arg1)
          ∧ r.2.mem ((c.tc : Thread Cert.Reference21Ideal.nD Cert.Reference21Ideal.τ).loc Cert.Reference21Ideal.main_arg2) = m' ((c.tc : Thread Cert.Reference21Ideal.nD Cert.Reference21Ideal.τ).loc Cert.Reference21Ideal.main_arg2)
          ∧ r.2.mem ((c.tc : Thread Cert.Reference21Ideal.nD Cert.Reference21Ideal.τ).loc Cert.Reference21Ideal.main_arg3) = m' ((c.tc : Thread Cert.Reference21Ideal.nD Cert.Reference21Ideal.τ).loc Cert.Reference21Ideal.main_arg3)
          ∧ r.2.mem ((c.tc : Thread Cert.Reference21Ideal.nD Cert.Reference21Ideal.τ).loc Cert.Reference21Ideal.main_arg4) = m' ((c.tc : Thread Cert.Reference21Ideal.nD Cert.Reference21Ideal.τ).loc Cert.Reference21Ideal.main_arg4)
          ∧ r.2.mem ((c.tc : Thread Cert.Reference21Ideal.nD Cert.Reference21Ideal.τ).loc Cert.Reference21Ideal.main_arg5) = m' ((c.tc : Thread Cert.Reference21Ideal.nD Cert.Reference21Ideal.τ).loc Cert.Reference21Ideal.main_arg5)
          ∧ r.2.mem ((c.tc : Thread Cert.Reference21Ideal.nD Cert.Reference21Ideal.τ).loc Cert.Reference21Ideal.main_arg6) = m' ((c.tc : Thread Cert.Reference21Ideal.nD Cert.Reference21Ideal.τ).loc Cert.Reference21Ideal.main_arg6))

def preserves_Kernel22_Kernel22Ideal : Prop :=
  True

def algebraic_Kernel22Ideal_Reference22Ideal [hKernel22Ideal : Cert.Kernel22Ideal.Facts] [hReference22Ideal : Cert.Reference22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg)
    (m' : (ℓ : Loc Cert.Reference22Ideal.nD Cert.Reference22Ideal.τ Cert.Reference22Ideal.sig) → Buf (Elt Ideal) ℓ) (g' : Dev Cert.Reference22Ideal.nD → PrngReg), Pre_Kernel22Ideal m →
    (∀ c : Dev Cert.Kernel22Ideal.nD,
      m' ((c.tc : Thread Cert.Reference22Ideal.nD Cert.Reference22Ideal.τ).loc Cert.Reference22Ideal.main_arg0) = m ((c.tc : Thread Cert.Kernel22Ideal.nD Cert.Kernel22Ideal.τ).loc Cert.Kernel22Ideal.main_arg0)
      ∧ m' ((c.tc : Thread Cert.Reference22Ideal.nD Cert.Reference22Ideal.τ).loc Cert.Reference22Ideal.main_arg1) = m ((c.tc : Thread Cert.Kernel22Ideal.nD Cert.Kernel22Ideal.τ).loc Cert.Kernel22Ideal.main_arg1)) →
    ∃ (v0 : (c : Dev Cert.Kernel22Ideal.nD) → Buf (Elt Ideal) ((c.tc : Thread Cert.Kernel22Ideal.nD Cert.Kernel22Ideal.τ).loc Cert.Kernel22Ideal.main_v0)),
      θ_run (Cert.Kernel22Ideal.defs (F := Ideal)) (onTc (τ := Cert.Kernel22Ideal.τ) (Cert.Kernel22Ideal.main (F := Ideal))) ⟨m, fun _ => 0, g⟩ (fun r => ∀ c : Dev Cert.Kernel22Ideal.nD,
          r.2.mem ((c.tc : Thread Cert.Kernel22Ideal.nD Cert.Kernel22Ideal.τ).loc Cert.Kernel22Ideal.main_v0) = v0 c
          ∧ r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
          ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1))
      ∧ θ_run (Cert.Reference22Ideal.defs (F := Ideal)) (onTc (τ := Cert.Reference22Ideal.τ) (Cert.Reference22Ideal.main (F := Ideal))) ⟨m', fun _ => 0, g'⟩ (fun r => ∀ c : Dev Cert.Reference22Ideal.nD,
          r.2.mem ((c.tc : Thread Cert.Reference22Ideal.nD Cert.Reference22Ideal.τ).loc Cert.Reference22Ideal.main_v6) = v0 c
          ∧ r.2.mem ((c.tc : Thread Cert.Reference22Ideal.nD Cert.Reference22Ideal.τ).loc Cert.Reference22Ideal.main_arg0) = m' ((c.tc : Thread Cert.Reference22Ideal.nD Cert.Reference22Ideal.τ).loc Cert.Reference22Ideal.main_arg0)
          ∧ r.2.mem ((c.tc : Thread Cert.Reference22Ideal.nD Cert.Reference22Ideal.τ).loc Cert.Reference22Ideal.main_arg1) = m' ((c.tc : Thread Cert.Reference22Ideal.nD Cert.Reference22Ideal.τ).loc Cert.Reference22Ideal.main_arg1))

def preserves_Kernel23_Kernel23Ideal : Prop :=
  True

def algebraic_Kernel23Ideal_Reference23Ideal [hKernel23Ideal : Cert.Kernel23Ideal.Facts] [hReference23Ideal : Cert.Reference23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg)
    (m' : (ℓ : Loc Cert.Reference23Ideal.nD Cert.Reference23Ideal.τ Cert.Reference23Ideal.sig) → Buf (Elt Ideal) ℓ) (g' : Dev Cert.Reference23Ideal.nD → PrngReg), Pre_Kernel23Ideal m →
    (∀ c : Dev Cert.Kernel23Ideal.nD,
      m' ((c.tc : Thread Cert.Reference23Ideal.nD Cert.Reference23Ideal.τ).loc Cert.Reference23Ideal.main_arg0) = m ((c.tc : Thread Cert.Kernel23Ideal.nD Cert.Kernel23Ideal.τ).loc Cert.Kernel23Ideal.main_arg0)
      ∧ m' ((c.tc : Thread Cert.Reference23Ideal.nD Cert.Reference23Ideal.τ).loc Cert.Reference23Ideal.main_arg1) = m ((c.tc : Thread Cert.Kernel23Ideal.nD Cert.Kernel23Ideal.τ).loc Cert.Kernel23Ideal.main_arg1)) →
    ∃ (v0 : (c : Dev Cert.Kernel23Ideal.nD) → Buf (Elt Ideal) ((c.tc : Thread Cert.Kernel23Ideal.nD Cert.Kernel23Ideal.τ).loc Cert.Kernel23Ideal.main_v0_0)) (v1 : (c : Dev Cert.Kernel23Ideal.nD) → Buf (Elt Ideal) ((c.tc : Thread Cert.Kernel23Ideal.nD Cert.Kernel23Ideal.τ).loc Cert.Kernel23Ideal.main_v0_1)),
      θ_run (Cert.Kernel23Ideal.defs (F := Ideal)) (onTc (τ := Cert.Kernel23Ideal.τ) (Cert.Kernel23Ideal.main (F := Ideal))) ⟨m, fun _ => 0, g⟩ (fun r => ∀ c : Dev Cert.Kernel23Ideal.nD,
          r.2.mem ((c.tc : Thread Cert.Kernel23Ideal.nD Cert.Kernel23Ideal.τ).loc Cert.Kernel23Ideal.main_v0_0) = v0 c
          ∧ r.2.mem ((c.tc : Thread Cert.Kernel23Ideal.nD Cert.Kernel23Ideal.τ).loc Cert.Kernel23Ideal.main_v0_1) = v1 c
          ∧ r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
          ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1))
      ∧ θ_run (Cert.Reference23Ideal.defs (F := Ideal)) (onTc (τ := Cert.Reference23Ideal.τ) (Cert.Reference23Ideal.main (F := Ideal))) ⟨m', fun _ => 0, g'⟩ (fun r => ∀ c : Dev Cert.Reference23Ideal.nD,
          r.2.mem ((c.tc : Thread Cert.Reference23Ideal.nD Cert.Reference23Ideal.τ).loc Cert.Reference23Ideal.main_v14) = v0 c
          ∧ r.2.mem ((c.tc : Thread Cert.Reference23Ideal.nD Cert.Reference23Ideal.τ).loc Cert.Reference23Ideal.main_v18) = v1 c
          ∧ r.2.mem ((c.tc : Thread Cert.Reference23Ideal.nD Cert.Reference23Ideal.τ).loc Cert.Reference23Ideal.main_arg0) = m' ((c.tc : Thread Cert.Reference23Ideal.nD Cert.Reference23Ideal.τ).loc Cert.Reference23Ideal.main_arg0)
          ∧ r.2.mem ((c.tc : Thread Cert.Reference23Ideal.nD Cert.Reference23Ideal.τ).loc Cert.Reference23Ideal.main_arg1) = m' ((c.tc : Thread Cert.Reference23Ideal.nD Cert.Reference23Ideal.τ).loc Cert.Reference23Ideal.main_arg1))

def preserves_Kernel24_Kernel24Ideal : Prop :=
  True

def algebraic_Kernel24Ideal_Reference24Ideal [hKernel24Ideal : Cert.Kernel24Ideal.Facts] [hReference24Ideal : Cert.Reference24Ideal.Facts] : Prop :=
  ∀ (m : (ℓ : Loc Cert.Kernel24Ideal.nD Cert.Kernel24Ideal.τ Cert.Kernel24Ideal.sig) → Buf (Elt Ideal) ℓ) (g : Dev Cert.Kernel24Ideal.nD → PrngReg)
    (m' : (ℓ : Loc Cert.Reference24Ideal.nD Cert.Reference24Ideal.τ Cert.Reference24Ideal.sig) → Buf (Elt Ideal) ℓ) (g' : Dev Cert.Reference24Ideal.nD → PrngReg), Pre_Kernel24Ideal m →
    (∀ c : Dev Cert.Kernel24Ideal.nD,
      m' ((c.tc : Thread Cert.Reference24Ideal.nD Cert.Reference24Ideal.τ).loc Cert.Reference24Ideal.main_arg0) = m ((c.tc : Thread Cert.Kernel24Ideal.nD Cert.Kernel24Ideal.τ).loc Cert.Kernel24Ideal.main_arg0)
      ∧ m' ((c.tc : Thread Cert.Reference24Ideal.nD Cert.Reference24Ideal.τ).loc Cert.Reference24Ideal.main_arg1) = m ((c.tc : Thread Cert.Kernel24Ideal.nD Cert.Kernel24Ideal.τ).loc Cert.Kernel24Ideal.main_arg1)
      ∧ m' ((c.tc : Thread Cert.Reference24Ideal.nD Cert.Reference24Ideal.τ).loc Cert.Reference24Ideal.main_arg2) = m ((c.tc : Thread Cert.Kernel24Ideal.nD Cert.Kernel24Ideal.τ).loc Cert.Kernel24Ideal.main_arg2)
      ∧ m' ((c.tc : Thread Cert.Reference24Ideal.nD Cert.Reference24Ideal.τ).loc Cert.Reference24Ideal.main_arg3) = m ((c.tc : Thread Cert.Kernel24Ideal.nD Cert.Kernel24Ideal.τ).loc Cert.Kernel24Ideal.main_arg3)) →
    ∃ (v0 : (c : Dev Cert.Kernel24Ideal.nD) → Buf (Elt Ideal) ((c.tc : Thread Cert.Kernel24Ideal.nD Cert.Kernel24Ideal.τ).loc Cert.Kernel24Ideal.main_v0)),
      θ_run (Cert.Kernel24Ideal.defs (F := Ideal)) (onTc (τ := Cert.Kernel24Ideal.τ) (Cert.Kernel24Ideal.main (F := Ideal))) ⟨m, fun _ => 0, g⟩ (fun r => ∀ c : Dev Cert.Kernel24Ideal.nD,
          r.2.mem ((c.tc : Thread Cert.Kernel24Ideal.nD Cert.Kernel24Ideal.τ).loc Cert.Kernel24Ideal.main_v0) = v0 c
          ∧ r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
          ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1)
          ∧ r.2.mem ((c.tc : Thread Cert.Kernel24Ideal.nD Cert.Kernel24Ideal.τ).loc Cert.Kernel24Ideal.main_arg2) = m ((c.tc : Thread Cert.Kernel24Ideal.nD Cert.Kernel24Ideal.τ).loc Cert.Kernel24Ideal.main_arg2)
          ∧ r.2.mem ((c.tc : Thread Cert.Kernel24Ideal.nD Cert.Kernel24Ideal.τ).loc Cert.Kernel24Ideal.main_arg3) = m ((c.tc : Thread Cert.Kernel24Ideal.nD Cert.Kernel24Ideal.τ).loc Cert.Kernel24Ideal.main_arg3))
      ∧ θ_run (Cert.Reference24Ideal.defs (F := Ideal)) (onTc (τ := Cert.Reference24Ideal.τ) (Cert.Reference24Ideal.main (F := Ideal))) ⟨m', fun _ => 0, g'⟩ (fun r => ∀ c : Dev Cert.Reference24Ideal.nD,
          r.2.mem ((c.tc : Thread Cert.Reference24Ideal.nD Cert.Reference24Ideal.τ).loc Cert.Reference24Ideal.main_v20) = v0 c
          ∧ r.2.mem ((c.tc : Thread Cert.Reference24Ideal.nD Cert.Reference24Ideal.τ).loc Cert.Reference24Ideal.main_arg0) = m' ((c.tc : Thread Cert.Reference24Ideal.nD Cert.Reference24Ideal.τ).loc Cert.Reference24Ideal.main_arg0)
          ∧ r.2.mem ((c.tc : Thread Cert.Reference24Ideal.nD Cert.Reference24Ideal.τ).loc Cert.Reference24Ideal.main_arg1) = m' ((c.tc : Thread Cert.Reference24Ideal.nD Cert.Reference24Ideal.τ).loc Cert.Reference24Ideal.main_arg1)
          ∧ r.2.mem ((c.tc : Thread Cert.Reference24Ideal.nD Cert.Reference24Ideal.τ).loc Cert.Reference24Ideal.main_arg2) = m' ((c.tc : Thread Cert.Reference24Ideal.nD Cert.Reference24Ideal.τ).loc Cert.Reference24Ideal.main_arg2)
          ∧ r.2.mem ((c.tc : Thread Cert.Reference24Ideal.nD Cert.Reference24Ideal.τ).loc Cert.Reference24Ideal.main_arg3) = m' ((c.tc : Thread Cert.Reference24Ideal.nD Cert.Reference24Ideal.τ).loc Cert.Reference24Ideal.main_arg3))

def preserves_Kernel25_Kernel25Ideal : Prop :=
  True

def algebraic_Kernel25Ideal_Reference25Ideal [hKernel25Ideal : Cert.Kernel25Ideal.Facts] [hReference25Ideal : Cert.Reference25Ideal.Facts] : Prop :=
  ∀ (m : (ℓ : Loc Cert.Kernel25Ideal.nD Cert.Kernel25Ideal.τ Cert.Kernel25Ideal.sig) → Buf (Elt Ideal) ℓ) (g : Dev Cert.Kernel25Ideal.nD → PrngReg)
    (m' : (ℓ : Loc Cert.Reference25Ideal.nD Cert.Reference25Ideal.τ Cert.Reference25Ideal.sig) → Buf (Elt Ideal) ℓ) (g' : Dev Cert.Reference25Ideal.nD → PrngReg), Pre_Kernel25Ideal m →
    (∀ c : Dev Cert.Kernel25Ideal.nD,
      m' ((c.tc : Thread Cert.Reference25Ideal.nD Cert.Reference25Ideal.τ).loc Cert.Reference25Ideal.main_arg0) = m ((c.tc : Thread Cert.Kernel25Ideal.nD Cert.Kernel25Ideal.τ).loc Cert.Kernel25Ideal.main_arg0)
      ∧ m' ((c.tc : Thread Cert.Reference25Ideal.nD Cert.Reference25Ideal.τ).loc Cert.Reference25Ideal.main_arg1) = m ((c.tc : Thread Cert.Kernel25Ideal.nD Cert.Kernel25Ideal.τ).loc Cert.Kernel25Ideal.main_arg1)
      ∧ m' ((c.tc : Thread Cert.Reference25Ideal.nD Cert.Reference25Ideal.τ).loc Cert.Reference25Ideal.main_arg2) = m ((c.tc : Thread Cert.Kernel25Ideal.nD Cert.Kernel25Ideal.τ).loc Cert.Kernel25Ideal.main_arg2)) →
    ∃ (v0 : (c : Dev Cert.Kernel25Ideal.nD) → Buf (Elt Ideal) ((c.tc : Thread Cert.Kernel25Ideal.nD Cert.Kernel25Ideal.τ).loc Cert.Kernel25Ideal.main_v0)),
      θ_run (Cert.Kernel25Ideal.defs (F := Ideal)) (onTc (τ := Cert.Kernel25Ideal.τ) (Cert.Kernel25Ideal.main (F := Ideal))) ⟨m, fun _ => 0, g⟩ (fun r => ∀ c : Dev Cert.Kernel25Ideal.nD,
          r.2.mem ((c.tc : Thread Cert.Kernel25Ideal.nD Cert.Kernel25Ideal.τ).loc Cert.Kernel25Ideal.main_v0) = v0 c
          ∧ r.2.mem ((c.tc : Thread Cert.Kernel25Ideal.nD Cert.Kernel25Ideal.τ).loc Cert.Kernel25Ideal.main_arg0) = m ((c.tc : Thread Cert.Kernel25Ideal.nD Cert.Kernel25Ideal.τ).loc Cert.Kernel25Ideal.main_arg0)
          ∧ r.2.mem ((c.tc : Thread Cert.Kernel25Ideal.nD Cert.Kernel25Ideal.τ).loc Cert.Kernel25Ideal.main_arg1) = m ((c.tc : Thread Cert.Kernel25Ideal.nD Cert.Kernel25Ideal.τ).loc Cert.Kernel25Ideal.main_arg1)
          ∧ r.2.mem ((c.tc : Thread Cert.Kernel25Ideal.nD Cert.Kernel25Ideal.τ).loc Cert.Kernel25Ideal.main_arg2) = m ((c.tc : Thread Cert.Kernel25Ideal.nD Cert.Kernel25Ideal.τ).loc Cert.Kernel25Ideal.main_arg2))
      ∧ θ_run (Cert.Reference25Ideal.defs (F := Ideal)) (onTc (τ := Cert.Reference25Ideal.τ) (Cert.Reference25Ideal.main (F := Ideal))) ⟨m', fun _ => 0, g'⟩ (fun r => ∀ c : Dev Cert.Reference25Ideal.nD,
          r.2.mem ((c.tc : Thread Cert.Reference25Ideal.nD Cert.Reference25Ideal.τ).loc Cert.Reference25Ideal.main_v20) = v0 c
          ∧ r.2.mem ((c.tc : Thread Cert.Reference25Ideal.nD Cert.Reference25Ideal.τ).loc Cert.Reference25Ideal.main_arg0) = m' ((c.tc : Thread Cert.Reference25Ideal.nD Cert.Reference25Ideal.τ).loc Cert.Reference25Ideal.main_arg0)
          ∧ r.2.mem ((c.tc : Thread Cert.Reference25Ideal.nD Cert.Reference25Ideal.τ).loc Cert.Reference25Ideal.main_arg1) = m' ((c.tc : Thread Cert.Reference25Ideal.nD Cert.Reference25Ideal.τ).loc Cert.Reference25Ideal.main_arg1)
          ∧ r.2.mem ((c.tc : Thread Cert.Reference25Ideal.nD Cert.Reference25Ideal.τ).loc Cert.Reference25Ideal.main_arg2) = m' ((c.tc : Thread Cert.Reference25Ideal.nD Cert.Reference25Ideal.τ).loc Cert.Reference25Ideal.main_arg2))

def preserves_Kernel26_Kernel26Ideal : Prop :=
  True

def algebraic_Kernel26Ideal_Reference26Ideal_pre_numbers [hKernel26Ideal : Cert.Kernel26Ideal.Facts] [hReference26Ideal : Cert.Reference26Ideal.Facts] [hPre_numbers : Cert.Pre_numbers.Facts] : Prop :=
  ∀ (m : (ℓ : Loc Cert.Kernel26Ideal.nD Cert.Kernel26Ideal.τ Cert.Kernel26Ideal.sig) → Buf (Elt Ideal) ℓ) (g : Dev Cert.Kernel26Ideal.nD → PrngReg)
    (m' : (ℓ : Loc Cert.Reference26Ideal.nD Cert.Reference26Ideal.τ Cert.Reference26Ideal.sig) → Buf (Elt Ideal) ℓ) (g' : Dev Cert.Reference26Ideal.nD → PrngReg), Pre_Kernel26Ideal_numbers m →
    (∀ c : Dev Cert.Kernel26Ideal.nD,
      m' ((c.tc : Thread Cert.Reference26Ideal.nD Cert.Reference26Ideal.τ).loc Cert.Reference26Ideal.main_arg0) = m ((c.tc : Thread Cert.Kernel26Ideal.nD Cert.Kernel26Ideal.τ).loc Cert.Kernel26Ideal.main_arg0)
      ∧ m' ((c.tc : Thread Cert.Reference26Ideal.nD Cert.Reference26Ideal.τ).loc Cert.Reference26Ideal.main_arg1) = m ((c.tc : Thread Cert.Kernel26Ideal.nD Cert.Kernel26Ideal.τ).loc Cert.Kernel26Ideal.main_arg1)
      ∧ m' ((c.tc : Thread Cert.Reference26Ideal.nD Cert.Reference26Ideal.τ).loc Cert.Reference26Ideal.main_arg2) = m ((c.tc : Thread Cert.Kernel26Ideal.nD Cert.Kernel26Ideal.τ).loc Cert.Kernel26Ideal.main_arg2)
      ∧ m' ((c.tc : Thread Cert.Reference26Ideal.nD Cert.Reference26Ideal.τ).loc Cert.Reference26Ideal.main_arg3) = m ((c.tc : Thread Cert.Kernel26Ideal.nD Cert.Kernel26Ideal.τ).loc Cert.Kernel26Ideal.main_arg3)
      ∧ m' ((c.tc : Thread Cert.Reference26Ideal.nD Cert.Reference26Ideal.τ).loc Cert.Reference26Ideal.main_arg4) = m ((c.tc : Thread Cert.Kernel26Ideal.nD Cert.Kernel26Ideal.τ).loc Cert.Kernel26Ideal.main_arg4)
      ∧ m' ((c.tc : Thread Cert.Reference26Ideal.nD Cert.Reference26Ideal.τ).loc Cert.Reference26Ideal.main_arg5) = m ((c.tc : Thread Cert.Kernel26Ideal.nD Cert.Kernel26Ideal.τ).loc Cert.Kernel26Ideal.main_arg5)) →
    ∃ (v0 : (c : Dev Cert.Kernel26Ideal.nD) → Buf (Elt Ideal) ((c.tc : Thread Cert.Kernel26Ideal.nD Cert.Kernel26Ideal.τ).loc Cert.Kernel26Ideal.main_v0_0)) (v1 : (c : Dev Cert.Kernel26Ideal.nD) → Buf (Elt Ideal) ((c.tc : Thread Cert.Kernel26Ideal.nD Cert.Kernel26Ideal.τ).loc Cert.Kernel26Ideal.main_v0_1)) (v2 : (c : Dev Cert.Kernel26Ideal.nD) → Buf (Elt Ideal) ((c.tc : Thread Cert.Kernel26Ideal.nD Cert.Kernel26Ideal.τ).loc Cert.Kernel26Ideal.main_v0_2)) (v3 : (c : Dev Cert.Kernel26Ideal.nD) → Buf (Elt Ideal) ((c.tc : Thread Cert.Kernel26Ideal.nD Cert.Kernel26Ideal.τ).loc Cert.Kernel26Ideal.main_v0_3)) (v4 : (c : Dev Cert.Kernel26Ideal.nD) → Buf (Elt Ideal) ((c.tc : Thread Cert.Kernel26Ideal.nD Cert.Kernel26Ideal.τ).loc Cert.Kernel26Ideal.main_v0_4)),
      θ_run (Cert.Kernel26Ideal.defs (F := Ideal)) (onTc (τ := Cert.Kernel26Ideal.τ) (Cert.Kernel26Ideal.main (F := Ideal))) ⟨m, fun _ => 0, g⟩ (fun r => ∀ c : Dev Cert.Kernel26Ideal.nD,
          r.2.mem ((c.tc : Thread Cert.Kernel26Ideal.nD Cert.Kernel26Ideal.τ).loc Cert.Kernel26Ideal.main_v0_0) = v0 c
          ∧ r.2.mem ((c.tc : Thread Cert.Kernel26Ideal.nD Cert.Kernel26Ideal.τ).loc Cert.Kernel26Ideal.main_v0_1) = v1 c
          ∧ r.2.mem ((c.tc : Thread Cert.Kernel26Ideal.nD Cert.Kernel26Ideal.τ).loc Cert.Kernel26Ideal.main_v0_2) = v2 c
          ∧ r.2.mem ((c.tc : Thread Cert.Kernel26Ideal.nD Cert.Kernel26Ideal.τ).loc Cert.Kernel26Ideal.main_v0_3) = v3 c
          ∧ r.2.mem ((c.tc : Thread Cert.Kernel26Ideal.nD Cert.Kernel26Ideal.τ).loc Cert.Kernel26Ideal.main_v0_4) = v4 c
          ∧ r.2.mem ((c.tc : Thread Cert.Kernel26Ideal.nD Cert.Kernel26Ideal.τ).loc Cert.Kernel26Ideal.main_arg0) = m ((c.tc : Thread Cert.Kernel26Ideal.nD Cert.Kernel26Ideal.τ).loc Cert.Kernel26Ideal.main_arg0)
          ∧ r.2.mem ((c.tc : Thread Cert.Kernel26Ideal.nD Cert.Kernel26Ideal.τ).loc Cert.Kernel26Ideal.main_arg1) = m ((c.tc : Thread Cert.Kernel26Ideal.nD Cert.Kernel26Ideal.τ).loc Cert.Kernel26Ideal.main_arg1)
          ∧ r.2.mem ((c.tc : Thread Cert.Kernel26Ideal.nD Cert.Kernel26Ideal.τ).loc Cert.Kernel26Ideal.main_arg2) = m ((c.tc : Thread Cert.Kernel26Ideal.nD Cert.Kernel26Ideal.τ).loc Cert.Kernel26Ideal.main_arg2)
          ∧ r.2.mem ((c.tc : Thread Cert.Kernel26Ideal.nD Cert.Kernel26Ideal.τ).loc Cert.Kernel26Ideal.main_arg3) = m ((c.tc : Thread Cert.Kernel26Ideal.nD Cert.Kernel26Ideal.τ).loc Cert.Kernel26Ideal.main_arg3)
          ∧ r.2.mem ((c.tc : Thread Cert.Kernel26Ideal.nD Cert.Kernel26Ideal.τ).loc Cert.Kernel26Ideal.main_arg4) = m ((c.tc : Thread Cert.Kernel26Ideal.nD Cert.Kernel26Ideal.τ).loc Cert.Kernel26Ideal.main_arg4)
          ∧ r.2.mem ((c.tc : Thread Cert.Kernel26Ideal.nD Cert.Kernel26Ideal.τ).loc Cert.Kernel26Ideal.main_arg5) = m ((c.tc : Thread Cert.Kernel26Ideal.nD Cert.Kernel26Ideal.τ).loc Cert.Kernel26Ideal.main_arg5))
      ∧ θ_run (Cert.Reference26Ideal.defs (F := Ideal)) (onTc (τ := Cert.Reference26Ideal.τ) (Cert.Reference26Ideal.main (F := Ideal))) ⟨m', fun _ => 0, g'⟩ (fun r => ∀ c : Dev Cert.Reference26Ideal.nD,
          r.2.mem ((c.tc : Thread Cert.Reference26Ideal.nD Cert.Reference26Ideal.τ).loc Cert.Reference26Ideal.main_v54) = v0 c
          ∧ r.2.mem ((c.tc : Thread Cert.Reference26Ideal.nD Cert.Reference26Ideal.τ).loc Cert.Reference26Ideal.main_v53) = v1 c
          ∧ r.2.mem ((c.tc : Thread Cert.Reference26Ideal.nD Cert.Reference26Ideal.τ).loc Cert.Reference26Ideal.main_v30) = v2 c
          ∧ r.2.mem ((c.tc : Thread Cert.Reference26Ideal.nD Cert.Reference26Ideal.τ).loc Cert.Reference26Ideal.main_v27) = v3 c
          ∧ r.2.mem ((c.tc : Thread Cert.Reference26Ideal.nD Cert.Reference26Ideal.τ).loc Cert.Reference26Ideal.main_v60) = v4 c
          ∧ r.2.mem ((c.tc : Thread Cert.Reference26Ideal.nD Cert.Reference26Ideal.τ).loc Cert.Reference26Ideal.main_arg0) = m' ((c.tc : Thread Cert.Reference26Ideal.nD Cert.Reference26Ideal.τ).loc Cert.Reference26Ideal.main_arg0)
          ∧ r.2.mem ((c.tc : Thread Cert.Reference26Ideal.nD Cert.Reference26Ideal.τ).loc Cert.Reference26Ideal.main_arg1) = m' ((c.tc : Thread Cert.Reference26Ideal.nD Cert.Reference26Ideal.τ).loc Cert.Reference26Ideal.main_arg1)
          ∧ r.2.mem ((c.tc : Thread Cert.Reference26Ideal.nD Cert.Reference26Ideal.τ).loc Cert.Reference26Ideal.main_arg2) = m' ((c.tc : Thread Cert.Reference26Ideal.nD Cert.Reference26Ideal.τ).loc Cert.Reference26Ideal.main_arg2)
          ∧ r.2.mem ((c.tc : Thread Cert.Reference26Ideal.nD Cert.Reference26Ideal.τ).loc Cert.Reference26Ideal.main_arg3) = m' ((c.tc : Thread Cert.Reference26Ideal.nD Cert.Reference26Ideal.τ).loc Cert.Reference26Ideal.main_arg3)
          ∧ r.2.mem ((c.tc : Thread Cert.Reference26Ideal.nD Cert.Reference26Ideal.τ).loc Cert.Reference26Ideal.main_arg4) = m' ((c.tc : Thread Cert.Reference26Ideal.nD Cert.Reference26Ideal.τ).loc Cert.Reference26Ideal.main_arg4)
          ∧ r.2.mem ((c.tc : Thread Cert.Reference26Ideal.nD Cert.Reference26Ideal.τ).loc Cert.Reference26Ideal.main_arg5) = m' ((c.tc : Thread Cert.Reference26Ideal.nD Cert.Reference26Ideal.τ).loc Cert.Reference26Ideal.main_arg5))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel16 : Cert.Kernel16.Facts) (hKernel16Ideal : Cert.Kernel16Ideal.Facts) (hReference16Ideal : Cert.Reference16Ideal.Facts) (hKernel17 : Cert.Kernel17.Facts) (hKernel17Ideal : Cert.Kernel17Ideal.Facts) (hReference17Ideal : Cert.Reference17Ideal.Facts) (hKernel18 : Cert.Kernel18.Facts) (hKernel18Ideal : Cert.Kernel18Ideal.Facts) (hReference18Ideal : Cert.Reference18Ideal.Facts) (hKernel19 : Cert.Kernel19.Facts) (hKernel19Ideal : Cert.Kernel19Ideal.Facts) (hReference19Ideal : Cert.Reference19Ideal.Facts) (hKernel20 : Cert.Kernel20.Facts) (hKernel20Ideal : Cert.Kernel20Ideal.Facts) (hReference20Ideal : Cert.Reference20Ideal.Facts) (hKernel21 : Cert.Kernel21.Facts) (hKernel21Ideal : Cert.Kernel21Ideal.Facts) (hReference21Ideal : Cert.Reference21Ideal.Facts) (hKernel22 : Cert.Kernel22.Facts) (hKernel22Ideal : Cert.Kernel22Ideal.Facts) (hReference22Ideal : Cert.Reference22Ideal.Facts) (hKernel23 : Cert.Kernel23.Facts) (hKernel23Ideal : Cert.Kernel23Ideal.Facts) (hReference23Ideal : Cert.Reference23Ideal.Facts) (hKernel24 : Cert.Kernel24.Facts) (hKernel24Ideal : Cert.Kernel24Ideal.Facts) (hReference24Ideal : Cert.Reference24Ideal.Facts) (hKernel25 : Cert.Kernel25.Facts) (hKernel25Ideal : Cert.Kernel25Ideal.Facts) (hReference25Ideal : Cert.Reference25Ideal.Facts) (hKernel26 : Cert.Kernel26.Facts) (hKernel26Ideal : Cert.Kernel26Ideal.Facts) (hReference26Ideal : Cert.Reference26Ideal.Facts) (hPre_gains_finite : Cert.Pre_gains_finite.Facts) (hPre_numbers : Cert.Pre_numbers.Facts),
    quiescent_Kernel (hKernel := hKernel)
    ∧ quiescent_KernelIdeal (hKernelIdeal := hKernelIdeal)
    ∧ quiescent_KernelIdeal_pre_gains_finite (hKernelIdeal := hKernelIdeal) (hPre_gains_finite := hPre_gains_finite)
    ∧ quiescent_ReferenceIdeal (hReferenceIdeal := hReferenceIdeal)
    ∧ quiescent_ReferenceIdeal_pre_gains_finite (hReferenceIdeal := hReferenceIdeal) (hPre_gains_finite := hPre_gains_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Reference15Ideal (hReference15Ideal := hReference15Ideal)
    ∧ quiescent_Kernel16 (hKernel16 := hKernel16)
    ∧ quiescent_Kernel16Ideal (hKernel16Ideal := hKernel16Ideal)
    ∧ quiescent_Reference16Ideal (hReference16Ideal := hReference16Ideal)
    ∧ quiescent_Kernel17 (hKernel17 := hKernel17)
    ∧ quiescent_Kernel17Ideal (hKernel17Ideal := hKernel17Ideal)
    ∧ quiescent_Reference17Ideal (hReference17Ideal := hReference17Ideal)
    ∧ quiescent_Kernel18 (hKernel18 := hKernel18)
    ∧ quiescent_Kernel18Ideal (hKernel18Ideal := hKernel18Ideal)
    ∧ quiescent_Reference18Ideal (hReference18Ideal := hReference18Ideal)
    ∧ quiescent_Kernel19 (hKernel19 := hKernel19)
    ∧ quiescent_Kernel19Ideal (hKernel19Ideal := hKernel19Ideal)
    ∧ quiescent_Reference19Ideal (hReference19Ideal := hReference19Ideal)
    ∧ quiescent_Kernel20 (hKernel20 := hKernel20)
    ∧ quiescent_Kernel20Ideal (hKernel20Ideal := hKernel20Ideal)
    ∧ quiescent_Reference20Ideal (hReference20Ideal := hReference20Ideal)
    ∧ quiescent_Kernel21 (hKernel21 := hKernel21)
    ∧ quiescent_Kernel21Ideal (hKernel21Ideal := hKernel21Ideal)
    ∧ quiescent_Reference21Ideal (hReference21Ideal := hReference21Ideal)
    ∧ quiescent_Kernel22 (hKernel22 := hKernel22)
    ∧ quiescent_Kernel22Ideal (hKernel22Ideal := hKernel22Ideal)
    ∧ quiescent_Reference22Ideal (hReference22Ideal := hReference22Ideal)
    ∧ quiescent_Kernel23 (hKernel23 := hKernel23)
    ∧ quiescent_Kernel23Ideal (hKernel23Ideal := hKernel23Ideal)
    ∧ quiescent_Reference23Ideal (hReference23Ideal := hReference23Ideal)
    ∧ quiescent_Kernel24 (hKernel24 := hKernel24)
    ∧ quiescent_Kernel24Ideal (hKernel24Ideal := hKernel24Ideal)
    ∧ quiescent_Reference24Ideal (hReference24Ideal := hReference24Ideal)
    ∧ quiescent_Kernel25 (hKernel25 := hKernel25)
    ∧ quiescent_Kernel25Ideal (hKernel25Ideal := hKernel25Ideal)
    ∧ quiescent_Reference25Ideal (hReference25Ideal := hReference25Ideal)
    ∧ quiescent_Kernel26 (hKernel26 := hKernel26)
    ∧ quiescent_Kernel26Ideal (hKernel26Ideal := hKernel26Ideal)
    ∧ quiescent_Kernel26Ideal_pre_numbers (hKernel26Ideal := hKernel26Ideal) (hPre_numbers := hPre_numbers)
    ∧ quiescent_Reference26Ideal (hReference26Ideal := hReference26Ideal)
    ∧ quiescent_Reference26Ideal_pre_numbers (hReference26Ideal := hReference26Ideal) (hPre_numbers := hPre_numbers)
    ∧ preserves_Kernel_KernelIdeal
    ∧ algebraic_KernelIdeal_ReferenceIdeal_pre_gains_finite (hKernelIdeal := hKernelIdeal) (hReferenceIdeal := hReferenceIdeal) (hPre_gains_finite := hPre_gains_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal (hKernel15Ideal := hKernel15Ideal) (hReference15Ideal := hReference15Ideal)
    ∧ preserves_Kernel16_Kernel16Ideal
    ∧ algebraic_Kernel16Ideal_Reference16Ideal (hKernel16Ideal := hKernel16Ideal) (hReference16Ideal := hReference16Ideal)
    ∧ preserves_Kernel17_Kernel17Ideal
    ∧ algebraic_Kernel17Ideal_Reference17Ideal (hKernel17Ideal := hKernel17Ideal) (hReference17Ideal := hReference17Ideal)
    ∧ preserves_Kernel18_Kernel18Ideal
    ∧ algebraic_Kernel18Ideal_Reference18Ideal (hKernel18Ideal := hKernel18Ideal) (hReference18Ideal := hReference18Ideal)
    ∧ preserves_Kernel19_Kernel19Ideal
    ∧ algebraic_Kernel19Ideal_Reference19Ideal (hKernel19Ideal := hKernel19Ideal) (hReference19Ideal := hReference19Ideal)
    ∧ preserves_Kernel20_Kernel20Ideal
    ∧ algebraic_Kernel20Ideal_Reference20Ideal (hKernel20Ideal := hKernel20Ideal) (hReference20Ideal := hReference20Ideal)
    ∧ preserves_Kernel21_Kernel21Ideal
    ∧ algebraic_Kernel21Ideal_Reference21Ideal (hKernel21Ideal := hKernel21Ideal) (hReference21Ideal := hReference21Ideal)
    ∧ preserves_Kernel22_Kernel22Ideal
    ∧ algebraic_Kernel22Ideal_Reference22Ideal (hKernel22Ideal := hKernel22Ideal) (hReference22Ideal := hReference22Ideal)
    ∧ preserves_Kernel23_Kernel23Ideal
    ∧ algebraic_Kernel23Ideal_Reference23Ideal (hKernel23Ideal := hKernel23Ideal) (hReference23Ideal := hReference23Ideal)
    ∧ preserves_Kernel24_Kernel24Ideal
    ∧ algebraic_Kernel24Ideal_Reference24Ideal (hKernel24Ideal := hKernel24Ideal) (hReference24Ideal := hReference24Ideal)
    ∧ preserves_Kernel25_Kernel25Ideal
    ∧ algebraic_Kernel25Ideal_Reference25Ideal (hKernel25Ideal := hKernel25Ideal) (hReference25Ideal := hReference25Ideal)
    ∧ preserves_Kernel26_Kernel26Ideal
    ∧ algebraic_Kernel26Ideal_Reference26Ideal_pre_numbers (hKernel26Ideal := hKernel26Ideal) (hReference26Ideal := hReference26Ideal) (hPre_numbers := hPre_numbers)
-- ==== Pre_gains_finite.lean ====
abbrev S2x2048x3712 : Shape := ⟨3, ![2, 2048, 3712]⟩
abbrev S1x64 : Shape := ⟨2, ![1, 64]⟩
abbrev S2x2048x1024 : Shape := ⟨3, ![2, 2048, 1024]⟩
abbrev S_ : Shape := ⟨0, ![]⟩

class Facts : Prop where
  bcast_S_S1x64 : S_.BroadcastsInDim S1x64 (![] : Fin 0 → Fin S1x64.rank)

variable [Facts]

def fn {F : FTy → Type} [FloatOps F] (main_arg0 : FVec F S2x2048x3712 .f32) (main_arg1 : FVec F S1x64 .f32) (main_arg2 : FVec F S1x64 .f32) (main_arg3 : FVec F S2x2048x1024 .f32) : IVec S1x64 1 :=
  let main_v0 : FVec F S1x64 .f32 := Host.absf main_arg1
  let main_cst : FVec F S_ .f32 := constant S_ .f32 0x7F800000#32
  let main_v1 : FVec F S1x64 .f32 := broadcastInDim S1x64 ![] bcast_S_S1x64 main_cst
  let main_v2 : IVec S1x64 1 := cmpf .olt main_v0 main_v1
  let main_v3 : FVec F S1x64 .f32 := Host.absf main_arg2
  let main_cst_0 : FVec F S_ .f32 := constant S_ .f32 0x7F800000#32
  let main_v4 : FVec F S1x64 .f32 := broadcastInDim S1x64 ![] bcast_S_S1x64 main_cst_0
  let main_v5 : IVec S1x64 1 := cmpf .olt main_v3 main_v4
  let main_v6 : IVec S1x64 1 := andi main_v2 main_v5
  main_v6
-- ==== Pre_numbers.lean ====
abbrev S2x2048x1024 : Shape := ⟨3, ![2, 2048, 1024]⟩
abbrev S1x1024 : Shape := ⟨2, ![1, 1024]⟩
abbrev S2x1x1024 : Shape := ⟨3, ![2, 1, 1024]⟩
abbrev S_ : Shape := ⟨0, ![]⟩
abbrev S1x1x1024 : Shape := ⟨3, ![1, 1, 1024]⟩

class Facts : Prop where
  bcast_S_S1x1024 : S_.BroadcastsInDim S1x1024 (![] : Fin 0 → Fin S1x1024.rank)
  bcast_S_S2x1x1024 : S_.BroadcastsInDim S2x1x1024 (![] : Fin 0 → Fin S2x1x1024.rank)
  bcast_S1x1024_S1x1x1024_1_2 : S1x1024.BroadcastsInDim S1x1x1024 (![1, 2] : Fin 2 → Fin S1x1x1024.rank)
  bcast_S1x1x1024_S2x1x1024_0_1_2 : S1x1x1024.BroadcastsInDim S2x1x1024 (![0, 1, 2] : Fin 3 → Fin S2x1x1024.rank)
  bcast_S_S2x2048x1024 : S_.BroadcastsInDim S2x2048x1024 (![] : Fin 0 → Fin S2x2048x1024.rank)
  bcast_S2x1x1024_S2x2048x1024_0_1_2 : S2x1x1024.BroadcastsInDim S2x2048x1024 (![0, 1, 2] : Fin 3 → Fin S2x2048x1024.rank)

variable [Facts]

def fn {F : FTy → Type} [FloatOps F] (main_arg0 : FVec F S2x2048x1024 .f32) (main_arg1 : FVec F S1x1024 .f32) (main_arg2 : FVec F S2x1x1024 .f32) (main_arg3 : FVec F S2x2048x1024 .f32) (main_arg4 : FVec F S2x2048x1024 .f32) (main_arg5 : FVec F S2x2048x1024 .bf16) : IVec S2x2048x1024 1 :=
  let main_v0 : FVec F S1x1024 .f32 := Host.absf main_arg1
  let main_cst : FVec F S_ .f32 := constant S_ .f32 0x7F800000#32
  let main_v1 : FVec F S1x1024 .f32 := broadcastInDim S1x1024 ![] bcast_S_S1x1024 main_cst
  let main_v2 : IVec S1x1024 1 := cmpf .olt main_v0 main_v1
  let main_v3 : FVec F S2x1x1024 .f32 := Host.absf main_arg2
  let main_cst_0 : FVec F S_ .f32 := constant S_ .f32 0x7F800000#32
  let main_v4 : FVec F S2x1x1024 .f32 := broadcastInDim S2x1x1024 ![] bcast_S_S2x1x1024 main_cst_0
  let main_v5 : IVec S2x1x1024 1 := cmpf .olt main_v3 main_v4
  let main_v6 : IVec S1x1x1024 1 := broadcastInDim S1x1x1024 ![1, 2] bcast_S1x1024_S1x1x1024_1_2 main_v2
  let main_v7 : IVec S2x1x1024 1 := broadcastInDim S2x1x1024 ![0, 1, 2] bcast_S1x1x1024_S2x1x1024_0_1_2 main_v6
  let main_v8 : IVec S2x1x1024 1 := andi main_v7 main_v5
  let main_v9 : FVec F S2x2048x1024 .f32 := Host.absf main_arg3
  let main_cst_1 : FVec F S_ .f32 := constant S_ .f32 0x7F800000#32
  let main_v10 : FVec F S2x2048x1024 .f32 := broadcastInDim S2x2048x1024 ![] bcast_S_S2x2048x1024 main_cst_1
  let main_v11 : IVec S2x2048x1024 1 := cmpf .olt main_v9 main_v10
  let main_v12 : IVec S2x2048x1024 1 := broadcastInDim S2x2048x1024 ![0, 1, 2] bcast_S2x1x1024_S2x2048x1024_0_1_2 main_v8
  let main_v13 : IVec S2x2048x1024 1 := andi main_v12 main_v11
  main_v13
-- ==== Kernel.lean ====
abbrev S2x2048x3712 : Shape := ⟨3, ![2, 2048, 3712]⟩
abbrev S1x64 : Shape := ⟨2, ![1, 64]⟩
abbrev S2x2048x1024 : Shape := ⟨3, ![2, 2048, 1024]⟩
abbrev S2x2048x512 : Shape := ⟨3, ![2, 2048, 512]⟩
abbrev S2x2048x8x64 : Shape := ⟨4, ![2, 2048, 8, 64]⟩
abbrev S_ : Shape := ⟨0, ![]⟩
abbrev S2x2048x8 : Shape := ⟨3, ![2, 2048, 8]⟩
abbrev S2x2048x8x1 : Shape := ⟨4, ![2, 2048, 8, 1]⟩
abbrev S1x1x1x64 : Shape := ⟨4, ![1, 1, 1, 64]⟩
abbrev S2x8x2048x64 : Shape := ⟨4, ![2, 8, 2048, 64]⟩
abbrev S2x8x2048x2048 : Shape := ⟨4, ![2, 8, 2048, 2048]⟩
abbrev S2048 : Shape := ⟨1, ![2048]⟩
abbrev S2048x1 : Shape := ⟨2, ![2048, 1]⟩
abbrev S1x2048 : Shape := ⟨2, ![1, 2048]⟩
abbrev S2048x2048 : Shape := ⟨2, ![2048, 2048]⟩
abbrev S2x8x2048 : Shape := ⟨3, ![2, 8, 2048]⟩
abbrev S2x8x2048x1 : Shape := ⟨4, ![2, 8, 2048, 1]⟩
abbrev S1x2048x128 : Shape := ⟨3, ![1, 2048, 128]⟩
abbrev S1x2x2048x1 : Shape := ⟨4, ![1, 2, 2048, 1]⟩
abbrev S2x2048x64 : Shape := ⟨3, ![2, 2048, 64]⟩
abbrev S2x64x2048 : Shape := ⟨3, ![2, 64, 2048]⟩
abbrev S128x128 : Shape := ⟨2, ![128, 128]⟩
abbrev S1x128x64 : Shape := ⟨3, ![1, 128, 64]⟩
abbrev S128x64 : Shape := ⟨2, ![128, 64]⟩
abbrev S128 : Shape := ⟨1, ![128]⟩
abbrev S128x1 : Shape := ⟨2, ![128, 1]⟩
abbrev S256x512 : Shape := ⟨2, ![256, 512]⟩
abbrev S1x256x64 : Shape := ⟨3, ![1, 256, 64]⟩
abbrev S256x64 : Shape := ⟨2, ![256, 64]⟩
abbrev S1x1x256x1 : Shape := ⟨4, ![1, 1, 256, 1]⟩
abbrev S256x1 : Shape := ⟨2, ![256, 1]⟩
abbrev S64x256 : Shape := ⟨2, ![64, 256]⟩
abbrev S1x512x64 : Shape := ⟨3, ![1, 512, 64]⟩
abbrev S512x64 : Shape := ⟨2, ![512, 64]⟩
abbrev S256x128 : Shape := ⟨2, ![256, 128]⟩
abbrev S2048x128 : Shape := ⟨2, ![2048, 128]⟩
abbrev S1x64x512 : Shape := ⟨3, ![1, 64, 512]⟩
abbrev S64x512 : Shape := ⟨2, ![64, 512]⟩
abbrev S256x256 : Shape := ⟨2, ![256, 256]⟩
abbrev S1024x128 : Shape := ⟨2, ![1024, 128]⟩
abbrev S1x64x256 : Shape := ⟨3, ![1, 64, 256]⟩
abbrev S64 : Shape := ⟨1, ![64]⟩
abbrev S1x64x128 : Shape := ⟨3, ![1, 64, 128]⟩
abbrev S64x128 : Shape := ⟨2, ![64, 128]⟩

abbrev nBuf : Space → Nat
  | .hbm => 83
  | .vmem => 27
  | .smem => 0
  | _ => 0

abbrev bufTy : (tb : Table) → Fin (tcTables nBuf tb) → BufTy
  | .hbm, ⟨0, _⟩ => ⟨S2x2048x3712, .f32⟩
  | .hbm, ⟨1, _⟩ => ⟨S1x64, .f32⟩
  | .hbm, ⟨2, _⟩ => ⟨S1x64, .f32⟩
  | .hbm, ⟨3, _⟩ => ⟨S2x2048x1024, .f32⟩
  | .hbm, ⟨4, _⟩ => ⟨S2x2048x512, .f32⟩
  | .hbm, ⟨5, _⟩ => ⟨S2x2048x8x64, .f32⟩
  | .hbm, ⟨6, _⟩ => ⟨S2x2048x8x64, .f32⟩
  | .hbm, ⟨7, _⟩ => ⟨S_, .f32⟩
  | .hbm, ⟨8, _⟩ => ⟨S2x2048x8, .f32⟩
  | .hbm, ⟨9, _⟩ => ⟨S2x2048x8x1, .f32⟩
  | .hbm, ⟨10, _⟩ => ⟨S_, .f32⟩
  | .hbm, ⟨11, _⟩ => ⟨S2x2048x8x1, .f32⟩
  | .hbm, ⟨12, _⟩ => ⟨S2x2048x8x1, .f32⟩
  | .hbm, ⟨13, _⟩ => ⟨S_, .f32⟩
  | .hbm, ⟨14, _⟩ => ⟨S2x2048x8x1, .f32⟩
  | .hbm, ⟨15, _⟩ => ⟨S2x2048x8x1, .f32⟩
  | .hbm, ⟨16, _⟩ => ⟨S2x2048x8x1, .f32⟩
  | .hbm, ⟨17, _⟩ => ⟨S2x2048x8x64, .f32⟩
  | .hbm, ⟨18, _⟩ => ⟨S2x2048x8x64, .f32⟩
  | .hbm, ⟨19, _⟩ => ⟨S1x1x1x64, .f32⟩
  | .hbm, ⟨20, _⟩ => ⟨S2x2048x8x64, .f32⟩
  | .hbm, ⟨21, _⟩ => ⟨S2x2048x8x64, .f32⟩
  | .hbm, ⟨22, _⟩ => ⟨S2x8x2048x64, .f32⟩
  | .hbm, ⟨23, _⟩ => ⟨S2x2048x512, .f32⟩
  | .hbm, ⟨24, _⟩ => ⟨S2x2048x8x64, .f32⟩
  | .hbm, ⟨25, _⟩ => ⟨S2x2048x8x64, .f32⟩
  | .hbm, ⟨26, _⟩ => ⟨S_, .f32⟩
  | .hbm, ⟨27, _⟩ => ⟨S2x2048x8, .f32⟩
  | .hbm, ⟨28, _⟩ => ⟨S2x2048x8x1, .f32⟩
  | .hbm, ⟨29, _⟩ => ⟨S_, .f32⟩
  | .hbm, ⟨30, _⟩ => ⟨S2x2048x8x1, .f32⟩
  | .hbm, ⟨31, _⟩ => ⟨S2x2048x8x1, .f32⟩
  | .hbm, ⟨32, _⟩ => ⟨S_, .f32⟩
  | .hbm, ⟨33, _⟩ => ⟨S2x2048x8x1, .f32⟩
  | .hbm, ⟨34, _⟩ => ⟨S2x2048x8x1, .f32⟩
  | .hbm, ⟨35, _⟩ => ⟨S2x2048x8x1, .f32⟩
  | .hbm, ⟨36, _⟩ => ⟨S2x2048x8x64, .f32⟩
  | .hbm, ⟨37, _⟩ => ⟨S2x2048x8x64, .f32⟩
  | .hbm, ⟨38, _⟩ => ⟨S1x1x1x64, .f32⟩
  | .hbm, ⟨39, _⟩ => ⟨S2x2048x8x64, .f32⟩
  | .hbm, ⟨40, _⟩ => ⟨S2x2048x8x64, .f32⟩
  | .hbm, ⟨41, _⟩ => ⟨S2x8x2048x64, .f32⟩
  | .hbm, ⟨42, _⟩ => ⟨S2x8x2048x2048, .f32⟩
  | .hbm, ⟨43, _⟩ => ⟨S_, .f32⟩
  | .hbm, ⟨44, _⟩ => ⟨S2x8x2048x2048, .f32⟩
  | .hbm, ⟨45, _⟩ => ⟨S2x8x2048x2048, .f32⟩
  | .hbm, ⟨46, _⟩ => ⟨S2048, .i32⟩
  | .hbm, ⟨47, _⟩ => ⟨S2048x1, .i32⟩
  | .hbm, ⟨48, _⟩ => ⟨S2048, .i32⟩
  | .hbm, ⟨49, _⟩ => ⟨S1x2048, .i32⟩
  | .hbm, ⟨50, _⟩ => ⟨S2048x2048, .i32⟩
  | .hbm, ⟨51, _⟩ => ⟨S2048x2048, .i32⟩
  | .hbm, ⟨52, _⟩ => ⟨S2048x2048, .i1⟩
  | .hbm, ⟨53, _⟩ => ⟨S2x8x2048x2048, .f32⟩
  | .hbm, ⟨54, _⟩ => ⟨S2x8x2048x2048, .f32⟩
  | .hbm, ⟨55, _⟩ => ⟨S_, .f32⟩
  | .hbm, ⟨56, _⟩ => ⟨S2x8x2048x2048, .f32⟩
  | .hbm, ⟨57, _⟩ => ⟨S2x8x2048x2048, .f32⟩
  | .hbm, ⟨58, _⟩ => ⟨S2x8x2048x2048, .f32⟩
  | .hbm, ⟨59, _⟩ => ⟨S2x8x2048x2048, .f32⟩
  | .hbm, ⟨60, _⟩ => ⟨S2x8x2048x2048, .i1⟩
  | .hbm, ⟨61, _⟩ => ⟨S2x8x2048x2048, .f32⟩
  | .hbm, ⟨62, _⟩ => ⟨S2x8x2048x2048, .f32⟩
  | .hbm, ⟨63, _⟩ => ⟨S2x8x2048x2048, .f32⟩
  | .hbm, ⟨64, _⟩ => ⟨S2x8x2048x2048, .f32⟩
  | .hbm, ⟨65, _⟩ => ⟨S2x8x2048x2048, .f32⟩
  | .hbm, ⟨66, _⟩ => ⟨S2x8x2048x2048, .f32⟩
  | .hbm, ⟨67, _⟩ => ⟨S2x8x2048x2048, .f32⟩
  | .hbm, ⟨68, _⟩ => ⟨S2x8x2048x2048, .f32⟩
  | .hbm, ⟨69, _⟩ => ⟨S2x8x2048x2048, .f32⟩
  | .hbm, ⟨70, _⟩ => ⟨S_, .f32⟩
  | .hbm, ⟨71, _⟩ => ⟨S_, .f32⟩
  | .hbm, ⟨72, _⟩ => ⟨S2x8x2048x2048, .i1⟩
  | .hbm, ⟨73, _⟩ => ⟨S2x8x2048x2048, .f32⟩
  | .hbm, ⟨74, _⟩ => ⟨S2x8x2048x2048, .f32⟩
  | .hbm, ⟨75, _⟩ => ⟨S_, .f32⟩
  | .hbm, ⟨76, _⟩ => ⟨S2x8x2048, .f32⟩
  | .hbm, ⟨77, _⟩ => ⟨S2x8x2048x1, .f32⟩
  | .hbm, ⟨78, _⟩ => ⟨S2x2048x512, .f32⟩
  | .hbm, ⟨79, _⟩ => ⟨S2x2048x512, .f32⟩
  | .hbm, ⟨80, _⟩ => ⟨S2x2048x512, .f32⟩
  | .hbm, ⟨81, _⟩ => ⟨S1x64, .f32⟩
  | .hbm, ⟨82, _⟩ => ⟨S1x64, .f32⟩
  | .local _ .vmem, ⟨0, _⟩ => ⟨S1x2048x128, .f32⟩
  | .local _ .vmem, ⟨1, _⟩ => ⟨S1x2048x128, .f32⟩
  | .local _ .vmem, ⟨2, _⟩ => ⟨S1x2048x128, .f32⟩
  | .local _ .vmem, ⟨3, _⟩ => ⟨S1x2048x128, .f32⟩
  | .local _ .vmem, ⟨4, _⟩ => ⟨S1x2048x128, .f32⟩
  | .local _ .vmem, ⟨5, _⟩ => ⟨S1x2048x128, .f32⟩
  | .local _ .vmem, ⟨6, _⟩ => ⟨S1x64, .f32⟩
  | .local _ .vmem, ⟨7, _⟩ => ⟨S1x64, .f32⟩
  | .local _ .vmem, ⟨8, _⟩ => ⟨S1x2x2048x1, .f32⟩
  | .local _ .vmem, ⟨9, _⟩ => ⟨S1x2x2048x1, .f32⟩
  | .local _ .vmem, ⟨10, _⟩ => ⟨S1x2048x128, .f32⟩
  | .local _ .vmem, ⟨11, _⟩ => ⟨S1x2048x128, .f32⟩
  | .local _ .vmem, ⟨12, _⟩ => ⟨S1x2048x128, .f32⟩
  | .local _ .vmem, ⟨13, _⟩ => ⟨S1x2048x128, .f32⟩
  | .local _ .vmem, ⟨14, _⟩ => ⟨S1x2048x128, .f32⟩
  | .local _ .vmem, ⟨15, _⟩ => ⟨S1x2048x128, .f32⟩
  | .local _ .vmem, ⟨16, _⟩ => ⟨S1x2048x128, .f32⟩
  | .local _ .vmem, ⟨17, _⟩ => ⟨S1x2048x128, .f32⟩
  | .local _ .vmem, ⟨18, _⟩ => ⟨S1x64, .f32⟩
  | .local _ .vmem, ⟨19, _⟩ => ⟨S1x64, .f32⟩
  | .local _ .vmem, ⟨20, _⟩ => ⟨S2x2048x64, .bf16⟩
  | .local _ .vmem, ⟨21, _⟩ => ⟨S2x2048x64, .bf16⟩
  | .local _ .vmem, ⟨22, _⟩ => ⟨S2x2048x64, .bf16⟩
  | .local _ .vmem, ⟨23, _⟩ => ⟨S2x2048x64, .bf16⟩
  | .local _ .vmem, ⟨24, _⟩ => ⟨S2x2048x64, .f32⟩
  | .local _ .vmem, ⟨25, _⟩ => ⟨S2x64x2048, .f32⟩
  | .local _ .vmem, ⟨26, _⟩ => ⟨S2x64x2048, .f32⟩
  | _, _ => ⟨S2x2048x3712, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_cst_2 : Ref sig .tc := ⟨.hbm, 26, rfl⟩
abbrev main_v19 : Ref sig .tc := ⟨.hbm, 27, rfl⟩
abbrev main_v20 : Ref sig .tc := ⟨.hbm, 28, rfl⟩
abbrev main_cst_3 : Ref sig .tc := ⟨.hbm, 29, rfl⟩
abbrev main_v21 : Ref sig .tc := ⟨.hbm, 30, rfl⟩
abbrev main_v22 : Ref sig .tc := ⟨.hbm, 31, rfl⟩
abbrev main_cst_4 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_cst_5 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_call0_v0 : Ref sig .tc := ⟨.hbm, 54, rfl⟩
abbrev main_call0_call0_cst : Ref sig .tc := ⟨.hbm, 55, rfl⟩
abbrev main_call0_call0_v0 : Ref sig .tc := ⟨.hbm, 56, rfl⟩
abbrev main_call0_call0_v1 : Ref sig .tc := ⟨.hbm, 57, rfl⟩
abbrev main_call0_call0_v2 : Ref sig .tc := ⟨.hbm, 58, rfl⟩
abbrev main_call0_call0_v3 : Ref sig .tc := ⟨.hbm, 59, rfl⟩
abbrev main_call0_call0_v4 : Ref sig .tc := ⟨.hbm, 60, rfl⟩
abbrev main_call0_call0_v5 : Ref sig .tc := ⟨.hbm, 61, rfl⟩
abbrev main_call0_call0_v6 : Ref sig .tc := ⟨.hbm, 62, rfl⟩
abbrev main_call0_call0_v7 : Ref sig .tc := ⟨.hbm, 63, rfl⟩
abbrev main_call0_call0_v8 : Ref sig .tc := ⟨.hbm, 64, rfl⟩
abbrev main_call0_call0_v9 : Ref sig .tc := ⟨.hbm, 65, rfl⟩
abbrev main_call0_call0_v10 : Ref sig .tc := ⟨.hbm, 66, rfl⟩
abbrev main_call0_call0_v11 : Ref sig .tc := ⟨.hbm, 67, rfl⟩
abbrev main_call0_v1 : Ref sig .tc := ⟨.hbm, 68, rfl⟩
abbrev main_v43 : Ref sig .tc := ⟨.hbm, 69, rfl⟩
abbrev main_cst_6 : Ref sig .tc := ⟨.hbm, 70, rfl⟩
abbrev main_call1_v0 : Ref sig .tc := ⟨.hbm, 71, rfl⟩
abbrev main_call1_v1 : Ref sig .tc := ⟨.hbm, 72, rfl⟩
abbrev main_call1_v2 : Ref sig .tc := ⟨.hbm, 73, rfl⟩
abbrev main_v44 : Ref sig .tc := ⟨.hbm, 74, rfl⟩
abbrev main_cst_7 : Ref sig .tc := ⟨.hbm, 75, rfl⟩
abbrev main_v45 : Ref sig .tc := ⟨.hbm, 76, rfl⟩
abbrev main_v46 : Ref sig .tc := ⟨.hbm, 77, rfl⟩
abbrev main_v47_0 : Ref sig .tc := ⟨.hbm, 78, rfl⟩
abbrev main_v47_1 : Ref sig .tc := ⟨.hbm, 79, rfl⟩
abbrev main_v47_2 : Ref sig .tc := ⟨.hbm, 80, rfl⟩
abbrev main_v47_3 : Ref sig .tc := ⟨.hbm, 81, rfl⟩
abbrev main_v47_4 : Ref sig .tc := ⟨.hbm, 82, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg11_0 : Ref sig .tc := ⟨.vmem, 19, rfl⟩
abbrev cc0_scratch0 : Ref sig .tc := ⟨.vmem, 20, rfl⟩
abbrev cc0_scratch1 : Ref sig .tc := ⟨.vmem, 21, rfl⟩
abbrev cc0_scratch2 : Ref sig .tc := ⟨.vmem, 22, rfl⟩
abbrev cc0_scratch3 : Ref sig .tc := ⟨.vmem, 23, rfl⟩
abbrev cc0_scratch4 : Ref sig .tc := ⟨.vmem, 24, rfl⟩
abbrev cc0_scratch5 : Ref sig .tc := ⟨.vmem, 25, rfl⟩
abbrev cc0_scratch6 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem11_0 : DmaSem sig := 19

abbrev nD : Nat := 1
abbrev τ : Topo := Topo.v7x

variable {F : FTy → Type} [FloatOps F]

abbrev grid0 : Pipeline.Grid := ⟨2, ![2, 4], ![false, false]⟩

@[reducible] def k0_t1_loop : Scf.Loop 32 :=
  let c0_i32_2 : BitVec 32 := 0#32
  let c16_i32 : BitVec 32 := 16#32
  let v15 : BitVec 32 := Scalar.addi c0_i32_2 c16_i32
  let c1_i32 : BitVec 32 := 1#32
  ⟨c0_i32_2, v15, c1_i32⟩
def k0_mult1 (k0_t1 : Fin k0_t1_loop.trips) : BitVec 32 :=
  let c0_i32_2 : BitVec 32 := 0#32
  let c1_i32 : BitVec 32 := 1#32
  let arg21 : BitVec 32 := Scf.iv c0_i32_2 c1_i32 k0_t1
  let c128_i32 : BitVec 32 := 128#32
  let v39 : BitVec 32 := Scalar.muli arg21 c128_i32
  v39
def k0_off1 (k0_t1 : Fin k0_t1_loop.trips) : Fin 3 → Nat :=
  let c0_26 : Index := 0#32
  let c0_i32_2 : BitVec 32 := 0#32
  let c1_i32 : BitVec 32 := 1#32
  let arg21 : BitVec 32 := Scf.iv c0_i32_2 c1_i32 k0_t1
  let c128_i32 : BitVec 32 := 128#32
  let v39 : BitVec 32 := Scalar.muli arg21 c128_i32
  let v40 : BitVec 32 := v39
  let v41 : Index := Scalar.indexCast v40
  let c0_27 : Index := 0#32
  ![0, v41.toNat, 0]
def k0_off2 (k0_t1 : Fin k0_t1_loop.trips) : Fin 3 → Nat :=
  let c0_36 : Index := 0#32
  let c0_i32_2 : BitVec 32 := 0#32
  let c1_i32 : BitVec 32 := 1#32
  let arg21 : BitVec 32 := Scf.iv c0_i32_2 c1_i32 k0_t1
  let c128_i32 : BitVec 32 := 128#32
  let v39 : BitVec 32 := Scalar.muli arg21 c128_i32
  let v40 : BitVec 32 := v39
  let v63 : Index := Scalar.indexCast v40
  let c0_37 : Index := 0#32
  ![0, v63.toNat, 0]
def k0_off3 (k0_t1 : Fin k0_t1_loop.trips) : Fin 3 → Nat :=
  let c0_53 : Index := 0#32
  let c0_i32_2 : BitVec 32 := 0#32
  let c1_i32 : BitVec 32 := 1#32
  let arg21 : BitVec 32 := Scf.iv c0_i32_2 c1_i32 k0_t1
  let c128_i32 : BitVec 32 := 128#32
  let v39 : BitVec 32 := Scalar.muli arg21 c128_i32
  let v40 : BitVec 32 := v39
  let v101 : Index := Scalar.indexCast v40
  let c64 : Index := 64#32
  ![0, v101.toNat, 64]
def k0_off4 (k0_t1 : Fin k0_t1_loop.trips) : Fin 3 → Nat :=
  let c1 : Index := 1#32
  let c0_i32_2 : BitVec 32 := 0#32
  let c1_i32 : BitVec 32 := 1#32
  let arg21 : BitVec 32 := Scf.iv c0_i32_2 c1_i32 k0_t1
  let c128_i32 : BitVec 32 := 128#32
  let v39 : BitVec 32 := Scalar.muli arg21 c128_i32
  let v40 : BitVec 32 := v39
  let v123 : Index := Scalar.indexCast v40
  let c0_62 : Index := 0#32
  ![1, v123.toNat, 0]
@[reducible] def k0_t2_loop : Scf.Loop 32 :=
  let c0_i32_10 : BitVec 32 := 0#32
  let c8_i32 : BitVec 32 := 8#32
  let v27 : BitVec 32 := Scalar.addi c0_i32_10 c8_i32
  let c1_i32_11 : BitVec 32 := 1#32
  ⟨c0_i32_10, v27, c1_i32_11⟩
def k0_mult2 (k0_t2 : Fin k0_t2_loop.trips) : BitVec 32 :=
  let c0_i32_10 : BitVec 32 := 0#32
  let c1_i32_11 : BitVec 32 := 1#32
  let arg21 : BitVec 32 := Scf.iv c0_i32_10 c1_i32_11 k0_t2
  let c256_i32 : BitVec 32 := 256#32
  let v39 : BitVec 32 := Scalar.muli arg21 c256_i32
  v39
def k0_off5 (k0_t2 : Fin k0_t2_loop.trips) : Fin 3 → Nat :=
  let c0_26 : Index := 0#32
  let c0_i32_10 : BitVec 32 := 0#32
  let c1_i32_11 : BitVec 32 := 1#32
  let arg21 : BitVec 32 := Scf.iv c0_i32_10 c1_i32_11 k0_t2
  let c256_i32 : BitVec 32 := 256#32
  let v39 : BitVec 32 := Scalar.muli arg21 c256_i32
  let v40 : BitVec 32 := v39
  let v41 : Index := Scalar.indexCast v40
  let c0_27 : Index := 0#32
  ![0, v41.toNat, 0]
def k0_off6 (k0_t2 : Fin k0_t2_loop.trips) : Fin 3 → Nat :=
  let c1 : Index := 1#32
  let c0_i32_10 : BitVec 32 := 0#32
  let c1_i32_11 : BitVec 32 := 1#32
  let arg21 : BitVec 32 := Scf.iv c0_i32_10 c1_i32_11 k0_t2
  let c256_i32 : BitVec 32 := 256#32
  let v39 : BitVec 32 := Scalar.muli arg21 c256_i32
  let v40 : BitVec 32 := v39
  let v44 : Index := Scalar.indexCast v40
  let c0_28 : Index := 0#32
  ![1, v44.toNat, 0]
def k0_off7 (k0_t2 : Fin k0_t2_loop.trips) : Fin 4 → Nat :=
  let c0_33 : Index := 0#32
  let c0_34 : Index := 0#32
  let c0_i32_10 : BitVec 32 := 0#32
  let c1_i32_11 : BitVec 32 := 1#32
  let arg21 : BitVec 32 := Scf.iv c0_i32_10 c1_i32_11 k0_t2
  let c256_i32 : BitVec 32 := 256#32
  let v39 : BitVec 32 := Scalar.muli arg21 c256_i32
  let v40 : BitVec 32 := v39
  let v53 : Index := Scalar.indexCast v40
  let c0_35 : Index := 0#32
  ![0, 0, v53.toNat, 0]
def k0_off8 (k0_t2 : Fin k0_t2_loop.trips) : Fin 4 → Nat :=
  let c0_36 : Index := 0#32
  let c1_37 : Index := 1#32
  let c0_i32_10 : BitVec 32 := 0#32
  let c1_i32_11 : BitVec 32 := 1#32
  let arg21 : BitVec 32 := Scf.iv c0_i32_10 c1_i32_11 k0_t2
  let c256_i32 : BitVec 32 := 256#32
  let v39 : BitVec 32 := Scalar.muli arg21 c256_i32
  let v40 : BitVec 32 := v39
  let v56 : Index := Scalar.indexCast v40
  let c0_38 : Index := 0#32
  ![0, 1, v56.toNat, 0]
@[reducible] def k0_t3_loop (k0_t2 : Fin k0_t2_loop.trips) : Scf.Loop 32 :=
  let c0_i32_55 : BitVec 32 := 0#32
  let c0_i32_10 : BitVec 32 := 0#32
  let c1_i32_11 : BitVec 32 := 1#32
  let arg21 : BitVec 32 := Scf.iv c0_i32_10 c1_i32_11 k0_t2
  let c1_i32_39 : BitVec 32 := 1#32
  let v59 : BitVec 32 := Scalar.addi arg21 c1_i32_39
  let c256_i32_40 : BitVec 32 := 256#32
  let v60 : BitVec 32 := Scalar.muli v59 c256_i32_40
  let c1_i32_41 : BitVec 32 := 1#32
  let v61 : BitVec 32 := Scalar.subi v60 c1_i32_41
  let c0_i32_42 : BitVec 32 := 0#32
  let v63 : BitVec 1 := Scalar.cmpi .sgt v61 c0_i32_42
  let v64 : BitVec 32 := Scalar.extui v63
  let c0_i32_43 : BitVec 32 := 0#32
  let v65 : BitVec 1 := Scalar.cmpi .slt v61 c0_i32_43
  let v66 : BitVec 32 := Scalar.extui v65
  let v67 : BitVec 32 := Scalar.subi v64 v66
  let c512_i32 : BitVec 32 := 512#32
  let c0_i32_44 : BitVec 32 := 0#32
  let v68 : BitVec 1 := Scalar.cmpi .sgt c512_i32 c0_i32_44
  let v69 : BitVec 32 := Scalar.extui v68
  let c0_i32_45 : BitVec 32 := 0#32
  let v70 : BitVec 1 := Scalar.cmpi .slt c512_i32 c0_i32_45
  let v71 : BitVec 32 := Scalar.extui v70
  let v72 : BitVec 32 := Scalar.subi v69 v71
  let v73 : BitVec 1 := Scalar.cmpi .ne v67 v72
  let v74 : BitVec 32 := Scalar.remsi v61 c512_i32
  let c0_i32_46 : BitVec 32 := 0#32
  let v75 : BitVec 1 := Scalar.cmpi .ne v74 c0_i32_46
  let v76 : BitVec 1 := Scalar.andi v73 v75
  let v62 : BitVec 32 := Scalar.divsi v61 c512_i32
  let c1_i32_47 : BitVec 32 := 1#32
  let v77 : BitVec 32 := Scalar.subi v62 c1_i32_47
  let v78 : BitVec 32 := Scalar.select v76 v77 v62
  let c1_i32_48 : BitVec 32 := 1#32
  let v79 : BitVec 32 := Scalar.addi v78 c1_i32_48
  let c1_i32_54 : BitVec 32 := 1#32
  let v98 : BitVec 32 := Scalar.subi v79 c1_i32_54
  let v99 : BitVec 32 := Scalar.subi v98 c0_i32_55
  let c1_i32_56 : BitVec 32 := 1#32
  let v101 : BitVec 32 := Scalar.divsi v99 c1_i32_56
  let v102 : BitVec 32 := Scalar.muli v101 c1_i32_56
  let v103 : BitVec 32 := Scalar.addi c0_i32_55 v102
  let c1_i32_57 : BitVec 32 := 1#32
  ⟨c0_i32_55, v103, c1_i32_57⟩
def k0_mult3 (k0_t2 : Fin k0_t2_loop.trips) (k0_t3 : Fin (k0_t3_loop k0_t2).trips) : BitVec 32 :=
  let c0_i32_55 : BitVec 32 := 0#32
  let c1_i32_57 : BitVec 32 := 1#32
  let arg22 : BitVec 32 := Scf.iv c0_i32_55 c1_i32_57 k0_t3
  let c512_i32_67 : BitVec 32 := 512#32
  let v120 : BitVec 32 := Scalar.muli arg22 c512_i32_67
  v120
def k0_off9 (k0_t2 : Fin k0_t2_loop.trips) (k0_t3 : Fin (k0_t3_loop k0_t2).trips) : Fin 3 → Nat :=
  let c0_68 : Index := 0#32
  let c0_i32_55 : BitVec 32 := 0#32
  let c1_i32_57 : BitVec 32 := 1#32
  let arg22 : BitVec 32 := Scf.iv c0_i32_55 c1_i32_57 k0_t3
  let c512_i32_67 : BitVec 32 := 512#32
  let v120 : BitVec 32 := Scalar.muli arg22 c512_i32_67
  let v121 : BitVec 32 := v120
  let v124 : Index := Scalar.indexCast v121
  let c0_69 : Index := 0#32
  ![0, v124.toNat, 0]
def k0_off10 (k0_t2 : Fin k0_t2_loop.trips) (k0_t3 : Fin (k0_t3_loop k0_t2).trips) : Fin 3 → Nat :=
  let c1_70 : Index := 1#32
  let c0_i32_55 : BitVec 32 := 0#32
  let c1_i32_57 : BitVec 32 := 1#32
  let arg22 : BitVec 32 := Scf.iv c0_i32_55 c1_i32_57 k0_t3
  let c512_i32_67 : BitVec 32 := 512#32
  let v120 : BitVec 32 := Scalar.muli arg22 c512_i32_67
  let v121 : BitVec 32 := v120
  let v127 : Index := Scalar.indexCast v121
  let c0_71 : Index := 0#32
  ![1, v127.toNat, 0]
def k0_off11 (k0_t2 : Fin k0_t2_loop.trips) (k0_t3 : Fin (k0_t3_loop k0_t2).trips) : Fin 3 → Nat :=
  let c0_91 : Index := 0#32
  let c0_92 : Index := 0#32
  let c0_i32_55 : BitVec 32 := 0#32
  let c1_i32_57 : BitVec 32 := 1#32
  let arg22 : BitVec 32 := Scf.iv c0_i32_55 c1_i32_57 k0_t3
  let c512_i32_67 : BitVec 32 := 512#32
  let v120 : BitVec 32 := Scalar.muli arg22 c512_i32_67
  let v121 : BitVec 32 := v120
  let v346 : Index := Scalar.indexCast v121
  ![0, 0, v346.toNat]
def k0_off12 (k0_t2 : Fin k0_t2_loop.trips) (k0_t3 : Fin (k0_t3_loop k0_t2).trips) : Fin 3 → Nat :=
  let c1_102 : Index := 1#32
  let c0_103 : Index := 0#32
  let c0_i32_55 : BitVec 32 := 0#32
  let c1_i32_57 : BitVec 32 := 1#32
  let arg22 : BitVec 32 := Scf.iv c0_i32_55 c1_i32_57 k0_t3
  let c512_i32_67 : BitVec 32 := 512#32
  let v120 : BitVec 32 := Scalar.muli arg22 c512_i32_67
  let v121 : BitVec 32 := v120
  let v366 : Index := Scalar.indexCast v121
  ![1, 0, v366.toNat]
@[reducible] def k0_t4_loop (k0_t2 : Fin k0_t2_loop.trips) : Scf.Loop 32 :=
  let c0_i32_55 : BitVec 32 := 0#32
  let c0_i32_10 : BitVec 32 := 0#32
  let c1_i32_11 : BitVec 32 := 1#32
  let arg21 : BitVec 32 := Scf.iv c0_i32_10 c1_i32_11 k0_t2
  let c1_i32_39 : BitVec 32 := 1#32
  let v59 : BitVec 32 := Scalar.addi arg21 c1_i32_39
  let c256_i32_40 : BitVec 32 := 256#32
  let v60 : BitVec 32 := Scalar.muli v59 c256_i32_40
  let c1_i32_41 : BitVec 32 := 1#32
  let v61 : BitVec 32 := Scalar.subi v60 c1_i32_41
  let c0_i32_42 : BitVec 32 := 0#32
  let v63 : BitVec 1 := Scalar.cmpi .sgt v61 c0_i32_42
  let v64 : BitVec 32 := Scalar.extui v63
  let c0_i32_43 : BitVec 32 := 0#32
  let v65 : BitVec 1 := Scalar.cmpi .slt v61 c0_i32_43
  let v66 : BitVec 32 := Scalar.extui v65
  let v67 : BitVec 32 := Scalar.subi v64 v66
  let c512_i32 : BitVec 32 := 512#32
  let c0_i32_44 : BitVec 32 := 0#32
  let v68 : BitVec 1 := Scalar.cmpi .sgt c512_i32 c0_i32_44
  let v69 : BitVec 32 := Scalar.extui v68
  let c0_i32_45 : BitVec 32 := 0#32
  let v70 : BitVec 1 := Scalar.cmpi .slt c512_i32 c0_i32_45
  let v71 : BitVec 32 := Scalar.extui v70
  let v72 : BitVec 32 := Scalar.subi v69 v71
  let v73 : BitVec 1 := Scalar.cmpi .ne v67 v72
  let v74 : BitVec 32 := Scalar.remsi v61 c512_i32
  let c0_i32_46 : BitVec 32 := 0#32
  let v75 : BitVec 1 := Scalar.cmpi .ne v74 c0_i32_46
  let v76 : BitVec 1 := Scalar.andi v73 v75
  let v62 : BitVec 32 := Scalar.divsi v61 c512_i32
  let c1_i32_47 : BitVec 32 := 1#32
  let v77 : BitVec 32 := Scalar.subi v62 c1_i32_47
  let v78 : BitVec 32 := Scalar.select v76 v77 v62
  let c1_i32_48 : BitVec 32 := 1#32
  let v79 : BitVec 32 := Scalar.addi v78 c1_i32_48
  let c1_i32_54 : BitVec 32 := 1#32
  let v98 : BitVec 32 := Scalar.subi v79 c1_i32_54
  let v99 : BitVec 32 := Scalar.subi v98 c0_i32_55
  let c1_i32_56 : BitVec 32 := 1#32
  let v101 : BitVec 32 := Scalar.divsi v99 c1_i32_56
  let v102 : BitVec 32 := Scalar.muli v101 c1_i32_56
  let v103 : BitVec 32 := Scalar.addi c0_i32_55 v102
  let v100 : BitVec 32 := Scalar.addi c0_i32_55 v99
  let c1_i32_58 : BitVec 32 := 1#32
  ⟨v103, v100, c1_i32_58⟩
def k0_mult4 (k0_t2 : Fin k0_t2_loop.trips) (k0_t4 : Fin (k0_t4_loop k0_t2).trips) : BitVec 32 :=
  let c0_i32_55 : BitVec 32 := 0#32
  let c0_i32_10 : BitVec 32 := 0#32
  let c1_i32_11 : BitVec 32 := 1#32
  let arg21 : BitVec 32 := Scf.iv c0_i32_10 c1_i32_11 k0_t2
  let c1_i32_39 : BitVec 32 := 1#32
  let v59 : BitVec 32 := Scalar.addi arg21 c1_i32_39
  let c256_i32_40 : BitVec 32 := 256#32
  let v60 : BitVec 32 := Scalar.muli v59 c256_i32_40
  let c1_i32_41 : BitVec 32 := 1#32
  let v61 : BitVec 32 := Scalar.subi v60 c1_i32_41
  let c0_i32_42 : BitVec 32 := 0#32
  let v63 : BitVec 1 := Scalar.cmpi .sgt v61 c0_i32_42
  let v64 : BitVec 32 := Scalar.extui v63
  let c0_i32_43 : BitVec 32 := 0#32
  let v65 : BitVec 1 := Scalar.cmpi .slt v61 c0_i32_43
  let v66 : BitVec 32 := Scalar.extui v65
  let v67 : BitVec 32 := Scalar.subi v64 v66
  let c512_i32 : BitVec 32 := 512#32
  let c0_i32_44 : BitVec 32 := 0#32
  let v68 : BitVec 1 := Scalar.cmpi .sgt c512_i32 c0_i32_44
  let v69 : BitVec 32 := Scalar.extui v68
  let c0_i32_45 : BitVec 32 := 0#32
  let v70 : BitVec 1 := Scalar.cmpi .slt c512_i32 c0_i32_45
  let v71 : BitVec 32 := Scalar.extui v70
  let v72 : BitVec 32 := Scalar.subi v69 v71
  let v73 : BitVec 1 := Scalar.cmpi .ne v67 v72
  let v74 : BitVec 32 := Scalar.remsi v61 c512_i32
  let c0_i32_46 : BitVec 32 := 0#32
  let v75 : BitVec 1 := Scalar.cmpi .ne v74 c0_i32_46
  let v76 : BitVec 1 := Scalar.andi v73 v75
  let v62 : BitVec 32 := Scalar.divsi v61 c512_i32
  let c1_i32_47 : BitVec 32 := 1#32
  let v77 : BitVec 32 := Scalar.subi v62 c1_i32_47
  let v78 : BitVec 32 := Scalar.select v76 v77 v62
  let c1_i32_48 : BitVec 32 := 1#32
  let v79 : BitVec 32 := Scalar.addi v78 c1_i32_48
  let c1_i32_54 : BitVec 32 := 1#32
  let v98 : BitVec 32 := Scalar.subi v79 c1_i32_54
  let v99 : BitVec 32 := Scalar.subi v98 c0_i32_55
  let c1_i32_56 : BitVec 32 := 1#32
  let v101 : BitVec 32 := Scalar.divsi v99 c1_i32_56
  let v102 : BitVec 32 := Scalar.muli v101 c1_i32_56
  let v103 : BitVec 32 := Scalar.addi c0_i32_55 v102
  let c1_i32_58 : BitVec 32 := 1#32
  let arg22 : BitVec 32 := Scf.iv v103 c1_i32_58 k0_t4
  let c512_i32_67 : BitVec 32 := 512#32
  let v120 : BitVec 32 := Scalar.muli arg22 c512_i32_67
  v120
def k0_off13 (k0_t2 : Fin k0_t2_loop.trips) (k0_t4 : Fin (k0_t4_loop k0_t2).trips) : Fin 3 → Nat :=
  let c0_68 : Index := 0#32
  let c0_i32_55 : BitVec 32 := 0#32
  let c0_i32_10 : BitVec 32 := 0#32
  let c1_i32_11 : BitVec 32 := 1#32
  let arg21 : BitVec 32 := Scf.iv c0_i32_10 c1_i32_11 k0_t2
  let c1_i32_39 : BitVec 32 := 1#32
  let v59 : BitVec 32 := Scalar.addi arg21 c1_i32_39
  let c256_i32_40 : BitVec 32 := 256#32
  let v60 : BitVec 32 := Scalar.muli v59 c256_i32_40
  let c1_i32_41 : BitVec 32 := 1#32
  let v61 : BitVec 32 := Scalar.subi v60 c1_i32_41
  let c0_i32_42 : BitVec 32 := 0#32
  let v63 : BitVec 1 := Scalar.cmpi .sgt v61 c0_i32_42
  let v64 : BitVec 32 := Scalar.extui v63
  let c0_i32_43 : BitVec 32 := 0#32
  let v65 : BitVec 1 := Scalar.cmpi .slt v61 c0_i32_43
  let v66 : BitVec 32 := Scalar.extui v65
  let v67 : BitVec 32 := Scalar.subi v64 v66
  let c512_i32 : BitVec 32 := 512#32
  let c0_i32_44 : BitVec 32 := 0#32
  let v68 : BitVec 1 := Scalar.cmpi .sgt c512_i32 c0_i32_44
  let v69 : BitVec 32 := Scalar.extui v68
  let c0_i32_45 : BitVec 32 := 0#32
  let v70 : BitVec 1 := Scalar.cmpi .slt c512_i32 c0_i32_45
  let v71 : BitVec 32 := Scalar.extui v70
  let v72 : BitVec 32 := Scalar.subi v69 v71
  let v73 : BitVec 1 := Scalar.cmpi .ne v67 v72
  let v74 : BitVec 32 := Scalar.remsi v61 c512_i32
  let c0_i32_46 : BitVec 32 := 0#32
  let v75 : BitVec 1 := Scalar.cmpi .ne v74 c0_i32_46
  let v76 : BitVec 1 := Scalar.andi v73 v75
  let v62 : BitVec 32 := Scalar.divsi v61 c512_i32
  let c1_i32_47 : BitVec 32 := 1#32
  let v77 : BitVec 32 := Scalar.subi v62 c1_i32_47
  let v78 : BitVec 32 := Scalar.select v76 v77 v62
  let c1_i32_48 : BitVec 32 := 1#32
  let v79 : BitVec 32 := Scalar.addi v78 c1_i32_48
  let c1_i32_54 : BitVec 32 := 1#32
  let v98 : BitVec 32 := Scalar.subi v79 c1_i32_54
  let v99 : BitVec 32 := Scalar.subi v98 c0_i32_55
  let c1_i32_56 : BitVec 32 := 1#32
  let v101 : BitVec 32 := Scalar.divsi v99 c1_i32_56
  let v102 : BitVec 32 := Scalar.muli v101 c1_i32_56
  let v103 : BitVec 32 := Scalar.addi c0_i32_55 v102
  let c1_i32_58 : BitVec 32 := 1#32
  let arg22 : BitVec 32 := Scf.iv v103 c1_i32_58 k0_t4
  let c512_i32_67 : BitVec 32 := 512#32
  let v120 : BitVec 32 := Scalar.muli arg22 c512_i32_67
  let v121 : BitVec 32 := v120
  let v124 : Index := Scalar.indexCast v121
  let c0_69 : Index := 0#32
  ![0, v124.toNat, 0]
def k0_off14 (k0_t2 : Fin k0_t2_loop.trips) (k0_t4 : Fin (k0_t4_loop k0_t2).trips) : Fin 3 → Nat :=
  let c1_70 : Index := 1#32
  let c0_i32_55 : BitVec 32 := 0#32
  let c0_i32_10 : BitVec 32 := 0#32
  let c1_i32_11 : BitVec 32 := 1#32
  let arg21 : BitVec 32 := Scf.iv c0_i32_10 c1_i32_11 k0_t2
  let c1_i32_39 : BitVec 32 := 1#32
  let v59 : BitVec 32 := Scalar.addi arg21 c1_i32_39
  let c256_i32_40 : BitVec 32 := 256#32
  let v60 : BitVec 32 := Scalar.muli v59 c256_i32_40
  let c1_i32_41 : BitVec 32 := 1#32
  let v61 : BitVec 32 := Scalar.subi v60 c1_i32_41
  let c0_i32_42 : BitVec 32 := 0#32
  let v63 : BitVec 1 := Scalar.cmpi .sgt v61 c0_i32_42
  let v64 : BitVec 32 := Scalar.extui v63
  let c0_i32_43 : BitVec 32 := 0#32
  let v65 : BitVec 1 := Scalar.cmpi .slt v61 c0_i32_43
  let v66 : BitVec 32 := Scalar.extui v65
  let v67 : BitVec 32 := Scalar.subi v64 v66
  let c512_i32 : BitVec 32 := 512#32
  let c0_i32_44 : BitVec 32 := 0#32
  let v68 : BitVec 1 := Scalar.cmpi .sgt c512_i32 c0_i32_44
  let v69 : BitVec 32 := Scalar.extui v68
  let c0_i32_45 : BitVec 32 := 0#32
  let v70 : BitVec 1 := Scalar.cmpi .slt c512_i32 c0_i32_45
  let v71 : BitVec 32 := Scalar.extui v70
  let v72 : BitVec 32 := Scalar.subi v69 v71
  let v73 : BitVec 1 := Scalar.cmpi .ne v67 v72
  let v74 : BitVec 32 := Scalar.remsi v61 c512_i32
  let c0_i32_46 : BitVec 32 := 0#32
  let v75 : BitVec 1 := Scalar.cmpi .ne v74 c0_i32_46
  let v76 : BitVec 1 := Scalar.andi v73 v75
  let v62 : BitVec 32 := Scalar.divsi v61 c512_i32
  let c1_i32_47 : BitVec 32 := 1#32
  let v77 : BitVec 32 := Scalar.subi v62 c1_i32_47
  let v78 : BitVec 32 := Scalar.select v76 v77 v62
  let c1_i32_48 : BitVec 32 := 1#32
  let v79 : BitVec 32 := Scalar.addi v78 c1_i32_48
  let c1_i32_54 : BitVec 32 := 1#32
  let v98 : BitVec 32 := Scalar.subi v79 c1_i32_54
  let v99 : BitVec 32 := Scalar.subi v98 c0_i32_55
  let c1_i32_56 : BitVec 32 := 1#32
  let v101 : BitVec 32 := Scalar.divsi v99 c1_i32_56
  let v102 : BitVec 32 := Scalar.muli v101 c1_i32_56
  let v103 : BitVec 32 := Scalar.addi c0_i32_55 v102
  let c1_i32_58 : BitVec 32 := 1#32
  let arg22 : BitVec 32 := Scf.iv v103 c1_i32_58 k0_t4
  let c512_i32_67 : BitVec 32 := 512#32
  let v120 : BitVec 32 := Scalar.muli arg22 c512_i32_67
  let v121 : BitVec 32 := v120
  let v127 : Index := Scalar.indexCast v121
  let c0_71 : Index := 0#32
  ![1, v127.toNat, 0]
def k0_off15 (k0_t2 : Fin k0_t2_loop.trips) (k0_t4 : Fin (k0_t4_loop k0_t2).trips) : Fin 3 → Nat :=
  let c0_91 : Index := 0#32
  let c0_92 : Index := 0#32
  let c0_i32_55 : BitVec 32 := 0#32
  let c0_i32_10 : BitVec 32 := 0#32
  let c1_i32_11 : BitVec 32 := 1#32
  let arg21 : BitVec 32 := Scf.iv c0_i32_10 c1_i32_11 k0_t2
  let c1_i32_39 : BitVec 32 := 1#32
  let v59 : BitVec 32 := Scalar.addi arg21 c1_i32_39
  let c256_i32_40 : BitVec 32 := 256#32
  let v60 : BitVec 32 := Scalar.muli v59 c256_i32_40
  let c1_i32_41 : BitVec 32 := 1#32
  let v61 : BitVec 32 := Scalar.subi v60 c1_i32_41
  let c0_i32_42 : BitVec 32 := 0#32
  let v63 : BitVec 1 := Scalar.cmpi .sgt v61 c0_i32_42
  let v64 : BitVec 32 := Scalar.extui v63
  let c0_i32_43 : BitVec 32 := 0#32
  let v65 : BitVec 1 := Scalar.cmpi .slt v61 c0_i32_43
  let v66 : BitVec 32 := Scalar.extui v65
  let v67 : BitVec 32 := Scalar.subi v64 v66
  let c512_i32 : BitVec 32 := 512#32
  let c0_i32_44 : BitVec 32 := 0#32
  let v68 : BitVec 1 := Scalar.cmpi .sgt c512_i32 c0_i32_44
  let v69 : BitVec 32 := Scalar.extui v68
  let c0_i32_45 : BitVec 32 := 0#32
  let v70 : BitVec 1 := Scalar.cmpi .slt c512_i32 c0_i32_45
  let v71 : BitVec 32 := Scalar.extui v70
  let v72 : BitVec 32 := Scalar.subi v69 v71
  let v73 : BitVec 1 := Scalar.cmpi .ne v67 v72
  let v74 : BitVec 32 := Scalar.remsi v61 c512_i32
  let c0_i32_46 : BitVec 32 := 0#32
  let v75 : BitVec 1 := Scalar.cmpi .ne v74 c0_i32_46
  let v76 : BitVec 1 := Scalar.andi v73 v75
  let v62 : BitVec 32 := Scalar.divsi v61 c512_i32
  let c1_i32_47 : BitVec 32 := 1#32
  let v77 : BitVec 32 := Scalar.subi v62 c1_i32_47
  let v78 : BitVec 32 := Scalar.select v76 v77 v62
  let c1_i32_48 : BitVec 32 := 1#32
  let v79 : BitVec 32 := Scalar.addi v78 c1_i32_48
  let c1_i32_54 : BitVec 32 := 1#32
  let v98 : BitVec 32 := Scalar.subi v79 c1_i32_54
  let v99 : BitVec 32 := Scalar.subi v98 c0_i32_55
  let c1_i32_56 : BitVec 32 := 1#32
  let v101 : BitVec 32 := Scalar.divsi v99 c1_i32_56
  let v102 : BitVec 32 := Scalar.muli v101 c1_i32_56
  let v103 : BitVec 32 := Scalar.addi c0_i32_55 v102
  let c1_i32_58 : BitVec 32 := 1#32
  let arg22 : BitVec 32 := Scf.iv v103 c1_i32_58 k0_t4
  let c512_i32_67 : BitVec 32 := 512#32
  let v120 : BitVec 32 := Scalar.muli arg22 c512_i32_67
  let v121 : BitVec 32 := v120
  let v346 : Index := Scalar.indexCast v121
  ![0, 0, v346.toNat]
def k0_off16 (k0_t2 : Fin k0_t2_loop.trips) (k0_t4 : Fin (k0_t4_loop k0_t2).trips) : Fin 3 → Nat :=
  let c1_102 : Index := 1#32
  let c0_103 : Index := 0#32
  let c0_i32_55 : BitVec 32 := 0#32
  let c0_i32_10 : BitVec 32 := 0#32
  let c1_i32_11 : BitVec 32 := 1#32
  let arg21 : BitVec 32 := Scf.iv c0_i32_10 c1_i32_11 k0_t2
  let c1_i32_39 : BitVec 32 := 1#32
  let v59 : BitVec 32 := Scalar.addi arg21 c1_i32_39
  let c256_i32_40 : BitVec 32 := 256#32
  let v60 : BitVec 32 := Scalar.muli v59 c256_i32_40
  let c1_i32_41 : BitVec 32 := 1#32
  let v61 : BitVec 32 := Scalar.subi v60 c1_i32_41
  let c0_i32_42 : BitVec 32 := 0#32
  let v63 : BitVec 1 := Scalar.cmpi .sgt v61 c0_i32_42
  let v64 : BitVec 32 := Scalar.extui v63
  let c0_i32_43 : BitVec 32 := 0#32
  let v65 : BitVec 1 := Scalar.cmpi .slt v61 c0_i32_43
  let v66 : BitVec 32 := Scalar.extui v65
  let v67 : BitVec 32 := Scalar.subi v64 v66
  let c512_i32 : BitVec 32 := 512#32
  let c0_i32_44 : BitVec 32 := 0#32
  let v68 : BitVec 1 := Scalar.cmpi .sgt c512_i32 c0_i32_44
  let v69 : BitVec 32 := Scalar.extui v68
  let c0_i32_45 : BitVec 32 := 0#32
  let v70 : BitVec 1 := Scalar.cmpi .slt c512_i32 c0_i32_45
  let v71 : BitVec 32 := Scalar.extui v70
  let v72 : BitVec 32 := Scalar.subi v69 v71
  let v73 : BitVec 1 := Scalar.cmpi .ne v67 v72
  let v74 : BitVec 32 := Scalar.remsi v61 c512_i32
  let c0_i32_46 : BitVec 32 := 0#32
  let v75 : BitVec 1 := Scalar.cmpi .ne v74 c0_i32_46
  let v76 : BitVec 1 := Scalar.andi v73 v75
  let v62 : BitVec 32 := Scalar.divsi v61 c512_i32
  let c1_i32_47 : BitVec 32 := 1#32
  let v77 : BitVec 32 := Scalar.subi v62 c1_i32_47
  let v78 : BitVec 32 := Scalar.select v76 v77 v62
  let c1_i32_48 : BitVec 32 := 1#32
  let v79 : BitVec 32 := Scalar.addi v78 c1_i32_48
  let c1_i32_54 : BitVec 32 := 1#32
  let v98 : BitVec 32 := Scalar.subi v79 c1_i32_54
  let v99 : BitVec 32 := Scalar.subi v98 c0_i32_55
  let c1_i32_56 : BitVec 32 := 1#32
  let v101 : BitVec 32 := Scalar.divsi v99 c1_i32_56
  let v102 : BitVec 32 := Scalar.muli v101 c1_i32_56
  let v103 : BitVec 32 := Scalar.addi c0_i32_55 v102
  let c1_i32_58 : BitVec 32 := 1#32
  let arg22 : BitVec 32 := Scf.iv v103 c1_i32_58 k0_t4
  let c512_i32_67 : BitVec 32 := 512#32
  let v120 : BitVec 32 := Scalar.muli arg22 c512_i32_67
  let v121 : BitVec 32 := v120
  let v366 : Index := Scalar.indexCast v121
  ![1, 0, v366.toNat]
def k0_cond2 (k0_t2 : Fin k0_t2_loop.trips) : BitVec 1 :=
  let c0_i32_10 : BitVec 32 := 0#32
  let c1_i32_11 : BitVec 32 := 1#32
  let arg21 : BitVec 32 := Scf.iv c0_i32_10 c1_i32_11 k0_t2
  let c256_i32_49 : BitVec 32 := 256#32
  let v92 : BitVec 32 := Scalar.muli arg21 c256_i32_49
  let c1_i32_39 : BitVec 32 := 1#32
  let v59 : BitVec 32 := Scalar.addi arg21 c1_i32_39
  let c256_i32_40 : BitVec 32 := 256#32
  let v60 : BitVec 32 := Scalar.muli v59 c256_i32_40
  let c1_i32_41 : BitVec 32 := 1#32
  let v61 : BitVec 32 := Scalar.subi v60 c1_i32_41
  let c0_i32_42 : BitVec 32 := 0#32
  let v63 : BitVec 1 := Scalar.cmpi .sgt v61 c0_i32_42
  let v64 : BitVec 32 := Scalar.extui v63
  let c0_i32_43 : BitVec 32 := 0#32
  let v65 : BitVec 1 := Scalar.cmpi .slt v61 c0_i32_43
  let v66 : BitVec 32 := Scalar.extui v65
  let v67 : BitVec 32 := Scalar.subi v64 v66
  let c512_i32 : BitVec 32 := 512#32
  let c0_i32_44 : BitVec 32 := 0#32
  let v68 : BitVec 1 := Scalar.cmpi .sgt c512_i32 c0_i32_44
  let v69 : BitVec 32 := Scalar.extui v68
  let c0_i32_45 : BitVec 32 := 0#32
  let v70 : BitVec 1 := Scalar.cmpi .slt c512_i32 c0_i32_45
  let v71 : BitVec 32 := Scalar.extui v70
  let v72 : BitVec 32 := Scalar.subi v69 v71
  let v73 : BitVec 1 := Scalar.cmpi .ne v67 v72
  let v74 : BitVec 32 := Scalar.remsi v61 c512_i32
  let c0_i32_46 : BitVec 32 := 0#32
  let v75 : BitVec 1 := Scalar.cmpi .ne v74 c0_i32_46
  let v76 : BitVec 1 := Scalar.andi v73 v75
  let v62 : BitVec 32 := Scalar.divsi v61 c512_i32
  let c1_i32_47 : BitVec 32 := 1#32
  let v77 : BitVec 32 := Scalar.subi v62 c1_i32_47
  let v78 : BitVec 32 := Scalar.select v76 v77 v62
  let c1_i32_48 : BitVec 32 := 1#32
  let v79 : BitVec 32 := Scalar.addi v78 c1_i32_48
  let c1_i32_50 : BitVec 32 := 1#32
  let v93 : BitVec 32 := Scalar.subi v79 c1_i32_50
  let c512_i32_51 : BitVec 32 := 512#32
  let v94 : BitVec 32 := Scalar.muli v93 c512_i32_51
  let v95 : BitVec 32 := Scalar.subi v92 v94
  let c256_i32_60 : BitVec 32 := 256#32
  let v107 : BitVec 32 := Scalar.addi v95 c256_i32_60
  let c256_i32_61 : BitVec 32 := 256#32
  let v108 : BitVec 1 := Scalar.cmpi .sle v107 c256_i32_61
  let v109 : BitVec 32 := Scalar.extui v108
  let c0_i32_62 : BitVec 32 := 0#32
  let v110 : BitVec 1 := Scalar.cmpi .ne v109 c0_i32_62
  v110

def k0_mult5 (k0_t2 : Fin k0_t2_loop.trips) : BitVec 32 :=
  let c0_i32_10 : BitVec 32 := 0#32
  let c1_i32_11 : BitVec 32 := 1#32
  let arg21 : BitVec 32 := Scf.iv c0_i32_10 c1_i32_11 k0_t2
  let c1_i32_39 : BitVec 32 := 1#32
  let v59 : BitVec 32 := Scalar.addi arg21 c1_i32_39
  let c256_i32_40 : BitVec 32 := 256#32
  let v60 : BitVec 32 := Scalar.muli v59 c256_i32_40
  let c1_i32_41 : BitVec 32 := 1#32
  let v61 : BitVec 32 := Scalar.subi v60 c1_i32_41
  let c0_i32_42 : BitVec 32 := 0#32
  let v63 : BitVec 1 := Scalar.cmpi .sgt v61 c0_i32_42
  let v64 : BitVec 32 := Scalar.extui v63
  let c0_i32_43 : BitVec 32 := 0#32
  let v65 : BitVec 1 := Scalar.cmpi .slt v61 c0_i32_43
  let v66 : BitVec 32 := Scalar.extui v65
  let v67 : BitVec 32 := Scalar.subi v64 v66
  let c512_i32 : BitVec 32 := 512#32
  let c0_i32_44 : BitVec 32 := 0#32
  let v68 : BitVec 1 := Scalar.cmpi .sgt c512_i32 c0_i32_44
  let v69 : BitVec 32 := Scalar.extui v68
  let c0_i32_45 : BitVec 32 := 0#32
  let v70 : BitVec 1 := Scalar.cmpi .slt c512_i32 c0_i32_45
  let v71 : BitVec 32 := Scalar.extui v70
  let v72 : BitVec 32 := Scalar.subi v69 v71
  let v73 : BitVec 1 := Scalar.cmpi .ne v67 v72
  let v74 : BitVec 32 := Scalar.remsi v61 c512_i32
  let c0_i32_46 : BitVec 32 := 0#32
  let v75 : BitVec 1 := Scalar.cmpi .ne v74 c0_i32_46
  let v76 : BitVec 1 := Scalar.andi v73 v75
  let v62 : BitVec 32 := Scalar.divsi v61 c512_i32
  let c1_i32_47 : BitVec 32 := 1#32
  let v77 : BitVec 32 := Scalar.subi v62 c1_i32_47
  let v78 : BitVec 32 := Scalar.select v76 v77 v62
  let c1_i32_48 : BitVec 32 := 1#32
  let v79 : BitVec 32 := Scalar.addi v78 c1_i32_48
  let c1_i32_59 : BitVec 32 := 1#32
  let v106 : BitVec 32 := Scalar.subi v79 c1_i32_59
  let c512_i32_67 : BitVec 32 := 512#32
  let v120 : BitVec 32 := Scalar.muli v106 c512_i32_67
  v120
def k0_off17 (k0_t2 : Fin k0_t2_loop.trips) : Fin 3 → Nat :=
  let c0_68 : Index := 0#32
  let c0_i32_10 : BitVec 32 := 0#32
  let c1_i32_11 : BitVec 32 := 1#32
  let arg21 : BitVec 32 := Scf.iv c0_i32_10 c1_i32_11 k0_t2
  let c1_i32_39 : BitVec 32 := 1#32
  let v59 : BitVec 32 := Scalar.addi arg21 c1_i32_39
  let c256_i32_40 : BitVec 32 := 256#32
  let v60 : BitVec 32 := Scalar.muli v59 c256_i32_40
  let c1_i32_41 : BitVec 32 := 1#32
  let v61 : BitVec 32 := Scalar.subi v60 c1_i32_41
  let c0_i32_42 : BitVec 32 := 0#32
  let v63 : BitVec 1 := Scalar.cmpi .sgt v61 c0_i32_42
  let v64 : BitVec 32 := Scalar.extui v63
  let c0_i32_43 : BitVec 32 := 0#32
  let v65 : BitVec 1 := Scalar.cmpi .slt v61 c0_i32_43
  let v66 : BitVec 32 := Scalar.extui v65
  let v67 : BitVec 32 := Scalar.subi v64 v66
  let c512_i32 : BitVec 32 := 512#32
  let c0_i32_44 : BitVec 32 := 0#32
  let v68 : BitVec 1 := Scalar.cmpi .sgt c512_i32 c0_i32_44
  let v69 : BitVec 32 := Scalar.extui v68
  let c0_i32_45 : BitVec 32 := 0#32
  let v70 : BitVec 1 := Scalar.cmpi .slt c512_i32 c0_i32_45
  let v71 : BitVec 32 := Scalar.extui v70
  let v72 : BitVec 32 := Scalar.subi v69 v71
  let v73 : BitVec 1 := Scalar.cmpi .ne v67 v72
  let v74 : BitVec 32 := Scalar.remsi v61 c512_i32
  let c0_i32_46 : BitVec 32 := 0#32
  let v75 : BitVec 1 := Scalar.cmpi .ne v74 c0_i32_46
  let v76 : BitVec 1 := Scalar.andi v73 v75
  let v62 : BitVec 32 := Scalar.divsi v61 c512_i32
  let c1_i32_47 : BitVec 32 := 1#32
  let v77 : BitVec 32 := Scalar.subi v62 c1_i32_47
  let v78 : BitVec 32 := Scalar.select v76 v77 v62
  let c1_i32_48 : BitVec 32 := 1#32
  let v79 : BitVec 32 := Scalar.addi v78 c1_i32_48
  let c1_i32_59 : BitVec 32 := 1#32
  let v106 : BitVec 32 := Scalar.subi v79 c1_i32_59
  let c512_i32_67 : BitVec 32 := 512#32
  let v120 : BitVec 32 := Scalar.muli v106 c512_i32_67
  let v121 : BitVec 32 := v120
  let v125 : Index := Scalar.indexCast v121
  let c0_69 : Index := 0#32
  ![0, v125.toNat, 0]
def k0_off18 (k0_t2 : Fin k0_t2_loop.trips) : Fin 3 → Nat :=
  let c1_70 : Index := 1#32
  let c0_i32_10 : BitVec 32 := 0#32
  let c1_i32_11 : BitVec 32 := 1#32
  let arg21 : BitVec 32 := Scf.iv c0_i32_10 c1_i32_11 k0_t2
  let c1_i32_39 : BitVec 32 := 1#32
  let v59 : BitVec 32 := Scalar.addi arg21 c1_i32_39
  let c256_i32_40 : BitVec 32 := 256#32
  let v60 : BitVec 32 := Scalar.muli v59 c256_i32_40
  let c1_i32_41 : BitVec 32 := 1#32
  let v61 : BitVec 32 := Scalar.subi v60 c1_i32_41
  let c0_i32_42 : BitVec 32 := 0#32
  let v63 : BitVec 1 := Scalar.cmpi .sgt v61 c0_i32_42
  let v64 : BitVec 32 := Scalar.extui v63
  let c0_i32_43 : BitVec 32 := 0#32
  let v65 : BitVec 1 := Scalar.cmpi .slt v61 c0_i32_43
  let v66 : BitVec 32 := Scalar.extui v65
  let v67 : BitVec 32 := Scalar.subi v64 v66
  let c512_i32 : BitVec 32 := 512#32
  let c0_i32_44 : BitVec 32 := 0#32
  let v68 : BitVec 1 := Scalar.cmpi .sgt c512_i32 c0_i32_44
  let v69 : BitVec 32 := Scalar.extui v68
  let c0_i32_45 : BitVec 32 := 0#32
  let v70 : BitVec 1 := Scalar.cmpi .slt c512_i32 c0_i32_45
  let v71 : BitVec 32 := Scalar.extui v70
  let v72 : BitVec 32 := Scalar.subi v69 v71
  let v73 : BitVec 1 := Scalar.cmpi .ne v67 v72
  let v74 : BitVec 32 := Scalar.remsi v61 c512_i32
  let c0_i32_46 : BitVec 32 := 0#32
  let v75 : BitVec 1 := Scalar.cmpi .ne v74 c0_i32_46
  let v76 : BitVec 1 := Scalar.andi v73 v75
  let v62 : BitVec 32 := Scalar.divsi v61 c512_i32
  let c1_i32_47 : BitVec 32 := 1#32
  let v77 : BitVec 32 := Scalar.subi v62 c1_i32_47
  let v78 : BitVec 32 := Scalar.select v76 v77 v62
  let c1_i32_48 : BitVec 32 := 1#32
  let v79 : BitVec 32 := Scalar.addi v78 c1_i32_48
  let c1_i32_59 : BitVec 32 := 1#32
  let v106 : BitVec 32 := Scalar.subi v79 c1_i32_59
  let c512_i32_67 : BitVec 32 := 512#32
  let v120 : BitVec 32 := Scalar.muli v106 c512_i32_67
  let v121 : BitVec 32 := v120
  let v128 : Index := Scalar.indexCast v121
  let c0_71 : Index := 0#32
  ![1, v128.toNat, 0]
def k0_off19 (k0_t2 : Fin k0_t2_loop.trips) : Fin 3 → Nat :=
  let c0_97 : Index := 0#32
  let c0_98 : Index := 0#32
  let c0_i32_10 : BitVec 32 := 0#32
  let c1_i32_11 : BitVec 32 := 1#32
  let arg21 : BitVec 32 := Scf.iv c0_i32_10 c1_i32_11 k0_t2
  let c1_i32_39 : BitVec 32 := 1#32
  let v59 : BitVec 32 := Scalar.addi arg21 c1_i32_39
  let c256_i32_40 : BitVec 32 := 256#32
  let v60 : BitVec 32 := Scalar.muli v59 c256_i32_40
  let c1_i32_41 : BitVec 32 := 1#32
  let v61 : BitVec 32 := Scalar.subi v60 c1_i32_41
  let c0_i32_42 : BitVec 32 := 0#32
  let v63 : BitVec 1 := Scalar.cmpi .sgt v61 c0_i32_42
  let v64 : BitVec 32 := Scalar.extui v63
  let c0_i32_43 : BitVec 32 := 0#32
  let v65 : BitVec 1 := Scalar.cmpi .slt v61 c0_i32_43
  let v66 : BitVec 32 := Scalar.extui v65
  let v67 : BitVec 32 := Scalar.subi v64 v66
  let c512_i32 : BitVec 32 := 512#32
  let c0_i32_44 : BitVec 32 := 0#32
  let v68 : BitVec 1 := Scalar.cmpi .sgt c512_i32 c0_i32_44
  let v69 : BitVec 32 := Scalar.extui v68
  let c0_i32_45 : BitVec 32 := 0#32
  let v70 : BitVec 1 := Scalar.cmpi .slt c512_i32 c0_i32_45
  let v71 : BitVec 32 := Scalar.extui v70
  let v72 : BitVec 32 := Scalar.subi v69 v71
  let v73 : BitVec 1 := Scalar.cmpi .ne v67 v72
  let v74 : BitVec 32 := Scalar.remsi v61 c512_i32
  let c0_i32_46 : BitVec 32 := 0#32
  let v75 : BitVec 1 := Scalar.cmpi .ne v74 c0_i32_46
  let v76 : BitVec 1 := Scalar.andi v73 v75
  let v62 : BitVec 32 := Scalar.divsi v61 c512_i32
  let c1_i32_47 : BitVec 32 := 1#32
  let v77 : BitVec 32 := Scalar.subi v62 c1_i32_47
  let v78 : BitVec 32 := Scalar.select v76 v77 v62
  let c1_i32_48 : BitVec 32 := 1#32
  let v79 : BitVec 32 := Scalar.addi v78 c1_i32_48
  let c1_i32_59 : BitVec 32 := 1#32
  let v106 : BitVec 32 := Scalar.subi v79 c1_i32_59
  let c512_i32_67 : BitVec 32 := 512#32
  let v120 : BitVec 32 := Scalar.muli v106 c512_i32_67
  let v121 : BitVec 32 := v120
  let v275 : Index := Scalar.indexCast v121
  ![0, 0, v275.toNat]
def k0_off20 (k0_t2 : Fin k0_t2_loop.trips) : Fin 3 → Nat :=
  let c1_108 : Index := 1#32
  let c0_109 : Index := 0#32
  let c0_i32_10 : BitVec 32 := 0#32
  let c1_i32_11 : BitVec 32 := 1#32
  let arg21 : BitVec 32 := Scf.iv c0_i32_10 c1_i32_11 k0_t2
  let c1_i32_39 : BitVec 32 := 1#32
  let v59 : BitVec 32 := Scalar.addi arg21 c1_i32_39
  let c256_i32_40 : BitVec 32 := 256#32
  let v60 : BitVec 32 := Scalar.muli v59 c256_i32_40
  let c1_i32_41 : BitVec 32 := 1#32
  let v61 : BitVec 32 := Scalar.subi v60 c1_i32_41
  let c0_i32_42 : BitVec 32 := 0#32
  let v63 : BitVec 1 := Scalar.cmpi .sgt v61 c0_i32_42
  let v64 : BitVec 32 := Scalar.extui v63
  let c0_i32_43 : BitVec 32 := 0#32
  let v65 : BitVec 1 := Scalar.cmpi .slt v61 c0_i32_43
  let v66 : BitVec 32 := Scalar.extui v65
  let v67 : BitVec 32 := Scalar.subi v64 v66
  let c512_i32 : BitVec 32 := 512#32
  let c0_i32_44 : BitVec 32 := 0#32
  let v68 : BitVec 1 := Scalar.cmpi .sgt c512_i32 c0_i32_44
  let v69 : BitVec 32 := Scalar.extui v68
  let c0_i32_45 : BitVec 32 := 0#32
  let v70 : BitVec 1 := Scalar.cmpi .slt c512_i32 c0_i32_45
  let v71 : BitVec 32 := Scalar.extui v70
  let v72 : BitVec 32 := Scalar.subi v69 v71
  let v73 : BitVec 1 := Scalar.cmpi .ne v67 v72
  let v74 : BitVec 32 := Scalar.remsi v61 c512_i32
  let c0_i32_46 : BitVec 32 := 0#32
  let v75 : BitVec 1 := Scalar.cmpi .ne v74 c0_i32_46
  let v76 : BitVec 1 := Scalar.andi v73 v75
  let v62 : BitVec 32 := Scalar.divsi v61 c512_i32
  let c1_i32_47 : BitVec 32 := 1#32
  let v77 : BitVec 32 := Scalar.subi v62 c1_i32_47
  let v78 : BitVec 32 := Scalar.select v76 v77 v62
  let c1_i32_48 : BitVec 32 := 1#32
  let v79 : BitVec 32 := Scalar.addi v78 c1_i32_48
  let c1_i32_59 : BitVec 32 := 1#32
  let v106 : BitVec 32 := Scalar.subi v79 c1_i32_59
  let c512_i32_67 : BitVec 32 := 512#32
  let v120 : BitVec 32 := Scalar.muli v106 c512_i32_67
  let v121 : BitVec 32 := v120
  let v295 : Index := Scalar.indexCast v121
  ![1, 0, v295.toNat]
def k0_mult6 (k0_t2 : Fin k0_t2_loop.trips) : BitVec 32 :=
  let c0_i32_10 : BitVec 32 := 0#32
  let c1_i32_11 : BitVec 32 := 1#32
  let arg21 : BitVec 32 := Scf.iv c0_i32_10 c1_i32_11 k0_t2
  let c1_i32_39 : BitVec 32 := 1#32
  let v59 : BitVec 32 := Scalar.addi arg21 c1_i32_39
  let c256_i32_40 : BitVec 32 := 256#32
  let v60 : BitVec 32 := Scalar.muli v59 c256_i32_40
  let c1_i32_41 : BitVec 32 := 1#32
  let v61 : BitVec 32 := Scalar.subi v60 c1_i32_41
  let c0_i32_42 : BitVec 32 := 0#32
  let v63 : BitVec 1 := Scalar.cmpi .sgt v61 c0_i32_42
  let v64 : BitVec 32 := Scalar.extui v63
  let c0_i32_43 : BitVec 32 := 0#32
  let v65 : BitVec 1 := Scalar.cmpi .slt v61 c0_i32_43
  let v66 : BitVec 32 := Scalar.extui v65
  let v67 : BitVec 32 := Scalar.subi v64 v66
  let c512_i32 : BitVec 32 := 512#32
  let c0_i32_44 : BitVec 32 := 0#32
  let v68 : BitVec 1 := Scalar.cmpi .sgt c512_i32 c0_i32_44
  let v69 : BitVec 32 := Scalar.extui v68
  let c0_i32_45 : BitVec 32 := 0#32
  let v70 : BitVec 1 := Scalar.cmpi .slt c512_i32 c0_i32_45
  let v71 : BitVec 32 := Scalar.extui v70
  let v72 : BitVec 32 := Scalar.subi v69 v71
  let v73 : BitVec 1 := Scalar.cmpi .ne v67 v72
  let v74 : BitVec 32 := Scalar.remsi v61 c512_i32
  let c0_i32_46 : BitVec 32 := 0#32
  let v75 : BitVec 1 := Scalar.cmpi .ne v74 c0_i32_46
  let v76 : BitVec 1 := Scalar.andi v73 v75
  let v62 : BitVec 32 := Scalar.divsi v61 c512_i32
  let c1_i32_47 : BitVec 32 := 1#32
  let v77 : BitVec 32 := Scalar.subi v62 c1_i32_47
  let v78 : BitVec 32 := Scalar.select v76 v77 v62
  let c1_i32_48 : BitVec 32 := 1#32
  let v79 : BitVec 32 := Scalar.addi v78 c1_i32_48
  let c1_i32_59 : BitVec 32 := 1#32
  let v106 : BitVec 32 := Scalar.subi v79 c1_i32_59
  let c512_i32_67 : BitVec 32 := 512#32
  let v120 : BitVec 32 := Scalar.muli v106 c512_i32_67
  v120
def k0_off21 (k0_t2 : Fin k0_t2_loop.trips) : Fin 3 → Nat :=
  let c0_68 : Index := 0#32
  let c0_i32_10 : BitVec 32 := 0#32
  let c1_i32_11 : BitVec 32 := 1#32
  let arg21 : BitVec 32 := Scf.iv c0_i32_10 c1_i32_11 k0_t2
  let c1_i32_39 : BitVec 32 := 1#32
  let v59 : BitVec 32 := Scalar.addi arg21 c1_i32_39
  let c256_i32_40 : BitVec 32 := 256#32
  let v60 : BitVec 32 := Scalar.muli v59 c256_i32_40
  let c1_i32_41 : BitVec 32 := 1#32
  let v61 : BitVec 32 := Scalar.subi v60 c1_i32_41
  let c0_i32_42 : BitVec 32 := 0#32
  let v63 : BitVec 1 := Scalar.cmpi .sgt v61 c0_i32_42
  let v64 : BitVec 32 := Scalar.extui v63
  let c0_i32_43 : BitVec 32 := 0#32
  let v65 : BitVec 1 := Scalar.cmpi .slt v61 c0_i32_43
  let v66 : BitVec 32 := Scalar.extui v65
  let v67 : BitVec 32 := Scalar.subi v64 v66
  let c512_i32 : BitVec 32 := 512#32
  let c0_i32_44 : BitVec 32 := 0#32
  let v68 : BitVec 1 := Scalar.cmpi .sgt c512_i32 c0_i32_44
  let v69 : BitVec 32 := Scalar.extui v68
  let c0_i32_45 : BitVec 32 := 0#32
  let v70 : BitVec 1 := Scalar.cmpi .slt c512_i32 c0_i32_45
  let v71 : BitVec 32 := Scalar.extui v70
  let v72 : BitVec 32 := Scalar.subi v69 v71
  let v73 : BitVec 1 := Scalar.cmpi .ne v67 v72
  let v74 : BitVec 32 := Scalar.remsi v61 c512_i32
  let c0_i32_46 : BitVec 32 := 0#32
  let v75 : BitVec 1 := Scalar.cmpi .ne v74 c0_i32_46
  let v76 : BitVec 1 := Scalar.andi v73 v75
  let v62 : BitVec 32 := Scalar.divsi v61 c512_i32
  let c1_i32_47 : BitVec 32 := 1#32
  let v77 : BitVec 32 := Scalar.subi v62 c1_i32_47
  let v78 : BitVec 32 := Scalar.select v76 v77 v62
  let c1_i32_48 : BitVec 32 := 1#32
  let v79 : BitVec 32 := Scalar.addi v78 c1_i32_48
  let c1_i32_59 : BitVec 32 := 1#32
  let v106 : BitVec 32 := Scalar.subi v79 c1_i32_59
  let c512_i32_67 : BitVec 32 := 512#32
  let v120 : BitVec 32 := Scalar.muli v106 c512_i32_67
  let v121 : BitVec 32 := v120
  let v124 : Index := Scalar.indexCast v121
  let c0_69 : Index := 0#32
  ![0, v124.toNat, 0]
def k0_off22 (k0_t2 : Fin k0_t2_loop.trips) : Fin 3 → Nat :=
  let c1_70 : Index := 1#32
  let c0_i32_10 : BitVec 32 := 0#32
  let c1_i32_11 : BitVec 32 := 1#32
  let arg21 : BitVec 32 := Scf.iv c0_i32_10 c1_i32_11 k0_t2
  let c1_i32_39 : BitVec 32 := 1#32
  let v59 : BitVec 32 := Scalar.addi arg21 c1_i32_39
  let c256_i32_40 : BitVec 32 := 256#32
  let v60 : BitVec 32 := Scalar.muli v59 c256_i32_40
  let c1_i32_41 : BitVec 32 := 1#32
  let v61 : BitVec 32 := Scalar.subi v60 c1_i32_41
  let c0_i32_42 : BitVec 32 := 0#32
  let v63 : BitVec 1 := Scalar.cmpi .sgt v61 c0_i32_42
  let v64 : BitVec 32 := Scalar.extui v63
  let c0_i32_43 : BitVec 32 := 0#32
  let v65 : BitVec 1 := Scalar.cmpi .slt v61 c0_i32_43
  let v66 : BitVec 32 := Scalar.extui v65
  let v67 : BitVec 32 := Scalar.subi v64 v66
  let c512_i32 : BitVec 32 := 512#32
  let c0_i32_44 : BitVec 32 := 0#32
  let v68 : BitVec 1 := Scalar.cmpi .sgt c512_i32 c0_i32_44
  let v69 : BitVec 32 := Scalar.extui v68
  let c0_i32_45 : BitVec 32 := 0#32
  let v70 : BitVec 1 := Scalar.cmpi .slt c512_i32 c0_i32_45
  let v71 : BitVec 32 := Scalar.extui v70
  let v72 : BitVec 32 := Scalar.subi v69 v71
  let v73 : BitVec 1 := Scalar.cmpi .ne v67 v72
  let v74 : BitVec 32 := Scalar.remsi v61 c512_i32
  let c0_i32_46 : BitVec 32 := 0#32
  let v75 : BitVec 1 := Scalar.cmpi .ne v74 c0_i32_46
  let v76 : BitVec 1 := Scalar.andi v73 v75
  let v62 : BitVec 32 := Scalar.divsi v61 c512_i32
  let c1_i32_47 : BitVec 32 := 1#32
  let v77 : BitVec 32 := Scalar.subi v62 c1_i32_47
  let v78 : BitVec 32 := Scalar.select v76 v77 v62
  let c1_i32_48 : BitVec 32 := 1#32
  let v79 : BitVec 32 := Scalar.addi v78 c1_i32_48
  let c1_i32_59 : BitVec 32 := 1#32
  let v106 : BitVec 32 := Scalar.subi v79 c1_i32_59
  let c512_i32_67 : BitVec 32 := 512#32
  let v120 : BitVec 32 := Scalar.muli v106 c512_i32_67
  let v121 : BitVec 32 := v120
  let v127 : Index := Scalar.indexCast v121
  let c0_71 : Index := 0#32
  ![1, v127.toNat, 0]
def k0_off23 (k0_t2 : Fin k0_t2_loop.trips) : Fin 3 → Nat :=
  let c0_97 : Index := 0#32
  let c0_98 : Index := 0#32
  let c0_i32_10 : BitVec 32 := 0#32
  let c1_i32_11 : BitVec 32 := 1#32
  let arg21 : BitVec 32 := Scf.iv c0_i32_10 c1_i32_11 k0_t2
  let c1_i32_39 : BitVec 32 := 1#32
  let v59 : BitVec 32 := Scalar.addi arg21 c1_i32_39
  let c256_i32_40 : BitVec 32 := 256#32
  let v60 : BitVec 32 := Scalar.muli v59 c256_i32_40
  let c1_i32_41 : BitVec 32 := 1#32
  let v61 : BitVec 32 := Scalar.subi v60 c1_i32_41
  let c0_i32_42 : BitVec 32 := 0#32
  let v63 : BitVec 1 := Scalar.cmpi .sgt v61 c0_i32_42
  let v64 : BitVec 32 := Scalar.extui v63
  let c0_i32_43 : BitVec 32 := 0#32
  let v65 : BitVec 1 := Scalar.cmpi .slt v61 c0_i32_43
  let v66 : BitVec 32 := Scalar.extui v65
  let v67 : BitVec 32 := Scalar.subi v64 v66
  let c512_i32 : BitVec 32 := 512#32
  let c0_i32_44 : BitVec 32 := 0#32
  let v68 : BitVec 1 := Scalar.cmpi .sgt c512_i32 c0_i32_44
  let v69 : BitVec 32 := Scalar.extui v68
  let c0_i32_45 : BitVec 32 := 0#32
  let v70 : BitVec 1 := Scalar.cmpi .slt c512_i32 c0_i32_45
  let v71 : BitVec 32 := Scalar.extui v70
  let v72 : BitVec 32 := Scalar.subi v69 v71
  let v73 : BitVec 1 := Scalar.cmpi .ne v67 v72
  let v74 : BitVec 32 := Scalar.remsi v61 c512_i32
  let c0_i32_46 : BitVec 32 := 0#32
  let v75 : BitVec 1 := Scalar.cmpi .ne v74 c0_i32_46
  let v76 : BitVec 1 := Scalar.andi v73 v75
  let v62 : BitVec 32 := Scalar.divsi v61 c512_i32
  let c1_i32_47 : BitVec 32 := 1#32
  let v77 : BitVec 32 := Scalar.subi v62 c1_i32_47
  let v78 : BitVec 32 := Scalar.select v76 v77 v62
  let c1_i32_48 : BitVec 32 := 1#32
  let v79 : BitVec 32 := Scalar.addi v78 c1_i32_48
  let c1_i32_59 : BitVec 32 := 1#32
  let v106 : BitVec 32 := Scalar.subi v79 c1_i32_59
  let c512_i32_67 : BitVec 32 := 512#32
  let v120 : BitVec 32 := Scalar.muli v106 c512_i32_67
  let v121 : BitVec 32 := v120
  let v350 : Index := Scalar.indexCast v121
  ![0, 0, v350.toNat]
def k0_off24 (k0_t2 : Fin k0_t2_loop.trips) : Fin 3 → Nat :=
  let c1_108 : Index := 1#32
  let c0_109 : Index := 0#32
  let c0_i32_10 : BitVec 32 := 0#32
  let c1_i32_11 : BitVec 32 := 1#32
  let arg21 : BitVec 32 := Scf.iv c0_i32_10 c1_i32_11 k0_t2
  let c1_i32_39 : BitVec 32 := 1#32
  let v59 : BitVec 32 := Scalar.addi arg21 c1_i32_39
  let c256_i32_40 : BitVec 32 := 256#32
  let v60 : BitVec 32 := Scalar.muli v59 c256_i32_40
  let c1_i32_41 : BitVec 32 := 1#32
  let v61 : BitVec 32 := Scalar.subi v60 c1_i32_41
  let c0_i32_42 : BitVec 32 := 0#32
  let v63 : BitVec 1 := Scalar.cmpi .sgt v61 c0_i32_42
  let v64 : BitVec 32 := Scalar.extui v63
  let c0_i32_43 : BitVec 32 := 0#32
  let v65 : BitVec 1 := Scalar.cmpi .slt v61 c0_i32_43
  let v66 : BitVec 32 := Scalar.extui v65
  let v67 : BitVec 32 := Scalar.subi v64 v66
  let c512_i32 : BitVec 32 := 512#32
  let c0_i32_44 : BitVec 32 := 0#32
  let v68 : BitVec 1 := Scalar.cmpi .sgt c512_i32 c0_i32_44
  let v69 : BitVec 32 := Scalar.extui v68
  let c0_i32_45 : BitVec 32 := 0#32
  let v70 : BitVec 1 := Scalar.cmpi .slt c512_i32 c0_i32_45
  let v71 : BitVec 32 := Scalar.extui v70
  let v72 : BitVec 32 := Scalar.subi v69 v71
  let v73 : BitVec 1 := Scalar.cmpi .ne v67 v72
  let v74 : BitVec 32 := Scalar.remsi v61 c512_i32
  let c0_i32_46 : BitVec 32 := 0#32
  let v75 : BitVec 1 := Scalar.cmpi .ne v74 c0_i32_46
  let v76 : BitVec 1 := Scalar.andi v73 v75
  let v62 : BitVec 32 := Scalar.divsi v61 c512_i32
  let c1_i32_47 : BitVec 32 := 1#32
  let v77 : BitVec 32 := Scalar.subi v62 c1_i32_47
  let v78 : BitVec 32 := Scalar.select v76 v77 v62
  let c1_i32_48 : BitVec 32 := 1#32
  let v79 : BitVec 32 := Scalar.addi v78 c1_i32_48
  let c1_i32_59 : BitVec 32 := 1#32
  let v106 : BitVec 32 := Scalar.subi v79 c1_i32_59
  let c512_i32_67 : BitVec 32 := 512#32
  let v120 : BitVec 32 := Scalar.muli v106 c512_i32_67
  let v121 : BitVec 32 := v120
  let v370 : Index := Scalar.indexCast v121
  ![1, 0, v370.toNat]
@[reducible] def k0_t5_loop : Scf.Loop 32 :=
  let c0_i32_14 : BitVec 32 := 0#32
  let c16_i32_15 : BitVec 32 := 16#32
  let v29 : BitVec 32 := Scalar.addi c0_i32_14 c16_i32_15
  let c1_i32_16 : BitVec 32 := 1#32
  ⟨c0_i32_14, v29, c1_i32_16⟩
def k0_mult7 (k0_t5 : Fin k0_t5_loop.trips) : BitVec 32 :=
  let c0_i32_14 : BitVec 32 := 0#32
  let c1_i32_16 : BitVec 32 := 1#32
  let arg21 : BitVec 32 := Scf.iv c0_i32_14 c1_i32_16 k0_t5
  let c128_i32 : BitVec 32 := 128#32
  let v39 : BitVec 32 := Scalar.muli arg21 c128_i32
  v39
def k0_off25 (k0_t5 : Fin k0_t5_loop.trips) : Fin 3 → Nat :=
  let c0_26 : Index := 0#32
  let c0_i32_14 : BitVec 32 := 0#32
  let c1_i32_16 : BitVec 32 := 1#32
  let arg21 : BitVec 32 := Scf.iv c0_i32_14 c1_i32_16 k0_t5
  let c128_i32 : BitVec 32 := 128#32
  let v39 : BitVec 32 := Scalar.muli arg21 c128_i32
  let v40 : BitVec 32 := v39
  let v41 : Index := Scalar.indexCast v40
  let c0_27 : Index := 0#32
  ![0, v41.toNat, 0]
def k0_off26 (k0_t5 : Fin k0_t5_loop.trips) : Fin 3 → Nat :=
  let c0_31 : Index := 0#32
  let c0_i32_14 : BitVec 32 := 0#32
  let c1_i32_16 : BitVec 32 := 1#32
  let arg21 : BitVec 32 := Scf.iv c0_i32_14 c1_i32_16 k0_t5
  let c128_i32 : BitVec 32 := 128#32
  let v39 : BitVec 32 := Scalar.muli arg21 c128_i32
  let v40 : BitVec 32 := v39
  let v52 : Index := Scalar.indexCast v40
  let c0_32 : Index := 0#32
  ![0, v52.toNat, 0]
def k0_off27 (k0_t5 : Fin k0_t5_loop.trips) : Fin 3 → Nat :=
  let c0_46 : Index := 0#32
  let c0_47 : Index := 0#32
  let c0_i32_14 : BitVec 32 := 0#32
  let c1_i32_16 : BitVec 32 := 1#32
  let arg21 : BitVec 32 := Scf.iv c0_i32_14 c1_i32_16 k0_t5
  let c128_i32 : BitVec 32 := 128#32
  let v39 : BitVec 32 := Scalar.muli arg21 c128_i32
  let v40 : BitVec 32 := v39
  let v95 : Index := Scalar.indexCast v40
  ![0, 0, v95.toNat]
def k0_off28 (k0_t5 : Fin k0_t5_loop.trips) : Fin 3 → Nat :=
  let c0_60 : Index := 0#32
  let c0_i32_14 : BitVec 32 := 0#32
  let c1_i32_16 : BitVec 32 := 1#32
  let arg21 : BitVec 32 := Scf.iv c0_i32_14 c1_i32_16 k0_t5
  let c128_i32 : BitVec 32 := 128#32
  let v39 : BitVec 32 := Scalar.muli arg21 c128_i32
  let v40 : BitVec 32 := v39
  let v136 : Index := Scalar.indexCast v40
  let c64 : Index := 64#32
  ![0, v136.toNat, 64]
def k0_off29 (k0_t5 : Fin k0_t5_loop.trips) : Fin 3 → Nat :=
  let c1 : Index := 1#32
  let c0_i32_14 : BitVec 32 := 0#32
  let c1_i32_16 : BitVec 32 := 1#32
  let arg21 : BitVec 32 := Scf.iv c0_i32_14 c1_i32_16 k0_t5
  let c128_i32 : BitVec 32 := 128#32
  let v39 : BitVec 32 := Scalar.muli arg21 c128_i32
  let v40 : BitVec 32 := v39
  let v147 : Index := Scalar.indexCast v40
  let c0_64 : Index := 0#32
  ![1, v147.toNat, 0]
def k0_off30 (k0_t5 : Fin k0_t5_loop.trips) : Fin 3 → Nat :=
  let c1_78 : Index := 1#32
  let c0_79 : Index := 0#32
  let c0_i32_14 : BitVec 32 := 0#32
  let c1_i32_16 : BitVec 32 := 1#32
  let arg21 : BitVec 32 := Scf.iv c0_i32_14 c1_i32_16 k0_t5
  let c128_i32 : BitVec 32 := 128#32
  let v39 : BitVec 32 := Scalar.muli arg21 c128_i32
  let v40 : BitVec 32 := v39
  let v190 : Index := Scalar.indexCast v40
  ![1, 0, v190.toNat]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  ![arg0.toNat, c0_i32_0.toNat, v0.toNat]

def cc0_transform_1 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg1
  let c0_i32 : BitVec 32 := 0#32
  let c0_i32_0 : BitVec 32 := 0#32
  ![arg0.toNat, c0_i32.toNat, v0.toNat]

def cc0_transform_2 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg1
  let c0_i32 : BitVec 32 := 0#32
  let c0_i32_0 : BitVec 32 := 0#32
  ![arg0.toNat, c0_i32.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  ![arg0.toNat, c0_i32_0.toNat, v0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  ![arg0.toNat, c0_i32_0.toNat, v0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  ![arg0.toNat, c0_i32_0.toNat, v0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  ![arg0.toNat, c0_i32_0.toNat, v0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2048x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x2048x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x2x2048x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x2048x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x2048x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x2048x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x2048x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 1 → Memref sig .tc .vmem S1x64 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S1x64 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]
-- ==== ReferenceIdeal.lean ====
abbrev S2x2048x3712 : Shape := ⟨3, ![2, 2048, 3712]⟩
abbrev S1x64 : Shape := ⟨2, ![1, 64]⟩
abbrev S2x2048x1024 : Shape := ⟨3, ![2, 2048, 1024]⟩
abbrev S2x2048x512 : Shape := ⟨3, ![2, 2048, 512]⟩
abbrev S2x2048x8x64 : Shape := ⟨4, ![2, 2048, 8, 64]⟩
abbrev S_ : Shape := ⟨0, ![]⟩
abbrev S2x2048x8 : Shape := ⟨3, ![2, 2048, 8]⟩
abbrev S2x2048x8x1 : Shape := ⟨4, ![2, 2048, 8, 1]⟩
abbrev S1x1x1x64 : Shape := ⟨4, ![1, 1, 1, 64]⟩
abbrev S2x8x2048x64 : Shape := ⟨4, ![2, 8, 2048, 64]⟩
abbrev S2x8x2048x2048 : Shape := ⟨4, ![2, 8, 2048, 2048]⟩
abbrev S2048 : Shape := ⟨1, ![2048]⟩
abbrev S2048x1 : Shape := ⟨2, ![2048, 1]⟩
abbrev S1x2048 : Shape := ⟨2, ![1, 2048]⟩
abbrev S2048x2048 : Shape := ⟨2, ![2048, 2048]⟩
abbrev S2x8x64x2048 : Shape := ⟨4, ![2, 8, 64, 2048]⟩

abbrev nBuf : Space → Nat
  | .hbm => 115
  | .vmem => 0
  | .smem => 0
  | _ => 0

abbrev bufTy : (tb : Table) → Fin (tcTables nBuf tb) → BufTy
  | .hbm, ⟨0, _⟩ => ⟨S2x2048x3712, .f32⟩
  | .hbm, ⟨1, _⟩ => ⟨S1x64, .f32⟩
  | .hbm, ⟨2, _⟩ => ⟨S1x64, .f32⟩
  | .hbm, ⟨3, _⟩ => ⟨S2x2048x1024, .f32⟩
  | .hbm, ⟨4, _⟩ => ⟨S2x2048x512, .f32⟩
  | .hbm, ⟨5, _⟩ => ⟨S2x2048x512, .f32⟩
  | .hbm, ⟨6, _⟩ => ⟨S2x2048x512, .f32⟩
  | .hbm, ⟨7, _⟩ => ⟨S2x2048x8x64, .f32⟩
  | .hbm, ⟨8, _⟩ => ⟨S2x2048x8x64, .f32⟩
  | .hbm, ⟨9, _⟩ => ⟨S_, .f32⟩
  | .hbm, ⟨10, _⟩ => ⟨S2x2048x8, .f32⟩
  | .hbm, ⟨11, _⟩ => ⟨S2x2048x8x1, .f32⟩
  | .hbm, ⟨12, _⟩ => ⟨S_, .f32⟩
  | .hbm, ⟨13, _⟩ => ⟨S2x2048x8x1, .f32⟩
  | .hbm, ⟨14, _⟩ => ⟨S2x2048x8x1, .f32⟩
  | .hbm, ⟨15, _⟩ => ⟨S_, .f32⟩
  | .hbm, ⟨16, _⟩ => ⟨S2x2048x8x1, .f32⟩
  | .hbm, ⟨17, _⟩ => ⟨S2x2048x8x1, .f32⟩
  | .hbm, ⟨18, _⟩ => ⟨S2x2048x8x1, .f32⟩
  | .hbm, ⟨19, _⟩ => ⟨S2x2048x8x64, .f32⟩
  | .hbm, ⟨20, _⟩ => ⟨S2x2048x8x64, .f32⟩
  | .hbm, ⟨21, _⟩ => ⟨S1x1x1x64, .f32⟩
  | .hbm, ⟨22, _⟩ => ⟨S2x2048x8x64, .f32⟩
  | .hbm, ⟨23, _⟩ => ⟨S2x2048x8x64, .f32⟩
  | .hbm, ⟨24, _⟩ => ⟨S2x8x2048x64, .f32⟩
  | .hbm, ⟨25, _⟩ => ⟨S2x2048x8x64, .f32⟩
  | .hbm, ⟨26, _⟩ => ⟨S2x2048x8x64, .f32⟩
  | .hbm, ⟨27, _⟩ => ⟨S_, .f32⟩
  | .hbm, ⟨28, _⟩ => ⟨S2x2048x8, .f32⟩
  | .hbm, ⟨29, _⟩ => ⟨S2x2048x8x1, .f32⟩
  | .hbm, ⟨30, _⟩ => ⟨S_, .f32⟩
  | .hbm, ⟨31, _⟩ => ⟨S2x2048x8x1, .f32⟩
  | .hbm, ⟨32, _⟩ => ⟨S2x2048x8x1, .f32⟩
  | .hbm, ⟨33, _⟩ => ⟨S_, .f32⟩
  | .hbm, ⟨34, _⟩ => ⟨S2x2048x8x1, .f32⟩
  | .hbm, ⟨35, _⟩ => ⟨S2x2048x8x1, .f32⟩
  | .hbm, ⟨36, _⟩ => ⟨S2x2048x8x1, .f32⟩
  | .hbm, ⟨37, _⟩ => ⟨S2x2048x8x64, .f32⟩
  | .hbm, ⟨38, _⟩ => ⟨S2x2048x8x64, .f32⟩
  | .hbm, ⟨39, _⟩ => ⟨S1x1x1x64, .f32⟩
  | .hbm, ⟨40, _⟩ => ⟨S2x2048x8x64, .f32⟩
  | .hbm, ⟨41, _⟩ => ⟨S2x2048x8x64, .f32⟩
  | .hbm, ⟨42, _⟩ => ⟨S2x8x2048x64, .f32⟩
  | .hbm, ⟨43, _⟩ => ⟨S2x8x2048x2048, .f32⟩
  | .hbm, ⟨44, _⟩ => ⟨S_, .f32⟩
  | .hbm, ⟨45, _⟩ => ⟨S2x8x2048x2048, .f32⟩
  | .hbm, ⟨46, _⟩ => ⟨S2x8x2048x2048, .f32⟩
  | .hbm, ⟨47, _⟩ => ⟨S2048, .i32⟩
  | .hbm, ⟨48, _⟩ => ⟨S2048x1, .i32⟩
  | .hbm, ⟨49, _⟩ => ⟨S2048, .i32⟩
  | .hbm, ⟨50, _⟩ => ⟨S1x2048, .i32⟩
  | .hbm, ⟨51, _⟩ => ⟨S2048x2048, .i32⟩
  | .hbm, ⟨52, _⟩ => ⟨S2048x2048, .i32⟩
  | .hbm, ⟨53, _⟩ => ⟨S2048x2048, .i1⟩
  | .hbm, ⟨54, _⟩ => ⟨S2x8x2048x2048, .f32⟩
  | .hbm, ⟨55, _⟩ => ⟨S2x8x2048x2048, .f32⟩
  | .hbm, ⟨56, _⟩ => ⟨S_, .f32⟩
  | .hbm, ⟨57, _⟩ => ⟨S2x8x2048x2048, .f32⟩
  | .hbm, ⟨58, _⟩ => ⟨S2x8x2048x2048, .f32⟩
  | .hbm, ⟨59, _⟩ => ⟨S2x8x2048x2048, .f32⟩
  | .hbm, ⟨60, _⟩ => ⟨S2x8x2048x2048, .f32⟩
  | .hbm, ⟨61, _⟩ => ⟨S2x8x2048x2048, .i1⟩
  | .hbm, ⟨62, _⟩ => ⟨S2x8x2048x2048, .f32⟩
  | .hbm, ⟨63, _⟩ => ⟨S2x8x2048x2048, .f32⟩
  | .hbm, ⟨64, _⟩ => ⟨S2x8x2048x2048, .f32⟩
  | .hbm, ⟨65, _⟩ => ⟨S2x8x2048x2048, .f32⟩
  | .hbm, ⟨66, _⟩ => ⟨S2x8x2048x2048, .f32⟩
  | .hbm, ⟨67, _⟩ => ⟨S2x8x2048x2048, .f32⟩
  | .hbm, ⟨68, _⟩ => ⟨S2x8x2048x2048, .f32⟩
  | .hbm, ⟨69, _⟩ => ⟨S2x8x2048x2048, .f32⟩
  | .hbm, ⟨70, _⟩ => ⟨S2x8x2048x2048, .f32⟩
  | .hbm, ⟨71, _⟩ => ⟨S_, .f32⟩
  | .hbm, ⟨72, _⟩ => ⟨S_, .f32⟩
  | .hbm, ⟨73, _⟩ => ⟨S2x8x2048x2048, .i1⟩
  | .hbm, ⟨74, _⟩ => ⟨S2x8x2048x2048, .f32⟩
  | .hbm, ⟨75, _⟩ => ⟨S2x8x2048x2048, .f32⟩
  | .hbm, ⟨76, _⟩ => ⟨S_, .f32⟩
  | .hbm, ⟨77, _⟩ => ⟨S_, .f32⟩
  | .hbm, ⟨78, _⟩ => ⟨S2x8x2048x2048, .f32⟩
  | .hbm, ⟨79, _⟩ => ⟨S2x8x2048x2048, .f32⟩
  | .hbm, ⟨80, _⟩ => ⟨S2x8x2048x2048, .f32⟩
  | .hbm, ⟨81, _⟩ => ⟨S_, .f32⟩
  | .hbm, ⟨82, _⟩ => ⟨S2x8x2048x2048, .f32⟩
  | .hbm, ⟨83, _⟩ => ⟨S2x8x2048x2048, .f32⟩
  | .hbm, ⟨84, _⟩ => ⟨S2x8x2048x2048, .f32⟩
  | .hbm, ⟨85, _⟩ => ⟨S2x8x2048x2048, .f32⟩
  | .hbm, ⟨86, _⟩ => ⟨S2x8x2048x2048, .i1⟩
  | .hbm, ⟨87, _⟩ => ⟨S2x8x2048x2048, .f32⟩
  | .hbm, ⟨88, _⟩ => ⟨S2x8x2048x2048, .f32⟩
  | .hbm, ⟨89, _⟩ => ⟨S2x8x2048x2048, .f32⟩
  | .hbm, ⟨90, _⟩ => ⟨S2x8x2048x2048, .f32⟩
  | .hbm, ⟨91, _⟩ => ⟨S2x8x2048x2048, .f32⟩
  | .hbm, ⟨92, _⟩ => ⟨S2x8x2048x2048, .f32⟩
  | .hbm, ⟨93, _⟩ => ⟨S2x8x2048x2048, .f32⟩
  | .hbm, ⟨94, _⟩ => ⟨S2x8x2048x2048, .f32⟩
  | .hbm, ⟨95, _⟩ => ⟨S2x8x2048x2048, .f32⟩
  | .hbm, ⟨96, _⟩ => ⟨S2x8x2048x2048, .f32⟩
  | .hbm, ⟨97, _⟩ => ⟨S2x8x2048x2048, .f32⟩
  | .hbm, ⟨98, _⟩ => ⟨S_, .f32⟩
  | .hbm, ⟨99, _⟩ => ⟨S_, .f32⟩
  | .hbm, ⟨100, _⟩ => ⟨S2x8x2048x2048, .i1⟩
  | .hbm, ⟨101, _⟩ => ⟨S2x8x2048x2048, .f32⟩
  | .hbm, ⟨102, _⟩ => ⟨S2x8x2048x2048, .f32⟩
  | .hbm, ⟨103, _⟩ => ⟨S2x2048x8x64, .f32⟩
  | .hbm, ⟨104, _⟩ => ⟨S2x8x2048x64, .f32⟩
  | .hbm, ⟨105, _⟩ => ⟨S2x8x2048x64, .f32⟩
  | .hbm, ⟨106, _⟩ => ⟨S2x2048x8x64, .f32⟩
  | .hbm, ⟨107, _⟩ => ⟨S2x2048x512, .f32⟩
  | .hbm, ⟨108, _⟩ => ⟨S2x2048x512, .f32⟩
  | .hbm, ⟨109, _⟩ => ⟨S2x2048x8x64, .f32⟩
  | .hbm, ⟨110, _⟩ => ⟨S2x8x2048x64, .f32⟩
  | .hbm, ⟨111, _⟩ => ⟨S2x8x64x2048, .f32⟩
  | .hbm, ⟨112, _⟩ => ⟨S2x8x2048x64, .f32⟩
  | .hbm, ⟨113, _⟩ => ⟨S2x2048x8x64, .f32⟩
  | .hbm, ⟨114, _⟩ => ⟨S2x2048x512, .f32⟩
  | _, _ => ⟨S2x2048x3712, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_cst_2 : Ref sig .tc := ⟨.hbm, 27, rfl⟩
abbrev main_v20 : Ref sig .tc := ⟨.hbm, 28, rfl⟩
abbrev main_v21 : Ref sig .tc := ⟨.hbm, 29, rfl⟩
abbrev main_cst_3 : Ref sig .tc := ⟨.hbm, 30, rfl⟩
abbrev main_v22 : Ref sig .tc := ⟨.hbm, 31, rfl⟩
abbrev main_v23 : Ref sig .tc := ⟨.hbm, 32, rfl⟩
abbrev main_cst_4 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_cst_5 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_call0_v0 : Ref sig .tc := ⟨.hbm, 55, rfl⟩
abbrev main_call0_call0_cst : Ref sig .tc := ⟨.hbm, 56, rfl⟩
abbrev main_call0_call0_v0 : Ref sig .tc := ⟨.hbm, 57, rfl⟩
abbrev main_call0_call0_v1 : Ref sig .tc := ⟨.hbm, 58, rfl⟩
abbrev main_call0_call0_v2 : Ref sig .tc := ⟨.hbm, 59, rfl⟩
abbrev main_call0_call0_v3 : Ref sig .tc := ⟨.hbm, 60, rfl⟩
abbrev main_call0_call0_v4 : Ref sig .tc := ⟨.hbm, 61, rfl⟩
abbrev main_call0_call0_v5 : Ref sig .tc := ⟨.hbm, 62, rfl⟩
abbrev main_call0_call0_v6 : Ref sig .tc := ⟨.hbm, 63, rfl⟩
abbrev main_call0_call0_v7 : Ref sig .tc := ⟨.hbm, 64, rfl⟩
abbrev main_call0_call0_v8 : Ref sig .tc := ⟨.hbm, 65, rfl⟩
abbrev main_call0_call0_v9 : Ref sig .tc := ⟨.hbm, 66, rfl⟩
abbrev main_call0_call0_v10 : Ref sig .tc := ⟨.hbm, 67, rfl⟩
abbrev main_call0_call0_v11 : Ref sig .tc := ⟨.hbm, 68, rfl⟩
abbrev main_call0_v1 : Ref sig .tc := ⟨.hbm, 69, rfl⟩
abbrev main_v44 : Ref sig .tc := ⟨.hbm, 70, rfl⟩
abbrev main_cst_6 : Ref sig .tc := ⟨.hbm, 71, rfl⟩
abbrev main_call1_v0 : Ref sig .tc := ⟨.hbm, 72, rfl⟩
abbrev main_call1_v1 : Ref sig .tc := ⟨.hbm, 73, rfl⟩
abbrev main_call1_v2 : Ref sig .tc := ⟨.hbm, 74, rfl⟩
abbrev main_v45 : Ref sig .tc := ⟨.hbm, 75, rfl⟩
abbrev main_call2_cst : Ref sig .tc := ⟨.hbm, 76, rfl⟩
abbrev main_call2_v0 : Ref sig .tc := ⟨.hbm, 77, rfl⟩
abbrev main_v46 : Ref sig .tc := ⟨.hbm, 78, rfl⟩
abbrev main_v47 : Ref sig .tc := ⟨.hbm, 79, rfl⟩
abbrev main_call3_v0 : Ref sig .tc := ⟨.hbm, 80, rfl⟩
abbrev main_call3_call0_cst : Ref sig .tc := ⟨.hbm, 81, rfl⟩
abbrev main_call3_call0_v0 : Ref sig .tc := ⟨.hbm, 82, rfl⟩
abbrev main_call3_call0_v1 : Ref sig .tc := ⟨.hbm, 83, rfl⟩
abbrev main_call3_call0_v2 : Ref sig .tc := ⟨.hbm, 84, rfl⟩
abbrev main_call3_call0_v3 : Ref sig .tc := ⟨.hbm, 85, rfl⟩
abbrev main_call3_call0_v4 : Ref sig .tc := ⟨.hbm, 86, rfl⟩
abbrev main_call3_call0_v5 : Ref sig .tc := ⟨.hbm, 87, rfl⟩
abbrev main_call3_call0_v6 : Ref sig .tc := ⟨.hbm, 88, rfl⟩
abbrev main_call3_call0_v7 : Ref sig .tc := ⟨.hbm, 89, rfl⟩
abbrev main_call3_call0_v8 : Ref sig .tc := ⟨.hbm, 90, rfl⟩
abbrev main_call3_call0_v9 : Ref sig .tc := ⟨.hbm, 91, rfl⟩
abbrev main_call3_call0_v10 : Ref sig .tc := ⟨.hbm, 92, rfl⟩
abbrev main_call3_call0_v11 : Ref sig .tc := ⟨.hbm, 93, rfl⟩
abbrev main_call3_v1 : Ref sig .tc := ⟨.hbm, 94, rfl⟩
abbrev main_v48 : Ref sig .tc := ⟨.hbm, 95, rfl⟩
abbrev main_v49 : Ref sig .tc := ⟨.hbm, 96, rfl⟩
abbrev main_v50 : Ref sig .tc := ⟨.hbm, 97, rfl⟩
abbrev main_cst_7 : Ref sig .tc := ⟨.hbm, 98, rfl⟩
abbrev main_call4_v0 : Ref sig .tc := ⟨.hbm, 99, rfl⟩
abbrev main_call4_v1 : Ref sig .tc := ⟨.hbm, 100, rfl⟩
abbrev main_call4_v2 : Ref sig .tc := ⟨.hbm, 101, rfl⟩
abbrev main_v51 : Ref sig .tc := ⟨.hbm, 102, rfl⟩
abbrev main_v52 : Ref sig .tc := ⟨.hbm, 103, rfl⟩
abbrev main_v53 : Ref sig .tc := ⟨.hbm, 104, rfl⟩
abbrev main_v54 : Ref sig .tc := ⟨.hbm, 105, rfl⟩
abbrev main_v55 : Ref sig .tc := ⟨.hbm, 106, rfl⟩
abbrev main_v56 : Ref sig .tc := ⟨.hbm, 107, rfl⟩
abbrev main_v57 : Ref sig .tc := ⟨.hbm, 108, rfl⟩
abbrev main_v58 : Ref sig .tc := ⟨.hbm, 109, rfl⟩
abbrev main_v59 : Ref sig .tc := ⟨.hbm, 110, rfl⟩
abbrev main_v60 : Ref sig .tc := ⟨.hbm, 111, rfl⟩
abbrev main_v61 : Ref sig .tc := ⟨.hbm, 112, rfl⟩
abbrev main_v62 : Ref sig .tc := ⟨.hbm, 113, rfl⟩
abbrev main_v63 : Ref sig .tc := ⟨.hbm, 114, rfl⟩

abbrev nD : Nat := 1
abbrev τ : Topo := Topo.v7x

variable {F : FTy → Type} [FloatOps F]
-- ==== Kernel2.lean ====
abbrev S4096x4096 : Shape := ⟨2, ![4096, 4096]⟩
abbrev S4096x1024 : Shape := ⟨2, ![4096, 1024]⟩
abbrev S2x1x1024 : Shape := ⟨3, ![2, 1, 1024]⟩
abbrev S1024x1024 : Shape := ⟨2, ![1024, 1024]⟩
abbrev S1x1x1024 : Shape := ⟨3, ![1, 1, 1024]⟩
abbrev S1x1024 : Shape := ⟨2, ![1, 1024]⟩

abbrev nBuf : Space → Nat
  | .hbm => 5
  | .vmem => 11
  | .smem => 0
  | _ => 0

abbrev bufTy : (tb : Table) → Fin (tcTables nBuf tb) → BufTy
  | .hbm, ⟨0, _⟩ => ⟨S4096x4096, .bf16⟩
  | .hbm, ⟨1, _⟩ => ⟨S4096x1024, .bf16⟩
  | .hbm, ⟨2, _⟩ => ⟨S2x1x1024, .f32⟩
  | .hbm, ⟨3, _⟩ => ⟨S4096x1024, .f32⟩
  | .hbm, ⟨4, _⟩ => ⟨S4096x4096, .bf16⟩
  | .local _ .vmem, ⟨0, _⟩ => ⟨S1024x1024, .f32⟩
  | .local _ .vmem, ⟨1, _⟩ => ⟨S1024x1024, .f32⟩
  | .local _ .vmem, ⟨2, _⟩ => ⟨S1024x1024, .bf16⟩
  | .local _ .vmem, ⟨3, _⟩ => ⟨S1024x1024, .bf16⟩
  | .local _ .vmem, ⟨4, _⟩ => ⟨S1x1x1024, .f32⟩
  | .local _ .vmem, ⟨5, _⟩ => ⟨S1x1x1024, .f32⟩
  | .local _ .vmem, ⟨6, _⟩ => ⟨S1024x1024, .bf16⟩
  | .local _ .vmem, ⟨7, _⟩ => ⟨S1024x1024, .bf16⟩
  | .local _ .vmem, ⟨8, _⟩ => ⟨S1024x1024, .bf16⟩
  | .local _ .vmem, ⟨9, _⟩ => ⟨S1024x1024, .bf16⟩
  | .local _ .vmem, ⟨10, _⟩ => ⟨S1024x1024, .f32⟩
  | _, _ => ⟨S4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![4, 4, 1], ![false, false, false]⟩

def k0_cond2 (i : grid0.Coords) : BitVec 1 :=
  let arg2 : BitVec 32 := BitVec.ofNat 32 (i 2).val
  let c0_i32_11 : BitVec 32 := 0#32
  let v16 : BitVec 1 := Scalar.cmpi .eq arg2 c0_i32_11
  let v17 : BitVec 32 := Scalar.extui v16
  let c0_i32_12 : BitVec 32 := 0#32
  let v18 : BitVec 1 := Scalar.cmpi .ne v17 c0_i32_12
  v18

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1024_i32 : BitVec 32 := 1024#32
  let v0 : BitVec 32 := Scalar.muli arg0 c1024_i32
  let c2048_i32 : BitVec 32 := 2048#32
  let v1 : BitVec 32 := Scalar.divsi v0 c2048_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c2048_i32 c0_i32_1
  let v8 : BitVec 32 := Scalar.extui v7
  let c0_i32_2 : BitVec 32 := 0#32
  let v9 : BitVec 1 := Scalar.cmpi .slt c2048_i32 c0_i32_2
  let v10 : BitVec 32 := Scalar.extui v9
  let v11 : BitVec 32 := Scalar.subi v8 v10
  let v12 : BitVec 1 := Scalar.cmpi .ne v6 v11
  let v13 : BitVec 32 := Scalar.remsi v0 c2048_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let c0_i32_5 : BitVec 32 := 0#32
  ![v17.toNat, c0_i32_4.toNat, arg2.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, true]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]
-- ==== Reference2Ideal.lean ====
abbrev S4096x4096 : Shape := ⟨2, ![4096, 4096]⟩
abbrev S4096x1024 : Shape := ⟨2, ![4096, 1024]⟩
abbrev S2x1x1024 : Shape := ⟨3, ![2, 1, 1024]⟩
abbrev S2x2048x4096 : Shape := ⟨3, ![2, 2048, 4096]⟩
abbrev S_ : Shape := ⟨0, ![]⟩
abbrev S2x2048x1024 : Shape := ⟨3, ![2, 2048, 1024]⟩

abbrev nBuf : Space → Nat
  | .hbm => 33
  | .vmem => 0
  | .smem => 0
  | _ => 0

abbrev bufTy : (tb : Table) → Fin (tcTables nBuf tb) → BufTy
  | .hbm, ⟨0, _⟩ => ⟨S4096x4096, .bf16⟩
  | .hbm, ⟨1, _⟩ => ⟨S4096x1024, .bf16⟩
  | .hbm, ⟨2, _⟩ => ⟨S2x1x1024, .f32⟩
  | .hbm, ⟨3, _⟩ => ⟨S4096x1024, .f32⟩
  | .hbm, ⟨4, _⟩ => ⟨S4096x4096, .f32⟩
  | .hbm, ⟨5, _⟩ => ⟨S4096x1024, .f32⟩
  | .hbm, ⟨6, _⟩ => ⟨S2x2048x4096, .f32⟩
  | .hbm, ⟨7, _⟩ => ⟨S_, .f32⟩
  | .hbm, ⟨8, _⟩ => ⟨S2x2048x4096, .f32⟩
  | .hbm, ⟨9, _⟩ => ⟨S2x2048x4096, .f32⟩
  | .hbm, ⟨10, _⟩ => ⟨S_, .f32⟩
  | .hbm, ⟨11, _⟩ => ⟨S2x2048x4096, .f32⟩
  | .hbm, ⟨12, _⟩ => ⟨S2x2048x4096, .i1⟩
  | .hbm, ⟨13, _⟩ => ⟨S_, .f32⟩
  | .hbm, ⟨14, _⟩ => ⟨S2x2048x4096, .f32⟩
  | .hbm, ⟨15, _⟩ => ⟨S2x2048x4096, .f32⟩
  | .hbm, ⟨16, _⟩ => ⟨S_, .f32⟩
  | .hbm, ⟨17, _⟩ => ⟨S2x2048x4096, .f32⟩
  | .hbm, ⟨18, _⟩ => ⟨S2x2048x4096, .f32⟩
  | .hbm, ⟨19, _⟩ => ⟨S2x2048x1024, .f32⟩
  | .hbm, ⟨20, _⟩ => ⟨S2x2048x1024, .f32⟩
  | .hbm, ⟨21, _⟩ => ⟨S2x2048x1024, .f32⟩
  | .hbm, ⟨22, _⟩ => ⟨S4096x1024, .f32⟩
  | .hbm, ⟨23, _⟩ => ⟨S2x2048x1024, .f32⟩
  | .hbm, ⟨24, _⟩ => ⟨S2x2048x1024, .f32⟩
  | .hbm, ⟨25, _⟩ => ⟨S2x2048x1024, .f32⟩
  | .hbm, ⟨26, _⟩ => ⟨S2x2048x4096, .f32⟩
  | .hbm, ⟨27, _⟩ => ⟨S2x2048x4096, .f32⟩
  | .hbm, ⟨28, _⟩ => ⟨S_, .f32⟩
  | .hbm, ⟨29, _⟩ => ⟨S2x2048x4096, .f32⟩
  | .hbm, ⟨30, _⟩ => ⟨S2x2048x4096, .f32⟩
  | .hbm, ⟨31, _⟩ => ⟨S4096x4096, .f32⟩
  | .hbm, ⟨32, _⟩ => ⟨S4096x4096, .bf16⟩
  | _, _ => ⟨S4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_call0_cst : Ref sig .tc := ⟨.hbm, 7, rfl⟩
abbrev main_call0_v0 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_v5 : Ref sig .tc := ⟨.hbm, 12, rfl⟩
abbrev main_cst_0 : Ref sig .tc := ⟨.hbm, 13, rfl⟩
abbrev main_v6 : Ref sig .tc := ⟨.hbm, 14, rfl⟩
abbrev main_v7 : Ref sig .tc := ⟨.hbm, 15, rfl⟩
abbrev main_cst_1 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_2 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩

abbrev nD : Nat := 1
abbrev τ : Topo := Topo.v7x

variable {F : FTy → Type} [FloatOps F]
-- ==== Kernel3.lean ====
abbrev S4096x4096 : Shape := ⟨2, ![4096, 4096]⟩
abbrev S4096x1024 : Shape := ⟨2, ![4096, 1024]⟩
abbrev S2x1x1024 : Shape := ⟨3, ![2, 1, 1024]⟩
abbrev S1024x1024 : Shape := ⟨2, ![1024, 1024]⟩
abbrev S1x1x1024 : Shape := ⟨3, ![1, 1, 1024]⟩
abbrev S1x1024 : Shape := ⟨2, ![1, 1024]⟩

abbrev nBuf : Space → Nat
  | .hbm => 4
  | .vmem => 9
  | .smem => 0
  | _ => 0

abbrev bufTy : (tb : Table) → Fin (tcTables nBuf tb) → BufTy
  | .hbm, ⟨0, _⟩ => ⟨S4096x4096, .bf16⟩
  | .hbm, ⟨1, _⟩ => ⟨S4096x1024, .f32⟩
  | .hbm, ⟨2, _⟩ => ⟨S2x1x1024, .f32⟩
  | .hbm, ⟨3, _⟩ => ⟨S4096x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .f32⟩
  | .local _ .vmem, ⟨3, _⟩ => ⟨S1024x1024, .f32⟩
  | .local _ .vmem, ⟨4, _⟩ => ⟨S1x1x1024, .f32⟩
  | .local _ .vmem, ⟨5, _⟩ => ⟨S1x1x1024, .f32⟩
  | .local _ .vmem, ⟨6, _⟩ => ⟨S1024x1024, .bf16⟩
  | .local _ .vmem, ⟨7, _⟩ => ⟨S1024x1024, .bf16⟩
  | .local _ .vmem, ⟨8, _⟩ => ⟨S1024x1024, .f32⟩
  | _, _ => ⟨S4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 1, 4], ![false, false, false]⟩

def k0_cond2 (i : grid0.Coords) : BitVec 1 :=
  let arg2 : BitVec 32 := BitVec.ofNat 32 (i 2).val
  let c3_i32 : BitVec 32 := 3#32
  let v21 : BitVec 1 := Scalar.cmpi .eq arg2 c3_i32
  let v22 : BitVec 32 := Scalar.extui v21
  let c0_i32_12 : BitVec 32 := 0#32
  let v23 : BitVec 1 := Scalar.cmpi .ne v22 c0_i32_12
  v23

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1024_i32 : BitVec 32 := 1024#32
  let v0 : BitVec 32 := Scalar.muli arg2 c1024_i32
  let c2048_i32 : BitVec 32 := 2048#32
  let v1 : BitVec 32 := Scalar.divsi v0 c2048_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c2048_i32 c0_i32_1
  let v8 : BitVec 32 := Scalar.extui v7
  let c0_i32_2 : BitVec 32 := 0#32
  let v9 : BitVec 1 := Scalar.cmpi .slt c2048_i32 c0_i32_2
  let v10 : BitVec 32 := Scalar.extui v9
  let v11 : BitVec 32 := Scalar.subi v8 v10
  let v12 : BitVec 1 := Scalar.cmpi .ne v6 v11
  let v13 : BitVec 32 := Scalar.remsi v0 c2048_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let c0_i32_5 : BitVec 32 := 0#32
  ![v17.toNat, c0_i32_4.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, true]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference3Ideal.lean ====
abbrev S4096x4096 : Shape := ⟨2, ![4096, 4096]⟩
abbrev S4096x1024 : Shape := ⟨2, ![4096, 1024]⟩
abbrev S2x1x1024 : Shape := ⟨3, ![2, 1, 1024]⟩
abbrev S_ : Shape := ⟨0, ![]⟩
abbrev S2x2048x4096 : Shape := ⟨3, ![2, 2048, 4096]⟩
abbrev S2x2048x1024 : Shape := ⟨3, ![2, 2048, 1024]⟩
abbrev S1024x4096 : Shape := ⟨2, ![1024, 4096]⟩

abbrev nBuf : Space → Nat
  | .hbm => 21
  | .vmem => 0
  | .smem => 0
  | _ => 0

abbrev bufTy : (tb : Table) → Fin (tcTables nBuf tb) → BufTy
  | .hbm, ⟨0, _⟩ => ⟨S4096x4096, .bf16⟩
  | .hbm, ⟨1, _⟩ => ⟨S4096x1024, .f32⟩
  | .hbm, ⟨2, _⟩ => ⟨S2x1x1024, .f32⟩
  | .hbm, ⟨3, _⟩ => ⟨S_, .f32⟩
  | .hbm, ⟨4, _⟩ => ⟨S4096x1024, .f32⟩
  | .hbm, ⟨5, _⟩ => ⟨S4096x4096, .f32⟩
  | .hbm, ⟨6, _⟩ => ⟨S2x2048x4096, .f32⟩
  | .hbm, ⟨7, _⟩ => ⟨S_, .f32⟩
  | .hbm, ⟨8, _⟩ => ⟨S2x2048x4096, .f32⟩
  | .hbm, ⟨9, _⟩ => ⟨S2x2048x4096, .f32⟩
  | .hbm, ⟨10, _⟩ => ⟨S2x2048x4096, .f32⟩
  | .hbm, ⟨11, _⟩ => ⟨S2x2048x1024, .f32⟩
  | .hbm, ⟨12, _⟩ => ⟨S2x2048x1024, .f32⟩
  | .hbm, ⟨13, _⟩ => ⟨S2x2048x1024, .f32⟩
  | .hbm, ⟨14, _⟩ => ⟨S4096x1024, .f32⟩
  | .hbm, ⟨15, _⟩ => ⟨S2x2048x1024, .f32⟩
  | .hbm, ⟨16, _⟩ => ⟨S2x2048x1024, .f32⟩
  | .hbm, ⟨17, _⟩ => ⟨S2x2048x1024, .f32⟩
  | .hbm, ⟨18, _⟩ => ⟨S1024x4096, .f32⟩
  | .hbm, ⟨19, _⟩ => ⟨S4096x1024, .f32⟩
  | .hbm, ⟨20, _⟩ => ⟨S4096x1024, .bf16⟩
  | _, _ => ⟨S4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_call0_cst : Ref sig .tc := ⟨.hbm, 7, rfl⟩
abbrev main_call0_v0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩

abbrev nD : Nat := 1
abbrev τ : Topo := Topo.v7x

variable {F : FTy → Type} [FloatOps F]
-- ==== Kernel4.lean ====
abbrev S4096x1024 : Shape := ⟨2, ![4096, 1024]⟩
abbrev S4096x4096 : Shape := ⟨2, ![4096, 4096]⟩
abbrev S1024x4096 : Shape := ⟨2, ![1024, 4096]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x1024, .bf16⟩
  | .hbm, ⟨1, _⟩ => ⟨S4096x4096, .bf16⟩
  | .hbm, ⟨2, _⟩ => ⟨S1024x4096, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 4, 4], ![false, false, false]⟩

def k0_cond2 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference4Ideal.lean ====
abbrev S4096x1024 : Shape := ⟨2, ![4096, 1024]⟩
abbrev S4096x4096 : Shape := ⟨2, ![4096, 4096]⟩
abbrev S_ : Shape := ⟨0, ![]⟩
abbrev S1024x4096 : Shape := ⟨2, ![1024, 4096]⟩

abbrev nBuf : Space → Nat
  | .hbm => 10
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x4096, .bf16⟩
  | .hbm, ⟨2, _⟩ => ⟨S_, .f32⟩
  | .hbm, ⟨3, _⟩ => ⟨S1024x4096, .f32⟩
  | .hbm, ⟨4, _⟩ => ⟨S4096x1024, .f32⟩
  | .hbm, ⟨5, _⟩ => ⟨S4096x4096, .f32⟩
  | .hbm, ⟨6, _⟩ => ⟨S4096x4096, .f32⟩
  | .hbm, ⟨7, _⟩ => ⟨S4096x1024, .f32⟩
  | .hbm, ⟨8, _⟩ => ⟨S1024x4096, .f32⟩
  | .hbm, ⟨9, _⟩ => ⟨S1024x4096, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel5.lean ====
abbrev S4096x4096 : Shape := ⟨2, ![4096, 4096]⟩
abbrev S1024x4096 : Shape := ⟨2, ![1024, 4096]⟩
abbrev S4096x1024 : Shape := ⟨2, ![4096, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x4096, .bf16⟩
  | .hbm, ⟨1, _⟩ => ⟨S1024x4096, .bf16⟩
  | .hbm, ⟨2, _⟩ => ⟨S4096x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 1, 4], ![false, false, false]⟩

def k0_cond2 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference5Ideal.lean ====
abbrev S4096x4096 : Shape := ⟨2, ![4096, 4096]⟩
abbrev S1024x4096 : Shape := ⟨2, ![1024, 4096]⟩
abbrev S_ : Shape := ⟨0, ![]⟩
abbrev S4096x1024 : Shape := ⟨2, ![4096, 1024]⟩

abbrev nBuf : Space → Nat
  | .hbm => 8
  | .vmem => 0
  | .smem => 0
  | _ => 0

abbrev bufTy : (tb : Table) → Fin (tcTables nBuf tb) → BufTy
  | .hbm, ⟨0, _⟩ => ⟨S4096x4096, .bf16⟩
  | .hbm, ⟨1, _⟩ => ⟨S1024x4096, .bf16⟩
  | .hbm, ⟨2, _⟩ => ⟨S_, .f32⟩
  | .hbm, ⟨3, _⟩ => ⟨S4096x1024, .f32⟩
  | .hbm, ⟨4, _⟩ => ⟨S1024x4096, .f32⟩
  | .hbm, ⟨5, _⟩ => ⟨S4096x4096, .f32⟩
  | .hbm, ⟨6, _⟩ => ⟨S4096x4096, .f32⟩
  | .hbm, ⟨7, _⟩ => ⟨S4096x1024, .f32⟩
  | _, _ => ⟨S4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel6.lean ====
abbrev S1024x1024 : Shape := ⟨2, ![1024, 1024]⟩
abbrev S2x1x1024 : Shape := ⟨3, ![2, 1, 1024]⟩
abbrev S4096x1024 : Shape := ⟨2, ![4096, 1024]⟩
abbrev S1x1x1024 : Shape := ⟨3, ![1, 1, 1024]⟩
abbrev S1x1024 : Shape := ⟨2, ![1, 1024]⟩

abbrev nBuf : Space → Nat
  | .hbm => 4
  | .vmem => 8
  | .smem => 0
  | _ => 0

abbrev bufTy : (tb : Table) → Fin (tcTables nBuf tb) → BufTy
  | .hbm, ⟨0, _⟩ => ⟨S1024x1024, .bf16⟩
  | .hbm, ⟨1, _⟩ => ⟨S2x1x1024, .f32⟩
  | .hbm, ⟨2, _⟩ => ⟨S4096x1024, .f32⟩
  | .hbm, ⟨3, _⟩ => ⟨S4096x1024, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .bf16⟩
  | .local _ .vmem, ⟨3, _⟩ => ⟨S1x1x1024, .f32⟩
  | .local _ .vmem, ⟨4, _⟩ => ⟨S1x1x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | _, _ => ⟨S1024x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![4, 1, 1], ![false, false, false]⟩

def k0_cond2 (i : grid0.Coords) : BitVec 1 :=
  let arg2 : BitVec 32 := BitVec.ofNat 32 (i 2).val
  let c0_i32_11 : BitVec 32 := 0#32
  let v16 : BitVec 1 := Scalar.cmpi .eq arg2 c0_i32_11
  let v17 : BitVec 32 := Scalar.extui v16
  let c0_i32_12 : BitVec 32 := 0#32
  let v18 : BitVec 1 := Scalar.cmpi .ne v17 c0_i32_12
  v18

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1024_i32 : BitVec 32 := 1024#32
  let v0 : BitVec 32 := Scalar.muli arg0 c1024_i32
  let c2048_i32 : BitVec 32 := 2048#32
  let v1 : BitVec 32 := Scalar.divsi v0 c2048_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c2048_i32 c0_i32_1
  let v8 : BitVec 32 := Scalar.extui v7
  let c0_i32_2 : BitVec 32 := 0#32
  let v9 : BitVec 1 := Scalar.cmpi .slt c2048_i32 c0_i32_2
  let v10 : BitVec 32 := Scalar.extui v9
  let v11 : BitVec 32 := Scalar.subi v8 v10
  let v12 : BitVec 1 := Scalar.cmpi .ne v6 v11
  let v13 : BitVec 32 := Scalar.remsi v0 c2048_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let c0_i32_5 : BitVec 32 := 0#32
  ![v17.toNat, c0_i32_4.toNat, arg2.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, true]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference6Ideal.lean ====
abbrev S1024x1024 : Shape := ⟨2, ![1024, 1024]⟩
abbrev S2x1x1024 : Shape := ⟨3, ![2, 1, 1024]⟩
abbrev S4096x1024 : Shape := ⟨2, ![4096, 1024]⟩
abbrev S_ : Shape := ⟨0, ![]⟩
abbrev S2x2048x1024 : Shape := ⟨3, ![2, 2048, 1024]⟩

abbrev nBuf : Space → Nat
  | .hbm => 14
  | .vmem => 0
  | .smem => 0
  | _ => 0

abbrev bufTy : (tb : Table) → Fin (tcTables nBuf tb) → BufTy
  | .hbm, ⟨0, _⟩ => ⟨S1024x1024, .bf16⟩
  | .hbm, ⟨1, _⟩ => ⟨S2x1x1024, .f32⟩
  | .hbm, ⟨2, _⟩ => ⟨S4096x1024, .f32⟩
  | .hbm, ⟨3, _⟩ => ⟨S_, .f32⟩
  | .hbm, ⟨4, _⟩ => ⟨S2x2048x1024, .f32⟩
  | .hbm, ⟨5, _⟩ => ⟨S1024x1024, .f32⟩
  | .hbm, ⟨6, _⟩ => ⟨S2x2048x1024, .f32⟩
  | .hbm, ⟨7, _⟩ => ⟨S2x2048x1024, .f32⟩
  | .hbm, ⟨8, _⟩ => ⟨S2x2048x1024, .f32⟩
  | .hbm, ⟨9, _⟩ => ⟨S2x2048x1024, .f32⟩
  | .hbm, ⟨10, _⟩ => ⟨S2x2048x1024, .f32⟩
  | .hbm, ⟨11, _⟩ => ⟨S2x2048x1024, .f32⟩
  | .hbm, ⟨12, _⟩ => ⟨S2x2048x1024, .f32⟩
  | .hbm, ⟨13, _⟩ => ⟨S4096x1024, .f32⟩
  | _, _ => ⟨S1024x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩

abbrev nD : Nat := 1
abbrev τ : Topo := Topo.v7x

variable {F : FTy → Type} [FloatOps F]
-- ==== Kernel7.lean ====
abbrev S4096x1024 : Shape := ⟨2, ![4096, 1024]⟩
abbrev S2x1x1024 : Shape := ⟨3, ![2, 1, 1024]⟩
abbrev S1024x1024 : Shape := ⟨2, ![1024, 1024]⟩
abbrev S1x1x1024 : Shape := ⟨3, ![1, 1, 1024]⟩
abbrev S1x1024 : Shape := ⟨2, ![1, 1024]⟩

abbrev nBuf : Space → Nat
  | .hbm => 4
  | .vmem => 8
  | .smem => 0
  | _ => 0

abbrev bufTy : (tb : Table) → Fin (tcTables nBuf tb) → BufTy
  | .hbm, ⟨0, _⟩ => ⟨S4096x1024, .bf16⟩
  | .hbm, ⟨1, _⟩ => ⟨S2x1x1024, .f32⟩
  | .hbm, ⟨2, _⟩ => ⟨S4096x1024, .f32⟩
  | .hbm, ⟨3, _⟩ => ⟨S1024x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .f32⟩
  | .local _ .vmem, ⟨3, _⟩ => ⟨S1024x1024, .f32⟩
  | .local _ .vmem, ⟨4, _⟩ => ⟨S1x1x1024, .f32⟩
  | .local _ .vmem, ⟨5, _⟩ => ⟨S1x1x1024, .f32⟩
  | .local _ .vmem, ⟨6, _⟩ => ⟨S1024x1024, .bf16⟩
  | .local _ .vmem, ⟨7, _⟩ => ⟨S1024x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6

abbrev nD : Nat := 1
abbrev τ : Topo := Topo.v7x

variable {F : FTy → Type} [FloatOps F]

abbrev grid0 : Pipeline.Grid := ⟨3, ![1, 1, 4], ![false, false, false]⟩

def k0_cond2 (i : grid0.Coords) : BitVec 1 :=
  let arg2 : BitVec 32 := BitVec.ofNat 32 (i 2).val
  let c3_i32 : BitVec 32 := 3#32
  let v16 : BitVec 1 := Scalar.cmpi .eq arg2 c3_i32
  let v17 : BitVec 32 := Scalar.extui v16
  let c0_i32_11 : BitVec 32 := 0#32
  let v18 : BitVec 1 := Scalar.cmpi .ne v17 c0_i32_11
  v18

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1024_i32 : BitVec 32 := 1024#32
  let v0 : BitVec 32 := Scalar.muli arg2 c1024_i32
  let c2048_i32 : BitVec 32 := 2048#32
  let v1 : BitVec 32 := Scalar.divsi v0 c2048_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c2048_i32 c0_i32_1
  let v8 : BitVec 32 := Scalar.extui v7
  let c0_i32_2 : BitVec 32 := 0#32
  let v9 : BitVec 1 := Scalar.cmpi .slt c2048_i32 c0_i32_2
  let v10 : BitVec 32 := Scalar.extui v9
  let v11 : BitVec 32 := Scalar.subi v8 v10
  let v12 : BitVec 1 := Scalar.cmpi .ne v6 v11
  let v13 : BitVec 32 := Scalar.remsi v0 c2048_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let c0_i32_5 : BitVec 32 := 0#32
  ![v17.toNat, c0_i32_4.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, true]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, true, false]
-- ==== Reference7Ideal.lean ====
abbrev S4096x1024 : Shape := ⟨2, ![4096, 1024]⟩
abbrev S2x1x1024 : Shape := ⟨3, ![2, 1, 1024]⟩
abbrev S_ : Shape := ⟨0, ![]⟩
abbrev S1024x1024 : Shape := ⟨2, ![1024, 1024]⟩
abbrev S2x2048x1024 : Shape := ⟨3, ![2, 2048, 1024]⟩

abbrev nBuf : Space → Nat
  | .hbm => 16
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S2x1x1024, .f32⟩
  | .hbm, ⟨2, _⟩ => ⟨S4096x1024, .f32⟩
  | .hbm, ⟨3, _⟩ => ⟨S_, .f32⟩
  | .hbm, ⟨4, _⟩ => ⟨S1024x1024, .f32⟩
  | .hbm, ⟨5, _⟩ => ⟨S4096x1024, .f32⟩
  | .hbm, ⟨6, _⟩ => ⟨S2x2048x1024, .f32⟩
  | .hbm, ⟨7, _⟩ => ⟨S2x2048x1024, .f32⟩
  | .hbm, ⟨8, _⟩ => ⟨S2x2048x1024, .f32⟩
  | .hbm, ⟨9, _⟩ => ⟨S2x2048x1024, .f32⟩
  | .hbm, ⟨10, _⟩ => ⟨S2x2048x1024, .f32⟩
  | .hbm, ⟨11, _⟩ => ⟨S2x2048x1024, .f32⟩
  | .hbm, ⟨12, _⟩ => ⟨S2x2048x1024, .f32⟩
  | .hbm, ⟨13, _⟩ => ⟨S1024x1024, .f32⟩
  | .hbm, ⟨14, _⟩ => ⟨S1024x1024, .f32⟩
  | .hbm, ⟨15, _⟩ => ⟨S1024x1024, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩

abbrev nD : Nat := 1
abbrev τ : Topo := Topo.v7x

variable {F : FTy → Type} [FloatOps F]
-- ==== Kernel8.lean ====
abbrev S4096x1024 : Shape := ⟨2, ![4096, 1024]⟩
abbrev S4096x512 : Shape := ⟨2, ![4096, 512]⟩
abbrev S4096x1536 : Shape := ⟨2, ![4096, 1536]⟩
abbrev S4096x128 : Shape := ⟨2, ![4096, 128]⟩
abbrev S1024x3712 : Shape := ⟨2, ![1024, 3712]⟩
abbrev S512x512 : Shape := ⟨2, ![512, 512]⟩
abbrev S512x1536 : Shape := ⟨2, ![512, 1536]⟩
abbrev S512x128 : Shape := ⟨2, ![512, 128]⟩
abbrev S512x3712 : Shape := ⟨2, ![512, 3712]⟩

abbrev nBuf : Space → Nat
  | .hbm => 8
  | .vmem => 17
  | .smem => 0
  | _ => 0

abbrev bufTy : (tb : Table) → Fin (tcTables nBuf tb) → BufTy
  | .hbm, ⟨0, _⟩ => ⟨S4096x1024, .bf16⟩
  | .hbm, ⟨1, _⟩ => ⟨S4096x512, .f32⟩
  | .hbm, ⟨2, _⟩ => ⟨S4096x512, .f32⟩
  | .hbm, ⟨3, _⟩ => ⟨S4096x512, .f32⟩
  | .hbm, ⟨4, _⟩ => ⟨S4096x1536, .f32⟩
  | .hbm, ⟨5, _⟩ => ⟨S4096x512, .f32⟩
  | .hbm, ⟨6, _⟩ => ⟨S4096x128, .f32⟩
  | .hbm, ⟨7, _⟩ => ⟨S1024x3712, .bf16⟩
  | .local _ .vmem, ⟨0, _⟩ => ⟨S512x512, .bf16⟩
  | .local _ .vmem, ⟨1, _⟩ => ⟨S512x512, .bf16⟩
  | .local _ .vmem, ⟨2, _⟩ => ⟨S512x512, .f32⟩
  | .local _ .vmem, ⟨3, _⟩ => ⟨S512x512, .f32⟩
  | .local _ .vmem, ⟨4, _⟩ => ⟨S512x512, .f32⟩
  | .local _ .vmem, ⟨5, _⟩ => ⟨S512x512, .f32⟩
  | .local _ .vmem, ⟨6, _⟩ => ⟨S512x512, .f32⟩
  | .local _ .vmem, ⟨7, _⟩ => ⟨S512x512, .f32⟩
  | .local _ .vmem, ⟨8, _⟩ => ⟨S512x1536, .f32⟩
  | .local _ .vmem, ⟨9, _⟩ => ⟨S512x1536, .f32⟩
  | .local _ .vmem, ⟨10, _⟩ => ⟨S512x512, .f32⟩
  | .local _ .vmem, ⟨11, _⟩ => ⟨S512x512, .f32⟩
  | .local _ .vmem, ⟨12, _⟩ => ⟨S512x128, .f32⟩
  | .local _ .vmem, ⟨13, _⟩ => ⟨S512x128, .f32⟩
  | .local _ .vmem, ⟨14, _⟩ => ⟨S512x3712, .bf16⟩
  | .local _ .vmem, ⟨15, _⟩ => ⟨S512x3712, .bf16⟩
  | .local _ .vmem, ⟨16, _⟩ => ⟨S512x3712, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_scratch0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![2, 8], ![false, false]⟩

def k0_cond2 (i : grid0.Coords) : BitVec 1 :=
  let arg1 : BitVec 32 := BitVec.ofNat 32 (i 1).val
  let c7_i32 : BitVec 32 := 7#32
  let v52 : BitVec 1 := Scalar.cmpi .eq arg1 c7_i32
  let v53 : BitVec 32 := Scalar.extui v52
  let c0_i32_38 : BitVec 32 := 0#32
  let v54 : BitVec 1 := Scalar.cmpi .ne v53 c0_i32_38
  v54

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x1536 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S512x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S512x3712 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]
-- ==== Reference8Ideal.lean ====
abbrev S4096x1024 : Shape := ⟨2, ![4096, 1024]⟩
abbrev S4096x512 : Shape := ⟨2, ![4096, 512]⟩
abbrev S4096x1536 : Shape := ⟨2, ![4096, 1536]⟩
abbrev S4096x128 : Shape := ⟨2, ![4096, 128]⟩
abbrev S_ : Shape := ⟨0, ![]⟩
abbrev S1024x3712 : Shape := ⟨2, ![1024, 3712]⟩
abbrev S4096x3712 : Shape := ⟨2, ![4096, 3712]⟩
abbrev S3712x1024 : Shape := ⟨2, ![3712, 1024]⟩

abbrev nBuf : Space → Nat
  | .hbm => 21
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x512, .f32⟩
  | .hbm, ⟨2, _⟩ => ⟨S4096x512, .f32⟩
  | .hbm, ⟨3, _⟩ => ⟨S4096x512, .f32⟩
  | .hbm, ⟨4, _⟩ => ⟨S4096x1536, .f32⟩
  | .hbm, ⟨5, _⟩ => ⟨S4096x512, .f32⟩
  | .hbm, ⟨6, _⟩ => ⟨S4096x128, .f32⟩
  | .hbm, ⟨7, _⟩ => ⟨S_, .f32⟩
  | .hbm, ⟨8, _⟩ => ⟨S1024x3712, .f32⟩
  | .hbm, ⟨9, _⟩ => ⟨S4096x1024, .f32⟩
  | .hbm, ⟨10, _⟩ => ⟨S4096x3712, .f32⟩
  | .hbm, ⟨11, _⟩ => ⟨S4096x512, .f32⟩
  | .hbm, ⟨12, _⟩ => ⟨S4096x512, .f32⟩
  | .hbm, ⟨13, _⟩ => ⟨S4096x512, .f32⟩
  | .hbm, ⟨14, _⟩ => ⟨S4096x1536, .f32⟩
  | .hbm, ⟨15, _⟩ => ⟨S4096x512, .f32⟩
  | .hbm, ⟨16, _⟩ => ⟨S4096x128, .f32⟩
  | .hbm, ⟨17, _⟩ => ⟨S4096x3712, .f32⟩
  | .hbm, ⟨18, _⟩ => ⟨S3712x1024, .f32⟩
  | .hbm, ⟨19, _⟩ => ⟨S1024x3712, .f32⟩
  | .hbm, ⟨20, _⟩ => ⟨S1024x3712, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩

abbrev nD : Nat := 1
abbrev τ : Topo := Topo.v7x

variable {F : FTy → Type} [FloatOps F]
-- ==== Kernel9.lean ====
abbrev S1024x3712 : Shape := ⟨2, ![1024, 3712]⟩
abbrev S4096x512 : Shape := ⟨2, ![4096, 512]⟩
abbrev S4096x1536 : Shape := ⟨2, ![4096, 1536]⟩
abbrev S4096x128 : Shape := ⟨2, ![4096, 128]⟩
abbrev S4096x1024 : Shape := ⟨2, ![4096, 1024]⟩
abbrev S512x512 : Shape := ⟨2, ![512, 512]⟩
abbrev S512x1536 : Shape := ⟨2, ![512, 1536]⟩
abbrev S512x128 : Shape := ⟨2, ![512, 128]⟩
abbrev S512x1024 : Shape := ⟨2, ![512, 1024]⟩
abbrev S1024x512 : Shape := ⟨2, ![1024, 512]⟩
abbrev S1024x1536 : Shape := ⟨2, ![1024, 1536]⟩
abbrev S1024x128 : Shape := ⟨2, ![1024, 128]⟩

abbrev nBuf : Space → Nat
  | .hbm => 8
  | .vmem => 15
  | .smem => 0
  | _ => 0

abbrev bufTy : (tb : Table) → Fin (tcTables nBuf tb) → BufTy
  | .hbm, ⟨0, _⟩ => ⟨S1024x3712, .bf16⟩
  | .hbm, ⟨1, _⟩ => ⟨S4096x512, .f32⟩
  | .hbm, ⟨2, _⟩ => ⟨S4096x512, .f32⟩
  | .hbm, ⟨3, _⟩ => ⟨S4096x512, .f32⟩
  | .hbm, ⟨4, _⟩ => ⟨S4096x1536, .f32⟩
  | .hbm, ⟨5, _⟩ => ⟨S4096x512, .f32⟩
  | .hbm, ⟨6, _⟩ => ⟨S4096x128, .f32⟩
  | .hbm, ⟨7, _⟩ => ⟨S4096x1024, .f32⟩
  | .local _ .vmem, ⟨0, _⟩ => ⟨S512x512, .f32⟩
  | .local _ .vmem, ⟨1, _⟩ => ⟨S512x512, .f32⟩
  | .local _ .vmem, ⟨2, _⟩ => ⟨S512x512, .f32⟩
  | .local _ .vmem, ⟨3, _⟩ => ⟨S512x512, .f32⟩
  | .local _ .vmem, ⟨4, _⟩ => ⟨S512x512, .f32⟩
  | .local _ .vmem, ⟨5, _⟩ => ⟨S512x512, .f32⟩
  | .local _ .vmem, ⟨6, _⟩ => ⟨S512x1536, .f32⟩
  | .local _ .vmem, ⟨7, _⟩ => ⟨S512x1536, .f32⟩
  | .local _ .vmem, ⟨8, _⟩ => ⟨S512x512, .f32⟩
  | .local _ .vmem, ⟨9, _⟩ => ⟨S512x512, .f32⟩
  | .local _ .vmem, ⟨10, _⟩ => ⟨S512x128, .f32⟩
  | .local _ .vmem, ⟨11, _⟩ => ⟨S512x128, .f32⟩
  | .local _ .vmem, ⟨12, _⟩ => ⟨S1024x3712, .bf16⟩
  | .local _ .vmem, ⟨13, _⟩ => ⟨S512x1024, .f32⟩
  | .local _ .vmem, ⟨14, _⟩ => ⟨S512x1024, .f32⟩
  | _, _ => ⟨S1024x3712, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg7_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem7_1 : DmaSem sig := 14

abbrev nD : Nat := 1
abbrev τ : Topo := Topo.v7x

variable {F : FTy → Type} [FloatOps F]

abbrev grid0 : Pipeline.Grid := ⟨2, ![8, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x1536 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 1 → Memref sig .tc .vmem S1024x3712 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, true]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== Reference9Ideal.lean ====
abbrev S1024x3712 : Shape := ⟨2, ![1024, 3712]⟩
abbrev S4096x512 : Shape := ⟨2, ![4096, 512]⟩
abbrev S4096x1536 : Shape := ⟨2, ![4096, 1536]⟩
abbrev S4096x128 : Shape := ⟨2, ![4096, 128]⟩
abbrev S_ : Shape := ⟨0, ![]⟩
abbrev S4096x1024 : Shape := ⟨2, ![4096, 1024]⟩
abbrev S4096x3712 : Shape := ⟨2, ![4096, 3712]⟩

abbrev nBuf : Space → Nat
  | .hbm => 19
  | .vmem => 0
  | .smem => 0
  | _ => 0

abbrev bufTy : (tb : Table) → Fin (tcTables nBuf tb) → BufTy
  | .hbm, ⟨0, _⟩ => ⟨S1024x3712, .bf16⟩
  | .hbm, ⟨1, _⟩ => ⟨S4096x512, .f32⟩
  | .hbm, ⟨2, _⟩ => ⟨S4096x512, .f32⟩
  | .hbm, ⟨3, _⟩ => ⟨S4096x512, .f32⟩
  | .hbm, ⟨4, _⟩ => ⟨S4096x1536, .f32⟩
  | .hbm, ⟨5, _⟩ => ⟨S4096x512, .f32⟩
  | .hbm, ⟨6, _⟩ => ⟨S4096x128, .f32⟩
  | .hbm, ⟨7, _⟩ => ⟨S_, .f32⟩
  | .hbm, ⟨8, _⟩ => ⟨S4096x1024, .f32⟩
  | .hbm, ⟨9, _⟩ => ⟨S1024x3712, .f32⟩
  | .hbm, ⟨10, _⟩ => ⟨S4096x3712, .f32⟩
  | .hbm, ⟨11, _⟩ => ⟨S4096x512, .f32⟩
  | .hbm, ⟨12, _⟩ => ⟨S4096x512, .f32⟩
  | .hbm, ⟨13, _⟩ => ⟨S4096x512, .f32⟩
  | .hbm, ⟨14, _⟩ => ⟨S4096x1536, .f32⟩
  | .hbm, ⟨15, _⟩ => ⟨S4096x512, .f32⟩
  | .hbm, ⟨16, _⟩ => ⟨S4096x128, .f32⟩
  | .hbm, ⟨17, _⟩ => ⟨S4096x3712, .f32⟩
  | .hbm, ⟨18, _⟩ => ⟨S4096x1024, .f32⟩
  | _, _ => ⟨S1024x3712, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩

abbrev nD : Nat := 1
abbrev τ : Topo := Topo.v7x

variable {F : FTy → Type} [FloatOps F]
-- ==== Kernel10.lean ====
abbrev S4096x1024 : Shape := ⟨2, ![4096, 1024]⟩
abbrev S1024x3712 : Shape := ⟨2, ![1024, 3712]⟩
abbrev S4096x3712 : Shape := ⟨2, ![4096, 3712]⟩
abbrev S256x1024 : Shape := ⟨2, ![256, 1024]⟩
abbrev S256x3712 : Shape := ⟨2, ![256, 3712]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S1024x3712, .bf16⟩
  | .hbm, ⟨2, _⟩ => ⟨S4096x3712, .f32⟩
  | .local _ .vmem, ⟨0, _⟩ => ⟨S256x1024, .bf16⟩
  | .local _ .vmem, ⟨1, _⟩ => ⟨S256x1024, .bf16⟩
  | .local _ .vmem, ⟨2, _⟩ => ⟨S1024x3712, .bf16⟩
  | .local _ .vmem, ⟨3, _⟩ => ⟨S256x3712, .f32⟩
  | .local _ .vmem, ⟨4, _⟩ => ⟨S256x3712, .f32⟩
  | .local _ .vmem, ⟨5, _⟩ => ⟨S256x3712, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![16, 1, 1], ![false, false, false]⟩

def k0_cond2 (i : grid0.Coords) : BitVec 1 :=
  let arg2 : BitVec 32 := BitVec.ofNat 32 (i 2).val
  let c0_i32_8 : BitVec 32 := 0#32
  let v11 : BitVec 1 := Scalar.cmpi .eq arg2 c0_i32_8
  let v12 : BitVec 32 := Scalar.extui v11
  let c0_i32_9 : BitVec 32 := 0#32
  let v13 : BitVec 1 := Scalar.cmpi .ne v12 c0_i32_9
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x3712 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S256x3712 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference10Ideal.lean ====
abbrev S4096x1024 : Shape := ⟨2, ![4096, 1024]⟩
abbrev S1024x3712 : Shape := ⟨2, ![1024, 3712]⟩
abbrev S4096x3712 : Shape := ⟨2, ![4096, 3712]⟩

abbrev nBuf : Space → Nat
  | .hbm => 5
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x3712, .bf16⟩
  | .hbm, ⟨2, _⟩ => ⟨S4096x1024, .f32⟩
  | .hbm, ⟨3, _⟩ => ⟨S1024x3712, .f32⟩
  | .hbm, ⟨4, _⟩ => ⟨S4096x3712, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel11.lean ====
abbrev S4096x1024 : Shape := ⟨2, ![4096, 1024]⟩
abbrev S1024x1024 : Shape := ⟨2, ![1024, 1024]⟩
abbrev S2x1x1024 : Shape := ⟨3, ![2, 1, 1024]⟩
abbrev S1x1x1024 : Shape := ⟨3, ![1, 1, 1024]⟩
abbrev S1x1024 : Shape := ⟨2, ![1, 1024]⟩

abbrev nBuf : Space → Nat
  | .hbm => 6
  | .vmem => 12
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x1024, .f32⟩
  | .hbm, ⟨3, _⟩ => ⟨S2x1x1024, .f32⟩
  | .hbm, ⟨4, _⟩ => ⟨S4096x1024, .bf16⟩
  | .hbm, ⟨5, _⟩ => ⟨S4096x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | .local _ .vmem, ⟨5, _⟩ => ⟨S1x1x1024, .f32⟩
  | .local _ .vmem, ⟨6, _⟩ => ⟨S1x1x1024, .f32⟩
  | .local _ .vmem, ⟨7, _⟩ => ⟨S1024x1024, .bf16⟩
  | .local _ .vmem, ⟨8, _⟩ => ⟨S1024x1024, .bf16⟩
  | .local _ .vmem, ⟨9, _⟩ => ⟨S1024x1024, .f32⟩
  | .local _ .vmem, ⟨10, _⟩ => ⟨S1024x1024, .f32⟩
  | .local _ .vmem, ⟨11, _⟩ => ⟨S1024x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨3, ![4, 1, 1], ![false, false, false]⟩

def k0_cond2 (i : grid0.Coords) : BitVec 1 :=
  let arg2 : BitVec 32 := BitVec.ofNat 32 (i 2).val
  let c0_i32_8 : BitVec 32 := 0#32
  let v11 : BitVec 1 := Scalar.cmpi .eq arg2 c0_i32_8
  let v12 : BitVec 32 := Scalar.extui v11
  let c0_i32_9 : BitVec 32 := 0#32
  let v13 : BitVec 1 := Scalar.cmpi .ne v12 c0_i32_9
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1024_i32 : BitVec 32 := 1024#32
  let v0 : BitVec 32 := Scalar.muli arg0 c1024_i32
  let c2048_i32 : BitVec 32 := 2048#32
  let v1 : BitVec 32 := Scalar.divsi v0 c2048_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c2048_i32 c0_i32_1
  let v8 : BitVec 32 := Scalar.extui v7
  let c0_i32_2 : BitVec 32 := 0#32
  let v9 : BitVec 1 := Scalar.cmpi .slt c2048_i32 c0_i32_2
  let v10 : BitVec 32 := Scalar.extui v9
  let v11 : BitVec 32 := Scalar.subi v8 v10
  let v12 : BitVec 1 := Scalar.cmpi .ne v6 v11
  let v13 : BitVec 32 := Scalar.remsi v0 c2048_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let c0_i32_5 : BitVec 32 := 0#32
  ![v17.toNat, c0_i32_4.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]
-- ==== Reference11Ideal.lean ====
abbrev S4096x1024 : Shape := ⟨2, ![4096, 1024]⟩
abbrev S1024x1024 : Shape := ⟨2, ![1024, 1024]⟩
abbrev S2x1x1024 : Shape := ⟨3, ![2, 1, 1024]⟩
abbrev S2x2048x1024 : Shape := ⟨3, ![2, 2048, 1024]⟩

abbrev nBuf : Space → Nat
  | .hbm => 15
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x1024, .f32⟩
  | .hbm, ⟨3, _⟩ => ⟨S2x1x1024, .f32⟩
  | .hbm, ⟨4, _⟩ => ⟨S4096x1024, .f32⟩
  | .hbm, ⟨5, _⟩ => ⟨S1024x1024, .f32⟩
  | .hbm, ⟨6, _⟩ => ⟨S4096x1024, .f32⟩
  | .hbm, ⟨7, _⟩ => ⟨S2x2048x1024, .f32⟩
  | .hbm, ⟨8, _⟩ => ⟨S4096x1024, .f32⟩
  | .hbm, ⟨9, _⟩ => ⟨S4096x1024, .bf16⟩
  | .hbm, ⟨10, _⟩ => ⟨S2x2048x1024, .f32⟩
  | .hbm, ⟨11, _⟩ => ⟨S2x2048x1024, .f32⟩
  | .hbm, ⟨12, _⟩ => ⟨S2x2048x1024, .f32⟩
  | .hbm, ⟨13, _⟩ => ⟨S2x2048x1024, .f32⟩
  | .hbm, ⟨14, _⟩ => ⟨S4096x1024, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩

abbrev nD : Nat := 1
abbrev τ : Topo := Topo.v7x

variable {F : FTy → Type} [FloatOps F]
-- ==== Kernel12.lean ====
abbrev S4096x1024 : Shape := ⟨2, ![4096, 1024]⟩
abbrev S1024x4096 : Shape := ⟨2, ![1024, 4096]⟩
abbrev S4096x4096 : Shape := ⟨2, ![4096, 4096]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x1024, .bf16⟩
  | .hbm, ⟨1, _⟩ => ⟨S1024x4096, .bf16⟩
  | .hbm, ⟨2, _⟩ => ⟨S4096x4096, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 4, 1], ![false, false, false]⟩

def k0_cond2 (i : grid0.Coords) : BitVec 1 :=
  let arg2 : BitVec 32 := BitVec.ofNat 32 (i 2).val
  let c0_i32_8 : BitVec 32 := 0#32
  let v11 : BitVec 1 := Scalar.cmpi .eq arg2 c0_i32_8
  let v12 : BitVec 32 := Scalar.extui v11
  let c0_i32_9 : BitVec 32 := 0#32
  let v13 : BitVec 1 := Scalar.cmpi .ne v12 c0_i32_9
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference12Ideal.lean ====
abbrev S4096x1024 : Shape := ⟨2, ![4096, 1024]⟩
abbrev S1024x4096 : Shape := ⟨2, ![1024, 4096]⟩
abbrev S4096x4096 : Shape := ⟨2, ![4096, 4096]⟩

abbrev nBuf : Space → Nat
  | .hbm => 6
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x4096, .bf16⟩
  | .hbm, ⟨2, _⟩ => ⟨S4096x1024, .f32⟩
  | .hbm, ⟨3, _⟩ => ⟨S1024x4096, .f32⟩
  | .hbm, ⟨4, _⟩ => ⟨S4096x4096, .f32⟩
  | .hbm, ⟨5, _⟩ => ⟨S4096x4096, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Kernel13.lean ====
abbrev S4096x4096 : Shape := ⟨2, ![4096, 4096]⟩
abbrev S4096x1024 : Shape := ⟨2, ![4096, 1024]⟩
abbrev S2x1x1024 : Shape := ⟨3, ![2, 1, 1024]⟩
abbrev S1024x1024 : Shape := ⟨2, ![1024, 1024]⟩
abbrev S1x1x1024 : Shape := ⟨3, ![1, 1, 1024]⟩
abbrev S1x1024 : Shape := ⟨2, ![1, 1024]⟩

abbrev nBuf : Space → Nat
  | .hbm => 6
  | .vmem => 13
  | .smem => 0
  | _ => 0

abbrev bufTy : (tb : Table) → Fin (tcTables nBuf tb) → BufTy
  | .hbm, ⟨0, _⟩ => ⟨S4096x4096, .bf16⟩
  | .hbm, ⟨1, _⟩ => ⟨S4096x1024, .bf16⟩
  | .hbm, ⟨2, _⟩ => ⟨S4096x1024, .f32⟩
  | .hbm, ⟨3, _⟩ => ⟨S2x1x1024, .f32⟩
  | .hbm, ⟨4, _⟩ => ⟨S4096x1024, .bf16⟩
  | .hbm, ⟨5, _⟩ => ⟨S4096x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | .local _ .vmem, ⟨6, _⟩ => ⟨S1x1x1024, .f32⟩
  | .local _ .vmem, ⟨7, _⟩ => ⟨S1x1x1024, .f32⟩
  | .local _ .vmem, ⟨8, _⟩ => ⟨S1024x1024, .bf16⟩
  | .local _ .vmem, ⟨9, _⟩ => ⟨S1024x1024, .bf16⟩
  | .local _ .vmem, ⟨10, _⟩ => ⟨S1024x1024, .f32⟩
  | .local _ .vmem, ⟨11, _⟩ => ⟨S1024x1024, .f32⟩
  | .local _ .vmem, ⟨12, _⟩ => ⟨S1024x1024, .f32⟩
  | _, _ => ⟨S4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![4, 1, 4], ![false, false, false]⟩

def k0_cond2 (i : grid0.Coords) : BitVec 1 :=
  let arg2 : BitVec 32 := BitVec.ofNat 32 (i 2).val
  let c3_i32 : BitVec 32 := 3#32
  let v16 : BitVec 1 := Scalar.cmpi .eq arg2 c3_i32
  let v17 : BitVec 32 := Scalar.extui v16
  let c0_i32_9 : BitVec 32 := 0#32
  let v18 : BitVec 1 := Scalar.cmpi .ne v17 c0_i32_9
  v18

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1024_i32 : BitVec 32 := 1024#32
  let v0 : BitVec 32 := Scalar.muli arg0 c1024_i32
  let c2048_i32 : BitVec 32 := 2048#32
  let v1 : BitVec 32 := Scalar.divsi v0 c2048_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c2048_i32 c0_i32_1
  let v8 : BitVec 32 := Scalar.extui v7
  let c0_i32_2 : BitVec 32 := 0#32
  let v9 : BitVec 1 := Scalar.cmpi .slt c2048_i32 c0_i32_2
  let v10 : BitVec 32 := Scalar.extui v9
  let v11 : BitVec 32 := Scalar.subi v8 v10
  let v12 : BitVec 1 := Scalar.cmpi .ne v6 v11
  let v13 : BitVec 32 := Scalar.remsi v0 c2048_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let c0_i32_5 : BitVec 32 := 0#32
  ![v17.toNat, c0_i32_4.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]
-- ==== Reference13Ideal.lean ====
abbrev S4096x4096 : Shape := ⟨2, ![4096, 4096]⟩
abbrev S4096x1024 : Shape := ⟨2, ![4096, 1024]⟩
abbrev S2x1x1024 : Shape := ⟨3, ![2, 1, 1024]⟩
abbrev S_ : Shape := ⟨0, ![]⟩
abbrev S2x2048x1024 : Shape := ⟨3, ![2, 2048, 1024]⟩

abbrev nBuf : Space → Nat
  | .hbm => 19
  | .vmem => 0
  | .smem => 0
  | _ => 0

abbrev bufTy : (tb : Table) → Fin (tcTables nBuf tb) → BufTy
  | .hbm, ⟨0, _⟩ => ⟨S4096x4096, .bf16⟩
  | .hbm, ⟨1, _⟩ => ⟨S4096x1024, .bf16⟩
  | .hbm, ⟨2, _⟩ => ⟨S4096x1024, .f32⟩
  | .hbm, ⟨3, _⟩ => ⟨S2x1x1024, .f32⟩
  | .hbm, ⟨4, _⟩ => ⟨S4096x4096, .f32⟩
  | .hbm, ⟨5, _⟩ => ⟨S_, .f32⟩
  | .hbm, ⟨6, _⟩ => ⟨S4096x4096, .f32⟩
  | .hbm, ⟨7, _⟩ => ⟨S4096x4096, .f32⟩
  | .hbm, ⟨8, _⟩ => ⟨S4096x4096, .f32⟩
  | .hbm, ⟨9, _⟩ => ⟨S4096x1024, .f32⟩
  | .hbm, ⟨10, _⟩ => ⟨S4096x1024, .f32⟩
  | .hbm, ⟨11, _⟩ => ⟨S2x2048x1024, .f32⟩
  | .hbm, ⟨12, _⟩ => ⟨S4096x1024, .f32⟩
  | .hbm, ⟨13, _⟩ => ⟨S4096x1024, .bf16⟩
  | .hbm, ⟨14, _⟩ => ⟨S2x2048x1024, .f32⟩
  | .hbm, ⟨15, _⟩ => ⟨S2x2048x1024, .f32⟩
  | .hbm, ⟨16, _⟩ => ⟨S2x2048x1024, .f32⟩
  | .hbm, ⟨17, _⟩ => ⟨S2x2048x1024, .f32⟩
  | .hbm, ⟨18, _⟩ => ⟨S4096x1024, .f32⟩
  | _, _ => ⟨S4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_call0_cst : Ref sig .tc := ⟨.hbm, 5, rfl⟩
abbrev main_call0_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩

abbrev nD : Nat := 1
abbrev τ : Topo := Topo.v7x

variable {F : FTy → Type} [FloatOps F]
-- ==== Kernel14.lean ====
abbrev S4x1024x768 : Shape := ⟨3, ![4, 1024, 768]⟩
abbrev S1x4x1024x768 : Shape := ⟨4, ![1, 4, 1024, 768]⟩
abbrev S1x1x256x768 : Shape := ⟨4, ![1, 1, 256, 768]⟩
abbrev S1x256x768 : Shape := ⟨3, ![1, 256, 768]⟩
abbrev S256x768 : Shape := ⟨2, ![256, 768]⟩

abbrev nBuf : Space → Nat
  | .hbm => 9
  | .vmem => 16
  | .smem => 0
  | _ => 0

abbrev bufTy : (tb : Table) → Fin (tcTables nBuf tb) → BufTy
  | .hbm, ⟨0, _⟩ => ⟨S4x1024x768, .f32⟩
  | .hbm, ⟨1, _⟩ => ⟨S4x1024x768, .f32⟩
  | .hbm, ⟨2, _⟩ => ⟨S4x1024x768, .f32⟩
  | .hbm, ⟨3, _⟩ => ⟨S4x1024x768, .f32⟩
  | .hbm, ⟨4, _⟩ => ⟨S1x4x1024x768, .f32⟩
  | .hbm, ⟨5, _⟩ => ⟨S4x1024x768, .f32⟩
  | .hbm, ⟨6, _⟩ => ⟨S4x1024x768, .f32⟩
  | .hbm, ⟨7, _⟩ => ⟨S4x1024x768, .f32⟩
  | .hbm, ⟨8, _⟩ => ⟨S4x1024x768, .f32⟩
  | .local _ .vmem, ⟨0, _⟩ => ⟨S1x1x256x768, .f32⟩
  | .local _ .vmem, ⟨1, _⟩ => ⟨S1x1x256x768, .f32⟩
  | .local _ .vmem, ⟨2, _⟩ => ⟨S1x256x768, .f32⟩
  | .local _ .vmem, ⟨3, _⟩ => ⟨S1x256x768, .f32⟩
  | .local _ .vmem, ⟨4, _⟩ => ⟨S1x256x768, .f32⟩
  | .local _ .vmem, ⟨5, _⟩ => ⟨S1x256x768, .f32⟩
  | .local _ .vmem, ⟨6, _⟩ => ⟨S1x256x768, .f32⟩
  | .local _ .vmem, ⟨7, _⟩ => ⟨S1x256x768, .f32⟩
  | .local _ .vmem, ⟨8, _⟩ => ⟨S1x256x768, .f32⟩
  | .local _ .vmem, ⟨9, _⟩ => ⟨S1x256x768, .f32⟩
  | .local _ .vmem, ⟨10, _⟩ => ⟨S1x256x768, .f32⟩
  | .local _ .vmem, ⟨11, _⟩ => ⟨S1x256x768, .f32⟩
  | .local _ .vmem, ⟨12, _⟩ => ⟨S1x256x768, .f32⟩
  | .local _ .vmem, ⟨13, _⟩ => ⟨S1x256x768, .f32⟩
  | .local _ .vmem, ⟨14, _⟩ => ⟨S1x256x768, .f32⟩
  | .local _ .vmem, ⟨15, _⟩ => ⟨S1x256x768, .f32⟩
  | _, _ => ⟨S4x1024x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev main_v1_2 : Ref sig .tc := ⟨.hbm, 7, rfl⟩
abbrev main_v1_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![4, 4], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, arg1.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1x256x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x768 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x768 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256x768 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x256x768 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x256x768 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== Reference14Ideal.lean ====
abbrev S4x1024x768 : Shape := ⟨3, ![4, 1024, 768]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S4x1024x768, .f32⟩
  | .hbm, ⟨1, _⟩ => ⟨S4x1024x768, .f32⟩
  | .hbm, ⟨2, _⟩ => ⟨S4x1024x768, .f32⟩
  | .hbm, ⟨3, _⟩ => ⟨S4x1024x768, .f32⟩
  | .hbm, ⟨4, _⟩ => ⟨S_, .f32⟩
  | .hbm, ⟨5, _⟩ => ⟨S4x1024x768, .f32⟩
  | .hbm, ⟨6, _⟩ => ⟨S4x1024x768, .f32⟩
  | .hbm, ⟨7, _⟩ => ⟨S_, .f32⟩
  | .hbm, ⟨8, _⟩ => ⟨S4x1024x768, .f32⟩
  | .hbm, ⟨9, _⟩ => ⟨S4x1024x768, .f32⟩
  | .hbm, ⟨10, _⟩ => ⟨S4x1024x768, .f32⟩
  | .hbm, ⟨11, _⟩ => ⟨S_, .f32⟩
  | .hbm, ⟨12, _⟩ => ⟨S4x1024x768, .f32⟩
  | .hbm, ⟨13, _⟩ => ⟨S4x1024x768, .f32⟩
  | .hbm, ⟨14, _⟩ => ⟨S4x1024x768, .f32⟩
  | .hbm, ⟨15, _⟩ => ⟨S_, .f32⟩
  | .hbm, ⟨16, _⟩ => ⟨S4x1024x768, .f32⟩
  | .hbm, ⟨17, _⟩ => ⟨S4x1024x768, .f32⟩
  | .hbm, ⟨18, _⟩ => ⟨S4x1024x768, .f32⟩
  | .hbm, ⟨19, _⟩ => ⟨S_, .f32⟩
  | .hbm, ⟨20, _⟩ => ⟨S4x1024x768, .f32⟩
  | .hbm, ⟨21, _⟩ => ⟨S4x1024x768, .f32⟩
  | .hbm, ⟨22, _⟩ => ⟨S_, .f32⟩
  | .hbm, ⟨23, _⟩ => ⟨S4x1024x768, .f32⟩
  | .hbm, ⟨24, _⟩ => ⟨S4x1024x768, .f32⟩
  | .hbm, ⟨25, _⟩ => ⟨S4x1024x768, .f32⟩
  | .hbm, ⟨26, _⟩ => ⟨S_, .f32⟩
  | .hbm, ⟨27, _⟩ => ⟨S4x1024x768, .f32⟩
  | .hbm, ⟨28, _⟩ => ⟨S4x1024x768, .f32⟩
  | .hbm, ⟨29, _⟩ => ⟨S4x1024x768, .f32⟩
  | .hbm, ⟨30, _⟩ => ⟨S_, .f32⟩
  | .hbm, ⟨31, _⟩ => ⟨S4x1024x768, .f32⟩
  | .hbm, ⟨32, _⟩ => ⟨S4x1024x768, .f32⟩
  | .hbm, ⟨33, _⟩ => ⟨S4x1024x768, .f32⟩
  | .hbm, ⟨34, _⟩ => ⟨S_, .f32⟩
  | .hbm, ⟨35, _⟩ => ⟨S4x1024x768, .f32⟩
  | .hbm, ⟨36, _⟩ => ⟨S4x1024x768, .f32⟩
  | _, _ => ⟨S4x1024x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel15.lean ====
abbrev S16x4x6144 : Shape := ⟨3, ![16, 4, 6144]⟩
abbrev S4x6144 : Shape := ⟨2, ![4, 6144]⟩
abbrev S16x1x4x6144 : Shape := ⟨4, ![16, 1, 4, 6144]⟩
abbrev S1x4x6144 : Shape := ⟨3, ![1, 4, 6144]⟩
abbrev S1x1x4x6144 : Shape := ⟨4, ![1, 1, 4, 6144]⟩

abbrev nBuf : Space → Nat
  | .hbm => 12
  | .vmem => 8
  | .smem => 0
  | _ => 0

abbrev bufTy : (tb : Table) → Fin (tcTables nBuf tb) → BufTy
  | .hbm, ⟨0, _⟩ => ⟨S16x4x6144, .f32⟩
  | .hbm, ⟨1, _⟩ => ⟨S4x6144, .f32⟩
  | .hbm, ⟨2, _⟩ => ⟨S4x6144, .f32⟩
  | .hbm, ⟨3, _⟩ => ⟨S4x6144, .f32⟩
  | .hbm, ⟨4, _⟩ => ⟨S16x1x4x6144, .f32⟩
  | .hbm, ⟨5, _⟩ => ⟨S1x4x6144, .f32⟩
  | .hbm, ⟨6, _⟩ => ⟨S1x4x6144, .f32⟩
  | .hbm, ⟨7, _⟩ => ⟨S1x4x6144, .f32⟩
  | .hbm, ⟨8, _⟩ => ⟨S1x4x6144, .f32⟩
  | .hbm, ⟨9, _⟩ => ⟨S1x4x6144, .f32⟩
  | .hbm, ⟨10, _⟩ => ⟨S1x4x6144, .f32⟩
  | .hbm, ⟨11, _⟩ => ⟨S1x4x6144, .f32⟩
  | .local _ .vmem, ⟨0, _⟩ => ⟨S16x1x4x6144, .f32⟩
  | .local _ .vmem, ⟨1, _⟩ => ⟨S1x4x6144, .f32⟩
  | .local _ .vmem, ⟨2, _⟩ => ⟨S1x4x6144, .f32⟩
  | .local _ .vmem, ⟨3, _⟩ => ⟨S1x4x6144, .f32⟩
  | .local _ .vmem, ⟨4, _⟩ => ⟨S1x4x6144, .f32⟩
  | .local _ .vmem, ⟨5, _⟩ => ⟨S1x4x6144, .f32⟩
  | .local _ .vmem, ⟨6, _⟩ => ⟨S1x4x6144, .f32⟩
  | .local _ .vmem, ⟨7, _⟩ => ⟨S1x4x6144, .f32⟩
  | _, _ => ⟨S16x4x6144, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev main_v4_3 : Ref sig .tc := ⟨.hbm, 11, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨2, ![1, 1], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, arg1.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 1 → Memref sig .tc .vmem S16x1x4x6144 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, true]

abbrev stage0_1 : Fin 1 → Memref sig .tc .vmem S1x4x6144 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, true]

abbrev stage0_2 : Fin 1 → Memref sig .tc .vmem S1x4x6144 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true]

abbrev stage0_3 : Fin 1 → Memref sig .tc .vmem S1x4x6144 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, true]

abbrev stage0_4 : Fin 1 → Memref sig .tc .vmem S1x4x6144 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, true]

abbrev stage0_5 : Fin 1 → Memref sig .tc .vmem S1x4x6144 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, true]

abbrev stage0_6 : Fin 1 → Memref sig .tc .vmem S1x4x6144 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, true]

abbrev stage0_7 : Fin 1 → Memref sig .tc .vmem S1x4x6144 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true, true]
-- ==== Reference15Ideal.lean ====
abbrev S16x4x6144 : Shape := ⟨3, ![16, 4, 6144]⟩
abbrev S4x6144 : Shape := ⟨2, ![4, 6144]⟩
abbrev S_ : Shape := ⟨0, ![]⟩
abbrev S1x4x6144 : Shape := ⟨3, ![1, 4, 6144]⟩

abbrev nBuf : Space → Nat
  | .hbm => 43
  | .vmem => 0
  | .smem => 0
  | _ => 0

abbrev bufTy : (tb : Table) → Fin (tcTables nBuf tb) → BufTy
  | .hbm, ⟨0, _⟩ => ⟨S16x4x6144, .f32⟩
  | .hbm, ⟨1, _⟩ => ⟨S4x6144, .f32⟩
  | .hbm, ⟨2, _⟩ => ⟨S4x6144, .f32⟩
  | .hbm, ⟨3, _⟩ => ⟨S4x6144, .f32⟩
  | .hbm, ⟨4, _⟩ => ⟨S_, .f32⟩
  | .hbm, ⟨5, _⟩ => ⟨S4x6144, .f32⟩
  | .hbm, ⟨6, _⟩ => ⟨S_, .f32⟩
  | .hbm, ⟨7, _⟩ => ⟨S4x6144, .f32⟩
  | .hbm, ⟨8, _⟩ => ⟨S4x6144, .f32⟩
  | .hbm, ⟨9, _⟩ => ⟨S_, .f32⟩
  | .hbm, ⟨10, _⟩ => ⟨S4x6144, .f32⟩
  | .hbm, ⟨11, _⟩ => ⟨S4x6144, .f32⟩
  | .hbm, ⟨12, _⟩ => ⟨S4x6144, .f32⟩
  | .hbm, ⟨13, _⟩ => ⟨S_, .f32⟩
  | .hbm, ⟨14, _⟩ => ⟨S4x6144, .f32⟩
  | .hbm, ⟨15, _⟩ => ⟨S4x6144, .f32⟩
  | .hbm, ⟨16, _⟩ => ⟨S4x6144, .f32⟩
  | .hbm, ⟨17, _⟩ => ⟨S_, .f32⟩
  | .hbm, ⟨18, _⟩ => ⟨S4x6144, .f32⟩
  | .hbm, ⟨19, _⟩ => ⟨S4x6144, .f32⟩
  | .hbm, ⟨20, _⟩ => ⟨S4x6144, .f32⟩
  | .hbm, ⟨21, _⟩ => ⟨S_, .f32⟩
  | .hbm, ⟨22, _⟩ => ⟨S4x6144, .f32⟩
  | .hbm, ⟨23, _⟩ => ⟨S4x6144, .f32⟩
  | .hbm, ⟨24, _⟩ => ⟨S_, .f32⟩
  | .hbm, ⟨25, _⟩ => ⟨S4x6144, .f32⟩
  | .hbm, ⟨26, _⟩ => ⟨S4x6144, .f32⟩
  | .hbm, ⟨27, _⟩ => ⟨S4x6144, .f32⟩
  | .hbm, ⟨28, _⟩ => ⟨S_, .f32⟩
  | .hbm, ⟨29, _⟩ => ⟨S4x6144, .f32⟩
  | .hbm, ⟨30, _⟩ => ⟨S4x6144, .f32⟩
  | .hbm, ⟨31, _⟩ => ⟨S4x6144, .f32⟩
  | .hbm, ⟨32, _⟩ => ⟨S_, .f32⟩
  | .hbm, ⟨33, _⟩ => ⟨S4x6144, .f32⟩
  | .hbm, ⟨34, _⟩ => ⟨S4x6144, .f32⟩
  | .hbm, ⟨35, _⟩ => ⟨S4x6144, .f32⟩
  | .hbm, ⟨36, _⟩ => ⟨S_, .f32⟩
  | .hbm, ⟨37, _⟩ => ⟨S4x6144, .f32⟩
  | .hbm, ⟨38, _⟩ => ⟨S4x6144, .f32⟩
  | .hbm, ⟨39, _⟩ => ⟨S1x4x6144, .f32⟩
  | .hbm, ⟨40, _⟩ => ⟨S1x4x6144, .f32⟩
  | .hbm, ⟨41, _⟩ => ⟨S1x4x6144, .f32⟩
  | .hbm, ⟨42, _⟩ => ⟨S1x4x6144, .f32⟩
  | _, _ => ⟨S16x4x6144, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_cst_1 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_2 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_3 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_4 : Ref sig .tc := ⟨.hbm, 21, rfl⟩
abbrev main_v12 : Ref sig .tc := ⟨.hbm, 22, rfl⟩
abbrev main_v13 : Ref sig .tc := ⟨.hbm, 23, rfl⟩
abbrev main_cst_5 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_6 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_7 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_8 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩

abbrev nD : Nat := 1
abbrev τ : Topo := Topo.v7x

variable {F : FTy → Type} [FloatOps F]
-- ==== Kernel16.lean ====
abbrev S8x4x4x192 : Shape := ⟨4, ![8, 4, 4, 192]⟩
abbrev S4x4x192 : Shape := ⟨3, ![4, 4, 192]⟩
abbrev S8x1x4x192 : Shape := ⟨4, ![8, 1, 4, 192]⟩
abbrev S1x4x192 : Shape := ⟨3, ![1, 4, 192]⟩
abbrev S1x1x4x192 : Shape := ⟨4, ![1, 1, 4, 192]⟩
abbrev S4x192 : Shape := ⟨2, ![4, 192]⟩

abbrev nBuf : Space → Nat
  | .hbm => 8
  | .vmem => 16
  | .smem => 0
  | _ => 0

abbrev bufTy : (tb : Table) → Fin (tcTables nBuf tb) → BufTy
  | .hbm, ⟨0, _⟩ => ⟨S8x4x4x192, .f32⟩
  | .hbm, ⟨1, _⟩ => ⟨S4x4x192, .f32⟩
  | .hbm, ⟨2, _⟩ => ⟨S4x4x192, .f32⟩
  | .hbm, ⟨3, _⟩ => ⟨S4x4x192, .f32⟩
  | .hbm, ⟨4, _⟩ => ⟨S4x4x192, .f32⟩
  | .hbm, ⟨5, _⟩ => ⟨S4x4x192, .f32⟩
  | .hbm, ⟨6, _⟩ => ⟨S4x4x192, .f32⟩
  | .hbm, ⟨7, _⟩ => ⟨S4x4x192, .f32⟩
  | .local _ .vmem, ⟨0, _⟩ => ⟨S8x1x4x192, .f32⟩
  | .local _ .vmem, ⟨1, _⟩ => ⟨S8x1x4x192, .f32⟩
  | .local _ .vmem, ⟨2, _⟩ => ⟨S1x4x192, .f32⟩
  | .local _ .vmem, ⟨3, _⟩ => ⟨S1x4x192, .f32⟩
  | .local _ .vmem, ⟨4, _⟩ => ⟨S1x4x192, .f32⟩
  | .local _ .vmem, ⟨5, _⟩ => ⟨S1x4x192, .f32⟩
  | .local _ .vmem, ⟨6, _⟩ => ⟨S1x4x192, .f32⟩
  | .local _ .vmem, ⟨7, _⟩ => ⟨S1x4x192, .f32⟩
  | .local _ .vmem, ⟨8, _⟩ => ⟨S1x4x192, .f32⟩
  | .local _ .vmem, ⟨9, _⟩ => ⟨S1x4x192, .f32⟩
  | .local _ .vmem, ⟨10, _⟩ => ⟨S1x4x192, .f32⟩
  | .local _ .vmem, ⟨11, _⟩ => ⟨S1x4x192, .f32⟩
  | .local _ .vmem, ⟨12, _⟩ => ⟨S1x4x192, .f32⟩
  | .local _ .vmem, ⟨13, _⟩ => ⟨S1x4x192, .f32⟩
  | .local _ .vmem, ⟨14, _⟩ => ⟨S1x4x192, .f32⟩
  | .local _ .vmem, ⟨15, _⟩ => ⟨S1x4x192, .f32⟩
  | _, _ => ⟨S8x4x4x192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![4, 1], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, arg1.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S8x1x4x192 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x4x192 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x4x192 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x4x192 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x4x192 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x4x192 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x4x192 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x4x192 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== Reference16Ideal.lean ====
abbrev S8x4x4x192 : Shape := ⟨4, ![8, 4, 4, 192]⟩
abbrev S4x4x192 : Shape := ⟨3, ![4, 4, 192]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S8x4x4x192, .f32⟩
  | .hbm, ⟨1, _⟩ => ⟨S4x4x192, .f32⟩
  | .hbm, ⟨2, _⟩ => ⟨S4x4x192, .f32⟩
  | .hbm, ⟨3, _⟩ => ⟨S4x4x192, .f32⟩
  | .hbm, ⟨4, _⟩ => ⟨S_, .f32⟩
  | .hbm, ⟨5, _⟩ => ⟨S4x4x192, .f32⟩
  | .hbm, ⟨6, _⟩ => ⟨S_, .f32⟩
  | .hbm, ⟨7, _⟩ => ⟨S4x4x192, .f32⟩
  | .hbm, ⟨8, _⟩ => ⟨S4x4x192, .f32⟩
  | .hbm, ⟨9, _⟩ => ⟨S_, .f32⟩
  | .hbm, ⟨10, _⟩ => ⟨S4x4x192, .f32⟩
  | .hbm, ⟨11, _⟩ => ⟨S4x4x192, .f32⟩
  | .hbm, ⟨12, _⟩ => ⟨S4x4x192, .f32⟩
  | .hbm, ⟨13, _⟩ => ⟨S_, .f32⟩
  | .hbm, ⟨14, _⟩ => ⟨S4x4x192, .f32⟩
  | .hbm, ⟨15, _⟩ => ⟨S4x4x192, .f32⟩
  | .hbm, ⟨16, _⟩ => ⟨S4x4x192, .f32⟩
  | .hbm, ⟨17, _⟩ => ⟨S_, .f32⟩
  | .hbm, ⟨18, _⟩ => ⟨S4x4x192, .f32⟩
  | .hbm, ⟨19, _⟩ => ⟨S4x4x192, .f32⟩
  | .hbm, ⟨20, _⟩ => ⟨S4x4x192, .f32⟩
  | .hbm, ⟨21, _⟩ => ⟨S_, .f32⟩
  | .hbm, ⟨22, _⟩ => ⟨S4x4x192, .f32⟩
  | .hbm, ⟨23, _⟩ => ⟨S4x4x192, .f32⟩
  | .hbm, ⟨24, _⟩ => ⟨S_, .f32⟩
  | .hbm, ⟨25, _⟩ => ⟨S4x4x192, .f32⟩
  | .hbm, ⟨26, _⟩ => ⟨S4x4x192, .f32⟩
  | .hbm, ⟨27, _⟩ => ⟨S4x4x192, .f32⟩
  | .hbm, ⟨28, _⟩ => ⟨S_, .f32⟩
  | .hbm, ⟨29, _⟩ => ⟨S4x4x192, .f32⟩
  | .hbm, ⟨30, _⟩ => ⟨S4x4x192, .f32⟩
  | .hbm, ⟨31, _⟩ => ⟨S4x4x192, .f32⟩
  | .hbm, ⟨32, _⟩ => ⟨S_, .f32⟩
  | .hbm, ⟨33, _⟩ => ⟨S4x4x192, .f32⟩
  | .hbm, ⟨34, _⟩ => ⟨S4x4x192, .f32⟩
  | .hbm, ⟨35, _⟩ => ⟨S4x4x192, .f32⟩
  | .hbm, ⟨36, _⟩ => ⟨S_, .f32⟩
  | .hbm, ⟨37, _⟩ => ⟨S4x4x192, .f32⟩
  | .hbm, ⟨38, _⟩ => ⟨S4x4x192, .f32⟩
  | _, _ => ⟨S8x4x4x192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_cst_1 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_2 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_3 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_4 : Ref sig .tc := ⟨.hbm, 21, rfl⟩
abbrev main_v12 : Ref sig .tc := ⟨.hbm, 22, rfl⟩
abbrev main_v13 : Ref sig .tc := ⟨.hbm, 23, rfl⟩
abbrev main_cst_5 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_6 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_7 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_8 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== Kernel17.lean ====
abbrev S8x80x128 : Shape := ⟨3, ![8, 80, 128]⟩
abbrev S80x128 : Shape := ⟨2, ![80, 128]⟩
abbrev S8x1x80x128 : Shape := ⟨4, ![8, 1, 80, 128]⟩
abbrev S1x80x128 : Shape := ⟨3, ![1, 80, 128]⟩
abbrev S1x1x80x128 : Shape := ⟨4, ![1, 1, 80, 128]⟩

abbrev nBuf : Space → Nat
  | .hbm => 12
  | .vmem => 8
  | .smem => 0
  | _ => 0

abbrev bufTy : (tb : Table) → Fin (tcTables nBuf tb) → BufTy
  | .hbm, ⟨0, _⟩ => ⟨S8x80x128, .f32⟩
  | .hbm, ⟨1, _⟩ => ⟨S80x128, .f32⟩
  | .hbm, ⟨2, _⟩ => ⟨S80x128, .f32⟩
  | .hbm, ⟨3, _⟩ => ⟨S80x128, .f32⟩
  | .hbm, ⟨4, _⟩ => ⟨S8x1x80x128, .f32⟩
  | .hbm, ⟨5, _⟩ => ⟨S1x80x128, .f32⟩
  | .hbm, ⟨6, _⟩ => ⟨S1x80x128, .f32⟩
  | .hbm, ⟨7, _⟩ => ⟨S1x80x128, .f32⟩
  | .hbm, ⟨8, _⟩ => ⟨S1x80x128, .f32⟩
  | .hbm, ⟨9, _⟩ => ⟨S1x80x128, .f32⟩
  | .hbm, ⟨10, _⟩ => ⟨S1x80x128, .f32⟩
  | .hbm, ⟨11, _⟩ => ⟨S1x80x128, .f32⟩
  | .local _ .vmem, ⟨0, _⟩ => ⟨S8x1x80x128, .f32⟩
  | .local _ .vmem, ⟨1, _⟩ => ⟨S1x80x128, .f32⟩
  | .local _ .vmem, ⟨2, _⟩ => ⟨S1x80x128, .f32⟩
  | .local _ .vmem, ⟨3, _⟩ => ⟨S1x80x128, .f32⟩
  | .local _ .vmem, ⟨4, _⟩ => ⟨S1x80x128, .f32⟩
  | .local _ .vmem, ⟨5, _⟩ => ⟨S1x80x128, .f32⟩
  | .local _ .vmem, ⟨6, _⟩ => ⟨S1x80x128, .f32⟩
  | .local _ .vmem, ⟨7, _⟩ => ⟨S1x80x128, .f32⟩
  | _, _ => ⟨S8x80x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev main_v4_3 : Ref sig .tc := ⟨.hbm, 11, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨2, ![1, 1], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, arg1.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 1 → Memref sig .tc .vmem S8x1x80x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, true]

abbrev stage0_1 : Fin 1 → Memref sig .tc .vmem S1x80x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, true]

abbrev stage0_2 : Fin 1 → Memref sig .tc .vmem S1x80x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true]

abbrev stage0_3 : Fin 1 → Memref sig .tc .vmem S1x80x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, true]

abbrev stage0_4 : Fin 1 → Memref sig .tc .vmem S1x80x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, true]

abbrev stage0_5 : Fin 1 → Memref sig .tc .vmem S1x80x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, true]

abbrev stage0_6 : Fin 1 → Memref sig .tc .vmem S1x80x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, true]

abbrev stage0_7 : Fin 1 → Memref sig .tc .vmem S1x80x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true, true]
-- ==== Reference17Ideal.lean ====
abbrev S8x80x128 : Shape := ⟨3, ![8, 80, 128]⟩
abbrev S80x128 : Shape := ⟨2, ![80, 128]⟩
abbrev S_ : Shape := ⟨0, ![]⟩
abbrev S1x80x128 : Shape := ⟨3, ![1, 80, 128]⟩

abbrev nBuf : Space → Nat
  | .hbm => 43
  | .vmem => 0
  | .smem => 0
  | _ => 0

abbrev bufTy : (tb : Table) → Fin (tcTables nBuf tb) → BufTy
  | .hbm, ⟨0, _⟩ => ⟨S8x80x128, .f32⟩
  | .hbm, ⟨1, _⟩ => ⟨S80x128, .f32⟩
  | .hbm, ⟨2, _⟩ => ⟨S80x128, .f32⟩
  | .hbm, ⟨3, _⟩ => ⟨S80x128, .f32⟩
  | .hbm, ⟨4, _⟩ => ⟨S_, .f32⟩
  | .hbm, ⟨5, _⟩ => ⟨S80x128, .f32⟩
  | .hbm, ⟨6, _⟩ => ⟨S_, .f32⟩
  | .hbm, ⟨7, _⟩ => ⟨S80x128, .f32⟩
  | .hbm, ⟨8, _⟩ => ⟨S80x128, .f32⟩
  | .hbm, ⟨9, _⟩ => ⟨S_, .f32⟩
  | .hbm, ⟨10, _⟩ => ⟨S80x128, .f32⟩
  | .hbm, ⟨11, _⟩ => ⟨S80x128, .f32⟩
  | .hbm, ⟨12, _⟩ => ⟨S80x128, .f32⟩
  | .hbm, ⟨13, _⟩ => ⟨S_, .f32⟩
  | .hbm, ⟨14, _⟩ => ⟨S80x128, .f32⟩
  | .hbm, ⟨15, _⟩ => ⟨S80x128, .f32⟩
  | .hbm, ⟨16, _⟩ => ⟨S80x128, .f32⟩
  | .hbm, ⟨17, _⟩ => ⟨S_, .f32⟩
  | .hbm, ⟨18, _⟩ => ⟨S80x128, .f32⟩
  | .hbm, ⟨19, _⟩ => ⟨S80x128, .f32⟩
  | .hbm, ⟨20, _⟩ => ⟨S80x128, .f32⟩
  | .hbm, ⟨21, _⟩ => ⟨S_, .f32⟩
  | .hbm, ⟨22, _⟩ => ⟨S80x128, .f32⟩
  | .hbm, ⟨23, _⟩ => ⟨S80x128, .f32⟩
  | .hbm, ⟨24, _⟩ => ⟨S_, .f32⟩
  | .hbm, ⟨25, _⟩ => ⟨S80x128, .f32⟩
  | .hbm, ⟨26, _⟩ => ⟨S80x128, .f32⟩
  | .hbm, ⟨27, _⟩ => ⟨S80x128, .f32⟩
  | .hbm, ⟨28, _⟩ => ⟨S_, .f32⟩
  | .hbm, ⟨29, _⟩ => ⟨S80x128, .f32⟩
  | .hbm, ⟨30, _⟩ => ⟨S80x128, .f32⟩
  | .hbm, ⟨31, _⟩ => ⟨S80x128, .f32⟩
  | .hbm, ⟨32, _⟩ => ⟨S_, .f32⟩
  | .hbm, ⟨33, _⟩ => ⟨S80x128, .f32⟩
  | .hbm, ⟨34, _⟩ => ⟨S80x128, .f32⟩
  | .hbm, ⟨35, _⟩ => ⟨S80x128, .f32⟩
  | .hbm, ⟨36, _⟩ => ⟨S_, .f32⟩
  | .hbm, ⟨37, _⟩ => ⟨S80x128, .f32⟩
  | .hbm, ⟨38, _⟩ => ⟨S80x128, .f32⟩
  | .hbm, ⟨39, _⟩ => ⟨S1x80x128, .f32⟩
  | .hbm, ⟨40, _⟩ => ⟨S1x80x128, .f32⟩
  | .hbm, ⟨41, _⟩ => ⟨S1x80x128, .f32⟩
  | .hbm, ⟨42, _⟩ => ⟨S1x80x128, .f32⟩
  | _, _ => ⟨S8x80x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_cst_1 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_2 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_3 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_4 : Ref sig .tc := ⟨.hbm, 21, rfl⟩
abbrev main_v12 : Ref sig .tc := ⟨.hbm, 22, rfl⟩
abbrev main_v13 : Ref sig .tc := ⟨.hbm, 23, rfl⟩
abbrev main_cst_5 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_6 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_7 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_8 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩

abbrev nD : Nat := 1
abbrev τ : Topo := Topo.v7x

variable {F : FTy → Type} [FloatOps F]
-- ==== Kernel18.lean ====
abbrev S8x1024x449 : Shape := ⟨3, ![8, 1024, 449]⟩
abbrev S4x1024x449 : Shape := ⟨3, ![4, 1024, 449]⟩
abbrev S8x256x449 : Shape := ⟨3, ![8, 256, 449]⟩
abbrev S1x256x449 : Shape := ⟨3, ![1, 256, 449]⟩
abbrev S256x449 : Shape := ⟨2, ![256, 449]⟩

abbrev nBuf : Space → Nat
  | .hbm => 11
  | .vmem => 22
  | .smem => 0
  | _ => 0

abbrev bufTy : (tb : Table) → Fin (tcTables nBuf tb) → BufTy
  | .hbm, ⟨0, _⟩ => ⟨S8x1024x449, .bf16⟩
  | .hbm, ⟨1, _⟩ => ⟨S8x1024x449, .bf16⟩
  | .hbm, ⟨2, _⟩ => ⟨S8x1024x449, .bf16⟩
  | .hbm, ⟨3, _⟩ => ⟨S8x1024x449, .bf16⟩
  | .hbm, ⟨4, _⟩ => ⟨S4x1024x449, .f32⟩
  | .hbm, ⟨5, _⟩ => ⟨S4x1024x449, .f32⟩
  | .hbm, ⟨6, _⟩ => ⟨S4x1024x449, .f32⟩
  | .hbm, ⟨7, _⟩ => ⟨S4x1024x449, .f32⟩
  | .hbm, ⟨8, _⟩ => ⟨S4x1024x449, .f32⟩
  | .hbm, ⟨9, _⟩ => ⟨S4x1024x449, .f32⟩
  | .hbm, ⟨10, _⟩ => ⟨S4x1024x449, .f32⟩
  | .local _ .vmem, ⟨0, _⟩ => ⟨S8x256x449, .bf16⟩
  | .local _ .vmem, ⟨1, _⟩ => ⟨S8x256x449, .bf16⟩
  | .local _ .vmem, ⟨2, _⟩ => ⟨S8x256x449, .bf16⟩
  | .local _ .vmem, ⟨3, _⟩ => ⟨S8x256x449, .bf16⟩
  | .local _ .vmem, ⟨4, _⟩ => ⟨S8x256x449, .bf16⟩
  | .local _ .vmem, ⟨5, _⟩ => ⟨S8x256x449, .bf16⟩
  | .local _ .vmem, ⟨6, _⟩ => ⟨S8x256x449, .bf16⟩
  | .local _ .vmem, ⟨7, _⟩ => ⟨S8x256x449, .bf16⟩
  | .local _ .vmem, ⟨8, _⟩ => ⟨S1x256x449, .f32⟩
  | .local _ .vmem, ⟨9, _⟩ => ⟨S1x256x449, .f32⟩
  | .local _ .vmem, ⟨10, _⟩ => ⟨S1x256x449, .f32⟩
  | .local _ .vmem, ⟨11, _⟩ => ⟨S1x256x449, .f32⟩
  | .local _ .vmem, ⟨12, _⟩ => ⟨S1x256x449, .f32⟩
  | .local _ .vmem, ⟨13, _⟩ => ⟨S1x256x449, .f32⟩
  | .local _ .vmem, ⟨14, _⟩ => ⟨S1x256x449, .f32⟩
  | .local _ .vmem, ⟨15, _⟩ => ⟨S1x256x449, .f32⟩
  | .local _ .vmem, ⟨16, _⟩ => ⟨S1x256x449, .f32⟩
  | .local _ .vmem, ⟨17, _⟩ => ⟨S1x256x449, .f32⟩
  | .local _ .vmem, ⟨18, _⟩ => ⟨S1x256x449, .f32⟩
  | .local _ .vmem, ⟨19, _⟩ => ⟨S1x256x449, .f32⟩
  | .local _ .vmem, ⟨20, _⟩ => ⟨S1x256x449, .f32⟩
  | .local _ .vmem, ⟨21, _⟩ => ⟨S1x256x449, .f32⟩
  | _, _ => ⟨S8x1024x449, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev main_v0_2 : Ref sig .tc := ⟨.hbm, 9, rfl⟩
abbrev main_v0_3 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21

abbrev nD : Nat := 1
abbrev τ : Topo := Topo.v7x

variable {F : FTy → Type} [FloatOps F]

abbrev grid0 : Pipeline.Grid := ⟨2, ![4, 4], ![false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg0 : BitVec 32 := BitVec.ofNat 32 (i 0).val
  let c1_i32 : BitVec 32 := 1#32
  let v3 : BitVec 1 := Scalar.cmpi .eq arg0 c1_i32
  let v4 : BitVec 32 := Scalar.extui v3
  let c0_i32_1 : BitVec 32 := 0#32
  let v5 : BitVec 1 := Scalar.cmpi .ne v4 c0_i32_1
  v5

def k0_cond3 (i : grid0.Coords) : BitVec 1 :=
  let arg0 : BitVec 32 := BitVec.ofNat 32 (i 0).val
  let c2_i32 : BitVec 32 := 2#32
  let v6 : BitVec 1 := Scalar.cmpi .eq arg0 c2_i32
  let v7 : BitVec 32 := Scalar.extui v6
  let c0_i32_2 : BitVec 32 := 0#32
  let v8 : BitVec 1 := Scalar.cmpi .ne v7 c0_i32_2
  v8

def k0_cond4 (i : grid0.Coords) : BitVec 1 :=
  let arg0 : BitVec 32 := BitVec.ofNat 32 (i 0).val
  let c3_i32 : BitVec 32 := 3#32
  let v9 : BitVec 1 := Scalar.cmpi .eq arg0 c3_i32
  let v10 : BitVec 32 := Scalar.extui v9
  let c0_i32_3 : BitVec 32 := 0#32
  let v11 : BitVec 1 := Scalar.cmpi .ne v10 c0_i32_3
  v11

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 32 := Scalar.select v0 arg1 c0_i32_0
  let c0_i32_1 : BitVec 32 := 0#32
  let c0_i32_2 : BitVec 32 := 0#32
  let c0_i32_3 : BitVec 32 := 0#32
  ![c0_i32_1.toNat, v1.toNat, c0_i32_2.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 1 := Scalar.cmpi .eq arg0 c1_i32
  let c0_i32 : BitVec 32 := 0#32
  let v1 : BitVec 32 := Scalar.select v0 arg1 c0_i32
  let c0_i32_0 : BitVec 32 := 0#32
  let c0_i32_1 : BitVec 32 := 0#32
  let c0_i32_2 : BitVec 32 := 0#32
  ![c0_i32_0.toNat, v1.toNat, c0_i32_1.toNat]

def cc0_transform_2 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 1 := Scalar.cmpi .eq arg0 c2_i32
  let c0_i32 : BitVec 32 := 0#32
  let v1 : BitVec 32 := Scalar.select v0 arg1 c0_i32
  let c0_i32_0 : BitVec 32 := 0#32
  let c0_i32_1 : BitVec 32 := 0#32
  let c0_i32_2 : BitVec 32 := 0#32
  ![c0_i32_0.toNat, v1.toNat, c0_i32_1.toNat]

def cc0_transform_3 (i : grid0.Coords) : Fin 3 → Nat :=
  let arg0 : BitVec 32 := BitVec.ofNat 32 (i 0).val
  let arg1 : BitVec 32 := BitVec.ofNat 32 (i 1).val
  let c3_i32 : BitVec 32 := 3#32
  let v0 : BitVec 1 := Scalar.cmpi .eq arg0 c3_i32
  let c0_i32 : BitVec 32 := 0#32
  let v1 : BitVec 32 := Scalar.select v0 arg1 c0_i32
  let c0_i32_0 : BitVec 32 := 0#32
  let c0_i32_1 : BitVec 32 := 0#32
  let c0_i32_2 : BitVec 32 := 0#32
  ![c0_i32_0.toNat, v1.toNat, c0_i32_1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S8x256x449 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x256x449 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S8x256x449 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S8x256x449 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x449 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256x449 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x256x449 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x256x449 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x256x449 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x256x449 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x256x449 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== Reference18Ideal.lean ====
abbrev S8x1024x449 : Shape := ⟨3, ![8, 1024, 449]⟩
abbrev S4x1024x449 : Shape := ⟨3, ![4, 1024, 449]⟩
abbrev S8x1x1024x449 : Shape := ⟨4, ![8, 1, 1024, 449]⟩
abbrev S8x4x1024x449 : Shape := ⟨4, ![8, 4, 1024, 449]⟩
abbrev S_ : Shape := ⟨0, ![]⟩

abbrev nBuf : Space → Nat
  | .hbm => 48
  | .vmem => 0
  | .smem => 0
  | _ => 0

abbrev bufTy : (tb : Table) → Fin (tcTables nBuf tb) → BufTy
  | .hbm, ⟨0, _⟩ => ⟨S8x1024x449, .bf16⟩
  | .hbm, ⟨1, _⟩ => ⟨S8x1024x449, .bf16⟩
  | .hbm, ⟨2, _⟩ => ⟨S8x1024x449, .bf16⟩
  | .hbm, ⟨3, _⟩ => ⟨S8x1024x449, .bf16⟩
  | .hbm, ⟨4, _⟩ => ⟨S4x1024x449, .f32⟩
  | .hbm, ⟨5, _⟩ => ⟨S4x1024x449, .f32⟩
  | .hbm, ⟨6, _⟩ => ⟨S4x1024x449, .f32⟩
  | .hbm, ⟨7, _⟩ => ⟨S8x1x1024x449, .bf16⟩
  | .hbm, ⟨8, _⟩ => ⟨S8x1x1024x449, .bf16⟩
  | .hbm, ⟨9, _⟩ => ⟨S8x1x1024x449, .bf16⟩
  | .hbm, ⟨10, _⟩ => ⟨S8x1x1024x449, .bf16⟩
  | .hbm, ⟨11, _⟩ => ⟨S8x4x1024x449, .bf16⟩
  | .hbm, ⟨12, _⟩ => ⟨S8x4x1024x449, .f32⟩
  | .hbm, ⟨13, _⟩ => ⟨S_, .f32⟩
  | .hbm, ⟨14, _⟩ => ⟨S4x1024x449, .f32⟩
  | .hbm, ⟨15, _⟩ => ⟨S_, .f32⟩
  | .hbm, ⟨16, _⟩ => ⟨S4x1024x449, .f32⟩
  | .hbm, ⟨17, _⟩ => ⟨S4x1024x449, .f32⟩
  | .hbm, ⟨18, _⟩ => ⟨S_, .f32⟩
  | .hbm, ⟨19, _⟩ => ⟨S4x1024x449, .f32⟩
  | .hbm, ⟨20, _⟩ => ⟨S4x1024x449, .f32⟩
  | .hbm, ⟨21, _⟩ => ⟨S4x1024x449, .f32⟩
  | .hbm, ⟨22, _⟩ => ⟨S_, .f32⟩
  | .hbm, ⟨23, _⟩ => ⟨S4x1024x449, .f32⟩
  | .hbm, ⟨24, _⟩ => ⟨S4x1024x449, .f32⟩
  | .hbm, ⟨25, _⟩ => ⟨S4x1024x449, .f32⟩
  | .hbm, ⟨26, _⟩ => ⟨S_, .f32⟩
  | .hbm, ⟨27, _⟩ => ⟨S4x1024x449, .f32⟩
  | .hbm, ⟨28, _⟩ => ⟨S4x1024x449, .f32⟩
  | .hbm, ⟨29, _⟩ => ⟨S4x1024x449, .f32⟩
  | .hbm, ⟨30, _⟩ => ⟨S_, .f32⟩
  | .hbm, ⟨31, _⟩ => ⟨S4x1024x449, .f32⟩
  | .hbm, ⟨32, _⟩ => ⟨S4x1024x449, .f32⟩
  | .hbm, ⟨33, _⟩ => ⟨S_, .f32⟩
  | .hbm, ⟨34, _⟩ => ⟨S4x1024x449, .f32⟩
  | .hbm, ⟨35, _⟩ => ⟨S4x1024x449, .f32⟩
  | .hbm, ⟨36, _⟩ => ⟨S4x1024x449, .f32⟩
  | .hbm, ⟨37, _⟩ => ⟨S_, .f32⟩
  | .hbm, ⟨38, _⟩ => ⟨S4x1024x449, .f32⟩
  | .hbm, ⟨39, _⟩ => ⟨S4x1024x449, .f32⟩
  | .hbm, ⟨40, _⟩ => ⟨S4x1024x449, .f32⟩
  | .hbm, ⟨41, _⟩ => ⟨S_, .f32⟩
  | .hbm, ⟨42, _⟩ => ⟨S4x1024x449, .f32⟩
  | .hbm, ⟨43, _⟩ => ⟨S4x1024x449, .f32⟩
  | .hbm, ⟨44, _⟩ => ⟨S4x1024x449, .f32⟩
  | .hbm, ⟨45, _⟩ => ⟨S_, .f32⟩
  | .hbm, ⟨46, _⟩ => ⟨S4x1024x449, .f32⟩
  | .hbm, ⟨47, _⟩ => ⟨S4x1024x449, .f32⟩
  | _, _ => ⟨S8x1024x449, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst : Ref sig .tc := ⟨.hbm, 13, rfl⟩
abbrev main_v6 : Ref sig .tc := ⟨.hbm, 14, rfl⟩
abbrev main_cst_0 : Ref sig .tc := ⟨.hbm, 15, rfl⟩
abbrev main_v7 : Ref sig .tc := ⟨.hbm, 16, rfl⟩
abbrev main_v8 : Ref sig .tc := ⟨.hbm, 17, rfl⟩
abbrev main_cst_1 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_cst_2 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_cst_3 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_cst_4 : Ref sig .tc := ⟨.hbm, 30, rfl⟩
abbrev main_v18 : Ref sig .tc := ⟨.hbm, 31, rfl⟩
abbrev main_v19 : Ref sig .tc := ⟨.hbm, 32, rfl⟩
abbrev main_cst_5 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_cst_6 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_cst_7 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_cst_8 : Ref sig .tc := ⟨.hbm, 45, rfl⟩
abbrev main_v29 : Ref sig .tc := ⟨.hbm, 46, rfl⟩
abbrev main_v30 : Ref sig .tc := ⟨.hbm, 47, rfl⟩

abbrev nD : Nat := 1
abbrev τ : Topo := Topo.v7x

variable {F : FTy → Type} [FloatOps F]
-- ==== Kernel19.lean ====
abbrev S8x128x1024 : Shape := ⟨3, ![8, 128, 1024]⟩
abbrev S4x128x1024 : Shape := ⟨3, ![4, 128, 1024]⟩
abbrev S1x128x1024 : Shape := ⟨3, ![1, 128, 1024]⟩
abbrev S128x1024 : Shape := ⟨2, ![128, 1024]⟩

abbrev nBuf : Space → Nat
  | .hbm => 11
  | .vmem => 22
  | .smem => 0
  | _ => 0

abbrev bufTy : (tb : Table) → Fin (tcTables nBuf tb) → BufTy
  | .hbm, ⟨0, _⟩ => ⟨S8x128x1024, .bf16⟩
  | .hbm, ⟨1, _⟩ => ⟨S8x128x1024, .bf16⟩
  | .hbm, ⟨2, _⟩ => ⟨S8x128x1024, .bf16⟩
  | .hbm, ⟨3, _⟩ => ⟨S8x128x1024, .bf16⟩
  | .hbm, ⟨4, _⟩ => ⟨S4x128x1024, .f32⟩
  | .hbm, ⟨5, _⟩ => ⟨S4x128x1024, .f32⟩
  | .hbm, ⟨6, _⟩ => ⟨S4x128x1024, .f32⟩
  | .hbm, ⟨7, _⟩ => ⟨S4x128x1024, .f32⟩
  | .hbm, ⟨8, _⟩ => ⟨S4x128x1024, .f32⟩
  | .hbm, ⟨9, _⟩ => ⟨S4x128x1024, .f32⟩
  | .hbm, ⟨10, _⟩ => ⟨S4x128x1024, .f32⟩
  | .local _ .vmem, ⟨0, _⟩ => ⟨S8x128x1024, .bf16⟩
  | .local _ .vmem, ⟨1, _⟩ => ⟨S8x128x1024, .bf16⟩
  | .local _ .vmem, ⟨2, _⟩ => ⟨S8x128x1024, .bf16⟩
  | .local _ .vmem, ⟨3, _⟩ => ⟨S8x128x1024, .bf16⟩
  | .local _ .vmem, ⟨4, _⟩ => ⟨S8x128x1024, .bf16⟩
  | .local _ .vmem, ⟨5, _⟩ => ⟨S8x128x1024, .bf16⟩
  | .local _ .vmem, ⟨6, _⟩ => ⟨S8x128x1024, .bf16⟩
  | .local _ .vmem, ⟨7, _⟩ => ⟨S8x128x1024, .bf16⟩
  | .local _ .vmem, ⟨8, _⟩ => ⟨S1x128x1024, .f32⟩
  | .local _ .vmem, ⟨9, _⟩ => ⟨S1x128x1024, .f32⟩
  | .local _ .vmem, ⟨10, _⟩ => ⟨S1x128x1024, .f32⟩
  | .local _ .vmem, ⟨11, _⟩ => ⟨S1x128x1024, .f32⟩
  | .local _ .vmem, ⟨12, _⟩ => ⟨S1x128x1024, .f32⟩
  | .local _ .vmem, ⟨13, _⟩ => ⟨S1x128x1024, .f32⟩
  | .local _ .vmem, ⟨14, _⟩ => ⟨S1x128x1024, .f32⟩
  | .local _ .vmem, ⟨15, _⟩ => ⟨S1x128x1024, .f32⟩
  | .local _ .vmem, ⟨16, _⟩ => ⟨S1x128x1024, .f32⟩
  | .local _ .vmem, ⟨17, _⟩ => ⟨S1x128x1024, .f32⟩
  | .local _ .vmem, ⟨18, _⟩ => ⟨S1x128x1024, .f32⟩
  | .local _ .vmem, ⟨19, _⟩ => ⟨S1x128x1024, .f32⟩
  | .local _ .vmem, ⟨20, _⟩ => ⟨S1x128x1024, .f32⟩
  | .local _ .vmem, ⟨21, _⟩ => ⟨S1x128x1024, .f32⟩
  | _, _ => ⟨S8x128x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev main_v0_2 : Ref sig .tc := ⟨.hbm, 9, rfl⟩
abbrev main_v0_3 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21

abbrev nD : Nat := 1
abbrev τ : Topo := Topo.v7x

variable {F : FTy → Type} [FloatOps F]

abbrev grid0 : Pipeline.Grid := ⟨2, ![4, 1], ![false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg0 : BitVec 32 := BitVec.ofNat 32 (i 0).val
  let c1_i32 : BitVec 32 := 1#32
  let v3 : BitVec 1 := Scalar.cmpi .eq arg0 c1_i32
  let v4 : BitVec 32 := Scalar.extui v3
  let c0_i32_1 : BitVec 32 := 0#32
  let v5 : BitVec 1 := Scalar.cmpi .ne v4 c0_i32_1
  v5

def k0_cond3 (i : grid0.Coords) : BitVec 1 :=
  let arg0 : BitVec 32 := BitVec.ofNat 32 (i 0).val
  let c2_i32 : BitVec 32 := 2#32
  let v6 : BitVec 1 := Scalar.cmpi .eq arg0 c2_i32
  let v7 : BitVec 32 := Scalar.extui v6
  let c0_i32_2 : BitVec 32 := 0#32
  let v8 : BitVec 1 := Scalar.cmpi .ne v7 c0_i32_2
  v8

def k0_cond4 (i : grid0.Coords) : BitVec 1 :=
  let arg0 : BitVec 32 := BitVec.ofNat 32 (i 0).val
  let c3_i32 : BitVec 32 := 3#32
  let v9 : BitVec 1 := Scalar.cmpi .eq arg0 c3_i32
  let v10 : BitVec 32 := Scalar.extui v9
  let c0_i32_3 : BitVec 32 := 0#32
  let v11 : BitVec 1 := Scalar.cmpi .ne v10 c0_i32_3
  v11

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 32 := Scalar.select v0 arg1 c0_i32_0
  let c0_i32_1 : BitVec 32 := 0#32
  let c0_i32_2 : BitVec 32 := 0#32
  let c0_i32_3 : BitVec 32 := 0#32
  ![c0_i32_1.toNat, v1.toNat, c0_i32_2.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 1 := Scalar.cmpi .eq arg0 c1_i32
  let c0_i32 : BitVec 32 := 0#32
  let v1 : BitVec 32 := Scalar.select v0 arg1 c0_i32
  let c0_i32_0 : BitVec 32 := 0#32
  let c0_i32_1 : BitVec 32 := 0#32
  let c0_i32_2 : BitVec 32 := 0#32
  ![c0_i32_0.toNat, v1.toNat, c0_i32_1.toNat]

def cc0_transform_2 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 1 := Scalar.cmpi .eq arg0 c2_i32
  let c0_i32 : BitVec 32 := 0#32
  let v1 : BitVec 32 := Scalar.select v0 arg1 c0_i32
  let c0_i32_0 : BitVec 32 := 0#32
  let c0_i32_1 : BitVec 32 := 0#32
  let c0_i32_2 : BitVec 32 := 0#32
  ![c0_i32_0.toNat, v1.toNat, c0_i32_1.toNat]

def cc0_transform_3 (i : grid0.Coords) : Fin 3 → Nat :=
  let arg0 : BitVec 32 := BitVec.ofNat 32 (i 0).val
  let arg1 : BitVec 32 := BitVec.ofNat 32 (i 1).val
  let c3_i32 : BitVec 32 := 3#32
  let v0 : BitVec 1 := Scalar.cmpi .eq arg0 c3_i32
  let c0_i32 : BitVec 32 := 0#32
  let v1 : BitVec 32 := Scalar.select v0 arg1 c0_i32
  let c0_i32_0 : BitVec 32 := 0#32
  let c0_i32_1 : BitVec 32 := 0#32
  let c0_i32_2 : BitVec 32 := 0#32
  ![c0_i32_0.toNat, v1.toNat, c0_i32_1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S8x128x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x128x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S8x128x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S8x128x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x128x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x128x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x128x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x128x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x128x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x128x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x128x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== Reference19Ideal.lean ====
abbrev S8x128x1024 : Shape := ⟨3, ![8, 128, 1024]⟩
abbrev S4x128x1024 : Shape := ⟨3, ![4, 128, 1024]⟩
abbrev S8x1x128x1024 : Shape := ⟨4, ![8, 1, 128, 1024]⟩
abbrev S8x4x128x1024 : Shape := ⟨4, ![8, 4, 128, 1024]⟩
abbrev S_ : Shape := ⟨0, ![]⟩

abbrev nBuf : Space → Nat
  | .hbm => 48
  | .vmem => 0
  | .smem => 0
  | _ => 0

abbrev bufTy : (tb : Table) → Fin (tcTables nBuf tb) → BufTy
  | .hbm, ⟨0, _⟩ => ⟨S8x128x1024, .bf16⟩
  | .hbm, ⟨1, _⟩ => ⟨S8x128x1024, .bf16⟩
  | .hbm, ⟨2, _⟩ => ⟨S8x128x1024, .bf16⟩
  | .hbm, ⟨3, _⟩ => ⟨S8x128x1024, .bf16⟩
  | .hbm, ⟨4, _⟩ => ⟨S4x128x1024, .f32⟩
  | .hbm, ⟨5, _⟩ => ⟨S4x128x1024, .f32⟩
  | .hbm, ⟨6, _⟩ => ⟨S4x128x1024, .f32⟩
  | .hbm, ⟨7, _⟩ => ⟨S8x1x128x1024, .bf16⟩
  | .hbm, ⟨8, _⟩ => ⟨S8x1x128x1024, .bf16⟩
  | .hbm, ⟨9, _⟩ => ⟨S8x1x128x1024, .bf16⟩
  | .hbm, ⟨10, _⟩ => ⟨S8x1x128x1024, .bf16⟩
  | .hbm, ⟨11, _⟩ => ⟨S8x4x128x1024, .bf16⟩
  | .hbm, ⟨12, _⟩ => ⟨S8x4x128x1024, .f32⟩
  | .hbm, ⟨13, _⟩ => ⟨S_, .f32⟩
  | .hbm, ⟨14, _⟩ => ⟨S4x128x1024, .f32⟩
  | .hbm, ⟨15, _⟩ => ⟨S_, .f32⟩
  | .hbm, ⟨16, _⟩ => ⟨S4x128x1024, .f32⟩
  | .hbm, ⟨17, _⟩ => ⟨S4x128x1024, .f32⟩
  | .hbm, ⟨18, _⟩ => ⟨S_, .f32⟩
  | .hbm, ⟨19, _⟩ => ⟨S4x128x1024, .f32⟩
  | .hbm, ⟨20, _⟩ => ⟨S4x128x1024, .f32⟩
  | .hbm, ⟨21, _⟩ => ⟨S4x128x1024, .f32⟩
  | .hbm, ⟨22, _⟩ => ⟨S_, .f32⟩
  | .hbm, ⟨23, _⟩ => ⟨S4x128x1024, .f32⟩
  | .hbm, ⟨24, _⟩ => ⟨S4x128x1024, .f32⟩
  | .hbm, ⟨25, _⟩ => ⟨S4x128x1024, .f32⟩
  | .hbm, ⟨26, _⟩ => ⟨S_, .f32⟩
  | .hbm, ⟨27, _⟩ => ⟨S4x128x1024, .f32⟩
  | .hbm, ⟨28, _⟩ => ⟨S4x128x1024, .f32⟩
  | .hbm, ⟨29, _⟩ => ⟨S4x128x1024, .f32⟩
  | .hbm, ⟨30, _⟩ => ⟨S_, .f32⟩
  | .hbm, ⟨31, _⟩ => ⟨S4x128x1024, .f32⟩
  | .hbm, ⟨32, _⟩ => ⟨S4x128x1024, .f32⟩
  | .hbm, ⟨33, _⟩ => ⟨S_, .f32⟩
  | .hbm, ⟨34, _⟩ => ⟨S4x128x1024, .f32⟩
  | .hbm, ⟨35, _⟩ => ⟨S4x128x1024, .f32⟩
  | .hbm, ⟨36, _⟩ => ⟨S4x128x1024, .f32⟩
  | .hbm, ⟨37, _⟩ => ⟨S_, .f32⟩
  | .hbm, ⟨38, _⟩ => ⟨S4x128x1024, .f32⟩
  | .hbm, ⟨39, _⟩ => ⟨S4x128x1024, .f32⟩
  | .hbm, ⟨40, _⟩ => ⟨S4x128x1024, .f32⟩
  | .hbm, ⟨41, _⟩ => ⟨S_, .f32⟩
  | .hbm, ⟨42, _⟩ => ⟨S4x128x1024, .f32⟩
  | .hbm, ⟨43, _⟩ => ⟨S4x128x1024, .f32⟩
  | .hbm, ⟨44, _⟩ => ⟨S4x128x1024, .f32⟩
  | .hbm, ⟨45, _⟩ => ⟨S_, .f32⟩
  | .hbm, ⟨46, _⟩ => ⟨S4x128x1024, .f32⟩
  | .hbm, ⟨47, _⟩ => ⟨S4x128x1024, .f32⟩
  | _, _ => ⟨S8x128x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst : Ref sig .tc := ⟨.hbm, 13, rfl⟩
abbrev main_v6 : Ref sig .tc := ⟨.hbm, 14, rfl⟩
abbrev main_cst_0 : Ref sig .tc := ⟨.hbm, 15, rfl⟩
abbrev main_v7 : Ref sig .tc := ⟨.hbm, 16, rfl⟩
abbrev main_v8 : Ref sig .tc := ⟨.hbm, 17, rfl⟩
abbrev main_cst_1 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_cst_2 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_cst_3 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_cst_4 : Ref sig .tc := ⟨.hbm, 30, rfl⟩
abbrev main_v18 : Ref sig .tc := ⟨.hbm, 31, rfl⟩
abbrev main_v19 : Ref sig .tc := ⟨.hbm, 32, rfl⟩
abbrev main_cst_5 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_cst_6 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_cst_7 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_cst_8 : Ref sig .tc := ⟨.hbm, 45, rfl⟩
abbrev main_v29 : Ref sig .tc := ⟨.hbm, 46, rfl⟩
abbrev main_v30 : Ref sig .tc := ⟨.hbm, 47, rfl⟩

abbrev nD : Nat := 1
abbrev τ : Topo := Topo.v7x

variable {F : FTy → Type} [FloatOps F]
-- ==== Kernel20.lean ====
abbrev S8x1024x512 : Shape := ⟨3, ![8, 1024, 512]⟩
abbrev S4x1024x512 : Shape := ⟨3, ![4, 1024, 512]⟩
abbrev S8x256x512 : Shape := ⟨3, ![8, 256, 512]⟩
abbrev S1x256x512 : Shape := ⟨3, ![1, 256, 512]⟩
abbrev S256x512 : Shape := ⟨2, ![256, 512]⟩

abbrev nBuf : Space → Nat
  | .hbm => 11
  | .vmem => 22
  | .smem => 0
  | _ => 0

abbrev bufTy : (tb : Table) → Fin (tcTables nBuf tb) → BufTy
  | .hbm, ⟨0, _⟩ => ⟨S8x1024x512, .bf16⟩
  | .hbm, ⟨1, _⟩ => ⟨S8x1024x512, .bf16⟩
  | .hbm, ⟨2, _⟩ => ⟨S8x1024x512, .bf16⟩
  | .hbm, ⟨3, _⟩ => ⟨S8x1024x512, .bf16⟩
  | .hbm, ⟨4, _⟩ => ⟨S4x1024x512, .f32⟩
  | .hbm, ⟨5, _⟩ => ⟨S4x1024x512, .f32⟩
  | .hbm, ⟨6, _⟩ => ⟨S4x1024x512, .f32⟩
  | .hbm, ⟨7, _⟩ => ⟨S4x1024x512, .f32⟩
  | .hbm, ⟨8, _⟩ => ⟨S4x1024x512, .f32⟩
  | .hbm, ⟨9, _⟩ => ⟨S4x1024x512, .f32⟩
  | .hbm, ⟨10, _⟩ => ⟨S4x1024x512, .f32⟩
  | .local _ .vmem, ⟨0, _⟩ => ⟨S8x256x512, .bf16⟩
  | .local _ .vmem, ⟨1, _⟩ => ⟨S8x256x512, .bf16⟩
  | .local _ .vmem, ⟨2, _⟩ => ⟨S8x256x512, .bf16⟩
  | .local _ .vmem, ⟨3, _⟩ => ⟨S8x256x512, .bf16⟩
  | .local _ .vmem, ⟨4, _⟩ => ⟨S8x256x512, .bf16⟩
  | .local _ .vmem, ⟨5, _⟩ => ⟨S8x256x512, .bf16⟩
  | .local _ .vmem, ⟨6, _⟩ => ⟨S8x256x512, .bf16⟩
  | .local _ .vmem, ⟨7, _⟩ => ⟨S8x256x512, .bf16⟩
  | .local _ .vmem, ⟨8, _⟩ => ⟨S1x256x512, .f32⟩
  | .local _ .vmem, ⟨9, _⟩ => ⟨S1x256x512, .f32⟩
  | .local _ .vmem, ⟨10, _⟩ => ⟨S1x256x512, .f32⟩
  | .local _ .vmem, ⟨11, _⟩ => ⟨S1x256x512, .f32⟩
  | .local _ .vmem, ⟨12, _⟩ => ⟨S1x256x512, .f32⟩
  | .local _ .vmem, ⟨13, _⟩ => ⟨S1x256x512, .f32⟩
  | .local _ .vmem, ⟨14, _⟩ => ⟨S1x256x512, .f32⟩
  | .local _ .vmem, ⟨15, _⟩ => ⟨S1x256x512, .f32⟩
  | .local _ .vmem, ⟨16, _⟩ => ⟨S1x256x512, .f32⟩
  | .local _ .vmem, ⟨17, _⟩ => ⟨S1x256x512, .f32⟩
  | .local _ .vmem, ⟨18, _⟩ => ⟨S1x256x512, .f32⟩
  | .local _ .vmem, ⟨19, _⟩ => ⟨S1x256x512, .f32⟩
  | .local _ .vmem, ⟨20, _⟩ => ⟨S1x256x512, .f32⟩
  | .local _ .vmem, ⟨21, _⟩ => ⟨S1x256x512, .f32⟩
  | _, _ => ⟨S8x1024x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev main_v0_2 : Ref sig .tc := ⟨.hbm, 9, rfl⟩
abbrev main_v0_3 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21

abbrev nD : Nat := 1
abbrev τ : Topo := Topo.v7x

variable {F : FTy → Type} [FloatOps F]

abbrev grid0 : Pipeline.Grid := ⟨2, ![4, 4], ![false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg0 : BitVec 32 := BitVec.ofNat 32 (i 0).val
  let c1_i32 : BitVec 32 := 1#32
  let v3 : BitVec 1 := Scalar.cmpi .eq arg0 c1_i32
  let v4 : BitVec 32 := Scalar.extui v3
  let c0_i32_1 : BitVec 32 := 0#32
  let v5 : BitVec 1 := Scalar.cmpi .ne v4 c0_i32_1
  v5

def k0_cond3 (i : grid0.Coords) : BitVec 1 :=
  let arg0 : BitVec 32 := BitVec.ofNat 32 (i 0).val
  let c2_i32 : BitVec 32 := 2#32
  let v6 : BitVec 1 := Scalar.cmpi .eq arg0 c2_i32
  let v7 : BitVec 32 := Scalar.extui v6
  let c0_i32_2 : BitVec 32 := 0#32
  let v8 : BitVec 1 := Scalar.cmpi .ne v7 c0_i32_2
  v8

def k0_cond4 (i : grid0.Coords) : BitVec 1 :=
  let arg0 : BitVec 32 := BitVec.ofNat 32 (i 0).val
  let c3_i32 : BitVec 32 := 3#32
  let v9 : BitVec 1 := Scalar.cmpi .eq arg0 c3_i32
  let v10 : BitVec 32 := Scalar.extui v9
  let c0_i32_3 : BitVec 32 := 0#32
  let v11 : BitVec 1 := Scalar.cmpi .ne v10 c0_i32_3
  v11

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 32 := Scalar.select v0 arg1 c0_i32_0
  let c0_i32_1 : BitVec 32 := 0#32
  let c0_i32_2 : BitVec 32 := 0#32
  let c0_i32_3 : BitVec 32 := 0#32
  ![c0_i32_1.toNat, v1.toNat, c0_i32_2.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 1 := Scalar.cmpi .eq arg0 c1_i32
  let c0_i32 : BitVec 32 := 0#32
  let v1 : BitVec 32 := Scalar.select v0 arg1 c0_i32
  let c0_i32_0 : BitVec 32 := 0#32
  let c0_i32_1 : BitVec 32 := 0#32
  let c0_i32_2 : BitVec 32 := 0#32
  ![c0_i32_0.toNat, v1.toNat, c0_i32_1.toNat]

def cc0_transform_2 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 1 := Scalar.cmpi .eq arg0 c2_i32
  let c0_i32 : BitVec 32 := 0#32
  let v1 : BitVec 32 := Scalar.select v0 arg1 c0_i32
  let c0_i32_0 : BitVec 32 := 0#32
  let c0_i32_1 : BitVec 32 := 0#32
  let c0_i32_2 : BitVec 32 := 0#32
  ![c0_i32_0.toNat, v1.toNat, c0_i32_1.toNat]

def cc0_transform_3 (i : grid0.Coords) : Fin 3 → Nat :=
  let arg0 : BitVec 32 := BitVec.ofNat 32 (i 0).val
  let arg1 : BitVec 32 := BitVec.ofNat 32 (i 1).val
  let c3_i32 : BitVec 32 := 3#32
  let v0 : BitVec 1 := Scalar.cmpi .eq arg0 c3_i32
  let c0_i32 : BitVec 32 := 0#32
  let v1 : BitVec 32 := Scalar.select v0 arg1 c0_i32
  let c0_i32_0 : BitVec 32 := 0#32
  let c0_i32_1 : BitVec 32 := 0#32
  let c0_i32_2 : BitVec 32 := 0#32
  ![c0_i32_0.toNat, v1.toNat, c0_i32_1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S8x256x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x256x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S8x256x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S8x256x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x256x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x256x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x256x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x256x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x256x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== Reference20Ideal.lean ====
abbrev S8x1024x512 : Shape := ⟨3, ![8, 1024, 512]⟩
abbrev S4x1024x512 : Shape := ⟨3, ![4, 1024, 512]⟩
abbrev S8x1x1024x512 : Shape := ⟨4, ![8, 1, 1024, 512]⟩
abbrev S8x4x1024x512 : Shape := ⟨4, ![8, 4, 1024, 512]⟩
abbrev S_ : Shape := ⟨0, ![]⟩

abbrev nBuf : Space → Nat
  | .hbm => 48
  | .vmem => 0
  | .smem => 0
  | _ => 0

abbrev bufTy : (tb : Table) → Fin (tcTables nBuf tb) → BufTy
  | .hbm, ⟨0, _⟩ => ⟨S8x1024x512, .bf16⟩
  | .hbm, ⟨1, _⟩ => ⟨S8x1024x512, .bf16⟩
  | .hbm, ⟨2, _⟩ => ⟨S8x1024x512, .bf16⟩
  | .hbm, ⟨3, _⟩ => ⟨S8x1024x512, .bf16⟩
  | .hbm, ⟨4, _⟩ => ⟨S4x1024x512, .f32⟩
  | .hbm, ⟨5, _⟩ => ⟨S4x1024x512, .f32⟩
  | .hbm, ⟨6, _⟩ => ⟨S4x1024x512, .f32⟩
  | .hbm, ⟨7, _⟩ => ⟨S8x1x1024x512, .bf16⟩
  | .hbm, ⟨8, _⟩ => ⟨S8x1x1024x512, .bf16⟩
  | .hbm, ⟨9, _⟩ => ⟨S8x1x1024x512, .bf16⟩
  | .hbm, ⟨10, _⟩ => ⟨S8x1x1024x512, .bf16⟩
  | .hbm, ⟨11, _⟩ => ⟨S8x4x1024x512, .bf16⟩
  | .hbm, ⟨12, _⟩ => ⟨S8x4x1024x512, .f32⟩
  | .hbm, ⟨13, _⟩ => ⟨S_, .f32⟩
  | .hbm, ⟨14, _⟩ => ⟨S4x1024x512, .f32⟩
  | .hbm, ⟨15, _⟩ => ⟨S_, .f32⟩
  | .hbm, ⟨16, _⟩ => ⟨S4x1024x512, .f32⟩
  | .hbm, ⟨17, _⟩ => ⟨S4x1024x512, .f32⟩
  | .hbm, ⟨18, _⟩ => ⟨S_, .f32⟩
  | .hbm, ⟨19, _⟩ => ⟨S4x1024x512, .f32⟩
  | .hbm, ⟨20, _⟩ => ⟨S4x1024x512, .f32⟩
  | .hbm, ⟨21, _⟩ => ⟨S4x1024x512, .f32⟩
  | .hbm, ⟨22, _⟩ => ⟨S_, .f32⟩
  | .hbm, ⟨23, _⟩ => ⟨S4x1024x512, .f32⟩
  | .hbm, ⟨24, _⟩ => ⟨S4x1024x512, .f32⟩
  | .hbm, ⟨25, _⟩ => ⟨S4x1024x512, .f32⟩
  | .hbm, ⟨26, _⟩ => ⟨S_, .f32⟩
  | .hbm, ⟨27, _⟩ => ⟨S4x1024x512, .f32⟩
  | .hbm, ⟨28, _⟩ => ⟨S4x1024x512, .f32⟩
  | .hbm, ⟨29, _⟩ => ⟨S4x1024x512, .f32⟩
  | .hbm, ⟨30, _⟩ => ⟨S_, .f32⟩
  | .hbm, ⟨31, _⟩ => ⟨S4x1024x512, .f32⟩
  | .hbm, ⟨32, _⟩ => ⟨S4x1024x512, .f32⟩
  | .hbm, ⟨33, _⟩ => ⟨S_, .f32⟩
  | .hbm, ⟨34, _⟩ => ⟨S4x1024x512, .f32⟩
  | .hbm, ⟨35, _⟩ => ⟨S4x1024x512, .f32⟩
  | .hbm, ⟨36, _⟩ => ⟨S4x1024x512, .f32⟩
  | .hbm, ⟨37, _⟩ => ⟨S_, .f32⟩
  | .hbm, ⟨38, _⟩ => ⟨S4x1024x512, .f32⟩
  | .hbm, ⟨39, _⟩ => ⟨S4x1024x512, .f32⟩
  | .hbm, ⟨40, _⟩ => ⟨S4x1024x512, .f32⟩
  | .hbm, ⟨41, _⟩ => ⟨S_, .f32⟩
  | .hbm, ⟨42, _⟩ => ⟨S4x1024x512, .f32⟩
  | .hbm, ⟨43, _⟩ => ⟨S4x1024x512, .f32⟩
  | .hbm, ⟨44, _⟩ => ⟨S4x1024x512, .f32⟩
  | .hbm, ⟨45, _⟩ => ⟨S_, .f32⟩
  | .hbm, ⟨46, _⟩ => ⟨S4x1024x512, .f32⟩
  | .hbm, ⟨47, _⟩ => ⟨S4x1024x512, .f32⟩
  | _, _ => ⟨S8x1024x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst : Ref sig .tc := ⟨.hbm, 13, rfl⟩
abbrev main_v6 : Ref sig .tc := ⟨.hbm, 14, rfl⟩
abbrev main_cst_0 : Ref sig .tc := ⟨.hbm, 15, rfl⟩
abbrev main_v7 : Ref sig .tc := ⟨.hbm, 16, rfl⟩
abbrev main_v8 : Ref sig .tc := ⟨.hbm, 17, rfl⟩
abbrev main_cst_1 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_cst_2 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_cst_3 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_cst_4 : Ref sig .tc := ⟨.hbm, 30, rfl⟩
abbrev main_v18 : Ref sig .tc := ⟨.hbm, 31, rfl⟩
abbrev main_v19 : Ref sig .tc := ⟨.hbm, 32, rfl⟩
abbrev main_cst_5 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_cst_6 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_cst_7 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_cst_8 : Ref sig .tc := ⟨.hbm, 45, rfl⟩
abbrev main_v29 : Ref sig .tc := ⟨.hbm, 46, rfl⟩
abbrev main_v30 : Ref sig .tc := ⟨.hbm, 47, rfl⟩

abbrev nD : Nat := 1
abbrev τ : Topo := Topo.v7x

variable {F : FTy → Type} [FloatOps F]
-- ==== Kernel21.lean ====
abbrev S8x512x1024 : Shape := ⟨3, ![8, 512, 1024]⟩
abbrev S4x512x1024 : Shape := ⟨3, ![4, 512, 1024]⟩
abbrev S8x256x1024 : Shape := ⟨3, ![8, 256, 1024]⟩
abbrev S1x256x1024 : Shape := ⟨3, ![1, 256, 1024]⟩
abbrev S256x1024 : Shape := ⟨2, ![256, 1024]⟩

abbrev nBuf : Space → Nat
  | .hbm => 11
  | .vmem => 22
  | .smem => 0
  | _ => 0

abbrev bufTy : (tb : Table) → Fin (tcTables nBuf tb) → BufTy
  | .hbm, ⟨0, _⟩ => ⟨S8x512x1024, .bf16⟩
  | .hbm, ⟨1, _⟩ => ⟨S8x512x1024, .bf16⟩
  | .hbm, ⟨2, _⟩ => ⟨S8x512x1024, .bf16⟩
  | .hbm, ⟨3, _⟩ => ⟨S8x512x1024, .bf16⟩
  | .hbm, ⟨4, _⟩ => ⟨S4x512x1024, .f32⟩
  | .hbm, ⟨5, _⟩ => ⟨S4x512x1024, .f32⟩
  | .hbm, ⟨6, _⟩ => ⟨S4x512x1024, .f32⟩
  | .hbm, ⟨7, _⟩ => ⟨S4x512x1024, .f32⟩
  | .hbm, ⟨8, _⟩ => ⟨S4x512x1024, .f32⟩
  | .hbm, ⟨9, _⟩ => ⟨S4x512x1024, .f32⟩
  | .hbm, ⟨10, _⟩ => ⟨S4x512x1024, .f32⟩
  | .local _ .vmem, ⟨0, _⟩ => ⟨S8x256x1024, .bf16⟩
  | .local _ .vmem, ⟨1, _⟩ => ⟨S8x256x1024, .bf16⟩
  | .local _ .vmem, ⟨2, _⟩ => ⟨S8x256x1024, .bf16⟩
  | .local _ .vmem, ⟨3, _⟩ => ⟨S8x256x1024, .bf16⟩
  | .local _ .vmem, ⟨4, _⟩ => ⟨S8x256x1024, .bf16⟩
  | .local _ .vmem, ⟨5, _⟩ => ⟨S8x256x1024, .bf16⟩
  | .local _ .vmem, ⟨6, _⟩ => ⟨S8x256x1024, .bf16⟩
  | .local _ .vmem, ⟨7, _⟩ => ⟨S8x256x1024, .bf16⟩
  | .local _ .vmem, ⟨8, _⟩ => ⟨S1x256x1024, .f32⟩
  | .local _ .vmem, ⟨9, _⟩ => ⟨S1x256x1024, .f32⟩
  | .local _ .vmem, ⟨10, _⟩ => ⟨S1x256x1024, .f32⟩
  | .local _ .vmem, ⟨11, _⟩ => ⟨S1x256x1024, .f32⟩
  | .local _ .vmem, ⟨12, _⟩ => ⟨S1x256x1024, .f32⟩
  | .local _ .vmem, ⟨13, _⟩ => ⟨S1x256x1024, .f32⟩
  | .local _ .vmem, ⟨14, _⟩ => ⟨S1x256x1024, .f32⟩
  | .local _ .vmem, ⟨15, _⟩ => ⟨S1x256x1024, .f32⟩
  | .local _ .vmem, ⟨16, _⟩ => ⟨S1x256x1024, .f32⟩
  | .local _ .vmem, ⟨17, _⟩ => ⟨S1x256x1024, .f32⟩
  | .local _ .vmem, ⟨18, _⟩ => ⟨S1x256x1024, .f32⟩
  | .local _ .vmem, ⟨19, _⟩ => ⟨S1x256x1024, .f32⟩
  | .local _ .vmem, ⟨20, _⟩ => ⟨S1x256x1024, .f32⟩
  | .local _ .vmem, ⟨21, _⟩ => ⟨S1x256x1024, .f32⟩
  | _, _ => ⟨S8x512x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev main_v0_2 : Ref sig .tc := ⟨.hbm, 9, rfl⟩
abbrev main_v0_3 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21

abbrev nD : Nat := 1
abbrev τ : Topo := Topo.v7x

variable {F : FTy → Type} [FloatOps F]

abbrev grid0 : Pipeline.Grid := ⟨2, ![4, 2], ![false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg0 : BitVec 32 := BitVec.ofNat 32 (i 0).val
  let c1_i32 : BitVec 32 := 1#32
  let v3 : BitVec 1 := Scalar.cmpi .eq arg0 c1_i32
  let v4 : BitVec 32 := Scalar.extui v3
  let c0_i32_1 : BitVec 32 := 0#32
  let v5 : BitVec 1 := Scalar.cmpi .ne v4 c0_i32_1
  v5

def k0_cond3 (i : grid0.Coords) : BitVec 1 :=
  let arg0 : BitVec 32 := BitVec.ofNat 32 (i 0).val
  let c2_i32 : BitVec 32 := 2#32
  let v6 : BitVec 1 := Scalar.cmpi .eq arg0 c2_i32
  let v7 : BitVec 32 := Scalar.extui v6
  let c0_i32_2 : BitVec 32 := 0#32
  let v8 : BitVec 1 := Scalar.cmpi .ne v7 c0_i32_2
  v8

def k0_cond4 (i : grid0.Coords) : BitVec 1 :=
  let arg0 : BitVec 32 := BitVec.ofNat 32 (i 0).val
  let c3_i32 : BitVec 32 := 3#32
  let v9 : BitVec 1 := Scalar.cmpi .eq arg0 c3_i32
  let v10 : BitVec 32 := Scalar.extui v9
  let c0_i32_3 : BitVec 32 := 0#32
  let v11 : BitVec 1 := Scalar.cmpi .ne v10 c0_i32_3
  v11

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 32 := Scalar.select v0 arg1 c0_i32_0
  let c0_i32_1 : BitVec 32 := 0#32
  let c0_i32_2 : BitVec 32 := 0#32
  let c0_i32_3 : BitVec 32 := 0#32
  ![c0_i32_1.toNat, v1.toNat, c0_i32_2.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 1 := Scalar.cmpi .eq arg0 c1_i32
  let c0_i32 : BitVec 32 := 0#32
  let v1 : BitVec 32 := Scalar.select v0 arg1 c0_i32
  let c0_i32_0 : BitVec 32 := 0#32
  let c0_i32_1 : BitVec 32 := 0#32
  let c0_i32_2 : BitVec 32 := 0#32
  ![c0_i32_0.toNat, v1.toNat, c0_i32_1.toNat]

def cc0_transform_2 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 1 := Scalar.cmpi .eq arg0 c2_i32
  let c0_i32 : BitVec 32 := 0#32
  let v1 : BitVec 32 := Scalar.select v0 arg1 c0_i32
  let c0_i32_0 : BitVec 32 := 0#32
  let c0_i32_1 : BitVec 32 := 0#32
  let c0_i32_2 : BitVec 32 := 0#32
  ![c0_i32_0.toNat, v1.toNat, c0_i32_1.toNat]

def cc0_transform_3 (i : grid0.Coords) : Fin 3 → Nat :=
  let arg0 : BitVec 32 := BitVec.ofNat 32 (i 0).val
  let arg1 : BitVec 32 := BitVec.ofNat 32 (i 1).val
  let c3_i32 : BitVec 32 := 3#32
  let v0 : BitVec 1 := Scalar.cmpi .eq arg0 c3_i32
  let c0_i32 : BitVec 32 := 0#32
  let v1 : BitVec 32 := Scalar.select v0 arg1 c0_i32
  let c0_i32_0 : BitVec 32 := 0#32
  let c0_i32_1 : BitVec 32 := 0#32
  let c0_i32_2 : BitVec 32 := 0#32
  ![c0_i32_0.toNat, v1.toNat, c0_i32_1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S8x256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S8x256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S8x256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x256x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x256x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== Reference21Ideal.lean ====
abbrev S8x512x1024 : Shape := ⟨3, ![8, 512, 1024]⟩
abbrev S4x512x1024 : Shape := ⟨3, ![4, 512, 1024]⟩
abbrev S8x1x512x1024 : Shape := ⟨4, ![8, 1, 512, 1024]⟩
abbrev S8x4x512x1024 : Shape := ⟨4, ![8, 4, 512, 1024]⟩
abbrev S_ : Shape := ⟨0, ![]⟩

abbrev nBuf : Space → Nat
  | .hbm => 48
  | .vmem => 0
  | .smem => 0
  | _ => 0

abbrev bufTy : (tb : Table) → Fin (tcTables nBuf tb) → BufTy
  | .hbm, ⟨0, _⟩ => ⟨S8x512x1024, .bf16⟩
  | .hbm, ⟨1, _⟩ => ⟨S8x512x1024, .bf16⟩
  | .hbm, ⟨2, _⟩ => ⟨S8x512x1024, .bf16⟩
  | .hbm, ⟨3, _⟩ => ⟨S8x512x1024, .bf16⟩
  | .hbm, ⟨4, _⟩ => ⟨S4x512x1024, .f32⟩
  | .hbm, ⟨5, _⟩ => ⟨S4x512x1024, .f32⟩
  | .hbm, ⟨6, _⟩ => ⟨S4x512x1024, .f32⟩
  | .hbm, ⟨7, _⟩ => ⟨S8x1x512x1024, .bf16⟩
  | .hbm, ⟨8, _⟩ => ⟨S8x1x512x1024, .bf16⟩
  | .hbm, ⟨9, _⟩ => ⟨S8x1x512x1024, .bf16⟩
  | .hbm, ⟨10, _⟩ => ⟨S8x1x512x1024, .bf16⟩
  | .hbm, ⟨11, _⟩ => ⟨S8x4x512x1024, .bf16⟩
  | .hbm, ⟨12, _⟩ => ⟨S8x4x512x1024, .f32⟩
  | .hbm, ⟨13, _⟩ => ⟨S_, .f32⟩
  | .hbm, ⟨14, _⟩ => ⟨S4x512x1024, .f32⟩
  | .hbm, ⟨15, _⟩ => ⟨S_, .f32⟩
  | .hbm, ⟨16, _⟩ => ⟨S4x512x1024, .f32⟩
  | .hbm, ⟨17, _⟩ => ⟨S4x512x1024, .f32⟩
  | .hbm, ⟨18, _⟩ => ⟨S_, .f32⟩
  | .hbm, ⟨19, _⟩ => ⟨S4x512x1024, .f32⟩
  | .hbm, ⟨20, _⟩ => ⟨S4x512x1024, .f32⟩
  | .hbm, ⟨21, _⟩ => ⟨S4x512x1024, .f32⟩
  | .hbm, ⟨22, _⟩ => ⟨S_, .f32⟩
  | .hbm, ⟨23, _⟩ => ⟨S4x512x1024, .f32⟩
  | .hbm, ⟨24, _⟩ => ⟨S4x512x1024, .f32⟩
  | .hbm, ⟨25, _⟩ => ⟨S4x512x1024, .f32⟩
  | .hbm, ⟨26, _⟩ => ⟨S_, .f32⟩
  | .hbm, ⟨27, _⟩ => ⟨S4x512x1024, .f32⟩
  | .hbm, ⟨28, _⟩ => ⟨S4x512x1024, .f32⟩
  | .hbm, ⟨29, _⟩ => ⟨S4x512x1024, .f32⟩
  | .hbm, ⟨30, _⟩ => ⟨S_, .f32⟩
  | .hbm, ⟨31, _⟩ => ⟨S4x512x1024, .f32⟩
  | .hbm, ⟨32, _⟩ => ⟨S4x512x1024, .f32⟩
  | .hbm, ⟨33, _⟩ => ⟨S_, .f32⟩
  | .hbm, ⟨34, _⟩ => ⟨S4x512x1024, .f32⟩
  | .hbm, ⟨35, _⟩ => ⟨S4x512x1024, .f32⟩
  | .hbm, ⟨36, _⟩ => ⟨S4x512x1024, .f32⟩
  | .hbm, ⟨37, _⟩ => ⟨S_, .f32⟩
  | .hbm, ⟨38, _⟩ => ⟨S4x512x1024, .f32⟩
  | .hbm, ⟨39, _⟩ => ⟨S4x512x1024, .f32⟩
  | .hbm, ⟨40, _⟩ => ⟨S4x512x1024, .f32⟩
  | .hbm, ⟨41, _⟩ => ⟨S_, .f32⟩
  | .hbm, ⟨42, _⟩ => ⟨S4x512x1024, .f32⟩
  | .hbm, ⟨43, _⟩ => ⟨S4x512x1024, .f32⟩
  | .hbm, ⟨44, _⟩ => ⟨S4x512x1024, .f32⟩
  | .hbm, ⟨45, _⟩ => ⟨S_, .f32⟩
  | .hbm, ⟨46, _⟩ => ⟨S4x512x1024, .f32⟩
  | .hbm, ⟨47, _⟩ => ⟨S4x512x1024, .f32⟩
  | _, _ => ⟨S8x512x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst : Ref sig .tc := ⟨.hbm, 13, rfl⟩
abbrev main_v6 : Ref sig .tc := ⟨.hbm, 14, rfl⟩
abbrev main_cst_0 : Ref sig .tc := ⟨.hbm, 15, rfl⟩
abbrev main_v7 : Ref sig .tc := ⟨.hbm, 16, rfl⟩
abbrev main_v8 : Ref sig .tc := ⟨.hbm, 17, rfl⟩
abbrev main_cst_1 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_cst_2 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_cst_3 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_cst_4 : Ref sig .tc := ⟨.hbm, 30, rfl⟩
abbrev main_v18 : Ref sig .tc := ⟨.hbm, 31, rfl⟩
abbrev main_v19 : Ref sig .tc := ⟨.hbm, 32, rfl⟩
abbrev main_cst_5 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_cst_6 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_cst_7 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_cst_8 : Ref sig .tc := ⟨.hbm, 45, rfl⟩
abbrev main_v29 : Ref sig .tc := ⟨.hbm, 46, rfl⟩
abbrev main_v30 : Ref sig .tc := ⟨.hbm, 47, rfl⟩

abbrev nD : Nat := 1
abbrev τ : Topo := Topo.v7x

variable {F : FTy → Type} [FloatOps F]
-- ==== Kernel22.lean ====
abbrev S2x2048x1024 : Shape := ⟨3, ![2, 2048, 1024]⟩
abbrev S2x1x1024 : Shape := ⟨3, ![2, 1, 1024]⟩
abbrev S1x512x1024 : Shape := ⟨3, ![1, 512, 1024]⟩
abbrev S1x1x1024 : Shape := ⟨3, ![1, 1, 1024]⟩
abbrev S1x1024 : Shape := ⟨2, ![1, 1024]⟩
abbrev S512x1024 : Shape := ⟨2, ![512, 1024]⟩
abbrev S1024 : Shape := ⟨1, ![1024]⟩

abbrev nBuf : Space → Nat
  | .hbm => 3
  | .vmem => 6
  | .smem => 0
  | _ => 0

abbrev bufTy : (tb : Table) → Fin (tcTables nBuf tb) → BufTy
  | .hbm, ⟨0, _⟩ => ⟨S2x2048x1024, .f32⟩
  | .hbm, ⟨1, _⟩ => ⟨S2x2048x1024, .bf16⟩
  | .hbm, ⟨2, _⟩ => ⟨S2x1x1024, .f32⟩
  | .local _ .vmem, ⟨0, _⟩ => ⟨S1x512x1024, .f32⟩
  | .local _ .vmem, ⟨1, _⟩ => ⟨S1x512x1024, .f32⟩
  | .local _ .vmem, ⟨2, _⟩ => ⟨S1x512x1024, .bf16⟩
  | .local _ .vmem, ⟨3, _⟩ => ⟨S1x512x1024, .bf16⟩
  | .local _ .vmem, ⟨4, _⟩ => ⟨S1x1x1024, .f32⟩
  | .local _ .vmem, ⟨5, _⟩ => ⟨S1x1x1024, .f32⟩
  | _, _ => ⟨S2x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== Reference22Ideal.lean ====
abbrev S2x2048x1024 : Shape := ⟨3, ![2, 2048, 1024]⟩
abbrev S_ : Shape := ⟨0, ![]⟩
abbrev S2x1x1024 : Shape := ⟨3, ![2, 1, 1024]⟩
abbrev S2x1024 : Shape := ⟨2, ![2, 1024]⟩

abbrev nBuf : Space → Nat
  | .hbm => 11
  | .vmem => 0
  | .smem => 0
  | _ => 0

abbrev bufTy : (tb : Table) → Fin (tcTables nBuf tb) → BufTy
  | .hbm, ⟨0, _⟩ => ⟨S2x2048x1024, .f32⟩
  | .hbm, ⟨1, _⟩ => ⟨S2x2048x1024, .bf16⟩
  | .hbm, ⟨2, _⟩ => ⟨S_, .f32⟩
  | .hbm, ⟨3, _⟩ => ⟨S2x1x1024, .f32⟩
  | .hbm, ⟨4, _⟩ => ⟨S2x2048x1024, .f32⟩
  | .hbm, ⟨5, _⟩ => ⟨S2x2048x1024, .f32⟩
  | .hbm, ⟨6, _⟩ => ⟨S2x2048x1024, .f32⟩
  | .hbm, ⟨7, _⟩ => ⟨S2x2048x1024, .f32⟩
  | .hbm, ⟨8, _⟩ => ⟨S_, .f32⟩
  | .hbm, ⟨9, _⟩ => ⟨S2x1024, .f32⟩
  | .hbm, ⟨10, _⟩ => ⟨S2x1x1024, .f32⟩
  | _, _ => ⟨S2x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_v6 : Ref sig .tc := ⟨.hbm, 10, rfl⟩

abbrev nD : Nat := 1
abbrev τ : Topo := Topo.v7x

variable {F : FTy → Type} [FloatOps F]
-- ==== Kernel23.lean ====
abbrev S2x2048x1024 : Shape := ⟨3, ![2, 2048, 1024]⟩
abbrev S1x1024 : Shape := ⟨2, ![1, 1024]⟩
abbrev S1x512x1024 : Shape := ⟨3, ![1, 512, 1024]⟩
abbrev S512x1024 : Shape := ⟨2, ![512, 1024]⟩
abbrev S1024 : Shape := ⟨1, ![1024]⟩

abbrev nBuf : Space → Nat
  | .hbm => 4
  | .vmem => 7
  | .smem => 0
  | _ => 0

abbrev bufTy : (tb : Table) → Fin (tcTables nBuf tb) → BufTy
  | .hbm, ⟨0, _⟩ => ⟨S2x2048x1024, .f32⟩
  | .hbm, ⟨1, _⟩ => ⟨S2x2048x1024, .f32⟩
  | .hbm, ⟨2, _⟩ => ⟨S2x2048x1024, .f32⟩
  | .hbm, ⟨3, _⟩ => ⟨S1x1024, .f32⟩
  | .local _ .vmem, ⟨0, _⟩ => ⟨S1x512x1024, .f32⟩
  | .local _ .vmem, ⟨1, _⟩ => ⟨S1x512x1024, .f32⟩
  | .local _ .vmem, ⟨2, _⟩ => ⟨S1x512x1024, .f32⟩
  | .local _ .vmem, ⟨3, _⟩ => ⟨S1x512x1024, .f32⟩
  | .local _ .vmem, ⟨4, _⟩ => ⟨S1x512x1024, .f32⟩
  | .local _ .vmem, ⟨5, _⟩ => ⟨S1x512x1024, .f32⟩
  | .local _ .vmem, ⟨6, _⟩ => ⟨S1x1024, .f32⟩
  | _, _ => ⟨S2x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6

abbrev nD : Nat := 1
abbrev τ : Topo := Topo.v7x

variable {F : FTy → Type} [FloatOps F]

abbrev grid0 : Pipeline.Grid := ⟨2, ![2, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]
-- ==== Reference23Ideal.lean ====
abbrev S2x2048x1024 : Shape := ⟨3, ![2, 2048, 1024]⟩
abbrev S_ : Shape := ⟨0, ![]⟩
abbrev S2x2048 : Shape := ⟨2, ![2, 2048]⟩
abbrev S1024 : Shape := ⟨1, ![1024]⟩
abbrev S1x1024 : Shape := ⟨2, ![1, 1024]⟩

abbrev nBuf : Space → Nat
  | .hbm => 30
  | .vmem => 0
  | .smem => 0
  | _ => 0

abbrev bufTy : (tb : Table) → Fin (tcTables nBuf tb) → BufTy
  | .hbm, ⟨0, _⟩ => ⟨S2x2048x1024, .f32⟩
  | .hbm, ⟨1, _⟩ => ⟨S2x2048x1024, .f32⟩
  | .hbm, ⟨2, _⟩ => ⟨S2x2048x1024, .f32⟩
  | .hbm, ⟨3, _⟩ => ⟨S2x2048x1024, .f32⟩
  | .hbm, ⟨4, _⟩ => ⟨S_, .f32⟩
  | .hbm, ⟨5, _⟩ => ⟨S2x2048x1024, .f32⟩
  | .hbm, ⟨6, _⟩ => ⟨S2x2048x1024, .f32⟩
  | .hbm, ⟨7, _⟩ => ⟨S_, .f32⟩
  | .hbm, ⟨8, _⟩ => ⟨S2x2048, .f32⟩
  | .hbm, ⟨9, _⟩ => ⟨S_, .f32⟩
  | .hbm, ⟨10, _⟩ => ⟨S2x2048, .f32⟩
  | .hbm, ⟨11, _⟩ => ⟨S2x2048, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S2x2048, .f32⟩
  | .hbm, ⟨20, _⟩ => ⟨S_, .f32⟩
  | .hbm, ⟨21, _⟩ => ⟨S2x2048, .f32⟩
  | .hbm, ⟨22, _⟩ => ⟨S2x2048, .f32⟩
  | .hbm, ⟨23, _⟩ => ⟨S2x2048x1024, .f32⟩
  | .hbm, ⟨24, _⟩ => ⟨S2x2048x1024, .f32⟩
  | .hbm, ⟨25, _⟩ => ⟨S2x2048x1024, .f32⟩
  | .hbm, ⟨26, _⟩ => ⟨S2x2048x1024, .f32⟩
  | .hbm, ⟨27, _⟩ => ⟨S_, .f32⟩
  | .hbm, ⟨28, _⟩ => ⟨S1024, .f32⟩
  | .hbm, ⟨29, _⟩ => ⟨S1x1024, .f32⟩
  | _, _ => ⟨S2x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_cst_2 : Ref sig .tc := ⟨.hbm, 12, rfl⟩
abbrev main_v7 : Ref sig .tc := ⟨.hbm, 13, rfl⟩
abbrev main_cst_3 : Ref sig .tc := ⟨.hbm, 14, rfl⟩
abbrev main_v8 : Ref sig .tc := ⟨.hbm, 15, rfl⟩
abbrev main_cst_4 : Ref sig .tc := ⟨.hbm, 16, rfl⟩
abbrev main_cst_5 : Ref sig .tc := ⟨.hbm, 17, rfl⟩
abbrev main_v9 : Ref sig .tc := ⟨.hbm, 18, rfl⟩
abbrev main_v10 : Ref sig .tc := ⟨.hbm, 19, rfl⟩
abbrev main_cst_6 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_7 : Ref sig .tc := ⟨.hbm, 27, rfl⟩
abbrev main_v17 : Ref sig .tc := ⟨.hbm, 28, rfl⟩
abbrev main_v18 : Ref sig .tc := ⟨.hbm, 29, rfl⟩

abbrev nD : Nat := 1
abbrev τ : Topo := Topo.v7x

variable {F : FTy → Type} [FloatOps F]
-- ==== Kernel24.lean ====
abbrev S2x2048x1024 : Shape := ⟨3, ![2, 2048, 1024]⟩
abbrev S1x1024 : Shape := ⟨2, ![1, 1024]⟩
abbrev S2x1x1024 : Shape := ⟨3, ![2, 1, 1024]⟩
abbrev S1x512x1024 : Shape := ⟨3, ![1, 512, 1024]⟩
abbrev S1x1x1024 : Shape := ⟨3, ![1, 1, 1024]⟩
abbrev S512x1024 : Shape := ⟨2, ![512, 1024]⟩
abbrev S512 : Shape := ⟨1, ![512]⟩
abbrev S512x1 : Shape := ⟨2, ![512, 1]⟩

abbrev nBuf : Space → Nat
  | .hbm => 5
  | .vmem => 9
  | .smem => 0
  | _ => 0

abbrev bufTy : (tb : Table) → Fin (tcTables nBuf tb) → BufTy
  | .hbm, ⟨0, _⟩ => ⟨S2x2048x1024, .f32⟩
  | .hbm, ⟨1, _⟩ => ⟨S1x1024, .f32⟩
  | .hbm, ⟨2, _⟩ => ⟨S2x1x1024, .f32⟩
  | .hbm, ⟨3, _⟩ => ⟨S2x1x1024, .f32⟩
  | .hbm, ⟨4, _⟩ => ⟨S2x2048x1024, .bf16⟩
  | .local _ .vmem, ⟨0, _⟩ => ⟨S1x512x1024, .f32⟩
  | .local _ .vmem, ⟨1, _⟩ => ⟨S1x512x1024, .f32⟩
  | .local _ .vmem, ⟨2, _⟩ => ⟨S1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1x1024, .f32⟩
  | .local _ .vmem, ⟨7, _⟩ => ⟨S1x512x1024, .bf16⟩
  | .local _ .vmem, ⟨8, _⟩ => ⟨S1x512x1024, .bf16⟩
  | _, _ => ⟨S2x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![2, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Reference24Ideal.lean ====
abbrev S2x2048x1024 : Shape := ⟨3, ![2, 2048, 1024]⟩
abbrev S1x1024 : Shape := ⟨2, ![1, 1024]⟩
abbrev S2x1x1024 : Shape := ⟨3, ![2, 1, 1024]⟩
abbrev S1024 : Shape := ⟨1, ![1024]⟩
abbrev S_ : Shape := ⟨0, ![]⟩
abbrev S2x2048 : Shape := ⟨2, ![2, 2048]⟩
abbrev S2x2048x1 : Shape := ⟨3, ![2, 2048, 1]⟩
abbrev S1x1x1024 : Shape := ⟨3, ![1, 1, 1024]⟩

abbrev nBuf : Space → Nat
  | .hbm => 29
  | .vmem => 0
  | .smem => 0
  | _ => 0

abbrev bufTy : (tb : Table) → Fin (tcTables nBuf tb) → BufTy
  | .hbm, ⟨0, _⟩ => ⟨S2x2048x1024, .f32⟩
  | .hbm, ⟨1, _⟩ => ⟨S1x1024, .f32⟩
  | .hbm, ⟨2, _⟩ => ⟨S2x1x1024, .f32⟩
  | .hbm, ⟨3, _⟩ => ⟨S2x1x1024, .f32⟩
  | .hbm, ⟨4, _⟩ => ⟨S1024, .f32⟩
  | .hbm, ⟨5, _⟩ => ⟨S2x2048x1024, .f32⟩
  | .hbm, ⟨6, _⟩ => ⟨S_, .f32⟩
  | .hbm, ⟨7, _⟩ => ⟨S2x2048, .f32⟩
  | .hbm, ⟨8, _⟩ => ⟨S2x2048x1, .f32⟩
  | .hbm, ⟨9, _⟩ => ⟨S_, .f32⟩
  | .hbm, ⟨10, _⟩ => ⟨S2x2048x1, .f32⟩
  | .hbm, ⟨11, _⟩ => ⟨S2x2048x1, .f32⟩
  | .hbm, ⟨12, _⟩ => ⟨S_, .f32⟩
  | .hbm, ⟨13, _⟩ => ⟨S2x2048x1, .f32⟩
  | .hbm, ⟨14, _⟩ => ⟨S2x2048x1, .f32⟩
  | .hbm, ⟨15, _⟩ => ⟨S2x2048x1, .f32⟩
  | .hbm, ⟨16, _⟩ => ⟨S2x2048x1024, .f32⟩
  | .hbm, ⟨17, _⟩ => ⟨S2x2048x1024, .f32⟩
  | .hbm, ⟨18, _⟩ => ⟨S1x1x1024, .f32⟩
  | .hbm, ⟨19, _⟩ => ⟨S2x2048x1024, .f32⟩
  | .hbm, ⟨20, _⟩ => ⟨S2x2048x1024, .f32⟩
  | .hbm, ⟨21, _⟩ => ⟨S_, .f32⟩
  | .hbm, ⟨22, _⟩ => ⟨S2x1x1024, .f32⟩
  | .hbm, ⟨23, _⟩ => ⟨S2x1x1024, .f32⟩
  | .hbm, ⟨24, _⟩ => ⟨S2x2048x1024, .f32⟩
  | .hbm, ⟨25, _⟩ => ⟨S2x2048x1024, .f32⟩
  | .hbm, ⟨26, _⟩ => ⟨S2x2048x1024, .f32⟩
  | .hbm, ⟨27, _⟩ => ⟨S2x2048x1024, .f32⟩
  | .hbm, ⟨28, _⟩ => ⟨S2x2048x1024, .bf16⟩
  | _, _ => ⟨S2x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_2 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩

abbrev nD : Nat := 1
abbrev τ : Topo := Topo.v7x

variable {F : FTy → Type} [FloatOps F]
-- ==== Kernel25.lean ====
abbrev S2x2048x512 : Shape := ⟨3, ![2, 2048, 512]⟩
abbrev S2x2048x3712 : Shape := ⟨3, ![2, 2048, 3712]⟩
abbrev S1x128 : Shape := ⟨2, ![1, 128]⟩
abbrev S1x2048x128 : Shape := ⟨3, ![1, 2048, 128]⟩
abbrev S2048x128 : Shape := ⟨2, ![2048, 128]⟩
abbrev S2048 : Shape := ⟨1, ![2048]⟩
abbrev S2048x1 : Shape := ⟨2, ![2048, 1]⟩

abbrev nBuf : Space → Nat
  | .hbm => 4
  | .vmem => 7
  | .smem => 0
  | _ => 0

abbrev bufTy : (tb : Table) → Fin (tcTables nBuf tb) → BufTy
  | .hbm, ⟨0, _⟩ => ⟨S2x2048x512, .f32⟩
  | .hbm, ⟨1, _⟩ => ⟨S2x2048x3712, .f32⟩
  | .hbm, ⟨2, _⟩ => ⟨S1x128, .f32⟩
  | .hbm, ⟨3, _⟩ => ⟨S2x2048x512, .bf16⟩
  | .local _ .vmem, ⟨0, _⟩ => ⟨S1x2048x128, .f32⟩
  | .local _ .vmem, ⟨1, _⟩ => ⟨S1x2048x128, .f32⟩
  | .local _ .vmem, ⟨2, _⟩ => ⟨S1x2048x128, .f32⟩
  | .local _ .vmem, ⟨3, _⟩ => ⟨S1x2048x128, .f32⟩
  | .local _ .vmem, ⟨4, _⟩ => ⟨S1x128, .f32⟩
  | .local _ .vmem, ⟨5, _⟩ => ⟨S1x2048x128, .bf16⟩
  | .local _ .vmem, ⟨6, _⟩ => ⟨S1x2048x128, .bf16⟩
  | _, _ => ⟨S2x2048x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![2, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 3 → Nat :=
  let arg0 : BitVec 32 := BitVec.ofNat 32 (i 0).val
  let arg1 : BitVec 32 := BitVec.ofNat 32 (i 1).val
  let c24_i32 : BitVec 32 := 24#32
  let v0 : BitVec 32 := Scalar.addi c24_i32 arg1
  let c0_i32 : BitVec 32 := 0#32
  let c0_i32_0 : BitVec 32 := 0#32
  ![arg0.toNat, c0_i32.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2048x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x2048x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference25Ideal.lean ====
abbrev S2x2048x512 : Shape := ⟨3, ![2, 2048, 512]⟩
abbrev S2x2048x3712 : Shape := ⟨3, ![2, 2048, 3712]⟩
abbrev S1x128 : Shape := ⟨2, ![1, 128]⟩
abbrev S2x2048x4x128 : Shape := ⟨4, ![2, 2048, 4, 128]⟩
abbrev S128 : Shape := ⟨1, ![128]⟩
abbrev S_ : Shape := ⟨0, ![]⟩
abbrev S2x2048x4 : Shape := ⟨3, ![2, 2048, 4]⟩
abbrev S2x2048x4x1 : Shape := ⟨4, ![2, 2048, 4, 1]⟩
abbrev S1x1x1x128 : Shape := ⟨4, ![1, 1, 1, 128]⟩

abbrev nBuf : Space → Nat
  | .hbm => 35
  | .vmem => 0
  | .smem => 0
  | _ => 0

abbrev bufTy : (tb : Table) → Fin (tcTables nBuf tb) → BufTy
  | .hbm, ⟨0, _⟩ => ⟨S2x2048x512, .f32⟩
  | .hbm, ⟨1, _⟩ => ⟨S2x2048x3712, .f32⟩
  | .hbm, ⟨2, _⟩ => ⟨S1x128, .f32⟩
  | .hbm, ⟨3, _⟩ => ⟨S2x2048x4x128, .f32⟩
  | .hbm, ⟨4, _⟩ => ⟨S2x2048x512, .f32⟩
  | .hbm, ⟨5, _⟩ => ⟨S2x2048x4x128, .f32⟩
  | .hbm, ⟨6, _⟩ => ⟨S128, .f32⟩
  | .hbm, ⟨7, _⟩ => ⟨S2x2048x4x128, .f32⟩
  | .hbm, ⟨8, _⟩ => ⟨S_, .f32⟩
  | .hbm, ⟨9, _⟩ => ⟨S2x2048x4, .f32⟩
  | .hbm, ⟨10, _⟩ => ⟨S2x2048x4x1, .f32⟩
  | .hbm, ⟨11, _⟩ => ⟨S_, .f32⟩
  | .hbm, ⟨12, _⟩ => ⟨S2x2048x4x1, .f32⟩
  | .hbm, ⟨13, _⟩ => ⟨S2x2048x4x1, .f32⟩
  | .hbm, ⟨14, _⟩ => ⟨S_, .f32⟩
  | .hbm, ⟨15, _⟩ => ⟨S2x2048x4x1, .f32⟩
  | .hbm, ⟨16, _⟩ => ⟨S2x2048x4x1, .f32⟩
  | .hbm, ⟨17, _⟩ => ⟨S2x2048x4x1, .f32⟩
  | .hbm, ⟨18, _⟩ => ⟨S2x2048x4x128, .f32⟩
  | .hbm, ⟨19, _⟩ => ⟨S2x2048x4x128, .f32⟩
  | .hbm, ⟨20, _⟩ => ⟨S1x1x1x128, .f32⟩
  | .hbm, ⟨21, _⟩ => ⟨S2x2048x4x128, .f32⟩
  | .hbm, ⟨22, _⟩ => ⟨S2x2048x4x128, .f32⟩
  | .hbm, ⟨23, _⟩ => ⟨S2x2048x4x128, .f32⟩
  | .hbm, ⟨24, _⟩ => ⟨S2x2048x4x128, .f32⟩
  | .hbm, ⟨25, _⟩ => ⟨S_, .f32⟩
  | .hbm, ⟨26, _⟩ => ⟨S2x2048x4x128, .f32⟩
  | .hbm, ⟨27, _⟩ => ⟨S2x2048x4x128, .f32⟩
  | .hbm, ⟨28, _⟩ => ⟨S_, .f32⟩
  | .hbm, ⟨29, _⟩ => ⟨S2x2048x4x128, .f32⟩
  | .hbm, ⟨30, _⟩ => ⟨S2x2048x4x128, .f32⟩
  | .hbm, ⟨31, _⟩ => ⟨S2x2048x4x128, .f32⟩
  | .hbm, ⟨32, _⟩ => ⟨S2x2048x4x128, .f32⟩
  | .hbm, ⟨33, _⟩ => ⟨S2x2048x512, .f32⟩
  | .hbm, ⟨34, _⟩ => ⟨S2x2048x512, .bf16⟩
  | _, _ => ⟨S2x2048x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst : Ref sig .tc := ⟨.hbm, 8, rfl⟩
abbrev main_v5 : Ref sig .tc := ⟨.hbm, 9, rfl⟩
abbrev main_v6 : Ref sig .tc := ⟨.hbm, 10, rfl⟩
abbrev main_cst_0 : Ref sig .tc := ⟨.hbm, 11, rfl⟩
abbrev main_v7 : Ref sig .tc := ⟨.hbm, 12, rfl⟩
abbrev main_v8 : Ref sig .tc := ⟨.hbm, 13, rfl⟩
abbrev main_cst_1 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_call0_v0 : Ref sig .tc := ⟨.hbm, 23, rfl⟩
abbrev main_call0_v1 : Ref sig .tc := ⟨.hbm, 24, rfl⟩
abbrev main_call0_cst : Ref sig .tc := ⟨.hbm, 25, rfl⟩
abbrev main_call0_v2 : Ref sig .tc := ⟨.hbm, 26, rfl⟩
abbrev main_call0_v3 : Ref sig .tc := ⟨.hbm, 27, rfl⟩
abbrev main_call0_cst_0 : Ref sig .tc := ⟨.hbm, 28, rfl⟩
abbrev main_call0_v4 : Ref sig .tc := ⟨.hbm, 29, rfl⟩
abbrev main_call0_v5 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩

abbrev nD : Nat := 1
abbrev τ : Topo := Topo.v7x

variable {F : FTy → Type} [FloatOps F]
-- ==== Kernel26.lean ====
abbrev S2x2048x1024 : Shape := ⟨3, ![2, 2048, 1024]⟩
abbrev S1x1024 : Shape := ⟨2, ![1, 1024]⟩
abbrev S2x1x1024 : Shape := ⟨3, ![2, 1, 1024]⟩
abbrev S1x512x1024 : Shape := ⟨3, ![1, 512, 1024]⟩
abbrev S1x1x1024 : Shape := ⟨3, ![1, 1, 1024]⟩
abbrev S512x1024 : Shape := ⟨2, ![512, 1024]⟩
abbrev S512 : Shape := ⟨1, ![512]⟩
abbrev S512x1 : Shape := ⟨2, ![512, 1]⟩
abbrev S1024 : Shape := ⟨1, ![1024]⟩

abbrev nBuf : Space → Nat
  | .hbm => 11
  | .vmem => 20
  | .smem => 0
  | _ => 0

abbrev bufTy : (tb : Table) → Fin (tcTables nBuf tb) → BufTy
  | .hbm, ⟨0, _⟩ => ⟨S2x2048x1024, .f32⟩
  | .hbm, ⟨1, _⟩ => ⟨S1x1024, .f32⟩
  | .hbm, ⟨2, _⟩ => ⟨S2x1x1024, .f32⟩
  | .hbm, ⟨3, _⟩ => ⟨S2x2048x1024, .f32⟩
  | .hbm, ⟨4, _⟩ => ⟨S2x2048x1024, .f32⟩
  | .hbm, ⟨5, _⟩ => ⟨S2x2048x1024, .bf16⟩
  | .hbm, ⟨6, _⟩ => ⟨S2x2048x1024, .f32⟩
  | .hbm, ⟨7, _⟩ => ⟨S1x1024, .f32⟩
  | .hbm, ⟨8, _⟩ => ⟨S2x1x1024, .f32⟩
  | .hbm, ⟨9, _⟩ => ⟨S2x1x1024, .f32⟩
  | .hbm, ⟨10, _⟩ => ⟨S2x1x1024, .f32⟩
  | .local _ .vmem, ⟨0, _⟩ => ⟨S1x512x1024, .f32⟩
  | .local _ .vmem, ⟨1, _⟩ => ⟨S1x512x1024, .f32⟩
  | .local _ .vmem, ⟨2, _⟩ => ⟨S1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x512x1024, .f32⟩
  | .local _ .vmem, ⟨6, _⟩ => ⟨S1x512x1024, .f32⟩
  | .local _ .vmem, ⟨7, _⟩ => ⟨S1x512x1024, .f32⟩
  | .local _ .vmem, ⟨8, _⟩ => ⟨S1x512x1024, .f32⟩
  | .local _ .vmem, ⟨9, _⟩ => ⟨S1x512x1024, .bf16⟩
  | .local _ .vmem, ⟨10, _⟩ => ⟨S1x512x1024, .bf16⟩
  | .local _ .vmem, ⟨11, _⟩ => ⟨S1x512x1024, .f32⟩
  | .local _ .vmem, ⟨12, _⟩ => ⟨S1x512x1024, .f32⟩
  | .local _ .vmem, ⟨13, _⟩ => ⟨S1x1024, .f32⟩
  | .local _ .vmem, ⟨14, _⟩ => ⟨S1x1x1024, .f32⟩
  | .local _ .vmem, ⟨15, _⟩ => ⟨S1x1x1024, .f32⟩
  | .local _ .vmem, ⟨16, _⟩ => ⟨S1x1x1024, .f32⟩
  | .local _ .vmem, ⟨17, _⟩ => ⟨S1x1x1024, .f32⟩
  | .local _ .vmem, ⟨18, _⟩ => ⟨S1x1x1024, .f32⟩
  | .local _ .vmem, ⟨19, _⟩ => ⟨S1x1x1024, .f32⟩
  | _, _ => ⟨S2x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev main_v0_3 : Ref sig .tc := ⟨.hbm, 9, rfl⟩
abbrev main_v0_4 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19

abbrev nD : Nat := 1
abbrev τ : Topo := Topo.v7x

variable {F : FTy → Type} [FloatOps F]

abbrev grid0 : Pipeline.Grid := ⟨2, ![2, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S1x1x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S1x1x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S1x1x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]
-- ==== Reference26Ideal.lean ====
abbrev S2x2048x1024 : Shape := ⟨3, ![2, 2048, 1024]⟩
abbrev S1x1024 : Shape := ⟨2, ![1, 1024]⟩
abbrev S2x1x1024 : Shape := ⟨3, ![2, 1, 1024]⟩
abbrev S_ : Shape := ⟨0, ![]⟩
abbrev S1024 : Shape := ⟨1, ![1024]⟩
abbrev S2x2048 : Shape := ⟨2, ![2, 2048]⟩
abbrev S2x2048x1 : Shape := ⟨3, ![2, 2048, 1]⟩
abbrev S1x1x1024 : Shape := ⟨3, ![1, 1, 1024]⟩
abbrev S2x1024 : Shape := ⟨2, ![2, 1024]⟩

abbrev nBuf : Space → Nat
  | .hbm => 82
  | .vmem => 0
  | .smem => 0
  | _ => 0

abbrev bufTy : (tb : Table) → Fin (tcTables nBuf tb) → BufTy
  | .hbm, ⟨0, _⟩ => ⟨S2x2048x1024, .f32⟩
  | .hbm, ⟨1, _⟩ => ⟨S1x1024, .f32⟩
  | .hbm, ⟨2, _⟩ => ⟨S2x1x1024, .f32⟩
  | .hbm, ⟨3, _⟩ => ⟨S2x2048x1024, .f32⟩
  | .hbm, ⟨4, _⟩ => ⟨S2x2048x1024, .f32⟩
  | .hbm, ⟨5, _⟩ => ⟨S2x2048x1024, .bf16⟩
  | .hbm, ⟨6, _⟩ => ⟨S_, .f32⟩
  | .hbm, ⟨7, _⟩ => ⟨S2x1x1024, .f32⟩
  | .hbm, ⟨8, _⟩ => ⟨S_, .f32⟩
  | .hbm, ⟨9, _⟩ => ⟨S2x1x1024, .f32⟩
  | .hbm, ⟨10, _⟩ => ⟨S1024, .f32⟩
  | .hbm, ⟨11, _⟩ => ⟨S2x2048x1024, .f32⟩
  | .hbm, ⟨12, _⟩ => ⟨S_, .f32⟩
  | .hbm, ⟨13, _⟩ => ⟨S2x2048, .f32⟩
  | .hbm, ⟨14, _⟩ => ⟨S2x2048x1, .f32⟩
  | .hbm, ⟨15, _⟩ => ⟨S_, .f32⟩
  | .hbm, ⟨16, _⟩ => ⟨S2x2048x1, .f32⟩
  | .hbm, ⟨17, _⟩ => ⟨S2x2048x1, .f32⟩
  | .hbm, ⟨18, _⟩ => ⟨S_, .f32⟩
  | .hbm, ⟨19, _⟩ => ⟨S2x2048x1, .f32⟩
  | .hbm, ⟨20, _⟩ => ⟨S2x2048x1, .f32⟩
  | .hbm, ⟨21, _⟩ => ⟨S2x2048x1, .f32⟩
  | .hbm, ⟨22, _⟩ => ⟨S2x2048x1, .f32⟩
  | .hbm, ⟨23, _⟩ => ⟨S_, .f32⟩
  | .hbm, ⟨24, _⟩ => ⟨S2x2048x1, .f32⟩
  | .hbm, ⟨25, _⟩ => ⟨S2x2048x1, .f32⟩
  | .hbm, ⟨26, _⟩ => ⟨S2x2048x1024, .f32⟩
  | .hbm, ⟨27, _⟩ => ⟨S2x2048x1024, .f32⟩
  | .hbm, ⟨28, _⟩ => ⟨S1x1x1024, .f32⟩
  | .hbm, ⟨29, _⟩ => ⟨S2x2048x1024, .f32⟩
  | .hbm, ⟨30, _⟩ => ⟨S2x2048x1024, .f32⟩
  | .hbm, ⟨31, _⟩ => ⟨S_, .f32⟩
  | .hbm, ⟨32, _⟩ => ⟨S2x1x1024, .f32⟩
  | .hbm, ⟨33, _⟩ => ⟨S2x1x1024, .f32⟩
  | .hbm, ⟨34, _⟩ => ⟨S2x2048x1024, .f32⟩
  | .hbm, ⟨35, _⟩ => ⟨S2x2048x1024, .f32⟩
  | .hbm, ⟨36, _⟩ => ⟨S2x2048x1024, .f32⟩
  | .hbm, ⟨37, _⟩ => ⟨S2x2048x1024, .f32⟩
  | .hbm, ⟨38, _⟩ => ⟨S2x2048x1024, .f32⟩
  | .hbm, ⟨39, _⟩ => ⟨S_, .f32⟩
  | .hbm, ⟨40, _⟩ => ⟨S2x1024, .f32⟩
  | .hbm, ⟨41, _⟩ => ⟨S2x1x1024, .f32⟩
  | .hbm, ⟨42, _⟩ => ⟨S2x2048x1024, .f32⟩
  | .hbm, ⟨43, _⟩ => ⟨S_, .f32⟩
  | .hbm, ⟨44, _⟩ => ⟨S2x1024, .f32⟩
  | .hbm, ⟨45, _⟩ => ⟨S2x1x1024, .f32⟩
  | .hbm, ⟨46, _⟩ => ⟨S2x2048x1024, .f32⟩
  | .hbm, ⟨47, _⟩ => ⟨S2x2048x1024, .f32⟩
  | .hbm, ⟨48, _⟩ => ⟨S2x2048x1024, .f32⟩
  | .hbm, ⟨49, _⟩ => ⟨S_, .f32⟩
  | .hbm, ⟨50, _⟩ => ⟨S1024, .f32⟩
  | .hbm, ⟨51, _⟩ => ⟨S1x1x1024, .f32⟩
  | .hbm, ⟨52, _⟩ => ⟨S2x2048x1024, .f32⟩
  | .hbm, ⟨53, _⟩ => ⟨S2x2048x1024, .f32⟩
  | .hbm, ⟨54, _⟩ => ⟨S_, .f32⟩
  | .hbm, ⟨55, _⟩ => ⟨S1024, .f32⟩
  | .hbm, ⟨56, _⟩ => ⟨S2x2048x1024, .f32⟩
  | .hbm, ⟨57, _⟩ => ⟨S_, .f32⟩
  | .hbm, ⟨58, _⟩ => ⟨S2x2048, .f32⟩
  | .hbm, ⟨59, _⟩ => ⟨S2x2048x1, .f32⟩
  | .hbm, ⟨60, _⟩ => ⟨S2x2048x1024, .f32⟩
  | .hbm, ⟨61, _⟩ => ⟨S2x2048x1024, .f32⟩
  | .hbm, ⟨62, _⟩ => ⟨S2x2048x1, .f32⟩
  | .hbm, ⟨63, _⟩ => ⟨S_, .f32⟩
  | .hbm, ⟨64, _⟩ => ⟨S2x2048x1, .f32⟩
  | .hbm, ⟨65, _⟩ => ⟨S2x2048x1, .f32⟩
  | .hbm, ⟨66, _⟩ => ⟨S_, .f32⟩
  | .hbm, ⟨67, _⟩ => ⟨S2x2048, .f32⟩
  | .hbm, ⟨68, _⟩ => ⟨S2x2048x1024, .f32⟩
  | .hbm, ⟨69, _⟩ => ⟨S2x2048x1024, .f32⟩
  | .hbm, ⟨70, _⟩ => ⟨S2x2048x1024, .f32⟩
  | .hbm, ⟨71, _⟩ => ⟨S2x2048x1024, .f32⟩
  | .hbm, ⟨72, _⟩ => ⟨S2x2048x1024, .f32⟩
  | .hbm, ⟨73, _⟩ => ⟨S1x1024, .f32⟩
  | .hbm, ⟨74, _⟩ => ⟨S2x2048x1024, .f32⟩
  | .hbm, ⟨75, _⟩ => ⟨S2x2048x1024, .f32⟩
  | .hbm, ⟨76, _⟩ => ⟨S2x2048x1024, .f32⟩
  | .hbm, ⟨77, _⟩ => ⟨S2x2048x1024, .f32⟩
  | .hbm, ⟨78, _⟩ => ⟨S2x2048x1024, .f32⟩
  | .hbm, ⟨79, _⟩ => ⟨S_, .f32⟩
  | .hbm, ⟨80, _⟩ => ⟨S2x1024, .f32⟩
  | .hbm, ⟨81, _⟩ => ⟨S2x1x1024, .f32⟩
  | _, _ => ⟨S2x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_cst_0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst_1 : Ref sig .tc := ⟨.hbm, 12, rfl⟩
abbrev main_v4 : Ref sig .tc := ⟨.hbm, 13, rfl⟩
abbrev main_v5 : Ref sig .tc := ⟨.hbm, 14, rfl⟩
abbrev main_cst_2 : Ref sig .tc := ⟨.hbm, 15, rfl⟩
abbrev main_v6 : Ref sig .tc := ⟨.hbm, 16, rfl⟩
abbrev main_v7 : Ref sig .tc := ⟨.hbm, 17, rfl⟩
abbrev main_cst_3 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_cst_4 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_cst_5 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_cst_6 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_cst_7 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_cst_8 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_cst_9 : Ref sig .tc := ⟨.hbm, 54, rfl⟩
abbrev main_v38 : Ref sig .tc := ⟨.hbm, 55, rfl⟩
abbrev main_v39 : Ref sig .tc := ⟨.hbm, 56, rfl⟩
abbrev main_cst_10 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_cst_11 : Ref sig .tc := ⟨.hbm, 63, rfl⟩
abbrev main_v45 : Ref sig .tc := ⟨.hbm, 64, rfl⟩
abbrev main_v46 : Ref sig .tc := ⟨.hbm, 65, rfl⟩
abbrev main_cst_12 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_cst_13 : Ref sig .tc := ⟨.hbm, 79, rfl⟩
abbrev main_v59 : Ref sig .tc := ⟨.hbm, 80, rfl⟩
abbrev main_v60 : Ref sig .tc := ⟨.hbm, 81, rfl⟩

abbrev nD : Nat := 1
abbrev τ : Topo := Topo.v7x

variable {F : FTy → Type} [FloatOps F]
-- ==== Proof.SbTrip.lean ====
module

public import proofs.«01_k».proof.Proof.Gen.KernelIdeal.Loops

@[expose] public section

set_option maxRecDepth 8192
set_option maxHeartbeats 4000000

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The resource algebra of the generated instances: the frame kit's (Gen/<Name>/Frame.lean). -/
local notation "𝕄G" => MT nD τ sig Unit (Elt F) ℕ (UR sig nD τ) ℕ

/-- The buffers one trip of the loop over query blocks holds: the prepared operands at given contents, the
three accumulators at any. -/
abbrev TripQ (c : Dev nD) (arg7 : Memref sig .tc .vmem S1x2x2048x1 .f32) (arg14 : Memref sig .tc .vmem S2x2048x64 .bf16) (arg15 : Memref sig .tc .vmem S2x2048x64 .bf16) (arg16 : Memref sig .tc .vmem S2x2048x64 .bf16) (arg17 : Memref sig .tc .vmem S2x2048x64 .bf16) (arg18 : Memref sig .tc .vmem S2x2048x64 .f32) (arg19 : Memref sig .tc .vmem S2x64x2048 .f32) (arg20 : Memref sig .tc .vmem S2x64x2048 .f32) (X_arg7 : BufTy.Contents (Elt F) arg7.view.ty) (X_arg14 : BufTy.Contents (Elt F) arg14.view.ty) (X_arg15 : BufTy.Contents (Elt F) arg15.view.ty) (X_arg16 : BufTy.Contents (Elt F) arg16.view.ty) (X_arg17 : BufTy.Contents (Elt F) arg17.view.ty) (f_arg18 : BufTy.Contents (Elt F) arg18.view.ty) (f_arg19 : BufTy.Contents (Elt F) arg19.view.ty) (f_arg20 : BufTy.Contents (Elt F) arg20.view.ty) : sProp 𝕄G :=
  iprop((arg7.view.loc (c : Thread nD τ) ↦[arg7.view.set]{fullShare} X_arg7) ∗ (arg14.view.loc (c : Thread nD τ) ↦[arg14.view.set]{fullShare} X_arg14) ∗ (arg15.view.loc (c : Thread nD τ) ↦[arg15.view.set]{fullShare} X_arg15) ∗ (arg16.view.loc (c : Thread nD τ) ↦[arg16.view.set]{fullShare} X_arg16) ∗ (arg17.view.loc (c : Thread nD τ) ↦[arg17.view.set]{fullShare} X_arg17) ∗ (arg18.view.loc (c : Thread nD τ) ↦[arg18.view.set]{fullShare} f_arg18) ∗ (arg19.view.loc (c : Thread nD τ) ↦[arg19.view.set]{fullShare} f_arg19) ∗ (arg20.view.loc (c : Thread nD τ) ↦[arg20.view.set]{fullShare} f_arg20))

/-- One trip of the loop over query blocks, of a block whose diagonal step is 256 keys wide: the writes it makes into the three
accumulators, as functions of the contents it finds in the two that it adds to. -/
@[irreducible] def tripNarrow (𝒱 : Variants) (c : Dev nD) (bd : Option 𝒱.V) (i : grid0.Coords) (arg2 : Memref sig .tc .vmem S1x2048x128 .f32) (harg2 : arg2.IsWhole) (arg3 : Memref sig .tc .vmem S1x2048x128 .f32) (harg3 : arg3.IsWhole) (arg4 : Memref sig .tc .vmem S1x2048x128 .f32) (harg4 : arg4.IsWhole) (arg5 : Memref sig .tc .vmem S1x64 .f32) (harg5 : arg5.IsWhole) (arg6 : Memref sig .tc .vmem S1x64 .f32) (harg6 : arg6.IsWhole) (arg7 : Memref sig .tc .vmem S1x2x2048x1 .f32) (harg7 : arg7.IsWhole) (arg8 : Memref sig .tc .vmem S1x2048x128 .f32) (harg8 : arg8.IsWhole) (arg9 : Memref sig .tc .vmem S1x2048x128 .f32) (harg9 : arg9.IsWhole) (arg10 : Memref sig .tc .vmem S1x2048x128 .f32) (harg10 : arg10.IsWhole) (arg11 : Memref sig .tc .vmem S1x2048x128 .f32) (harg11 : arg11.IsWhole) (arg12 : Memref sig .tc .vmem S1x64 .f32) (harg12 : arg12.IsWhole) (arg13 : Memref sig .tc .vmem S1x64 .f32) (harg13 : arg13.IsWhole) (arg14 : Memref sig .tc .vmem S2x2048x64 .bf16) (harg14 : arg14.IsWhole) (arg15 : Memref sig .tc .vmem S2x2048x64 .bf16) (harg15 : arg15.IsWhole) (arg16 : Memref sig .tc .vmem S2x2048x64 .bf16) (harg16 : arg16.IsWhole) (arg17 : Memref sig .tc .vmem S2x2048x64 .bf16) (harg17 : arg17.IsWhole) (arg18 : Memref sig .tc .vmem S2x2048x64 .f32) (harg18 : arg18.IsWhole) (arg19 : Memref sig .tc .vmem S2x64x2048 .f32) (harg19 : arg19.IsWhole) (arg20 : Memref sig .tc .vmem S2x64x2048 .f32) (harg20 : arg20.IsWhole) (X_arg7 : BufTy.Contents (Elt F) arg7.view.ty) (X_arg14 : BufTy.Contents (Elt F) arg14.view.ty) (X_arg15 : BufTy.Contents (Elt F) arg15.view.ty) (X_arg16 : BufTy.Contents (Elt F) arg16.view.ty) (X_arg17 : BufTy.Contents (Elt F) arg17.view.ty) (k : Fin k0_t2_loop.trips) (hk : k0_cond2 k = 1#1) :
    Σ' (L_arg18 : (BufTy.Contents (Elt F) arg19.view.ty → BufTy.Contents (Elt F) arg20.view.ty → List (View.Piece (Elt F) S2x2048x64 .f32))) (L_arg19 : (BufTy.Contents (Elt F) arg19.view.ty → BufTy.Contents (Elt F) arg20.view.ty → List (View.Piece (Elt F) S2x64x2048 .f32))), { L_arg20 : (BufTy.Contents (Elt F) arg19.view.ty → BufTy.Contents (Elt F) arg20.view.ty → List (View.Piece (Elt F) S2x64x2048 .f32)) // ∀ (E : Set ℕ) (f_arg18 : BufTy.Contents (Elt F) arg18.view.ty) (f_arg19 : BufTy.Contents (Elt F) arg19.view.ty) (f_arg20 : BufTy.Contents (Elt F) arg20.view.ty),
      TripQ (F := F) c arg7 arg14 arg15 arg16 arg17 arg18 arg19 arg20 X_arg7 X_arg14 X_arg15 X_arg16 X_arg17 f_arg18 f_arg19 f_arg20
      ⊢ wp frame (wpE (defs₀ (F := F)) 𝒱 (c : Thread nD τ) bd) E (k0_t2_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 k ⟨⟩)
          (fun _ => TripQ (F := F) c arg7 arg14 arg15 arg16 arg17 arg18 arg19 arg20 X_arg7 X_arg14 X_arg15 X_arg16 X_arg17 (arg18.view.writes (Elt F) f_arg18 (L_arg18 f_arg19 f_arg20)) (arg19.view.writes (Elt F) f_arg19 (L_arg19 f_arg19 f_arg20)) (arg20.view.writes (Elt F) f_arg20 (L_arg20 f_arg19 f_arg20))) } := by
  refine ⟨?_, ?_, ?_, fun E f_arg18 f_arg19 f_arg20 => ?run⟩
  case run =>
    unfold k0_t2_body
    iintro ⟨HR_arg7, HR_arg14, HR_arg15, HR_arg16, HR_arg17, HW_arg18, HW_arg19, HW_arg20⟩
    sl_exec
    sl_step
    sl_close

/-- One trip of the loop over query blocks, of a block whose diagonal step is 512 keys wide: the writes it makes into the three
accumulators, as functions of the contents it finds in the two that it adds to. -/
@[irreducible] def tripWide (𝒱 : Variants) (c : Dev nD) (bd : Option 𝒱.V) (i : grid0.Coords) (arg2 : Memref sig .tc .vmem S1x2048x128 .f32) (harg2 : arg2.IsWhole) (arg3 : Memref sig .tc .vmem S1x2048x128 .f32) (harg3 : arg3.IsWhole) (arg4 : Memref sig .tc .vmem S1x2048x128 .f32) (harg4 : arg4.IsWhole) (arg5 : Memref sig .tc .vmem S1x64 .f32) (harg5 : arg5.IsWhole) (arg6 : Memref sig .tc .vmem S1x64 .f32) (harg6 : arg6.IsWhole) (arg7 : Memref sig .tc .vmem S1x2x2048x1 .f32) (harg7 : arg7.IsWhole) (arg8 : Memref sig .tc .vmem S1x2048x128 .f32) (harg8 : arg8.IsWhole) (arg9 : Memref sig .tc .vmem S1x2048x128 .f32) (harg9 : arg9.IsWhole) (arg10 : Memref sig .tc .vmem S1x2048x128 .f32) (harg10 : arg10.IsWhole) (arg11 : Memref sig .tc .vmem S1x2048x128 .f32) (harg11 : arg11.IsWhole) (arg12 : Memref sig .tc .vmem S1x64 .f32) (harg12 : arg12.IsWhole) (arg13 : Memref sig .tc .vmem S1x64 .f32) (harg13 : arg13.IsWhole) (arg14 : Memref sig .tc .vmem S2x2048x64 .bf16) (harg14 : arg14.IsWhole) (arg15 : Memref sig .tc .vmem S2x2048x64 .bf16) (harg15 : arg15.IsWhole) (arg16 : Memref sig .tc .vmem S2x2048x64 .bf16) (harg16 : arg16.IsWhole) (arg17 : Memref sig .tc .vmem S2x2048x64 .bf16) (harg17 : arg17.IsWhole) (arg18 : Memref sig .tc .vmem S2x2048x64 .f32) (harg18 : arg18.IsWhole) (arg19 : Memref sig .tc .vmem S2x64x2048 .f32) (harg19 : arg19.IsWhole) (arg20 : Memref sig .tc .vmem S2x64x2048 .f32) (harg20 : arg20.IsWhole) (X_arg7 : BufTy.Contents (Elt F) arg7.view.ty) (X_arg14 : BufTy.Contents (Elt F) arg14.view.ty) (X_arg15 : BufTy.Contents (Elt F) arg15.view.ty) (X_arg16 : BufTy.Contents (Elt F) arg16.view.ty) (X_arg17 : BufTy.Contents (Elt F) arg17.view.ty) (k : Fin k0_t2_loop.trips) (hk : ¬ k0_cond2 k = 1#1) :
    Σ' (L_arg18 : (BufTy.Contents (Elt F) arg19.view.ty → BufTy.Contents (Elt F) arg20.view.ty → List (View.Piece (Elt F) S2x2048x64 .f32))) (L_arg19 : (BufTy.Contents (Elt F) arg19.view.ty → BufTy.Contents (Elt F) arg20.view.ty → List (View.Piece (Elt F) S2x64x2048 .f32))), { L_arg20 : (BufTy.Contents (Elt F) arg19.view.ty → BufTy.Contents (Elt F) arg20.view.ty → List (View.Piece (Elt F) S2x64x2048 .f32)) // ∀ (E : Set ℕ) (f_arg18 : BufTy.Contents (Elt F) arg18.view.ty) (f_arg19 : BufTy.Contents (Elt F) arg19.view.ty) (f_arg20 : BufTy.Contents (Elt F) arg20.view.ty),
      TripQ (F := F) c arg7 arg14 arg15 arg16 arg17 arg18 arg19 arg20 X_arg7 X_arg14 X_arg15 X_arg16 X_arg17 f_arg18 f_arg19 f_arg20
      ⊢ wp frame (wpE (defs₀ (F := F)) 𝒱 (c : Thread nD τ) bd) E (k0_t2_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 k ⟨⟩)
          (fun _ => TripQ (F := F) c arg7 arg14 arg15 arg16 arg17 arg18 arg19 arg20 X_arg7 X_arg14 X_arg15 X_arg16 X_arg17 (arg18.view.writes (Elt F) f_arg18 (L_arg18 f_arg19 f_arg20)) (arg19.view.writes (Elt F) f_arg19 (L_arg19 f_arg19 f_arg20)) (arg20.view.writes (Elt F) f_arg20 (L_arg20 f_arg19 f_arg20))) } := by
  refine ⟨?_, ?_, ?_, fun E f_arg18 f_arg19 f_arg20 => ?run⟩
  case run =>
    unfold k0_t2_body
    iintro ⟨HR_arg7, HR_arg14, HR_arg15, HR_arg16, HR_arg17, HW_arg18, HW_arg19, HW_arg20⟩
    sl_exec
    sl_step
    sl_close

/-- The writes made before trip `k + 1`, from those made before trip `k`. -/
def stepQ (𝒱 : Variants) (c : Dev nD) (bd : Option 𝒱.V) (i : grid0.Coords) (arg2 : Memref sig .tc .vmem S1x2048x128 .f32) (harg2 : arg2.IsWhole) (arg3 : Memref sig .tc .vmem S1x2048x128 .f32) (harg3 : arg3.IsWhole) (arg4 : Memref sig .tc .vmem S1x2048x128 .f32) (harg4 : arg4.IsWhole) (arg5 : Memref sig .tc .vmem S1x64 .f32) (harg5 : arg5.IsWhole) (arg6 : Memref sig .tc .vmem S1x64 .f32) (harg6 : arg6.IsWhole) (arg7 : Memref sig .tc .vmem S1x2x2048x1 .f32) (harg7 : arg7.IsWhole) (arg8 : Memref sig .tc .vmem S1x2048x128 .f32) (harg8 : arg8.IsWhole) (arg9 : Memref sig .tc .vmem S1x2048x128 .f32) (harg9 : arg9.IsWhole) (arg10 : Memref sig .tc .vmem S1x2048x128 .f32) (harg10 : arg10.IsWhole) (arg11 : Memref sig .tc .vmem S1x2048x128 .f32) (harg11 : arg11.IsWhole) (arg12 : Memref sig .tc .vmem S1x64 .f32) (harg12 : arg12.IsWhole) (arg13 : Memref sig .tc .vmem S1x64 .f32) (harg13 : arg13.IsWhole) (arg14 : Memref sig .tc .vmem S2x2048x64 .bf16) (harg14 : arg14.IsWhole) (arg15 : Memref sig .tc .vmem S2x2048x64 .bf16) (harg15 : arg15.IsWhole) (arg16 : Memref sig .tc .vmem S2x2048x64 .bf16) (harg16 : arg16.IsWhole) (arg17 : Memref sig .tc .vmem S2x2048x64 .bf16) (harg17 : arg17.IsWhole) (arg18 : Memref sig .tc .vmem S2x2048x64 .f32) (harg18 : arg18.IsWhole) (arg19 : Memref sig .tc .vmem S2x64x2048 .f32) (harg19 : arg19.IsWhole) (arg20 : Memref sig .tc .vmem S2x64x2048 .f32) (harg20 : arg20.IsWhole) (X_arg7 : BufTy.Contents (Elt F) arg7.view.ty) (X_arg14 : BufTy.Contents (Elt F) arg14.view.ty) (X_arg15 : BufTy.Contents (Elt F) arg15.view.ty) (X_arg16 : BufTy.Contents (Elt F) arg16.view.ty) (X_arg17 : BufTy.Contents (Elt F) arg17.view.ty) (G_arg19 : BufTy.Contents (Elt F) arg19.view.ty) (G_arg20 : BufTy.Contents (Elt F) arg20.view.ty) (k : ℕ) (prev : List (View.Piece (Elt F) S2x2048x64 .f32) × List (View.Piece (Elt F) S2x64x2048 .f32) × List (View.Piece (Elt F) S2x64x2048 .f32)) : List (View.Piece (Elt F) S2x2048x64 .f32) × List (View.Piece (Elt F) S2x64x2048 .f32) × List (View.Piece (Elt F) S2x64x2048 .f32) :=
  if h : k < k0_t2_loop.trips then
    if hk : k0_cond2 ⟨k, h⟩ = 1#1 then
      ((tripNarrow (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 X_arg7 X_arg14 X_arg15 X_arg16 X_arg17 ⟨k, h⟩ hk).1 (arg19.view.writes (Elt F) G_arg19 prev.2.1) (arg20.view.writes (Elt F) G_arg20 prev.2.2) ++ prev.1, (tripNarrow (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 X_arg7 X_arg14 X_arg15 X_arg16 X_arg17 ⟨k, h⟩ hk).2.1 (arg19.view.writes (Elt F) G_arg19 prev.2.1) (arg20.view.writes (Elt F) G_arg20 prev.2.2) ++ prev.2.1, (tripNarrow (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 X_arg7 X_arg14 X_arg15 X_arg16 X_arg17 ⟨k, h⟩ hk).2.2.1 (arg19.view.writes (Elt F) G_arg19 prev.2.1) (arg20.view.writes (Elt F) G_arg20 prev.2.2) ++ prev.2.2)
    else
      ((tripWide (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 X_arg7 X_arg14 X_arg15 X_arg16 X_arg17 ⟨k, h⟩ hk).1 (arg19.view.writes (Elt F) G_arg19 prev.2.1) (arg20.view.writes (Elt F) G_arg20 prev.2.2) ++ prev.1, (tripWide (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 X_arg7 X_arg14 X_arg15 X_arg16 X_arg17 ⟨k, h⟩ hk).2.1 (arg19.view.writes (Elt F) G_arg19 prev.2.1) (arg20.view.writes (Elt F) G_arg20 prev.2.2) ++ prev.2.1, (tripWide (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 X_arg7 X_arg14 X_arg15 X_arg16 X_arg17 ⟨k, h⟩ hk).2.2.1 (arg19.view.writes (Elt F) G_arg19 prev.2.1) (arg20.view.writes (Elt F) G_arg20 prev.2.2) ++ prev.2.2)
  else prev

/-- The writes the loop over query blocks has made before trip `k`, into the gradient of the queries and into the two
accumulators over keys. -/
def stQ (𝒱 : Variants) (c : Dev nD) (bd : Option 𝒱.V) (i : grid0.Coords) (arg2 : Memref sig .tc .vmem S1x2048x128 .f32) (harg2 : arg2.IsWhole) (arg3 : Memref sig .tc .vmem S1x2048x128 .f32) (harg3 : arg3.IsWhole) (arg4 : Memref sig .tc .vmem S1x2048x128 .f32) (harg4 : arg4.IsWhole) (arg5 : Memref sig .tc .vmem S1x64 .f32) (harg5 : arg5.IsWhole) (arg6 : Memref sig .tc .vmem S1x64 .f32) (harg6 : arg6.IsWhole) (arg7 : Memref sig .tc .vmem S1x2x2048x1 .f32) (harg7 : arg7.IsWhole) (arg8 : Memref sig .tc .vmem S1x2048x128 .f32) (harg8 : arg8.IsWhole) (arg9 : Memref sig .tc .vmem S1x2048x128 .f32) (harg9 : arg9.IsWhole) (arg10 : Memref sig .tc .vmem S1x2048x128 .f32) (harg10 : arg10.IsWhole) (arg11 : Memref sig .tc .vmem S1x2048x128 .f32) (harg11 : arg11.IsWhole) (arg12 : Memref sig .tc .vmem S1x64 .f32) (harg12 : arg12.IsWhole) (arg13 : Memref sig .tc .vmem S1x64 .f32) (harg13 : arg13.IsWhole) (arg14 : Memref sig .tc .vmem S2x2048x64 .bf16) (harg14 : arg14.IsWhole) (arg15 : Memref sig .tc .vmem S2x2048x64 .bf16) (harg15 : arg15.IsWhole) (arg16 : Memref sig .tc .vmem S2x2048x64 .bf16) (harg16 : arg16.IsWhole) (arg17 : Memref sig .tc .vmem S2x2048x64 .bf16) (harg17 : arg17.IsWhole) (arg18 : Memref sig .tc .vmem S2x2048x64 .f32) (harg18 : arg18.IsWhole) (arg19 : Memref sig .tc .vmem S2x64x2048 .f32) (harg19 : arg19.IsWhole) (arg20 : Memref sig .tc .vmem S2x64x2048 .f32) (harg20 : arg20.IsWhole) (X_arg7 : BufTy.Contents (Elt F) arg7.view.ty) (X_arg14 : BufTy.Contents (Elt F) arg14.view.ty) (X_arg15 : BufTy.Contents (Elt F) arg15.view.ty) (X_arg16 : BufTy.Contents (Elt F) arg16.view.ty) (X_arg17 : BufTy.Contents (Elt F) arg17.view.ty) (G_arg19 : BufTy.Contents (Elt F) arg19.view.ty) (G_arg20 : BufTy.Contents (Elt F) arg20.view.ty) : ℕ → List (View.Piece (Elt F) S2x2048x64 .f32) × List (View.Piece (Elt F) S2x64x2048 .f32) × List (View.Piece (Elt F) S2x64x2048 .f32)
  | 0 => ([], [], [])
  | k + 1 => stepQ (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 X_arg7 X_arg14 X_arg15 X_arg16 X_arg17 G_arg19 G_arg20 k (stQ 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 X_arg7 X_arg14 X_arg15 X_arg16 X_arg17 G_arg19 G_arg20 k)

theorem stQ_narrow (𝒱 : Variants) (c : Dev nD) (bd : Option 𝒱.V) (i : grid0.Coords) (arg2 : Memref sig .tc .vmem S1x2048x128 .f32) (harg2 : arg2.IsWhole) (arg3 : Memref sig .tc .vmem S1x2048x128 .f32) (harg3 : arg3.IsWhole) (arg4 : Memref sig .tc .vmem S1x2048x128 .f32) (harg4 : arg4.IsWhole) (arg5 : Memref sig .tc .vmem S1x64 .f32) (harg5 : arg5.IsWhole) (arg6 : Memref sig .tc .vmem S1x64 .f32) (harg6 : arg6.IsWhole) (arg7 : Memref sig .tc .vmem S1x2x2048x1 .f32) (harg7 : arg7.IsWhole) (arg8 : Memref sig .tc .vmem S1x2048x128 .f32) (harg8 : arg8.IsWhole) (arg9 : Memref sig .tc .vmem S1x2048x128 .f32) (harg9 : arg9.IsWhole) (arg10 : Memref sig .tc .vmem S1x2048x128 .f32) (harg10 : arg10.IsWhole) (arg11 : Memref sig .tc .vmem S1x2048x128 .f32) (harg11 : arg11.IsWhole) (arg12 : Memref sig .tc .vmem S1x64 .f32) (harg12 : arg12.IsWhole) (arg13 : Memref sig .tc .vmem S1x64 .f32) (harg13 : arg13.IsWhole) (arg14 : Memref sig .tc .vmem S2x2048x64 .bf16) (harg14 : arg14.IsWhole) (arg15 : Memref sig .tc .vmem S2x2048x64 .bf16) (harg15 : arg15.IsWhole) (arg16 : Memref sig .tc .vmem S2x2048x64 .bf16) (harg16 : arg16.IsWhole) (arg17 : Memref sig .tc .vmem S2x2048x64 .bf16) (harg17 : arg17.IsWhole) (arg18 : Memref sig .tc .vmem S2x2048x64 .f32) (harg18 : arg18.IsWhole) (arg19 : Memref sig .tc .vmem S2x64x2048 .f32) (harg19 : arg19.IsWhole) (arg20 : Memref sig .tc .vmem S2x64x2048 .f32) (harg20 : arg20.IsWhole) (X_arg7 : BufTy.Contents (Elt F) arg7.view.ty) (X_arg14 : BufTy.Contents (Elt F) arg14.view.ty) (X_arg15 : BufTy.Contents (Elt F) arg15.view.ty) (X_arg16 : BufTy.Contents (Elt F) arg16.view.ty) (X_arg17 : BufTy.Contents (Elt F) arg17.view.ty) (G_arg19 : BufTy.Contents (Elt F) arg19.view.ty) (G_arg20 : BufTy.Contents (Elt F) arg20.view.ty) (k : Fin k0_t2_loop.trips) (hk : k0_cond2 k = 1#1) :
    stQ (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 X_arg7 X_arg14 X_arg15 X_arg16 X_arg17 G_arg19 G_arg20 (k.val + 1)
      = ((tripNarrow (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 X_arg7 X_arg14 X_arg15 X_arg16 X_arg17 k hk).1 (arg19.view.writes (Elt F) G_arg19 (stQ (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 X_arg7 X_arg14 X_arg15 X_arg16 X_arg17 G_arg19 G_arg20 k.val).2.1) (arg20.view.writes (Elt F) G_arg20 (stQ (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 X_arg7 X_arg14 X_arg15 X_arg16 X_arg17 G_arg19 G_arg20 k.val).2.2) ++ (stQ (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 X_arg7 X_arg14 X_arg15 X_arg16 X_arg17 G_arg19 G_arg20 k.val).1, (tripNarrow (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 X_arg7 X_arg14 X_arg15 X_arg16 X_arg17 k hk).2.1 (arg19.view.writes (Elt F) G_arg19 (stQ (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 X_arg7 X_arg14 X_arg15 X_arg16 X_arg17 G_arg19 G_arg20 k.val).2.1) (arg20.view.writes (Elt F) G_arg20 (stQ (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 X_arg7 X_arg14 X_arg15 X_arg16 X_arg17 G_arg19 G_arg20 k.val).2.2) ++ (stQ (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 X_arg7 X_arg14 X_arg15 X_arg16 X_arg17 G_arg19 G_arg20 k.val).2.1, (tripNarrow (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 X_arg7 X_arg14 X_arg15 X_arg16 X_arg17 k hk).2.2.1 (arg19.view.writes (Elt F) G_arg19 (stQ (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 X_arg7 X_arg14 X_arg15 X_arg16 X_arg17 G_arg19 G_arg20 k.val).2.1) (arg20.view.writes (Elt F) G_arg20 (stQ (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 X_arg7 X_arg14 X_arg15 X_arg16 X_arg17 G_arg19 G_arg20 k.val).2.2) ++ (stQ (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 X_arg7 X_arg14 X_arg15 X_arg16 X_arg17 G_arg19 G_arg20 k.val).2.2) := by
  show stepQ (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 X_arg7 X_arg14 X_arg15 X_arg16 X_arg17 _ _ k.val _ = _
  unfold stepQ; rw [dif_pos k.isLt, dif_pos hk]

theorem stQ_wide (𝒱 : Variants) (c : Dev nD) (bd : Option 𝒱.V) (i : grid0.Coords) (arg2 : Memref sig .tc .vmem S1x2048x128 .f32) (harg2 : arg2.IsWhole) (arg3 : Memref sig .tc .vmem S1x2048x128 .f32) (harg3 : arg3.IsWhole) (arg4 : Memref sig .tc .vmem S1x2048x128 .f32) (harg4 : arg4.IsWhole) (arg5 : Memref sig .tc .vmem S1x64 .f32) (harg5 : arg5.IsWhole) (arg6 : Memref sig .tc .vmem S1x64 .f32) (harg6 : arg6.IsWhole) (arg7 : Memref sig .tc .vmem S1x2x2048x1 .f32) (harg7 : arg7.IsWhole) (arg8 : Memref sig .tc .vmem S1x2048x128 .f32) (harg8 : arg8.IsWhole) (arg9 : Memref sig .tc .vmem S1x2048x128 .f32) (harg9 : arg9.IsWhole) (arg10 : Memref sig .tc .vmem S1x2048x128 .f32) (harg10 : arg10.IsWhole) (arg11 : Memref sig .tc .vmem S1x2048x128 .f32) (harg11 : arg11.IsWhole) (arg12 : Memref sig .tc .vmem S1x64 .f32) (harg12 : arg12.IsWhole) (arg13 : Memref sig .tc .vmem S1x64 .f32) (harg13 : arg13.IsWhole) (arg14 : Memref sig .tc .vmem S2x2048x64 .bf16) (harg14 : arg14.IsWhole) (arg15 : Memref sig .tc .vmem S2x2048x64 .bf16) (harg15 : arg15.IsWhole) (arg16 : Memref sig .tc .vmem S2x2048x64 .bf16) (harg16 : arg16.IsWhole) (arg17 : Memref sig .tc .vmem S2x2048x64 .bf16) (harg17 : arg17.IsWhole) (arg18 : Memref sig .tc .vmem S2x2048x64 .f32) (harg18 : arg18.IsWhole) (arg19 : Memref sig .tc .vmem S2x64x2048 .f32) (harg19 : arg19.IsWhole) (arg20 : Memref sig .tc .vmem S2x64x2048 .f32) (harg20 : arg20.IsWhole) (X_arg7 : BufTy.Contents (Elt F) arg7.view.ty) (X_arg14 : BufTy.Contents (Elt F) arg14.view.ty) (X_arg15 : BufTy.Contents (Elt F) arg15.view.ty) (X_arg16 : BufTy.Contents (Elt F) arg16.view.ty) (X_arg17 : BufTy.Contents (Elt F) arg17.view.ty) (G_arg19 : BufTy.Contents (Elt F) arg19.view.ty) (G_arg20 : BufTy.Contents (Elt F) arg20.view.ty) (k : Fin k0_t2_loop.trips) (hk : ¬ k0_cond2 k = 1#1) :
    stQ (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 X_arg7 X_arg14 X_arg15 X_arg16 X_arg17 G_arg19 G_arg20 (k.val + 1)
      = ((tripWide (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 X_arg7 X_arg14 X_arg15 X_arg16 X_arg17 k hk).1 (arg19.view.writes (Elt F) G_arg19 (stQ (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 X_arg7 X_arg14 X_arg15 X_arg16 X_arg17 G_arg19 G_arg20 k.val).2.1) (arg20.view.writes (Elt F) G_arg20 (stQ (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 X_arg7 X_arg14 X_arg15 X_arg16 X_arg17 G_arg19 G_arg20 k.val).2.2) ++ (stQ (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 X_arg7 X_arg14 X_arg15 X_arg16 X_arg17 G_arg19 G_arg20 k.val).1, (tripWide (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 X_arg7 X_arg14 X_arg15 X_arg16 X_arg17 k hk).2.1 (arg19.view.writes (Elt F) G_arg19 (stQ (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 X_arg7 X_arg14 X_arg15 X_arg16 X_arg17 G_arg19 G_arg20 k.val).2.1) (arg20.view.writes (Elt F) G_arg20 (stQ (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 X_arg7 X_arg14 X_arg15 X_arg16 X_arg17 G_arg19 G_arg20 k.val).2.2) ++ (stQ (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 X_arg7 X_arg14 X_arg15 X_arg16 X_arg17 G_arg19 G_arg20 k.val).2.1, (tripWide (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 X_arg7 X_arg14 X_arg15 X_arg16 X_arg17 k hk).2.2.1 (arg19.view.writes (Elt F) G_arg19 (stQ (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 X_arg7 X_arg14 X_arg15 X_arg16 X_arg17 G_arg19 G_arg20 k.val).2.1) (arg20.view.writes (Elt F) G_arg20 (stQ (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 X_arg7 X_arg14 X_arg15 X_arg16 X_arg17 G_arg19 G_arg20 k.val).2.2) ++ (stQ (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 X_arg7 X_arg14 X_arg15 X_arg16 X_arg17 G_arg19 G_arg20 k.val).2.2) := by
  show stepQ (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 X_arg7 X_arg14 X_arg15 X_arg16 X_arg17 _ _ k.val _ = _
  unfold stepQ; rw [dif_pos k.isLt, dif_neg hk]

/-- The invariant of the loop over query blocks: the operands unchanged, the accumulators at the writes made before trip `k`. -/
abbrev invQ (𝒱 : Variants) (c : Dev nD) (bd : Option 𝒱.V) (i : grid0.Coords) (arg2 : Memref sig .tc .vmem S1x2048x128 .f32) (harg2 : arg2.IsWhole) (arg3 : Memref sig .tc .vmem S1x2048x128 .f32) (harg3 : arg3.IsWhole) (arg4 : Memref sig .tc .vmem S1x2048x128 .f32) (harg4 : arg4.IsWhole) (arg5 : Memref sig .tc .vmem S1x64 .f32) (harg5 : arg5.IsWhole) (arg6 : Memref sig .tc .vmem S1x64 .f32) (harg6 : arg6.IsWhole) (arg7 : Memref sig .tc .vmem S1x2x2048x1 .f32) (harg7 : arg7.IsWhole) (arg8 : Memref sig .tc .vmem S1x2048x128 .f32) (harg8 : arg8.IsWhole) (arg9 : Memref sig .tc .vmem S1x2048x128 .f32) (harg9 : arg9.IsWhole) (arg10 : Memref sig .tc .vmem S1x2048x128 .f32) (harg10 : arg10.IsWhole) (arg11 : Memref sig .tc .vmem S1x2048x128 .f32) (harg11 : arg11.IsWhole) (arg12 : Memref sig .tc .vmem S1x64 .f32) (harg12 : arg12.IsWhole) (arg13 : Memref sig .tc .vmem S1x64 .f32) (harg13 : arg13.IsWhole) (arg14 : Memref sig .tc .vmem S2x2048x64 .bf16) (harg14 : arg14.IsWhole) (arg15 : Memref sig .tc .vmem S2x2048x64 .bf16) (harg15 : arg15.IsWhole) (arg16 : Memref sig .tc .vmem S2x2048x64 .bf16) (harg16 : arg16.IsWhole) (arg17 : Memref sig .tc .vmem S2x2048x64 .bf16) (harg17 : arg17.IsWhole) (arg18 : Memref sig .tc .vmem S2x2048x64 .f32) (harg18 : arg18.IsWhole) (arg19 : Memref sig .tc .vmem S2x64x2048 .f32) (harg19 : arg19.IsWhole) (arg20 : Memref sig .tc .vmem S2x64x2048 .f32) (harg20 : arg20.IsWhole) (X_arg7 : BufTy.Contents (Elt F) arg7.view.ty) (X_arg14 : BufTy.Contents (Elt F) arg14.view.ty) (X_arg15 : BufTy.Contents (Elt F) arg15.view.ty) (X_arg16 : BufTy.Contents (Elt F) arg16.view.ty) (X_arg17 : BufTy.Contents (Elt F) arg17.view.ty) (G_arg18 : BufTy.Contents (Elt F) arg18.view.ty) (G_arg19 : BufTy.Contents (Elt F) arg19.view.ty) (G_arg20 : BufTy.Contents (Elt F) arg20.view.ty) (k : ℕ) (_ : Unit) : sProp 𝕄G :=
  iprop((arg7.view.loc (c : Thread nD τ) ↦[arg7.view.set]{fullShare} X_arg7) ∗ (arg14.view.loc (c : Thread nD τ) ↦[arg14.view.set]{fullShare} X_arg14) ∗ (arg15.view.loc (c : Thread nD τ) ↦[arg15.view.set]{fullShare} X_arg15) ∗ (arg16.view.loc (c : Thread nD τ) ↦[arg16.view.set]{fullShare} X_arg16) ∗ (arg17.view.loc (c : Thread nD τ) ↦[arg17.view.set]{fullShare} X_arg17) ∗ (∃ f, (arg18.view.loc (c : Thread nD τ) ↦[arg18.view.set]{fullShare} f) ∗ ⌜f = arg18.view.writes (Elt F) G_arg18 (stQ (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 X_arg7 X_arg14 X_arg15 X_arg16 X_arg17 G_arg19 G_arg20 k).1⌝) ∗ (∃ f, (arg19.view.loc (c : Thread nD τ) ↦[arg19.view.set]{fullShare} f) ∗ ⌜f = arg19.view.writes (Elt F) G_arg19 (stQ (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 X_arg7 X_arg14 X_arg15 X_arg16 X_arg17 G_arg19 G_arg20 k).2.1⌝) ∗ (∃ f, (arg20.view.loc (c : Thread nD τ) ↦[arg20.view.set]{fullShare} f) ∗ ⌜f = arg20.view.writes (Elt F) G_arg20 (stQ (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 X_arg7 X_arg14 X_arg15 X_arg16 X_arg17 G_arg19 G_arg20 k).2.2⌝))

set_option warn.classDefReducibility false in
/-- The loop over query blocks, by its invariant. -/
@[sl_loop] def loopInvQ (𝒱 : Variants) (c : Dev nD) (bd : Option 𝒱.V) (E : Set ℕ) (i : grid0.Coords) (arg2 : Memref sig .tc .vmem S1x2048x128 .f32) (harg2 : arg2.IsWhole) (arg3 : Memref sig .tc .vmem S1x2048x128 .f32) (harg3 : arg3.IsWhole) (arg4 : Memref sig .tc .vmem S1x2048x128 .f32) (harg4 : arg4.IsWhole) (arg5 : Memref sig .tc .vmem S1x64 .f32) (harg5 : arg5.IsWhole) (arg6 : Memref sig .tc .vmem S1x64 .f32) (harg6 : arg6.IsWhole) (arg7 : Memref sig .tc .vmem S1x2x2048x1 .f32) (harg7 : arg7.IsWhole) (arg8 : Memref sig .tc .vmem S1x2048x128 .f32) (harg8 : arg8.IsWhole) (arg9 : Memref sig .tc .vmem S1x2048x128 .f32) (harg9 : arg9.IsWhole) (arg10 : Memref sig .tc .vmem S1x2048x128 .f32) (harg10 : arg10.IsWhole) (arg11 : Memref sig .tc .vmem S1x2048x128 .f32) (harg11 : arg11.IsWhole) (arg12 : Memref sig .tc .vmem S1x64 .f32) (harg12 : arg12.IsWhole) (arg13 : Memref sig .tc .vmem S1x64 .f32) (harg13 : arg13.IsWhole) (arg14 : Memref sig .tc .vmem S2x2048x64 .bf16) (harg14 : arg14.IsWhole) (arg15 : Memref sig .tc .vmem S2x2048x64 .bf16) (harg15 : arg15.IsWhole) (arg16 : Memref sig .tc .vmem S2x2048x64 .bf16) (harg16 : arg16.IsWhole) (arg17 : Memref sig .tc .vmem S2x2048x64 .bf16) (harg17 : arg17.IsWhole) (arg18 : Memref sig .tc .vmem S2x2048x64 .f32) (harg18 : arg18.IsWhole) (arg19 : Memref sig .tc .vmem S2x64x2048 .f32) (harg19 : arg19.IsWhole) (arg20 : Memref sig .tc .vmem S2x64x2048 .f32) (harg20 : arg20.IsWhole) (X_arg7 : BufTy.Contents (Elt F) arg7.view.ty) (X_arg14 : BufTy.Contents (Elt F) arg14.view.ty) (X_arg15 : BufTy.Contents (Elt F) arg15.view.ty) (X_arg16 : BufTy.Contents (Elt F) arg16.view.ty) (X_arg17 : BufTy.Contents (Elt F) arg17.view.ty) (G_arg18 : BufTy.Contents (Elt F) arg18.view.ty) (G_arg19 : BufTy.Contents (Elt F) arg19.view.ty) (G_arg20 : BufTy.Contents (Elt F) arg20.view.ty) :
    Idealize.ShloMosaic.LoopInv (M := MT nD τ sig Unit (Elt F) ℕ (UR sig nD τ) ℕ) Idealize.ShloMosaic.frame (wpE defs₀ 𝒱 (c : Thread nD τ) bd) E
      k0_t2_loop.lb k0_t2_loop.ub k0_t2_loop.st k0_t2_ok ⟨⟩ (k0_t2_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20) where
  inv := invQ (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 X_arg7 X_arg14 X_arg15 X_arg16 X_arg17 G_arg18 G_arg19 G_arg20
  step k acc := by
    iintro ⟨HR_arg7, HR_arg14, HR_arg15, HR_arg16, HR_arg17, ⟨%f_arg18, HW_arg18, %h_arg18⟩, ⟨%f_arg19, HW_arg19, %h_arg19⟩, ⟨%f_arg20, HW_arg20, %h_arg20⟩⟩
    by_cases hk : k0_cond2 k = 1#1
    · iapply (wp_wand_r Idealize.ShloMosaic.frame (wpE (defs₀ (F := F)) 𝒱 (c : Thread nD τ) bd) E)
      isplitl [HR_arg7 HR_arg14 HR_arg15 HR_arg16 HR_arg17 HW_arg18 HW_arg19 HW_arg20]
      · iapply ((tripNarrow (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 X_arg7 X_arg14 X_arg15 X_arg16 X_arg17 k hk).2.2.2 E f_arg18 f_arg19 f_arg20)
        isplitl [HR_arg7]; · iexact HR_arg7
        isplitl [HR_arg14]; · iexact HR_arg14
        isplitl [HR_arg15]; · iexact HR_arg15
        isplitl [HR_arg16]; · iexact HR_arg16
        isplitl [HR_arg17]; · iexact HR_arg17
        isplitl [HW_arg18]; · iexact HW_arg18
        isplitl [HW_arg19]; · iexact HW_arg19
        iexact HW_arg20
      · iintro %yld ⟨HR_arg7, HR_arg14, HR_arg15, HR_arg16, HR_arg17, HW_arg18, HW_arg19, HW_arg20⟩
        isplitl [HR_arg7]; · iexact HR_arg7
        isplitl [HR_arg14]; · iexact HR_arg14
        isplitl [HR_arg15]; · iexact HR_arg15
        isplitl [HR_arg16]; · iexact HR_arg16
        isplitl [HR_arg17]; · iexact HR_arg17
        rw [stQ_narrow 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 X_arg7 X_arg14 X_arg15 X_arg16 X_arg17 G_arg19 G_arg20 k hk]
        isplitl [HW_arg18]
        · iexists _; isplitl [HW_arg18]; · iexact HW_arg18
          ipureintro; rw [h_arg18, h_arg19, h_arg20, ← View.writes_append]
        isplitl [HW_arg19]
        · iexists _; isplitl [HW_arg19]; · iexact HW_arg19
          ipureintro; rw [h_arg19, h_arg20, ← View.writes_append]
        iexists _; isplitl [HW_arg20]; · iexact HW_arg20
        ipureintro; rw [h_arg19, h_arg20, ← View.writes_append]
    · iapply (wp_wand_r Idealize.ShloMosaic.frame (wpE (defs₀ (F := F)) 𝒱 (c : Thread nD τ) bd) E)
      isplitl [HR_arg7 HR_arg14 HR_arg15 HR_arg16 HR_arg17 HW_arg18 HW_arg19 HW_arg20]
      · iapply ((tripWide (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 X_arg7 X_arg14 X_arg15 X_arg16 X_arg17 k hk).2.2.2 E f_arg18 f_arg19 f_arg20)
        isplitl [HR_arg7]; · iexact HR_arg7
        isplitl [HR_arg14]; · iexact HR_arg14
        isplitl [HR_arg15]; · iexact HR_arg15
        isplitl [HR_arg16]; · iexact HR_arg16
        isplitl [HR_arg17]; · iexact HR_arg17
        isplitl [HW_arg18]; · iexact HW_arg18
        isplitl [HW_arg19]; · iexact HW_arg19
        iexact HW_arg20
      · iintro %yld ⟨HR_arg7, HR_arg14, HR_arg15, HR_arg16, HR_arg17, HW_arg18, HW_arg19, HW_arg20⟩
        isplitl [HR_arg7]; · iexact HR_arg7
        isplitl [HR_arg14]; · iexact HR_arg14
        isplitl [HR_arg15]; · iexact HR_arg15
        isplitl [HR_arg16]; · iexact HR_arg16
        isplitl [HR_arg17]; · iexact HR_arg17
        rw [stQ_wide 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 X_arg7 X_arg14 X_arg15 X_arg16 X_arg17 G_arg19 G_arg20 k hk]
        isplitl [HW_arg18]
        · iexists _; isplitl [HW_arg18]; · iexact HW_arg18
          ipureintro; rw [h_arg18, h_arg19, h_arg20, ← View.writes_append]
        isplitl [HW_arg19]
        · iexists _; isplitl [HW_arg19]; · iexact HW_arg19
          ipureintro; rw [h_arg19, h_arg20, ← View.writes_append]
        iexists _; isplitl [HW_arg20]; · iexact HW_arg20
        ipureintro; rw [h_arg19, h_arg20, ← View.writes_append]

end Cert.KernelIdeal.Gen

end
-- ==== Proof.SbRun.lean ====
module

public import proofs.«01_k».proof.Proof.Gen.KernelIdeal.Frame
public import proofs.«01_k».proof.Proof.SbTrip

@[expose] public section

set_option maxRecDepth 16384
set_option maxHeartbeats 4000000

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The resource algebra of the generated instances: the frame kit's (Gen/<Name>/Frame.lean). -/
local notation "𝕄G" => MT nD τ sig Unit (Elt F) ℕ (UR sig nD τ) ℕ

/-- The condition of the body's first branch: the first grid point, where the gradients of the two gains are zeroed. -/
abbrev firstPoint (i : grid0.Coords) : Prop :=
  (Scalar.cmpi .ne (Scalar.extui (Scalar.andi (Scalar.cmpi .eq (BitVec.ofNat 32 (i 0).val) 0#32) (Scalar.cmpi .eq (BitVec.ofNat 32 (i 1).val) 0#32))) 0#32) = 1#1

/-- It holds at point 0 alone. -/
theorem firstPoint_iff : ∀ t : Fin cfg0.N, firstPoint (grid0.coords t) ↔ t.val = 0 :=
  (by decide +kernel : ∀ t : Fin grid0.N, firstPoint (grid0.coords t) ↔ t.val = 0)

set_option maxHeartbeats 4000000 in
/-- The whole body at the first grid point, on any staging buffers: the writes it makes into each output, as functions of
what the scratch buffers held before. -/
noncomputable def bodyRunA (c : Dev nD) (i : grid0.Coords) (arg2 : Memref sig .tc .vmem S1x2048x128 .f32) (harg2 : arg2.IsWhole) (arg3 : Memref sig .tc .vmem S1x2048x128 .f32) (harg3 : arg3.IsWhole) (arg4 : Memref sig .tc .vmem S1x2048x128 .f32) (harg4 : arg4.IsWhole) (arg5 : Memref sig .tc .vmem S1x64 .f32) (harg5 : arg5.IsWhole) (arg6 : Memref sig .tc .vmem S1x64 .f32) (harg6 : arg6.IsWhole) (arg7 : Memref sig .tc .vmem S1x2x2048x1 .f32) (harg7 : arg7.IsWhole) (arg8 : Memref sig .tc .vmem S1x2048x128 .f32) (harg8 : arg8.IsWhole) (arg9 : Memref sig .tc .vmem S1x2048x128 .f32) (harg9 : arg9.IsWhole) (arg10 : Memref sig .tc .vmem S1x2048x128 .f32) (harg10 : arg10.IsWhole) (arg11 : Memref sig .tc .vmem S1x2048x128 .f32) (harg11 : arg11.IsWhole) (arg12 : Memref sig .tc .vmem S1x64 .f32) (harg12 : arg12.IsWhole) (arg13 : Memref sig .tc .vmem S1x64 .f32) (harg13 : arg13.IsWhole) (arg14 : Memref sig .tc .vmem S2x2048x64 .bf16) (harg14 : arg14.IsWhole) (arg15 : Memref sig .tc .vmem S2x2048x64 .bf16) (harg15 : arg15.IsWhole) (arg16 : Memref sig .tc .vmem S2x2048x64 .bf16) (harg16 : arg16.IsWhole) (arg17 : Memref sig .tc .vmem S2x2048x64 .bf16) (harg17 : arg17.IsWhole) (arg18 : Memref sig .tc .vmem S2x2048x64 .f32) (harg18 : arg18.IsWhole) (arg19 : Memref sig .tc .vmem S2x64x2048 .f32) (harg19 : arg19.IsWhole) (arg20 : Memref sig .tc .vmem S2x64x2048 .f32) (harg20 : arg20.IsWhole) (hc0 : firstPoint i) (x2 : Vec F S1x2048x128 .f32) (x3 : Vec F S1x2048x128 .f32) (x4 : Vec F S1x2048x128 .f32) (x5 : Vec F S1x64 .f32) (x6 : Vec F S1x64 .f32) (x7 : Vec F S1x2x2048x1 .f32) (x8 : Vec F S1x2048x128 .f32) :
    Σ' (L9 : (BufTy.Contents (Elt F) arg14.view.ty → BufTy.Contents (Elt F) arg15.view.ty → BufTy.Contents (Elt F) arg16.view.ty → BufTy.Contents (Elt F) arg17.view.ty → BufTy.Contents (Elt F) arg18.view.ty → BufTy.Contents (Elt F) arg19.view.ty → BufTy.Contents (Elt F) arg20.view.ty → List (View.Piece (Elt F) S1x2048x128 .f32))), Σ' (L10 : (BufTy.Contents (Elt F) arg14.view.ty → BufTy.Contents (Elt F) arg15.view.ty → BufTy.Contents (Elt F) arg16.view.ty → BufTy.Contents (Elt F) arg17.view.ty → BufTy.Contents (Elt F) arg18.view.ty → BufTy.Contents (Elt F) arg19.view.ty → BufTy.Contents (Elt F) arg20.view.ty → List (View.Piece (Elt F) S1x2048x128 .f32))), Σ' (L11 : (BufTy.Contents (Elt F) arg14.view.ty → BufTy.Contents (Elt F) arg15.view.ty → BufTy.Contents (Elt F) arg16.view.ty → BufTy.Contents (Elt F) arg17.view.ty → BufTy.Contents (Elt F) arg18.view.ty → BufTy.Contents (Elt F) arg19.view.ty → BufTy.Contents (Elt F) arg20.view.ty → List (View.Piece (Elt F) S1x2048x128 .f32))), Σ' (L12 : (BufTy.Contents (Elt F) arg14.view.ty → BufTy.Contents (Elt F) arg15.view.ty → BufTy.Contents (Elt F) arg16.view.ty → BufTy.Contents (Elt F) arg17.view.ty → BufTy.Contents (Elt F) arg18.view.ty → BufTy.Contents (Elt F) arg19.view.ty → BufTy.Contents (Elt F) arg20.view.ty → List (View.Piece (Elt F) S1x64 .f32))), { L13 : (BufTy.Contents (Elt F) arg14.view.ty → BufTy.Contents (Elt F) arg15.view.ty → BufTy.Contents (Elt F) arg16.view.ty → BufTy.Contents (Elt F) arg17.view.ty → BufTy.Contents (Elt F) arg18.view.ty → BufTy.Contents (Elt F) arg19.view.ty → BufTy.Contents (Elt F) arg20.view.ty → List (View.Piece (Elt F) S1x64 .f32)) // ∀ (E : Set ℕ) (f14 : BufTy.Contents (Elt F) arg14.view.ty) (f15 : BufTy.Contents (Elt F) arg15.view.ty) (f16 : BufTy.Contents (Elt F) arg16.view.ty) (f17 : BufTy.Contents (Elt F) arg17.view.ty) (f18 : BufTy.Contents (Elt F) arg18.view.ty) (f19 : BufTy.Contents (Elt F) arg19.view.ty) (f20 : BufTy.Contents (Elt F) arg20.view.ty) (K : PUnit → sProp 𝕄G),
        iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (arg14.view.loc (c : Thread nD τ) ↦[arg14.view.set]{fullShare} f14) ∗ (arg15.view.loc (c : Thread nD τ) ↦[arg15.view.set]{fullShare} f15) ∗ (arg16.view.loc (c : Thread nD τ) ↦[arg16.view.set]{fullShare} f16) ∗ (arg17.view.loc (c : Thread nD τ) ↦[arg17.view.set]{fullShare} f17) ∗ (arg18.view.loc (c : Thread nD τ) ↦[arg18.view.set]{fullShare} f18) ∗ (arg19.view.loc (c : Thread nD τ) ↦[arg19.view.set]{fullShare} f19) ∗ (arg20.view.loc (c : Thread nD τ) ↦[arg20.view.set]{fullShare} f20)
            ∗ (iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ (∃ f, (arg9.view.loc (c : Thread nD τ) ↦[arg9.view.set]{fullShare} arg9.view.writes (Elt F) f (L9 f14 f15 f16 f17 f18 f19 f20))) ∗ (∃ f, (arg10.view.loc (c : Thread nD τ) ↦[arg10.view.set]{fullShare} arg10.view.writes (Elt F) f (L10 f14 f15 f16 f17 f18 f19 f20))) ∗ (∃ f, (arg11.view.loc (c : Thread nD τ) ↦[arg11.view.set]{fullShare} arg11.view.writes (Elt F) f (L11 f14 f15 f16 f17 f18 f19 f20))) ∗ (∃ f, (arg12.view.loc (c : Thread nD τ) ↦[arg12.view.set]{fullShare} arg12.view.writes (Elt F) f (L12 f14 f15 f16 f17 f18 f19 f20))) ∗ (∃ f, (arg13.view.loc (c : Thread nD τ) ↦[arg13.view.set]{fullShare} arg13.view.writes (Elt F) f (L13 f14 f15 f16 f17 f18 f19 f20))) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d)) -∗ K ⟨⟩))
          ⊢ wp frame (wpE (defs₀ (F := F)) Variants.none c none) E (cc0_sb_attn_bwd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20) K } := by
  refine ⟨?_, ?_, ?_, ?_, ?_, fun E f14 f15 f16 f17 f18 f19 f20 K => ?run⟩
  case run =>
    simp only [cc0_sb_attn_bwd_eq_skeleton]; unfold cc0_sb_attn_bwd_skel
    unfold owns
    iintro ⟨⟨%g2, %hg2, H2⟩, ⟨%g3, %hg3, H3⟩, ⟨%g4, %hg4, H4⟩, ⟨%g5, %hg5, H5⟩, ⟨%g6, %hg6, H6⟩, ⟨%g7, %hg7, H7⟩, ⟨%g8, %hg8, H8⟩, ⟨%d9, %g9, -, H9⟩, ⟨%d10, %g10, -, H10⟩, ⟨%d11, %g11, -, H11⟩, ⟨%d12, %g12, -, H12⟩, ⟨%d13, %g13, -, H13⟩, H14, H15, H16, H17, H18, H19, H20, Hk⟩
    obtain rfl := harg2.eq_unread hg2; obtain rfl := harg3.eq_unread hg3; obtain rfl := harg4.eq_unread hg4; obtain rfl := harg5.eq_unread hg5; obtain rfl := harg6.eq_unread hg6; obtain rfl := harg7.eq_unread hg7; obtain rfl := harg8.eq_unread hg8
    sl_exec (disch := first | sl_exact hc0)
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]; · iexists _; iexact H9
    isplitl [H10]; · iexists _; iexact H10
    isplitl [H11]; · iexists _; iexact H11
    isplitl [H12]; · iexists _; iexact H12
    isplitl [H13]; · iexists _; iexact H13
    isplitl [H14]
    · iexists _, _; isplitr; swap; · iexact H14
      ipureintro; rfl
    isplitl [H15]
    · iexists _, _; isplitr; swap; · iexact H15
      ipureintro; rfl
    isplitl [H16]
    · iexists _, _; isplitr; swap; · iexact H16
      ipureintro; rfl
    isplitl [H17]
    · iexists _, _; isplitr; swap; · iexact H17
      ipureintro; rfl
    isplitl [H18]
    · iexists _, _; isplitr; swap; · iexact H18
      ipureintro; rfl
    isplitl [H19]
    · iexists _, _; isplitr; swap; · iexact H19
      ipureintro; rfl
    iexists _, _; isplitr; swap; · iexact H20
    ipureintro; rfl

set_option maxHeartbeats 4000000 in
/-- The whole body at a later grid point, on any staging buffers: the writes it makes into each output, as functions of
what the scratch buffers held before. -/
noncomputable def bodyRunB (c : Dev nD) (i : grid0.Coords) (arg2 : Memref sig .tc .vmem S1x2048x128 .f32) (harg2 : arg2.IsWhole) (arg3 : Memref sig .tc .vmem S1x2048x128 .f32) (harg3 : arg3.IsWhole) (arg4 : Memref sig .tc .vmem S1x2048x128 .f32) (harg4 : arg4.IsWhole) (arg5 : Memref sig .tc .vmem S1x64 .f32) (harg5 : arg5.IsWhole) (arg6 : Memref sig .tc .vmem S1x64 .f32) (harg6 : arg6.IsWhole) (arg7 : Memref sig .tc .vmem S1x2x2048x1 .f32) (harg7 : arg7.IsWhole) (arg8 : Memref sig .tc .vmem S1x2048x128 .f32) (harg8 : arg8.IsWhole) (arg9 : Memref sig .tc .vmem S1x2048x128 .f32) (harg9 : arg9.IsWhole) (arg10 : Memref sig .tc .vmem S1x2048x128 .f32) (harg10 : arg10.IsWhole) (arg11 : Memref sig .tc .vmem S1x2048x128 .f32) (harg11 : arg11.IsWhole) (arg12 : Memref sig .tc .vmem S1x64 .f32) (harg12 : arg12.IsWhole) (arg13 : Memref sig .tc .vmem S1x64 .f32) (harg13 : arg13.IsWhole) (arg14 : Memref sig .tc .vmem S2x2048x64 .bf16) (harg14 : arg14.IsWhole) (arg15 : Memref sig .tc .vmem S2x2048x64 .bf16) (harg15 : arg15.IsWhole) (arg16 : Memref sig .tc .vmem S2x2048x64 .bf16) (harg16 : arg16.IsWhole) (arg17 : Memref sig .tc .vmem S2x2048x64 .bf16) (harg17 : arg17.IsWhole) (arg18 : Memref sig .tc .vmem S2x2048x64 .f32) (harg18 : arg18.IsWhole) (arg19 : Memref sig .tc .vmem S2x64x2048 .f32) (harg19 : arg19.IsWhole) (arg20 : Memref sig .tc .vmem S2x64x2048 .f32) (harg20 : arg20.IsWhole) (hc0 : ¬ firstPoint i) (x2 : Vec F S1x2048x128 .f32) (x3 : Vec F S1x2048x128 .f32) (x4 : Vec F S1x2048x128 .f32) (x5 : Vec F S1x64 .f32) (x6 : Vec F S1x64 .f32) (x7 : Vec F S1x2x2048x1 .f32) (x8 : Vec F S1x2048x128 .f32) (x12 : Vec F S1x64 .f32) (x13 : Vec F S1x64 .f32) :
    Σ' (L9 : (BufTy.Contents (Elt F) arg14.view.ty → BufTy.Contents (Elt F) arg15.view.ty → BufTy.Contents (Elt F) arg16.view.ty → BufTy.Contents (Elt F) arg17.view.ty → BufTy.Contents (Elt F) arg18.view.ty → BufTy.Contents (Elt F) arg19.view.ty → BufTy.Contents (Elt F) arg20.view.ty → List (View.Piece (Elt F) S1x2048x128 .f32))), Σ' (L10 : (BufTy.Contents (Elt F) arg14.view.ty → BufTy.Contents (Elt F) arg15.view.ty → BufTy.Contents (Elt F) arg16.view.ty → BufTy.Contents (Elt F) arg17.view.ty → BufTy.Contents (Elt F) arg18.view.ty → BufTy.Contents (Elt F) arg19.view.ty → BufTy.Contents (Elt F) arg20.view.ty → List (View.Piece (Elt F) S1x2048x128 .f32))), Σ' (L11 : (BufTy.Contents (Elt F) arg14.view.ty → BufTy.Contents (Elt F) arg15.view.ty → BufTy.Contents (Elt F) arg16.view.ty → BufTy.Contents (Elt F) arg17.view.ty → BufTy.Contents (Elt F) arg18.view.ty → BufTy.Contents (Elt F) arg19.view.ty → BufTy.Contents (Elt F) arg20.view.ty → List (View.Piece (Elt F) S1x2048x128 .f32))), Σ' (L12 : (BufTy.Contents (Elt F) arg14.view.ty → BufTy.Contents (Elt F) arg15.view.ty → BufTy.Contents (Elt F) arg16.view.ty → BufTy.Contents (Elt F) arg17.view.ty → BufTy.Contents (Elt F) arg18.view.ty → BufTy.Contents (Elt F) arg19.view.ty → BufTy.Contents (Elt F) arg20.view.ty → List (View.Piece (Elt F) S1x64 .f32))), { L13 : (BufTy.Contents (Elt F) arg14.view.ty → BufTy.Contents (Elt F) arg15.view.ty → BufTy.Contents (Elt F) arg16.view.ty → BufTy.Contents (Elt F) arg17.view.ty → BufTy.Contents (Elt F) arg18.view.ty → BufTy.Contents (Elt F) arg19.view.ty → BufTy.Contents (Elt F) arg20.view.ty → List (View.Piece (Elt F) S1x64 .f32)) // ∀ (E : Set ℕ) (f14 : BufTy.Contents (Elt F) arg14.view.ty) (f15 : BufTy.Contents (Elt F) arg15.view.ty) (f16 : BufTy.Contents (Elt F) arg16.view.ty) (f17 : BufTy.Contents (Elt F) arg17.view.ty) (f18 : BufTy.Contents (Elt F) arg18.view.ty) (f19 : BufTy.Contents (Elt F) arg19.view.ty) (f20 : BufTy.Contents (Elt F) arg20.view.ty) (K : PUnit → sProp 𝕄G),
        iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ (∃ d, owns (c : Thread nD τ) arg9 fullShare d) ∗ (∃ d, owns (c : Thread nD τ) arg10 fullShare d) ∗ (∃ d, owns (c : Thread nD τ) arg11 fullShare d) ∗ owns (c : Thread nD τ) arg12 fullShare x12 ∗ owns (c : Thread nD τ) arg13 fullShare x13 ∗ (arg14.view.loc (c : Thread nD τ) ↦[arg14.view.set]{fullShare} f14) ∗ (arg15.view.loc (c : Thread nD τ) ↦[arg15.view.set]{fullShare} f15) ∗ (arg16.view.loc (c : Thread nD τ) ↦[arg16.view.set]{fullShare} f16) ∗ (arg17.view.loc (c : Thread nD τ) ↦[arg17.view.set]{fullShare} f17) ∗ (arg18.view.loc (c : Thread nD τ) ↦[arg18.view.set]{fullShare} f18) ∗ (arg19.view.loc (c : Thread nD τ) ↦[arg19.view.set]{fullShare} f19) ∗ (arg20.view.loc (c : Thread nD τ) ↦[arg20.view.set]{fullShare} f20)
            ∗ (iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ (∃ f, (arg9.view.loc (c : Thread nD τ) ↦[arg9.view.set]{fullShare} arg9.view.writes (Elt F) f (L9 f14 f15 f16 f17 f18 f19 f20))) ∗ (∃ f, (arg10.view.loc (c : Thread nD τ) ↦[arg10.view.set]{fullShare} arg10.view.writes (Elt F) f (L10 f14 f15 f16 f17 f18 f19 f20))) ∗ (∃ f, (arg11.view.loc (c : Thread nD τ) ↦[arg11.view.set]{fullShare} arg11.view.writes (Elt F) f (L11 f14 f15 f16 f17 f18 f19 f20))) ∗ (∃ f, (arg12.view.loc (c : Thread nD τ) ↦[arg12.view.set]{fullShare} arg12.view.writes (Elt F) f (L12 f14 f15 f16 f17 f18 f19 f20))) ∗ (∃ f, (arg13.view.loc (c : Thread nD τ) ↦[arg13.view.set]{fullShare} arg13.view.writes (Elt F) f (L13 f14 f15 f16 f17 f18 f19 f20))) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d)) -∗ K ⟨⟩))
          ⊢ wp frame (wpE (defs₀ (F := F)) Variants.none c none) E (cc0_sb_attn_bwd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20) K } := by
  refine ⟨?_, ?_, ?_, ?_, ?_, fun E f14 f15 f16 f17 f18 f19 f20 K => ?run⟩
  case run =>
    simp only [cc0_sb_attn_bwd_eq_skeleton]; unfold cc0_sb_attn_bwd_skel
    unfold owns
    iintro ⟨⟨%g2, %hg2, H2⟩, ⟨%g3, %hg3, H3⟩, ⟨%g4, %hg4, H4⟩, ⟨%g5, %hg5, H5⟩, ⟨%g6, %hg6, H6⟩, ⟨%g7, %hg7, H7⟩, ⟨%g8, %hg8, H8⟩, ⟨%d9, %g9, -, H9⟩, ⟨%d10, %g10, -, H10⟩, ⟨%d11, %g11, -, H11⟩, ⟨%g12, %hg12, H12⟩, ⟨%g13, %hg13, H13⟩, H14, H15, H16, H17, H18, H19, H20, Hk⟩
    obtain rfl := harg2.eq_unread hg2; obtain rfl := harg3.eq_unread hg3; obtain rfl := harg4.eq_unread hg4; obtain rfl := harg5.eq_unread hg5; obtain rfl := harg6.eq_unread hg6; obtain rfl := harg7.eq_unread hg7; obtain rfl := harg8.eq_unread hg8; obtain rfl := harg12.eq_unread hg12; obtain rfl := harg13.eq_unread hg13
    sl_exec (disch := first | sl_exact hc0)
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]; · iexists _; iexact H9
    isplitl [H10]; · iexists _; iexact H10
    isplitl [H11]; · iexists _; iexact H11
    isplitl [H12]; · iexists _; iexact H12
    isplitl [H13]; · iexists _; iexact H13
    isplitl [H14]
    · iexists _, _; isplitr; swap; · iexact H14
      ipureintro; rfl
    isplitl [H15]
    · iexists _, _; isplitr; swap; · iexact H15
      ipureintro; rfl
    isplitl [H16]
    · iexists _, _; isplitr; swap; · iexact H16
      ipureintro; rfl
    isplitl [H17]
    · iexists _, _; isplitr; swap; · iexact H17
      ipureintro; rfl
    isplitl [H18]
    · iexists _, _; isplitr; swap; · iexact H18
      ipureintro; rfl
    isplitl [H19]
    · iexists _, _; isplitr; swap; · iexact H19
      ipureintro; rfl
    iexists _, _; isplitr; swap; · iexact H20
    ipureintro; rfl

end Cert.KernelIdeal.Gen

end
-- ==== Proof.SbCover.lean ====
module

public import proofs.«01_k».proof.Proof.SbRun
public import Idealize.ShloMosaic.Lib.Ring
public import Idealize.ShloMosaic.Lib.Pipeline.FrameBody

@[expose] public section

set_option maxRecDepth 16384
set_option maxHeartbeats 4000000

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.ShloMosaic.Rounds
open Idealize.ShloMosaic.Pipeline (Dat Cfg Window BodyObligation cellOf)
open Idealize.SL.BI.BIBase Idealize.SL.BI.Laws Idealize.SL.ProofMode Idealize.SL.Sem

variable {F : FTy → Type} [FloatOps F]

/-- The resource algebra of the generated instances: the frame kit's (Gen/<Name>/Frame.lean). -/
local notation "𝕄G" => MT nD τ sig Unit (Elt F) ℕ (UR sig nD τ) ℕ

/-- A buffer written whole holds what was written, whatever it held before. -/
theorem writes_eq_of_cover {s : Shape} {e : EltTy} {sp : Space} {M : Memref sig .tc sp s e} (h : M.IsWhole)
    (f g : BufTy.Contents (Elt F) M.view.ty) (L : List (View.Piece (Elt F) s e)) (hc : ∀ y, ∃ pc ∈ L, y ∈ pc.1.set) :
    M.view.writes (Elt F) f L = M.view.writes (Elt F) g L :=
  h.read_bijective.1 (View.read_writes_of_cover _ _ _ _ _ hc)

/-- The preparation loop writes all of scratch operand 0. -/
theorem prepared14 (c : Dev nD) (i : grid0.Coords) (arg2 : Memref sig .tc .vmem S1x2048x128 .f32) (harg2 : arg2.IsWhole) (arg3 : Memref sig .tc .vmem S1x2048x128 .f32) (harg3 : arg3.IsWhole) (arg4 : Memref sig .tc .vmem S1x2048x128 .f32) (harg4 : arg4.IsWhole) (arg5 : Memref sig .tc .vmem S1x64 .f32) (harg5 : arg5.IsWhole) (arg6 : Memref sig .tc .vmem S1x64 .f32) (harg6 : arg6.IsWhole) (arg7 : Memref sig .tc .vmem S1x2x2048x1 .f32) (harg7 : arg7.IsWhole) (arg8 : Memref sig .tc .vmem S1x2048x128 .f32) (harg8 : arg8.IsWhole) (arg9 : Memref sig .tc .vmem S1x2048x128 .f32) (harg9 : arg9.IsWhole) (arg10 : Memref sig .tc .vmem S1x2048x128 .f32) (harg10 : arg10.IsWhole) (arg11 : Memref sig .tc .vmem S1x2048x128 .f32) (harg11 : arg11.IsWhole) (arg12 : Memref sig .tc .vmem S1x64 .f32) (harg12 : arg12.IsWhole) (arg13 : Memref sig .tc .vmem S1x64 .f32) (harg13 : arg13.IsWhole) (arg14 : Memref sig .tc .vmem S2x2048x64 .bf16) (harg14 : arg14.IsWhole) (arg15 : Memref sig .tc .vmem S2x2048x64 .bf16) (harg15 : arg15.IsWhole) (arg16 : Memref sig .tc .vmem S2x2048x64 .bf16) (harg16 : arg16.IsWhole) (arg17 : Memref sig .tc .vmem S2x2048x64 .bf16) (harg17 : arg17.IsWhole) (arg18 : Memref sig .tc .vmem S2x2048x64 .f32) (harg18 : arg18.IsWhole) (arg19 : Memref sig .tc .vmem S2x64x2048 .f32) (harg19 : arg19.IsWhole) (arg20 : Memref sig .tc .vmem S2x64x2048 .f32) (harg20 : arg20.IsWhole) (x2 : Vec F S1x2048x128 .f32) (x3 : Vec F S1x2048x128 .f32) (x4 : Vec F S1x2048x128 .f32) (x5 : Vec F S1x64 .f32) (x6 : Vec F S1x64 .f32) (x7 : Vec F S1x2x2048x1 .f32) (x8 : Vec F S1x2048x128 .f32) (f : BufTy.Contents (Elt F) arg14.view.ty) :
    arg14.view.writes (Elt F) f (pb_k0_t1 (F := F) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 (harg2.unread x2) (harg3.unread x3) (harg4.unread x4) (harg5.unread x5) (harg6.unread x6) (harg8.unread x8) (Scf.trips (0#32) (Scalar.addi 0#32 16#32) 1#32)).1 = arg14.view.writes (Elt F) arg14.view.junk (pb_k0_t1 (F := F) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 (harg2.unread x2) (harg3.unread x3) (harg4.unread x4) (harg5.unread x5) (harg6.unread x6) (harg8.unread x8) (Scf.trips (0#32) (Scalar.addi 0#32 16#32) 1#32)).1 :=
  writes_eq_of_cover harg14 _ _ _ fun y => View.cover_of_tiledL (pb_k0_t1 (F := F) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 (harg2.unread x2) (harg3.unread x3) (harg4.unread x4) (harg5.unread x5) (harg6.unread x6) (harg8.unread x8) (Scf.trips (0#32) (Scalar.addi 0#32 16#32) 1#32)).1 (![1, 128, 64] : Fin 3 → ℕ) (by sl_kernel_rfl) y

/-- The preparation loop writes all of scratch operand 1. -/
theorem prepared15 (c : Dev nD) (i : grid0.Coords) (arg2 : Memref sig .tc .vmem S1x2048x128 .f32) (harg2 : arg2.IsWhole) (arg3 : Memref sig .tc .vmem S1x2048x128 .f32) (harg3 : arg3.IsWhole) (arg4 : Memref sig .tc .vmem S1x2048x128 .f32) (harg4 : arg4.IsWhole) (arg5 : Memref sig .tc .vmem S1x64 .f32) (harg5 : arg5.IsWhole) (arg6 : Memref sig .tc .vmem S1x64 .f32) (harg6 : arg6.IsWhole) (arg7 : Memref sig .tc .vmem S1x2x2048x1 .f32) (harg7 : arg7.IsWhole) (arg8 : Memref sig .tc .vmem S1x2048x128 .f32) (harg8 : arg8.IsWhole) (arg9 : Memref sig .tc .vmem S1x2048x128 .f32) (harg9 : arg9.IsWhole) (arg10 : Memref sig .tc .vmem S1x2048x128 .f32) (harg10 : arg10.IsWhole) (arg11 : Memref sig .tc .vmem S1x2048x128 .f32) (harg11 : arg11.IsWhole) (arg12 : Memref sig .tc .vmem S1x64 .f32) (harg12 : arg12.IsWhole) (arg13 : Memref sig .tc .vmem S1x64 .f32) (harg13 : arg13.IsWhole) (arg14 : Memref sig .tc .vmem S2x2048x64 .bf16) (harg14 : arg14.IsWhole) (arg15 : Memref sig .tc .vmem S2x2048x64 .bf16) (harg15 : arg15.IsWhole) (arg16 : Memref sig .tc .vmem S2x2048x64 .bf16) (harg16 : arg16.IsWhole) (arg17 : Memref sig .tc .vmem S2x2048x64 .bf16) (harg17 : arg17.IsWhole) (arg18 : Memref sig .tc .vmem S2x2048x64 .f32) (harg18 : arg18.IsWhole) (arg19 : Memref sig .tc .vmem S2x64x2048 .f32) (harg19 : arg19.IsWhole) (arg20 : Memref sig .tc .vmem S2x64x2048 .f32) (harg20 : arg20.IsWhole) (x2 : Vec F S1x2048x128 .f32) (x3 : Vec F S1x2048x128 .f32) (x4 : Vec F S1x2048x128 .f32) (x5 : Vec F S1x64 .f32) (x6 : Vec F S1x64 .f32) (x7 : Vec F S1x2x2048x1 .f32) (x8 : Vec F S1x2048x128 .f32) (f : BufTy.Contents (Elt F) arg15.view.ty) :
    arg15.view.writes (Elt F) f (pb_k0_t1 (F := F) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 (harg2.unread x2) (harg3.unread x3) (harg4.unread x4) (harg5.unread x5) (harg6.unread x6) (harg8.unread x8) (Scf.trips (0#32) (Scalar.addi 0#32 16#32) 1#32)).2.1 = arg15.view.writes (Elt F) arg15.view.junk (pb_k0_t1 (F := F) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 (harg2.unread x2) (harg3.unread x3) (harg4.unread x4) (harg5.unread x5) (harg6.unread x6) (harg8.unread x8) (Scf.trips (0#32) (Scalar.addi 0#32 16#32) 1#32)).2.1 :=
  writes_eq_of_cover harg15 _ _ _ fun y => View.cover_of_tiledL (pb_k0_t1 (F := F) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 (harg2.unread x2) (harg3.unread x3) (harg4.unread x4) (harg5.unread x5) (harg6.unread x6) (harg8.unread x8) (Scf.trips (0#32) (Scalar.addi 0#32 16#32) 1#32)).2.1 (![1, 128, 64] : Fin 3 → ℕ) (by sl_kernel_rfl) y

/-- The preparation loop writes all of scratch operand 2. -/
theorem prepared16 (c : Dev nD) (i : grid0.Coords) (arg2 : Memref sig .tc .vmem S1x2048x128 .f32) (harg2 : arg2.IsWhole) (arg3 : Memref sig .tc .vmem S1x2048x128 .f32) (harg3 : arg3.IsWhole) (arg4 : Memref sig .tc .vmem S1x2048x128 .f32) (harg4 : arg4.IsWhole) (arg5 : Memref sig .tc .vmem S1x64 .f32) (harg5 : arg5.IsWhole) (arg6 : Memref sig .tc .vmem S1x64 .f32) (harg6 : arg6.IsWhole) (arg7 : Memref sig .tc .vmem S1x2x2048x1 .f32) (harg7 : arg7.IsWhole) (arg8 : Memref sig .tc .vmem S1x2048x128 .f32) (harg8 : arg8.IsWhole) (arg9 : Memref sig .tc .vmem S1x2048x128 .f32) (harg9 : arg9.IsWhole) (arg10 : Memref sig .tc .vmem S1x2048x128 .f32) (harg10 : arg10.IsWhole) (arg11 : Memref sig .tc .vmem S1x2048x128 .f32) (harg11 : arg11.IsWhole) (arg12 : Memref sig .tc .vmem S1x64 .f32) (harg12 : arg12.IsWhole) (arg13 : Memref sig .tc .vmem S1x64 .f32) (harg13 : arg13.IsWhole) (arg14 : Memref sig .tc .vmem S2x2048x64 .bf16) (harg14 : arg14.IsWhole) (arg15 : Memref sig .tc .vmem S2x2048x64 .bf16) (harg15 : arg15.IsWhole) (arg16 : Memref sig .tc .vmem S2x2048x64 .bf16) (harg16 : arg16.IsWhole) (arg17 : Memref sig .tc .vmem S2x2048x64 .bf16) (harg17 : arg17.IsWhole) (arg18 : Memref sig .tc .vmem S2x2048x64 .f32) (harg18 : arg18.IsWhole) (arg19 : Memref sig .tc .vmem S2x64x2048 .f32) (harg19 : arg19.IsWhole) (arg20 : Memref sig .tc .vmem S2x64x2048 .f32) (harg20 : arg20.IsWhole) (x2 : Vec F S1x2048x128 .f32) (x3 : Vec F S1x2048x128 .f32) (x4 : Vec F S1x2048x128 .f32) (x5 : Vec F S1x64 .f32) (x6 : Vec F S1x64 .f32) (x7 : Vec F S1x2x2048x1 .f32) (x8 : Vec F S1x2048x128 .f32) (f : BufTy.Contents (Elt F) arg16.view.ty) :
    arg16.view.writes (Elt F) f (pb_k0_t1 (F := F) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 (harg2.unread x2) (harg3.unread x3) (harg4.unread x4) (harg5.unread x5) (harg6.unread x6) (harg8.unread x8) (Scf.trips (0#32) (Scalar.addi 0#32 16#32) 1#32)).2.2.1 = arg16.view.writes (Elt F) arg16.view.junk (pb_k0_t1 (F := F) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 (harg2.unread x2) (harg3.unread x3) (harg4.unread x4) (harg5.unread x5) (harg6.unread x6) (harg8.unread x8) (Scf.trips (0#32) (Scalar.addi 0#32 16#32) 1#32)).2.2.1 :=
  writes_eq_of_cover harg16 _ _ _ fun y => View.cover_of_tiledL (pb_k0_t1 (F := F) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 (harg2.unread x2) (harg3.unread x3) (harg4.unread x4) (harg5.unread x5) (harg6.unread x6) (harg8.unread x8) (Scf.trips (0#32) (Scalar.addi 0#32 16#32) 1#32)).2.2.1 (![1, 128, 64] : Fin 3 → ℕ) (by sl_kernel_rfl) y

/-- The preparation loop writes all of scratch operand 3. -/
theorem prepared17 (c : Dev nD) (i : grid0.Coords) (arg2 : Memref sig .tc .vmem S1x2048x128 .f32) (harg2 : arg2.IsWhole) (arg3 : Memref sig .tc .vmem S1x2048x128 .f32) (harg3 : arg3.IsWhole) (arg4 : Memref sig .tc .vmem S1x2048x128 .f32) (harg4 : arg4.IsWhole) (arg5 : Memref sig .tc .vmem S1x64 .f32) (harg5 : arg5.IsWhole) (arg6 : Memref sig .tc .vmem S1x64 .f32) (harg6 : arg6.IsWhole) (arg7 : Memref sig .tc .vmem S1x2x2048x1 .f32) (harg7 : arg7.IsWhole) (arg8 : Memref sig .tc .vmem S1x2048x128 .f32) (harg8 : arg8.IsWhole) (arg9 : Memref sig .tc .vmem S1x2048x128 .f32) (harg9 : arg9.IsWhole) (arg10 : Memref sig .tc .vmem S1x2048x128 .f32) (harg10 : arg10.IsWhole) (arg11 : Memref sig .tc .vmem S1x2048x128 .f32) (harg11 : arg11.IsWhole) (arg12 : Memref sig .tc .vmem S1x64 .f32) (harg12 : arg12.IsWhole) (arg13 : Memref sig .tc .vmem S1x64 .f32) (harg13 : arg13.IsWhole) (arg14 : Memref sig .tc .vmem S2x2048x64 .bf16) (harg14 : arg14.IsWhole) (arg15 : Memref sig .tc .vmem S2x2048x64 .bf16) (harg15 : arg15.IsWhole) (arg16 : Memref sig .tc .vmem S2x2048x64 .bf16) (harg16 : arg16.IsWhole) (arg17 : Memref sig .tc .vmem S2x2048x64 .bf16) (harg17 : arg17.IsWhole) (arg18 : Memref sig .tc .vmem S2x2048x64 .f32) (harg18 : arg18.IsWhole) (arg19 : Memref sig .tc .vmem S2x64x2048 .f32) (harg19 : arg19.IsWhole) (arg20 : Memref sig .tc .vmem S2x64x2048 .f32) (harg20 : arg20.IsWhole) (x2 : Vec F S1x2048x128 .f32) (x3 : Vec F S1x2048x128 .f32) (x4 : Vec F S1x2048x128 .f32) (x5 : Vec F S1x64 .f32) (x6 : Vec F S1x64 .f32) (x7 : Vec F S1x2x2048x1 .f32) (x8 : Vec F S1x2048x128 .f32) (f : BufTy.Contents (Elt F) arg17.view.ty) :
    arg17.view.writes (Elt F) f (pb_k0_t1 (F := F) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 (harg2.unread x2) (harg3.unread x3) (harg4.unread x4) (harg5.unread x5) (harg6.unread x6) (harg8.unread x8) (Scf.trips (0#32) (Scalar.addi 0#32 16#32) 1#32)).2.2.2 = arg17.view.writes (Elt F) arg17.view.junk (pb_k0_t1 (F := F) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 (harg2.unread x2) (harg3.unread x3) (harg4.unread x4) (harg5.unread x5) (harg6.unread x6) (harg8.unread x8) (Scf.trips (0#32) (Scalar.addi 0#32 16#32) 1#32)).2.2.2 :=
  writes_eq_of_cover harg17 _ _ _ fun y => View.cover_of_tiledL (pb_k0_t1 (F := F) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 (harg2.unread x2) (harg3.unread x3) (harg4.unread x4) (harg5.unread x5) (harg6.unread x6) (harg8.unread x8) (Scf.trips (0#32) (Scalar.addi 0#32 16#32) 1#32)).2.2.2 (![1, 128, 64] : Fin 3 → ℕ) (by sl_kernel_rfl) y

/-- The loop over query blocks writes all of the gradient of the queries. -/
theorem queried (c : Dev nD) (i : grid0.Coords) (arg2 : Memref sig .tc .vmem S1x2048x128 .f32) (harg2 : arg2.IsWhole) (arg3 : Memref sig .tc .vmem S1x2048x128 .f32) (harg3 : arg3.IsWhole) (arg4 : Memref sig .tc .vmem S1x2048x128 .f32) (harg4 : arg4.IsWhole) (arg5 : Memref sig .tc .vmem S1x64 .f32) (harg5 : arg5.IsWhole) (arg6 : Memref sig .tc .vmem S1x64 .f32) (harg6 : arg6.IsWhole) (arg7 : Memref sig .tc .vmem S1x2x2048x1 .f32) (harg7 : arg7.IsWhole) (arg8 : Memref sig .tc .vmem S1x2048x128 .f32) (harg8 : arg8.IsWhole) (arg9 : Memref sig .tc .vmem S1x2048x128 .f32) (harg9 : arg9.IsWhole) (arg10 : Memref sig .tc .vmem S1x2048x128 .f32) (harg10 : arg10.IsWhole) (arg11 : Memref sig .tc .vmem S1x2048x128 .f32) (harg11 : arg11.IsWhole) (arg12 : Memref sig .tc .vmem S1x64 .f32) (harg12 : arg12.IsWhole) (arg13 : Memref sig .tc .vmem S1x64 .f32) (harg13 : arg13.IsWhole) (arg14 : Memref sig .tc .vmem S2x2048x64 .bf16) (harg14 : arg14.IsWhole) (arg15 : Memref sig .tc .vmem S2x2048x64 .bf16) (harg15 : arg15.IsWhole) (arg16 : Memref sig .tc .vmem S2x2048x64 .bf16) (harg16 : arg16.IsWhole) (arg17 : Memref sig .tc .vmem S2x2048x64 .bf16) (harg17 : arg17.IsWhole) (arg18 : Memref sig .tc .vmem S2x2048x64 .f32) (harg18 : arg18.IsWhole) (arg19 : Memref sig .tc .vmem S2x64x2048 .f32) (harg19 : arg19.IsWhole) (arg20 : Memref sig .tc .vmem S2x64x2048 .f32) (harg20 : arg20.IsWhole) (Y7 : BufTy.Contents (Elt F) arg7.view.ty) (Y14 : BufTy.Contents (Elt F) arg14.view.ty) (Y15 : BufTy.Contents (Elt F) arg15.view.ty) (Y16 : BufTy.Contents (Elt F) arg16.view.ty) (Y17 : BufTy.Contents (Elt F) arg17.view.ty) (Y19 : BufTy.Contents (Elt F) arg19.view.ty) (Y20 : BufTy.Contents (Elt F) arg20.view.ty) (f : BufTy.Contents (Elt F) arg18.view.ty) :
    arg18.view.writes (Elt F) f (stQ (F := F) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 Y7 Y14 Y15 Y16 Y17 Y19 Y20 (Scf.trips (0#32) (Scalar.addi 0#32 8#32) 1#32)).1 = arg18.view.writes (Elt F) arg18.view.junk (stQ (F := F) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 Y7 Y14 Y15 Y16 Y17 Y19 Y20 (Scf.trips (0#32) (Scalar.addi 0#32 8#32) 1#32)).1 :=
  writes_eq_of_cover harg18 _ _ _ fun y => View.cover_of_tiledL (stQ (F := F) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 Y7 Y14 Y15 Y16 Y17 Y19 Y20 (Scf.trips (0#32) (Scalar.addi 0#32 8#32) 1#32)).1 (![1, 256, 64] : Fin 3 → ℕ) (by sl_kernel_rfl) y

/-- What the body writes into its result 0 does not depend on what the scratch held before. -/
theorem indepA9 (c : Dev nD) (i : grid0.Coords) (arg2 : Memref sig .tc .vmem S1x2048x128 .f32) (harg2 : arg2.IsWhole) (arg3 : Memref sig .tc .vmem S1x2048x128 .f32) (harg3 : arg3.IsWhole) (arg4 : Memref sig .tc .vmem S1x2048x128 .f32) (harg4 : arg4.IsWhole) (arg5 : Memref sig .tc .vmem S1x64 .f32) (harg5 : arg5.IsWhole) (arg6 : Memref sig .tc .vmem S1x64 .f32) (harg6 : arg6.IsWhole) (arg7 : Memref sig .tc .vmem S1x2x2048x1 .f32) (harg7 : arg7.IsWhole) (arg8 : Memref sig .tc .vmem S1x2048x128 .f32) (harg8 : arg8.IsWhole) (arg9 : Memref sig .tc .vmem S1x2048x128 .f32) (harg9 : arg9.IsWhole) (arg10 : Memref sig .tc .vmem S1x2048x128 .f32) (harg10 : arg10.IsWhole) (arg11 : Memref sig .tc .vmem S1x2048x128 .f32) (harg11 : arg11.IsWhole) (arg12 : Memref sig .tc .vmem S1x64 .f32) (harg12 : arg12.IsWhole) (arg13 : Memref sig .tc .vmem S1x64 .f32) (harg13 : arg13.IsWhole) (arg14 : Memref sig .tc .vmem S2x2048x64 .bf16) (harg14 : arg14.IsWhole) (arg15 : Memref sig .tc .vmem S2x2048x64 .bf16) (harg15 : arg15.IsWhole) (arg16 : Memref sig .tc .vmem S2x2048x64 .bf16) (harg16 : arg16.IsWhole) (arg17 : Memref sig .tc .vmem S2x2048x64 .bf16) (harg17 : arg17.IsWhole) (arg18 : Memref sig .tc .vmem S2x2048x64 .f32) (harg18 : arg18.IsWhole) (arg19 : Memref sig .tc .vmem S2x64x2048 .f32) (harg19 : arg19.IsWhole) (arg20 : Memref sig .tc .vmem S2x64x2048 .f32) (harg20 : arg20.IsWhole) (hc0 : firstPoint i) (x2 : Vec F S1x2048x128 .f32) (x3 : Vec F S1x2048x128 .f32) (x4 : Vec F S1x2048x128 .f32) (x5 : Vec F S1x64 .f32) (x6 : Vec F S1x64 .f32) (x7 : Vec F S1x2x2048x1 .f32) (x8 : Vec F S1x2048x128 .f32) (f14 : BufTy.Contents (Elt F) arg14.view.ty) (f15 : BufTy.Contents (Elt F) arg15.view.ty) (f16 : BufTy.Contents (Elt F) arg16.view.ty) (f17 : BufTy.Contents (Elt F) arg17.view.ty) (f18 : BufTy.Contents (Elt F) arg18.view.ty) (f19 : BufTy.Contents (Elt F) arg19.view.ty) (f20 : BufTy.Contents (Elt F) arg20.view.ty) :
    (bodyRunA (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x2 x3 x4 x5 x6 x7 x8).1 f14 f15 f16 f17 f18 f19 f20 = (bodyRunA (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x2 x3 x4 x5 x6 x7 x8).1 arg14.view.junk arg15.view.junk arg16.view.junk arg17.view.junk arg18.view.junk arg19.view.junk arg20.view.junk := by
  unfold bodyRunA; dsimp only
  rw [prepared14 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x2 x3 x4 x5 x6 x7 x8 f14, prepared15 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x2 x3 x4 x5 x6 x7 x8 f15, prepared16 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x2 x3 x4 x5 x6 x7 x8 f16, prepared17 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x2 x3 x4 x5 x6 x7 x8 f17, queried _ _ arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 _ _ _ _ _ _ _ f18]

/-- The body writes all of its result 0. -/
theorem coverA9 (c : Dev nD) (i : grid0.Coords) (arg2 : Memref sig .tc .vmem S1x2048x128 .f32) (harg2 : arg2.IsWhole) (arg3 : Memref sig .tc .vmem S1x2048x128 .f32) (harg3 : arg3.IsWhole) (arg4 : Memref sig .tc .vmem S1x2048x128 .f32) (harg4 : arg4.IsWhole) (arg5 : Memref sig .tc .vmem S1x64 .f32) (harg5 : arg5.IsWhole) (arg6 : Memref sig .tc .vmem S1x64 .f32) (harg6 : arg6.IsWhole) (arg7 : Memref sig .tc .vmem S1x2x2048x1 .f32) (harg7 : arg7.IsWhole) (arg8 : Memref sig .tc .vmem S1x2048x128 .f32) (harg8 : arg8.IsWhole) (arg9 : Memref sig .tc .vmem S1x2048x128 .f32) (harg9 : arg9.IsWhole) (arg10 : Memref sig .tc .vmem S1x2048x128 .f32) (harg10 : arg10.IsWhole) (arg11 : Memref sig .tc .vmem S1x2048x128 .f32) (harg11 : arg11.IsWhole) (arg12 : Memref sig .tc .vmem S1x64 .f32) (harg12 : arg12.IsWhole) (arg13 : Memref sig .tc .vmem S1x64 .f32) (harg13 : arg13.IsWhole) (arg14 : Memref sig .tc .vmem S2x2048x64 .bf16) (harg14 : arg14.IsWhole) (arg15 : Memref sig .tc .vmem S2x2048x64 .bf16) (harg15 : arg15.IsWhole) (arg16 : Memref sig .tc .vmem S2x2048x64 .bf16) (harg16 : arg16.IsWhole) (arg17 : Memref sig .tc .vmem S2x2048x64 .bf16) (harg17 : arg17.IsWhole) (arg18 : Memref sig .tc .vmem S2x2048x64 .f32) (harg18 : arg18.IsWhole) (arg19 : Memref sig .tc .vmem S2x64x2048 .f32) (harg19 : arg19.IsWhole) (arg20 : Memref sig .tc .vmem S2x64x2048 .f32) (harg20 : arg20.IsWhole) (hc0 : firstPoint i) (x2 : Vec F S1x2048x128 .f32) (x3 : Vec F S1x2048x128 .f32) (x4 : Vec F S1x2048x128 .f32) (x5 : Vec F S1x64 .f32) (x6 : Vec F S1x64 .f32) (x7 : Vec F S1x2x2048x1 .f32) (x8 : Vec F S1x2048x128 .f32) (y : S1x2048x128.Idx) :
    ∃ pc ∈ (bodyRunA (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x2 x3 x4 x5 x6 x7 x8).1 arg14.view.junk arg15.view.junk arg16.view.junk arg17.view.junk arg18.view.junk arg19.view.junk arg20.view.junk, y ∈ pc.1.set :=
  View.cover_of_tiledL ((bodyRunA (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x2 x3 x4 x5 x6 x7 x8).1 arg14.view.junk arg15.view.junk arg16.view.junk arg17.view.junk arg18.view.junk arg19.view.junk arg20.view.junk) (![1, 128, 64] : Fin 3 → ℕ) (by sl_kernel_rfl) y

/-- What the body writes into its result 1 does not depend on what the scratch held before. -/
theorem indepA10 (c : Dev nD) (i : grid0.Coords) (arg2 : Memref sig .tc .vmem S1x2048x128 .f32) (harg2 : arg2.IsWhole) (arg3 : Memref sig .tc .vmem S1x2048x128 .f32) (harg3 : arg3.IsWhole) (arg4 : Memref sig .tc .vmem S1x2048x128 .f32) (harg4 : arg4.IsWhole) (arg5 : Memref sig .tc .vmem S1x64 .f32) (harg5 : arg5.IsWhole) (arg6 : Memref sig .tc .vmem S1x64 .f32) (harg6 : arg6.IsWhole) (arg7 : Memref sig .tc .vmem S1x2x2048x1 .f32) (harg7 : arg7.IsWhole) (arg8 : Memref sig .tc .vmem S1x2048x128 .f32) (harg8 : arg8.IsWhole) (arg9 : Memref sig .tc .vmem S1x2048x128 .f32) (harg9 : arg9.IsWhole) (arg10 : Memref sig .tc .vmem S1x2048x128 .f32) (harg10 : arg10.IsWhole) (arg11 : Memref sig .tc .vmem S1x2048x128 .f32) (harg11 : arg11.IsWhole) (arg12 : Memref sig .tc .vmem S1x64 .f32) (harg12 : arg12.IsWhole) (arg13 : Memref sig .tc .vmem S1x64 .f32) (harg13 : arg13.IsWhole) (arg14 : Memref sig .tc .vmem S2x2048x64 .bf16) (harg14 : arg14.IsWhole) (arg15 : Memref sig .tc .vmem S2x2048x64 .bf16) (harg15 : arg15.IsWhole) (arg16 : Memref sig .tc .vmem S2x2048x64 .bf16) (harg16 : arg16.IsWhole) (arg17 : Memref sig .tc .vmem S2x2048x64 .bf16) (harg17 : arg17.IsWhole) (arg18 : Memref sig .tc .vmem S2x2048x64 .f32) (harg18 : arg18.IsWhole) (arg19 : Memref sig .tc .vmem S2x64x2048 .f32) (harg19 : arg19.IsWhole) (arg20 : Memref sig .tc .vmem S2x64x2048 .f32) (harg20 : arg20.IsWhole) (hc0 : firstPoint i) (x2 : Vec F S1x2048x128 .f32) (x3 : Vec F S1x2048x128 .f32) (x4 : Vec F S1x2048x128 .f32) (x5 : Vec F S1x64 .f32) (x6 : Vec F S1x64 .f32) (x7 : Vec F S1x2x2048x1 .f32) (x8 : Vec F S1x2048x128 .f32) (f14 : BufTy.Contents (Elt F) arg14.view.ty) (f15 : BufTy.Contents (Elt F) arg15.view.ty) (f16 : BufTy.Contents (Elt F) arg16.view.ty) (f17 : BufTy.Contents (Elt F) arg17.view.ty) (f18 : BufTy.Contents (Elt F) arg18.view.ty) (f19 : BufTy.Contents (Elt F) arg19.view.ty) (f20 : BufTy.Contents (Elt F) arg20.view.ty) :
    (bodyRunA (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x2 x3 x4 x5 x6 x7 x8).2.1 f14 f15 f16 f17 f18 f19 f20 = (bodyRunA (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x2 x3 x4 x5 x6 x7 x8).2.1 arg14.view.junk arg15.view.junk arg16.view.junk arg17.view.junk arg18.view.junk arg19.view.junk arg20.view.junk := by
  unfold bodyRunA; dsimp only
  rw [prepared14 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x2 x3 x4 x5 x6 x7 x8 f14, prepared15 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x2 x3 x4 x5 x6 x7 x8 f15, prepared16 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x2 x3 x4 x5 x6 x7 x8 f16, prepared17 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x2 x3 x4 x5 x6 x7 x8 f17, queried _ _ arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 _ _ _ _ _ _ _ f18]

/-- The body writes all of its result 1. -/
theorem coverA10 (c : Dev nD) (i : grid0.Coords) (arg2 : Memref sig .tc .vmem S1x2048x128 .f32) (harg2 : arg2.IsWhole) (arg3 : Memref sig .tc .vmem S1x2048x128 .f32) (harg3 : arg3.IsWhole) (arg4 : Memref sig .tc .vmem S1x2048x128 .f32) (harg4 : arg4.IsWhole) (arg5 : Memref sig .tc .vmem S1x64 .f32) (harg5 : arg5.IsWhole) (arg6 : Memref sig .tc .vmem S1x64 .f32) (harg6 : arg6.IsWhole) (arg7 : Memref sig .tc .vmem S1x2x2048x1 .f32) (harg7 : arg7.IsWhole) (arg8 : Memref sig .tc .vmem S1x2048x128 .f32) (harg8 : arg8.IsWhole) (arg9 : Memref sig .tc .vmem S1x2048x128 .f32) (harg9 : arg9.IsWhole) (arg10 : Memref sig .tc .vmem S1x2048x128 .f32) (harg10 : arg10.IsWhole) (arg11 : Memref sig .tc .vmem S1x2048x128 .f32) (harg11 : arg11.IsWhole) (arg12 : Memref sig .tc .vmem S1x64 .f32) (harg12 : arg12.IsWhole) (arg13 : Memref sig .tc .vmem S1x64 .f32) (harg13 : arg13.IsWhole) (arg14 : Memref sig .tc .vmem S2x2048x64 .bf16) (harg14 : arg14.IsWhole) (arg15 : Memref sig .tc .vmem S2x2048x64 .bf16) (harg15 : arg15.IsWhole) (arg16 : Memref sig .tc .vmem S2x2048x64 .bf16) (harg16 : arg16.IsWhole) (arg17 : Memref sig .tc .vmem S2x2048x64 .bf16) (harg17 : arg17.IsWhole) (arg18 : Memref sig .tc .vmem S2x2048x64 .f32) (harg18 : arg18.IsWhole) (arg19 : Memref sig .tc .vmem S2x64x2048 .f32) (harg19 : arg19.IsWhole) (arg20 : Memref sig .tc .vmem S2x64x2048 .f32) (harg20 : arg20.IsWhole) (hc0 : firstPoint i) (x2 : Vec F S1x2048x128 .f32) (x3 : Vec F S1x2048x128 .f32) (x4 : Vec F S1x2048x128 .f32) (x5 : Vec F S1x64 .f32) (x6 : Vec F S1x64 .f32) (x7 : Vec F S1x2x2048x1 .f32) (x8 : Vec F S1x2048x128 .f32) (y : S1x2048x128.Idx) :
    ∃ pc ∈ (bodyRunA (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x2 x3 x4 x5 x6 x7 x8).2.1 arg14.view.junk arg15.view.junk arg16.view.junk arg17.view.junk arg18.view.junk arg19.view.junk arg20.view.junk, y ∈ pc.1.set :=
  View.cover_of_tiledL ((bodyRunA (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x2 x3 x4 x5 x6 x7 x8).2.1 arg14.view.junk arg15.view.junk arg16.view.junk arg17.view.junk arg18.view.junk arg19.view.junk arg20.view.junk) (![1, 128, 64] : Fin 3 → ℕ) (by sl_kernel_rfl) y

/-- What the body writes into its result 2 does not depend on what the scratch held before. -/
theorem indepA11 (c : Dev nD) (i : grid0.Coords) (arg2 : Memref sig .tc .vmem S1x2048x128 .f32) (harg2 : arg2.IsWhole) (arg3 : Memref sig .tc .vmem S1x2048x128 .f32) (harg3 : arg3.IsWhole) (arg4 : Memref sig .tc .vmem S1x2048x128 .f32) (harg4 : arg4.IsWhole) (arg5 : Memref sig .tc .vmem S1x64 .f32) (harg5 : arg5.IsWhole) (arg6 : Memref sig .tc .vmem S1x64 .f32) (harg6 : arg6.IsWhole) (arg7 : Memref sig .tc .vmem S1x2x2048x1 .f32) (harg7 : arg7.IsWhole) (arg8 : Memref sig .tc .vmem S1x2048x128 .f32) (harg8 : arg8.IsWhole) (arg9 : Memref sig .tc .vmem S1x2048x128 .f32) (harg9 : arg9.IsWhole) (arg10 : Memref sig .tc .vmem S1x2048x128 .f32) (harg10 : arg10.IsWhole) (arg11 : Memref sig .tc .vmem S1x2048x128 .f32) (harg11 : arg11.IsWhole) (arg12 : Memref sig .tc .vmem S1x64 .f32) (harg12 : arg12.IsWhole) (arg13 : Memref sig .tc .vmem S1x64 .f32) (harg13 : arg13.IsWhole) (arg14 : Memref sig .tc .vmem S2x2048x64 .bf16) (harg14 : arg14.IsWhole) (arg15 : Memref sig .tc .vmem S2x2048x64 .bf16) (harg15 : arg15.IsWhole) (arg16 : Memref sig .tc .vmem S2x2048x64 .bf16) (harg16 : arg16.IsWhole) (arg17 : Memref sig .tc .vmem S2x2048x64 .bf16) (harg17 : arg17.IsWhole) (arg18 : Memref sig .tc .vmem S2x2048x64 .f32) (harg18 : arg18.IsWhole) (arg19 : Memref sig .tc .vmem S2x64x2048 .f32) (harg19 : arg19.IsWhole) (arg20 : Memref sig .tc .vmem S2x64x2048 .f32) (harg20 : arg20.IsWhole) (hc0 : firstPoint i) (x2 : Vec F S1x2048x128 .f32) (x3 : Vec F S1x2048x128 .f32) (x4 : Vec F S1x2048x128 .f32) (x5 : Vec F S1x64 .f32) (x6 : Vec F S1x64 .f32) (x7 : Vec F S1x2x2048x1 .f32) (x8 : Vec F S1x2048x128 .f32) (f14 : BufTy.Contents (Elt F) arg14.view.ty) (f15 : BufTy.Contents (Elt F) arg15.view.ty) (f16 : BufTy.Contents (Elt F) arg16.view.ty) (f17 : BufTy.Contents (Elt F) arg17.view.ty) (f18 : BufTy.Contents (Elt F) arg18.view.ty) (f19 : BufTy.Contents (Elt F) arg19.view.ty) (f20 : BufTy.Contents (Elt F) arg20.view.ty) :
    (bodyRunA (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x2 x3 x4 x5 x6 x7 x8).2.2.1 f14 f15 f16 f17 f18 f19 f20 = (bodyRunA (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x2 x3 x4 x5 x6 x7 x8).2.2.1 arg14.view.junk arg15.view.junk arg16.view.junk arg17.view.junk arg18.view.junk arg19.view.junk arg20.view.junk := by
  unfold bodyRunA; dsimp only
  rw [prepared14 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x2 x3 x4 x5 x6 x7 x8 f14, prepared15 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x2 x3 x4 x5 x6 x7 x8 f15, prepared16 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x2 x3 x4 x5 x6 x7 x8 f16, prepared17 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x2 x3 x4 x5 x6 x7 x8 f17, queried _ _ arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 _ _ _ _ _ _ _ f18]

/-- The body writes all of its result 2. -/
theorem coverA11 (c : Dev nD) (i : grid0.Coords) (arg2 : Memref sig .tc .vmem S1x2048x128 .f32) (harg2 : arg2.IsWhole) (arg3 : Memref sig .tc .vmem S1x2048x128 .f32) (harg3 : arg3.IsWhole) (arg4 : Memref sig .tc .vmem S1x2048x128 .f32) (harg4 : arg4.IsWhole) (arg5 : Memref sig .tc .vmem S1x64 .f32) (harg5 : arg5.IsWhole) (arg6 : Memref sig .tc .vmem S1x64 .f32) (harg6 : arg6.IsWhole) (arg7 : Memref sig .tc .vmem S1x2x2048x1 .f32) (harg7 : arg7.IsWhole) (arg8 : Memref sig .tc .vmem S1x2048x128 .f32) (harg8 : arg8.IsWhole) (arg9 : Memref sig .tc .vmem S1x2048x128 .f32) (harg9 : arg9.IsWhole) (arg10 : Memref sig .tc .vmem S1x2048x128 .f32) (harg10 : arg10.IsWhole) (arg11 : Memref sig .tc .vmem S1x2048x128 .f32) (harg11 : arg11.IsWhole) (arg12 : Memref sig .tc .vmem S1x64 .f32) (harg12 : arg12.IsWhole) (arg13 : Memref sig .tc .vmem S1x64 .f32) (harg13 : arg13.IsWhole) (arg14 : Memref sig .tc .vmem S2x2048x64 .bf16) (harg14 : arg14.IsWhole) (arg15 : Memref sig .tc .vmem S2x2048x64 .bf16) (harg15 : arg15.IsWhole) (arg16 : Memref sig .tc .vmem S2x2048x64 .bf16) (harg16 : arg16.IsWhole) (arg17 : Memref sig .tc .vmem S2x2048x64 .bf16) (harg17 : arg17.IsWhole) (arg18 : Memref sig .tc .vmem S2x2048x64 .f32) (harg18 : arg18.IsWhole) (arg19 : Memref sig .tc .vmem S2x64x2048 .f32) (harg19 : arg19.IsWhole) (arg20 : Memref sig .tc .vmem S2x64x2048 .f32) (harg20 : arg20.IsWhole) (hc0 : firstPoint i) (x2 : Vec F S1x2048x128 .f32) (x3 : Vec F S1x2048x128 .f32) (x4 : Vec F S1x2048x128 .f32) (x5 : Vec F S1x64 .f32) (x6 : Vec F S1x64 .f32) (x7 : Vec F S1x2x2048x1 .f32) (x8 : Vec F S1x2048x128 .f32) (y : S1x2048x128.Idx) :
    ∃ pc ∈ (bodyRunA (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x2 x3 x4 x5 x6 x7 x8).2.2.1 arg14.view.junk arg15.view.junk arg16.view.junk arg17.view.junk arg18.view.junk arg19.view.junk arg20.view.junk, y ∈ pc.1.set :=
  View.cover_of_tiledL ((bodyRunA (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x2 x3 x4 x5 x6 x7 x8).2.2.1 arg14.view.junk arg15.view.junk arg16.view.junk arg17.view.junk arg18.view.junk arg19.view.junk arg20.view.junk) (![1, 128, 64] : Fin 3 → ℕ) (by sl_kernel_rfl) y

/-- What the body writes into its result 3 does not depend on what the scratch held before. -/
theorem indepA12 (c : Dev nD) (i : grid0.Coords) (arg2 : Memref sig .tc .vmem S1x2048x128 .f32) (harg2 : arg2.IsWhole) (arg3 : Memref sig .tc .vmem S1x2048x128 .f32) (harg3 : arg3.IsWhole) (arg4 : Memref sig .tc .vmem S1x2048x128 .f32) (harg4 : arg4.IsWhole) (arg5 : Memref sig .tc .vmem S1x64 .f32) (harg5 : arg5.IsWhole) (arg6 : Memref sig .tc .vmem S1x64 .f32) (harg6 : arg6.IsWhole) (arg7 : Memref sig .tc .vmem S1x2x2048x1 .f32) (harg7 : arg7.IsWhole) (arg8 : Memref sig .tc .vmem S1x2048x128 .f32) (harg8 : arg8.IsWhole) (arg9 : Memref sig .tc .vmem S1x2048x128 .f32) (harg9 : arg9.IsWhole) (arg10 : Memref sig .tc .vmem S1x2048x128 .f32) (harg10 : arg10.IsWhole) (arg11 : Memref sig .tc .vmem S1x2048x128 .f32) (harg11 : arg11.IsWhole) (arg12 : Memref sig .tc .vmem S1x64 .f32) (harg12 : arg12.IsWhole) (arg13 : Memref sig .tc .vmem S1x64 .f32) (harg13 : arg13.IsWhole) (arg14 : Memref sig .tc .vmem S2x2048x64 .bf16) (harg14 : arg14.IsWhole) (arg15 : Memref sig .tc .vmem S2x2048x64 .bf16) (harg15 : arg15.IsWhole) (arg16 : Memref sig .tc .vmem S2x2048x64 .bf16) (harg16 : arg16.IsWhole) (arg17 : Memref sig .tc .vmem S2x2048x64 .bf16) (harg17 : arg17.IsWhole) (arg18 : Memref sig .tc .vmem S2x2048x64 .f32) (harg18 : arg18.IsWhole) (arg19 : Memref sig .tc .vmem S2x64x2048 .f32) (harg19 : arg19.IsWhole) (arg20 : Memref sig .tc .vmem S2x64x2048 .f32) (harg20 : arg20.IsWhole) (hc0 : firstPoint i) (x2 : Vec F S1x2048x128 .f32) (x3 : Vec F S1x2048x128 .f32) (x4 : Vec F S1x2048x128 .f32) (x5 : Vec F S1x64 .f32) (x6 : Vec F S1x64 .f32) (x7 : Vec F S1x2x2048x1 .f32) (x8 : Vec F S1x2048x128 .f32) (f14 : BufTy.Contents (Elt F) arg14.view.ty) (f15 : BufTy.Contents (Elt F) arg15.view.ty) (f16 : BufTy.Contents (Elt F) arg16.view.ty) (f17 : BufTy.Contents (Elt F) arg17.view.ty) (f18 : BufTy.Contents (Elt F) arg18.view.ty) (f19 : BufTy.Contents (Elt F) arg19.view.ty) (f20 : BufTy.Contents (Elt F) arg20.view.ty) :
    (bodyRunA (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x2 x3 x4 x5 x6 x7 x8).2.2.2.1 f14 f15 f16 f17 f18 f19 f20 = (bodyRunA (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x2 x3 x4 x5 x6 x7 x8).2.2.2.1 arg14.view.junk arg15.view.junk arg16.view.junk arg17.view.junk arg18.view.junk arg19.view.junk arg20.view.junk := by
  unfold bodyRunA; dsimp only
  rw [prepared14 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x2 x3 x4 x5 x6 x7 x8 f14, prepared15 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x2 x3 x4 x5 x6 x7 x8 f15, prepared16 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x2 x3 x4 x5 x6 x7 x8 f16, prepared17 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x2 x3 x4 x5 x6 x7 x8 f17, queried _ _ arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 _ _ _ _ _ _ _ f18]

/-- The body writes all of its result 3. -/
theorem coverA12 (c : Dev nD) (i : grid0.Coords) (arg2 : Memref sig .tc .vmem S1x2048x128 .f32) (harg2 : arg2.IsWhole) (arg3 : Memref sig .tc .vmem S1x2048x128 .f32) (harg3 : arg3.IsWhole) (arg4 : Memref sig .tc .vmem S1x2048x128 .f32) (harg4 : arg4.IsWhole) (arg5 : Memref sig .tc .vmem S1x64 .f32) (harg5 : arg5.IsWhole) (arg6 : Memref sig .tc .vmem S1x64 .f32) (harg6 : arg6.IsWhole) (arg7 : Memref sig .tc .vmem S1x2x2048x1 .f32) (harg7 : arg7.IsWhole) (arg8 : Memref sig .tc .vmem S1x2048x128 .f32) (harg8 : arg8.IsWhole) (arg9 : Memref sig .tc .vmem S1x2048x128 .f32) (harg9 : arg9.IsWhole) (arg10 : Memref sig .tc .vmem S1x2048x128 .f32) (harg10 : arg10.IsWhole) (arg11 : Memref sig .tc .vmem S1x2048x128 .f32) (harg11 : arg11.IsWhole) (arg12 : Memref sig .tc .vmem S1x64 .f32) (harg12 : arg12.IsWhole) (arg13 : Memref sig .tc .vmem S1x64 .f32) (harg13 : arg13.IsWhole) (arg14 : Memref sig .tc .vmem S2x2048x64 .bf16) (harg14 : arg14.IsWhole) (arg15 : Memref sig .tc .vmem S2x2048x64 .bf16) (harg15 : arg15.IsWhole) (arg16 : Memref sig .tc .vmem S2x2048x64 .bf16) (harg16 : arg16.IsWhole) (arg17 : Memref sig .tc .vmem S2x2048x64 .bf16) (harg17 : arg17.IsWhole) (arg18 : Memref sig .tc .vmem S2x2048x64 .f32) (harg18 : arg18.IsWhole) (arg19 : Memref sig .tc .vmem S2x64x2048 .f32) (harg19 : arg19.IsWhole) (arg20 : Memref sig .tc .vmem S2x64x2048 .f32) (harg20 : arg20.IsWhole) (hc0 : firstPoint i) (x2 : Vec F S1x2048x128 .f32) (x3 : Vec F S1x2048x128 .f32) (x4 : Vec F S1x2048x128 .f32) (x5 : Vec F S1x64 .f32) (x6 : Vec F S1x64 .f32) (x7 : Vec F S1x2x2048x1 .f32) (x8 : Vec F S1x2048x128 .f32) (y : S1x64.Idx) :
    ∃ pc ∈ (bodyRunA (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x2 x3 x4 x5 x6 x7 x8).2.2.2.1 arg14.view.junk arg15.view.junk arg16.view.junk arg17.view.junk arg18.view.junk arg19.view.junk arg20.view.junk, y ∈ pc.1.set :=
  View.cover_of_tiledBy ((bodyRunA (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x2 x3 x4 x5 x6 x7 x8).2.2.2.1 arg14.view.junk arg15.view.junk arg16.view.junk arg17.view.junk arg18.view.junk arg19.view.junk arg20.view.junk) ![1, 64] (by sl_kernel_rfl) y

/-- What the body writes into its result 4 does not depend on what the scratch held before. -/
theorem indepA13 (c : Dev nD) (i : grid0.Coords) (arg2 : Memref sig .tc .vmem S1x2048x128 .f32) (harg2 : arg2.IsWhole) (arg3 : Memref sig .tc .vmem S1x2048x128 .f32) (harg3 : arg3.IsWhole) (arg4 : Memref sig .tc .vmem S1x2048x128 .f32) (harg4 : arg4.IsWhole) (arg5 : Memref sig .tc .vmem S1x64 .f32) (harg5 : arg5.IsWhole) (arg6 : Memref sig .tc .vmem S1x64 .f32) (harg6 : arg6.IsWhole) (arg7 : Memref sig .tc .vmem S1x2x2048x1 .f32) (harg7 : arg7.IsWhole) (arg8 : Memref sig .tc .vmem S1x2048x128 .f32) (harg8 : arg8.IsWhole) (arg9 : Memref sig .tc .vmem S1x2048x128 .f32) (harg9 : arg9.IsWhole) (arg10 : Memref sig .tc .vmem S1x2048x128 .f32) (harg10 : arg10.IsWhole) (arg11 : Memref sig .tc .vmem S1x2048x128 .f32) (harg11 : arg11.IsWhole) (arg12 : Memref sig .tc .vmem S1x64 .f32) (harg12 : arg12.IsWhole) (arg13 : Memref sig .tc .vmem S1x64 .f32) (harg13 : arg13.IsWhole) (arg14 : Memref sig .tc .vmem S2x2048x64 .bf16) (harg14 : arg14.IsWhole) (arg15 : Memref sig .tc .vmem S2x2048x64 .bf16) (harg15 : arg15.IsWhole) (arg16 : Memref sig .tc .vmem S2x2048x64 .bf16) (harg16 : arg16.IsWhole) (arg17 : Memref sig .tc .vmem S2x2048x64 .bf16) (harg17 : arg17.IsWhole) (arg18 : Memref sig .tc .vmem S2x2048x64 .f32) (harg18 : arg18.IsWhole) (arg19 : Memref sig .tc .vmem S2x64x2048 .f32) (harg19 : arg19.IsWhole) (arg20 : Memref sig .tc .vmem S2x64x2048 .f32) (harg20 : arg20.IsWhole) (hc0 : firstPoint i) (x2 : Vec F S1x2048x128 .f32) (x3 : Vec F S1x2048x128 .f32) (x4 : Vec F S1x2048x128 .f32) (x5 : Vec F S1x64 .f32) (x6 : Vec F S1x64 .f32) (x7 : Vec F S1x2x2048x1 .f32) (x8 : Vec F S1x2048x128 .f32) (f14 : BufTy.Contents (Elt F) arg14.view.ty) (f15 : BufTy.Contents (Elt F) arg15.view.ty) (f16 : BufTy.Contents (Elt F) arg16.view.ty) (f17 : BufTy.Contents (Elt F) arg17.view.ty) (f18 : BufTy.Contents (Elt F) arg18.view.ty) (f19 : BufTy.Contents (Elt F) arg19.view.ty) (f20 : BufTy.Contents (Elt F) arg20.view.ty) :
    (bodyRunA (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x2 x3 x4 x5 x6 x7 x8).2.2.2.2.1 f14 f15 f16 f17 f18 f19 f20 = (bodyRunA (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x2 x3 x4 x5 x6 x7 x8).2.2.2.2.1 arg14.view.junk arg15.view.junk arg16.view.junk arg17.view.junk arg18.view.junk arg19.view.junk arg20.view.junk := by
  unfold bodyRunA; dsimp only
  rw [prepared14 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x2 x3 x4 x5 x6 x7 x8 f14, prepared15 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x2 x3 x4 x5 x6 x7 x8 f15, prepared16 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x2 x3 x4 x5 x6 x7 x8 f16, prepared17 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x2 x3 x4 x5 x6 x7 x8 f17, queried _ _ arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 _ _ _ _ _ _ _ f18]

/-- The body writes all of its result 4. -/
theorem coverA13 (c : Dev nD) (i : grid0.Coords) (arg2 : Memref sig .tc .vmem S1x2048x128 .f32) (harg2 : arg2.IsWhole) (arg3 : Memref sig .tc .vmem S1x2048x128 .f32) (harg3 : arg3.IsWhole) (arg4 : Memref sig .tc .vmem S1x2048x128 .f32) (harg4 : arg4.IsWhole) (arg5 : Memref sig .tc .vmem S1x64 .f32) (harg5 : arg5.IsWhole) (arg6 : Memref sig .tc .vmem S1x64 .f32) (harg6 : arg6.IsWhole) (arg7 : Memref sig .tc .vmem S1x2x2048x1 .f32) (harg7 : arg7.IsWhole) (arg8 : Memref sig .tc .vmem S1x2048x128 .f32) (harg8 : arg8.IsWhole) (arg9 : Memref sig .tc .vmem S1x2048x128 .f32) (harg9 : arg9.IsWhole) (arg10 : Memref sig .tc .vmem S1x2048x128 .f32) (harg10 : arg10.IsWhole) (arg11 : Memref sig .tc .vmem S1x2048x128 .f32) (harg11 : arg11.IsWhole) (arg12 : Memref sig .tc .vmem S1x64 .f32) (harg12 : arg12.IsWhole) (arg13 : Memref sig .tc .vmem S1x64 .f32) (harg13 : arg13.IsWhole) (arg14 : Memref sig .tc .vmem S2x2048x64 .bf16) (harg14 : arg14.IsWhole) (arg15 : Memref sig .tc .vmem S2x2048x64 .bf16) (harg15 : arg15.IsWhole) (arg16 : Memref sig .tc .vmem S2x2048x64 .bf16) (harg16 : arg16.IsWhole) (arg17 : Memref sig .tc .vmem S2x2048x64 .bf16) (harg17 : arg17.IsWhole) (arg18 : Memref sig .tc .vmem S2x2048x64 .f32) (harg18 : arg18.IsWhole) (arg19 : Memref sig .tc .vmem S2x64x2048 .f32) (harg19 : arg19.IsWhole) (arg20 : Memref sig .tc .vmem S2x64x2048 .f32) (harg20 : arg20.IsWhole) (hc0 : firstPoint i) (x2 : Vec F S1x2048x128 .f32) (x3 : Vec F S1x2048x128 .f32) (x4 : Vec F S1x2048x128 .f32) (x5 : Vec F S1x64 .f32) (x6 : Vec F S1x64 .f32) (x7 : Vec F S1x2x2048x1 .f32) (x8 : Vec F S1x2048x128 .f32) (y : S1x64.Idx) :
    ∃ pc ∈ (bodyRunA (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x2 x3 x4 x5 x6 x7 x8).2.2.2.2.1 arg14.view.junk arg15.view.junk arg16.view.junk arg17.view.junk arg18.view.junk arg19.view.junk arg20.view.junk, y ∈ pc.1.set :=
  View.cover_of_tiledBy ((bodyRunA (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x2 x3 x4 x5 x6 x7 x8).2.2.2.2.1 arg14.view.junk arg15.view.junk arg16.view.junk arg17.view.junk arg18.view.junk arg19.view.junk arg20.view.junk) ![1, 64] (by sl_kernel_rfl) y

/-- What the body writes into its result 0 does not depend on what the scratch held before. -/
theorem indepB9 (c : Dev nD) (i : grid0.Coords) (arg2 : Memref sig .tc .vmem S1x2048x128 .f32) (harg2 : arg2.IsWhole) (arg3 : Memref sig .tc .vmem S1x2048x128 .f32) (harg3 : arg3.IsWhole) (arg4 : Memref sig .tc .vmem S1x2048x128 .f32) (harg4 : arg4.IsWhole) (arg5 : Memref sig .tc .vmem S1x64 .f32) (harg5 : arg5.IsWhole) (arg6 : Memref sig .tc .vmem S1x64 .f32) (harg6 : arg6.IsWhole) (arg7 : Memref sig .tc .vmem S1x2x2048x1 .f32) (harg7 : arg7.IsWhole) (arg8 : Memref sig .tc .vmem S1x2048x128 .f32) (harg8 : arg8.IsWhole) (arg9 : Memref sig .tc .vmem S1x2048x128 .f32) (harg9 : arg9.IsWhole) (arg10 : Memref sig .tc .vmem S1x2048x128 .f32) (harg10 : arg10.IsWhole) (arg11 : Memref sig .tc .vmem S1x2048x128 .f32) (harg11 : arg11.IsWhole) (arg12 : Memref sig .tc .vmem S1x64 .f32) (harg12 : arg12.IsWhole) (arg13 : Memref sig .tc .vmem S1x64 .f32) (harg13 : arg13.IsWhole) (arg14 : Memref sig .tc .vmem S2x2048x64 .bf16) (harg14 : arg14.IsWhole) (arg15 : Memref sig .tc .vmem S2x2048x64 .bf16) (harg15 : arg15.IsWhole) (arg16 : Memref sig .tc .vmem S2x2048x64 .bf16) (harg16 : arg16.IsWhole) (arg17 : Memref sig .tc .vmem S2x2048x64 .bf16) (harg17 : arg17.IsWhole) (arg18 : Memref sig .tc .vmem S2x2048x64 .f32) (harg18 : arg18.IsWhole) (arg19 : Memref sig .tc .vmem S2x64x2048 .f32) (harg19 : arg19.IsWhole) (arg20 : Memref sig .tc .vmem S2x64x2048 .f32) (harg20 : arg20.IsWhole) (hc0 : ¬ firstPoint i) (x2 : Vec F S1x2048x128 .f32) (x3 : Vec F S1x2048x128 .f32) (x4 : Vec F S1x2048x128 .f32) (x5 : Vec F S1x64 .f32) (x6 : Vec F S1x64 .f32) (x7 : Vec F S1x2x2048x1 .f32) (x8 : Vec F S1x2048x128 .f32) (x12 : Vec F S1x64 .f32) (x13 : Vec F S1x64 .f32) (f14 : BufTy.Contents (Elt F) arg14.view.ty) (f15 : BufTy.Contents (Elt F) arg15.view.ty) (f16 : BufTy.Contents (Elt F) arg16.view.ty) (f17 : BufTy.Contents (Elt F) arg17.view.ty) (f18 : BufTy.Contents (Elt F) arg18.view.ty) (f19 : BufTy.Contents (Elt F) arg19.view.ty) (f20 : BufTy.Contents (Elt F) arg20.view.ty) :
    (bodyRunB (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x2 x3 x4 x5 x6 x7 x8 x12 x13).1 f14 f15 f16 f17 f18 f19 f20 = (bodyRunB (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x2 x3 x4 x5 x6 x7 x8 x12 x13).1 arg14.view.junk arg15.view.junk arg16.view.junk arg17.view.junk arg18.view.junk arg19.view.junk arg20.view.junk := by
  unfold bodyRunB; dsimp only
  rw [prepared14 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x2 x3 x4 x5 x6 x7 x8 f14, prepared15 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x2 x3 x4 x5 x6 x7 x8 f15, prepared16 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x2 x3 x4 x5 x6 x7 x8 f16, prepared17 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x2 x3 x4 x5 x6 x7 x8 f17, queried _ _ arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 _ _ _ _ _ _ _ f18]

/-- The body writes all of its result 0. -/
theorem coverB9 (c : Dev nD) (i : grid0.Coords) (arg2 : Memref sig .tc .vmem S1x2048x128 .f32) (harg2 : arg2.IsWhole) (arg3 : Memref sig .tc .vmem S1x2048x128 .f32) (harg3 : arg3.IsWhole) (arg4 : Memref sig .tc .vmem S1x2048x128 .f32) (harg4 : arg4.IsWhole) (arg5 : Memref sig .tc .vmem S1x64 .f32) (harg5 : arg5.IsWhole) (arg6 : Memref sig .tc .vmem S1x64 .f32) (harg6 : arg6.IsWhole) (arg7 : Memref sig .tc .vmem S1x2x2048x1 .f32) (harg7 : arg7.IsWhole) (arg8 : Memref sig .tc .vmem S1x2048x128 .f32) (harg8 : arg8.IsWhole) (arg9 : Memref sig .tc .vmem S1x2048x128 .f32) (harg9 : arg9.IsWhole) (arg10 : Memref sig .tc .vmem S1x2048x128 .f32) (harg10 : arg10.IsWhole) (arg11 : Memref sig .tc .vmem S1x2048x128 .f32) (harg11 : arg11.IsWhole) (arg12 : Memref sig .tc .vmem S1x64 .f32) (harg12 : arg12.IsWhole) (arg13 : Memref sig .tc .vmem S1x64 .f32) (harg13 : arg13.IsWhole) (arg14 : Memref sig .tc .vmem S2x2048x64 .bf16) (harg14 : arg14.IsWhole) (arg15 : Memref sig .tc .vmem S2x2048x64 .bf16) (harg15 : arg15.IsWhole) (arg16 : Memref sig .tc .vmem S2x2048x64 .bf16) (harg16 : arg16.IsWhole) (arg17 : Memref sig .tc .vmem S2x2048x64 .bf16) (harg17 : arg17.IsWhole) (arg18 : Memref sig .tc .vmem S2x2048x64 .f32) (harg18 : arg18.IsWhole) (arg19 : Memref sig .tc .vmem S2x64x2048 .f32) (harg19 : arg19.IsWhole) (arg20 : Memref sig .tc .vmem S2x64x2048 .f32) (harg20 : arg20.IsWhole) (hc0 : ¬ firstPoint i) (x2 : Vec F S1x2048x128 .f32) (x3 : Vec F S1x2048x128 .f32) (x4 : Vec F S1x2048x128 .f32) (x5 : Vec F S1x64 .f32) (x6 : Vec F S1x64 .f32) (x7 : Vec F S1x2x2048x1 .f32) (x8 : Vec F S1x2048x128 .f32) (x12 : Vec F S1x64 .f32) (x13 : Vec F S1x64 .f32) (y : S1x2048x128.Idx) :
    ∃ pc ∈ (bodyRunB (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x2 x3 x4 x5 x6 x7 x8 x12 x13).1 arg14.view.junk arg15.view.junk arg16.view.junk arg17.view.junk arg18.view.junk arg19.view.junk arg20.view.junk, y ∈ pc.1.set :=
  View.cover_of_tiledL ((bodyRunB (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x2 x3 x4 x5 x6 x7 x8 x12 x13).1 arg14.view.junk arg15.view.junk arg16.view.junk arg17.view.junk arg18.view.junk arg19.view.junk arg20.view.junk) (![1, 128, 64] : Fin 3 → ℕ) (by sl_kernel_rfl) y

/-- What the body writes into its result 1 does not depend on what the scratch held before. -/
theorem indepB10 (c : Dev nD) (i : grid0.Coords) (arg2 : Memref sig .tc .vmem S1x2048x128 .f32) (harg2 : arg2.IsWhole) (arg3 : Memref sig .tc .vmem S1x2048x128 .f32) (harg3 : arg3.IsWhole) (arg4 : Memref sig .tc .vmem S1x2048x128 .f32) (harg4 : arg4.IsWhole) (arg5 : Memref sig .tc .vmem S1x64 .f32) (harg5 : arg5.IsWhole) (arg6 : Memref sig .tc .vmem S1x64 .f32) (harg6 : arg6.IsWhole) (arg7 : Memref sig .tc .vmem S1x2x2048x1 .f32) (harg7 : arg7.IsWhole) (arg8 : Memref sig .tc .vmem S1x2048x128 .f32) (harg8 : arg8.IsWhole) (arg9 : Memref sig .tc .vmem S1x2048x128 .f32) (harg9 : arg9.IsWhole) (arg10 : Memref sig .tc .vmem S1x2048x128 .f32) (harg10 : arg10.IsWhole) (arg11 : Memref sig .tc .vmem S1x2048x128 .f32) (harg11 : arg11.IsWhole) (arg12 : Memref sig .tc .vmem S1x64 .f32) (harg12 : arg12.IsWhole) (arg13 : Memref sig .tc .vmem S1x64 .f32) (harg13 : arg13.IsWhole) (arg14 : Memref sig .tc .vmem S2x2048x64 .bf16) (harg14 : arg14.IsWhole) (arg15 : Memref sig .tc .vmem S2x2048x64 .bf16) (harg15 : arg15.IsWhole) (arg16 : Memref sig .tc .vmem S2x2048x64 .bf16) (harg16 : arg16.IsWhole) (arg17 : Memref sig .tc .vmem S2x2048x64 .bf16) (harg17 : arg17.IsWhole) (arg18 : Memref sig .tc .vmem S2x2048x64 .f32) (harg18 : arg18.IsWhole) (arg19 : Memref sig .tc .vmem S2x64x2048 .f32) (harg19 : arg19.IsWhole) (arg20 : Memref sig .tc .vmem S2x64x2048 .f32) (harg20 : arg20.IsWhole) (hc0 : ¬ firstPoint i) (x2 : Vec F S1x2048x128 .f32) (x3 : Vec F S1x2048x128 .f32) (x4 : Vec F S1x2048x128 .f32) (x5 : Vec F S1x64 .f32) (x6 : Vec F S1x64 .f32) (x7 : Vec F S1x2x2048x1 .f32) (x8 : Vec F S1x2048x128 .f32) (x12 : Vec F S1x64 .f32) (x13 : Vec F S1x64 .f32) (f14 : BufTy.Contents (Elt F) arg14.view.ty) (f15 : BufTy.Contents (Elt F) arg15.view.ty) (f16 : BufTy.Contents (Elt F) arg16.view.ty) (f17 : BufTy.Contents (Elt F) arg17.view.ty) (f18 : BufTy.Contents (Elt F) arg18.view.ty) (f19 : BufTy.Contents (Elt F) arg19.view.ty) (f20 : BufTy.Contents (Elt F) arg20.view.ty) :
    (bodyRunB (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x2 x3 x4 x5 x6 x7 x8 x12 x13).2.1 f14 f15 f16 f17 f18 f19 f20 = (bodyRunB (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x2 x3 x4 x5 x6 x7 x8 x12 x13).2.1 arg14.view.junk arg15.view.junk arg16.view.junk arg17.view.junk arg18.view.junk arg19.view.junk arg20.view.junk := by
  unfold bodyRunB; dsimp only
  rw [prepared14 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x2 x3 x4 x5 x6 x7 x8 f14, prepared15 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x2 x3 x4 x5 x6 x7 x8 f15, prepared16 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x2 x3 x4 x5 x6 x7 x8 f16, prepared17 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x2 x3 x4 x5 x6 x7 x8 f17, queried _ _ arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 _ _ _ _ _ _ _ f18]

/-- The body writes all of its result 1. -/
theorem coverB10 (c : Dev nD) (i : grid0.Coords) (arg2 : Memref sig .tc .vmem S1x2048x128 .f32) (harg2 : arg2.IsWhole) (arg3 : Memref sig .tc .vmem S1x2048x128 .f32) (harg3 : arg3.IsWhole) (arg4 : Memref sig .tc .vmem S1x2048x128 .f32) (harg4 : arg4.IsWhole) (arg5 : Memref sig .tc .vmem S1x64 .f32) (harg5 : arg5.IsWhole) (arg6 : Memref sig .tc .vmem S1x64 .f32) (harg6 : arg6.IsWhole) (arg7 : Memref sig .tc .vmem S1x2x2048x1 .f32) (harg7 : arg7.IsWhole) (arg8 : Memref sig .tc .vmem S1x2048x128 .f32) (harg8 : arg8.IsWhole) (arg9 : Memref sig .tc .vmem S1x2048x128 .f32) (harg9 : arg9.IsWhole) (arg10 : Memref sig .tc .vmem S1x2048x128 .f32) (harg10 : arg10.IsWhole) (arg11 : Memref sig .tc .vmem S1x2048x128 .f32) (harg11 : arg11.IsWhole) (arg12 : Memref sig .tc .vmem S1x64 .f32) (harg12 : arg12.IsWhole) (arg13 : Memref sig .tc .vmem S1x64 .f32) (harg13 : arg13.IsWhole) (arg14 : Memref sig .tc .vmem S2x2048x64 .bf16) (harg14 : arg14.IsWhole) (arg15 : Memref sig .tc .vmem S2x2048x64 .bf16) (harg15 : arg15.IsWhole) (arg16 : Memref sig .tc .vmem S2x2048x64 .bf16) (harg16 : arg16.IsWhole) (arg17 : Memref sig .tc .vmem S2x2048x64 .bf16) (harg17 : arg17.IsWhole) (arg18 : Memref sig .tc .vmem S2x2048x64 .f32) (harg18 : arg18.IsWhole) (arg19 : Memref sig .tc .vmem S2x64x2048 .f32) (harg19 : arg19.IsWhole) (arg20 : Memref sig .tc .vmem S2x64x2048 .f32) (harg20 : arg20.IsWhole) (hc0 : ¬ firstPoint i) (x2 : Vec F S1x2048x128 .f32) (x3 : Vec F S1x2048x128 .f32) (x4 : Vec F S1x2048x128 .f32) (x5 : Vec F S1x64 .f32) (x6 : Vec F S1x64 .f32) (x7 : Vec F S1x2x2048x1 .f32) (x8 : Vec F S1x2048x128 .f32) (x12 : Vec F S1x64 .f32) (x13 : Vec F S1x64 .f32) (y : S1x2048x128.Idx) :
    ∃ pc ∈ (bodyRunB (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x2 x3 x4 x5 x6 x7 x8 x12 x13).2.1 arg14.view.junk arg15.view.junk arg16.view.junk arg17.view.junk arg18.view.junk arg19.view.junk arg20.view.junk, y ∈ pc.1.set :=
  View.cover_of_tiledL ((bodyRunB (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x2 x3 x4 x5 x6 x7 x8 x12 x13).2.1 arg14.view.junk arg15.view.junk arg16.view.junk arg17.view.junk arg18.view.junk arg19.view.junk arg20.view.junk) (![1, 128, 64] : Fin 3 → ℕ) (by sl_kernel_rfl) y

/-- What the body writes into its result 2 does not depend on what the scratch held before. -/
theorem indepB11 (c : Dev nD) (i : grid0.Coords) (arg2 : Memref sig .tc .vmem S1x2048x128 .f32) (harg2 : arg2.IsWhole) (arg3 : Memref sig .tc .vmem S1x2048x128 .f32) (harg3 : arg3.IsWhole) (arg4 : Memref sig .tc .vmem S1x2048x128 .f32) (harg4 : arg4.IsWhole) (arg5 : Memref sig .tc .vmem S1x64 .f32) (harg5 : arg5.IsWhole) (arg6 : Memref sig .tc .vmem S1x64 .f32) (harg6 : arg6.IsWhole) (arg7 : Memref sig .tc .vmem S1x2x2048x1 .f32) (harg7 : arg7.IsWhole) (arg8 : Memref sig .tc .vmem S1x2048x128 .f32) (harg8 : arg8.IsWhole) (arg9 : Memref sig .tc .vmem S1x2048x128 .f32) (harg9 : arg9.IsWhole) (arg10 : Memref sig .tc .vmem S1x2048x128 .f32) (harg10 : arg10.IsWhole) (arg11 : Memref sig .tc .vmem S1x2048x128 .f32) (harg11 : arg11.IsWhole) (arg12 : Memref sig .tc .vmem S1x64 .f32) (harg12 : arg12.IsWhole) (arg13 : Memref sig .tc .vmem S1x64 .f32) (harg13 : arg13.IsWhole) (arg14 : Memref sig .tc .vmem S2x2048x64 .bf16) (harg14 : arg14.IsWhole) (arg15 : Memref sig .tc .vmem S2x2048x64 .bf16) (harg15 : arg15.IsWhole) (arg16 : Memref sig .tc .vmem S2x2048x64 .bf16) (harg16 : arg16.IsWhole) (arg17 : Memref sig .tc .vmem S2x2048x64 .bf16) (harg17 : arg17.IsWhole) (arg18 : Memref sig .tc .vmem S2x2048x64 .f32) (harg18 : arg18.IsWhole) (arg19 : Memref sig .tc .vmem S2x64x2048 .f32) (harg19 : arg19.IsWhole) (arg20 : Memref sig .tc .vmem S2x64x2048 .f32) (harg20 : arg20.IsWhole) (hc0 : ¬ firstPoint i) (x2 : Vec F S1x2048x128 .f32) (x3 : Vec F S1x2048x128 .f32) (x4 : Vec F S1x2048x128 .f32) (x5 : Vec F S1x64 .f32) (x6 : Vec F S1x64 .f32) (x7 : Vec F S1x2x2048x1 .f32) (x8 : Vec F S1x2048x128 .f32) (x12 : Vec F S1x64 .f32) (x13 : Vec F S1x64 .f32) (f14 : BufTy.Contents (Elt F) arg14.view.ty) (f15 : BufTy.Contents (Elt F) arg15.view.ty) (f16 : BufTy.Contents (Elt F) arg16.view.ty) (f17 : BufTy.Contents (Elt F) arg17.view.ty) (f18 : BufTy.Contents (Elt F) arg18.view.ty) (f19 : BufTy.Contents (Elt F) arg19.view.ty) (f20 : BufTy.Contents (Elt F) arg20.view.ty) :
    (bodyRunB (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x2 x3 x4 x5 x6 x7 x8 x12 x13).2.2.1 f14 f15 f16 f17 f18 f19 f20 = (bodyRunB (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x2 x3 x4 x5 x6 x7 x8 x12 x13).2.2.1 arg14.view.junk arg15.view.junk arg16.view.junk arg17.view.junk arg18.view.junk arg19.view.junk arg20.view.junk := by
  unfold bodyRunB; dsimp only
  rw [prepared14 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x2 x3 x4 x5 x6 x7 x8 f14, prepared15 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x2 x3 x4 x5 x6 x7 x8 f15, prepared16 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x2 x3 x4 x5 x6 x7 x8 f16, prepared17 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x2 x3 x4 x5 x6 x7 x8 f17, queried _ _ arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 _ _ _ _ _ _ _ f18]

/-- The body writes all of its result 2. -/
theorem coverB11 (c : Dev nD) (i : grid0.Coords) (arg2 : Memref sig .tc .vmem S1x2048x128 .f32) (harg2 : arg2.IsWhole) (arg3 : Memref sig .tc .vmem S1x2048x128 .f32) (harg3 : arg3.IsWhole) (arg4 : Memref sig .tc .vmem S1x2048x128 .f32) (harg4 : arg4.IsWhole) (arg5 : Memref sig .tc .vmem S1x64 .f32) (harg5 : arg5.IsWhole) (arg6 : Memref sig .tc .vmem S1x64 .f32) (harg6 : arg6.IsWhole) (arg7 : Memref sig .tc .vmem S1x2x2048x1 .f32) (harg7 : arg7.IsWhole) (arg8 : Memref sig .tc .vmem S1x2048x128 .f32) (harg8 : arg8.IsWhole) (arg9 : Memref sig .tc .vmem S1x2048x128 .f32) (harg9 : arg9.IsWhole) (arg10 : Memref sig .tc .vmem S1x2048x128 .f32) (harg10 : arg10.IsWhole) (arg11 : Memref sig .tc .vmem S1x2048x128 .f32) (harg11 : arg11.IsWhole) (arg12 : Memref sig .tc .vmem S1x64 .f32) (harg12 : arg12.IsWhole) (arg13 : Memref sig .tc .vmem S1x64 .f32) (harg13 : arg13.IsWhole) (arg14 : Memref sig .tc .vmem S2x2048x64 .bf16) (harg14 : arg14.IsWhole) (arg15 : Memref sig .tc .vmem S2x2048x64 .bf16) (harg15 : arg15.IsWhole) (arg16 : Memref sig .tc .vmem S2x2048x64 .bf16) (harg16 : arg16.IsWhole) (arg17 : Memref sig .tc .vmem S2x2048x64 .bf16) (harg17 : arg17.IsWhole) (arg18 : Memref sig .tc .vmem S2x2048x64 .f32) (harg18 : arg18.IsWhole) (arg19 : Memref sig .tc .vmem S2x64x2048 .f32) (harg19 : arg19.IsWhole) (arg20 : Memref sig .tc .vmem S2x64x2048 .f32) (harg20 : arg20.IsWhole) (hc0 : ¬ firstPoint i) (x2 : Vec F S1x2048x128 .f32) (x3 : Vec F S1x2048x128 .f32) (x4 : Vec F S1x2048x128 .f32) (x5 : Vec F S1x64 .f32) (x6 : Vec F S1x64 .f32) (x7 : Vec F S1x2x2048x1 .f32) (x8 : Vec F S1x2048x128 .f32) (x12 : Vec F S1x64 .f32) (x13 : Vec F S1x64 .f32) (y : S1x2048x128.Idx) :
    ∃ pc ∈ (bodyRunB (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x2 x3 x4 x5 x6 x7 x8 x12 x13).2.2.1 arg14.view.junk arg15.view.junk arg16.view.junk arg17.view.junk arg18.view.junk arg19.view.junk arg20.view.junk, y ∈ pc.1.set :=
  View.cover_of_tiledL ((bodyRunB (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x2 x3 x4 x5 x6 x7 x8 x12 x13).2.2.1 arg14.view.junk arg15.view.junk arg16.view.junk arg17.view.junk arg18.view.junk arg19.view.junk arg20.view.junk) (![1, 128, 64] : Fin 3 → ℕ) (by sl_kernel_rfl) y

/-- What the body writes into its result 3 does not depend on what the scratch held before. -/
theorem indepB12 (c : Dev nD) (i : grid0.Coords) (arg2 : Memref sig .tc .vmem S1x2048x128 .f32) (harg2 : arg2.IsWhole) (arg3 : Memref sig .tc .vmem S1x2048x128 .f32) (harg3 : arg3.IsWhole) (arg4 : Memref sig .tc .vmem S1x2048x128 .f32) (harg4 : arg4.IsWhole) (arg5 : Memref sig .tc .vmem S1x64 .f32) (harg5 : arg5.IsWhole) (arg6 : Memref sig .tc .vmem S1x64 .f32) (harg6 : arg6.IsWhole) (arg7 : Memref sig .tc .vmem S1x2x2048x1 .f32) (harg7 : arg7.IsWhole) (arg8 : Memref sig .tc .vmem S1x2048x128 .f32) (harg8 : arg8.IsWhole) (arg9 : Memref sig .tc .vmem S1x2048x128 .f32) (harg9 : arg9.IsWhole) (arg10 : Memref sig .tc .vmem S1x2048x128 .f32) (harg10 : arg10.IsWhole) (arg11 : Memref sig .tc .vmem S1x2048x128 .f32) (harg11 : arg11.IsWhole) (arg12 : Memref sig .tc .vmem S1x64 .f32) (harg12 : arg12.IsWhole) (arg13 : Memref sig .tc .vmem S1x64 .f32) (harg13 : arg13.IsWhole) (arg14 : Memref sig .tc .vmem S2x2048x64 .bf16) (harg14 : arg14.IsWhole) (arg15 : Memref sig .tc .vmem S2x2048x64 .bf16) (harg15 : arg15.IsWhole) (arg16 : Memref sig .tc .vmem S2x2048x64 .bf16) (harg16 : arg16.IsWhole) (arg17 : Memref sig .tc .vmem S2x2048x64 .bf16) (harg17 : arg17.IsWhole) (arg18 : Memref sig .tc .vmem S2x2048x64 .f32) (harg18 : arg18.IsWhole) (arg19 : Memref sig .tc .vmem S2x64x2048 .f32) (harg19 : arg19.IsWhole) (arg20 : Memref sig .tc .vmem S2x64x2048 .f32) (harg20 : arg20.IsWhole) (hc0 : ¬ firstPoint i) (x2 : Vec F S1x2048x128 .f32) (x3 : Vec F S1x2048x128 .f32) (x4 : Vec F S1x2048x128 .f32) (x5 : Vec F S1x64 .f32) (x6 : Vec F S1x64 .f32) (x7 : Vec F S1x2x2048x1 .f32) (x8 : Vec F S1x2048x128 .f32) (x12 : Vec F S1x64 .f32) (x13 : Vec F S1x64 .f32) (f14 : BufTy.Contents (Elt F) arg14.view.ty) (f15 : BufTy.Contents (Elt F) arg15.view.ty) (f16 : BufTy.Contents (Elt F) arg16.view.ty) (f17 : BufTy.Contents (Elt F) arg17.view.ty) (f18 : BufTy.Contents (Elt F) arg18.view.ty) (f19 : BufTy.Contents (Elt F) arg19.view.ty) (f20 : BufTy.Contents (Elt F) arg20.view.ty) :
    (bodyRunB (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x2 x3 x4 x5 x6 x7 x8 x12 x13).2.2.2.1 f14 f15 f16 f17 f18 f19 f20 = (bodyRunB (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x2 x3 x4 x5 x6 x7 x8 x12 x13).2.2.2.1 arg14.view.junk arg15.view.junk arg16.view.junk arg17.view.junk arg18.view.junk arg19.view.junk arg20.view.junk := by
  unfold bodyRunB; dsimp only
  rw [prepared14 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x2 x3 x4 x5 x6 x7 x8 f14, prepared15 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x2 x3 x4 x5 x6 x7 x8 f15, prepared16 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x2 x3 x4 x5 x6 x7 x8 f16, prepared17 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x2 x3 x4 x5 x6 x7 x8 f17, queried _ _ arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 _ _ _ _ _ _ _ f18]

/-- The body writes all of its result 3. -/
theorem coverB12 (c : Dev nD) (i : grid0.Coords) (arg2 : Memref sig .tc .vmem S1x2048x128 .f32) (harg2 : arg2.IsWhole) (arg3 : Memref sig .tc .vmem S1x2048x128 .f32) (harg3 : arg3.IsWhole) (arg4 : Memref sig .tc .vmem S1x2048x128 .f32) (harg4 : arg4.IsWhole) (arg5 : Memref sig .tc .vmem S1x64 .f32) (harg5 : arg5.IsWhole) (arg6 : Memref sig .tc .vmem S1x64 .f32) (harg6 : arg6.IsWhole) (arg7 : Memref sig .tc .vmem S1x2x2048x1 .f32) (harg7 : arg7.IsWhole) (arg8 : Memref sig .tc .vmem S1x2048x128 .f32) (harg8 : arg8.IsWhole) (arg9 : Memref sig .tc .vmem S1x2048x128 .f32) (harg9 : arg9.IsWhole) (arg10 : Memref sig .tc .vmem S1x2048x128 .f32) (harg10 : arg10.IsWhole) (arg11 : Memref sig .tc .vmem S1x2048x128 .f32) (harg11 : arg11.IsWhole) (arg12 : Memref sig .tc .vmem S1x64 .f32) (harg12 : arg12.IsWhole) (arg13 : Memref sig .tc .vmem S1x64 .f32) (harg13 : arg13.IsWhole) (arg14 : Memref sig .tc .vmem S2x2048x64 .bf16) (harg14 : arg14.IsWhole) (arg15 : Memref sig .tc .vmem S2x2048x64 .bf16) (harg15 : arg15.IsWhole) (arg16 : Memref sig .tc .vmem S2x2048x64 .bf16) (harg16 : arg16.IsWhole) (arg17 : Memref sig .tc .vmem S2x2048x64 .bf16) (harg17 : arg17.IsWhole) (arg18 : Memref sig .tc .vmem S2x2048x64 .f32) (harg18 : arg18.IsWhole) (arg19 : Memref sig .tc .vmem S2x64x2048 .f32) (harg19 : arg19.IsWhole) (arg20 : Memref sig .tc .vmem S2x64x2048 .f32) (harg20 : arg20.IsWhole) (hc0 : ¬ firstPoint i) (x2 : Vec F S1x2048x128 .f32) (x3 : Vec F S1x2048x128 .f32) (x4 : Vec F S1x2048x128 .f32) (x5 : Vec F S1x64 .f32) (x6 : Vec F S1x64 .f32) (x7 : Vec F S1x2x2048x1 .f32) (x8 : Vec F S1x2048x128 .f32) (x12 : Vec F S1x64 .f32) (x13 : Vec F S1x64 .f32) (y : S1x64.Idx) :
    ∃ pc ∈ (bodyRunB (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x2 x3 x4 x5 x6 x7 x8 x12 x13).2.2.2.1 arg14.view.junk arg15.view.junk arg16.view.junk arg17.view.junk arg18.view.junk arg19.view.junk arg20.view.junk, y ∈ pc.1.set :=
  View.cover_of_tiledBy ((bodyRunB (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x2 x3 x4 x5 x6 x7 x8 x12 x13).2.2.2.1 arg14.view.junk arg15.view.junk arg16.view.junk arg17.view.junk arg18.view.junk arg19.view.junk arg20.view.junk) ![1, 64] (by sl_kernel_rfl) y

/-- What the body writes into its result 4 does not depend on what the scratch held before. -/
theorem indepB13 (c : Dev nD) (i : grid0.Coords) (arg2 : Memref sig .tc .vmem S1x2048x128 .f32) (harg2 : arg2.IsWhole) (arg3 : Memref sig .tc .vmem S1x2048x128 .f32) (harg3 : arg3.IsWhole) (arg4 : Memref sig .tc .vmem S1x2048x128 .f32) (harg4 : arg4.IsWhole) (arg5 : Memref sig .tc .vmem S1x64 .f32) (harg5 : arg5.IsWhole) (arg6 : Memref sig .tc .vmem S1x64 .f32) (harg6 : arg6.IsWhole) (arg7 : Memref sig .tc .vmem S1x2x2048x1 .f32) (harg7 : arg7.IsWhole) (arg8 : Memref sig .tc .vmem S1x2048x128 .f32) (harg8 : arg8.IsWhole) (arg9 : Memref sig .tc .vmem S1x2048x128 .f32) (harg9 : arg9.IsWhole) (arg10 : Memref sig .tc .vmem S1x2048x128 .f32) (harg10 : arg10.IsWhole) (arg11 : Memref sig .tc .vmem S1x2048x128 .f32) (harg11 : arg11.IsWhole) (arg12 : Memref sig .tc .vmem S1x64 .f32) (harg12 : arg12.IsWhole) (arg13 : Memref sig .tc .vmem S1x64 .f32) (harg13 : arg13.IsWhole) (arg14 : Memref sig .tc .vmem S2x2048x64 .bf16) (harg14 : arg14.IsWhole) (arg15 : Memref sig .tc .vmem S2x2048x64 .bf16) (harg15 : arg15.IsWhole) (arg16 : Memref sig .tc .vmem S2x2048x64 .bf16) (harg16 : arg16.IsWhole) (arg17 : Memref sig .tc .vmem S2x2048x64 .bf16) (harg17 : arg17.IsWhole) (arg18 : Memref sig .tc .vmem S2x2048x64 .f32) (harg18 : arg18.IsWhole) (arg19 : Memref sig .tc .vmem S2x64x2048 .f32) (harg19 : arg19.IsWhole) (arg20 : Memref sig .tc .vmem S2x64x2048 .f32) (harg20 : arg20.IsWhole) (hc0 : ¬ firstPoint i) (x2 : Vec F S1x2048x128 .f32) (x3 : Vec F S1x2048x128 .f32) (x4 : Vec F S1x2048x128 .f32) (x5 : Vec F S1x64 .f32) (x6 : Vec F S1x64 .f32) (x7 : Vec F S1x2x2048x1 .f32) (x8 : Vec F S1x2048x128 .f32) (x12 : Vec F S1x64 .f32) (x13 : Vec F S1x64 .f32) (f14 : BufTy.Contents (Elt F) arg14.view.ty) (f15 : BufTy.Contents (Elt F) arg15.view.ty) (f16 : BufTy.Contents (Elt F) arg16.view.ty) (f17 : BufTy.Contents (Elt F) arg17.view.ty) (f18 : BufTy.Contents (Elt F) arg18.view.ty) (f19 : BufTy.Contents (Elt F) arg19.view.ty) (f20 : BufTy.Contents (Elt F) arg20.view.ty) :
    (bodyRunB (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x2 x3 x4 x5 x6 x7 x8 x12 x13).2.2.2.2.1 f14 f15 f16 f17 f18 f19 f20 = (bodyRunB (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x2 x3 x4 x5 x6 x7 x8 x12 x13).2.2.2.2.1 arg14.view.junk arg15.view.junk arg16.view.junk arg17.view.junk arg18.view.junk arg19.view.junk arg20.view.junk := by
  unfold bodyRunB; dsimp only
  rw [prepared14 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x2 x3 x4 x5 x6 x7 x8 f14, prepared15 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x2 x3 x4 x5 x6 x7 x8 f15, prepared16 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x2 x3 x4 x5 x6 x7 x8 f16, prepared17 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x2 x3 x4 x5 x6 x7 x8 f17, queried _ _ arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 _ _ _ _ _ _ _ f18]

/-- The body writes all of its result 4. -/
theorem coverB13 (c : Dev nD) (i : grid0.Coords) (arg2 : Memref sig .tc .vmem S1x2048x128 .f32) (harg2 : arg2.IsWhole) (arg3 : Memref sig .tc .vmem S1x2048x128 .f32) (harg3 : arg3.IsWhole) (arg4 : Memref sig .tc .vmem S1x2048x128 .f32) (harg4 : arg4.IsWhole) (arg5 : Memref sig .tc .vmem S1x64 .f32) (harg5 : arg5.IsWhole) (arg6 : Memref sig .tc .vmem S1x64 .f32) (harg6 : arg6.IsWhole) (arg7 : Memref sig .tc .vmem S1x2x2048x1 .f32) (harg7 : arg7.IsWhole) (arg8 : Memref sig .tc .vmem S1x2048x128 .f32) (harg8 : arg8.IsWhole) (arg9 : Memref sig .tc .vmem S1x2048x128 .f32) (harg9 : arg9.IsWhole) (arg10 : Memref sig .tc .vmem S1x2048x128 .f32) (harg10 : arg10.IsWhole) (arg11 : Memref sig .tc .vmem S1x2048x128 .f32) (harg11 : arg11.IsWhole) (arg12 : Memref sig .tc .vmem S1x64 .f32) (harg12 : arg12.IsWhole) (arg13 : Memref sig .tc .vmem S1x64 .f32) (harg13 : arg13.IsWhole) (arg14 : Memref sig .tc .vmem S2x2048x64 .bf16) (harg14 : arg14.IsWhole) (arg15 : Memref sig .tc .vmem S2x2048x64 .bf16) (harg15 : arg15.IsWhole) (arg16 : Memref sig .tc .vmem S2x2048x64 .bf16) (harg16 : arg16.IsWhole) (arg17 : Memref sig .tc .vmem S2x2048x64 .bf16) (harg17 : arg17.IsWhole) (arg18 : Memref sig .tc .vmem S2x2048x64 .f32) (harg18 : arg18.IsWhole) (arg19 : Memref sig .tc .vmem S2x64x2048 .f32) (harg19 : arg19.IsWhole) (arg20 : Memref sig .tc .vmem S2x64x2048 .f32) (harg20 : arg20.IsWhole) (hc0 : ¬ firstPoint i) (x2 : Vec F S1x2048x128 .f32) (x3 : Vec F S1x2048x128 .f32) (x4 : Vec F S1x2048x128 .f32) (x5 : Vec F S1x64 .f32) (x6 : Vec F S1x64 .f32) (x7 : Vec F S1x2x2048x1 .f32) (x8 : Vec F S1x2048x128 .f32) (x12 : Vec F S1x64 .f32) (x13 : Vec F S1x64 .f32) (y : S1x64.Idx) :
    ∃ pc ∈ (bodyRunB (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x2 x3 x4 x5 x6 x7 x8 x12 x13).2.2.2.2.1 arg14.view.junk arg15.view.junk arg16.view.junk arg17.view.junk arg18.view.junk arg19.view.junk arg20.view.junk, y ∈ pc.1.set :=
  View.cover_of_tiledBy ((bodyRunB (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x2 x3 x4 x5 x6 x7 x8 x12 x13).2.2.2.2.1 arg14.view.junk arg15.view.junk arg16.view.junk arg17.view.junk arg18.view.junk arg19.view.junk arg20.view.junk) ![1, 64] (by sl_kernel_rfl) y

end Cert.KernelIdeal.Gen

end
-- ==== Proof.SbFrame.lean ====
module

public import proofs.«01_k».proof.Proof.SbCover
public import proofs.«01_k».proof.Proof.Gen.KernelIdeal.Launch
public import proofs.«01_k».proof.Proof.Gen.KernelIdeal.Points
public import Idealize.ShloMosaic.Lib.Claim
public import Idealize.ShloMosaic.Lib.Pipeline.FrameBody

@[expose] public section

set_option maxRecDepth 16384
set_option maxHeartbeats 4000000

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.ShloMosaic.Rounds
open Idealize.ShloMosaic.Pipeline (Dat Cfg Window BodyObligation cellOf)
open Idealize.SL.BI.BIBase Idealize.SL.BI.Laws Idealize.SL.ProofMode Idealize.SL.Sem

variable {F : FTy → Type} [FloatOps F]

/-- The resource algebra of the generated instances: the frame kit's (Gen/<Name>/Frame.lean). -/
local notation "𝕄" => MT nD τ sig Unit (Elt F) ℕ (UR sig nD τ) ℕ

variable (m : (ℓ : Loc nD τ sig) → Buf (Elt F) ℓ) (ρ : Dev nD → PrngReg)

/-! ## The staging and scratch memrefs at a grid point -/

/-- Window 0's current staging memref at point `t`, and its wholeness. -/
abbrev ms0 (t : Fin cfg0.N) : Memref sig .tc .vmem S1x2048x128 .f32 := win0_0.stage (cfg0.slots t 0)
abbrev hs0 (t : Fin cfg0.N) : (ms0 t).IsWhole := hstage0_0 ((cfg0.slots t 0).cast nbuf0_0)
/-- Window 1's current staging memref at point `t`, and its wholeness. -/
abbrev ms1 (t : Fin cfg0.N) : Memref sig .tc .vmem S1x2048x128 .f32 := win0_1.stage (cfg0.slots t 1)
abbrev hs1 (t : Fin cfg0.N) : (ms1 t).IsWhole := hstage0_1 ((cfg0.slots t 1).cast nbuf0_1)
/-- Window 2's current staging memref at point `t`, and its wholeness. -/
abbrev ms2 (t : Fin cfg0.N) : Memref sig .tc .vmem S1x2048x128 .f32 := win0_2.stage (cfg0.slots t 2)
abbrev hs2 (t : Fin cfg0.N) : (ms2 t).IsWhole := hstage0_2 ((cfg0.slots t 2).cast nbuf0_2)
/-- Window 3's current staging memref at point `t`, and its wholeness. -/
abbrev ms3 (t : Fin cfg0.N) : Memref sig .tc .vmem S1x64 .f32 := win0_3.stage (cfg0.slots t 3)
abbrev hs3 (t : Fin cfg0.N) : (ms3 t).IsWhole := hstage0_3 ((cfg0.slots t 3).cast nbuf0_3)
/-- Window 4's current staging memref at point `t`, and its wholeness. -/
abbrev ms4 (t : Fin cfg0.N) : Memref sig .tc .vmem S1x64 .f32 := win0_4.stage (cfg0.slots t 4)
abbrev hs4 (t : Fin cfg0.N) : (ms4 t).IsWhole := hstage0_4 ((cfg0.slots t 4).cast nbuf0_4)
/-- Window 5's current staging memref at point `t`, and its wholeness. -/
abbrev ms5 (t : Fin cfg0.N) : Memref sig .tc .vmem S1x2x2048x1 .f32 := win0_5.stage (cfg0.slots t 5)
abbrev hs5 (t : Fin cfg0.N) : (ms5 t).IsWhole := hstage0_5 ((cfg0.slots t 5).cast nbuf0_5)
/-- Window 6's current staging memref at point `t`, and its wholeness. -/
abbrev ms6 (t : Fin cfg0.N) : Memref sig .tc .vmem S1x2048x128 .f32 := win0_6.stage (cfg0.slots t 6)
abbrev hs6 (t : Fin cfg0.N) : (ms6 t).IsWhole := hstage0_6 ((cfg0.slots t 6).cast nbuf0_6)
/-- Window 7's current staging memref at point `t`, and its wholeness. -/
abbrev ms7 (t : Fin cfg0.N) : Memref sig .tc .vmem S1x2048x128 .f32 := win0_7.stage (cfg0.slots t 7)
abbrev hs7 (t : Fin cfg0.N) : (ms7 t).IsWhole := hstage0_7 ((cfg0.slots t 7).cast nbuf0_7)
/-- Window 8's current staging memref at point `t`, and its wholeness. -/
abbrev ms8 (t : Fin cfg0.N) : Memref sig .tc .vmem S1x2048x128 .f32 := win0_8.stage (cfg0.slots t 8)
abbrev hs8 (t : Fin cfg0.N) : (ms8 t).IsWhole := hstage0_8 ((cfg0.slots t 8).cast nbuf0_8)
/-- Window 9's current staging memref at point `t`, and its wholeness. -/
abbrev ms9 (t : Fin cfg0.N) : Memref sig .tc .vmem S1x2048x128 .f32 := win0_9.stage (cfg0.slots t 9)
abbrev hs9 (t : Fin cfg0.N) : (ms9 t).IsWhole := hstage0_9 ((cfg0.slots t 9).cast nbuf0_9)
/-- Window 10's current staging memref at point `t`, and its wholeness. -/
abbrev ms10 (t : Fin cfg0.N) : Memref sig .tc .vmem S1x64 .f32 := win0_10.stage (cfg0.slots t 10)
abbrev hs10 (t : Fin cfg0.N) : (ms10 t).IsWhole := hstage0_10 ((cfg0.slots t 10).cast nbuf0_10)
/-- Window 11's current staging memref at point `t`, and its wholeness. -/
abbrev ms11 (t : Fin cfg0.N) : Memref sig .tc .vmem S1x64 .f32 := win0_11.stage (cfg0.slots t 11)
abbrev hs11 (t : Fin cfg0.N) : (ms11 t).IsWhole := hstage0_11 ((cfg0.slots t 11).cast nbuf0_11)
/-- Scratch operand 0. -/
abbrev scr0 : Memref sig .tc .vmem S2x2048x64 .bf16 := Memref.whole cc0_scratch0
/-- Scratch operand 1. -/
abbrev scr1 : Memref sig .tc .vmem S2x2048x64 .bf16 := Memref.whole cc0_scratch1
/-- Scratch operand 2. -/
abbrev scr2 : Memref sig .tc .vmem S2x2048x64 .bf16 := Memref.whole cc0_scratch2
/-- Scratch operand 3. -/
abbrev scr3 : Memref sig .tc .vmem S2x2048x64 .bf16 := Memref.whole cc0_scratch3
/-- Scratch operand 4. -/
abbrev scr4 : Memref sig .tc .vmem S2x2048x64 .f32 := Memref.whole cc0_scratch4
/-- Scratch operand 5. -/
abbrev scr5 : Memref sig .tc .vmem S2x64x2048 .f32 := Memref.whole cc0_scratch5
/-- Scratch operand 6. -/
abbrev scr6 : Memref sig .tc .vmem S2x64x2048 .f32 := Memref.whole cc0_scratch6
/-- A staging buffer of result 0, through which its contents are stated. -/
abbrev VO7 : View sig .tc .vmem S1x2048x128 .f32 := (Memref.whole cc0_stg7_0 : Memref sig .tc .vmem S1x2048x128 .f32).view
/-- A staging buffer of result 1, through which its contents are stated. -/
abbrev VO8 : View sig .tc .vmem S1x2048x128 .f32 := (Memref.whole cc0_stg8_0 : Memref sig .tc .vmem S1x2048x128 .f32).view
/-- A staging buffer of result 2, through which its contents are stated. -/
abbrev VO9 : View sig .tc .vmem S1x2048x128 .f32 := (Memref.whole cc0_stg9_0 : Memref sig .tc .vmem S1x2048x128 .f32).view
/-- A staging buffer of result 3, through which its contents are stated. -/
abbrev VO10 : View sig .tc .vmem S1x64 .f32 := (Memref.whole cc0_stg10_0 : Memref sig .tc .vmem S1x64 .f32).view
/-- A staging buffer of result 4, through which its contents are stated. -/
abbrev VO11 : View sig .tc .vmem S1x64 .f32 := (Memref.whole cc0_stg11_0 : Memref sig .tc .vmem S1x64 .f32).view

/-- A memref owned at some contents holds some buffer contents. -/
theorem owned_any {s : Shape} {e : EltTy} {sp : Space} (c : Dev nD) (M : Memref sig .tc sp s e) :
    (iprop(∃ d, owns (c : Thread nD τ) M fullShare d) : sProp 𝕄) = iprop(∃ f, (M.view.loc (c : Thread nD τ) ↦[M.view.set]{fullShare} f)) := by
  have h : (iprop(∃ d, owns (c : Thread nD τ) M fullShare d) : sProp 𝕄) ⊢ iprop(∃ f, (M.view.loc (c : Thread nD τ) ↦[M.view.set]{fullShare} f)) := by
    unfold owns; iintro ⟨%d, %f, -, H⟩; iexists f; iexact H
  have h' : (iprop(∃ f, (M.view.loc (c : Thread nD τ) ↦[M.view.set]{fullShare} f)) : sProp 𝕄) ⊢ iprop(∃ d, owns (c : Thread nD τ) M fullShare d) := by
    unfold owns; iintro ⟨%f, H⟩; iexists _, f; isplitr
    · ipureintro; rfl
    iexact H
  exact Entails.antisymm h h'

/-- The invariant at every point: the scratch buffers at some contents, and the generator register. -/
theorem phi_eq (c : Dev nD) :
    (Pipeline.ΦA spec0 c : sProp 𝕄)
      = iprop(iprop((∃ d, owns (c : Thread nD τ) scr0 fullShare d) ∗ (∃ d, owns (c : Thread nD τ) scr1 fullShare d) ∗ (∃ d, owns (c : Thread nD τ) scr2 fullShare d) ∗ (∃ d, owns (c : Thread nD τ) scr3 fullShare d) ∗ (∃ d, owns (c : Thread nD τ) scr4 fullShare d) ∗ (∃ d, owns (c : Thread nD τ) scr5 fullShare d) ∗ (∃ d, owns (c : Thread nD τ) scr6 fullShare d)) ∗ (∃ r, prngReg c r)) := by
  unfold Pipeline.ΦA; rw [scopedRest0_eq]; simp only [scr0, scr1, scr2, scr3, scr4, scr5, scr6, owns_whole]; try rfl

/-! ## What the results hold after each point -/

/-- The body's run at the first grid point, at the point's memrefs and input blocks. -/
abbrev runA (c : Dev nD) (t : Fin cfg0.N) (hc0 : firstPoint (grid0.coords t)) :=
  bodyRunA (F := F) c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) scr0 (Memref.isWhole_whole _) scr1 (Memref.isWhole_whole _) scr2 (Memref.isWhole_whole _) scr3 (Memref.isWhole_whole _) scr4 (Memref.isWhole_whole _) scr5 (Memref.isWhole_whole _) scr6 (Memref.isWhole_whole _) hc0 (iblk m c 0 t) (iblk m c 1 t) (iblk m c 2 t) (iblk m c 3 t) (iblk m c 4 t) (iblk m c 5 t) (iblk m c 6 t)

/-- What it leaves in result 0's staging buffer. -/
def outA9 (c : Dev nD) (t : Fin cfg0.N) (hc0 : firstPoint (grid0.coords t)) : Vec F S1x2048x128 .f32 :=
  VO7.read (Elt F) (VO7.writes (Elt F) VO7.junk ((runA m c t hc0).1 scr0.view.junk scr1.view.junk scr2.view.junk scr3.view.junk scr4.view.junk scr5.view.junk scr6.view.junk))

/-- It does so whatever the buffers held before. -/
theorem leftA9 (c : Dev nD) (t : Fin cfg0.N) (hc0 : firstPoint (grid0.coords t)) (f) (f0 f1 f2 f3 f4 f5 f6) :
    (ms7 t).view.read (Elt F) ((ms7 t).view.writes (Elt F) f ((runA m c t hc0).1 f0 f1 f2 f3 f4 f5 f6)) = outA9 m c t hc0 :=
  (congrArg (fun L => (ms7 t).view.read (Elt F) ((ms7 t).view.writes (Elt F) f L))
    (indepA9 c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) scr0 (Memref.isWhole_whole _) scr1 (Memref.isWhole_whole _) scr2 (Memref.isWhole_whole _) scr3 (Memref.isWhole_whole _) scr4 (Memref.isWhole_whole _) scr5 (Memref.isWhole_whole _) scr6 (Memref.isWhole_whole _) hc0 (iblk m c 0 t) (iblk m c 1 t) (iblk m c 2 t) (iblk m c 3 t) (iblk m c 4 t) (iblk m c 5 t) (iblk m c 6 t) f0 f1 f2 f3 f4 f5 f6)).trans
  (View.read_writes_of_cover _ _ _ _ _ (coverA9 c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) scr0 (Memref.isWhole_whole _) scr1 (Memref.isWhole_whole _) scr2 (Memref.isWhole_whole _) scr3 (Memref.isWhole_whole _) scr4 (Memref.isWhole_whole _) scr5 (Memref.isWhole_whole _) scr6 (Memref.isWhole_whole _) hc0 (iblk m c 0 t) (iblk m c 1 t) (iblk m c 2 t) (iblk m c 3 t) (iblk m c 4 t) (iblk m c 5 t) (iblk m c 6 t)))

/-- What it leaves in result 1's staging buffer. -/
def outA10 (c : Dev nD) (t : Fin cfg0.N) (hc0 : firstPoint (grid0.coords t)) : Vec F S1x2048x128 .f32 :=
  VO8.read (Elt F) (VO8.writes (Elt F) VO8.junk ((runA m c t hc0).2.1 scr0.view.junk scr1.view.junk scr2.view.junk scr3.view.junk scr4.view.junk scr5.view.junk scr6.view.junk))

/-- It does so whatever the buffers held before. -/
theorem leftA10 (c : Dev nD) (t : Fin cfg0.N) (hc0 : firstPoint (grid0.coords t)) (f) (f0 f1 f2 f3 f4 f5 f6) :
    (ms8 t).view.read (Elt F) ((ms8 t).view.writes (Elt F) f ((runA m c t hc0).2.1 f0 f1 f2 f3 f4 f5 f6)) = outA10 m c t hc0 :=
  (congrArg (fun L => (ms8 t).view.read (Elt F) ((ms8 t).view.writes (Elt F) f L))
    (indepA10 c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) scr0 (Memref.isWhole_whole _) scr1 (Memref.isWhole_whole _) scr2 (Memref.isWhole_whole _) scr3 (Memref.isWhole_whole _) scr4 (Memref.isWhole_whole _) scr5 (Memref.isWhole_whole _) scr6 (Memref.isWhole_whole _) hc0 (iblk m c 0 t) (iblk m c 1 t) (iblk m c 2 t) (iblk m c 3 t) (iblk m c 4 t) (iblk m c 5 t) (iblk m c 6 t) f0 f1 f2 f3 f4 f5 f6)).trans
  (View.read_writes_of_cover _ _ _ _ _ (coverA10 c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) scr0 (Memref.isWhole_whole _) scr1 (Memref.isWhole_whole _) scr2 (Memref.isWhole_whole _) scr3 (Memref.isWhole_whole _) scr4 (Memref.isWhole_whole _) scr5 (Memref.isWhole_whole _) scr6 (Memref.isWhole_whole _) hc0 (iblk m c 0 t) (iblk m c 1 t) (iblk m c 2 t) (iblk m c 3 t) (iblk m c 4 t) (iblk m c 5 t) (iblk m c 6 t)))

/-- What it leaves in result 2's staging buffer. -/
def outA11 (c : Dev nD) (t : Fin cfg0.N) (hc0 : firstPoint (grid0.coords t)) : Vec F S1x2048x128 .f32 :=
  VO9.read (Elt F) (VO9.writes (Elt F) VO9.junk ((runA m c t hc0).2.2.1 scr0.view.junk scr1.view.junk scr2.view.junk scr3.view.junk scr4.view.junk scr5.view.junk scr6.view.junk))

/-- It does so whatever the buffers held before. -/
theorem leftA11 (c : Dev nD) (t : Fin cfg0.N) (hc0 : firstPoint (grid0.coords t)) (f) (f0 f1 f2 f3 f4 f5 f6) :
    (ms9 t).view.read (Elt F) ((ms9 t).view.writes (Elt F) f ((runA m c t hc0).2.2.1 f0 f1 f2 f3 f4 f5 f6)) = outA11 m c t hc0 :=
  (congrArg (fun L => (ms9 t).view.read (Elt F) ((ms9 t).view.writes (Elt F) f L))
    (indepA11 c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) scr0 (Memref.isWhole_whole _) scr1 (Memref.isWhole_whole _) scr2 (Memref.isWhole_whole _) scr3 (Memref.isWhole_whole _) scr4 (Memref.isWhole_whole _) scr5 (Memref.isWhole_whole _) scr6 (Memref.isWhole_whole _) hc0 (iblk m c 0 t) (iblk m c 1 t) (iblk m c 2 t) (iblk m c 3 t) (iblk m c 4 t) (iblk m c 5 t) (iblk m c 6 t) f0 f1 f2 f3 f4 f5 f6)).trans
  (View.read_writes_of_cover _ _ _ _ _ (coverA11 c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) scr0 (Memref.isWhole_whole _) scr1 (Memref.isWhole_whole _) scr2 (Memref.isWhole_whole _) scr3 (Memref.isWhole_whole _) scr4 (Memref.isWhole_whole _) scr5 (Memref.isWhole_whole _) scr6 (Memref.isWhole_whole _) hc0 (iblk m c 0 t) (iblk m c 1 t) (iblk m c 2 t) (iblk m c 3 t) (iblk m c 4 t) (iblk m c 5 t) (iblk m c 6 t)))

/-- What it leaves in result 3's staging buffer. -/
def outA12 (c : Dev nD) (t : Fin cfg0.N) (hc0 : firstPoint (grid0.coords t)) : Vec F S1x64 .f32 :=
  VO10.read (Elt F) (VO10.writes (Elt F) VO10.junk ((runA m c t hc0).2.2.2.1 scr0.view.junk scr1.view.junk scr2.view.junk scr3.view.junk scr4.view.junk scr5.view.junk scr6.view.junk))

/-- It does so whatever the buffers held before. -/
theorem leftA12 (c : Dev nD) (t : Fin cfg0.N) (hc0 : firstPoint (grid0.coords t)) (f) (f0 f1 f2 f3 f4 f5 f6) :
    (ms10 t).view.read (Elt F) ((ms10 t).view.writes (Elt F) f ((runA m c t hc0).2.2.2.1 f0 f1 f2 f3 f4 f5 f6)) = outA12 m c t hc0 :=
  (congrArg (fun L => (ms10 t).view.read (Elt F) ((ms10 t).view.writes (Elt F) f L))
    (indepA12 c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) scr0 (Memref.isWhole_whole _) scr1 (Memref.isWhole_whole _) scr2 (Memref.isWhole_whole _) scr3 (Memref.isWhole_whole _) scr4 (Memref.isWhole_whole _) scr5 (Memref.isWhole_whole _) scr6 (Memref.isWhole_whole _) hc0 (iblk m c 0 t) (iblk m c 1 t) (iblk m c 2 t) (iblk m c 3 t) (iblk m c 4 t) (iblk m c 5 t) (iblk m c 6 t) f0 f1 f2 f3 f4 f5 f6)).trans
  (View.read_writes_of_cover _ _ _ _ _ (coverA12 c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) scr0 (Memref.isWhole_whole _) scr1 (Memref.isWhole_whole _) scr2 (Memref.isWhole_whole _) scr3 (Memref.isWhole_whole _) scr4 (Memref.isWhole_whole _) scr5 (Memref.isWhole_whole _) scr6 (Memref.isWhole_whole _) hc0 (iblk m c 0 t) (iblk m c 1 t) (iblk m c 2 t) (iblk m c 3 t) (iblk m c 4 t) (iblk m c 5 t) (iblk m c 6 t)))

/-- What it leaves in result 4's staging buffer. -/
def outA13 (c : Dev nD) (t : Fin cfg0.N) (hc0 : firstPoint (grid0.coords t)) : Vec F S1x64 .f32 :=
  VO11.read (Elt F) (VO11.writes (Elt F) VO11.junk ((runA m c t hc0).2.2.2.2.1 scr0.view.junk scr1.view.junk scr2.view.junk scr3.view.junk scr4.view.junk scr5.view.junk scr6.view.junk))

/-- It does so whatever the buffers held before. -/
theorem leftA13 (c : Dev nD) (t : Fin cfg0.N) (hc0 : firstPoint (grid0.coords t)) (f) (f0 f1 f2 f3 f4 f5 f6) :
    (ms11 t).view.read (Elt F) ((ms11 t).view.writes (Elt F) f ((runA m c t hc0).2.2.2.2.1 f0 f1 f2 f3 f4 f5 f6)) = outA13 m c t hc0 :=
  (congrArg (fun L => (ms11 t).view.read (Elt F) ((ms11 t).view.writes (Elt F) f L))
    (indepA13 c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) scr0 (Memref.isWhole_whole _) scr1 (Memref.isWhole_whole _) scr2 (Memref.isWhole_whole _) scr3 (Memref.isWhole_whole _) scr4 (Memref.isWhole_whole _) scr5 (Memref.isWhole_whole _) scr6 (Memref.isWhole_whole _) hc0 (iblk m c 0 t) (iblk m c 1 t) (iblk m c 2 t) (iblk m c 3 t) (iblk m c 4 t) (iblk m c 5 t) (iblk m c 6 t) f0 f1 f2 f3 f4 f5 f6)).trans
  (View.read_writes_of_cover _ _ _ _ _ (coverA13 c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) scr0 (Memref.isWhole_whole _) scr1 (Memref.isWhole_whole _) scr2 (Memref.isWhole_whole _) scr3 (Memref.isWhole_whole _) scr4 (Memref.isWhole_whole _) scr5 (Memref.isWhole_whole _) scr6 (Memref.isWhole_whole _) hc0 (iblk m c 0 t) (iblk m c 1 t) (iblk m c 2 t) (iblk m c 3 t) (iblk m c 4 t) (iblk m c 5 t) (iblk m c 6 t)))

/-- The body's run at a later grid point, at the point's memrefs and input blocks and at what the gradients of the gains held before. -/
abbrev runB (c : Dev nD) (t : Fin cfg0.N) (hc0 : ¬ firstPoint (grid0.coords t)) (x12 : Vec F S1x64 .f32) (x13 : Vec F S1x64 .f32) :=
  bodyRunB (F := F) c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) scr0 (Memref.isWhole_whole _) scr1 (Memref.isWhole_whole _) scr2 (Memref.isWhole_whole _) scr3 (Memref.isWhole_whole _) scr4 (Memref.isWhole_whole _) scr5 (Memref.isWhole_whole _) scr6 (Memref.isWhole_whole _) hc0 (iblk m c 0 t) (iblk m c 1 t) (iblk m c 2 t) (iblk m c 3 t) (iblk m c 4 t) (iblk m c 5 t) (iblk m c 6 t) x12 x13

/-- What it leaves in result 0's staging buffer. -/
def outB9 (c : Dev nD) (t : Fin cfg0.N) (hc0 : ¬ firstPoint (grid0.coords t)) (x12 : Vec F S1x64 .f32) (x13 : Vec F S1x64 .f32) : Vec F S1x2048x128 .f32 :=
  VO7.read (Elt F) (VO7.writes (Elt F) VO7.junk ((runB m c t hc0 x12 x13).1 scr0.view.junk scr1.view.junk scr2.view.junk scr3.view.junk scr4.view.junk scr5.view.junk scr6.view.junk))

/-- It does so whatever the buffers held before. -/
theorem leftB9 (c : Dev nD) (t : Fin cfg0.N) (hc0 : ¬ firstPoint (grid0.coords t)) (x12 : Vec F S1x64 .f32) (x13 : Vec F S1x64 .f32) (f) (f0 f1 f2 f3 f4 f5 f6) :
    (ms7 t).view.read (Elt F) ((ms7 t).view.writes (Elt F) f ((runB m c t hc0 x12 x13).1 f0 f1 f2 f3 f4 f5 f6)) = outB9 m c t hc0 x12 x13 :=
  (congrArg (fun L => (ms7 t).view.read (Elt F) ((ms7 t).view.writes (Elt F) f L))
    (indepB9 c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) scr0 (Memref.isWhole_whole _) scr1 (Memref.isWhole_whole _) scr2 (Memref.isWhole_whole _) scr3 (Memref.isWhole_whole _) scr4 (Memref.isWhole_whole _) scr5 (Memref.isWhole_whole _) scr6 (Memref.isWhole_whole _) hc0 (iblk m c 0 t) (iblk m c 1 t) (iblk m c 2 t) (iblk m c 3 t) (iblk m c 4 t) (iblk m c 5 t) (iblk m c 6 t) x12 x13 f0 f1 f2 f3 f4 f5 f6)).trans
  (View.read_writes_of_cover _ _ _ _ _ (coverB9 c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) scr0 (Memref.isWhole_whole _) scr1 (Memref.isWhole_whole _) scr2 (Memref.isWhole_whole _) scr3 (Memref.isWhole_whole _) scr4 (Memref.isWhole_whole _) scr5 (Memref.isWhole_whole _) scr6 (Memref.isWhole_whole _) hc0 (iblk m c 0 t) (iblk m c 1 t) (iblk m c 2 t) (iblk m c 3 t) (iblk m c 4 t) (iblk m c 5 t) (iblk m c 6 t) x12 x13))

/-- What it leaves in result 1's staging buffer. -/
def outB10 (c : Dev nD) (t : Fin cfg0.N) (hc0 : ¬ firstPoint (grid0.coords t)) (x12 : Vec F S1x64 .f32) (x13 : Vec F S1x64 .f32) : Vec F S1x2048x128 .f32 :=
  VO8.read (Elt F) (VO8.writes (Elt F) VO8.junk ((runB m c t hc0 x12 x13).2.1 scr0.view.junk scr1.view.junk scr2.view.junk scr3.view.junk scr4.view.junk scr5.view.junk scr6.view.junk))

/-- It does so whatever the buffers held before. -/
theorem leftB10 (c : Dev nD) (t : Fin cfg0.N) (hc0 : ¬ firstPoint (grid0.coords t)) (x12 : Vec F S1x64 .f32) (x13 : Vec F S1x64 .f32) (f) (f0 f1 f2 f3 f4 f5 f6) :
    (ms8 t).view.read (Elt F) ((ms8 t).view.writes (Elt F) f ((runB m c t hc0 x12 x13).2.1 f0 f1 f2 f3 f4 f5 f6)) = outB10 m c t hc0 x12 x13 :=
  (congrArg (fun L => (ms8 t).view.read (Elt F) ((ms8 t).view.writes (Elt F) f L))
    (indepB10 c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) scr0 (Memref.isWhole_whole _) scr1 (Memref.isWhole_whole _) scr2 (Memref.isWhole_whole _) scr3 (Memref.isWhole_whole _) scr4 (Memref.isWhole_whole _) scr5 (Memref.isWhole_whole _) scr6 (Memref.isWhole_whole _) hc0 (iblk m c 0 t) (iblk m c 1 t) (iblk m c 2 t) (iblk m c 3 t) (iblk m c 4 t) (iblk m c 5 t) (iblk m c 6 t) x12 x13 f0 f1 f2 f3 f4 f5 f6)).trans
  (View.read_writes_of_cover _ _ _ _ _ (coverB10 c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) scr0 (Memref.isWhole_whole _) scr1 (Memref.isWhole_whole _) scr2 (Memref.isWhole_whole _) scr3 (Memref.isWhole_whole _) scr4 (Memref.isWhole_whole _) scr5 (Memref.isWhole_whole _) scr6 (Memref.isWhole_whole _) hc0 (iblk m c 0 t) (iblk m c 1 t) (iblk m c 2 t) (iblk m c 3 t) (iblk m c 4 t) (iblk m c 5 t) (iblk m c 6 t) x12 x13))

/-- What it leaves in result 2's staging buffer. -/
def outB11 (c : Dev nD) (t : Fin cfg0.N) (hc0 : ¬ firstPoint (grid0.coords t)) (x12 : Vec F S1x64 .f32) (x13 : Vec F S1x64 .f32) : Vec F S1x2048x128 .f32 :=
  VO9.read (Elt F) (VO9.writes (Elt F) VO9.junk ((runB m c t hc0 x12 x13).2.2.1 scr0.view.junk scr1.view.junk scr2.view.junk scr3.view.junk scr4.view.junk scr5.view.junk scr6.view.junk))

/-- It does so whatever the buffers held before. -/
theorem leftB11 (c : Dev nD) (t : Fin cfg0.N) (hc0 : ¬ firstPoint (grid0.coords t)) (x12 : Vec F S1x64 .f32) (x13 : Vec F S1x64 .f32) (f) (f0 f1 f2 f3 f4 f5 f6) :
    (ms9 t).view.read (Elt F) ((ms9 t).view.writes (Elt F) f ((runB m c t hc0 x12 x13).2.2.1 f0 f1 f2 f3 f4 f5 f6)) = outB11 m c t hc0 x12 x13 :=
  (congrArg (fun L => (ms9 t).view.read (Elt F) ((ms9 t).view.writes (Elt F) f L))
    (indepB11 c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) scr0 (Memref.isWhole_whole _) scr1 (Memref.isWhole_whole _) scr2 (Memref.isWhole_whole _) scr3 (Memref.isWhole_whole _) scr4 (Memref.isWhole_whole _) scr5 (Memref.isWhole_whole _) scr6 (Memref.isWhole_whole _) hc0 (iblk m c 0 t) (iblk m c 1 t) (iblk m c 2 t) (iblk m c 3 t) (iblk m c 4 t) (iblk m c 5 t) (iblk m c 6 t) x12 x13 f0 f1 f2 f3 f4 f5 f6)).trans
  (View.read_writes_of_cover _ _ _ _ _ (coverB11 c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) scr0 (Memref.isWhole_whole _) scr1 (Memref.isWhole_whole _) scr2 (Memref.isWhole_whole _) scr3 (Memref.isWhole_whole _) scr4 (Memref.isWhole_whole _) scr5 (Memref.isWhole_whole _) scr6 (Memref.isWhole_whole _) hc0 (iblk m c 0 t) (iblk m c 1 t) (iblk m c 2 t) (iblk m c 3 t) (iblk m c 4 t) (iblk m c 5 t) (iblk m c 6 t) x12 x13))

/-- What it leaves in result 3's staging buffer. -/
def outB12 (c : Dev nD) (t : Fin cfg0.N) (hc0 : ¬ firstPoint (grid0.coords t)) (x12 : Vec F S1x64 .f32) (x13 : Vec F S1x64 .f32) : Vec F S1x64 .f32 :=
  VO10.read (Elt F) (VO10.writes (Elt F) VO10.junk ((runB m c t hc0 x12 x13).2.2.2.1 scr0.view.junk scr1.view.junk scr2.view.junk scr3.view.junk scr4.view.junk scr5.view.junk scr6.view.junk))

/-- It does so whatever the buffers held before. -/
theorem leftB12 (c : Dev nD) (t : Fin cfg0.N) (hc0 : ¬ firstPoint (grid0.coords t)) (x12 : Vec F S1x64 .f32) (x13 : Vec F S1x64 .f32) (f) (f0 f1 f2 f3 f4 f5 f6) :
    (ms10 t).view.read (Elt F) ((ms10 t).view.writes (Elt F) f ((runB m c t hc0 x12 x13).2.2.2.1 f0 f1 f2 f3 f4 f5 f6)) = outB12 m c t hc0 x12 x13 :=
  (congrArg (fun L => (ms10 t).view.read (Elt F) ((ms10 t).view.writes (Elt F) f L))
    (indepB12 c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) scr0 (Memref.isWhole_whole _) scr1 (Memref.isWhole_whole _) scr2 (Memref.isWhole_whole _) scr3 (Memref.isWhole_whole _) scr4 (Memref.isWhole_whole _) scr5 (Memref.isWhole_whole _) scr6 (Memref.isWhole_whole _) hc0 (iblk m c 0 t) (iblk m c 1 t) (iblk m c 2 t) (iblk m c 3 t) (iblk m c 4 t) (iblk m c 5 t) (iblk m c 6 t) x12 x13 f0 f1 f2 f3 f4 f5 f6)).trans
  (View.read_writes_of_cover _ _ _ _ _ (coverB12 c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) scr0 (Memref.isWhole_whole _) scr1 (Memref.isWhole_whole _) scr2 (Memref.isWhole_whole _) scr3 (Memref.isWhole_whole _) scr4 (Memref.isWhole_whole _) scr5 (Memref.isWhole_whole _) scr6 (Memref.isWhole_whole _) hc0 (iblk m c 0 t) (iblk m c 1 t) (iblk m c 2 t) (iblk m c 3 t) (iblk m c 4 t) (iblk m c 5 t) (iblk m c 6 t) x12 x13))

/-- What it leaves in result 4's staging buffer. -/
def outB13 (c : Dev nD) (t : Fin cfg0.N) (hc0 : ¬ firstPoint (grid0.coords t)) (x12 : Vec F S1x64 .f32) (x13 : Vec F S1x64 .f32) : Vec F S1x64 .f32 :=
  VO11.read (Elt F) (VO11.writes (Elt F) VO11.junk ((runB m c t hc0 x12 x13).2.2.2.2.1 scr0.view.junk scr1.view.junk scr2.view.junk scr3.view.junk scr4.view.junk scr5.view.junk scr6.view.junk))

/-- It does so whatever the buffers held before. -/
theorem leftB13 (c : Dev nD) (t : Fin cfg0.N) (hc0 : ¬ firstPoint (grid0.coords t)) (x12 : Vec F S1x64 .f32) (x13 : Vec F S1x64 .f32) (f) (f0 f1 f2 f3 f4 f5 f6) :
    (ms11 t).view.read (Elt F) ((ms11 t).view.writes (Elt F) f ((runB m c t hc0 x12 x13).2.2.2.2.1 f0 f1 f2 f3 f4 f5 f6)) = outB13 m c t hc0 x12 x13 :=
  (congrArg (fun L => (ms11 t).view.read (Elt F) ((ms11 t).view.writes (Elt F) f L))
    (indepB13 c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) scr0 (Memref.isWhole_whole _) scr1 (Memref.isWhole_whole _) scr2 (Memref.isWhole_whole _) scr3 (Memref.isWhole_whole _) scr4 (Memref.isWhole_whole _) scr5 (Memref.isWhole_whole _) scr6 (Memref.isWhole_whole _) hc0 (iblk m c 0 t) (iblk m c 1 t) (iblk m c 2 t) (iblk m c 3 t) (iblk m c 4 t) (iblk m c 5 t) (iblk m c 6 t) x12 x13 f0 f1 f2 f3 f4 f5 f6)).trans
  (View.read_writes_of_cover _ _ _ _ _ (coverB13 c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) scr0 (Memref.isWhole_whole _) scr1 (Memref.isWhole_whole _) scr2 (Memref.isWhole_whole _) scr3 (Memref.isWhole_whole _) scr4 (Memref.isWhole_whole _) scr5 (Memref.isWhole_whole _) scr6 (Memref.isWhole_whole _) hc0 (iblk m c 0 t) (iblk m c 1 t) (iblk m c 2 t) (iblk m c 3 t) (iblk m c 4 t) (iblk m c 5 t) (iblk m c 6 t) x12 x13))

/-- What the results' staging buffers hold after the body at position `n`: the gradients of the gains are added to over the
points, the others are the point's own. -/
def outsAt (c : Dev nD) : (n : ℕ) → n < cfg0.N → Vec F S1x2048x128 .f32 × Vec F S1x2048x128 .f32 × Vec F S1x2048x128 .f32 × Vec F S1x64 .f32 × Vec F S1x64 .f32
  | 0, hn => (outA9 m c ⟨0, hn⟩ ((firstPoint_iff ⟨0, hn⟩).mpr rfl), outA10 m c ⟨0, hn⟩ ((firstPoint_iff ⟨0, hn⟩).mpr rfl), outA11 m c ⟨0, hn⟩ ((firstPoint_iff ⟨0, hn⟩).mpr rfl), outA12 m c ⟨0, hn⟩ ((firstPoint_iff ⟨0, hn⟩).mpr rfl), outA13 m c ⟨0, hn⟩ ((firstPoint_iff ⟨0, hn⟩).mpr rfl))
  | n + 1, hn => (outB9 m c ⟨n + 1, hn⟩ (fun h => absurd ((firstPoint_iff ⟨n + 1, hn⟩).mp h) (Nat.succ_ne_zero n)) (outsAt c n (Nat.lt_of_succ_lt hn)).2.2.2.1 (outsAt c n (Nat.lt_of_succ_lt hn)).2.2.2.2, outB10 m c ⟨n + 1, hn⟩ (fun h => absurd ((firstPoint_iff ⟨n + 1, hn⟩).mp h) (Nat.succ_ne_zero n)) (outsAt c n (Nat.lt_of_succ_lt hn)).2.2.2.1 (outsAt c n (Nat.lt_of_succ_lt hn)).2.2.2.2, outB11 m c ⟨n + 1, hn⟩ (fun h => absurd ((firstPoint_iff ⟨n + 1, hn⟩).mp h) (Nat.succ_ne_zero n)) (outsAt c n (Nat.lt_of_succ_lt hn)).2.2.2.1 (outsAt c n (Nat.lt_of_succ_lt hn)).2.2.2.2, outB12 m c ⟨n + 1, hn⟩ (fun h => absurd ((firstPoint_iff ⟨n + 1, hn⟩).mp h) (Nat.succ_ne_zero n)) (outsAt c n (Nat.lt_of_succ_lt hn)).2.2.2.1 (outsAt c n (Nat.lt_of_succ_lt hn)).2.2.2.2, outB13 m c ⟨n + 1, hn⟩ (fun h => absurd ((firstPoint_iff ⟨n + 1, hn⟩).mp h) (Nat.succ_ne_zero n)) (outsAt c n (Nat.lt_of_succ_lt hn)).2.2.2.1 (outsAt c n (Nat.lt_of_succ_lt hn)).2.2.2.2)

theorem outsAt_A (c : Dev nD) (t : Fin cfg0.N) (h0 : t.val = 0) :
    outsAt m c t.val t.isLt = (outA9 m c t ((firstPoint_iff t).mpr h0), outA10 m c t ((firstPoint_iff t).mpr h0), outA11 m c t ((firstPoint_iff t).mpr h0), outA12 m c t ((firstPoint_iff t).mpr h0), outA13 m c t ((firstPoint_iff t).mpr h0)) := by
  obtain ⟨n, hn⟩ := t
  cases n with
  | zero => rfl
  | succ n => exact absurd h0 (Nat.succ_ne_zero n)

theorem outsAt_B (c : Dev nD) (t : Fin cfg0.N) (h0 : ¬ t.val = 0) :
    outsAt m c t.val t.isLt = (outB9 m c t (fun h => h0 ((firstPoint_iff t).mp h)) (outsAt m c (t.val - 1) (Nat.lt_of_le_of_lt (Nat.sub_le _ _) t.isLt)).2.2.2.1 (outsAt m c (t.val - 1) (Nat.lt_of_le_of_lt (Nat.sub_le _ _) t.isLt)).2.2.2.2, outB10 m c t (fun h => h0 ((firstPoint_iff t).mp h)) (outsAt m c (t.val - 1) (Nat.lt_of_le_of_lt (Nat.sub_le _ _) t.isLt)).2.2.2.1 (outsAt m c (t.val - 1) (Nat.lt_of_le_of_lt (Nat.sub_le _ _) t.isLt)).2.2.2.2, outB11 m c t (fun h => h0 ((firstPoint_iff t).mp h)) (outsAt m c (t.val - 1) (Nat.lt_of_le_of_lt (Nat.sub_le _ _) t.isLt)).2.2.2.1 (outsAt m c (t.val - 1) (Nat.lt_of_le_of_lt (Nat.sub_le _ _) t.isLt)).2.2.2.2, outB12 m c t (fun h => h0 ((firstPoint_iff t).mp h)) (outsAt m c (t.val - 1) (Nat.lt_of_le_of_lt (Nat.sub_le _ _) t.isLt)).2.2.2.1 (outsAt m c (t.val - 1) (Nat.lt_of_le_of_lt (Nat.sub_le _ _) t.isLt)).2.2.2.2, outB13 m c t (fun h => h0 ((firstPoint_iff t).mp h)) (outsAt m c (t.val - 1) (Nat.lt_of_le_of_lt (Nat.sub_le _ _) t.isLt)).2.2.2.1 (outsAt m c (t.val - 1) (Nat.lt_of_le_of_lt (Nat.sub_le _ _) t.isLt)).2.2.2.2) := by
  obtain ⟨n, hn⟩ := t
  cases n with
  | zero => exact absurd rfl h0
  | succ n => rfl

/-! ## The pipeline's proof data -/

/-- The proof data of the one pipeline: the arrays as the region finds them; after the body at point `t` each input's
buffer at its block and the results' at `outsAt`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => (outsAt m c t.val t.isLt).1
    | ⟨8, _⟩ => (outsAt m c t.val t.isLt).2.1
    | ⟨9, _⟩ => (outsAt m c t.val t.isLt).2.2.1
    | ⟨10, _⟩ => (outsAt m c t.val t.isLt).2.2.2.1
    | ⟨11, _⟩ => (outsAt m c t.val t.isLt).2.2.2.2
  Φ _ := Pipeline.ΦA spec0 c
  q w := Pipeline.shareOf spec0 w
  owed _ := 0

/-- The proof data's arrays are the region-entry contents. -/
theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = iblk m c 6 t := by dsimp only [dats]
theorem after7 (c : Dev nD) (t : Fin cfg0.N) : (dats m 0 c).after 7 t = (outsAt m c t.val t.isLt).1 := by dsimp only [dats]
theorem after8 (c : Dev nD) (t : Fin cfg0.N) : (dats m 0 c).after 8 t = (outsAt m c t.val t.isLt).2.1 := by dsimp only [dats]
theorem after9 (c : Dev nD) (t : Fin cfg0.N) : (dats m 0 c).after 9 t = (outsAt m c t.val t.isLt).2.2.1 := by dsimp only [dats]
theorem after10 (c : Dev nD) (t : Fin cfg0.N) : (dats m 0 c).after 10 t = (outsAt m c t.val t.isLt).2.2.2.1 := by dsimp only [dats]
theorem after11 (c : Dev nD) (t : Fin cfg0.N) : (dats m 0 c).after 11 t = (outsAt m c t.val t.isLt).2.2.2.2 := by dsimp only [dats]
theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d
theorem before3 (c : Dev nD) (t : Fin cfg0.N) (d) : (dats m 0 c).before 3 t d = iblk m c 3 t :=
  before0_3_of m (dats m 0 c) (A_eq m c 3) (after3 m c) t d
theorem before4 (c : Dev nD) (t : Fin cfg0.N) (d) : (dats m 0 c).before 4 t d = iblk m c 4 t :=
  before0_4_of m (dats m 0 c) (A_eq m c 4) (after4 m c) t d
theorem before5 (c : Dev nD) (t : Fin cfg0.N) (d) : (dats m 0 c).before 5 t d = iblk m c 5 t :=
  before0_5_of m (dats m 0 c) (A_eq m c 5) (after5 m c) t d
theorem before6 (c : Dev nD) (t : Fin cfg0.N) (d) : (dats m 0 c).before 6 t d = iblk m c 6 t :=
  before0_6_of m (dats m 0 c) (A_eq m c 6) (after6 m c) t d
/-- At a later point the gradient of a gain still holds what the point before left: its block does not change. -/
theorem before10 (c : Dev nD) (t : Fin cfg0.N) (h0 : ¬ t.val = 0) (d) :
    (dats m 0 c).before 10 t d = (outsAt m c (t.val - 1) (Nat.lt_of_le_of_lt (Nat.sub_le _ _) t.isLt)).2.2.2.1 := by
  have hN : t.val < 8 := lt_of_lt_of_eq t.isLt (show cfg0.N = 8 from N_0)
  rw [Dat.before_out_kept _ 10 rfl t (by omega)
    (Bool.eq_false_iff.mpr fun h => by have := (flush0_10 _).mp h; dsimp only at this; omega) (fun _ => rfl) (fun _ _ => rfl)]
  dsimp only [dats]
/-- At a later point the gradient of a gain still holds what the point before left: its block does not change. -/
theorem before11 (c : Dev nD) (t : Fin cfg0.N) (h0 : ¬ t.val = 0) (d) :
    (dats m 0 c).before 11 t d = (outsAt m c (t.val - 1) (Nat.lt_of_le_of_lt (Nat.sub_le _ _) t.isLt)).2.2.2.2 := by
  have hN : t.val < 8 := lt_of_lt_of_eq t.isLt (show cfg0.N = 8 from N_0)
  rw [Dat.before_out_kept _ 11 rfl t (by omega)
    (Bool.eq_false_iff.mpr fun h => by have := (flush0_11 _).mp h; dsimp only at this; omega) (fun _ => rfl) (fun _ _ => rfl)]
  dsimp only [dats]

/-- The invariant again, the scratch buffers as bare buffers. -/
theorem phi_buf (c : Dev nD) :
    (Pipeline.ΦA spec0 c : sProp 𝕄)
      = iprop(iprop((∃ f, (scr0.view.loc (c : Thread nD τ) ↦[scr0.view.set]{fullShare} f)) ∗ (∃ f, (scr1.view.loc (c : Thread nD τ) ↦[scr1.view.set]{fullShare} f)) ∗ (∃ f, (scr2.view.loc (c : Thread nD τ) ↦[scr2.view.set]{fullShare} f)) ∗ (∃ f, (scr3.view.loc (c : Thread nD τ) ↦[scr3.view.set]{fullShare} f)) ∗ (∃ f, (scr4.view.loc (c : Thread nD τ) ↦[scr4.view.set]{fullShare} f)) ∗ (∃ f, (scr5.view.loc (c : Thread nD τ) ↦[scr5.view.set]{fullShare} f)) ∗ (∃ f, (scr6.view.loc (c : Thread nD τ) ↦[scr6.view.set]{fullShare} f))) ∗ (∃ r, prngReg c r)) := by
  rw [phi_eq]; simp only [owned_any]

/-! ## The body's obligation -/

/-- What the body is given at a point. -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d)) ∗ (∃ d, owns (c : Thread nD τ) (ms1 t) fullShare ((dats m 0 c).before 1 t d)) ∗ (∃ d, owns (c : Thread nD τ) (ms2 t) fullShare ((dats m 0 c).before 2 t d)) ∗ (∃ d, owns (c : Thread nD τ) (ms3 t) fullShare ((dats m 0 c).before 3 t d)) ∗ (∃ d, owns (c : Thread nD τ) (ms4 t) fullShare ((dats m 0 c).before 4 t d)) ∗ (∃ d, owns (c : Thread nD τ) (ms5 t) fullShare ((dats m 0 c).before 5 t d)) ∗ (∃ d, owns (c : Thread nD τ) (ms6 t) fullShare ((dats m 0 c).before 6 t d)) ∗ (∃ d, owns (c : Thread nD τ) (ms7 t) fullShare ((dats m 0 c).before 7 t d)) ∗ (∃ d, owns (c : Thread nD τ) (ms8 t) fullShare ((dats m 0 c).before 8 t d)) ∗ (∃ d, owns (c : Thread nD τ) (ms9 t) fullShare ((dats m 0 c).before 9 t d)) ∗ (∃ d, owns (c : Thread nD τ) (ms10 t) fullShare ((dats m 0 c).before 10 t d)) ∗ (∃ d, owns (c : Thread nD τ) (ms11 t) fullShare ((dats m 0 c).before 11 t d)))

/-- What it owes back. -/
def bodyPost (c : Dev nD) (t : Fin cfg0.N) : sProp 𝕄 :=
  iprop((dats m 0 c).Φ t.succ ∗ (dats m 0 c).owesAt () t.succ
    ∗ owns (c : Thread nD τ) (ms0 t) fullShare ((dats m 0 c).after 0 t) ∗ owns (c : Thread nD τ) (ms1 t) fullShare ((dats m 0 c).after 1 t) ∗ owns (c : Thread nD τ) (ms2 t) fullShare ((dats m 0 c).after 2 t) ∗ owns (c : Thread nD τ) (ms3 t) fullShare ((dats m 0 c).after 3 t) ∗ owns (c : Thread nD τ) (ms4 t) fullShare ((dats m 0 c).after 4 t) ∗ owns (c : Thread nD τ) (ms5 t) fullShare ((dats m 0 c).after 5 t) ∗ owns (c : Thread nD τ) (ms6 t) fullShare ((dats m 0 c).after 6 t) ∗ owns (c : Thread nD τ) (ms7 t) fullShare ((dats m 0 c).after 7 t) ∗ owns (c : Thread nD τ) (ms8 t) fullShare ((dats m 0 c).after 8 t) ∗ owns (c : Thread nD τ) (ms9 t) fullShare ((dats m 0 c).after 9 t) ∗ owns (c : Thread nD τ) (ms10 t) fullShare ((dats m 0 c).after 10 t) ∗ owns (c : Thread nD τ) (ms11 t) fullShare ((dats m 0 c).after 11 t))

/-- The body's triple at any point: the first point starts the gradients of the gains, a later one adds to what the
point before left. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5, before6]
  rw [show (dats m 0 c).Φ t.succ = (dats m 0 c).Φ t.castSucc from rfl,
    show (dats m 0 c).owesAt () t.succ = (dats m 0 c).owesAt () t.castSucc from rfl,
    after0, after1, after2, after3, after4, after5, after6, after7, after8, after9, after10, after11]
  rw [show (dats m 0 c).Φ t.castSucc = Pipeline.ΦA spec0 c from rfl]
  rw (occs := .pos [1]) [phi_buf]
  rw [phi_eq]
  by_cases h0 : t.val = 0
  · rw [outsAt_A m c t h0]
    (try dsimp only)
    iintro ⟨⟨⟨⟨%f0, HS0⟩, ⟨%f1, HS1⟩, ⟨%f2, HS2⟩, ⟨%f3, HS3⟩, ⟨%f4, HS4⟩, ⟨%f5, HS5⟩, ⟨%f6, HS6⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
    iapply ((runA m c t ((firstPoint_iff t).mpr h0)).2.2.2.2.2 Set.univ f0 f1 f2 f3 f4 f5 f6 _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [H8]; · iexists _; iexact H8
    isplitl [H9]; · iexists _; iexact H9
    isplitl [H10]; · iexists _; iexact H10
    isplitl [H11]; · iexists _; iexact H11
    isplitl [HS0]; · iexact HS0
    isplitl [HS1]; · iexact HS1
    isplitl [HS2]; · iexact HS2
    isplitl [HS3]; · iexact HS3
    isplitl [HS4]; · iexact HS4
    isplitl [HS5]; · iexact HS5
    isplitl [HS6]; · iexact HS6
    iintro ⟨H0, H1, H2, H3, H4, H5, H6, ⟨%e7, H7⟩, ⟨%e8, H8⟩, ⟨%e9, H9⟩, ⟨%e10, H10⟩, ⟨%e11, H11⟩, HS0, HS1, HS2, HS3, HS4, HS5, HS6⟩
    isplitl [HS0 HS1 HS2 HS3 HS4 HS5 HS6 Hg]
    · isplitl [HS0 HS1 HS2 HS3 HS4 HS5 HS6]
      · isplitl [HS0]; · iexact HS0
        isplitl [HS1]; · iexact HS1
        isplitl [HS2]; · iexact HS2
        isplitl [HS3]; · iexact HS3
        isplitl [HS4]; · iexact HS4
        isplitl [HS5]; · iexact HS5
        iexact HS6
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]
    · unfold owns; iexists _; isplitr
      swap; · iexact H7
      ipureintro; exact leftA9 m c t _ _ _ _ _ _ _ _ _
    isplitl [H8]
    · unfold owns; iexists _; isplitr
      swap; · iexact H8
      ipureintro; exact leftA10 m c t _ _ _ _ _ _ _ _ _
    isplitl [H9]
    · unfold owns; iexists _; isplitr
      swap; · iexact H9
      ipureintro; exact leftA11 m c t _ _ _ _ _ _ _ _ _
    isplitl [H10]
    · unfold owns; iexists _; isplitr
      swap; · iexact H10
      ipureintro; exact leftA12 m c t _ _ _ _ _ _ _ _ _
    unfold owns; iexists _; isplitr
    swap; · iexact H11
    ipureintro; exact leftA13 m c t _ _ _ _ _ _ _ _ _
  · rw [outsAt_B m c t h0]
    simp only [before10 m c t h0, before11 m c t h0]
    (try dsimp only)
    iintro ⟨⟨⟨⟨%f0, HS0⟩, ⟨%f1, HS1⟩, ⟨%f2, HS2⟩, ⟨%f3, HS3⟩, ⟨%f4, HS4⟩, ⟨%f5, HS5⟩, ⟨%f6, HS6⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
    iapply ((runB m c t (fun h => h0 ((firstPoint_iff t).mp h)) _ _).2.2.2.2.2 Set.univ f0 f1 f2 f3 f4 f5 f6 _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [H8]; · iexists _; iexact H8
    isplitl [H9]; · iexists _; iexact H9
    isplitl [H10]; · iexact H10
    isplitl [H11]; · iexact H11
    isplitl [HS0]; · iexact HS0
    isplitl [HS1]; · iexact HS1
    isplitl [HS2]; · iexact HS2
    isplitl [HS3]; · iexact HS3
    isplitl [HS4]; · iexact HS4
    isplitl [HS5]; · iexact HS5
    isplitl [HS6]; · iexact HS6
    iintro ⟨H0, H1, H2, H3, H4, H5, H6, ⟨%e7, H7⟩, ⟨%e8, H8⟩, ⟨%e9, H9⟩, ⟨%e10, H10⟩, ⟨%e11, H11⟩, HS0, HS1, HS2, HS3, HS4, HS5, HS6⟩
    isplitl [HS0 HS1 HS2 HS3 HS4 HS5 HS6 Hg]
    · isplitl [HS0 HS1 HS2 HS3 HS4 HS5 HS6]
      · isplitl [HS0]; · iexact HS0
        isplitl [HS1]; · iexact HS1
        isplitl [HS2]; · iexact HS2
        isplitl [HS3]; · iexact HS3
        isplitl [HS4]; · iexact HS4
        isplitl [HS5]; · iexact HS5
        iexact HS6
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]
    · unfold owns; iexists _; isplitr
      swap; · iexact H7
      ipureintro; exact leftB9 m c t _ _ _ _ _ _ _ _ _ _ _
    isplitl [H8]
    · unfold owns; iexists _; isplitr
      swap; · iexact H8
      ipureintro; exact leftB10 m c t _ _ _ _ _ _ _ _ _ _ _
    isplitl [H9]
    · unfold owns; iexists _; isplitr
      swap; · iexact H9
      ipureintro; exact leftB11 m c t _ _ _ _ _ _ _ _ _ _ _
    isplitl [H10]
    · unfold owns; iexists _; isplitr
      swap; · iexact H10
      ipureintro; exact leftB12 m c t _ _ _ _ _ _ _ _ _ _ _
    unfold owns; iexists _; isplitr
    swap; · iexact H11
    ipureintro; exact leftB13 m c t _ _ _ _ _ _ _ _ _ _ _

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

-- `θ_run_frame`'s implicit arguments are found by unifying its conclusion with this one, which takes unfolding plain
-- definitions in a metavariable's type
set_option backward.isDefEq.respectTransparency.types false in
/-- The launch: every array of the pipeline ends at what the proof data computes, every other unscoped buffer as the region
found it, and every semaphore counter at zero. -/
theorem run_main_quiescent : θ_run defs (onTc (τ := τ) (main (F := F))) (s₀ m ρ) (fun r => (Pipeline.FramePost cfgs (dats m) 0 (V m)) r ∧ r.2.sem = fun _ => 0) :=
  Pipeline.θ_run_frame_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hΦ := fun _ _ => rfl)

/-- The same without the counters. -/
theorem run_main : θ_run defs (onTc (τ := τ) (main (F := F))) (s₀ m ρ) (Pipeline.FramePost cfgs (dats m) 0 (V m)) :=
  (θ_run defs _ _).mono (fun _ h => h.1) (run_main_quiescent m ρ)

/-- The argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (dats m) (A_eq m) (run_main m ρ)

/-- Every weakly fair execution ends, with the argument arrays unchanged and every semaphore counter at zero, for any
reading `F` of the element types. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (unchanged m ρ) ((θ_run defs _ _).mono (fun _ h => h.2) (run_main_quiescent m ρ))

end Cert.KernelIdeal.Gen

end
-- ==== Proof.SbPay.lean ====
/- The tiles of scores of `sb_attn_bwd`, read at an entry: what each payload of the backward pass holds. -/
module

public import proofs.«01_k».proof.Proof.Gen.KernelIdeal.Skeleton
public import Idealize.ShloMosaic.Lib.Pointwise
public import Idealize.ShloMosaic.Lib.Pipeline.ValueKit

@[expose] public section

set_option maxRecDepth 16384
set_option maxHeartbeats 1000000

noncomputable section

namespace Cert.SbPay

open Idealize.ShloMosaic Idealize.ShloMosaic.TcCoe Idealize.SL.Sem
open Cert.KernelIdeal Cert.KernelIdeal.Gen

/-- The softplus of a score. -/
def sp (z : ℝ) : ℝ := max z 0 + Real.log (1 + Real.exp (-|z|))

theorem coe_max (a b : ℝ) : max (a : EReal) (b : EReal) = ((max a b : ℝ) : EReal) := (EReal.coe_strictMono.monotone.map_max (a := a) (b := b)).symm

theorem coe_sum {n : ℕ} (f : Fin n → ℝ) : ((∑ i, f i : ℝ) : EReal) = ∑ i, (f i : EReal) :=
  map_sum (⟨⟨Real.toEReal, rfl⟩, EReal.coe_add⟩ : ℝ →+ EReal) f Finset.univ

/-- The softplus as the kernel spells it, at a real score. -/
theorem sp_eq (z : ℝ) : max (z : EReal) 0 + Ideal.log (1 + Ideal.exp (0 - max (z : EReal) (-(z : EReal)))) = ((sp z : ℝ) : EReal) := by
  have h1 : (0 : EReal) - max (z : EReal) (-(z : EReal)) = ((-|z| : ℝ) : EReal) := by
    rw [← EReal.coe_neg, coe_max, zero_sub, ← EReal.coe_neg]; rfl
  have h2 : (1 : EReal) + ((Real.exp (-|z|) : ℝ) : EReal) = ((1 + Real.exp (-|z|) : ℝ) : EReal) := by
    rw [EReal.coe_add]; rfl
  have h3 : max (z : EReal) 0 = ((max z 0 : ℝ) : EReal) := by rw [← coe_max]; rfl
  rw [h1, Ideal.exp_coe, h2, Ideal.log_coe, if_neg (by have := Real.exp_pos (-|z|); linarith), h3, ← EReal.coe_add]; rfl

/-- The numbers strictly above position `c` of a run of `128`, summed, as a difference of running sums. -/
theorem tri_real (P G : ℕ → ℝ) (hP : ∀ m, P (m + 1) = P m + G m) (o c N : ℕ) :
    ∑ k ∈ Finset.range N, (if c < k then G (o + k) else 0) = if c + 1 ≤ N then P (o + N) - P (o + c + 1) else 0 := by
  induction N with
  | zero => simp
  | succ N ih =>
    rw [Finset.sum_range_succ, ih]
    rcases lt_trichotomy (c + 1) (N + 1) with h | h | h
    · rw [if_pos (by omega), if_pos (by omega), if_pos (by omega), show P (o + (N + 1)) = P (o + N) + G (o + N) from hP (o + N)]; ring
    · rw [if_neg (by omega), if_neg (by omega), if_pos (by omega), show o + (N + 1) = o + c + 1 by omega]; ring
    · rw [if_neg (by omega), if_neg (by omega), if_neg (by omega)]; ring

theorem tri_sum (P G : ℕ → ℝ) (hP : ∀ m, P (m + 1) = P m + G m) (o : ℕ) (c : Fin 128) (f v : Fin 128 → EReal)
    (hf : ∀ k : Fin 128, f k = ((G (o + k.val) : ℝ) : EReal)) (hv : ∀ k : Fin 128, v k = if c.val < k.val then 1 else 0) :
    ∑ k, f k * v k = ((P (o + 128) - P (o + c.val + 1) : ℝ) : EReal) := by
  have h := tri_real P G hP o c.val 128
  rw [if_pos (by omega)] at h
  rw [← h, ← Fin.sum_univ_eq_sum_range (fun k => if c.val < k then G (o + k) else 0) 128, coe_sum]
  refine Finset.sum_congr rfl fun k _ => ?_
  rw [hf, hv]
  split <;> simp

/-- The strictly lower triangular matrix of ones. -/
theorem tri_at (r c : Fin 128) : k0_pay346 (F := Ideal) (ix2 r c) = if c.val < r.val then 1 else 0 := by
  pointwise [k0_pay346]
  have h : IntOp.cmpi CmpIPredicate.sgt (BitVec.ofNat 32 ↑r) (BitVec.ofNat 32 ↑c) = if c.val < r.val then 1#1 else 0#1 := by
    revert r c; decide +kernel
  rw [h]; split
  · show ((_ : ℝ) : EReal) = 1
    norm_num
  · show ((_ : ℝ) : EReal) = 0
    norm_num

theorem z20 (q : FVec Ideal S256x64 .bf16) (kk : FVec Ideal S1x512x64 .bf16) (r : Fin 256) (x : Fin 512) :
    k0_pay20 (F := Ideal) q kk (ix2 r x) = ∑ d : Fin 64, q (ix2 r d) * kk (ix3 0 x d) := by
  pointwise [k0_pay20, k0_pay18]

theorem z21 (q : FVec Ideal S256x64 .bf16) (kk : FVec Ideal S1x512x64 .bf16) (r : Fin 256) (x : Fin 512) :
    k0_pay21 (F := Ideal) q kk (ix2 r x) = ∑ d : Fin 64, q (ix2 r d) * kk (ix3 0 x d) := by
  pointwise [k0_pay21, k0_pay19]

theorem z240 (q : FVec Ideal S256x64 .bf16) (kk : FVec Ideal S1x512x64 .bf16) (r : Fin 256) (x : Fin 512) :
    k0_pay240 (F := Ideal) q kk (ix2 r x) = ∑ d : Fin 64, q (ix2 r d) * kk (ix3 0 x d) := by
  pointwise [k0_pay240, k0_pay238]

theorem z241 (q : FVec Ideal S256x64 .bf16) (kk : FVec Ideal S1x512x64 .bf16) (r : Fin 256) (x : Fin 512) :
    k0_pay241 (F := Ideal) q kk (ix2 r x) = ∑ d : Fin 64, q (ix2 r d) * kk (ix3 0 x d) := by
  pointwise [k0_pay241, k0_pay239]

theorem z195 (q : FVec Ideal S256x64 .bf16) (kk : FVec Ideal S1x256x64 .bf16) (r : Fin 256) (x : Fin 256) :
    k0_pay195 (F := Ideal) q kk (ix2 r x) = ∑ d : Fin 64, q (ix2 r d) * kk (ix3 0 x d) := by
  pointwise [k0_pay195, k0_pay193]

theorem z196 (q : FVec Ideal S256x64 .bf16) (kk : FVec Ideal S1x256x64 .bf16) (r : Fin 256) (x : Fin 256) :
    k0_pay196 (F := Ideal) q kk (ix2 r x) = ∑ d : Fin 64, q (ix2 r d) * kk (ix3 0 x d) := by
  pointwise [k0_pay196, k0_pay194]

theorem sp24 (q : FVec Ideal S256x64 .bf16) (kk : FVec Ideal S1x512x64 .bf16) (r : Fin 256) (x : Fin 512) (z : ℝ) (h : k0_pay20 (F := Ideal) q kk (ix2 r x) = (z : EReal)) :
    k0_pay24 (F := Ideal) q kk (ix2 r x) = ((sp z : ℝ) : EReal) := by
  rw [← sp_eq, ← h]; pointwise [k0_pay24]; rfl

theorem ls26 (q : FVec Ideal S256x64 .bf16) (kk : FVec Ideal S1x512x64 .bf16) (r : Fin 256) (x : Fin 512) (z : ℝ) (h : k0_pay20 (F := Ideal) q kk (ix2 r x) = (z : EReal)) :
    k0_pay26 (F := Ideal) q kk (ix2 r x) = ((z - sp z : ℝ) : EReal) := by
  have h2 := sp24 q kk r x z h
  rw [EReal.coe_sub, ← h2, ← h]; pointwise [k0_pay26]

theorem lg25 (q : FVec Ideal S256x64 .bf16) (kk : FVec Ideal S1x512x64 .bf16) (r : Fin 256) (x : Fin 512) (z : ℝ) (h : k0_pay20 (F := Ideal) q kk (ix2 r x) = (z : EReal)) :
    k0_pay25 (F := Ideal) q kk (ix2 r x) = ((-sp z : ℝ) : EReal) := by
  have h2 := sp24 q kk r x z h
  rw [← zero_sub, EReal.coe_sub, ← h2]; pointwise [k0_pay25]; rfl

theorem sp244 (q : FVec Ideal S256x64 .bf16) (kk : FVec Ideal S1x512x64 .bf16) (r : Fin 256) (x : Fin 512) (z : ℝ) (h : k0_pay240 (F := Ideal) q kk (ix2 r x) = (z : EReal)) :
    k0_pay244 (F := Ideal) q kk (ix2 r x) = ((sp z : ℝ) : EReal) := by
  rw [← sp_eq, ← h]; pointwise [k0_pay244]; rfl

theorem ls246 (q : FVec Ideal S256x64 .bf16) (kk : FVec Ideal S1x512x64 .bf16) (r : Fin 256) (x : Fin 512) (z : ℝ) (h : k0_pay240 (F := Ideal) q kk (ix2 r x) = (z : EReal)) :
    k0_pay246 (F := Ideal) q kk (ix2 r x) = ((z - sp z : ℝ) : EReal) := by
  have h2 := sp244 q kk r x z h
  rw [EReal.coe_sub, ← h2, ← h]; pointwise [k0_pay246]

theorem mk237 (b : BitVec 32) (r : Fin 256) (x : Fin 512) (hb : b = 256#32) :
    k0_pay237 (k0_pay353) b (ix2 r x) = if x.val < r.val + 256 then 1#1 else 0#1 := by
  subst hb
  pointwise [k0_pay237, k0_pay353]
  have h : (BitVec.ofNat 32 x.val - BitVec.ofNat 32 r.val).slt (256#32) = decide (x.val < r.val + 256) := by
    have hx := x.isLt; have hr := r.isLt
    rw [BitVec.slt_eq_decide, decide_eq_decide, BitVec.toInt_sub, BitVec.toInt_ofNat', BitVec.toInt_ofNat', BitVec.toInt_ofNat']
    simp only [Int.bmod_def]
    omega
  show (BitVec.ofBool (BitVec.slt (BitVec.ofNat 32 x.val - BitVec.ofNat 32 r.val) _)) = _
  rw [h]
  by_cases hc : x.val < r.val + 256
  · rw [if_pos hc, decide_eq_true hc]; rfl
  · rw [if_neg hc, decide_eq_false hc]; rfl

theorem lg245 (q : FVec Ideal S256x64 .bf16) (kk : FVec Ideal S1x512x64 .bf16) (b : BitVec 32) (hb : b = 256#32) (r : Fin 256) (x : Fin 512) (z : ℝ) (h : k0_pay240 (F := Ideal) q kk (ix2 r x) = (z : EReal)) :
    k0_pay245 (F := Ideal) k0_pay353 q b kk (ix2 r x) = ((if x.val < r.val + 256 then -sp z else 0 : ℝ) : EReal) := by
  have h2 := sp244 q kk r x z h
  pointwise [k0_pay245]
  rw [mk237 b r x hb, h2]
  split
  · rw [← zero_sub, EReal.coe_sub]; rfl
  · rfl

theorem sp199 (q : FVec Ideal S256x64 .bf16) (kk : FVec Ideal S1x256x64 .bf16) (r : Fin 256) (x : Fin 256) (z : ℝ) (h : k0_pay195 (F := Ideal) q kk (ix2 r x) = (z : EReal)) :
    k0_pay199 (F := Ideal) q kk (ix2 r x) = ((sp z : ℝ) : EReal) := by
  rw [← sp_eq, ← h]; pointwise [k0_pay199]; rfl

theorem ls201 (q : FVec Ideal S256x64 .bf16) (kk : FVec Ideal S1x256x64 .bf16) (r : Fin 256) (x : Fin 256) (z : ℝ) (h : k0_pay195 (F := Ideal) q kk (ix2 r x) = (z : EReal)) :
    k0_pay201 (F := Ideal) q kk (ix2 r x) = ((z - sp z : ℝ) : EReal) := by
  have h2 := sp199 q kk r x z h
  rw [EReal.coe_sub, ← h2, ← h]; pointwise [k0_pay201]

theorem mk192 (b : BitVec 32) (r : Fin 256) (x : Fin 256) (hb : b = 0#32) :
    k0_pay192 (k0_pay353) b (ix2 r x) = if x.val < r.val then 1#1 else 0#1 := by
  subst hb
  pointwise [k0_pay192, k0_pay353]
  have h : (BitVec.ofNat 32 x.val - BitVec.ofNat 32 r.val).slt (0#32) = decide (x.val < r.val) := by
    have hx := x.isLt; have hr := r.isLt
    rw [BitVec.slt_eq_decide, decide_eq_decide, BitVec.toInt_sub, BitVec.toInt_ofNat', BitVec.toInt_ofNat', BitVec.toInt_ofNat']
    simp only [Int.bmod_def]
    omega
  show (BitVec.ofBool (BitVec.slt (BitVec.ofNat 32 x.val - BitVec.ofNat 32 r.val) _)) = _
  rw [h]
  by_cases hc : x.val < r.val
  · rw [if_pos hc, decide_eq_true hc]; rfl
  · rw [if_neg hc, decide_eq_false hc]; rfl

theorem lg200 (q : FVec Ideal S256x64 .bf16) (kk : FVec Ideal S1x256x64 .bf16) (b : BitVec 32) (hb : b = 0#32) (r : Fin 256) (x : Fin 256) (z : ℝ) (h : k0_pay195 (F := Ideal) q kk (ix2 r x) = (z : EReal)) :
    k0_pay200 (F := Ideal) k0_pay353 q b kk (ix2 r x) = ((if x.val < r.val then -sp z else 0 : ℝ) : EReal) := by
  have h2 := sp199 q kk r x z h
  pointwise [k0_pay200]
  rw [mk192 b r x hb, h2]
  split
  · rw [← zero_sub, EReal.coe_sub]; rfl
  · rfl

theorem sp29 (q : FVec Ideal S256x64 .bf16) (kk : FVec Ideal S1x512x64 .bf16) (r : Fin 256) (x : Fin 512) (z : ℝ) (h : k0_pay21 (F := Ideal) q kk (ix2 r x) = (z : EReal)) :
    k0_pay29 (F := Ideal) (k0_pay27 q kk) (k0_pay28 q kk) (Scalar.ofBits .f32 0x3f800000#32) (ix2 r x) = ((sp z : ℝ) : EReal) := by
  rw [← sp_eq, ← h]; pointwise [k0_pay29, k0_pay27, k0_pay28]; rfl

theorem ls31 (q : FVec Ideal S256x64 .bf16) (kk : FVec Ideal S1x512x64 .bf16) (r : Fin 256) (x : Fin 512) (z : ℝ) (h : k0_pay21 (F := Ideal) q kk (ix2 r x) = (z : EReal)) :
    k0_pay31 (F := Ideal) (k0_pay21 q kk) (k0_pay27 q kk) (k0_pay28 q kk) (Scalar.ofBits .f32 0x3f800000#32) (ix2 r x) = ((z - sp z : ℝ) : EReal) := by
  have h2 := sp29 q kk r x z h
  rw [EReal.coe_sub, ← h2, ← h]; pointwise [k0_pay31]

theorem lg30 (q : FVec Ideal S256x64 .bf16) (kk : FVec Ideal S1x512x64 .bf16) (r : Fin 256) (x : Fin 512) (z : ℝ) (h : k0_pay21 (F := Ideal) q kk (ix2 r x) = (z : EReal)) :
    k0_pay30 (F := Ideal) (k0_pay27 q kk) (k0_pay28 q kk) (Scalar.ofBits .f32 0x3f800000#32) (ix2 r x) = ((-sp z : ℝ) : EReal) := by
  have h2 := sp29 q kk r x z h
  rw [← zero_sub, EReal.coe_sub, ← h2]; pointwise [k0_pay30]; rfl

theorem sp249 (q : FVec Ideal S256x64 .bf16) (kk : FVec Ideal S1x512x64 .bf16) (r : Fin 256) (x : Fin 512) (z : ℝ) (h : k0_pay241 (F := Ideal) q kk (ix2 r x) = (z : EReal)) :
    k0_pay249 (F := Ideal) (k0_pay247 q kk) (k0_pay248 q kk) (ix2 r x) = ((sp z : ℝ) : EReal) := by
  rw [← sp_eq, ← h]; pointwise [k0_pay249, k0_pay247, k0_pay248]; rfl

theorem ls251 (q : FVec Ideal S256x64 .bf16) (kk : FVec Ideal S1x512x64 .bf16) (r : Fin 256) (x : Fin 512) (z : ℝ) (h : k0_pay241 (F := Ideal) q kk (ix2 r x) = (z : EReal)) :
    k0_pay251 (F := Ideal) (k0_pay241 q kk) (k0_pay247 q kk) (k0_pay248 q kk) (ix2 r x) = ((z - sp z : ℝ) : EReal) := by
  have h2 := sp249 q kk r x z h
  rw [EReal.coe_sub, ← h2, ← h]; pointwise [k0_pay251]

theorem lg250 (q : FVec Ideal S256x64 .bf16) (kk : FVec Ideal S1x512x64 .bf16) (b : BitVec 32) (hb : b = 256#32) (r : Fin 256) (x : Fin 512) (z : ℝ) (h : k0_pay241 (F := Ideal) q kk (ix2 r x) = (z : EReal)) :
    k0_pay250 (F := Ideal) (k0_pay237 k0_pay353 b) (k0_pay247 q kk) (k0_pay248 q kk) (ix2 r x) = ((if x.val < r.val + 256 then -sp z else 0 : ℝ) : EReal) := by
  have h2 := sp249 q kk r x z h
  pointwise [k0_pay250]
  rw [mk237 b r x hb, h2]
  split
  · rw [← zero_sub, EReal.coe_sub]; rfl
  · rfl

theorem sp205 (q : FVec Ideal S256x64 .bf16) (kk : FVec Ideal S1x256x64 .bf16) (r : Fin 256) (x : Fin 256) (z : ℝ) (h : k0_pay196 (F := Ideal) q kk (ix2 r x) = (z : EReal)) :
    k0_pay205 (F := Ideal) (k0_pay202 q kk) (k0_pay203 q kk) k0_pay204 (ix2 r x) = ((sp z : ℝ) : EReal) := by
  rw [← sp_eq, ← h]; pointwise [k0_pay205, k0_pay202, k0_pay203, k0_pay204]; rfl

theorem ls207 (q : FVec Ideal S256x64 .bf16) (kk : FVec Ideal S1x256x64 .bf16) (r : Fin 256) (x : Fin 256) (z : ℝ) (h : k0_pay196 (F := Ideal) q kk (ix2 r x) = (z : EReal)) :
    k0_pay207 (F := Ideal) (k0_pay196 q kk) (k0_pay202 q kk) (k0_pay203 q kk) k0_pay204 (ix2 r x) = ((z - sp z : ℝ) : EReal) := by
  have h2 := sp205 q kk r x z h
  rw [EReal.coe_sub, ← h2, ← h]; pointwise [k0_pay207]

theorem lg206 (q : FVec Ideal S256x64 .bf16) (kk : FVec Ideal S1x256x64 .bf16) (b : BitVec 32) (hb : b = 0#32) (r : Fin 256) (x : Fin 256) (z : ℝ) (h : k0_pay196 (F := Ideal) q kk (ix2 r x) = (z : EReal)) :
    k0_pay206 (F := Ideal) (k0_pay192 k0_pay353 b) (k0_pay202 q kk) (k0_pay203 q kk) k0_pay204 (ix2 r x) = ((if x.val < r.val then -sp z else 0 : ℝ) : EReal) := by
  have h2 := sp205 q kk r x z h
  pointwise [k0_pay206]
  rw [mk192 b r x hb, h2]
  split
  · rw [← zero_sub, EReal.coe_sub]; rfl
  · rfl

theorem ts40_0 (w a b : FVec Ideal S256x512 .f32) (e : Ideal .f32) (P G : ℕ → ℝ) (hP : ∀ m, P (m + 1) = P m + G m) (o : ℕ) (r : Fin 256) (c : Fin 128) (hr : r.val < 2048)
    (hG : ∀ k : Fin 128, w (ix2 r ⟨0 + k.val, by omega⟩) = ((G (o + k.val) : ℝ) : EReal)) :
    k0_pay40 (F := Ideal) k0_pay346 w a b e (ix2 ⟨r.val, hr⟩ c) = ((P (o + 128) - P (o + c.val + 1) : ℝ) : EReal) := by
  refine Eq.trans ?_ (tri_sum P G hP o c _ (fun k => k0_pay346 (F := Ideal) (ix2 k c)) hG (fun k => tri_at k c))
  pointwise [k0_pay40]
  refine Finset.sum_congr rfl fun x _ => congrArg (· * _) ?_
  pointwise [k0_pay32]

theorem ts40_1 (w a b : FVec Ideal S256x512 .f32) (e : Ideal .f32) (P G : ℕ → ℝ) (hP : ∀ m, P (m + 1) = P m + G m) (o : ℕ) (r : Fin 256) (c : Fin 128) (hr : 256 + r.val < 2048)
    (hG : ∀ k : Fin 128, w (ix2 r ⟨128 + k.val, by omega⟩) = ((G (o + k.val) : ℝ) : EReal)) :
    k0_pay40 (F := Ideal) k0_pay346 w a b e (ix2 ⟨256 + r.val, hr⟩ c) = ((P (o + 128) - P (o + c.val + 1) : ℝ) : EReal) := by
  refine Eq.trans ?_ (tri_sum P G hP o c _ (fun k => k0_pay346 (F := Ideal) (ix2 k c)) hG (fun k => tri_at k c))
  pointwise [k0_pay40]
  refine Finset.sum_congr rfl fun x _ => congrArg (· * _) ?_
  pointwise [k0_pay33]

theorem ts40_2 (w a b : FVec Ideal S256x512 .f32) (e : Ideal .f32) (P G : ℕ → ℝ) (hP : ∀ m, P (m + 1) = P m + G m) (o : ℕ) (r : Fin 256) (c : Fin 128) (hr : 512 + r.val < 2048)
    (hG : ∀ k : Fin 128, w (ix2 r ⟨256 + k.val, by omega⟩) = ((G (o + k.val) : ℝ) : EReal)) :
    k0_pay40 (F := Ideal) k0_pay346 w a b e (ix2 ⟨512 + r.val, hr⟩ c) = ((P (o + 128) - P (o + c.val + 1) : ℝ) : EReal) := by
  refine Eq.trans ?_ (tri_sum P G hP o c _ (fun k => k0_pay346 (F := Ideal) (ix2 k c)) hG (fun k => tri_at k c))
  pointwise [k0_pay40]
  refine Finset.sum_congr rfl fun x _ => congrArg (· * _) ?_
  rw [dif_neg (by omega), dif_neg (by omega), dif_pos (by omega)]
  refine Eq.trans (congrArg (k0_pay34 (F := Ideal) w) ((ix2_inj ..).2 ⟨(Fin.ext (by simp only []; omega) : _ = r), rfl⟩)) ?_
  pointwise [k0_pay34]

theorem ts40_3 (w a b : FVec Ideal S256x512 .f32) (e : Ideal .f32) (P G : ℕ → ℝ) (hP : ∀ m, P (m + 1) = P m + G m) (o : ℕ) (r : Fin 256) (c : Fin 128) (hr : 768 + r.val < 2048)
    (hG : ∀ k : Fin 128, w (ix2 r ⟨384 + k.val, by omega⟩) = ((G (o + k.val) : ℝ) : EReal)) :
    k0_pay40 (F := Ideal) k0_pay346 w a b e (ix2 ⟨768 + r.val, hr⟩ c) = ((P (o + 128) - P (o + c.val + 1) : ℝ) : EReal) := by
  refine Eq.trans ?_ (tri_sum P G hP o c _ (fun k => k0_pay346 (F := Ideal) (ix2 k c)) hG (fun k => tri_at k c))
  pointwise [k0_pay40]
  refine Finset.sum_congr rfl fun x _ => congrArg (· * _) ?_
  rw [dif_neg (by omega), dif_neg (by omega), dif_neg (by omega), dif_pos (by omega)]
  refine Eq.trans (congrArg (k0_pay35 (F := Ideal) w) ((ix2_inj ..).2 ⟨(Fin.ext (by simp only []; omega) : _ = r), rfl⟩)) ?_
  pointwise [k0_pay35]

theorem ts40_4 (w a b : FVec Ideal S256x512 .f32) (e : Ideal .f32) (P G : ℕ → ℝ) (hP : ∀ m, P (m + 1) = P m + G m) (o : ℕ) (r : Fin 256) (c : Fin 128) (hr : 1024 + r.val < 2048)
    (hG : ∀ k : Fin 128, k0_pay30 (F := Ideal) a b e (ix2 r ⟨0 + k.val, by omega⟩) = ((G (o + k.val) : ℝ) : EReal)) :
    k0_pay40 (F := Ideal) k0_pay346 w a b e (ix2 ⟨1024 + r.val, hr⟩ c) = ((P (o + 128) - P (o + c.val + 1) : ℝ) : EReal) := by
  refine Eq.trans ?_ (tri_sum P G hP o c _ (fun k => k0_pay346 (F := Ideal) (ix2 k c)) hG (fun k => tri_at k c))
  pointwise [k0_pay40]
  refine Finset.sum_congr rfl fun x _ => congrArg (· * _) ?_
  rw [dif_neg (by omega), dif_neg (by omega), dif_neg (by omega), dif_neg (by omega), dif_pos (by omega)]
  refine Eq.trans (congrArg (k0_pay36 (F := Ideal) a b e) ((ix2_inj ..).2 ⟨(Fin.ext (by simp only []; omega) : _ = r), rfl⟩)) ?_
  pointwise [k0_pay36]

theorem ts40_5 (w a b : FVec Ideal S256x512 .f32) (e : Ideal .f32) (P G : ℕ → ℝ) (hP : ∀ m, P (m + 1) = P m + G m) (o : ℕ) (r : Fin 256) (c : Fin 128) (hr : 1280 + r.val < 2048)
    (hG : ∀ k : Fin 128, k0_pay30 (F := Ideal) a b e (ix2 r ⟨128 + k.val, by omega⟩) = ((G (o + k.val) : ℝ) : EReal)) :
    k0_pay40 (F := Ideal) k0_pay346 w a b e (ix2 ⟨1280 + r.val, hr⟩ c) = ((P (o + 128) - P (o + c.val + 1) : ℝ) : EReal) := by
  refine Eq.trans ?_ (tri_sum P G hP o c _ (fun k => k0_pay346 (F := Ideal) (ix2 k c)) hG (fun k => tri_at k c))
  pointwise [k0_pay40]
  refine Finset.sum_congr rfl fun x _ => congrArg (· * _) ?_
  rw [dif_neg (by omega), dif_neg (by omega), dif_neg (by omega), dif_neg (by omega), dif_neg (by omega), dif_pos (by omega)]
  refine Eq.trans (congrArg (k0_pay37 (F := Ideal) a b e) ((ix2_inj ..).2 ⟨(Fin.ext (by simp only []; omega) : _ = r), rfl⟩)) ?_
  pointwise [k0_pay37]

theorem ts40_6 (w a b : FVec Ideal S256x512 .f32) (e : Ideal .f32) (P G : ℕ → ℝ) (hP : ∀ m, P (m + 1) = P m + G m) (o : ℕ) (r : Fin 256) (c : Fin 128) (hr : 1536 + r.val < 2048)
    (hG : ∀ k : Fin 128, k0_pay30 (F := Ideal) a b e (ix2 r ⟨256 + k.val, by omega⟩) = ((G (o + k.val) : ℝ) : EReal)) :
    k0_pay40 (F := Ideal) k0_pay346 w a b e (ix2 ⟨1536 + r.val, hr⟩ c) = ((P (o + 128) - P (o + c.val + 1) : ℝ) : EReal) := by
  refine Eq.trans ?_ (tri_sum P G hP o c _ (fun k => k0_pay346 (F := Ideal) (ix2 k c)) hG (fun k => tri_at k c))
  pointwise [k0_pay40]
  refine Finset.sum_congr rfl fun x _ => congrArg (· * _) ?_
  rw [dif_neg (by omega), dif_neg (by omega), dif_neg (by omega), dif_neg (by omega), dif_neg (by omega), dif_neg (by omega), dif_pos (by omega)]
  refine Eq.trans (congrArg (k0_pay38 (F := Ideal) a b e) ((ix2_inj ..).2 ⟨(Fin.ext (by simp only []; omega) : _ = r), rfl⟩)) ?_
  pointwise [k0_pay38]

theorem ts40_7 (w a b : FVec Ideal S256x512 .f32) (e : Ideal .f32) (P G : ℕ → ℝ) (hP : ∀ m, P (m + 1) = P m + G m) (o : ℕ) (r : Fin 256) (c : Fin 128) (hr : 1792 + r.val < 2048)
    (hG : ∀ k : Fin 128, k0_pay30 (F := Ideal) a b e (ix2 r ⟨384 + k.val, by omega⟩) = ((G (o + k.val) : ℝ) : EReal)) :
    k0_pay40 (F := Ideal) k0_pay346 w a b e (ix2 ⟨1792 + r.val, hr⟩ c) = ((P (o + 128) - P (o + c.val + 1) : ℝ) : EReal) := by
  refine Eq.trans ?_ (tri_sum P G hP o c _ (fun k => k0_pay346 (F := Ideal) (ix2 k c)) hG (fun k => tri_at k c))
  pointwise [k0_pay40]
  refine Finset.sum_congr rfl fun x _ => congrArg (· * _) ?_
  rw [dif_neg (by omega), dif_neg (by omega), dif_neg (by omega), dif_neg (by omega), dif_neg (by omega), dif_neg (by omega), dif_neg (by omega)]
  refine Eq.trans (congrArg (k0_pay39 (F := Ideal) a b e) ((ix2_inj ..).2 ⟨(Fin.ext (by simp only []; omega) : _ = r), rfl⟩)) ?_
  pointwise [k0_pay39]

theorem ts260_0 (mk : IVec S256x512 1) (w a b : FVec Ideal S256x512 .f32) (P G : ℕ → ℝ) (hP : ∀ m, P (m + 1) = P m + G m) (o : ℕ) (r : Fin 256) (c : Fin 128) (hr : r.val < 2048)
    (hG : ∀ k : Fin 128, w (ix2 r ⟨0 + k.val, by omega⟩) = ((G (o + k.val) : ℝ) : EReal)) :
    k0_pay260 (F := Ideal) k0_pay346 mk w a b (ix2 ⟨r.val, hr⟩ c) = ((P (o + 128) - P (o + c.val + 1) : ℝ) : EReal) := by
  refine Eq.trans ?_ (tri_sum P G hP o c _ (fun k => k0_pay346 (F := Ideal) (ix2 k c)) hG (fun k => tri_at k c))
  pointwise [k0_pay260]
  refine Finset.sum_congr rfl fun x _ => congrArg (· * _) ?_
  pointwise [k0_pay252]

theorem ts260_1 (mk : IVec S256x512 1) (w a b : FVec Ideal S256x512 .f32) (P G : ℕ → ℝ) (hP : ∀ m, P (m + 1) = P m + G m) (o : ℕ) (r : Fin 256) (c : Fin 128) (hr : 256 + r.val < 2048)
    (hG : ∀ k : Fin 128, w (ix2 r ⟨128 + k.val, by omega⟩) = ((G (o + k.val) : ℝ) : EReal)) :
    k0_pay260 (F := Ideal) k0_pay346 mk w a b (ix2 ⟨256 + r.val, hr⟩ c) = ((P (o + 128) - P (o + c.val + 1) : ℝ) : EReal) := by
  refine Eq.trans ?_ (tri_sum P G hP o c _ (fun k => k0_pay346 (F := Ideal) (ix2 k c)) hG (fun k => tri_at k c))
  pointwise [k0_pay260]
  refine Finset.sum_congr rfl fun x _ => congrArg (· * _) ?_
  pointwise [k0_pay253]

theorem ts260_2 (mk : IVec S256x512 1) (w a b : FVec Ideal S256x512 .f32) (P G : ℕ → ℝ) (hP : ∀ m, P (m + 1) = P m + G m) (o : ℕ) (r : Fin 256) (c : Fin 128) (hr : 512 + r.val < 2048)
    (hG : ∀ k : Fin 128, w (ix2 r ⟨256 + k.val, by omega⟩) = ((G (o + k.val) : ℝ) : EReal)) :
    k0_pay260 (F := Ideal) k0_pay346 mk w a b (ix2 ⟨512 + r.val, hr⟩ c) = ((P (o + 128) - P (o + c.val + 1) : ℝ) : EReal) := by
  refine Eq.trans ?_ (tri_sum P G hP o c _ (fun k => k0_pay346 (F := Ideal) (ix2 k c)) hG (fun k => tri_at k c))
  pointwise [k0_pay260]
  refine Finset.sum_congr rfl fun x _ => congrArg (· * _) ?_
  rw [dif_neg (by omega), dif_neg (by omega), dif_pos (by omega)]
  refine Eq.trans (congrArg (k0_pay254 (F := Ideal) w) ((ix2_inj ..).2 ⟨(Fin.ext (by simp only []; omega) : _ = r), rfl⟩)) ?_
  pointwise [k0_pay254]

theorem ts260_3 (mk : IVec S256x512 1) (w a b : FVec Ideal S256x512 .f32) (P G : ℕ → ℝ) (hP : ∀ m, P (m + 1) = P m + G m) (o : ℕ) (r : Fin 256) (c : Fin 128) (hr : 768 + r.val < 2048)
    (hG : ∀ k : Fin 128, w (ix2 r ⟨384 + k.val, by omega⟩) = ((G (o + k.val) : ℝ) : EReal)) :
    k0_pay260 (F := Ideal) k0_pay346 mk w a b (ix2 ⟨768 + r.val, hr⟩ c) = ((P (o + 128) - P (o + c.val + 1) : ℝ) : EReal) := by
  refine Eq.trans ?_ (tri_sum P G hP o c _ (fun k => k0_pay346 (F := Ideal) (ix2 k c)) hG (fun k => tri_at k c))
  pointwise [k0_pay260]
  refine Finset.sum_congr rfl fun x _ => congrArg (· * _) ?_
  rw [dif_neg (by omega), dif_neg (by omega), dif_neg (by omega), dif_pos (by omega)]
  refine Eq.trans (congrArg (k0_pay255 (F := Ideal) w) ((ix2_inj ..).2 ⟨(Fin.ext (by simp only []; omega) : _ = r), rfl⟩)) ?_
  pointwise [k0_pay255]

theorem ts260_4 (mk : IVec S256x512 1) (w a b : FVec Ideal S256x512 .f32) (P G : ℕ → ℝ) (hP : ∀ m, P (m + 1) = P m + G m) (o : ℕ) (r : Fin 256) (c : Fin 128) (hr : 1024 + r.val < 2048)
    (hG : ∀ k : Fin 128, k0_pay250 (F := Ideal) mk a b (ix2 r ⟨0 + k.val, by omega⟩) = ((G (o + k.val) : ℝ) : EReal)) :
    k0_pay260 (F := Ideal) k0_pay346 mk w a b (ix2 ⟨1024 + r.val, hr⟩ c) = ((P (o + 128) - P (o + c.val + 1) : ℝ) : EReal) := by
  refine Eq.trans ?_ (tri_sum P G hP o c _ (fun k => k0_pay346 (F := Ideal) (ix2 k c)) hG (fun k => tri_at k c))
  pointwise [k0_pay260]
  refine Finset.sum_congr rfl fun x _ => congrArg (· * _) ?_
  rw [dif_neg (by omega), dif_neg (by omega), dif_neg (by omega), dif_neg (by omega), dif_pos (by omega)]
  refine Eq.trans (congrArg (k0_pay256 (F := Ideal) mk a b) ((ix2_inj ..).2 ⟨(Fin.ext (by simp only []; omega) : _ = r), rfl⟩)) ?_
  pointwise [k0_pay256]

theorem ts260_5 (mk : IVec S256x512 1) (w a b : FVec Ideal S256x512 .f32) (P G : ℕ → ℝ) (hP : ∀ m, P (m + 1) = P m + G m) (o : ℕ) (r : Fin 256) (c : Fin 128) (hr : 1280 + r.val < 2048)
    (hG : ∀ k : Fin 128, k0_pay250 (F := Ideal) mk a b (ix2 r ⟨128 + k.val, by omega⟩) = ((G (o + k.val) : ℝ) : EReal)) :
    k0_pay260 (F := Ideal) k0_pay346 mk w a b (ix2 ⟨1280 + r.val, hr⟩ c) = ((P (o + 128) - P (o + c.val + 1) : ℝ) : EReal) := by
  refine Eq.trans ?_ (tri_sum P G hP o c _ (fun k => k0_pay346 (F := Ideal) (ix2 k c)) hG (fun k => tri_at k c))
  pointwise [k0_pay260]
  refine Finset.sum_congr rfl fun x _ => congrArg (· * _) ?_
  rw [dif_neg (by omega), dif_neg (by omega), dif_neg (by omega), dif_neg (by omega), dif_neg (by omega), dif_pos (by omega)]
  refine Eq.trans (congrArg (k0_pay257 (F := Ideal) mk a b) ((ix2_inj ..).2 ⟨(Fin.ext (by simp only []; omega) : _ = r), rfl⟩)) ?_
  pointwise [k0_pay257]

theorem ts260_6 (mk : IVec S256x512 1) (w a b : FVec Ideal S256x512 .f32) (P G : ℕ → ℝ) (hP : ∀ m, P (m + 1) = P m + G m) (o : ℕ) (r : Fin 256) (c : Fin 128) (hr : 1536 + r.val < 2048)
    (hG : ∀ k : Fin 128, k0_pay250 (F := Ideal) mk a b (ix2 r ⟨256 + k.val, by omega⟩) = ((G (o + k.val) : ℝ) : EReal)) :
    k0_pay260 (F := Ideal) k0_pay346 mk w a b (ix2 ⟨1536 + r.val, hr⟩ c) = ((P (o + 128) - P (o + c.val + 1) : ℝ) : EReal) := by
  refine Eq.trans ?_ (tri_sum P G hP o c _ (fun k => k0_pay346 (F := Ideal) (ix2 k c)) hG (fun k => tri_at k c))
  pointwise [k0_pay260]
  refine Finset.sum_congr rfl fun x _ => congrArg (· * _) ?_
  rw [dif_neg (by omega), dif_neg (by omega), dif_neg (by omega), dif_neg (by omega), dif_neg (by omega), dif_neg (by omega), dif_pos (by omega)]
  refine Eq.trans (congrArg (k0_pay258 (F := Ideal) mk a b) ((ix2_inj ..).2 ⟨(Fin.ext (by simp only []; omega) : _ = r), rfl⟩)) ?_
  pointwise [k0_pay258]

theorem ts260_7 (mk : IVec S256x512 1) (w a b : FVec Ideal S256x512 .f32) (P G : ℕ → ℝ) (hP : ∀ m, P (m + 1) = P m + G m) (o : ℕ) (r : Fin 256) (c : Fin 128) (hr : 1792 + r.val < 2048)
    (hG : ∀ k : Fin 128, k0_pay250 (F := Ideal) mk a b (ix2 r ⟨384 + k.val, by omega⟩) = ((G (o + k.val) : ℝ) : EReal)) :
    k0_pay260 (F := Ideal) k0_pay346 mk w a b (ix2 ⟨1792 + r.val, hr⟩ c) = ((P (o + 128) - P (o + c.val + 1) : ℝ) : EReal) := by
  refine Eq.trans ?_ (tri_sum P G hP o c _ (fun k => k0_pay346 (F := Ideal) (ix2 k c)) hG (fun k => tri_at k c))
  pointwise [k0_pay260]
  refine Finset.sum_congr rfl fun x _ => congrArg (· * _) ?_
  rw [dif_neg (by omega), dif_neg (by omega), dif_neg (by omega), dif_neg (by omega), dif_neg (by omega), dif_neg (by omega), dif_neg (by omega)]
  refine Eq.trans (congrArg (k0_pay259 (F := Ideal) mk a b) ((ix2_inj ..).2 ⟨(Fin.ext (by simp only []; omega) : _ = r), rfl⟩)) ?_
  pointwise [k0_pay259]

theorem ts212_0 (mk : IVec S256x256 1) (w a b b2 : FVec Ideal S256x256 .f32) (P G : ℕ → ℝ) (hP : ∀ m, P (m + 1) = P m + G m) (o : ℕ) (r : Fin 256) (c : Fin 128) (hr : r.val < 1024)
    (hG : ∀ k : Fin 128, w (ix2 r ⟨0 + k.val, by omega⟩) = ((G (o + k.val) : ℝ) : EReal)) :
    k0_pay212 (F := Ideal) k0_pay346 mk w a b b2 (ix2 ⟨r.val, hr⟩ c) = ((P (o + 128) - P (o + c.val + 1) : ℝ) : EReal) := by
  refine Eq.trans ?_ (tri_sum P G hP o c _ (fun k => k0_pay346 (F := Ideal) (ix2 k c)) hG (fun k => tri_at k c))
  pointwise [k0_pay212]
  refine Finset.sum_congr rfl fun x _ => congrArg (· * _) ?_
  pointwise [k0_pay208]

theorem ts212_1 (mk : IVec S256x256 1) (w a b b2 : FVec Ideal S256x256 .f32) (P G : ℕ → ℝ) (hP : ∀ m, P (m + 1) = P m + G m) (o : ℕ) (r : Fin 256) (c : Fin 128) (hr : 256 + r.val < 1024)
    (hG : ∀ k : Fin 128, w (ix2 r ⟨128 + k.val, by omega⟩) = ((G (o + k.val) : ℝ) : EReal)) :
    k0_pay212 (F := Ideal) k0_pay346 mk w a b b2 (ix2 ⟨256 + r.val, hr⟩ c) = ((P (o + 128) - P (o + c.val + 1) : ℝ) : EReal) := by
  refine Eq.trans ?_ (tri_sum P G hP o c _ (fun k => k0_pay346 (F := Ideal) (ix2 k c)) hG (fun k => tri_at k c))
  pointwise [k0_pay212]
  refine Finset.sum_congr rfl fun x _ => congrArg (· * _) ?_
  pointwise [k0_pay209]

theorem ts212_2 (mk : IVec S256x256 1) (w a b b2 : FVec Ideal S256x256 .f32) (P G : ℕ → ℝ) (hP : ∀ m, P (m + 1) = P m + G m) (o : ℕ) (r : Fin 256) (c : Fin 128) (hr : 512 + r.val < 1024)
    (hG : ∀ k : Fin 128, k0_pay206 (F := Ideal) mk a b b2 (ix2 r ⟨0 + k.val, by omega⟩) = ((G (o + k.val) : ℝ) : EReal)) :
    k0_pay212 (F := Ideal) k0_pay346 mk w a b b2 (ix2 ⟨512 + r.val, hr⟩ c) = ((P (o + 128) - P (o + c.val + 1) : ℝ) : EReal) := by
  refine Eq.trans ?_ (tri_sum P G hP o c _ (fun k => k0_pay346 (F := Ideal) (ix2 k c)) hG (fun k => tri_at k c))
  pointwise [k0_pay212]
  refine Finset.sum_congr rfl fun x _ => congrArg (· * _) ?_
  rw [dif_neg (by omega), dif_neg (by omega), dif_pos (by omega)]
  refine Eq.trans (congrArg (k0_pay210 (F := Ideal) mk a b b2) ((ix2_inj ..).2 ⟨(Fin.ext (by simp only []; omega) : _ = r), rfl⟩)) ?_
  pointwise [k0_pay210]

theorem ts212_3 (mk : IVec S256x256 1) (w a b b2 : FVec Ideal S256x256 .f32) (P G : ℕ → ℝ) (hP : ∀ m, P (m + 1) = P m + G m) (o : ℕ) (r : Fin 256) (c : Fin 128) (hr : 768 + r.val < 1024)
    (hG : ∀ k : Fin 128, k0_pay206 (F := Ideal) mk a b b2 (ix2 r ⟨128 + k.val, by omega⟩) = ((G (o + k.val) : ℝ) : EReal)) :
    k0_pay212 (F := Ideal) k0_pay346 mk w a b b2 (ix2 ⟨768 + r.val, hr⟩ c) = ((P (o + 128) - P (o + c.val + 1) : ℝ) : EReal) := by
  refine Eq.trans ?_ (tri_sum P G hP o c _ (fun k => k0_pay346 (F := Ideal) (ix2 k c)) hG (fun k => tri_at k c))
  pointwise [k0_pay212]
  refine Finset.sum_congr rfl fun x _ => congrArg (· * _) ?_
  rw [dif_neg (by omega), dif_neg (by omega), dif_neg (by omega)]
  refine Eq.trans (congrArg (k0_pay211 (F := Ideal) mk a b b2) ((ix2_inj ..).2 ⟨(Fin.ext (by simp only []; omega) : _ = r), rfl⟩)) ?_
  pointwise [k0_pay211]

end Cert.SbPay
end
-- ==== Proof.SbTile.lean ====
/- A tile's attention weights and running sums in `sb_attn_bwd`, over the real numbers. -/
module

public import proofs.«01_k».proof.Proof.SbPay

@[expose] public section

set_option maxRecDepth 16384
set_option maxHeartbeats 1000000

noncomputable section

namespace Cert.SbPay

open Idealize.ShloMosaic Idealize.ShloMosaic.TcCoe Idealize.SL.Sem
open Cert.KernelIdeal Cert.KernelIdeal.Gen

/-- Below the diagonal, first head: the running sum behind the tile. -/
theorem cumI0
    (P G S : ℕ → ℝ) (hP : ∀ m, P (m + 1) = P m + G m) (o : ℕ) (t : ℝ) (r : Fin 256) (C T : FVec Ideal S256x1 .f32) (w s a b : FVec Ideal S256x512 .f32) (e : Ideal .f32)
    (hC : C (ix2 r 0) = ((P o : ℝ) : EReal))
    (hw : ∀ y : Fin 512, w (ix2 r y) = ((G (o + y.val) : ℝ) : EReal)) :
    k0_pay51 (F := Ideal) k0_pay346 C w a b e (ix2 r 0) = ((P (o + 512) : ℝ) : EReal) := by
  have m0 : ∀ c : Fin 128, k0_pay40 (F := Ideal) k0_pay346 w a b e (ix2 ⟨r.val, by omega⟩ c) = ((P (o + 128) - P (o + (0 + c.val) + 1) : ℝ) : EReal) := fun c => by
    have h := ts40_0 w a b e P G hP (o + 0) r c (by omega) (fun k => (hw ⟨0 + k.val, by omega⟩).trans (by rw [← Nat.add_assoc]))
    rw [show o + 0 + 128 = o + 128 by omega, show o + 0 + c.val + 1 = o + (0 + c.val) + 1 by omega] at h
    exact h
  have z0 : k0_pay40 (F := Ideal) k0_pay346 w a b e (ix2 ⟨r.val, by omega⟩ 0) = ((P (o + 128) - (P (o + 0) + G (o + 0)) : ℝ) : EReal) := by
    rw [← hP]; exact m0 0
  have w0 : w (ix2 r 0) = ((G (o + 0) : ℝ) : EReal) := hw 0
  have m1 : ∀ c : Fin 128, k0_pay40 (F := Ideal) k0_pay346 w a b e (ix2 ⟨256 + r.val, by omega⟩ c) = ((P (o + 256) - P (o + (128 + c.val) + 1) : ℝ) : EReal) := fun c => by
    have h := ts40_1 w a b e P G hP (o + 128) r c (by omega) (fun k => (hw ⟨128 + k.val, by omega⟩).trans (by rw [← Nat.add_assoc]))
    rw [show o + 128 + 128 = o + 256 by omega, show o + 128 + c.val + 1 = o + (128 + c.val) + 1 by omega] at h
    exact h
  have z1 : k0_pay40 (F := Ideal) k0_pay346 w a b e (ix2 ⟨256 + r.val, by omega⟩ 0) = ((P (o + 256) - (P (o + 128) + G (o + 128)) : ℝ) : EReal) := by
    rw [← hP]; exact m1 0
  have w1 : w (ix2 r 128) = ((G (o + 128) : ℝ) : EReal) := hw 128
  have m2 : ∀ c : Fin 128, k0_pay40 (F := Ideal) k0_pay346 w a b e (ix2 ⟨512 + r.val, by omega⟩ c) = ((P (o + 384) - P (o + (256 + c.val) + 1) : ℝ) : EReal) := fun c => by
    have h := ts40_2 w a b e P G hP (o + 256) r c (by omega) (fun k => (hw ⟨256 + k.val, by omega⟩).trans (by rw [← Nat.add_assoc]))
    rw [show o + 256 + 128 = o + 384 by omega, show o + 256 + c.val + 1 = o + (256 + c.val) + 1 by omega] at h
    exact h
  have z2 : k0_pay40 (F := Ideal) k0_pay346 w a b e (ix2 ⟨512 + r.val, by omega⟩ 0) = ((P (o + 384) - (P (o + 256) + G (o + 256)) : ℝ) : EReal) := by
    rw [← hP]; exact m2 0
  have w2 : w (ix2 r 256) = ((G (o + 256) : ℝ) : EReal) := hw 256
  have m3 : ∀ c : Fin 128, k0_pay40 (F := Ideal) k0_pay346 w a b e (ix2 ⟨768 + r.val, by omega⟩ c) = ((P (o + 512) - P (o + (384 + c.val) + 1) : ℝ) : EReal) := fun c => by
    have h := ts40_3 w a b e P G hP (o + 384) r c (by omega) (fun k => (hw ⟨384 + k.val, by omega⟩).trans (by rw [← Nat.add_assoc]))
    rw [show o + 384 + 128 = o + 512 by omega, show o + 384 + c.val + 1 = o + (384 + c.val) + 1 by omega] at h
    exact h
  have z3 : k0_pay40 (F := Ideal) k0_pay346 w a b e (ix2 ⟨768 + r.val, by omega⟩ 0) = ((P (o + 512) - (P (o + 384) + G (o + 384)) : ℝ) : EReal) := by
    rw [← hP]; exact m3 0
  have w3 : w (ix2 r 384) = ((G (o + 384) : ℝ) : EReal) := hw 384
  pointwise [k0_pay51, k0_pay50, k0_pay48, k0_pay47, k0_pay45, k0_pay44, k0_pay42, k0_pay41, k0_pay32, k0_pay33, k0_pay34, k0_pay35]
  rw [hC, z0, w0, z1, w1, z2, w2, z3, w3]
  simp only [← EReal.coe_add, ← EReal.coe_sub, Nat.add_zero]
  exact congrArg _ (by ring)

theorem attI0_0
    (P G S : ℕ → ℝ) (hP : ∀ m, P (m + 1) = P m + G m) (o : ℕ) (t : ℝ) (r : Fin 256) (C T : FVec Ideal S256x1 .f32) (w s a b : FVec Ideal S256x512 .f32) (e : Ideal .f32)
    (hC : C (ix2 r 0) = ((P o : ℝ) : EReal))
    (hw : ∀ y : Fin 512, w (ix2 r y) = ((G (o + y.val) : ℝ) : EReal))
    (hT : T (ix2 r 0) = ((t : ℝ) : EReal)) (hs : ∀ y : Fin 512, s (ix2 r y) = ((S (o + y.val) : ℝ) : EReal)) (x : Fin 128) :
    k0_pay54 (F := Ideal) (k0_pay43 k0_pay346 T C w s a b e) (k0_pay46 k0_pay346 T C w s a b e) (k0_pay49 k0_pay346 T C w s a b e) (k0_pay52 k0_pay346 T C w s a b e) (ix2 r ⟨x.val, by omega⟩) = ((Real.exp (S (o + (0 + x.val)) + t - P (o + (0 + x.val) + 1)) : ℝ) : EReal) := by
  have m0 : ∀ c : Fin 128, k0_pay40 (F := Ideal) k0_pay346 w a b e (ix2 ⟨r.val, by omega⟩ c) = ((P (o + 128) - P (o + (0 + c.val) + 1) : ℝ) : EReal) := fun c => by
    have h := ts40_0 w a b e P G hP (o + 0) r c (by omega) (fun k => (hw ⟨0 + k.val, by omega⟩).trans (by rw [← Nat.add_assoc]))
    rw [show o + 0 + 128 = o + 128 by omega, show o + 0 + c.val + 1 = o + (0 + c.val) + 1 by omega] at h
    exact h
  have z0 : k0_pay40 (F := Ideal) k0_pay346 w a b e (ix2 ⟨r.val, by omega⟩ 0) = ((P (o + 128) - (P (o + 0) + G (o + 0)) : ℝ) : EReal) := by
    rw [← hP]; exact m0 0
  have w0 : w (ix2 r 0) = ((G (o + 0) : ℝ) : EReal) := hw 0
  have m1 : ∀ c : Fin 128, k0_pay40 (F := Ideal) k0_pay346 w a b e (ix2 ⟨256 + r.val, by omega⟩ c) = ((P (o + 256) - P (o + (128 + c.val) + 1) : ℝ) : EReal) := fun c => by
    have h := ts40_1 w a b e P G hP (o + 128) r c (by omega) (fun k => (hw ⟨128 + k.val, by omega⟩).trans (by rw [← Nat.add_assoc]))
    rw [show o + 128 + 128 = o + 256 by omega, show o + 128 + c.val + 1 = o + (128 + c.val) + 1 by omega] at h
    exact h
  have z1 : k0_pay40 (F := Ideal) k0_pay346 w a b e (ix2 ⟨256 + r.val, by omega⟩ 0) = ((P (o + 256) - (P (o + 128) + G (o + 128)) : ℝ) : EReal) := by
    rw [← hP]; exact m1 0
  have w1 : w (ix2 r 128) = ((G (o + 128) : ℝ) : EReal) := hw 128
  have m2 : ∀ c : Fin 128, k0_pay40 (F := Ideal) k0_pay346 w a b e (ix2 ⟨512 + r.val, by omega⟩ c) = ((P (o + 384) - P (o + (256 + c.val) + 1) : ℝ) : EReal) := fun c => by
    have h := ts40_2 w a b e P G hP (o + 256) r c (by omega) (fun k => (hw ⟨256 + k.val, by omega⟩).trans (by rw [← Nat.add_assoc]))
    rw [show o + 256 + 128 = o + 384 by omega, show o + 256 + c.val + 1 = o + (256 + c.val) + 1 by omega] at h
    exact h
  have z2 : k0_pay40 (F := Ideal) k0_pay346 w a b e (ix2 ⟨512 + r.val, by omega⟩ 0) = ((P (o + 384) - (P (o + 256) + G (o + 256)) : ℝ) : EReal) := by
    rw [← hP]; exact m2 0
  have w2 : w (ix2 r 256) = ((G (o + 256) : ℝ) : EReal) := hw 256
  have m3 : ∀ c : Fin 128, k0_pay40 (F := Ideal) k0_pay346 w a b e (ix2 ⟨768 + r.val, by omega⟩ c) = ((P (o + 512) - P (o + (384 + c.val) + 1) : ℝ) : EReal) := fun c => by
    have h := ts40_3 w a b e P G hP (o + 384) r c (by omega) (fun k => (hw ⟨384 + k.val, by omega⟩).trans (by rw [← Nat.add_assoc]))
    rw [show o + 384 + 128 = o + 512 by omega, show o + 384 + c.val + 1 = o + (384 + c.val) + 1 by omega] at h
    exact h
  have z3 : k0_pay40 (F := Ideal) k0_pay346 w a b e (ix2 ⟨768 + r.val, by omega⟩ 0) = ((P (o + 512) - (P (o + 384) + G (o + 384)) : ℝ) : EReal) := by
    rw [← hP]; exact m3 0
  have w3 : w (ix2 r 384) = ((G (o + 384) : ℝ) : EReal) := hw 384
  have s0 : s (ix2 r ⟨x.val, by omega⟩) = ((S (o + (0 + x.val)) : ℝ) : EReal) := (hs ⟨x.val, by omega⟩).trans (by rw [Nat.zero_add])
  pointwise [k0_pay54, k0_pay53, k0_pay43, k0_pay42, k0_pay41, k0_pay32, k0_pay33, k0_pay34, k0_pay35]
  simp only [hT, hC, s0, z0, w0, m0 x]
  simp only [← EReal.coe_add, ← EReal.coe_sub, Nat.add_zero, Nat.zero_add, Ideal.exp_coe]
  refine congrArg (fun y => ((Real.exp y : ℝ) : EReal)) ?_
  ring

theorem attI0_1
    (P G S : ℕ → ℝ) (hP : ∀ m, P (m + 1) = P m + G m) (o : ℕ) (t : ℝ) (r : Fin 256) (C T : FVec Ideal S256x1 .f32) (w s a b : FVec Ideal S256x512 .f32) (e : Ideal .f32)
    (hC : C (ix2 r 0) = ((P o : ℝ) : EReal))
    (hw : ∀ y : Fin 512, w (ix2 r y) = ((G (o + y.val) : ℝ) : EReal))
    (hT : T (ix2 r 0) = ((t : ℝ) : EReal)) (hs : ∀ y : Fin 512, s (ix2 r y) = ((S (o + y.val) : ℝ) : EReal)) (x : Fin 128) :
    k0_pay54 (F := Ideal) (k0_pay43 k0_pay346 T C w s a b e) (k0_pay46 k0_pay346 T C w s a b e) (k0_pay49 k0_pay346 T C w s a b e) (k0_pay52 k0_pay346 T C w s a b e) (ix2 r ⟨128 + x.val, by omega⟩) = ((Real.exp (S (o + (128 + x.val)) + t - P (o + (128 + x.val) + 1)) : ℝ) : EReal) := by
  have m0 : ∀ c : Fin 128, k0_pay40 (F := Ideal) k0_pay346 w a b e (ix2 ⟨r.val, by omega⟩ c) = ((P (o + 128) - P (o + (0 + c.val) + 1) : ℝ) : EReal) := fun c => by
    have h := ts40_0 w a b e P G hP (o + 0) r c (by omega) (fun k => (hw ⟨0 + k.val, by omega⟩).trans (by rw [← Nat.add_assoc]))
    rw [show o + 0 + 128 = o + 128 by omega, show o + 0 + c.val + 1 = o + (0 + c.val) + 1 by omega] at h
    exact h
  have z0 : k0_pay40 (F := Ideal) k0_pay346 w a b e (ix2 ⟨r.val, by omega⟩ 0) = ((P (o + 128) - (P (o + 0) + G (o + 0)) : ℝ) : EReal) := by
    rw [← hP]; exact m0 0
  have w0 : w (ix2 r 0) = ((G (o + 0) : ℝ) : EReal) := hw 0
  have m1 : ∀ c : Fin 128, k0_pay40 (F := Ideal) k0_pay346 w a b e (ix2 ⟨256 + r.val, by omega⟩ c) = ((P (o + 256) - P (o + (128 + c.val) + 1) : ℝ) : EReal) := fun c => by
    have h := ts40_1 w a b e P G hP (o + 128) r c (by omega) (fun k => (hw ⟨128 + k.val, by omega⟩).trans (by rw [← Nat.add_assoc]))
    rw [show o + 128 + 128 = o + 256 by omega, show o + 128 + c.val + 1 = o + (128 + c.val) + 1 by omega] at h
    exact h
  have z1 : k0_pay40 (F := Ideal) k0_pay346 w a b e (ix2 ⟨256 + r.val, by omega⟩ 0) = ((P (o + 256) - (P (o + 128) + G (o + 128)) : ℝ) : EReal) := by
    rw [← hP]; exact m1 0
  have w1 : w (ix2 r 128) = ((G (o + 128) : ℝ) : EReal) := hw 128
  have m2 : ∀ c : Fin 128, k0_pay40 (F := Ideal) k0_pay346 w a b e (ix2 ⟨512 + r.val, by omega⟩ c) = ((P (o + 384) - P (o + (256 + c.val) + 1) : ℝ) : EReal) := fun c => by
    have h := ts40_2 w a b e P G hP (o + 256) r c (by omega) (fun k => (hw ⟨256 + k.val, by omega⟩).trans (by rw [← Nat.add_assoc]))
    rw [show o + 256 + 128 = o + 384 by omega, show o + 256 + c.val + 1 = o + (256 + c.val) + 1 by omega] at h
    exact h
  have z2 : k0_pay40 (F := Ideal) k0_pay346 w a b e (ix2 ⟨512 + r.val, by omega⟩ 0) = ((P (o + 384) - (P (o + 256) + G (o + 256)) : ℝ) : EReal) := by
    rw [← hP]; exact m2 0
  have w2 : w (ix2 r 256) = ((G (o + 256) : ℝ) : EReal) := hw 256
  have m3 : ∀ c : Fin 128, k0_pay40 (F := Ideal) k0_pay346 w a b e (ix2 ⟨768 + r.val, by omega⟩ c) = ((P (o + 512) - P (o + (384 + c.val) + 1) : ℝ) : EReal) := fun c => by
    have h := ts40_3 w a b e P G hP (o + 384) r c (by omega) (fun k => (hw ⟨384 + k.val, by omega⟩).trans (by rw [← Nat.add_assoc]))
    rw [show o + 384 + 128 = o + 512 by omega, show o + 384 + c.val + 1 = o + (384 + c.val) + 1 by omega] at h
    exact h
  have z3 : k0_pay40 (F := Ideal) k0_pay346 w a b e (ix2 ⟨768 + r.val, by omega⟩ 0) = ((P (o + 512) - (P (o + 384) + G (o + 384)) : ℝ) : EReal) := by
    rw [← hP]; exact m3 0
  have w3 : w (ix2 r 384) = ((G (o + 384) : ℝ) : EReal) := hw 384
  have s1 : s (ix2 r ⟨128 + x.val, by omega⟩) = ((S (o + (128 + x.val)) : ℝ) : EReal) := hs ⟨128 + x.val, by omega⟩
  pointwise [k0_pay54, k0_pay53, k0_pay46, k0_pay45, k0_pay44, k0_pay42, k0_pay41, k0_pay32, k0_pay33, k0_pay34, k0_pay35]
  simp only [hT, hC, s1, z0, w0, z1, w1, m1 x]
  simp only [← EReal.coe_add, ← EReal.coe_sub, Nat.add_zero, Nat.zero_add, Ideal.exp_coe]
  refine congrArg (fun y => ((Real.exp y : ℝ) : EReal)) ?_
  ring

theorem attI0_2
    (P G S : ℕ → ℝ) (hP : ∀ m, P (m + 1) = P m + G m) (o : ℕ) (t : ℝ) (r : Fin 256) (C T : FVec Ideal S256x1 .f32) (w s a b : FVec Ideal S256x512 .f32) (e : Ideal .f32)
    (hC : C (ix2 r 0) = ((P o : ℝ) : EReal))
    (hw : ∀ y : Fin 512, w (ix2 r y) = ((G (o + y.val) : ℝ) : EReal))
    (hT : T (ix2 r 0) = ((t : ℝ) : EReal)) (hs : ∀ y : Fin 512, s (ix2 r y) = ((S (o + y.val) : ℝ) : EReal)) (x : Fin 128) :
    k0_pay54 (F := Ideal) (k0_pay43 k0_pay346 T C w s a b e) (k0_pay46 k0_pay346 T C w s a b e) (k0_pay49 k0_pay346 T C w s a b e) (k0_pay52 k0_pay346 T C w s a b e) (ix2 r ⟨256 + x.val, by omega⟩) = ((Real.exp (S (o + (256 + x.val)) + t - P (o + (256 + x.val) + 1)) : ℝ) : EReal) := by
  have m0 : ∀ c : Fin 128, k0_pay40 (F := Ideal) k0_pay346 w a b e (ix2 ⟨r.val, by omega⟩ c) = ((P (o + 128) - P (o + (0 + c.val) + 1) : ℝ) : EReal) := fun c => by
    have h := ts40_0 w a b e P G hP (o + 0) r c (by omega) (fun k => (hw ⟨0 + k.val, by omega⟩).trans (by rw [← Nat.add_assoc]))
    rw [show o + 0 + 128 = o + 128 by omega, show o + 0 + c.val + 1 = o + (0 + c.val) + 1 by omega] at h
    exact h
  have z0 : k0_pay40 (F := Ideal) k0_pay346 w a b e (ix2 ⟨r.val, by omega⟩ 0) = ((P (o + 128) - (P (o + 0) + G (o + 0)) : ℝ) : EReal) := by
    rw [← hP]; exact m0 0
  have w0 : w (ix2 r 0) = ((G (o + 0) : ℝ) : EReal) := hw 0
  have m1 : ∀ c : Fin 128, k0_pay40 (F := Ideal) k0_pay346 w a b e (ix2 ⟨256 + r.val, by omega⟩ c) = ((P (o + 256) - P (o + (128 + c.val) + 1) : ℝ) : EReal) := fun c => by
    have h := ts40_1 w a b e P G hP (o + 128) r c (by omega) (fun k => (hw ⟨128 + k.val, by omega⟩).trans (by rw [← Nat.add_assoc]))
    rw [show o + 128 + 128 = o + 256 by omega, show o + 128 + c.val + 1 = o + (128 + c.val) + 1 by omega] at h
    exact h
  have z1 : k0_pay40 (F := Ideal) k0_pay346 w a b e (ix2 ⟨256 + r.val, by omega⟩ 0) = ((P (o + 256) - (P (o + 128) + G (o + 128)) : ℝ) : EReal) := by
    rw [← hP]; exact m1 0
  have w1 : w (ix2 r 128) = ((G (o + 128) : ℝ) : EReal) := hw 128
  have m2 : ∀ c : Fin 128, k0_pay40 (F := Ideal) k0_pay346 w a b e (ix2 ⟨512 + r.val, by omega⟩ c) = ((P (o + 384) - P (o + (256 + c.val) + 1) : ℝ) : EReal) := fun c => by
    have h := ts40_2 w a b e P G hP (o + 256) r c (by omega) (fun k => (hw ⟨256 + k.val, by omega⟩).trans (by rw [← Nat.add_assoc]))
    rw [show o + 256 + 128 = o + 384 by omega, show o + 256 + c.val + 1 = o + (256 + c.val) + 1 by omega] at h
    exact h
  have z2 : k0_pay40 (F := Ideal) k0_pay346 w a b e (ix2 ⟨512 + r.val, by omega⟩ 0) = ((P (o + 384) - (P (o + 256) + G (o + 256)) : ℝ) : EReal) := by
    rw [← hP]; exact m2 0
  have w2 : w (ix2 r 256) = ((G (o + 256) : ℝ) : EReal) := hw 256
  have m3 : ∀ c : Fin 128, k0_pay40 (F := Ideal) k0_pay346 w a b e (ix2 ⟨768 + r.val, by omega⟩ c) = ((P (o + 512) - P (o + (384 + c.val) + 1) : ℝ) : EReal) := fun c => by
    have h := ts40_3 w a b e P G hP (o + 384) r c (by omega) (fun k => (hw ⟨384 + k.val, by omega⟩).trans (by rw [← Nat.add_assoc]))
    rw [show o + 384 + 128 = o + 512 by omega, show o + 384 + c.val + 1 = o + (384 + c.val) + 1 by omega] at h
    exact h
  have z3 : k0_pay40 (F := Ideal) k0_pay346 w a b e (ix2 ⟨768 + r.val, by omega⟩ 0) = ((P (o + 512) - (P (o + 384) + G (o + 384)) : ℝ) : EReal) := by
    rw [← hP]; exact m3 0
  have w3 : w (ix2 r 384) = ((G (o + 384) : ℝ) : EReal) := hw 384
  have s2 : s (ix2 r ⟨256 + x.val, by omega⟩) = ((S (o + (256 + x.val)) : ℝ) : EReal) := hs ⟨256 + x.val, by omega⟩
  pointwise [k0_pay54, k0_pay53, k0_pay49, k0_pay48, k0_pay47, k0_pay45, k0_pay44, k0_pay42, k0_pay41, k0_pay32, k0_pay33, k0_pay34, k0_pay35]
  rw [dif_neg (by omega), dif_neg (by omega), dif_pos (by omega)]
  simp only [show 256 + x.val - 128 - 128 = x.val by omega, Fin.eta]
  simp only [hT, hC, s2, z0, w0, z1, w1, z2, w2, m2 x]
  simp only [← EReal.coe_add, ← EReal.coe_sub, Nat.add_zero, Nat.zero_add, Ideal.exp_coe]
  refine congrArg (fun y => ((Real.exp y : ℝ) : EReal)) ?_
  ring

theorem attI0_3
    (P G S : ℕ → ℝ) (hP : ∀ m, P (m + 1) = P m + G m) (o : ℕ) (t : ℝ) (r : Fin 256) (C T : FVec Ideal S256x1 .f32) (w s a b : FVec Ideal S256x512 .f32) (e : Ideal .f32)
    (hC : C (ix2 r 0) = ((P o : ℝ) : EReal))
    (hw : ∀ y : Fin 512, w (ix2 r y) = ((G (o + y.val) : ℝ) : EReal))
    (hT : T (ix2 r 0) = ((t : ℝ) : EReal)) (hs : ∀ y : Fin 512, s (ix2 r y) = ((S (o + y.val) : ℝ) : EReal)) (x : Fin 128) :
    k0_pay54 (F := Ideal) (k0_pay43 k0_pay346 T C w s a b e) (k0_pay46 k0_pay346 T C w s a b e) (k0_pay49 k0_pay346 T C w s a b e) (k0_pay52 k0_pay346 T C w s a b e) (ix2 r ⟨384 + x.val, by omega⟩) = ((Real.exp (S (o + (384 + x.val)) + t - P (o + (384 + x.val) + 1)) : ℝ) : EReal) := by
  have m0 : ∀ c : Fin 128, k0_pay40 (F := Ideal) k0_pay346 w a b e (ix2 ⟨r.val, by omega⟩ c) = ((P (o + 128) - P (o + (0 + c.val) + 1) : ℝ) : EReal) := fun c => by
    have h := ts40_0 w a b e P G hP (o + 0) r c (by omega) (fun k => (hw ⟨0 + k.val, by omega⟩).trans (by rw [← Nat.add_assoc]))
    rw [show o + 0 + 128 = o + 128 by omega, show o + 0 + c.val + 1 = o + (0 + c.val) + 1 by omega] at h
    exact h
  have z0 : k0_pay40 (F := Ideal) k0_pay346 w a b e (ix2 ⟨r.val, by omega⟩ 0) = ((P (o + 128) - (P (o + 0) + G (o + 0)) : ℝ) : EReal) := by
    rw [← hP]; exact m0 0
  have w0 : w (ix2 r 0) = ((G (o + 0) : ℝ) : EReal) := hw 0
  have m1 : ∀ c : Fin 128, k0_pay40 (F := Ideal) k0_pay346 w a b e (ix2 ⟨256 + r.val, by omega⟩ c) = ((P (o + 256) - P (o + (128 + c.val) + 1) : ℝ) : EReal) := fun c => by
    have h := ts40_1 w a b e P G hP (o + 128) r c (by omega) (fun k => (hw ⟨128 + k.val, by omega⟩).trans (by rw [← Nat.add_assoc]))
    rw [show o + 128 + 128 = o + 256 by omega, show o + 128 + c.val + 1 = o + (128 + c.val) + 1 by omega] at h
    exact h
  have z1 : k0_pay40 (F := Ideal) k0_pay346 w a b e (ix2 ⟨256 + r.val, by omega⟩ 0) = ((P (o + 256) - (P (o + 128) + G (o + 128)) : ℝ) : EReal) := by
    rw [← hP]; exact m1 0
  have w1 : w (ix2 r 128) = ((G (o + 128) : ℝ) : EReal) := hw 128
  have m2 : ∀ c : Fin 128, k0_pay40 (F := Ideal) k0_pay346 w a b e (ix2 ⟨512 + r.val, by omega⟩ c) = ((P (o + 384) - P (o + (256 + c.val) + 1) : ℝ) : EReal) := fun c => by
    have h := ts40_2 w a b e P G hP (o + 256) r c (by omega) (fun k => (hw ⟨256 + k.val, by omega⟩).trans (by rw [← Nat.add_assoc]))
    rw [show o + 256 + 128 = o + 384 by omega, show o + 256 + c.val + 1 = o + (256 + c.val) + 1 by omega] at h
    exact h
  have z2 : k0_pay40 (F := Ideal) k0_pay346 w a b e (ix2 ⟨512 + r.val, by omega⟩ 0) = ((P (o + 384) - (P (o + 256) + G (o + 256)) : ℝ) : EReal) := by
    rw [← hP]; exact m2 0
  have w2 : w (ix2 r 256) = ((G (o + 256) : ℝ) : EReal) := hw 256
  have m3 : ∀ c : Fin 128, k0_pay40 (F := Ideal) k0_pay346 w a b e (ix2 ⟨768 + r.val, by omega⟩ c) = ((P (o + 512) - P (o + (384 + c.val) + 1) : ℝ) : EReal) := fun c => by
    have h := ts40_3 w a b e P G hP (o + 384) r c (by omega) (fun k => (hw ⟨384 + k.val, by omega⟩).trans (by rw [← Nat.add_assoc]))
    rw [show o + 384 + 128 = o + 512 by omega, show o + 384 + c.val + 1 = o + (384 + c.val) + 1 by omega] at h
    exact h
  have z3 : k0_pay40 (F := Ideal) k0_pay346 w a b e (ix2 ⟨768 + r.val, by omega⟩ 0) = ((P (o + 512) - (P (o + 384) + G (o + 384)) : ℝ) : EReal) := by
    rw [← hP]; exact m3 0
  have w3 : w (ix2 r 384) = ((G (o + 384) : ℝ) : EReal) := hw 384
  have s3 : s (ix2 r ⟨384 + x.val, by omega⟩) = ((S (o + (384 + x.val)) : ℝ) : EReal) := hs ⟨384 + x.val, by omega⟩
  pointwise [k0_pay54, k0_pay53, k0_pay52, k0_pay51, k0_pay50, k0_pay48, k0_pay47, k0_pay45, k0_pay44, k0_pay42, k0_pay41, k0_pay32, k0_pay33, k0_pay34, k0_pay35]
  rw [dif_neg (by omega), dif_neg (by omega), dif_neg (by omega)]
  simp only [show 384 + x.val - 128 - 128 - 128 = x.val by omega, Fin.eta]
  simp only [hT, hC, s3, z0, w0, z1, w1, z2, w2, z3, w3, m3 x]
  simp only [← EReal.coe_add, ← EReal.coe_sub, Nat.add_zero, Nat.zero_add, Ideal.exp_coe]
  refine congrArg (fun y => ((Real.exp y : ℝ) : EReal)) ?_
  ring

/-- Below the diagonal, first head: the attention weight at an entry. -/
theorem attI0
    (P G S : ℕ → ℝ) (hP : ∀ m, P (m + 1) = P m + G m) (o : ℕ) (t : ℝ) (r : Fin 256) (C T : FVec Ideal S256x1 .f32) (w s a b : FVec Ideal S256x512 .f32) (e : Ideal .f32)
    (hC : C (ix2 r 0) = ((P o : ℝ) : EReal))
    (hw : ∀ y : Fin 512, w (ix2 r y) = ((G (o + y.val) : ℝ) : EReal))
    (hT : T (ix2 r 0) = ((t : ℝ) : EReal)) (hs : ∀ y : Fin 512, s (ix2 r y) = ((S (o + y.val) : ℝ) : EReal)) (y : Fin 512) :
    k0_pay54 (F := Ideal) (k0_pay43 k0_pay346 T C w s a b e) (k0_pay46 k0_pay346 T C w s a b e) (k0_pay49 k0_pay346 T C w s a b e) (k0_pay52 k0_pay346 T C w s a b e) (ix2 r y) = ((Real.exp (S (o + y.val) + t - P (o + y.val + 1)) : ℝ) : EReal) := by
  obtain ⟨n, x, rfl⟩ : ∃ (n : Fin 4) (x : Fin 128), y = ⟨128 * n.val + x.val, by omega⟩ := ⟨⟨y.val / 128, by omega⟩, ⟨y.val % 128, by omega⟩, Fin.ext (by simp only []; omega)⟩
  have h0 := attI0_0 P G S hP o t r C T w s a b e hC hw hT hs x
  have h1 := attI0_1 P G S hP o t r C T w s a b e hC hw hT hs x
  have h2 := attI0_2 P G S hP o t r C T w s a b e hC hw hT hs x
  have h3 := attI0_3 P G S hP o t r C T w s a b e hC hw hT hs x
  obtain ⟨n, hn⟩ := n
  obtain ⟨x, hx⟩ := x
  match n, hn with
  | 0, _ => simpa only [Nat.mul_zero, Nat.zero_add] using h0
  | 1, _ => exact h1
  | 2, _ => exact h2
  | 3, _ => exact h3

/-- Below the diagonal, second head: the running sum behind the tile. -/
theorem cumI1
    (P G S : ℕ → ℝ) (hP : ∀ m, P (m + 1) = P m + G m) (o : ℕ) (t : ℝ) (r : Fin 256) (C T : FVec Ideal S256x1 .f32) (w s a b : FVec Ideal S256x512 .f32) (e : Ideal .f32)
    (hC : C (ix2 r 0) = ((P o : ℝ) : EReal))
    (hw : ∀ y : Fin 512, k0_pay30 (F := Ideal) a b e (ix2 r y) = ((G (o + y.val) : ℝ) : EReal)) :
    k0_pay63 (F := Ideal) C (k0_pay36 a b e) (k0_pay37 a b e) (k0_pay38 a b e) (k0_pay39 a b e) (k0_pay40 k0_pay346 w a b e) (ix2 r 0) = ((P (o + 512) : ℝ) : EReal) := by
  have m0 : ∀ c : Fin 128, k0_pay40 (F := Ideal) k0_pay346 w a b e (ix2 ⟨1024 + r.val, by omega⟩ c) = ((P (o + 128) - P (o + (0 + c.val) + 1) : ℝ) : EReal) := fun c => by
    have h := ts40_4 w a b e P G hP (o + 0) r c (by omega) (fun k => (hw ⟨0 + k.val, by omega⟩).trans (by rw [← Nat.add_assoc]))
    rw [show o + 0 + 128 = o + 128 by omega, show o + 0 + c.val + 1 = o + (0 + c.val) + 1 by omega] at h
    exact h
  have z0 : k0_pay40 (F := Ideal) k0_pay346 w a b e (ix2 ⟨1024 + r.val, by omega⟩ 0) = ((P (o + 128) - (P (o + 0) + G (o + 0)) : ℝ) : EReal) := by
    rw [← hP]; exact m0 0
  have w0 : k0_pay30 (F := Ideal) a b e (ix2 r 0) = ((G (o + 0) : ℝ) : EReal) := hw 0
  have m1 : ∀ c : Fin 128, k0_pay40 (F := Ideal) k0_pay346 w a b e (ix2 ⟨1280 + r.val, by omega⟩ c) = ((P (o + 256) - P (o + (128 + c.val) + 1) : ℝ) : EReal) := fun c => by
    have h := ts40_5 w a b e P G hP (o + 128) r c (by omega) (fun k => (hw ⟨128 + k.val, by omega⟩).trans (by rw [← Nat.add_assoc]))
    rw [show o + 128 + 128 = o + 256 by omega, show o + 128 + c.val + 1 = o + (128 + c.val) + 1 by omega] at h
    exact h
  have z1 : k0_pay40 (F := Ideal) k0_pay346 w a b e (ix2 ⟨1280 + r.val, by omega⟩ 0) = ((P (o + 256) - (P (o + 128) + G (o + 128)) : ℝ) : EReal) := by
    rw [← hP]; exact m1 0
  have w1 : k0_pay30 (F := Ideal) a b e (ix2 r 128) = ((G (o + 128) : ℝ) : EReal) := hw 128
  have m2 : ∀ c : Fin 128, k0_pay40 (F := Ideal) k0_pay346 w a b e (ix2 ⟨1536 + r.val, by omega⟩ c) = ((P (o + 384) - P (o + (256 + c.val) + 1) : ℝ) : EReal) := fun c => by
    have h := ts40_6 w a b e P G hP (o + 256) r c (by omega) (fun k => (hw ⟨256 + k.val, by omega⟩).trans (by rw [← Nat.add_assoc]))
    rw [show o + 256 + 128 = o + 384 by omega, show o + 256 + c.val + 1 = o + (256 + c.val) + 1 by omega] at h
    exact h
  have z2 : k0_pay40 (F := Ideal) k0_pay346 w a b e (ix2 ⟨1536 + r.val, by omega⟩ 0) = ((P (o + 384) - (P (o + 256) + G (o + 256)) : ℝ) : EReal) := by
    rw [← hP]; exact m2 0
  have w2 : k0_pay30 (F := Ideal) a b e (ix2 r 256) = ((G (o + 256) : ℝ) : EReal) := hw 256
  have m3 : ∀ c : Fin 128, k0_pay40 (F := Ideal) k0_pay346 w a b e (ix2 ⟨1792 + r.val, by omega⟩ c) = ((P (o + 512) - P (o + (384 + c.val) + 1) : ℝ) : EReal) := fun c => by
    have h := ts40_7 w a b e P G hP (o + 384) r c (by omega) (fun k => (hw ⟨384 + k.val, by omega⟩).trans (by rw [← Nat.add_assoc]))
    rw [show o + 384 + 128 = o + 512 by omega, show o + 384 + c.val + 1 = o + (384 + c.val) + 1 by omega] at h
    exact h
  have z3 : k0_pay40 (F := Ideal) k0_pay346 w a b e (ix2 ⟨1792 + r.val, by omega⟩ 0) = ((P (o + 512) - (P (o + 384) + G (o + 384)) : ℝ) : EReal) := by
    rw [← hP]; exact m3 0
  have w3 : k0_pay30 (F := Ideal) a b e (ix2 r 384) = ((G (o + 384) : ℝ) : EReal) := hw 384
  pointwise [k0_pay63, k0_pay62, k0_pay61, k0_pay60, k0_pay59, k0_pay58, k0_pay57, k0_pay56, k0_pay36, k0_pay37, k0_pay38, k0_pay39]
  rw [hC, z0, w0, z1, w1, z2, w2, z3, w3]
  simp only [← EReal.coe_add, ← EReal.coe_sub, Nat.add_zero]
  exact congrArg _ (by ring)

theorem attI1_0
    (P G S : ℕ → ℝ) (hP : ∀ m, P (m + 1) = P m + G m) (o : ℕ) (t : ℝ) (r : Fin 256) (C T : FVec Ideal S256x1 .f32) (w s a b : FVec Ideal S256x512 .f32) (e : Ideal .f32)
    (hC : C (ix2 r 0) = ((P o : ℝ) : EReal))
    (hw : ∀ y : Fin 512, k0_pay30 (F := Ideal) a b e (ix2 r y) = ((G (o + y.val) : ℝ) : EReal))
    (hT : T (ix2 r 0) = ((t : ℝ) : EReal)) (hs : ∀ y : Fin 512, s (ix2 r y) = ((S (o + y.val) : ℝ) : EReal)) (x : Fin 128) :
    k0_pay65 (F := Ideal) T C s (k0_pay36 a b e) (k0_pay37 a b e) (k0_pay38 a b e) (k0_pay39 a b e) (k0_pay40 k0_pay346 w a b e) (ix2 r ⟨x.val, by omega⟩) = ((Real.exp (S (o + (0 + x.val)) + t - P (o + (0 + x.val) + 1)) : ℝ) : EReal) := by
  have m0 : ∀ c : Fin 128, k0_pay40 (F := Ideal) k0_pay346 w a b e (ix2 ⟨1024 + r.val, by omega⟩ c) = ((P (o + 128) - P (o + (0 + c.val) + 1) : ℝ) : EReal) := fun c => by
    have h := ts40_4 w a b e P G hP (o + 0) r c (by omega) (fun k => (hw ⟨0 + k.val, by omega⟩).trans (by rw [← Nat.add_assoc]))
    rw [show o + 0 + 128 = o + 128 by omega, show o + 0 + c.val + 1 = o + (0 + c.val) + 1 by omega] at h
    exact h
  have z0 : k0_pay40 (F := Ideal) k0_pay346 w a b e (ix2 ⟨1024 + r.val, by omega⟩ 0) = ((P (o + 128) - (P (o + 0) + G (o + 0)) : ℝ) : EReal) := by
    rw [← hP]; exact m0 0
  have w0 : k0_pay30 (F := Ideal) a b e (ix2 r 0) = ((G (o + 0) : ℝ) : EReal) := hw 0
  have m1 : ∀ c : Fin 128, k0_pay40 (F := Ideal) k0_pay346 w a b e (ix2 ⟨1280 + r.val, by omega⟩ c) = ((P (o + 256) - P (o + (128 + c.val) + 1) : ℝ) : EReal) := fun c => by
    have h := ts40_5 w a b e P G hP (o + 128) r c (by omega) (fun k => (hw ⟨128 + k.val, by omega⟩).trans (by rw [← Nat.add_assoc]))
    rw [show o + 128 + 128 = o + 256 by omega, show o + 128 + c.val + 1 = o + (128 + c.val) + 1 by omega] at h
    exact h
  have z1 : k0_pay40 (F := Ideal) k0_pay346 w a b e (ix2 ⟨1280 + r.val, by omega⟩ 0) = ((P (o + 256) - (P (o + 128) + G (o + 128)) : ℝ) : EReal) := by
    rw [← hP]; exact m1 0
  have w1 : k0_pay30 (F := Ideal) a b e (ix2 r 128) = ((G (o + 128) : ℝ) : EReal) := hw 128
  have m2 : ∀ c : Fin 128, k0_pay40 (F := Ideal) k0_pay346 w a b e (ix2 ⟨1536 + r.val, by omega⟩ c) = ((P (o + 384) - P (o + (256 + c.val) + 1) : ℝ) : EReal) := fun c => by
    have h := ts40_6 w a b e P G hP (o + 256) r c (by omega) (fun k => (hw ⟨256 + k.val, by omega⟩).trans (by rw [← Nat.add_assoc]))
    rw [show o + 256 + 128 = o + 384 by omega, show o + 256 + c.val + 1 = o + (256 + c.val) + 1 by omega] at h
    exact h
  have z2 : k0_pay40 (F := Ideal) k0_pay346 w a b e (ix2 ⟨1536 + r.val, by omega⟩ 0) = ((P (o + 384) - (P (o + 256) + G (o + 256)) : ℝ) : EReal) := by
    rw [← hP]; exact m2 0
  have w2 : k0_pay30 (F := Ideal) a b e (ix2 r 256) = ((G (o + 256) : ℝ) : EReal) := hw 256
  have m3 : ∀ c : Fin 128, k0_pay40 (F := Ideal) k0_pay346 w a b e (ix2 ⟨1792 + r.val, by omega⟩ c) = ((P (o + 512) - P (o + (384 + c.val) + 1) : ℝ) : EReal) := fun c => by
    have h := ts40_7 w a b e P G hP (o + 384) r c (by omega) (fun k => (hw ⟨384 + k.val, by omega⟩).trans (by rw [← Nat.add_assoc]))
    rw [show o + 384 + 128 = o + 512 by omega, show o + 384 + c.val + 1 = o + (384 + c.val) + 1 by omega] at h
    exact h
  have z3 : k0_pay40 (F := Ideal) k0_pay346 w a b e (ix2 ⟨1792 + r.val, by omega⟩ 0) = ((P (o + 512) - (P (o + 384) + G (o + 384)) : ℝ) : EReal) := by
    rw [← hP]; exact m3 0
  have w3 : k0_pay30 (F := Ideal) a b e (ix2 r 384) = ((G (o + 384) : ℝ) : EReal) := hw 384
  have s0 : s (ix2 r ⟨x.val, by omega⟩) = ((S (o + (0 + x.val)) : ℝ) : EReal) := (hs ⟨x.val, by omega⟩).trans (by rw [Nat.zero_add])
  pointwise [k0_pay65, k0_pay64, k0_pay63, k0_pay62, k0_pay61, k0_pay60, k0_pay59, k0_pay58, k0_pay57, k0_pay56, k0_pay36, k0_pay37, k0_pay38, k0_pay39]
  simp only [hT, hC, s0, z0, w0, m0 x]
  simp only [← EReal.coe_add, ← EReal.coe_sub, Nat.add_zero, Nat.zero_add, Ideal.exp_coe]
  refine congrArg (fun y => ((Real.exp y : ℝ) : EReal)) ?_
  ring

theorem attI1_1
    (P G S : ℕ → ℝ) (hP : ∀ m, P (m + 1) = P m + G m) (o : ℕ) (t : ℝ) (r : Fin 256) (C T : FVec Ideal S256x1 .f32) (w s a b : FVec Ideal S256x512 .f32) (e : Ideal .f32)
    (hC : C (ix2 r 0) = ((P o : ℝ) : EReal))
    (hw : ∀ y : Fin 512, k0_pay30 (F := Ideal) a b e (ix2 r y) = ((G (o + y.val) : ℝ) : EReal))
    (hT : T (ix2 r 0) = ((t : ℝ) : EReal)) (hs : ∀ y : Fin 512, s (ix2 r y) = ((S (o + y.val) : ℝ) : EReal)) (x : Fin 128) :
    k0_pay65 (F := Ideal) T C s (k0_pay36 a b e) (k0_pay37 a b e) (k0_pay38 a b e) (k0_pay39 a b e) (k0_pay40 k0_pay346 w a b e) (ix2 r ⟨128 + x.val, by omega⟩) = ((Real.exp (S (o + (128 + x.val)) + t - P (o + (128 + x.val) + 1)) : ℝ) : EReal) := by
  have m0 : ∀ c : Fin 128, k0_pay40 (F := Ideal) k0_pay346 w a b e (ix2 ⟨1024 + r.val, by omega⟩ c) = ((P (o + 128) - P (o + (0 + c.val) + 1) : ℝ) : EReal) := fun c => by
    have h := ts40_4 w a b e P G hP (o + 0) r c (by omega) (fun k => (hw ⟨0 + k.val, by omega⟩).trans (by rw [← Nat.add_assoc]))
    rw [show o + 0 + 128 = o + 128 by omega, show o + 0 + c.val + 1 = o + (0 + c.val) + 1 by omega] at h
    exact h
  have z0 : k0_pay40 (F := Ideal) k0_pay346 w a b e (ix2 ⟨1024 + r.val, by omega⟩ 0) = ((P (o + 128) - (P (o + 0) + G (o + 0)) : ℝ) : EReal) := by
    rw [← hP]; exact m0 0
  have w0 : k0_pay30 (F := Ideal) a b e (ix2 r 0) = ((G (o + 0) : ℝ) : EReal) := hw 0
  have m1 : ∀ c : Fin 128, k0_pay40 (F := Ideal) k0_pay346 w a b e (ix2 ⟨1280 + r.val, by omega⟩ c) = ((P (o + 256) - P (o + (128 + c.val) + 1) : ℝ) : EReal) := fun c => by
    have h := ts40_5 w a b e P G hP (o + 128) r c (by omega) (fun k => (hw ⟨128 + k.val, by omega⟩).trans (by rw [← Nat.add_assoc]))
    rw [show o + 128 + 128 = o + 256 by omega, show o + 128 + c.val + 1 = o + (128 + c.val) + 1 by omega] at h
    exact h
  have z1 : k0_pay40 (F := Ideal) k0_pay346 w a b e (ix2 ⟨1280 + r.val, by omega⟩ 0) = ((P (o + 256) - (P (o + 128) + G (o + 128)) : ℝ) : EReal) := by
    rw [← hP]; exact m1 0
  have w1 : k0_pay30 (F := Ideal) a b e (ix2 r 128) = ((G (o + 128) : ℝ) : EReal) := hw 128
  have m2 : ∀ c : Fin 128, k0_pay40 (F := Ideal) k0_pay346 w a b e (ix2 ⟨1536 + r.val, by omega⟩ c) = ((P (o + 384) - P (o + (256 + c.val) + 1) : ℝ) : EReal) := fun c => by
    have h := ts40_6 w a b e P G hP (o + 256) r c (by omega) (fun k => (hw ⟨256 + k.val, by omega⟩).trans (by rw [← Nat.add_assoc]))
    rw [show o + 256 + 128 = o + 384 by omega, show o + 256 + c.val + 1 = o + (256 + c.val) + 1 by omega] at h
    exact h
  have z2 : k0_pay40 (F := Ideal) k0_pay346 w a b e (ix2 ⟨1536 + r.val, by omega⟩ 0) = ((P (o + 384) - (P (o + 256) + G (o + 256)) : ℝ) : EReal) := by
    rw [← hP]; exact m2 0
  have w2 : k0_pay30 (F := Ideal) a b e (ix2 r 256) = ((G (o + 256) : ℝ) : EReal) := hw 256
  have m3 : ∀ c : Fin 128, k0_pay40 (F := Ideal) k0_pay346 w a b e (ix2 ⟨1792 + r.val, by omega⟩ c) = ((P (o + 512) - P (o + (384 + c.val) + 1) : ℝ) : EReal) := fun c => by
    have h := ts40_7 w a b e P G hP (o + 384) r c (by omega) (fun k => (hw ⟨384 + k.val, by omega⟩).trans (by rw [← Nat.add_assoc]))
    rw [show o + 384 + 128 = o + 512 by omega, show o + 384 + c.val + 1 = o + (384 + c.val) + 1 by omega] at h
    exact h
  have z3 : k0_pay40 (F := Ideal) k0_pay346 w a b e (ix2 ⟨1792 + r.val, by omega⟩ 0) = ((P (o + 512) - (P (o + 384) + G (o + 384)) : ℝ) : EReal) := by
    rw [← hP]; exact m3 0
  have w3 : k0_pay30 (F := Ideal) a b e (ix2 r 384) = ((G (o + 384) : ℝ) : EReal) := hw 384
  have s1 : s (ix2 r ⟨128 + x.val, by omega⟩) = ((S (o + (128 + x.val)) : ℝ) : EReal) := hs ⟨128 + x.val, by omega⟩
  pointwise [k0_pay65, k0_pay64, k0_pay63, k0_pay62, k0_pay61, k0_pay60, k0_pay59, k0_pay58, k0_pay57, k0_pay56, k0_pay36, k0_pay37, k0_pay38, k0_pay39]
  simp only [hT, hC, s1, z0, w0, z1, w1, m1 x]
  simp only [← EReal.coe_add, ← EReal.coe_sub, Nat.add_zero, Nat.zero_add, Ideal.exp_coe]
  refine congrArg (fun y => ((Real.exp y : ℝ) : EReal)) ?_
  ring

theorem attI1_2
    (P G S : ℕ → ℝ) (hP : ∀ m, P (m + 1) = P m + G m) (o : ℕ) (t : ℝ) (r : Fin 256) (C T : FVec Ideal S256x1 .f32) (w s a b : FVec Ideal S256x512 .f32) (e : Ideal .f32)
    (hC : C (ix2 r 0) = ((P o : ℝ) : EReal))
    (hw : ∀ y : Fin 512, k0_pay30 (F := Ideal) a b e (ix2 r y) = ((G (o + y.val) : ℝ) : EReal))
    (hT : T (ix2 r 0) = ((t : ℝ) : EReal)) (hs : ∀ y : Fin 512, s (ix2 r y) = ((S (o + y.val) : ℝ) : EReal)) (x : Fin 128) :
    k0_pay65 (F := Ideal) T C s (k0_pay36 a b e) (k0_pay37 a b e) (k0_pay38 a b e) (k0_pay39 a b e) (k0_pay40 k0_pay346 w a b e) (ix2 r ⟨256 + x.val, by omega⟩) = ((Real.exp (S (o + (256 + x.val)) + t - P (o + (256 + x.val) + 1)) : ℝ) : EReal) := by
  have m0 : ∀ c : Fin 128, k0_pay40 (F := Ideal) k0_pay346 w a b e (ix2 ⟨1024 + r.val, by omega⟩ c) = ((P (o + 128) - P (o + (0 + c.val) + 1) : ℝ) : EReal) := fun c => by
    have h := ts40_4 w a b e P G hP (o + 0) r c (by omega) (fun k => (hw ⟨0 + k.val, by omega⟩).trans (by rw [← Nat.add_assoc]))
    rw [show o + 0 + 128 = o + 128 by omega, show o + 0 + c.val + 1 = o + (0 + c.val) + 1 by omega] at h
    exact h
  have z0 : k0_pay40 (F := Ideal) k0_pay346 w a b e (ix2 ⟨1024 + r.val, by omega⟩ 0) = ((P (o + 128) - (P (o + 0) + G (o + 0)) : ℝ) : EReal) := by
    rw [← hP]; exact m0 0
  have w0 : k0_pay30 (F := Ideal) a b e (ix2 r 0) = ((G (o + 0) : ℝ) : EReal) := hw 0
  have m1 : ∀ c : Fin 128, k0_pay40 (F := Ideal) k0_pay346 w a b e (ix2 ⟨1280 + r.val, by omega⟩ c) = ((P (o + 256) - P (o + (128 + c.val) + 1) : ℝ) : EReal) := fun c => by
    have h := ts40_5 w a b e P G hP (o + 128) r c (by omega) (fun k => (hw ⟨128 + k.val, by omega⟩).trans (by rw [← Nat.add_assoc]))
    rw [show o + 128 + 128 = o + 256 by omega, show o + 128 + c.val + 1 = o + (128 + c.val) + 1 by omega] at h
    exact h
  have z1 : k0_pay40 (F := Ideal) k0_pay346 w a b e (ix2 ⟨1280 + r.val, by omega⟩ 0) = ((P (o + 256) - (P (o + 128) + G (o + 128)) : ℝ) : EReal) := by
    rw [← hP]; exact m1 0
  have w1 : k0_pay30 (F := Ideal) a b e (ix2 r 128) = ((G (o + 128) : ℝ) : EReal) := hw 128
  have m2 : ∀ c : Fin 128, k0_pay40 (F := Ideal) k0_pay346 w a b e (ix2 ⟨1536 + r.val, by omega⟩ c) = ((P (o + 384) - P (o + (256 + c.val) + 1) : ℝ) : EReal) := fun c => by
    have h := ts40_6 w a b e P G hP (o + 256) r c (by omega) (fun k => (hw ⟨256 + k.val, by omega⟩).trans (by rw [← Nat.add_assoc]))
    rw [show o + 256 + 128 = o + 384 by omega, show o + 256 + c.val + 1 = o + (256 + c.val) + 1 by omega] at h
    exact h
  have z2 : k0_pay40 (F := Ideal) k0_pay346 w a b e (ix2 ⟨1536 + r.val, by omega⟩ 0) = ((P (o + 384) - (P (o + 256) + G (o + 256)) : ℝ) : EReal) := by
    rw [← hP]; exact m2 0
  have w2 : k0_pay30 (F := Ideal) a b e (ix2 r 256) = ((G (o + 256) : ℝ) : EReal) := hw 256
  have m3 : ∀ c : Fin 128, k0_pay40 (F := Ideal) k0_pay346 w a b e (ix2 ⟨1792 + r.val, by omega⟩ c) = ((P (o + 512) - P (o + (384 + c.val) + 1) : ℝ) : EReal) := fun c => by
    have h := ts40_7 w a b e P G hP (o + 384) r c (by omega) (fun k => (hw ⟨384 + k.val, by omega⟩).trans (by rw [← Nat.add_assoc]))
    rw [show o + 384 + 128 = o + 512 by omega, show o + 384 + c.val + 1 = o + (384 + c.val) + 1 by omega] at h
    exact h
  have z3 : k0_pay40 (F := Ideal) k0_pay346 w a b e (ix2 ⟨1792 + r.val, by omega⟩ 0) = ((P (o + 512) - (P (o + 384) + G (o + 384)) : ℝ) : EReal) := by
    rw [← hP]; exact m3 0
  have w3 : k0_pay30 (F := Ideal) a b e (ix2 r 384) = ((G (o + 384) : ℝ) : EReal) := hw 384
  have s2 : s (ix2 r ⟨256 + x.val, by omega⟩) = ((S (o + (256 + x.val)) : ℝ) : EReal) := hs ⟨256 + x.val, by omega⟩
  pointwise [k0_pay65, k0_pay64, k0_pay63, k0_pay62, k0_pay61, k0_pay60, k0_pay59, k0_pay58, k0_pay57, k0_pay56, k0_pay36, k0_pay37, k0_pay38, k0_pay39]
  rw [dif_neg (by omega), dif_neg (by omega), dif_pos (by omega)]
  simp only [show 256 + x.val - 128 - 128 = x.val by omega, Fin.eta]
  simp only [hT, hC, s2, z0, w0, z1, w1, z2, w2, m2 x]
  simp only [← EReal.coe_add, ← EReal.coe_sub, Nat.add_zero, Nat.zero_add, Ideal.exp_coe]
  refine congrArg (fun y => ((Real.exp y : ℝ) : EReal)) ?_
  ring

theorem attI1_3
    (P G S : ℕ → ℝ) (hP : ∀ m, P (m + 1) = P m + G m) (o : ℕ) (t : ℝ) (r : Fin 256) (C T : FVec Ideal S256x1 .f32) (w s a b : FVec Ideal S256x512 .f32) (e : Ideal .f32)
    (hC : C (ix2 r 0) = ((P o : ℝ) : EReal))
    (hw : ∀ y : Fin 512, k0_pay30 (F := Ideal) a b e (ix2 r y) = ((G (o + y.val) : ℝ) : EReal))
    (hT : T (ix2 r 0) = ((t : ℝ) : EReal)) (hs : ∀ y : Fin 512, s (ix2 r y) = ((S (o + y.val) : ℝ) : EReal)) (x : Fin 128) :
    k0_pay65 (F := Ideal) T C s (k0_pay36 a b e) (k0_pay37 a b e) (k0_pay38 a b e) (k0_pay39 a b e) (k0_pay40 k0_pay346 w a b e) (ix2 r ⟨384 + x.val, by omega⟩) = ((Real.exp (S (o + (384 + x.val)) + t - P (o + (384 + x.val) + 1)) : ℝ) : EReal) := by
  have m0 : ∀ c : Fin 128, k0_pay40 (F := Ideal) k0_pay346 w a b e (ix2 ⟨1024 + r.val, by omega⟩ c) = ((P (o + 128) - P (o + (0 + c.val) + 1) : ℝ) : EReal) := fun c => by
    have h := ts40_4 w a b e P G hP (o + 0) r c (by omega) (fun k => (hw ⟨0 + k.val, by omega⟩).trans (by rw [← Nat.add_assoc]))
    rw [show o + 0 + 128 = o + 128 by omega, show o + 0 + c.val + 1 = o + (0 + c.val) + 1 by omega] at h
    exact h
  have z0 : k0_pay40 (F := Ideal) k0_pay346 w a b e (ix2 ⟨1024 + r.val, by omega⟩ 0) = ((P (o + 128) - (P (o + 0) + G (o + 0)) : ℝ) : EReal) := by
    rw [← hP]; exact m0 0
  have w0 : k0_pay30 (F := Ideal) a b e (ix2 r 0) = ((G (o + 0) : ℝ) : EReal) := hw 0
  have m1 : ∀ c : Fin 128, k0_pay40 (F := Ideal) k0_pay346 w a b e (ix2 ⟨1280 + r.val, by omega⟩ c) = ((P (o + 256) - P (o + (128 + c.val) + 1) : ℝ) : EReal) := fun c => by
    have h := ts40_5 w a b e P G hP (o + 128) r c (by omega) (fun k => (hw ⟨128 + k.val, by omega⟩).trans (by rw [← Nat.add_assoc]))
    rw [show o + 128 + 128 = o + 256 by omega, show o + 128 + c.val + 1 = o + (128 + c.val) + 1 by omega] at h
    exact h
  have z1 : k0_pay40 (F := Ideal) k0_pay346 w a b e (ix2 ⟨1280 + r.val, by omega⟩ 0) = ((P (o + 256) - (P (o + 128) + G (o + 128)) : ℝ) : EReal) := by
    rw [← hP]; exact m1 0
  have w1 : k0_pay30 (F := Ideal) a b e (ix2 r 128) = ((G (o + 128) : ℝ) : EReal) := hw 128
  have m2 : ∀ c : Fin 128, k0_pay40 (F := Ideal) k0_pay346 w a b e (ix2 ⟨1536 + r.val, by omega⟩ c) = ((P (o + 384) - P (o + (256 + c.val) + 1) : ℝ) : EReal) := fun c => by
    have h := ts40_6 w a b e P G hP (o + 256) r c (by omega) (fun k => (hw ⟨256 + k.val, by omega⟩).trans (by rw [← Nat.add_assoc]))
    rw [show o + 256 + 128 = o + 384 by omega, show o + 256 + c.val + 1 = o + (256 + c.val) + 1 by omega] at h
    exact h
  have z2 : k0_pay40 (F := Ideal) k0_pay346 w a b e (ix2 ⟨1536 + r.val, by omega⟩ 0) = ((P (o + 384) - (P (o + 256) + G (o + 256)) : ℝ) : EReal) := by
    rw [← hP]; exact m2 0
  have w2 : k0_pay30 (F := Ideal) a b e (ix2 r 256) = ((G (o + 256) : ℝ) : EReal) := hw 256
  have m3 : ∀ c : Fin 128, k0_pay40 (F := Ideal) k0_pay346 w a b e (ix2 ⟨1792 + r.val, by omega⟩ c) = ((P (o + 512) - P (o + (384 + c.val) + 1) : ℝ) : EReal) := fun c => by
    have h := ts40_7 w a b e P G hP (o + 384) r c (by omega) (fun k => (hw ⟨384 + k.val, by omega⟩).trans (by rw [← Nat.add_assoc]))
    rw [show o + 384 + 128 = o + 512 by omega, show o + 384 + c.val + 1 = o + (384 + c.val) + 1 by omega] at h
    exact h
  have z3 : k0_pay40 (F := Ideal) k0_pay346 w a b e (ix2 ⟨1792 + r.val, by omega⟩ 0) = ((P (o + 512) - (P (o + 384) + G (o + 384)) : ℝ) : EReal) := by
    rw [← hP]; exact m3 0
  have w3 : k0_pay30 (F := Ideal) a b e (ix2 r 384) = ((G (o + 384) : ℝ) : EReal) := hw 384
  have s3 : s (ix2 r ⟨384 + x.val, by omega⟩) = ((S (o + (384 + x.val)) : ℝ) : EReal) := hs ⟨384 + x.val, by omega⟩
  pointwise [k0_pay65, k0_pay64, k0_pay63, k0_pay62, k0_pay61, k0_pay60, k0_pay59, k0_pay58, k0_pay57, k0_pay56, k0_pay36, k0_pay37, k0_pay38, k0_pay39]
  rw [dif_neg (by omega), dif_neg (by omega), dif_neg (by omega)]
  simp only [show 384 + x.val - 128 - 128 - 128 = x.val by omega, Fin.eta]
  simp only [hT, hC, s3, z0, w0, z1, w1, z2, w2, z3, w3, m3 x]
  simp only [← EReal.coe_add, ← EReal.coe_sub, Nat.add_zero, Nat.zero_add, Ideal.exp_coe]
  refine congrArg (fun y => ((Real.exp y : ℝ) : EReal)) ?_
  ring

/-- Below the diagonal, second head: the attention weight at an entry. -/
theorem attI1
    (P G S : ℕ → ℝ) (hP : ∀ m, P (m + 1) = P m + G m) (o : ℕ) (t : ℝ) (r : Fin 256) (C T : FVec Ideal S256x1 .f32) (w s a b : FVec Ideal S256x512 .f32) (e : Ideal .f32)
    (hC : C (ix2 r 0) = ((P o : ℝ) : EReal))
    (hw : ∀ y : Fin 512, k0_pay30 (F := Ideal) a b e (ix2 r y) = ((G (o + y.val) : ℝ) : EReal))
    (hT : T (ix2 r 0) = ((t : ℝ) : EReal)) (hs : ∀ y : Fin 512, s (ix2 r y) = ((S (o + y.val) : ℝ) : EReal)) (y : Fin 512) :
    k0_pay65 (F := Ideal) T C s (k0_pay36 a b e) (k0_pay37 a b e) (k0_pay38 a b e) (k0_pay39 a b e) (k0_pay40 k0_pay346 w a b e) (ix2 r y) = ((Real.exp (S (o + y.val) + t - P (o + y.val + 1)) : ℝ) : EReal) := by
  obtain ⟨n, x, rfl⟩ : ∃ (n : Fin 4) (x : Fin 128), y = ⟨128 * n.val + x.val, by omega⟩ := ⟨⟨y.val / 128, by omega⟩, ⟨y.val % 128, by omega⟩, Fin.ext (by simp only []; omega)⟩
  have h0 := attI1_0 P G S hP o t r C T w s a b e hC hw hT hs x
  have h1 := attI1_1 P G S hP o t r C T w s a b e hC hw hT hs x
  have h2 := attI1_2 P G S hP o t r C T w s a b e hC hw hT hs x
  have h3 := attI1_3 P G S hP o t r C T w s a b e hC hw hT hs x
  obtain ⟨n, hn⟩ := n
  obtain ⟨x, hx⟩ := x
  match n, hn with
  | 0, _ => simpa only [Nat.mul_zero, Nat.zero_add] using h0
  | 1, _ => exact h1
  | 2, _ => exact h2
  | 3, _ => exact h3

theorem attW0_0
    (P G S : ℕ → ℝ) (hP : ∀ m, P (m + 1) = P m + G m) (o : ℕ) (t : ℝ) (r : Fin 256) (mk : IVec S256x512 1) (C T : FVec Ideal S256x1 .f32) (w s a b : FVec Ideal S256x512 .f32)
    (hC : C (ix2 r 0) = ((P o : ℝ) : EReal))
    (hw : ∀ y : Fin 512, w (ix2 r y) = ((G (o + y.val) : ℝ) : EReal))
    (hT : T (ix2 r 0) = ((t : ℝ) : EReal)) (hs : ∀ y : Fin 512, s (ix2 r y) = ((S (o + y.val) : ℝ) : EReal))
    (δ : ℕ) (hmk : ∀ y : Fin 512, mk (ix2 r y) = if y.val < r.val + δ then 1#1 else 0#1) (x : Fin 128) :
    k0_pay273 (F := Ideal) T mk s (k0_pay263 k0_pay346 T C mk w s a b) (k0_pay266 k0_pay346 T C mk w s a b) (k0_pay269 k0_pay346 T C mk w s a b) (k0_pay270 k0_pay346 mk w a b) (k0_pay271 k0_pay346 C mk w a b) (ix2 r ⟨x.val, by omega⟩) = ((if 0 + x.val < r.val + δ then Real.exp (S (o + (0 + x.val)) + t - P (o + (0 + x.val) + 1)) else 0 : ℝ) : EReal) := by
  have m0 : ∀ c : Fin 128, k0_pay260 (F := Ideal) k0_pay346 mk w a b (ix2 ⟨r.val, by omega⟩ c) = ((P (o + 128) - P (o + (0 + c.val) + 1) : ℝ) : EReal) := fun c => by
    have h := ts260_0 mk w a b P G hP (o + 0) r c (by omega) (fun k => (hw ⟨0 + k.val, by omega⟩).trans (by rw [← Nat.add_assoc]))
    rw [show o + 0 + 128 = o + 128 by omega, show o + 0 + c.val + 1 = o + (0 + c.val) + 1 by omega] at h
    exact h
  have z0 : k0_pay260 (F := Ideal) k0_pay346 mk w a b (ix2 ⟨r.val, by omega⟩ 0) = ((P (o + 128) - (P (o + 0) + G (o + 0)) : ℝ) : EReal) := by
    rw [← hP]; exact m0 0
  have w0 : w (ix2 r 0) = ((G (o + 0) : ℝ) : EReal) := hw 0
  have m1 : ∀ c : Fin 128, k0_pay260 (F := Ideal) k0_pay346 mk w a b (ix2 ⟨256 + r.val, by omega⟩ c) = ((P (o + 256) - P (o + (128 + c.val) + 1) : ℝ) : EReal) := fun c => by
    have h := ts260_1 mk w a b P G hP (o + 128) r c (by omega) (fun k => (hw ⟨128 + k.val, by omega⟩).trans (by rw [← Nat.add_assoc]))
    rw [show o + 128 + 128 = o + 256 by omega, show o + 128 + c.val + 1 = o + (128 + c.val) + 1 by omega] at h
    exact h
  have z1 : k0_pay260 (F := Ideal) k0_pay346 mk w a b (ix2 ⟨256 + r.val, by omega⟩ 0) = ((P (o + 256) - (P (o + 128) + G (o + 128)) : ℝ) : EReal) := by
    rw [← hP]; exact m1 0
  have w1 : w (ix2 r 128) = ((G (o + 128) : ℝ) : EReal) := hw 128
  have m2 : ∀ c : Fin 128, k0_pay260 (F := Ideal) k0_pay346 mk w a b (ix2 ⟨512 + r.val, by omega⟩ c) = ((P (o + 384) - P (o + (256 + c.val) + 1) : ℝ) : EReal) := fun c => by
    have h := ts260_2 mk w a b P G hP (o + 256) r c (by omega) (fun k => (hw ⟨256 + k.val, by omega⟩).trans (by rw [← Nat.add_assoc]))
    rw [show o + 256 + 128 = o + 384 by omega, show o + 256 + c.val + 1 = o + (256 + c.val) + 1 by omega] at h
    exact h
  have z2 : k0_pay260 (F := Ideal) k0_pay346 mk w a b (ix2 ⟨512 + r.val, by omega⟩ 0) = ((P (o + 384) - (P (o + 256) + G (o + 256)) : ℝ) : EReal) := by
    rw [← hP]; exact m2 0
  have w2 : w (ix2 r 256) = ((G (o + 256) : ℝ) : EReal) := hw 256
  have m3 : ∀ c : Fin 128, k0_pay260 (F := Ideal) k0_pay346 mk w a b (ix2 ⟨768 + r.val, by omega⟩ c) = ((P (o + 512) - P (o + (384 + c.val) + 1) : ℝ) : EReal) := fun c => by
    have h := ts260_3 mk w a b P G hP (o + 384) r c (by omega) (fun k => (hw ⟨384 + k.val, by omega⟩).trans (by rw [← Nat.add_assoc]))
    rw [show o + 384 + 128 = o + 512 by omega, show o + 384 + c.val + 1 = o + (384 + c.val) + 1 by omega] at h
    exact h
  have z3 : k0_pay260 (F := Ideal) k0_pay346 mk w a b (ix2 ⟨768 + r.val, by omega⟩ 0) = ((P (o + 512) - (P (o + 384) + G (o + 384)) : ℝ) : EReal) := by
    rw [← hP]; exact m3 0
  have w3 : w (ix2 r 384) = ((G (o + 384) : ℝ) : EReal) := hw 384
  have s0 : s (ix2 r ⟨x.val, by omega⟩) = ((S (o + (0 + x.val)) : ℝ) : EReal) := (hs ⟨x.val, by omega⟩).trans (by rw [Nat.zero_add])
  have k0 : mk (ix2 r ⟨x.val, by omega⟩) = if 0 + x.val < r.val + δ then 1#1 else 0#1 := (hmk ⟨x.val, by omega⟩).trans (by rw [Nat.zero_add])
  pointwise [k0_pay273, k0_pay272, k0_pay263, k0_pay262, k0_pay261, k0_pay252, k0_pay253, k0_pay254, k0_pay255]
  simp only [hT, hC, s0, k0, z0, w0, m0 x]
  simp only [← EReal.coe_add, ← EReal.coe_sub, Nat.add_zero, Nat.zero_add, Ideal.exp_coe]
  split
  · refine Eq.trans (rfl : _ = ((_ : ℝ) : EReal)) (congrArg (fun y => ((Real.exp y : ℝ) : EReal)) ?_)
    ring
  · rfl

theorem attW0_1
    (P G S : ℕ → ℝ) (hP : ∀ m, P (m + 1) = P m + G m) (o : ℕ) (t : ℝ) (r : Fin 256) (mk : IVec S256x512 1) (C T : FVec Ideal S256x1 .f32) (w s a b : FVec Ideal S256x512 .f32)
    (hC : C (ix2 r 0) = ((P o : ℝ) : EReal))
    (hw : ∀ y : Fin 512, w (ix2 r y) = ((G (o + y.val) : ℝ) : EReal))
    (hT : T (ix2 r 0) = ((t : ℝ) : EReal)) (hs : ∀ y : Fin 512, s (ix2 r y) = ((S (o + y.val) : ℝ) : EReal))
    (δ : ℕ) (hmk : ∀ y : Fin 512, mk (ix2 r y) = if y.val < r.val + δ then 1#1 else 0#1) (x : Fin 128) :
    k0_pay273 (F := Ideal) T mk s (k0_pay263 k0_pay346 T C mk w s a b) (k0_pay266 k0_pay346 T C mk w s a b) (k0_pay269 k0_pay346 T C mk w s a b) (k0_pay270 k0_pay346 mk w a b) (k0_pay271 k0_pay346 C mk w a b) (ix2 r ⟨128 + x.val, by omega⟩) = ((if 128 + x.val < r.val + δ then Real.exp (S (o + (128 + x.val)) + t - P (o + (128 + x.val) + 1)) else 0 : ℝ) : EReal) := by
  have m0 : ∀ c : Fin 128, k0_pay260 (F := Ideal) k0_pay346 mk w a b (ix2 ⟨r.val, by omega⟩ c) = ((P (o + 128) - P (o + (0 + c.val) + 1) : ℝ) : EReal) := fun c => by
    have h := ts260_0 mk w a b P G hP (o + 0) r c (by omega) (fun k => (hw ⟨0 + k.val, by omega⟩).trans (by rw [← Nat.add_assoc]))
    rw [show o + 0 + 128 = o + 128 by omega, show o + 0 + c.val + 1 = o + (0 + c.val) + 1 by omega] at h
    exact h
  have z0 : k0_pay260 (F := Ideal) k0_pay346 mk w a b (ix2 ⟨r.val, by omega⟩ 0) = ((P (o + 128) - (P (o + 0) + G (o + 0)) : ℝ) : EReal) := by
    rw [← hP]; exact m0 0
  have w0 : w (ix2 r 0) = ((G (o + 0) : ℝ) : EReal) := hw 0
  have m1 : ∀ c : Fin 128, k0_pay260 (F := Ideal) k0_pay346 mk w a b (ix2 ⟨256 + r.val, by omega⟩ c) = ((P (o + 256) - P (o + (128 + c.val) + 1) : ℝ) : EReal) := fun c => by
    have h := ts260_1 mk w a b P G hP (o + 128) r c (by omega) (fun k => (hw ⟨128 + k.val, by omega⟩).trans (by rw [← Nat.add_assoc]))
    rw [show o + 128 + 128 = o + 256 by omega, show o + 128 + c.val + 1 = o + (128 + c.val) + 1 by omega] at h
    exact h
  have z1 : k0_pay260 (F := Ideal) k0_pay346 mk w a b (ix2 ⟨256 + r.val, by omega⟩ 0) = ((P (o + 256) - (P (o + 128) + G (o + 128)) : ℝ) : EReal) := by
    rw [← hP]; exact m1 0
  have w1 : w (ix2 r 128) = ((G (o + 128) : ℝ) : EReal) := hw 128
  have m2 : ∀ c : Fin 128, k0_pay260 (F := Ideal) k0_pay346 mk w a b (ix2 ⟨512 + r.val, by omega⟩ c) = ((P (o + 384) - P (o + (256 + c.val) + 1) : ℝ) : EReal) := fun c => by
    have h := ts260_2 mk w a b P G hP (o + 256) r c (by omega) (fun k => (hw ⟨256 + k.val, by omega⟩).trans (by rw [← Nat.add_assoc]))
    rw [show o + 256 + 128 = o + 384 by omega, show o + 256 + c.val + 1 = o + (256 + c.val) + 1 by omega] at h
    exact h
  have z2 : k0_pay260 (F := Ideal) k0_pay346 mk w a b (ix2 ⟨512 + r.val, by omega⟩ 0) = ((P (o + 384) - (P (o + 256) + G (o + 256)) : ℝ) : EReal) := by
    rw [← hP]; exact m2 0
  have w2 : w (ix2 r 256) = ((G (o + 256) : ℝ) : EReal) := hw 256
  have m3 : ∀ c : Fin 128, k0_pay260 (F := Ideal) k0_pay346 mk w a b (ix2 ⟨768 + r.val, by omega⟩ c) = ((P (o + 512) - P (o + (384 + c.val) + 1) : ℝ) : EReal) := fun c => by
    have h := ts260_3 mk w a b P G hP (o + 384) r c (by omega) (fun k => (hw ⟨384 + k.val, by omega⟩).trans (by rw [← Nat.add_assoc]))
    rw [show o + 384 + 128 = o + 512 by omega, show o + 384 + c.val + 1 = o + (384 + c.val) + 1 by omega] at h
    exact h
  have z3 : k0_pay260 (F := Ideal) k0_pay346 mk w a b (ix2 ⟨768 + r.val, by omega⟩ 0) = ((P (o + 512) - (P (o + 384) + G (o + 384)) : ℝ) : EReal) := by
    rw [← hP]; exact m3 0
  have w3 : w (ix2 r 384) = ((G (o + 384) : ℝ) : EReal) := hw 384
  have s1 : s (ix2 r ⟨128 + x.val, by omega⟩) = ((S (o + (128 + x.val)) : ℝ) : EReal) := hs ⟨128 + x.val, by omega⟩
  have k1 : mk (ix2 r ⟨128 + x.val, by omega⟩) = if 128 + x.val < r.val + δ then 1#1 else 0#1 := hmk ⟨128 + x.val, by omega⟩
  pointwise [k0_pay273, k0_pay272, k0_pay266, k0_pay265, k0_pay264, k0_pay262, k0_pay261, k0_pay252, k0_pay253, k0_pay254, k0_pay255]
  simp only [hT, hC, s1, k1, z0, w0, z1, w1, m1 x]
  simp only [← EReal.coe_add, ← EReal.coe_sub, Nat.add_zero, Nat.zero_add, Ideal.exp_coe]
  split
  · refine Eq.trans (rfl : _ = ((_ : ℝ) : EReal)) (congrArg (fun y => ((Real.exp y : ℝ) : EReal)) ?_)
    ring
  · rfl

theorem attW0_2
    (P G S : ℕ → ℝ) (hP : ∀ m, P (m + 1) = P m + G m) (o : ℕ) (t : ℝ) (r : Fin 256) (mk : IVec S256x512 1) (C T : FVec Ideal S256x1 .f32) (w s a b : FVec Ideal S256x512 .f32)
    (hC : C (ix2 r 0) = ((P o : ℝ) : EReal))
    (hw : ∀ y : Fin 512, w (ix2 r y) = ((G (o + y.val) : ℝ) : EReal))
    (hT : T (ix2 r 0) = ((t : ℝ) : EReal)) (hs : ∀ y : Fin 512, s (ix2 r y) = ((S (o + y.val) : ℝ) : EReal))
    (δ : ℕ) (hmk : ∀ y : Fin 512, mk (ix2 r y) = if y.val < r.val + δ then 1#1 else 0#1) (x : Fin 128) :
    k0_pay273 (F := Ideal) T mk s (k0_pay263 k0_pay346 T C mk w s a b) (k0_pay266 k0_pay346 T C mk w s a b) (k0_pay269 k0_pay346 T C mk w s a b) (k0_pay270 k0_pay346 mk w a b) (k0_pay271 k0_pay346 C mk w a b) (ix2 r ⟨256 + x.val, by omega⟩) = ((if 256 + x.val < r.val + δ then Real.exp (S (o + (256 + x.val)) + t - P (o + (256 + x.val) + 1)) else 0 : ℝ) : EReal) := by
  have m0 : ∀ c : Fin 128, k0_pay260 (F := Ideal) k0_pay346 mk w a b (ix2 ⟨r.val, by omega⟩ c) = ((P (o + 128) - P (o + (0 + c.val) + 1) : ℝ) : EReal) := fun c => by
    have h := ts260_0 mk w a b P G hP (o + 0) r c (by omega) (fun k => (hw ⟨0 + k.val, by omega⟩).trans (by rw [← Nat.add_assoc]))
    rw [show o + 0 + 128 = o + 128 by omega, show o + 0 + c.val + 1 = o + (0 + c.val) + 1 by omega] at h
    exact h
  have z0 : k0_pay260 (F := Ideal) k0_pay346 mk w a b (ix2 ⟨r.val, by omega⟩ 0) = ((P (o + 128) - (P (o + 0) + G (o + 0)) : ℝ) : EReal) := by
    rw [← hP]; exact m0 0
  have w0 : w (ix2 r 0) = ((G (o + 0) : ℝ) : EReal) := hw 0
  have m1 : ∀ c : Fin 128, k0_pay260 (F := Ideal) k0_pay346 mk w a b (ix2 ⟨256 + r.val, by omega⟩ c) = ((P (o + 256) - P (o + (128 + c.val) + 1) : ℝ) : EReal) := fun c => by
    have h := ts260_1 mk w a b P G hP (o + 128) r c (by omega) (fun k => (hw ⟨128 + k.val, by omega⟩).trans (by rw [← Nat.add_assoc]))
    rw [show o + 128 + 128 = o + 256 by omega, show o + 128 + c.val + 1 = o + (128 + c.val) + 1 by omega] at h
    exact h
  have z1 : k0_pay260 (F := Ideal) k0_pay346 mk w a b (ix2 ⟨256 + r.val, by omega⟩ 0) = ((P (o + 256) - (P (o + 128) + G (o + 128)) : ℝ) : EReal) := by
    rw [← hP]; exact m1 0
  have w1 : w (ix2 r 128) = ((G (o + 128) : ℝ) : EReal) := hw 128
  have m2 : ∀ c : Fin 128, k0_pay260 (F := Ideal) k0_pay346 mk w a b (ix2 ⟨512 + r.val, by omega⟩ c) = ((P (o + 384) - P (o + (256 + c.val) + 1) : ℝ) : EReal) := fun c => by
    have h := ts260_2 mk w a b P G hP (o + 256) r c (by omega) (fun k => (hw ⟨256 + k.val, by omega⟩).trans (by rw [← Nat.add_assoc]))
    rw [show o + 256 + 128 = o + 384 by omega, show o + 256 + c.val + 1 = o + (256 + c.val) + 1 by omega] at h
    exact h
  have z2 : k0_pay260 (F := Ideal) k0_pay346 mk w a b (ix2 ⟨512 + r.val, by omega⟩ 0) = ((P (o + 384) - (P (o + 256) + G (o + 256)) : ℝ) : EReal) := by
    rw [← hP]; exact m2 0
  have w2 : w (ix2 r 256) = ((G (o + 256) : ℝ) : EReal) := hw 256
  have m3 : ∀ c : Fin 128, k0_pay260 (F := Ideal) k0_pay346 mk w a b (ix2 ⟨768 + r.val, by omega⟩ c) = ((P (o + 512) - P (o + (384 + c.val) + 1) : ℝ) : EReal) := fun c => by
    have h := ts260_3 mk w a b P G hP (o + 384) r c (by omega) (fun k => (hw ⟨384 + k.val, by omega⟩).trans (by rw [← Nat.add_assoc]))
    rw [show o + 384 + 128 = o + 512 by omega, show o + 384 + c.val + 1 = o + (384 + c.val) + 1 by omega] at h
    exact h
  have z3 : k0_pay260 (F := Ideal) k0_pay346 mk w a b (ix2 ⟨768 + r.val, by omega⟩ 0) = ((P (o + 512) - (P (o + 384) + G (o + 384)) : ℝ) : EReal) := by
    rw [← hP]; exact m3 0
  have w3 : w (ix2 r 384) = ((G (o + 384) : ℝ) : EReal) := hw 384
  have s2 : s (ix2 r ⟨256 + x.val, by omega⟩) = ((S (o + (256 + x.val)) : ℝ) : EReal) := hs ⟨256 + x.val, by omega⟩
  have k2 : mk (ix2 r ⟨256 + x.val, by omega⟩) = if 256 + x.val < r.val + δ then 1#1 else 0#1 := hmk ⟨256 + x.val, by omega⟩
  pointwise [k0_pay273, k0_pay272, k0_pay269, k0_pay268, k0_pay267, k0_pay265, k0_pay264, k0_pay262, k0_pay261, k0_pay252, k0_pay253, k0_pay254, k0_pay255]
  rw [dif_neg (by omega), dif_neg (by omega), dif_pos (by omega)]
  simp only [show 256 + x.val - 128 - 128 = x.val by omega, Fin.eta]
  simp only [hT, hC, s2, k2, z0, w0, z1, w1, z2, w2, m2 x]
  simp only [← EReal.coe_add, ← EReal.coe_sub, Nat.add_zero, Nat.zero_add, Ideal.exp_coe]
  split
  · refine Eq.trans (rfl : _ = ((_ : ℝ) : EReal)) (congrArg (fun y => ((Real.exp y : ℝ) : EReal)) ?_)
    ring
  · rfl

theorem attW0_3
    (P G S : ℕ → ℝ) (hP : ∀ m, P (m + 1) = P m + G m) (o : ℕ) (t : ℝ) (r : Fin 256) (mk : IVec S256x512 1) (C T : FVec Ideal S256x1 .f32) (w s a b : FVec Ideal S256x512 .f32)
    (hC : C (ix2 r 0) = ((P o : ℝ) : EReal))
    (hw : ∀ y : Fin 512, w (ix2 r y) = ((G (o + y.val) : ℝ) : EReal))
    (hT : T (ix2 r 0) = ((t : ℝ) : EReal)) (hs : ∀ y : Fin 512, s (ix2 r y) = ((S (o + y.val) : ℝ) : EReal))
    (δ : ℕ) (hmk : ∀ y : Fin 512, mk (ix2 r y) = if y.val < r.val + δ then 1#1 else 0#1) (x : Fin 128) :
    k0_pay273 (F := Ideal) T mk s (k0_pay263 k0_pay346 T C mk w s a b) (k0_pay266 k0_pay346 T C mk w s a b) (k0_pay269 k0_pay346 T C mk w s a b) (k0_pay270 k0_pay346 mk w a b) (k0_pay271 k0_pay346 C mk w a b) (ix2 r ⟨384 + x.val, by omega⟩) = ((if 384 + x.val < r.val + δ then Real.exp (S (o + (384 + x.val)) + t - P (o + (384 + x.val) + 1)) else 0 : ℝ) : EReal) := by
  have m0 : ∀ c : Fin 128, k0_pay260 (F := Ideal) k0_pay346 mk w a b (ix2 ⟨r.val, by omega⟩ c) = ((P (o + 128) - P (o + (0 + c.val) + 1) : ℝ) : EReal) := fun c => by
    have h := ts260_0 mk w a b P G hP (o + 0) r c (by omega) (fun k => (hw ⟨0 + k.val, by omega⟩).trans (by rw [← Nat.add_assoc]))
    rw [show o + 0 + 128 = o + 128 by omega, show o + 0 + c.val + 1 = o + (0 + c.val) + 1 by omega] at h
    exact h
  have z0 : k0_pay260 (F := Ideal) k0_pay346 mk w a b (ix2 ⟨r.val, by omega⟩ 0) = ((P (o + 128) - (P (o + 0) + G (o + 0)) : ℝ) : EReal) := by
    rw [← hP]; exact m0 0
  have w0 : w (ix2 r 0) = ((G (o + 0) : ℝ) : EReal) := hw 0
  have m1 : ∀ c : Fin 128, k0_pay260 (F := Ideal) k0_pay346 mk w a b (ix2 ⟨256 + r.val, by omega⟩ c) = ((P (o + 256) - P (o + (128 + c.val) + 1) : ℝ) : EReal) := fun c => by
    have h := ts260_1 mk w a b P G hP (o + 128) r c (by omega) (fun k => (hw ⟨128 + k.val, by omega⟩).trans (by rw [← Nat.add_assoc]))
    rw [show o + 128 + 128 = o + 256 by omega, show o + 128 + c.val + 1 = o + (128 + c.val) + 1 by omega] at h
    exact h
  have z1 : k0_pay260 (F := Ideal) k0_pay346 mk w a b (ix2 ⟨256 + r.val, by omega⟩ 0) = ((P (o + 256) - (P (o + 128) + G (o + 128)) : ℝ) : EReal) := by
    rw [← hP]; exact m1 0
  have w1 : w (ix2 r 128) = ((G (o + 128) : ℝ) : EReal) := hw 128
  have m2 : ∀ c : Fin 128, k0_pay260 (F := Ideal) k0_pay346 mk w a b (ix2 ⟨512 + r.val, by omega⟩ c) = ((P (o + 384) - P (o + (256 + c.val) + 1) : ℝ) : EReal) := fun c => by
    have h := ts260_2 mk w a b P G hP (o + 256) r c (by omega) (fun k => (hw ⟨256 + k.val, by omega⟩).trans (by rw [← Nat.add_assoc]))
    rw [show o + 256 + 128 = o + 384 by omega, show o + 256 + c.val + 1 = o + (256 + c.val) + 1 by omega] at h
    exact h
  have z2 : k0_pay260 (F := Ideal) k0_pay346 mk w a b (ix2 ⟨512 + r.val, by omega⟩ 0) = ((P (o + 384) - (P (o + 256) + G (o + 256)) : ℝ) : EReal) := by
    rw [← hP]; exact m2 0
  have w2 : w (ix2 r 256) = ((G (o + 256) : ℝ) : EReal) := hw 256
  have m3 : ∀ c : Fin 128, k0_pay260 (F := Ideal) k0_pay346 mk w a b (ix2 ⟨768 + r.val, by omega⟩ c) = ((P (o + 512) - P (o + (384 + c.val) + 1) : ℝ) : EReal) := fun c => by
    have h := ts260_3 mk w a b P G hP (o + 384) r c (by omega) (fun k => (hw ⟨384 + k.val, by omega⟩).trans (by rw [← Nat.add_assoc]))
    rw [show o + 384 + 128 = o + 512 by omega, show o + 384 + c.val + 1 = o + (384 + c.val) + 1 by omega] at h
    exact h
  have z3 : k0_pay260 (F := Ideal) k0_pay346 mk w a b (ix2 ⟨768 + r.val, by omega⟩ 0) = ((P (o + 512) - (P (o + 384) + G (o + 384)) : ℝ) : EReal) := by
    rw [← hP]; exact m3 0
  have w3 : w (ix2 r 384) = ((G (o + 384) : ℝ) : EReal) := hw 384
  have s3 : s (ix2 r ⟨384 + x.val, by omega⟩) = ((S (o + (384 + x.val)) : ℝ) : EReal) := hs ⟨384 + x.val, by omega⟩
  have k3 : mk (ix2 r ⟨384 + x.val, by omega⟩) = if 384 + x.val < r.val + δ then 1#1 else 0#1 := hmk ⟨384 + x.val, by omega⟩
  pointwise [k0_pay273, k0_pay272, k0_pay271, k0_pay270, k0_pay268, k0_pay267, k0_pay265, k0_pay264, k0_pay262, k0_pay261, k0_pay252, k0_pay253, k0_pay254, k0_pay255]
  rw [dif_neg (by omega), dif_neg (by omega), dif_neg (by omega)]
  simp only [show 384 + x.val - 128 - 128 - 128 = x.val by omega, Fin.eta]
  simp only [hT, hC, s3, k3, z0, w0, z1, w1, z2, w2, z3, w3, m3 x]
  simp only [← EReal.coe_add, ← EReal.coe_sub, Nat.add_zero, Nat.zero_add, Ideal.exp_coe]
  split
  · refine Eq.trans (rfl : _ = ((_ : ℝ) : EReal)) (congrArg (fun y => ((Real.exp y : ℝ) : EReal)) ?_)
    ring
  · rfl

/-- Across the diagonal, wide, first head: the attention weight at an entry. -/
theorem attW0
    (P G S : ℕ → ℝ) (hP : ∀ m, P (m + 1) = P m + G m) (o : ℕ) (t : ℝ) (r : Fin 256) (mk : IVec S256x512 1) (C T : FVec Ideal S256x1 .f32) (w s a b : FVec Ideal S256x512 .f32)
    (hC : C (ix2 r 0) = ((P o : ℝ) : EReal))
    (hw : ∀ y : Fin 512, w (ix2 r y) = ((G (o + y.val) : ℝ) : EReal))
    (hT : T (ix2 r 0) = ((t : ℝ) : EReal)) (hs : ∀ y : Fin 512, s (ix2 r y) = ((S (o + y.val) : ℝ) : EReal))
    (δ : ℕ) (hmk : ∀ y : Fin 512, mk (ix2 r y) = if y.val < r.val + δ then 1#1 else 0#1) (y : Fin 512) :
    k0_pay273 (F := Ideal) T mk s (k0_pay263 k0_pay346 T C mk w s a b) (k0_pay266 k0_pay346 T C mk w s a b) (k0_pay269 k0_pay346 T C mk w s a b) (k0_pay270 k0_pay346 mk w a b) (k0_pay271 k0_pay346 C mk w a b) (ix2 r y) = ((if y.val < r.val + δ then Real.exp (S (o + y.val) + t - P (o + y.val + 1)) else 0 : ℝ) : EReal) := by
  obtain ⟨n, x, rfl⟩ : ∃ (n : Fin 4) (x : Fin 128), y = ⟨128 * n.val + x.val, by omega⟩ := ⟨⟨y.val / 128, by omega⟩, ⟨y.val % 128, by omega⟩, Fin.ext (by simp only []; omega)⟩
  have h0 := attW0_0 P G S hP o t r mk C T w s a b hC hw hT hs δ hmk x
  have h1 := attW0_1 P G S hP o t r mk C T w s a b hC hw hT hs δ hmk x
  have h2 := attW0_2 P G S hP o t r mk C T w s a b hC hw hT hs δ hmk x
  have h3 := attW0_3 P G S hP o t r mk C T w s a b hC hw hT hs δ hmk x
  obtain ⟨n, hn⟩ := n
  obtain ⟨x, hx⟩ := x
  match n, hn with
  | 0, _ => simpa only [Nat.mul_zero, Nat.zero_add] using h0
  | 1, _ => exact h1
  | 2, _ => exact h2
  | 3, _ => exact h3

theorem attW1_0
    (P G S : ℕ → ℝ) (hP : ∀ m, P (m + 1) = P m + G m) (o : ℕ) (t : ℝ) (r : Fin 256) (mk : IVec S256x512 1) (C T : FVec Ideal S256x1 .f32) (w s a b : FVec Ideal S256x512 .f32)
    (hC : C (ix2 r 0) = ((P o : ℝ) : EReal))
    (hw : ∀ y : Fin 512, k0_pay250 (F := Ideal) mk a b (ix2 r y) = ((G (o + y.val) : ℝ) : EReal))
    (hT : T (ix2 r 0) = ((t : ℝ) : EReal)) (hs : ∀ y : Fin 512, s (ix2 r y) = ((S (o + y.val) : ℝ) : EReal))
    (δ : ℕ) (hmk : ∀ y : Fin 512, mk (ix2 r y) = if y.val < r.val + δ then 1#1 else 0#1) (x : Fin 128) :
    k0_pay276 (F := Ideal) T C mk s (k0_pay256 mk a b) (k0_pay257 mk a b) (k0_pay258 mk a b) (k0_pay259 mk a b) (k0_pay260 k0_pay346 mk w a b) (ix2 r ⟨x.val, by omega⟩) = ((if 0 + x.val < r.val + δ then Real.exp (S (o + (0 + x.val)) + t - P (o + (0 + x.val) + 1)) else 0 : ℝ) : EReal) := by
  have m0 : ∀ c : Fin 128, k0_pay260 (F := Ideal) k0_pay346 mk w a b (ix2 ⟨1024 + r.val, by omega⟩ c) = ((P (o + 128) - P (o + (0 + c.val) + 1) : ℝ) : EReal) := fun c => by
    have h := ts260_4 mk w a b P G hP (o + 0) r c (by omega) (fun k => (hw ⟨0 + k.val, by omega⟩).trans (by rw [← Nat.add_assoc]))
    rw [show o + 0 + 128 = o + 128 by omega, show o + 0 + c.val + 1 = o + (0 + c.val) + 1 by omega] at h
    exact h
  have z0 : k0_pay260 (F := Ideal) k0_pay346 mk w a b (ix2 ⟨1024 + r.val, by omega⟩ 0) = ((P (o + 128) - (P (o + 0) + G (o + 0)) : ℝ) : EReal) := by
    rw [← hP]; exact m0 0
  have w0 : k0_pay250 (F := Ideal) mk a b (ix2 r 0) = ((G (o + 0) : ℝ) : EReal) := hw 0
  have m1 : ∀ c : Fin 128, k0_pay260 (F := Ideal) k0_pay346 mk w a b (ix2 ⟨1280 + r.val, by omega⟩ c) = ((P (o + 256) - P (o + (128 + c.val) + 1) : ℝ) : EReal) := fun c => by
    have h := ts260_5 mk w a b P G hP (o + 128) r c (by omega) (fun k => (hw ⟨128 + k.val, by omega⟩).trans (by rw [← Nat.add_assoc]))
    rw [show o + 128 + 128 = o + 256 by omega, show o + 128 + c.val + 1 = o + (128 + c.val) + 1 by omega] at h
    exact h
  have z1 : k0_pay260 (F := Ideal) k0_pay346 mk w a b (ix2 ⟨1280 + r.val, by omega⟩ 0) = ((P (o + 256) - (P (o + 128) + G (o + 128)) : ℝ) : EReal) := by
    rw [← hP]; exact m1 0
  have w1 : k0_pay250 (F := Ideal) mk a b (ix2 r 128) = ((G (o + 128) : ℝ) : EReal) := hw 128
  have m2 : ∀ c : Fin 128, k0_pay260 (F := Ideal) k0_pay346 mk w a b (ix2 ⟨1536 + r.val, by omega⟩ c) = ((P (o + 384) - P (o + (256 + c.val) + 1) : ℝ) : EReal) := fun c => by
    have h := ts260_6 mk w a b P G hP (o + 256) r c (by omega) (fun k => (hw ⟨256 + k.val, by omega⟩).trans (by rw [← Nat.add_assoc]))
    rw [show o + 256 + 128 = o + 384 by omega, show o + 256 + c.val + 1 = o + (256 + c.val) + 1 by omega] at h
    exact h
  have z2 : k0_pay260 (F := Ideal) k0_pay346 mk w a b (ix2 ⟨1536 + r.val, by omega⟩ 0) = ((P (o + 384) - (P (o + 256) + G (o + 256)) : ℝ) : EReal) := by
    rw [← hP]; exact m2 0
  have w2 : k0_pay250 (F := Ideal) mk a b (ix2 r 256) = ((G (o + 256) : ℝ) : EReal) := hw 256
  have m3 : ∀ c : Fin 128, k0_pay260 (F := Ideal) k0_pay346 mk w a b (ix2 ⟨1792 + r.val, by omega⟩ c) = ((P (o + 512) - P (o + (384 + c.val) + 1) : ℝ) : EReal) := fun c => by
    have h := ts260_7 mk w a b P G hP (o + 384) r c (by omega) (fun k => (hw ⟨384 + k.val, by omega⟩).trans (by rw [← Nat.add_assoc]))
    rw [show o + 384 + 128 = o + 512 by omega, show o + 384 + c.val + 1 = o + (384 + c.val) + 1 by omega] at h
    exact h
  have z3 : k0_pay260 (F := Ideal) k0_pay346 mk w a b (ix2 ⟨1792 + r.val, by omega⟩ 0) = ((P (o + 512) - (P (o + 384) + G (o + 384)) : ℝ) : EReal) := by
    rw [← hP]; exact m3 0
  have w3 : k0_pay250 (F := Ideal) mk a b (ix2 r 384) = ((G (o + 384) : ℝ) : EReal) := hw 384
  have s0 : s (ix2 r ⟨x.val, by omega⟩) = ((S (o + (0 + x.val)) : ℝ) : EReal) := (hs ⟨x.val, by omega⟩).trans (by rw [Nat.zero_add])
  have k0 : mk (ix2 r ⟨x.val, by omega⟩) = if 0 + x.val < r.val + δ then 1#1 else 0#1 := (hmk ⟨x.val, by omega⟩).trans (by rw [Nat.zero_add])
  pointwise [k0_pay276, k0_pay275, k0_pay256, k0_pay257, k0_pay258, k0_pay259]
  simp only [hT, hC, s0, k0, z0, w0, m0 x]
  simp only [← EReal.coe_add, ← EReal.coe_sub, Nat.add_zero, Nat.zero_add, Ideal.exp_coe]
  split
  · refine Eq.trans (rfl : _ = ((_ : ℝ) : EReal)) (congrArg (fun y => ((Real.exp y : ℝ) : EReal)) ?_)
    ring
  · rfl

theorem attW1_1
    (P G S : ℕ → ℝ) (hP : ∀ m, P (m + 1) = P m + G m) (o : ℕ) (t : ℝ) (r : Fin 256) (mk : IVec S256x512 1) (C T : FVec Ideal S256x1 .f32) (w s a b : FVec Ideal S256x512 .f32)
    (hC : C (ix2 r 0) = ((P o : ℝ) : EReal))
    (hw : ∀ y : Fin 512, k0_pay250 (F := Ideal) mk a b (ix2 r y) = ((G (o + y.val) : ℝ) : EReal))
    (hT : T (ix2 r 0) = ((t : ℝ) : EReal)) (hs : ∀ y : Fin 512, s (ix2 r y) = ((S (o + y.val) : ℝ) : EReal))
    (δ : ℕ) (hmk : ∀ y : Fin 512, mk (ix2 r y) = if y.val < r.val + δ then 1#1 else 0#1) (x : Fin 128) :
    k0_pay276 (F := Ideal) T C mk s (k0_pay256 mk a b) (k0_pay257 mk a b) (k0_pay258 mk a b) (k0_pay259 mk a b) (k0_pay260 k0_pay346 mk w a b) (ix2 r ⟨128 + x.val, by omega⟩) = ((if 128 + x.val < r.val + δ then Real.exp (S (o + (128 + x.val)) + t - P (o + (128 + x.val) + 1)) else 0 : ℝ) : EReal) := by
  have m0 : ∀ c : Fin 128, k0_pay260 (F := Ideal) k0_pay346 mk w a b (ix2 ⟨1024 + r.val, by omega⟩ c) = ((P (o + 128) - P (o + (0 + c.val) + 1) : ℝ) : EReal) := fun c => by
    have h := ts260_4 mk w a b P G hP (o + 0) r c (by omega) (fun k => (hw ⟨0 + k.val, by omega⟩).trans (by rw [← Nat.add_assoc]))
    rw [show o + 0 + 128 = o + 128 by omega, show o + 0 + c.val + 1 = o + (0 + c.val) + 1 by omega] at h
    exact h
  have z0 : k0_pay260 (F := Ideal) k0_pay346 mk w a b (ix2 ⟨1024 + r.val, by omega⟩ 0) = ((P (o + 128) - (P (o + 0) + G (o + 0)) : ℝ) : EReal) := by
    rw [← hP]; exact m0 0
  have w0 : k0_pay250 (F := Ideal) mk a b (ix2 r 0) = ((G (o + 0) : ℝ) : EReal) := hw 0
  have m1 : ∀ c : Fin 128, k0_pay260 (F := Ideal) k0_pay346 mk w a b (ix2 ⟨1280 + r.val, by omega⟩ c) = ((P (o + 256) - P (o + (128 + c.val) + 1) : ℝ) : EReal) := fun c => by
    have h := ts260_5 mk w a b P G hP (o + 128) r c (by omega) (fun k => (hw ⟨128 + k.val, by omega⟩).trans (by rw [← Nat.add_assoc]))
    rw [show o + 128 + 128 = o + 256 by omega, show o + 128 + c.val + 1 = o + (128 + c.val) + 1 by omega] at h
    exact h
  have z1 : k0_pay260 (F := Ideal) k0_pay346 mk w a b (ix2 ⟨1280 + r.val, by omega⟩ 0) = ((P (o + 256) - (P (o + 128) + G (o + 128)) : ℝ) : EReal) := by
    rw [← hP]; exact m1 0
  have w1 : k0_pay250 (F := Ideal) mk a b (ix2 r 128) = ((G (o + 128) : ℝ) : EReal) := hw 128
  have m2 : ∀ c : Fin 128, k0_pay260 (F := Ideal) k0_pay346 mk w a b (ix2 ⟨1536 + r.val, by omega⟩ c) = ((P (o + 384) - P (o + (256 + c.val) + 1) : ℝ) : EReal) := fun c => by
    have h := ts260_6 mk w a b P G hP (o + 256) r c (by omega) (fun k => (hw ⟨256 + k.val, by omega⟩).trans (by rw [← Nat.add_assoc]))
    rw [show o + 256 + 128 = o + 384 by omega, show o + 256 + c.val + 1 = o + (256 + c.val) + 1 by omega] at h
    exact h
  have z2 : k0_pay260 (F := Ideal) k0_pay346 mk w a b (ix2 ⟨1536 + r.val, by omega⟩ 0) = ((P (o + 384) - (P (o + 256) + G (o + 256)) : ℝ) : EReal) := by
    rw [← hP]; exact m2 0
  have w2 : k0_pay250 (F := Ideal) mk a b (ix2 r 256) = ((G (o + 256) : ℝ) : EReal) := hw 256
  have m3 : ∀ c : Fin 128, k0_pay260 (F := Ideal) k0_pay346 mk w a b (ix2 ⟨1792 + r.val, by omega⟩ c) = ((P (o + 512) - P (o + (384 + c.val) + 1) : ℝ) : EReal) := fun c => by
    have h := ts260_7 mk w a b P G hP (o + 384) r c (by omega) (fun k => (hw ⟨384 + k.val, by omega⟩).trans (by rw [← Nat.add_assoc]))
    rw [show o + 384 + 128 = o + 512 by omega, show o + 384 + c.val + 1 = o + (384 + c.val) + 1 by omega] at h
    exact h
  have z3 : k0_pay260 (F := Ideal) k0_pay346 mk w a b (ix2 ⟨1792 + r.val, by omega⟩ 0) = ((P (o + 512) - (P (o + 384) + G (o + 384)) : ℝ) : EReal) := by
    rw [← hP]; exact m3 0
  have w3 : k0_pay250 (F := Ideal) mk a b (ix2 r 384) = ((G (o + 384) : ℝ) : EReal) := hw 384
  have s1 : s (ix2 r ⟨128 + x.val, by omega⟩) = ((S (o + (128 + x.val)) : ℝ) : EReal) := hs ⟨128 + x.val, by omega⟩
  have k1 : mk (ix2 r ⟨128 + x.val, by omega⟩) = if 128 + x.val < r.val + δ then 1#1 else 0#1 := hmk ⟨128 + x.val, by omega⟩
  pointwise [k0_pay276, k0_pay275, k0_pay256, k0_pay257, k0_pay258, k0_pay259]
  simp only [hT, hC, s1, k1, z0, w0, z1, w1, m1 x]
  simp only [← EReal.coe_add, ← EReal.coe_sub, Nat.add_zero, Nat.zero_add, Ideal.exp_coe]
  split
  · refine Eq.trans (rfl : _ = ((_ : ℝ) : EReal)) (congrArg (fun y => ((Real.exp y : ℝ) : EReal)) ?_)
    ring
  · rfl

theorem attW1_2
    (P G S : ℕ → ℝ) (hP : ∀ m, P (m + 1) = P m + G m) (o : ℕ) (t : ℝ) (r : Fin 256) (mk : IVec S256x512 1) (C T : FVec Ideal S256x1 .f32) (w s a b : FVec Ideal S256x512 .f32)
    (hC : C (ix2 r 0) = ((P o : ℝ) : EReal))
    (hw : ∀ y : Fin 512, k0_pay250 (F := Ideal) mk a b (ix2 r y) = ((G (o + y.val) : ℝ) : EReal))
    (hT : T (ix2 r 0) = ((t : ℝ) : EReal)) (hs : ∀ y : Fin 512, s (ix2 r y) = ((S (o + y.val) : ℝ) : EReal))
    (δ : ℕ) (hmk : ∀ y : Fin 512, mk (ix2 r y) = if y.val < r.val + δ then 1#1 else 0#1) (x : Fin 128) :
    k0_pay276 (F := Ideal) T C mk s (k0_pay256 mk a b) (k0_pay257 mk a b) (k0_pay258 mk a b) (k0_pay259 mk a b) (k0_pay260 k0_pay346 mk w a b) (ix2 r ⟨256 + x.val, by omega⟩) = ((if 256 + x.val < r.val + δ then Real.exp (S (o + (256 + x.val)) + t - P (o + (256 + x.val) + 1)) else 0 : ℝ) : EReal) := by
  have m0 : ∀ c : Fin 128, k0_pay260 (F := Ideal) k0_pay346 mk w a b (ix2 ⟨1024 + r.val, by omega⟩ c) = ((P (o + 128) - P (o + (0 + c.val) + 1) : ℝ) : EReal) := fun c => by
    have h := ts260_4 mk w a b P G hP (o + 0) r c (by omega) (fun k => (hw ⟨0 + k.val, by omega⟩).trans (by rw [← Nat.add_assoc]))
    rw [show o + 0 + 128 = o + 128 by omega, show o + 0 + c.val + 1 = o + (0 + c.val) + 1 by omega] at h
    exact h
  have z0 : k0_pay260 (F := Ideal) k0_pay346 mk w a b (ix2 ⟨1024 + r.val, by omega⟩ 0) = ((P (o + 128) - (P (o + 0) + G (o + 0)) : ℝ) : EReal) := by
    rw [← hP]; exact m0 0
  have w0 : k0_pay250 (F := Ideal) mk a b (ix2 r 0) = ((G (o + 0) : ℝ) : EReal) := hw 0
  have m1 : ∀ c : Fin 128, k0_pay260 (F := Ideal) k0_pay346 mk w a b (ix2 ⟨1280 + r.val, by omega⟩ c) = ((P (o + 256) - P (o + (128 + c.val) + 1) : ℝ) : EReal) := fun c => by
    have h := ts260_5 mk w a b P G hP (o + 128) r c (by omega) (fun k => (hw ⟨128 + k.val, by omega⟩).trans (by rw [← Nat.add_assoc]))
    rw [show o + 128 + 128 = o + 256 by omega, show o + 128 + c.val + 1 = o + (128 + c.val) + 1 by omega] at h
    exact h
  have z1 : k0_pay260 (F := Ideal) k0_pay346 mk w a b (ix2 ⟨1280 + r.val, by omega⟩ 0) = ((P (o + 256) - (P (o + 128) + G (o + 128)) : ℝ) : EReal) := by
    rw [← hP]; exact m1 0
  have w1 : k0_pay250 (F := Ideal) mk a b (ix2 r 128) = ((G (o + 128) : ℝ) : EReal) := hw 128
  have m2 : ∀ c : Fin 128, k0_pay260 (F := Ideal) k0_pay346 mk w a b (ix2 ⟨1536 + r.val, by omega⟩ c) = ((P (o + 384) - P (o + (256 + c.val) + 1) : ℝ) : EReal) := fun c => by
    have h := ts260_6 mk w a b P G hP (o + 256) r c (by omega) (fun k => (hw ⟨256 + k.val, by omega⟩).trans (by rw [← Nat.add_assoc]))
    rw [show o + 256 + 128 = o + 384 by omega, show o + 256 + c.val + 1 = o + (256 + c.val) + 1 by omega] at h
    exact h
  have z2 : k0_pay260 (F := Ideal) k0_pay346 mk w a b (ix2 ⟨1536 + r.val, by omega⟩ 0) = ((P (o + 384) - (P (o + 256) + G (o + 256)) : ℝ) : EReal) := by
    rw [← hP]; exact m2 0
  have w2 : k0_pay250 (F := Ideal) mk a b (ix2 r 256) = ((G (o + 256) : ℝ) : EReal) := hw 256
  have m3 : ∀ c : Fin 128, k0_pay260 (F := Ideal) k0_pay346 mk w a b (ix2 ⟨1792 + r.val, by omega⟩ c) = ((P (o + 512) - P (o + (384 + c.val) + 1) : ℝ) : EReal) := fun c => by
    have h := ts260_7 mk w a b P G hP (o + 384) r c (by omega) (fun k => (hw ⟨384 + k.val, by omega⟩).trans (by rw [← Nat.add_assoc]))
    rw [show o + 384 + 128 = o + 512 by omega, show o + 384 + c.val + 1 = o + (384 + c.val) + 1 by omega] at h
    exact h
  have z3 : k0_pay260 (F := Ideal) k0_pay346 mk w a b (ix2 ⟨1792 + r.val, by omega⟩ 0) = ((P (o + 512) - (P (o + 384) + G (o + 384)) : ℝ) : EReal) := by
    rw [← hP]; exact m3 0
  have w3 : k0_pay250 (F := Ideal) mk a b (ix2 r 384) = ((G (o + 384) : ℝ) : EReal) := hw 384
  have s2 : s (ix2 r ⟨256 + x.val, by omega⟩) = ((S (o + (256 + x.val)) : ℝ) : EReal) := hs ⟨256 + x.val, by omega⟩
  have k2 : mk (ix2 r ⟨256 + x.val, by omega⟩) = if 256 + x.val < r.val + δ then 1#1 else 0#1 := hmk ⟨256 + x.val, by omega⟩
  pointwise [k0_pay276, k0_pay275, k0_pay256, k0_pay257, k0_pay258, k0_pay259]
  rw [dif_neg (by omega), dif_neg (by omega), dif_pos (by omega)]
  simp only [show 256 + x.val - 128 - 128 = x.val by omega, Fin.eta]
  simp only [hT, hC, s2, k2, z0, w0, z1, w1, z2, w2, m2 x]
  simp only [← EReal.coe_add, ← EReal.coe_sub, Nat.add_zero, Nat.zero_add, Ideal.exp_coe]
  split
  · refine Eq.trans (rfl : _ = ((_ : ℝ) : EReal)) (congrArg (fun y => ((Real.exp y : ℝ) : EReal)) ?_)
    ring
  · rfl

theorem attW1_3
    (P G S : ℕ → ℝ) (hP : ∀ m, P (m + 1) = P m + G m) (o : ℕ) (t : ℝ) (r : Fin 256) (mk : IVec S256x512 1) (C T : FVec Ideal S256x1 .f32) (w s a b : FVec Ideal S256x512 .f32)
    (hC : C (ix2 r 0) = ((P o : ℝ) : EReal))
    (hw : ∀ y : Fin 512, k0_pay250 (F := Ideal) mk a b (ix2 r y) = ((G (o + y.val) : ℝ) : EReal))
    (hT : T (ix2 r 0) = ((t : ℝ) : EReal)) (hs : ∀ y : Fin 512, s (ix2 r y) = ((S (o + y.val) : ℝ) : EReal))
    (δ : ℕ) (hmk : ∀ y : Fin 512, mk (ix2 r y) = if y.val < r.val + δ then 1#1 else 0#1) (x : Fin 128) :
    k0_pay276 (F := Ideal) T C mk s (k0_pay256 mk a b) (k0_pay257 mk a b) (k0_pay258 mk a b) (k0_pay259 mk a b) (k0_pay260 k0_pay346 mk w a b) (ix2 r ⟨384 + x.val, by omega⟩) = ((if 384 + x.val < r.val + δ then Real.exp (S (o + (384 + x.val)) + t - P (o + (384 + x.val) + 1)) else 0 : ℝ) : EReal) := by
  have m0 : ∀ c : Fin 128, k0_pay260 (F := Ideal) k0_pay346 mk w a b (ix2 ⟨1024 + r.val, by omega⟩ c) = ((P (o + 128) - P (o + (0 + c.val) + 1) : ℝ) : EReal) := fun c => by
    have h := ts260_4 mk w a b P G hP (o + 0) r c (by omega) (fun k => (hw ⟨0 + k.val, by omega⟩).trans (by rw [← Nat.add_assoc]))
    rw [show o + 0 + 128 = o + 128 by omega, show o + 0 + c.val + 1 = o + (0 + c.val) + 1 by omega] at h
    exact h
  have z0 : k0_pay260 (F := Ideal) k0_pay346 mk w a b (ix2 ⟨1024 + r.val, by omega⟩ 0) = ((P (o + 128) - (P (o + 0) + G (o + 0)) : ℝ) : EReal) := by
    rw [← hP]; exact m0 0
  have w0 : k0_pay250 (F := Ideal) mk a b (ix2 r 0) = ((G (o + 0) : ℝ) : EReal) := hw 0
  have m1 : ∀ c : Fin 128, k0_pay260 (F := Ideal) k0_pay346 mk w a b (ix2 ⟨1280 + r.val, by omega⟩ c) = ((P (o + 256) - P (o + (128 + c.val) + 1) : ℝ) : EReal) := fun c => by
    have h := ts260_5 mk w a b P G hP (o + 128) r c (by omega) (fun k => (hw ⟨128 + k.val, by omega⟩).trans (by rw [← Nat.add_assoc]))
    rw [show o + 128 + 128 = o + 256 by omega, show o + 128 + c.val + 1 = o + (128 + c.val) + 1 by omega] at h
    exact h
  have z1 : k0_pay260 (F := Ideal) k0_pay346 mk w a b (ix2 ⟨1280 + r.val, by omega⟩ 0) = ((P (o + 256) - (P (o + 128) + G (o + 128)) : ℝ) : EReal) := by
    rw [← hP]; exact m1 0
  have w1 : k0_pay250 (F := Ideal) mk a b (ix2 r 128) = ((G (o + 128) : ℝ) : EReal) := hw 128
  have m2 : ∀ c : Fin 128, k0_pay260 (F := Ideal) k0_pay346 mk w a b (ix2 ⟨1536 + r.val, by omega⟩ c) = ((P (o + 384) - P (o + (256 + c.val) + 1) : ℝ) : EReal) := fun c => by
    have h := ts260_6 mk w a b P G hP (o + 256) r c (by omega) (fun k => (hw ⟨256 + k.val, by omega⟩).trans (by rw [← Nat.add_assoc]))
    rw [show o + 256 + 128 = o + 384 by omega, show o + 256 + c.val + 1 = o + (256 + c.val) + 1 by omega] at h
    exact h
  have z2 : k0_pay260 (F := Ideal) k0_pay346 mk w a b (ix2 ⟨1536 + r.val, by omega⟩ 0) = ((P (o + 384) - (P (o + 256) + G (o + 256)) : ℝ) : EReal) := by
    rw [← hP]; exact m2 0
  have w2 : k0_pay250 (F := Ideal) mk a b (ix2 r 256) = ((G (o + 256) : ℝ) : EReal) := hw 256
  have m3 : ∀ c : Fin 128, k0_pay260 (F := Ideal) k0_pay346 mk w a b (ix2 ⟨1792 + r.val, by omega⟩ c) = ((P (o + 512) - P (o + (384 + c.val) + 1) : ℝ) : EReal) := fun c => by
    have h := ts260_7 mk w a b P G hP (o + 384) r c (by omega) (fun k => (hw ⟨384 + k.val, by omega⟩).trans (by rw [← Nat.add_assoc]))
    rw [show o + 384 + 128 = o + 512 by omega, show o + 384 + c.val + 1 = o + (384 + c.val) + 1 by omega] at h
    exact h
  have z3 : k0_pay260 (F := Ideal) k0_pay346 mk w a b (ix2 ⟨1792 + r.val, by omega⟩ 0) = ((P (o + 512) - (P (o + 384) + G (o + 384)) : ℝ) : EReal) := by
    rw [← hP]; exact m3 0
  have w3 : k0_pay250 (F := Ideal) mk a b (ix2 r 384) = ((G (o + 384) : ℝ) : EReal) := hw 384
  have s3 : s (ix2 r ⟨384 + x.val, by omega⟩) = ((S (o + (384 + x.val)) : ℝ) : EReal) := hs ⟨384 + x.val, by omega⟩
  have k3 : mk (ix2 r ⟨384 + x.val, by omega⟩) = if 384 + x.val < r.val + δ then 1#1 else 0#1 := hmk ⟨384 + x.val, by omega⟩
  pointwise [k0_pay276, k0_pay275, k0_pay256, k0_pay257, k0_pay258, k0_pay259]
  rw [dif_neg (by omega), dif_neg (by omega), dif_neg (by omega)]
  simp only [show 384 + x.val - 128 - 128 - 128 = x.val by omega, Fin.eta]
  simp only [hT, hC, s3, k3, z0, w0, z1, w1, z2, w2, z3, w3, m3 x]
  simp only [← EReal.coe_add, ← EReal.coe_sub, Nat.add_zero, Nat.zero_add, Ideal.exp_coe]
  split
  · refine Eq.trans (rfl : _ = ((_ : ℝ) : EReal)) (congrArg (fun y => ((Real.exp y : ℝ) : EReal)) ?_)
    ring
  · rfl

/-- Across the diagonal, wide, second head: the attention weight at an entry. -/
theorem attW1
    (P G S : ℕ → ℝ) (hP : ∀ m, P (m + 1) = P m + G m) (o : ℕ) (t : ℝ) (r : Fin 256) (mk : IVec S256x512 1) (C T : FVec Ideal S256x1 .f32) (w s a b : FVec Ideal S256x512 .f32)
    (hC : C (ix2 r 0) = ((P o : ℝ) : EReal))
    (hw : ∀ y : Fin 512, k0_pay250 (F := Ideal) mk a b (ix2 r y) = ((G (o + y.val) : ℝ) : EReal))
    (hT : T (ix2 r 0) = ((t : ℝ) : EReal)) (hs : ∀ y : Fin 512, s (ix2 r y) = ((S (o + y.val) : ℝ) : EReal))
    (δ : ℕ) (hmk : ∀ y : Fin 512, mk (ix2 r y) = if y.val < r.val + δ then 1#1 else 0#1) (y : Fin 512) :
    k0_pay276 (F := Ideal) T C mk s (k0_pay256 mk a b) (k0_pay257 mk a b) (k0_pay258 mk a b) (k0_pay259 mk a b) (k0_pay260 k0_pay346 mk w a b) (ix2 r y) = ((if y.val < r.val + δ then Real.exp (S (o + y.val) + t - P (o + y.val + 1)) else 0 : ℝ) : EReal) := by
  obtain ⟨n, x, rfl⟩ : ∃ (n : Fin 4) (x : Fin 128), y = ⟨128 * n.val + x.val, by omega⟩ := ⟨⟨y.val / 128, by omega⟩, ⟨y.val % 128, by omega⟩, Fin.ext (by simp only []; omega)⟩
  have h0 := attW1_0 P G S hP o t r mk C T w s a b hC hw hT hs δ hmk x
  have h1 := attW1_1 P G S hP o t r mk C T w s a b hC hw hT hs δ hmk x
  have h2 := attW1_2 P G S hP o t r mk C T w s a b hC hw hT hs δ hmk x
  have h3 := attW1_3 P G S hP o t r mk C T w s a b hC hw hT hs δ hmk x
  obtain ⟨n, hn⟩ := n
  obtain ⟨x, hx⟩ := x
  match n, hn with
  | 0, _ => simpa only [Nat.mul_zero, Nat.zero_add] using h0
  | 1, _ => exact h1
  | 2, _ => exact h2
  | 3, _ => exact h3

theorem attN0_0
    (P G S : ℕ → ℝ) (hP : ∀ m, P (m + 1) = P m + G m) (o : ℕ) (t : ℝ) (r : Fin 256) (mk : IVec S256x256 1) (C T : FVec Ideal S256x1 .f32) (w s a b b2 : FVec Ideal S256x256 .f32)
    (hC : C (ix2 r 0) = ((P o : ℝ) : EReal))
    (hw : ∀ y : Fin 256, w (ix2 r y) = ((G (o + y.val) : ℝ) : EReal))
    (hT : T (ix2 r 0) = ((t : ℝ) : EReal)) (hs : ∀ y : Fin 256, s (ix2 r y) = ((S (o + y.val) : ℝ) : EReal))
    (δ : ℕ) (hmk : ∀ y : Fin 256, mk (ix2 r y) = if y.val < r.val + δ then 1#1 else 0#1) (x : Fin 128) :
    k0_pay214 (F := Ideal) k0_pay346 T C mk w s a b b2 (ix2 r ⟨x.val, by omega⟩) = ((if 0 + x.val < r.val + δ then Real.exp (S (o + (0 + x.val)) + t - P (o + (0 + x.val) + 1)) else 0 : ℝ) : EReal) := by
  have m0 : ∀ c : Fin 128, k0_pay212 (F := Ideal) k0_pay346 mk w a b b2 (ix2 ⟨r.val, by omega⟩ c) = ((P (o + 128) - P (o + (0 + c.val) + 1) : ℝ) : EReal) := fun c => by
    have h := ts212_0 mk w a b b2 P G hP (o + 0) r c (by omega) (fun k => (hw ⟨0 + k.val, by omega⟩).trans (by rw [← Nat.add_assoc]))
    rw [show o + 0 + 128 = o + 128 by omega, show o + 0 + c.val + 1 = o + (0 + c.val) + 1 by omega] at h
    exact h
  have z0 : k0_pay212 (F := Ideal) k0_pay346 mk w a b b2 (ix2 ⟨r.val, by omega⟩ 0) = ((P (o + 128) - (P (o + 0) + G (o + 0)) : ℝ) : EReal) := by
    rw [← hP]; exact m0 0
  have w0 : w (ix2 r 0) = ((G (o + 0) : ℝ) : EReal) := hw 0
  have m1 : ∀ c : Fin 128, k0_pay212 (F := Ideal) k0_pay346 mk w a b b2 (ix2 ⟨256 + r.val, by omega⟩ c) = ((P (o + 256) - P (o + (128 + c.val) + 1) : ℝ) : EReal) := fun c => by
    have h := ts212_1 mk w a b b2 P G hP (o + 128) r c (by omega) (fun k => (hw ⟨128 + k.val, by omega⟩).trans (by rw [← Nat.add_assoc]))
    rw [show o + 128 + 128 = o + 256 by omega, show o + 128 + c.val + 1 = o + (128 + c.val) + 1 by omega] at h
    exact h
  have z1 : k0_pay212 (F := Ideal) k0_pay346 mk w a b b2 (ix2 ⟨256 + r.val, by omega⟩ 0) = ((P (o + 256) - (P (o + 128) + G (o + 128)) : ℝ) : EReal) := by
    rw [← hP]; exact m1 0
  have w1 : w (ix2 r 128) = ((G (o + 128) : ℝ) : EReal) := hw 128
  have s0 : s (ix2 r ⟨x.val, by omega⟩) = ((S (o + (0 + x.val)) : ℝ) : EReal) := (hs ⟨x.val, by omega⟩).trans (by rw [Nat.zero_add])
  have k0 : mk (ix2 r ⟨x.val, by omega⟩) = if 0 + x.val < r.val + δ then 1#1 else 0#1 := (hmk ⟨x.val, by omega⟩).trans (by rw [Nat.zero_add])
  pointwise [k0_pay214, k0_pay213, k0_pay208, k0_pay209]
  simp only [hT, hC, s0, k0, z0, w0, m0 x]
  simp only [← EReal.coe_add, ← EReal.coe_sub, Nat.add_zero, Nat.zero_add, Ideal.exp_coe]
  split
  · refine Eq.trans (rfl : _ = ((_ : ℝ) : EReal)) (congrArg (fun y => ((Real.exp y : ℝ) : EReal)) ?_)
    ring
  · rfl

theorem attN0_1
    (P G S : ℕ → ℝ) (hP : ∀ m, P (m + 1) = P m + G m) (o : ℕ) (t : ℝ) (r : Fin 256) (mk : IVec S256x256 1) (C T : FVec Ideal S256x1 .f32) (w s a b b2 : FVec Ideal S256x256 .f32)
    (hC : C (ix2 r 0) = ((P o : ℝ) : EReal))
    (hw : ∀ y : Fin 256, w (ix2 r y) = ((G (o + y.val) : ℝ) : EReal))
    (hT : T (ix2 r 0) = ((t : ℝ) : EReal)) (hs : ∀ y : Fin 256, s (ix2 r y) = ((S (o + y.val) : ℝ) : EReal))
    (δ : ℕ) (hmk : ∀ y : Fin 256, mk (ix2 r y) = if y.val < r.val + δ then 1#1 else 0#1) (x : Fin 128) :
    k0_pay214 (F := Ideal) k0_pay346 T C mk w s a b b2 (ix2 r ⟨128 + x.val, by omega⟩) = ((if 128 + x.val < r.val + δ then Real.exp (S (o + (128 + x.val)) + t - P (o + (128 + x.val) + 1)) else 0 : ℝ) : EReal) := by
  have m0 : ∀ c : Fin 128, k0_pay212 (F := Ideal) k0_pay346 mk w a b b2 (ix2 ⟨r.val, by omega⟩ c) = ((P (o + 128) - P (o + (0 + c.val) + 1) : ℝ) : EReal) := fun c => by
    have h := ts212_0 mk w a b b2 P G hP (o + 0) r c (by omega) (fun k => (hw ⟨0 + k.val, by omega⟩).trans (by rw [← Nat.add_assoc]))
    rw [show o + 0 + 128 = o + 128 by omega, show o + 0 + c.val + 1 = o + (0 + c.val) + 1 by omega] at h
    exact h
  have z0 : k0_pay212 (F := Ideal) k0_pay346 mk w a b b2 (ix2 ⟨r.val, by omega⟩ 0) = ((P (o + 128) - (P (o + 0) + G (o + 0)) : ℝ) : EReal) := by
    rw [← hP]; exact m0 0
  have w0 : w (ix2 r 0) = ((G (o + 0) : ℝ) : EReal) := hw 0
  have m1 : ∀ c : Fin 128, k0_pay212 (F := Ideal) k0_pay346 mk w a b b2 (ix2 ⟨256 + r.val, by omega⟩ c) = ((P (o + 256) - P (o + (128 + c.val) + 1) : ℝ) : EReal) := fun c => by
    have h := ts212_1 mk w a b b2 P G hP (o + 128) r c (by omega) (fun k => (hw ⟨128 + k.val, by omega⟩).trans (by rw [← Nat.add_assoc]))
    rw [show o + 128 + 128 = o + 256 by omega, show o + 128 + c.val + 1 = o + (128 + c.val) + 1 by omega] at h
    exact h
  have z1 : k0_pay212 (F := Ideal) k0_pay346 mk w a b b2 (ix2 ⟨256 + r.val, by omega⟩ 0) = ((P (o + 256) - (P (o + 128) + G (o + 128)) : ℝ) : EReal) := by
    rw [← hP]; exact m1 0
  have w1 : w (ix2 r 128) = ((G (o + 128) : ℝ) : EReal) := hw 128
  have s1 : s (ix2 r ⟨128 + x.val, by omega⟩) = ((S (o + (128 + x.val)) : ℝ) : EReal) := hs ⟨128 + x.val, by omega⟩
  have k1 : mk (ix2 r ⟨128 + x.val, by omega⟩) = if 128 + x.val < r.val + δ then 1#1 else 0#1 := hmk ⟨128 + x.val, by omega⟩
  pointwise [k0_pay214, k0_pay213, k0_pay208, k0_pay209]
  simp only [hT, hC, s1, k1, z0, w0, z1, w1, m1 x]
  simp only [← EReal.coe_add, ← EReal.coe_sub, Nat.add_zero, Nat.zero_add, Ideal.exp_coe]
  split
  · refine Eq.trans (rfl : _ = ((_ : ℝ) : EReal)) (congrArg (fun y => ((Real.exp y : ℝ) : EReal)) ?_)
    ring
  · rfl

/-- Across the diagonal, narrow, first head: the attention weight at an entry. -/
theorem attN0
    (P G S : ℕ → ℝ) (hP : ∀ m, P (m + 1) = P m + G m) (o : ℕ) (t : ℝ) (r : Fin 256) (mk : IVec S256x256 1) (C T : FVec Ideal S256x1 .f32) (w s a b b2 : FVec Ideal S256x256 .f32)
    (hC : C (ix2 r 0) = ((P o : ℝ) : EReal))
    (hw : ∀ y : Fin 256, w (ix2 r y) = ((G (o + y.val) : ℝ) : EReal))
    (hT : T (ix2 r 0) = ((t : ℝ) : EReal)) (hs : ∀ y : Fin 256, s (ix2 r y) = ((S (o + y.val) : ℝ) : EReal))
    (δ : ℕ) (hmk : ∀ y : Fin 256, mk (ix2 r y) = if y.val < r.val + δ then 1#1 else 0#1) (y : Fin 256) :
    k0_pay214 (F := Ideal) k0_pay346 T C mk w s a b b2 (ix2 r y) = ((if y.val < r.val + δ then Real.exp (S (o + y.val) + t - P (o + y.val + 1)) else 0 : ℝ) : EReal) := by
  obtain ⟨n, x, rfl⟩ : ∃ (n : Fin 2) (x : Fin 128), y = ⟨128 * n.val + x.val, by omega⟩ := ⟨⟨y.val / 128, by omega⟩, ⟨y.val % 128, by omega⟩, Fin.ext (by simp only []; omega)⟩
  have h0 := attN0_0 P G S hP o t r mk C T w s a b b2 hC hw hT hs δ hmk x
  have h1 := attN0_1 P G S hP o t r mk C T w s a b b2 hC hw hT hs δ hmk x
  obtain ⟨n, hn⟩ := n
  obtain ⟨x, hx⟩ := x
  match n, hn with
  | 0, _ => simpa only [Nat.mul_zero, Nat.zero_add] using h0
  | 1, _ => exact h1

theorem attN1_0
    (P G S : ℕ → ℝ) (hP : ∀ m, P (m + 1) = P m + G m) (o : ℕ) (t : ℝ) (r : Fin 256) (mk : IVec S256x256 1) (C T : FVec Ideal S256x1 .f32) (w z a b b2 : FVec Ideal S256x256 .f32)
    (hC : C (ix2 r 0) = ((P o : ℝ) : EReal))
    (hw : ∀ y : Fin 256, k0_pay206 (F := Ideal) mk a b b2 (ix2 r y) = ((G (o + y.val) : ℝ) : EReal))
    (hT : T (ix2 r 0) = ((t : ℝ) : EReal)) (hs : ∀ y : Fin 256, k0_pay207 (F := Ideal) z a b b2 (ix2 r y) = ((S (o + y.val) : ℝ) : EReal))
    (δ : ℕ) (hmk : ∀ y : Fin 256, mk (ix2 r y) = if y.val < r.val + δ then 1#1 else 0#1) (x : Fin 128) :
    k0_pay221 (F := Ideal) T mk (k0_pay207 z a b b2) (k0_pay211 mk a b b2) (k0_pay217 k0_pay346 C mk w a b b2) (k0_pay218 k0_pay346 T C mk z w a b b2) (k0_pay219 k0_pay346 mk w a b b2) (ix2 r ⟨x.val, by omega⟩) = ((if 0 + x.val < r.val + δ then Real.exp (S (o + (0 + x.val)) + t - P (o + (0 + x.val) + 1)) else 0 : ℝ) : EReal) := by
  have m0 : ∀ c : Fin 128, k0_pay212 (F := Ideal) k0_pay346 mk w a b b2 (ix2 ⟨512 + r.val, by omega⟩ c) = ((P (o + 128) - P (o + (0 + c.val) + 1) : ℝ) : EReal) := fun c => by
    have h := ts212_2 mk w a b b2 P G hP (o + 0) r c (by omega) (fun k => (hw ⟨0 + k.val, by omega⟩).trans (by rw [← Nat.add_assoc]))
    rw [show o + 0 + 128 = o + 128 by omega, show o + 0 + c.val + 1 = o + (0 + c.val) + 1 by omega] at h
    exact h
  have z0 : k0_pay212 (F := Ideal) k0_pay346 mk w a b b2 (ix2 ⟨512 + r.val, by omega⟩ 0) = ((P (o + 128) - (P (o + 0) + G (o + 0)) : ℝ) : EReal) := by
    rw [← hP]; exact m0 0
  have w0 : k0_pay206 (F := Ideal) mk a b b2 (ix2 r 0) = ((G (o + 0) : ℝ) : EReal) := hw 0
  have m1 : ∀ c : Fin 128, k0_pay212 (F := Ideal) k0_pay346 mk w a b b2 (ix2 ⟨768 + r.val, by omega⟩ c) = ((P (o + 256) - P (o + (128 + c.val) + 1) : ℝ) : EReal) := fun c => by
    have h := ts212_3 mk w a b b2 P G hP (o + 128) r c (by omega) (fun k => (hw ⟨128 + k.val, by omega⟩).trans (by rw [← Nat.add_assoc]))
    rw [show o + 128 + 128 = o + 256 by omega, show o + 128 + c.val + 1 = o + (128 + c.val) + 1 by omega] at h
    exact h
  have z1 : k0_pay212 (F := Ideal) k0_pay346 mk w a b b2 (ix2 ⟨768 + r.val, by omega⟩ 0) = ((P (o + 256) - (P (o + 128) + G (o + 128)) : ℝ) : EReal) := by
    rw [← hP]; exact m1 0
  have w1 : k0_pay206 (F := Ideal) mk a b b2 (ix2 r 128) = ((G (o + 128) : ℝ) : EReal) := hw 128
  have s0 : k0_pay207 (F := Ideal) z a b b2 (ix2 r ⟨x.val, by omega⟩) = ((S (o + (0 + x.val)) : ℝ) : EReal) := (hs ⟨x.val, by omega⟩).trans (by rw [Nat.zero_add])
  have k0 : mk (ix2 r ⟨x.val, by omega⟩) = if 0 + x.val < r.val + δ then 1#1 else 0#1 := (hmk ⟨x.val, by omega⟩).trans (by rw [Nat.zero_add])
  pointwise [k0_pay221, k0_pay220, k0_pay219, k0_pay218, k0_pay217, k0_pay216, k0_pay211, k0_pay210]
  simp only [hT, hC, s0, k0, z0, w0, m0 x]
  simp only [← EReal.coe_add, ← EReal.coe_sub, Nat.add_zero, Nat.zero_add, Ideal.exp_coe]
  split
  · refine Eq.trans (rfl : _ = ((_ : ℝ) : EReal)) (congrArg (fun y => ((Real.exp y : ℝ) : EReal)) ?_)
    ring
  · rfl

theorem attN1_1
    (P G S : ℕ → ℝ) (hP : ∀ m, P (m + 1) = P m + G m) (o : ℕ) (t : ℝ) (r : Fin 256) (mk : IVec S256x256 1) (C T : FVec Ideal S256x1 .f32) (w z a b b2 : FVec Ideal S256x256 .f32)
    (hC : C (ix2 r 0) = ((P o : ℝ) : EReal))
    (hw : ∀ y : Fin 256, k0_pay206 (F := Ideal) mk a b b2 (ix2 r y) = ((G (o + y.val) : ℝ) : EReal))
    (hT : T (ix2 r 0) = ((t : ℝ) : EReal)) (hs : ∀ y : Fin 256, k0_pay207 (F := Ideal) z a b b2 (ix2 r y) = ((S (o + y.val) : ℝ) : EReal))
    (δ : ℕ) (hmk : ∀ y : Fin 256, mk (ix2 r y) = if y.val < r.val + δ then 1#1 else 0#1) (x : Fin 128) :
    k0_pay221 (F := Ideal) T mk (k0_pay207 z a b b2) (k0_pay211 mk a b b2) (k0_pay217 k0_pay346 C mk w a b b2) (k0_pay218 k0_pay346 T C mk z w a b b2) (k0_pay219 k0_pay346 mk w a b b2) (ix2 r ⟨128 + x.val, by omega⟩) = ((if 128 + x.val < r.val + δ then Real.exp (S (o + (128 + x.val)) + t - P (o + (128 + x.val) + 1)) else 0 : ℝ) : EReal) := by
  have m0 : ∀ c : Fin 128, k0_pay212 (F := Ideal) k0_pay346 mk w a b b2 (ix2 ⟨512 + r.val, by omega⟩ c) = ((P (o + 128) - P (o + (0 + c.val) + 1) : ℝ) : EReal) := fun c => by
    have h := ts212_2 mk w a b b2 P G hP (o + 0) r c (by omega) (fun k => (hw ⟨0 + k.val, by omega⟩).trans (by rw [← Nat.add_assoc]))
    rw [show o + 0 + 128 = o + 128 by omega, show o + 0 + c.val + 1 = o + (0 + c.val) + 1 by omega] at h
    exact h
  have z0 : k0_pay212 (F := Ideal) k0_pay346 mk w a b b2 (ix2 ⟨512 + r.val, by omega⟩ 0) = ((P (o + 128) - (P (o + 0) + G (o + 0)) : ℝ) : EReal) := by
    rw [← hP]; exact m0 0
  have w0 : k0_pay206 (F := Ideal) mk a b b2 (ix2 r 0) = ((G (o + 0) : ℝ) : EReal) := hw 0
  have m1 : ∀ c : Fin 128, k0_pay212 (F := Ideal) k0_pay346 mk w a b b2 (ix2 ⟨768 + r.val, by omega⟩ c) = ((P (o + 256) - P (o + (128 + c.val) + 1) : ℝ) : EReal) := fun c => by
    have h := ts212_3 mk w a b b2 P G hP (o + 128) r c (by omega) (fun k => (hw ⟨128 + k.val, by omega⟩).trans (by rw [← Nat.add_assoc]))
    rw [show o + 128 + 128 = o + 256 by omega, show o + 128 + c.val + 1 = o + (128 + c.val) + 1 by omega] at h
    exact h
  have z1 : k0_pay212 (F := Ideal) k0_pay346 mk w a b b2 (ix2 ⟨768 + r.val, by omega⟩ 0) = ((P (o + 256) - (P (o + 128) + G (o + 128)) : ℝ) : EReal) := by
    rw [← hP]; exact m1 0
  have w1 : k0_pay206 (F := Ideal) mk a b b2 (ix2 r 128) = ((G (o + 128) : ℝ) : EReal) := hw 128
  have s1 : k0_pay207 (F := Ideal) z a b b2 (ix2 r ⟨128 + x.val, by omega⟩) = ((S (o + (128 + x.val)) : ℝ) : EReal) := hs ⟨128 + x.val, by omega⟩
  have k1 : mk (ix2 r ⟨128 + x.val, by omega⟩) = if 128 + x.val < r.val + δ then 1#1 else 0#1 := hmk ⟨128 + x.val, by omega⟩
  pointwise [k0_pay221, k0_pay220, k0_pay219, k0_pay218, k0_pay217, k0_pay216, k0_pay211, k0_pay210]
  simp only [hT, hC, s1, k1, z0, w0, z1, w1, m1 x]
  simp only [← EReal.coe_add, ← EReal.coe_sub, Nat.add_zero, Nat.zero_add, Ideal.exp_coe]
  split
  · refine Eq.trans (rfl : _ = ((_ : ℝ) : EReal)) (congrArg (fun y => ((Real.exp y : ℝ) : EReal)) ?_)
    ring
  · rfl

/-- Across the diagonal, narrow, second head: the attention weight at an entry. -/
theorem attN1
    (P G S : ℕ → ℝ) (hP : ∀ m, P (m + 1) = P m + G m) (o : ℕ) (t : ℝ) (r : Fin 256) (mk : IVec S256x256 1) (C T : FVec Ideal S256x1 .f32) (w z a b b2 : FVec Ideal S256x256 .f32)
    (hC : C (ix2 r 0) = ((P o : ℝ) : EReal))
    (hw : ∀ y : Fin 256, k0_pay206 (F := Ideal) mk a b b2 (ix2 r y) = ((G (o + y.val) : ℝ) : EReal))
    (hT : T (ix2 r 0) = ((t : ℝ) : EReal)) (hs : ∀ y : Fin 256, k0_pay207 (F := Ideal) z a b b2 (ix2 r y) = ((S (o + y.val) : ℝ) : EReal))
    (δ : ℕ) (hmk : ∀ y : Fin 256, mk (ix2 r y) = if y.val < r.val + δ then 1#1 else 0#1) (y : Fin 256) :
    k0_pay221 (F := Ideal) T mk (k0_pay207 z a b b2) (k0_pay211 mk a b b2) (k0_pay217 k0_pay346 C mk w a b b2) (k0_pay218 k0_pay346 T C mk z w a b b2) (k0_pay219 k0_pay346 mk w a b b2) (ix2 r y) = ((if y.val < r.val + δ then Real.exp (S (o + y.val) + t - P (o + y.val + 1)) else 0 : ℝ) : EReal) := by
  obtain ⟨n, x, rfl⟩ : ∃ (n : Fin 2) (x : Fin 128), y = ⟨128 * n.val + x.val, by omega⟩ := ⟨⟨y.val / 128, by omega⟩, ⟨y.val % 128, by omega⟩, Fin.ext (by simp only []; omega)⟩
  have h0 := attN1_0 P G S hP o t r mk C T w z a b b2 hC hw hT hs δ hmk x
  have h1 := attN1_1 P G S hP o t r mk C T w z a b b2 hC hw hT hs δ hmk x
  obtain ⟨n, hn⟩ := n
  obtain ⟨x, hx⟩ := x
  match n, hn with
  | 0, _ => simpa only [Nat.mul_zero, Nat.zero_add] using h0
  | 1, _ => exact h1

end Cert.SbPay
end
-- ==== Proof.SbRow.lean ====
/- One row of a tile of `sb_attn_bwd`: the running sum of log (1 - beta), and the attention weights, over the reals. -/
module

public import proofs.«01_k».proof.Proof.SbTile

@[expose] public section

set_option maxRecDepth 16384
set_option maxHeartbeats 1000000

noncomputable section

namespace Cert.SbPay

open Idealize.ShloMosaic Idealize.ShloMosaic.TcCoe Idealize.SL.Sem
open Cert.KernelIdeal Cert.KernelIdeal.Gen

/-- log (1 - beta) of query `t` at key `s`, from the row `z` of scores; zero unless the key comes before the query. -/
def gz (z : ℕ → ℝ) (t s : ℕ) : ℝ := if s < t then -sp (z s) else 0
/-- Its sum over the keys before `m`. -/
def pz (z : ℕ → ℝ) (t m : ℕ) : ℝ := ∑ s ∈ Finset.range m, gz z t s
/-- The attention weight of query `t` at key `s`, the row's whole sum being `τ`. -/
def att (z : ℕ → ℝ) (τ : ℝ) (t s : ℕ) : ℝ := if s < t then Real.exp ((z s - sp (z s)) + τ - pz z t (s + 1)) else 0

theorem pz_succ (z : ℕ → ℝ) (t m : ℕ) : pz z t (m + 1) = pz z t m + gz z t m := Finset.sum_range_succ _ _

/-- The attention weights of the first head at a key block below the diagonal, from the block's keys. -/
def attI (v5 : FVec Ideal S128x128 .bf16) (v43 v46 : FVec Ideal S256x64 .bf16) (v55 : FVec Ideal S256x1 .f32) (K0 K1 : FVec Ideal S1x512x64 .bf16) (C : FVec Ideal S256x1 .f32) : FVec Ideal S256x512 .bf16 :=
  k0_pay54 (F := Ideal) (k0_pay43 v5 v55 C (k0_pay25 v43 K0) (k0_pay26 v43 K0) (k0_pay27 v46 K1) (k0_pay28 v46 K1) (Scalar.ofBits .f32 0x3f800000#32)) (k0_pay46 v5 v55 C (k0_pay25 v43 K0) (k0_pay26 v43 K0) (k0_pay27 v46 K1) (k0_pay28 v46 K1) (Scalar.ofBits .f32 0x3f800000#32)) (k0_pay49 v5 v55 C (k0_pay25 v43 K0) (k0_pay26 v43 K0) (k0_pay27 v46 K1) (k0_pay28 v46 K1) (Scalar.ofBits .f32 0x3f800000#32)) (k0_pay52 v5 v55 C (k0_pay25 v43 K0) (k0_pay26 v43 K0) (k0_pay27 v46 K1) (k0_pay28 v46 K1) (Scalar.ofBits .f32 0x3f800000#32))

/-- The attention weights of the second head at a key block below the diagonal. -/
def attI' (v5 : FVec Ideal S128x128 .bf16) (v43 v46 : FVec Ideal S256x64 .bf16) (v58 : FVec Ideal S256x1 .f32) (K0 K1 : FVec Ideal S1x512x64 .bf16) (C : FVec Ideal S256x1 .f32) : FVec Ideal S256x512 .bf16 :=
  k0_pay65 (F := Ideal) v58 C (k0_pay31 (k0_pay21 v46 K1) (k0_pay27 v46 K1) (k0_pay28 v46 K1) (Scalar.ofBits .f32 0x3f800000#32)) (k0_pay36 (k0_pay27 v46 K1) (k0_pay28 v46 K1) (Scalar.ofBits .f32 0x3f800000#32)) (k0_pay37 (k0_pay27 v46 K1) (k0_pay28 v46 K1) (Scalar.ofBits .f32 0x3f800000#32)) (k0_pay38 (k0_pay27 v46 K1) (k0_pay28 v46 K1) (Scalar.ofBits .f32 0x3f800000#32)) (k0_pay39 (k0_pay27 v46 K1) (k0_pay28 v46 K1) (Scalar.ofBits .f32 0x3f800000#32)) (k0_pay40 v5 (k0_pay25 v43 K0) (k0_pay27 v46 K1) (k0_pay28 v46 K1) (Scalar.ofBits .f32 0x3f800000#32))

/-- The attention weights of the first head at a diagonal block of 512 keys. -/
def attW (b : BitVec 32) (v43 v46 : FVec Ideal S256x64 .bf16) (v55 : FVec Ideal S256x1 .f32) (K0 K1 : FVec Ideal S1x512x64 .bf16) (C : FVec Ideal S256x1 .f32) : FVec Ideal S256x512 .bf16 :=
  let mk := k0_pay237 k0_pay353 b
  let w := k0_pay245 (F := Ideal) k0_pay353 v43 b K0
  let s := k0_pay246 (F := Ideal) v43 K0
  let p := k0_pay247 (F := Ideal) v46 K1
  let q := k0_pay248 (F := Ideal) v46 K1
  k0_pay273 (F := Ideal) v55 mk s (k0_pay263 k0_pay346 v55 C mk w s p q) (k0_pay266 k0_pay346 v55 C mk w s p q) (k0_pay269 k0_pay346 v55 C mk w s p q) (k0_pay270 k0_pay346 mk w p q) (k0_pay271 k0_pay346 C mk w p q)

/-- The attention weights of the second head at a diagonal block of 512 keys. -/
def attW' (b : BitVec 32) (v43 v46 : FVec Ideal S256x64 .bf16) (v58 : FVec Ideal S256x1 .f32) (K0 K1 : FVec Ideal S1x512x64 .bf16) (C : FVec Ideal S256x1 .f32) : FVec Ideal S256x512 .bf16 :=
  let mk := k0_pay237 k0_pay353 b
  let w := k0_pay245 (F := Ideal) k0_pay353 v43 b K0
  let z := k0_pay241 (F := Ideal) v46 K1
  let p := k0_pay247 (F := Ideal) v46 K1
  let q := k0_pay248 (F := Ideal) v46 K1
  k0_pay276 (F := Ideal) v58 C mk (k0_pay251 z p q) (k0_pay256 mk p q) (k0_pay257 mk p q) (k0_pay258 mk p q) (k0_pay259 mk p q) (k0_pay260 k0_pay346 mk w p q)

/-- The attention weights of the first head at a diagonal block of 256 keys. -/
def attN (b : BitVec 32) (v43 v46 : FVec Ideal S256x64 .bf16) (v55 : FVec Ideal S256x1 .f32) (K0 K1 : FVec Ideal S1x256x64 .bf16) (C : FVec Ideal S256x1 .f32) : FVec Ideal S256x256 .bf16 :=
  let mk := k0_pay192 k0_pay353 b
  let w := k0_pay200 (F := Ideal) k0_pay353 v43 b K0
  let s := k0_pay201 (F := Ideal) v43 K0
  let p := k0_pay202 (F := Ideal) v46 K1
  let q := k0_pay203 (F := Ideal) v46 K1
  k0_pay214 (F := Ideal) k0_pay346 v55 C mk w s p q k0_pay204

/-- The attention weights of the second head at a diagonal block of 256 keys. -/
def attN' (b : BitVec 32) (v43 v46 : FVec Ideal S256x64 .bf16) (v58 : FVec Ideal S256x1 .f32) (K0 K1 : FVec Ideal S1x256x64 .bf16) (C : FVec Ideal S256x1 .f32) : FVec Ideal S256x256 .bf16 :=
  let mk := k0_pay192 k0_pay353 b
  let w := k0_pay200 (F := Ideal) k0_pay353 v43 b K0
  let z := k0_pay196 (F := Ideal) v46 K1
  let p := k0_pay202 (F := Ideal) v46 K1
  let q := k0_pay203 (F := Ideal) v46 K1
  k0_pay221 (F := Ideal) v58 mk (k0_pay207 z p q k0_pay204) (k0_pay211 mk p q k0_pay204) (k0_pay217 k0_pay346 C mk w p q k0_pay204) (k0_pay218 k0_pay346 v58 C mk z w p q k0_pay204) (k0_pay219 k0_pay346 mk w p q k0_pay204)

/-- The running sum of the first head moves over a block of keys. -/
theorem rowC0 (z : ℕ → ℝ) (τ : ℝ) (t o : ℕ) (r : Fin 256) (v43 v46 : FVec Ideal S256x64 .bf16) (v55 : FVec Ideal S256x1 .f32) (K0 K1 : FVec Ideal S1x512x64 .bf16) (C : FVec Ideal S256x1 .f32)
    (hz : ∀ x : Fin 512, (∑ d : Fin 64, v43 (ix2 r d) * K0 (ix3 0 x d) : EReal) = ((z (o + x.val) : ℝ) : EReal))
    (hC : C (ix2 r 0) = ((pz z t o : ℝ) : EReal)) (hot : o + 512 ≤ t) :
    k0_pay51 (F := Ideal) k0_pay346 C (k0_pay25 v43 K0) (k0_pay27 v46 K1) (k0_pay28 v46 K1) (Scalar.ofBits .f32 0x3f800000#32) (ix2 r 0) = ((pz z t (o + 512) : ℝ) : EReal) :=
  cumI0 (pz z t) (gz z t) (fun y => z y - sp (z y)) (pz_succ z t) o 0 r C C (k0_pay25 v43 K0) (k0_pay26 v43 K0) (k0_pay27 v46 K1) (k0_pay28 v46 K1) (Scalar.ofBits .f32 0x3f800000#32) hC
    fun y => (lg25 v43 K0 r y _ ((z20 v43 K0 r y).trans (hz y))).trans (congrArg _ (if_pos (by have := y.isLt; omega)).symm)

/-- The running sum of the second head moves over a block of keys. -/
theorem rowC1 (z : ℕ → ℝ) (τ : ℝ) (t o : ℕ) (r : Fin 256) (v43 v46 : FVec Ideal S256x64 .bf16) (v58 : FVec Ideal S256x1 .f32) (K0 K1 : FVec Ideal S1x512x64 .bf16) (C : FVec Ideal S256x1 .f32)
    (hz : ∀ x : Fin 512, (∑ d : Fin 64, v46 (ix2 r d) * K1 (ix3 0 x d) : EReal) = ((z (o + x.val) : ℝ) : EReal))
    (hC : C (ix2 r 0) = ((pz z t o : ℝ) : EReal)) (hot : o + 512 ≤ t) :
    k0_pay63 (F := Ideal) C (k0_pay36 (k0_pay27 v46 K1) (k0_pay28 v46 K1) (Scalar.ofBits .f32 0x3f800000#32)) (k0_pay37 (k0_pay27 v46 K1) (k0_pay28 v46 K1) (Scalar.ofBits .f32 0x3f800000#32)) (k0_pay38 (k0_pay27 v46 K1) (k0_pay28 v46 K1) (Scalar.ofBits .f32 0x3f800000#32)) (k0_pay39 (k0_pay27 v46 K1) (k0_pay28 v46 K1) (Scalar.ofBits .f32 0x3f800000#32)) (k0_pay40 k0_pay346 (k0_pay25 v43 K0) (k0_pay27 v46 K1) (k0_pay28 v46 K1) (Scalar.ofBits .f32 0x3f800000#32)) (ix2 r 0) = ((pz z t (o + 512) : ℝ) : EReal) :=
  cumI1 (pz z t) (gz z t) (fun y => z y - sp (z y)) (pz_succ z t) o 0 r C C (k0_pay25 v43 K0) (k0_pay26 v43 K0) (k0_pay27 v46 K1) (k0_pay28 v46 K1) (Scalar.ofBits .f32 0x3f800000#32) hC
    fun y => (lg30 v46 K1 r y _ ((z21 v46 K1 r y).trans (hz y))).trans (congrArg _ (if_pos (by have := y.isLt; omega)).symm)

/-- The weights of the first head at a block below the diagonal. -/
theorem rowI0 (z : ℕ → ℝ) (τ : ℝ) (t o : ℕ) (r : Fin 256) (v43 v46 : FVec Ideal S256x64 .bf16) (v55 : FVec Ideal S256x1 .f32) (K0 K1 : FVec Ideal S1x512x64 .bf16) (C : FVec Ideal S256x1 .f32)
    (hz : ∀ x : Fin 512, (∑ d : Fin 64, v43 (ix2 r d) * K0 (ix3 0 x d) : EReal) = ((z (o + x.val) : ℝ) : EReal))
    (hC : C (ix2 r 0) = ((pz z t o : ℝ) : EReal)) (hT : v55 (ix2 r 0) = ((τ : ℝ) : EReal)) (hot : o + 512 ≤ t) (x : Fin 512) :
    attI k0_pay346 v43 v46 v55 K0 K1 C (ix2 r x) = ((att z τ t (o + x.val) : ℝ) : EReal) :=
  (attI0 (pz z t) (gz z t) (fun y => z y - sp (z y)) (pz_succ z t) o τ r C v55 (k0_pay25 v43 K0) (k0_pay26 v43 K0) (k0_pay27 v46 K1) (k0_pay28 v46 K1) (Scalar.ofBits .f32 0x3f800000#32) hC
    (fun y => (lg25 v43 K0 r y _ ((z20 v43 K0 r y).trans (hz y))).trans (congrArg _ (if_pos (by have := y.isLt; omega)).symm))
    hT (fun y => ls26 v43 K0 r y _ ((z20 v43 K0 r y).trans (hz y))) x).trans (congrArg _ (if_pos (by have := x.isLt; omega)).symm)

/-- The weights of the second head at a block below the diagonal. -/
theorem rowI1 (z : ℕ → ℝ) (τ : ℝ) (t o : ℕ) (r : Fin 256) (v43 v46 : FVec Ideal S256x64 .bf16) (v58 : FVec Ideal S256x1 .f32) (K0 K1 : FVec Ideal S1x512x64 .bf16) (C : FVec Ideal S256x1 .f32)
    (hz : ∀ x : Fin 512, (∑ d : Fin 64, v46 (ix2 r d) * K1 (ix3 0 x d) : EReal) = ((z (o + x.val) : ℝ) : EReal))
    (hC : C (ix2 r 0) = ((pz z t o : ℝ) : EReal)) (hT : v58 (ix2 r 0) = ((τ : ℝ) : EReal)) (hot : o + 512 ≤ t) (x : Fin 512) :
    attI' k0_pay346 v43 v46 v58 K0 K1 C (ix2 r x) = ((att z τ t (o + x.val) : ℝ) : EReal) :=
  (attI1 (pz z t) (gz z t) (fun y => z y - sp (z y)) (pz_succ z t) o τ r C v58 (k0_pay25 v43 K0) (k0_pay31 (k0_pay21 v46 K1) (k0_pay27 v46 K1) (k0_pay28 v46 K1) (Scalar.ofBits .f32 0x3f800000#32)) (k0_pay27 v46 K1) (k0_pay28 v46 K1) (Scalar.ofBits .f32 0x3f800000#32) hC
    (fun y => (lg30 v46 K1 r y _ ((z21 v46 K1 r y).trans (hz y))).trans (congrArg _ (if_pos (by have := y.isLt; omega)).symm))
    hT (fun y => ls31 v46 K1 r y _ ((z21 v46 K1 r y).trans (hz y))) x).trans (congrArg _ (if_pos (by have := x.isLt; omega)).symm)

/-- The weights of the first head at a diagonal block of 512 keys. -/
theorem rowW0 (b : BitVec 32) (hb : b = 256#32) (z : ℕ → ℝ) (τ : ℝ) (t o : ℕ) (r : Fin 256) (v43 v46 : FVec Ideal S256x64 .bf16) (v55 : FVec Ideal S256x1 .f32) (K0 K1 : FVec Ideal S1x512x64 .bf16) (C : FVec Ideal S256x1 .f32)
    (hz : ∀ x : Fin 512, (∑ d : Fin 64, v43 (ix2 r d) * K0 (ix3 0 x d) : EReal) = ((z (o + x.val) : ℝ) : EReal))
    (hC : C (ix2 r 0) = ((pz z t o : ℝ) : EReal)) (hT : v55 (ix2 r 0) = ((τ : ℝ) : EReal)) (hot : t = o + 256 + r.val) (x : Fin 512) :
    attW b v43 v46 v55 K0 K1 C (ix2 r x) = ((att z τ t (o + x.val) : ℝ) : EReal) := by
  refine (attW0 (pz z t) (gz z t) (fun y => z y - sp (z y)) (pz_succ z t) o τ r (k0_pay237 k0_pay353 b) C v55 (k0_pay245 k0_pay353 v43 b K0) (k0_pay246 v43 K0) (k0_pay247 v46 K1) (k0_pay248 v46 K1) hC (fun y => ?_) hT (fun y => ls246 v43 K0 r y _ ((z240 v43 K0 r y).trans (hz y))) 256 (fun y => mk237 b r y hb) x).trans ?_
  · refine (lg245 v43 K0 b hb r y _ ((z240 v43 K0 r y).trans (hz y))).trans (congrArg _ ?_)
    unfold gz
    by_cases h : y.val < r.val + 256
    · rw [if_pos h, if_pos (by omega)]
    · rw [if_neg h, if_neg (by omega)]
  · refine congrArg _ ?_
    unfold att

    by_cases h : x.val < r.val + 256
    · rw [if_pos h, if_pos (by omega)]
    · rw [if_neg h, if_neg (by omega)]

/-- The weights of the second head at a diagonal block of 512 keys. -/
theorem rowW1 (b : BitVec 32) (hb : b = 256#32) (z : ℕ → ℝ) (τ : ℝ) (t o : ℕ) (r : Fin 256) (v43 v46 : FVec Ideal S256x64 .bf16) (v58 : FVec Ideal S256x1 .f32) (K0 K1 : FVec Ideal S1x512x64 .bf16) (C : FVec Ideal S256x1 .f32)
    (hz : ∀ x : Fin 512, (∑ d : Fin 64, v46 (ix2 r d) * K1 (ix3 0 x d) : EReal) = ((z (o + x.val) : ℝ) : EReal))
    (hC : C (ix2 r 0) = ((pz z t o : ℝ) : EReal)) (hT : v58 (ix2 r 0) = ((τ : ℝ) : EReal)) (hot : t = o + 256 + r.val) (x : Fin 512) :
    attW' b v43 v46 v58 K0 K1 C (ix2 r x) = ((att z τ t (o + x.val) : ℝ) : EReal) := by
  refine (attW1 (pz z t) (gz z t) (fun y => z y - sp (z y)) (pz_succ z t) o τ r (k0_pay237 k0_pay353 b) C v58 (k0_pay245 k0_pay353 v43 b K0) (k0_pay251 (k0_pay241 v46 K1) (k0_pay247 v46 K1) (k0_pay248 v46 K1)) (k0_pay247 v46 K1) (k0_pay248 v46 K1) hC (fun y => ?_) hT (fun y => ls251 v46 K1 r y _ ((z241 v46 K1 r y).trans (hz y))) 256 (fun y => mk237 b r y hb) x).trans ?_
  · refine (lg250 v46 K1 b hb r y _ ((z241 v46 K1 r y).trans (hz y))).trans (congrArg _ ?_)
    unfold gz
    by_cases h : y.val < r.val + 256
    · rw [if_pos h, if_pos (by omega)]
    · rw [if_neg h, if_neg (by omega)]
  · refine congrArg _ ?_
    unfold att

    by_cases h : x.val < r.val + 256
    · rw [if_pos h, if_pos (by omega)]
    · rw [if_neg h, if_neg (by omega)]

/-- The weights of the first head at a diagonal block of 256 keys. -/
theorem rowN0 (b : BitVec 32) (hb : b = 0#32) (z : ℕ → ℝ) (τ : ℝ) (t o : ℕ) (r : Fin 256) (v43 v46 : FVec Ideal S256x64 .bf16) (v55 : FVec Ideal S256x1 .f32) (K0 K1 : FVec Ideal S1x256x64 .bf16) (C : FVec Ideal S256x1 .f32)
    (hz : ∀ x : Fin 256, (∑ d : Fin 64, v43 (ix2 r d) * K0 (ix3 0 x d) : EReal) = ((z (o + x.val) : ℝ) : EReal))
    (hC : C (ix2 r 0) = ((pz z t o : ℝ) : EReal)) (hT : v55 (ix2 r 0) = ((τ : ℝ) : EReal)) (hot : t = o + r.val) (x : Fin 256) :
    attN b v43 v46 v55 K0 K1 C (ix2 r x) = ((att z τ t (o + x.val) : ℝ) : EReal) := by
  refine (attN0 (pz z t) (gz z t) (fun y => z y - sp (z y)) (pz_succ z t) o τ r (k0_pay192 k0_pay353 b) C v55 (k0_pay200 k0_pay353 v43 b K0) (k0_pay201 v43 K0) (k0_pay202 v46 K1) (k0_pay203 v46 K1) k0_pay204 hC (fun y => ?_) hT (fun y => ls201 v43 K0 r y _ ((z195 v43 K0 r y).trans (hz y))) 0 (fun y => mk192 b r y hb) x).trans ?_
  · refine (lg200 v43 K0 b hb r y _ ((z195 v43 K0 r y).trans (hz y))).trans (congrArg _ ?_)
    unfold gz
    by_cases h : y.val < r.val
    · rw [if_pos h, if_pos (by omega)]
    · rw [if_neg h, if_neg (by omega)]
  · refine congrArg _ ?_
    unfold att
    simp only [Nat.add_zero]
    by_cases h : x.val < r.val
    · rw [if_pos h, if_pos (by omega)]
    · rw [if_neg h, if_neg (by omega)]

/-- The weights of the second head at a diagonal block of 256 keys. -/
theorem rowN1 (b : BitVec 32) (hb : b = 0#32) (z : ℕ → ℝ) (τ : ℝ) (t o : ℕ) (r : Fin 256) (v43 v46 : FVec Ideal S256x64 .bf16) (v58 : FVec Ideal S256x1 .f32) (K0 K1 : FVec Ideal S1x256x64 .bf16) (C : FVec Ideal S256x1 .f32)
    (hz : ∀ x : Fin 256, (∑ d : Fin 64, v46 (ix2 r d) * K1 (ix3 0 x d) : EReal) = ((z (o + x.val) : ℝ) : EReal))
    (hC : C (ix2 r 0) = ((pz z t o : ℝ) : EReal)) (hT : v58 (ix2 r 0) = ((τ : ℝ) : EReal)) (hot : t = o + r.val) (x : Fin 256) :
    attN' b v43 v46 v58 K0 K1 C (ix2 r x) = ((att z τ t (o + x.val) : ℝ) : EReal) := by
  refine (attN1 (pz z t) (gz z t) (fun y => z y - sp (z y)) (pz_succ z t) o τ r (k0_pay192 k0_pay353 b) C v58 (k0_pay200 k0_pay353 v43 b K0) (k0_pay196 v46 K1) (k0_pay202 v46 K1) (k0_pay203 v46 K1) k0_pay204 hC (fun y => ?_) hT (fun y => ls207 v46 K1 r y _ ((z196 v46 K1 r y).trans (hz y))) 0 (fun y => mk192 b r y hb) x).trans ?_
  · refine (lg206 v46 K1 b hb r y _ ((z196 v46 K1 r y).trans (hz y))).trans (congrArg _ ?_)
    unfold gz
    by_cases h : y.val < r.val
    · rw [if_pos h, if_pos (by omega)]
    · rw [if_neg h, if_neg (by omega)]
  · refine congrArg _ ?_
    unfold att
    simp only [Nat.add_zero]
    by_cases h : x.val < r.val
    · rw [if_pos h, if_pos (by omega)]
    · rw [if_neg h, if_neg (by omega)]

end Cert.SbPay
end
-- ==== Proof.SbLoop.lean ====
/- What one step of the loop over key blocks of `sb_attn_bwd` adds to the gradient of the values. -/
module

public import proofs.«01_k».proof.Proof.SbRow
public import proofs.«01_k».proof.Proof.SbTrip
public import Idealize.ShloMosaic.Lib.WritesUnit

@[expose] public section

set_option maxRecDepth 16384
set_option maxHeartbeats 1000000

noncomputable section

namespace Cert.SbPay

open Idealize.ShloMosaic Idealize.ShloMosaic.TcCoe Idealize.SL.Sem
open Cert.KernelIdeal Cert.KernelIdeal.Gen

/-- The trip counts of the loops, and which query blocks end in a narrow diagonal step. -/
theorem trips_t2 : k0_t2_loop.trips = 8 := by decide
theorem trips_t4 : ∀ k : Fin k0_t2_loop.trips, (k0_t4_loop k).trips = 0 := by decide
theorem trips_t3 : ∀ k : Fin k0_t2_loop.trips, (k0_t3_loop k).trips = k.val / 2 := by decide
theorem narrow_iff : ∀ k : Fin k0_t2_loop.trips, k0_cond2 k = 1#1 ↔ k.val % 2 = 0 := by decide

/-- The offsets of a key block below the diagonal. -/
theorem offs_t3 : ∀ (k : Fin k0_t2_loop.trips) (j : Fin (k0_t3_loop k).trips), k0_off9 k j = ![0, 512 * j.val, 0] ∧ k0_off10 k j = ![1, 512 * j.val, 0] ∧ k0_off11 k j = ![0, 0, 512 * j.val] ∧ k0_off12 k j = ![1, 0, 512 * j.val] := by decide

/-- A load through a rectangle reads the element at the offset plus the position. -/
theorem readAt_at {sp : Space} {s : Shape} {e : EltTy} (v : View sig .tc sp s e) (f : v.ty.Contents (Elt Ideal)) {off off' size : Fin s.rank → ℕ} (inb : ∀ a, off a + size a ≤ s.size a)
    (h : off = off') (y : (Rect.unit off size inb).shape.Idx) (p : s.Idx) (hp : ∀ a, (p a).val = off' a + (y a).val) :
    v.readAt (Elt Ideal) (Rect.unit off size inb).toLoadRect f y = v.read (Elt Ideal) f p := by
  subst h
  exact congrArg (v.read (Elt Ideal) f) (funext fun a => Fin.ext (by
    show off a + 1 * (y a).val = (p a).val
    rw [hp a, Nat.one_mul]))

theorem pay309_at (v : FVec Ideal S256x64 .bf16) (d : Fin 64) (r : Fin 256) : k0_pay309 (F := Ideal) v (ix2 d r) = v (ix2 r d) := by pointwise [k0_pay309]
theorem pay310_at (v : FVec Ideal S256x64 .bf16) (d : Fin 64) (r : Fin 256) : k0_pay310 (F := Ideal) v (ix2 d r) = v (ix2 r d) := by pointwise [k0_pay310]

theorem pay102_at (v : FVec Ideal S64x256 .bf16) (a : FVec Ideal S256x512 .bf16) (g : FVec Ideal S1x64x512 .f32) (d : Fin 64) (x : Fin 512) :
    k0_pay102 (F := Ideal) v a g (ix3 0 d x) = g (ix3 0 d x) + ∑ r : Fin 256, v (ix2 d r) * a (ix2 r x) := by pointwise [k0_pay102]

theorem pay297_at (v : FVec Ideal S64x256 .bf16) (a : FVec Ideal S256x512 .bf16) (g : FVec Ideal S1x64x512 .f32) (d : Fin 64) (x : Fin 512) :
    k0_pay297 (F := Ideal) v a g (ix3 0 d x) = g (ix3 0 d x) + ∑ r : Fin 256, v (ix2 d r) * a (ix2 r x) := by pointwise [k0_pay297]

theorem pay232_at (v : FVec Ideal S64x256 .bf16) (a : FVec Ideal S256x256 .bf16) (g : FVec Ideal S1x64x256 .f32) (d : Fin 64) (x : Fin 256) :
    k0_pay232 (F := Ideal) v a g (ix3 0 d x) = g (ix3 0 d x) + ∑ r : Fin 256, v (ix2 d r) * a (ix2 r x) := by pointwise [k0_pay232]

theorem pay313_at (v : FVec Ideal S256x64 .bf16) (a : FVec Ideal S256x512 .bf16) (g : FVec Ideal S1x64x512 .f32) (d : Fin 64) (x : Fin 512) :
    k0_pay313 (F := Ideal) v a g (ix3 0 d x) = g (ix3 0 d x) + ∑ r : Fin 256, v (ix2 r d) * a (ix2 r x) := by pointwise [k0_pay313, k0_pay310]

theorem pay317_at (v : FVec Ideal S256x64 .bf16) (a : FVec Ideal S256x512 .bf16) (g : FVec Ideal S1x64x512 .f32) (d : Fin 64) (x : Fin 512) :
    k0_pay317 (F := Ideal) v a g (ix3 0 d x) = g (ix3 0 d x) + ∑ r : Fin 256, v (ix2 r d) * a (ix2 r x) := by pointwise [k0_pay317, k0_pay310]

/-- The loads of the key blocks. -/
theorem inb9 : ∀ (k : Fin k0_t2_loop.trips) (j : Fin (k0_t3_loop k).trips), (∀ a, k0_off9 k j a + S1x512x64.size a ≤ S2x2048x64.size a) ∧ (∀ a, k0_off10 k j a + S1x512x64.size a ≤ S2x2048x64.size a) := by decide

abbrev key0 {arg15 : Memref sig .tc .vmem S2x2048x64 .bf16} (k0_t2 : Fin k0_t2_loop.trips) (k : Fin (k0_t3_loop k0_t2).trips) (X_arg15 : BufTy.Contents (Elt Ideal) arg15.view.ty) : FVec Ideal S1x512x64 .bf16 :=
  View.readAt (Elt Ideal) arg15.view (Rect.unit (s := S2x2048x64) (k0_off9 k0_t2 k) S1x512x64.size (inb9 k0_t2 k).1).toLoadRect X_arg15
abbrev key1 {arg15 : Memref sig .tc .vmem S2x2048x64 .bf16} (k0_t2 : Fin k0_t2_loop.trips) (k : Fin (k0_t3_loop k0_t2).trips) (X_arg15 : BufTy.Contents (Elt Ideal) arg15.view.ty) : FVec Ideal S1x512x64 .bf16 :=
  View.readAt (Elt Ideal) arg15.view (Rect.unit (s := S2x2048x64) (k0_off10 k0_t2 k) S1x512x64.size (inb9 k0_t2 k).2).toLoadRect X_arg15

/-- What a step carries on: the first head's running sum. -/
theorem carry0 (𝒱 : Variants) (c : Dev nD) (bd : Option 𝒱.V) (i : grid0.Coords) (arg2 : Memref sig .tc .vmem S1x2048x128 .f32) (harg2 : arg2.IsWhole) (arg3 : Memref sig .tc .vmem S1x2048x128 .f32) (harg3 : arg3.IsWhole) (arg4 : Memref sig .tc .vmem S1x2048x128 .f32) (harg4 : arg4.IsWhole) (arg5 : Memref sig .tc .vmem S1x64 .f32) (harg5 : arg5.IsWhole) (arg6 : Memref sig .tc .vmem S1x64 .f32) (harg6 : arg6.IsWhole) (arg7 : Memref sig .tc .vmem S1x2x2048x1 .f32) (harg7 : arg7.IsWhole) (arg8 : Memref sig .tc .vmem S1x2048x128 .f32) (harg8 : arg8.IsWhole) (arg9 : Memref sig .tc .vmem S1x2048x128 .f32) (harg9 : arg9.IsWhole) (arg10 : Memref sig .tc .vmem S1x2048x128 .f32) (harg10 : arg10.IsWhole) (arg11 : Memref sig .tc .vmem S1x2048x128 .f32) (harg11 : arg11.IsWhole) (arg12 : Memref sig .tc .vmem S1x64 .f32) (harg12 : arg12.IsWhole) (arg13 : Memref sig .tc .vmem S1x64 .f32) (harg13 : arg13.IsWhole) (arg14 : Memref sig .tc .vmem S2x2048x64 .bf16) (harg14 : arg14.IsWhole) (arg15 : Memref sig .tc .vmem S2x2048x64 .bf16) (harg15 : arg15.IsWhole) (arg16 : Memref sig .tc .vmem S2x2048x64 .bf16) (harg16 : arg16.IsWhole) (arg17 : Memref sig .tc .vmem S2x2048x64 .bf16) (harg17 : arg17.IsWhole) (arg18 : Memref sig .tc .vmem S2x2048x64 .f32) (harg18 : arg18.IsWhole) (arg19 : Memref sig .tc .vmem S2x64x2048 .f32) (harg19 : arg19.IsWhole) (arg20 : Memref sig .tc .vmem S2x64x2048 .f32) (harg20 : arg20.IsWhole) (v5 : FVec Ideal S128x128 .bf16) (v9 : FVec Ideal S128x128 .bf16) (v26 : IVec S256x512 32) (k0_t2 : Fin k0_t2_loop.trips) (arg21 : BitVec 32) (v40 : BitVec 32) (v43 : FVec Ideal S256x64 .bf16) (v46 : FVec Ideal S256x64 .bf16) (v49 : FVec Ideal S256x64 .bf16) (v52 : FVec Ideal S256x64 .bf16) (v55 : FVec Ideal S256x1 .f32) (v58 : FVec Ideal S256x1 .f32) (v62 : BitVec 32) (v73 : BitVec 1) (v74 : BitVec 32) (v95 : BitVec 32) (X_arg15 : BufTy.Contents (Elt Ideal) arg15.view.ty) (X_arg16 : BufTy.Contents (Elt Ideal) arg16.view.ty) (k : Fin (k0_t3_loop k0_t2).trips) (acc : FVec Ideal S256x64 .f32 × FVec Ideal S256x1 .f32 × FVec Ideal S256x1 .f32 × FVec Ideal S256x64 .f32 × FVec Ideal S256x1 .f32 × FVec Ideal S256x1 .f32) (f19 : BufTy.Contents (Elt Ideal) arg19.view.ty) (f20 : BufTy.Contents (Elt Ideal) arg20.view.ty) :
    (trip_k0_t3 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v5 v9 v26 k0_t2 arg21 v40 v43 v46 v49 v52 v55 v58 v62 v73 v74 v95 X_arg15 X_arg16 k).1 acc f19 f20 |>.2.1 = k0_pay51 (F := Ideal) v5 acc.2.1 (k0_pay25 v43 (key0 k0_t2 k X_arg15)) (k0_pay27 v46 (key1 k0_t2 k X_arg15)) (k0_pay28 v46 (key1 k0_t2 k X_arg15)) (Scalar.ofBits .f32 0x3f800000#32) := by
  unfold trip_k0_t3; rfl

/-- What a step carries on: the second head's running sum. -/
theorem carry1 (𝒱 : Variants) (c : Dev nD) (bd : Option 𝒱.V) (i : grid0.Coords) (arg2 : Memref sig .tc .vmem S1x2048x128 .f32) (harg2 : arg2.IsWhole) (arg3 : Memref sig .tc .vmem S1x2048x128 .f32) (harg3 : arg3.IsWhole) (arg4 : Memref sig .tc .vmem S1x2048x128 .f32) (harg4 : arg4.IsWhole) (arg5 : Memref sig .tc .vmem S1x64 .f32) (harg5 : arg5.IsWhole) (arg6 : Memref sig .tc .vmem S1x64 .f32) (harg6 : arg6.IsWhole) (arg7 : Memref sig .tc .vmem S1x2x2048x1 .f32) (harg7 : arg7.IsWhole) (arg8 : Memref sig .tc .vmem S1x2048x128 .f32) (harg8 : arg8.IsWhole) (arg9 : Memref sig .tc .vmem S1x2048x128 .f32) (harg9 : arg9.IsWhole) (arg10 : Memref sig .tc .vmem S1x2048x128 .f32) (harg10 : arg10.IsWhole) (arg11 : Memref sig .tc .vmem S1x2048x128 .f32) (harg11 : arg11.IsWhole) (arg12 : Memref sig .tc .vmem S1x64 .f32) (harg12 : arg12.IsWhole) (arg13 : Memref sig .tc .vmem S1x64 .f32) (harg13 : arg13.IsWhole) (arg14 : Memref sig .tc .vmem S2x2048x64 .bf16) (harg14 : arg14.IsWhole) (arg15 : Memref sig .tc .vmem S2x2048x64 .bf16) (harg15 : arg15.IsWhole) (arg16 : Memref sig .tc .vmem S2x2048x64 .bf16) (harg16 : arg16.IsWhole) (arg17 : Memref sig .tc .vmem S2x2048x64 .bf16) (harg17 : arg17.IsWhole) (arg18 : Memref sig .tc .vmem S2x2048x64 .f32) (harg18 : arg18.IsWhole) (arg19 : Memref sig .tc .vmem S2x64x2048 .f32) (harg19 : arg19.IsWhole) (arg20 : Memref sig .tc .vmem S2x64x2048 .f32) (harg20 : arg20.IsWhole) (v5 : FVec Ideal S128x128 .bf16) (v9 : FVec Ideal S128x128 .bf16) (v26 : IVec S256x512 32) (k0_t2 : Fin k0_t2_loop.trips) (arg21 : BitVec 32) (v40 : BitVec 32) (v43 : FVec Ideal S256x64 .bf16) (v46 : FVec Ideal S256x64 .bf16) (v49 : FVec Ideal S256x64 .bf16) (v52 : FVec Ideal S256x64 .bf16) (v55 : FVec Ideal S256x1 .f32) (v58 : FVec Ideal S256x1 .f32) (v62 : BitVec 32) (v73 : BitVec 1) (v74 : BitVec 32) (v95 : BitVec 32) (X_arg15 : BufTy.Contents (Elt Ideal) arg15.view.ty) (X_arg16 : BufTy.Contents (Elt Ideal) arg16.view.ty) (k : Fin (k0_t3_loop k0_t2).trips) (acc : FVec Ideal S256x64 .f32 × FVec Ideal S256x1 .f32 × FVec Ideal S256x1 .f32 × FVec Ideal S256x64 .f32 × FVec Ideal S256x1 .f32 × FVec Ideal S256x1 .f32) (f19 : BufTy.Contents (Elt Ideal) arg19.view.ty) (f20 : BufTy.Contents (Elt Ideal) arg20.view.ty) :
    ((trip_k0_t3 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v5 v9 v26 k0_t2 arg21 v40 v43 v46 v49 v52 v55 v58 v62 v73 v74 v95 X_arg15 X_arg16 k).1 acc f19 f20).2.2.2.2.1 = k0_pay63 (F := Ideal) acc.2.2.2.2.1 (k0_pay36 (k0_pay27 v46 (key1 k0_t2 k X_arg15)) (k0_pay28 v46 (key1 k0_t2 k X_arg15)) (Scalar.ofBits .f32 0x3f800000#32)) (k0_pay37 (k0_pay27 v46 (key1 k0_t2 k X_arg15)) (k0_pay28 v46 (key1 k0_t2 k X_arg15)) (Scalar.ofBits .f32 0x3f800000#32)) (k0_pay38 (k0_pay27 v46 (key1 k0_t2 k X_arg15)) (k0_pay28 v46 (key1 k0_t2 k X_arg15)) (Scalar.ofBits .f32 0x3f800000#32)) (k0_pay39 (k0_pay27 v46 (key1 k0_t2 k X_arg15)) (k0_pay28 v46 (key1 k0_t2 k X_arg15)) (Scalar.ofBits .f32 0x3f800000#32)) (k0_pay40 v5 (k0_pay25 v43 (key0 k0_t2 k X_arg15)) (k0_pay27 v46 (key1 k0_t2 k X_arg15)) (k0_pay28 v46 (key1 k0_t2 k X_arg15)) (Scalar.ofBits .f32 0x3f800000#32)) := by
  unfold trip_k0_t3; rfl

/-- A step leaves the gradient of the values alone outside its key block. -/
theorem step_out (𝒱 : Variants) (c : Dev nD) (bd : Option 𝒱.V) (i : grid0.Coords) (arg2 : Memref sig .tc .vmem S1x2048x128 .f32) (harg2 : arg2.IsWhole) (arg3 : Memref sig .tc .vmem S1x2048x128 .f32) (harg3 : arg3.IsWhole) (arg4 : Memref sig .tc .vmem S1x2048x128 .f32) (harg4 : arg4.IsWhole) (arg5 : Memref sig .tc .vmem S1x64 .f32) (harg5 : arg5.IsWhole) (arg6 : Memref sig .tc .vmem S1x64 .f32) (harg6 : arg6.IsWhole) (arg7 : Memref sig .tc .vmem S1x2x2048x1 .f32) (harg7 : arg7.IsWhole) (arg8 : Memref sig .tc .vmem S1x2048x128 .f32) (harg8 : arg8.IsWhole) (arg9 : Memref sig .tc .vmem S1x2048x128 .f32) (harg9 : arg9.IsWhole) (arg10 : Memref sig .tc .vmem S1x2048x128 .f32) (harg10 : arg10.IsWhole) (arg11 : Memref sig .tc .vmem S1x2048x128 .f32) (harg11 : arg11.IsWhole) (arg12 : Memref sig .tc .vmem S1x64 .f32) (harg12 : arg12.IsWhole) (arg13 : Memref sig .tc .vmem S1x64 .f32) (harg13 : arg13.IsWhole) (arg14 : Memref sig .tc .vmem S2x2048x64 .bf16) (harg14 : arg14.IsWhole) (arg15 : Memref sig .tc .vmem S2x2048x64 .bf16) (harg15 : arg15.IsWhole) (arg16 : Memref sig .tc .vmem S2x2048x64 .bf16) (harg16 : arg16.IsWhole) (arg17 : Memref sig .tc .vmem S2x2048x64 .bf16) (harg17 : arg17.IsWhole) (arg18 : Memref sig .tc .vmem S2x2048x64 .f32) (harg18 : arg18.IsWhole) (arg19 : Memref sig .tc .vmem S2x64x2048 .f32) (harg19 : arg19.IsWhole) (arg20 : Memref sig .tc .vmem S2x64x2048 .f32) (harg20 : arg20.IsWhole) (v5 : FVec Ideal S128x128 .bf16) (v9 : FVec Ideal S128x128 .bf16) (v26 : IVec S256x512 32) (k0_t2 : Fin k0_t2_loop.trips) (arg21 : BitVec 32) (v40 : BitVec 32) (v43 : FVec Ideal S256x64 .bf16) (v46 : FVec Ideal S256x64 .bf16) (v49 : FVec Ideal S256x64 .bf16) (v52 : FVec Ideal S256x64 .bf16) (v55 : FVec Ideal S256x1 .f32) (v58 : FVec Ideal S256x1 .f32) (v62 : BitVec 32) (v73 : BitVec 1) (v74 : BitVec 32) (v95 : BitVec 32) (X_arg15 : BufTy.Contents (Elt Ideal) arg15.view.ty) (X_arg16 : BufTy.Contents (Elt Ideal) arg16.view.ty) (k : Fin (k0_t3_loop k0_t2).trips) (acc : FVec Ideal S256x64 .f32 × FVec Ideal S256x1 .f32 × FVec Ideal S256x1 .f32 × FVec Ideal S256x64 .f32 × FVec Ideal S256x1 .f32 × FVec Ideal S256x1 .f32) (f19 : BufTy.Contents (Elt Ideal) arg19.view.ty) (f20 : BufTy.Contents (Elt Ideal) arg20.view.ty) (h : Fin 2) (d : Fin 64) (s : Fin 2048) (hs : s.val < 512 * k.val ∨ 512 * k.val + 512 ≤ s.val) :
    arg20.view.read (Elt Ideal) (arg20.view.writes (Elt Ideal) f20 ((trip_k0_t3 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v5 v9 v26 k0_t2 arg21 v40 v43 v46 v49 v52 v55 v58 v62 v73 v74 v95 X_arg15 X_arg16 k).2.2.1 acc f19 f20)) (ix3 h d s) = arg20.view.read (Elt Ideal) f20 (ix3 h d s) := by
  obtain ⟨-, -, h11, h12⟩ := offs_t3 k0_t2 k
  unfold trip_k0_t3
  refine (View.read_writes_cons_unit_of_not_mem _ _ _ _ _ _ h12 2 hs).trans ?_
  exact View.read_writes_cons_unit_of_not_mem _ _ _ _ _ _ h11 2 hs

/-- A step adds, at its key block and the first head, the cotangent against the attention weights. -/
theorem step_in0 (𝒱 : Variants) (c : Dev nD) (bd : Option 𝒱.V) (i : grid0.Coords) (arg2 : Memref sig .tc .vmem S1x2048x128 .f32) (harg2 : arg2.IsWhole) (arg3 : Memref sig .tc .vmem S1x2048x128 .f32) (harg3 : arg3.IsWhole) (arg4 : Memref sig .tc .vmem S1x2048x128 .f32) (harg4 : arg4.IsWhole) (arg5 : Memref sig .tc .vmem S1x64 .f32) (harg5 : arg5.IsWhole) (arg6 : Memref sig .tc .vmem S1x64 .f32) (harg6 : arg6.IsWhole) (arg7 : Memref sig .tc .vmem S1x2x2048x1 .f32) (harg7 : arg7.IsWhole) (arg8 : Memref sig .tc .vmem S1x2048x128 .f32) (harg8 : arg8.IsWhole) (arg9 : Memref sig .tc .vmem S1x2048x128 .f32) (harg9 : arg9.IsWhole) (arg10 : Memref sig .tc .vmem S1x2048x128 .f32) (harg10 : arg10.IsWhole) (arg11 : Memref sig .tc .vmem S1x2048x128 .f32) (harg11 : arg11.IsWhole) (arg12 : Memref sig .tc .vmem S1x64 .f32) (harg12 : arg12.IsWhole) (arg13 : Memref sig .tc .vmem S1x64 .f32) (harg13 : arg13.IsWhole) (arg14 : Memref sig .tc .vmem S2x2048x64 .bf16) (harg14 : arg14.IsWhole) (arg15 : Memref sig .tc .vmem S2x2048x64 .bf16) (harg15 : arg15.IsWhole) (arg16 : Memref sig .tc .vmem S2x2048x64 .bf16) (harg16 : arg16.IsWhole) (arg17 : Memref sig .tc .vmem S2x2048x64 .bf16) (harg17 : arg17.IsWhole) (arg18 : Memref sig .tc .vmem S2x2048x64 .f32) (harg18 : arg18.IsWhole) (arg19 : Memref sig .tc .vmem S2x64x2048 .f32) (harg19 : arg19.IsWhole) (arg20 : Memref sig .tc .vmem S2x64x2048 .f32) (harg20 : arg20.IsWhole) (v5 : FVec Ideal S128x128 .bf16) (v9 : FVec Ideal S128x128 .bf16) (v26 : IVec S256x512 32) (k0_t2 : Fin k0_t2_loop.trips) (arg21 : BitVec 32) (v40 : BitVec 32) (v43 : FVec Ideal S256x64 .bf16) (v46 : FVec Ideal S256x64 .bf16) (v49 : FVec Ideal S256x64 .bf16) (v52 : FVec Ideal S256x64 .bf16) (v55 : FVec Ideal S256x1 .f32) (v58 : FVec Ideal S256x1 .f32) (v62 : BitVec 32) (v73 : BitVec 1) (v74 : BitVec 32) (v95 : BitVec 32) (X_arg15 : BufTy.Contents (Elt Ideal) arg15.view.ty) (X_arg16 : BufTy.Contents (Elt Ideal) arg16.view.ty) (k : Fin (k0_t3_loop k0_t2).trips) (acc : FVec Ideal S256x64 .f32 × FVec Ideal S256x1 .f32 × FVec Ideal S256x1 .f32 × FVec Ideal S256x64 .f32 × FVec Ideal S256x1 .f32 × FVec Ideal S256x1 .f32) (f19 : BufTy.Contents (Elt Ideal) arg19.view.ty) (f20 : BufTy.Contents (Elt Ideal) arg20.view.ty) (d : Fin 64) (x : Fin 512) (s : Fin 2048) (hs : s.val = 512 * k.val + x.val) :
    arg20.view.read (Elt Ideal) (arg20.view.writes (Elt Ideal) f20 ((trip_k0_t3 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v5 v9 v26 k0_t2 arg21 v40 v43 v46 v49 v52 v55 v58 v62 v73 v74 v95 X_arg15 X_arg16 k).2.2.1 acc f19 f20)) (ix3 0 d s)
      = (arg20.view.read (Elt Ideal) f20 (ix3 0 d s) : EReal) + ∑ r : Fin 256, v49 (ix2 r d) * attI v5 v43 v46 v55 (key0 k0_t2 k X_arg15) (key1 k0_t2 k X_arg15) acc.2.1 (ix2 r x) := by
  obtain ⟨-, -, h11, h12⟩ := offs_t3 k0_t2 k
  have hp : ∀ a : Fin 3, ((ix3 0 d s : S2x64x2048.Idx) a).val = (![0, 0, 512 * k.val] : Fin 3 → ℕ) a + ((ix3 0 d x : S1x64x512.Idx) a).val := fun a => by
    match a with
    | 0 => rfl
    | 1 => exact (Nat.zero_add _).symm
    | 2 => exact hs
  unfold trip_k0_t3
  refine (View.read_writes_cons_unit_of_not_mem _ _ _ _ _ _ h12 0 (Or.inl Nat.one_pos)).trans ?_
  refine (View.read_writes_cons_unit_of_mem _ _ _ _ _ _ (ix3 0 d x) h11 hp).trans ?_
  refine (pay102_at _ _ _ d x).trans (congrArg₂ (· + ·) (readAt_at _ _ _ h11 _ _ hp) ?_)
  exact Finset.sum_congr rfl fun r _ => congrArg (· * _) (pay309_at _ d r)

/-- The same at the second head. -/
theorem step_in1 (𝒱 : Variants) (c : Dev nD) (bd : Option 𝒱.V) (i : grid0.Coords) (arg2 : Memref sig .tc .vmem S1x2048x128 .f32) (harg2 : arg2.IsWhole) (arg3 : Memref sig .tc .vmem S1x2048x128 .f32) (harg3 : arg3.IsWhole) (arg4 : Memref sig .tc .vmem S1x2048x128 .f32) (harg4 : arg4.IsWhole) (arg5 : Memref sig .tc .vmem S1x64 .f32) (harg5 : arg5.IsWhole) (arg6 : Memref sig .tc .vmem S1x64 .f32) (harg6 : arg6.IsWhole) (arg7 : Memref sig .tc .vmem S1x2x2048x1 .f32) (harg7 : arg7.IsWhole) (arg8 : Memref sig .tc .vmem S1x2048x128 .f32) (harg8 : arg8.IsWhole) (arg9 : Memref sig .tc .vmem S1x2048x128 .f32) (harg9 : arg9.IsWhole) (arg10 : Memref sig .tc .vmem S1x2048x128 .f32) (harg10 : arg10.IsWhole) (arg11 : Memref sig .tc .vmem S1x2048x128 .f32) (harg11 : arg11.IsWhole) (arg12 : Memref sig .tc .vmem S1x64 .f32) (harg12 : arg12.IsWhole) (arg13 : Memref sig .tc .vmem S1x64 .f32) (harg13 : arg13.IsWhole) (arg14 : Memref sig .tc .vmem S2x2048x64 .bf16) (harg14 : arg14.IsWhole) (arg15 : Memref sig .tc .vmem S2x2048x64 .bf16) (harg15 : arg15.IsWhole) (arg16 : Memref sig .tc .vmem S2x2048x64 .bf16) (harg16 : arg16.IsWhole) (arg17 : Memref sig .tc .vmem S2x2048x64 .bf16) (harg17 : arg17.IsWhole) (arg18 : Memref sig .tc .vmem S2x2048x64 .f32) (harg18 : arg18.IsWhole) (arg19 : Memref sig .tc .vmem S2x64x2048 .f32) (harg19 : arg19.IsWhole) (arg20 : Memref sig .tc .vmem S2x64x2048 .f32) (harg20 : arg20.IsWhole) (v5 : FVec Ideal S128x128 .bf16) (v9 : FVec Ideal S128x128 .bf16) (v26 : IVec S256x512 32) (k0_t2 : Fin k0_t2_loop.trips) (arg21 : BitVec 32) (v40 : BitVec 32) (v43 : FVec Ideal S256x64 .bf16) (v46 : FVec Ideal S256x64 .bf16) (v49 : FVec Ideal S256x64 .bf16) (v52 : FVec Ideal S256x64 .bf16) (v55 : FVec Ideal S256x1 .f32) (v58 : FVec Ideal S256x1 .f32) (v62 : BitVec 32) (v73 : BitVec 1) (v74 : BitVec 32) (v95 : BitVec 32) (X_arg15 : BufTy.Contents (Elt Ideal) arg15.view.ty) (X_arg16 : BufTy.Contents (Elt Ideal) arg16.view.ty) (k : Fin (k0_t3_loop k0_t2).trips) (acc : FVec Ideal S256x64 .f32 × FVec Ideal S256x1 .f32 × FVec Ideal S256x1 .f32 × FVec Ideal S256x64 .f32 × FVec Ideal S256x1 .f32 × FVec Ideal S256x1 .f32) (f19 : BufTy.Contents (Elt Ideal) arg19.view.ty) (f20 : BufTy.Contents (Elt Ideal) arg20.view.ty) (d : Fin 64) (x : Fin 512) (s : Fin 2048) (hs : s.val = 512 * k.val + x.val) :
    arg20.view.read (Elt Ideal) (arg20.view.writes (Elt Ideal) f20 ((trip_k0_t3 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v5 v9 v26 k0_t2 arg21 v40 v43 v46 v49 v52 v55 v58 v62 v73 v74 v95 X_arg15 X_arg16 k).2.2.1 acc f19 f20)) (ix3 1 d s)
      = (arg20.view.read (Elt Ideal) f20 (ix3 1 d s) : EReal) + ∑ r : Fin 256, v52 (ix2 r d) * attI' v5 v43 v46 v58 (key0 k0_t2 k X_arg15) (key1 k0_t2 k X_arg15) acc.2.2.2.2.1 (ix2 r x) := by
  obtain ⟨-, -, h11, h12⟩ := offs_t3 k0_t2 k
  have hp : ∀ a : Fin 3, ((ix3 1 d s : S2x64x2048.Idx) a).val = (![1, 0, 512 * k.val] : Fin 3 → ℕ) a + ((ix3 0 d x : S1x64x512.Idx) a).val := fun a => by
    match a with
    | 0 => rfl
    | 1 => exact (Nat.zero_add _).symm
    | 2 => exact hs
  unfold trip_k0_t3
  refine (View.read_writes_cons_unit_of_mem _ _ _ _ _ _ (ix3 0 d x) h12 hp).trans ?_
  refine (pay313_at _ _ _ d x).trans ?_
  refine congrArg₂ (· + ·) ?_ rfl
  exact readAt_at _ _ _ h12 _ _ hp

/-- Before the first step nothing has been added. -/
theorem zero_step (a : EReal) (f : Fin 256 → ℝ) (v : Fin 256 → EReal) {s : ℕ} :
    a + ∑ r : Fin 256, v r * ((if s < 512 * 0 then f r else 0 : ℝ) : EReal) = a := by
  rw [Finset.sum_eq_zero (fun r _ => ?_), add_zero]
  rw [if_neg (by omega), EReal.coe_zero, mul_zero]

/-- A step that covers the key adds its weights to nothing. -/
theorem in_step (a : EReal) (f : Fin 256 → ℝ) (v w : Fin 256 → EReal) (s n : ℕ) (h1 : ¬ s < 512 * n) (h2 : s < 512 * (n + 1)) (hw : ∀ r, w r = ((f r : ℝ) : EReal)) :
    (a + ∑ r : Fin 256, v r * ((if s < 512 * n then f r else 0 : ℝ) : EReal)) + ∑ r : Fin 256, v r * w r = a + ∑ r : Fin 256, v r * ((if s < 512 * (n + 1) then f r else 0 : ℝ) : EReal) := by
  rw [Finset.sum_eq_zero (fun r _ => by rw [if_neg h1, EReal.coe_zero, mul_zero]), add_zero]
  exact congrArg _ (Finset.sum_congr rfl fun r _ => by rw [hw r, if_pos h2])

/-- A step that does not cover the key leaves the sum. -/
theorem out_step (a : EReal) (f : Fin 256 → ℝ) (v : Fin 256 → EReal) (s n : ℕ) (h : s < 512 * n ↔ s < 512 * (n + 1)) :
    a + ∑ r : Fin 256, v r * ((if s < 512 * n then f r else 0 : ℝ) : EReal) = a + ∑ r : Fin 256, v r * ((if s < 512 * (n + 1) then f r else 0 : ℝ) : EReal) :=
  congrArg _ (Finset.sum_congr rfl fun r _ => by rw [if_congr h rfl rfl])

/-- The loop over key blocks below the diagonal: before step `n` the carried sums are those of the keys before `512 n`, and the
gradient of the values has received the cotangent against the attention weights of those keys. -/
theorem st3_inv (𝒱 : Variants) (c : Dev nD) (bd : Option 𝒱.V) (i : grid0.Coords) (arg2 : Memref sig .tc .vmem S1x2048x128 .f32) (harg2 : arg2.IsWhole) (arg3 : Memref sig .tc .vmem S1x2048x128 .f32) (harg3 : arg3.IsWhole) (arg4 : Memref sig .tc .vmem S1x2048x128 .f32) (harg4 : arg4.IsWhole) (arg5 : Memref sig .tc .vmem S1x64 .f32) (harg5 : arg5.IsWhole) (arg6 : Memref sig .tc .vmem S1x64 .f32) (harg6 : arg6.IsWhole) (arg7 : Memref sig .tc .vmem S1x2x2048x1 .f32) (harg7 : arg7.IsWhole) (arg8 : Memref sig .tc .vmem S1x2048x128 .f32) (harg8 : arg8.IsWhole) (arg9 : Memref sig .tc .vmem S1x2048x128 .f32) (harg9 : arg9.IsWhole) (arg10 : Memref sig .tc .vmem S1x2048x128 .f32) (harg10 : arg10.IsWhole) (arg11 : Memref sig .tc .vmem S1x2048x128 .f32) (harg11 : arg11.IsWhole) (arg12 : Memref sig .tc .vmem S1x64 .f32) (harg12 : arg12.IsWhole) (arg13 : Memref sig .tc .vmem S1x64 .f32) (harg13 : arg13.IsWhole) (arg14 : Memref sig .tc .vmem S2x2048x64 .bf16) (harg14 : arg14.IsWhole) (arg15 : Memref sig .tc .vmem S2x2048x64 .bf16) (harg15 : arg15.IsWhole) (arg16 : Memref sig .tc .vmem S2x2048x64 .bf16) (harg16 : arg16.IsWhole) (arg17 : Memref sig .tc .vmem S2x2048x64 .bf16) (harg17 : arg17.IsWhole) (arg18 : Memref sig .tc .vmem S2x2048x64 .f32) (harg18 : arg18.IsWhole) (arg19 : Memref sig .tc .vmem S2x64x2048 .f32) (harg19 : arg19.IsWhole) (arg20 : Memref sig .tc .vmem S2x64x2048 .f32) (harg20 : arg20.IsWhole) (v9 : FVec Ideal S128x128 .bf16) (v26 : IVec S256x512 32) (k0_t2 : Fin k0_t2_loop.trips) (arg21 : BitVec 32) (v40 : BitVec 32) (v43 : FVec Ideal S256x64 .bf16) (v46 : FVec Ideal S256x64 .bf16) (v49 : FVec Ideal S256x64 .bf16) (v52 : FVec Ideal S256x64 .bf16) (v55 : FVec Ideal S256x1 .f32) (v58 : FVec Ideal S256x1 .f32) (v62 : BitVec 32) (v73 : BitVec 1) (v74 : BitVec 32) (v95 : BitVec 32) (X_arg15 : BufTy.Contents (Elt Ideal) arg15.view.ty) (X_arg16 : BufTy.Contents (Elt Ideal) arg16.view.ty) (f19 : BufTy.Contents (Elt Ideal) arg19.view.ty) (f20 : BufTy.Contents (Elt Ideal) arg20.view.ty) (init : FVec Ideal S256x64 .f32 × FVec Ideal S256x1 .f32 × FVec Ideal S256x1 .f32 × FVec Ideal S256x64 .f32 × FVec Ideal S256x1 .f32 × FVec Ideal S256x1 .f32)
    (z0 z1 : Fin 256 → ℕ → ℝ) (τ0 τ1 : Fin 256 → ℝ) (t : Fin 256 → ℕ)
    (hz0 : ∀ (k : Fin (k0_t3_loop k0_t2).trips) (r : Fin 256) (x : Fin 512), (∑ d : Fin 64, v43 (ix2 r d) * key0 k0_t2 k X_arg15 (ix3 0 x d) : EReal) = ((z0 r (512 * k.val + x.val) : ℝ) : EReal))
    (hz1 : ∀ (k : Fin (k0_t3_loop k0_t2).trips) (r : Fin 256) (x : Fin 512), (∑ d : Fin 64, v46 (ix2 r d) * key1 k0_t2 k X_arg15 (ix3 0 x d) : EReal) = ((z1 r (512 * k.val + x.val) : ℝ) : EReal))
    (hT0 : ∀ r : Fin 256, v55 (ix2 r 0) = ((τ0 r : ℝ) : EReal)) (hT1 : ∀ r : Fin 256, v58 (ix2 r 0) = ((τ1 r : ℝ) : EReal))
    (hC0 : ∀ r : Fin 256, init.2.1 (ix2 r 0) = 0) (hC1 : ∀ r : Fin 256, init.2.2.2.2.1 (ix2 r 0) = 0)
    (hot : ∀ (k : Fin (k0_t3_loop k0_t2).trips) (r : Fin 256), 512 * k.val + 512 ≤ t r) :
    ∀ n : ℕ, n ≤ (k0_t3_loop k0_t2).trips →
      (∀ r : Fin 256, (st_k0_t3 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 k0_pay346 v9 v26 k0_t2 arg21 v40 v43 v46 v49 v52 v55 v58 v62 v73 v74 v95 X_arg15 X_arg16 f19 f20 init n).1.2.1 (ix2 r 0) = ((pz (z0 r) (t r) (512 * n) : ℝ) : EReal)) ∧
      (∀ r : Fin 256, (st_k0_t3 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 k0_pay346 v9 v26 k0_t2 arg21 v40 v43 v46 v49 v52 v55 v58 v62 v73 v74 v95 X_arg15 X_arg16 f19 f20 init n).1.2.2.2.2.1 (ix2 r 0) = ((pz (z1 r) (t r) (512 * n) : ℝ) : EReal)) ∧
      (∀ (d : Fin 64) (s : Fin 2048), arg20.view.read (Elt Ideal) (arg20.view.writes (Elt Ideal) f20 (st_k0_t3 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 k0_pay346 v9 v26 k0_t2 arg21 v40 v43 v46 v49 v52 v55 v58 v62 v73 v74 v95 X_arg15 X_arg16 f19 f20 init n).2.2) (ix3 0 d s) = (arg20.view.read (Elt Ideal) f20 (ix3 0 d s) : EReal) + ∑ r : Fin 256, v49 (ix2 r d) * ((if s.val < 512 * n then att (z0 r) (τ0 r) (t r) s.val else 0 : ℝ) : EReal)) ∧
      (∀ (d : Fin 64) (s : Fin 2048), arg20.view.read (Elt Ideal) (arg20.view.writes (Elt Ideal) f20 (st_k0_t3 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 k0_pay346 v9 v26 k0_t2 arg21 v40 v43 v46 v49 v52 v55 v58 v62 v73 v74 v95 X_arg15 X_arg16 f19 f20 init n).2.2) (ix3 1 d s) = (arg20.view.read (Elt Ideal) f20 (ix3 1 d s) : EReal) + ∑ r : Fin 256, v52 (ix2 r d) * ((if s.val < 512 * n then att (z1 r) (τ1 r) (t r) s.val else 0 : ℝ) : EReal)) := by
  intro n
  induction n with
  | zero =>
    intro _
    refine ⟨fun r => (hC0 r).trans (by simp [pz]), fun r => (hC1 r).trans (by simp [pz]), fun d s => ?_, fun d s => ?_⟩
    · exact (zero_step _ _ (fun r => v49 (ix2 r d))).symm
    · exact (zero_step _ _ (fun r => v52 (ix2 r d))).symm
  | succ n ih =>
    intro hn
    obtain ⟨i0, i1, i2, i3⟩ := ih (by omega)
    have e := st_k0_t3_succ (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 k0_pay346 v9 v26 k0_t2 arg21 v40 v43 v46 v49 v52 v55 v58 v62 v73 v74 v95 X_arg15 X_arg16 f19 f20 init ⟨n, hn⟩
    have key := hz0 ⟨n, hn⟩
    have key' := hz1 ⟨n, hn⟩
    have ht := hot ⟨n, hn⟩
    rw [e]
    refine ⟨fun r => ?_, fun r => ?_, fun d s => ?_, fun d s => ?_⟩
    · refine (congrFun (carry0 (v5 := k0_pay346) ..) _).trans ?_
      exact rowC0 (z0 r) 0 (t r) (512 * n) r v43 v46 v55 _ _ _ (key r) (i0 r) (ht r)
    · refine (congrFun (carry1 (v5 := k0_pay346) ..) _).trans ?_
      exact rowC1 (z1 r) 0 (t r) (512 * n) r v43 v46 v58 _ _ _ (key' r) (i1 r) (ht r)
    · show arg20.view.read (Elt Ideal) (arg20.view.writes (Elt Ideal) f20 (_ ++ _)) _ = _
      rw [View.writes_append]
      by_cases h : 512 * n ≤ s.val ∧ s.val < 512 * n + 512
      · obtain ⟨x, hx⟩ : ∃ x : Fin 512, s.val = 512 * n + x.val := ⟨⟨s.val - 512 * n, by omega⟩, by simp only []; omega⟩
        refine (step_in0 (v5 := k0_pay346) (k := ⟨n, hn⟩) (d := d) (x := x) (s := s) (hs := hx) ..).trans ?_
        rw [i2 d s]
        refine in_step _ _ _ _ _ _ (by omega) (by omega) (fun r => ?_)
        rw [hx]
        exact rowI0 (z0 r) (τ0 r) (t r) (512 * n) r v43 v46 v55 _ _ _ (key r) (i0 r) (hT0 r) (ht r) x
      · refine (step_out (v5 := k0_pay346) (k := ⟨n, hn⟩) (h := 0) (d := d) (s := s) (hs := by simp only []; omega) ..).trans ?_
        rw [i2 d s]
        exact out_step _ _ _ _ _ (by omega)
    · show arg20.view.read (Elt Ideal) (arg20.view.writes (Elt Ideal) f20 (_ ++ _)) _ = _
      rw [View.writes_append]
      by_cases h : 512 * n ≤ s.val ∧ s.val < 512 * n + 512
      · obtain ⟨x, hx⟩ : ∃ x : Fin 512, s.val = 512 * n + x.val := ⟨⟨s.val - 512 * n, by omega⟩, by simp only []; omega⟩
        refine (step_in1 (v5 := k0_pay346) (k := ⟨n, hn⟩) (d := d) (x := x) (s := s) (hs := hx) ..).trans ?_
        rw [i3 d s]
        refine in_step _ _ _ _ _ _ (by omega) (by omega) (fun r => ?_)
        rw [hx]
        exact rowI1 (z1 r) (τ1 r) (t r) (512 * n) r v43 v46 v58 _ _ _ (key' r) (i1 r) (hT1 r) (ht r) x
      · refine (step_out (v5 := k0_pay346) (k := ⟨n, hn⟩) (h := 1) (d := d) (s := s) (hs := by simp only []; omega) ..).trans ?_
        rw [i3 d s]
        exact out_step _ _ _ _ _ (by omega)

end Cert.SbPay
end
-- ==== Proof.SbPrep.lean ====
/- The loops around the key-block loop of `sb_attn_bwd`: the normalised queries and keys it works on, and the copy of the gradient of the values to its output. -/
module

public import proofs.«01_k».proof.Proof.SbLoop

@[expose] public section

set_option maxRecDepth 16384
set_option maxHeartbeats 2000000

noncomputable section

namespace Cert.SbPay

open Idealize.ShloMosaic Idealize.ShloMosaic.TcCoe Idealize.SL.Sem
open Cert.KernelIdeal Cert.KernelIdeal.Gen

theorem trips_t1 : k0_t1_loop.trips = 16 := by decide
theorem trips_t5 : k0_t5_loop.trips = 16 := by decide

/-- The offsets of a block of 128 rows: of a head in an argument, of a head in a scratch buffer, of a head in the transposed gradient. -/
theorem offs_t1 : ∀ k : Fin k0_t1_loop.trips, k0_off1 k = ![0, 128 * k.val, 0] ∧ k0_off2 k = ![0, 128 * k.val, 0] ∧ k0_off3 k = ![0, 128 * k.val, 64] ∧ k0_off4 k = ![1, 128 * k.val, 0] := by decide
theorem offs_t5 : ∀ k : Fin k0_t5_loop.trips, k0_off25 k = ![0, 128 * k.val, 0] ∧ k0_off27 k = ![0, 0, 128 * k.val] ∧ k0_off28 k = ![0, 128 * k.val, 64] ∧ k0_off30 k = ![1, 0, 128 * k.val] := by decide

/-- A row of 64 numbers over the root of its mean square. -/
def nrm (x : Fin 64 → EReal) (d : Fin 64) : EReal :=
  x d * Ideal.rsqrt (Ideal.div (∑ e : Fin 64, x e * x e) (64 : ℝ) + (Scalar.ofBits (F := Ideal) .f32 0x358637BD#32 : EReal))

theorem k64 : (Scalar.ofBits (F := Ideal) .f32 0x42800000#32 : EReal) = ((64 : ℝ) : EReal) := by
  show Ideal.ofBits .f32 0x42800000#32 = _
  simp [Ideal.ofBits, Ideal.ieee, -EReal.coe_mul]; norm_num

theorem k8 : (Scalar.ofBits (F := Ideal) .f32 0x3E000000#32 : EReal) = ((0.125 : ℝ) : EReal) := by
  show Ideal.ofBits .f32 0x3E000000#32 = _
  simp [Ideal.ofBits, Ideal.ieee, -EReal.coe_mul]; norm_num

/-- The small number under the root is a positive real. -/
theorem keps : ∃ e : ℝ, 0 < e ∧ (Scalar.ofBits (F := Ideal) .f32 0x358637BD#32 : EReal) = ((e : ℝ) : EReal) := by
  refine ⟨_, ?_, (rfl : ((_ : ℝ) : EReal) = _)⟩
  norm_num
  rw [if_neg (by decide)]
  positivity

theorem pay6_at (x : FVec Ideal S1x128x64 .f32) (g : FVec Ideal S1x64 .f32) (r : Fin 128) (d : Fin 64) :
    k0_pay6 (F := Ideal) x g (ix3 0 r d) = nrm (fun e => x (ix3 0 r e)) d * (g (ix2 0 d) * ((0.125 : ℝ) : EReal)) := by
  rw [← k8, nrm, ← k64]; pointwise [k0_pay6]

theorem pay14_at (x : FVec Ideal S1x128x64 .f32) (g : FVec Ideal S1x64 .f32) (r : Fin 128) (d : Fin 64) :
    k0_pay14 (F := Ideal) (k0_pay13 x) g (ix3 0 r d) = nrm (fun e => x (ix3 0 r e)) d * (g (ix2 0 d) * ((0.125 : ℝ) : EReal)) := by
  rw [← k8, nrm, ← k64]; pointwise [k0_pay14, k0_pay13]

theorem pay9_at (x : FVec Ideal S1x128x64 .f32) (g : FVec Ideal S1x64 .f32) (r : Fin 128) (d : Fin 64) :
    k0_pay9 (F := Ideal) (k0_pay7 x) (k0_pay8 g) (ix3 0 r d) = nrm (fun e => x (ix3 0 r e)) d * g (ix2 0 d) := by
  rw [nrm, ← k64]; pointwise [k0_pay9, k0_pay7, k0_pay8]

theorem pay15_at (x : FVec Ideal S1x128x64 .f32) (g : FVec Ideal S1x64 .f32) (r : Fin 128) (d : Fin 64) :
    k0_pay15 (F := Ideal) (k0_pay12 x) g (ix3 0 r d) = nrm (fun e => x (ix3 0 r e)) d * g (ix2 0 d) := by
  rw [nrm, ← k64]; pointwise [k0_pay15, k0_pay12]

theorem pay11_at (x : FVec Ideal S1x128x64 .f32) (r : Fin 128) (d : Fin 64) : k0_pay11 (F := Ideal) x (ix3 0 r d) = x (ix3 0 r d) := by
  pointwise [k0_pay11]

theorem pay331_at (x : FVec Ideal S1x64x128 .f32) (r : Fin 128) (d : Fin 64) : k0_pay331 (F := Ideal) x (ix3 0 r d) = x (ix3 0 d r) := by
  pointwise [k0_pay331]

theorem pay3_at (x : FVec Ideal S1x64x128 .f32) (r : Fin 128) (d : Fin 64) : k0_pay3 (F := Ideal) x (ix3 0 r d) = x (ix3 0 d r) := by
  pointwise [k0_pay3]

section Pair
variable {sp : Space} {e : EltTy} (v : View sig .tc sp S2x2048x64 e) (f : v.ty.Contents (Elt Ideal)) {o4 o2 : Fin 3 → ℕ}
  (i4 : ∀ a, o4 a + S1x128x64.size a ≤ S2x2048x64.size a) (i2 : ∀ a, o2 a + S1x128x64.size a ≤ S2x2048x64.size a)
  (P4 : (Rect.unit (s := S2x2048x64) o4 S1x128x64.size i4).shape.Idx → Elt Ideal e) (P2 : (Rect.unit (s := S2x2048x64) o2 S1x128x64.size i2).shape.Idx → Elt Ideal e)
  (k : ℕ) (h4 : o4 = ![1, 128 * k, 0]) (h2 : o2 = ![0, 128 * k, 0])
include h4 h2

/-- One trip that stores 128 rows of each head: the rows of the first head. -/
theorem pair0 (t : Fin 2048) (d : Fin 64) (r : Fin 128) (hr : t.val = 128 * k + r.val) :
    v.read (Elt Ideal) (v.writes (Elt Ideal) f [⟨Rect.unit (s := S2x2048x64) o4 S1x128x64.size i4, P4⟩, ⟨Rect.unit (s := S2x2048x64) o2 S1x128x64.size i2, P2⟩]) (ix3 0 t d) = P2 (ix3 0 r d) := by
  refine (View.read_writes_cons_unit_of_not_mem v f i4 P4 [⟨Rect.unit (s := S2x2048x64) o2 S1x128x64.size i2, P2⟩] (ix3 0 t d) h4 0 (Or.inl ?_)).trans (View.read_writes_cons_unit_of_mem v f i2 P2 [] (ix3 0 t d) (ix3 0 r d) h2 ?_)
  · exact Nat.zero_lt_one
  · intro a; fin_cases a
    · rfl
    · exact hr
    · exact (Nat.zero_add _).symm

/-- One trip that stores 128 rows of each head: the rows of the second head. -/
theorem pair1 (t : Fin 2048) (d : Fin 64) (r : Fin 128) (hr : t.val = 128 * k + r.val) :
    v.read (Elt Ideal) (v.writes (Elt Ideal) f [⟨Rect.unit (s := S2x2048x64) o4 S1x128x64.size i4, P4⟩, ⟨Rect.unit (s := S2x2048x64) o2 S1x128x64.size i2, P2⟩]) (ix3 1 t d) = P4 (ix3 0 r d) := by
  refine View.read_writes_cons_unit_of_mem v f i4 P4 [⟨Rect.unit (s := S2x2048x64) o2 S1x128x64.size i2, P2⟩] (ix3 1 t d) (ix3 0 r d) h4 ?_
  intro a; fin_cases a
  · rfl
  · exact hr
  · exact (Nat.zero_add _).symm

/-- One trip that stores 128 rows of each head leaves the other rows. -/
theorem pairOut (h : Fin 2) (t : Fin 2048) (d : Fin 64) (ho : t.val < 128 * k ∨ 128 * k + 128 ≤ t.val) :
    v.read (Elt Ideal) (v.writes (Elt Ideal) f [⟨Rect.unit (s := S2x2048x64) o4 S1x128x64.size i4, P4⟩, ⟨Rect.unit (s := S2x2048x64) o2 S1x128x64.size i2, P2⟩]) (ix3 h t d) = v.read (Elt Ideal) f (ix3 h t d) :=
  (View.read_writes_cons_unit_of_not_mem v f i4 P4 [⟨Rect.unit (s := S2x2048x64) o2 S1x128x64.size i2, P2⟩] (ix3 h t d) h4 1 ho).trans (View.read_writes_cons_unit_of_not_mem v f i2 P2 [] (ix3 h t d) h2 1 ho)
end Pair

section Cols
variable {sp : Space} {e : EltTy} (v : View sig .tc sp S1x2048x128 e) (f : v.ty.Contents (Elt Ideal)) {o4 o2 : Fin 3 → ℕ}
  (i4 : ∀ a, o4 a + S1x128x64.size a ≤ S1x2048x128.size a) (i2 : ∀ a, o2 a + S1x128x64.size a ≤ S1x2048x128.size a)
  (P4 : (Rect.unit (s := S1x2048x128) o4 S1x128x64.size i4).shape.Idx → Elt Ideal e) (P2 : (Rect.unit (s := S1x2048x128) o2 S1x128x64.size i2).shape.Idx → Elt Ideal e)
  (k : ℕ) (h4 : o4 = ![0, 128 * k, 64]) (h2 : o2 = ![0, 128 * k, 0])
include h4 h2

/-- One trip that stores 128 rows of each half of the columns: the first half. -/
theorem cols0 (t : Fin 2048) (x : Fin 128) (d : Fin 64) (hx : x.val = d.val) (r : Fin 128) (hr : t.val = 128 * k + r.val) :
    v.read (Elt Ideal) (v.writes (Elt Ideal) f [⟨Rect.unit (s := S1x2048x128) o4 S1x128x64.size i4, P4⟩, ⟨Rect.unit (s := S1x2048x128) o2 S1x128x64.size i2, P2⟩]) (ix3 0 t x) = P2 (ix3 0 r d) := by
  refine (View.read_writes_cons_unit_of_not_mem v f i4 P4 [⟨Rect.unit (s := S1x2048x128) o2 S1x128x64.size i2, P2⟩] (ix3 0 t x) h4 2 (Or.inl ?_)).trans (View.read_writes_cons_unit_of_mem v f i2 P2 [] (ix3 0 t x) (ix3 0 r d) h2 ?_)
  · show x.val < 64
    have := d.isLt; omega
  · intro a; fin_cases a
    · rfl
    · exact hr
    · exact hx.trans (Nat.zero_add _).symm

/-- One trip that stores 128 rows of each half of the columns: the second half. -/
theorem cols1 (t : Fin 2048) (x : Fin 128) (d : Fin 64) (hx : x.val = 64 + d.val) (r : Fin 128) (hr : t.val = 128 * k + r.val) :
    v.read (Elt Ideal) (v.writes (Elt Ideal) f [⟨Rect.unit (s := S1x2048x128) o4 S1x128x64.size i4, P4⟩, ⟨Rect.unit (s := S1x2048x128) o2 S1x128x64.size i2, P2⟩]) (ix3 0 t x) = P4 (ix3 0 r d) := by
  refine View.read_writes_cons_unit_of_mem v f i4 P4 [⟨Rect.unit (s := S1x2048x128) o2 S1x128x64.size i2, P2⟩] (ix3 0 t x) (ix3 0 r d) h4 ?_
  intro a; fin_cases a
  · rfl
  · exact hr
  · exact hx

/-- One trip that stores 128 rows of each half of the columns leaves the other rows. -/
theorem colsOut (t : Fin 2048) (x : Fin 128) (ho : t.val < 128 * k ∨ 128 * k + 128 ≤ t.val) :
    v.read (Elt Ideal) (v.writes (Elt Ideal) f [⟨Rect.unit (s := S1x2048x128) o4 S1x128x64.size i4, P4⟩, ⟨Rect.unit (s := S1x2048x128) o2 S1x128x64.size i2, P2⟩]) (ix3 0 t x) = v.read (Elt Ideal) f (ix3 0 t x) :=
  (View.read_writes_cons_unit_of_not_mem v f i4 P4 [⟨Rect.unit (s := S1x2048x128) o2 S1x128x64.size i2, P2⟩] (ix3 0 t x) h4 1 ho).trans (View.read_writes_cons_unit_of_not_mem v f i2 P2 [] (ix3 0 t x) h2 1 ho)
end Cols

/-- Trips that store the rows block after block leave all of them stored. -/
theorem fill2 {sp : Space} {e : EltTy} (v : View sig .tc sp S2x2048x64 e) (f : v.ty.Contents (Elt Ideal)) (pb L : ℕ → List (View.Piece (Elt Ideal) S2x2048x64 e))
    (val : Fin 2 → Fin 2048 → Fin 64 → Elt Ideal e) (n : ℕ) (p0 : pb 0 = []) (ps : ∀ k, k < n → pb (k + 1) = L k ++ pb k)
    (hin : ∀ k, k < n → ∀ (g : v.ty.Contents (Elt Ideal)) (h : Fin 2) (t : Fin 2048) (d : Fin 64), 128 * k ≤ t.val → t.val < 128 * k + 128 → v.read (Elt Ideal) (v.writes (Elt Ideal) g (L k)) (ix3 h t d) = val h t d)
    (hout : ∀ k, k < n → ∀ (g : v.ty.Contents (Elt Ideal)) (h : Fin 2) (t : Fin 2048) (d : Fin 64), t.val < 128 * k ∨ 128 * k + 128 ≤ t.val → v.read (Elt Ideal) (v.writes (Elt Ideal) g (L k)) (ix3 h t d) = v.read (Elt Ideal) g (ix3 h t d))
    (h : Fin 2) (t : Fin 2048) (d : Fin 64) (ht : t.val < 128 * n) : v.read (Elt Ideal) (v.writes (Elt Ideal) f (pb n)) (ix3 h t d) = val h t d := by
  have key : ∀ m, m ≤ n → t.val < 128 * m → v.read (Elt Ideal) (v.writes (Elt Ideal) f (pb m)) (ix3 h t d) = val h t d := by
    intro m
    induction m with
    | zero => intro _ h0; omega
    | succ m ih =>
      intro hm hlt
      rw [ps m hm, View.writes_append]
      by_cases hb : 128 * m ≤ t.val
      · exact hin m hm _ h t d hb (by omega)
      · exact (hout m hm _ h t d (by omega)).trans (ih (by omega) (by omega))
  exact key n le_rfl ht

/-- The same for a buffer of 128 columns. -/
theorem fill1 {sp : Space} {e : EltTy} (v : View sig .tc sp S1x2048x128 e) (f : v.ty.Contents (Elt Ideal)) (pb L : ℕ → List (View.Piece (Elt Ideal) S1x2048x128 e))
    (val : Fin 2048 → Fin 128 → Elt Ideal e) (n : ℕ) (p0 : pb 0 = []) (ps : ∀ k, k < n → pb (k + 1) = L k ++ pb k)
    (hin : ∀ k, k < n → ∀ (g : v.ty.Contents (Elt Ideal)) (t : Fin 2048) (x : Fin 128), 128 * k ≤ t.val → t.val < 128 * k + 128 → v.read (Elt Ideal) (v.writes (Elt Ideal) g (L k)) (ix3 0 t x) = val t x)
    (hout : ∀ k, k < n → ∀ (g : v.ty.Contents (Elt Ideal)) (t : Fin 2048) (x : Fin 128), t.val < 128 * k ∨ 128 * k + 128 ≤ t.val → v.read (Elt Ideal) (v.writes (Elt Ideal) g (L k)) (ix3 0 t x) = v.read (Elt Ideal) g (ix3 0 t x))
    (t : Fin 2048) (x : Fin 128) (ht : t.val < 128 * n) : v.read (Elt Ideal) (v.writes (Elt Ideal) f (pb n)) (ix3 0 t x) = val t x := by
  have key : ∀ m, m ≤ n → t.val < 128 * m → v.read (Elt Ideal) (v.writes (Elt Ideal) f (pb m)) (ix3 0 t x) = val t x := by
    intro m
    induction m with
    | zero => intro _ h0; omega
    | succ m ih =>
      intro hm hlt
      rw [ps m hm, View.writes_append]
      by_cases hb : 128 * m ≤ t.val
      · exact hin m hm _ t x hb (by omega)
      · exact (hout m hm _ t x (by omega)).trans (ih (by omega) (by omega))
  exact key n le_rfl ht

/-- A head's column among the 128 of a block. -/
def hcol (h : Fin 2) (d : Fin 64) : Fin 128 := ⟨64 * h.val + d.val, by have := h.isLt; have := d.isLt; omega⟩

/-- The queries of a block: normalised, scaled by the gains and by the square root of the head size. -/
theorem prepQ (𝒱 : Variants) (c : Dev nD) (bd : Option 𝒱.V) (i : grid0.Coords) (arg2 : Memref sig .tc .vmem S1x2048x128 .f32) (harg2 : arg2.IsWhole) (arg3 : Memref sig .tc .vmem S1x2048x128 .f32) (harg3 : arg3.IsWhole) (arg4 : Memref sig .tc .vmem S1x2048x128 .f32) (harg4 : arg4.IsWhole) (arg5 : Memref sig .tc .vmem S1x64 .f32) (harg5 : arg5.IsWhole) (arg6 : Memref sig .tc .vmem S1x64 .f32) (harg6 : arg6.IsWhole) (arg7 : Memref sig .tc .vmem S1x2x2048x1 .f32) (harg7 : arg7.IsWhole) (arg8 : Memref sig .tc .vmem S1x2048x128 .f32) (harg8 : arg8.IsWhole) (arg9 : Memref sig .tc .vmem S1x2048x128 .f32) (harg9 : arg9.IsWhole) (arg10 : Memref sig .tc .vmem S1x2048x128 .f32) (harg10 : arg10.IsWhole) (arg11 : Memref sig .tc .vmem S1x2048x128 .f32) (harg11 : arg11.IsWhole) (arg12 : Memref sig .tc .vmem S1x64 .f32) (harg12 : arg12.IsWhole) (arg13 : Memref sig .tc .vmem S1x64 .f32) (harg13 : arg13.IsWhole) (arg14 : Memref sig .tc .vmem S2x2048x64 .bf16) (harg14 : arg14.IsWhole) (arg15 : Memref sig .tc .vmem S2x2048x64 .bf16) (harg15 : arg15.IsWhole) (arg16 : Memref sig .tc .vmem S2x2048x64 .bf16) (harg16 : arg16.IsWhole) (arg17 : Memref sig .tc .vmem S2x2048x64 .bf16) (harg17 : arg17.IsWhole) (arg18 : Memref sig .tc .vmem S2x2048x64 .f32) (harg18 : arg18.IsWhole) (arg19 : Memref sig .tc .vmem S2x64x2048 .f32) (harg19 : arg19.IsWhole) (arg20 : Memref sig .tc .vmem S2x64x2048 .f32) (harg20 : arg20.IsWhole) (X_arg2 : BufTy.Contents (Elt Ideal) arg2.view.ty) (X_arg3 : BufTy.Contents (Elt Ideal) arg3.view.ty) (X_arg4 : BufTy.Contents (Elt Ideal) arg4.view.ty) (X_arg5 : BufTy.Contents (Elt Ideal) arg5.view.ty) (X_arg6 : BufTy.Contents (Elt Ideal) arg6.view.ty) (X_arg8 : BufTy.Contents (Elt Ideal) arg8.view.ty)
    (f : BufTy.Contents (Elt Ideal) arg14.view.ty) (h : Fin 2) (t : Fin 2048) (d : Fin 64) :
    arg14.view.read (Elt Ideal) (arg14.view.writes (Elt Ideal) f (pb_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 X_arg2 X_arg3 X_arg4 X_arg5 X_arg6 X_arg8 (Scf.trips (0#32) (Scalar.addi 0#32 16#32) 1#32)).1) (ix3 h t d)
      = nrm (fun e => arg2.view.read (Elt Ideal) X_arg2 (ix3 0 t (hcol h e))) d * (arg5.view.read (Elt Ideal) X_arg5 (ix2 0 d) * ((0.125 : ℝ) : EReal)) := by
  have key : ∀ k : Fin k0_t1_loop.trips, ∀ (g : BufTy.Contents (Elt Ideal) arg14.view.ty),
      (∀ (h : Fin 2) (t : Fin 2048) (d : Fin 64), 128 * k.val ≤ t.val → t.val < 128 * k.val + 128 → arg14.view.read (Elt Ideal) (arg14.view.writes (Elt Ideal) g (tripL_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 X_arg2 X_arg3 X_arg4 X_arg5 X_arg6 X_arg8 k).1) (ix3 h t d) = nrm (fun e => arg2.view.read (Elt Ideal) X_arg2 (ix3 0 t (hcol h e))) d * (arg5.view.read (Elt Ideal) X_arg5 (ix2 0 d) * ((0.125 : ℝ) : EReal)))
      ∧ (∀ (h : Fin 2) (t : Fin 2048) (d : Fin 64), t.val < 128 * k.val ∨ 128 * k.val + 128 ≤ t.val → arg14.view.read (Elt Ideal) (arg14.view.writes (Elt Ideal) g (tripL_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 X_arg2 X_arg3 X_arg4 X_arg5 X_arg6 X_arg8 k).1) (ix3 h t d) = arg14.view.read (Elt Ideal) g (ix3 h t d)) := by
    intro k g
    unfold tripL_k0_t1 trip_k0_t1
    refine ⟨fun h t d h1 h2 => ?_, fun h t d ho => pairOut arg14.view g _ _ _ _ k.val (offs_t1 k).2.2.2 (offs_t1 k).2.1 h t d ho⟩
    obtain ⟨r, hr⟩ : ∃ r : Fin 128, t.val = 128 * k.val + r.val := ⟨⟨t.val - 128 * k.val, by omega⟩, by show _ = _ + (_ - _); omega⟩
    have hh : h = 0 ∨ h = 1 := by omega
    rcases hh with rfl | rfl
    · refine (pair0 arg14.view g _ _ _ _ k.val (offs_t1 k).2.2.2 (offs_t1 k).2.1 t d r hr).trans ?_
      have hrow : ∀ e : Fin 64, arg2.view.readAt (Elt Ideal) (Rect.unit (s := S1x2048x128) (k0_off1 k) S1x128x64.size (k0_off1_inb k)).toLoadRect X_arg2 (ix3 0 r e) = arg2.view.read (Elt Ideal) X_arg2 (ix3 0 t (hcol 0 e)) := fun e =>
        readAt_at arg2.view X_arg2 _ (offs_t1 k).1 (ix3 0 r e) (ix3 0 t (hcol 0 e)) (by
          intro a; fin_cases a
          · rfl
          · exact hr
          · show 64 * 0 + e.val = 0 + e.val; omega)
      have hg : arg5.view.readAt (Elt Ideal) (Rect.unit (s := S1x64) ![0, 0] S1x64.size inb_S1x64_S1x64_0_0).toLoadRect X_arg5 (ix2 0 d) = arg5.view.read (Elt Ideal) X_arg5 (ix2 0 d) :=
        readAt_at arg5.view X_arg5 _ rfl (ix2 0 d) (ix2 0 d) (by
          intro a; fin_cases a
          · rfl
          · exact (Nat.zero_add _).symm)
      refine (pay6_at _ _ r d).trans ?_
      exact congrArg₂ (fun (z : Fin 64 → EReal) (w : EReal) => nrm z d * (w * ((0.125 : ℝ) : EReal))) (funext hrow) hg
    · refine (pair1 arg14.view g _ _ _ _ k.val (offs_t1 k).2.2.2 (offs_t1 k).2.1 t d r hr).trans ?_
      have hrow : ∀ e : Fin 64, arg2.view.readAt (Elt Ideal) (Rect.unit (s := S1x2048x128) (k0_off3 k) S1x128x64.size (k0_off3_inb k)).toLoadRect X_arg2 (ix3 0 r e) = arg2.view.read (Elt Ideal) X_arg2 (ix3 0 t (hcol 1 e)) := fun e =>
        readAt_at arg2.view X_arg2 _ (offs_t1 k).2.2.1 (ix3 0 r e) (ix3 0 t (hcol 1 e)) (by
          intro a; fin_cases a
          · rfl
          · exact hr
          · rfl)
      have hg : arg5.view.readAt (Elt Ideal) (Rect.unit (s := S1x64) ![0, 0] S1x64.size inb_S1x64_S1x64_0_0).toLoadRect X_arg5 (ix2 0 d) = arg5.view.read (Elt Ideal) X_arg5 (ix2 0 d) :=
        readAt_at arg5.view X_arg5 _ rfl (ix2 0 d) (ix2 0 d) (by
          intro a; fin_cases a
          · rfl
          · exact (Nat.zero_add _).symm)
      delta trip_k0_t1.sl.r_3
      refine (pay14_at _ _ r d).trans ?_
      exact congrArg₂ (fun (z : Fin 64 → EReal) (w : EReal) => nrm z d * (w * ((0.125 : ℝ) : EReal))) (funext hrow) hg
  have e16 : Scf.trips (0#32) (Scalar.addi 0#32 16#32) 1#32 = 16 := by decide
  rw [e16]
  refine fill2 arg14.view f (fun n => (pb_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 X_arg2 X_arg3 X_arg4 X_arg5 X_arg6 X_arg8 n).1) (fun n => if hn : n < k0_t1_loop.trips then (tripL_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 X_arg2 X_arg3 X_arg4 X_arg5 X_arg6 X_arg8 ⟨n, hn⟩).1 else []) (fun h t d => nrm (fun e => arg2.view.read (Elt Ideal) X_arg2 (ix3 0 t (hcol h e))) d * (arg5.view.read (Elt Ideal) X_arg5 (ix2 0 d) * ((0.125 : ℝ) : EReal))) 16 rfl ?_ ?_ ?_ h t d (by have := t.isLt; omega)
  · intro k hk
    have hk' : k < k0_t1_loop.trips := by rw [trips_t1]; exact hk
    rw [dif_pos hk']
    exact congrArg (fun z => z.1) (pb_k0_t1_succ (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 X_arg2 X_arg3 X_arg4 X_arg5 X_arg6 X_arg8 ⟨k, hk'⟩)
  · intro k hk g h t d h1 h2
    have hk' : k < k0_t1_loop.trips := by rw [trips_t1]; exact hk
    show arg14.view.read _ (arg14.view.writes _ g (if hn : k < k0_t1_loop.trips then _ else [])) _ = _
    rw [dif_pos hk']
    exact (key ⟨k, hk'⟩ g).1 h t d h1 h2
  · intro k hk g h t d ho
    have hk' : k < k0_t1_loop.trips := by rw [trips_t1]; exact hk
    show arg14.view.read _ (arg14.view.writes _ g (if hn : k < k0_t1_loop.trips then _ else [])) _ = _
    rw [dif_pos hk']
    exact (key ⟨k, hk'⟩ g).2 h t d ho

/-- The keys of a block: normalised and scaled by the gains. -/
theorem prepK (𝒱 : Variants) (c : Dev nD) (bd : Option 𝒱.V) (i : grid0.Coords) (arg2 : Memref sig .tc .vmem S1x2048x128 .f32) (harg2 : arg2.IsWhole) (arg3 : Memref sig .tc .vmem S1x2048x128 .f32) (harg3 : arg3.IsWhole) (arg4 : Memref sig .tc .vmem S1x2048x128 .f32) (harg4 : arg4.IsWhole) (arg5 : Memref sig .tc .vmem S1x64 .f32) (harg5 : arg5.IsWhole) (arg6 : Memref sig .tc .vmem S1x64 .f32) (harg6 : arg6.IsWhole) (arg7 : Memref sig .tc .vmem S1x2x2048x1 .f32) (harg7 : arg7.IsWhole) (arg8 : Memref sig .tc .vmem S1x2048x128 .f32) (harg8 : arg8.IsWhole) (arg9 : Memref sig .tc .vmem S1x2048x128 .f32) (harg9 : arg9.IsWhole) (arg10 : Memref sig .tc .vmem S1x2048x128 .f32) (harg10 : arg10.IsWhole) (arg11 : Memref sig .tc .vmem S1x2048x128 .f32) (harg11 : arg11.IsWhole) (arg12 : Memref sig .tc .vmem S1x64 .f32) (harg12 : arg12.IsWhole) (arg13 : Memref sig .tc .vmem S1x64 .f32) (harg13 : arg13.IsWhole) (arg14 : Memref sig .tc .vmem S2x2048x64 .bf16) (harg14 : arg14.IsWhole) (arg15 : Memref sig .tc .vmem S2x2048x64 .bf16) (harg15 : arg15.IsWhole) (arg16 : Memref sig .tc .vmem S2x2048x64 .bf16) (harg16 : arg16.IsWhole) (arg17 : Memref sig .tc .vmem S2x2048x64 .bf16) (harg17 : arg17.IsWhole) (arg18 : Memref sig .tc .vmem S2x2048x64 .f32) (harg18 : arg18.IsWhole) (arg19 : Memref sig .tc .vmem S2x64x2048 .f32) (harg19 : arg19.IsWhole) (arg20 : Memref sig .tc .vmem S2x64x2048 .f32) (harg20 : arg20.IsWhole) (X_arg2 : BufTy.Contents (Elt Ideal) arg2.view.ty) (X_arg3 : BufTy.Contents (Elt Ideal) arg3.view.ty) (X_arg4 : BufTy.Contents (Elt Ideal) arg4.view.ty) (X_arg5 : BufTy.Contents (Elt Ideal) arg5.view.ty) (X_arg6 : BufTy.Contents (Elt Ideal) arg6.view.ty) (X_arg8 : BufTy.Contents (Elt Ideal) arg8.view.ty)
    (f : BufTy.Contents (Elt Ideal) arg15.view.ty) (h : Fin 2) (t : Fin 2048) (d : Fin 64) :
    arg15.view.read (Elt Ideal) (arg15.view.writes (Elt Ideal) f (pb_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 X_arg2 X_arg3 X_arg4 X_arg5 X_arg6 X_arg8 (Scf.trips (0#32) (Scalar.addi 0#32 16#32) 1#32)).2.1) (ix3 h t d)
      = nrm (fun e => arg3.view.read (Elt Ideal) X_arg3 (ix3 0 t (hcol h e))) d * arg6.view.read (Elt Ideal) X_arg6 (ix2 0 d) := by
  have key : ∀ k : Fin k0_t1_loop.trips, ∀ (g : BufTy.Contents (Elt Ideal) arg15.view.ty),
      (∀ (h : Fin 2) (t : Fin 2048) (d : Fin 64), 128 * k.val ≤ t.val → t.val < 128 * k.val + 128 → arg15.view.read (Elt Ideal) (arg15.view.writes (Elt Ideal) g (tripL_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 X_arg2 X_arg3 X_arg4 X_arg5 X_arg6 X_arg8 k).2.1) (ix3 h t d) = nrm (fun e => arg3.view.read (Elt Ideal) X_arg3 (ix3 0 t (hcol h e))) d * arg6.view.read (Elt Ideal) X_arg6 (ix2 0 d))
      ∧ (∀ (h : Fin 2) (t : Fin 2048) (d : Fin 64), t.val < 128 * k.val ∨ 128 * k.val + 128 ≤ t.val → arg15.view.read (Elt Ideal) (arg15.view.writes (Elt Ideal) g (tripL_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 X_arg2 X_arg3 X_arg4 X_arg5 X_arg6 X_arg8 k).2.1) (ix3 h t d) = arg15.view.read (Elt Ideal) g (ix3 h t d)) := by
    intro k g
    unfold tripL_k0_t1 trip_k0_t1
    refine ⟨fun h t d h1 h2 => ?_, fun h t d ho => pairOut arg15.view g _ _ _ _ k.val (offs_t1 k).2.2.2 (offs_t1 k).2.1 h t d ho⟩
    obtain ⟨r, hr⟩ : ∃ r : Fin 128, t.val = 128 * k.val + r.val := ⟨⟨t.val - 128 * k.val, by omega⟩, by show _ = _ + (_ - _); omega⟩
    have hh : h = 0 ∨ h = 1 := by omega
    rcases hh with rfl | rfl
    · refine (pair0 arg15.view g _ _ _ _ k.val (offs_t1 k).2.2.2 (offs_t1 k).2.1 t d r hr).trans ?_
      have hrow : ∀ e : Fin 64, arg3.view.readAt (Elt Ideal) (Rect.unit (s := S1x2048x128) (k0_off1 k) S1x128x64.size (k0_off1_inb k)).toLoadRect X_arg3 (ix3 0 r e) = arg3.view.read (Elt Ideal) X_arg3 (ix3 0 t (hcol 0 e)) := fun e =>
        readAt_at arg3.view X_arg3 _ (offs_t1 k).1 (ix3 0 r e) (ix3 0 t (hcol 0 e)) (by
          intro a; fin_cases a
          · rfl
          · exact hr
          · show 64 * 0 + e.val = 0 + e.val; omega)
      have hg : arg6.view.readAt (Elt Ideal) (Rect.unit (s := S1x64) ![0, 0] S1x64.size inb_S1x64_S1x64_0_0).toLoadRect X_arg6 (ix2 0 d) = arg6.view.read (Elt Ideal) X_arg6 (ix2 0 d) :=
        readAt_at arg6.view X_arg6 _ rfl (ix2 0 d) (ix2 0 d) (by
          intro a; fin_cases a
          · rfl
          · exact (Nat.zero_add _).symm)
      delta trip_k0_t1.sl.r trip_k0_t1.sl.r_1
      refine (pay9_at _ _ r d).trans ?_
      exact congrArg₂ (fun (z : Fin 64 → EReal) (w : EReal) => nrm z d * w) (funext hrow) hg
    · refine (pair1 arg15.view g _ _ _ _ k.val (offs_t1 k).2.2.2 (offs_t1 k).2.1 t d r hr).trans ?_
      have hrow : ∀ e : Fin 64, arg3.view.readAt (Elt Ideal) (Rect.unit (s := S1x2048x128) (k0_off3 k) S1x128x64.size (k0_off3_inb k)).toLoadRect X_arg3 (ix3 0 r e) = arg3.view.read (Elt Ideal) X_arg3 (ix3 0 t (hcol 1 e)) := fun e =>
        readAt_at arg3.view X_arg3 _ (offs_t1 k).2.2.1 (ix3 0 r e) (ix3 0 t (hcol 1 e)) (by
          intro a; fin_cases a
          · rfl
          · exact hr
          · rfl)
      have hg : arg6.view.readAt (Elt Ideal) (Rect.unit (s := S1x64) ![0, 0] S1x64.size inb_S1x64_S1x64_0_0).toLoadRect X_arg6 (ix2 0 d) = arg6.view.read (Elt Ideal) X_arg6 (ix2 0 d) :=
        readAt_at arg6.view X_arg6 _ rfl (ix2 0 d) (ix2 0 d) (by
          intro a; fin_cases a
          · rfl
          · exact (Nat.zero_add _).symm)
      delta trip_k0_t1.sl.r_2
      refine (pay15_at _ _ r d).trans ?_
      exact congrArg₂ (fun (z : Fin 64 → EReal) (w : EReal) => nrm z d * w) (funext hrow) hg
  have e16 : Scf.trips (0#32) (Scalar.addi 0#32 16#32) 1#32 = 16 := by decide
  rw [e16]
  refine fill2 arg15.view f (fun n => (pb_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 X_arg2 X_arg3 X_arg4 X_arg5 X_arg6 X_arg8 n).2.1) (fun n => if hn : n < k0_t1_loop.trips then (tripL_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 X_arg2 X_arg3 X_arg4 X_arg5 X_arg6 X_arg8 ⟨n, hn⟩).2.1 else []) (fun h t d => nrm (fun e => arg3.view.read (Elt Ideal) X_arg3 (ix3 0 t (hcol h e))) d * arg6.view.read (Elt Ideal) X_arg6 (ix2 0 d)) 16 rfl ?_ ?_ ?_ h t d (by have := t.isLt; omega)
  · intro k hk
    have hk' : k < k0_t1_loop.trips := by rw [trips_t1]; exact hk
    rw [dif_pos hk']
    exact congrArg (fun z => z.2.1) (pb_k0_t1_succ (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 X_arg2 X_arg3 X_arg4 X_arg5 X_arg6 X_arg8 ⟨k, hk'⟩)
  · intro k hk g h t d h1 h2
    have hk' : k < k0_t1_loop.trips := by rw [trips_t1]; exact hk
    show arg15.view.read _ (arg15.view.writes _ g (if hn : k < k0_t1_loop.trips then _ else [])) _ = _
    rw [dif_pos hk']
    exact (key ⟨k, hk'⟩ g).1 h t d h1 h2
  · intro k hk g h t d ho
    have hk' : k < k0_t1_loop.trips := by rw [trips_t1]; exact hk
    show arg15.view.read _ (arg15.view.writes _ g (if hn : k < k0_t1_loop.trips then _ else [])) _ = _
    rw [dif_pos hk']
    exact (key ⟨k, hk'⟩ g).2 h t d ho

/-- The cotangent of a block. -/
theorem prepO (𝒱 : Variants) (c : Dev nD) (bd : Option 𝒱.V) (i : grid0.Coords) (arg2 : Memref sig .tc .vmem S1x2048x128 .f32) (harg2 : arg2.IsWhole) (arg3 : Memref sig .tc .vmem S1x2048x128 .f32) (harg3 : arg3.IsWhole) (arg4 : Memref sig .tc .vmem S1x2048x128 .f32) (harg4 : arg4.IsWhole) (arg5 : Memref sig .tc .vmem S1x64 .f32) (harg5 : arg5.IsWhole) (arg6 : Memref sig .tc .vmem S1x64 .f32) (harg6 : arg6.IsWhole) (arg7 : Memref sig .tc .vmem S1x2x2048x1 .f32) (harg7 : arg7.IsWhole) (arg8 : Memref sig .tc .vmem S1x2048x128 .f32) (harg8 : arg8.IsWhole) (arg9 : Memref sig .tc .vmem S1x2048x128 .f32) (harg9 : arg9.IsWhole) (arg10 : Memref sig .tc .vmem S1x2048x128 .f32) (harg10 : arg10.IsWhole) (arg11 : Memref sig .tc .vmem S1x2048x128 .f32) (harg11 : arg11.IsWhole) (arg12 : Memref sig .tc .vmem S1x64 .f32) (harg12 : arg12.IsWhole) (arg13 : Memref sig .tc .vmem S1x64 .f32) (harg13 : arg13.IsWhole) (arg14 : Memref sig .tc .vmem S2x2048x64 .bf16) (harg14 : arg14.IsWhole) (arg15 : Memref sig .tc .vmem S2x2048x64 .bf16) (harg15 : arg15.IsWhole) (arg16 : Memref sig .tc .vmem S2x2048x64 .bf16) (harg16 : arg16.IsWhole) (arg17 : Memref sig .tc .vmem S2x2048x64 .bf16) (harg17 : arg17.IsWhole) (arg18 : Memref sig .tc .vmem S2x2048x64 .f32) (harg18 : arg18.IsWhole) (arg19 : Memref sig .tc .vmem S2x64x2048 .f32) (harg19 : arg19.IsWhole) (arg20 : Memref sig .tc .vmem S2x64x2048 .f32) (harg20 : arg20.IsWhole) (X_arg2 : BufTy.Contents (Elt Ideal) arg2.view.ty) (X_arg3 : BufTy.Contents (Elt Ideal) arg3.view.ty) (X_arg4 : BufTy.Contents (Elt Ideal) arg4.view.ty) (X_arg5 : BufTy.Contents (Elt Ideal) arg5.view.ty) (X_arg6 : BufTy.Contents (Elt Ideal) arg6.view.ty) (X_arg8 : BufTy.Contents (Elt Ideal) arg8.view.ty)
    (f : BufTy.Contents (Elt Ideal) arg17.view.ty) (h : Fin 2) (t : Fin 2048) (d : Fin 64) :
    arg17.view.read (Elt Ideal) (arg17.view.writes (Elt Ideal) f (pb_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 X_arg2 X_arg3 X_arg4 X_arg5 X_arg6 X_arg8 (Scf.trips (0#32) (Scalar.addi 0#32 16#32) 1#32)).2.2.2) (ix3 h t d)
      = arg8.view.read (Elt Ideal) X_arg8 (ix3 0 t (hcol h d)) := by
  have key : ∀ k : Fin k0_t1_loop.trips, ∀ (g : BufTy.Contents (Elt Ideal) arg17.view.ty),
      (∀ (h : Fin 2) (t : Fin 2048) (d : Fin 64), 128 * k.val ≤ t.val → t.val < 128 * k.val + 128 → arg17.view.read (Elt Ideal) (arg17.view.writes (Elt Ideal) g (tripL_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 X_arg2 X_arg3 X_arg4 X_arg5 X_arg6 X_arg8 k).2.2.2) (ix3 h t d) = arg8.view.read (Elt Ideal) X_arg8 (ix3 0 t (hcol h d)))
      ∧ (∀ (h : Fin 2) (t : Fin 2048) (d : Fin 64), t.val < 128 * k.val ∨ 128 * k.val + 128 ≤ t.val → arg17.view.read (Elt Ideal) (arg17.view.writes (Elt Ideal) g (tripL_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 X_arg2 X_arg3 X_arg4 X_arg5 X_arg6 X_arg8 k).2.2.2) (ix3 h t d) = arg17.view.read (Elt Ideal) g (ix3 h t d)) := by
    intro k g
    unfold tripL_k0_t1 trip_k0_t1
    refine ⟨fun h t d h1 h2 => ?_, fun h t d ho => pairOut arg17.view g _ _ _ _ k.val (offs_t1 k).2.2.2 (offs_t1 k).2.1 h t d ho⟩
    obtain ⟨r, hr⟩ : ∃ r : Fin 128, t.val = 128 * k.val + r.val := ⟨⟨t.val - 128 * k.val, by omega⟩, by show _ = _ + (_ - _); omega⟩
    have hh : h = 0 ∨ h = 1 := by omega
    rcases hh with rfl | rfl
    · refine (pair0 arg17.view g _ _ _ _ k.val (offs_t1 k).2.2.2 (offs_t1 k).2.1 t d r hr).trans ?_
      have hrow : ∀ e : Fin 64, arg8.view.readAt (Elt Ideal) (Rect.unit (s := S1x2048x128) (k0_off1 k) S1x128x64.size (k0_off1_inb k)).toLoadRect X_arg8 (ix3 0 r e) = arg8.view.read (Elt Ideal) X_arg8 (ix3 0 t (hcol 0 e)) := fun e =>
        readAt_at arg8.view X_arg8 _ (offs_t1 k).1 (ix3 0 r e) (ix3 0 t (hcol 0 e)) (by
          intro a; fin_cases a
          · rfl
          · exact hr
          · show 64 * 0 + e.val = 0 + e.val; omega)
      refine (pay11_at _ r d).trans ?_
      exact hrow d
    · refine (pair1 arg17.view g _ _ _ _ k.val (offs_t1 k).2.2.2 (offs_t1 k).2.1 t d r hr).trans ?_
      have hrow : ∀ e : Fin 64, arg8.view.readAt (Elt Ideal) (Rect.unit (s := S1x2048x128) (k0_off3 k) S1x128x64.size (k0_off3_inb k)).toLoadRect X_arg8 (ix3 0 r e) = arg8.view.read (Elt Ideal) X_arg8 (ix3 0 t (hcol 1 e)) := fun e =>
        readAt_at arg8.view X_arg8 _ (offs_t1 k).2.2.1 (ix3 0 r e) (ix3 0 t (hcol 1 e)) (by
          intro a; fin_cases a
          · rfl
          · exact hr
          · rfl)
      delta trip_k0_t1.sl.r_4
      refine (pay11_at _ r d).trans ?_
      exact hrow d
  have e16 : Scf.trips (0#32) (Scalar.addi 0#32 16#32) 1#32 = 16 := by decide
  rw [e16]
  refine fill2 arg17.view f (fun n => (pb_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 X_arg2 X_arg3 X_arg4 X_arg5 X_arg6 X_arg8 n).2.2.2) (fun n => if hn : n < k0_t1_loop.trips then (tripL_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 X_arg2 X_arg3 X_arg4 X_arg5 X_arg6 X_arg8 ⟨n, hn⟩).2.2.2 else []) (fun h t d => arg8.view.read (Elt Ideal) X_arg8 (ix3 0 t (hcol h d))) 16 rfl ?_ ?_ ?_ h t d (by have := t.isLt; omega)
  · intro k hk
    have hk' : k < k0_t1_loop.trips := by rw [trips_t1]; exact hk
    rw [dif_pos hk']
    exact congrArg (fun z => z.2.2.2) (pb_k0_t1_succ (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 X_arg2 X_arg3 X_arg4 X_arg5 X_arg6 X_arg8 ⟨k, hk'⟩)
  · intro k hk g h t d h1 h2
    have hk' : k < k0_t1_loop.trips := by rw [trips_t1]; exact hk
    show arg17.view.read _ (arg17.view.writes _ g (if hn : k < k0_t1_loop.trips then _ else [])) _ = _
    rw [dif_pos hk']
    exact (key ⟨k, hk'⟩ g).1 h t d h1 h2
  · intro k hk g h t d ho
    have hk' : k < k0_t1_loop.trips := by rw [trips_t1]; exact hk
    show arg17.view.read _ (arg17.view.writes _ g (if hn : k < k0_t1_loop.trips then _ else [])) _ = _
    rw [dif_pos hk']
    exact (key ⟨k, hk'⟩ g).2 h t d ho

/-- The gradient of the values as the last loop stores it: transposed, the heads side by side. -/
theorem outDv (𝒱 : Variants) (c : Dev nD) (bd : Option 𝒱.V) (i : grid0.Coords) (arg2 : Memref sig .tc .vmem S1x2048x128 .f32) (harg2 : arg2.IsWhole) (arg3 : Memref sig .tc .vmem S1x2048x128 .f32) (harg3 : arg3.IsWhole) (arg4 : Memref sig .tc .vmem S1x2048x128 .f32) (harg4 : arg4.IsWhole) (arg5 : Memref sig .tc .vmem S1x64 .f32) (harg5 : arg5.IsWhole) (arg6 : Memref sig .tc .vmem S1x64 .f32) (harg6 : arg6.IsWhole) (arg7 : Memref sig .tc .vmem S1x2x2048x1 .f32) (harg7 : arg7.IsWhole) (arg8 : Memref sig .tc .vmem S1x2048x128 .f32) (harg8 : arg8.IsWhole) (arg9 : Memref sig .tc .vmem S1x2048x128 .f32) (harg9 : arg9.IsWhole) (arg10 : Memref sig .tc .vmem S1x2048x128 .f32) (harg10 : arg10.IsWhole) (arg11 : Memref sig .tc .vmem S1x2048x128 .f32) (harg11 : arg11.IsWhole) (arg12 : Memref sig .tc .vmem S1x64 .f32) (harg12 : arg12.IsWhole) (arg13 : Memref sig .tc .vmem S1x64 .f32) (harg13 : arg13.IsWhole) (arg14 : Memref sig .tc .vmem S2x2048x64 .bf16) (harg14 : arg14.IsWhole) (arg15 : Memref sig .tc .vmem S2x2048x64 .bf16) (harg15 : arg15.IsWhole) (arg16 : Memref sig .tc .vmem S2x2048x64 .bf16) (harg16 : arg16.IsWhole) (arg17 : Memref sig .tc .vmem S2x2048x64 .bf16) (harg17 : arg17.IsWhole) (arg18 : Memref sig .tc .vmem S2x2048x64 .f32) (harg18 : arg18.IsWhole) (arg19 : Memref sig .tc .vmem S2x64x2048 .f32) (harg19 : arg19.IsWhole) (arg20 : Memref sig .tc .vmem S2x64x2048 .f32) (harg20 : arg20.IsWhole) (c0_i32_14 : BitVec 32) (c1_i32_16 : BitVec 32) (X_arg2 : BufTy.Contents (Elt Ideal) arg2.view.ty) (X_arg3 : BufTy.Contents (Elt Ideal) arg3.view.ty) (X_arg5 : BufTy.Contents (Elt Ideal) arg5.view.ty) (X_arg6 : BufTy.Contents (Elt Ideal) arg6.view.ty) (X_arg18 : BufTy.Contents (Elt Ideal) arg18.view.ty) (X_arg19 : BufTy.Contents (Elt Ideal) arg19.view.ty) (X_arg20 : BufTy.Contents (Elt Ideal) arg20.view.ty) (init : FVec Ideal S1x64 .f32 × FVec Ideal S1x64 .f32)
    (f : BufTy.Contents (Elt Ideal) arg11.view.ty) (t : Fin 2048) (x : Fin 128) :
    arg11.view.read (Elt Ideal) (arg11.view.writes (Elt Ideal) f (st_k0_t5 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 c0_i32_14 c1_i32_16 X_arg2 X_arg3 X_arg5 X_arg6 X_arg18 X_arg19 X_arg20 init (Scf.trips (0#32) (Scalar.addi 0#32 16#32) 1#32)).2.2.2) (ix3 0 t x)
      = if hx : x.val < 64 then arg20.view.read (Elt Ideal) X_arg20 (ix3 0 ⟨x.val, hx⟩ t) else arg20.view.read (Elt Ideal) X_arg20 (ix3 1 ⟨x.val - 64, by have := x.isLt; omega⟩ t) := by
  have key : ∀ (k : Fin k0_t5_loop.trips) (acc : FVec Ideal S1x64 .f32 × FVec Ideal S1x64 .f32), ∀ (g : BufTy.Contents (Elt Ideal) arg11.view.ty),
      (∀ (t : Fin 2048) (x : Fin 128), 128 * k.val ≤ t.val → t.val < 128 * k.val + 128 → arg11.view.read (Elt Ideal) (arg11.view.writes (Elt Ideal) g (tripL_k0_t5 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 c0_i32_14 c1_i32_16 X_arg2 X_arg3 X_arg5 X_arg6 X_arg18 X_arg19 X_arg20 k acc).2.2) (ix3 0 t x) = if hx : x.val < 64 then arg20.view.read (Elt Ideal) X_arg20 (ix3 0 ⟨x.val, hx⟩ t) else arg20.view.read (Elt Ideal) X_arg20 (ix3 1 ⟨x.val - 64, by have := x.isLt; omega⟩ t))
      ∧ (∀ (t : Fin 2048) (x : Fin 128), t.val < 128 * k.val ∨ 128 * k.val + 128 ≤ t.val → arg11.view.read (Elt Ideal) (arg11.view.writes (Elt Ideal) g (tripL_k0_t5 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 c0_i32_14 c1_i32_16 X_arg2 X_arg3 X_arg5 X_arg6 X_arg18 X_arg19 X_arg20 k acc).2.2) (ix3 0 t x) = arg11.view.read (Elt Ideal) g (ix3 0 t x)) := by
    intro k acc g
    unfold tripL_k0_t5 trip_k0_t5
    refine ⟨fun t x h1 h2 => ?_, fun t x ho => colsOut arg11.view g _ _ _ _ k.val (offs_t5 k).2.2.1 (offs_t5 k).1 t x ho⟩
    obtain ⟨r, hr⟩ : ∃ r : Fin 128, t.val = 128 * k.val + r.val := ⟨⟨t.val - 128 * k.val, by omega⟩, by show _ = _ + (_ - _); omega⟩
    by_cases hx : x.val < 64
    · rw [dif_pos hx]
      refine (cols0 arg11.view g _ _ _ _ k.val (offs_t5 k).2.2.1 (offs_t5 k).1 t x ⟨x.val, hx⟩ rfl r hr).trans ?_
      refine (pay331_at _ r _).trans ?_
      exact readAt_at arg20.view X_arg20 _ (offs_t5 k).2.1 (ix3 0 ⟨x.val, hx⟩ r) (ix3 0 ⟨x.val, hx⟩ t) (by
        intro a; fin_cases a
        · rfl
        · exact (Nat.zero_add _).symm
        · exact hr)
    · rw [dif_neg hx]
      refine (cols1 arg11.view g _ _ _ _ k.val (offs_t5 k).2.2.1 (offs_t5 k).1 t x ⟨x.val - 64, by have := x.isLt; omega⟩ (by show x.val = 64 + (x.val - 64); omega) r hr).trans ?_
      refine (pay3_at _ r _).trans ?_
      exact readAt_at arg20.view X_arg20 _ (offs_t5 k).2.2.2 (ix3 0 ⟨x.val - 64, by have := x.isLt; omega⟩ r) (ix3 1 ⟨x.val - 64, by have := x.isLt; omega⟩ t) (by
        intro a; fin_cases a
        · rfl
        · exact (Nat.zero_add _).symm
        · exact hr)
  have e16 : Scf.trips (0#32) (Scalar.addi 0#32 16#32) 1#32 = 16 := by decide
  rw [e16]
  refine fill1 arg11.view f (fun n => (st_k0_t5 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 c0_i32_14 c1_i32_16 X_arg2 X_arg3 X_arg5 X_arg6 X_arg18 X_arg19 X_arg20 init n).2.2.2) (fun n => if hn : n < k0_t5_loop.trips then (tripL_k0_t5 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 c0_i32_14 c1_i32_16 X_arg2 X_arg3 X_arg5 X_arg6 X_arg18 X_arg19 X_arg20 ⟨n, hn⟩ (st_k0_t5 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 c0_i32_14 c1_i32_16 X_arg2 X_arg3 X_arg5 X_arg6 X_arg18 X_arg19 X_arg20 init n).1).2.2 else []) (fun t x => if hx : x.val < 64 then arg20.view.read (Elt Ideal) X_arg20 (ix3 0 ⟨x.val, hx⟩ t) else arg20.view.read (Elt Ideal) X_arg20 (ix3 1 ⟨x.val - 64, by have := x.isLt; omega⟩ t)) 16 rfl ?_ ?_ ?_ t x (by have := t.isLt; omega)
  · intro k hk
    have hk' : k < k0_t5_loop.trips := by rw [trips_t5]; exact hk
    rw [dif_pos hk']
    exact congrArg (fun z => z.2.2.2) (st_k0_t5_succ (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 c0_i32_14 c1_i32_16 X_arg2 X_arg3 X_arg5 X_arg6 X_arg18 X_arg19 X_arg20 init ⟨k, hk'⟩)
  · intro k hk g t x h1 h2
    have hk' : k < k0_t5_loop.trips := by rw [trips_t5]; exact hk
    show arg11.view.read _ (arg11.view.writes _ g (if hn : k < k0_t5_loop.trips then _ else [])) _ = _
    rw [dif_pos hk']
    exact (key ⟨k, hk'⟩ _ g).1 t x h1 h2
  · intro k hk g t x ho
    have hk' : k < k0_t5_loop.trips := by rw [trips_t5]; exact hk
    show arg11.view.read _ (arg11.view.writes _ g (if hn : k < k0_t5_loop.trips then _ else [])) _ = _
    rw [dif_pos hk']
    exact (key ⟨k, hk'⟩ _ g).2 t x ho

end Cert.SbPay
end
-- ==== Proof.SbDiag.lean ====
/- What one query block of `sb_attn_bwd` adds to the gradient of the values: the blocks below the diagonal, and the diagonal's. -/
module

public import proofs.«01_k».proof.Proof.SbLoop

@[expose] public section

set_option maxRecDepth 16384
set_option maxHeartbeats 2000000

noncomputable section

namespace Cert.SbPay

open Idealize.ShloMosaic Idealize.ShloMosaic.TcCoe Idealize.SL.Sem
open Cert.KernelIdeal Cert.KernelIdeal.Gen

/-- The score of query `t` at the keys, from the normalised queries and keys of a head. -/
def zr (qn kn : ℕ → Fin 64 → ℝ) (t s : ℕ) : ℝ := ∑ d : Fin 64, qn t d * kn s d

theorem offs_q : ∀ k : Fin k0_t2_loop.trips, k0_off5 k = ![0, 256 * k.val, 0] ∧ k0_off6 k = ![1, 256 * k.val, 0] ∧ k0_off7 k = ![0, 0, 256 * k.val, 0] ∧ k0_off8 k = ![0, 1, 256 * k.val, 0] := by decide

theorem offs_n : ∀ k : Fin k0_t2_loop.trips, k0_off17 k = ![0, 512 * (k.val / 2), 0] ∧ k0_off18 k = ![1, 512 * (k.val / 2), 0] ∧ k0_off19 k = ![0, 0, 512 * (k.val / 2)] ∧ k0_off20 k = ![1, 0, 512 * (k.val / 2)] := by decide

theorem offs_w : ∀ k : Fin k0_t2_loop.trips, k0_off21 k = ![0, 512 * (k.val / 2), 0] ∧ k0_off22 k = ![1, 512 * (k.val / 2), 0] ∧ k0_off23 k = ![0, 0, 512 * (k.val / 2)] ∧ k0_off24 k = ![1, 0, 512 * (k.val / 2)] := by decide

theorem cast_q (x : FVec Ideal S1x256x64 .bf16) (h : S1x256x64.ShapeCasts S256x64) (r : Fin 256) (d : Fin 64) : shapeCast S256x64 x h (ix2 r d) = x (ix3 0 r d) := by pointwise []

theorem cast_t (x : FVec Ideal S1x1x256x1 .f32) (h : S1x1x256x1.ShapeCasts S256x1) (r : Fin 256) : shapeCast S256x1 x h (ix2 r 0) = x (ix4 0 0 r 0) := by pointwise []

theorem pay315_at (v : FVec Ideal S64x256 .bf16) (a : FVec Ideal S256x256 .bf16) (g : FVec Ideal S1x64x256 .f32) (d : Fin 64) (x : Fin 256) :
    k0_pay315 (F := Ideal) (k0_pay235 g) (k0_pay236 v a) (ix3 0 d x) = g (ix3 0 d x) + ∑ r : Fin 256, v (ix2 d r) * a (ix2 r x) := by pointwise [k0_pay315, k0_pay235, k0_pay236]

theorem pay311_at (r : Fin 256) : k0_pay311 (F := Ideal) (ix2 r 0) = 0 := by pointwise [k0_pay311]

/-- A product of real rows is real. -/
theorem score (qn kn : ℕ → Fin 64 → ℝ) (t s : ℕ) (q k : Fin 64 → EReal) (hq : ∀ d, q d = ((qn t d : ℝ) : EReal)) (hk : ∀ d, k d = ((kn s d : ℝ) : EReal)) :
    ∑ d : Fin 64, q d * k d = ((zr qn kn t s : ℝ) : EReal) := by
  unfold zr
  rw [coe_sum]
  exact Finset.sum_congr rfl fun d _ => by rw [hq d, hk d, EReal.coe_mul]

/-- The diagonal block's step on its keys. -/
theorem comb_in (a : EReal) (f : Fin 256 → ℝ) (v v1 v2 w : Fin 256 → EReal) (s n : ℕ) (h : ¬ s < 512 * n) (hv : ∀ r, v1 r = v r) (hv2 : ∀ r, v2 r = v r) (hw : ∀ r, w r = ((f r : ℝ) : EReal)) :
    (a + ∑ r : Fin 256, v1 r * ((if s < 512 * n then f r else 0 : ℝ) : EReal)) + ∑ r : Fin 256, v2 r * w r = a + ∑ r : Fin 256, v r * ((f r : ℝ) : EReal) := by
  rw [Finset.sum_eq_zero (fun r _ => by rw [if_neg h, EReal.coe_zero, mul_zero]), add_zero]
  exact congrArg _ (Finset.sum_congr rfl fun r _ => by rw [hw r, hv2 r])

/-- The other keys: those below have been covered, those above have weight zero. -/
theorem comb_out (a : EReal) (f : Fin 256 → ℝ) (v v1 : Fin 256 → EReal) (s n : ℕ) (h : s < 512 * n ∨ ∀ r, f r = 0) (hv : ∀ r, v1 r = v r) :
    a + ∑ r : Fin 256, v1 r * ((if s < 512 * n then f r else 0 : ℝ) : EReal) = a + ∑ r : Fin 256, v r * ((f r : ℝ) : EReal) := by
  refine congrArg _ (Finset.sum_congr rfl fun r _ => ?_)
  rw [hv r]
  rcases h with h | h
  · rw [if_pos h]
  · rw [h r, ite_self]

theorem att_zero (z : ℕ → ℝ) (τ : ℝ) (t s : ℕ) (h : t ≤ s) : att z τ t s = 0 := if_neg (by omega)

/-- The loop that has no steps writes nothing. -/
theorem st4_zero (𝒱 : Variants) (c : Dev nD) (bd : Option 𝒱.V) (i : grid0.Coords) (arg2 : Memref sig .tc .vmem S1x2048x128 .f32) (harg2 : arg2.IsWhole) (arg3 : Memref sig .tc .vmem S1x2048x128 .f32) (harg3 : arg3.IsWhole) (arg4 : Memref sig .tc .vmem S1x2048x128 .f32) (harg4 : arg4.IsWhole) (arg5 : Memref sig .tc .vmem S1x64 .f32) (harg5 : arg5.IsWhole) (arg6 : Memref sig .tc .vmem S1x64 .f32) (harg6 : arg6.IsWhole) (arg7 : Memref sig .tc .vmem S1x2x2048x1 .f32) (harg7 : arg7.IsWhole) (arg8 : Memref sig .tc .vmem S1x2048x128 .f32) (harg8 : arg8.IsWhole) (arg9 : Memref sig .tc .vmem S1x2048x128 .f32) (harg9 : arg9.IsWhole) (arg10 : Memref sig .tc .vmem S1x2048x128 .f32) (harg10 : arg10.IsWhole) (arg11 : Memref sig .tc .vmem S1x2048x128 .f32) (harg11 : arg11.IsWhole) (arg12 : Memref sig .tc .vmem S1x64 .f32) (harg12 : arg12.IsWhole) (arg13 : Memref sig .tc .vmem S1x64 .f32) (harg13 : arg13.IsWhole) (arg14 : Memref sig .tc .vmem S2x2048x64 .bf16) (harg14 : arg14.IsWhole) (arg15 : Memref sig .tc .vmem S2x2048x64 .bf16) (harg15 : arg15.IsWhole) (arg16 : Memref sig .tc .vmem S2x2048x64 .bf16) (harg16 : arg16.IsWhole) (arg17 : Memref sig .tc .vmem S2x2048x64 .bf16) (harg17 : arg17.IsWhole) (arg18 : Memref sig .tc .vmem S2x2048x64 .f32) (harg18 : arg18.IsWhole) (arg19 : Memref sig .tc .vmem S2x64x2048 .f32) (harg19 : arg19.IsWhole) (arg20 : Memref sig .tc .vmem S2x64x2048 .f32) (harg20 : arg20.IsWhole) (v5 : FVec Ideal S128x128 .bf16) (v9 : FVec Ideal S128x128 .bf16) (v26 : IVec S256x512 32) (k0_t2 : Fin k0_t2_loop.trips) (arg21 : BitVec 32) (v40 : BitVec 32) (v43 : FVec Ideal S256x64 .bf16) (v46 : FVec Ideal S256x64 .bf16) (v49 : FVec Ideal S256x64 .bf16) (v52 : FVec Ideal S256x64 .bf16) (v55 : FVec Ideal S256x1 .f32) (v58 : FVec Ideal S256x1 .f32) (v62 : BitVec 32) (v73 : BitVec 1) (v74 : BitVec 32) (v95 : BitVec 32) (v103 : BitVec 32) (X_arg15 : BufTy.Contents (Elt Ideal) arg15.view.ty) (X_arg16 : BufTy.Contents (Elt Ideal) arg16.view.ty) (f19 : BufTy.Contents (Elt Ideal) arg19.view.ty) (f20 : BufTy.Contents (Elt Ideal) arg20.view.ty) (init : FVec Ideal S256x64 .f32 × FVec Ideal S256x1 .f32 × FVec Ideal S256x1 .f32 × FVec Ideal S256x64 .f32 × FVec Ideal S256x1 .f32 × FVec Ideal S256x1 .f32) (n : ℕ) (hn : n = 0) :
    st_k0_t4 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v5 v9 v26 k0_t2 arg21 v40 v43 v46 v49 v52 v55 v58 v62 v73 v74 v95 v103 X_arg15 X_arg16 f19 f20 init n = (init, [], []) := by subst hn; rfl

theorem st4_read (𝒱 : Variants) (c : Dev nD) (bd : Option 𝒱.V) (i : grid0.Coords) (arg2 : Memref sig .tc .vmem S1x2048x128 .f32) (harg2 : arg2.IsWhole) (arg3 : Memref sig .tc .vmem S1x2048x128 .f32) (harg3 : arg3.IsWhole) (arg4 : Memref sig .tc .vmem S1x2048x128 .f32) (harg4 : arg4.IsWhole) (arg5 : Memref sig .tc .vmem S1x64 .f32) (harg5 : arg5.IsWhole) (arg6 : Memref sig .tc .vmem S1x64 .f32) (harg6 : arg6.IsWhole) (arg7 : Memref sig .tc .vmem S1x2x2048x1 .f32) (harg7 : arg7.IsWhole) (arg8 : Memref sig .tc .vmem S1x2048x128 .f32) (harg8 : arg8.IsWhole) (arg9 : Memref sig .tc .vmem S1x2048x128 .f32) (harg9 : arg9.IsWhole) (arg10 : Memref sig .tc .vmem S1x2048x128 .f32) (harg10 : arg10.IsWhole) (arg11 : Memref sig .tc .vmem S1x2048x128 .f32) (harg11 : arg11.IsWhole) (arg12 : Memref sig .tc .vmem S1x64 .f32) (harg12 : arg12.IsWhole) (arg13 : Memref sig .tc .vmem S1x64 .f32) (harg13 : arg13.IsWhole) (arg14 : Memref sig .tc .vmem S2x2048x64 .bf16) (harg14 : arg14.IsWhole) (arg15 : Memref sig .tc .vmem S2x2048x64 .bf16) (harg15 : arg15.IsWhole) (arg16 : Memref sig .tc .vmem S2x2048x64 .bf16) (harg16 : arg16.IsWhole) (arg17 : Memref sig .tc .vmem S2x2048x64 .bf16) (harg17 : arg17.IsWhole) (arg18 : Memref sig .tc .vmem S2x2048x64 .f32) (harg18 : arg18.IsWhole) (arg19 : Memref sig .tc .vmem S2x64x2048 .f32) (harg19 : arg19.IsWhole) (arg20 : Memref sig .tc .vmem S2x64x2048 .f32) (harg20 : arg20.IsWhole) (v5 : FVec Ideal S128x128 .bf16) (v9 : FVec Ideal S128x128 .bf16) (v26 : IVec S256x512 32) (k0_t2 : Fin k0_t2_loop.trips) (arg21 : BitVec 32) (v40 : BitVec 32) (v43 : FVec Ideal S256x64 .bf16) (v46 : FVec Ideal S256x64 .bf16) (v49 : FVec Ideal S256x64 .bf16) (v52 : FVec Ideal S256x64 .bf16) (v55 : FVec Ideal S256x1 .f32) (v58 : FVec Ideal S256x1 .f32) (v62 : BitVec 32) (v73 : BitVec 1) (v74 : BitVec 32) (v95 : BitVec 32) (v103 : BitVec 32) (X_arg15 : BufTy.Contents (Elt Ideal) arg15.view.ty) (X_arg16 : BufTy.Contents (Elt Ideal) arg16.view.ty) (f19 : BufTy.Contents (Elt Ideal) arg19.view.ty) (f20 : BufTy.Contents (Elt Ideal) arg20.view.ty) (init : FVec Ideal S256x64 .f32 × FVec Ideal S256x1 .f32 × FVec Ideal S256x1 .f32 × FVec Ideal S256x64 .f32 × FVec Ideal S256x1 .f32 × FVec Ideal S256x1 .f32) (n : ℕ) (hn : n = 0) (f : BufTy.Contents (Elt Ideal) arg20.view.ty) (L : List (View.Piece (Elt Ideal) S2x64x2048 .f32)) (p : S2x64x2048.Idx) :
    arg20.view.read (Elt Ideal) (arg20.view.writes (Elt Ideal) f ((st_k0_t4 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v5 v9 v26 k0_t2 arg21 v40 v43 v46 v49 v52 v55 v58 v62 v73 v74 v95 v103 X_arg15 X_arg16 f19 f20 init n).2.2 ++ L)) p = arg20.view.read (Elt Ideal) (arg20.view.writes (Elt Ideal) f L) p := by subst hn; rfl

/-- One query block with a diagonal step of 256 keys adds to the gradient of the values of the first head the cotangent against the
block's attention weights. -/
theorem narrow0 (𝒱 : Variants) (c : Dev nD) (bd : Option 𝒱.V) (i : grid0.Coords) (arg2 : Memref sig .tc .vmem S1x2048x128 .f32) (harg2 : arg2.IsWhole) (arg3 : Memref sig .tc .vmem S1x2048x128 .f32) (harg3 : arg3.IsWhole) (arg4 : Memref sig .tc .vmem S1x2048x128 .f32) (harg4 : arg4.IsWhole) (arg5 : Memref sig .tc .vmem S1x64 .f32) (harg5 : arg5.IsWhole) (arg6 : Memref sig .tc .vmem S1x64 .f32) (harg6 : arg6.IsWhole) (arg7 : Memref sig .tc .vmem S1x2x2048x1 .f32) (harg7 : arg7.IsWhole) (arg8 : Memref sig .tc .vmem S1x2048x128 .f32) (harg8 : arg8.IsWhole) (arg9 : Memref sig .tc .vmem S1x2048x128 .f32) (harg9 : arg9.IsWhole) (arg10 : Memref sig .tc .vmem S1x2048x128 .f32) (harg10 : arg10.IsWhole) (arg11 : Memref sig .tc .vmem S1x2048x128 .f32) (harg11 : arg11.IsWhole) (arg12 : Memref sig .tc .vmem S1x64 .f32) (harg12 : arg12.IsWhole) (arg13 : Memref sig .tc .vmem S1x64 .f32) (harg13 : arg13.IsWhole) (arg14 : Memref sig .tc .vmem S2x2048x64 .bf16) (harg14 : arg14.IsWhole) (arg15 : Memref sig .tc .vmem S2x2048x64 .bf16) (harg15 : arg15.IsWhole) (arg16 : Memref sig .tc .vmem S2x2048x64 .bf16) (harg16 : arg16.IsWhole) (arg17 : Memref sig .tc .vmem S2x2048x64 .bf16) (harg17 : arg17.IsWhole) (arg18 : Memref sig .tc .vmem S2x2048x64 .f32) (harg18 : arg18.IsWhole) (arg19 : Memref sig .tc .vmem S2x64x2048 .f32) (harg19 : arg19.IsWhole) (arg20 : Memref sig .tc .vmem S2x64x2048 .f32) (harg20 : arg20.IsWhole) (X_arg7 : BufTy.Contents (Elt Ideal) arg7.view.ty) (X_arg14 : BufTy.Contents (Elt Ideal) arg14.view.ty) (X_arg15 : BufTy.Contents (Elt Ideal) arg15.view.ty) (X_arg16 : BufTy.Contents (Elt Ideal) arg16.view.ty) (X_arg17 : BufTy.Contents (Elt Ideal) arg17.view.ty) (k : Fin k0_t2_loop.trips) (hk : k0_cond2 k = 1#1) (f19 : BufTy.Contents (Elt Ideal) arg19.view.ty) (f20 : BufTy.Contents (Elt Ideal) arg20.view.ty)
    (qn kn : Fin 2 → ℕ → Fin 64 → ℝ) (dO : Fin 2 → ℕ → Fin 64 → EReal) (T : Fin 2 → ℕ → ℝ)
    (hq : ∀ (h : Fin 2) (t : Fin 2048) (d : Fin 64), arg14.view.read (Elt Ideal) X_arg14 (ix3 h t d) = ((qn h t.val d : ℝ) : EReal))
    (hkn : ∀ (h : Fin 2) (t : Fin 2048) (d : Fin 64), arg15.view.read (Elt Ideal) X_arg15 (ix3 h t d) = ((kn h t.val d : ℝ) : EReal))
    (hdo : ∀ (h : Fin 2) (t : Fin 2048) (d : Fin 64), arg17.view.read (Elt Ideal) X_arg17 (ix3 h t d) = dO h t.val d)
    (hT : ∀ (h : Fin 2) (t : Fin 2048), arg7.view.read (Elt Ideal) X_arg7 (ix4 0 h t 0) = ((T h t.val : ℝ) : EReal))
    (d : Fin 64) (s : Fin 2048) :
    arg20.view.read (Elt Ideal) (arg20.view.writes (Elt Ideal) f20 ((tripNarrow (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 X_arg7 X_arg14 X_arg15 X_arg16 X_arg17 k hk).2.2.1 f19 f20)) (ix3 0 d s)
      = (arg20.view.read (Elt Ideal) f20 (ix3 0 d s) : EReal) + ∑ r : Fin 256, dO 0 (256 * k.val + r.val) d * ((att (zr (qn 0) (kn 0) (256 * k.val + r.val)) (T 0 (256 * k.val + r.val)) (256 * k.val + r.val) s.val : ℝ) : EReal) := by
  have hk8 : k.val < 8 := lt_of_lt_of_eq k.isLt trips_t2
  have hb : ∀ r : Fin 256, 256 * k.val + r.val < 2048 := fun r => by have := r.isLt; omega
  have hpar : k.val % 2 = 0 := by
    exact (narrow_iff k).1 hk
  have ht3 := trips_t3 k
  obtain ⟨o5, o6, o7, o8⟩ := offs_q k
  obtain ⟨o17, o18, o19, o20⟩ := offs_n k
  have h43 : ∀ (r : Fin 256) (d : Fin 64), tripNarrow.sl.v43 (F := Ideal) arg14 X_arg14 k (ix2 r d) = ((qn 0 (256 * k.val + r.val) d : ℝ) : EReal) := fun r d => (cast_q _ _ r d).trans ((readAt_at _ _ _ o5 _ (ix3 0 ⟨256 * k.val + r.val, hb r⟩ d) (fun a => by match a with | 0 => rfl | 1 => rfl | 2 => exact (Nat.zero_add _).symm)).trans (hq 0 ⟨256 * k.val + r.val, hb r⟩ d))
  have h46 : ∀ (r : Fin 256) (d : Fin 64), tripNarrow.sl.v46 (F := Ideal) arg14 X_arg14 k (ix2 r d) = ((qn 1 (256 * k.val + r.val) d : ℝ) : EReal) := fun r d => (cast_q _ _ r d).trans ((readAt_at _ _ _ o6 _ (ix3 1 ⟨256 * k.val + r.val, hb r⟩ d) (fun a => by match a with | 0 => rfl | 1 => rfl | 2 => exact (Nat.zero_add _).symm)).trans (hq 1 ⟨256 * k.val + r.val, hb r⟩ d))
  have h49 : ∀ (r : Fin 256) (d : Fin 64), tripNarrow.sl.v49 (F := Ideal) arg17 X_arg17 k (ix2 r d) = dO 0 (256 * k.val + r.val) d := fun r d => (cast_q _ _ r d).trans ((readAt_at _ _ _ o5 _ (ix3 0 ⟨256 * k.val + r.val, hb r⟩ d) (fun a => by match a with | 0 => rfl | 1 => rfl | 2 => exact (Nat.zero_add _).symm)).trans (hdo 0 ⟨256 * k.val + r.val, hb r⟩ d))
  have h52 : ∀ (r : Fin 256) (d : Fin 64), tripNarrow.sl.v52 (F := Ideal) arg17 X_arg17 k (ix2 r d) = dO 1 (256 * k.val + r.val) d := fun r d => (cast_q _ _ r d).trans ((readAt_at _ _ _ o6 _ (ix3 1 ⟨256 * k.val + r.val, hb r⟩ d) (fun a => by match a with | 0 => rfl | 1 => rfl | 2 => exact (Nat.zero_add _).symm)).trans (hdo 1 ⟨256 * k.val + r.val, hb r⟩ d))
  have h55 : ∀ r : Fin 256, tripNarrow.sl.v55 (F := Ideal) arg7 X_arg7 k (ix2 r 0) = ((T 0 (256 * k.val + r.val) : ℝ) : EReal) := fun r => (cast_t _ _ r).trans ((readAt_at _ _ _ o7 _ (ix4 0 0 ⟨256 * k.val + r.val, hb r⟩ 0) (fun a => by match a with | 0 => rfl | 1 => rfl | 2 => rfl | 3 => rfl)).trans (hT 0 ⟨256 * k.val + r.val, hb r⟩))
  have h58 : ∀ r : Fin 256, tripNarrow.sl.v58 (F := Ideal) arg7 X_arg7 k (ix2 r 0) = ((T 1 (256 * k.val + r.val) : ℝ) : EReal) := fun r => (cast_t _ _ r).trans ((readAt_at _ _ _ o8 _ (ix4 0 1 ⟨256 * k.val + r.val, hb r⟩ 0) (fun a => by match a with | 0 => rfl | 1 => rfl | 2 => rfl | 3 => rfl)).trans (hT 1 ⟨256 * k.val + r.val, hb r⟩))
  have hk0 : ∀ (j : Fin (k0_t3_loop k).trips) (x : Fin 512) (d : Fin 64), key0 k j X_arg15 (ix3 0 x d) = ((kn 0 (512 * j.val + x.val) d : ℝ) : EReal) := fun j => by
    have hj := lt_of_lt_of_eq j.isLt ht3
    exact fun x d => (readAt_at _ _ _ (offs_t3 k j).1 _ (ix3 0 ⟨512 * j.val + x.val, by have := x.isLt; omega⟩ d) (fun a => by match a with | 0 => rfl | 1 => rfl | 2 => exact (Nat.zero_add _).symm)).trans (hkn 0 ⟨512 * j.val + x.val, by have := x.isLt; omega⟩ d)
  have hk1 : ∀ (j : Fin (k0_t3_loop k).trips) (x : Fin 512) (d : Fin 64), key1 k j X_arg15 (ix3 0 x d) = ((kn 1 (512 * j.val + x.val) d : ℝ) : EReal) := fun j => by
    have hj := lt_of_lt_of_eq j.isLt ht3
    exact fun x d => (readAt_at _ _ _ (offs_t3 k j).2.1 _ (ix3 1 ⟨512 * j.val + x.val, by have := x.isLt; omega⟩ d) (fun a => by match a with | 0 => rfl | 1 => rfl | 2 => exact (Nat.zero_add _).symm)).trans (hkn 1 ⟨512 * j.val + x.val, by have := x.isLt; omega⟩ d)
  have hot : ∀ (j : Fin (k0_t3_loop k).trips) (r : Fin 256), 512 * j.val + 512 ≤ 256 * k.val + r.val := fun j r => by
    have hj := lt_of_lt_of_eq j.isLt ht3
    omega
  have inv := fun a1 a2 a3 a4 a5 a6 a7 a8 => st3_inv 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 a1 a2 k a3 a4 (tripNarrow.sl.v43 (F := Ideal) arg14 X_arg14 k) (tripNarrow.sl.v46 (F := Ideal) arg14 X_arg14 k) (tripNarrow.sl.v49 (F := Ideal) arg17 X_arg17 k) (tripNarrow.sl.v52 (F := Ideal) arg17 X_arg17 k) (tripNarrow.sl.v55 (F := Ideal) arg7 X_arg7 k) (tripNarrow.sl.v58 (F := Ideal) arg7 X_arg7 k) a5 a6 a7 a8 X_arg15 X_arg16 f19 f20 (k0_pay312, k0_pay311, k0_pay311, k0_pay312, k0_pay311, k0_pay311)
      (fun r => zr (qn 0) (kn 0) (256 * k.val + r.val)) (fun r => zr (qn 1) (kn 1) (256 * k.val + r.val)) (fun r => T 0 (256 * k.val + r.val)) (fun r => T 1 (256 * k.val + r.val)) (fun r => 256 * k.val + r.val)
      (fun j r x => score (qn 0) (kn 0) _ _ _ _ (h43 r) (hk0 j x)) (fun j r x => score (qn 1) (kn 1) _ _ _ _ (h46 r) (hk1 j x)) h55 h58 pay311_at pay311_at hot _ (le_refl _)
  have hbv : tripNarrow.sl.v95 k = 0#32 := by
    clear * - hk
    revert k
    decide
  have hd0 : ∀ (x : Fin 256) (d : Fin 64), (View.readAt (Elt Ideal) arg15.view (Rect.unit (s := S2x2048x64) (k0_off17 k) S1x256x64.size (k0_off17_inb k hk)).toLoadRect X_arg15) (ix3 0 x d) = ((kn 0 (512 * (k.val / 2) + x.val) d : ℝ) : EReal) := fun x d => (readAt_at _ _ _ o17 _ (ix3 0 ⟨512 * (k.val / 2) + x.val, by have := x.isLt; omega⟩ d) (fun a => by match a with | 0 => rfl | 1 => rfl | 2 => exact (Nat.zero_add _).symm)).trans (hkn 0 ⟨512 * (k.val / 2) + x.val, by have := x.isLt; omega⟩ d)
  have hd1 : ∀ (x : Fin 256) (d : Fin 64), (View.readAt (Elt Ideal) arg15.view (Rect.unit (s := S2x2048x64) (k0_off18 k) S1x256x64.size (k0_off18_inb k hk)).toLoadRect X_arg15) (ix3 0 x d) = ((kn 1 (512 * (k.val / 2) + x.val) d : ℝ) : EReal) := fun x d => (readAt_at _ _ _ o18 _ (ix3 1 ⟨512 * (k.val / 2) + x.val, by have := x.isLt; omega⟩ d) (fun a => by match a with | 0 => rfl | 1 => rfl | 2 => exact (Nat.zero_add _).symm)).trans (hkn 1 ⟨512 * (k.val / 2) + x.val, by have := x.isLt; omega⟩ d)
  unfold tripNarrow
  by_cases hs : 512 * (k.val / 2) ≤ s.val ∧ s.val < 512 * (k.val / 2) + 256
  · obtain ⟨x, hx⟩ : ∃ x : Fin 256, s.val = 512 * (k.val / 2) + x.val := ⟨⟨s.val - 512 * (k.val / 2), by omega⟩, by simp only []; omega⟩
    have hp : ∀ a : Fin 3, ((ix3 0 d s : S2x64x2048.Idx) a).val = (![0, 0, 512 * (k.val / 2)] : Fin 3 → ℕ) a + ((ix3 0 d x : S1x64x256.Idx) a).val := fun a => by
      match a with
      | 0 => rfl
      | 1 => exact (Nat.zero_add _).symm
      | 2 => exact hx
    refine (View.read_writes_cons_unit_of_not_mem _ _ _ _ _ _ o20 0 (Or.inl Nat.one_pos)).trans ?_
    refine (View.read_writes_cons_unit_of_mem _ _ _ _ _ _ (ix3 0 d x) o19 hp).trans ?_
    refine (pay232_at _ _ _ d x).trans ?_
    refine (congrArg₂ (· + ·) ((readAt_at _ _ _ o19 _ _ hp).trans ((st4_read (hn := trips_t4 k) ..).trans ((inv _ _ _ _ _ _ _ _).2.2.1 d s))) rfl).trans ?_
    refine comb_in _ (fun r : Fin 256 => att (zr (qn 0) (kn 0) (256 * k.val + r.val)) (T 0 (256 * k.val + r.val)) (256 * k.val + r.val) s.val) (fun r : Fin 256 => dO 0 (256 * k.val + r.val) d) _ _ _ s.val _ (by rw [ht3]; omega) (fun r => h49 r d) (fun r => ((pay309_at _ d r).trans (h49 r d))) (fun r => ?_)
    refine (rowN0 (tripNarrow.sl.v95 k) hbv (zr (qn 0) (kn 0) (256 * k.val + r.val)) (T 0 (256 * k.val + r.val)) (256 * k.val + r.val) (512 * (k.val / 2)) r (tripNarrow.sl.v43 (F := Ideal) arg14 X_arg14 k) (tripNarrow.sl.v46 (F := Ideal) arg14 X_arg14 k) (tripNarrow.sl.v55 (F := Ideal) arg7 X_arg7 k) (View.readAt (Elt Ideal) arg15.view (Rect.unit (s := S2x2048x64) (k0_off17 k) S1x256x64.size (k0_off17_inb k hk)).toLoadRect X_arg15) (View.readAt (Elt Ideal) arg15.view (Rect.unit (s := S2x2048x64) (k0_off18 k) S1x256x64.size (k0_off18_inb k hk)).toLoadRect X_arg15) _ (fun x => score (qn 0) (kn 0) _ _ _ _ (h43 r) (hd0 x)) ?_ (h55 r) (by omega) x).trans (congrArg (fun m => ((att _ _ _ m : ℝ) : EReal)) hx.symm)
    exact (congrArg (fun q => q.1.2.1 (ix2 r 0)) (st4_zero (hn := trips_t4 k) ..)).trans (((inv _ _ _ _ _ _ _ _).1 r).trans (by rw [ht3]))
  · have hs' : s.val < 512 * (k.val / 2) ∨ 512 * (k.val / 2) + 256 ≤ s.val := by omega
    refine (View.read_writes_cons_unit_of_not_mem _ _ _ _ _ _ o20 2 hs').trans ?_
    refine (View.read_writes_cons_unit_of_not_mem _ _ _ _ _ _ o19 2 hs').trans ?_
    refine (st4_read (hn := trips_t4 k) ..).trans ?_
    refine ((inv _ _ _ _ _ _ _ _).2.2.1 d s).trans ?_
    refine comb_out _ (fun r : Fin 256 => att (zr (qn 0) (kn 0) (256 * k.val + r.val)) (T 0 (256 * k.val + r.val)) (256 * k.val + r.val) s.val) (fun r : Fin 256 => dO 0 (256 * k.val + r.val) d) _ s.val _ ?_ (fun r => h49 r d)
    rcases hs' with h | h
    · exact Or.inl (by rw [ht3]; exact h)
    · exact Or.inr fun r => att_zero _ _ _ _ (by have := r.isLt; omega)

/-- One query block with a diagonal step of 256 keys adds to the gradient of the values of the second head the cotangent against the
block's attention weights. -/
theorem narrow1 (𝒱 : Variants) (c : Dev nD) (bd : Option 𝒱.V) (i : grid0.Coords) (arg2 : Memref sig .tc .vmem S1x2048x128 .f32) (harg2 : arg2.IsWhole) (arg3 : Memref sig .tc .vmem S1x2048x128 .f32) (harg3 : arg3.IsWhole) (arg4 : Memref sig .tc .vmem S1x2048x128 .f32) (harg4 : arg4.IsWhole) (arg5 : Memref sig .tc .vmem S1x64 .f32) (harg5 : arg5.IsWhole) (arg6 : Memref sig .tc .vmem S1x64 .f32) (harg6 : arg6.IsWhole) (arg7 : Memref sig .tc .vmem S1x2x2048x1 .f32) (harg7 : arg7.IsWhole) (arg8 : Memref sig .tc .vmem S1x2048x128 .f32) (harg8 : arg8.IsWhole) (arg9 : Memref sig .tc .vmem S1x2048x128 .f32) (harg9 : arg9.IsWhole) (arg10 : Memref sig .tc .vmem S1x2048x128 .f32) (harg10 : arg10.IsWhole) (arg11 : Memref sig .tc .vmem S1x2048x128 .f32) (harg11 : arg11.IsWhole) (arg12 : Memref sig .tc .vmem S1x64 .f32) (harg12 : arg12.IsWhole) (arg13 : Memref sig .tc .vmem S1x64 .f32) (harg13 : arg13.IsWhole) (arg14 : Memref sig .tc .vmem S2x2048x64 .bf16) (harg14 : arg14.IsWhole) (arg15 : Memref sig .tc .vmem S2x2048x64 .bf16) (harg15 : arg15.IsWhole) (arg16 : Memref sig .tc .vmem S2x2048x64 .bf16) (harg16 : arg16.IsWhole) (arg17 : Memref sig .tc .vmem S2x2048x64 .bf16) (harg17 : arg17.IsWhole) (arg18 : Memref sig .tc .vmem S2x2048x64 .f32) (harg18 : arg18.IsWhole) (arg19 : Memref sig .tc .vmem S2x64x2048 .f32) (harg19 : arg19.IsWhole) (arg20 : Memref sig .tc .vmem S2x64x2048 .f32) (harg20 : arg20.IsWhole) (X_arg7 : BufTy.Contents (Elt Ideal) arg7.view.ty) (X_arg14 : BufTy.Contents (Elt Ideal) arg14.view.ty) (X_arg15 : BufTy.Contents (Elt Ideal) arg15.view.ty) (X_arg16 : BufTy.Contents (Elt Ideal) arg16.view.ty) (X_arg17 : BufTy.Contents (Elt Ideal) arg17.view.ty) (k : Fin k0_t2_loop.trips) (hk : k0_cond2 k = 1#1) (f19 : BufTy.Contents (Elt Ideal) arg19.view.ty) (f20 : BufTy.Contents (Elt Ideal) arg20.view.ty)
    (qn kn : Fin 2 → ℕ → Fin 64 → ℝ) (dO : Fin 2 → ℕ → Fin 64 → EReal) (T : Fin 2 → ℕ → ℝ)
    (hq : ∀ (h : Fin 2) (t : Fin 2048) (d : Fin 64), arg14.view.read (Elt Ideal) X_arg14 (ix3 h t d) = ((qn h t.val d : ℝ) : EReal))
    (hkn : ∀ (h : Fin 2) (t : Fin 2048) (d : Fin 64), arg15.view.read (Elt Ideal) X_arg15 (ix3 h t d) = ((kn h t.val d : ℝ) : EReal))
    (hdo : ∀ (h : Fin 2) (t : Fin 2048) (d : Fin 64), arg17.view.read (Elt Ideal) X_arg17 (ix3 h t d) = dO h t.val d)
    (hT : ∀ (h : Fin 2) (t : Fin 2048), arg7.view.read (Elt Ideal) X_arg7 (ix4 0 h t 0) = ((T h t.val : ℝ) : EReal))
    (d : Fin 64) (s : Fin 2048) :
    arg20.view.read (Elt Ideal) (arg20.view.writes (Elt Ideal) f20 ((tripNarrow (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 X_arg7 X_arg14 X_arg15 X_arg16 X_arg17 k hk).2.2.1 f19 f20)) (ix3 1 d s)
      = (arg20.view.read (Elt Ideal) f20 (ix3 1 d s) : EReal) + ∑ r : Fin 256, dO 1 (256 * k.val + r.val) d * ((att (zr (qn 1) (kn 1) (256 * k.val + r.val)) (T 1 (256 * k.val + r.val)) (256 * k.val + r.val) s.val : ℝ) : EReal) := by
  have hk8 : k.val < 8 := lt_of_lt_of_eq k.isLt trips_t2
  have hb : ∀ r : Fin 256, 256 * k.val + r.val < 2048 := fun r => by have := r.isLt; omega
  have hpar : k.val % 2 = 0 := by
    exact (narrow_iff k).1 hk
  have ht3 := trips_t3 k
  obtain ⟨o5, o6, o7, o8⟩ := offs_q k
  obtain ⟨o17, o18, o19, o20⟩ := offs_n k
  have h43 : ∀ (r : Fin 256) (d : Fin 64), tripNarrow.sl.v43 (F := Ideal) arg14 X_arg14 k (ix2 r d) = ((qn 0 (256 * k.val + r.val) d : ℝ) : EReal) := fun r d => (cast_q _ _ r d).trans ((readAt_at _ _ _ o5 _ (ix3 0 ⟨256 * k.val + r.val, hb r⟩ d) (fun a => by match a with | 0 => rfl | 1 => rfl | 2 => exact (Nat.zero_add _).symm)).trans (hq 0 ⟨256 * k.val + r.val, hb r⟩ d))
  have h46 : ∀ (r : Fin 256) (d : Fin 64), tripNarrow.sl.v46 (F := Ideal) arg14 X_arg14 k (ix2 r d) = ((qn 1 (256 * k.val + r.val) d : ℝ) : EReal) := fun r d => (cast_q _ _ r d).trans ((readAt_at _ _ _ o6 _ (ix3 1 ⟨256 * k.val + r.val, hb r⟩ d) (fun a => by match a with | 0 => rfl | 1 => rfl | 2 => exact (Nat.zero_add _).symm)).trans (hq 1 ⟨256 * k.val + r.val, hb r⟩ d))
  have h49 : ∀ (r : Fin 256) (d : Fin 64), tripNarrow.sl.v49 (F := Ideal) arg17 X_arg17 k (ix2 r d) = dO 0 (256 * k.val + r.val) d := fun r d => (cast_q _ _ r d).trans ((readAt_at _ _ _ o5 _ (ix3 0 ⟨256 * k.val + r.val, hb r⟩ d) (fun a => by match a with | 0 => rfl | 1 => rfl | 2 => exact (Nat.zero_add _).symm)).trans (hdo 0 ⟨256 * k.val + r.val, hb r⟩ d))
  have h52 : ∀ (r : Fin 256) (d : Fin 64), tripNarrow.sl.v52 (F := Ideal) arg17 X_arg17 k (ix2 r d) = dO 1 (256 * k.val + r.val) d := fun r d => (cast_q _ _ r d).trans ((readAt_at _ _ _ o6 _ (ix3 1 ⟨256 * k.val + r.val, hb r⟩ d) (fun a => by match a with | 0 => rfl | 1 => rfl | 2 => exact (Nat.zero_add _).symm)).trans (hdo 1 ⟨256 * k.val + r.val, hb r⟩ d))
  have h55 : ∀ r : Fin 256, tripNarrow.sl.v55 (F := Ideal) arg7 X_arg7 k (ix2 r 0) = ((T 0 (256 * k.val + r.val) : ℝ) : EReal) := fun r => (cast_t _ _ r).trans ((readAt_at _ _ _ o7 _ (ix4 0 0 ⟨256 * k.val + r.val, hb r⟩ 0) (fun a => by match a with | 0 => rfl | 1 => rfl | 2 => rfl | 3 => rfl)).trans (hT 0 ⟨256 * k.val + r.val, hb r⟩))
  have h58 : ∀ r : Fin 256, tripNarrow.sl.v58 (F := Ideal) arg7 X_arg7 k (ix2 r 0) = ((T 1 (256 * k.val + r.val) : ℝ) : EReal) := fun r => (cast_t _ _ r).trans ((readAt_at _ _ _ o8 _ (ix4 0 1 ⟨256 * k.val + r.val, hb r⟩ 0) (fun a => by match a with | 0 => rfl | 1 => rfl | 2 => rfl | 3 => rfl)).trans (hT 1 ⟨256 * k.val + r.val, hb r⟩))
  have hk0 : ∀ (j : Fin (k0_t3_loop k).trips) (x : Fin 512) (d : Fin 64), key0 k j X_arg15 (ix3 0 x d) = ((kn 0 (512 * j.val + x.val) d : ℝ) : EReal) := fun j => by
    have hj := lt_of_lt_of_eq j.isLt ht3
    exact fun x d => (readAt_at _ _ _ (offs_t3 k j).1 _ (ix3 0 ⟨512 * j.val + x.val, by have := x.isLt; omega⟩ d) (fun a => by match a with | 0 => rfl | 1 => rfl | 2 => exact (Nat.zero_add _).symm)).trans (hkn 0 ⟨512 * j.val + x.val, by have := x.isLt; omega⟩ d)
  have hk1 : ∀ (j : Fin (k0_t3_loop k).trips) (x : Fin 512) (d : Fin 64), key1 k j X_arg15 (ix3 0 x d) = ((kn 1 (512 * j.val + x.val) d : ℝ) : EReal) := fun j => by
    have hj := lt_of_lt_of_eq j.isLt ht3
    exact fun x d => (readAt_at _ _ _ (offs_t3 k j).2.1 _ (ix3 1 ⟨512 * j.val + x.val, by have := x.isLt; omega⟩ d) (fun a => by match a with | 0 => rfl | 1 => rfl | 2 => exact (Nat.zero_add _).symm)).trans (hkn 1 ⟨512 * j.val + x.val, by have := x.isLt; omega⟩ d)
  have hot : ∀ (j : Fin (k0_t3_loop k).trips) (r : Fin 256), 512 * j.val + 512 ≤ 256 * k.val + r.val := fun j r => by
    have hj := lt_of_lt_of_eq j.isLt ht3
    omega
  have inv := fun a1 a2 a3 a4 a5 a6 a7 a8 => st3_inv 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 a1 a2 k a3 a4 (tripNarrow.sl.v43 (F := Ideal) arg14 X_arg14 k) (tripNarrow.sl.v46 (F := Ideal) arg14 X_arg14 k) (tripNarrow.sl.v49 (F := Ideal) arg17 X_arg17 k) (tripNarrow.sl.v52 (F := Ideal) arg17 X_arg17 k) (tripNarrow.sl.v55 (F := Ideal) arg7 X_arg7 k) (tripNarrow.sl.v58 (F := Ideal) arg7 X_arg7 k) a5 a6 a7 a8 X_arg15 X_arg16 f19 f20 (k0_pay312, k0_pay311, k0_pay311, k0_pay312, k0_pay311, k0_pay311)
      (fun r => zr (qn 0) (kn 0) (256 * k.val + r.val)) (fun r => zr (qn 1) (kn 1) (256 * k.val + r.val)) (fun r => T 0 (256 * k.val + r.val)) (fun r => T 1 (256 * k.val + r.val)) (fun r => 256 * k.val + r.val)
      (fun j r x => score (qn 0) (kn 0) _ _ _ _ (h43 r) (hk0 j x)) (fun j r x => score (qn 1) (kn 1) _ _ _ _ (h46 r) (hk1 j x)) h55 h58 pay311_at pay311_at hot _ (le_refl _)
  have hbv : tripNarrow.sl.v95 k = 0#32 := by
    clear * - hk
    revert k
    decide
  have hd0 : ∀ (x : Fin 256) (d : Fin 64), (View.readAt (Elt Ideal) arg15.view (Rect.unit (s := S2x2048x64) (k0_off17 k) S1x256x64.size (k0_off17_inb k hk)).toLoadRect X_arg15) (ix3 0 x d) = ((kn 0 (512 * (k.val / 2) + x.val) d : ℝ) : EReal) := fun x d => (readAt_at _ _ _ o17 _ (ix3 0 ⟨512 * (k.val / 2) + x.val, by have := x.isLt; omega⟩ d) (fun a => by match a with | 0 => rfl | 1 => rfl | 2 => exact (Nat.zero_add _).symm)).trans (hkn 0 ⟨512 * (k.val / 2) + x.val, by have := x.isLt; omega⟩ d)
  have hd1 : ∀ (x : Fin 256) (d : Fin 64), (View.readAt (Elt Ideal) arg15.view (Rect.unit (s := S2x2048x64) (k0_off18 k) S1x256x64.size (k0_off18_inb k hk)).toLoadRect X_arg15) (ix3 0 x d) = ((kn 1 (512 * (k.val / 2) + x.val) d : ℝ) : EReal) := fun x d => (readAt_at _ _ _ o18 _ (ix3 1 ⟨512 * (k.val / 2) + x.val, by have := x.isLt; omega⟩ d) (fun a => by match a with | 0 => rfl | 1 => rfl | 2 => exact (Nat.zero_add _).symm)).trans (hkn 1 ⟨512 * (k.val / 2) + x.val, by have := x.isLt; omega⟩ d)
  unfold tripNarrow
  by_cases hs : 512 * (k.val / 2) ≤ s.val ∧ s.val < 512 * (k.val / 2) + 256
  · obtain ⟨x, hx⟩ : ∃ x : Fin 256, s.val = 512 * (k.val / 2) + x.val := ⟨⟨s.val - 512 * (k.val / 2), by omega⟩, by simp only []; omega⟩
    have hp : ∀ a : Fin 3, ((ix3 1 d s : S2x64x2048.Idx) a).val = (![1, 0, 512 * (k.val / 2)] : Fin 3 → ℕ) a + ((ix3 0 d x : S1x64x256.Idx) a).val := fun a => by
      match a with
      | 0 => rfl
      | 1 => exact (Nat.zero_add _).symm
      | 2 => exact hx
    refine (View.read_writes_cons_unit_of_mem _ _ _ _ _ _ (ix3 0 d x) o20 hp).trans ?_
    refine (pay315_at _ _ _ d x).trans ?_
    refine (congrArg₂ (· + ·) (readAt_at _ _ _ o20 _ _ hp) rfl).trans ?_
    try delta tripNarrow.sl.HW_arg20_1
    refine (congrArg₂ (· + ·) ((View.read_writes_cons_unit_of_not_mem _ _ _ _ _ _ o19 0 (Or.inr ?_)).trans ((st4_read (hn := trips_t4 k) ..).trans ((inv _ _ _ _ _ _ _ _).2.2.2 d s))) rfl).trans ?_
    · exact Nat.le_refl 1
    refine comb_in _ (fun r : Fin 256 => att (zr (qn 1) (kn 1) (256 * k.val + r.val)) (T 1 (256 * k.val + r.val)) (256 * k.val + r.val) s.val) (fun r : Fin 256 => dO 1 (256 * k.val + r.val) d) _ _ _ s.val _ (by rw [ht3]; omega) (fun r => h52 r d) (fun r => ((pay310_at _ d r).trans (h52 r d))) (fun r => ?_)
    refine (rowN1 (tripNarrow.sl.v95 k) hbv (zr (qn 1) (kn 1) (256 * k.val + r.val)) (T 1 (256 * k.val + r.val)) (256 * k.val + r.val) (512 * (k.val / 2)) r (tripNarrow.sl.v43 (F := Ideal) arg14 X_arg14 k) (tripNarrow.sl.v46 (F := Ideal) arg14 X_arg14 k) (tripNarrow.sl.v58 (F := Ideal) arg7 X_arg7 k) (View.readAt (Elt Ideal) arg15.view (Rect.unit (s := S2x2048x64) (k0_off17 k) S1x256x64.size (k0_off17_inb k hk)).toLoadRect X_arg15) (View.readAt (Elt Ideal) arg15.view (Rect.unit (s := S2x2048x64) (k0_off18 k) S1x256x64.size (k0_off18_inb k hk)).toLoadRect X_arg15) _ (fun x => score (qn 1) (kn 1) _ _ _ _ (h46 r) (hd1 x)) ?_ (h58 r) (by omega) x).trans (congrArg (fun m => ((att _ _ _ m : ℝ) : EReal)) hx.symm)
    exact (congrArg (fun q => q.1.2.2.2.2.1 (ix2 r 0)) (st4_zero (hn := trips_t4 k) ..)).trans (((inv _ _ _ _ _ _ _ _).2.1 r).trans (by rw [ht3]))
  · have hs' : s.val < 512 * (k.val / 2) ∨ 512 * (k.val / 2) + 256 ≤ s.val := by omega
    refine (View.read_writes_cons_unit_of_not_mem _ _ _ _ _ _ o20 2 hs').trans ?_
    refine (View.read_writes_cons_unit_of_not_mem _ _ _ _ _ _ o19 2 hs').trans ?_
    refine (st4_read (hn := trips_t4 k) ..).trans ?_
    refine ((inv _ _ _ _ _ _ _ _).2.2.2 d s).trans ?_
    refine comb_out _ (fun r : Fin 256 => att (zr (qn 1) (kn 1) (256 * k.val + r.val)) (T 1 (256 * k.val + r.val)) (256 * k.val + r.val) s.val) (fun r : Fin 256 => dO 1 (256 * k.val + r.val) d) _ s.val _ ?_ (fun r => h52 r d)
    rcases hs' with h | h
    · exact Or.inl (by rw [ht3]; exact h)
    · exact Or.inr fun r => att_zero _ _ _ _ (by have := r.isLt; omega)

/-- One query block with a diagonal step of 512 keys adds to the gradient of the values of the first head the cotangent against the
block's attention weights. -/
theorem wide0 (𝒱 : Variants) (c : Dev nD) (bd : Option 𝒱.V) (i : grid0.Coords) (arg2 : Memref sig .tc .vmem S1x2048x128 .f32) (harg2 : arg2.IsWhole) (arg3 : Memref sig .tc .vmem S1x2048x128 .f32) (harg3 : arg3.IsWhole) (arg4 : Memref sig .tc .vmem S1x2048x128 .f32) (harg4 : arg4.IsWhole) (arg5 : Memref sig .tc .vmem S1x64 .f32) (harg5 : arg5.IsWhole) (arg6 : Memref sig .tc .vmem S1x64 .f32) (harg6 : arg6.IsWhole) (arg7 : Memref sig .tc .vmem S1x2x2048x1 .f32) (harg7 : arg7.IsWhole) (arg8 : Memref sig .tc .vmem S1x2048x128 .f32) (harg8 : arg8.IsWhole) (arg9 : Memref sig .tc .vmem S1x2048x128 .f32) (harg9 : arg9.IsWhole) (arg10 : Memref sig .tc .vmem S1x2048x128 .f32) (harg10 : arg10.IsWhole) (arg11 : Memref sig .tc .vmem S1x2048x128 .f32) (harg11 : arg11.IsWhole) (arg12 : Memref sig .tc .vmem S1x64 .f32) (harg12 : arg12.IsWhole) (arg13 : Memref sig .tc .vmem S1x64 .f32) (harg13 : arg13.IsWhole) (arg14 : Memref sig .tc .vmem S2x2048x64 .bf16) (harg14 : arg14.IsWhole) (arg15 : Memref sig .tc .vmem S2x2048x64 .bf16) (harg15 : arg15.IsWhole) (arg16 : Memref sig .tc .vmem S2x2048x64 .bf16) (harg16 : arg16.IsWhole) (arg17 : Memref sig .tc .vmem S2x2048x64 .bf16) (harg17 : arg17.IsWhole) (arg18 : Memref sig .tc .vmem S2x2048x64 .f32) (harg18 : arg18.IsWhole) (arg19 : Memref sig .tc .vmem S2x64x2048 .f32) (harg19 : arg19.IsWhole) (arg20 : Memref sig .tc .vmem S2x64x2048 .f32) (harg20 : arg20.IsWhole) (X_arg7 : BufTy.Contents (Elt Ideal) arg7.view.ty) (X_arg14 : BufTy.Contents (Elt Ideal) arg14.view.ty) (X_arg15 : BufTy.Contents (Elt Ideal) arg15.view.ty) (X_arg16 : BufTy.Contents (Elt Ideal) arg16.view.ty) (X_arg17 : BufTy.Contents (Elt Ideal) arg17.view.ty) (k : Fin k0_t2_loop.trips) (hk : ¬ k0_cond2 k = 1#1) (f19 : BufTy.Contents (Elt Ideal) arg19.view.ty) (f20 : BufTy.Contents (Elt Ideal) arg20.view.ty)
    (qn kn : Fin 2 → ℕ → Fin 64 → ℝ) (dO : Fin 2 → ℕ → Fin 64 → EReal) (T : Fin 2 → ℕ → ℝ)
    (hq : ∀ (h : Fin 2) (t : Fin 2048) (d : Fin 64), arg14.view.read (Elt Ideal) X_arg14 (ix3 h t d) = ((qn h t.val d : ℝ) : EReal))
    (hkn : ∀ (h : Fin 2) (t : Fin 2048) (d : Fin 64), arg15.view.read (Elt Ideal) X_arg15 (ix3 h t d) = ((kn h t.val d : ℝ) : EReal))
    (hdo : ∀ (h : Fin 2) (t : Fin 2048) (d : Fin 64), arg17.view.read (Elt Ideal) X_arg17 (ix3 h t d) = dO h t.val d)
    (hT : ∀ (h : Fin 2) (t : Fin 2048), arg7.view.read (Elt Ideal) X_arg7 (ix4 0 h t 0) = ((T h t.val : ℝ) : EReal))
    (d : Fin 64) (s : Fin 2048) :
    arg20.view.read (Elt Ideal) (arg20.view.writes (Elt Ideal) f20 ((tripWide (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 X_arg7 X_arg14 X_arg15 X_arg16 X_arg17 k hk).2.2.1 f19 f20)) (ix3 0 d s)
      = (arg20.view.read (Elt Ideal) f20 (ix3 0 d s) : EReal) + ∑ r : Fin 256, dO 0 (256 * k.val + r.val) d * ((att (zr (qn 0) (kn 0) (256 * k.val + r.val)) (T 0 (256 * k.val + r.val)) (256 * k.val + r.val) s.val : ℝ) : EReal) := by
  have hk8 : k.val < 8 := lt_of_lt_of_eq k.isLt trips_t2
  have hb : ∀ r : Fin 256, 256 * k.val + r.val < 2048 := fun r => by have := r.isLt; omega
  have hpar : k.val % 2 = 1 := by
    have := mt (narrow_iff k).2 hk; omega
  have ht3 := trips_t3 k
  obtain ⟨o5, o6, o7, o8⟩ := offs_q k
  obtain ⟨o17, o18, o19, o20⟩ := offs_w k
  have h43 : ∀ (r : Fin 256) (d : Fin 64), tripWide.sl.v43 (F := Ideal) arg14 X_arg14 k (ix2 r d) = ((qn 0 (256 * k.val + r.val) d : ℝ) : EReal) := fun r d => (cast_q _ _ r d).trans ((readAt_at _ _ _ o5 _ (ix3 0 ⟨256 * k.val + r.val, hb r⟩ d) (fun a => by match a with | 0 => rfl | 1 => rfl | 2 => exact (Nat.zero_add _).symm)).trans (hq 0 ⟨256 * k.val + r.val, hb r⟩ d))
  have h46 : ∀ (r : Fin 256) (d : Fin 64), tripWide.sl.v46 (F := Ideal) arg14 X_arg14 k (ix2 r d) = ((qn 1 (256 * k.val + r.val) d : ℝ) : EReal) := fun r d => (cast_q _ _ r d).trans ((readAt_at _ _ _ o6 _ (ix3 1 ⟨256 * k.val + r.val, hb r⟩ d) (fun a => by match a with | 0 => rfl | 1 => rfl | 2 => exact (Nat.zero_add _).symm)).trans (hq 1 ⟨256 * k.val + r.val, hb r⟩ d))
  have h49 : ∀ (r : Fin 256) (d : Fin 64), tripWide.sl.v49 (F := Ideal) arg17 X_arg17 k (ix2 r d) = dO 0 (256 * k.val + r.val) d := fun r d => (cast_q _ _ r d).trans ((readAt_at _ _ _ o5 _ (ix3 0 ⟨256 * k.val + r.val, hb r⟩ d) (fun a => by match a with | 0 => rfl | 1 => rfl | 2 => exact (Nat.zero_add _).symm)).trans (hdo 0 ⟨256 * k.val + r.val, hb r⟩ d))
  have h52 : ∀ (r : Fin 256) (d : Fin 64), tripWide.sl.v52 (F := Ideal) arg17 X_arg17 k (ix2 r d) = dO 1 (256 * k.val + r.val) d := fun r d => (cast_q _ _ r d).trans ((readAt_at _ _ _ o6 _ (ix3 1 ⟨256 * k.val + r.val, hb r⟩ d) (fun a => by match a with | 0 => rfl | 1 => rfl | 2 => exact (Nat.zero_add _).symm)).trans (hdo 1 ⟨256 * k.val + r.val, hb r⟩ d))
  have h55 : ∀ r : Fin 256, tripWide.sl.v55 (F := Ideal) arg7 X_arg7 k (ix2 r 0) = ((T 0 (256 * k.val + r.val) : ℝ) : EReal) := fun r => (cast_t _ _ r).trans ((readAt_at _ _ _ o7 _ (ix4 0 0 ⟨256 * k.val + r.val, hb r⟩ 0) (fun a => by match a with | 0 => rfl | 1 => rfl | 2 => rfl | 3 => rfl)).trans (hT 0 ⟨256 * k.val + r.val, hb r⟩))
  have h58 : ∀ r : Fin 256, tripWide.sl.v58 (F := Ideal) arg7 X_arg7 k (ix2 r 0) = ((T 1 (256 * k.val + r.val) : ℝ) : EReal) := fun r => (cast_t _ _ r).trans ((readAt_at _ _ _ o8 _ (ix4 0 1 ⟨256 * k.val + r.val, hb r⟩ 0) (fun a => by match a with | 0 => rfl | 1 => rfl | 2 => rfl | 3 => rfl)).trans (hT 1 ⟨256 * k.val + r.val, hb r⟩))
  have hk0 : ∀ (j : Fin (k0_t3_loop k).trips) (x : Fin 512) (d : Fin 64), key0 k j X_arg15 (ix3 0 x d) = ((kn 0 (512 * j.val + x.val) d : ℝ) : EReal) := fun j => by
    have hj := lt_of_lt_of_eq j.isLt ht3
    exact fun x d => (readAt_at _ _ _ (offs_t3 k j).1 _ (ix3 0 ⟨512 * j.val + x.val, by have := x.isLt; omega⟩ d) (fun a => by match a with | 0 => rfl | 1 => rfl | 2 => exact (Nat.zero_add _).symm)).trans (hkn 0 ⟨512 * j.val + x.val, by have := x.isLt; omega⟩ d)
  have hk1 : ∀ (j : Fin (k0_t3_loop k).trips) (x : Fin 512) (d : Fin 64), key1 k j X_arg15 (ix3 0 x d) = ((kn 1 (512 * j.val + x.val) d : ℝ) : EReal) := fun j => by
    have hj := lt_of_lt_of_eq j.isLt ht3
    exact fun x d => (readAt_at _ _ _ (offs_t3 k j).2.1 _ (ix3 1 ⟨512 * j.val + x.val, by have := x.isLt; omega⟩ d) (fun a => by match a with | 0 => rfl | 1 => rfl | 2 => exact (Nat.zero_add _).symm)).trans (hkn 1 ⟨512 * j.val + x.val, by have := x.isLt; omega⟩ d)
  have hot : ∀ (j : Fin (k0_t3_loop k).trips) (r : Fin 256), 512 * j.val + 512 ≤ 256 * k.val + r.val := fun j r => by
    have hj := lt_of_lt_of_eq j.isLt ht3
    omega
  have inv := fun a1 a2 a3 a4 a5 a6 a7 a8 => st3_inv 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 a1 a2 k a3 a4 (tripWide.sl.v43 (F := Ideal) arg14 X_arg14 k) (tripWide.sl.v46 (F := Ideal) arg14 X_arg14 k) (tripWide.sl.v49 (F := Ideal) arg17 X_arg17 k) (tripWide.sl.v52 (F := Ideal) arg17 X_arg17 k) (tripWide.sl.v55 (F := Ideal) arg7 X_arg7 k) (tripWide.sl.v58 (F := Ideal) arg7 X_arg7 k) a5 a6 a7 a8 X_arg15 X_arg16 f19 f20 (k0_pay312, k0_pay311, k0_pay311, k0_pay312, k0_pay311, k0_pay311)
      (fun r => zr (qn 0) (kn 0) (256 * k.val + r.val)) (fun r => zr (qn 1) (kn 1) (256 * k.val + r.val)) (fun r => T 0 (256 * k.val + r.val)) (fun r => T 1 (256 * k.val + r.val)) (fun r => 256 * k.val + r.val)
      (fun j r x => score (qn 0) (kn 0) _ _ _ _ (h43 r) (hk0 j x)) (fun j r x => score (qn 1) (kn 1) _ _ _ _ (h46 r) (hk1 j x)) h55 h58 pay311_at pay311_at hot _ (le_refl _)
  have hbv : tripWide.sl.v95 k = 256#32 := by
    clear * - hk
    revert k
    decide
  have hd0 : ∀ (x : Fin 512) (d : Fin 64), (View.readAt (Elt Ideal) arg15.view (Rect.unit (s := S2x2048x64) (k0_off21 k) S1x512x64.size (k0_off21_inb k hk)).toLoadRect X_arg15) (ix3 0 x d) = ((kn 0 (512 * (k.val / 2) + x.val) d : ℝ) : EReal) := fun x d => (readAt_at _ _ _ o17 _ (ix3 0 ⟨512 * (k.val / 2) + x.val, by have := x.isLt; omega⟩ d) (fun a => by match a with | 0 => rfl | 1 => rfl | 2 => exact (Nat.zero_add _).symm)).trans (hkn 0 ⟨512 * (k.val / 2) + x.val, by have := x.isLt; omega⟩ d)
  have hd1 : ∀ (x : Fin 512) (d : Fin 64), (View.readAt (Elt Ideal) arg15.view (Rect.unit (s := S2x2048x64) (k0_off22 k) S1x512x64.size (k0_off22_inb k hk)).toLoadRect X_arg15) (ix3 0 x d) = ((kn 1 (512 * (k.val / 2) + x.val) d : ℝ) : EReal) := fun x d => (readAt_at _ _ _ o18 _ (ix3 1 ⟨512 * (k.val / 2) + x.val, by have := x.isLt; omega⟩ d) (fun a => by match a with | 0 => rfl | 1 => rfl | 2 => exact (Nat.zero_add _).symm)).trans (hkn 1 ⟨512 * (k.val / 2) + x.val, by have := x.isLt; omega⟩ d)
  unfold tripWide
  by_cases hs : 512 * (k.val / 2) ≤ s.val ∧ s.val < 512 * (k.val / 2) + 512
  · obtain ⟨x, hx⟩ : ∃ x : Fin 512, s.val = 512 * (k.val / 2) + x.val := ⟨⟨s.val - 512 * (k.val / 2), by omega⟩, by simp only []; omega⟩
    have hp : ∀ a : Fin 3, ((ix3 0 d s : S2x64x2048.Idx) a).val = (![0, 0, 512 * (k.val / 2)] : Fin 3 → ℕ) a + ((ix3 0 d x : S1x64x512.Idx) a).val := fun a => by
      match a with
      | 0 => rfl
      | 1 => exact (Nat.zero_add _).symm
      | 2 => exact hx
    refine (View.read_writes_cons_unit_of_not_mem _ _ _ _ _ _ o20 0 (Or.inl Nat.one_pos)).trans ?_
    refine (View.read_writes_cons_unit_of_mem _ _ _ _ _ _ (ix3 0 d x) o19 hp).trans ?_
    refine (pay297_at _ _ _ d x).trans ?_
    refine (congrArg₂ (· + ·) ((readAt_at _ _ _ o19 _ _ hp).trans ((st4_read (hn := trips_t4 k) ..).trans ((inv _ _ _ _ _ _ _ _).2.2.1 d s))) rfl).trans ?_
    refine comb_in _ (fun r : Fin 256 => att (zr (qn 0) (kn 0) (256 * k.val + r.val)) (T 0 (256 * k.val + r.val)) (256 * k.val + r.val) s.val) (fun r : Fin 256 => dO 0 (256 * k.val + r.val) d) _ _ _ s.val _ (by rw [ht3]; omega) (fun r => h49 r d) (fun r => ((pay309_at _ d r).trans (h49 r d))) (fun r => ?_)
    refine (rowW0 (tripWide.sl.v95 k) hbv (zr (qn 0) (kn 0) (256 * k.val + r.val)) (T 0 (256 * k.val + r.val)) (256 * k.val + r.val) (512 * (k.val / 2)) r (tripWide.sl.v43 (F := Ideal) arg14 X_arg14 k) (tripWide.sl.v46 (F := Ideal) arg14 X_arg14 k) (tripWide.sl.v55 (F := Ideal) arg7 X_arg7 k) (View.readAt (Elt Ideal) arg15.view (Rect.unit (s := S2x2048x64) (k0_off21 k) S1x512x64.size (k0_off21_inb k hk)).toLoadRect X_arg15) (View.readAt (Elt Ideal) arg15.view (Rect.unit (s := S2x2048x64) (k0_off22 k) S1x512x64.size (k0_off22_inb k hk)).toLoadRect X_arg15) _ (fun x => score (qn 0) (kn 0) _ _ _ _ (h43 r) (hd0 x)) ?_ (h55 r) (by omega) x).trans (congrArg (fun m => ((att _ _ _ m : ℝ) : EReal)) hx.symm)
    exact (congrArg (fun q => q.1.2.1 (ix2 r 0)) (st4_zero (hn := trips_t4 k) ..)).trans (((inv _ _ _ _ _ _ _ _).1 r).trans (by rw [ht3]))
  · have hs' : s.val < 512 * (k.val / 2) ∨ 512 * (k.val / 2) + 512 ≤ s.val := by omega
    refine (View.read_writes_cons_unit_of_not_mem _ _ _ _ _ _ o20 2 hs').trans ?_
    refine (View.read_writes_cons_unit_of_not_mem _ _ _ _ _ _ o19 2 hs').trans ?_
    refine (st4_read (hn := trips_t4 k) ..).trans ?_
    refine ((inv _ _ _ _ _ _ _ _).2.2.1 d s).trans ?_
    refine comb_out _ (fun r : Fin 256 => att (zr (qn 0) (kn 0) (256 * k.val + r.val)) (T 0 (256 * k.val + r.val)) (256 * k.val + r.val) s.val) (fun r : Fin 256 => dO 0 (256 * k.val + r.val) d) _ s.val _ ?_ (fun r => h49 r d)
    rcases hs' with h | h
    · exact Or.inl (by rw [ht3]; exact h)
    · exact Or.inr fun r => att_zero _ _ _ _ (by have := r.isLt; omega)

/-- One query block with a diagonal step of 512 keys adds to the gradient of the values of the second head the cotangent against the
block's attention weights. -/
theorem wide1 (𝒱 : Variants) (c : Dev nD) (bd : Option 𝒱.V) (i : grid0.Coords) (arg2 : Memref sig .tc .vmem S1x2048x128 .f32) (harg2 : arg2.IsWhole) (arg3 : Memref sig .tc .vmem S1x2048x128 .f32) (harg3 : arg3.IsWhole) (arg4 : Memref sig .tc .vmem S1x2048x128 .f32) (harg4 : arg4.IsWhole) (arg5 : Memref sig .tc .vmem S1x64 .f32) (harg5 : arg5.IsWhole) (arg6 : Memref sig .tc .vmem S1x64 .f32) (harg6 : arg6.IsWhole) (arg7 : Memref sig .tc .vmem S1x2x2048x1 .f32) (harg7 : arg7.IsWhole) (arg8 : Memref sig .tc .vmem S1x2048x128 .f32) (harg8 : arg8.IsWhole) (arg9 : Memref sig .tc .vmem S1x2048x128 .f32) (harg9 : arg9.IsWhole) (arg10 : Memref sig .tc .vmem S1x2048x128 .f32) (harg10 : arg10.IsWhole) (arg11 : Memref sig .tc .vmem S1x2048x128 .f32) (harg11 : arg11.IsWhole) (arg12 : Memref sig .tc .vmem S1x64 .f32) (harg12 : arg12.IsWhole) (arg13 : Memref sig .tc .vmem S1x64 .f32) (harg13 : arg13.IsWhole) (arg14 : Memref sig .tc .vmem S2x2048x64 .bf16) (harg14 : arg14.IsWhole) (arg15 : Memref sig .tc .vmem S2x2048x64 .bf16) (harg15 : arg15.IsWhole) (arg16 : Memref sig .tc .vmem S2x2048x64 .bf16) (harg16 : arg16.IsWhole) (arg17 : Memref sig .tc .vmem S2x2048x64 .bf16) (harg17 : arg17.IsWhole) (arg18 : Memref sig .tc .vmem S2x2048x64 .f32) (harg18 : arg18.IsWhole) (arg19 : Memref sig .tc .vmem S2x64x2048 .f32) (harg19 : arg19.IsWhole) (arg20 : Memref sig .tc .vmem S2x64x2048 .f32) (harg20 : arg20.IsWhole) (X_arg7 : BufTy.Contents (Elt Ideal) arg7.view.ty) (X_arg14 : BufTy.Contents (Elt Ideal) arg14.view.ty) (X_arg15 : BufTy.Contents (Elt Ideal) arg15.view.ty) (X_arg16 : BufTy.Contents (Elt Ideal) arg16.view.ty) (X_arg17 : BufTy.Contents (Elt Ideal) arg17.view.ty) (k : Fin k0_t2_loop.trips) (hk : ¬ k0_cond2 k = 1#1) (f19 : BufTy.Contents (Elt Ideal) arg19.view.ty) (f20 : BufTy.Contents (Elt Ideal) arg20.view.ty)
    (qn kn : Fin 2 → ℕ → Fin 64 → ℝ) (dO : Fin 2 → ℕ → Fin 64 → EReal) (T : Fin 2 → ℕ → ℝ)
    (hq : ∀ (h : Fin 2) (t : Fin 2048) (d : Fin 64), arg14.view.read (Elt Ideal) X_arg14 (ix3 h t d) = ((qn h t.val d : ℝ) : EReal))
    (hkn : ∀ (h : Fin 2) (t : Fin 2048) (d : Fin 64), arg15.view.read (Elt Ideal) X_arg15 (ix3 h t d) = ((kn h t.val d : ℝ) : EReal))
    (hdo : ∀ (h : Fin 2) (t : Fin 2048) (d : Fin 64), arg17.view.read (Elt Ideal) X_arg17 (ix3 h t d) = dO h t.val d)
    (hT : ∀ (h : Fin 2) (t : Fin 2048), arg7.view.read (Elt Ideal) X_arg7 (ix4 0 h t 0) = ((T h t.val : ℝ) : EReal))
    (d : Fin 64) (s : Fin 2048) :
    arg20.view.read (Elt Ideal) (arg20.view.writes (Elt Ideal) f20 ((tripWide (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 X_arg7 X_arg14 X_arg15 X_arg16 X_arg17 k hk).2.2.1 f19 f20)) (ix3 1 d s)
      = (arg20.view.read (Elt Ideal) f20 (ix3 1 d s) : EReal) + ∑ r : Fin 256, dO 1 (256 * k.val + r.val) d * ((att (zr (qn 1) (kn 1) (256 * k.val + r.val)) (T 1 (256 * k.val + r.val)) (256 * k.val + r.val) s.val : ℝ) : EReal) := by
  have hk8 : k.val < 8 := lt_of_lt_of_eq k.isLt trips_t2
  have hb : ∀ r : Fin 256, 256 * k.val + r.val < 2048 := fun r => by have := r.isLt; omega
  have hpar : k.val % 2 = 1 := by
    have := mt (narrow_iff k).2 hk; omega
  have ht3 := trips_t3 k
  obtain ⟨o5, o6, o7, o8⟩ := offs_q k
  obtain ⟨o17, o18, o19, o20⟩ := offs_w k
  have h43 : ∀ (r : Fin 256) (d : Fin 64), tripWide.sl.v43 (F := Ideal) arg14 X_arg14 k (ix2 r d) = ((qn 0 (256 * k.val + r.val) d : ℝ) : EReal) := fun r d => (cast_q _ _ r d).trans ((readAt_at _ _ _ o5 _ (ix3 0 ⟨256 * k.val + r.val, hb r⟩ d) (fun a => by match a with | 0 => rfl | 1 => rfl | 2 => exact (Nat.zero_add _).symm)).trans (hq 0 ⟨256 * k.val + r.val, hb r⟩ d))
  have h46 : ∀ (r : Fin 256) (d : Fin 64), tripWide.sl.v46 (F := Ideal) arg14 X_arg14 k (ix2 r d) = ((qn 1 (256 * k.val + r.val) d : ℝ) : EReal) := fun r d => (cast_q _ _ r d).trans ((readAt_at _ _ _ o6 _ (ix3 1 ⟨256 * k.val + r.val, hb r⟩ d) (fun a => by match a with | 0 => rfl | 1 => rfl | 2 => exact (Nat.zero_add _).symm)).trans (hq 1 ⟨256 * k.val + r.val, hb r⟩ d))
  have h49 : ∀ (r : Fin 256) (d : Fin 64), tripWide.sl.v49 (F := Ideal) arg17 X_arg17 k (ix2 r d) = dO 0 (256 * k.val + r.val) d := fun r d => (cast_q _ _ r d).trans ((readAt_at _ _ _ o5 _ (ix3 0 ⟨256 * k.val + r.val, hb r⟩ d) (fun a => by match a with | 0 => rfl | 1 => rfl | 2 => exact (Nat.zero_add _).symm)).trans (hdo 0 ⟨256 * k.val + r.val, hb r⟩ d))
  have h52 : ∀ (r : Fin 256) (d : Fin 64), tripWide.sl.v52 (F := Ideal) arg17 X_arg17 k (ix2 r d) = dO 1 (256 * k.val + r.val) d := fun r d => (cast_q _ _ r d).trans ((readAt_at _ _ _ o6 _ (ix3 1 ⟨256 * k.val + r.val, hb r⟩ d) (fun a => by match a with | 0 => rfl | 1 => rfl | 2 => exact (Nat.zero_add _).symm)).trans (hdo 1 ⟨256 * k.val + r.val, hb r⟩ d))
  have h55 : ∀ r : Fin 256, tripWide.sl.v55 (F := Ideal) arg7 X_arg7 k (ix2 r 0) = ((T 0 (256 * k.val + r.val) : ℝ) : EReal) := fun r => (cast_t _ _ r).trans ((readAt_at _ _ _ o7 _ (ix4 0 0 ⟨256 * k.val + r.val, hb r⟩ 0) (fun a => by match a with | 0 => rfl | 1 => rfl | 2 => rfl | 3 => rfl)).trans (hT 0 ⟨256 * k.val + r.val, hb r⟩))
  have h58 : ∀ r : Fin 256, tripWide.sl.v58 (F := Ideal) arg7 X_arg7 k (ix2 r 0) = ((T 1 (256 * k.val + r.val) : ℝ) : EReal) := fun r => (cast_t _ _ r).trans ((readAt_at _ _ _ o8 _ (ix4 0 1 ⟨256 * k.val + r.val, hb r⟩ 0) (fun a => by match a with | 0 => rfl | 1 => rfl | 2 => rfl | 3 => rfl)).trans (hT 1 ⟨256 * k.val + r.val, hb r⟩))
  have hk0 : ∀ (j : Fin (k0_t3_loop k).trips) (x : Fin 512) (d : Fin 64), key0 k j X_arg15 (ix3 0 x d) = ((kn 0 (512 * j.val + x.val) d : ℝ) : EReal) := fun j => by
    have hj := lt_of_lt_of_eq j.isLt ht3
    exact fun x d => (readAt_at _ _ _ (offs_t3 k j).1 _ (ix3 0 ⟨512 * j.val + x.val, by have := x.isLt; omega⟩ d) (fun a => by match a with | 0 => rfl | 1 => rfl | 2 => exact (Nat.zero_add _).symm)).trans (hkn 0 ⟨512 * j.val + x.val, by have := x.isLt; omega⟩ d)
  have hk1 : ∀ (j : Fin (k0_t3_loop k).trips) (x : Fin 512) (d : Fin 64), key1 k j X_arg15 (ix3 0 x d) = ((kn 1 (512 * j.val + x.val) d : ℝ) : EReal) := fun j => by
    have hj := lt_of_lt_of_eq j.isLt ht3
    exact fun x d => (readAt_at _ _ _ (offs_t3 k j).2.1 _ (ix3 1 ⟨512 * j.val + x.val, by have := x.isLt; omega⟩ d) (fun a => by match a with | 0 => rfl | 1 => rfl | 2 => exact (Nat.zero_add _).symm)).trans (hkn 1 ⟨512 * j.val + x.val, by have := x.isLt; omega⟩ d)
  have hot : ∀ (j : Fin (k0_t3_loop k).trips) (r : Fin 256), 512 * j.val + 512 ≤ 256 * k.val + r.val := fun j r => by
    have hj := lt_of_lt_of_eq j.isLt ht3
    omega
  have inv := fun a1 a2 a3 a4 a5 a6 a7 a8 => st3_inv 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 a1 a2 k a3 a4 (tripWide.sl.v43 (F := Ideal) arg14 X_arg14 k) (tripWide.sl.v46 (F := Ideal) arg14 X_arg14 k) (tripWide.sl.v49 (F := Ideal) arg17 X_arg17 k) (tripWide.sl.v52 (F := Ideal) arg17 X_arg17 k) (tripWide.sl.v55 (F := Ideal) arg7 X_arg7 k) (tripWide.sl.v58 (F := Ideal) arg7 X_arg7 k) a5 a6 a7 a8 X_arg15 X_arg16 f19 f20 (k0_pay312, k0_pay311, k0_pay311, k0_pay312, k0_pay311, k0_pay311)
      (fun r => zr (qn 0) (kn 0) (256 * k.val + r.val)) (fun r => zr (qn 1) (kn 1) (256 * k.val + r.val)) (fun r => T 0 (256 * k.val + r.val)) (fun r => T 1 (256 * k.val + r.val)) (fun r => 256 * k.val + r.val)
      (fun j r x => score (qn 0) (kn 0) _ _ _ _ (h43 r) (hk0 j x)) (fun j r x => score (qn 1) (kn 1) _ _ _ _ (h46 r) (hk1 j x)) h55 h58 pay311_at pay311_at hot _ (le_refl _)
  have hbv : tripWide.sl.v95 k = 256#32 := by
    clear * - hk
    revert k
    decide
  have hd0 : ∀ (x : Fin 512) (d : Fin 64), (View.readAt (Elt Ideal) arg15.view (Rect.unit (s := S2x2048x64) (k0_off21 k) S1x512x64.size (k0_off21_inb k hk)).toLoadRect X_arg15) (ix3 0 x d) = ((kn 0 (512 * (k.val / 2) + x.val) d : ℝ) : EReal) := fun x d => (readAt_at _ _ _ o17 _ (ix3 0 ⟨512 * (k.val / 2) + x.val, by have := x.isLt; omega⟩ d) (fun a => by match a with | 0 => rfl | 1 => rfl | 2 => exact (Nat.zero_add _).symm)).trans (hkn 0 ⟨512 * (k.val / 2) + x.val, by have := x.isLt; omega⟩ d)
  have hd1 : ∀ (x : Fin 512) (d : Fin 64), (View.readAt (Elt Ideal) arg15.view (Rect.unit (s := S2x2048x64) (k0_off22 k) S1x512x64.size (k0_off22_inb k hk)).toLoadRect X_arg15) (ix3 0 x d) = ((kn 1 (512 * (k.val / 2) + x.val) d : ℝ) : EReal) := fun x d => (readAt_at _ _ _ o18 _ (ix3 1 ⟨512 * (k.val / 2) + x.val, by have := x.isLt; omega⟩ d) (fun a => by match a with | 0 => rfl | 1 => rfl | 2 => exact (Nat.zero_add _).symm)).trans (hkn 1 ⟨512 * (k.val / 2) + x.val, by have := x.isLt; omega⟩ d)
  unfold tripWide
  by_cases hs : 512 * (k.val / 2) ≤ s.val ∧ s.val < 512 * (k.val / 2) + 512
  · obtain ⟨x, hx⟩ : ∃ x : Fin 512, s.val = 512 * (k.val / 2) + x.val := ⟨⟨s.val - 512 * (k.val / 2), by omega⟩, by simp only []; omega⟩
    have hp : ∀ a : Fin 3, ((ix3 1 d s : S2x64x2048.Idx) a).val = (![1, 0, 512 * (k.val / 2)] : Fin 3 → ℕ) a + ((ix3 0 d x : S1x64x512.Idx) a).val := fun a => by
      match a with
      | 0 => rfl
      | 1 => exact (Nat.zero_add _).symm
      | 2 => exact hx
    refine (View.read_writes_cons_unit_of_mem _ _ _ _ _ _ (ix3 0 d x) o20 hp).trans ?_
    refine (pay317_at _ _ _ d x).trans ?_
    refine (congrArg₂ (· + ·) (readAt_at _ _ _ o20 _ _ hp) rfl).trans ?_
    try delta tripWide.sl.HW_arg20_1
    refine (congrArg₂ (· + ·) ((View.read_writes_cons_unit_of_not_mem _ _ _ _ _ _ o19 0 (Or.inr ?_)).trans ((st4_read (hn := trips_t4 k) ..).trans ((inv _ _ _ _ _ _ _ _).2.2.2 d s))) rfl).trans ?_
    · exact Nat.le_refl 1
    refine comb_in _ (fun r : Fin 256 => att (zr (qn 1) (kn 1) (256 * k.val + r.val)) (T 1 (256 * k.val + r.val)) (256 * k.val + r.val) s.val) (fun r : Fin 256 => dO 1 (256 * k.val + r.val) d) _ _ _ s.val _ (by rw [ht3]; omega) (fun r => h52 r d) (fun r => ((h52 r d))) (fun r => ?_)
    refine (rowW1 (tripWide.sl.v95 k) hbv (zr (qn 1) (kn 1) (256 * k.val + r.val)) (T 1 (256 * k.val + r.val)) (256 * k.val + r.val) (512 * (k.val / 2)) r (tripWide.sl.v43 (F := Ideal) arg14 X_arg14 k) (tripWide.sl.v46 (F := Ideal) arg14 X_arg14 k) (tripWide.sl.v58 (F := Ideal) arg7 X_arg7 k) (View.readAt (Elt Ideal) arg15.view (Rect.unit (s := S2x2048x64) (k0_off21 k) S1x512x64.size (k0_off21_inb k hk)).toLoadRect X_arg15) (View.readAt (Elt Ideal) arg15.view (Rect.unit (s := S2x2048x64) (k0_off22 k) S1x512x64.size (k0_off22_inb k hk)).toLoadRect X_arg15) _ (fun x => score (qn 1) (kn 1) _ _ _ _ (h46 r) (hd1 x)) ?_ (h58 r) (by omega) x).trans (congrArg (fun m => ((att _ _ _ m : ℝ) : EReal)) hx.symm)
    exact (congrArg (fun q => q.1.2.2.2.2.1 (ix2 r 0)) (st4_zero (hn := trips_t4 k) ..)).trans (((inv _ _ _ _ _ _ _ _).2.1 r).trans (by rw [ht3]))
  · have hs' : s.val < 512 * (k.val / 2) ∨ 512 * (k.val / 2) + 512 ≤ s.val := by omega
    refine (View.read_writes_cons_unit_of_not_mem _ _ _ _ _ _ o20 2 hs').trans ?_
    refine (View.read_writes_cons_unit_of_not_mem _ _ _ _ _ _ o19 2 hs').trans ?_
    refine (st4_read (hn := trips_t4 k) ..).trans ?_
    refine ((inv _ _ _ _ _ _ _ _).2.2.2 d s).trans ?_
    refine comb_out _ (fun r : Fin 256 => att (zr (qn 1) (kn 1) (256 * k.val + r.val)) (T 1 (256 * k.val + r.val)) (256 * k.val + r.val) s.val) (fun r : Fin 256 => dO 1 (256 * k.val + r.val) d) _ s.val _ ?_ (fun r => h52 r d)
    rcases hs' with h | h
    · exact Or.inl (by rw [ht3]; exact h)
    · exact Or.inr fun r => att_zero _ _ _ _ (by have := r.isLt; omega)

end Cert.SbPay
end
-- ==== Proof.SbNorm.lean ====
/- Normalised rows are real, whatever the rows; and the real functions the two sides of `sb_attn_bwd` share. -/
module

public import proofs.«01_k».proof.Proof.SbPrep
public import proofs.«01_k».proof.Proof.SbDiag

@[expose] public section

set_option maxRecDepth 16384

noncomputable section

namespace Cert.SbPay

open Idealize.ShloMosaic Idealize.ShloMosaic.TcCoe Idealize.SL.Sem

theorem mul_self_nonneg' (a : EReal) : 0 ≤ a * a := by
  induction a with
  | bot => rw [EReal.bot_mul_bot]; exact le_top
  | top => rw [EReal.top_mul_top]; exact le_top
  | coe r => rw [← EReal.coe_mul]; exact EReal.coe_nonneg.mpr (mul_self_nonneg r)

theorem inf_or_coe (x : Fin 64 → EReal) : (∃ y : Fin 64 → ℝ, ∀ e, x e = ((y e : ℝ) : EReal)) ∨ ∃ e, x e * x e = ⊤ := by
  by_cases h : ∃ e, x e * x e = ⊤
  · exact Or.inr h
  · refine Or.inl ⟨fun e => (x e).toReal, fun e => (EReal.coe_toReal ?_ ?_).symm⟩
    · intro hb; exact h ⟨e, by rw [hb, EReal.top_mul_top]⟩
    · intro hb; exact h ⟨e, by rw [hb, EReal.bot_mul_bot]⟩

/-- A normalised row is real: a row with an infinite entry is divided by infinity. -/
theorem nrm_real (x : Fin 64 → EReal) (d : Fin 64) : ∃ r : ℝ, nrm x d = ((r : ℝ) : EReal) := by
  obtain ⟨e, he, heq⟩ := keps
  have h64 : ((64 : ℝ) : EReal) ≠ 0 := by
    intro h; exact absurd (EReal.coe_eq_zero.mp h) (by norm_num)
  have hdiv : ∀ a : EReal, Ideal.div a ((64 : ℝ) : EReal) = a * (((64 : ℝ)⁻¹ : ℝ) : EReal) := by
    intro a
    rw [Ideal.div, if_neg h64, EReal.coe_inv]
  rcases inf_or_coe x with ⟨y, hy⟩ | ⟨i, hi⟩
  · have hs : (∑ e : Fin 64, x e * x e) = ((∑ e : Fin 64, y e * y e : ℝ) : EReal) := by
      rw [coe_sum]
      exact Finset.sum_congr rfl fun e _ => by rw [hy e, EReal.coe_mul]
    have hp : 0 < (∑ e : Fin 64, y e * y e) * (64 : ℝ)⁻¹ + e := by
      have : 0 ≤ ∑ e : Fin 64, y e * y e := Finset.sum_nonneg fun e _ => mul_self_nonneg _
      positivity
    refine ⟨y d * (Real.sqrt ((∑ e : Fin 64, y e * y e) * (64 : ℝ)⁻¹ + e))⁻¹, ?_⟩
    rw [nrm, hs, hdiv, heq, ← EReal.coe_mul, ← EReal.coe_add, Ideal.rsqrt_coe, if_neg (not_lt.mpr hp.le), if_neg hp.ne', hy d, EReal.coe_mul]
  · refine ⟨0, ?_⟩
    have hs : (∑ e : Fin 64, x e * x e) = ⊤ :=
      top_le_iff.mp (hi ▸ Finset.single_le_sum (f := fun e => x e * x e) (fun e _ => mul_self_nonneg' (x e)) (Finset.mem_univ i))
    rw [nrm, hs, hdiv, heq, EReal.top_mul_coe_of_pos (by norm_num), EReal.top_add_coe, Ideal.rsqrt_top, mul_zero]
    rfl

/-- The normalised row as real numbers. -/
def nr (x : Fin 64 → EReal) (d : Fin 64) : ℝ := (nrm x d).toReal

theorem nrm_eq (x : Fin 64 → EReal) (d : Fin 64) : nrm x d = ((nr x d : ℝ) : EReal) := by
  obtain ⟨r, hr⟩ := nrm_real x d
  rw [nr, hr, EReal.toReal_coe]

end Cert.SbPay
end
-- ==== Proof.SbHost.lean ====
/- The host lines of the stick-breaking attention, entry by entry: the logits, the logarithms and their sums. -/
module

public import proofs.«01_k».proof.Proof.SbNorm
public import proofs.«01_k».proof.Proof.Gen.ReferenceIdeal.Run
public import Idealize.ShloMosaic.Lib.Pointwise

@[expose] public section

set_option maxRecDepth 16384
set_option maxHeartbeats 2000000

noncomputable section

namespace Cert.SbPay

open Idealize.ShloMosaic Idealize.ShloMosaic.TcCoe Idealize.SL.Sem

theorem sp_neg (z : ℝ) : sp z - sp (-z) = z := by
  simp only [sp, abs_neg]
  rcases le_total z 0 with h | h
  · rw [max_eq_right h, max_eq_left (by linarith)]; ring
  · rw [max_eq_left h, max_eq_right (by linarith)]; ring

/-- The causal comparison of two positions, as a bit. -/
theorem slt_pos (s t : Fin 2048) : IntOp.cmpi .slt (BitVec.ofNat 32 s.val) (BitVec.ofNat 32 t.val) = if s.val < t.val then 1#1 else 0#1 := by
  have h : (BitVec.ofNat 32 s.val).slt (BitVec.ofNat 32 t.val) = decide (s.val < t.val) := by
    have := s.isLt; have := t.isLt
    rw [BitVec.slt_eq_decide, decide_eq_decide, BitVec.toInt_ofNat', BitVec.toInt_ofNat']
    simp only [Int.bmod_def]
    omega
  show BitVec.ofBool (BitVec.slt _ _) = _
  rw [h]
  by_cases hc : s.val < t.val
  · rw [if_pos hc, decide_eq_true hc]; rfl
  · rw [if_neg hc, decide_eq_false hc]; rfl

namespace R
open Cert.ReferenceIdeal Cert.ReferenceIdeal.Gen

/-- The columns of a projection as heads. -/
def heads (a : FVec Ideal S2x2048x512 .f32) : FVec Ideal S2x2048x8x64 .f32 := shapeCast _ a shapeCasts_S2x2048x512_S2x2048x8x64

/-- The root-mean-square norm of every head's rows, heads first. -/
def norm (x : FVec Ideal S2x2048x8x64 .f32) (g : FVec Ideal S1x64 .f32) : FVec Ideal S2x8x2048x64 .f32 :=
  transpose S2x8x2048x64 [0, 2, 1, 3] (mulf (mulf x (broadcastInDim S2x2048x8x64 ![0, 1, 2, 3] bcast_S2x2048x8x1_S2x2048x8x64_0_1_2_3 (Host.rsqrt (addf (Host.divf (broadcastInDim S2x2048x8x1 ![0, 1, 2] bcast_S2x2048x8_S2x2048x8x1_0_1_2 (Host.reduceAdd (mulf x x) (constant S_ .f32 0x00000000#32) reducesTo_S2x2048x8x64_S2x2048x8_d3 h_S_)) (broadcastInDim S2x2048x8x1 ![] bcast_S_S2x2048x8x1 (constant S_ .f32 0x42800000#32))) (broadcastInDim S2x2048x8x1 ![] bcast_S_S2x2048x8x1 (constant S_ .f32 0x358637BD#32)))))) (broadcastInDim S2x2048x8x64 ![0, 1, 2, 3] bcast_S1x1x1x64_S2x2048x8x64_0_1_2_3 (broadcastInDim S1x1x1x64 ![2, 3] bcast_S1x64_S1x1x1x64_2_3 g))) transposes_S2x2048x8x64_S2x8x2048x64_0_2_1_3

/-- The logits. -/
def logit (q k : FVec Ideal S2x8x2048x64 .f32) : FVec Ideal S2x8x2048x2048 .f32 :=
  mulf (Host.dotGeneral dot_S2x8x2048x64_S2x8x2048x64_S2x8x2048x2048_3_3_2_2_01_01 none q k) (broadcastInDim S2x8x2048x2048 ![] bcast_S_S2x8x2048x2048 (constant S_ .f32 0x3E000000#32))

/-- Zero everywhere. -/
def zeros : FVec Ideal S2x8x2048x2048 .f32 := broadcastInDim S2x8x2048x2048 ![] bcast_S_S2x8x2048x2048 (constant S_ .f32 0x00000000#32)

/-- The logarithm of the sigmoid. -/
def lsig (x : FVec Ideal S2x8x2048x2048 .f32) : FVec Ideal S2x8x2048x2048 .f32 :=
  Host.negf (select (cmpf .une (subf (Host.negf x) zeros) (subf (Host.negf x) zeros)) (addf (Host.negf x) zeros) (addf (maximumf (Host.negf x) zeros) (Host.log1p (Host.exp (Host.negf (Host.absf (subf (Host.negf x) zeros)))))))

/-- Where a key comes before a query. -/
def mask : IVec S2x8x2048x2048 1 :=
  broadcastInDim S2x8x2048x2048 ![2, 3] bcast_S2048x2048_S2x8x2048x2048_2_3 (cmpi .slt (broadcastInDim S2048x2048 ![0, 1] bcast_S1x2048_S2048x2048_0_1 (broadcastInDim S1x2048 ![1] bcast_S2048_S1x2048_1 (iotaInDim S2048 32 0))) (broadcastInDim S2048x2048 ![0, 1] bcast_S2048x1_S2048x2048_0_1 (broadcastInDim S2048x1 ![0] bcast_S2048_S2048x1_0 (iotaInDim S2048 32 0))))

/-- The logarithms that are summed. -/
def lg (z : FVec Ideal S2x8x2048x2048 .f32) : FVec Ideal S2x8x2048x2048 .f32 := select mask (lsig (Host.negf z)) zeros

theorem heads_at (a : FVec Ideal S2x2048x512 .f32) (b : Fin 2) (t : Fin 2048) (h : Fin 8) (d : Fin 64) :
    heads a (ix4 b t h d) = a (ix3 b t ⟨h.val * 64 + d.val, by have := h.isLt; have := d.isLt; omega⟩) := by
  pointwise [heads]

theorem norm_at (x : FVec Ideal S2x2048x8x64 .f32) (g : FVec Ideal S1x64 .f32) (b : Fin 2) (h : Fin 8) (t : Fin 2048) (d : Fin 64) :
    norm x g (ix4 b h t d) = nrm (fun e => x (ix4 b t h e)) d * g (ix2 0 d) := by
  rw [nrm, ← k64]; pointwise [norm]

theorem logit_at (q k : FVec Ideal S2x8x2048x64 .f32) (b : Fin 2) (h : Fin 8) (t s : Fin 2048) :
    logit q k (ix4 b h t s) = (∑ d : Fin 64, q (ix4 b h t d) * k (ix4 b h s d)) * ((0.125 : ℝ) : EReal) := by
  rw [← k8]; pointwise [logit]

theorem mask_at (b : Fin 2) (h : Fin 8) (t s : Fin 2048) : mask (ix4 b h t s) = if s.val < t.val then 1#1 else 0#1 := by
  rw [← slt_pos]
  pointwise [mask]

theorem zeros_at (i : S2x8x2048x2048.Idx) : (zeros i : EReal) = 0 := by pointwise [zeros]

theorem lsig_at (x : FVec Ideal S2x8x2048x2048 .f32) (b : Fin 2) (h : Fin 8) (t s : Fin 2048) (r : ℝ) (hr : x (ix4 b h t s) = ((r : ℝ) : EReal)) :
    lsig x (ix4 b h t s) = ((-(sp (-r)) : ℝ) : EReal) := by
  rw [EReal.coe_neg, ← sp_eq, EReal.coe_neg, ← hr]
  pointwise [lsig]
  rw [if_neg (fun h => h rfl), zeros_at, sub_zero, zero_sub]
  rfl

theorem lg_at (z : FVec Ideal S2x8x2048x2048 .f32) (b : Fin 2) (h : Fin 8) (t s : Fin 2048) (r : ℝ) (hr : z (ix4 b h t s) = ((r : ℝ) : EReal)) :
    lg z (ix4 b h t s) = ((if s.val < t.val then -(sp r) else 0 : ℝ) : EReal) := by
  have hl := lsig_at (Host.negf z) b h t s (-r) (by rw [EReal.coe_neg, ← hr]; rfl)
  rw [neg_neg] at hl
  show (if mask (ix4 b h t s) = 1#1 then lsig (Host.negf z) (ix4 b h t s) else zeros (ix4 b h t s)) = _
  rw [mask_at, hl, zeros_at]
  by_cases hc : s.val < t.val
  · rw [if_pos hc, if_pos hc, if_pos rfl]
  · rw [if_neg hc, if_neg hc, if_neg (by decide)]; rfl

end R

namespace K
open Cert.KernelIdeal Cert.KernelIdeal.Gen

/-- The columns of a projection as heads. -/
def heads (a : FVec Ideal S2x2048x512 .f32) : FVec Ideal S2x2048x8x64 .f32 := shapeCast _ a shapeCasts_S2x2048x512_S2x2048x8x64

/-- The root-mean-square norm of every head's rows, heads first. -/
def norm (x : FVec Ideal S2x2048x8x64 .f32) (g : FVec Ideal S1x64 .f32) : FVec Ideal S2x8x2048x64 .f32 :=
  transpose S2x8x2048x64 [0, 2, 1, 3] (mulf (mulf x (broadcastInDim S2x2048x8x64 ![0, 1, 2, 3] bcast_S2x2048x8x1_S2x2048x8x64_0_1_2_3 (Host.rsqrt (addf (Host.divf (broadcastInDim S2x2048x8x1 ![0, 1, 2] bcast_S2x2048x8_S2x2048x8x1_0_1_2 (Host.reduceAdd (mulf x x) (constant S_ .f32 0x00000000#32) reducesTo_S2x2048x8x64_S2x2048x8_d3 h_S_)) (broadcastInDim S2x2048x8x1 ![] bcast_S_S2x2048x8x1 (constant S_ .f32 0x42800000#32))) (broadcastInDim S2x2048x8x1 ![] bcast_S_S2x2048x8x1 (constant S_ .f32 0x358637BD#32)))))) (broadcastInDim S2x2048x8x64 ![0, 1, 2, 3] bcast_S1x1x1x64_S2x2048x8x64_0_1_2_3 (broadcastInDim S1x1x1x64 ![2, 3] bcast_S1x64_S1x1x1x64_2_3 g))) transposes_S2x2048x8x64_S2x8x2048x64_0_2_1_3

/-- The logits. -/
def logit (q k : FVec Ideal S2x8x2048x64 .f32) : FVec Ideal S2x8x2048x2048 .f32 :=
  mulf (Host.dotGeneral dot_S2x8x2048x64_S2x8x2048x64_S2x8x2048x2048_3_3_2_2_01_01 none q k) (broadcastInDim S2x8x2048x2048 ![] bcast_S_S2x8x2048x2048 (constant S_ .f32 0x3E000000#32))

/-- Zero everywhere. -/
def zeros : FVec Ideal S2x8x2048x2048 .f32 := broadcastInDim S2x8x2048x2048 ![] bcast_S_S2x8x2048x2048 (constant S_ .f32 0x00000000#32)

/-- The logarithm of the sigmoid. -/
def lsig (x : FVec Ideal S2x8x2048x2048 .f32) : FVec Ideal S2x8x2048x2048 .f32 :=
  Host.negf (select (cmpf .une (subf (Host.negf x) zeros) (subf (Host.negf x) zeros)) (addf (Host.negf x) zeros) (addf (maximumf (Host.negf x) zeros) (Host.log1p (Host.exp (Host.negf (Host.absf (subf (Host.negf x) zeros)))))))

/-- Where a key comes before a query. -/
def mask : IVec S2x8x2048x2048 1 :=
  broadcastInDim S2x8x2048x2048 ![2, 3] bcast_S2048x2048_S2x8x2048x2048_2_3 (cmpi .slt (broadcastInDim S2048x2048 ![0, 1] bcast_S1x2048_S2048x2048_0_1 (broadcastInDim S1x2048 ![1] bcast_S2048_S1x2048_1 (iotaInDim S2048 32 0))) (broadcastInDim S2048x2048 ![0, 1] bcast_S2048x1_S2048x2048_0_1 (broadcastInDim S2048x1 ![0] bcast_S2048_S2048x1_0 (iotaInDim S2048 32 0))))

/-- The logarithms that are summed. -/
def lg (z : FVec Ideal S2x8x2048x2048 .f32) : FVec Ideal S2x8x2048x2048 .f32 := select mask (lsig (Host.negf z)) zeros

theorem heads_at (a : FVec Ideal S2x2048x512 .f32) (b : Fin 2) (t : Fin 2048) (h : Fin 8) (d : Fin 64) :
    heads a (ix4 b t h d) = a (ix3 b t ⟨h.val * 64 + d.val, by have := h.isLt; have := d.isLt; omega⟩) := by
  pointwise [heads]

theorem norm_at (x : FVec Ideal S2x2048x8x64 .f32) (g : FVec Ideal S1x64 .f32) (b : Fin 2) (h : Fin 8) (t : Fin 2048) (d : Fin 64) :
    norm x g (ix4 b h t d) = nrm (fun e => x (ix4 b t h e)) d * g (ix2 0 d) := by
  rw [nrm, ← k64]; pointwise [norm]

theorem logit_at (q k : FVec Ideal S2x8x2048x64 .f32) (b : Fin 2) (h : Fin 8) (t s : Fin 2048) :
    logit q k (ix4 b h t s) = (∑ d : Fin 64, q (ix4 b h t d) * k (ix4 b h s d)) * ((0.125 : ℝ) : EReal) := by
  rw [← k8]; pointwise [logit]

theorem mask_at (b : Fin 2) (h : Fin 8) (t s : Fin 2048) : mask (ix4 b h t s) = if s.val < t.val then 1#1 else 0#1 := by
  rw [← slt_pos]
  pointwise [mask]

theorem zeros_at (i : S2x8x2048x2048.Idx) : (zeros i : EReal) = 0 := by pointwise [zeros]

theorem lsig_at (x : FVec Ideal S2x8x2048x2048 .f32) (b : Fin 2) (h : Fin 8) (t s : Fin 2048) (r : ℝ) (hr : x (ix4 b h t s) = ((r : ℝ) : EReal)) :
    lsig x (ix4 b h t s) = ((-(sp (-r)) : ℝ) : EReal) := by
  rw [EReal.coe_neg, ← sp_eq, EReal.coe_neg, ← hr]
  pointwise [lsig]
  rw [if_neg (fun h => h rfl), zeros_at, sub_zero, zero_sub]
  rfl

theorem lg_at (z : FVec Ideal S2x8x2048x2048 .f32) (b : Fin 2) (h : Fin 8) (t s : Fin 2048) (r : ℝ) (hr : z (ix4 b h t s) = ((r : ℝ) : EReal)) :
    lg z (ix4 b h t s) = ((if s.val < t.val then -(sp r) else 0 : ℝ) : EReal) := by
  have hl := lsig_at (Host.negf z) b h t s (-r) (by rw [EReal.coe_neg, ← hr]; rfl)
  rw [neg_neg] at hl
  show (if mask (ix4 b h t s) = 1#1 then lsig (Host.negf z) (ix4 b h t s) else zeros (ix4 b h t s)) = _
  rw [mask_at, hl, zeros_at]
  by_cases hc : s.val < t.val
  · rw [if_pos hc, if_pos hc, if_pos rfl]
  · rw [if_neg hc, if_neg hc, if_neg (by decide)]; rfl

end K

end Cert.SbPay
end
-- ==== Proof.SbQ.lean ====
/- The loop over query blocks of `sb_attn_bwd`: what it leaves in the gradient of the values. -/
module

public import proofs.«01_k».proof.Proof.SbDiag

@[expose] public section

set_option maxRecDepth 16384
set_option maxHeartbeats 2000000

noncomputable section

namespace Cert.SbPay

open Idealize.ShloMosaic Idealize.ShloMosaic.TcCoe Idealize.SL.Sem
open Cert.KernelIdeal Cert.KernelIdeal.Gen

/-- One more block of 256 queries in a sum over queries. -/
theorem sum_block (a : EReal) (f : ℕ → EReal) (n : ℕ) : (a + ∑ t ∈ Finset.range (256 * n), f t) + ∑ r : Fin 256, f (256 * n + r.val) = a + ∑ t ∈ Finset.range (256 * (n + 1)), f t := by
  rw [add_assoc, Nat.mul_succ, Finset.sum_range_add, Finset.sum_range (fun i => f (256 * n + i))]

/-- After `n` blocks the gradient of the values of the first head holds the sum over the queries so far. -/
theorem stQ_inv0 (𝒱 : Variants) (c : Dev nD) (bd : Option 𝒱.V) (i : grid0.Coords) (arg2 : Memref sig .tc .vmem S1x2048x128 .f32) (harg2 : arg2.IsWhole) (arg3 : Memref sig .tc .vmem S1x2048x128 .f32) (harg3 : arg3.IsWhole) (arg4 : Memref sig .tc .vmem S1x2048x128 .f32) (harg4 : arg4.IsWhole) (arg5 : Memref sig .tc .vmem S1x64 .f32) (harg5 : arg5.IsWhole) (arg6 : Memref sig .tc .vmem S1x64 .f32) (harg6 : arg6.IsWhole) (arg7 : Memref sig .tc .vmem S1x2x2048x1 .f32) (harg7 : arg7.IsWhole) (arg8 : Memref sig .tc .vmem S1x2048x128 .f32) (harg8 : arg8.IsWhole) (arg9 : Memref sig .tc .vmem S1x2048x128 .f32) (harg9 : arg9.IsWhole) (arg10 : Memref sig .tc .vmem S1x2048x128 .f32) (harg10 : arg10.IsWhole) (arg11 : Memref sig .tc .vmem S1x2048x128 .f32) (harg11 : arg11.IsWhole) (arg12 : Memref sig .tc .vmem S1x64 .f32) (harg12 : arg12.IsWhole) (arg13 : Memref sig .tc .vmem S1x64 .f32) (harg13 : arg13.IsWhole) (arg14 : Memref sig .tc .vmem S2x2048x64 .bf16) (harg14 : arg14.IsWhole) (arg15 : Memref sig .tc .vmem S2x2048x64 .bf16) (harg15 : arg15.IsWhole) (arg16 : Memref sig .tc .vmem S2x2048x64 .bf16) (harg16 : arg16.IsWhole) (arg17 : Memref sig .tc .vmem S2x2048x64 .bf16) (harg17 : arg17.IsWhole) (arg18 : Memref sig .tc .vmem S2x2048x64 .f32) (harg18 : arg18.IsWhole) (arg19 : Memref sig .tc .vmem S2x64x2048 .f32) (harg19 : arg19.IsWhole) (arg20 : Memref sig .tc .vmem S2x64x2048 .f32) (harg20 : arg20.IsWhole) (X_arg7 : BufTy.Contents (Elt Ideal) arg7.view.ty) (X_arg14 : BufTy.Contents (Elt Ideal) arg14.view.ty) (X_arg15 : BufTy.Contents (Elt Ideal) arg15.view.ty) (X_arg16 : BufTy.Contents (Elt Ideal) arg16.view.ty) (X_arg17 : BufTy.Contents (Elt Ideal) arg17.view.ty) (f19 : BufTy.Contents (Elt Ideal) arg19.view.ty) (f20 : BufTy.Contents (Elt Ideal) arg20.view.ty)
    (qn kn : Fin 2 → ℕ → Fin 64 → ℝ) (dO : Fin 2 → ℕ → Fin 64 → EReal) (T : Fin 2 → ℕ → ℝ)
    (hq : ∀ (h : Fin 2) (t : Fin 2048) (d : Fin 64), arg14.view.read (Elt Ideal) X_arg14 (ix3 h t d) = ((qn h t.val d : ℝ) : EReal))
    (hkn : ∀ (h : Fin 2) (t : Fin 2048) (d : Fin 64), arg15.view.read (Elt Ideal) X_arg15 (ix3 h t d) = ((kn h t.val d : ℝ) : EReal))
    (hdo : ∀ (h : Fin 2) (t : Fin 2048) (d : Fin 64), arg17.view.read (Elt Ideal) X_arg17 (ix3 h t d) = dO h t.val d)
    (hT : ∀ (h : Fin 2) (t : Fin 2048), arg7.view.read (Elt Ideal) X_arg7 (ix4 0 h t 0) = ((T h t.val : ℝ) : EReal))
    (d : Fin 64) (s : Fin 2048) (n : ℕ) (hn : n ≤ k0_t2_loop.trips) :
    arg20.view.read (Elt Ideal) (arg20.view.writes (Elt Ideal) f20 (stQ (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 X_arg7 X_arg14 X_arg15 X_arg16 X_arg17 f19 f20 n).2.2) (ix3 0 d s)
      = (arg20.view.read (Elt Ideal) f20 (ix3 0 d s) : EReal) + ∑ t ∈ Finset.range (256 * n), dO 0 t d * ((att (zr (qn 0) (kn 0) t) (T 0 t) t s.val : ℝ) : EReal) := by
  induction n with
  | zero =>
    rw [Nat.mul_zero, Finset.range_zero, Finset.sum_empty, add_zero]
    rfl
  | succ n ih =>
    by_cases hk : k0_cond2 ⟨n, hn⟩ = 1#1
    · rw [stQ_narrow (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 X_arg7 X_arg14 X_arg15 X_arg16 X_arg17 f19 f20 ⟨n, hn⟩ hk]
      show arg20.view.read (Elt Ideal) (arg20.view.writes (Elt Ideal) f20 (_ ++ _)) _ = _
      rw [View.writes_append]
      refine (narrow0 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 X_arg7 X_arg14 X_arg15 X_arg16 X_arg17 ⟨n, hn⟩ hk _ _ qn kn dO T hq hkn hdo hT d s).trans ?_
      rw [ih (by omega)]
      exact sum_block _ (fun t : ℕ => dO 0 t d * ((att (zr (qn 0) (kn 0) t) (T 0 t) t s.val : ℝ) : EReal)) n
    · rw [stQ_wide (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 X_arg7 X_arg14 X_arg15 X_arg16 X_arg17 f19 f20 ⟨n, hn⟩ hk]
      show arg20.view.read (Elt Ideal) (arg20.view.writes (Elt Ideal) f20 (_ ++ _)) _ = _
      rw [View.writes_append]
      refine (wide0 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 X_arg7 X_arg14 X_arg15 X_arg16 X_arg17 ⟨n, hn⟩ hk _ _ qn kn dO T hq hkn hdo hT d s).trans ?_
      rw [ih (by omega)]
      exact sum_block _ (fun t : ℕ => dO 0 t d * ((att (zr (qn 0) (kn 0) t) (T 0 t) t s.val : ℝ) : EReal)) n

/-- After `n` blocks the gradient of the values of the second head holds the sum over the queries so far. -/
theorem stQ_inv1 (𝒱 : Variants) (c : Dev nD) (bd : Option 𝒱.V) (i : grid0.Coords) (arg2 : Memref sig .tc .vmem S1x2048x128 .f32) (harg2 : arg2.IsWhole) (arg3 : Memref sig .tc .vmem S1x2048x128 .f32) (harg3 : arg3.IsWhole) (arg4 : Memref sig .tc .vmem S1x2048x128 .f32) (harg4 : arg4.IsWhole) (arg5 : Memref sig .tc .vmem S1x64 .f32) (harg5 : arg5.IsWhole) (arg6 : Memref sig .tc .vmem S1x64 .f32) (harg6 : arg6.IsWhole) (arg7 : Memref sig .tc .vmem S1x2x2048x1 .f32) (harg7 : arg7.IsWhole) (arg8 : Memref sig .tc .vmem S1x2048x128 .f32) (harg8 : arg8.IsWhole) (arg9 : Memref sig .tc .vmem S1x2048x128 .f32) (harg9 : arg9.IsWhole) (arg10 : Memref sig .tc .vmem S1x2048x128 .f32) (harg10 : arg10.IsWhole) (arg11 : Memref sig .tc .vmem S1x2048x128 .f32) (harg11 : arg11.IsWhole) (arg12 : Memref sig .tc .vmem S1x64 .f32) (harg12 : arg12.IsWhole) (arg13 : Memref sig .tc .vmem S1x64 .f32) (harg13 : arg13.IsWhole) (arg14 : Memref sig .tc .vmem S2x2048x64 .bf16) (harg14 : arg14.IsWhole) (arg15 : Memref sig .tc .vmem S2x2048x64 .bf16) (harg15 : arg15.IsWhole) (arg16 : Memref sig .tc .vmem S2x2048x64 .bf16) (harg16 : arg16.IsWhole) (arg17 : Memref sig .tc .vmem S2x2048x64 .bf16) (harg17 : arg17.IsWhole) (arg18 : Memref sig .tc .vmem S2x2048x64 .f32) (harg18 : arg18.IsWhole) (arg19 : Memref sig .tc .vmem S2x64x2048 .f32) (harg19 : arg19.IsWhole) (arg20 : Memref sig .tc .vmem S2x64x2048 .f32) (harg20 : arg20.IsWhole) (X_arg7 : BufTy.Contents (Elt Ideal) arg7.view.ty) (X_arg14 : BufTy.Contents (Elt Ideal) arg14.view.ty) (X_arg15 : BufTy.Contents (Elt Ideal) arg15.view.ty) (X_arg16 : BufTy.Contents (Elt Ideal) arg16.view.ty) (X_arg17 : BufTy.Contents (Elt Ideal) arg17.view.ty) (f19 : BufTy.Contents (Elt Ideal) arg19.view.ty) (f20 : BufTy.Contents (Elt Ideal) arg20.view.ty)
    (qn kn : Fin 2 → ℕ → Fin 64 → ℝ) (dO : Fin 2 → ℕ → Fin 64 → EReal) (T : Fin 2 → ℕ → ℝ)
    (hq : ∀ (h : Fin 2) (t : Fin 2048) (d : Fin 64), arg14.view.read (Elt Ideal) X_arg14 (ix3 h t d) = ((qn h t.val d : ℝ) : EReal))
    (hkn : ∀ (h : Fin 2) (t : Fin 2048) (d : Fin 64), arg15.view.read (Elt Ideal) X_arg15 (ix3 h t d) = ((kn h t.val d : ℝ) : EReal))
    (hdo : ∀ (h : Fin 2) (t : Fin 2048) (d : Fin 64), arg17.view.read (Elt Ideal) X_arg17 (ix3 h t d) = dO h t.val d)
    (hT : ∀ (h : Fin 2) (t : Fin 2048), arg7.view.read (Elt Ideal) X_arg7 (ix4 0 h t 0) = ((T h t.val : ℝ) : EReal))
    (d : Fin 64) (s : Fin 2048) (n : ℕ) (hn : n ≤ k0_t2_loop.trips) :
    arg20.view.read (Elt Ideal) (arg20.view.writes (Elt Ideal) f20 (stQ (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 X_arg7 X_arg14 X_arg15 X_arg16 X_arg17 f19 f20 n).2.2) (ix3 1 d s)
      = (arg20.view.read (Elt Ideal) f20 (ix3 1 d s) : EReal) + ∑ t ∈ Finset.range (256 * n), dO 1 t d * ((att (zr (qn 1) (kn 1) t) (T 1 t) t s.val : ℝ) : EReal) := by
  induction n with
  | zero =>
    rw [Nat.mul_zero, Finset.range_zero, Finset.sum_empty, add_zero]
    rfl
  | succ n ih =>
    by_cases hk : k0_cond2 ⟨n, hn⟩ = 1#1
    · rw [stQ_narrow (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 X_arg7 X_arg14 X_arg15 X_arg16 X_arg17 f19 f20 ⟨n, hn⟩ hk]
      show arg20.view.read (Elt Ideal) (arg20.view.writes (Elt Ideal) f20 (_ ++ _)) _ = _
      rw [View.writes_append]
      refine (narrow1 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 X_arg7 X_arg14 X_arg15 X_arg16 X_arg17 ⟨n, hn⟩ hk _ _ qn kn dO T hq hkn hdo hT d s).trans ?_
      rw [ih (by omega)]
      exact sum_block _ (fun t : ℕ => dO 1 t d * ((att (zr (qn 1) (kn 1) t) (T 1 t) t s.val : ℝ) : EReal)) n
    · rw [stQ_wide (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 X_arg7 X_arg14 X_arg15 X_arg16 X_arg17 f19 f20 ⟨n, hn⟩ hk]
      show arg20.view.read (Elt Ideal) (arg20.view.writes (Elt Ideal) f20 (_ ++ _)) _ = _
      rw [View.writes_append]
      refine (wide1 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 X_arg7 X_arg14 X_arg15 X_arg16 X_arg17 ⟨n, hn⟩ hk _ _ qn kn dO T hq hkn hdo hT d s).trans ?_
      rw [ih (by omega)]
      exact sum_block _ (fun t : ℕ => dO 1 t d * ((att (zr (qn 1) (kn 1) t) (T 1 t) t s.val : ℝ) : EReal)) n

end Cert.SbPay
end
-- ==== Proof.SbBody.lean ====
/- What the body of `sb_attn_bwd` leaves in its block of the gradient of the values. -/
module

public import proofs.«01_k».proof.Proof.SbQ
public import proofs.«01_k».proof.Proof.SbPrep
public import proofs.«01_k».proof.Proof.SbRun

@[expose] public section

set_option maxRecDepth 16384
set_option maxHeartbeats 4000000

noncomputable section

namespace Cert.SbPay

open Idealize.ShloMosaic Idealize.ShloMosaic.TcCoe Idealize.SL.Sem
open Cert.KernelIdeal Cert.KernelIdeal.Gen

/-- The head of a column of a block. -/
def hd (x : Fin 128) : Fin 2 := ⟨x.val / 64, by have := x.isLt; omega⟩

theorem hd_lo (x : Fin 128) (hx : x.val < 64) : hd x = 0 := Fin.ext (by show x.val / 64 = 0; omega)
theorem hd_hi (x : Fin 128) (hx : ¬ x.val < 64) : hd x = 1 := Fin.ext (by show x.val / 64 = 1; have := x.isLt; omega)
theorem hcol_lo (x : Fin 128) (hx : x.val < 64) : hcol 0 ⟨x.val, hx⟩ = x := Fin.ext (by show 64 * 0 + x.val = x.val; omega)
theorem hcol_hi (x : Fin 128) (hx : ¬ x.val < 64) (h : x.val - 64 < 64) : hcol 1 ⟨x.val - 64, h⟩ = x := Fin.ext (by show 64 * 1 + (x.val - 64) = x.val; omega)

theorem ofNat_val (t : Fin 2048) : Fin.ofNat 2048 t.val = t := Fin.ext (Nat.mod_eq_of_lt t.isLt)

theorem pay352_at (h : Fin 2) (d : Fin 64) (s : Fin 2048) : (k0_pay352 (F := Ideal) (ix3 h d s) : EReal) = 0 := by
  pointwise [k0_pay352]

/-- The gradient of the values starts from zero. -/
theorem start20 {sp : Space} (v : View sig .tc sp S2x64x2048 .f32) (f : v.ty.Contents (Elt Ideal)) (inb : ∀ a, (![0, 0, 0] : Fin 3 → ℕ) a + S2x64x2048.size a ≤ S2x64x2048.size a) (h : Fin 2) (d : Fin 64) (s : Fin 2048) :
    v.read (Elt Ideal) (v.writes (Elt Ideal) f [⟨Rect.unit (s := S2x64x2048) ![0, 0, 0] S2x64x2048.size inb, k0_pay352 (F := Ideal)⟩]) (ix3 h d s) = (0 : EReal) := by
  refine (View.read_writes_cons_unit_of_mem v f inb (k0_pay352 (F := Ideal)) [] (ix3 h d s) (ix3 h d s) rfl ?_).trans (pay352_at h d s)
  intro a; fin_cases a <;> exact (Nat.zero_add _).symm

/-- The body at the first grid point. -/
theorem dvA (c : Dev nD) (i : grid0.Coords) (arg2 : Memref sig .tc .vmem S1x2048x128 .f32) (harg2 : arg2.IsWhole) (arg3 : Memref sig .tc .vmem S1x2048x128 .f32) (harg3 : arg3.IsWhole) (arg4 : Memref sig .tc .vmem S1x2048x128 .f32) (harg4 : arg4.IsWhole) (arg5 : Memref sig .tc .vmem S1x64 .f32) (harg5 : arg5.IsWhole) (arg6 : Memref sig .tc .vmem S1x64 .f32) (harg6 : arg6.IsWhole) (arg7 : Memref sig .tc .vmem S1x2x2048x1 .f32) (harg7 : arg7.IsWhole) (arg8 : Memref sig .tc .vmem S1x2048x128 .f32) (harg8 : arg8.IsWhole) (arg9 : Memref sig .tc .vmem S1x2048x128 .f32) (harg9 : arg9.IsWhole) (arg10 : Memref sig .tc .vmem S1x2048x128 .f32) (harg10 : arg10.IsWhole) (arg11 : Memref sig .tc .vmem S1x2048x128 .f32) (harg11 : arg11.IsWhole) (arg12 : Memref sig .tc .vmem S1x64 .f32) (harg12 : arg12.IsWhole) (arg13 : Memref sig .tc .vmem S1x64 .f32) (harg13 : arg13.IsWhole) (arg14 : Memref sig .tc .vmem S2x2048x64 .bf16) (harg14 : arg14.IsWhole) (arg15 : Memref sig .tc .vmem S2x2048x64 .bf16) (harg15 : arg15.IsWhole) (arg16 : Memref sig .tc .vmem S2x2048x64 .bf16) (harg16 : arg16.IsWhole) (arg17 : Memref sig .tc .vmem S2x2048x64 .bf16) (harg17 : arg17.IsWhole) (arg18 : Memref sig .tc .vmem S2x2048x64 .f32) (harg18 : arg18.IsWhole) (arg19 : Memref sig .tc .vmem S2x64x2048 .f32) (harg19 : arg19.IsWhole) (arg20 : Memref sig .tc .vmem S2x64x2048 .f32) (harg20 : arg20.IsWhole) (hc0 : firstPoint i) (x2 : Vec Ideal S1x2048x128 .f32) (x3 : Vec Ideal S1x2048x128 .f32) (x4 : Vec Ideal S1x2048x128 .f32) (x5 : Vec Ideal S1x64 .f32) (x6 : Vec Ideal S1x64 .f32) (x7 : Vec Ideal S1x2x2048x1 .f32) (x8 : Vec Ideal S1x2048x128 .f32)
    (qn kn : Fin 2 → ℕ → Fin 64 → ℝ) (T : Fin 2 → ℕ → ℝ)
    (hq : ∀ (h : Fin 2) (t : Fin 2048) (d : Fin 64), nrm (fun e => x2 (ix3 0 t (hcol h e))) d * (x5 (ix2 0 d) * ((0.125 : ℝ) : EReal)) = ((qn h t.val d : ℝ) : EReal))
    (hk : ∀ (h : Fin 2) (t : Fin 2048) (d : Fin 64), nrm (fun e => x3 (ix3 0 t (hcol h e))) d * x6 (ix2 0 d) = ((kn h t.val d : ℝ) : EReal))
    (hT : ∀ (h : Fin 2) (t : Fin 2048), x7 (ix4 0 h t 0) = ((T h t.val : ℝ) : EReal))
    (f14 : BufTy.Contents (Elt Ideal) arg14.view.ty) (f15 : BufTy.Contents (Elt Ideal) arg15.view.ty) (f16 : BufTy.Contents (Elt Ideal) arg16.view.ty) (f17 : BufTy.Contents (Elt Ideal) arg17.view.ty) (f18 : BufTy.Contents (Elt Ideal) arg18.view.ty) (f19 : BufTy.Contents (Elt Ideal) arg19.view.ty) (f20 : BufTy.Contents (Elt Ideal) arg20.view.ty) (f : BufTy.Contents (Elt Ideal) arg11.view.ty) (s : Fin 2048) (x : Fin 128) :
    arg11.view.read (Elt Ideal) (arg11.view.writes (Elt Ideal) f ((bodyRunA (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x2 x3 x4 x5 x6 x7 x8).2.2.1 f14 f15 f16 f17 f18 f19 f20)) (ix3 0 s x)
      = ∑ t ∈ Finset.range 2048, x8 (ix3 0 (Fin.ofNat 2048 t) x) * ((att (zr (qn (hd x)) (kn (hd x)) t) (T (hd x) t) t s.val : ℝ) : EReal) := by
  unfold bodyRunA
  dsimp only
  refine (outDv _ _ _ _ _ _ _ _ _ _ _ _ _ _ _ _ _ _ _ _ _ _ _ _ _ _ _ _ _ _ _ _ _ _ _ _ _ _ _ _ _ _ _ _ _ _ _ _ _ _ _ _ f s x).trans ?_
  by_cases hx : x.val < 64
  · rw [dif_pos hx]
    rw [View.writes_append]
    refine (stQ_inv0 _ _ _ _ _ _ _ _ _ _ _ _ _ _ _ _ _ _ _ _ _ _ _ _ _ _ _ _ _ _ _ _ _ _ _ _ _ _ _ _ _ _ _ _ _ _ _ _ _ qn kn (fun h t d => x8 (ix3 0 (Fin.ofNat 2048 t) (hcol h d))) T ?_ ?_ ?_ ?_ ⟨x.val, hx⟩ s _ (by decide)).trans ?_
    · intro h t d
      rw [prepQ, harg2.read_unread, harg5.read_unread]
      exact hq h t d
    · intro h t d
      rw [prepK, harg3.read_unread, harg6.read_unread]
      exact hk h t d
    · intro h t d
      rw [prepO, harg8.read_unread, ofNat_val]
    · intro h t
      rw [harg7.read_unread]
      exact hT h t
    · delta bodyRunA.sl.H20_1
      rw [start20, zero_add, hd_lo x hx, show Scf.trips (0#32) (Scalar.addi 0#32 8#32) 1#32 = 8 from by decide, hcol_lo x hx]
  · rw [dif_neg hx]
    have hx2 : x.val - 64 < 64 := by have := x.isLt; omega
    rw [View.writes_append]
    refine (stQ_inv1 _ _ _ _ _ _ _ _ _ _ _ _ _ _ _ _ _ _ _ _ _ _ _ _ _ _ _ _ _ _ _ _ _ _ _ _ _ _ _ _ _ _ _ _ _ _ _ _ _ qn kn (fun h t d => x8 (ix3 0 (Fin.ofNat 2048 t) (hcol h d))) T ?_ ?_ ?_ ?_ ⟨x.val - 64, hx2⟩ s _ (by decide)).trans ?_
    · intro h t d
      rw [prepQ, harg2.read_unread, harg5.read_unread]
      exact hq h t d
    · intro h t d
      rw [prepK, harg3.read_unread, harg6.read_unread]
      exact hk h t d
    · intro h t d
      rw [prepO, harg8.read_unread, ofNat_val]
    · intro h t
      rw [harg7.read_unread]
      exact hT h t
    · delta bodyRunA.sl.H20_1
      rw [start20, zero_add, hd_hi x hx, show Scf.trips (0#32) (Scalar.addi 0#32 8#32) 1#32 = 8 from by decide, hcol_hi x hx hx2]

/-- The body at a later grid point. -/
theorem dvB (c : Dev nD) (i : grid0.Coords) (arg2 : Memref sig .tc .vmem S1x2048x128 .f32) (harg2 : arg2.IsWhole) (arg3 : Memref sig .tc .vmem S1x2048x128 .f32) (harg3 : arg3.IsWhole) (arg4 : Memref sig .tc .vmem S1x2048x128 .f32) (harg4 : arg4.IsWhole) (arg5 : Memref sig .tc .vmem S1x64 .f32) (harg5 : arg5.IsWhole) (arg6 : Memref sig .tc .vmem S1x64 .f32) (harg6 : arg6.IsWhole) (arg7 : Memref sig .tc .vmem S1x2x2048x1 .f32) (harg7 : arg7.IsWhole) (arg8 : Memref sig .tc .vmem S1x2048x128 .f32) (harg8 : arg8.IsWhole) (arg9 : Memref sig .tc .vmem S1x2048x128 .f32) (harg9 : arg9.IsWhole) (arg10 : Memref sig .tc .vmem S1x2048x128 .f32) (harg10 : arg10.IsWhole) (arg11 : Memref sig .tc .vmem S1x2048x128 .f32) (harg11 : arg11.IsWhole) (arg12 : Memref sig .tc .vmem S1x64 .f32) (harg12 : arg12.IsWhole) (arg13 : Memref sig .tc .vmem S1x64 .f32) (harg13 : arg13.IsWhole) (arg14 : Memref sig .tc .vmem S2x2048x64 .bf16) (harg14 : arg14.IsWhole) (arg15 : Memref sig .tc .vmem S2x2048x64 .bf16) (harg15 : arg15.IsWhole) (arg16 : Memref sig .tc .vmem S2x2048x64 .bf16) (harg16 : arg16.IsWhole) (arg17 : Memref sig .tc .vmem S2x2048x64 .bf16) (harg17 : arg17.IsWhole) (arg18 : Memref sig .tc .vmem S2x2048x64 .f32) (harg18 : arg18.IsWhole) (arg19 : Memref sig .tc .vmem S2x64x2048 .f32) (harg19 : arg19.IsWhole) (arg20 : Memref sig .tc .vmem S2x64x2048 .f32) (harg20 : arg20.IsWhole) (hc0 : ¬ firstPoint i) (x2 : Vec Ideal S1x2048x128 .f32) (x3 : Vec Ideal S1x2048x128 .f32) (x4 : Vec Ideal S1x2048x128 .f32) (x5 : Vec Ideal S1x64 .f32) (x6 : Vec Ideal S1x64 .f32) (x7 : Vec Ideal S1x2x2048x1 .f32) (x8 : Vec Ideal S1x2048x128 .f32) (x12 : Vec Ideal S1x64 .f32) (x13 : Vec Ideal S1x64 .f32)
    (qn kn : Fin 2 → ℕ → Fin 64 → ℝ) (T : Fin 2 → ℕ → ℝ)
    (hq : ∀ (h : Fin 2) (t : Fin 2048) (d : Fin 64), nrm (fun e => x2 (ix3 0 t (hcol h e))) d * (x5 (ix2 0 d) * ((0.125 : ℝ) : EReal)) = ((qn h t.val d : ℝ) : EReal))
    (hk : ∀ (h : Fin 2) (t : Fin 2048) (d : Fin 64), nrm (fun e => x3 (ix3 0 t (hcol h e))) d * x6 (ix2 0 d) = ((kn h t.val d : ℝ) : EReal))
    (hT : ∀ (h : Fin 2) (t : Fin 2048), x7 (ix4 0 h t 0) = ((T h t.val : ℝ) : EReal))
    (f14 : BufTy.Contents (Elt Ideal) arg14.view.ty) (f15 : BufTy.Contents (Elt Ideal) arg15.view.ty) (f16 : BufTy.Contents (Elt Ideal) arg16.view.ty) (f17 : BufTy.Contents (Elt Ideal) arg17.view.ty) (f18 : BufTy.Contents (Elt Ideal) arg18.view.ty) (f19 : BufTy.Contents (Elt Ideal) arg19.view.ty) (f20 : BufTy.Contents (Elt Ideal) arg20.view.ty) (f : BufTy.Contents (Elt Ideal) arg11.view.ty) (s : Fin 2048) (x : Fin 128) :
    arg11.view.read (Elt Ideal) (arg11.view.writes (Elt Ideal) f ((bodyRunB (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x2 x3 x4 x5 x6 x7 x8 x12 x13).2.2.1 f14 f15 f16 f17 f18 f19 f20)) (ix3 0 s x)
      = ∑ t ∈ Finset.range 2048, x8 (ix3 0 (Fin.ofNat 2048 t) x) * ((att (zr (qn (hd x)) (kn (hd x)) t) (T (hd x) t) t s.val : ℝ) : EReal) := by
  unfold bodyRunB
  dsimp only
  refine (outDv _ _ _ _ _ _ _ _ _ _ _ _ _ _ _ _ _ _ _ _ _ _ _ _ _ _ _ _ _ _ _ _ _ _ _ _ _ _ _ _ _ _ _ _ _ _ _ _ _ _ _ _ f s x).trans ?_
  by_cases hx : x.val < 64
  · rw [dif_pos hx]
    rw [View.writes_append]
    refine (stQ_inv0 _ _ _ _ _ _ _ _ _ _ _ _ _ _ _ _ _ _ _ _ _ _ _ _ _ _ _ _ _ _ _ _ _ _ _ _ _ _ _ _ _ _ _ _ _ _ _ _ _ qn kn (fun h t d => x8 (ix3 0 (Fin.ofNat 2048 t) (hcol h d))) T ?_ ?_ ?_ ?_ ⟨x.val, hx⟩ s _ (by decide)).trans ?_
    · intro h t d
      rw [prepQ, harg2.read_unread, harg5.read_unread]
      exact hq h t d
    · intro h t d
      rw [prepK, harg3.read_unread, harg6.read_unread]
      exact hk h t d
    · intro h t d
      rw [prepO, harg8.read_unread, ofNat_val]
    · intro h t
      rw [harg7.read_unread]
      exact hT h t
    · delta bodyRunB.sl.H20_1
      rw [start20, zero_add, hd_lo x hx, show Scf.trips (0#32) (Scalar.addi 0#32 8#32) 1#32 = 8 from by decide, hcol_lo x hx]
  · rw [dif_neg hx]
    have hx2 : x.val - 64 < 64 := by have := x.isLt; omega
    rw [View.writes_append]
    refine (stQ_inv1 _ _ _ _ _ _ _ _ _ _ _ _ _ _ _ _ _ _ _ _ _ _ _ _ _ _ _ _ _ _ _ _ _ _ _ _ _ _ _ _ _ _ _ _ _ _ _ _ _ qn kn (fun h t d => x8 (ix3 0 (Fin.ofNat 2048 t) (hcol h d))) T ?_ ?_ ?_ ?_ ⟨x.val - 64, hx2⟩ s _ (by decide)).trans ?_
    · intro h t d
      rw [prepQ, harg2.read_unread, harg5.read_unread]
      exact hq h t d
    · intro h t d
      rw [prepK, harg3.read_unread, harg6.read_unread]
      exact hk h t d
    · intro h t d
      rw [prepO, harg8.read_unread, ofNat_val]
    · intro h t
      rw [harg7.read_unread]
      exact hT h t
    · delta bodyRunB.sl.H20_1
      rw [start20, zero_add, hd_hi x hx, show Scf.trips (0#32) (Scalar.addi 0#32 8#32) 1#32 = 8 from by decide, hcol_hi x hx hx2]

end Cert.SbPay
end
-- ==== Proof.SbRef.lean ====
/- The gradient of the values as the reference computes it, entry by entry. -/
module

public import proofs.«01_k».proof.Proof.SbHost
public import proofs.«01_k».proof.Proof.SbBody

@[expose] public section

set_option maxRecDepth 16384
set_option maxHeartbeats 2000000

noncomputable section

namespace Cert.SbPay

open Idealize.ShloMosaic Idealize.ShloMosaic.TcCoe Idealize.SL.Sem

/-- The queries and keys of a head as real numbers, from the projection and the gains. -/
def QN (A0 : FVec Ideal ⟨3, ![2, 2048, 3712]⟩ .f32) (g : FVec Ideal ⟨2, ![1, 64]⟩ .f32) (b : Fin 2) (h : Fin 8) (t : ℕ) (d : Fin 64) : ℝ :=
  nr (fun e => A0 (ix3 b (Fin.ofNat 2048 t) ⟨h.val * 64 + e.val, by have := h.isLt; have := e.isLt; omega⟩)) d * ((g (ix2 0 d)).toReal * 0.125)

def KN (A0 : FVec Ideal ⟨3, ![2, 2048, 3712]⟩ .f32) (g : FVec Ideal ⟨2, ![1, 64]⟩ .f32) (b : Fin 2) (h : Fin 8) (t : ℕ) (d : Fin 64) : ℝ :=
  nr (fun e => A0 (ix3 b (Fin.ofNat 2048 t) ⟨512 + (h.val * 64 + e.val), by have := h.isLt; have := e.isLt; omega⟩)) d * (g (ix2 0 d)).toReal

/-- The logits of a head as real numbers. -/
def ZZ (A0 : FVec Ideal ⟨3, ![2, 2048, 3712]⟩ .f32) (gq gk : FVec Ideal ⟨2, ![1, 64]⟩ .f32) (b : Fin 2) (h : Fin 8) : ℕ → ℕ → ℝ := zr (QN A0 gq b h) (KN A0 gk b h)

/-- The gradient of the values: the cotangents weighted with the attention. -/
def DVV (A0 : FVec Ideal ⟨3, ![2, 2048, 3712]⟩ .f32) (gq gk : FVec Ideal ⟨2, ![1, 64]⟩ .f32) (A3 : FVec Ideal ⟨3, ![2, 2048, 1024]⟩ .f32) (b : Fin 2) (s : Fin 2048) (h : Fin 8) (d : Fin 64) : EReal :=
  ∑ t ∈ Finset.range 2048, A3 (ix3 b (Fin.ofNat 2048 t) ⟨h.val * 64 + d.val, by have := h.isLt; have := d.isLt; omega⟩) * ((att (ZZ A0 gq gk b h t) (pz (ZZ A0 gq gk b h t) t 2048) t s.val : ℝ) : EReal)

theorem foldl_add {n : ℕ} (g : Fin n → EReal) (v : EReal) : (List.finRange n).foldl (fun r i => r + g i) v = v + ∑ i, g i := by
  rw [Fin.sum_univ_def]
  generalize List.finRange n = l
  induction l generalizing v with
  | nil => simp
  | cons a l ih => rw [List.foldl_cons, ih, List.map_cons, List.sum_cons, add_assoc]

/-- The part of a sum from a place on. -/
theorem tail_sum (y : ℕ → ℝ) (s : ℕ) (hs : s ≤ 2048) :
    (∑ w : Fin 2048, if s + w.val < 2048 then y (s + w.val) else 0) = (∑ i ∈ Finset.range 2048, y i) - ∑ i ∈ Finset.range s, y i := by
  rw [← Finset.sum_range (fun w => if s + w < 2048 then y (s + w) else 0)]
  obtain ⟨n, hn⟩ : ∃ n, 2048 = n + s := ⟨2048 - s, by omega⟩
  have h1 : (∑ w ∈ Finset.range 2048, if s + w < 2048 then y (s + w) else 0) = ∑ w ∈ Finset.range n, y (s + w) := by
    have e : Finset.range 2048 = Finset.range (n + s) := congrArg _ hn
    rw [e, Finset.sum_range_add]
    have h2 : (∑ w ∈ Finset.range s, if s + (n + w) < 2048 then y (s + (n + w)) else 0) = 0 :=
      Finset.sum_eq_zero fun w _ => if_neg (by omega)
    rw [h2, add_zero]
    exact Finset.sum_congr rfl fun w hw => if_pos (by have := Finset.mem_range.mp hw; omega)
  have e : Finset.range 2048 = Finset.range (s + n) := congrArg _ (hn.trans (Nat.add_comm n s))
  rw [h1, e, Finset.sum_range_add]
  ring

namespace R
open Cert.ReferenceIdeal Cert.ReferenceIdeal.Gen

/-- The sums from every key to the last one. -/
def cum (x : FVec Ideal S2x8x2048x2048 .f32) : FVec Ideal S2x8x2048x2048 .f32 :=
  Host.reduceWindowAdd ![1, 1, 1, 2048] ![1, 1, 1, 1] ![0, 0, 0, 0] ![0, 0, 0, 2047] x (broadcastInDim S_ ![] bcast_S_S_ (constant S_ .f32 0x00000000#32)) reduceWindows_S2x8x2048x2048_S2x8x2048x2048_w1s1p0_0_w1s1p0_0_w1s1p0_0_w2048s1p0_2047 h_S_

theorem cum_at (x : FVec Ideal S2x8x2048x2048 .f32) (b : Fin 2) (h : Fin 8) (t s : Fin 2048) (y : ℕ → ℝ) (hy : ∀ s' : Fin 2048, x (ix4 b h t s') = ((y s'.val : ℝ) : EReal)) :
    cum x (ix4 b h t s) = (((∑ i ∈ Finset.range 2048, y i) - ∑ i ∈ Finset.range s.val, y i : ℝ) : EReal) := by
  have hz : (broadcastInDim S_ ![] bcast_S_S_ (constant (F := Ideal) S_ .f32 0x00000000#32) (Shape.Idx.first h_S_) : EReal) = 0 := by pointwise
  rw [← tail_sum y s.val s.isLt.le, coe_sum]
  rw [cum, Host.reduceWindowAdd, Ideal.hostReduceWindowAdd_def, Ideal.hostReduceWindowAdd, Host.reduceWindow, foldl_add, hz, zero_add]
  have key : ∀ w : (⟨4, ![1, 1, 1, 2048]⟩ : Shape).Idx, (w 0).val = 0 ∧ (w 1).val = 0 ∧ (w 2).val = 0 := fun w =>
    ⟨by have h : (w 0).val < 1 := (w 0).isLt; omega, by have h : (w 1).val < 1 := (w 1).isLt; omega, by have h : (w 2).val < 1 := (w 2).isLt; omega⟩
  refine (Finset.sum_congr rfl fun n _ => ?_).trans ((Equiv.sum_comp (⟨4, ![1, 1, 1, 2048]⟩ : Shape).rowMajor.symm (fun w : (⟨4, ![1, 1, 1, 2048]⟩ : Shape).Idx => (((if s.val + (w 3).val < 2048 then y (s.val + (w 3).val) else 0 : ℝ)) : EReal))).trans ?_)
  · have hk := key ((⟨4, ![1, 1, 1, 2048]⟩ : Shape).rowMajor.symm n)
    obtain ⟨k0, k1, k2⟩ := hk
    by_cases hc : s.val + ((⟨4, ![1, 1, 1, 2048]⟩ : Shape).rowMajor.symm n 3).val < 2048
    · rw [if_pos hc, ← hy ⟨s.val + ((⟨4, ![1, 1, 1, 2048]⟩ : Shape).rowMajor.symm n 3).val, hc⟩]
      refine (dif_pos ?_).trans ?_
      · intro a; fin_cases a
        · exact ⟨Nat.zero_le _, by show b.val * 1 + ((⟨4, ![1, 1, 1, 2048]⟩ : Shape).rowMajor.symm n 0).val - 0 < 2; have := b.isLt; omega⟩
        · exact ⟨Nat.zero_le _, by show h.val * 1 + ((⟨4, ![1, 1, 1, 2048]⟩ : Shape).rowMajor.symm n 1).val - 0 < 8; have := h.isLt; omega⟩
        · exact ⟨Nat.zero_le _, by show t.val * 1 + ((⟨4, ![1, 1, 1, 2048]⟩ : Shape).rowMajor.symm n 2).val - 0 < 2048; have := t.isLt; omega⟩
        · exact ⟨Nat.zero_le _, by show s.val * 1 + ((⟨4, ![1, 1, 1, 2048]⟩ : Shape).rowMajor.symm n 3).val - 0 < 2048; omega⟩
      · refine congrArg x ?_
        funext a; fin_cases a
        · exact Fin.ext (by show b.val * 1 + ((⟨4, ![1, 1, 1, 2048]⟩ : Shape).rowMajor.symm n 0).val - 0 = b.val; omega)
        · exact Fin.ext (by show h.val * 1 + ((⟨4, ![1, 1, 1, 2048]⟩ : Shape).rowMajor.symm n 1).val - 0 = h.val; omega)
        · exact Fin.ext (by show t.val * 1 + ((⟨4, ![1, 1, 1, 2048]⟩ : Shape).rowMajor.symm n 2).val - 0 = t.val; omega)
        · exact Fin.ext (by show s.val * 1 + ((⟨4, ![1, 1, 1, 2048]⟩ : Shape).rowMajor.symm n 3).val - 0 = s.val + ((⟨4, ![1, 1, 1, 2048]⟩ : Shape).rowMajor.symm n 3).val; omega)
    · rw [if_neg hc]
      refine (dif_neg ?_).trans rfl
      intro hin
      have h3 : s.val * 1 + ((⟨4, ![1, 1, 1, 2048]⟩ : Shape).rowMajor.symm n 3).val - 0 < 2048 := (hin 3).2
      omega
  · rw [sum_idx4, Fin.sum_univ_one, Fin.sum_univ_one, Fin.sum_univ_one]
    rfl

/-- The attention. -/
def attn (z : FVec Ideal S2x8x2048x2048 .f32) : FVec Ideal S2x8x2048x2048 .f32 :=
  select mask (Host.exp (addf (lsig z) (subf (cum (lg z)) (lg z)))) zeros

theorem attn_at (z : FVec Ideal S2x8x2048x2048 .f32) (b : Fin 2) (h : Fin 8) (t s : Fin 2048) (y : ℕ → ℝ) (hy : ∀ s' : Fin 2048, z (ix4 b h t s') = ((y s'.val : ℝ) : EReal)) :
    attn z (ix4 b h t s) = ((att y (pz y t.val 2048) t.val s.val : ℝ) : EReal) := by
  have hl : ∀ s' : Fin 2048, lg z (ix4 b h t s') = ((gz y t.val s'.val : ℝ) : EReal) := fun s' => lg_at z b h t s' _ (hy s')
  have hc := cum_at (lg z) b h t s (gz y t.val) hl
  show (if mask (ix4 b h t s) = 1#1 then Ideal.exp (lsig z (ix4 b h t s) + (cum (lg z) (ix4 b h t s) - lg z (ix4 b h t s))) else zeros (ix4 b h t s)) = _
  rw [mask_at, zeros_at, hc, hl s, lsig_at z b h t s _ (hy s), att]
  by_cases hst : s.val < t.val
  · rw [if_pos hst, if_pos rfl, if_pos hst, ← EReal.coe_sub, ← EReal.coe_add]
    show ((Real.exp _ : ℝ) : EReal) = _
    have hs := sp_neg (y s.val)
    have e : -(sp (-(y s.val))) + ((∑ i ∈ Finset.range 2048, gz y t.val i) - (∑ i ∈ Finset.range s.val, gz y t.val i) - gz y t.val s.val) = (y s.val - sp (y s.val)) + pz y t.val 2048 - pz y t.val (s.val + 1) := by
      rw [pz, pz, Finset.sum_range_succ (gz y t.val) s.val]
      linarith
    rw [e]
  · rw [if_neg hst, if_neg (by decide), if_neg hst]; rfl

/-- The reference's result as a function of the arrays it reads. -/
def REF (A0 : FVec Ideal S2x2048x3712 .f32) (gq gk : FVec Ideal S1x64 .f32) (A3 : FVec Ideal S2x2048x1024 .f32) : FVec Ideal S2x2048x512 .f32 :=
  shapeCast _ (transpose S2x2048x8x64 [0, 2, 1, 3] (transpose S2x8x2048x64 [0, 1, 3, 2] (Host.dotGeneral dot_S2x8x2048x64_S2x8x2048x2048_S2x8x64x2048_2_2_3_3_01_01 none (transpose S2x8x2048x64 [0, 2, 1, 3] (heads (extractStridedSlice S2x2048x512 ![0, 0, 0] A3 slices_S2x2048x1024_S2x2048x512_0_0_0)) transposes_S2x2048x8x64_S2x8x2048x64_0_2_1_3) (attn (logit (norm (heads (extractStridedSlice S2x2048x512 ![0, 0, 0] A0 slices_S2x2048x3712_S2x2048x512_0_0_0)) gq) (norm (heads (extractStridedSlice S2x2048x512 ![0, 0, 512] A0 slices_S2x2048x3712_S2x2048x512_0_0_512)) gk)))) transposes_S2x8x64x2048_S2x8x2048x64_0_1_3_2) transposes_S2x8x2048x64_S2x2048x8x64_0_2_1_3) shapeCasts_S2x2048x8x64_S2x2048x512

/-- The logits are real when the gains are. -/
theorem z_at (A0 : FVec Ideal S2x2048x3712 .f32) (gq gk : FVec Ideal S1x64 .f32) (hq : ∀ d : Fin 64, gq (ix2 0 d) = (((gq (ix2 0 d)).toReal : ℝ) : EReal)) (hk : ∀ d : Fin 64, gk (ix2 0 d) = (((gk (ix2 0 d)).toReal : ℝ) : EReal))
    (b : Fin 2) (h : Fin 8) (t s : Fin 2048) :
    logit (norm (heads (extractStridedSlice S2x2048x512 ![0, 0, 0] A0 slices_S2x2048x3712_S2x2048x512_0_0_0)) gq) (norm (heads (extractStridedSlice S2x2048x512 ![0, 0, 512] A0 slices_S2x2048x3712_S2x2048x512_0_0_512)) gk) (ix4 b h t s)
      = ((ZZ A0 gq gk b h t.val s.val : ℝ) : EReal) := by
  have e0 : ∀ (t : Fin 2048) (e : Fin 64), heads (extractStridedSlice S2x2048x512 ![0, 0, 0] A0 slices_S2x2048x3712_S2x2048x512_0_0_0) (ix4 b t h e) = A0 (ix3 b (Fin.ofNat 2048 t.val) ⟨h.val * 64 + e.val, by have := h.isLt; have := e.isLt; omega⟩) := by
    intro t e
    rw [heads_at, ofNat_val]; pointwise
  have e1 : ∀ (t : Fin 2048) (e : Fin 64), heads (extractStridedSlice S2x2048x512 ![0, 0, 512] A0 slices_S2x2048x3712_S2x2048x512_0_0_512) (ix4 b t h e) = A0 (ix3 b (Fin.ofNat 2048 t.val) ⟨512 + (h.val * 64 + e.val), by have := h.isLt; have := e.isLt; omega⟩) := by
    intro t e
    rw [heads_at, ofNat_val]; pointwise
  have hqn : ∀ d : Fin 64, norm (heads (extractStridedSlice S2x2048x512 ![0, 0, 0] A0 slices_S2x2048x3712_S2x2048x512_0_0_0)) gq (ix4 b h t d) = ((nr (fun e => A0 (ix3 b (Fin.ofNat 2048 t.val) ⟨h.val * 64 + e.val, by have := h.isLt; have := e.isLt; omega⟩)) d * (gq (ix2 0 d)).toReal : ℝ) : EReal) := by
    intro d
    rw [norm_at, EReal.coe_mul, ← hq d, ← nrm_eq, funext (e0 t)]
  have hkn : ∀ d : Fin 64, norm (heads (extractStridedSlice S2x2048x512 ![0, 0, 512] A0 slices_S2x2048x3712_S2x2048x512_0_0_512)) gk (ix4 b h s d) = ((KN A0 gk b h s.val d : ℝ) : EReal) := by
    intro d
    rw [norm_at, KN, EReal.coe_mul, ← hk d, ← nrm_eq, funext (e1 s)]
  rw [logit_at, ZZ, zr]
  have hs : (∑ d : Fin 64, norm (heads (extractStridedSlice S2x2048x512 ![0, 0, 0] A0 slices_S2x2048x3712_S2x2048x512_0_0_0)) gq (ix4 b h t d) * norm (heads (extractStridedSlice S2x2048x512 ![0, 0, 512] A0 slices_S2x2048x3712_S2x2048x512_0_0_512)) gk (ix4 b h s d))
      = ((∑ d : Fin 64, nr (fun e => A0 (ix3 b (Fin.ofNat 2048 t.val) ⟨h.val * 64 + e.val, by have := h.isLt; have := e.isLt; omega⟩)) d * (gq (ix2 0 d)).toReal * KN A0 gk b h s.val d : ℝ) : EReal) := by
    rw [coe_sum]
    exact Finset.sum_congr rfl fun d _ => by rw [hqn d, hkn d, EReal.coe_mul _ (KN A0 gk b h s.val d)]
  rw [hs, ← EReal.coe_mul, Finset.sum_mul]
  refine congrArg _ (Finset.sum_congr rfl fun d _ => ?_)
  rw [QN]
  ring

/-- The reference at an entry. -/
theorem ref_at (A0 : FVec Ideal S2x2048x3712 .f32) (gq gk : FVec Ideal S1x64 .f32) (A3 : FVec Ideal S2x2048x1024 .f32) (hq : ∀ d : Fin 64, gq (ix2 0 d) = (((gq (ix2 0 d)).toReal : ℝ) : EReal)) (hk : ∀ d : Fin 64, gk (ix2 0 d) = (((gk (ix2 0 d)).toReal : ℝ) : EReal))
    (b : Fin 2) (s : Fin 2048) (h : Fin 8) (d : Fin 64) :
    REF A0 gq gk A3 (ix3 b s ⟨h.val * 64 + d.val, by have := h.isLt; have := d.isLt; omega⟩) = DVV A0 gq gk A3 b s h d := by
  have ha := fun t : Fin 2048 => attn_at _ b h t s _ (z_at A0 gq gk hq hk b h t)
  rw [DVV, Finset.sum_range]
  have hr : REF A0 gq gk A3 (ix3 b s ⟨h.val * 64 + d.val, by have := h.isLt; have := d.isLt; omega⟩)
      = ∑ t : Fin 2048, heads (extractStridedSlice S2x2048x512 ![0, 0, 0] A3 slices_S2x2048x1024_S2x2048x512_0_0_0) (ix4 b t h d) * attn (logit (norm (heads (extractStridedSlice S2x2048x512 ![0, 0, 0] A0 slices_S2x2048x3712_S2x2048x512_0_0_0)) gq) (norm (heads (extractStridedSlice S2x2048x512 ![0, 0, 512] A0 slices_S2x2048x3712_S2x2048x512_0_0_512)) gk)) (ix4 b h t s) := by
    pointwise [REF]
  rw [hr]
  refine Finset.sum_congr rfl fun t _ => ?_
  rw [ha t, heads_at, ofNat_val]
  congr 1
  pointwise

end R

end Cert.SbPay
end
-- ==== Proof.SbTot.lean ====
/- The sums of the masked log terms, which the host hands to the backward call. -/
module

public import proofs.«01_k».proof.Proof.SbRef
public import proofs.«01_k».proof.Proof.SbFrame

@[expose] public section

set_option maxRecDepth 16384
set_option maxHeartbeats 20000000

noncomputable section

namespace Cert.SbPay.K

open Idealize.ShloMosaic Idealize.ShloMosaic.TcCoe Idealize.SL.Sem
open Idealize.ShloMosaic.StableHlo
open Cert.KernelIdeal Cert.KernelIdeal.Gen

/-- The sums as a function of the arrays they come from. -/
def TOT (A0 : FVec Ideal S2x2048x3712 .f32) (gq gk : FVec Ideal S1x64 .f32) : FVec Ideal S2x8x2048x1 .f32 :=
  broadcastInDim S2x8x2048x1 ![0, 1, 2] bcast_S2x8x2048_S2x8x2048x1_0_1_2 (Host.reduceAdd (lg (logit (norm (heads (extractStridedSlice S2x2048x512 ![0, 0, 0] A0 slices_S2x2048x3712_S2x2048x512_0_0_0)) gq) (norm (heads (extractStridedSlice S2x2048x512 ![0, 0, 512] A0 slices_S2x2048x3712_S2x2048x512_0_0_512)) gk))) (constant S_ .f32 0x00000000#32) reducesTo_S2x8x2048x2048_S2x8x2048_d3 h_S_)

/-- They are what the call finds in its sixth operand. -/
theorem V_tot (m : (ℓ : Loc nD τ sig) → Buf (Elt Ideal) ℓ) (c : Dev nD) :
    V m c main_v46 = TOT (m ((c : Thread nD τ).loc main_arg0)) (m ((c : Thread nD τ).loc main_arg1)) (m ((c : Thread nD τ).loc main_arg2)) := by
  simp only [V, hostOps0, hostOps0_1, hostOps0_2, hostOps0_3, hostOps0_4, List.flatten_cons, List.flatten_nil, List.append_nil, List.cons_append, List.nil_append, TRef.binary, TRef.nullary, TRef.ternary, TRef.unary, TRef.toBuf, TRef.ofBuf, cast_eq]
  after_results_simp <;> rfl

/-- The logits are real when the gains are. -/
theorem z_at (A0 : FVec Ideal S2x2048x3712 .f32) (gq gk : FVec Ideal S1x64 .f32) (hq : ∀ d : Fin 64, gq (ix2 0 d) = (((gq (ix2 0 d)).toReal : ℝ) : EReal)) (hk : ∀ d : Fin 64, gk (ix2 0 d) = (((gk (ix2 0 d)).toReal : ℝ) : EReal))
    (b : Fin 2) (h : Fin 8) (t s : Fin 2048) :
    logit (norm (heads (extractStridedSlice S2x2048x512 ![0, 0, 0] A0 slices_S2x2048x3712_S2x2048x512_0_0_0)) gq) (norm (heads (extractStridedSlice S2x2048x512 ![0, 0, 512] A0 slices_S2x2048x3712_S2x2048x512_0_0_512)) gk) (ix4 b h t s)
      = ((ZZ A0 gq gk b h t.val s.val : ℝ) : EReal) := by
  have e0 : ∀ (t : Fin 2048) (e : Fin 64), heads (extractStridedSlice S2x2048x512 ![0, 0, 0] A0 slices_S2x2048x3712_S2x2048x512_0_0_0) (ix4 b t h e) = A0 (ix3 b (Fin.ofNat 2048 t.val) ⟨h.val * 64 + e.val, by have := h.isLt; have := e.isLt; omega⟩) := by
    intro t e
    rw [heads_at, ofNat_val]; pointwise
  have e1 : ∀ (t : Fin 2048) (e : Fin 64), heads (extractStridedSlice S2x2048x512 ![0, 0, 512] A0 slices_S2x2048x3712_S2x2048x512_0_0_512) (ix4 b t h e) = A0 (ix3 b (Fin.ofNat 2048 t.val) ⟨512 + (h.val * 64 + e.val), by have := h.isLt; have := e.isLt; omega⟩) := by
    intro t e
    rw [heads_at, ofNat_val]; pointwise
  have hqn : ∀ d : Fin 64, norm (heads (extractStridedSlice S2x2048x512 ![0, 0, 0] A0 slices_S2x2048x3712_S2x2048x512_0_0_0)) gq (ix4 b h t d) = ((nr (fun e => A0 (ix3 b (Fin.ofNat 2048 t.val) ⟨h.val * 64 + e.val, by have := h.isLt; have := e.isLt; omega⟩)) d * (gq (ix2 0 d)).toReal : ℝ) : EReal) := by
    intro d
    rw [norm_at, EReal.coe_mul, ← hq d, ← nrm_eq, funext (e0 t)]
  have hkn : ∀ d : Fin 64, norm (heads (extractStridedSlice S2x2048x512 ![0, 0, 512] A0 slices_S2x2048x3712_S2x2048x512_0_0_512)) gk (ix4 b h s d) = ((KN A0 gk b h s.val d : ℝ) : EReal) := by
    intro d
    rw [norm_at, KN, EReal.coe_mul, ← hk d, ← nrm_eq, funext (e1 s)]
  rw [logit_at, ZZ, zr]
  have hs : (∑ d : Fin 64, norm (heads (extractStridedSlice S2x2048x512 ![0, 0, 0] A0 slices_S2x2048x3712_S2x2048x512_0_0_0)) gq (ix4 b h t d) * norm (heads (extractStridedSlice S2x2048x512 ![0, 0, 512] A0 slices_S2x2048x3712_S2x2048x512_0_0_512)) gk (ix4 b h s d))
      = ((∑ d : Fin 64, nr (fun e => A0 (ix3 b (Fin.ofNat 2048 t.val) ⟨h.val * 64 + e.val, by have := h.isLt; have := e.isLt; omega⟩)) d * (gq (ix2 0 d)).toReal * KN A0 gk b h s.val d : ℝ) : EReal) := by
    rw [coe_sum]
    exact Finset.sum_congr rfl fun d _ => by rw [hqn d, hkn d, EReal.coe_mul _ (KN A0 gk b h s.val d)]
  rw [hs, ← EReal.coe_mul, Finset.sum_mul]
  refine congrArg _ (Finset.sum_congr rfl fun d _ => ?_)
  rw [QN]
  ring

/-- The sums at a row. -/
theorem tot_at (A0 : FVec Ideal S2x2048x3712 .f32) (gq gk : FVec Ideal S1x64 .f32) (hq : ∀ d : Fin 64, gq (ix2 0 d) = (((gq (ix2 0 d)).toReal : ℝ) : EReal)) (hk : ∀ d : Fin 64, gk (ix2 0 d) = (((gk (ix2 0 d)).toReal : ℝ) : EReal))
    (b : Fin 2) (h : Fin 8) (t : Fin 2048) :
    TOT A0 gq gk (ix4 b h t 0) = ((pz (ZZ A0 gq gk b h t.val) t.val 2048 : ℝ) : EReal) := by
  have hr : TOT A0 gq gk (ix4 b h t 0) = ∑ s : Fin 2048, lg (logit (norm (heads (extractStridedSlice S2x2048x512 ![0, 0, 0] A0 slices_S2x2048x3712_S2x2048x512_0_0_0)) gq) (norm (heads (extractStridedSlice S2x2048x512 ![0, 0, 512] A0 slices_S2x2048x3712_S2x2048x512_0_0_512)) gk)) (ix4 b h t s) := by
    pointwise [TOT]
  rw [hr, pz, Finset.sum_range, coe_sum]
  exact Finset.sum_congr rfl fun s _ => lg_at _ b h t s _ (z_at A0 gq gk hq hk b h t s)

end Cert.SbPay.K
end
-- ==== Proof.SbValue.lean ====
/- The gradient of the values as the backward call leaves it, and that it is the reference's. -/
module

public import proofs.«01_k».proof.Proof.SbTot
public import proofs.«01_k».proof.Defs
public import proofs.«01_k».proof.Proof.Gen.Pre_gains_finite
public import Idealize.ShloMosaic.Lib.Pipeline.ValueKit
public import Idealize.ShloMosaic.Lib.Pipeline.ReadBack

@[expose] public section

set_option maxRecDepth 16384
set_option maxHeartbeats 2000000

noncomputable section

namespace Cert.SbPay

open Idealize.ShloMosaic Idealize.ShloMosaic.TcCoe Idealize.SL.Sem

/-- A value whose magnitude is below infinity is a real number. -/
theorem real_of_abs (x : EReal) (h : Ideal.cmp .olt (max x (-x)) ⊤ = 1#1) : x = ((x.toReal : ℝ) : EReal) := by
  have h' : max x (-x) < ⊤ := by
    by_contra hc
    simp [Ideal.cmp, hc] at h
  induction x with
  | bot => simp at h'
  | top => simp at h'
  | coe r => rfl

theorem inf_bits : (Ideal.ofBits .f32 0x7F800000#32 : EReal) = ⊤ := by
  simp [Ideal.ofBits, Ideal.ieee]

/-- The precondition makes the gains real numbers. -/
theorem pre_real (A0 : FVec Ideal ⟨3, ![2, 2048, 3712]⟩ .f32) (gq gk : FVec Ideal ⟨2, ![1, 64]⟩ .f32) (A3 : FVec Ideal ⟨3, ![2, 2048, 1024]⟩ .f32)
    (h : Cert.Pre_gains_finite.fn (F := Ideal) A0 gq gk A3 = fun _ => 1#1) (d : Fin 64) :
    gq (ix2 0 d) = (((gq (ix2 0 d)).toReal : ℝ) : EReal) ∧ gk (ix2 0 d) = (((gk (ix2 0 d)).toReal : ℝ) : EReal) := by
  have h1 := congrFun h (ix2 0 d)
  have h2 : Cert.Pre_gains_finite.fn (F := Ideal) A0 gq gk A3 (ix2 0 d) = (Ideal.cmp .olt (max (gq (ix2 0 d)) (-(gq (ix2 0 d)))) ⊤) &&& (Ideal.cmp .olt (max (gk (ix2 0 d)) (-(gk (ix2 0 d)))) ⊤) := by
    pointwise [Cert.Pre_gains_finite.fn]
    rw [inf_bits]
    rfl
  rw [h2] at h1
  have h3 : ∀ a b : BitVec 1, a &&& b = 1#1 → a = 1#1 ∧ b = 1#1 := by decide
  exact ⟨real_of_abs _ (h3 _ _ h1).1, real_of_abs _ (h3 _ _ h1).2⟩

end Cert.SbPay

namespace Cert.SbPay.K

open Idealize.ShloMosaic Idealize.ShloMosaic.TcCoe Idealize.SL.Sem
open Idealize.ShloMosaic.Pipeline (Dat)
open Cert.KernelIdeal Cert.KernelIdeal.Gen

/-- The windows' index maps, decided over the grid. -/
theorem idx : ∀ t : Fin cfg0.N, win0_0.index t = ![t.val / 4, 0, t.val % 4] ∧ win0_1.index t = ![t.val / 4, 0, 4 + t.val % 4] ∧ win0_3.index t = ![0, 0] ∧ win0_4.index t = ![0, 0] ∧ win0_5.index t = ![t.val / 4, t.val % 4, 0, 0] ∧ win0_6.index t = ![t.val / 4, 0, t.val % 4] ∧ win0_9.index t = ![t.val / 4, 0, t.val % 4] ∧ t.val < 8 :=
  (by decide +kernel : ∀ t : Fin grid0.N, _)

/-- The sequence a grid point works on, and the head a lane of its block belongs to. -/
def bb (t : Fin cfg0.N) : Fin 2 := ⟨t.val / 4, by have := (idx t).2.2.2.2.2.2.2; omega⟩
def hh (t : Fin cfg0.N) (h : Fin 2) : Fin 8 := ⟨t.val % 4 * 2 + h.val, by have := h.isLt; omega⟩

variable (m : (ℓ : Loc nD τ sig) → Buf (Elt Ideal) ℓ)

/-- The arguments of a device. -/
abbrev a0 (c : Dev nD) : FVec Ideal S2x2048x3712 .f32 := m ((c : Thread nD τ).loc main_arg0)
abbrev a1 (c : Dev nD) : FVec Ideal S1x64 .f32 := m ((c : Thread nD τ).loc main_arg1)
abbrev a2 (c : Dev nD) : FVec Ideal S1x64 .f32 := m ((c : Thread nD τ).loc main_arg2)
abbrev a3 (c : Dev nD) : FVec Ideal S2x2048x1024 .f32 := m ((c : Thread nD τ).loc main_arg3)

/-- The blocks a grid point reads. -/
abbrev xq (c : Dev nD) (t : Fin cfg0.N) : FVec Ideal S1x2048x128 .f32 := iblk m c 0 t
abbrev xk (c : Dev nD) (t : Fin cfg0.N) : FVec Ideal S1x2048x128 .f32 := iblk m c 1 t
abbrev xgq (c : Dev nD) (t : Fin cfg0.N) : FVec Ideal S1x64 .f32 := iblk m c 3 t
abbrev xgk (c : Dev nD) (t : Fin cfg0.N) : FVec Ideal S1x64 .f32 := iblk m c 4 t
abbrev xt (c : Dev nD) (t : Fin cfg0.N) : FVec Ideal S1x2x2048x1 .f32 := iblk m c 5 t
abbrev xo (c : Dev nD) (t : Fin cfg0.N) : FVec Ideal S1x2048x128 .f32 := iblk m c 6 t

theorem bq (c : Dev nD) (t : Fin cfg0.N) (s : Fin 2048) (h : Fin 2) (e : Fin 64) :
    xq m c t (ix3 0 s (hcol h e)) = a0 m c (ix3 (bb t) (Fin.ofNat 2048 s.val) ⟨(hh t h).val * 64 + e.val, by have := (hh t h).isLt; have := e.isLt; omega⟩) := by
  have hx : xq m c t (ix3 0 s (hcol h e)) = a0 m c (ix3 (bb t) s ⟨t.val % 4 * 128 + (hcol h e).val, by have := (hcol h e).isLt; omega⟩) := by
    rw [a0, ← V_main_arg0 m c]
    blk_point [xq, xk, xgq, xgk, xt, xo, iblk, V, idx t, bb]
  rw [hx, ofNat_val]
  refine congrArg _ (congrArg _ (Fin.ext ?_))
  show t.val % 4 * 128 + (64 * h.val + e.val) = (t.val % 4 * 2 + h.val) * 64 + e.val
  omega

theorem bk (c : Dev nD) (t : Fin cfg0.N) (s : Fin 2048) (h : Fin 2) (e : Fin 64) :
    xk m c t (ix3 0 s (hcol h e)) = a0 m c (ix3 (bb t) (Fin.ofNat 2048 s.val) ⟨512 + ((hh t h).val * 64 + e.val), by have := (hh t h).isLt; have := e.isLt; omega⟩) := by
  have hx : xk m c t (ix3 0 s (hcol h e)) = a0 m c (ix3 (bb t) s ⟨(4 + t.val % 4) * 128 + (hcol h e).val, by have := (hcol h e).isLt; omega⟩) := by
    rw [a0, ← V_main_arg0 m c]
    blk_point [xq, xk, xgq, xgk, xt, xo, iblk, V, idx t, bb]
  rw [hx, ofNat_val]
  refine congrArg _ (congrArg _ (Fin.ext ?_))
  show (4 + t.val % 4) * 128 + (64 * h.val + e.val) = 512 + ((t.val % 4 * 2 + h.val) * 64 + e.val)
  omega

theorem bgq (c : Dev nD) (t : Fin cfg0.N) (d : Fin 64) : xgq m c t (ix2 0 d) = a1 m c (ix2 0 d) := by
  rw [a1, ← V_main_arg1 m c]
  blk_point [xq, xk, xgq, xgk, xt, xo, iblk, V, idx t]

theorem bgk (c : Dev nD) (t : Fin cfg0.N) (d : Fin 64) : xgk m c t (ix2 0 d) = a2 m c (ix2 0 d) := by
  rw [a2, ← V_main_arg2 m c]
  blk_point [xq, xk, xgq, xgk, xt, xo, iblk, V, idx t]

theorem bt (c : Dev nD) (t : Fin cfg0.N) (h : Fin 2) (s : Fin 2048) :
    xt m c t (ix4 0 h s 0) = TOT (a0 m c) (a1 m c) (a2 m c) (ix4 (bb t) (hh t h) s 0) := by
  rw [← V_tot m c]
  blk_point [xq, xk, xgq, xgk, xt, xo, iblk, V, idx t, bb, hh]

theorem bo (c : Dev nD) (t : Fin cfg0.N) (s : Fin 2048) (x : Fin 128) :
    xo m c t (ix3 0 s x) = a3 m c (ix3 (bb t) s ⟨t.val % 4 * 128 + x.val, by have := x.isLt; omega⟩) := by
  rw [a3, ← V_main_arg3 m c]
  blk_point [xq, xk, xgq, xgk, xt, xo, iblk, V, idx t, bb]

/-! ## What a grid point leaves -/

section Point
variable (c : Dev nD) (t : Fin cfg0.N) (hq : ∀ d : Fin 64, a1 m c (ix2 0 d) = (((a1 m c (ix2 0 d)).toReal : ℝ) : EReal)) (hk : ∀ d : Fin 64, a2 m c (ix2 0 d) = (((a2 m c (ix2 0 d)).toReal : ℝ) : EReal))
include hq hk

theorem hypQ (h : Fin 2) (s : Fin 2048) (d : Fin 64) :
    nrm (fun e => xq m c t (ix3 0 s (hcol h e))) d * (xgq m c t (ix2 0 d) * ((0.125 : ℝ) : EReal)) = ((QN (a0 m c) (a1 m c) (bb t) (hh t h) s.val d : ℝ) : EReal) := by
  rw [bgq, funext (bq m c t s h), nrm_eq, QN, EReal.coe_mul, EReal.coe_mul, ← hq d]

theorem hypK (h : Fin 2) (s : Fin 2048) (d : Fin 64) :
    nrm (fun e => xk m c t (ix3 0 s (hcol h e))) d * xgk m c t (ix2 0 d) = ((KN (a0 m c) (a2 m c) (bb t) (hh t h) s.val d : ℝ) : EReal) := by
  rw [bgk, funext (bk m c t s h), nrm_eq, KN, EReal.coe_mul, ← hk d]

theorem hypT (h : Fin 2) (s : Fin 2048) :
    xt m c t (ix4 0 h s 0) = ((pz (ZZ (a0 m c) (a1 m c) (a2 m c) (bb t) (hh t h) s.val) s.val 2048 : ℝ) : EReal) :=
  (bt m c t h s).trans (tot_at _ _ _ hq hk _ _ _)

/-- The block's rows, as entries of the gradient. -/
theorem dv_block (s : Fin 2048) (x : Fin 128) :
    (∑ r ∈ Finset.range 2048, xo m c t (ix3 0 (Fin.ofNat 2048 r) x) * ((att (zr (QN (a0 m c) (a1 m c) (bb t) (hh t (hd x))) (KN (a0 m c) (a2 m c) (bb t) (hh t (hd x))) r) (pz (ZZ (a0 m c) (a1 m c) (a2 m c) (bb t) (hh t (hd x)) r) r 2048) r s.val : ℝ) : EReal))
      = DVV (a0 m c) (a1 m c) (a2 m c) (a3 m c) (bb t) s (hh t (hd x)) ⟨x.val % 64, Nat.mod_lt _ (by decide)⟩ := by
  rw [DVV]
  refine Finset.sum_congr rfl fun r _ => ?_
  rw [bo]
  refine congrArg (· * _) (congrArg _ (congrArg _ (Fin.ext ?_)))
  show t.val % 4 * 128 + x.val = (t.val % 4 * 2 + x.val / 64) * 64 + x.val % 64
  omega

/-- What the body leaves of the gradient of the values at a grid point. -/
theorem out_at (s : Fin 2048) (x : Fin 128) :
    (outsAt m c t.val t.isLt).2.2.1 (ix3 0 s x) = DVV (a0 m c) (a1 m c) (a2 m c) (a3 m c) (bb t) s (hh t (hd x)) ⟨x.val % 64, Nat.mod_lt _ (by decide)⟩ := by
  by_cases h0 : t.val = 0
  · rw [outsAt_A m c t h0]
    refine (congrFun (leftA11 m c t ((firstPoint_iff t).mpr h0) (ms9 t).view.junk scr0.view.junk scr1.view.junk scr2.view.junk scr3.view.junk scr4.view.junk scr5.view.junk scr6.view.junk).symm _).trans ?_
    refine (dvA c _ _ _ _ _ _ _ _ _ _ _ _ _ _ _ _ _ _ _ _ _ _ _ _ _ _ _ _ _ _ _ _ _ _ _ _ _ _ _ _ _ _ _ _ _ _ _ (fun h => QN (a0 m c) (a1 m c) (bb t) (hh t h)) (fun h => KN (a0 m c) (a2 m c) (bb t) (hh t h)) (fun h r => pz (ZZ (a0 m c) (a1 m c) (a2 m c) (bb t) (hh t h) r) r 2048) (hypQ m c t hq hk) (hypK m c t hq hk) (hypT m c t hq hk) _ _ _ _ _ _ _ _ s x).trans ?_
    exact dv_block m c t hq hk s x
  · rw [outsAt_B m c t h0]
    refine (congrFun (leftB11 m c t (fun h => h0 ((firstPoint_iff t).mp h)) _ _ (ms9 t).view.junk scr0.view.junk scr1.view.junk scr2.view.junk scr3.view.junk scr4.view.junk scr5.view.junk scr6.view.junk).symm _).trans ?_
    refine (dvB c _ _ _ _ _ _ _ _ _ _ _ _ _ _ _ _ _ _ _ _ _ _ _ _ _ _ _ _ _ _ _ _ _ _ _ _ _ _ _ _ _ _ _ _ _ _ _ _ _ (fun h => QN (a0 m c) (a1 m c) (bb t) (hh t h)) (fun h => KN (a0 m c) (a2 m c) (bb t) (hh t h)) (fun h r => pz (ZZ (a0 m c) (a1 m c) (a2 m c) (bb t) (hh t h) r) r 2048) (hypQ m c t hq hk) (hypK m c t hq hk) (hypT m c t hq hk) _ _ _ _ _ _ _ _ s x).trans ?_
    exact dv_block m c t hq hk s x

end Point

/-- The whole array after the call. -/
theorem final (c : Dev nD) (hq : ∀ d : Fin 64, a1 m c (ix2 0 d) = (((a1 m c (ix2 0 d)).toReal : ℝ) : EReal)) (hk : ∀ d : Fin 64, a2 m c (ix2 0 d) = (((a2 m c (ix2 0 d)).toReal : ℝ) : EReal)) :
    (dats m 0 c).arrAt 9 cfg0.N = Cert.SbPay.R.REF (a0 m c) (a1 m c) (a2 m c) (a3 m c) := by
  refine (dats m 0 c).arrAt_eq_of_covers 9 _ (by decide +kernel) fun t _ y => ?_
  blk_simp
  rw [after9]
  idx_vars y
  have e0 : y0 = 0 := Subsingleton.elim _ _
  subst e0
  refine (out_at m c t hq hk y1 y2).trans ?_
  refine (Cert.SbPay.R.ref_at _ _ _ _ hq hk _ _ _ _).symm.trans (congrArg _ ?_)
  rw [eq_ix3 (((View.whole main_v47_2).slice (win0_9.rect t)).emb (ix3 0 y1 y2))]
  blk_point [idx t, bb, hh, hd]

end Cert.SbPay.K

end
-- ==== Proof.SbClaim.lean ====
/- The frames of the stick-breaking attention's backward call and of its reference, and the value claim. -/
module

public import proofs.«01_k».proof.Proof.SbFrame
public import proofs.«01_k».proof.Proof.SbValue
public import proofs.«01_k».proof.Proof.Gen.Kernel
public import proofs.«01_k».proof.Proof.Gen.ReferenceIdeal.Run
public import proofs.«01_k».proof.Defs

@[expose] public section

set_option maxRecDepth 16384

noncomputable section

namespace Cert.SbClaim

open Idealize.ShloMosaic Idealize.ShloMosaic.TcCoe Idealize.SL.Sem

/-- The kernel over the extended reals ends, its arguments as they were. -/
theorem frame_kernel_ideal : Cert.quiescent_KernelIdeal := fun m ρ _ => Cert.KernelIdeal.Gen.frame m ρ

/-- The two printed kernels have the same text, so their bodies are the same program … -/
theorem body_same : @Cert.Kernel.cc0_sb_attn_bwd Bits _ Cert.Kernel.Gen.facts
    = @Cert.KernelIdeal.cc0_sb_attn_bwd Bits _ Cert.KernelIdeal.Gen.facts := rfl

set_option maxHeartbeats 20000000 in
/-- … and so are the tables of bodies, -/
theorem bodies_same : @Cert.Kernel.defs₀ Bits _ Cert.Kernel.Gen.facts = @Cert.KernelIdeal.defs₀ Bits _ Cert.KernelIdeal.Gen.facts := by
  unfold Cert.Kernel.defs₀ Cert.KernelIdeal.defs₀
  refine congrArg (Defs.onTc (Λ := Cert.KernelIdeal.Λ₀)) ?_
  funext l x
  match l, x with
  | 0, (t, s) => exact rfl

/-- the calls built over them, -/
theorem calls_same : @Cert.Kernel.defs Bits _ Cert.Kernel.Gen.facts = @Cert.KernelIdeal.defs Bits _ Cert.KernelIdeal.Gen.facts :=
  congrArg (Pipeline.defs Cert.KernelIdeal.pcfgs) bodies_same

set_option maxHeartbeats 20000000 in
/-- and the programs that make the calls. -/
theorem mains_same : @Cert.Kernel.main Bits _ Cert.Kernel.Gen.facts = @Cert.KernelIdeal.main Bits _ Cert.KernelIdeal.Gen.facts := rfl

/-- The kernel on floats, by the same run. -/
theorem frame_kernel : Cert.quiescent_Kernel := fun m ρ _ => by
  rw [calls_same, mains_same]
  exact Cert.KernelIdeal.Gen.frame (F := Bits) m ρ

/-- The reference runs to its end and leaves its arguments as they were. -/
theorem frame_ref : Cert.quiescent_ReferenceIdeal := fun m ρ _ =>
  (θ_run Cert.ReferenceIdeal.defs _ _).mono (fun r h => ⟨fun c => (h c).2, sem_eq_zero_of_no_sems (by decide) r.2⟩) (Cert.ReferenceIdeal.Value.run m ρ)

/-- The same two where the precondition holds. -/
theorem frame_kernel_ideal_pre : Cert.quiescent_KernelIdeal_pre_gains_finite := fun m ρ _ => frame_kernel_ideal m ρ trivial

theorem frame_ref_pre : Cert.quiescent_ReferenceIdeal_pre_gains_finite := fun m ρ _ => frame_ref m ρ trivial

/-- The value claim: with finite gains, kernel and reference end with the same gradient of the values. -/
theorem value : Cert.algebraic_KernelIdeal_ReferenceIdeal_pre_gains_finite := by
  intro m ρ m' ρ' hpre hag
  have hq := fun (c : Dev Cert.KernelIdeal.nD) (d : Fin 64) => (Cert.SbPay.pre_real _ _ _ _ (hpre c) d).1
  have hk := fun (c : Dev Cert.KernelIdeal.nD) (d : Fin 64) => (Cert.SbPay.pre_real _ _ _ _ (hpre c) d).2
  refine ⟨fun c => Cert.SbPay.R.REF (Cert.SbPay.K.a0 m c) (Cert.SbPay.K.a1 m c) (Cert.SbPay.K.a2 m c) (Cert.SbPay.K.a3 m c), ?_, ?_⟩
  · refine (θ_run Cert.KernelIdeal.defs _ _).mono (fun r h c => ⟨(h.1 c).trans (Cert.SbPay.K.final m c (hq c) (hk c)), h.2 c⟩)
      (θ_run_and ((θ_run Cert.KernelIdeal.defs _ _).mono (fun r h c => (h c).1 9) (Cert.KernelIdeal.Gen.run_main m ρ)) (Cert.KernelIdeal.Gen.unchanged m ρ))
  · refine (θ_run Cert.ReferenceIdeal.defs _ _).mono (fun _ h c => ?_) (Cert.ReferenceIdeal.Value.run m' ρ')
    refine ⟨(h c).1.trans ?_, (h c).2⟩
    obtain ⟨h0, h1, h2, h3⟩ := hag c
    show Cert.SbPay.R.REF (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) = _
    rw [h0, h1, h2, h3]

end Cert.SbClaim

end
-- ==== Proof.Hidden.lean ====
/- What `mm_ff2_da` leaves: the gradient of the hidden layer before its squared relu. -/
module

public import proofs.«01_k».proof.Proof.Gen.Kernel2Ideal.Value
public import proofs.«01_k».proof.Proof.Gen.Reference2Ideal.Run
public import Idealize.ShloMosaic.Lib.Pipeline.ValueKit
public import Idealize.ShloMosaic.Lib.Pointwise
public import proofs.«01_k».proof.Defs

@[expose] public section

set_option maxRecDepth 16384

noncomputable section

namespace Cert.Hidden

open Idealize.ShloMosaic Idealize.ShloMosaic.TcCoe Idealize.SL.Sem
open Idealize.ShloMosaic.Pipeline (Dat)

/-- The two words of the constant two denote the real two. -/
theorem two_bf16 : Ideal.ofBits .bf16 0x4000#16 = ((2 : ℝ) : EReal) := by
  simp [Ideal.ofBits, Ideal.ieee, -EReal.coe_mul]; norm_num
theorem two_f32 : Ideal.ofBits .f32 0x40000000#32 = ((2 : ℝ) : EReal) := by
  simp [Ideal.ofBits, Ideal.ieee, -EReal.coe_mul]; norm_num

section Ref
open Cert.Reference2Ideal Cert.Reference2Ideal.Gen

/-- The reference's result as a function of the four arrays it reads. -/
def REF (U : FVec Ideal S4096x4096 .bf16) (W : FVec Ideal S4096x1024 .bf16) (G : FVec Ideal S2x1x1024 .f32)
    (X : FVec Ideal S4096x1024 .f32) : FVec Ideal S4096x4096 .bf16 :=
  truncf .bf16 (shapeCast _ (select (cmpf .ogt (shapeCast _ (extf .f32 U bitsLt_bf16_f32) shapeCasts_S4096x4096_S2x2048x4096) (broadcastInDim S2x2048x4096 ![] bcast_S_S2x2048x4096 (constant S_ .f32 0x00000000#32))) (mulf (Host.dotGeneral dot_S2x2048x1024_S4096x1024_S2x2048x4096_2_1_01_0_n_n none (mulf (broadcastInDim S2x2048x1024 ![0, 1, 2] bcast_S2x1x1024_S2x2048x1024_0_1_2 G) (shapeCast _ X shapeCasts_S4096x1024_S2x2048x1024)) (extf .f32 W bitsLt_bf16_f32)) (mulf (broadcastInDim S2x2048x4096 ![] bcast_S_S2x2048x4096 (constant S_ .f32 0x40000000#32)) (maximumf (shapeCast _ (extf .f32 U bitsLt_bf16_f32) shapeCasts_S4096x4096_S2x2048x4096) (broadcastInDim S2x2048x4096 ![] bcast_S_S2x2048x4096 (constant S_ .f32 0x00000000#32))))) (broadcastInDim S2x2048x4096 ![] bcast_S_S2x2048x4096 (constant S_ .f32 0x00000000#32))) shapeCasts_S2x2048x4096_S4096x4096) bitsLt_bf16_f32

/-- The reference at a row and a column: the gated cotangent against the row of the weight, times twice the relu. -/
theorem ref_at (U : FVec Ideal S4096x4096 .bf16) (W : FVec Ideal S4096x1024 .bf16) (G : FVec Ideal S2x1x1024 .f32)
    (X : FVec Ideal S4096x1024 .f32) (r f : Fin 4096) :
    REF U W G X (ix2 r f) = (∑ k : Fin 1024, X (ix2 r k) * G (ix3 ⟨(r : ℕ) / 2048, by omega⟩ 0 k) * W (ix2 f k))
      * (Ideal.ofBits .f32 0x40000000#32 * max (U (ix2 r f)) 0) := by
  pointwise [REF]
  have hs : (∑ k : Fin 1024, X (ix2 r k) * G (ix3 ⟨(r : ℕ) / 2048, by omega⟩ 0 k) * W (ix2 f k))
      = ∑ k : Fin 1024, G (ix3 ⟨(r : ℕ) / 2048, by omega⟩ 0 k) * X (ix2 r k) * W (ix2 f k) :=
    Finset.sum_congr rfl fun k _ => by rw [mul_comm (X _)]
  rw [hs]
  split
  · rfl
  · rename_i h
    rw [max_eq_right (not_lt.1 h), mul_zero, mul_zero]
end Ref

section Ker
open Cert.Kernel2Ideal Cert.Kernel2Ideal.Gen
variable (m : (ℓ : Loc nD τ sig) → Buf (Elt Ideal) ℓ)

theorem pay2_at (x : FVec Ideal S1024x1024 .f32) (g : FVec Ideal S1x1x1024 .f32) (w : FVec Ideal S1024x1024 .bf16)
    (u : FVec Ideal S1024x1024 .bf16) (a b : Fin 1024) :
    k0_pay3 (F := Ideal) (k0_pay2 (F := Ideal) x g w (k0_pay1 (F := Ideal))) u (ix2 a b)
      = (∑ k : Fin 1024, x (ix2 a k) * g (ix3 0 0 k) * w (ix2 b k)) * (Ideal.ofBits .f32 0x40000000#32 * max (u (ix2 a b)) 0) := by
  pointwise [k0_pay3, k0_pay2, k0_pay1]
  rw [two_bf16, two_f32]

/-- The windows' index maps, decided over the grid. -/
theorem idx : ∀ t : Fin cfg0.N, win0_0.index t = ![t.val / 4, 0] ∧ win0_1.index t = ![t.val % 4, 0]
    ∧ win0_2.index t = ![t.val / 8, 0, 0] ∧ win0_3.index t = ![t.val / 4, t.val % 4]
    ∧ win0_4.index t = ![t.val / 4, t.val % 4] ∧ t.val < 16 :=
  (by decide +kernel : ∀ t : Fin grid0.N, _)

theorem final (c : Dev nD) : (dats m 0 c).arrAt 4 cfg0.N
    = REF (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t _ y => ?_
  blk_simp
  rw [after0_4]
  unfold Gen.outsAt0
  frame_out
  idx_vars y
  refine (pay2_at _ _ _ _ y0 y1).trans ?_
  rw [eq_ix2 (((View.whole main_v0).slice (win0_4.rect t)).emb (ix2 y0 y1))]
  refine Eq.trans ?_ (ref_at _ _ _ _ _ _).symm
  blk_point [iblk, V, idx t]
end Ker

/-- The reference runs to its end and leaves its arguments as they were. -/
theorem frame_ref : Cert.quiescent_Reference2Ideal := fun m ρ _ =>
  (θ_run Cert.Reference2Ideal.defs _ _).mono (fun r h => ⟨fun c => (h c).2, sem_eq_zero_of_no_sems (by decide) r.2⟩) (Cert.Reference2Ideal.Value.run m ρ)

/-- The value claim: kernel and reference end with the same array. -/
theorem value : Cert.algebraic_Kernel2Ideal_Reference2Ideal := by
  intro m ρ m' ρ' _ hag
  refine ⟨fun c => REF (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)), ?_, ?_⟩
  · refine (θ_run Cert.Kernel2Ideal.defs _ _).mono (fun _ h c => ?_) (Cert.Kernel2Ideal.Value.run_blocks m ρ)
    exact ⟨(h c).1.trans (final m c), (h c).2⟩
  · refine (θ_run Cert.Reference2Ideal.defs _ _).mono (fun _ h c => ?_) (Cert.Reference2Ideal.Value.run m' ρ')
    refine ⟨(h c).1.trans ?_, (h c).2⟩
    obtain ⟨h0, h1, h2, h3⟩ := hag c
    rw [h0, h1, h2, h3]
    rfl
end Cert.Hidden
end
-- ==== Proof.HiddenWeight.lean ====
/- What `mm_ff2_dw` leaves: the gradient of the second feed-forward weight. -/
module

public import proofs.«01_k».proof.Proof.Gen.Kernel3Ideal.Value
public import proofs.«01_k».proof.Proof.Gen.Reference3Ideal.Run
public import Idealize.ShloMosaic.Lib.Pipeline.ValueKit
public import Idealize.ShloMosaic.Lib.Pointwise
public import proofs.«01_k».proof.Defs
public import Idealize.ShloMosaic.Lib.Pipeline.ReadBack

@[expose] public section

set_option maxRecDepth 16384

noncomputable section

namespace Cert.HiddenWeight

open Idealize.ShloMosaic Idealize.ShloMosaic.TcCoe Idealize.SL.Sem
open Idealize.ShloMosaic.Pipeline (Dat)

section Ref
open Cert.Reference3Ideal Cert.Reference3Ideal.Gen

/-- The reference's result as a function of the three arrays it reads. -/
def REF (U : FVec Ideal S4096x4096 .bf16) (X : FVec Ideal S4096x1024 .f32) (G : FVec Ideal S2x1x1024 .f32) :
    FVec Ideal S4096x1024 .bf16 :=
  truncf .bf16 (transpose S4096x1024 [1, 0] (Host.dotGeneral dot_S2x2048x1024_S2x2048x4096_S1024x4096_01_01_2_2_n_n none (mulf (broadcastInDim S2x2048x1024 ![0, 1, 2] bcast_S2x1x1024_S2x2048x1024_0_1_2 G) (shapeCast _ X shapeCasts_S4096x1024_S2x2048x1024)) (mulf (maximumf (shapeCast _ (extf .f32 U bitsLt_bf16_f32) shapeCasts_S4096x4096_S2x2048x4096) (broadcastInDim S2x2048x4096 ![] bcast_S_S2x2048x4096 (constant S_ .f32 0x00000000#32))) (maximumf (shapeCast _ (extf .f32 U bitsLt_bf16_f32) shapeCasts_S4096x4096_S2x2048x4096) (broadcastInDim S2x2048x4096 ![] bcast_S_S2x2048x4096 (constant S_ .f32 0x00000000#32))))) transposes_S1024x4096_S4096x1024_1_0) bitsLt_bf16_f32

/-- The reference at an entry: over the rows, the squared relu times the gated cotangent. -/
theorem ref_at (U : FVec Ideal S4096x4096 .bf16) (X : FVec Ideal S4096x1024 .f32) (G : FVec Ideal S2x1x1024 .f32)
    (f : Fin 4096) (d : Fin 1024) :
    REF U X G (ix2 f d) = ∑ r : Fin 4096, max (U (ix2 r f)) 0 * max (U (ix2 r f)) 0
      * (X (ix2 r d) * G (ix3 ⟨(r : ℕ) / 2048, by omega⟩ 0 d)) := by
  pointwise [REF]
  refine Fin.sum_mul_add_congr (fun s k hl => ?_)
  have hs : (⟨((⟨(s : ℕ) * 2048 + k, hl⟩ : Fin 4096) : ℕ) / 2048, by omega⟩ : Fin 2) = s := by
    ext; show ((s : ℕ) * 2048 + k) / 2048 = s; omega
  rw [hs, mul_comm (G _), mul_comm]
end Ref

section Ker
open Cert.Kernel3Ideal Cert.Kernel3Ideal.Gen
variable (m : (ℓ : Loc nD τ sig) → Buf (Elt Ideal) ℓ)

theorem hzero (j : S1024x1024.Idx) : k0_pay1 (F := Ideal) j = 0 := by pointwise [k0_pay1]

/-- One step's product, read at an entry and added to what the steps before left. -/
theorem hpay (u : FVec Ideal S1024x1024 .bf16) (x : FVec Ideal S1024x1024 .f32) (g : FVec Ideal S1x1x1024 .f32)
    (acc : FVec Ideal S1024x1024 .f32) (j : S1024x1024.Idx) :
    k0_pay2 (F := Ideal) u x g acc j = acc j + ∑ k : Fin 1024, max (u (ix2 k (j 0))) 0 * max (u (ix2 k (j 0))) 0
      * (x (ix2 k (j 1)) * g (ix3 0 0 (j 1))) := by
  pointwise [k0_pay2]

theorem hout (v : FVec Ideal S1024x1024 .f32) (j : S1024x1024.Idx) : k0_pay3 (F := Ideal) v j = v j := by
  pointwise [k0_pay3]

/-- The windows' index maps, decided over the grid. -/
theorem idx : ∀ t : Fin cfg0.N, win0_0.index t = ![t.val % 4, t.val / 4] ∧ win0_1.index t = ![t.val % 4, 0]
    ∧ win0_2.index t = ![t.val % 4 / 2, 0, 0] ∧ win0_3.index t = ![t.val / 4, 0] ∧ t.val < 16 :=
  (by decide +kernel : ∀ t : Fin grid0.N, _)

theorem final (c : Dev nD) : (dats m 0 c).arrAt 3 cfg0.N
    = REF (m ((c : Thread nD τ).loc main_arg0)) (m ((c : Thread nD τ).loc main_arg1)) (m ((c : Thread nD τ).loc main_arg2)) := by
  refine (dats m 0 c).arrAt_eq_of_covers 3 _ (by decide +kernel) fun t hf y => ?_
  blk_simp
  have h3 : t.val % 4 = 3 := (flush0_3 t).mp hf
  have h0 : ¬ t.val % 4 = 0 := by omega
  have hlast : (outsAt0 m c t.val t.isLt).1 = (outsAt0 m c t.val t.isLt).2 := by
    rw [outsAt0_C m c t h0 h3]; frame_out
    funext j; exact hout _ j
  rw [after0_3, hlast, Pipeline.eq_sum_fin_of_reset_step_apply_of_flush (fun n h => (outsAt0 m c n h).2) 4 (fun _ => 0) _
    (fun t h j => by rw [outsAt0_A m c t h (by omega)]; frame_out; rw [hpay, hzero])
    (fun t h j => by
      by_cases h' : t.val % 4 = 3
      · rw [outsAt0_C m c t h h']; frame_out; rw [hpay, read_unread_whole]
      · rw [outsAt0_B m c t h h']; frame_out; rw [hpay, read_unread_whole]) t h3 _, zero_add]
  idx_vars y
  rw [eq_ix2 ((win0_3.blk t).view.emb (ix2 y0 y1))]
  refine Eq.trans ?_ (ref_at _ _ _ _ _).symm
  refine Fin.sum_mul_add_congr fun s k hl => ?_
  blk_point [iblk, V, idx t, idx ⟨_, Pipeline.run_point_lt_of_flush t h3 s⟩]
end Ker

/-- The reference runs to its end and leaves its arguments as they were. -/
theorem frame_ref : Cert.quiescent_Reference3Ideal := fun m ρ _ =>
  (θ_run Cert.Reference3Ideal.defs _ _).mono (fun r h => ⟨fun c => (h c).2, sem_eq_zero_of_no_sems (by decide) r.2⟩) (Cert.Reference3Ideal.Value.run m ρ)

/-- The value claim: kernel and reference end with the same array. -/
theorem value : Cert.algebraic_Kernel3Ideal_Reference3Ideal := by
  intro m ρ m' ρ' _ hag
  refine ⟨fun c => REF (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)), ?_, ?_⟩
  · refine (θ_run Cert.Kernel3Ideal.defs _ _).mono (fun _ h c => ?_) (Cert.Kernel3Ideal.Value.run_blocks m ρ)
    exact ⟨(h c).1.trans (final m c), (h c).2⟩
  · refine (θ_run Cert.Reference3Ideal.defs _ _).mono (fun _ h c => ?_) (Cert.Reference3Ideal.Value.run m' ρ')
    refine ⟨(h c).1.trans ?_, (h c).2⟩
    obtain ⟨h0, h1, h2⟩ := hag c
    rw [h0, h1, h2]
    rfl
end Cert.HiddenWeight
end
-- ==== Proof.UpWeight.lean ====
/- What `mm_ff1_dw` leaves: the gradient of the first feed-forward weight. -/
module

public import proofs.«01_k».proof.Proof.Gen.Kernel4Ideal.Value
public import proofs.«01_k».proof.Proof.Gen.Reference4Ideal.Run
public import Idealize.ShloMosaic.Lib.Pipeline.ValueKit
public import Idealize.ShloMosaic.Lib.Pointwise
public import proofs.«01_k».proof.Defs
public import Idealize.ShloMosaic.Lib.Pipeline.ReadBack

@[expose] public section

set_option maxRecDepth 16384

noncomputable section

namespace Cert.UpWeight

open Idealize.ShloMosaic Idealize.ShloMosaic.TcCoe Idealize.SL.Sem
open Idealize.ShloMosaic.Pipeline (Dat)

section Ref
open Cert.Reference4Ideal Cert.Reference4Ideal.Gen

/-- The reference's result as a function of the arrays it reads. -/
def REF (A0 : FVec Ideal S4096x1024 .bf16) (A1 : FVec Ideal S4096x4096 .bf16) : FVec Ideal S1024x4096 .bf16 :=
  truncf .bf16 (transpose S1024x4096 [1, 0] (Host.dotGeneral dot_S4096x4096_S4096x1024_S4096x1024_0_0_1_1_n_n none (extf .f32 A1 bitsLt_bf16_f32) (extf .f32 A0 bitsLt_bf16_f32)) transposes_S4096x1024_S1024x4096_1_0) bitsLt_bf16_f32

/-- The reference at an entry: over the rows, the layer's input times the cotangent. -/
theorem ref_at (A0 : FVec Ideal S4096x1024 .bf16) (A1 : FVec Ideal S4096x4096 .bf16) (a : Fin 1024) (b : Fin 4096) :
    REF A0 A1 (ix2 a b) = ∑ r : Fin 4096, A0 (ix2 r a) * A1 (ix2 r b) := by
  pointwise [REF]
  exact Finset.sum_congr rfl fun k _ => mul_comm _ _
end Ref

section Ker
open Cert.Kernel4Ideal Cert.Kernel4Ideal.Gen
variable (m : (ℓ : Loc nD τ sig) → Buf (Elt Ideal) ℓ)

theorem hzero (j : S1024x1024.Idx) : k0_pay1 (F := Ideal) j = 0 := by pointwise [k0_pay1]

/-- One step's product, read at an entry and added to what the steps before left. -/
theorem hpay (h d : FVec Ideal S1024x1024 .bf16) (acc : FVec Ideal S1024x1024 .f32) (j : S1024x1024.Idx) :
    k0_pay2 (F := Ideal) h d acc j = acc j + ∑ k : Fin 1024, h (ix2 k (j 0)) * d (ix2 k (j 1)) := by
  pointwise [k0_pay2]

theorem hout (v : FVec Ideal S1024x1024 .f32) (j : S1024x1024.Idx) : k0_pay3 (F := Ideal) v j = v j := by
  pointwise [k0_pay3]

/-- The windows' index maps, decided over the grid. -/
theorem idx : ∀ t : Fin cfg0.N, win0_0.index t = ![t.val % 4, 0] ∧ win0_1.index t = ![t.val % 4, t.val / 4] ∧ win0_2.index t = ![0, t.val / 4] ∧ t.val < 16 :=
  (by decide +kernel : ∀ t : Fin grid0.N, _)

theorem final (c : Dev nD) : (dats m 0 c).arrAt 2 cfg0.N = REF (m ((c : Thread nD τ).loc main_arg0)) (m ((c : Thread nD τ).loc main_arg1)) := by
  refine (dats m 0 c).arrAt_eq_of_covers 2 _ (by decide +kernel) fun t hf y => ?_
  blk_simp
  have h3 : t.val % 4 = 3 := (flush0_2 t).mp hf
  have h0 : ¬ t.val % 4 = 0 := by omega
  have hlast : (outsAt0 m c t.val t.isLt).1 = (outsAt0 m c t.val t.isLt).2 := by
    rw [outsAt0_C m c t h0 h3]; frame_out
    funext j; exact hout _ j
  rw [after0_2, hlast, Pipeline.eq_sum_fin_of_reset_step_apply_of_flush (fun n h => (outsAt0 m c n h).2) 4 (fun _ => 0) _
    (fun t h j => by rw [outsAt0_A m c t h (by omega)]; frame_out; rw [hpay, hzero])
    (fun t h j => by
      by_cases h' : t.val % 4 = 3
      · rw [outsAt0_C m c t h h']; frame_out; rw [hpay, read_unread_whole]
      · rw [outsAt0_B m c t h h']; frame_out; rw [hpay, read_unread_whole]) t h3 _, zero_add]
  idx_vars y
  rw [eq_ix2 ((win0_2.blk t).view.emb (ix2 y0 y1))]
  refine Eq.trans ?_ (ref_at _ _ _ _).symm
  refine Fin.sum_mul_add_congr fun s k hl => ?_
  blk_point [iblk, V, idx t, idx ⟨_, Pipeline.run_point_lt_of_flush t h3 s⟩]
end Ker

/-- The reference runs to its end and leaves its arguments as they were. -/
theorem frame_ref : Cert.quiescent_Reference4Ideal := fun m ρ _ =>
  (θ_run Cert.Reference4Ideal.defs _ _).mono (fun r h => ⟨fun c => (h c).2, sem_eq_zero_of_no_sems (by decide) r.2⟩) (Cert.Reference4Ideal.Value.run m ρ)

/-- The value claim: kernel and reference end with the same array. -/
theorem value : Cert.algebraic_Kernel4Ideal_Reference4Ideal := by
  intro m ρ m' ρ' _ hag
  refine ⟨fun c => REF (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)), ?_, ?_⟩
  · refine (θ_run Cert.Kernel4Ideal.defs _ _).mono (fun _ h c => ?_) (Cert.Kernel4Ideal.Value.run_blocks m ρ)
    exact ⟨(h c).1.trans (final m c), (h c).2⟩
  · refine (θ_run Cert.Reference4Ideal.defs _ _).mono (fun _ h c => ?_) (Cert.Reference4Ideal.Value.run m' ρ')
    refine ⟨(h c).1.trans ?_, (h c).2⟩
    all_goals obtain ⟨h0, h1⟩ := hag c
    · show REF (m' ((c.tc : Thread Cert.Reference4Ideal.nD Cert.Reference4Ideal.τ).loc Cert.Reference4Ideal.main_arg0)) (m' ((c.tc : Thread Cert.Reference4Ideal.nD Cert.Reference4Ideal.τ).loc Cert.Reference4Ideal.main_arg1)) = REF (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1))
      rw [h0, h1]
end Cert.UpWeight
end
-- ==== Proof.UpInput.lean ====
/- What `mm_ff1_da` leaves: the gradient of the input of the first feed-forward product. -/
module

public import proofs.«01_k».proof.Proof.Gen.Kernel5Ideal.Value
public import proofs.«01_k».proof.Proof.Gen.Reference5Ideal.Run
public import Idealize.ShloMosaic.Lib.Pipeline.ValueKit
public import Idealize.ShloMosaic.Lib.Pointwise
public import proofs.«01_k».proof.Defs
public import Idealize.ShloMosaic.Lib.Pipeline.ReadBack

@[expose] public section

set_option maxRecDepth 16384

noncomputable section

namespace Cert.UpInput

open Idealize.ShloMosaic Idealize.ShloMosaic.TcCoe Idealize.SL.Sem
open Idealize.ShloMosaic.Pipeline (Dat)

section Ref
open Cert.Reference5Ideal Cert.Reference5Ideal.Gen

/-- The reference's result as a function of the arrays it reads. -/
def REF (A0 : FVec Ideal S4096x4096 .bf16) (A1 : FVec Ideal S1024x4096 .bf16) : FVec Ideal S4096x1024 .f32 :=
  Host.dotGeneral dot_S4096x4096_S1024x4096_S4096x1024_1_1_0_0_n_n none (extf .f32 A0 bitsLt_bf16_f32) (extf .f32 A1 bitsLt_bf16_f32)

/-- The reference at an entry: the cotangent's row against the weight's row. -/
theorem ref_at (A0 : FVec Ideal S4096x4096 .bf16) (A1 : FVec Ideal S1024x4096 .bf16) (a : Fin 4096) (b : Fin 1024) :
    REF A0 A1 (ix2 a b) = ∑ k : Fin 4096, A0 (ix2 a k) * A1 (ix2 b k) := by
  pointwise [REF]
end Ref

section Ker
open Cert.Kernel5Ideal Cert.Kernel5Ideal.Gen
variable (m : (ℓ : Loc nD τ sig) → Buf (Elt Ideal) ℓ)

theorem hzero (j : S1024x1024.Idx) : k0_pay1 (F := Ideal) j = 0 := by pointwise [k0_pay1]

/-- One step's product, read at an entry and added to what the steps before left. -/
theorem hpay (d w : FVec Ideal S1024x1024 .bf16) (acc : FVec Ideal S1024x1024 .f32) (j : S1024x1024.Idx) :
    k0_pay2 (F := Ideal) d w acc j = acc j + ∑ k : Fin 1024, d (ix2 (j 0) k) * w (ix2 (j 1) k) := by
  pointwise [k0_pay2]

/-- The windows' index maps, decided over the grid. -/
theorem idx : ∀ t : Fin cfg0.N, win0_0.index t = ![t.val / 4, t.val % 4] ∧ win0_1.index t = ![0, t.val % 4] ∧ win0_2.index t = ![t.val / 4, 0] ∧ t.val < 16 :=
  (by decide +kernel : ∀ t : Fin grid0.N, _)

theorem final (c : Dev nD) : (dats m 0 c).arrAt 2 cfg0.N = REF (m ((c : Thread nD τ).loc main_arg0)) (m ((c : Thread nD τ).loc main_arg1)) := by
  refine (dats m 0 c).arrAt_eq_of_covers 2 _ (by decide +kernel) fun t hf y => ?_
  blk_simp
  have h3 : t.val % 4 = 3 := (flush0_2 t).mp hf
  have h0 : ¬ t.val % 4 = 0 := by omega
  have hlast : (outsAt0 m c t.val t.isLt).1 = (outsAt0 m c t.val t.isLt).2 := by
    rw [outsAt0_C m c t h0 h3]; frame_out
    try rfl
  rw [after0_2, hlast, Pipeline.eq_sum_fin_of_reset_step_apply_of_flush (fun n h => (outsAt0 m c n h).2) 4 (fun _ => 0) _
    (fun t h j => by rw [outsAt0_A m c t h (by omega)]; frame_out; rw [hpay, hzero])
    (fun t h j => by
      by_cases h' : t.val % 4 = 3
      · rw [outsAt0_C m c t h h']; frame_out; rw [hpay, read_unread_whole]
      · rw [outsAt0_B m c t h h']; frame_out; rw [hpay, read_unread_whole]) t h3 _, zero_add]
  idx_vars y
  rw [eq_ix2 ((win0_2.blk t).view.emb (ix2 y0 y1))]
  refine Eq.trans ?_ (ref_at _ _ _ _).symm
  refine Fin.sum_mul_add_congr fun s k hl => ?_
  blk_point [iblk, V, idx t, idx ⟨_, Pipeline.run_point_lt_of_flush t h3 s⟩]
end Ker

/-- The reference runs to its end and leaves its arguments as they were. -/
theorem frame_ref : Cert.quiescent_Reference5Ideal := fun m ρ _ =>
  (θ_run Cert.Reference5Ideal.defs _ _).mono (fun r h => ⟨fun c => (h c).2, sem_eq_zero_of_no_sems (by decide) r.2⟩) (Cert.Reference5Ideal.Value.run m ρ)

/-- The value claim: kernel and reference end with the same array. -/
theorem value : Cert.algebraic_Kernel5Ideal_Reference5Ideal := by
  intro m ρ m' ρ' _ hag
  refine ⟨fun c => REF (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)), ?_, ?_⟩
  · refine (θ_run Cert.Kernel5Ideal.defs _ _).mono (fun _ h c => ?_) (Cert.Kernel5Ideal.Value.run_blocks m ρ)
    exact ⟨(h c).1.trans (final m c), (h c).2⟩
  · refine (θ_run Cert.Reference5Ideal.defs _ _).mono (fun _ h c => ?_) (Cert.Reference5Ideal.Value.run m' ρ')
    refine ⟨(h c).1.trans ?_, (h c).2⟩
    all_goals obtain ⟨h0, h1⟩ := hag c
    · show REF (m' ((c.tc : Thread Cert.Reference5Ideal.nD Cert.Reference5Ideal.τ).loc Cert.Reference5Ideal.main_arg0)) (m' ((c.tc : Thread Cert.Reference5Ideal.nD Cert.Reference5Ideal.τ).loc Cert.Reference5Ideal.main_arg1)) = REF (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1))
      rw [h0, h1]
end Cert.UpInput
end
-- ==== Proof.OutInput.lean ====
/- What `mm_out_da` leaves: the gradient of the mixer's output before its product. -/
module

public import proofs.«01_k».proof.Proof.Gen.Kernel6Ideal.Value
public import proofs.«01_k».proof.Proof.Gen.Reference6Ideal.Run
public import Idealize.ShloMosaic.Lib.Pipeline.ValueKit
public import Idealize.ShloMosaic.Lib.Pointwise
public import proofs.«01_k».proof.Defs
public import Idealize.ShloMosaic.Lib.Pipeline.ReadBack

@[expose] public section

set_option maxRecDepth 16384

noncomputable section

namespace Cert.OutInput

open Idealize.ShloMosaic Idealize.ShloMosaic.TcCoe Idealize.SL.Sem
open Idealize.ShloMosaic.Pipeline (Dat)

section Ref
open Cert.Reference6Ideal Cert.Reference6Ideal.Gen

/-- The reference's result as a function of the arrays it reads. -/
def REF (A0 : FVec Ideal S1024x1024 .bf16) (A1 : FVec Ideal S2x1x1024 .f32) (A2 : FVec Ideal S4096x1024 .f32) : FVec Ideal S4096x1024 .f32 :=
  shapeCast _ (Host.dotGeneral dot_S2x2048x1024_S1024x1024_S2x2048x1024_2_1_01_0_n_n none (mulf (broadcastInDim S2x2048x1024 ![0, 1, 2] bcast_S2x1x1024_S2x2048x1024_0_1_2 A1) (shapeCast _ A2 shapeCasts_S4096x1024_S2x2048x1024)) (extf .f32 A0 bitsLt_bf16_f32)) shapeCasts_S2x2048x1024_S4096x1024

/-- The reference at an entry: the gated cotangent's row against the weight's row. -/
theorem ref_at (A0 : FVec Ideal S1024x1024 .bf16) (A1 : FVec Ideal S2x1x1024 .f32) (A2 : FVec Ideal S4096x1024 .f32) (r : Fin 4096) (d : Fin 1024) :
    REF A0 A1 A2 (ix2 r d) = ∑ k : Fin 1024, A2 (ix2 r k) * A1 (ix3 ⟨(r : ℕ) / 2048, by omega⟩ 0 k) * A0 (ix2 d k) := by
  pointwise [REF]
  exact Finset.sum_congr rfl fun k _ => by rw [mul_comm (A1 _)]
end Ref

section Ker
open Cert.Kernel6Ideal Cert.Kernel6Ideal.Gen
variable (m : (ℓ : Loc nD τ sig) → Buf (Elt Ideal) ℓ)

theorem pay_at (x : FVec Ideal S1024x1024 .f32) (g : FVec Ideal S1x1x1024 .f32) (w : FVec Ideal S1024x1024 .bf16) (a b : Fin 1024) :
    k0_pay2 (F := Ideal) x g w (k0_pay1 (F := Ideal)) (ix2 a b) = ∑ k : Fin 1024, x (ix2 a k) * g (ix3 0 0 k) * w (ix2 b k) := by
  pointwise [k0_pay2, k0_pay1]

/-- The windows' index maps, decided over the grid. -/
theorem idx : ∀ t : Fin cfg0.N, win0_0.index t = ![t.val, 0] ∧ win0_1.index t = ![0, 0] ∧ win0_2.index t = ![t.val / 2, 0, 0] ∧ win0_3.index t = ![t.val, 0] ∧ t.val < 4 :=
  (by decide +kernel : ∀ t : Fin grid0.N, _)

theorem final (c : Dev nD) : (dats m 0 c).arrAt 3 cfg0.N = REF (m ((c : Thread nD τ).loc main_arg0)) (m ((c : Thread nD τ).loc main_arg1)) (m ((c : Thread nD τ).loc main_arg2)) := by
  refine (dats m 0 c).arrAt_eq_of_covers 3 _ (by decide +kernel) fun t _ y => ?_
  blk_simp
  rw [after0_3]
  unfold Gen.outsAt0
  frame_out
  idx_vars y
  refine (pay_at _ _ _ y0 y1).trans ?_
  rw [eq_ix2 (((View.whole main_v0).slice (win0_3.rect t)).emb (ix2 y0 y1))]
  refine Eq.trans ?_ (ref_at _ _ _ _ _).symm
  blk_point [iblk, V, idx t]

end Ker

/-- The reference runs to its end and leaves its arguments as they were. -/
theorem frame_ref : Cert.quiescent_Reference6Ideal := fun m ρ _ =>
  (θ_run Cert.Reference6Ideal.defs _ _).mono (fun r h => ⟨fun c => (h c).2, sem_eq_zero_of_no_sems (by decide) r.2⟩) (Cert.Reference6Ideal.Value.run m ρ)

/-- The value claim: kernel and reference end with the same array. -/
theorem value : Cert.algebraic_Kernel6Ideal_Reference6Ideal := by
  intro m ρ m' ρ' _ hag
  refine ⟨fun c => REF (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)), ?_, ?_⟩
  · refine (θ_run Cert.Kernel6Ideal.defs _ _).mono (fun _ h c => ?_) (Cert.Kernel6Ideal.Value.run_blocks m ρ)
    exact ⟨(h c).1.trans (final m c), (h c).2⟩
  · refine (θ_run Cert.Reference6Ideal.defs _ _).mono (fun _ h c => ?_) (Cert.Reference6Ideal.Value.run m' ρ')
    refine ⟨(h c).1.trans ?_, (h c).2⟩
    all_goals obtain ⟨h0, h1, h2⟩ := hag c
    · show REF (m' ((c.tc : Thread Cert.Reference6Ideal.nD Cert.Reference6Ideal.τ).loc Cert.Reference6Ideal.main_arg0)) (m' ((c.tc : Thread Cert.Reference6Ideal.nD Cert.Reference6Ideal.τ).loc Cert.Reference6Ideal.main_arg1)) (m' ((c.tc : Thread Cert.Reference6Ideal.nD Cert.Reference6Ideal.τ).loc Cert.Reference6Ideal.main_arg2)) = REF (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2))
      rw [h0, h1, h2]
end Cert.OutInput
end
-- ==== Proof.OutWeight.lean ====
/- What `mm_out_dw` leaves: the gradient of the output weight of the mixer. -/
module

public import proofs.«01_k».proof.Proof.Gen.Kernel7Ideal.Value
public import proofs.«01_k».proof.Proof.Gen.Reference7Ideal.Run
public import Idealize.ShloMosaic.Lib.Pipeline.ValueKit
public import Idealize.ShloMosaic.Lib.Pointwise
public import proofs.«01_k».proof.Defs
public import Idealize.ShloMosaic.Lib.Pipeline.ReadBack

@[expose] public section

set_option maxRecDepth 16384

noncomputable section

namespace Cert.OutWeight

open Idealize.ShloMosaic Idealize.ShloMosaic.TcCoe Idealize.SL.Sem
open Idealize.ShloMosaic.Pipeline (Dat)

section Ref
open Cert.Reference7Ideal Cert.Reference7Ideal.Gen

/-- The reference's result as a function of the arrays it reads. -/
def REF (A0 : FVec Ideal S4096x1024 .bf16) (A1 : FVec Ideal S2x1x1024 .f32) (A2 : FVec Ideal S4096x1024 .f32) : FVec Ideal S1024x1024 .bf16 :=
  truncf .bf16 (transpose S1024x1024 [1, 0] (Host.dotGeneral dot_S2x2048x1024_S2x2048x1024_S1024x1024_01_01_2_2_n_n none (mulf (broadcastInDim S2x2048x1024 ![0, 1, 2] bcast_S2x1x1024_S2x2048x1024_0_1_2 A1) (shapeCast _ A2 shapeCasts_S4096x1024_S2x2048x1024)) (shapeCast _ (extf .f32 A0 bitsLt_bf16_f32) shapeCasts_S4096x1024_S2x2048x1024)) transposes_S1024x1024_S1024x1024_1_0) bitsLt_bf16_f32

/-- The reference at an entry: over the rows, the mixer's output times the gated cotangent. -/
theorem ref_at (A0 : FVec Ideal S4096x1024 .bf16) (A1 : FVec Ideal S2x1x1024 .f32) (A2 : FVec Ideal S4096x1024 .f32) (a : Fin 1024) (b : Fin 1024) :
    REF A0 A1 A2 (ix2 a b) = ∑ r : Fin 4096, A0 (ix2 r a) * (A2 (ix2 r b) * A1 (ix3 ⟨(r : ℕ) / 2048, by omega⟩ 0 b)) := by
  pointwise [REF]
  refine Fin.sum_mul_add_congr (fun s k hl => ?_)
  have hs : (⟨((⟨(s : ℕ) * 2048 + k, hl⟩ : Fin 4096) : ℕ) / 2048, by omega⟩ : Fin 2) = s := by
    ext; show ((s : ℕ) * 2048 + k) / 2048 = s; omega
  rw [hs, mul_comm (A1 _), mul_comm]
end Ref

section Ker
open Cert.Kernel7Ideal Cert.Kernel7Ideal.Gen
variable (m : (ℓ : Loc nD τ sig) → Buf (Elt Ideal) ℓ)

theorem hzero (j : S1024x1024.Idx) : k0_pay1 (F := Ideal) j = 0 := by pointwise [k0_pay1]

/-- One step's product, read at an entry and added to what the steps before left. -/
theorem hpay (u : FVec Ideal S1024x1024 .bf16) (x : FVec Ideal S1024x1024 .f32) (g : FVec Ideal S1x1x1024 .f32)
    (acc : FVec Ideal S1024x1024 .f32) (j : S1024x1024.Idx) :
    k0_pay2 (F := Ideal) u x g acc j = acc j + ∑ k : Fin 1024, u (ix2 k (j 0)) * (x (ix2 k (j 1)) * g (ix3 0 0 (j 1))) := by
  pointwise [k0_pay2]

theorem hout (v : FVec Ideal S1024x1024 .f32) (j : S1024x1024.Idx) : k0_pay3 (F := Ideal) v j = v j := by
  pointwise [k0_pay3]

/-- The windows' index maps, decided over the grid. -/
theorem idx : ∀ t : Fin cfg0.N, win0_0.index t = ![t.val, 0] ∧ win0_1.index t = ![t.val, 0] ∧ win0_2.index t = ![t.val / 2, 0, 0] ∧ win0_3.index t = ![0, 0] ∧ t.val < 4 :=
  (by decide +kernel : ∀ t : Fin grid0.N, _)

theorem final (c : Dev nD) : (dats m 0 c).arrAt 3 cfg0.N = REF (m ((c : Thread nD τ).loc main_arg0)) (m ((c : Thread nD τ).loc main_arg1)) (m ((c : Thread nD τ).loc main_arg2)) := by
  refine (dats m 0 c).arrAt_eq_of_covers 3 _ (by decide +kernel) fun t hf y => ?_
  blk_simp
  have h3 : t.val % 4 = 3 := (flush0_3 t).mp hf
  have h0 : ¬ t.val % 4 = 0 := by omega
  have hlast : (outsAt0 m c t.val t.isLt).1 = (outsAt0 m c t.val t.isLt).2 := by
    rw [outsAt0_C m c t h0 h3]; frame_out
    funext j; exact hout _ j
  rw [after0_3, hlast, Pipeline.eq_sum_fin_of_reset_step_apply_of_flush (fun n h => (outsAt0 m c n h).2) 4 (fun _ => 0) _
    (fun t h j => by rw [outsAt0_A m c t h (by omega)]; frame_out; rw [hpay, hzero])
    (fun t h j => by
      by_cases h' : t.val % 4 = 3
      · rw [outsAt0_C m c t h h']; frame_out; rw [hpay, read_unread_whole]
      · rw [outsAt0_B m c t h h']; frame_out; rw [hpay, read_unread_whole]) t h3 _, zero_add]
  idx_vars y
  rw [eq_ix2 ((win0_3.blk t).view.emb (ix2 y0 y1))]
  refine Eq.trans ?_ (ref_at _ _ _ _ _).symm
  refine Fin.sum_mul_add_congr fun s k hl => ?_
  blk_point [iblk, V, idx t, idx ⟨_, Pipeline.run_point_lt_of_flush t h3 s⟩]
end Ker

/-- The reference runs to its end and leaves its arguments as they were. -/
theorem frame_ref : Cert.quiescent_Reference7Ideal := fun m ρ _ =>
  (θ_run Cert.Reference7Ideal.defs _ _).mono (fun r h => ⟨fun c => (h c).2, sem_eq_zero_of_no_sems (by decide) r.2⟩) (Cert.Reference7Ideal.Value.run m ρ)

/-- The value claim: kernel and reference end with the same array. -/
theorem value : Cert.algebraic_Kernel7Ideal_Reference7Ideal := by
  intro m ρ m' ρ' _ hag
  refine ⟨fun c => REF (m ((c.tc : Thread Cert.Kernel7Ideal.nD Cert.Kernel7Ideal.τ).loc Cert.Kernel7Ideal.main_arg0)) (m ((c.tc : Thread Cert.Kernel7Ideal.nD Cert.Kernel7Ideal.τ).loc Cert.Kernel7Ideal.main_arg1)) (m ((c.tc : Thread Cert.Kernel7Ideal.nD Cert.Kernel7Ideal.τ).loc Cert.Kernel7Ideal.main_arg2)), ?_, ?_⟩
  · refine (θ_run Cert.Kernel7Ideal.defs _ _).mono (fun _ h c => ?_) (Cert.Kernel7Ideal.Value.run_blocks m ρ)
    exact ⟨(h c).1.trans (final m c), (h c).2⟩
  · refine (θ_run Cert.Reference7Ideal.defs _ _).mono (fun _ h c => ?_) (Cert.Reference7Ideal.Value.run m' ρ')
    refine ⟨(h c).1.trans ?_, (h c).2⟩
    all_goals obtain ⟨h0, h1, h2⟩ := hag c
    · show REF (m' ((c.tc : Thread Cert.Reference7Ideal.nD Cert.Reference7Ideal.τ).loc Cert.Reference7Ideal.main_arg0)) (m' ((c.tc : Thread Cert.Reference7Ideal.nD Cert.Reference7Ideal.τ).loc Cert.Reference7Ideal.main_arg1)) (m' ((c.tc : Thread Cert.Reference7Ideal.nD Cert.Reference7Ideal.τ).loc Cert.Reference7Ideal.main_arg2)) = REF (m ((c.tc : Thread Cert.Kernel7Ideal.nD Cert.Kernel7Ideal.τ).loc Cert.Kernel7Ideal.main_arg0)) (m ((c.tc : Thread Cert.Kernel7Ideal.nD Cert.Kernel7Ideal.τ).loc Cert.Kernel7Ideal.main_arg1)) (m ((c.tc : Thread Cert.Kernel7Ideal.nD Cert.Kernel7Ideal.τ).loc Cert.Kernel7Ideal.main_arg2))
      rw [h0, h1, h2]
end Cert.OutWeight
end
-- ==== Proof.ProjWeight.lean ====
/- What `mm_proj_dw` leaves: the gradient of the combined projection's weight. -/
module

public import proofs.«01_k».proof.Proof.Gen.Kernel8Ideal.Value
public import proofs.«01_k».proof.Proof.Gen.Reference8Ideal.Run
public import Idealize.ShloMosaic.Lib.Pipeline.ValueKit
public import Idealize.ShloMosaic.Lib.Pointwise
public import proofs.«01_k».proof.Defs
public import Idealize.ShloMosaic.Lib.Pipeline.ReadBack

@[expose] public section

set_option maxRecDepth 16384

noncomputable section

namespace Cert.ProjWeight

open Idealize.ShloMosaic Idealize.ShloMosaic.TcCoe Idealize.SL.Sem
open Idealize.ShloMosaic.Pipeline (Dat)

section Ref
open Cert.Reference8Ideal Cert.Reference8Ideal.Gen

/-- The reference's result as a function of the arrays it reads. -/
def REF (A0 : FVec Ideal S4096x1024 .bf16) (A1 : FVec Ideal S4096x512 .f32) (A2 : FVec Ideal S4096x512 .f32) (A3 : FVec Ideal S4096x512 .f32) (A4 : FVec Ideal S4096x1536 .f32) (A5 : FVec Ideal S4096x512 .f32) (A6 : FVec Ideal S4096x128 .f32) : FVec Ideal S1024x3712 .bf16 :=
  truncf .bf16 (transpose S1024x3712 [1, 0] (Host.dotGeneral dot_S4096x3712_S4096x1024_S3712x1024_0_0_1_1_n_n none ((concatenate S4096x3712 1 [⟨S4096x512, A1⟩, ⟨S4096x512, A2⟩, ⟨S4096x512, A3⟩, ⟨S4096x1536, A4⟩, ⟨S4096x512, A5⟩, ⟨S4096x128, A6⟩] concatenates_S4096x512_S4096x512_S4096x512_S4096x1536_S4096x512_S4096x128_S4096x3712_d1 : FVec Ideal S4096x3712 .f32)) (extf .f32 A0 bitsLt_bf16_f32)) transposes_S3712x1024_S1024x3712_1_0) bitsLt_bf16_f32

/-- The six pieces of the cotangent side by side, at a row and a column. -/
def piece (A1 : FVec Ideal S4096x512 .f32) (A2 : FVec Ideal S4096x512 .f32) (A3 : FVec Ideal S4096x512 .f32) (A4 : FVec Ideal S4096x1536 .f32) (A5 : FVec Ideal S4096x512 .f32) (A6 : FVec Ideal S4096x128 .f32) (r : Fin 4096) (n : Fin 3712) : EReal :=
  if h0 : (n : ℕ) < 512 then A1 (ix2 r ⟨(n : ℕ), by omega⟩) else if h1 : (n : ℕ) - 512 < 512 then A2 (ix2 r ⟨(n : ℕ) - 512, by omega⟩) else if h2 : (n : ℕ) - 512 - 512 < 512 then A3 (ix2 r ⟨(n : ℕ) - 512 - 512, by omega⟩) else if h3 : (n : ℕ) - 512 - 512 - 512 < 1536 then A4 (ix2 r ⟨(n : ℕ) - 512 - 512 - 512, by omega⟩) else if h4 : (n : ℕ) - 512 - 512 - 512 - 1536 < 512 then A5 (ix2 r ⟨(n : ℕ) - 512 - 512 - 512 - 1536, by omega⟩) else A6 (ix2 r ⟨(n : ℕ) - 512 - 512 - 512 - 1536 - 512, by omega⟩)

/-- The reference at an entry: over the rows, the layer's input times the cotangent. -/
theorem ref_at (A0 : FVec Ideal S4096x1024 .bf16) (A1 : FVec Ideal S4096x512 .f32) (A2 : FVec Ideal S4096x512 .f32) (A3 : FVec Ideal S4096x512 .f32) (A4 : FVec Ideal S4096x1536 .f32) (A5 : FVec Ideal S4096x512 .f32) (A6 : FVec Ideal S4096x128 .f32) (a : Fin 1024) (n : Fin 3712) :
    REF A0 A1 A2 A3 A4 A5 A6 (ix2 a n) = ∑ r : Fin 4096, A0 (ix2 r a) * piece A1 A2 A3 A4 A5 A6 r n := by
  unfold piece
  pointwise [REF]
  exact Finset.sum_congr rfl fun k _ => mul_comm _ _
end Ref

section Ker
open Cert.Kernel8Ideal Cert.Kernel8Ideal.Gen
variable (m : (ℓ : Loc nD τ sig) → Buf (Elt Ideal) ℓ)

theorem hzero (j : S512x3712.Idx) : k0_pay5 (F := Ideal) j = 0 := by pointwise [k0_pay5]

theorem hout (v : FVec Ideal S512x3712 .f32) (j : S512x3712.Idx) : k0_pay4 (F := Ideal) v j = v j := by
  pointwise [k0_pay4]

/-- The windows' index maps, decided over the grid. -/
theorem idx : ∀ t : Fin cfg0.N, win0_0.index t = ![t.val % 8, t.val / 8] ∧ win0_1.index t = ![t.val % 8, 0] ∧ win0_2.index t = ![t.val % 8, 0] ∧ win0_3.index t = ![t.val % 8, 0] ∧ win0_4.index t = ![t.val % 8, 0] ∧ win0_5.index t = ![t.val % 8, 0] ∧ win0_6.index t = ![t.val % 8, 0] ∧ win0_7.index t = ![t.val / 8, 0] ∧ t.val < 16 :=
  (by decide +kernel : ∀ t : Fin grid0.N, _)

/-- The six blocks of a step side by side, at a row and a column. -/
def blk (p1 : FVec Ideal S512x512 .f32) (p2 : FVec Ideal S512x512 .f32) (p3 : FVec Ideal S512x512 .f32) (p4 : FVec Ideal S512x1536 .f32) (p5 : FVec Ideal S512x512 .f32) (p6 : FVec Ideal S512x128 .f32) (k : Fin 512) (n : Fin 3712) : EReal :=
  if h0 : (n : ℕ) < 512 then p1 (ix2 k ⟨(n : ℕ), by omega⟩) else if h1 : (n : ℕ) - 512 < 512 then p2 (ix2 k ⟨(n : ℕ) - 512, by omega⟩) else if h2 : (n : ℕ) - 512 - 512 < 512 then p3 (ix2 k ⟨(n : ℕ) - 512 - 512, by omega⟩) else if h3 : (n : ℕ) - 512 - 512 - 512 < 1536 then p4 (ix2 k ⟨(n : ℕ) - 512 - 512 - 512, by omega⟩) else if h4 : (n : ℕ) - 512 - 512 - 512 - 1536 < 512 then p5 (ix2 k ⟨(n : ℕ) - 512 - 512 - 512 - 1536, by omega⟩) else p6 (ix2 k ⟨(n : ℕ) - 512 - 512 - 512 - 1536 - 512, by omega⟩)

theorem pay1_at (h : FVec Ideal S512x512 .bf16) (acc p : FVec Ideal S512x1536 .f32) (a : Fin 512) (b : Fin 1536) :
    k0_pay1 (F := Ideal) h acc p (ix2 a b) = acc (ix2 a b) + ∑ k : Fin 512, h (ix2 k a) * p (ix2 k b) := by
  pointwise [k0_pay1]

theorem pay2_at (h : FVec Ideal S512x512 .bf16) (acc p : FVec Ideal S512x512 .f32) (a : Fin 512) (b : Fin 512) :
    k0_pay2 (F := Ideal) h acc p (ix2 a b) = acc (ix2 a b) + ∑ k : Fin 512, h (ix2 k a) * p (ix2 k b) := by
  pointwise [k0_pay2]

theorem pay3_at (h : FVec Ideal S512x512 .bf16) (acc p : FVec Ideal S512x128 .f32) (a : Fin 512) (b : Fin 128) :
    k0_pay3 (F := Ideal) h acc p (ix2 a b) = acc (ix2 a b) + ∑ k : Fin 512, h (ix2 k a) * p (ix2 k b) := by
  pointwise [k0_pay3]

theorem pay6_at (h : FVec Ideal S512x512 .bf16) (acc p : FVec Ideal S512x512 .f32) (a : Fin 512) (b : Fin 512) :
    k0_pay6 (F := Ideal) h acc p (ix2 a b) = acc (ix2 a b) + ∑ k : Fin 512, h (ix2 k a) * p (ix2 k b) := by
  pointwise [k0_pay6]

theorem pay7_at (h : FVec Ideal S512x512 .bf16) (acc p : FVec Ideal S512x512 .f32) (a : Fin 512) (b : Fin 512) :
    k0_pay7 (F := Ideal) h acc p (ix2 a b) = acc (ix2 a b) + ∑ k : Fin 512, h (ix2 k a) * p (ix2 k b) := by
  pointwise [k0_pay7]

theorem pay8_at (h : FVec Ideal S512x512 .bf16) (acc p : FVec Ideal S512x512 .f32) (a : Fin 512) (b : Fin 512) :
    k0_pay8 (F := Ideal) h acc p (ix2 a b) = acc (ix2 a b) + ∑ k : Fin 512, h (ix2 k a) * p (ix2 k b) := by
  pointwise [k0_pay8]

/-- What a step adds at an entry: the rows of its block of activations against the six blocks. -/
def step (h : FVec Ideal S512x512 .bf16) (p1 : FVec Ideal S512x512 .f32) (p2 : FVec Ideal S512x512 .f32) (p3 : FVec Ideal S512x512 .f32) (p4 : FVec Ideal S512x1536 .f32) (p5 : FVec Ideal S512x512 .f32) (p6 : FVec Ideal S512x128 .f32) (a : Fin 512) (n : Fin 3712) : EReal :=
  ∑ k : Fin 512, h (ix2 k a) * blk p1 p2 p3 p4 p5 p6 k n

/-- A buffer's entry is read from the last stores alone where these cover it. -/
theorem canon_take {s : Shape} {e : EltTy} (n : ℕ) : ∀ (L : List (View.Piece (Elt Ideal) s e)) (y : s.Idx),
    (∃ p ∈ L.take n, y ∈ p.1.set) → View.canon L y = View.canon (L.take n) y := by
  induction n with
  | zero => intro L y h; obtain ⟨p, hp, _⟩ := h; simp at hp
  | succ n ih =>
    intro L y h
    cases L with
    | nil => rfl
    | cons p L =>
      rw [List.take_succ_cons]
      by_cases hm : y ∈ p.1.set
      · obtain ⟨x, rfl⟩ := p.1.exists_idx_of_mem hm
        exact (View.canon_cons_emb p.1 p.2 L x).trans (View.canon_cons_emb p.1 p.2 (L.take n) x).symm
      · rw [View.canon_cons_of_not_mem _ _ hm, View.canon_cons_of_not_mem _ _ hm]
        obtain ⟨q, hq, hy⟩ := h
        rw [List.take_succ_cons, List.mem_cons] at hq
        rcases hq with rfl | hq
        · exact absurd hy hm
        · exact ih L y ⟨q, hq, hy⟩

theorem blk1 (p1 : FVec Ideal S512x512 .f32) (p2 : FVec Ideal S512x512 .f32) (p3 : FVec Ideal S512x512 .f32) (p4 : FVec Ideal S512x1536 .f32) (p5 : FVec Ideal S512x512 .f32) (p6 : FVec Ideal S512x128 .f32) (k : Fin 512) (b : Fin 512) (h : 0 + b.val < 3712) :
    blk p1 p2 p3 p4 p5 p6 k ⟨0 + b.val, h⟩ = p1 (ix2 k b) := by
  have hb := b.isLt
  unfold blk
  split_ifs <;> first | (exfalso; dsimp only at *; omega) | (congr 2; ext; dsimp only; omega)

theorem blk2 (p1 : FVec Ideal S512x512 .f32) (p2 : FVec Ideal S512x512 .f32) (p3 : FVec Ideal S512x512 .f32) (p4 : FVec Ideal S512x1536 .f32) (p5 : FVec Ideal S512x512 .f32) (p6 : FVec Ideal S512x128 .f32) (k : Fin 512) (b : Fin 512) (h : 512 + b.val < 3712) :
    blk p1 p2 p3 p4 p5 p6 k ⟨512 + b.val, h⟩ = p2 (ix2 k b) := by
  have hb := b.isLt
  unfold blk
  split_ifs <;> first | (exfalso; dsimp only at *; omega) | (congr 2; ext; dsimp only; omega)

theorem blk3 (p1 : FVec Ideal S512x512 .f32) (p2 : FVec Ideal S512x512 .f32) (p3 : FVec Ideal S512x512 .f32) (p4 : FVec Ideal S512x1536 .f32) (p5 : FVec Ideal S512x512 .f32) (p6 : FVec Ideal S512x128 .f32) (k : Fin 512) (b : Fin 512) (h : 1024 + b.val < 3712) :
    blk p1 p2 p3 p4 p5 p6 k ⟨1024 + b.val, h⟩ = p3 (ix2 k b) := by
  have hb := b.isLt
  unfold blk
  split_ifs <;> first | (exfalso; dsimp only at *; omega) | (congr 2; ext; dsimp only; omega)

theorem blk4 (p1 : FVec Ideal S512x512 .f32) (p2 : FVec Ideal S512x512 .f32) (p3 : FVec Ideal S512x512 .f32) (p4 : FVec Ideal S512x1536 .f32) (p5 : FVec Ideal S512x512 .f32) (p6 : FVec Ideal S512x128 .f32) (k : Fin 512) (b : Fin 1536) (h : 1536 + b.val < 3712) :
    blk p1 p2 p3 p4 p5 p6 k ⟨1536 + b.val, h⟩ = p4 (ix2 k b) := by
  have hb := b.isLt
  unfold blk
  split_ifs <;> first | (exfalso; dsimp only at *; omega) | (congr 2; ext; dsimp only; omega)

theorem blk5 (p1 : FVec Ideal S512x512 .f32) (p2 : FVec Ideal S512x512 .f32) (p3 : FVec Ideal S512x512 .f32) (p4 : FVec Ideal S512x1536 .f32) (p5 : FVec Ideal S512x512 .f32) (p6 : FVec Ideal S512x128 .f32) (k : Fin 512) (b : Fin 512) (h : 3072 + b.val < 3712) :
    blk p1 p2 p3 p4 p5 p6 k ⟨3072 + b.val, h⟩ = p5 (ix2 k b) := by
  have hb := b.isLt
  unfold blk
  split_ifs <;> first | (exfalso; dsimp only at *; omega) | (congr 2; ext; dsimp only; omega)

theorem blk6 (p1 : FVec Ideal S512x512 .f32) (p2 : FVec Ideal S512x512 .f32) (p3 : FVec Ideal S512x512 .f32) (p4 : FVec Ideal S512x1536 .f32) (p5 : FVec Ideal S512x512 .f32) (p6 : FVec Ideal S512x128 .f32) (k : Fin 512) (b : Fin 128) (h : 3584 + b.val < 3712) :
    blk p1 p2 p3 p4 p5 p6 k ⟨3584 + b.val, h⟩ = p6 (ix2 k b) := by
  have hb := b.isLt
  unfold blk
  split_ifs <;> first | (exfalso; dsimp only at *; omega) | (congr 2; ext; dsimp only; omega)

theorem stB (c : Dev nD) (t : Fin cfg0.N) (h0 : ¬ t.val % 8 = 0) (j : S512x3712.Idx) :
  (outsAt0 m c t.val t.isLt).2 j = (outsAt0 m c (t.val - 1) (Nat.lt_of_le_of_lt (Nat.sub_le _ _) t.isLt)).2 j
    + step (iblk m c 0 t) (iblk m c 1 t) (iblk m c 2 t) (iblk m c 3 t) (iblk m c 4 t) (iblk m c 5 t) (iblk m c 6 t) (j 0) (j 1) := by
  by_cases h1 : t.val % 8 = 7
  · rw [outsAt0_C m c t h0 h1]; frame_out
    simp only [read_unread_whole]
    clear h0 h1
    canon_tiles x h using (View.cover_of_tiledBy (s := S512x3712) _ ![512, 128] (by sl_kernel_rfl) j)
    · obtain ⟨hb, hj⟩ : ∃ hb : 3584 + (x 1).val < 3712, j = ix2 (x 0) ⟨3584 + (x 1).val, hb⟩ := ⟨by omega, by blk_ext [h0, h1]⟩
      subst hj
      refine ((congrArg (k0_pay3 (F := Ideal) _ _ _) (eq_ix2 x)).trans (pay3_at _ _ _ (x 0) (x 1))).trans ?_
      refine congrArg₂ (· + ·) (congrArg (outsAt0 m c (t.val - 1) (Nat.lt_of_le_of_lt (Nat.sub_le _ _) t.isLt)).2 (by show (Rect.unit (s := S512x3712) _ _ _).emb _ = _; blk_ext [])) (Finset.sum_congr rfl fun k _ => ?_)
      exact congrArg (fun z : EReal => @HMul.hMul EReal EReal EReal _ _ z) (blk6 _ _ _ _ _ _ k (x 1) _).symm
    · obtain ⟨hb, hj⟩ : ∃ hb : 3072 + (x 1).val < 3712, j = ix2 (x 0) ⟨3072 + (x 1).val, hb⟩ := ⟨by omega, by blk_ext [h0, h1]⟩
      subst hj
      refine ((congrArg (k0_pay2 (F := Ideal) _ _ _) (eq_ix2 x)).trans (pay2_at _ _ _ (x 0) (x 1))).trans ?_
      refine congrArg₂ (· + ·) (congrArg (outsAt0 m c (t.val - 1) (Nat.lt_of_le_of_lt (Nat.sub_le _ _) t.isLt)).2 (by show (Rect.unit (s := S512x3712) _ _ _).emb _ = _; blk_ext [])) (Finset.sum_congr rfl fun k _ => ?_)
      exact congrArg (fun z : EReal => @HMul.hMul EReal EReal EReal _ _ z) (blk5 _ _ _ _ _ _ k (x 1) _).symm
    · obtain ⟨hb, hj⟩ : ∃ hb : 1536 + (x 1).val < 3712, j = ix2 (x 0) ⟨1536 + (x 1).val, hb⟩ := ⟨by omega, by blk_ext [h0, h1]⟩
      subst hj
      refine ((congrArg (k0_pay1 (F := Ideal) _ _ _) (eq_ix2 x)).trans (pay1_at _ _ _ (x 0) (x 1))).trans ?_
      refine congrArg₂ (· + ·) (congrArg (outsAt0 m c (t.val - 1) (Nat.lt_of_le_of_lt (Nat.sub_le _ _) t.isLt)).2 (by show (Rect.unit (s := S512x3712) _ _ _).emb _ = _; blk_ext [])) (Finset.sum_congr rfl fun k _ => ?_)
      exact congrArg (fun z : EReal => @HMul.hMul EReal EReal EReal _ _ z) (blk4 _ _ _ _ _ _ k (x 1) _).symm
    · obtain ⟨hb, hj⟩ : ∃ hb : 1024 + (x 1).val < 3712, j = ix2 (x 0) ⟨1024 + (x 1).val, hb⟩ := ⟨by omega, by blk_ext [h0, h1]⟩
      subst hj
      refine ((congrArg (k0_pay8 (F := Ideal) _ _ _) (eq_ix2 x)).trans (pay8_at _ _ _ (x 0) (x 1))).trans ?_
      refine congrArg₂ (· + ·) (congrArg (outsAt0 m c (t.val - 1) (Nat.lt_of_le_of_lt (Nat.sub_le _ _) t.isLt)).2 (by show (Rect.unit (s := S512x3712) _ _ _).emb _ = _; blk_ext [])) (Finset.sum_congr rfl fun k _ => ?_)
      exact congrArg (fun z : EReal => @HMul.hMul EReal EReal EReal _ _ z) (blk3 _ _ _ _ _ _ k (x 1) _).symm
    · obtain ⟨hb, hj⟩ : ∃ hb : 512 + (x 1).val < 3712, j = ix2 (x 0) ⟨512 + (x 1).val, hb⟩ := ⟨by omega, by blk_ext [h0, h1]⟩
      subst hj
      refine ((congrArg (k0_pay7 (F := Ideal) _ _ _) (eq_ix2 x)).trans (pay7_at _ _ _ (x 0) (x 1))).trans ?_
      refine congrArg₂ (· + ·) (congrArg (outsAt0 m c (t.val - 1) (Nat.lt_of_le_of_lt (Nat.sub_le _ _) t.isLt)).2 (by show (Rect.unit (s := S512x3712) _ _ _).emb _ = _; blk_ext [])) (Finset.sum_congr rfl fun k _ => ?_)
      exact congrArg (fun z : EReal => @HMul.hMul EReal EReal EReal _ _ z) (blk2 _ _ _ _ _ _ k (x 1) _).symm
    · obtain ⟨hb, hj⟩ : ∃ hb : 0 + (x 1).val < 3712, j = ix2 (x 0) ⟨0 + (x 1).val, hb⟩ := ⟨by omega, by blk_ext [h0, h1]⟩
      subst hj
      refine ((congrArg (k0_pay6 (F := Ideal) _ _ _) (eq_ix2 x)).trans (pay6_at _ _ _ (x 0) (x 1))).trans ?_
      refine congrArg₂ (· + ·) (congrArg (outsAt0 m c (t.val - 1) (Nat.lt_of_le_of_lt (Nat.sub_le _ _) t.isLt)).2 (by show (Rect.unit (s := S512x3712) _ _ _).emb _ = _; blk_ext [])) (Finset.sum_congr rfl fun k _ => ?_)
      exact congrArg (fun z : EReal => @HMul.hMul EReal EReal EReal _ _ z) (blk1 _ _ _ _ _ _ k (x 1) _).symm
  · rw [outsAt0_B m c t h0 h1]; frame_out
    simp only [read_unread_whole]
    clear h0 h1
    canon_tiles x h using (View.cover_of_tiledBy (s := S512x3712) _ ![512, 128] (by sl_kernel_rfl) j)
    · obtain ⟨hb, hj⟩ : ∃ hb : 3584 + (x 1).val < 3712, j = ix2 (x 0) ⟨3584 + (x 1).val, hb⟩ := ⟨by omega, by blk_ext [h0, h1]⟩
      subst hj
      refine ((congrArg (k0_pay3 (F := Ideal) _ _ _) (eq_ix2 x)).trans (pay3_at _ _ _ (x 0) (x 1))).trans ?_
      refine congrArg₂ (· + ·) (congrArg (outsAt0 m c (t.val - 1) (Nat.lt_of_le_of_lt (Nat.sub_le _ _) t.isLt)).2 (by show (Rect.unit (s := S512x3712) _ _ _).emb _ = _; blk_ext [])) (Finset.sum_congr rfl fun k _ => ?_)
      exact congrArg (fun z : EReal => @HMul.hMul EReal EReal EReal _ _ z) (blk6 _ _ _ _ _ _ k (x 1) _).symm
    · obtain ⟨hb, hj⟩ : ∃ hb : 3072 + (x 1).val < 3712, j = ix2 (x 0) ⟨3072 + (x 1).val, hb⟩ := ⟨by omega, by blk_ext [h0, h1]⟩
      subst hj
      refine ((congrArg (k0_pay2 (F := Ideal) _ _ _) (eq_ix2 x)).trans (pay2_at _ _ _ (x 0) (x 1))).trans ?_
      refine congrArg₂ (· + ·) (congrArg (outsAt0 m c (t.val - 1) (Nat.lt_of_le_of_lt (Nat.sub_le _ _) t.isLt)).2 (by show (Rect.unit (s := S512x3712) _ _ _).emb _ = _; blk_ext [])) (Finset.sum_congr rfl fun k _ => ?_)
      exact congrArg (fun z : EReal => @HMul.hMul EReal EReal EReal _ _ z) (blk5 _ _ _ _ _ _ k (x 1) _).symm
    · obtain ⟨hb, hj⟩ : ∃ hb : 1536 + (x 1).val < 3712, j = ix2 (x 0) ⟨1536 + (x 1).val, hb⟩ := ⟨by omega, by blk_ext [h0, h1]⟩
      subst hj
      refine ((congrArg (k0_pay1 (F := Ideal) _ _ _) (eq_ix2 x)).trans (pay1_at _ _ _ (x 0) (x 1))).trans ?_
      refine congrArg₂ (· + ·) (congrArg (outsAt0 m c (t.val - 1) (Nat.lt_of_le_of_lt (Nat.sub_le _ _) t.isLt)).2 (by show (Rect.unit (s := S512x3712) _ _ _).emb _ = _; blk_ext [])) (Finset.sum_congr rfl fun k _ => ?_)
      exact congrArg (fun z : EReal => @HMul.hMul EReal EReal EReal _ _ z) (blk4 _ _ _ _ _ _ k (x 1) _).symm
    · obtain ⟨hb, hj⟩ : ∃ hb : 1024 + (x 1).val < 3712, j = ix2 (x 0) ⟨1024 + (x 1).val, hb⟩ := ⟨by omega, by blk_ext [h0, h1]⟩
      subst hj
      refine ((congrArg (k0_pay8 (F := Ideal) _ _ _) (eq_ix2 x)).trans (pay8_at _ _ _ (x 0) (x 1))).trans ?_
      refine congrArg₂ (· + ·) (congrArg (outsAt0 m c (t.val - 1) (Nat.lt_of_le_of_lt (Nat.sub_le _ _) t.isLt)).2 (by show (Rect.unit (s := S512x3712) _ _ _).emb _ = _; blk_ext [])) (Finset.sum_congr rfl fun k _ => ?_)
      exact congrArg (fun z : EReal => @HMul.hMul EReal EReal EReal _ _ z) (blk3 _ _ _ _ _ _ k (x 1) _).symm
    · obtain ⟨hb, hj⟩ : ∃ hb : 512 + (x 1).val < 3712, j = ix2 (x 0) ⟨512 + (x 1).val, hb⟩ := ⟨by omega, by blk_ext [h0, h1]⟩
      subst hj
      refine ((congrArg (k0_pay7 (F := Ideal) _ _ _) (eq_ix2 x)).trans (pay7_at _ _ _ (x 0) (x 1))).trans ?_
      refine congrArg₂ (· + ·) (congrArg (outsAt0 m c (t.val - 1) (Nat.lt_of_le_of_lt (Nat.sub_le _ _) t.isLt)).2 (by show (Rect.unit (s := S512x3712) _ _ _).emb _ = _; blk_ext [])) (Finset.sum_congr rfl fun k _ => ?_)
      exact congrArg (fun z : EReal => @HMul.hMul EReal EReal EReal _ _ z) (blk2 _ _ _ _ _ _ k (x 1) _).symm
    · obtain ⟨hb, hj⟩ : ∃ hb : 0 + (x 1).val < 3712, j = ix2 (x 0) ⟨0 + (x 1).val, hb⟩ := ⟨by omega, by blk_ext [h0, h1]⟩
      subst hj
      refine ((congrArg (k0_pay6 (F := Ideal) _ _ _) (eq_ix2 x)).trans (pay6_at _ _ _ (x 0) (x 1))).trans ?_
      refine congrArg₂ (· + ·) (congrArg (outsAt0 m c (t.val - 1) (Nat.lt_of_le_of_lt (Nat.sub_le _ _) t.isLt)).2 (by show (Rect.unit (s := S512x3712) _ _ _).emb _ = _; blk_ext [])) (Finset.sum_congr rfl fun k _ => ?_)
      exact congrArg (fun z : EReal => @HMul.hMul EReal EReal EReal _ _ z) (blk1 _ _ _ _ _ _ k (x 1) _).symm

theorem stA (c : Dev nD) (t : Fin cfg0.N) (h0 : t.val % 8 = 0) (j : S512x3712.Idx) :
  (outsAt0 m c t.val t.isLt).2 j =
    step (iblk m c 0 t) (iblk m c 1 t) (iblk m c 2 t) (iblk m c 3 t) (iblk m c 4 t) (iblk m c 5 t) (iblk m c 6 t) (j 0) (j 1) := by
  have h1 : ¬ t.val % 8 = 7 := by omega
  rw [outsAt0_A m c t h0 h1]; frame_out
  simp (discharger := decide) only [↓View.readCov_skip, ↓View.readCov_fill]
  clear h0 h1
  refine (canon_take 6 _ _ (View.cover_of_tiledBy (s := S512x3712) _ ![512, 128] (by sl_kernel_rfl) _)).trans ?_
  simp only [List.take_succ_cons, List.take_zero]
  canon_tiles x h using (View.cover_of_tiledBy (s := S512x3712) _ ![512, 128] (by sl_kernel_rfl) j)
  · obtain ⟨hb, hj⟩ : ∃ hb : 3584 + (x 1).val < 3712, j = ix2 (x 0) ⟨3584 + (x 1).val, hb⟩ := ⟨by omega, by blk_ext [h0, h1]⟩
    subst hj
    refine ((congrArg (k0_pay3 (F := Ideal) _ _ _) (eq_ix2 x)).trans (pay3_at _ _ _ (x 0) (x 1))).trans ?_
    refine (congrArg (· + _) (hzero _)).trans ((zero_add _).trans (Finset.sum_congr rfl fun k _ => ?_))
    exact congrArg (fun z : EReal => @HMul.hMul EReal EReal EReal _ _ z) (blk6 _ _ _ _ _ _ k (x 1) _).symm
  · obtain ⟨hb, hj⟩ : ∃ hb : 3072 + (x 1).val < 3712, j = ix2 (x 0) ⟨3072 + (x 1).val, hb⟩ := ⟨by omega, by blk_ext [h0, h1]⟩
    subst hj
    refine ((congrArg (k0_pay2 (F := Ideal) _ _ _) (eq_ix2 x)).trans (pay2_at _ _ _ (x 0) (x 1))).trans ?_
    refine (congrArg (· + _) (hzero _)).trans ((zero_add _).trans (Finset.sum_congr rfl fun k _ => ?_))
    exact congrArg (fun z : EReal => @HMul.hMul EReal EReal EReal _ _ z) (blk5 _ _ _ _ _ _ k (x 1) _).symm
  · obtain ⟨hb, hj⟩ : ∃ hb : 1536 + (x 1).val < 3712, j = ix2 (x 0) ⟨1536 + (x 1).val, hb⟩ := ⟨by omega, by blk_ext [h0, h1]⟩
    subst hj
    refine ((congrArg (k0_pay1 (F := Ideal) _ _ _) (eq_ix2 x)).trans (pay1_at _ _ _ (x 0) (x 1))).trans ?_
    refine (congrArg (· + _) (hzero _)).trans ((zero_add _).trans (Finset.sum_congr rfl fun k _ => ?_))
    exact congrArg (fun z : EReal => @HMul.hMul EReal EReal EReal _ _ z) (blk4 _ _ _ _ _ _ k (x 1) _).symm
  · obtain ⟨hb, hj⟩ : ∃ hb : 1024 + (x 1).val < 3712, j = ix2 (x 0) ⟨1024 + (x 1).val, hb⟩ := ⟨by omega, by blk_ext [h0, h1]⟩
    subst hj
    refine ((congrArg (k0_pay8 (F := Ideal) _ _ _) (eq_ix2 x)).trans (pay8_at _ _ _ (x 0) (x 1))).trans ?_
    refine (congrArg (· + _) (hzero _)).trans ((zero_add _).trans (Finset.sum_congr rfl fun k _ => ?_))
    exact congrArg (fun z : EReal => @HMul.hMul EReal EReal EReal _ _ z) (blk3 _ _ _ _ _ _ k (x 1) _).symm
  · obtain ⟨hb, hj⟩ : ∃ hb : 512 + (x 1).val < 3712, j = ix2 (x 0) ⟨512 + (x 1).val, hb⟩ := ⟨by omega, by blk_ext [h0, h1]⟩
    subst hj
    refine ((congrArg (k0_pay7 (F := Ideal) _ _ _) (eq_ix2 x)).trans (pay7_at _ _ _ (x 0) (x 1))).trans ?_
    refine (congrArg (· + _) (hzero _)).trans ((zero_add _).trans (Finset.sum_congr rfl fun k _ => ?_))
    exact congrArg (fun z : EReal => @HMul.hMul EReal EReal EReal _ _ z) (blk2 _ _ _ _ _ _ k (x 1) _).symm
  · obtain ⟨hb, hj⟩ : ∃ hb : 0 + (x 1).val < 3712, j = ix2 (x 0) ⟨0 + (x 1).val, hb⟩ := ⟨by omega, by blk_ext [h0, h1]⟩
    subst hj
    refine ((congrArg (k0_pay6 (F := Ideal) _ _ _) (eq_ix2 x)).trans (pay6_at _ _ _ (x 0) (x 1))).trans ?_
    refine (congrArg (· + _) (hzero _)).trans ((zero_add _).trans (Finset.sum_congr rfl fun k _ => ?_))
    exact congrArg (fun z : EReal => @HMul.hMul EReal EReal EReal _ _ z) (blk1 _ _ _ _ _ _ k (x 1) _).symm
theorem final (c : Dev nD) : (dats m 0 c).arrAt 7 cfg0.N = REF (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  refine (dats m 0 c).arrAt_eq_of_covers 7 _ (by decide +kernel) fun t hf y => ?_
  blk_simp
  have h3 : t.val % 8 = 7 := (flush0_7 t).mp hf
  have h0 : ¬ t.val % 8 = 0 := by omega
  have hlast : (outsAt0 m c t.val t.isLt).1 = (outsAt0 m c t.val t.isLt).2 := by
    rw [outsAt0_C m c t h0 h3]; frame_out
    funext j
    refine (hout _ j).trans ?_
    rw [View.readCov_eq_canon']
    refine congrArg (View.canon _) ?_
    show (Rect.unit (s := S512x3712) _ _ _).emb _ = _
    blk_ext []
  rw [after0_7, hlast, Pipeline.eq_sum_fin_of_reset_step_apply_of_flush (fun n h => (outsAt0 m c n h).2) 8 (fun _ => 0) _
    (fun t h j => (stA m c t h j).trans (zero_add _).symm)
    (fun t h j => stB m c t h j) t h3 _, zero_add]
  idx_vars y
  rw [eq_ix2 ((win0_7.blk t).view.emb (ix2 y0 y1))]
  refine Eq.trans ?_ (ref_at _ _ _ _ _ _ _ _ _).symm
  refine Fin.sum_mul_add_congr fun s k hl => ?_
  have hlt : t.val < 16 := (idx t).2.2.2.2.2.2.2.2
  have e : (win0_7.blk t).view.emb (ix2 y0 y1) = ix2 (⟨t.val / 8 * 512 + y0.val, by omega⟩ : Fin 1024) y1 := by blk_ext [idx t]
  have e1 : (win0_7.blk t).view.emb (ix2 y0 y1) 1 = y1 := congrFun e 1
  refine congrArg₂ (@HMul.hMul EReal EReal EReal _) ?_ ?_
  · blk_point [iblk, V, idx t, idx ⟨_, Pipeline.run_point_lt_of_flush t h3 s⟩]
  · rw [e1]
    unfold blk piece
    split_ifs <;> blk_point [iblk, V, idx t, idx ⟨_, Pipeline.run_point_lt_of_flush t h3 s⟩]
end Ker

/-- The reference runs to its end and leaves its arguments as they were. -/
theorem frame_ref : Cert.quiescent_Reference8Ideal := fun m ρ _ =>
  (θ_run Cert.Reference8Ideal.defs _ _).mono (fun r h => ⟨fun c => (h c).2, sem_eq_zero_of_no_sems (by decide) r.2⟩) (Cert.Reference8Ideal.Value.run m ρ)

/-- The value claim: kernel and reference end with the same array. -/
theorem value : Cert.algebraic_Kernel8Ideal_Reference8Ideal := by
  intro m ρ m' ρ' _ hag
  refine ⟨fun c => REF (m ((c.tc : Thread Cert.Kernel8Ideal.nD Cert.Kernel8Ideal.τ).loc Cert.Kernel8Ideal.main_arg0)) (m ((c.tc : Thread Cert.Kernel8Ideal.nD Cert.Kernel8Ideal.τ).loc Cert.Kernel8Ideal.main_arg1)) (m ((c.tc : Thread Cert.Kernel8Ideal.nD Cert.Kernel8Ideal.τ).loc Cert.Kernel8Ideal.main_arg2)) (m ((c.tc : Thread Cert.Kernel8Ideal.nD Cert.Kernel8Ideal.τ).loc Cert.Kernel8Ideal.main_arg3)) (m ((c.tc : Thread Cert.Kernel8Ideal.nD Cert.Kernel8Ideal.τ).loc Cert.Kernel8Ideal.main_arg4)) (m ((c.tc : Thread Cert.Kernel8Ideal.nD Cert.Kernel8Ideal.τ).loc Cert.Kernel8Ideal.main_arg5)) (m ((c.tc : Thread Cert.Kernel8Ideal.nD Cert.Kernel8Ideal.τ).loc Cert.Kernel8Ideal.main_arg6)), ?_, ?_⟩
  · refine (θ_run Cert.Kernel8Ideal.defs _ _).mono (fun _ h c => ?_) (Cert.Kernel8Ideal.Value.run_blocks m ρ)
    exact ⟨(h c).1.trans (final m c), (h c).2⟩
  · refine (θ_run Cert.Reference8Ideal.defs _ _).mono (fun _ h c => ?_) (Cert.Reference8Ideal.Value.run m' ρ')
    refine ⟨(h c).1.trans ?_, (h c).2⟩
    all_goals obtain ⟨h0, h1, h2, h3, h4, h5, h6⟩ := hag c
    · show REF (m' ((c.tc : Thread Cert.Reference8Ideal.nD Cert.Reference8Ideal.τ).loc Cert.Reference8Ideal.main_arg0)) (m' ((c.tc : Thread Cert.Reference8Ideal.nD Cert.Reference8Ideal.τ).loc Cert.Reference8Ideal.main_arg1)) (m' ((c.tc : Thread Cert.Reference8Ideal.nD Cert.Reference8Ideal.τ).loc Cert.Reference8Ideal.main_arg2)) (m' ((c.tc : Thread Cert.Reference8Ideal.nD Cert.Reference8Ideal.τ).loc Cert.Reference8Ideal.main_arg3)) (m' ((c.tc : Thread Cert.Reference8Ideal.nD Cert.Reference8Ideal.τ).loc Cert.Reference8Ideal.main_arg4)) (m' ((c.tc : Thread Cert.Reference8Ideal.nD Cert.Reference8Ideal.τ).loc Cert.Reference8Ideal.main_arg5)) (m' ((c.tc : Thread Cert.Reference8Ideal.nD Cert.Reference8Ideal.τ).loc Cert.Reference8Ideal.main_arg6)) = REF (m ((c.tc : Thread Cert.Kernel8Ideal.nD Cert.Kernel8Ideal.τ).loc Cert.Kernel8Ideal.main_arg0)) (m ((c.tc : Thread Cert.Kernel8Ideal.nD Cert.Kernel8Ideal.τ).loc Cert.Kernel8Ideal.main_arg1)) (m ((c.tc : Thread Cert.Kernel8Ideal.nD Cert.Kernel8Ideal.τ).loc Cert.Kernel8Ideal.main_arg2)) (m ((c.tc : Thread Cert.Kernel8Ideal.nD Cert.Kernel8Ideal.τ).loc Cert.Kernel8Ideal.main_arg3)) (m ((c.tc : Thread Cert.Kernel8Ideal.nD Cert.Kernel8Ideal.τ).loc Cert.Kernel8Ideal.main_arg4)) (m ((c.tc : Thread Cert.Kernel8Ideal.nD Cert.Kernel8Ideal.τ).loc Cert.Kernel8Ideal.main_arg5)) (m ((c.tc : Thread Cert.Kernel8Ideal.nD Cert.Kernel8Ideal.τ).loc Cert.Kernel8Ideal.main_arg6))
      rw [h0, h1, h2, h3, h4, h5, h6]
end Cert.ProjWeight
end
-- ==== Proof.ProjInput.lean ====
/- What `mm_proj_da` leaves: the gradient of the input of the combined projection. -/
module

public import proofs.«01_k».proof.Proof.Gen.Kernel9Ideal.Value
public import proofs.«01_k».proof.Proof.Gen.Reference9Ideal.Run
public import Idealize.ShloMosaic.Lib.Pipeline.ValueKit
public import Idealize.ShloMosaic.Lib.Pointwise
public import proofs.«01_k».proof.Defs
public import Idealize.ShloMosaic.Lib.Pipeline.ReadBack

@[expose] public section

set_option maxRecDepth 16384

noncomputable section

namespace Cert.ProjInput

open Idealize.ShloMosaic Idealize.ShloMosaic.TcCoe Idealize.SL.Sem
open Idealize.ShloMosaic.Pipeline (Dat)

section Ref
open Cert.Reference9Ideal Cert.Reference9Ideal.Gen

/-- The reference's result as a function of the arrays it reads. -/
def REF (A0 : FVec Ideal S1024x3712 .bf16) (A1 : FVec Ideal S4096x512 .f32) (A2 : FVec Ideal S4096x512 .f32) (A3 : FVec Ideal S4096x512 .f32) (A4 : FVec Ideal S4096x1536 .f32) (A5 : FVec Ideal S4096x512 .f32) (A6 : FVec Ideal S4096x128 .f32) : FVec Ideal S4096x1024 .f32 :=
  Host.dotGeneral dot_S4096x3712_S1024x3712_S4096x1024_1_1_0_0_n_n none ((concatenate S4096x3712 1 [⟨S4096x512, A1⟩, ⟨S4096x512, A2⟩, ⟨S4096x512, A3⟩, ⟨S4096x1536, A4⟩, ⟨S4096x512, A5⟩, ⟨S4096x128, A6⟩] concatenates_S4096x512_S4096x512_S4096x512_S4096x1536_S4096x512_S4096x128_S4096x3712_d1 : FVec Ideal S4096x3712 .f32)) (extf .f32 A0 bitsLt_bf16_f32)

/-- The reference at an entry: the cotangent's row, piece by piece, against the weight's row. -/
theorem ref_at (A0 : FVec Ideal S1024x3712 .bf16) (A1 : FVec Ideal S4096x512 .f32) (A2 : FVec Ideal S4096x512 .f32) (A3 : FVec Ideal S4096x512 .f32) (A4 : FVec Ideal S4096x1536 .f32) (A5 : FVec Ideal S4096x512 .f32) (A6 : FVec Ideal S4096x128 .f32) (r : Fin 4096) (d : Fin 1024) :
    REF A0 A1 A2 A3 A4 A5 A6 (ix2 r d) = (∑ k : Fin 512, A1 (ix2 r k) * A0 (ix2 d ⟨(k : ℕ), by omega⟩)) + ((∑ k : Fin 512, A2 (ix2 r k) * A0 (ix2 d ⟨512 + (k : ℕ), by omega⟩)) + ((∑ k : Fin 512, A3 (ix2 r k) * A0 (ix2 d ⟨512 + (512 + (k : ℕ)), by omega⟩)) + ((∑ k : Fin 1536, A4 (ix2 r k) * A0 (ix2 d ⟨512 + (512 + (512 + (k : ℕ))), by omega⟩)) + ((∑ k : Fin 512, A5 (ix2 r k) * A0 (ix2 d ⟨512 + (512 + (512 + (1536 + (k : ℕ)))), by omega⟩)) + ((∑ k : Fin 128, A6 (ix2 r k) * A0 (ix2 d ⟨512 + (512 + (512 + (1536 + (512 + (k : ℕ))))), by omega⟩))))))) := by
  pointwise [REF, sumSplitAll]
end Ref

section Ker
open Cert.Kernel9Ideal Cert.Kernel9Ideal.Gen
variable (m : (ℓ : Loc nD τ sig) → Buf (Elt Ideal) ℓ)

/-- The six products of a tile, added in order. -/
theorem pay_at (p0 : FVec Ideal S512x512 .f32) (w0 : FVec Ideal S1024x512 .bf16) (p1 : FVec Ideal S512x512 .f32) (w1 : FVec Ideal S1024x512 .bf16) (p2 : FVec Ideal S512x512 .f32) (w2 : FVec Ideal S1024x512 .bf16) (p3 : FVec Ideal S512x1536 .f32) (w3 : FVec Ideal S1024x1536 .bf16) (p4 : FVec Ideal S512x512 .f32) (w4 : FVec Ideal S1024x512 .bf16) (p5 : FVec Ideal S512x128 .f32) (w5 : FVec Ideal S1024x128 .bf16) (a : Fin 512) (b : Fin 1024) :
    k0_pay1 (F := Ideal) (k0_pay2 (F := Ideal) p0 w0 p1 w1 p2 w2 p3 w3 p4 w4) (k0_pay3 (F := Ideal) p5 w5) (ix2 a b)
      = (∑ k : Fin 512, p0 (ix2 a k) * w0 (ix2 b k)) + ((∑ k : Fin 512, p1 (ix2 a k) * w1 (ix2 b k)) + ((∑ k : Fin 512, p2 (ix2 a k) * w2 (ix2 b k)) + ((∑ k : Fin 1536, p3 (ix2 a k) * w3 (ix2 b k)) + ((∑ k : Fin 512, p4 (ix2 a k) * w4 (ix2 b k)) + ((∑ k : Fin 128, p5 (ix2 a k) * w5 (ix2 b k))))))) := by
  pointwise [k0_pay1, k0_pay2, k0_pay3]
  simp only [add_assoc]

/-- The windows' index maps, decided over the grid. -/
theorem idx : ∀ t : Fin cfg0.N, win0_0.index t = ![t.val, 0] ∧ win0_1.index t = ![t.val, 0] ∧ win0_2.index t = ![t.val, 0] ∧ win0_3.index t = ![t.val, 0] ∧ win0_4.index t = ![t.val, 0] ∧ win0_5.index t = ![t.val, 0] ∧ win0_6.index t = ![0, 0] ∧ win0_7.index t = ![t.val, 0] ∧ t.val < 8 :=
  (by decide +kernel : ∀ t : Fin grid0.N, _)

theorem final (c : Dev nD) : (dats m 0 c).arrAt 7 cfg0.N = REF (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  refine (dats m 0 c).arrAt_eq_of_covers 7 _ (by decide +kernel) fun t _ y => ?_
  blk_simp
  rw [after0_7]
  unfold out0_7
  frame_out
  idx_vars y
  refine (pay_at _ _ _ _ _ _ _ _ _ _ _ _ y0 y1).trans ?_
  rw [eq_ix2 (((View.whole main_v0).slice (win0_7.rect t)).emb (ix2 y0 y1))]
  refine Eq.trans ?_ (ref_at _ _ _ _ _ _ _ _ _).symm
  blk_point [iblk, V, idx t]

end Ker

/-- The reference runs to its end and leaves its arguments as they were. -/
theorem frame_ref : Cert.quiescent_Reference9Ideal := fun m ρ _ =>
  (θ_run Cert.Reference9Ideal.defs _ _).mono (fun r h => ⟨fun c => (h c).2, sem_eq_zero_of_no_sems (by decide) r.2⟩) (Cert.Reference9Ideal.Value.run m ρ)

/-- The value claim: kernel and reference end with the same array. -/
theorem value : Cert.algebraic_Kernel9Ideal_Reference9Ideal := by
  intro m ρ m' ρ' _ hag
  refine ⟨fun c => REF (m ((c.tc : Thread Cert.Kernel9Ideal.nD Cert.Kernel9Ideal.τ).loc Cert.Kernel9Ideal.main_arg0)) (m ((c.tc : Thread Cert.Kernel9Ideal.nD Cert.Kernel9Ideal.τ).loc Cert.Kernel9Ideal.main_arg1)) (m ((c.tc : Thread Cert.Kernel9Ideal.nD Cert.Kernel9Ideal.τ).loc Cert.Kernel9Ideal.main_arg2)) (m ((c.tc : Thread Cert.Kernel9Ideal.nD Cert.Kernel9Ideal.τ).loc Cert.Kernel9Ideal.main_arg3)) (m ((c.tc : Thread Cert.Kernel9Ideal.nD Cert.Kernel9Ideal.τ).loc Cert.Kernel9Ideal.main_arg4)) (m ((c.tc : Thread Cert.Kernel9Ideal.nD Cert.Kernel9Ideal.τ).loc Cert.Kernel9Ideal.main_arg5)) (m ((c.tc : Thread Cert.Kernel9Ideal.nD Cert.Kernel9Ideal.τ).loc Cert.Kernel9Ideal.main_arg6)), ?_, ?_⟩
  · refine (θ_run Cert.Kernel9Ideal.defs _ _).mono (fun _ h c => ?_) (Cert.Kernel9Ideal.Value.run_blocks m ρ)
    exact ⟨(h c).1.trans (final m c), (h c).2⟩
  · refine (θ_run Cert.Reference9Ideal.defs _ _).mono (fun _ h c => ?_) (Cert.Reference9Ideal.Value.run m' ρ')
    refine ⟨(h c).1.trans ?_, (h c).2⟩
    all_goals obtain ⟨h0, h1, h2, h3, h4, h5, h6⟩ := hag c
    · show REF (m' ((c.tc : Thread Cert.Reference9Ideal.nD Cert.Reference9Ideal.τ).loc Cert.Reference9Ideal.main_arg0)) (m' ((c.tc : Thread Cert.Reference9Ideal.nD Cert.Reference9Ideal.τ).loc Cert.Reference9Ideal.main_arg1)) (m' ((c.tc : Thread Cert.Reference9Ideal.nD Cert.Reference9Ideal.τ).loc Cert.Reference9Ideal.main_arg2)) (m' ((c.tc : Thread Cert.Reference9Ideal.nD Cert.Reference9Ideal.τ).loc Cert.Reference9Ideal.main_arg3)) (m' ((c.tc : Thread Cert.Reference9Ideal.nD Cert.Reference9Ideal.τ).loc Cert.Reference9Ideal.main_arg4)) (m' ((c.tc : Thread Cert.Reference9Ideal.nD Cert.Reference9Ideal.τ).loc Cert.Reference9Ideal.main_arg5)) (m' ((c.tc : Thread Cert.Reference9Ideal.nD Cert.Reference9Ideal.τ).loc Cert.Reference9Ideal.main_arg6)) = REF (m ((c.tc : Thread Cert.Kernel9Ideal.nD Cert.Kernel9Ideal.τ).loc Cert.Kernel9Ideal.main_arg0)) (m ((c.tc : Thread Cert.Kernel9Ideal.nD Cert.Kernel9Ideal.τ).loc Cert.Kernel9Ideal.main_arg1)) (m ((c.tc : Thread Cert.Kernel9Ideal.nD Cert.Kernel9Ideal.τ).loc Cert.Kernel9Ideal.main_arg2)) (m ((c.tc : Thread Cert.Kernel9Ideal.nD Cert.Kernel9Ideal.τ).loc Cert.Kernel9Ideal.main_arg3)) (m ((c.tc : Thread Cert.Kernel9Ideal.nD Cert.Kernel9Ideal.τ).loc Cert.Kernel9Ideal.main_arg4)) (m ((c.tc : Thread Cert.Kernel9Ideal.nD Cert.Kernel9Ideal.τ).loc Cert.Kernel9Ideal.main_arg5)) (m ((c.tc : Thread Cert.Kernel9Ideal.nD Cert.Kernel9Ideal.τ).loc Cert.Kernel9Ideal.main_arg6))
      rw [h0, h1, h2, h3, h4, h5, h6]
end Cert.ProjInput
end
-- ==== Proof.ProjFwd.lean ====
/- What `mm_proj` leaves: the combined input projection. -/
module

public import proofs.«01_k».proof.Proof.Gen.Kernel10Ideal.Value
public import proofs.«01_k».proof.Proof.Gen.Reference10Ideal.Run
public import Idealize.ShloMosaic.Lib.Pipeline.ValueKit
public import Idealize.ShloMosaic.Lib.Pointwise
public import proofs.«01_k».proof.Defs
public import Idealize.ShloMosaic.Lib.Pipeline.ReadBack

@[expose] public section

set_option maxRecDepth 16384

noncomputable section

namespace Cert.ProjFwd

open Idealize.ShloMosaic Idealize.ShloMosaic.TcCoe Idealize.SL.Sem
open Idealize.ShloMosaic.Pipeline (Dat)

section Ref
open Cert.Reference10Ideal Cert.Reference10Ideal.Gen

/-- The reference's result as a function of the arrays it reads. -/
def REF (A0 : FVec Ideal S4096x1024 .bf16) (A1 : FVec Ideal S1024x3712 .bf16) : FVec Ideal S4096x3712 .f32 :=
  Host.dotGeneral dot_S4096x1024_S1024x3712_S4096x3712_1_0_0_1_n_n none (extf .f32 A0 bitsLt_bf16_f32) (extf .f32 A1 bitsLt_bf16_f32)

/-- The reference at an entry: a row against a column. -/
theorem ref_at (A0 : FVec Ideal S4096x1024 .bf16) (A1 : FVec Ideal S1024x3712 .bf16) (r : Fin 4096) (d : Fin 3712) :
    REF A0 A1 (ix2 r d) = ∑ k : Fin 1024, A0 (ix2 r k) * A1 (ix2 k d) := by
  pointwise [REF]
end Ref

section Ker
open Cert.Kernel10Ideal Cert.Kernel10Ideal.Gen
variable (m : (ℓ : Loc nD τ sig) → Buf (Elt Ideal) ℓ)

theorem pay_at (x : FVec Ideal S256x1024 .bf16) (w : FVec Ideal S1024x3712 .bf16) (a : Fin 256) (b : Fin 3712) :
    k0_pay2 (F := Ideal) x w (k0_pay1 (F := Ideal)) (ix2 a b) = ∑ k : Fin 1024, x (ix2 a k) * w (ix2 k b) := by
  pointwise [k0_pay2, k0_pay1]

/-- The windows' index maps, decided over the grid. -/
theorem idx : ∀ t : Fin cfg0.N, win0_0.index t = ![t.val, 0] ∧ win0_1.index t = ![0, 0] ∧ win0_2.index t = ![t.val, 0] ∧ t.val < 16 :=
  (by decide +kernel : ∀ t : Fin grid0.N, _)

theorem final (c : Dev nD) : (dats m 0 c).arrAt 2 cfg0.N = REF (m ((c : Thread nD τ).loc main_arg0)) (m ((c : Thread nD τ).loc main_arg1)) := by
  refine (dats m 0 c).arrAt_eq_of_covers 2 _ (by decide +kernel) fun t _ y => ?_
  blk_simp
  rw [after0_2]
  unfold Gen.outsAt0
  frame_out
  idx_vars y
  refine (pay_at _ _ y0 y1).trans ?_
  rw [eq_ix2 (((View.whole main_v0).slice (win0_2.rect t)).emb (ix2 y0 y1))]
  refine Eq.trans ?_ (ref_at _ _ _ _).symm
  blk_point [iblk, V, idx t]

end Ker

/-- The reference runs to its end and leaves its arguments as they were. -/
theorem frame_ref : Cert.quiescent_Reference10Ideal := fun m ρ _ =>
  (θ_run Cert.Reference10Ideal.defs _ _).mono (fun r h => ⟨fun c => (h c).2, sem_eq_zero_of_no_sems (by decide) r.2⟩) (Cert.Reference10Ideal.Value.run m ρ)

/-- The value claim: kernel and reference end with the same array. -/
theorem value : Cert.algebraic_Kernel10Ideal_Reference10Ideal := by
  intro m ρ m' ρ' _ hag
  refine ⟨fun c => REF (m ((c.tc : Thread Cert.Kernel10Ideal.nD Cert.Kernel10Ideal.τ).loc Cert.Kernel10Ideal.main_arg0)) (m ((c.tc : Thread Cert.Kernel10Ideal.nD Cert.Kernel10Ideal.τ).loc Cert.Kernel10Ideal.main_arg1)), ?_, ?_⟩
  · refine (θ_run Cert.Kernel10Ideal.defs _ _).mono (fun _ h c => ?_) (Cert.Kernel10Ideal.Value.run_blocks m ρ)
    exact ⟨(h c).1.trans (final m c), (h c).2⟩
  · refine (θ_run Cert.Reference10Ideal.defs _ _).mono (fun _ h c => ?_) (Cert.Reference10Ideal.Value.run m' ρ')
    refine ⟨(h c).1.trans ?_, (h c).2⟩
    all_goals obtain ⟨h0, h1⟩ := hag c
    · show REF (m' ((c.tc : Thread Cert.Reference10Ideal.nD Cert.Reference10Ideal.τ).loc Cert.Reference10Ideal.main_arg0)) (m' ((c.tc : Thread Cert.Reference10Ideal.nD Cert.Reference10Ideal.τ).loc Cert.Reference10Ideal.main_arg1)) = REF (m ((c.tc : Thread Cert.Kernel10Ideal.nD Cert.Kernel10Ideal.τ).loc Cert.Kernel10Ideal.main_arg0)) (m ((c.tc : Thread Cert.Kernel10Ideal.nD Cert.Kernel10Ideal.τ).loc Cert.Kernel10Ideal.main_arg1))
      rw [h0, h1]
end Cert.ProjFwd
end
-- ==== Proof.OutFwd.lean ====
/- What `mm_out` leaves: the product of the mixer's output, and the residual sum with it, gated. -/
module

public import proofs.«01_k».proof.Proof.Gen.Kernel11Ideal.Value
public import proofs.«01_k».proof.Proof.Gen.Reference11Ideal.Run
public import Idealize.ShloMosaic.Lib.Pipeline.ValueKit
public import Idealize.ShloMosaic.Lib.Pointwise
public import proofs.«01_k».proof.Defs
public import Idealize.ShloMosaic.Lib.Pipeline.ReadBack

@[expose] public section

set_option maxRecDepth 16384

noncomputable section

namespace Cert.OutFwd

open Idealize.ShloMosaic Idealize.ShloMosaic.TcCoe Idealize.SL.Sem
open Idealize.ShloMosaic.Pipeline (Dat)

section Ref
open Cert.Reference11Ideal Cert.Reference11Ideal.Gen

/-- The reference's product as a function of the arrays it reads. -/
def REF0 (A0 : FVec Ideal S4096x1024 .bf16) (A1 : FVec Ideal S1024x1024 .bf16) (A2 : FVec Ideal S4096x1024 .f32) (A3 : FVec Ideal S2x1x1024 .f32) : FVec Ideal S4096x1024 .bf16 :=
  truncf .bf16 (shapeCast _ (shapeCast _ (Host.dotGeneral dot_S4096x1024_S1024x1024_S4096x1024_1_0_0_1_n_n none (extf .f32 A0 bitsLt_bf16_f32) (extf .f32 A1 bitsLt_bf16_f32)) shapeCasts_S4096x1024_S2x2048x1024) shapeCasts_S2x2048x1024_S4096x1024) bitsLt_bf16_f32

/-- The reference's residual sum. -/
def REF1 (A0 : FVec Ideal S4096x1024 .bf16) (A1 : FVec Ideal S1024x1024 .bf16) (A2 : FVec Ideal S4096x1024 .f32) (A3 : FVec Ideal S2x1x1024 .f32) : FVec Ideal S4096x1024 .f32 :=
  shapeCast _ (addf (shapeCast _ A2 shapeCasts_S4096x1024_S2x2048x1024) (mulf (broadcastInDim S2x2048x1024 ![0, 1, 2] bcast_S2x1x1024_S2x2048x1024_0_1_2 A3) (shapeCast _ (Host.dotGeneral dot_S4096x1024_S1024x1024_S4096x1024_1_0_0_1_n_n none (extf .f32 A0 bitsLt_bf16_f32) (extf .f32 A1 bitsLt_bf16_f32)) shapeCasts_S4096x1024_S2x2048x1024))) shapeCasts_S2x2048x1024_S4096x1024

/-- The reference's product at an entry. -/
theorem ref_at0 (A0 : FVec Ideal S4096x1024 .bf16) (A1 : FVec Ideal S1024x1024 .bf16) (A2 : FVec Ideal S4096x1024 .f32) (A3 : FVec Ideal S2x1x1024 .f32) (r : Fin 4096) (d : Fin 1024) :
    REF0 A0 A1 A2 A3 (ix2 r d) = ∑ k : Fin 1024, A0 (ix2 r k) * A1 (ix2 k d) := by
  pointwise [REF0]

/-- The reference's residual sum at an entry. -/
theorem ref_at1 (A0 : FVec Ideal S4096x1024 .bf16) (A1 : FVec Ideal S1024x1024 .bf16) (A2 : FVec Ideal S4096x1024 .f32) (A3 : FVec Ideal S2x1x1024 .f32) (r : Fin 4096) (d : Fin 1024) :
    REF1 A0 A1 A2 A3 (ix2 r d) = A2 (ix2 r d) + A3 (ix3 ⟨(r : ℕ) / 2048, by omega⟩ 0 d) * ∑ k : Fin 1024, A0 (ix2 r k) * A1 (ix2 k d) := by
  pointwise [REF1]
end Ref

section Ker
open Cert.Kernel11Ideal Cert.Kernel11Ideal.Gen
variable (m : (ℓ : Loc nD τ sig) → Buf (Elt Ideal) ℓ)

theorem pay_at0 (x w : FVec Ideal S1024x1024 .bf16) (a b : Fin 1024) :
    k0_pay4 (F := Ideal) (k0_pay2 (F := Ideal) x w (k0_pay1 (F := Ideal))) (ix2 a b) = ∑ k : Fin 1024, x (ix2 a k) * w (ix2 k b) := by
  pointwise [k0_pay4, k0_pay2, k0_pay1]

theorem pay_at1 (x w : FVec Ideal S1024x1024 .bf16) (r : FVec Ideal S1024x1024 .f32) (g : FVec Ideal S1x1x1024 .f32) (a b : Fin 1024) :
    k0_pay3 (F := Ideal) (k0_pay2 (F := Ideal) x w (k0_pay1 (F := Ideal))) r g (ix2 a b)
      = r (ix2 a b) + g (ix3 0 0 b) * ∑ k : Fin 1024, x (ix2 a k) * w (ix2 k b) := by
  pointwise [k0_pay3, k0_pay2, k0_pay1]

/-- The windows' index maps, decided over the grid. -/
theorem idx : ∀ t : Fin cfg0.N, win0_0.index t = ![t.val, 0] ∧ win0_1.index t = ![0, 0] ∧ win0_2.index t = ![t.val, 0] ∧ win0_3.index t = ![t.val / 2, 0, 0] ∧ win0_4.index t = ![t.val, 0] ∧ win0_5.index t = ![t.val, 0] ∧ t.val < 4 :=
  (by decide +kernel : ∀ t : Fin grid0.N, _)

theorem final0 (c : Dev nD) : (dats m 0 c).arrAt 4 cfg0.N = REF0 (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t _ y => ?_
  blk_simp
  rw [after0_4]
  unfold Gen.outsAt0
  frame_out
  idx_vars y
  refine (pay_at0 _ _ y0 y1).trans ?_
  rw [eq_ix2 (((View.whole main_v0_0).slice (win0_4.rect t)).emb (ix2 y0 y1))]
  refine Eq.trans ?_ (ref_at0 _ _ _ _ _ _).symm
  blk_point [iblk, V, idx t]

theorem final1 (c : Dev nD) : (dats m 0 c).arrAt 5 cfg0.N = REF1 (m ((c : Thread nD τ).loc main_arg0)) (m ((c : Thread nD τ).loc main_arg1)) (m ((c : Thread nD τ).loc main_arg2)) (m ((c : Thread nD τ).loc main_arg3)) := by
  refine (dats m 0 c).arrAt_eq_of_covers 5 _ (by decide +kernel) fun t _ y => ?_
  blk_simp
  rw [after0_5]
  unfold Gen.outsAt0
  frame_out
  idx_vars y
  refine (pay_at1 _ _ _ _ y0 y1).trans ?_
  rw [eq_ix2 (((View.whole main_v0_1).slice (win0_5.rect t)).emb (ix2 y0 y1))]
  refine Eq.trans ?_ (ref_at1 _ _ _ _ _ _).symm
  blk_point [iblk, V, idx t]

end Ker

/-- The reference runs to its end and leaves its arguments as they were. -/
theorem frame_ref : Cert.quiescent_Reference11Ideal := fun m ρ _ =>
  (θ_run Cert.Reference11Ideal.defs _ _).mono (fun r h => ⟨fun c => (h c).2.2, sem_eq_zero_of_no_sems (by decide) r.2⟩) (Cert.Reference11Ideal.Value.run m ρ)

/-- The value claim: kernel and reference end with the same arrays. -/
theorem value : Cert.algebraic_Kernel11Ideal_Reference11Ideal := by
  intro m ρ m' ρ' _ hag
  refine ⟨fun c => REF0 (m ((c.tc : Thread Cert.Kernel11Ideal.nD Cert.Kernel11Ideal.τ).loc Cert.Kernel11Ideal.main_arg0)) (m ((c.tc : Thread Cert.Kernel11Ideal.nD Cert.Kernel11Ideal.τ).loc Cert.Kernel11Ideal.main_arg1)) (m ((c.tc : Thread Cert.Kernel11Ideal.nD Cert.Kernel11Ideal.τ).loc Cert.Kernel11Ideal.main_arg2)) (m ((c.tc : Thread Cert.Kernel11Ideal.nD Cert.Kernel11Ideal.τ).loc Cert.Kernel11Ideal.main_arg3)), fun c => REF1 (m ((c.tc : Thread Cert.Kernel11Ideal.nD Cert.Kernel11Ideal.τ).loc Cert.Kernel11Ideal.main_arg0)) (m ((c.tc : Thread Cert.Kernel11Ideal.nD Cert.Kernel11Ideal.τ).loc Cert.Kernel11Ideal.main_arg1)) (m ((c.tc : Thread Cert.Kernel11Ideal.nD Cert.Kernel11Ideal.τ).loc Cert.Kernel11Ideal.main_arg2)) (m ((c.tc : Thread Cert.Kernel11Ideal.nD Cert.Kernel11Ideal.τ).loc Cert.Kernel11Ideal.main_arg3)), ?_, ?_⟩
  · refine (θ_run Cert.Kernel11Ideal.defs _ _).mono (fun _ h c => ?_) (Cert.Kernel11Ideal.Value.run_blocks m ρ)
    exact ⟨(h c).1.trans (final0 m c), (h c).2.1.trans (final1 m c), (h c).2.2⟩
  · refine (θ_run Cert.Reference11Ideal.defs _ _).mono (fun _ h c => ?_) (Cert.Reference11Ideal.Value.run m' ρ')
    refine ⟨(h c).1.trans ?_, (h c).2.1.trans ?_, (h c).2.2⟩
    all_goals obtain ⟨h0, h1, h2, h3⟩ := hag c
    · show REF0 (m' ((c.tc : Thread Cert.Reference11Ideal.nD Cert.Reference11Ideal.τ).loc Cert.Reference11Ideal.main_arg0)) (m' ((c.tc : Thread Cert.Reference11Ideal.nD Cert.Reference11Ideal.τ).loc Cert.Reference11Ideal.main_arg1)) (m' ((c.tc : Thread Cert.Reference11Ideal.nD Cert.Reference11Ideal.τ).loc Cert.Reference11Ideal.main_arg2)) (m' ((c.tc : Thread Cert.Reference11Ideal.nD Cert.Reference11Ideal.τ).loc Cert.Reference11Ideal.main_arg3)) = REF0 (m ((c.tc : Thread Cert.Kernel11Ideal.nD Cert.Kernel11Ideal.τ).loc Cert.Kernel11Ideal.main_arg0)) (m ((c.tc : Thread Cert.Kernel11Ideal.nD Cert.Kernel11Ideal.τ).loc Cert.Kernel11Ideal.main_arg1)) (m ((c.tc : Thread Cert.Kernel11Ideal.nD Cert.Kernel11Ideal.τ).loc Cert.Kernel11Ideal.main_arg2)) (m ((c.tc : Thread Cert.Kernel11Ideal.nD Cert.Kernel11Ideal.τ).loc Cert.Kernel11Ideal.main_arg3))
      rw [h0, h1, h2, h3]
    · show REF1 (m' ((c.tc : Thread Cert.Reference11Ideal.nD Cert.Reference11Ideal.τ).loc Cert.Reference11Ideal.main_arg0)) (m' ((c.tc : Thread Cert.Reference11Ideal.nD Cert.Reference11Ideal.τ).loc Cert.Reference11Ideal.main_arg1)) (m' ((c.tc : Thread Cert.Reference11Ideal.nD Cert.Reference11Ideal.τ).loc Cert.Reference11Ideal.main_arg2)) (m' ((c.tc : Thread Cert.Reference11Ideal.nD Cert.Reference11Ideal.τ).loc Cert.Reference11Ideal.main_arg3)) = REF1 (m ((c.tc : Thread Cert.Kernel11Ideal.nD Cert.Kernel11Ideal.τ).loc Cert.Kernel11Ideal.main_arg0)) (m ((c.tc : Thread Cert.Kernel11Ideal.nD Cert.Kernel11Ideal.τ).loc Cert.Kernel11Ideal.main_arg1)) (m ((c.tc : Thread Cert.Kernel11Ideal.nD Cert.Kernel11Ideal.τ).loc Cert.Kernel11Ideal.main_arg2)) (m ((c.tc : Thread Cert.Kernel11Ideal.nD Cert.Kernel11Ideal.τ).loc Cert.Kernel11Ideal.main_arg3))
      rw [h0, h1, h2, h3]
end Cert.OutFwd
end
-- ==== Proof.UpFwd.lean ====
/- What `mm_ff1` leaves: the first feed-forward product. -/
module

public import proofs.«01_k».proof.Proof.Gen.Kernel12Ideal.Value
public import proofs.«01_k».proof.Proof.Gen.Reference12Ideal.Run
public import Idealize.ShloMosaic.Lib.Pipeline.ValueKit
public import Idealize.ShloMosaic.Lib.Pointwise
public import proofs.«01_k».proof.Defs
public import Idealize.ShloMosaic.Lib.Pipeline.ReadBack

@[expose] public section

set_option maxRecDepth 16384

noncomputable section

namespace Cert.UpFwd

open Idealize.ShloMosaic Idealize.ShloMosaic.TcCoe Idealize.SL.Sem
open Idealize.ShloMosaic.Pipeline (Dat)

section Ref
open Cert.Reference12Ideal Cert.Reference12Ideal.Gen

/-- The reference's result as a function of the arrays it reads. -/
def REF (A0 : FVec Ideal S4096x1024 .bf16) (A1 : FVec Ideal S1024x4096 .bf16) : FVec Ideal S4096x4096 .bf16 :=
  truncf .bf16 (Host.dotGeneral dot_S4096x1024_S1024x4096_S4096x4096_1_0_0_1_n_n none (extf .f32 A0 bitsLt_bf16_f32) (extf .f32 A1 bitsLt_bf16_f32)) bitsLt_bf16_f32

/-- The reference at an entry: a row against a column. -/
theorem ref_at (A0 : FVec Ideal S4096x1024 .bf16) (A1 : FVec Ideal S1024x4096 .bf16) (r : Fin 4096) (d : Fin 4096) :
    REF A0 A1 (ix2 r d) = ∑ k : Fin 1024, A0 (ix2 r k) * A1 (ix2 k d) := by
  pointwise [REF]
end Ref

section Ker
open Cert.Kernel12Ideal Cert.Kernel12Ideal.Gen
variable (m : (ℓ : Loc nD τ sig) → Buf (Elt Ideal) ℓ)

theorem pay_at (x w : FVec Ideal S1024x1024 .bf16) (a b : Fin 1024) :
    k0_pay3 (F := Ideal) (k0_pay2 (F := Ideal) x w (k0_pay1 (F := Ideal))) (ix2 a b) = ∑ k : Fin 1024, x (ix2 a k) * w (ix2 k b) := by
  pointwise [k0_pay3, k0_pay2, k0_pay1]

/-- The windows' index maps, decided over the grid. -/
theorem idx : ∀ t : Fin cfg0.N, win0_0.index t = ![t.val / 4, 0] ∧ win0_1.index t = ![0, t.val % 4] ∧ win0_2.index t = ![t.val / 4, t.val % 4] ∧ t.val < 16 :=
  (by decide +kernel : ∀ t : Fin grid0.N, _)

theorem final (c : Dev nD) : (dats m 0 c).arrAt 2 cfg0.N = REF (m ((c : Thread nD τ).loc main_arg0)) (m ((c : Thread nD τ).loc main_arg1)) := by
  refine (dats m 0 c).arrAt_eq_of_covers 2 _ (by decide +kernel) fun t _ y => ?_
  blk_simp
  rw [after0_2]
  unfold Gen.outsAt0
  frame_out
  idx_vars y
  refine (pay_at _ _ y0 y1).trans ?_
  rw [eq_ix2 (((View.whole main_v0).slice (win0_2.rect t)).emb (ix2 y0 y1))]
  refine Eq.trans ?_ (ref_at _ _ _ _).symm
  blk_point [iblk, V, idx t]

end Ker

/-- The reference runs to its end and leaves its arguments as they were. -/
theorem frame_ref : Cert.quiescent_Reference12Ideal := fun m ρ _ =>
  (θ_run Cert.Reference12Ideal.defs _ _).mono (fun r h => ⟨fun c => (h c).2, sem_eq_zero_of_no_sems (by decide) r.2⟩) (Cert.Reference12Ideal.Value.run m ρ)

/-- The value claim: kernel and reference end with the same array. -/
theorem value : Cert.algebraic_Kernel12Ideal_Reference12Ideal := by
  intro m ρ m' ρ' _ hag
  refine ⟨fun c => REF (m ((c.tc : Thread Cert.Kernel12Ideal.nD Cert.Kernel12Ideal.τ).loc Cert.Kernel12Ideal.main_arg0)) (m ((c.tc : Thread Cert.Kernel12Ideal.nD Cert.Kernel12Ideal.τ).loc Cert.Kernel12Ideal.main_arg1)), ?_, ?_⟩
  · refine (θ_run Cert.Kernel12Ideal.defs _ _).mono (fun _ h c => ?_) (Cert.Kernel12Ideal.Value.run_blocks m ρ)
    exact ⟨(h c).1.trans (final m c), (h c).2⟩
  · refine (θ_run Cert.Reference12Ideal.defs _ _).mono (fun _ h c => ?_) (Cert.Reference12Ideal.Value.run m' ρ')
    refine ⟨(h c).1.trans ?_, (h c).2⟩
    all_goals obtain ⟨h0, h1⟩ := hag c
    · show REF (m' ((c.tc : Thread Cert.Reference12Ideal.nD Cert.Reference12Ideal.τ).loc Cert.Reference12Ideal.main_arg0)) (m' ((c.tc : Thread Cert.Reference12Ideal.nD Cert.Reference12Ideal.τ).loc Cert.Reference12Ideal.main_arg1)) = REF (m ((c.tc : Thread Cert.Kernel12Ideal.nD Cert.Kernel12Ideal.τ).loc Cert.Kernel12Ideal.main_arg0)) (m ((c.tc : Thread Cert.Kernel12Ideal.nD Cert.Kernel12Ideal.τ).loc Cert.Kernel12Ideal.main_arg1))
      rw [h0, h1]
end Cert.UpFwd
end
-- ==== Proof.DownFwd.lean ====
/- What `mm_ff2` leaves: the second feed-forward product, and the residual sum with it, gated. -/
module

public import proofs.«01_k».proof.Proof.Gen.Kernel13Ideal.Value
public import proofs.«01_k».proof.Proof.Gen.Reference13Ideal.Run
public import Idealize.ShloMosaic.Lib.Pipeline.ValueKit
public import Idealize.ShloMosaic.Lib.Pointwise
public import proofs.«01_k».proof.Defs
public import Idealize.ShloMosaic.Lib.Pipeline.ReadBack

@[expose] public section

set_option maxRecDepth 16384

noncomputable section

namespace Cert.DownFwd

open Idealize.ShloMosaic Idealize.ShloMosaic.TcCoe Idealize.SL.Sem
open Idealize.ShloMosaic.Pipeline (Dat)

section Ref
open Cert.Reference13Ideal Cert.Reference13Ideal.Gen

/-- The reference's product as a function of the arrays it reads. -/
def REF0 (A0 : FVec Ideal S4096x4096 .bf16) (A1 : FVec Ideal S4096x1024 .bf16) (A2 : FVec Ideal S4096x1024 .f32) (A3 : FVec Ideal S2x1x1024 .f32) : FVec Ideal S4096x1024 .bf16 :=
  truncf .bf16 (shapeCast _ (shapeCast _ (Host.dotGeneral dot_S4096x4096_S4096x1024_S4096x1024_1_0_0_1_n_n none (mulf (maximumf (extf .f32 A0 bitsLt_bf16_f32) (broadcastInDim S4096x4096 ![] bcast_S_S4096x4096 (constant S_ .f32 0x00000000#32))) (maximumf (extf .f32 A0 bitsLt_bf16_f32) (broadcastInDim S4096x4096 ![] bcast_S_S4096x4096 (constant S_ .f32 0x00000000#32)))) (extf .f32 A1 bitsLt_bf16_f32)) shapeCasts_S4096x1024_S2x2048x1024) shapeCasts_S2x2048x1024_S4096x1024) bitsLt_bf16_f32

/-- The reference's residual sum. -/
def REF1 (A0 : FVec Ideal S4096x4096 .bf16) (A1 : FVec Ideal S4096x1024 .bf16) (A2 : FVec Ideal S4096x1024 .f32) (A3 : FVec Ideal S2x1x1024 .f32) : FVec Ideal S4096x1024 .f32 :=
  shapeCast _ (addf (shapeCast _ A2 shapeCasts_S4096x1024_S2x2048x1024) (mulf (broadcastInDim S2x2048x1024 ![0, 1, 2] bcast_S2x1x1024_S2x2048x1024_0_1_2 A3) (shapeCast _ (Host.dotGeneral dot_S4096x4096_S4096x1024_S4096x1024_1_0_0_1_n_n none (mulf (maximumf (extf .f32 A0 bitsLt_bf16_f32) (broadcastInDim S4096x4096 ![] bcast_S_S4096x4096 (constant S_ .f32 0x00000000#32))) (maximumf (extf .f32 A0 bitsLt_bf16_f32) (broadcastInDim S4096x4096 ![] bcast_S_S4096x4096 (constant S_ .f32 0x00000000#32)))) (extf .f32 A1 bitsLt_bf16_f32)) shapeCasts_S4096x1024_S2x2048x1024))) shapeCasts_S2x2048x1024_S4096x1024

/-- The product at an entry: the squared relu's row against a column. -/
def dotAt (A0 : FVec Ideal S4096x4096 .bf16) (A1 : FVec Ideal S4096x1024 .bf16) (A2 : FVec Ideal S4096x1024 .f32) (A3 : FVec Ideal S2x1x1024 .f32) (r : Fin 4096) (d : Fin 1024) : EReal :=
  ∑ k : Fin 4096, max (A0 (ix2 r k)) 0 * max (A0 (ix2 r k)) 0 * A1 (ix2 k d)

/-- The reference's product at an entry. -/
theorem ref_at0 (A0 : FVec Ideal S4096x4096 .bf16) (A1 : FVec Ideal S4096x1024 .bf16) (A2 : FVec Ideal S4096x1024 .f32) (A3 : FVec Ideal S2x1x1024 .f32) (r : Fin 4096) (d : Fin 1024) : REF0 A0 A1 A2 A3 (ix2 r d) = dotAt A0 A1 A2 A3 r d := by
  unfold dotAt
  pointwise [REF0]

/-- The reference's residual sum at an entry. -/
theorem ref_at1 (A0 : FVec Ideal S4096x4096 .bf16) (A1 : FVec Ideal S4096x1024 .bf16) (A2 : FVec Ideal S4096x1024 .f32) (A3 : FVec Ideal S2x1x1024 .f32) (r : Fin 4096) (d : Fin 1024) :
    REF1 A0 A1 A2 A3 (ix2 r d) = A2 (ix2 r d) + A3 (ix3 ⟨(r : ℕ) / 2048, by omega⟩ 0 d) * dotAt A0 A1 A2 A3 r d := by
  unfold dotAt
  pointwise [REF1]
end Ref

section Ker
open Cert.Kernel13Ideal Cert.Kernel13Ideal.Gen
variable (m : (ℓ : Loc nD τ sig) → Buf (Elt Ideal) ℓ)

theorem hzero (j : S1024x1024.Idx) : k0_pay1 (F := Ideal) j = 0 := by pointwise [k0_pay1]

/-- One step's product, read at an entry and added to what the steps before left. -/
theorem hpay (u w : FVec Ideal S1024x1024 .bf16) (acc : FVec Ideal S1024x1024 .f32) (j : S1024x1024.Idx) :
    k0_pay2 (F := Ideal) u w acc j = acc j + ∑ k : Fin 1024, max (u (ix2 (j 0) k)) 0 * max (u (ix2 (j 0) k)) 0 * w (ix2 k (j 1)) := by
  pointwise [k0_pay2]

theorem hout0 (v : FVec Ideal S1024x1024 .f32) (j : S1024x1024.Idx) : k0_pay4 (F := Ideal) v j = v j := by
  pointwise [k0_pay4]

theorem hout1 (v r : FVec Ideal S1024x1024 .f32) (g : FVec Ideal S1x1x1024 .f32) (a b : Fin 1024) :
    k0_pay3 (F := Ideal) v r g (ix2 a b) = r (ix2 a b) + g (ix3 0 0 b) * v (ix2 a b) := by
  pointwise [k0_pay3]

/-- The windows' index maps, decided over the grid. -/
theorem idx : ∀ t : Fin cfg0.N, win0_0.index t = ![t.val / 4, t.val % 4] ∧ win0_1.index t = ![t.val % 4, 0] ∧ win0_2.index t = ![t.val / 4, 0] ∧ win0_3.index t = ![t.val / 8, 0, 0] ∧ win0_4.index t = ![t.val / 4, 0] ∧ win0_5.index t = ![t.val / 4, 0] ∧ t.val < 16 :=
  (by decide +kernel : ∀ t : Fin grid0.N, _)

/-- What the accumulator holds after a run of four steps: the product, at the entry the block's place gives. -/
theorem acc_at (c : Dev nD) (t : Fin cfg0.N) (h3 : t.val % 4 = 3) (y0 y1 : Fin 1024) (h : t.val / 4 * 1024 + y0 < 4096) :
    (outsAt0 m c t.val t.isLt).2.2 (ix2 y0 y1) = dotAt (m ((c : Thread nD τ).loc main_arg0)) (m ((c : Thread nD τ).loc main_arg1)) (m ((c : Thread nD τ).loc main_arg2)) (m ((c : Thread nD τ).loc main_arg3)) ⟨t.val / 4 * 1024 + y0, h⟩ y1 := by
  rw [Pipeline.eq_sum_fin_of_reset_step_apply_of_flush (fun n h => (outsAt0 m c n h).2.2) 4 (fun _ => 0) _
      (fun t h j => by rw [outsAt0_A m c t h (by omega)]; frame_out; rw [hpay, hzero])
      (fun t h j => by
        by_cases h' : t.val % 4 = 3
        · rw [outsAt0_C m c t h h']; frame_out; rw [hpay, read_unread_whole]
        · rw [outsAt0_B m c t h h']; frame_out; rw [hpay, read_unread_whole]) t h3 _, zero_add]
  unfold dotAt
  refine Fin.sum_mul_add_congr fun s k hl => ?_
  blk_point [iblk, V, idx t, idx ⟨_, Pipeline.run_point_lt_of_flush t h3 s⟩]

theorem final0 (c : Dev nD) : (dats m 0 c).arrAt 4 cfg0.N = REF0 (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t hf y => ?_
  blk_simp
  have h3 : t.val % 4 = 3 := (flush0_4 t).mp hf
  have h0 : ¬ t.val % 4 = 0 := by omega
  have hlast : (outsAt0 m c t.val t.isLt).1 = (outsAt0 m c t.val t.isLt).2.2 := by
    rw [outsAt0_C m c t h0 h3]; frame_out
    funext j; exact hout0 _ j
  rw [after0_4, hlast]
  idx_vars y
  have hb : t.val / 4 * 1024 + y0 < 4096 := by have := (idx t).2.2.2.2.2.2; omega
  have he : (win0_4.blk t).view.emb (ix2 y0 y1) = ix2 ⟨t.val / 4 * 1024 + y0, hb⟩ y1 := by blk_ext [idx t]
  rw [he]
  refine Eq.trans ?_ (ref_at0 _ _ _ _ _ _).symm
  exact acc_at m c t h3 y0 y1 hb

theorem final1 (c : Dev nD) : (dats m 0 c).arrAt 5 cfg0.N = REF1 (m ((c : Thread nD τ).loc main_arg0)) (m ((c : Thread nD τ).loc main_arg1)) (m ((c : Thread nD τ).loc main_arg2)) (m ((c : Thread nD τ).loc main_arg3)) := by
  refine (dats m 0 c).arrAt_eq_of_covers 5 _ (by decide +kernel) fun t hf y => ?_
  blk_simp
  have h3 : t.val % 4 = 3 := (flush0_5 t).mp hf
  have h0 : ¬ t.val % 4 = 0 := by omega
  have hlast : (outsAt0 m c t.val t.isLt).2.1 = k0_pay3 (F := Ideal) (outsAt0 m c t.val t.isLt).2.2 (iblk m c 2 t) (iblk m c 3 t) := by
    rw [outsAt0_C m c t h0 h3]; frame_out
  rw [after0_5, hlast]
  idx_vars y
  have hb : t.val / 4 * 1024 + y0 < 4096 := by have := (idx t).2.2.2.2.2.2; omega
  have he : (win0_5.blk t).view.emb (ix2 y0 y1) = ix2 ⟨t.val / 4 * 1024 + y0, hb⟩ y1 := by blk_ext [idx t]
  rw [he]
  refine Eq.trans ?_ (ref_at1 _ _ _ _ _ _).symm
  refine (hout1 _ _ _ y0 y1).trans ?_
  rw [acc_at m c t h3 y0 y1 hb]
  blk_point [iblk, V, idx t]
end Ker

/-- The reference runs to its end and leaves its arguments as they were. -/
theorem frame_ref : Cert.quiescent_Reference13Ideal := fun m ρ _ =>
  (θ_run Cert.Reference13Ideal.defs _ _).mono (fun r h => ⟨fun c => (h c).2.2, sem_eq_zero_of_no_sems (by decide) r.2⟩) (Cert.Reference13Ideal.Value.run m ρ)

/-- The value claim: kernel and reference end with the same arrays. -/
theorem value : Cert.algebraic_Kernel13Ideal_Reference13Ideal := by
  intro m ρ m' ρ' _ hag
  refine ⟨fun c => REF0 (m ((c.tc : Thread Cert.Kernel13Ideal.nD Cert.Kernel13Ideal.τ).loc Cert.Kernel13Ideal.main_arg0)) (m ((c.tc : Thread Cert.Kernel13Ideal.nD Cert.Kernel13Ideal.τ).loc Cert.Kernel13Ideal.main_arg1)) (m ((c.tc : Thread Cert.Kernel13Ideal.nD Cert.Kernel13Ideal.τ).loc Cert.Kernel13Ideal.main_arg2)) (m ((c.tc : Thread Cert.Kernel13Ideal.nD Cert.Kernel13Ideal.τ).loc Cert.Kernel13Ideal.main_arg3)), fun c => REF1 (m ((c.tc : Thread Cert.Kernel13Ideal.nD Cert.Kernel13Ideal.τ).loc Cert.Kernel13Ideal.main_arg0)) (m ((c.tc : Thread Cert.Kernel13Ideal.nD Cert.Kernel13Ideal.τ).loc Cert.Kernel13Ideal.main_arg1)) (m ((c.tc : Thread Cert.Kernel13Ideal.nD Cert.Kernel13Ideal.τ).loc Cert.Kernel13Ideal.main_arg2)) (m ((c.tc : Thread Cert.Kernel13Ideal.nD Cert.Kernel13Ideal.τ).loc Cert.Kernel13Ideal.main_arg3)), ?_, ?_⟩
  · refine (θ_run Cert.Kernel13Ideal.defs _ _).mono (fun _ h c => ?_) (Cert.Kernel13Ideal.Value.run_blocks m ρ)
    exact ⟨(h c).1.trans (final0 m c), (h c).2.1.trans (final1 m c), (h c).2.2⟩
  · refine (θ_run Cert.Reference13Ideal.defs _ _).mono (fun _ h c => ?_) (Cert.Reference13Ideal.Value.run m' ρ')
    refine ⟨(h c).1.trans ?_, (h c).2.1.trans ?_, (h c).2.2⟩
    all_goals obtain ⟨h0, h1, h2, h3⟩ := hag c
    · show REF0 (m' ((c.tc : Thread Cert.Reference13Ideal.nD Cert.Reference13Ideal.τ).loc Cert.Reference13Ideal.main_arg0)) (m' ((c.tc : Thread Cert.Reference13Ideal.nD Cert.Reference13Ideal.τ).loc Cert.Reference13Ideal.main_arg1)) (m' ((c.tc : Thread Cert.Reference13Ideal.nD Cert.Reference13Ideal.τ).loc Cert.Reference13Ideal.main_arg2)) (m' ((c.tc : Thread Cert.Reference13Ideal.nD Cert.Reference13Ideal.τ).loc Cert.Reference13Ideal.main_arg3)) = REF0 (m ((c.tc : Thread Cert.Kernel13Ideal.nD Cert.Kernel13Ideal.τ).loc Cert.Kernel13Ideal.main_arg0)) (m ((c.tc : Thread Cert.Kernel13Ideal.nD Cert.Kernel13Ideal.τ).loc Cert.Kernel13Ideal.main_arg1)) (m ((c.tc : Thread Cert.Kernel13Ideal.nD Cert.Kernel13Ideal.τ).loc Cert.Kernel13Ideal.main_arg2)) (m ((c.tc : Thread Cert.Kernel13Ideal.nD Cert.Kernel13Ideal.τ).loc Cert.Kernel13Ideal.main_arg3))
      rw [h0, h1, h2, h3]
    · show REF1 (m' ((c.tc : Thread Cert.Reference13Ideal.nD Cert.Reference13Ideal.τ).loc Cert.Reference13Ideal.main_arg0)) (m' ((c.tc : Thread Cert.Reference13Ideal.nD Cert.Reference13Ideal.τ).loc Cert.Reference13Ideal.main_arg1)) (m' ((c.tc : Thread Cert.Reference13Ideal.nD Cert.Reference13Ideal.τ).loc Cert.Reference13Ideal.main_arg2)) (m' ((c.tc : Thread Cert.Reference13Ideal.nD Cert.Reference13Ideal.τ).loc Cert.Reference13Ideal.main_arg3)) = REF1 (m ((c.tc : Thread Cert.Kernel13Ideal.nD Cert.Kernel13Ideal.τ).loc Cert.Kernel13Ideal.main_arg0)) (m ((c.tc : Thread Cert.Kernel13Ideal.nD Cert.Kernel13Ideal.τ).loc Cert.Kernel13Ideal.main_arg1)) (m ((c.tc : Thread Cert.Kernel13Ideal.nD Cert.Kernel13Ideal.τ).loc Cert.Kernel13Ideal.main_arg2)) (m ((c.tc : Thread Cert.Kernel13Ideal.nD Cert.Kernel13Ideal.τ).loc Cert.Kernel13Ideal.main_arg3))
      rw [h0, h1, h2, h3]
end Cert.DownFwd
end
-- ==== Proof.Adam.lean ====
/- The optimiser's update of one entry, and the reference's lines for it on arrays of any shape. -/
module

public import Idealize.ShloMosaic.Lib.Pipeline.ValueKit
public import Idealize.ShloMosaic.Lib.Pointwise
public import proofs.«01_k».proof.Defs

@[expose] public section

noncomputable section

namespace Cert.Adam

open Idealize.ShloMosaic

/-- The first moment after the step: `0.9 m + 0.1 g`, the constants as the programs round them. -/
def mom (g m : EReal) : EReal :=
  Ideal.ofBits .f32 0x3F666666#32 * m + Ideal.ofBits .f32 0x3DCCCCCD#32 * g

/-- The second moment after the step: `0.999 v + 0.001 g²`. -/
def sec (g v : EReal) : EReal :=
  Ideal.ofBits .f32 0x3F7FBE77#32 * v + Ideal.ofBits .f32 0x3A83126F#32 * (g * g)

/-- The change of the weight: minus the rate times the corrected moments' quotient plus the decay. -/
def step (g w m v : EReal) : EReal :=
  Ideal.ofBits .f32 0xBA83126F#32 *
    (Ideal.div (Ideal.div (mom g m) (Ideal.ofBits .f32 0x3F26BD02#32))
        (Ideal.sqrt (Ideal.div (sec g v) (Ideal.ofBits .f32 0x3C231ACC#32)) + Ideal.ofBits .f32 0x322BCC77#32)
      + Ideal.ofBits .f32 0x3C23D70A#32 * w)

/-- The shape of a single number. -/
abbrev S0 : Shape := ⟨0, ![]⟩

variable {s : Shape} (bc : S0.BroadcastsInDim s (![] : Fin 0 → Fin s.rank))

/-- A constant spread over an array. -/
def cst (b : BitVec 32) : FVec Ideal s .f32 := broadcastInDim s ![] bc (constant S0 .f32 b)

/-- The reference's first moment. -/
def MOM (G M : FVec Ideal s .f32) : FVec Ideal s .f32 :=
  addf (mulf (cst bc 0x3F666666#32) M) (mulf (cst bc 0x3DCCCCCD#32) G)

/-- The reference's second moment. -/
def SEC (G V : FVec Ideal s .f32) : FVec Ideal s .f32 :=
  addf (mulf (cst bc 0x3F7FBE77#32) V) (mulf (cst bc 0x3A83126F#32) (mulf G G))

/-- The reference's change of the weight. -/
def STEP (G W M V : FVec Ideal s .f32) : FVec Ideal s .f32 :=
  mulf (cst bc 0xBA83126F#32)
    (addf (Host.divf (Host.divf (MOM bc G M) (cst bc 0x3F26BD02#32))
        (addf (Host.sqrt (Host.divf (SEC bc G V) (cst bc 0x3C231ACC#32))) (cst bc 0x322BCC77#32)))
      (mulf (cst bc 0x3C23D70A#32) W))

/-- The first moment at an entry. -/
theorem mom_at (G M : FVec Ideal s .f32) (i : s.Idx) : MOM bc G M i = mom (G i) (M i) := rfl

/-- The second moment at an entry. -/
theorem sec_at (G V : FVec Ideal s .f32) (i : s.Idx) : SEC bc G V i = sec (G i) (V i) := rfl

/-- The change of the weight at an entry. -/
theorem step_at (G W M V : FVec Ideal s .f32) (i : s.Idx) : STEP bc G W M V i = step (G i) (W i) (M i) (V i) := rfl

/-- Eight numbers added from the left are their sum. -/
theorem sum_eight (f : Fin 8 → EReal) : f 0 + f 1 + f 2 + f 3 + f 4 + f 5 + f 6 + f 7 = ∑ p, f p :=
  (Fin.sum_univ_eight f).symm

/-- Sixteen numbers added from the left are their sum. -/
theorem sum_sixteen (f : Fin 16 → EReal) :
    f 0 + f 1 + f 2 + f 3 + f 4 + f 5 + f 6 + f 7 + f 8 + f 9 + f 10 + f 11 + f 12 + f 13 + f 14 + f 15 = ∑ p, f p := by
  simp only [Fin.sum_univ_succ, Fin.sum_univ_zero, add_zero, add_assoc]
  rfl

end Cert.Adam
end
-- ==== Proof.AdamAda.lean ====
/- What `adamw_w_ada` leaves: the gradient of the adaLN product, the change of the weight and the two moments. -/
module

public import proofs.«01_k».proof.Proof.Gen.Kernel14Ideal.Value
public import proofs.«01_k».proof.Proof.Gen.Reference14Ideal.Run
public import Idealize.ShloMosaic.Lib.Pipeline.ReadBack
public import proofs.«01_k».proof.Proof.Adam

@[expose] public section

set_option maxRecDepth 16384

noncomputable section

namespace Cert.AdamAda

open Idealize.ShloMosaic Idealize.ShloMosaic.TcCoe Idealize.SL.Sem
open Idealize.ShloMosaic.Pipeline (Dat)

section Ref
open Cert.Reference14Ideal Cert.Reference14Ideal.Gen
variable (P : FVec Ideal S4x1024x768 .f32) (W M V : FVec Ideal S4x1024x768 .f32)

/-- The reference's gradient, which arrives whole. -/
def GRAD : FVec Ideal S4x1024x768 .f32 := P

/-- The change of the weight. -/
def DELTA : FVec Ideal S4x1024x768 .f32 := Adam.STEP bcast_S_S4x1024x768 P W M V

/-- The first moment. -/
def FST : FVec Ideal S4x1024x768 .f32 := Adam.MOM bcast_S_S4x1024x768 P M

/-- The second moment. -/
def SND : FVec Ideal S4x1024x768 .f32 := Adam.SEC bcast_S_S4x1024x768 P V

variable (l : Fin 4) (r : Fin 1024) (d : Fin 768)

theorem grad_at : GRAD P (ix3 l r d) = P (ix3 l r d) := rfl

theorem delta_at : DELTA P W M V (ix3 l r d) = Adam.step (P (ix3 l r d)) (W (ix3 l r d)) (M (ix3 l r d)) (V (ix3 l r d)) := rfl

theorem fst_at : FST P M (ix3 l r d) = Adam.mom (P (ix3 l r d)) (M (ix3 l r d)) := rfl

theorem snd_at : SND P V (ix3 l r d) = Adam.sec (P (ix3 l r d)) (V (ix3 l r d)) := rfl
end Ref

section Ker
open Cert.Kernel14Ideal Cert.Kernel14Ideal.Gen

section Pay
variable (x : FVec Ideal S1x1x256x768 .f32) (w a b : FVec Ideal S1x256x768 .f32) (z : Fin 1) (r : Fin 256) (d : Fin 768)

theorem out_at0 : out0_4 (F := Ideal) x w a b (ix3 z r d) = (x (ix4 0 0 r d)) := by
  unfold out0_4
  frame_out
  pointwise [k0_pay7, k0_pay4]

theorem out_at1 : out0_5 (F := Ideal) x w a b (ix3 z r d) = Adam.step (x (ix4 0 0 r d)) (w (ix3 0 r d)) (a (ix3 0 r d)) (b (ix3 0 r d)) := by
  unfold out0_5
  frame_out
  pointwise [k0_pay1, k0_pay8, k0_pay5, k0_pay6, k0_pay4, Adam.step, Adam.mom, Adam.sec]

theorem out_at2 : out0_6 (F := Ideal) x w a b (ix3 z r d) = Adam.mom (x (ix4 0 0 r d)) (a (ix3 0 r d)) := by
  unfold out0_6
  frame_out
  pointwise [k0_pay2, k0_pay5, k0_pay4, Adam.mom]

theorem out_at3 : out0_7 (F := Ideal) x w a b (ix3 z r d) = Adam.sec (x (ix4 0 0 r d)) (b (ix3 0 r d)) := by
  unfold out0_7
  frame_out
  pointwise [k0_pay3, k0_pay6, k0_pay4, Adam.sec]

end Pay

variable (m : (ℓ : Loc nD τ sig) → Buf (Elt Ideal) ℓ) (c : Dev nD)

/-- The windows' index maps, decided over the grid. -/
theorem idx : ∀ t : Fin cfg0.N, win0_0.index t = ![0, t.val / 4, t.val % 4, 0] ∧ win0_1.index t = ![t.val / 4, t.val % 4, 0] ∧ win0_2.index t = ![t.val / 4, t.val % 4, 0] ∧ win0_3.index t = ![t.val / 4, t.val % 4, 0] ∧ win0_4.index t = ![t.val / 4, t.val % 4, 0] ∧ win0_5.index t = ![t.val / 4, t.val % 4, 0] ∧ win0_6.index t = ![t.val / 4, t.val % 4, 0] ∧ win0_7.index t = ![t.val / 4, t.val % 4, 0] ∧ t.val < 16 :=
  (by decide +kernel : ∀ t : Fin grid0.N, _)

theorem final0 : (dats m 0 c).arrAt 4 cfg0.N = GRAD (m ((c : Thread nD τ).loc main_arg0)) := by
  refine (dats m 0 c).arrAt_eq_of_covers 4 _ (by decide +kernel) fun t _ y => ?_
  blk_simp
  rw [after0_4]
  idx_vars y
  refine (out_at0 _ _ _ _ y0 y1 y2).trans ?_
  rw [eq_ix3 (((View.whole main_v1_0).slice (win0_4.rect t)).emb (ix3 y0 y1 y2))]
  refine Eq.trans ?_ (grad_at _ _ _ _).symm
  blk_point [iblk, V, idx t]

theorem final1 : (dats m 0 c).arrAt 5 cfg0.N = DELTA (m ((c : Thread nD τ).loc main_arg0)) (m ((c : Thread nD τ).loc main_arg1)) (m ((c : Thread nD τ).loc main_arg2)) (m ((c : Thread nD τ).loc main_arg3)) := by
  refine (dats m 0 c).arrAt_eq_of_covers 5 _ (by decide +kernel) fun t _ y => ?_
  blk_simp
  rw [after0_5]
  idx_vars y
  refine (out_at1 _ _ _ _ y0 y1 y2).trans ?_
  rw [eq_ix3 (((View.whole main_v1_1).slice (win0_5.rect t)).emb (ix3 y0 y1 y2))]
  refine Eq.trans ?_ (delta_at _ _ _ _ _ _ _).symm
  blk_point [iblk, V, idx t]

theorem final2 : (dats m 0 c).arrAt 6 cfg0.N = FST (m ((c : Thread nD τ).loc main_arg0)) (m ((c : Thread nD τ).loc main_arg2)) := by
  refine (dats m 0 c).arrAt_eq_of_covers 6 _ (by decide +kernel) fun t _ y => ?_
  blk_simp
  rw [after0_6]
  idx_vars y
  refine (out_at2 _ _ _ _ y0 y1 y2).trans ?_
  rw [eq_ix3 (((View.whole main_v1_2).slice (win0_6.rect t)).emb (ix3 y0 y1 y2))]
  refine Eq.trans ?_ (fst_at _ _ _ _ _).symm
  blk_point [iblk, V, idx t]

theorem final3 : (dats m 0 c).arrAt 7 cfg0.N = SND (m ((c : Thread nD τ).loc main_arg0)) (m ((c : Thread nD τ).loc main_arg3)) := by
  refine (dats m 0 c).arrAt_eq_of_covers 7 _ (by decide +kernel) fun t _ y => ?_
  blk_simp
  rw [after0_7]
  idx_vars y
  refine (out_at3 _ _ _ _ y0 y1 y2).trans ?_
  rw [eq_ix3 (((View.whole main_v1_3).slice (win0_7.rect t)).emb (ix3 y0 y1 y2))]
  refine Eq.trans ?_ (snd_at _ _ _ _ _).symm
  blk_point [iblk, V, idx t]

end Ker

/-- The reference runs to its end and leaves its arguments as they were. -/
theorem frame_ref : Cert.quiescent_Reference14Ideal := fun m ρ _ =>
  (θ_run Cert.Reference14Ideal.defs _ _).mono (fun r h => ⟨fun c => (h c).2.2.2.2, sem_eq_zero_of_no_sems (by decide) r.2⟩) (Cert.Reference14Ideal.Value.run m ρ)

/-- The value claim: kernel and reference end with the same four arrays. -/
theorem value : Cert.algebraic_Kernel14Ideal_Reference14Ideal := by
  intro m ρ m' ρ' _ hag
  refine ⟨fun c => GRAD (m ((c.tc : Thread Cert.Kernel14Ideal.nD Cert.Kernel14Ideal.τ).loc Cert.Kernel14Ideal.main_arg0)), fun c => DELTA (m ((c.tc : Thread Cert.Kernel14Ideal.nD Cert.Kernel14Ideal.τ).loc Cert.Kernel14Ideal.main_arg0)) (m ((c.tc : Thread Cert.Kernel14Ideal.nD Cert.Kernel14Ideal.τ).loc Cert.Kernel14Ideal.main_arg1)) (m ((c.tc : Thread Cert.Kernel14Ideal.nD Cert.Kernel14Ideal.τ).loc Cert.Kernel14Ideal.main_arg2)) (m ((c.tc : Thread Cert.Kernel14Ideal.nD Cert.Kernel14Ideal.τ).loc Cert.Kernel14Ideal.main_arg3)), fun c => FST (m ((c.tc : Thread Cert.Kernel14Ideal.nD Cert.Kernel14Ideal.τ).loc Cert.Kernel14Ideal.main_arg0)) (m ((c.tc : Thread Cert.Kernel14Ideal.nD Cert.Kernel14Ideal.τ).loc Cert.Kernel14Ideal.main_arg2)), fun c => SND (m ((c.tc : Thread Cert.Kernel14Ideal.nD Cert.Kernel14Ideal.τ).loc Cert.Kernel14Ideal.main_arg0)) (m ((c.tc : Thread Cert.Kernel14Ideal.nD Cert.Kernel14Ideal.τ).loc Cert.Kernel14Ideal.main_arg3)), ?_, ?_⟩
  · refine (θ_run Cert.Kernel14Ideal.defs _ _).mono (fun _ h c => ?_) (Cert.Kernel14Ideal.Value.run_blocks m ρ)
    exact ⟨(h c).1.trans (final0 m c), (h c).2.1.trans (final1 m c), (h c).2.2.1.trans (final2 m c), (h c).2.2.2.1.trans (final3 m c), (h c).2.2.2.2⟩
  · refine (θ_run Cert.Reference14Ideal.defs _ _).mono (fun _ h c => ?_) (Cert.Reference14Ideal.Value.run m' ρ')
    obtain ⟨h0, h1, h2, h3⟩ := hag c
    refine ⟨(h c).1.trans ?_, (h c).2.1.trans ?_, (h c).2.2.1.trans ?_, (h c).2.2.2.1.trans ?_, (h c).2.2.2.2⟩
    · show GRAD (m' ((c.tc : Thread Cert.Reference14Ideal.nD Cert.Reference14Ideal.τ).loc Cert.Reference14Ideal.main_arg0)) = GRAD (m ((c.tc : Thread Cert.Kernel14Ideal.nD Cert.Kernel14Ideal.τ).loc Cert.Kernel14Ideal.main_arg0))
      rw [h0]
    · show DELTA (m' ((c.tc : Thread Cert.Reference14Ideal.nD Cert.Reference14Ideal.τ).loc Cert.Reference14Ideal.main_arg0)) (m' ((c.tc : Thread Cert.Reference14Ideal.nD Cert.Reference14Ideal.τ).loc Cert.Reference14Ideal.main_arg1)) (m' ((c.tc : Thread Cert.Reference14Ideal.nD Cert.Reference14Ideal.τ).loc Cert.Reference14Ideal.main_arg2)) (m' ((c.tc : Thread Cert.Reference14Ideal.nD Cert.Reference14Ideal.τ).loc Cert.Reference14Ideal.main_arg3)) = DELTA (m ((c.tc : Thread Cert.Kernel14Ideal.nD Cert.Kernel14Ideal.τ).loc Cert.Kernel14Ideal.main_arg0)) (m ((c.tc : Thread Cert.Kernel14Ideal.nD Cert.Kernel14Ideal.τ).loc Cert.Kernel14Ideal.main_arg1)) (m ((c.tc : Thread Cert.Kernel14Ideal.nD Cert.Kernel14Ideal.τ).loc Cert.Kernel14Ideal.main_arg2)) (m ((c.tc : Thread Cert.Kernel14Ideal.nD Cert.Kernel14Ideal.τ).loc Cert.Kernel14Ideal.main_arg3))
      rw [h0, h1, h2, h3]
    · show FST (m' ((c.tc : Thread Cert.Reference14Ideal.nD Cert.Reference14Ideal.τ).loc Cert.Reference14Ideal.main_arg0)) (m' ((c.tc : Thread Cert.Reference14Ideal.nD Cert.Reference14Ideal.τ).loc Cert.Reference14Ideal.main_arg2)) = FST (m ((c.tc : Thread Cert.Kernel14Ideal.nD Cert.Kernel14Ideal.τ).loc Cert.Kernel14Ideal.main_arg0)) (m ((c.tc : Thread Cert.Kernel14Ideal.nD Cert.Kernel14Ideal.τ).loc Cert.Kernel14Ideal.main_arg2))
      rw [h0, h2]
    · show SND (m' ((c.tc : Thread Cert.Reference14Ideal.nD Cert.Reference14Ideal.τ).loc Cert.Reference14Ideal.main_arg0)) (m' ((c.tc : Thread Cert.Reference14Ideal.nD Cert.Reference14Ideal.τ).loc Cert.Reference14Ideal.main_arg3)) = SND (m ((c.tc : Thread Cert.Kernel14Ideal.nD Cert.Kernel14Ideal.τ).loc Cert.Kernel14Ideal.main_arg0)) (m ((c.tc : Thread Cert.Kernel14Ideal.nD Cert.Kernel14Ideal.τ).loc Cert.Kernel14Ideal.main_arg3))
      rw [h0, h3]
end Cert.AdamAda
end
-- ==== Proof.AdamBias.lean ====
/- What `adamw_b_ada` leaves: the gradient of the adaLN bias, the change of the weight and the two moments. -/
module

public import proofs.«01_k».proof.Proof.Gen.Kernel15Ideal.Value
public import proofs.«01_k».proof.Proof.Gen.Reference15Ideal.Run
public import Idealize.ShloMosaic.Lib.Pipeline.ReadBack
public import proofs.«01_k».proof.Proof.Adam

@[expose] public section

set_option maxRecDepth 16384

noncomputable section

namespace Cert.AdamBias

open Idealize.ShloMosaic Idealize.ShloMosaic.TcCoe Idealize.SL.Sem
open Idealize.ShloMosaic.Pipeline (Dat)

section Ref
open Cert.Reference15Ideal Cert.Reference15Ideal.Gen
variable (P : FVec Ideal S16x4x6144 .f32) (W M V : FVec Ideal S4x6144 .f32)

/-- The partial gradients added. -/
def SUM : FVec Ideal S4x6144 .f32 :=
  Host.reduceAdd P (constant S_ .f32 0x00000000#32) reducesTo_S16x4x6144_S4x6144_d0 h_S_

/-- The reference's gradient. -/
def GRAD : FVec Ideal S1x4x6144 .f32 := broadcastInDim S1x4x6144 ![1, 2] bcast_S4x6144_S1x4x6144_1_2 (SUM P)

/-- The change of the weight. -/
def DELTA : FVec Ideal S1x4x6144 .f32 := broadcastInDim S1x4x6144 ![1, 2] bcast_S4x6144_S1x4x6144_1_2 (Adam.STEP bcast_S_S4x6144 (SUM P) W M V)

/-- The first moment. -/
def FST : FVec Ideal S1x4x6144 .f32 := broadcastInDim S1x4x6144 ![1, 2] bcast_S4x6144_S1x4x6144_1_2 (Adam.MOM bcast_S_S4x6144 (SUM P) M)

/-- The second moment. -/
def SND : FVec Ideal S1x4x6144 .f32 := broadcastInDim S1x4x6144 ![1, 2] bcast_S4x6144_S1x4x6144_1_2 (Adam.SEC bcast_S_S4x6144 (SUM P) V)

variable (l : Fin 1) (r : Fin 4) (d : Fin 6144)

theorem grad_at : GRAD P (ix3 l r d) = ∑ p : Fin 16, P (ix3 p r d) := by
  pointwise [GRAD, SUM]

/-- The sum at an entry. -/
theorem sum_at : SUM P (ix2 r d) = ∑ p : Fin 16, P (ix3 p r d) := by
  pointwise [SUM]

theorem delta_at : DELTA P W M V (ix3 l r d) = Adam.step (∑ p : Fin 16, P (ix3 p r d)) (W (ix2 r d)) (M (ix2 r d)) (V (ix2 r d)) := by
  refine Eq.trans (b := Adam.STEP bcast_S_S4x6144 (SUM P) W M V (ix2 r d)) (by pointwise [DELTA]) ?_
  rw [Adam.step_at, sum_at]

theorem fst_at : FST P M (ix3 l r d) = Adam.mom (∑ p : Fin 16, P (ix3 p r d)) (M (ix2 r d)) := by
  refine Eq.trans (b := Adam.MOM bcast_S_S4x6144 (SUM P) M (ix2 r d)) (by pointwise [FST]) ?_
  rw [Adam.mom_at, sum_at]

theorem snd_at : SND P V (ix3 l r d) = Adam.sec (∑ p : Fin 16, P (ix3 p r d)) (V (ix2 r d)) := by
  refine Eq.trans (b := Adam.SEC bcast_S_S4x6144 (SUM P) V (ix2 r d)) (by pointwise [SND]) ?_
  rw [Adam.sec_at, sum_at]
end Ref

section Ker
open Cert.Kernel15Ideal Cert.Kernel15Ideal.Gen

section Pay
variable (x : FVec Ideal S16x1x4x6144 .f32) (w a b : FVec Ideal S1x4x6144 .f32) (z : Fin 1) (r : Fin 4) (d : Fin 6144)

/-- The kernel's sum at an entry. -/
theorem ksum_at : k0_pay11 (F := Ideal) x w a b (ix2 r d) = ∑ p : Fin 16, x (ix4 p 0 r d) := by
  refine Eq.trans ?_ (Adam.sum_sixteen _)
  unfold k0_pay11
  pointwise [k0_pay4, k0_pay3]

theorem out_at0 : out0_4 (F := Ideal) x w a b (ix3 z r d) = (∑ p : Fin 16, x (ix4 p 0 r d)) := by
  rw [← ksum_at x w a b]
  unfold out0_4
  frame_out
  pointwise [k0_pay9]

theorem out_at1 : out0_5 (F := Ideal) x w a b (ix3 z r d) = Adam.step (∑ p : Fin 16, x (ix4 p 0 r d)) (w (ix3 0 r d)) (a (ix3 0 r d)) (b (ix3 0 r d)) := by
  rw [← ksum_at x w a b]
  unfold out0_5
  frame_out
  pointwise [k0_pay10, k0_pay7, k0_pay8, k0_pay5, k0_pay6, k0_pay12, k0_pay13, Adam.step, Adam.mom, Adam.sec]

theorem out_at2 : out0_6 (F := Ideal) x w a b (ix3 z r d) = Adam.mom (∑ p : Fin 16, x (ix4 p 0 r d)) (a (ix3 0 r d)) := by
  rw [← ksum_at x w a b]
  unfold out0_6
  frame_out
  pointwise [k0_pay1, k0_pay7, k0_pay12, k0_pay13, k0_pay5, k0_pay6, Adam.mom]

theorem out_at3 : out0_7 (F := Ideal) x w a b (ix3 z r d) = Adam.sec (∑ p : Fin 16, x (ix4 p 0 r d)) (b (ix3 0 r d)) := by
  rw [← ksum_at x w a b]
  unfold out0_7
  frame_out
  pointwise [k0_pay2, k0_pay8, Adam.sec]

end Pay

variable (m : (ℓ : Loc nD τ sig) → Buf (Elt Ideal) ℓ) (c : Dev nD)

/-- The windows' index maps, decided over the grid. -/
theorem idx : ∀ t : Fin cfg0.N, win0_0.index t = ![0, 0, 0, 0] ∧ win0_1.index t = ![0, 0, 0] ∧ win0_2.index t = ![0, 0, 0] ∧ win0_3.index t = ![0, 0, 0] ∧ win0_4.index t = ![0, 0, 0] ∧ win0_5.index t = ![0, 0, 0] ∧ win0_6.index t = ![0, 0, 0] ∧ win0_7.index t = ![0, 0, 0] ∧ t.val < 1 :=
  (by decide +kernel : ∀ t : Fin grid0.N, _)

theorem final0 : (dats m 0 c).arrAt 4 cfg0.N = GRAD (m ((c : Thread nD τ).loc main_arg0)) := by
  refine (dats m 0 c).arrAt_eq_of_covers 4 _ (by decide +kernel) fun t _ y => ?_
  blk_simp
  rw [after0_4]
  idx_vars y
  refine (out_at0 _ _ _ _ y0 y1 y2).trans ?_
  rw [eq_ix3 (((View.whole main_v4_0).slice (win0_4.rect t)).emb (ix3 y0 y1 y2))]
  refine Eq.trans ?_ (grad_at _ _ _ _).symm
  blk_point [iblk, V, idx t]

theorem final1 : (dats m 0 c).arrAt 5 cfg0.N = DELTA (m ((c : Thread nD τ).loc main_arg0)) (m ((c : Thread nD τ).loc main_arg1)) (m ((c : Thread nD τ).loc main_arg2)) (m ((c : Thread nD τ).loc main_arg3)) := by
  refine (dats m 0 c).arrAt_eq_of_covers 5 _ (by decide +kernel) fun t _ y => ?_
  blk_simp
  rw [after0_5]
  idx_vars y
  refine (out_at1 _ _ _ _ y0 y1 y2).trans ?_
  rw [eq_ix3 (((View.whole main_v4_1).slice (win0_5.rect t)).emb (ix3 y0 y1 y2))]
  refine Eq.trans ?_ (delta_at _ _ _ _ _ _ _).symm
  blk_point [iblk, V, idx t]

theorem final2 : (dats m 0 c).arrAt 6 cfg0.N = FST (m ((c : Thread nD τ).loc main_arg0)) (m ((c : Thread nD τ).loc main_arg2)) := by
  refine (dats m 0 c).arrAt_eq_of_covers 6 _ (by decide +kernel) fun t _ y => ?_
  blk_simp
  rw [after0_6]
  idx_vars y
  refine (out_at2 _ _ _ _ y0 y1 y2).trans ?_
  rw [eq_ix3 (((View.whole main_v4_2).slice (win0_6.rect t)).emb (ix3 y0 y1 y2))]
  refine Eq.trans ?_ (fst_at _ _ _ _ _).symm
  blk_point [iblk, V, idx t]

theorem final3 : (dats m 0 c).arrAt 7 cfg0.N = SND (m ((c : Thread nD τ).loc main_arg0)) (m ((c : Thread nD τ).loc main_arg3)) := by
  refine (dats m 0 c).arrAt_eq_of_covers 7 _ (by decide +kernel) fun t _ y => ?_
  blk_simp
  rw [after0_7]
  idx_vars y
  refine (out_at3 _ _ _ _ y0 y1 y2).trans ?_
  rw [eq_ix3 (((View.whole main_v4_3).slice (win0_7.rect t)).emb (ix3 y0 y1 y2))]
  refine Eq.trans ?_ (snd_at _ _ _ _ _).symm
  blk_point [iblk, V, idx t]

end Ker

/-- The reference runs to its end and leaves its arguments as they were. -/
theorem frame_ref : Cert.quiescent_Reference15Ideal := fun m ρ _ =>
  (θ_run Cert.Reference15Ideal.defs _ _).mono (fun r h => ⟨fun c => (h c).2.2.2.2, sem_eq_zero_of_no_sems (by decide) r.2⟩) (Cert.Reference15Ideal.Value.run m ρ)

/-- The value claim: kernel and reference end with the same four arrays. -/
theorem value : Cert.algebraic_Kernel15Ideal_Reference15Ideal := by
  intro m ρ m' ρ' _ hag
  refine ⟨fun c => GRAD (m ((c.tc : Thread Cert.Kernel15Ideal.nD Cert.Kernel15Ideal.τ).loc Cert.Kernel15Ideal.main_arg0)), fun c => DELTA (m ((c.tc : Thread Cert.Kernel15Ideal.nD Cert.Kernel15Ideal.τ).loc Cert.Kernel15Ideal.main_arg0)) (m ((c.tc : Thread Cert.Kernel15Ideal.nD Cert.Kernel15Ideal.τ).loc Cert.Kernel15Ideal.main_arg1)) (m ((c.tc : Thread Cert.Kernel15Ideal.nD Cert.Kernel15Ideal.τ).loc Cert.Kernel15Ideal.main_arg2)) (m ((c.tc : Thread Cert.Kernel15Ideal.nD Cert.Kernel15Ideal.τ).loc Cert.Kernel15Ideal.main_arg3)), fun c => FST (m ((c.tc : Thread Cert.Kernel15Ideal.nD Cert.Kernel15Ideal.τ).loc Cert.Kernel15Ideal.main_arg0)) (m ((c.tc : Thread Cert.Kernel15Ideal.nD Cert.Kernel15Ideal.τ).loc Cert.Kernel15Ideal.main_arg2)), fun c => SND (m ((c.tc : Thread Cert.Kernel15Ideal.nD Cert.Kernel15Ideal.τ).loc Cert.Kernel15Ideal.main_arg0)) (m ((c.tc : Thread Cert.Kernel15Ideal.nD Cert.Kernel15Ideal.τ).loc Cert.Kernel15Ideal.main_arg3)), ?_, ?_⟩
  · refine (θ_run Cert.Kernel15Ideal.defs _ _).mono (fun _ h c => ?_) (Cert.Kernel15Ideal.Value.run_blocks m ρ)
    exact ⟨(h c).1.trans (final0 m c), (h c).2.1.trans (final1 m c), (h c).2.2.1.trans (final2 m c), (h c).2.2.2.1.trans (final3 m c), (h c).2.2.2.2⟩
  · refine (θ_run Cert.Reference15Ideal.defs _ _).mono (fun _ h c => ?_) (Cert.Reference15Ideal.Value.run m' ρ')
    obtain ⟨h0, h1, h2, h3⟩ := hag c
    refine ⟨(h c).1.trans ?_, (h c).2.1.trans ?_, (h c).2.2.1.trans ?_, (h c).2.2.2.1.trans ?_, (h c).2.2.2.2⟩
    · show GRAD (m' ((c.tc : Thread Cert.Reference15Ideal.nD Cert.Reference15Ideal.τ).loc Cert.Reference15Ideal.main_arg0)) = GRAD (m ((c.tc : Thread Cert.Kernel15Ideal.nD Cert.Kernel15Ideal.τ).loc Cert.Kernel15Ideal.main_arg0))
      rw [h0]
    · show DELTA (m' ((c.tc : Thread Cert.Reference15Ideal.nD Cert.Reference15Ideal.τ).loc Cert.Reference15Ideal.main_arg0)) (m' ((c.tc : Thread Cert.Reference15Ideal.nD Cert.Reference15Ideal.τ).loc Cert.Reference15Ideal.main_arg1)) (m' ((c.tc : Thread Cert.Reference15Ideal.nD Cert.Reference15Ideal.τ).loc Cert.Reference15Ideal.main_arg2)) (m' ((c.tc : Thread Cert.Reference15Ideal.nD Cert.Reference15Ideal.τ).loc Cert.Reference15Ideal.main_arg3)) = DELTA (m ((c.tc : Thread Cert.Kernel15Ideal.nD Cert.Kernel15Ideal.τ).loc Cert.Kernel15Ideal.main_arg0)) (m ((c.tc : Thread Cert.Kernel15Ideal.nD Cert.Kernel15Ideal.τ).loc Cert.Kernel15Ideal.main_arg1)) (m ((c.tc : Thread Cert.Kernel15Ideal.nD Cert.Kernel15Ideal.τ).loc Cert.Kernel15Ideal.main_arg2)) (m ((c.tc : Thread Cert.Kernel15Ideal.nD Cert.Kernel15Ideal.τ).loc Cert.Kernel15Ideal.main_arg3))
      rw [h0, h1, h2, h3]
    · show FST (m' ((c.tc : Thread Cert.Reference15Ideal.nD Cert.Reference15Ideal.τ).loc Cert.Reference15Ideal.main_arg0)) (m' ((c.tc : Thread Cert.Reference15Ideal.nD Cert.Reference15Ideal.τ).loc Cert.Reference15Ideal.main_arg2)) = FST (m ((c.tc : Thread Cert.Kernel15Ideal.nD Cert.Kernel15Ideal.τ).loc Cert.Kernel15Ideal.main_arg0)) (m ((c.tc : Thread Cert.Kernel15Ideal.nD Cert.Kernel15Ideal.τ).loc Cert.Kernel15Ideal.main_arg2))
      rw [h0, h2]
    · show SND (m' ((c.tc : Thread Cert.Reference15Ideal.nD Cert.Reference15Ideal.τ).loc Cert.Reference15Ideal.main_arg0)) (m' ((c.tc : Thread Cert.Reference15Ideal.nD Cert.Reference15Ideal.τ).loc Cert.Reference15Ideal.main_arg3)) = SND (m ((c.tc : Thread Cert.Kernel15Ideal.nD Cert.Kernel15Ideal.τ).loc Cert.Kernel15Ideal.main_arg0)) (m ((c.tc : Thread Cert.Kernel15Ideal.nD Cert.Kernel15Ideal.τ).loc Cert.Kernel15Ideal.main_arg3))
      rw [h0, h3]
end Cert.AdamBias
end
-- ==== Proof.AdamConv.lean ====
/- What `adamw_conv` leaves: the gradient of the convolution, the change of the weight and the two moments. -/
module

public import proofs.«01_k».proof.Proof.Gen.Kernel16Ideal.Value
public import proofs.«01_k».proof.Proof.Gen.Reference16Ideal.Run
public import Idealize.ShloMosaic.Lib.Pipeline.ReadBack
public import proofs.«01_k».proof.Proof.Adam

@[expose] public section

set_option maxRecDepth 16384

noncomputable section

namespace Cert.AdamConv

open Idealize.ShloMosaic Idealize.ShloMosaic.TcCoe Idealize.SL.Sem
open Idealize.ShloMosaic.Pipeline (Dat)

section Ref
open Cert.Reference16Ideal Cert.Reference16Ideal.Gen
variable (P : FVec Ideal S8x4x4x192 .f32) (W M V : FVec Ideal S4x4x192 .f32)

/-- The partial gradients added. -/
def SUM : FVec Ideal S4x4x192 .f32 :=
  Host.reduceAdd P (constant S_ .f32 0x00000000#32) reducesTo_S8x4x4x192_S4x4x192_d0 h_S_

/-- The reference's gradient. -/
def GRAD : FVec Ideal S4x4x192 .f32 := SUM P

/-- The change of the weight. -/
def DELTA : FVec Ideal S4x4x192 .f32 := Adam.STEP bcast_S_S4x4x192 (SUM P) W M V

/-- The first moment. -/
def FST : FVec Ideal S4x4x192 .f32 := Adam.MOM bcast_S_S4x4x192 (SUM P) M

/-- The second moment. -/
def SND : FVec Ideal S4x4x192 .f32 := Adam.SEC bcast_S_S4x4x192 (SUM P) V

variable (l : Fin 4) (r : Fin 4) (d : Fin 192)

theorem grad_at : GRAD P (ix3 l r d) = ∑ p : Fin 8, P (ix4 p l r d) := by
  pointwise [GRAD, SUM]

theorem delta_at : DELTA P W M V (ix3 l r d) = Adam.step (∑ p : Fin 8, P (ix4 p l r d)) (W (ix3 l r d)) (M (ix3 l r d)) (V (ix3 l r d)) := by
  rw [← grad_at P]; rfl

theorem fst_at : FST P M (ix3 l r d) = Adam.mom (∑ p : Fin 8, P (ix4 p l r d)) (M (ix3 l r d)) := by
  rw [← grad_at P]; rfl

theorem snd_at : SND P V (ix3 l r d) = Adam.sec (∑ p : Fin 8, P (ix4 p l r d)) (V (ix3 l r d)) := by
  rw [← grad_at P]; rfl
end Ref

section Ker
open Cert.Kernel16Ideal Cert.Kernel16Ideal.Gen

section Pay
variable (x : FVec Ideal S8x1x4x192 .f32) (w a b : FVec Ideal S1x4x192 .f32) (z : Fin 1) (r : Fin 4) (d : Fin 192)

/-- The kernel's sum at an entry. -/
theorem ksum_at : k0_pay8 (F := Ideal) x w a b (ix2 r d) = ∑ p : Fin 8, x (ix4 p 0 r d) := by
  refine Eq.trans ?_ (Adam.sum_eight _)
  unfold k0_pay8
  pointwise [k0_pay3]

theorem out_at0 : out0_4 (F := Ideal) x w a b (ix3 z r d) = (∑ p : Fin 8, x (ix4 p 0 r d)) := by
  rw [← ksum_at x w a b]
  unfold out0_4
  frame_out
  pointwise [k0_pay6]

theorem out_at1 : out0_5 (F := Ideal) x w a b (ix3 z r d) = Adam.step (∑ p : Fin 8, x (ix4 p 0 r d)) (w (ix3 0 r d)) (a (ix3 0 r d)) (b (ix3 0 r d)) := by
  rw [← ksum_at x w a b]
  unfold out0_5
  frame_out
  pointwise [k0_pay7, k0_pay4, k0_pay5, Adam.step, Adam.mom, Adam.sec]

theorem out_at2 : out0_6 (F := Ideal) x w a b (ix3 z r d) = Adam.mom (∑ p : Fin 8, x (ix4 p 0 r d)) (a (ix3 0 r d)) := by
  rw [← ksum_at x w a b]
  unfold out0_6
  frame_out
  pointwise [k0_pay1, k0_pay4, Adam.mom]

theorem out_at3 : out0_7 (F := Ideal) x w a b (ix3 z r d) = Adam.sec (∑ p : Fin 8, x (ix4 p 0 r d)) (b (ix3 0 r d)) := by
  rw [← ksum_at x w a b]
  unfold out0_7
  frame_out
  pointwise [k0_pay2, k0_pay5, Adam.sec]

end Pay

variable (m : (ℓ : Loc nD τ sig) → Buf (Elt Ideal) ℓ) (c : Dev nD)

/-- The windows' index maps, decided over the grid. -/
theorem idx : ∀ t : Fin cfg0.N, win0_0.index t = ![0, t.val, 0, 0] ∧ win0_1.index t = ![t.val, 0, 0] ∧ win0_2.index t = ![t.val, 0, 0] ∧ win0_3.index t = ![t.val, 0, 0] ∧ win0_4.index t = ![t.val, 0, 0] ∧ win0_5.index t = ![t.val, 0, 0] ∧ win0_6.index t = ![t.val, 0, 0] ∧ win0_7.index t = ![t.val, 0, 0] ∧ t.val < 4 :=
  (by decide +kernel : ∀ t : Fin grid0.N, _)

theorem final0 : (dats m 0 c).arrAt 4 cfg0.N = GRAD (m ((c : Thread nD τ).loc main_arg0)) := by
  refine (dats m 0 c).arrAt_eq_of_covers 4 _ (by decide +kernel) fun t _ y => ?_
  blk_simp
  rw [after0_4]
  idx_vars y
  refine (out_at0 _ _ _ _ y0 y1 y2).trans ?_
  rw [eq_ix3 (((View.whole main_v0_0).slice (win0_4.rect t)).emb (ix3 y0 y1 y2))]
  refine Eq.trans ?_ (grad_at _ _ _ _).symm
  blk_point [iblk, V, idx t]

theorem final1 : (dats m 0 c).arrAt 5 cfg0.N = DELTA (m ((c : Thread nD τ).loc main_arg0)) (m ((c : Thread nD τ).loc main_arg1)) (m ((c : Thread nD τ).loc main_arg2)) (m ((c : Thread nD τ).loc main_arg3)) := by
  refine (dats m 0 c).arrAt_eq_of_covers 5 _ (by decide +kernel) fun t _ y => ?_
  blk_simp
  rw [after0_5]
  idx_vars y
  refine (out_at1 _ _ _ _ y0 y1 y2).trans ?_
  rw [eq_ix3 (((View.whole main_v0_1).slice (win0_5.rect t)).emb (ix3 y0 y1 y2))]
  refine Eq.trans ?_ (delta_at _ _ _ _ _ _ _).symm
  blk_point [iblk, V, idx t]

theorem final2 : (dats m 0 c).arrAt 6 cfg0.N = FST (m ((c : Thread nD τ).loc main_arg0)) (m ((c : Thread nD τ).loc main_arg2)) := by
  refine (dats m 0 c).arrAt_eq_of_covers 6 _ (by decide +kernel) fun t _ y => ?_
  blk_simp
  rw [after0_6]
  idx_vars y
  refine (out_at2 _ _ _ _ y0 y1 y2).trans ?_
  rw [eq_ix3 (((View.whole main_v0_2).slice (win0_6.rect t)).emb (ix3 y0 y1 y2))]
  refine Eq.trans ?_ (fst_at _ _ _ _ _).symm
  blk_point [iblk, V, idx t]

theorem final3 : (dats m 0 c).arrAt 7 cfg0.N = SND (m ((c : Thread nD τ).loc main_arg0)) (m ((c : Thread nD τ).loc main_arg3)) := by
  refine (dats m 0 c).arrAt_eq_of_covers 7 _ (by decide +kernel) fun t _ y => ?_
  blk_simp
  rw [after0_7]
  idx_vars y
  refine (out_at3 _ _ _ _ y0 y1 y2).trans ?_
  rw [eq_ix3 (((View.whole main_v0_3).slice (win0_7.rect t)).emb (ix3 y0 y1 y2))]
  refine Eq.trans ?_ (snd_at _ _ _ _ _).symm
  blk_point [iblk, V, idx t]

end Ker

/-- The reference runs to its end and leaves its arguments as they were. -/
theorem frame_ref : Cert.quiescent_Reference16Ideal := fun m ρ _ =>
  (θ_run Cert.Reference16Ideal.defs _ _).mono (fun r h => ⟨fun c => (h c).2.2.2.2, sem_eq_zero_of_no_sems (by decide) r.2⟩) (Cert.Reference16Ideal.Value.run m ρ)

/-- The value claim: kernel and reference end with the same four arrays. -/
theorem value : Cert.algebraic_Kernel16Ideal_Reference16Ideal := by
  intro m ρ m' ρ' _ hag
  refine ⟨fun c => GRAD (m ((c.tc : Thread Cert.Kernel16Ideal.nD Cert.Kernel16Ideal.τ).loc Cert.Kernel16Ideal.main_arg0)), fun c => DELTA (m ((c.tc : Thread Cert.Kernel16Ideal.nD Cert.Kernel16Ideal.τ).loc Cert.Kernel16Ideal.main_arg0)) (m ((c.tc : Thread Cert.Kernel16Ideal.nD Cert.Kernel16Ideal.τ).loc Cert.Kernel16Ideal.main_arg1)) (m ((c.tc : Thread Cert.Kernel16Ideal.nD Cert.Kernel16Ideal.τ).loc Cert.Kernel16Ideal.main_arg2)) (m ((c.tc : Thread Cert.Kernel16Ideal.nD Cert.Kernel16Ideal.τ).loc Cert.Kernel16Ideal.main_arg3)), fun c => FST (m ((c.tc : Thread Cert.Kernel16Ideal.nD Cert.Kernel16Ideal.τ).loc Cert.Kernel16Ideal.main_arg0)) (m ((c.tc : Thread Cert.Kernel16Ideal.nD Cert.Kernel16Ideal.τ).loc Cert.Kernel16Ideal.main_arg2)), fun c => SND (m ((c.tc : Thread Cert.Kernel16Ideal.nD Cert.Kernel16Ideal.τ).loc Cert.Kernel16Ideal.main_arg0)) (m ((c.tc : Thread Cert.Kernel16Ideal.nD Cert.Kernel16Ideal.τ).loc Cert.Kernel16Ideal.main_arg3)), ?_, ?_⟩
  · refine (θ_run Cert.Kernel16Ideal.defs _ _).mono (fun _ h c => ?_) (Cert.Kernel16Ideal.Value.run_blocks m ρ)
    exact ⟨(h c).1.trans (final0 m c), (h c).2.1.trans (final1 m c), (h c).2.2.1.trans (final2 m c), (h c).2.2.2.1.trans (final3 m c), (h c).2.2.2.2⟩
  · refine (θ_run Cert.Reference16Ideal.defs _ _).mono (fun _ h c => ?_) (Cert.Reference16Ideal.Value.run m' ρ')
    obtain ⟨h0, h1, h2, h3⟩ := hag c
    refine ⟨(h c).1.trans ?_, (h c).2.1.trans ?_, (h c).2.2.1.trans ?_, (h c).2.2.2.1.trans ?_, (h c).2.2.2.2⟩
    · show GRAD (m' ((c.tc : Thread Cert.Reference16Ideal.nD Cert.Reference16Ideal.τ).loc Cert.Reference16Ideal.main_arg0)) = GRAD (m ((c.tc : Thread Cert.Kernel16Ideal.nD Cert.Kernel16Ideal.τ).loc Cert.Kernel16Ideal.main_arg0))
      rw [h0]
    · show DELTA (m' ((c.tc : Thread Cert.Reference16Ideal.nD Cert.Reference16Ideal.τ).loc Cert.Reference16Ideal.main_arg0)) (m' ((c.tc : Thread Cert.Reference16Ideal.nD Cert.Reference16Ideal.τ).loc Cert.Reference16Ideal.main_arg1)) (m' ((c.tc : Thread Cert.Reference16Ideal.nD Cert.Reference16Ideal.τ).loc Cert.Reference16Ideal.main_arg2)) (m' ((c.tc : Thread Cert.Reference16Ideal.nD Cert.Reference16Ideal.τ).loc Cert.Reference16Ideal.main_arg3)) = DELTA (m ((c.tc : Thread Cert.Kernel16Ideal.nD Cert.Kernel16Ideal.τ).loc Cert.Kernel16Ideal.main_arg0)) (m ((c.tc : Thread Cert.Kernel16Ideal.nD Cert.Kernel16Ideal.τ).loc Cert.Kernel16Ideal.main_arg1)) (m ((c.tc : Thread Cert.Kernel16Ideal.nD Cert.Kernel16Ideal.τ).loc Cert.Kernel16Ideal.main_arg2)) (m ((c.tc : Thread Cert.Kernel16Ideal.nD Cert.Kernel16Ideal.τ).loc Cert.Kernel16Ideal.main_arg3))
      rw [h0, h1, h2, h3]
    · show FST (m' ((c.tc : Thread Cert.Reference16Ideal.nD Cert.Reference16Ideal.τ).loc Cert.Reference16Ideal.main_arg0)) (m' ((c.tc : Thread Cert.Reference16Ideal.nD Cert.Reference16Ideal.τ).loc Cert.Reference16Ideal.main_arg2)) = FST (m ((c.tc : Thread Cert.Kernel16Ideal.nD Cert.Kernel16Ideal.τ).loc Cert.Kernel16Ideal.main_arg0)) (m ((c.tc : Thread Cert.Kernel16Ideal.nD Cert.Kernel16Ideal.τ).loc Cert.Kernel16Ideal.main_arg2))
      rw [h0, h2]
    · show SND (m' ((c.tc : Thread Cert.Reference16Ideal.nD Cert.Reference16Ideal.τ).loc Cert.Reference16Ideal.main_arg0)) (m' ((c.tc : Thread Cert.Reference16Ideal.nD Cert.Reference16Ideal.τ).loc Cert.Reference16Ideal.main_arg3)) = SND (m ((c.tc : Thread Cert.Kernel16Ideal.nD Cert.Kernel16Ideal.τ).loc Cert.Kernel16Ideal.main_arg0)) (m ((c.tc : Thread Cert.Kernel16Ideal.nD Cert.Kernel16Ideal.τ).loc Cert.Kernel16Ideal.main_arg3))
      rw [h0, h3]
end Cert.AdamConv
end
-- ==== Proof.AdamSmall.lean ====
/- What `adamw_small` leaves: the gradient of the packed small weights (the norms, the gates and the biases), the change of the weight and the two moments. -/
module

public import proofs.«01_k».proof.Proof.Gen.Kernel17Ideal.Value
public import proofs.«01_k».proof.Proof.Gen.Reference17Ideal.Run
public import Idealize.ShloMosaic.Lib.Pipeline.ReadBack
public import proofs.«01_k».proof.Proof.Adam

@[expose] public section

set_option maxRecDepth 16384

noncomputable section

namespace Cert.AdamSmall

open Idealize.ShloMosaic Idealize.ShloMosaic.TcCoe Idealize.SL.Sem
open Idealize.ShloMosaic.Pipeline (Dat)

section Ref
open Cert.Reference17Ideal Cert.Reference17Ideal.Gen
variable (P : FVec Ideal S8x80x128 .f32) (W M V : FVec Ideal S80x128 .f32)

/-- The partial gradients added. -/
def SUM : FVec Ideal S80x128 .f32 :=
  Host.reduceAdd P (constant S_ .f32 0x00000000#32) reducesTo_S8x80x128_S80x128_d0 h_S_

/-- The reference's gradient. -/
def GRAD : FVec Ideal S1x80x128 .f32 := broadcastInDim S1x80x128 ![1, 2] bcast_S80x128_S1x80x128_1_2 (SUM P)

/-- The change of the weight. -/
def DELTA : FVec Ideal S1x80x128 .f32 := broadcastInDim S1x80x128 ![1, 2] bcast_S80x128_S1x80x128_1_2 (Adam.STEP bcast_S_S80x128 (SUM P) W M V)

/-- The first moment. -/
def FST : FVec Ideal S1x80x128 .f32 := broadcastInDim S1x80x128 ![1, 2] bcast_S80x128_S1x80x128_1_2 (Adam.MOM bcast_S_S80x128 (SUM P) M)

/-- The second moment. -/
def SND : FVec Ideal S1x80x128 .f32 := broadcastInDim S1x80x128 ![1, 2] bcast_S80x128_S1x80x128_1_2 (Adam.SEC bcast_S_S80x128 (SUM P) V)

variable (l : Fin 1) (r : Fin 80) (d : Fin 128)

theorem grad_at : GRAD P (ix3 l r d) = ∑ p : Fin 8, P (ix3 p r d) := by
  pointwise [GRAD, SUM]

/-- The sum at an entry. -/
theorem sum_at : SUM P (ix2 r d) = ∑ p : Fin 8, P (ix3 p r d) := by
  pointwise [SUM]

theorem delta_at : DELTA P W M V (ix3 l r d) = Adam.step (∑ p : Fin 8, P (ix3 p r d)) (W (ix2 r d)) (M (ix2 r d)) (V (ix2 r d)) := by
  refine Eq.trans (b := Adam.STEP bcast_S_S80x128 (SUM P) W M V (ix2 r d)) (by pointwise [DELTA]) ?_
  rw [Adam.step_at, sum_at]

theorem fst_at : FST P M (ix3 l r d) = Adam.mom (∑ p : Fin 8, P (ix3 p r d)) (M (ix2 r d)) := by
  refine Eq.trans (b := Adam.MOM bcast_S_S80x128 (SUM P) M (ix2 r d)) (by pointwise [FST]) ?_
  rw [Adam.mom_at, sum_at]

theorem snd_at : SND P V (ix3 l r d) = Adam.sec (∑ p : Fin 8, P (ix3 p r d)) (V (ix2 r d)) := by
  refine Eq.trans (b := Adam.SEC bcast_S_S80x128 (SUM P) V (ix2 r d)) (by pointwise [SND]) ?_
  rw [Adam.sec_at, sum_at]
end Ref

section Ker
open Cert.Kernel17Ideal Cert.Kernel17Ideal.Gen

section Pay
variable (x : FVec Ideal S8x1x80x128 .f32) (w a b : FVec Ideal S1x80x128 .f32) (z : Fin 1) (r : Fin 80) (d : Fin 128)

/-- The kernel's sum at an entry. -/
theorem ksum_at : k0_pay8 (F := Ideal) x w a b (ix2 r d) = ∑ p : Fin 8, x (ix4 p 0 r d) := by
  refine Eq.trans ?_ (Adam.sum_eight _)
  unfold k0_pay8
  pointwise [k0_pay3]

theorem out_at0 : out0_4 (F := Ideal) x w a b (ix3 z r d) = (∑ p : Fin 8, x (ix4 p 0 r d)) := by
  rw [← ksum_at x w a b]
  unfold out0_4
  frame_out
  pointwise [k0_pay6]

theorem out_at1 : out0_5 (F := Ideal) x w a b (ix3 z r d) = Adam.step (∑ p : Fin 8, x (ix4 p 0 r d)) (w (ix3 0 r d)) (a (ix3 0 r d)) (b (ix3 0 r d)) := by
  rw [← ksum_at x w a b]
  unfold out0_5
  frame_out
  pointwise [k0_pay7, k0_pay4, k0_pay5, Adam.step, Adam.mom, Adam.sec]

theorem out_at2 : out0_6 (F := Ideal) x w a b (ix3 z r d) = Adam.mom (∑ p : Fin 8, x (ix4 p 0 r d)) (a (ix3 0 r d)) := by
  rw [← ksum_at x w a b]
  unfold out0_6
  frame_out
  pointwise [k0_pay1, k0_pay4, Adam.mom]

theorem out_at3 : out0_7 (F := Ideal) x w a b (ix3 z r d) = Adam.sec (∑ p : Fin 8, x (ix4 p 0 r d)) (b (ix3 0 r d)) := by
  rw [← ksum_at x w a b]
  unfold out0_7
  frame_out
  pointwise [k0_pay2, k0_pay5, Adam.sec]

end Pay

variable (m : (ℓ : Loc nD τ sig) → Buf (Elt Ideal) ℓ) (c : Dev nD)

/-- The windows' index maps, decided over the grid. -/
theorem idx : ∀ t : Fin cfg0.N, win0_0.index t = ![0, 0, 0, 0] ∧ win0_1.index t = ![0, 0, 0] ∧ win0_2.index t = ![0, 0, 0] ∧ win0_3.index t = ![0, 0, 0] ∧ win0_4.index t = ![0, 0, 0] ∧ win0_5.index t = ![0, 0, 0] ∧ win0_6.index t = ![0, 0, 0] ∧ win0_7.index t = ![0, 0, 0] ∧ t.val < 1 :=
  (by decide +kernel : ∀ t : Fin grid0.N, _)

theorem final0 : (dats m 0 c).arrAt 4 cfg0.N = GRAD (m ((c : Thread nD τ).loc main_arg0)) := by
  refine (dats m 0 c).arrAt_eq_of_covers 4 _ (by decide +kernel) fun t _ y => ?_
  blk_simp
  rw [after0_4]
  idx_vars y
  refine (out_at0 _ _ _ _ y0 y1 y2).trans ?_
  rw [eq_ix3 (((View.whole main_v4_0).slice (win0_4.rect t)).emb (ix3 y0 y1 y2))]
  refine Eq.trans ?_ (grad_at _ _ _ _).symm
  blk_point [iblk, V, idx t]

theorem final1 : (dats m 0 c).arrAt 5 cfg0.N = DELTA (m ((c : Thread nD τ).loc main_arg0)) (m ((c : Thread nD τ).loc main_arg1)) (m ((c : Thread nD τ).loc main_arg2)) (m ((c : Thread nD τ).loc main_arg3)) := by
  refine (dats m 0 c).arrAt_eq_of_covers 5 _ (by decide +kernel) fun t _ y => ?_
  blk_simp
  rw [after0_5]
  idx_vars y
  refine (out_at1 _ _ _ _ y0 y1 y2).trans ?_
  rw [eq_ix3 (((View.whole main_v4_1).slice (win0_5.rect t)).emb (ix3 y0 y1 y2))]
  refine Eq.trans ?_ (delta_at _ _ _ _ _ _ _).symm
  blk_point [iblk, V, idx t]

theorem final2 : (dats m 0 c).arrAt 6 cfg0.N = FST (m ((c : Thread nD τ).loc main_arg0)) (m ((c : Thread nD τ).loc main_arg2)) := by
  refine (dats m 0 c).arrAt_eq_of_covers 6 _ (by decide +kernel) fun t _ y => ?_
  blk_simp
  rw [after0_6]
  idx_vars y
  refine (out_at2 _ _ _ _ y0 y1 y2).trans ?_
  rw [eq_ix3 (((View.whole main_v4_2).slice (win0_6.rect t)).emb (ix3 y0 y1 y2))]
  refine Eq.trans ?_ (fst_at _ _ _ _ _).symm
  blk_point [iblk, V, idx t]

theorem final3 : (dats m 0 c).arrAt 7 cfg0.N = SND (m ((c : Thread nD τ).loc main_arg0)) (m ((c : Thread nD τ).loc main_arg3)) := by
  refine (dats m 0 c).arrAt_eq_of_covers 7 _ (by decide +kernel) fun t _ y => ?_
  blk_simp
  rw [after0_7]
  idx_vars y
  refine (out_at3 _ _ _ _ y0 y1 y2).trans ?_
  rw [eq_ix3 (((View.whole main_v4_3).slice (win0_7.rect t)).emb (ix3 y0 y1 y2))]
  refine Eq.trans ?_ (snd_at _ _ _ _ _).symm
  blk_point [iblk, V, idx t]

end Ker

/-- The reference runs to its end and leaves its arguments as they were. -/
theorem frame_ref : Cert.quiescent_Reference17Ideal := fun m ρ _ =>
  (θ_run Cert.Reference17Ideal.defs _ _).mono (fun r h => ⟨fun c => (h c).2.2.2.2, sem_eq_zero_of_no_sems (by decide) r.2⟩) (Cert.Reference17Ideal.Value.run m ρ)

/-- The value claim: kernel and reference end with the same four arrays. -/
theorem value : Cert.algebraic_Kernel17Ideal_Reference17Ideal := by
  intro m ρ m' ρ' _ hag
  refine ⟨fun c => GRAD (m ((c.tc : Thread Cert.Kernel17Ideal.nD Cert.Kernel17Ideal.τ).loc Cert.Kernel17Ideal.main_arg0)), fun c => DELTA (m ((c.tc : Thread Cert.Kernel17Ideal.nD Cert.Kernel17Ideal.τ).loc Cert.Kernel17Ideal.main_arg0)) (m ((c.tc : Thread Cert.Kernel17Ideal.nD Cert.Kernel17Ideal.τ).loc Cert.Kernel17Ideal.main_arg1)) (m ((c.tc : Thread Cert.Kernel17Ideal.nD Cert.Kernel17Ideal.τ).loc Cert.Kernel17Ideal.main_arg2)) (m ((c.tc : Thread Cert.Kernel17Ideal.nD Cert.Kernel17Ideal.τ).loc Cert.Kernel17Ideal.main_arg3)), fun c => FST (m ((c.tc : Thread Cert.Kernel17Ideal.nD Cert.Kernel17Ideal.τ).loc Cert.Kernel17Ideal.main_arg0)) (m ((c.tc : Thread Cert.Kernel17Ideal.nD Cert.Kernel17Ideal.τ).loc Cert.Kernel17Ideal.main_arg2)), fun c => SND (m ((c.tc : Thread Cert.Kernel17Ideal.nD Cert.Kernel17Ideal.τ).loc Cert.Kernel17Ideal.main_arg0)) (m ((c.tc : Thread Cert.Kernel17Ideal.nD Cert.Kernel17Ideal.τ).loc Cert.Kernel17Ideal.main_arg3)), ?_, ?_⟩
  · refine (θ_run Cert.Kernel17Ideal.defs _ _).mono (fun _ h c => ?_) (Cert.Kernel17Ideal.Value.run_blocks m ρ)
    exact ⟨(h c).1.trans (final0 m c), (h c).2.1.trans (final1 m c), (h c).2.2.1.trans (final2 m c), (h c).2.2.2.1.trans (final3 m c), (h c).2.2.2.2⟩
  · refine (θ_run Cert.Reference17Ideal.defs _ _).mono (fun _ h c => ?_) (Cert.Reference17Ideal.Value.run m' ρ')
    obtain ⟨h0, h1, h2, h3⟩ := hag c
    refine ⟨(h c).1.trans ?_, (h c).2.1.trans ?_, (h c).2.2.1.trans ?_, (h c).2.2.2.1.trans ?_, (h c).2.2.2.2⟩
    · show GRAD (m' ((c.tc : Thread Cert.Reference17Ideal.nD Cert.Reference17Ideal.τ).loc Cert.Reference17Ideal.main_arg0)) = GRAD (m ((c.tc : Thread Cert.Kernel17Ideal.nD Cert.Kernel17Ideal.τ).loc Cert.Kernel17Ideal.main_arg0))
      rw [h0]
    · show DELTA (m' ((c.tc : Thread Cert.Reference17Ideal.nD Cert.Reference17Ideal.τ).loc Cert.Reference17Ideal.main_arg0)) (m' ((c.tc : Thread Cert.Reference17Ideal.nD Cert.Reference17Ideal.τ).loc Cert.Reference17Ideal.main_arg1)) (m' ((c.tc : Thread Cert.Reference17Ideal.nD Cert.Reference17Ideal.τ).loc Cert.Reference17Ideal.main_arg2)) (m' ((c.tc : Thread Cert.Reference17Ideal.nD Cert.Reference17Ideal.τ).loc Cert.Reference17Ideal.main_arg3)) = DELTA (m ((c.tc : Thread Cert.Kernel17Ideal.nD Cert.Kernel17Ideal.τ).loc Cert.Kernel17Ideal.main_arg0)) (m ((c.tc : Thread Cert.Kernel17Ideal.nD Cert.Kernel17Ideal.τ).loc Cert.Kernel17Ideal.main_arg1)) (m ((c.tc : Thread Cert.Kernel17Ideal.nD Cert.Kernel17Ideal.τ).loc Cert.Kernel17Ideal.main_arg2)) (m ((c.tc : Thread Cert.Kernel17Ideal.nD Cert.Kernel17Ideal.τ).loc Cert.Kernel17Ideal.main_arg3))
      rw [h0, h1, h2, h3]
    · show FST (m' ((c.tc : Thread Cert.Reference17Ideal.nD Cert.Reference17Ideal.τ).loc Cert.Reference17Ideal.main_arg0)) (m' ((c.tc : Thread Cert.Reference17Ideal.nD Cert.Reference17Ideal.τ).loc Cert.Reference17Ideal.main_arg2)) = FST (m ((c.tc : Thread Cert.Kernel17Ideal.nD Cert.Kernel17Ideal.τ).loc Cert.Kernel17Ideal.main_arg0)) (m ((c.tc : Thread Cert.Kernel17Ideal.nD Cert.Kernel17Ideal.τ).loc Cert.Kernel17Ideal.main_arg2))
      rw [h0, h2]
    · show SND (m' ((c.tc : Thread Cert.Reference17Ideal.nD Cert.Reference17Ideal.τ).loc Cert.Reference17Ideal.main_arg0)) (m' ((c.tc : Thread Cert.Reference17Ideal.nD Cert.Reference17Ideal.τ).loc Cert.Reference17Ideal.main_arg3)) = SND (m ((c.tc : Thread Cert.Kernel17Ideal.nD Cert.Kernel17Ideal.τ).loc Cert.Kernel17Ideal.main_arg0)) (m ((c.tc : Thread Cert.Kernel17Ideal.nD Cert.Kernel17Ideal.τ).loc Cert.Kernel17Ideal.main_arg3))
      rw [h0, h3]
end Cert.AdamSmall
end
-- ==== Proof.AdamIn.lean ====
/- What `adamw_w_in` leaves: the gradient of the mixer's input product in every layer, the change of the weight and the two moments. -/
module

public import proofs.«01_k».proof.Proof.Gen.Kernel18Ideal.Value
public import proofs.«01_k».proof.Proof.Gen.Reference18Ideal.Run
public import Idealize.ShloMosaic.Lib.Pipeline.ReadBack
public import proofs.«01_k».proof.Proof.Adam

@[expose] public section

set_option maxRecDepth 16384

noncomputable section

namespace Cert.AdamIn

open Idealize.ShloMosaic Idealize.ShloMosaic.TcCoe Idealize.SL.Sem
open Idealize.ShloMosaic.Pipeline (Dat)

section Ref
open Cert.Reference18Ideal Cert.Reference18Ideal.Gen

/-- One layer's partial gradients, with the axis the layers are joined along. -/
def AX (P : FVec Ideal S8x1024x449 .bf16) : FVec Ideal S8x1x1024x449 .bf16 :=
  broadcastInDim S8x1x1024x449 ![0, 2, 3] bcast_S8x1024x449_S8x1x1024x449_0_2_3 P

variable (P0 P1 P2 P3 Q : FVec Ideal S8x1024x449 .bf16) (W M V : FVec Ideal S4x1024x449 .f32)

/-- The reference's gradient: the layers' partial gradients joined, widened and added. -/
def GRAD : FVec Ideal S4x1024x449 .f32 :=
  Host.reduceAdd (extf .f32 (concatenate S8x4x1024x449 1 [⟨S8x1x1024x449, AX P0⟩, ⟨S8x1x1024x449, AX P1⟩, ⟨S8x1x1024x449, AX P2⟩, ⟨S8x1x1024x449, AX P3⟩] concatenates_S8x1x1024x449_S8x1x1024x449_S8x1x1024x449_S8x1x1024x449_S8x4x1024x449_d1) bitsLt_bf16_f32) (constant S_ .f32 0x00000000#32) reducesTo_S8x4x1024x449_S4x1024x449_d0 h_S_

/-- The change of the weight. -/
def DELTA : FVec Ideal S4x1024x449 .f32 := Adam.STEP bcast_S_S4x1024x449 (GRAD P0 P1 P2 P3) W M V

/-- The first moment. -/
def FST : FVec Ideal S4x1024x449 .f32 := Adam.MOM bcast_S_S4x1024x449 (GRAD P0 P1 P2 P3) M

/-- The second moment. -/
def SND : FVec Ideal S4x1024x449 .f32 := Adam.SEC bcast_S_S4x1024x449 (GRAD P0 P1 P2 P3) V

variable (k l : Fin 4) (r : Fin 1024) (d : Fin 449) (h : l = k) (hq : ![P0, P1, P2, P3] k = Q)
include h hq

/-- The gradient at an entry of layer `k`, whose partial gradients are `Q`. -/
theorem grad_at : GRAD P0 P1 P2 P3 (ix3 l r d) = ∑ p : Fin 8, Q (ix3 p r d) := by
  subst h hq
  pointwise [GRAD, AX]
  fin_cases l <;> rfl

theorem delta_at : DELTA P0 P1 P2 P3 W M V (ix3 l r d) = Adam.step (∑ p : Fin 8, Q (ix3 p r d)) (W (ix3 l r d)) (M (ix3 l r d)) (V (ix3 l r d)) := by
  rw [← grad_at P0 P1 P2 P3 Q k l r d h hq]; rfl

theorem fst_at : FST P0 P1 P2 P3 M (ix3 l r d) = Adam.mom (∑ p : Fin 8, Q (ix3 p r d)) (M (ix3 l r d)) := by
  rw [← grad_at P0 P1 P2 P3 Q k l r d h hq]; rfl

theorem snd_at : SND P0 P1 P2 P3 V (ix3 l r d) = Adam.sec (∑ p : Fin 8, Q (ix3 p r d)) (V (ix3 l r d)) := by
  rw [← grad_at P0 P1 P2 P3 Q k l r d h hq]; rfl
end Ref

section Ker
open Cert.Kernel18Ideal Cert.Kernel18Ideal.Gen

section Pay
variable (x : Vec Ideal S8x256x449 .bf16) (w a b : FVec Ideal S1x256x449 .f32) (z : Fin 1) (r : Fin 256) (d : Fin 449)

/-- The kernel's sum of a layer's eight partial gradients. -/
def KSUM : FVec Ideal S256x449 .f32 :=
  k0_pay9 (F := Ideal) (View.ld x (Rect.unit ![0, 0, 0] ![1, 256, 449] inb_S8x256x449_S1x256x449_0_0_0)) (View.ld x (Rect.unit ![1, 0, 0] ![1, 256, 449] inb_S8x256x449_S1x256x449_1_0_0)) (View.ld x (Rect.unit ![2, 0, 0] ![1, 256, 449] inb_S8x256x449_S1x256x449_2_0_0)) (View.ld x (Rect.unit ![3, 0, 0] ![1, 256, 449] inb_S8x256x449_S1x256x449_3_0_0)) (View.ld x (Rect.unit ![4, 0, 0] ![1, 256, 449] inb_S8x256x449_S1x256x449_4_0_0)) (View.ld x (Rect.unit ![5, 0, 0] ![1, 256, 449] inb_S8x256x449_S1x256x449_5_0_0)) (View.ld x (Rect.unit ![6, 0, 0] ![1, 256, 449] inb_S8x256x449_S1x256x449_6_0_0)) (View.ld x (Rect.unit ![7, 0, 0] ![1, 256, 449] inb_S8x256x449_S1x256x449_7_0_0))

/-- The sum at an entry. -/
theorem ksum_at : KSUM x (ix2 r d) = ∑ p : Fin 8, x (ix3 p r d) := by
  refine Eq.trans ?_ (Adam.sum_eight _)
  unfold KSUM
  pointwise [k0_pay9]

theorem pay_at0 : k0_pay13 (F := Ideal) (KSUM x) (ix3 z r d) = ∑ p : Fin 8, x (ix3 p r d) := by
  rw [← ksum_at]
  pointwise [k0_pay13]

theorem pay_at1 : k0_pay14 (F := Ideal) (KSUM x) (k0_pay10 (F := Ideal) a) b w (ix3 z r d) = Adam.step (∑ p : Fin 8, x (ix3 p r d)) (w (ix3 0 r d)) (a (ix3 0 r d)) (b (ix3 0 r d)) := by
  rw [← ksum_at]
  pointwise [k0_pay14, k0_pay10, k0_pay11, k0_pay12, Adam.step, Adam.mom, Adam.sec]

theorem pay_at2 : k0_pay1 (F := Ideal) (k0_pay11 (F := Ideal) (KSUM x) (k0_pay10 (F := Ideal) a)) (ix3 z r d) = Adam.mom (∑ p : Fin 8, x (ix3 p r d)) (a (ix3 0 r d)) := by
  rw [← ksum_at]
  pointwise [k0_pay1, k0_pay10, k0_pay11, Adam.mom]

theorem pay_at3 : k0_pay2 (F := Ideal) (k0_pay12 (F := Ideal) (KSUM x) b) (ix3 z r d) = Adam.sec (∑ p : Fin 8, x (ix3 p r d)) (b (ix3 0 r d)) := by
  rw [← ksum_at]
  pointwise [k0_pay2, k0_pay12, Adam.sec]
end Pay

variable (m : (ℓ : Loc nD τ sig) → Buf (Elt Ideal) ℓ) (c : Dev nD)

/-- A grid point is of one of the four layers. -/
theorem layer : ∀ t : Fin cfg0.N, t.val / 4 = 0 ∨ t.val / 4 = 1 ∨ t.val / 4 = 2 ∨ t.val / 4 = 3 :=
  (by decide +kernel : ∀ t : Fin grid0.N, _)

/-- The index maps of the weight, the moments and the results. -/
theorem idx : ∀ t : Fin cfg0.N, win0_4.index t = ![t.val / 4, t.val % 4, 0] ∧ win0_5.index t = ![t.val / 4, t.val % 4, 0] ∧ win0_6.index t = ![t.val / 4, t.val % 4, 0] ∧ win0_7.index t = ![t.val / 4, t.val % 4, 0] ∧ win0_8.index t = ![t.val / 4, t.val % 4, 0] ∧ win0_9.index t = ![t.val / 4, t.val % 4, 0] ∧ win0_10.index t = ![t.val / 4, t.val % 4, 0] ∧ t.val < 16 :=
  (by decide +kernel : ∀ t : Fin grid0.N, _)

theorem idx0 : ∀ t : Fin cfg0.N, t.val / 4 = 0 → win0_0.index t = ![0, t.val % 4, 0] :=
  (by decide +kernel : ∀ t : Fin grid0.N, _)

theorem idx1 : ∀ t : Fin cfg0.N, t.val / 4 = 1 → win0_1.index t = ![0, t.val % 4, 0] :=
  (by decide +kernel : ∀ t : Fin grid0.N, _)

theorem idx2 : ∀ t : Fin cfg0.N, t.val / 4 = 2 → win0_2.index t = ![0, t.val % 4, 0] :=
  (by decide +kernel : ∀ t : Fin grid0.N, _)

theorem idx3 : ∀ t : Fin cfg0.N, t.val / 4 = 3 → win0_3.index t = ![0, t.val % 4, 0] :=
  (by decide +kernel : ∀ t : Fin grid0.N, _)

/-- The layer an entry of the block lies in. -/
theorem at_layer0 (t : Fin cfg0.N) (y : S1x256x449.Idx) : ((((View.whole main_v0_0).slice (win0_7.rect t)).emb y 0 : Fin 4) : ℕ) = t.val / 4 := by
  have e : ((((View.whole main_v0_0).slice (win0_7.rect t)).emb y 0 : Fin 4) : ℕ) = win0_7.index t 0 * 1 + 1 * (y 0).val := rfl
  have hy : (y 0).val < 1 := (y 0).isLt
  rw [e]
  simp only [idx t, Matrix.cons_val_zero]
  omega

set_option maxHeartbeats 1600000 in
theorem final0 : (dats m 0 c).arrAt 7 cfg0.N = GRAD (m ((c : Thread nD τ).loc main_arg0)) (m ((c : Thread nD τ).loc main_arg1)) (m ((c : Thread nD τ).loc main_arg2)) (m ((c : Thread nD τ).loc main_arg3)) := by
  refine (dats m 0 c).arrAt_eq_of_covers 7 _ (by decide +kernel) fun t _ y => ?_
  blk_simp
  rw [after0_7]
  obtain h | h | h | h := layer t
  · rw [outsAt0_A m c t (by omega) (by omega) (by omega) (by omega)]
    frame_out
    idx_vars y
    refine (pay_at0 (iblk m c 0 t) y0 y1 y2).trans ?_
    rw [eq_ix3 (((View.whole main_v0_0).slice (win0_7.rect t)).emb (ix3 y0 y1 y2))]
    refine Eq.trans ?_ (grad_at _ _ _ _ (m ((c : Thread nD τ).loc main_arg0)) 0 _ _ _ (Fin.ext ((at_layer0 t _).trans h)) rfl).symm
    blk_point [iblk, V, idx t, idx0 t h]
  · rw [outsAt0_B m c t (by omega) (by omega) (by omega) (by omega)]
    frame_out
    idx_vars y
    refine (pay_at0 (iblk m c 1 t) y0 y1 y2).trans ?_
    rw [eq_ix3 (((View.whole main_v0_0).slice (win0_7.rect t)).emb (ix3 y0 y1 y2))]
    refine Eq.trans ?_ (grad_at _ _ _ _ (m ((c : Thread nD τ).loc main_arg1)) 1 _ _ _ (Fin.ext ((at_layer0 t _).trans h)) rfl).symm
    blk_point [iblk, V, idx t, idx1 t h]
  · rw [outsAt0_C m c t (by omega) (by omega) (by omega) (by omega)]
    frame_out
    idx_vars y
    refine (pay_at0 (iblk m c 2 t) y0 y1 y2).trans ?_
    rw [eq_ix3 (((View.whole main_v0_0).slice (win0_7.rect t)).emb (ix3 y0 y1 y2))]
    refine Eq.trans ?_ (grad_at _ _ _ _ (m ((c : Thread nD τ).loc main_arg2)) 2 _ _ _ (Fin.ext ((at_layer0 t _).trans h)) rfl).symm
    blk_point [iblk, V, idx t, idx2 t h]
  · rw [outsAt0_D m c t (by omega) (by omega) (by omega) (by omega)]
    frame_out
    idx_vars y
    refine (pay_at0 (iblk m c 3 t) y0 y1 y2).trans ?_
    rw [eq_ix3 (((View.whole main_v0_0).slice (win0_7.rect t)).emb (ix3 y0 y1 y2))]
    refine Eq.trans ?_ (grad_at _ _ _ _ (m ((c : Thread nD τ).loc main_arg3)) 3 _ _ _ (Fin.ext ((at_layer0 t _).trans h)) rfl).symm
    blk_point [iblk, V, idx t, idx3 t h]

/-- The layer an entry of the block lies in. -/
theorem at_layer1 (t : Fin cfg0.N) (y : S1x256x449.Idx) : ((((View.whole main_v0_1).slice (win0_8.rect t)).emb y 0 : Fin 4) : ℕ) = t.val / 4 := by
  have e : ((((View.whole main_v0_1).slice (win0_8.rect t)).emb y 0 : Fin 4) : ℕ) = win0_8.index t 0 * 1 + 1 * (y 0).val := rfl
  have hy : (y 0).val < 1 := (y 0).isLt
  rw [e]
  simp only [idx t, Matrix.cons_val_zero]
  omega

set_option maxHeartbeats 1600000 in
theorem final1 : (dats m 0 c).arrAt 8 cfg0.N = DELTA (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  refine (dats m 0 c).arrAt_eq_of_covers 8 _ (by decide +kernel) fun t _ y => ?_
  blk_simp
  rw [after0_8]
  obtain h | h | h | h := layer t
  · rw [outsAt0_A m c t (by omega) (by omega) (by omega) (by omega)]
    frame_out
    idx_vars y
    refine (pay_at1 (iblk m c 0 t) (iblk m c 4 t) (iblk m c 5 t) (iblk m c 6 t) y0 y1 y2).trans ?_
    rw [eq_ix3 (((View.whole main_v0_1).slice (win0_8.rect t)).emb (ix3 y0 y1 y2))]
    refine Eq.trans ?_ (delta_at _ _ _ _ (m ((c : Thread nD τ).loc main_arg0)) _ _ _ 0 _ _ _ (Fin.ext ((at_layer1 t _).trans h)) rfl).symm
    blk_point [iblk, V, idx t, idx0 t h]
  · rw [outsAt0_B m c t (by omega) (by omega) (by omega) (by omega)]
    frame_out
    idx_vars y
    refine (pay_at1 (iblk m c 1 t) (iblk m c 4 t) (iblk m c 5 t) (iblk m c 6 t) y0 y1 y2).trans ?_
    rw [eq_ix3 (((View.whole main_v0_1).slice (win0_8.rect t)).emb (ix3 y0 y1 y2))]
    refine Eq.trans ?_ (delta_at _ _ _ _ (m ((c : Thread nD τ).loc main_arg1)) _ _ _ 1 _ _ _ (Fin.ext ((at_layer1 t _).trans h)) rfl).symm
    blk_point [iblk, V, idx t, idx1 t h]
  · rw [outsAt0_C m c t (by omega) (by omega) (by omega) (by omega)]
    frame_out
    idx_vars y
    refine (pay_at1 (iblk m c 2 t) (iblk m c 4 t) (iblk m c 5 t) (iblk m c 6 t) y0 y1 y2).trans ?_
    rw [eq_ix3 (((View.whole main_v0_1).slice (win0_8.rect t)).emb (ix3 y0 y1 y2))]
    refine Eq.trans ?_ (delta_at _ _ _ _ (m ((c : Thread nD τ).loc main_arg2)) _ _ _ 2 _ _ _ (Fin.ext ((at_layer1 t _).trans h)) rfl).symm
    blk_point [iblk, V, idx t, idx2 t h]
  · rw [outsAt0_D m c t (by omega) (by omega) (by omega) (by omega)]
    frame_out
    idx_vars y
    refine (pay_at1 (iblk m c 3 t) (iblk m c 4 t) (iblk m c 5 t) (iblk m c 6 t) y0 y1 y2).trans ?_
    rw [eq_ix3 (((View.whole main_v0_1).slice (win0_8.rect t)).emb (ix3 y0 y1 y2))]
    refine Eq.trans ?_ (delta_at _ _ _ _ (m ((c : Thread nD τ).loc main_arg3)) _ _ _ 3 _ _ _ (Fin.ext ((at_layer1 t _).trans h)) rfl).symm
    blk_point [iblk, V, idx t, idx3 t h]

/-- The layer an entry of the block lies in. -/
theorem at_layer2 (t : Fin cfg0.N) (y : S1x256x449.Idx) : ((((View.whole main_v0_2).slice (win0_9.rect t)).emb y 0 : Fin 4) : ℕ) = t.val / 4 := by
  have e : ((((View.whole main_v0_2).slice (win0_9.rect t)).emb y 0 : Fin 4) : ℕ) = win0_9.index t 0 * 1 + 1 * (y 0).val := rfl
  have hy : (y 0).val < 1 := (y 0).isLt
  rw [e]
  simp only [idx t, Matrix.cons_val_zero]
  omega

set_option maxHeartbeats 1600000 in
theorem final2 : (dats m 0 c).arrAt 9 cfg0.N = FST (m ((c : Thread nD τ).loc main_arg0)) (m ((c : Thread nD τ).loc main_arg1)) (m ((c : Thread nD τ).loc main_arg2)) (m ((c : Thread nD τ).loc main_arg3)) (m ((c : Thread nD τ).loc main_arg5)) := by
  refine (dats m 0 c).arrAt_eq_of_covers 9 _ (by decide +kernel) fun t _ y => ?_
  blk_simp
  rw [after0_9]
  obtain h | h | h | h := layer t
  · rw [outsAt0_A m c t (by omega) (by omega) (by omega) (by omega)]
    frame_out
    idx_vars y
    refine (pay_at2 (iblk m c 0 t) (iblk m c 5 t) y0 y1 y2).trans ?_
    rw [eq_ix3 (((View.whole main_v0_2).slice (win0_9.rect t)).emb (ix3 y0 y1 y2))]
    refine Eq.trans ?_ (fst_at _ _ _ _ (m ((c : Thread nD τ).loc main_arg0)) _ 0 _ _ _ (Fin.ext ((at_layer2 t _).trans h)) rfl).symm
    blk_point [iblk, V, idx t, idx0 t h]
  · rw [outsAt0_B m c t (by omega) (by omega) (by omega) (by omega)]
    frame_out
    idx_vars y
    refine (pay_at2 (iblk m c 1 t) (iblk m c 5 t) y0 y1 y2).trans ?_
    rw [eq_ix3 (((View.whole main_v0_2).slice (win0_9.rect t)).emb (ix3 y0 y1 y2))]
    refine Eq.trans ?_ (fst_at _ _ _ _ (m ((c : Thread nD τ).loc main_arg1)) _ 1 _ _ _ (Fin.ext ((at_layer2 t _).trans h)) rfl).symm
    blk_point [iblk, V, idx t, idx1 t h]
  · rw [outsAt0_C m c t (by omega) (by omega) (by omega) (by omega)]
    frame_out
    idx_vars y
    refine (pay_at2 (iblk m c 2 t) (iblk m c 5 t) y0 y1 y2).trans ?_
    rw [eq_ix3 (((View.whole main_v0_2).slice (win0_9.rect t)).emb (ix3 y0 y1 y2))]
    refine Eq.trans ?_ (fst_at _ _ _ _ (m ((c : Thread nD τ).loc main_arg2)) _ 2 _ _ _ (Fin.ext ((at_layer2 t _).trans h)) rfl).symm
    blk_point [iblk, V, idx t, idx2 t h]
  · rw [outsAt0_D m c t (by omega) (by omega) (by omega) (by omega)]
    frame_out
    idx_vars y
    refine (pay_at2 (iblk m c 3 t) (iblk m c 5 t) y0 y1 y2).trans ?_
    rw [eq_ix3 (((View.whole main_v0_2).slice (win0_9.rect t)).emb (ix3 y0 y1 y2))]
    refine Eq.trans ?_ (fst_at _ _ _ _ (m ((c : Thread nD τ).loc main_arg3)) _ 3 _ _ _ (Fin.ext ((at_layer2 t _).trans h)) rfl).symm
    blk_point [iblk, V, idx t, idx3 t h]

/-- The layer an entry of the block lies in. -/
theorem at_layer3 (t : Fin cfg0.N) (y : S1x256x449.Idx) : ((((View.whole main_v0_3).slice (win0_10.rect t)).emb y 0 : Fin 4) : ℕ) = t.val / 4 := by
  have e : ((((View.whole main_v0_3).slice (win0_10.rect t)).emb y 0 : Fin 4) : ℕ) = win0_10.index t 0 * 1 + 1 * (y 0).val := rfl
  have hy : (y 0).val < 1 := (y 0).isLt
  rw [e]
  simp only [idx t, Matrix.cons_val_zero]
  omega

set_option maxHeartbeats 1600000 in
theorem final3 : (dats m 0 c).arrAt 10 cfg0.N = SND (m ((c : Thread nD τ).loc main_arg0)) (m ((c : Thread nD τ).loc main_arg1)) (m ((c : Thread nD τ).loc main_arg2)) (m ((c : Thread nD τ).loc main_arg3)) (m ((c : Thread nD τ).loc main_arg6)) := by
  refine (dats m 0 c).arrAt_eq_of_covers 10 _ (by decide +kernel) fun t _ y => ?_
  blk_simp
  rw [after0_10]
  obtain h | h | h | h := layer t
  · rw [outsAt0_A m c t (by omega) (by omega) (by omega) (by omega)]
    frame_out
    idx_vars y
    refine (pay_at3 (iblk m c 0 t) (iblk m c 6 t) y0 y1 y2).trans ?_
    rw [eq_ix3 (((View.whole main_v0_3).slice (win0_10.rect t)).emb (ix3 y0 y1 y2))]
    refine Eq.trans ?_ (snd_at _ _ _ _ (m ((c : Thread nD τ).loc main_arg0)) _ 0 _ _ _ (Fin.ext ((at_layer3 t _).trans h)) rfl).symm
    blk_point [iblk, V, idx t, idx0 t h]
  · rw [outsAt0_B m c t (by omega) (by omega) (by omega) (by omega)]
    frame_out
    idx_vars y
    refine (pay_at3 (iblk m c 1 t) (iblk m c 6 t) y0 y1 y2).trans ?_
    rw [eq_ix3 (((View.whole main_v0_3).slice (win0_10.rect t)).emb (ix3 y0 y1 y2))]
    refine Eq.trans ?_ (snd_at _ _ _ _ (m ((c : Thread nD τ).loc main_arg1)) _ 1 _ _ _ (Fin.ext ((at_layer3 t _).trans h)) rfl).symm
    blk_point [iblk, V, idx t, idx1 t h]
  · rw [outsAt0_C m c t (by omega) (by omega) (by omega) (by omega)]
    frame_out
    idx_vars y
    refine (pay_at3 (iblk m c 2 t) (iblk m c 6 t) y0 y1 y2).trans ?_
    rw [eq_ix3 (((View.whole main_v0_3).slice (win0_10.rect t)).emb (ix3 y0 y1 y2))]
    refine Eq.trans ?_ (snd_at _ _ _ _ (m ((c : Thread nD τ).loc main_arg2)) _ 2 _ _ _ (Fin.ext ((at_layer3 t _).trans h)) rfl).symm
    blk_point [iblk, V, idx t, idx2 t h]
  · rw [outsAt0_D m c t (by omega) (by omega) (by omega) (by omega)]
    frame_out
    idx_vars y
    refine (pay_at3 (iblk m c 3 t) (iblk m c 6 t) y0 y1 y2).trans ?_
    rw [eq_ix3 (((View.whole main_v0_3).slice (win0_10.rect t)).emb (ix3 y0 y1 y2))]
    refine Eq.trans ?_ (snd_at _ _ _ _ (m ((c : Thread nD τ).loc main_arg3)) _ 3 _ _ _ (Fin.ext ((at_layer3 t _).trans h)) rfl).symm
    blk_point [iblk, V, idx t, idx3 t h]

end Ker

/-- The reference runs to its end and leaves its arguments as they were. -/
theorem frame_ref : Cert.quiescent_Reference18Ideal := fun m ρ _ =>
  (θ_run Cert.Reference18Ideal.defs _ _).mono (fun r h => ⟨fun c => (h c).2.2.2.2, sem_eq_zero_of_no_sems (by decide) r.2⟩) (Cert.Reference18Ideal.Value.run m ρ)

/-- The value claim: kernel and reference end with the same four arrays. -/
theorem value : Cert.algebraic_Kernel18Ideal_Reference18Ideal := by
  intro m ρ m' ρ' _ hag
  refine ⟨fun c => GRAD (m ((c.tc : Thread Cert.Kernel18Ideal.nD Cert.Kernel18Ideal.τ).loc Cert.Kernel18Ideal.main_arg0)) (m ((c.tc : Thread Cert.Kernel18Ideal.nD Cert.Kernel18Ideal.τ).loc Cert.Kernel18Ideal.main_arg1)) (m ((c.tc : Thread Cert.Kernel18Ideal.nD Cert.Kernel18Ideal.τ).loc Cert.Kernel18Ideal.main_arg2)) (m ((c.tc : Thread Cert.Kernel18Ideal.nD Cert.Kernel18Ideal.τ).loc Cert.Kernel18Ideal.main_arg3)), fun c => DELTA (m ((c.tc : Thread Cert.Kernel18Ideal.nD Cert.Kernel18Ideal.τ).loc Cert.Kernel18Ideal.main_arg0)) (m ((c.tc : Thread Cert.Kernel18Ideal.nD Cert.Kernel18Ideal.τ).loc Cert.Kernel18Ideal.main_arg1)) (m ((c.tc : Thread Cert.Kernel18Ideal.nD Cert.Kernel18Ideal.τ).loc Cert.Kernel18Ideal.main_arg2)) (m ((c.tc : Thread Cert.Kernel18Ideal.nD Cert.Kernel18Ideal.τ).loc Cert.Kernel18Ideal.main_arg3)) (m ((c.tc : Thread Cert.Kernel18Ideal.nD Cert.Kernel18Ideal.τ).loc Cert.Kernel18Ideal.main_arg4)) (m ((c.tc : Thread Cert.Kernel18Ideal.nD Cert.Kernel18Ideal.τ).loc Cert.Kernel18Ideal.main_arg5)) (m ((c.tc : Thread Cert.Kernel18Ideal.nD Cert.Kernel18Ideal.τ).loc Cert.Kernel18Ideal.main_arg6)), fun c => FST (m ((c.tc : Thread Cert.Kernel18Ideal.nD Cert.Kernel18Ideal.τ).loc Cert.Kernel18Ideal.main_arg0)) (m ((c.tc : Thread Cert.Kernel18Ideal.nD Cert.Kernel18Ideal.τ).loc Cert.Kernel18Ideal.main_arg1)) (m ((c.tc : Thread Cert.Kernel18Ideal.nD Cert.Kernel18Ideal.τ).loc Cert.Kernel18Ideal.main_arg2)) (m ((c.tc : Thread Cert.Kernel18Ideal.nD Cert.Kernel18Ideal.τ).loc Cert.Kernel18Ideal.main_arg3)) (m ((c.tc : Thread Cert.Kernel18Ideal.nD Cert.Kernel18Ideal.τ).loc Cert.Kernel18Ideal.main_arg5)), fun c => SND (m ((c.tc : Thread Cert.Kernel18Ideal.nD Cert.Kernel18Ideal.τ).loc Cert.Kernel18Ideal.main_arg0)) (m ((c.tc : Thread Cert.Kernel18Ideal.nD Cert.Kernel18Ideal.τ).loc Cert.Kernel18Ideal.main_arg1)) (m ((c.tc : Thread Cert.Kernel18Ideal.nD Cert.Kernel18Ideal.τ).loc Cert.Kernel18Ideal.main_arg2)) (m ((c.tc : Thread Cert.Kernel18Ideal.nD Cert.Kernel18Ideal.τ).loc Cert.Kernel18Ideal.main_arg3)) (m ((c.tc : Thread Cert.Kernel18Ideal.nD Cert.Kernel18Ideal.τ).loc Cert.Kernel18Ideal.main_arg6)), ?_, ?_⟩
  · refine (θ_run Cert.Kernel18Ideal.defs _ _).mono (fun _ h c => ?_) (Cert.Kernel18Ideal.Value.run_blocks m ρ)
    exact ⟨(h c).1.trans (final0 m c), (h c).2.1.trans (final1 m c), (h c).2.2.1.trans (final2 m c), (h c).2.2.2.1.trans (final3 m c), (h c).2.2.2.2⟩
  · refine (θ_run Cert.Reference18Ideal.defs _ _).mono (fun _ h c => ?_) (Cert.Reference18Ideal.Value.run m' ρ')
    obtain ⟨h0, h1, h2, h3, h4, h5, h6⟩ := hag c
    refine ⟨(h c).1.trans ?_, (h c).2.1.trans ?_, (h c).2.2.1.trans ?_, (h c).2.2.2.1.trans ?_, (h c).2.2.2.2⟩
    · show GRAD (m' ((c.tc : Thread Cert.Reference18Ideal.nD Cert.Reference18Ideal.τ).loc Cert.Reference18Ideal.main_arg0)) (m' ((c.tc : Thread Cert.Reference18Ideal.nD Cert.Reference18Ideal.τ).loc Cert.Reference18Ideal.main_arg1)) (m' ((c.tc : Thread Cert.Reference18Ideal.nD Cert.Reference18Ideal.τ).loc Cert.Reference18Ideal.main_arg2)) (m' ((c.tc : Thread Cert.Reference18Ideal.nD Cert.Reference18Ideal.τ).loc Cert.Reference18Ideal.main_arg3)) = GRAD (m ((c.tc : Thread Cert.Kernel18Ideal.nD Cert.Kernel18Ideal.τ).loc Cert.Kernel18Ideal.main_arg0)) (m ((c.tc : Thread Cert.Kernel18Ideal.nD Cert.Kernel18Ideal.τ).loc Cert.Kernel18Ideal.main_arg1)) (m ((c.tc : Thread Cert.Kernel18Ideal.nD Cert.Kernel18Ideal.τ).loc Cert.Kernel18Ideal.main_arg2)) (m ((c.tc : Thread Cert.Kernel18Ideal.nD Cert.Kernel18Ideal.τ).loc Cert.Kernel18Ideal.main_arg3))
      rw [h0, h1, h2, h3]
    · show DELTA (m' ((c.tc : Thread Cert.Reference18Ideal.nD Cert.Reference18Ideal.τ).loc Cert.Reference18Ideal.main_arg0)) (m' ((c.tc : Thread Cert.Reference18Ideal.nD Cert.Reference18Ideal.τ).loc Cert.Reference18Ideal.main_arg1)) (m' ((c.tc : Thread Cert.Reference18Ideal.nD Cert.Reference18Ideal.τ).loc Cert.Reference18Ideal.main_arg2)) (m' ((c.tc : Thread Cert.Reference18Ideal.nD Cert.Reference18Ideal.τ).loc Cert.Reference18Ideal.main_arg3)) (m' ((c.tc : Thread Cert.Reference18Ideal.nD Cert.Reference18Ideal.τ).loc Cert.Reference18Ideal.main_arg4)) (m' ((c.tc : Thread Cert.Reference18Ideal.nD Cert.Reference18Ideal.τ).loc Cert.Reference18Ideal.main_arg5)) (m' ((c.tc : Thread Cert.Reference18Ideal.nD Cert.Reference18Ideal.τ).loc Cert.Reference18Ideal.main_arg6)) = DELTA (m ((c.tc : Thread Cert.Kernel18Ideal.nD Cert.Kernel18Ideal.τ).loc Cert.Kernel18Ideal.main_arg0)) (m ((c.tc : Thread Cert.Kernel18Ideal.nD Cert.Kernel18Ideal.τ).loc Cert.Kernel18Ideal.main_arg1)) (m ((c.tc : Thread Cert.Kernel18Ideal.nD Cert.Kernel18Ideal.τ).loc Cert.Kernel18Ideal.main_arg2)) (m ((c.tc : Thread Cert.Kernel18Ideal.nD Cert.Kernel18Ideal.τ).loc Cert.Kernel18Ideal.main_arg3)) (m ((c.tc : Thread Cert.Kernel18Ideal.nD Cert.Kernel18Ideal.τ).loc Cert.Kernel18Ideal.main_arg4)) (m ((c.tc : Thread Cert.Kernel18Ideal.nD Cert.Kernel18Ideal.τ).loc Cert.Kernel18Ideal.main_arg5)) (m ((c.tc : Thread Cert.Kernel18Ideal.nD Cert.Kernel18Ideal.τ).loc Cert.Kernel18Ideal.main_arg6))
      rw [h0, h1, h2, h3, h4, h5, h6]
    · show FST (m' ((c.tc : Thread Cert.Reference18Ideal.nD Cert.Reference18Ideal.τ).loc Cert.Reference18Ideal.main_arg0)) (m' ((c.tc : Thread Cert.Reference18Ideal.nD Cert.Reference18Ideal.τ).loc Cert.Reference18Ideal.main_arg1)) (m' ((c.tc : Thread Cert.Reference18Ideal.nD Cert.Reference18Ideal.τ).loc Cert.Reference18Ideal.main_arg2)) (m' ((c.tc : Thread Cert.Reference18Ideal.nD Cert.Reference18Ideal.τ).loc Cert.Reference18Ideal.main_arg3)) (m' ((c.tc : Thread Cert.Reference18Ideal.nD Cert.Reference18Ideal.τ).loc Cert.Reference18Ideal.main_arg5)) = FST (m ((c.tc : Thread Cert.Kernel18Ideal.nD Cert.Kernel18Ideal.τ).loc Cert.Kernel18Ideal.main_arg0)) (m ((c.tc : Thread Cert.Kernel18Ideal.nD Cert.Kernel18Ideal.τ).loc Cert.Kernel18Ideal.main_arg1)) (m ((c.tc : Thread Cert.Kernel18Ideal.nD Cert.Kernel18Ideal.τ).loc Cert.Kernel18Ideal.main_arg2)) (m ((c.tc : Thread Cert.Kernel18Ideal.nD Cert.Kernel18Ideal.τ).loc Cert.Kernel18Ideal.main_arg3)) (m ((c.tc : Thread Cert.Kernel18Ideal.nD Cert.Kernel18Ideal.τ).loc Cert.Kernel18Ideal.main_arg5))
      rw [h0, h1, h2, h3, h5]
    · show SND (m' ((c.tc : Thread Cert.Reference18Ideal.nD Cert.Reference18Ideal.τ).loc Cert.Reference18Ideal.main_arg0)) (m' ((c.tc : Thread Cert.Reference18Ideal.nD Cert.Reference18Ideal.τ).loc Cert.Reference18Ideal.main_arg1)) (m' ((c.tc : Thread Cert.Reference18Ideal.nD Cert.Reference18Ideal.τ).loc Cert.Reference18Ideal.main_arg2)) (m' ((c.tc : Thread Cert.Reference18Ideal.nD Cert.Reference18Ideal.τ).loc Cert.Reference18Ideal.main_arg3)) (m' ((c.tc : Thread Cert.Reference18Ideal.nD Cert.Reference18Ideal.τ).loc Cert.Reference18Ideal.main_arg6)) = SND (m ((c.tc : Thread Cert.Kernel18Ideal.nD Cert.Kernel18Ideal.τ).loc Cert.Kernel18Ideal.main_arg0)) (m ((c.tc : Thread Cert.Kernel18Ideal.nD Cert.Kernel18Ideal.τ).loc Cert.Kernel18Ideal.main_arg1)) (m ((c.tc : Thread Cert.Kernel18Ideal.nD Cert.Kernel18Ideal.τ).loc Cert.Kernel18Ideal.main_arg2)) (m ((c.tc : Thread Cert.Kernel18Ideal.nD Cert.Kernel18Ideal.τ).loc Cert.Kernel18Ideal.main_arg3)) (m ((c.tc : Thread Cert.Kernel18Ideal.nD Cert.Kernel18Ideal.τ).loc Cert.Kernel18Ideal.main_arg6))
      rw [h0, h1, h2, h3, h6]
end Cert.AdamIn
end
-- ==== Proof.AdamOut.lean ====
/- What `adamw_w_out` leaves: the gradient of the mixer's output product in every layer, the change of the weight and the two moments. -/
module

public import proofs.«01_k».proof.Proof.Gen.Kernel19Ideal.Value
public import proofs.«01_k».proof.Proof.Gen.Reference19Ideal.Run
public import Idealize.ShloMosaic.Lib.Pipeline.ReadBack
public import proofs.«01_k».proof.Proof.Adam

@[expose] public section

set_option maxRecDepth 16384

noncomputable section

namespace Cert.AdamOut

open Idealize.ShloMosaic Idealize.ShloMosaic.TcCoe Idealize.SL.Sem
open Idealize.ShloMosaic.Pipeline (Dat)

section Ref
open Cert.Reference19Ideal Cert.Reference19Ideal.Gen

/-- One layer's partial gradients, with the axis the layers are joined along. -/
def AX (P : FVec Ideal S8x128x1024 .bf16) : FVec Ideal S8x1x128x1024 .bf16 :=
  broadcastInDim S8x1x128x1024 ![0, 2, 3] bcast_S8x128x1024_S8x1x128x1024_0_2_3 P

variable (P0 P1 P2 P3 Q : FVec Ideal S8x128x1024 .bf16) (W M V : FVec Ideal S4x128x1024 .f32)

/-- The reference's gradient: the layers' partial gradients joined, widened and added. -/
def GRAD : FVec Ideal S4x128x1024 .f32 :=
  Host.reduceAdd (extf .f32 (concatenate S8x4x128x1024 1 [⟨S8x1x128x1024, AX P0⟩, ⟨S8x1x128x1024, AX P1⟩, ⟨S8x1x128x1024, AX P2⟩, ⟨S8x1x128x1024, AX P3⟩] concatenates_S8x1x128x1024_S8x1x128x1024_S8x1x128x1024_S8x1x128x1024_S8x4x128x1024_d1) bitsLt_bf16_f32) (constant S_ .f32 0x00000000#32) reducesTo_S8x4x128x1024_S4x128x1024_d0 h_S_

/-- The change of the weight. -/
def DELTA : FVec Ideal S4x128x1024 .f32 := Adam.STEP bcast_S_S4x128x1024 (GRAD P0 P1 P2 P3) W M V

/-- The first moment. -/
def FST : FVec Ideal S4x128x1024 .f32 := Adam.MOM bcast_S_S4x128x1024 (GRAD P0 P1 P2 P3) M

/-- The second moment. -/
def SND : FVec Ideal S4x128x1024 .f32 := Adam.SEC bcast_S_S4x128x1024 (GRAD P0 P1 P2 P3) V

variable (k l : Fin 4) (r : Fin 128) (d : Fin 1024) (h : l = k) (hq : ![P0, P1, P2, P3] k = Q)
include h hq

/-- The gradient at an entry of layer `k`, whose partial gradients are `Q`. -/
theorem grad_at : GRAD P0 P1 P2 P3 (ix3 l r d) = ∑ p : Fin 8, Q (ix3 p r d) := by
  subst h hq
  pointwise [GRAD, AX]
  fin_cases l <;> rfl

theorem delta_at : DELTA P0 P1 P2 P3 W M V (ix3 l r d) = Adam.step (∑ p : Fin 8, Q (ix3 p r d)) (W (ix3 l r d)) (M (ix3 l r d)) (V (ix3 l r d)) := by
  rw [← grad_at P0 P1 P2 P3 Q k l r d h hq]; rfl

theorem fst_at : FST P0 P1 P2 P3 M (ix3 l r d) = Adam.mom (∑ p : Fin 8, Q (ix3 p r d)) (M (ix3 l r d)) := by
  rw [← grad_at P0 P1 P2 P3 Q k l r d h hq]; rfl

theorem snd_at : SND P0 P1 P2 P3 V (ix3 l r d) = Adam.sec (∑ p : Fin 8, Q (ix3 p r d)) (V (ix3 l r d)) := by
  rw [← grad_at P0 P1 P2 P3 Q k l r d h hq]; rfl
end Ref

section Ker
open Cert.Kernel19Ideal Cert.Kernel19Ideal.Gen

section Pay
variable (x : Vec Ideal S8x128x1024 .bf16) (w a b : FVec Ideal S1x128x1024 .f32) (z : Fin 1) (r : Fin 128) (d : Fin 1024)

/-- The kernel's sum of a layer's eight partial gradients. -/
def KSUM : FVec Ideal S128x1024 .f32 :=
  k0_pay9 (F := Ideal) (View.ld x (Rect.unit ![0, 0, 0] ![1, 128, 1024] inb_S8x128x1024_S1x128x1024_0_0_0)) (View.ld x (Rect.unit ![1, 0, 0] ![1, 128, 1024] inb_S8x128x1024_S1x128x1024_1_0_0)) (View.ld x (Rect.unit ![2, 0, 0] ![1, 128, 1024] inb_S8x128x1024_S1x128x1024_2_0_0)) (View.ld x (Rect.unit ![3, 0, 0] ![1, 128, 1024] inb_S8x128x1024_S1x128x1024_3_0_0)) (View.ld x (Rect.unit ![4, 0, 0] ![1, 128, 1024] inb_S8x128x1024_S1x128x1024_4_0_0)) (View.ld x (Rect.unit ![5, 0, 0] ![1, 128, 1024] inb_S8x128x1024_S1x128x1024_5_0_0)) (View.ld x (Rect.unit ![6, 0, 0] ![1, 128, 1024] inb_S8x128x1024_S1x128x1024_6_0_0)) (View.ld x (Rect.unit ![7, 0, 0] ![1, 128, 1024] inb_S8x128x1024_S1x128x1024_7_0_0))

/-- The sum at an entry. -/
theorem ksum_at : KSUM x (ix2 r d) = ∑ p : Fin 8, x (ix3 p r d) := by
  refine Eq.trans ?_ (Adam.sum_eight _)
  unfold KSUM
  pointwise [k0_pay9]

theorem pay_at0 : k0_pay13 (F := Ideal) (KSUM x) (ix3 z r d) = ∑ p : Fin 8, x (ix3 p r d) := by
  rw [← ksum_at]
  pointwise [k0_pay13]

theorem pay_at1 : k0_pay14 (F := Ideal) (KSUM x) (k0_pay10 (F := Ideal) a) b w (ix3 z r d) = Adam.step (∑ p : Fin 8, x (ix3 p r d)) (w (ix3 0 r d)) (a (ix3 0 r d)) (b (ix3 0 r d)) := by
  rw [← ksum_at]
  pointwise [k0_pay14, k0_pay10, k0_pay11, k0_pay12, Adam.step, Adam.mom, Adam.sec]

theorem pay_at2 : k0_pay1 (F := Ideal) (k0_pay11 (F := Ideal) (KSUM x) (k0_pay10 (F := Ideal) a)) (ix3 z r d) = Adam.mom (∑ p : Fin 8, x (ix3 p r d)) (a (ix3 0 r d)) := by
  rw [← ksum_at]
  pointwise [k0_pay1, k0_pay10, k0_pay11, Adam.mom]

theorem pay_at3 : k0_pay2 (F := Ideal) (k0_pay12 (F := Ideal) (KSUM x) b) (ix3 z r d) = Adam.sec (∑ p : Fin 8, x (ix3 p r d)) (b (ix3 0 r d)) := by
  rw [← ksum_at]
  pointwise [k0_pay2, k0_pay12, Adam.sec]
end Pay

variable (m : (ℓ : Loc nD τ sig) → Buf (Elt Ideal) ℓ) (c : Dev nD)

/-- A grid point is of one of the four layers. -/
theorem layer : ∀ t : Fin cfg0.N, t.val = 0 ∨ t.val = 1 ∨ t.val = 2 ∨ t.val = 3 :=
  (by decide +kernel : ∀ t : Fin grid0.N, _)

/-- The index maps of the weight, the moments and the results. -/
theorem idx : ∀ t : Fin cfg0.N, win0_4.index t = ![t.val, 0, 0] ∧ win0_5.index t = ![t.val, 0, 0] ∧ win0_6.index t = ![t.val, 0, 0] ∧ win0_7.index t = ![t.val, 0, 0] ∧ win0_8.index t = ![t.val, 0, 0] ∧ win0_9.index t = ![t.val, 0, 0] ∧ win0_10.index t = ![t.val, 0, 0] ∧ t.val < 4 :=
  (by decide +kernel : ∀ t : Fin grid0.N, _)

theorem idx0 : ∀ t : Fin cfg0.N, t.val = 0 → win0_0.index t = ![0, 0, 0] :=
  (by decide +kernel : ∀ t : Fin grid0.N, _)

theorem idx1 : ∀ t : Fin cfg0.N, t.val = 1 → win0_1.index t = ![0, 0, 0] :=
  (by decide +kernel : ∀ t : Fin grid0.N, _)

theorem idx2 : ∀ t : Fin cfg0.N, t.val = 2 → win0_2.index t = ![0, 0, 0] :=
  (by decide +kernel : ∀ t : Fin grid0.N, _)

theorem idx3 : ∀ t : Fin cfg0.N, t.val = 3 → win0_3.index t = ![0, 0, 0] :=
  (by decide +kernel : ∀ t : Fin grid0.N, _)

/-- The layer an entry of the block lies in. -/
theorem at_layer0 (t : Fin cfg0.N) (y : S1x128x1024.Idx) : ((((View.whole main_v0_0).slice (win0_7.rect t)).emb y 0 : Fin 4) : ℕ) = t.val := by
  have e : ((((View.whole main_v0_0).slice (win0_7.rect t)).emb y 0 : Fin 4) : ℕ) = win0_7.index t 0 * 1 + 1 * (y 0).val := rfl
  have hy : (y 0).val < 1 := (y 0).isLt
  rw [e]
  simp only [idx t, Matrix.cons_val_zero]
  omega

set_option maxHeartbeats 1600000 in
theorem final0 : (dats m 0 c).arrAt 7 cfg0.N = GRAD (m ((c : Thread nD τ).loc main_arg0)) (m ((c : Thread nD τ).loc main_arg1)) (m ((c : Thread nD τ).loc main_arg2)) (m ((c : Thread nD τ).loc main_arg3)) := by
  refine (dats m 0 c).arrAt_eq_of_covers 7 _ (by decide +kernel) fun t _ y => ?_
  blk_simp
  rw [after0_7]
  obtain h | h | h | h := layer t
  · rw [outsAt0_A m c t (by omega) (by omega) (by omega) (by omega)]
    frame_out
    idx_vars y
    refine (pay_at0 (iblk m c 0 t) y0 y1 y2).trans ?_
    rw [eq_ix3 (((View.whole main_v0_0).slice (win0_7.rect t)).emb (ix3 y0 y1 y2))]
    refine Eq.trans ?_ (grad_at _ _ _ _ (m ((c : Thread nD τ).loc main_arg0)) 0 _ _ _ (Fin.ext ((at_layer0 t _).trans h)) rfl).symm
    blk_point [iblk, V, idx t, idx0 t h]
  · rw [outsAt0_B m c t (by omega) (by omega) (by omega) (by omega)]
    frame_out
    idx_vars y
    refine (pay_at0 (iblk m c 1 t) y0 y1 y2).trans ?_
    rw [eq_ix3 (((View.whole main_v0_0).slice (win0_7.rect t)).emb (ix3 y0 y1 y2))]
    refine Eq.trans ?_ (grad_at _ _ _ _ (m ((c : Thread nD τ).loc main_arg1)) 1 _ _ _ (Fin.ext ((at_layer0 t _).trans h)) rfl).symm
    blk_point [iblk, V, idx t, idx1 t h]
  · rw [outsAt0_C m c t (by omega) (by omega) (by omega) (by omega)]
    frame_out
    idx_vars y
    refine (pay_at0 (iblk m c 2 t) y0 y1 y2).trans ?_
    rw [eq_ix3 (((View.whole main_v0_0).slice (win0_7.rect t)).emb (ix3 y0 y1 y2))]
    refine Eq.trans ?_ (grad_at _ _ _ _ (m ((c : Thread nD τ).loc main_arg2)) 2 _ _ _ (Fin.ext ((at_layer0 t _).trans h)) rfl).symm
    blk_point [iblk, V, idx t, idx2 t h]
  · rw [outsAt0_D m c t (by omega) (by omega) (by omega) (by omega)]
    frame_out
    idx_vars y
    refine (pay_at0 (iblk m c 3 t) y0 y1 y2).trans ?_
    rw [eq_ix3 (((View.whole main_v0_0).slice (win0_7.rect t)).emb (ix3 y0 y1 y2))]
    refine Eq.trans ?_ (grad_at _ _ _ _ (m ((c : Thread nD τ).loc main_arg3)) 3 _ _ _ (Fin.ext ((at_layer0 t _).trans h)) rfl).symm
    blk_point [iblk, V, idx t, idx3 t h]

/-- The layer an entry of the block lies in. -/
theorem at_layer1 (t : Fin cfg0.N) (y : S1x128x1024.Idx) : ((((View.whole main_v0_1).slice (win0_8.rect t)).emb y 0 : Fin 4) : ℕ) = t.val := by
  have e : ((((View.whole main_v0_1).slice (win0_8.rect t)).emb y 0 : Fin 4) : ℕ) = win0_8.index t 0 * 1 + 1 * (y 0).val := rfl
  have hy : (y 0).val < 1 := (y 0).isLt
  rw [e]
  simp only [idx t, Matrix.cons_val_zero]
  omega

set_option maxHeartbeats 1600000 in
theorem final1 : (dats m 0 c).arrAt 8 cfg0.N = DELTA (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  refine (dats m 0 c).arrAt_eq_of_covers 8 _ (by decide +kernel) fun t _ y => ?_
  blk_simp
  rw [after0_8]
  obtain h | h | h | h := layer t
  · rw [outsAt0_A m c t (by omega) (by omega) (by omega) (by omega)]
    frame_out
    idx_vars y
    refine (pay_at1 (iblk m c 0 t) (iblk m c 4 t) (iblk m c 5 t) (iblk m c 6 t) y0 y1 y2).trans ?_
    rw [eq_ix3 (((View.whole main_v0_1).slice (win0_8.rect t)).emb (ix3 y0 y1 y2))]
    refine Eq.trans ?_ (delta_at _ _ _ _ (m ((c : Thread nD τ).loc main_arg0)) _ _ _ 0 _ _ _ (Fin.ext ((at_layer1 t _).trans h)) rfl).symm
    blk_point [iblk, V, idx t, idx0 t h]
  · rw [outsAt0_B m c t (by omega) (by omega) (by omega) (by omega)]
    frame_out
    idx_vars y
    refine (pay_at1 (iblk m c 1 t) (iblk m c 4 t) (iblk m c 5 t) (iblk m c 6 t) y0 y1 y2).trans ?_
    rw [eq_ix3 (((View.whole main_v0_1).slice (win0_8.rect t)).emb (ix3 y0 y1 y2))]
    refine Eq.trans ?_ (delta_at _ _ _ _ (m ((c : Thread nD τ).loc main_arg1)) _ _ _ 1 _ _ _ (Fin.ext ((at_layer1 t _).trans h)) rfl).symm
    blk_point [iblk, V, idx t, idx1 t h]
  · rw [outsAt0_C m c t (by omega) (by omega) (by omega) (by omega)]
    frame_out
    idx_vars y
    refine (pay_at1 (iblk m c 2 t) (iblk m c 4 t) (iblk m c 5 t) (iblk m c 6 t) y0 y1 y2).trans ?_
    rw [eq_ix3 (((View.whole main_v0_1).slice (win0_8.rect t)).emb (ix3 y0 y1 y2))]
    refine Eq.trans ?_ (delta_at _ _ _ _ (m ((c : Thread nD τ).loc main_arg2)) _ _ _ 2 _ _ _ (Fin.ext ((at_layer1 t _).trans h)) rfl).symm
    blk_point [iblk, V, idx t, idx2 t h]
  · rw [outsAt0_D m c t (by omega) (by omega) (by omega) (by omega)]
    frame_out
    idx_vars y
    refine (pay_at1 (iblk m c 3 t) (iblk m c 4 t) (iblk m c 5 t) (iblk m c 6 t) y0 y1 y2).trans ?_
    rw [eq_ix3 (((View.whole main_v0_1).slice (win0_8.rect t)).emb (ix3 y0 y1 y2))]
    refine Eq.trans ?_ (delta_at _ _ _ _ (m ((c : Thread nD τ).loc main_arg3)) _ _ _ 3 _ _ _ (Fin.ext ((at_layer1 t _).trans h)) rfl).symm
    blk_point [iblk, V, idx t, idx3 t h]

/-- The layer an entry of the block lies in. -/
theorem at_layer2 (t : Fin cfg0.N) (y : S1x128x1024.Idx) : ((((View.whole main_v0_2).slice (win0_9.rect t)).emb y 0 : Fin 4) : ℕ) = t.val := by
  have e : ((((View.whole main_v0_2).slice (win0_9.rect t)).emb y 0 : Fin 4) : ℕ) = win0_9.index t 0 * 1 + 1 * (y 0).val := rfl
  have hy : (y 0).val < 1 := (y 0).isLt
  rw [e]
  simp only [idx t, Matrix.cons_val_zero]
  omega

set_option maxHeartbeats 1600000 in
theorem final2 : (dats m 0 c).arrAt 9 cfg0.N = FST (m ((c : Thread nD τ).loc main_arg0)) (m ((c : Thread nD τ).loc main_arg1)) (m ((c : Thread nD τ).loc main_arg2)) (m ((c : Thread nD τ).loc main_arg3)) (m ((c : Thread nD τ).loc main_arg5)) := by
  refine (dats m 0 c).arrAt_eq_of_covers 9 _ (by decide +kernel) fun t _ y => ?_
  blk_simp
  rw [after0_9]
  obtain h | h | h | h := layer t
  · rw [outsAt0_A m c t (by omega) (by omega) (by omega) (by omega)]
    frame_out
    idx_vars y
    refine (pay_at2 (iblk m c 0 t) (iblk m c 5 t) y0 y1 y2).trans ?_
    rw [eq_ix3 (((View.whole main_v0_2).slice (win0_9.rect t)).emb (ix3 y0 y1 y2))]
    refine Eq.trans ?_ (fst_at _ _ _ _ (m ((c : Thread nD τ).loc main_arg0)) _ 0 _ _ _ (Fin.ext ((at_layer2 t _).trans h)) rfl).symm
    blk_point [iblk, V, idx t, idx0 t h]
  · rw [outsAt0_B m c t (by omega) (by omega) (by omega) (by omega)]
    frame_out
    idx_vars y
    refine (pay_at2 (iblk m c 1 t) (iblk m c 5 t) y0 y1 y2).trans ?_
    rw [eq_ix3 (((View.whole main_v0_2).slice (win0_9.rect t)).emb (ix3 y0 y1 y2))]
    refine Eq.trans ?_ (fst_at _ _ _ _ (m ((c : Thread nD τ).loc main_arg1)) _ 1 _ _ _ (Fin.ext ((at_layer2 t _).trans h)) rfl).symm
    blk_point [iblk, V, idx t, idx1 t h]
  · rw [outsAt0_C m c t (by omega) (by omega) (by omega) (by omega)]
    frame_out
    idx_vars y
    refine (pay_at2 (iblk m c 2 t) (iblk m c 5 t) y0 y1 y2).trans ?_
    rw [eq_ix3 (((View.whole main_v0_2).slice (win0_9.rect t)).emb (ix3 y0 y1 y2))]
    refine Eq.trans ?_ (fst_at _ _ _ _ (m ((c : Thread nD τ).loc main_arg2)) _ 2 _ _ _ (Fin.ext ((at_layer2 t _).trans h)) rfl).symm
    blk_point [iblk, V, idx t, idx2 t h]
  · rw [outsAt0_D m c t (by omega) (by omega) (by omega) (by omega)]
    frame_out
    idx_vars y
    refine (pay_at2 (iblk m c 3 t) (iblk m c 5 t) y0 y1 y2).trans ?_
    rw [eq_ix3 (((View.whole main_v0_2).slice (win0_9.rect t)).emb (ix3 y0 y1 y2))]
    refine Eq.trans ?_ (fst_at _ _ _ _ (m ((c : Thread nD τ).loc main_arg3)) _ 3 _ _ _ (Fin.ext ((at_layer2 t _).trans h)) rfl).symm
    blk_point [iblk, V, idx t, idx3 t h]

/-- The layer an entry of the block lies in. -/
theorem at_layer3 (t : Fin cfg0.N) (y : S1x128x1024.Idx) : ((((View.whole main_v0_3).slice (win0_10.rect t)).emb y 0 : Fin 4) : ℕ) = t.val := by
  have e : ((((View.whole main_v0_3).slice (win0_10.rect t)).emb y 0 : Fin 4) : ℕ) = win0_10.index t 0 * 1 + 1 * (y 0).val := rfl
  have hy : (y 0).val < 1 := (y 0).isLt
  rw [e]
  simp only [idx t, Matrix.cons_val_zero]
  omega

set_option maxHeartbeats 1600000 in
theorem final3 : (dats m 0 c).arrAt 10 cfg0.N = SND (m ((c : Thread nD τ).loc main_arg0)) (m ((c : Thread nD τ).loc main_arg1)) (m ((c : Thread nD τ).loc main_arg2)) (m ((c : Thread nD τ).loc main_arg3)) (m ((c : Thread nD τ).loc main_arg6)) := by
  refine (dats m 0 c).arrAt_eq_of_covers 10 _ (by decide +kernel) fun t _ y => ?_
  blk_simp
  rw [after0_10]
  obtain h | h | h | h := layer t
  · rw [outsAt0_A m c t (by omega) (by omega) (by omega) (by omega)]
    frame_out
    idx_vars y
    refine (pay_at3 (iblk m c 0 t) (iblk m c 6 t) y0 y1 y2).trans ?_
    rw [eq_ix3 (((View.whole main_v0_3).slice (win0_10.rect t)).emb (ix3 y0 y1 y2))]
    refine Eq.trans ?_ (snd_at _ _ _ _ (m ((c : Thread nD τ).loc main_arg0)) _ 0 _ _ _ (Fin.ext ((at_layer3 t _).trans h)) rfl).symm
    blk_point [iblk, V, idx t, idx0 t h]
  · rw [outsAt0_B m c t (by omega) (by omega) (by omega) (by omega)]
    frame_out
    idx_vars y
    refine (pay_at3 (iblk m c 1 t) (iblk m c 6 t) y0 y1 y2).trans ?_
    rw [eq_ix3 (((View.whole main_v0_3).slice (win0_10.rect t)).emb (ix3 y0 y1 y2))]
    refine Eq.trans ?_ (snd_at _ _ _ _ (m ((c : Thread nD τ).loc main_arg1)) _ 1 _ _ _ (Fin.ext ((at_layer3 t _).trans h)) rfl).symm
    blk_point [iblk, V, idx t, idx1 t h]
  · rw [outsAt0_C m c t (by omega) (by omega) (by omega) (by omega)]
    frame_out
    idx_vars y
    refine (pay_at3 (iblk m c 2 t) (iblk m c 6 t) y0 y1 y2).trans ?_
    rw [eq_ix3 (((View.whole main_v0_3).slice (win0_10.rect t)).emb (ix3 y0 y1 y2))]
    refine Eq.trans ?_ (snd_at _ _ _ _ (m ((c : Thread nD τ).loc main_arg2)) _ 2 _ _ _ (Fin.ext ((at_layer3 t _).trans h)) rfl).symm
    blk_point [iblk, V, idx t, idx2 t h]
  · rw [outsAt0_D m c t (by omega) (by omega) (by omega) (by omega)]
    frame_out
    idx_vars y
    refine (pay_at3 (iblk m c 3 t) (iblk m c 6 t) y0 y1 y2).trans ?_
    rw [eq_ix3 (((View.whole main_v0_3).slice (win0_10.rect t)).emb (ix3 y0 y1 y2))]
    refine Eq.trans ?_ (snd_at _ _ _ _ (m ((c : Thread nD τ).loc main_arg3)) _ 3 _ _ _ (Fin.ext ((at_layer3 t _).trans h)) rfl).symm
    blk_point [iblk, V, idx t, idx3 t h]

end Ker

/-- The reference runs to its end and leaves its arguments as they were. -/
theorem frame_ref : Cert.quiescent_Reference19Ideal := fun m ρ _ =>
  (θ_run Cert.Reference19Ideal.defs _ _).mono (fun r h => ⟨fun c => (h c).2.2.2.2, sem_eq_zero_of_no_sems (by decide) r.2⟩) (Cert.Reference19Ideal.Value.run m ρ)

/-- The value claim: kernel and reference end with the same four arrays. -/
theorem value : Cert.algebraic_Kernel19Ideal_Reference19Ideal := by
  intro m ρ m' ρ' _ hag
  refine ⟨fun c => GRAD (m ((c.tc : Thread Cert.Kernel19Ideal.nD Cert.Kernel19Ideal.τ).loc Cert.Kernel19Ideal.main_arg0)) (m ((c.tc : Thread Cert.Kernel19Ideal.nD Cert.Kernel19Ideal.τ).loc Cert.Kernel19Ideal.main_arg1)) (m ((c.tc : Thread Cert.Kernel19Ideal.nD Cert.Kernel19Ideal.τ).loc Cert.Kernel19Ideal.main_arg2)) (m ((c.tc : Thread Cert.Kernel19Ideal.nD Cert.Kernel19Ideal.τ).loc Cert.Kernel19Ideal.main_arg3)), fun c => DELTA (m ((c.tc : Thread Cert.Kernel19Ideal.nD Cert.Kernel19Ideal.τ).loc Cert.Kernel19Ideal.main_arg0)) (m ((c.tc : Thread Cert.Kernel19Ideal.nD Cert.Kernel19Ideal.τ).loc Cert.Kernel19Ideal.main_arg1)) (m ((c.tc : Thread Cert.Kernel19Ideal.nD Cert.Kernel19Ideal.τ).loc Cert.Kernel19Ideal.main_arg2)) (m ((c.tc : Thread Cert.Kernel19Ideal.nD Cert.Kernel19Ideal.τ).loc Cert.Kernel19Ideal.main_arg3)) (m ((c.tc : Thread Cert.Kernel19Ideal.nD Cert.Kernel19Ideal.τ).loc Cert.Kernel19Ideal.main_arg4)) (m ((c.tc : Thread Cert.Kernel19Ideal.nD Cert.Kernel19Ideal.τ).loc Cert.Kernel19Ideal.main_arg5)) (m ((c.tc : Thread Cert.Kernel19Ideal.nD Cert.Kernel19Ideal.τ).loc Cert.Kernel19Ideal.main_arg6)), fun c => FST (m ((c.tc : Thread Cert.Kernel19Ideal.nD Cert.Kernel19Ideal.τ).loc Cert.Kernel19Ideal.main_arg0)) (m ((c.tc : Thread Cert.Kernel19Ideal.nD Cert.Kernel19Ideal.τ).loc Cert.Kernel19Ideal.main_arg1)) (m ((c.tc : Thread Cert.Kernel19Ideal.nD Cert.Kernel19Ideal.τ).loc Cert.Kernel19Ideal.main_arg2)) (m ((c.tc : Thread Cert.Kernel19Ideal.nD Cert.Kernel19Ideal.τ).loc Cert.Kernel19Ideal.main_arg3)) (m ((c.tc : Thread Cert.Kernel19Ideal.nD Cert.Kernel19Ideal.τ).loc Cert.Kernel19Ideal.main_arg5)), fun c => SND (m ((c.tc : Thread Cert.Kernel19Ideal.nD Cert.Kernel19Ideal.τ).loc Cert.Kernel19Ideal.main_arg0)) (m ((c.tc : Thread Cert.Kernel19Ideal.nD Cert.Kernel19Ideal.τ).loc Cert.Kernel19Ideal.main_arg1)) (m ((c.tc : Thread Cert.Kernel19Ideal.nD Cert.Kernel19Ideal.τ).loc Cert.Kernel19Ideal.main_arg2)) (m ((c.tc : Thread Cert.Kernel19Ideal.nD Cert.Kernel19Ideal.τ).loc Cert.Kernel19Ideal.main_arg3)) (m ((c.tc : Thread Cert.Kernel19Ideal.nD Cert.Kernel19Ideal.τ).loc Cert.Kernel19Ideal.main_arg6)), ?_, ?_⟩
  · refine (θ_run Cert.Kernel19Ideal.defs _ _).mono (fun _ h c => ?_) (Cert.Kernel19Ideal.Value.run_blocks m ρ)
    exact ⟨(h c).1.trans (final0 m c), (h c).2.1.trans (final1 m c), (h c).2.2.1.trans (final2 m c), (h c).2.2.2.1.trans (final3 m c), (h c).2.2.2.2⟩
  · refine (θ_run Cert.Reference19Ideal.defs _ _).mono (fun _ h c => ?_) (Cert.Reference19Ideal.Value.run m' ρ')
    obtain ⟨h0, h1, h2, h3, h4, h5, h6⟩ := hag c
    refine ⟨(h c).1.trans ?_, (h c).2.1.trans ?_, (h c).2.2.1.trans ?_, (h c).2.2.2.1.trans ?_, (h c).2.2.2.2⟩
    · show GRAD (m' ((c.tc : Thread Cert.Reference19Ideal.nD Cert.Reference19Ideal.τ).loc Cert.Reference19Ideal.main_arg0)) (m' ((c.tc : Thread Cert.Reference19Ideal.nD Cert.Reference19Ideal.τ).loc Cert.Reference19Ideal.main_arg1)) (m' ((c.tc : Thread Cert.Reference19Ideal.nD Cert.Reference19Ideal.τ).loc Cert.Reference19Ideal.main_arg2)) (m' ((c.tc : Thread Cert.Reference19Ideal.nD Cert.Reference19Ideal.τ).loc Cert.Reference19Ideal.main_arg3)) = GRAD (m ((c.tc : Thread Cert.Kernel19Ideal.nD Cert.Kernel19Ideal.τ).loc Cert.Kernel19Ideal.main_arg0)) (m ((c.tc : Thread Cert.Kernel19Ideal.nD Cert.Kernel19Ideal.τ).loc Cert.Kernel19Ideal.main_arg1)) (m ((c.tc : Thread Cert.Kernel19Ideal.nD Cert.Kernel19Ideal.τ).loc Cert.Kernel19Ideal.main_arg2)) (m ((c.tc : Thread Cert.Kernel19Ideal.nD Cert.Kernel19Ideal.τ).loc Cert.Kernel19Ideal.main_arg3))
      rw [h0, h1, h2, h3]
    · show DELTA (m' ((c.tc : Thread Cert.Reference19Ideal.nD Cert.Reference19Ideal.τ).loc Cert.Reference19Ideal.main_arg0)) (m' ((c.tc : Thread Cert.Reference19Ideal.nD Cert.Reference19Ideal.τ).loc Cert.Reference19Ideal.main_arg1)) (m' ((c.tc : Thread Cert.Reference19Ideal.nD Cert.Reference19Ideal.τ).loc Cert.Reference19Ideal.main_arg2)) (m' ((c.tc : Thread Cert.Reference19Ideal.nD Cert.Reference19Ideal.τ).loc Cert.Reference19Ideal.main_arg3)) (m' ((c.tc : Thread Cert.Reference19Ideal.nD Cert.Reference19Ideal.τ).loc Cert.Reference19Ideal.main_arg4)) (m' ((c.tc : Thread Cert.Reference19Ideal.nD Cert.Reference19Ideal.τ).loc Cert.Reference19Ideal.main_arg5)) (m' ((c.tc : Thread Cert.Reference19Ideal.nD Cert.Reference19Ideal.τ).loc Cert.Reference19Ideal.main_arg6)) = DELTA (m ((c.tc : Thread Cert.Kernel19Ideal.nD Cert.Kernel19Ideal.τ).loc Cert.Kernel19Ideal.main_arg0)) (m ((c.tc : Thread Cert.Kernel19Ideal.nD Cert.Kernel19Ideal.τ).loc Cert.Kernel19Ideal.main_arg1)) (m ((c.tc : Thread Cert.Kernel19Ideal.nD Cert.Kernel19Ideal.τ).loc Cert.Kernel19Ideal.main_arg2)) (m ((c.tc : Thread Cert.Kernel19Ideal.nD Cert.Kernel19Ideal.τ).loc Cert.Kernel19Ideal.main_arg3)) (m ((c.tc : Thread Cert.Kernel19Ideal.nD Cert.Kernel19Ideal.τ).loc Cert.Kernel19Ideal.main_arg4)) (m ((c.tc : Thread Cert.Kernel19Ideal.nD Cert.Kernel19Ideal.τ).loc Cert.Kernel19Ideal.main_arg5)) (m ((c.tc : Thread Cert.Kernel19Ideal.nD Cert.Kernel19Ideal.τ).loc Cert.Kernel19Ideal.main_arg6))
      rw [h0, h1, h2, h3, h4, h5, h6]
    · show FST (m' ((c.tc : Thread Cert.Reference19Ideal.nD Cert.Reference19Ideal.τ).loc Cert.Reference19Ideal.main_arg0)) (m' ((c.tc : Thread Cert.Reference19Ideal.nD Cert.Reference19Ideal.τ).loc Cert.Reference19Ideal.main_arg1)) (m' ((c.tc : Thread Cert.Reference19Ideal.nD Cert.Reference19Ideal.τ).loc Cert.Reference19Ideal.main_arg2)) (m' ((c.tc : Thread Cert.Reference19Ideal.nD Cert.Reference19Ideal.τ).loc Cert.Reference19Ideal.main_arg3)) (m' ((c.tc : Thread Cert.Reference19Ideal.nD Cert.Reference19Ideal.τ).loc Cert.Reference19Ideal.main_arg5)) = FST (m ((c.tc : Thread Cert.Kernel19Ideal.nD Cert.Kernel19Ideal.τ).loc Cert.Kernel19Ideal.main_arg0)) (m ((c.tc : Thread Cert.Kernel19Ideal.nD Cert.Kernel19Ideal.τ).loc Cert.Kernel19Ideal.main_arg1)) (m ((c.tc : Thread Cert.Kernel19Ideal.nD Cert.Kernel19Ideal.τ).loc Cert.Kernel19Ideal.main_arg2)) (m ((c.tc : Thread Cert.Kernel19Ideal.nD Cert.Kernel19Ideal.τ).loc Cert.Kernel19Ideal.main_arg3)) (m ((c.tc : Thread Cert.Kernel19Ideal.nD Cert.Kernel19Ideal.τ).loc Cert.Kernel19Ideal.main_arg5))
      rw [h0, h1, h2, h3, h5]
    · show SND (m' ((c.tc : Thread Cert.Reference19Ideal.nD Cert.Reference19Ideal.τ).loc Cert.Reference19Ideal.main_arg0)) (m' ((c.tc : Thread Cert.Reference19Ideal.nD Cert.Reference19Ideal.τ).loc Cert.Reference19Ideal.main_arg1)) (m' ((c.tc : Thread Cert.Reference19Ideal.nD Cert.Reference19Ideal.τ).loc Cert.Reference19Ideal.main_arg2)) (m' ((c.tc : Thread Cert.Reference19Ideal.nD Cert.Reference19Ideal.τ).loc Cert.Reference19Ideal.main_arg3)) (m' ((c.tc : Thread Cert.Reference19Ideal.nD Cert.Reference19Ideal.τ).loc Cert.Reference19Ideal.main_arg6)) = SND (m ((c.tc : Thread Cert.Kernel19Ideal.nD Cert.Kernel19Ideal.τ).loc Cert.Kernel19Ideal.main_arg0)) (m ((c.tc : Thread Cert.Kernel19Ideal.nD Cert.Kernel19Ideal.τ).loc Cert.Kernel19Ideal.main_arg1)) (m ((c.tc : Thread Cert.Kernel19Ideal.nD Cert.Kernel19Ideal.τ).loc Cert.Kernel19Ideal.main_arg2)) (m ((c.tc : Thread Cert.Kernel19Ideal.nD Cert.Kernel19Ideal.τ).loc Cert.Kernel19Ideal.main_arg3)) (m ((c.tc : Thread Cert.Kernel19Ideal.nD Cert.Kernel19Ideal.τ).loc Cert.Kernel19Ideal.main_arg6))
      rw [h0, h1, h2, h3, h6]
end Cert.AdamOut
end
-- ==== Proof.AdamUp.lean ====
/- What `adamw_w_ff1` leaves: the gradient of the MLP's first product in every layer, the change of the weight and the two moments. -/
module

public import proofs.«01_k».proof.Proof.Gen.Kernel20Ideal.Value
public import proofs.«01_k».proof.Proof.Gen.Reference20Ideal.Run
public import Idealize.ShloMosaic.Lib.Pipeline.ReadBack
public import proofs.«01_k».proof.Proof.Adam

@[expose] public section

set_option maxRecDepth 16384

noncomputable section

namespace Cert.AdamUp

open Idealize.ShloMosaic Idealize.ShloMosaic.TcCoe Idealize.SL.Sem
open Idealize.ShloMosaic.Pipeline (Dat)

section Ref
open Cert.Reference20Ideal Cert.Reference20Ideal.Gen

/-- One layer's partial gradients, with the axis the layers are joined along. -/
def AX (P : FVec Ideal S8x1024x512 .bf16) : FVec Ideal S8x1x1024x512 .bf16 :=
  broadcastInDim S8x1x1024x512 ![0, 2, 3] bcast_S8x1024x512_S8x1x1024x512_0_2_3 P

variable (P0 P1 P2 P3 Q : FVec Ideal S8x1024x512 .bf16) (W M V : FVec Ideal S4x1024x512 .f32)

/-- The reference's gradient: the layers' partial gradients joined, widened and added. -/
def GRAD : FVec Ideal S4x1024x512 .f32 :=
  Host.reduceAdd (extf .f32 (concatenate S8x4x1024x512 1 [⟨S8x1x1024x512, AX P0⟩, ⟨S8x1x1024x512, AX P1⟩, ⟨S8x1x1024x512, AX P2⟩, ⟨S8x1x1024x512, AX P3⟩] concatenates_S8x1x1024x512_S8x1x1024x512_S8x1x1024x512_S8x1x1024x512_S8x4x1024x512_d1) bitsLt_bf16_f32) (constant S_ .f32 0x00000000#32) reducesTo_S8x4x1024x512_S4x1024x512_d0 h_S_

/-- The change of the weight. -/
def DELTA : FVec Ideal S4x1024x512 .f32 := Adam.STEP bcast_S_S4x1024x512 (GRAD P0 P1 P2 P3) W M V

/-- The first moment. -/
def FST : FVec Ideal S4x1024x512 .f32 := Adam.MOM bcast_S_S4x1024x512 (GRAD P0 P1 P2 P3) M

/-- The second moment. -/
def SND : FVec Ideal S4x1024x512 .f32 := Adam.SEC bcast_S_S4x1024x512 (GRAD P0 P1 P2 P3) V

variable (k l : Fin 4) (r : Fin 1024) (d : Fin 512) (h : l = k) (hq : ![P0, P1, P2, P3] k = Q)
include h hq

/-- The gradient at an entry of layer `k`, whose partial gradients are `Q`. -/
theorem grad_at : GRAD P0 P1 P2 P3 (ix3 l r d) = ∑ p : Fin 8, Q (ix3 p r d) := by
  subst h hq
  pointwise [GRAD, AX]
  fin_cases l <;> rfl

theorem delta_at : DELTA P0 P1 P2 P3 W M V (ix3 l r d) = Adam.step (∑ p : Fin 8, Q (ix3 p r d)) (W (ix3 l r d)) (M (ix3 l r d)) (V (ix3 l r d)) := by
  rw [← grad_at P0 P1 P2 P3 Q k l r d h hq]; rfl

theorem fst_at : FST P0 P1 P2 P3 M (ix3 l r d) = Adam.mom (∑ p : Fin 8, Q (ix3 p r d)) (M (ix3 l r d)) := by
  rw [← grad_at P0 P1 P2 P3 Q k l r d h hq]; rfl

theorem snd_at : SND P0 P1 P2 P3 V (ix3 l r d) = Adam.sec (∑ p : Fin 8, Q (ix3 p r d)) (V (ix3 l r d)) := by
  rw [← grad_at P0 P1 P2 P3 Q k l r d h hq]; rfl
end Ref

section Ker
open Cert.Kernel20Ideal Cert.Kernel20Ideal.Gen

section Pay
variable (x : Vec Ideal S8x256x512 .bf16) (w a b : FVec Ideal S1x256x512 .f32) (z : Fin 1) (r : Fin 256) (d : Fin 512)

/-- The kernel's sum of a layer's eight partial gradients. -/
def KSUM : FVec Ideal S256x512 .f32 :=
  k0_pay9 (F := Ideal) (View.ld x (Rect.unit ![0, 0, 0] ![1, 256, 512] inb_S8x256x512_S1x256x512_0_0_0)) (View.ld x (Rect.unit ![1, 0, 0] ![1, 256, 512] inb_S8x256x512_S1x256x512_1_0_0)) (View.ld x (Rect.unit ![2, 0, 0] ![1, 256, 512] inb_S8x256x512_S1x256x512_2_0_0)) (View.ld x (Rect.unit ![3, 0, 0] ![1, 256, 512] inb_S8x256x512_S1x256x512_3_0_0)) (View.ld x (Rect.unit ![4, 0, 0] ![1, 256, 512] inb_S8x256x512_S1x256x512_4_0_0)) (View.ld x (Rect.unit ![5, 0, 0] ![1, 256, 512] inb_S8x256x512_S1x256x512_5_0_0)) (View.ld x (Rect.unit ![6, 0, 0] ![1, 256, 512] inb_S8x256x512_S1x256x512_6_0_0)) (View.ld x (Rect.unit ![7, 0, 0] ![1, 256, 512] inb_S8x256x512_S1x256x512_7_0_0))

/-- The sum at an entry. -/
theorem ksum_at : KSUM x (ix2 r d) = ∑ p : Fin 8, x (ix3 p r d) := by
  refine Eq.trans ?_ (Adam.sum_eight _)
  unfold KSUM
  pointwise [k0_pay9]

theorem pay_at0 : k0_pay13 (F := Ideal) (KSUM x) (ix3 z r d) = ∑ p : Fin 8, x (ix3 p r d) := by
  rw [← ksum_at]
  pointwise [k0_pay13]

theorem pay_at1 : k0_pay14 (F := Ideal) (KSUM x) (k0_pay10 (F := Ideal) a) b w (ix3 z r d) = Adam.step (∑ p : Fin 8, x (ix3 p r d)) (w (ix3 0 r d)) (a (ix3 0 r d)) (b (ix3 0 r d)) := by
  rw [← ksum_at]
  pointwise [k0_pay14, k0_pay10, k0_pay11, k0_pay12, Adam.step, Adam.mom, Adam.sec]

theorem pay_at2 : k0_pay1 (F := Ideal) (k0_pay11 (F := Ideal) (KSUM x) (k0_pay10 (F := Ideal) a)) (ix3 z r d) = Adam.mom (∑ p : Fin 8, x (ix3 p r d)) (a (ix3 0 r d)) := by
  rw [← ksum_at]
  pointwise [k0_pay1, k0_pay10, k0_pay11, Adam.mom]

theorem pay_at3 : k0_pay2 (F := Ideal) (k0_pay12 (F := Ideal) (KSUM x) b) (ix3 z r d) = Adam.sec (∑ p : Fin 8, x (ix3 p r d)) (b (ix3 0 r d)) := by
  rw [← ksum_at]
  pointwise [k0_pay2, k0_pay12, Adam.sec]
end Pay

variable (m : (ℓ : Loc nD τ sig) → Buf (Elt Ideal) ℓ) (c : Dev nD)

/-- A grid point is of one of the four layers. -/
theorem layer : ∀ t : Fin cfg0.N, t.val / 4 = 0 ∨ t.val / 4 = 1 ∨ t.val / 4 = 2 ∨ t.val / 4 = 3 :=
  (by decide +kernel : ∀ t : Fin grid0.N, _)

/-- The index maps of the weight, the moments and the results. -/
theorem idx : ∀ t : Fin cfg0.N, win0_4.index t = ![t.val / 4, t.val % 4, 0] ∧ win0_5.index t = ![t.val / 4, t.val % 4, 0] ∧ win0_6.index t = ![t.val / 4, t.val % 4, 0] ∧ win0_7.index t = ![t.val / 4, t.val % 4, 0] ∧ win0_8.index t = ![t.val / 4, t.val % 4, 0] ∧ win0_9.index t = ![t.val / 4, t.val % 4, 0] ∧ win0_10.index t = ![t.val / 4, t.val % 4, 0] ∧ t.val < 16 :=
  (by decide +kernel : ∀ t : Fin grid0.N, _)

theorem idx0 : ∀ t : Fin cfg0.N, t.val / 4 = 0 → win0_0.index t = ![0, t.val % 4, 0] :=
  (by decide +kernel : ∀ t : Fin grid0.N, _)

theorem idx1 : ∀ t : Fin cfg0.N, t.val / 4 = 1 → win0_1.index t = ![0, t.val % 4, 0] :=
  (by decide +kernel : ∀ t : Fin grid0.N, _)

theorem idx2 : ∀ t : Fin cfg0.N, t.val / 4 = 2 → win0_2.index t = ![0, t.val % 4, 0] :=
  (by decide +kernel : ∀ t : Fin grid0.N, _)

theorem idx3 : ∀ t : Fin cfg0.N, t.val / 4 = 3 → win0_3.index t = ![0, t.val % 4, 0] :=
  (by decide +kernel : ∀ t : Fin grid0.N, _)

/-- The layer an entry of the block lies in. -/
theorem at_layer0 (t : Fin cfg0.N) (y : S1x256x512.Idx) : ((((View.whole main_v0_0).slice (win0_7.rect t)).emb y 0 : Fin 4) : ℕ) = t.val / 4 := by
  have e : ((((View.whole main_v0_0).slice (win0_7.rect t)).emb y 0 : Fin 4) : ℕ) = win0_7.index t 0 * 1 + 1 * (y 0).val := rfl
  have hy : (y 0).val < 1 := (y 0).isLt
  rw [e]
  simp only [idx t, Matrix.cons_val_zero]
  omega

set_option maxHeartbeats 1600000 in
theorem final0 : (dats m 0 c).arrAt 7 cfg0.N = GRAD (m ((c : Thread nD τ).loc main_arg0)) (m ((c : Thread nD τ).loc main_arg1)) (m ((c : Thread nD τ).loc main_arg2)) (m ((c : Thread nD τ).loc main_arg3)) := by
  refine (dats m 0 c).arrAt_eq_of_covers 7 _ (by decide +kernel) fun t _ y => ?_
  blk_simp
  rw [after0_7]
  obtain h | h | h | h := layer t
  · rw [outsAt0_A m c t (by omega) (by omega) (by omega) (by omega)]
    frame_out
    idx_vars y
    refine (pay_at0 (iblk m c 0 t) y0 y1 y2).trans ?_
    rw [eq_ix3 (((View.whole main_v0_0).slice (win0_7.rect t)).emb (ix3 y0 y1 y2))]
    refine Eq.trans ?_ (grad_at _ _ _ _ (m ((c : Thread nD τ).loc main_arg0)) 0 _ _ _ (Fin.ext ((at_layer0 t _).trans h)) rfl).symm
    blk_point [iblk, V, idx t, idx0 t h]
  · rw [outsAt0_B m c t (by omega) (by omega) (by omega) (by omega)]
    frame_out
    idx_vars y
    refine (pay_at0 (iblk m c 1 t) y0 y1 y2).trans ?_
    rw [eq_ix3 (((View.whole main_v0_0).slice (win0_7.rect t)).emb (ix3 y0 y1 y2))]
    refine Eq.trans ?_ (grad_at _ _ _ _ (m ((c : Thread nD τ).loc main_arg1)) 1 _ _ _ (Fin.ext ((at_layer0 t _).trans h)) rfl).symm
    blk_point [iblk, V, idx t, idx1 t h]
  · rw [outsAt0_C m c t (by omega) (by omega) (by omega) (by omega)]
    frame_out
    idx_vars y
    refine (pay_at0 (iblk m c 2 t) y0 y1 y2).trans ?_
    rw [eq_ix3 (((View.whole main_v0_0).slice (win0_7.rect t)).emb (ix3 y0 y1 y2))]
    refine Eq.trans ?_ (grad_at _ _ _ _ (m ((c : Thread nD τ).loc main_arg2)) 2 _ _ _ (Fin.ext ((at_layer0 t _).trans h)) rfl).symm
    blk_point [iblk, V, idx t, idx2 t h]
  · rw [outsAt0_D m c t (by omega) (by omega) (by omega) (by omega)]
    frame_out
    idx_vars y
    refine (pay_at0 (iblk m c 3 t) y0 y1 y2).trans ?_
    rw [eq_ix3 (((View.whole main_v0_0).slice (win0_7.rect t)).emb (ix3 y0 y1 y2))]
    refine Eq.trans ?_ (grad_at _ _ _ _ (m ((c : Thread nD τ).loc main_arg3)) 3 _ _ _ (Fin.ext ((at_layer0 t _).trans h)) rfl).symm
    blk_point [iblk, V, idx t, idx3 t h]

/-- The layer an entry of the block lies in. -/
theorem at_layer1 (t : Fin cfg0.N) (y : S1x256x512.Idx) : ((((View.whole main_v0_1).slice (win0_8.rect t)).emb y 0 : Fin 4) : ℕ) = t.val / 4 := by
  have e : ((((View.whole main_v0_1).slice (win0_8.rect t)).emb y 0 : Fin 4) : ℕ) = win0_8.index t 0 * 1 + 1 * (y 0).val := rfl
  have hy : (y 0).val < 1 := (y 0).isLt
  rw [e]
  simp only [idx t, Matrix.cons_val_zero]
  omega

set_option maxHeartbeats 1600000 in
theorem final1 : (dats m 0 c).arrAt 8 cfg0.N = DELTA (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  refine (dats m 0 c).arrAt_eq_of_covers 8 _ (by decide +kernel) fun t _ y => ?_
  blk_simp
  rw [after0_8]
  obtain h | h | h | h := layer t
  · rw [outsAt0_A m c t (by omega) (by omega) (by omega) (by omega)]
    frame_out
    idx_vars y
    refine (pay_at1 (iblk m c 0 t) (iblk m c 4 t) (iblk m c 5 t) (iblk m c 6 t) y0 y1 y2).trans ?_
    rw [eq_ix3 (((View.whole main_v0_1).slice (win0_8.rect t)).emb (ix3 y0 y1 y2))]
    refine Eq.trans ?_ (delta_at _ _ _ _ (m ((c : Thread nD τ).loc main_arg0)) _ _ _ 0 _ _ _ (Fin.ext ((at_layer1 t _).trans h)) rfl).symm
    blk_point [iblk, V, idx t, idx0 t h]
  · rw [outsAt0_B m c t (by omega) (by omega) (by omega) (by omega)]
    frame_out
    idx_vars y
    refine (pay_at1 (iblk m c 1 t) (iblk m c 4 t) (iblk m c 5 t) (iblk m c 6 t) y0 y1 y2).trans ?_
    rw [eq_ix3 (((View.whole main_v0_1).slice (win0_8.rect t)).emb (ix3 y0 y1 y2))]
    refine Eq.trans ?_ (delta_at _ _ _ _ (m ((c : Thread nD τ).loc main_arg1)) _ _ _ 1 _ _ _ (Fin.ext ((at_layer1 t _).trans h)) rfl).symm
    blk_point [iblk, V, idx t, idx1 t h]
  · rw [outsAt0_C m c t (by omega) (by omega) (by omega) (by omega)]
    frame_out
    idx_vars y
    refine (pay_at1 (iblk m c 2 t) (iblk m c 4 t) (iblk m c 5 t) (iblk m c 6 t) y0 y1 y2).trans ?_
    rw [eq_ix3 (((View.whole main_v0_1).slice (win0_8.rect t)).emb (ix3 y0 y1 y2))]
    refine Eq.trans ?_ (delta_at _ _ _ _ (m ((c : Thread nD τ).loc main_arg2)) _ _ _ 2 _ _ _ (Fin.ext ((at_layer1 t _).trans h)) rfl).symm
    blk_point [iblk, V, idx t, idx2 t h]
  · rw [outsAt0_D m c t (by omega) (by omega) (by omega) (by omega)]
    frame_out
    idx_vars y
    refine (pay_at1 (iblk m c 3 t) (iblk m c 4 t) (iblk m c 5 t) (iblk m c 6 t) y0 y1 y2).trans ?_
    rw [eq_ix3 (((View.whole main_v0_1).slice (win0_8.rect t)).emb (ix3 y0 y1 y2))]
    refine Eq.trans ?_ (delta_at _ _ _ _ (m ((c : Thread nD τ).loc main_arg3)) _ _ _ 3 _ _ _ (Fin.ext ((at_layer1 t _).trans h)) rfl).symm
    blk_point [iblk, V, idx t, idx3 t h]

/-- The layer an entry of the block lies in. -/
theorem at_layer2 (t : Fin cfg0.N) (y : S1x256x512.Idx) : ((((View.whole main_v0_2).slice (win0_9.rect t)).emb y 0 : Fin 4) : ℕ) = t.val / 4 := by
  have e : ((((View.whole main_v0_2).slice (win0_9.rect t)).emb y 0 : Fin 4) : ℕ) = win0_9.index t 0 * 1 + 1 * (y 0).val := rfl
  have hy : (y 0).val < 1 := (y 0).isLt
  rw [e]
  simp only [idx t, Matrix.cons_val_zero]
  omega

set_option maxHeartbeats 1600000 in
theorem final2 : (dats m 0 c).arrAt 9 cfg0.N = FST (m ((c : Thread nD τ).loc main_arg0)) (m ((c : Thread nD τ).loc main_arg1)) (m ((c : Thread nD τ).loc main_arg2)) (m ((c : Thread nD τ).loc main_arg3)) (m ((c : Thread nD τ).loc main_arg5)) := by
  refine (dats m 0 c).arrAt_eq_of_covers 9 _ (by decide +kernel) fun t _ y => ?_
  blk_simp
  rw [after0_9]
  obtain h | h | h | h := layer t
  · rw [outsAt0_A m c t (by omega) (by omega) (by omega) (by omega)]
    frame_out
    idx_vars y
    refine (pay_at2 (iblk m c 0 t) (iblk m c 5 t) y0 y1 y2).trans ?_
    rw [eq_ix3 (((View.whole main_v0_2).slice (win0_9.rect t)).emb (ix3 y0 y1 y2))]
    refine Eq.trans ?_ (fst_at _ _ _ _ (m ((c : Thread nD τ).loc main_arg0)) _ 0 _ _ _ (Fin.ext ((at_layer2 t _).trans h)) rfl).symm
    blk_point [iblk, V, idx t, idx0 t h]
  · rw [outsAt0_B m c t (by omega) (by omega) (by omega) (by omega)]
    frame_out
    idx_vars y
    refine (pay_at2 (iblk m c 1 t) (iblk m c 5 t) y0 y1 y2).trans ?_
    rw [eq_ix3 (((View.whole main_v0_2).slice (win0_9.rect t)).emb (ix3 y0 y1 y2))]
    refine Eq.trans ?_ (fst_at _ _ _ _ (m ((c : Thread nD τ).loc main_arg1)) _ 1 _ _ _ (Fin.ext ((at_layer2 t _).trans h)) rfl).symm
    blk_point [iblk, V, idx t, idx1 t h]
  · rw [outsAt0_C m c t (by omega) (by omega) (by omega) (by omega)]
    frame_out
    idx_vars y
    refine (pay_at2 (iblk m c 2 t) (iblk m c 5 t) y0 y1 y2).trans ?_
    rw [eq_ix3 (((View.whole main_v0_2).slice (win0_9.rect t)).emb (ix3 y0 y1 y2))]
    refine Eq.trans ?_ (fst_at _ _ _ _ (m ((c : Thread nD τ).loc main_arg2)) _ 2 _ _ _ (Fin.ext ((at_layer2 t _).trans h)) rfl).symm
    blk_point [iblk, V, idx t, idx2 t h]
  · rw [outsAt0_D m c t (by omega) (by omega) (by omega) (by omega)]
    frame_out
    idx_vars y
    refine (pay_at2 (iblk m c 3 t) (iblk m c 5 t) y0 y1 y2).trans ?_
    rw [eq_ix3 (((View.whole main_v0_2).slice (win0_9.rect t)).emb (ix3 y0 y1 y2))]
    refine Eq.trans ?_ (fst_at _ _ _ _ (m ((c : Thread nD τ).loc main_arg3)) _ 3 _ _ _ (Fin.ext ((at_layer2 t _).trans h)) rfl).symm
    blk_point [iblk, V, idx t, idx3 t h]

/-- The layer an entry of the block lies in. -/
theorem at_layer3 (t : Fin cfg0.N) (y : S1x256x512.Idx) : ((((View.whole main_v0_3).slice (win0_10.rect t)).emb y 0 : Fin 4) : ℕ) = t.val / 4 := by
  have e : ((((View.whole main_v0_3).slice (win0_10.rect t)).emb y 0 : Fin 4) : ℕ) = win0_10.index t 0 * 1 + 1 * (y 0).val := rfl
  have hy : (y 0).val < 1 := (y 0).isLt
  rw [e]
  simp only [idx t, Matrix.cons_val_zero]
  omega

set_option maxHeartbeats 1600000 in
theorem final3 : (dats m 0 c).arrAt 10 cfg0.N = SND (m ((c : Thread nD τ).loc main_arg0)) (m ((c : Thread nD τ).loc main_arg1)) (m ((c : Thread nD τ).loc main_arg2)) (m ((c : Thread nD τ).loc main_arg3)) (m ((c : Thread nD τ).loc main_arg6)) := by
  refine (dats m 0 c).arrAt_eq_of_covers 10 _ (by decide +kernel) fun t _ y => ?_
  blk_simp
  rw [after0_10]
  obtain h | h | h | h := layer t
  · rw [outsAt0_A m c t (by omega) (by omega) (by omega) (by omega)]
    frame_out
    idx_vars y
    refine (pay_at3 (iblk m c 0 t) (iblk m c 6 t) y0 y1 y2).trans ?_
    rw [eq_ix3 (((View.whole main_v0_3).slice (win0_10.rect t)).emb (ix3 y0 y1 y2))]
    refine Eq.trans ?_ (snd_at _ _ _ _ (m ((c : Thread nD τ).loc main_arg0)) _ 0 _ _ _ (Fin.ext ((at_layer3 t _).trans h)) rfl).symm
    blk_point [iblk, V, idx t, idx0 t h]
  · rw [outsAt0_B m c t (by omega) (by omega) (by omega) (by omega)]
    frame_out
    idx_vars y
    refine (pay_at3 (iblk m c 1 t) (iblk m c 6 t) y0 y1 y2).trans ?_
    rw [eq_ix3 (((View.whole main_v0_3).slice (win0_10.rect t)).emb (ix3 y0 y1 y2))]
    refine Eq.trans ?_ (snd_at _ _ _ _ (m ((c : Thread nD τ).loc main_arg1)) _ 1 _ _ _ (Fin.ext ((at_layer3 t _).trans h)) rfl).symm
    blk_point [iblk, V, idx t, idx1 t h]
  · rw [outsAt0_C m c t (by omega) (by omega) (by omega) (by omega)]
    frame_out
    idx_vars y
    refine (pay_at3 (iblk m c 2 t) (iblk m c 6 t) y0 y1 y2).trans ?_
    rw [eq_ix3 (((View.whole main_v0_3).slice (win0_10.rect t)).emb (ix3 y0 y1 y2))]
    refine Eq.trans ?_ (snd_at _ _ _ _ (m ((c : Thread nD τ).loc main_arg2)) _ 2 _ _ _ (Fin.ext ((at_layer3 t _).trans h)) rfl).symm
    blk_point [iblk, V, idx t, idx2 t h]
  · rw [outsAt0_D m c t (by omega) (by omega) (by omega) (by omega)]
    frame_out
    idx_vars y
    refine (pay_at3 (iblk m c 3 t) (iblk m c 6 t) y0 y1 y2).trans ?_
    rw [eq_ix3 (((View.whole main_v0_3).slice (win0_10.rect t)).emb (ix3 y0 y1 y2))]
    refine Eq.trans ?_ (snd_at _ _ _ _ (m ((c : Thread nD τ).loc main_arg3)) _ 3 _ _ _ (Fin.ext ((at_layer3 t _).trans h)) rfl).symm
    blk_point [iblk, V, idx t, idx3 t h]

end Ker

/-- The reference runs to its end and leaves its arguments as they were. -/
theorem frame_ref : Cert.quiescent_Reference20Ideal := fun m ρ _ =>
  (θ_run Cert.Reference20Ideal.defs _ _).mono (fun r h => ⟨fun c => (h c).2.2.2.2, sem_eq_zero_of_no_sems (by decide) r.2⟩) (Cert.Reference20Ideal.Value.run m ρ)

/-- The value claim: kernel and reference end with the same four arrays. -/
theorem value : Cert.algebraic_Kernel20Ideal_Reference20Ideal := by
  intro m ρ m' ρ' _ hag
  refine ⟨fun c => GRAD (m ((c.tc : Thread Cert.Kernel20Ideal.nD Cert.Kernel20Ideal.τ).loc Cert.Kernel20Ideal.main_arg0)) (m ((c.tc : Thread Cert.Kernel20Ideal.nD Cert.Kernel20Ideal.τ).loc Cert.Kernel20Ideal.main_arg1)) (m ((c.tc : Thread Cert.Kernel20Ideal.nD Cert.Kernel20Ideal.τ).loc Cert.Kernel20Ideal.main_arg2)) (m ((c.tc : Thread Cert.Kernel20Ideal.nD Cert.Kernel20Ideal.τ).loc Cert.Kernel20Ideal.main_arg3)), fun c => DELTA (m ((c.tc : Thread Cert.Kernel20Ideal.nD Cert.Kernel20Ideal.τ).loc Cert.Kernel20Ideal.main_arg0)) (m ((c.tc : Thread Cert.Kernel20Ideal.nD Cert.Kernel20Ideal.τ).loc Cert.Kernel20Ideal.main_arg1)) (m ((c.tc : Thread Cert.Kernel20Ideal.nD Cert.Kernel20Ideal.τ).loc Cert.Kernel20Ideal.main_arg2)) (m ((c.tc : Thread Cert.Kernel20Ideal.nD Cert.Kernel20Ideal.τ).loc Cert.Kernel20Ideal.main_arg3)) (m ((c.tc : Thread Cert.Kernel20Ideal.nD Cert.Kernel20Ideal.τ).loc Cert.Kernel20Ideal.main_arg4)) (m ((c.tc : Thread Cert.Kernel20Ideal.nD Cert.Kernel20Ideal.τ).loc Cert.Kernel20Ideal.main_arg5)) (m ((c.tc : Thread Cert.Kernel20Ideal.nD Cert.Kernel20Ideal.τ).loc Cert.Kernel20Ideal.main_arg6)), fun c => FST (m ((c.tc : Thread Cert.Kernel20Ideal.nD Cert.Kernel20Ideal.τ).loc Cert.Kernel20Ideal.main_arg0)) (m ((c.tc : Thread Cert.Kernel20Ideal.nD Cert.Kernel20Ideal.τ).loc Cert.Kernel20Ideal.main_arg1)) (m ((c.tc : Thread Cert.Kernel20Ideal.nD Cert.Kernel20Ideal.τ).loc Cert.Kernel20Ideal.main_arg2)) (m ((c.tc : Thread Cert.Kernel20Ideal.nD Cert.Kernel20Ideal.τ).loc Cert.Kernel20Ideal.main_arg3)) (m ((c.tc : Thread Cert.Kernel20Ideal.nD Cert.Kernel20Ideal.τ).loc Cert.Kernel20Ideal.main_arg5)), fun c => SND (m ((c.tc : Thread Cert.Kernel20Ideal.nD Cert.Kernel20Ideal.τ).loc Cert.Kernel20Ideal.main_arg0)) (m ((c.tc : Thread Cert.Kernel20Ideal.nD Cert.Kernel20Ideal.τ).loc Cert.Kernel20Ideal.main_arg1)) (m ((c.tc : Thread Cert.Kernel20Ideal.nD Cert.Kernel20Ideal.τ).loc Cert.Kernel20Ideal.main_arg2)) (m ((c.tc : Thread Cert.Kernel20Ideal.nD Cert.Kernel20Ideal.τ).loc Cert.Kernel20Ideal.main_arg3)) (m ((c.tc : Thread Cert.Kernel20Ideal.nD Cert.Kernel20Ideal.τ).loc Cert.Kernel20Ideal.main_arg6)), ?_, ?_⟩
  · refine (θ_run Cert.Kernel20Ideal.defs _ _).mono (fun _ h c => ?_) (Cert.Kernel20Ideal.Value.run_blocks m ρ)
    exact ⟨(h c).1.trans (final0 m c), (h c).2.1.trans (final1 m c), (h c).2.2.1.trans (final2 m c), (h c).2.2.2.1.trans (final3 m c), (h c).2.2.2.2⟩
  · refine (θ_run Cert.Reference20Ideal.defs _ _).mono (fun _ h c => ?_) (Cert.Reference20Ideal.Value.run m' ρ')
    obtain ⟨h0, h1, h2, h3, h4, h5, h6⟩ := hag c
    refine ⟨(h c).1.trans ?_, (h c).2.1.trans ?_, (h c).2.2.1.trans ?_, (h c).2.2.2.1.trans ?_, (h c).2.2.2.2⟩
    · show GRAD (m' ((c.tc : Thread Cert.Reference20Ideal.nD Cert.Reference20Ideal.τ).loc Cert.Reference20Ideal.main_arg0)) (m' ((c.tc : Thread Cert.Reference20Ideal.nD Cert.Reference20Ideal.τ).loc Cert.Reference20Ideal.main_arg1)) (m' ((c.tc : Thread Cert.Reference20Ideal.nD Cert.Reference20Ideal.τ).loc Cert.Reference20Ideal.main_arg2)) (m' ((c.tc : Thread Cert.Reference20Ideal.nD Cert.Reference20Ideal.τ).loc Cert.Reference20Ideal.main_arg3)) = GRAD (m ((c.tc : Thread Cert.Kernel20Ideal.nD Cert.Kernel20Ideal.τ).loc Cert.Kernel20Ideal.main_arg0)) (m ((c.tc : Thread Cert.Kernel20Ideal.nD Cert.Kernel20Ideal.τ).loc Cert.Kernel20Ideal.main_arg1)) (m ((c.tc : Thread Cert.Kernel20Ideal.nD Cert.Kernel20Ideal.τ).loc Cert.Kernel20Ideal.main_arg2)) (m ((c.tc : Thread Cert.Kernel20Ideal.nD Cert.Kernel20Ideal.τ).loc Cert.Kernel20Ideal.main_arg3))
      rw [h0, h1, h2, h3]
    · show DELTA (m' ((c.tc : Thread Cert.Reference20Ideal.nD Cert.Reference20Ideal.τ).loc Cert.Reference20Ideal.main_arg0)) (m' ((c.tc : Thread Cert.Reference20Ideal.nD Cert.Reference20Ideal.τ).loc Cert.Reference20Ideal.main_arg1)) (m' ((c.tc : Thread Cert.Reference20Ideal.nD Cert.Reference20Ideal.τ).loc Cert.Reference20Ideal.main_arg2)) (m' ((c.tc : Thread Cert.Reference20Ideal.nD Cert.Reference20Ideal.τ).loc Cert.Reference20Ideal.main_arg3)) (m' ((c.tc : Thread Cert.Reference20Ideal.nD Cert.Reference20Ideal.τ).loc Cert.Reference20Ideal.main_arg4)) (m' ((c.tc : Thread Cert.Reference20Ideal.nD Cert.Reference20Ideal.τ).loc Cert.Reference20Ideal.main_arg5)) (m' ((c.tc : Thread Cert.Reference20Ideal.nD Cert.Reference20Ideal.τ).loc Cert.Reference20Ideal.main_arg6)) = DELTA (m ((c.tc : Thread Cert.Kernel20Ideal.nD Cert.Kernel20Ideal.τ).loc Cert.Kernel20Ideal.main_arg0)) (m ((c.tc : Thread Cert.Kernel20Ideal.nD Cert.Kernel20Ideal.τ).loc Cert.Kernel20Ideal.main_arg1)) (m ((c.tc : Thread Cert.Kernel20Ideal.nD Cert.Kernel20Ideal.τ).loc Cert.Kernel20Ideal.main_arg2)) (m ((c.tc : Thread Cert.Kernel20Ideal.nD Cert.Kernel20Ideal.τ).loc Cert.Kernel20Ideal.main_arg3)) (m ((c.tc : Thread Cert.Kernel20Ideal.nD Cert.Kernel20Ideal.τ).loc Cert.Kernel20Ideal.main_arg4)) (m ((c.tc : Thread Cert.Kernel20Ideal.nD Cert.Kernel20Ideal.τ).loc Cert.Kernel20Ideal.main_arg5)) (m ((c.tc : Thread Cert.Kernel20Ideal.nD Cert.Kernel20Ideal.τ).loc Cert.Kernel20Ideal.main_arg6))
      rw [h0, h1, h2, h3, h4, h5, h6]
    · show FST (m' ((c.tc : Thread Cert.Reference20Ideal.nD Cert.Reference20Ideal.τ).loc Cert.Reference20Ideal.main_arg0)) (m' ((c.tc : Thread Cert.Reference20Ideal.nD Cert.Reference20Ideal.τ).loc Cert.Reference20Ideal.main_arg1)) (m' ((c.tc : Thread Cert.Reference20Ideal.nD Cert.Reference20Ideal.τ).loc Cert.Reference20Ideal.main_arg2)) (m' ((c.tc : Thread Cert.Reference20Ideal.nD Cert.Reference20Ideal.τ).loc Cert.Reference20Ideal.main_arg3)) (m' ((c.tc : Thread Cert.Reference20Ideal.nD Cert.Reference20Ideal.τ).loc Cert.Reference20Ideal.main_arg5)) = FST (m ((c.tc : Thread Cert.Kernel20Ideal.nD Cert.Kernel20Ideal.τ).loc Cert.Kernel20Ideal.main_arg0)) (m ((c.tc : Thread Cert.Kernel20Ideal.nD Cert.Kernel20Ideal.τ).loc Cert.Kernel20Ideal.main_arg1)) (m ((c.tc : Thread Cert.Kernel20Ideal.nD Cert.Kernel20Ideal.τ).loc Cert.Kernel20Ideal.main_arg2)) (m ((c.tc : Thread Cert.Kernel20Ideal.nD Cert.Kernel20Ideal.τ).loc Cert.Kernel20Ideal.main_arg3)) (m ((c.tc : Thread Cert.Kernel20Ideal.nD Cert.Kernel20Ideal.τ).loc Cert.Kernel20Ideal.main_arg5))
      rw [h0, h1, h2, h3, h5]
    · show SND (m' ((c.tc : Thread Cert.Reference20Ideal.nD Cert.Reference20Ideal.τ).loc Cert.Reference20Ideal.main_arg0)) (m' ((c.tc : Thread Cert.Reference20Ideal.nD Cert.Reference20Ideal.τ).loc Cert.Reference20Ideal.main_arg1)) (m' ((c.tc : Thread Cert.Reference20Ideal.nD Cert.Reference20Ideal.τ).loc Cert.Reference20Ideal.main_arg2)) (m' ((c.tc : Thread Cert.Reference20Ideal.nD Cert.Reference20Ideal.τ).loc Cert.Reference20Ideal.main_arg3)) (m' ((c.tc : Thread Cert.Reference20Ideal.nD Cert.Reference20Ideal.τ).loc Cert.Reference20Ideal.main_arg6)) = SND (m ((c.tc : Thread Cert.Kernel20Ideal.nD Cert.Kernel20Ideal.τ).loc Cert.Kernel20Ideal.main_arg0)) (m ((c.tc : Thread Cert.Kernel20Ideal.nD Cert.Kernel20Ideal.τ).loc Cert.Kernel20Ideal.main_arg1)) (m ((c.tc : Thread Cert.Kernel20Ideal.nD Cert.Kernel20Ideal.τ).loc Cert.Kernel20Ideal.main_arg2)) (m ((c.tc : Thread Cert.Kernel20Ideal.nD Cert.Kernel20Ideal.τ).loc Cert.Kernel20Ideal.main_arg3)) (m ((c.tc : Thread Cert.Kernel20Ideal.nD Cert.Kernel20Ideal.τ).loc Cert.Kernel20Ideal.main_arg6))
      rw [h0, h1, h2, h3, h6]
end Cert.AdamUp
end
-- ==== Proof.AdamDown.lean ====
/- What `adamw_w_ff2` leaves: the gradient of the MLP's second product in every layer, the change of the weight and the two moments. -/
module

public import proofs.«01_k».proof.Proof.Gen.Kernel21Ideal.Value
public import proofs.«01_k».proof.Proof.Gen.Reference21Ideal.Run
public import Idealize.ShloMosaic.Lib.Pipeline.ReadBack
public import proofs.«01_k».proof.Proof.Adam

@[expose] public section

set_option maxRecDepth 16384

noncomputable section

namespace Cert.AdamDown

open Idealize.ShloMosaic Idealize.ShloMosaic.TcCoe Idealize.SL.Sem
open Idealize.ShloMosaic.Pipeline (Dat)

section Ref
open Cert.Reference21Ideal Cert.Reference21Ideal.Gen

/-- One layer's partial gradients, with the axis the layers are joined along. -/
def AX (P : FVec Ideal S8x512x1024 .bf16) : FVec Ideal S8x1x512x1024 .bf16 :=
  broadcastInDim S8x1x512x1024 ![0, 2, 3] bcast_S8x512x1024_S8x1x512x1024_0_2_3 P

variable (P0 P1 P2 P3 Q : FVec Ideal S8x512x1024 .bf16) (W M V : FVec Ideal S4x512x1024 .f32)

/-- The reference's gradient: the layers' partial gradients joined, widened and added. -/
def GRAD : FVec Ideal S4x512x1024 .f32 :=
  Host.reduceAdd (extf .f32 (concatenate S8x4x512x1024 1 [⟨S8x1x512x1024, AX P0⟩, ⟨S8x1x512x1024, AX P1⟩, ⟨S8x1x512x1024, AX P2⟩, ⟨S8x1x512x1024, AX P3⟩] concatenates_S8x1x512x1024_S8x1x512x1024_S8x1x512x1024_S8x1x512x1024_S8x4x512x1024_d1) bitsLt_bf16_f32) (constant S_ .f32 0x00000000#32) reducesTo_S8x4x512x1024_S4x512x1024_d0 h_S_

/-- The change of the weight. -/
def DELTA : FVec Ideal S4x512x1024 .f32 := Adam.STEP bcast_S_S4x512x1024 (GRAD P0 P1 P2 P3) W M V

/-- The first moment. -/
def FST : FVec Ideal S4x512x1024 .f32 := Adam.MOM bcast_S_S4x512x1024 (GRAD P0 P1 P2 P3) M

/-- The second moment. -/
def SND : FVec Ideal S4x512x1024 .f32 := Adam.SEC bcast_S_S4x512x1024 (GRAD P0 P1 P2 P3) V

variable (k l : Fin 4) (r : Fin 512) (d : Fin 1024) (h : l = k) (hq : ![P0, P1, P2, P3] k = Q)
include h hq

/-- The gradient at an entry of layer `k`, whose partial gradients are `Q`. -/
theorem grad_at : GRAD P0 P1 P2 P3 (ix3 l r d) = ∑ p : Fin 8, Q (ix3 p r d) := by
  subst h hq
  pointwise [GRAD, AX]
  fin_cases l <;> rfl

theorem delta_at : DELTA P0 P1 P2 P3 W M V (ix3 l r d) = Adam.step (∑ p : Fin 8, Q (ix3 p r d)) (W (ix3 l r d)) (M (ix3 l r d)) (V (ix3 l r d)) := by
  rw [← grad_at P0 P1 P2 P3 Q k l r d h hq]; rfl

theorem fst_at : FST P0 P1 P2 P3 M (ix3 l r d) = Adam.mom (∑ p : Fin 8, Q (ix3 p r d)) (M (ix3 l r d)) := by
  rw [← grad_at P0 P1 P2 P3 Q k l r d h hq]; rfl

theorem snd_at : SND P0 P1 P2 P3 V (ix3 l r d) = Adam.sec (∑ p : Fin 8, Q (ix3 p r d)) (V (ix3 l r d)) := by
  rw [← grad_at P0 P1 P2 P3 Q k l r d h hq]; rfl
end Ref

section Ker
open Cert.Kernel21Ideal Cert.Kernel21Ideal.Gen

section Pay
variable (x : Vec Ideal S8x256x1024 .bf16) (w a b : FVec Ideal S1x256x1024 .f32) (z : Fin 1) (r : Fin 256) (d : Fin 1024)

/-- The kernel's sum of a layer's eight partial gradients. -/
def KSUM : FVec Ideal S256x1024 .f32 :=
  k0_pay9 (F := Ideal) (View.ld x (Rect.unit ![0, 0, 0] ![1, 256, 1024] inb_S8x256x1024_S1x256x1024_0_0_0)) (View.ld x (Rect.unit ![1, 0, 0] ![1, 256, 1024] inb_S8x256x1024_S1x256x1024_1_0_0)) (View.ld x (Rect.unit ![2, 0, 0] ![1, 256, 1024] inb_S8x256x1024_S1x256x1024_2_0_0)) (View.ld x (Rect.unit ![3, 0, 0] ![1, 256, 1024] inb_S8x256x1024_S1x256x1024_3_0_0)) (View.ld x (Rect.unit ![4, 0, 0] ![1, 256, 1024] inb_S8x256x1024_S1x256x1024_4_0_0)) (View.ld x (Rect.unit ![5, 0, 0] ![1, 256, 1024] inb_S8x256x1024_S1x256x1024_5_0_0)) (View.ld x (Rect.unit ![6, 0, 0] ![1, 256, 1024] inb_S8x256x1024_S1x256x1024_6_0_0)) (View.ld x (Rect.unit ![7, 0, 0] ![1, 256, 1024] inb_S8x256x1024_S1x256x1024_7_0_0))

/-- The sum at an entry. -/
theorem ksum_at : KSUM x (ix2 r d) = ∑ p : Fin 8, x (ix3 p r d) := by
  refine Eq.trans ?_ (Adam.sum_eight _)
  unfold KSUM
  pointwise [k0_pay9]

theorem pay_at0 : k0_pay13 (F := Ideal) (KSUM x) (ix3 z r d) = ∑ p : Fin 8, x (ix3 p r d) := by
  rw [← ksum_at]
  pointwise [k0_pay13]

theorem pay_at1 : k0_pay14 (F := Ideal) (KSUM x) (k0_pay10 (F := Ideal) a) b w (ix3 z r d) = Adam.step (∑ p : Fin 8, x (ix3 p r d)) (w (ix3 0 r d)) (a (ix3 0 r d)) (b (ix3 0 r d)) := by
  rw [← ksum_at]
  pointwise [k0_pay14, k0_pay10, k0_pay11, k0_pay12, Adam.step, Adam.mom, Adam.sec]

theorem pay_at2 : k0_pay1 (F := Ideal) (k0_pay11 (F := Ideal) (KSUM x) (k0_pay10 (F := Ideal) a)) (ix3 z r d) = Adam.mom (∑ p : Fin 8, x (ix3 p r d)) (a (ix3 0 r d)) := by
  rw [← ksum_at]
  pointwise [k0_pay1, k0_pay10, k0_pay11, Adam.mom]

theorem pay_at3 : k0_pay2 (F := Ideal) (k0_pay12 (F := Ideal) (KSUM x) b) (ix3 z r d) = Adam.sec (∑ p : Fin 8, x (ix3 p r d)) (b (ix3 0 r d)) := by
  rw [← ksum_at]
  pointwise [k0_pay2, k0_pay12, Adam.sec]
end Pay

variable (m : (ℓ : Loc nD τ sig) → Buf (Elt Ideal) ℓ) (c : Dev nD)

/-- A grid point is of one of the four layers. -/
theorem layer : ∀ t : Fin cfg0.N, t.val / 2 = 0 ∨ t.val / 2 = 1 ∨ t.val / 2 = 2 ∨ t.val / 2 = 3 :=
  (by decide +kernel : ∀ t : Fin grid0.N, _)

/-- The index maps of the weight, the moments and the results. -/
theorem idx : ∀ t : Fin cfg0.N, win0_4.index t = ![t.val / 2, t.val % 2, 0] ∧ win0_5.index t = ![t.val / 2, t.val % 2, 0] ∧ win0_6.index t = ![t.val / 2, t.val % 2, 0] ∧ win0_7.index t = ![t.val / 2, t.val % 2, 0] ∧ win0_8.index t = ![t.val / 2, t.val % 2, 0] ∧ win0_9.index t = ![t.val / 2, t.val % 2, 0] ∧ win0_10.index t = ![t.val / 2, t.val % 2, 0] ∧ t.val < 8 :=
  (by decide +kernel : ∀ t : Fin grid0.N, _)

theorem idx0 : ∀ t : Fin cfg0.N, t.val / 2 = 0 → win0_0.index t = ![0, t.val % 2, 0] :=
  (by decide +kernel : ∀ t : Fin grid0.N, _)

theorem idx1 : ∀ t : Fin cfg0.N, t.val / 2 = 1 → win0_1.index t = ![0, t.val % 2, 0] :=
  (by decide +kernel : ∀ t : Fin grid0.N, _)

theorem idx2 : ∀ t : Fin cfg0.N, t.val / 2 = 2 → win0_2.index t = ![0, t.val % 2, 0] :=
  (by decide +kernel : ∀ t : Fin grid0.N, _)

theorem idx3 : ∀ t : Fin cfg0.N, t.val / 2 = 3 → win0_3.index t = ![0, t.val % 2, 0] :=
  (by decide +kernel : ∀ t : Fin grid0.N, _)

/-- The layer an entry of the block lies in. -/
theorem at_layer0 (t : Fin cfg0.N) (y : S1x256x1024.Idx) : ((((View.whole main_v0_0).slice (win0_7.rect t)).emb y 0 : Fin 4) : ℕ) = t.val / 2 := by
  have e : ((((View.whole main_v0_0).slice (win0_7.rect t)).emb y 0 : Fin 4) : ℕ) = win0_7.index t 0 * 1 + 1 * (y 0).val := rfl
  have hy : (y 0).val < 1 := (y 0).isLt
  rw [e]
  simp only [idx t, Matrix.cons_val_zero]
  omega

set_option maxHeartbeats 1600000 in
theorem final0 : (dats m 0 c).arrAt 7 cfg0.N = GRAD (m ((c : Thread nD τ).loc main_arg0)) (m ((c : Thread nD τ).loc main_arg1)) (m ((c : Thread nD τ).loc main_arg2)) (m ((c : Thread nD τ).loc main_arg3)) := by
  refine (dats m 0 c).arrAt_eq_of_covers 7 _ (by decide +kernel) fun t _ y => ?_
  blk_simp
  rw [after0_7]
  obtain h | h | h | h := layer t
  · rw [outsAt0_A m c t (by omega) (by omega) (by omega) (by omega)]
    frame_out
    idx_vars y
    refine (pay_at0 (iblk m c 0 t) y0 y1 y2).trans ?_
    rw [eq_ix3 (((View.whole main_v0_0).slice (win0_7.rect t)).emb (ix3 y0 y1 y2))]
    refine Eq.trans ?_ (grad_at _ _ _ _ (m ((c : Thread nD τ).loc main_arg0)) 0 _ _ _ (Fin.ext ((at_layer0 t _).trans h)) rfl).symm
    blk_point [iblk, V, idx t, idx0 t h]
  · rw [outsAt0_B m c t (by omega) (by omega) (by omega) (by omega)]
    frame_out
    idx_vars y
    refine (pay_at0 (iblk m c 1 t) y0 y1 y2).trans ?_
    rw [eq_ix3 (((View.whole main_v0_0).slice (win0_7.rect t)).emb (ix3 y0 y1 y2))]
    refine Eq.trans ?_ (grad_at _ _ _ _ (m ((c : Thread nD τ).loc main_arg1)) 1 _ _ _ (Fin.ext ((at_layer0 t _).trans h)) rfl).symm
    blk_point [iblk, V, idx t, idx1 t h]
  · rw [outsAt0_C m c t (by omega) (by omega) (by omega) (by omega)]
    frame_out
    idx_vars y
    refine (pay_at0 (iblk m c 2 t) y0 y1 y2).trans ?_
    rw [eq_ix3 (((View.whole main_v0_0).slice (win0_7.rect t)).emb (ix3 y0 y1 y2))]
    refine Eq.trans ?_ (grad_at _ _ _ _ (m ((c : Thread nD τ).loc main_arg2)) 2 _ _ _ (Fin.ext ((at_layer0 t _).trans h)) rfl).symm
    blk_point [iblk, V, idx t, idx2 t h]
  · rw [outsAt0_D m c t (by omega) (by omega) (by omega) (by omega)]
    frame_out
    idx_vars y
    refine (pay_at0 (iblk m c 3 t) y0 y1 y2).trans ?_
    rw [eq_ix3 (((View.whole main_v0_0).slice (win0_7.rect t)).emb (ix3 y0 y1 y2))]
    refine Eq.trans ?_ (grad_at _ _ _ _ (m ((c : Thread nD τ).loc main_arg3)) 3 _ _ _ (Fin.ext ((at_layer0 t _).trans h)) rfl).symm
    blk_point [iblk, V, idx t, idx3 t h]

/-- The layer an entry of the block lies in. -/
theorem at_layer1 (t : Fin cfg0.N) (y : S1x256x1024.Idx) : ((((View.whole main_v0_1).slice (win0_8.rect t)).emb y 0 : Fin 4) : ℕ) = t.val / 2 := by
  have e : ((((View.whole main_v0_1).slice (win0_8.rect t)).emb y 0 : Fin 4) : ℕ) = win0_8.index t 0 * 1 + 1 * (y 0).val := rfl
  have hy : (y 0).val < 1 := (y 0).isLt
  rw [e]
  simp only [idx t, Matrix.cons_val_zero]
  omega

set_option maxHeartbeats 1600000 in
theorem final1 : (dats m 0 c).arrAt 8 cfg0.N = DELTA (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  refine (dats m 0 c).arrAt_eq_of_covers 8 _ (by decide +kernel) fun t _ y => ?_
  blk_simp
  rw [after0_8]
  obtain h | h | h | h := layer t
  · rw [outsAt0_A m c t (by omega) (by omega) (by omega) (by omega)]
    frame_out
    idx_vars y
    refine (pay_at1 (iblk m c 0 t) (iblk m c 4 t) (iblk m c 5 t) (iblk m c 6 t) y0 y1 y2).trans ?_
    rw [eq_ix3 (((View.whole main_v0_1).slice (win0_8.rect t)).emb (ix3 y0 y1 y2))]
    refine Eq.trans ?_ (delta_at _ _ _ _ (m ((c : Thread nD τ).loc main_arg0)) _ _ _ 0 _ _ _ (Fin.ext ((at_layer1 t _).trans h)) rfl).symm
    blk_point [iblk, V, idx t, idx0 t h]
  · rw [outsAt0_B m c t (by omega) (by omega) (by omega) (by omega)]
    frame_out
    idx_vars y
    refine (pay_at1 (iblk m c 1 t) (iblk m c 4 t) (iblk m c 5 t) (iblk m c 6 t) y0 y1 y2).trans ?_
    rw [eq_ix3 (((View.whole main_v0_1).slice (win0_8.rect t)).emb (ix3 y0 y1 y2))]
    refine Eq.trans ?_ (delta_at _ _ _ _ (m ((c : Thread nD τ).loc main_arg1)) _ _ _ 1 _ _ _ (Fin.ext ((at_layer1 t _).trans h)) rfl).symm
    blk_point [iblk, V, idx t, idx1 t h]
  · rw [outsAt0_C m c t (by omega) (by omega) (by omega) (by omega)]
    frame_out
    idx_vars y
    refine (pay_at1 (iblk m c 2 t) (iblk m c 4 t) (iblk m c 5 t) (iblk m c 6 t) y0 y1 y2).trans ?_
    rw [eq_ix3 (((View.whole main_v0_1).slice (win0_8.rect t)).emb (ix3 y0 y1 y2))]
    refine Eq.trans ?_ (delta_at _ _ _ _ (m ((c : Thread nD τ).loc main_arg2)) _ _ _ 2 _ _ _ (Fin.ext ((at_layer1 t _).trans h)) rfl).symm
    blk_point [iblk, V, idx t, idx2 t h]
  · rw [outsAt0_D m c t (by omega) (by omega) (by omega) (by omega)]
    frame_out
    idx_vars y
    refine (pay_at1 (iblk m c 3 t) (iblk m c 4 t) (iblk m c 5 t) (iblk m c 6 t) y0 y1 y2).trans ?_
    rw [eq_ix3 (((View.whole main_v0_1).slice (win0_8.rect t)).emb (ix3 y0 y1 y2))]
    refine Eq.trans ?_ (delta_at _ _ _ _ (m ((c : Thread nD τ).loc main_arg3)) _ _ _ 3 _ _ _ (Fin.ext ((at_layer1 t _).trans h)) rfl).symm
    blk_point [iblk, V, idx t, idx3 t h]

/-- The layer an entry of the block lies in. -/
theorem at_layer2 (t : Fin cfg0.N) (y : S1x256x1024.Idx) : ((((View.whole main_v0_2).slice (win0_9.rect t)).emb y 0 : Fin 4) : ℕ) = t.val / 2 := by
  have e : ((((View.whole main_v0_2).slice (win0_9.rect t)).emb y 0 : Fin 4) : ℕ) = win0_9.index t 0 * 1 + 1 * (y 0).val := rfl
  have hy : (y 0).val < 1 := (y 0).isLt
  rw [e]
  simp only [idx t, Matrix.cons_val_zero]
  omega

set_option maxHeartbeats 1600000 in
theorem final2 : (dats m 0 c).arrAt 9 cfg0.N = FST (m ((c : Thread nD τ).loc main_arg0)) (m ((c : Thread nD τ).loc main_arg1)) (m ((c : Thread nD τ).loc main_arg2)) (m ((c : Thread nD τ).loc main_arg3)) (m ((c : Thread nD τ).loc main_arg5)) := by
  refine (dats m 0 c).arrAt_eq_of_covers 9 _ (by decide +kernel) fun t _ y => ?_
  blk_simp
  rw [after0_9]
  obtain h | h | h | h := layer t
  · rw [outsAt0_A m c t (by omega) (by omega) (by omega) (by omega)]
    frame_out
    idx_vars y
    refine (pay_at2 (iblk m c 0 t) (iblk m c 5 t) y0 y1 y2).trans ?_
    rw [eq_ix3 (((View.whole main_v0_2).slice (win0_9.rect t)).emb (ix3 y0 y1 y2))]
    refine Eq.trans ?_ (fst_at _ _ _ _ (m ((c : Thread nD τ).loc main_arg0)) _ 0 _ _ _ (Fin.ext ((at_layer2 t _).trans h)) rfl).symm
    blk_point [iblk, V, idx t, idx0 t h]
  · rw [outsAt0_B m c t (by omega) (by omega) (by omega) (by omega)]
    frame_out
    idx_vars y
    refine (pay_at2 (iblk m c 1 t) (iblk m c 5 t) y0 y1 y2).trans ?_
    rw [eq_ix3 (((View.whole main_v0_2).slice (win0_9.rect t)).emb (ix3 y0 y1 y2))]
    refine Eq.trans ?_ (fst_at _ _ _ _ (m ((c : Thread nD τ).loc main_arg1)) _ 1 _ _ _ (Fin.ext ((at_layer2 t _).trans h)) rfl).symm
    blk_point [iblk, V, idx t, idx1 t h]
  · rw [outsAt0_C m c t (by omega) (by omega) (by omega) (by omega)]
    frame_out
    idx_vars y
    refine (pay_at2 (iblk m c 2 t) (iblk m c 5 t) y0 y1 y2).trans ?_
    rw [eq_ix3 (((View.whole main_v0_2).slice (win0_9.rect t)).emb (ix3 y0 y1 y2))]
    refine Eq.trans ?_ (fst_at _ _ _ _ (m ((c : Thread nD τ).loc main_arg2)) _ 2 _ _ _ (Fin.ext ((at_layer2 t _).trans h)) rfl).symm
    blk_point [iblk, V, idx t, idx2 t h]
  · rw [outsAt0_D m c t (by omega) (by omega) (by omega) (by omega)]
    frame_out
    idx_vars y
    refine (pay_at2 (iblk m c 3 t) (iblk m c 5 t) y0 y1 y2).trans ?_
    rw [eq_ix3 (((View.whole main_v0_2).slice (win0_9.rect t)).emb (ix3 y0 y1 y2))]
    refine Eq.trans ?_ (fst_at _ _ _ _ (m ((c : Thread nD τ).loc main_arg3)) _ 3 _ _ _ (Fin.ext ((at_layer2 t _).trans h)) rfl).symm
    blk_point [iblk, V, idx t, idx3 t h]

/-- The layer an entry of the block lies in. -/
theorem at_layer3 (t : Fin cfg0.N) (y : S1x256x1024.Idx) : ((((View.whole main_v0_3).slice (win0_10.rect t)).emb y 0 : Fin 4) : ℕ) = t.val / 2 := by
  have e : ((((View.whole main_v0_3).slice (win0_10.rect t)).emb y 0 : Fin 4) : ℕ) = win0_10.index t 0 * 1 + 1 * (y 0).val := rfl
  have hy : (y 0).val < 1 := (y 0).isLt
  rw [e]
  simp only [idx t, Matrix.cons_val_zero]
  omega

set_option maxHeartbeats 1600000 in
theorem final3 : (dats m 0 c).arrAt 10 cfg0.N = SND (m ((c : Thread nD τ).loc main_arg0)) (m ((c : Thread nD τ).loc main_arg1)) (m ((c : Thread nD τ).loc main_arg2)) (m ((c : Thread nD τ).loc main_arg3)) (m ((c : Thread nD τ).loc main_arg6)) := by
  refine (dats m 0 c).arrAt_eq_of_covers 10 _ (by decide +kernel) fun t _ y => ?_
  blk_simp
  rw [after0_10]
  obtain h | h | h | h := layer t
  · rw [outsAt0_A m c t (by omega) (by omega) (by omega) (by omega)]
    frame_out
    idx_vars y
    refine (pay_at3 (iblk m c 0 t) (iblk m c 6 t) y0 y1 y2).trans ?_
    rw [eq_ix3 (((View.whole main_v0_3).slice (win0_10.rect t)).emb (ix3 y0 y1 y2))]
    refine Eq.trans ?_ (snd_at _ _ _ _ (m ((c : Thread nD τ).loc main_arg0)) _ 0 _ _ _ (Fin.ext ((at_layer3 t _).trans h)) rfl).symm
    blk_point [iblk, V, idx t, idx0 t h]
  · rw [outsAt0_B m c t (by omega) (by omega) (by omega) (by omega)]
    frame_out
    idx_vars y
    refine (pay_at3 (iblk m c 1 t) (iblk m c 6 t) y0 y1 y2).trans ?_
    rw [eq_ix3 (((View.whole main_v0_3).slice (win0_10.rect t)).emb (ix3 y0 y1 y2))]
    refine Eq.trans ?_ (snd_at _ _ _ _ (m ((c : Thread nD τ).loc main_arg1)) _ 1 _ _ _ (Fin.ext ((at_layer3 t _).trans h)) rfl).symm
    blk_point [iblk, V, idx t, idx1 t h]
  · rw [outsAt0_C m c t (by omega) (by omega) (by omega) (by omega)]
    frame_out
    idx_vars y
    refine (pay_at3 (iblk m c 2 t) (iblk m c 6 t) y0 y1 y2).trans ?_
    rw [eq_ix3 (((View.whole main_v0_3).slice (win0_10.rect t)).emb (ix3 y0 y1 y2))]
    refine Eq.trans ?_ (snd_at _ _ _ _ (m ((c : Thread nD τ).loc main_arg2)) _ 2 _ _ _ (Fin.ext ((at_layer3 t _).trans h)) rfl).symm
    blk_point [iblk, V, idx t, idx2 t h]
  · rw [outsAt0_D m c t (by omega) (by omega) (by omega) (by omega)]
    frame_out
    idx_vars y
    refine (pay_at3 (iblk m c 3 t) (iblk m c 6 t) y0 y1 y2).trans ?_
    rw [eq_ix3 (((View.whole main_v0_3).slice (win0_10.rect t)).emb (ix3 y0 y1 y2))]
    refine Eq.trans ?_ (snd_at _ _ _ _ (m ((c : Thread nD τ).loc main_arg3)) _ 3 _ _ _ (Fin.ext ((at_layer3 t _).trans h)) rfl).symm
    blk_point [iblk, V, idx t, idx3 t h]

end Ker

/-- The reference runs to its end and leaves its arguments as they were. -/
theorem frame_ref : Cert.quiescent_Reference21Ideal := fun m ρ _ =>
  (θ_run Cert.Reference21Ideal.defs _ _).mono (fun r h => ⟨fun c => (h c).2.2.2.2, sem_eq_zero_of_no_sems (by decide) r.2⟩) (Cert.Reference21Ideal.Value.run m ρ)

/-- The value claim: kernel and reference end with the same four arrays. -/
theorem value : Cert.algebraic_Kernel21Ideal_Reference21Ideal := by
  intro m ρ m' ρ' _ hag
  refine ⟨fun c => GRAD (m ((c.tc : Thread Cert.Kernel21Ideal.nD Cert.Kernel21Ideal.τ).loc Cert.Kernel21Ideal.main_arg0)) (m ((c.tc : Thread Cert.Kernel21Ideal.nD Cert.Kernel21Ideal.τ).loc Cert.Kernel21Ideal.main_arg1)) (m ((c.tc : Thread Cert.Kernel21Ideal.nD Cert.Kernel21Ideal.τ).loc Cert.Kernel21Ideal.main_arg2)) (m ((c.tc : Thread Cert.Kernel21Ideal.nD Cert.Kernel21Ideal.τ).loc Cert.Kernel21Ideal.main_arg3)), fun c => DELTA (m ((c.tc : Thread Cert.Kernel21Ideal.nD Cert.Kernel21Ideal.τ).loc Cert.Kernel21Ideal.main_arg0)) (m ((c.tc : Thread Cert.Kernel21Ideal.nD Cert.Kernel21Ideal.τ).loc Cert.Kernel21Ideal.main_arg1)) (m ((c.tc : Thread Cert.Kernel21Ideal.nD Cert.Kernel21Ideal.τ).loc Cert.Kernel21Ideal.main_arg2)) (m ((c.tc : Thread Cert.Kernel21Ideal.nD Cert.Kernel21Ideal.τ).loc Cert.Kernel21Ideal.main_arg3)) (m ((c.tc : Thread Cert.Kernel21Ideal.nD Cert.Kernel21Ideal.τ).loc Cert.Kernel21Ideal.main_arg4)) (m ((c.tc : Thread Cert.Kernel21Ideal.nD Cert.Kernel21Ideal.τ).loc Cert.Kernel21Ideal.main_arg5)) (m ((c.tc : Thread Cert.Kernel21Ideal.nD Cert.Kernel21Ideal.τ).loc Cert.Kernel21Ideal.main_arg6)), fun c => FST (m ((c.tc : Thread Cert.Kernel21Ideal.nD Cert.Kernel21Ideal.τ).loc Cert.Kernel21Ideal.main_arg0)) (m ((c.tc : Thread Cert.Kernel21Ideal.nD Cert.Kernel21Ideal.τ).loc Cert.Kernel21Ideal.main_arg1)) (m ((c.tc : Thread Cert.Kernel21Ideal.nD Cert.Kernel21Ideal.τ).loc Cert.Kernel21Ideal.main_arg2)) (m ((c.tc : Thread Cert.Kernel21Ideal.nD Cert.Kernel21Ideal.τ).loc Cert.Kernel21Ideal.main_arg3)) (m ((c.tc : Thread Cert.Kernel21Ideal.nD Cert.Kernel21Ideal.τ).loc Cert.Kernel21Ideal.main_arg5)), fun c => SND (m ((c.tc : Thread Cert.Kernel21Ideal.nD Cert.Kernel21Ideal.τ).loc Cert.Kernel21Ideal.main_arg0)) (m ((c.tc : Thread Cert.Kernel21Ideal.nD Cert.Kernel21Ideal.τ).loc Cert.Kernel21Ideal.main_arg1)) (m ((c.tc : Thread Cert.Kernel21Ideal.nD Cert.Kernel21Ideal.τ).loc Cert.Kernel21Ideal.main_arg2)) (m ((c.tc : Thread Cert.Kernel21Ideal.nD Cert.Kernel21Ideal.τ).loc Cert.Kernel21Ideal.main_arg3)) (m ((c.tc : Thread Cert.Kernel21Ideal.nD Cert.Kernel21Ideal.τ).loc Cert.Kernel21Ideal.main_arg6)), ?_, ?_⟩
  · refine (θ_run Cert.Kernel21Ideal.defs _ _).mono (fun _ h c => ?_) (Cert.Kernel21Ideal.Value.run_blocks m ρ)
    exact ⟨(h c).1.trans (final0 m c), (h c).2.1.trans (final1 m c), (h c).2.2.1.trans (final2 m c), (h c).2.2.2.1.trans (final3 m c), (h c).2.2.2.2⟩
  · refine (θ_run Cert.Reference21Ideal.defs _ _).mono (fun _ h c => ?_) (Cert.Reference21Ideal.Value.run m' ρ')
    obtain ⟨h0, h1, h2, h3, h4, h5, h6⟩ := hag c
    refine ⟨(h c).1.trans ?_, (h c).2.1.trans ?_, (h c).2.2.1.trans ?_, (h c).2.2.2.1.trans ?_, (h c).2.2.2.2⟩
    · show GRAD (m' ((c.tc : Thread Cert.Reference21Ideal.nD Cert.Reference21Ideal.τ).loc Cert.Reference21Ideal.main_arg0)) (m' ((c.tc : Thread Cert.Reference21Ideal.nD Cert.Reference21Ideal.τ).loc Cert.Reference21Ideal.main_arg1)) (m' ((c.tc : Thread Cert.Reference21Ideal.nD Cert.Reference21Ideal.τ).loc Cert.Reference21Ideal.main_arg2)) (m' ((c.tc : Thread Cert.Reference21Ideal.nD Cert.Reference21Ideal.τ).loc Cert.Reference21Ideal.main_arg3)) = GRAD (m ((c.tc : Thread Cert.Kernel21Ideal.nD Cert.Kernel21Ideal.τ).loc Cert.Kernel21Ideal.main_arg0)) (m ((c.tc : Thread Cert.Kernel21Ideal.nD Cert.Kernel21Ideal.τ).loc Cert.Kernel21Ideal.main_arg1)) (m ((c.tc : Thread Cert.Kernel21Ideal.nD Cert.Kernel21Ideal.τ).loc Cert.Kernel21Ideal.main_arg2)) (m ((c.tc : Thread Cert.Kernel21Ideal.nD Cert.Kernel21Ideal.τ).loc Cert.Kernel21Ideal.main_arg3))
      rw [h0, h1, h2, h3]
    · show DELTA (m' ((c.tc : Thread Cert.Reference21Ideal.nD Cert.Reference21Ideal.τ).loc Cert.Reference21Ideal.main_arg0)) (m' ((c.tc : Thread Cert.Reference21Ideal.nD Cert.Reference21Ideal.τ).loc Cert.Reference21Ideal.main_arg1)) (m' ((c.tc : Thread Cert.Reference21Ideal.nD Cert.Reference21Ideal.τ).loc Cert.Reference21Ideal.main_arg2)) (m' ((c.tc : Thread Cert.Reference21Ideal.nD Cert.Reference21Ideal.τ).loc Cert.Reference21Ideal.main_arg3)) (m' ((c.tc : Thread Cert.Reference21Ideal.nD Cert.Reference21Ideal.τ).loc Cert.Reference21Ideal.main_arg4)) (m' ((c.tc : Thread Cert.Reference21Ideal.nD Cert.Reference21Ideal.τ).loc Cert.Reference21Ideal.main_arg5)) (m' ((c.tc : Thread Cert.Reference21Ideal.nD Cert.Reference21Ideal.τ).loc Cert.Reference21Ideal.main_arg6)) = DELTA (m ((c.tc : Thread Cert.Kernel21Ideal.nD Cert.Kernel21Ideal.τ).loc Cert.Kernel21Ideal.main_arg0)) (m ((c.tc : Thread Cert.Kernel21Ideal.nD Cert.Kernel21Ideal.τ).loc Cert.Kernel21Ideal.main_arg1)) (m ((c.tc : Thread Cert.Kernel21Ideal.nD Cert.Kernel21Ideal.τ).loc Cert.Kernel21Ideal.main_arg2)) (m ((c.tc : Thread Cert.Kernel21Ideal.nD Cert.Kernel21Ideal.τ).loc Cert.Kernel21Ideal.main_arg3)) (m ((c.tc : Thread Cert.Kernel21Ideal.nD Cert.Kernel21Ideal.τ).loc Cert.Kernel21Ideal.main_arg4)) (m ((c.tc : Thread Cert.Kernel21Ideal.nD Cert.Kernel21Ideal.τ).loc Cert.Kernel21Ideal.main_arg5)) (m ((c.tc : Thread Cert.Kernel21Ideal.nD Cert.Kernel21Ideal.τ).loc Cert.Kernel21Ideal.main_arg6))
      rw [h0, h1, h2, h3, h4, h5, h6]
    · show FST (m' ((c.tc : Thread Cert.Reference21Ideal.nD Cert.Reference21Ideal.τ).loc Cert.Reference21Ideal.main_arg0)) (m' ((c.tc : Thread Cert.Reference21Ideal.nD Cert.Reference21Ideal.τ).loc Cert.Reference21Ideal.main_arg1)) (m' ((c.tc : Thread Cert.Reference21Ideal.nD Cert.Reference21Ideal.τ).loc Cert.Reference21Ideal.main_arg2)) (m' ((c.tc : Thread Cert.Reference21Ideal.nD Cert.Reference21Ideal.τ).loc Cert.Reference21Ideal.main_arg3)) (m' ((c.tc : Thread Cert.Reference21Ideal.nD Cert.Reference21Ideal.τ).loc Cert.Reference21Ideal.main_arg5)) = FST (m ((c.tc : Thread Cert.Kernel21Ideal.nD Cert.Kernel21Ideal.τ).loc Cert.Kernel21Ideal.main_arg0)) (m ((c.tc : Thread Cert.Kernel21Ideal.nD Cert.Kernel21Ideal.τ).loc Cert.Kernel21Ideal.main_arg1)) (m ((c.tc : Thread Cert.Kernel21Ideal.nD Cert.Kernel21Ideal.τ).loc Cert.Kernel21Ideal.main_arg2)) (m ((c.tc : Thread Cert.Kernel21Ideal.nD Cert.Kernel21Ideal.τ).loc Cert.Kernel21Ideal.main_arg3)) (m ((c.tc : Thread Cert.Kernel21Ideal.nD Cert.Kernel21Ideal.τ).loc Cert.Kernel21Ideal.main_arg5))
      rw [h0, h1, h2, h3, h5]
    · show SND (m' ((c.tc : Thread Cert.Reference21Ideal.nD Cert.Reference21Ideal.τ).loc Cert.Reference21Ideal.main_arg0)) (m' ((c.tc : Thread Cert.Reference21Ideal.nD Cert.Reference21Ideal.τ).loc Cert.Reference21Ideal.main_arg1)) (m' ((c.tc : Thread Cert.Reference21Ideal.nD Cert.Reference21Ideal.τ).loc Cert.Reference21Ideal.main_arg2)) (m' ((c.tc : Thread Cert.Reference21Ideal.nD Cert.Reference21Ideal.τ).loc Cert.Reference21Ideal.main_arg3)) (m' ((c.tc : Thread Cert.Reference21Ideal.nD Cert.Reference21Ideal.τ).loc Cert.Reference21Ideal.main_arg6)) = SND (m ((c.tc : Thread Cert.Kernel21Ideal.nD Cert.Kernel21Ideal.τ).loc Cert.Kernel21Ideal.main_arg0)) (m ((c.tc : Thread Cert.Kernel21Ideal.nD Cert.Kernel21Ideal.τ).loc Cert.Kernel21Ideal.main_arg1)) (m ((c.tc : Thread Cert.Kernel21Ideal.nD Cert.Kernel21Ideal.τ).loc Cert.Kernel21Ideal.main_arg2)) (m ((c.tc : Thread Cert.Kernel21Ideal.nD Cert.Kernel21Ideal.τ).loc Cert.Kernel21Ideal.main_arg3)) (m ((c.tc : Thread Cert.Kernel21Ideal.nD Cert.Kernel21Ideal.τ).loc Cert.Kernel21Ideal.main_arg6))
      rw [h0, h1, h2, h3, h6]
end Cert.AdamDown
end
-- ==== Proof.Norm.lean ====
/- A normed row over the extended reals, and its derivative: what the calls around the adaLN norm share. -/
module

public import Idealize.ShloMosaic.Lib.Pipeline.ValueKit
public import Idealize.ShloMosaic.Lib.Pointwise

@[expose] public section

set_option maxRecDepth 16384

noncomputable section

namespace Cert.Norm

open Idealize.ShloMosaic

/-- An extended real that is a number. -/
def Num (a : EReal) : Prop := ∃ r : ℝ, a = (r : EReal)

theorem num_of_abs_lt {a : EReal} (h : max a (-a) < ⊤) : Num a := by
  induction a with
  | bot => simp at h
  | top => simp at h
  | coe r => exact ⟨r, rfl⟩

theorem Num.mul {a b : EReal} (ha : Num a) (hb : Num b) : Num (a * b) := by
  obtain ⟨x, rfl⟩ := ha; obtain ⟨y, rfl⟩ := hb
  exact ⟨x * y, by rw [EReal.coe_mul]⟩

theorem Num.add {a b : EReal} (ha : Num a) (hb : Num b) : Num (a + b) := by
  obtain ⟨x, rfl⟩ := ha; obtain ⟨y, rfl⟩ := hb
  exact ⟨x + y, by rw [EReal.coe_add]⟩

theorem coe_sum_fin {n : ℕ} (f : Fin n → ℝ) : ((∑ i, f i : ℝ) : EReal) = ∑ i, (f i : EReal) := by
  classical
  refine Finset.induction_on (Finset.univ : Finset (Fin n)) (by simp) fun a s ha ih => ?_
  rw [Finset.sum_insert ha, Finset.sum_insert ha, EReal.coe_add, ih]

/-- A number moves into a sum of numbers. -/
theorem sum_mul_num {n : ℕ} {f : Fin n → EReal} {g : EReal} (hf : ∀ i, Num (f i)) (hg : Num g) : (∑ i, f i) * g = ∑ i, f i * g := by
  choose r hr using hf
  obtain ⟨y, rfl⟩ := hg
  rw [show f = fun i => (r i : EReal) from funext hr, ← coe_sum_fin, ← EReal.coe_mul, Finset.sum_mul, coe_sum_fin]
  exact Finset.sum_congr rfl fun i _ => by rw [EReal.coe_mul]

theorem sq_nonneg (a : EReal) : 0 ≤ a * a := by
  induction a with
  | bot => rw [EReal.bot_mul_bot]; exact le_top
  | top => rw [EReal.top_mul_top]; exact le_top
  | coe r => rw [← EReal.coe_mul]; exact EReal.coe_nonneg.mpr (mul_self_nonneg r)

/-- The number under the norms' root, as the programs write it. -/
def eps : EReal := Scalar.ofBits (F := Ideal) .f32 0x358637BD#32

theorem eps_num : ∃ e : ℝ, 0 < e ∧ eps = (e : EReal) := by
  refine ⟨_, ?_, (rfl : ((_ : ℝ) : EReal) = _)⟩
  norm_num
  rw [if_neg (by decide)]
  positivity

/-- A positive number. -/
def Pos (a : EReal) : Prop := ∃ w : ℝ, 0 < w ∧ a = (w : EReal)

/-- The width of the model, as the programs write it. -/
def width : EReal := Scalar.ofBits (F := Ideal) .f32 0x44800000#32

theorem width_pos : Pos width := by
  refine ⟨1024, by norm_num, ?_⟩
  show Ideal.ofBits .f32 0x44800000#32 = _
  simp [Ideal.ofBits, Ideal.ieee, -EReal.coe_mul]; norm_num

/-- The width of a head, as the programs write it. -/
def hwidth : EReal := Scalar.ofBits (F := Ideal) .f32 0x43000000#32

theorem hwidth_pos : Pos hwidth := by
  refine ⟨128, by norm_num, ?_⟩
  show Ideal.ofBits .f32 0x43000000#32 = _
  simp [Ideal.ofBits, Ideal.ieee, -EReal.coe_mul]; norm_num

/-- Minus a half, as the programs write it. -/
def mhalf : EReal := Scalar.ofBits (F := Ideal) .f32 0xBF000000#32

theorem mhalf_num : mhalf = ((-(1 / 2) : ℝ) : EReal) := by
  show Ideal.ofBits .f32 0xBF000000#32 = _
  simp [Ideal.ofBits, Ideal.ieee, -EReal.coe_mul]; norm_num

theorem div_pos {w : ℝ} (hw : 0 < w) (a : EReal) : Ideal.div a (w : EReal) = a * ((w⁻¹ : ℝ) : EReal) := by
  rw [Ideal.div, if_neg (fun h => hw.ne' (EReal.coe_eq_zero.mp h)), EReal.coe_inv]

variable {n : ℕ} (W : EReal) (x : Fin n → EReal)

/-- The mean square of a row with `eps` added. -/
def ms : EReal := Ideal.div (∑ e, x e * x e) W + eps

/-- A row's factor. -/
def rt : EReal := Ideal.rsqrt (ms W x)

/-- A row is real, or its mean square is infinite. -/
theorem real_or_inf (hW : Pos W) : (∃ y : Fin n → ℝ, x = fun e => (y e : EReal)) ∨ ms W x = ⊤ := by
  by_cases h : ∃ e, x e * x e = ⊤
  · obtain ⟨i, hi⟩ := h
    obtain ⟨e, he, heq⟩ := eps_num
    obtain ⟨w, hw, rfl⟩ := hW
    have hs : (∑ e, x e * x e) = ⊤ :=
      top_le_iff.mp (hi ▸ Finset.single_le_sum (f := fun e => x e * x e) (fun e _ => sq_nonneg (x e)) (Finset.mem_univ i))
    right
    rw [ms, hs, div_pos hw, heq, EReal.top_mul_coe_of_pos (inv_pos.mpr hw), EReal.top_add_coe]
  · refine Or.inl ⟨fun e => (x e).toReal, funext fun e => (EReal.coe_toReal ?_ ?_).symm⟩
    · intro hb; exact h ⟨e, by rw [hb, EReal.top_mul_top]⟩
    · intro hb; exact h ⟨e, by rw [hb, EReal.bot_mul_bot]⟩

/-- The mean square of a real row is a positive number, and the factor its reciprocal root. -/
theorem ms_real (hW : Pos W) (y : Fin n → ℝ) : ∃ v : ℝ, 0 < v ∧ ms W (fun e => (y e : EReal)) = (v : EReal) ∧ rt W (fun e => (y e : EReal)) = (((Real.sqrt v)⁻¹ : ℝ) : EReal) := by
  obtain ⟨e, he, heq⟩ := eps_num
  obtain ⟨w, hw, rfl⟩ := hW
  have hm : ms (w : EReal) (fun e => (y e : EReal)) = (((∑ e, y e * y e) * w⁻¹ + e : ℝ) : EReal) := by
    rw [ms, div_pos hw, heq, EReal.coe_add, EReal.coe_mul, coe_sum_fin]
    simp only [EReal.coe_mul]
  have hp : 0 < (∑ e, y e * y e) * w⁻¹ + e := by
    have : 0 ≤ ∑ e, y e * y e := Finset.sum_nonneg fun e _ => mul_self_nonneg _
    positivity
  refine ⟨_, hp, hm, ?_⟩
  rw [rt, hm, Ideal.rsqrt_coe, if_neg (not_lt.mpr hp.le), if_neg hp.ne']

theorem rt_inf {W : EReal} {x : Fin n → EReal} (h : ms W x = ⊤) : rt W x = 0 := by rw [rt, h, Ideal.rsqrt_top]

/-- A normed row is real, whatever the row. -/
theorem normed_num (hW : Pos W) (d : Fin n) : Num (x d * rt W x) := by
  rcases real_or_inf W x hW with ⟨y, rfl⟩ | h
  · obtain ⟨v, _, _, hr⟩ := ms_real W hW y
    rw [hr]; exact ⟨y d * (Real.sqrt v)⁻¹, by rw [EReal.coe_mul]⟩
  · rw [rt_inf h, mul_zero]; exact ⟨0, rfl⟩

/-- The derivative of a normed row as the kernel writes it, for a row of cotangents `u` … -/
def dker (u : Fin n → EReal) (d : Fin n) : EReal :=
  rt W x * (u d - x d * rt W x * Ideal.div (∑ e, u e * (x e * rt W x)) W)

/-- … its factor in the reference: the mean square's derivative … -/
def dms (u : Fin n → EReal) : EReal := Ideal.div ((∑ e, x e * u e) * (mhalf * Ideal.div (rt W x) (ms W x))) W

/-- … and the derivative there: through the factor, and through the mean square twice. -/
def dref (u : Fin n → EReal) (d : Fin n) : EReal := u d * rt W x + x d * dms W x u + dms W x u * x d

/-- The two agree for real cotangents. -/
theorem dker_eq (hW : Pos W) (u : Fin n → EReal) (hu : ∀ e, Num (u e)) (d : Fin n) : dker W x u d = dref W x u d := by
  rcases real_or_inf W x hW with ⟨y, rfl⟩ | h
  · obtain ⟨v, hv, hm, hr⟩ := ms_real W hW y
    choose w hw using hu
    obtain rfl : u = fun e => (w e : EReal) := funext hw
    obtain ⟨k, hk, rfl⟩ := hW
    have hv' : ((v : ℝ) : EReal) ≠ 0 := fun h => hv.ne' (EReal.coe_eq_zero.mp h)
    rw [dker, dref, dms, hr, hm, mhalf_num, div_pos hk, div_pos hk, Ideal.div, if_neg hv', ← EReal.coe_inv]
    simp only [← EReal.coe_mul, ← coe_sum_fin, ← EReal.coe_sub, ← EReal.coe_add]
    refine congrArg _ ?_
    have hs : (Real.sqrt v)⁻¹ * (Real.sqrt v)⁻¹ = v⁻¹ := by rw [← mul_inv, Real.mul_self_sqrt hv.le]
    have hS : ∑ e, w e * (y e * (Real.sqrt v)⁻¹) = (∑ e, y e * w e) * (Real.sqrt v)⁻¹ := by
      rw [Finset.sum_mul]; exact Finset.sum_congr rfl fun e _ => by ring
    rw [hS, ← hs]; ring
  · rw [dker, dref, dms, rt_inf h, h, zero_mul, mul_zero, zero_add]
    have h0 : Ideal.div (0 : EReal) ⊤ = 0 := by
      rw [Ideal.div, if_neg (by simp)]; exact zero_mul _
    obtain ⟨k, hk, rfl⟩ := hW
    rw [h0, mul_zero, mul_zero, div_pos hk, zero_mul, mul_zero, zero_mul, zero_add]

end Cert.Norm
end
-- ==== Proof.GateGrad.lean ====
/- What `rowsum_prod` leaves: the gradient of a gate. -/
module

public import proofs.«01_k».proof.Proof.Gen.Kernel22Ideal.Value
public import proofs.«01_k».proof.Proof.Gen.Reference22Ideal.Run
public import Idealize.ShloMosaic.Lib.Pipeline.ReadBack
public import proofs.«01_k».proof.Proof.Norm
public import proofs.«01_k».proof.Defs

@[expose] public section

set_option maxRecDepth 16384

noncomputable section

namespace Cert.GateGrad

open Idealize.ShloMosaic Idealize.ShloMosaic.TcCoe Idealize.SL.Sem
open Idealize.ShloMosaic.Pipeline (Dat)

section Ref
open Cert.Reference22Ideal Cert.Reference22Ideal.Gen
variable (X : FVec Ideal S2x2048x1024 .f32) (Y : FVec Ideal S2x2048x1024 .bf16)

/-- The gradient of the gate. -/
def REF : FVec Ideal S2x1x1024 .f32 :=
  shapeCast _ (Host.reduceAdd (mulf X (extf .f32 Y bitsLt_bf16_f32)) (constant S_ .f32 0x00000000#32) reducesTo_S2x2048x1024_S2x1024_d1 h_S_) shapeCasts_S2x1024_S2x1x1024

/-- At an entry: over the rows, cotangent times branch. -/
theorem ref_at (b : Fin 2) (z : Fin 1) (k : Fin 1024) : REF X Y (ix3 b z k) = ∑ t : Fin 2048, X (ix3 b t k) * Y (ix3 b t k) := by
  pointwise [REF]
end Ref

section Ker
open Cert.Kernel22Ideal Cert.Kernel22Ideal.Gen
variable (m : (ℓ : Loc nD τ sig) → Buf (Elt Ideal) ℓ)

theorem hzero (j : S1x1x1024.Idx) : k0_pay1 (F := Ideal) j = 0 := by pointwise [k0_pay1]

/-- One step's products added to what the steps before left. -/
theorem hpay (x : Vec Ideal S1x512x1024 .f32) (y : Vec Ideal S1x512x1024 .bf16) (acc : Vec Ideal S1x1x1024 .f32) (j : S1x1x1024.Idx) :
    k0_pay2 (F := Ideal) acc x y j = acc j + ∑ r : Fin 512, x (ix3 0 r (j 2)) * y (ix3 0 r (j 2)) := by
  idx_vars j
  obtain rfl : j0 = 0 := Subsingleton.elim _ _
  obtain rfl : j1 = 0 := Subsingleton.elim _ _
  pointwise [k0_pay2]

/-- The windows' index maps, decided over the grid. -/
theorem idx : ∀ t : Fin cfg0.N, win0_0.index t = ![t.val / 4, t.val % 4, 0] ∧ win0_1.index t = ![t.val / 4, t.val % 4, 0] ∧ win0_2.index t = ![t.val / 4, 0, 0] ∧ t.val < 8 :=
  (by decide +kernel : ∀ t : Fin grid0.N, _)

theorem final (c : Dev nD) : (dats m 0 c).arrAt 2 cfg0.N = REF (m ((c : Thread nD τ).loc main_arg0)) (m ((c : Thread nD τ).loc main_arg1)) := by
  refine (dats m 0 c).arrAt_eq_of_covers 2 _ (by decide +kernel) fun t hf y => ?_
  blk_simp
  have h3 : t.val % 4 = 3 := (flush0_2 t).mp hf
  rw [after0_2, Pipeline.eq_sum_fin_of_reset_step_apply_of_flush (fun n h => outsAt0 m c n h) 4 (fun _ => 0) _
    (fun t h j => by rw [outsAt0_A m c t h]; frame_out; rw [hpay, hzero])
    (fun t h j => by rw [outsAt0_B m c t h]; frame_out; exact hpay _ _ _ _) t h3 _, zero_add]
  idx_vars y
  rw [eq_ix3 ((win0_2.blk t).view.emb (ix3 y0 y1 y2))]
  refine Eq.trans ?_ (ref_at _ _ _ _ _).symm
  refine Fin.sum_mul_add_congr fun s k hl => ?_
  blk_point [iblk, V, idx t, idx ⟨_, Pipeline.run_point_lt_of_flush t h3 s⟩]
end Ker

/-- The reference runs to its end and leaves its arguments as they were. -/
theorem frame_ref : Cert.quiescent_Reference22Ideal := fun m ρ _ =>
  (θ_run Cert.Reference22Ideal.defs _ _).mono (fun r h => ⟨fun c => (h c).2, sem_eq_zero_of_no_sems (by decide) r.2⟩) (Cert.Reference22Ideal.Value.run m ρ)

/-- The value claim: kernel and reference end with the same array. -/
theorem value : Cert.algebraic_Kernel22Ideal_Reference22Ideal := by
  intro m ρ m' ρ' _ hag
  refine ⟨fun c => REF (m ((c.tc : Thread Cert.Kernel22Ideal.nD Cert.Kernel22Ideal.τ).loc Cert.Kernel22Ideal.main_arg0)) (m ((c.tc : Thread Cert.Kernel22Ideal.nD Cert.Kernel22Ideal.τ).loc Cert.Kernel22Ideal.main_arg1)), ?_, ?_⟩
  · refine (θ_run Cert.Kernel22Ideal.defs _ _).mono (fun _ h c => ?_) (Cert.Kernel22Ideal.Value.run_blocks m ρ)
    exact ⟨(h c).1.trans (final m c), (h c).2⟩
  · refine (θ_run Cert.Reference22Ideal.defs _ _).mono (fun _ h c => ?_) (Cert.Reference22Ideal.Value.run m' ρ')
    obtain ⟨h0, h1⟩ := hag c
    refine ⟨(h c).1.trans ?_, (h c).2⟩
    · show REF (m' ((c.tc : Thread Cert.Reference22Ideal.nD Cert.Reference22Ideal.τ).loc Cert.Reference22Ideal.main_arg0)) (m' ((c.tc : Thread Cert.Reference22Ideal.nD Cert.Reference22Ideal.τ).loc Cert.Reference22Ideal.main_arg1)) = REF (m ((c.tc : Thread Cert.Kernel22Ideal.nD Cert.Kernel22Ideal.τ).loc Cert.Kernel22Ideal.main_arg0)) (m ((c.tc : Thread Cert.Kernel22Ideal.nD Cert.Kernel22Ideal.τ).loc Cert.Kernel22Ideal.main_arg1))
      rw [h0, h1]
end Cert.GateGrad
end
-- ==== Proof.TwoAxes.lean ====
/- A sum over the first two of three axes. -/
module

public import Idealize.ShloMosaic.Lib.Pipeline.ReadBack
public import Idealize.ShloMosaic.Lib.Pipeline.ValueKit
public import Idealize.ShloMosaic.Lib.Pointwise

@[expose] public section

noncomputable section

namespace Cert.TwoAxes

open Idealize.ShloMosaic Idealize.ShloMosaic.TcCoe Idealize.SL.Sem

/-- A sum over the first two of three axes, read at an index of the third. -/
theorem drop_two {p q n : ℕ} (h : (⟨3, ![p, q, n]⟩ : Shape).ReducesTo [0, 1] ⟨1, ![n]⟩) (v : (⟨3, ![p, q, n]⟩ : Shape).Idx → EReal) (k : Fin n) :
    Ideal.hostReduceAdd h v 0 (ix1 k) = ∑ a : Fin p, ∑ b : Fin q, v (ix3 a b k) := by
  unfold Ideal.hostReduceAdd
  rw [zero_add, ← Fintype.sum_prod_type' (f := fun a b => v (ix3 a b k))]
  refine Finset.sum_filter_eq_sum_of_fiber _ (fun ab : Fin p × Fin q => ix3 ab.1 ab.2 k) (fun x y e => Prod.ext (congrFun e 0) (congrFun e 1)) (fun i => ?_) v
  have key : (h.drop i 0).val = (i 2).val := rfl
  constructor
  · intro e
    have e0 : (h.drop i 0).val = k.val := by rw [e]; rfl
    refine ⟨(i 0, i 1), ?_⟩
    rw [eq_ix3 i]
    congr 1
    exact Fin.ext (e0.symm.trans key)
  · rintro ⟨ab, rfl⟩
    funext a
    have ha : a = 0 := Subsingleton.elim _ _
    subst ha
    exact Fin.ext key

/-- Eight blocks of 512 rows are two sequences of 2048. -/
theorem eight_blocks (F : Fin 8 → Fin 512 → EReal) (G : Fin 2 → Fin 2048 → EReal)
    (h : ∀ (s : Fin 8) (r : Fin 512), F s r = G ⟨s.val / 4, by omega⟩ ⟨s.val % 4 * 512 + r.val, by omega⟩) :
    ∑ s : Fin 8, ∑ r : Fin 512, F s r = ∑ b : Fin 2, ∑ t : Fin 2048, G b t := by
  have one (b : Fin 2) : ∑ q : Fin 4, ∑ r : Fin 512, F ⟨b.val * 4 + q.val, by omega⟩ r = ∑ t : Fin 2048, G b t := by
    refine Fin.sum_mul_add_congr fun q r hl => ?_
    rw [h]
    exact congr (congrArg G (Fin.ext (by show (b.val * 4 + q.val) / 4 = b.val; omega))) (Fin.ext (by show (b.val * 4 + q.val) % 4 * 512 + r.val = q.val * 512 + r.val; omega))
  rw [Finset.sum_congr rfl fun b _ => (one b).symm]
  exact (Fin.sum_mul_add_congr fun b q hl => rfl).symm
end Cert.TwoAxes
end
-- ==== Proof.LossGrad.lean ====
/- What `loss_grad` leaves: the gradient of the loss and the sums of squared errors. -/
module

public import proofs.«01_k».proof.Proof.Gen.Kernel23Ideal.Value
public import proofs.«01_k».proof.Proof.Gen.Reference23Ideal.Run
public import Idealize.ShloMosaic.Lib.Pipeline.ReadBack
public import proofs.«01_k».proof.Proof.Norm
public import proofs.«01_k».proof.Defs
public import proofs.«01_k».proof.Proof.TwoAxes

@[expose] public section

set_option maxRecDepth 16384

noncomputable section

namespace Cert.LossGrad

open Idealize.ShloMosaic Idealize.ShloMosaic.TcCoe Idealize.SL.Sem
open Idealize.ShloMosaic.Pipeline (Dat)

section Ref
open Cert.Reference23Ideal Cert.Reference23Ideal.Gen
variable (Y T : FVec Ideal S2x2048x1024 .f32)

/-- The gradient of the loss. -/
def DY : FVec Ideal S2x2048x1024 .f32 :=
  mulf (broadcastInDim S2x2048x1024 ![0, 1] bcast_S2x2048_S2x2048x1024_0_1 (Host.divf (broadcastInDim S2x2048 ![] bcast_S_S2x2048 (mulf (constant S_ .f32 0x3F000000#32) (constant S_ .f32 0x3F800000#32))) (broadcastInDim S2x2048 ![] bcast_S_S2x2048 (constant S_ .f32 0x44800000#32)))) (mulf (broadcastInDim S2x2048x1024 ![] bcast_S_S2x2048x1024 (constant S_ .f32 0x40000000#32)) (subf Y T))

/-- The squared errors summed over the rows. -/
def SQ : FVec Ideal S1x1024 .f32 :=
  broadcastInDim S1x1024 ![1] bcast_S1024_S1x1024_1 (Host.reduceAdd (mulf (subf Y T) (subf Y T)) (constant S_ .f32 0x00000000#32) reducesTo_S2x2048x1024_S1024_d0_1 h_S_)

/-- Half of a mean's derivative, twice, is the mean's weight. -/
theorem weight : Ideal.div (Ideal.ofBits .f32 0x3F000000#32 * Ideal.ofBits .f32 0x3F800000#32) (Ideal.ofBits .f32 0x44800000#32) * Ideal.ofBits .f32 0x40000000#32 = Ideal.ofBits .f32 0x3A800000#32 := by
  simp [Ideal.ofBits, Ideal.ieee]
  norm_num [Ideal.div, ← EReal.coe_inv, ← EReal.coe_mul]

theorem dy_at (b : Fin 2) (t : Fin 2048) (k : Fin 1024) : DY Y T (ix3 b t k) = (Y (ix3 b t k) - T (ix3 b t k)) * Ideal.ofBits .f32 0x3A800000#32 := by
  rw [mul_comm, ← weight, mul_assoc]
  pointwise [DY]

theorem sq_at (z : Fin 1) (k : Fin 1024) : SQ Y T (ix2 z k) = ∑ b : Fin 2, ∑ t : Fin 2048, (Y (ix3 b t k) - T (ix3 b t k)) * (Y (ix3 b t k) - T (ix3 b t k)) := by
  refine Eq.trans ?_ (TwoAxes.drop_two reducesTo_S2x2048x1024_S1024_d0_1 (mulf (subf Y T) (subf Y T)) k)
  pointwise [SQ]
end Ref

section Ker
open Cert.Kernel23Ideal Cert.Kernel23Ideal.Gen
variable (m : (ℓ : Loc nD τ sig) → Buf (Elt Ideal) ℓ)

theorem hzero (j : S1x1024.Idx) : k0_pay1 (F := Ideal) j = 0 := by pointwise [k0_pay1]

/-- One step's squared errors added to what the steps before left. -/
theorem hpay (x y : Vec Ideal S1x512x1024 .f32) (acc : Vec Ideal S1x1024 .f32) (j : S1x1024.Idx) :
    k0_pay4 (F := Ideal) x y acc j = acc j + ∑ r : Fin 512, (x (ix3 0 r (j 1)) - y (ix3 0 r (j 1))) * (x (ix3 0 r (j 1)) - y (ix3 0 r (j 1))) := by
  idx_vars j
  obtain rfl : j0 = 0 := Subsingleton.elim _ _
  pointwise [k0_pay4, k0_pay2]

theorem hout (x y : Vec Ideal S1x512x1024 .f32) (z : Fin 1) (r : Fin 512) (k : Fin 1024) :
    k0_pay3 (F := Ideal) x y (ix3 z r k) = (x (ix3 0 r k) - y (ix3 0 r k)) * Ideal.ofBits .f32 0x3A800000#32 := by
  pointwise [k0_pay3, k0_pay2]

/-- The windows' index maps, decided over the grid. -/
theorem idx : ∀ t : Fin cfg0.N, win0_0.index t = ![t.val / 4, t.val % 4, 0] ∧ win0_1.index t = ![t.val / 4, t.val % 4, 0] ∧ win0_2.index t = ![t.val / 4, t.val % 4, 0] ∧ win0_3.index t = ![0, 0] ∧ t.val < 8 :=
  (by decide +kernel : ∀ t : Fin grid0.N, _)

theorem final0 (c : Dev nD) : (dats m 0 c).arrAt 2 cfg0.N = DY (m ((c : Thread nD τ).loc main_arg0)) (m ((c : Thread nD τ).loc main_arg1)) := by
  refine (dats m 0 c).arrAt_eq_of_covers 2 _ (by decide +kernel) fun t hf y => ?_
  blk_simp
  rw [after0_2]
  have hl : (outsAt0 m c t.val t.isLt).1 = k0_pay3 (F := Ideal) (iblk m c 0 t) (iblk m c 1 t) := by
    by_cases h : t.val % 8 = 0
    · rw [outsAt0_A m c t h]; frame_out
    · rw [outsAt0_B m c t h]; frame_out
  rw [hl]
  idx_vars y
  refine (hout _ _ y0 y1 y2).trans ?_
  rw [eq_ix3 ((win0_2.blk t).view.emb (ix3 y0 y1 y2))]
  refine Eq.trans ?_ (dy_at _ _ _ _ _).symm
  blk_point [iblk, V, idx t]

theorem final1 (c : Dev nD) : (dats m 0 c).arrAt 3 cfg0.N = SQ (m ((c : Thread nD τ).loc main_arg0)) (m ((c : Thread nD τ).loc main_arg1)) := by
  refine (dats m 0 c).arrAt_eq_of_covers 3 _ (by decide +kernel) fun t hf y => ?_
  blk_simp
  have h3 : t.val % 8 = 7 := (flush0_3 t).mp hf
  rw [after0_3, Pipeline.eq_sum_fin_of_reset_step_apply_of_flush (fun n h => (outsAt0 m c n h).2) 8 (fun _ => 0) _
    (fun t h j => by rw [outsAt0_A m c t h]; frame_out; rw [hpay, hzero])
    (fun t h j => by rw [outsAt0_B m c t h]; frame_out; exact hpay _ _ _ _) t h3 _, zero_add]
  idx_vars y
  rw [eq_ix2 ((win0_3.blk t).view.emb (ix2 y0 y1))]
  refine Eq.trans ?_ (sq_at _ _ _ _).symm
  refine TwoAxes.eight_blocks _ _ fun s r => ?_
  have ht : t.val < 8 := (idx t).2.2.2.2
  blk_point [iblk, V, idx t, idx ⟨_, Pipeline.run_point_lt_of_flush t h3 s⟩]
end Ker

/-- The reference runs to its end and leaves its arguments as they were. -/
theorem frame_ref : Cert.quiescent_Reference23Ideal := fun m ρ _ =>
  (θ_run Cert.Reference23Ideal.defs _ _).mono (fun r h => ⟨fun c => (h c).2.2, sem_eq_zero_of_no_sems (by decide) r.2⟩) (Cert.Reference23Ideal.Value.run m ρ)

/-- The value claim: kernel and reference end with the same arrays. -/
theorem value : Cert.algebraic_Kernel23Ideal_Reference23Ideal := by
  intro m ρ m' ρ' _ hag
  refine ⟨fun c => DY (m ((c.tc : Thread Cert.Kernel23Ideal.nD Cert.Kernel23Ideal.τ).loc Cert.Kernel23Ideal.main_arg0)) (m ((c.tc : Thread Cert.Kernel23Ideal.nD Cert.Kernel23Ideal.τ).loc Cert.Kernel23Ideal.main_arg1)), fun c => SQ (m ((c.tc : Thread Cert.Kernel23Ideal.nD Cert.Kernel23Ideal.τ).loc Cert.Kernel23Ideal.main_arg0)) (m ((c.tc : Thread Cert.Kernel23Ideal.nD Cert.Kernel23Ideal.τ).loc Cert.Kernel23Ideal.main_arg1)), ?_, ?_⟩
  · refine (θ_run Cert.Kernel23Ideal.defs _ _).mono (fun _ h c => ?_) (Cert.Kernel23Ideal.Value.run_blocks m ρ)
    exact ⟨(h c).1.trans (final0 m c), (h c).2.1.trans (final1 m c), (h c).2.2⟩
  · refine (θ_run Cert.Reference23Ideal.defs _ _).mono (fun _ h c => ?_) (Cert.Reference23Ideal.Value.run m' ρ')
    obtain ⟨h0, h1⟩ := hag c
    refine ⟨(h c).1.trans ?_, (h c).2.1.trans ?_, (h c).2.2⟩
    · show DY (m' ((c.tc : Thread Cert.Reference23Ideal.nD Cert.Reference23Ideal.τ).loc Cert.Reference23Ideal.main_arg0)) (m' ((c.tc : Thread Cert.Reference23Ideal.nD Cert.Reference23Ideal.τ).loc Cert.Reference23Ideal.main_arg1)) = DY (m ((c.tc : Thread Cert.Kernel23Ideal.nD Cert.Kernel23Ideal.τ).loc Cert.Kernel23Ideal.main_arg0)) (m ((c.tc : Thread Cert.Kernel23Ideal.nD Cert.Kernel23Ideal.τ).loc Cert.Kernel23Ideal.main_arg1))
      rw [h0, h1]
    · show SQ (m' ((c.tc : Thread Cert.Reference23Ideal.nD Cert.Reference23Ideal.τ).loc Cert.Reference23Ideal.main_arg0)) (m' ((c.tc : Thread Cert.Reference23Ideal.nD Cert.Reference23Ideal.τ).loc Cert.Reference23Ideal.main_arg1)) = SQ (m ((c.tc : Thread Cert.Kernel23Ideal.nD Cert.Kernel23Ideal.τ).loc Cert.Kernel23Ideal.main_arg0)) (m ((c.tc : Thread Cert.Kernel23Ideal.nD Cert.Kernel23Ideal.τ).loc Cert.Kernel23Ideal.main_arg1))
      rw [h0, h1]
end Cert.LossGrad
end
-- ==== Proof.NormFwd.lean ====
/- What `ln_mod_fwd` leaves: the normed rows, gained, scaled and shifted. -/
module

public import proofs.«01_k».proof.Proof.Gen.Kernel24Ideal.Value
public import proofs.«01_k».proof.Proof.Gen.Reference24Ideal.Run
public import Idealize.ShloMosaic.Lib.Pipeline.ReadBack
public import proofs.«01_k».proof.Proof.Norm
public import proofs.«01_k».proof.Defs

@[expose] public section

set_option maxRecDepth 16384

noncomputable section

namespace Cert.NormFwd

open Idealize.ShloMosaic Idealize.ShloMosaic.TcCoe Idealize.SL.Sem
open Idealize.ShloMosaic.Pipeline (Dat)

section Ref
open Cert.Reference24Ideal Cert.Reference24Ideal.Gen
variable (X : FVec Ideal S2x2048x1024 .f32) (G : FVec Ideal S1x1024 .f32) (S H : FVec Ideal S2x1x1024 .f32)

/-- The normed rows, gained, scaled and shifted. -/
def REF : FVec Ideal S2x2048x1024 .bf16 :=
  truncf .bf16 (addf (mulf (mulf (mulf X (broadcastInDim S2x2048x1024 ![0, 1, 2] bcast_S2x2048x1_S2x2048x1024_0_1_2 (Host.rsqrt (addf (Host.divf (broadcastInDim S2x2048x1 ![0, 1] bcast_S2x2048_S2x2048x1_0_1 (Host.reduceAdd (mulf X X) (constant S_ .f32 0x00000000#32) reducesTo_S2x2048x1024_S2x2048_d2 h_S_)) (broadcastInDim S2x2048x1 ![] bcast_S_S2x2048x1 (constant S_ .f32 0x44800000#32))) (broadcastInDim S2x2048x1 ![] bcast_S_S2x2048x1 (constant S_ .f32 0x358637BD#32)))))) (broadcastInDim S2x2048x1024 ![0, 1, 2] bcast_S1x1x1024_S2x2048x1024_0_1_2 (broadcastInDim S1x1x1024 ![2] bcast_S1024_S1x1x1024_2 (shapeCast _ G shapeCasts_S1x1024_S1024)))) (broadcastInDim S2x2048x1024 ![0, 1, 2] bcast_S2x1x1024_S2x2048x1024_0_1_2 (addf (broadcastInDim S2x1x1024 ![] bcast_S_S2x1x1024 (constant S_ .f32 0x3F800000#32)) S))) (broadcastInDim S2x2048x1024 ![0, 1, 2] bcast_S2x1x1024_S2x2048x1024_0_1_2 H)) bitsLt_bf16_f32

theorem ref_at (b : Fin 2) (t : Fin 2048) (k : Fin 1024) : REF X G S H (ix3 b t k) = X (ix3 b t k) * Ideal.rsqrt (Ideal.div (∑ e : Fin 1024, X (ix3 b t e) * X (ix3 b t e)) (Ideal.ofBits .f32 0x44800000#32) + Ideal.ofBits .f32 0x358637BD#32) * G (ix2 0 k) * (1 + S (ix3 b 0 k)) + H (ix3 b 0 k) := by
  pointwise [REF]
end Ref

section Ker
open Cert.Kernel24Ideal Cert.Kernel24Ideal.Gen

theorem out_at (x : Vec Ideal S1x512x1024 .f32) (g : Vec Ideal S1x1024 .f32) (s h : Vec Ideal S1x1x1024 .f32) (z : Fin 1) (r : Fin 512) (k : Fin 1024) :
    out0_4 (F := Ideal) x g s h (ix3 z r k) = x (ix3 0 r k) * Ideal.rsqrt (Ideal.div (∑ e : Fin 1024, x (ix3 0 r e) * x (ix3 0 r e)) (Ideal.ofBits .f32 0x44800000#32) + Ideal.ofBits .f32 0x358637BD#32) * g (ix2 0 k) * (1 + s (ix3 0 0 k)) + h (ix3 0 0 k) := by
  unfold out0_4
  frame_out
  pointwise [k0_pay1]

variable (m : (ℓ : Loc nD τ sig) → Buf (Elt Ideal) ℓ)

/-- The windows' index maps, decided over the grid. -/
theorem idx : ∀ t : Fin cfg0.N, win0_0.index t = ![t.val / 4, t.val % 4, 0] ∧ win0_1.index t = ![0, 0] ∧ win0_2.index t = ![t.val / 4, 0, 0] ∧ win0_3.index t = ![t.val / 4, 0, 0] ∧ win0_4.index t = ![t.val / 4, t.val % 4, 0] ∧ t.val < 8 :=
  (by decide +kernel : ∀ t : Fin grid0.N, _)

theorem final (c : Dev nD) : (dats m 0 c).arrAt 4 cfg0.N = REF (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t hf y => ?_
  blk_simp
  rw [after0_4]
  idx_vars y
  refine (out_at _ _ _ _ y0 y1 y2).trans ?_
  rw [eq_ix3 ((win0_4.blk t).view.emb (ix3 y0 y1 y2))]
  refine Eq.trans ?_ (ref_at _ _ _ _ _ _ _).symm
  blk_point [iblk, V, idx t]
end Ker

/-- The reference runs to its end and leaves its arguments as they were. -/
theorem frame_ref : Cert.quiescent_Reference24Ideal := fun m ρ _ =>
  (θ_run Cert.Reference24Ideal.defs _ _).mono (fun r h => ⟨fun c => (h c).2, sem_eq_zero_of_no_sems (by decide) r.2⟩) (Cert.Reference24Ideal.Value.run m ρ)

/-- The value claim: kernel and reference end with the same array. -/
theorem value : Cert.algebraic_Kernel24Ideal_Reference24Ideal := by
  intro m ρ m' ρ' _ hag
  refine ⟨fun c => REF (m ((c.tc : Thread Cert.Kernel24Ideal.nD Cert.Kernel24Ideal.τ).loc Cert.Kernel24Ideal.main_arg0)) (m ((c.tc : Thread Cert.Kernel24Ideal.nD Cert.Kernel24Ideal.τ).loc Cert.Kernel24Ideal.main_arg1)) (m ((c.tc : Thread Cert.Kernel24Ideal.nD Cert.Kernel24Ideal.τ).loc Cert.Kernel24Ideal.main_arg2)) (m ((c.tc : Thread Cert.Kernel24Ideal.nD Cert.Kernel24Ideal.τ).loc Cert.Kernel24Ideal.main_arg3)), ?_, ?_⟩
  · refine (θ_run Cert.Kernel24Ideal.defs _ _).mono (fun _ h c => ?_) (Cert.Kernel24Ideal.Value.run_blocks m ρ)
    exact ⟨(h c).1.trans (final m c), (h c).2⟩
  · refine (θ_run Cert.Reference24Ideal.defs _ _).mono (fun _ h c => ?_) (Cert.Reference24Ideal.Value.run m' ρ')
    obtain ⟨h0, h1, h2, h3⟩ := hag c
    refine ⟨(h c).1.trans ?_, (h c).2⟩
    · show REF (m' ((c.tc : Thread Cert.Reference24Ideal.nD Cert.Reference24Ideal.τ).loc Cert.Reference24Ideal.main_arg0)) (m' ((c.tc : Thread Cert.Reference24Ideal.nD Cert.Reference24Ideal.τ).loc Cert.Reference24Ideal.main_arg1)) (m' ((c.tc : Thread Cert.Reference24Ideal.nD Cert.Reference24Ideal.τ).loc Cert.Reference24Ideal.main_arg2)) (m' ((c.tc : Thread Cert.Reference24Ideal.nD Cert.Reference24Ideal.τ).loc Cert.Reference24Ideal.main_arg3)) = REF (m ((c.tc : Thread Cert.Kernel24Ideal.nD Cert.Kernel24Ideal.τ).loc Cert.Kernel24Ideal.main_arg0)) (m ((c.tc : Thread Cert.Kernel24Ideal.nD Cert.Kernel24Ideal.τ).loc Cert.Kernel24Ideal.main_arg1)) (m ((c.tc : Thread Cert.Kernel24Ideal.nD Cert.Kernel24Ideal.τ).loc Cert.Kernel24Ideal.main_arg2)) (m ((c.tc : Thread Cert.Kernel24Ideal.nD Cert.Kernel24Ideal.τ).loc Cert.Kernel24Ideal.main_arg3))
      rw [h0, h1, h2, h3]
end Cert.NormFwd
end
-- ==== Proof.HeadNorm.lean ====
/- What `gdn_post_fwd` leaves: the heads normed, gained and gated. -/
module

public import proofs.«01_k».proof.Proof.Gen.Kernel25Ideal.Value
public import proofs.«01_k».proof.Proof.Gen.Reference25Ideal.Run
public import Idealize.ShloMosaic.Lib.Pipeline.ReadBack
public import proofs.«01_k».proof.Proof.Norm
public import proofs.«01_k».proof.Defs

@[expose] public section

set_option maxRecDepth 16384

noncomputable section

namespace Cert.HeadNorm

open Idealize.ShloMosaic Idealize.ShloMosaic.TcCoe Idealize.SL.Sem
open Idealize.ShloMosaic.Pipeline (Dat)

section Ref
open Cert.Reference25Ideal Cert.Reference25Ideal.Gen
variable (O : FVec Ideal S2x2048x512 .f32) (P : FVec Ideal S2x2048x3712 .f32) (G : FVec Ideal S1x128 .f32)

/-- The heads. -/
def HD : FVec Ideal S2x2048x4x128 .f32 := shapeCast _ O shapeCasts_S2x2048x512_S2x2048x4x128

/-- What gates them. -/
def ZD : FVec Ideal S2x2048x4x128 .f32 := shapeCast _ (extractStridedSlice S2x2048x512 ![0, 0, 3072] P slices_S2x2048x3712_S2x2048x512_0_0_3072) shapeCasts_S2x2048x512_S2x2048x4x128

/-- Each head normed and gated. -/
def GD : FVec Ideal S2x2048x4x128 .f32 :=
  mulf (mulf (mulf (HD O) (broadcastInDim S2x2048x4x128 ![0, 1, 2, 3] bcast_S2x2048x4x1_S2x2048x4x128_0_1_2_3 (Host.rsqrt (addf (Host.divf (broadcastInDim S2x2048x4x1 ![0, 1, 2] bcast_S2x2048x4_S2x2048x4x1_0_1_2 (Host.reduceAdd (mulf (HD O) (HD O)) (constant S_ .f32 0x00000000#32) reducesTo_S2x2048x4x128_S2x2048x4_d3 h_S_)) (broadcastInDim S2x2048x4x1 ![] bcast_S_S2x2048x4x1 (constant S_ .f32 0x43000000#32))) (broadcastInDim S2x2048x4x1 ![] bcast_S_S2x2048x4x1 (constant S_ .f32 0x358637BD#32)))))) (broadcastInDim S2x2048x4x128 ![0, 1, 2, 3] bcast_S1x1x1x128_S2x2048x4x128_0_1_2_3 (broadcastInDim S1x1x1x128 ![3] bcast_S128_S1x1x1x128_3 (shapeCast _ G shapeCasts_S1x128_S128)))) (mulf (ZD P) (Host.divf (broadcastInDim S2x2048x4x128 ![] bcast_S_S2x2048x4x128 (constant S_ .f32 0x3F800000#32)) (addf (broadcastInDim S2x2048x4x128 ![] bcast_S_S2x2048x4x128 (constant S_ .f32 0x3F800000#32)) (Host.exp (Host.negf (ZD P))))))

/-- The heads beside one another. -/
def REF : FVec Ideal S2x2048x512 .bf16 := truncf .bf16 (shapeCast _ (GD O P G) shapeCasts_S2x2048x4x128_S2x2048x512) bitsLt_bf16_f32

variable (b : Fin 2) (t : Fin 2048) (h : Fin 4) (d : Fin 128)

theorem hd_at : HD O (ix4 b t h d) = O (ix3 b t ⟨h.val * 128 + d.val, by omega⟩) := by pointwise [HD]

theorem zd_at : ZD P (ix4 b t h d) = P (ix3 b t ⟨3072 + (h.val * 128 + d.val), by omega⟩) := by pointwise [ZD]

theorem gd_at : GD O P G (ix4 b t h d) = HD O (ix4 b t h d) * Ideal.rsqrt (Ideal.div (∑ e : Fin 128, HD O (ix4 b t h e) * HD O (ix4 b t h e)) (Ideal.ofBits .f32 0x43000000#32) + Ideal.ofBits .f32 0x358637BD#32) * G (ix2 0 d) * (ZD P (ix4 b t h d) * Ideal.div 1 (1 + Ideal.exp (-(ZD P (ix4 b t h d))))) := by
  pointwise [GD]

theorem ref_at : REF O P G (ix3 b t ⟨h.val * 128 + d.val, by omega⟩) = O (ix3 b t ⟨h.val * 128 + d.val, by omega⟩) * Ideal.rsqrt (Ideal.div (∑ e : Fin 128, O (ix3 b t ⟨h.val * 128 + e.val, by omega⟩) * O (ix3 b t ⟨h.val * 128 + e.val, by omega⟩)) (Ideal.ofBits .f32 0x43000000#32) + Ideal.ofBits .f32 0x358637BD#32) * G (ix2 0 d) * (P (ix3 b t ⟨3072 + (h.val * 128 + d.val), by omega⟩) * Ideal.div 1 (1 + Ideal.exp (-(P (ix3 b t ⟨3072 + (h.val * 128 + d.val), by omega⟩))))) := by
  refine Eq.trans (b := GD O P G (ix4 b t h d)) (by pointwise [REF]) ?_
  rw [gd_at]
  simp only [hd_at, zd_at]
end Ref

section Ker
open Cert.Kernel25Ideal Cert.Kernel25Ideal.Gen

theorem out_at (x z : Vec Ideal S1x2048x128 .f32) (g : Vec Ideal S1x128 .f32) (w : Fin 1) (r : Fin 2048) (k : Fin 128) :
    out0_3 (F := Ideal) x z g (ix3 w r k) = x (ix3 0 r k) * Ideal.rsqrt (Ideal.div (∑ e : Fin 128, x (ix3 0 r e) * x (ix3 0 r e)) (Ideal.ofBits .f32 0x43000000#32) + Ideal.ofBits .f32 0x358637BD#32) * g (ix2 0 k) * (z (ix3 0 r k) * Ideal.div 1 (1 + Ideal.exp (-(z (ix3 0 r k))))) := by
  rw [← zero_sub (z (ix3 0 r k))]
  unfold out0_3
  frame_out
  pointwise [k0_pay1]

variable (m : (ℓ : Loc nD τ sig) → Buf (Elt Ideal) ℓ)

/-- The windows' index maps, decided over the grid. -/
theorem idx : ∀ t : Fin cfg0.N, win0_0.index t = ![t.val / 4, 0, t.val % 4] ∧ win0_1.index t = ![t.val / 4, 0, 24 + t.val % 4] ∧ win0_2.index t = ![0, 0] ∧ win0_3.index t = ![t.val / 4, 0, t.val % 4] ∧ t.val < 8 :=
  (by decide +kernel : ∀ t : Fin grid0.N, _)

/-- Where an entry of the block lies in the array. -/
theorem emb (t : Fin cfg0.N) (y0 : Fin 1) (y1 : Fin 2048) (y2 : Fin 128) (f : S2x2048x512.Idx → EReal) :
    f ((win0_3.blk t).view.emb (ix3 y0 y1 y2)) = f (ix3 ⟨t.val / 4, by have := (idx t).2.2.2.2; omega⟩ y1 ⟨t.val % 4 * 128 + y2.val, by omega⟩) := by
  blk_point [idx t]

theorem final (c : Dev nD) : (dats m 0 c).arrAt 3 cfg0.N = REF (m ((c : Thread nD τ).loc main_arg0)) (m ((c : Thread nD τ).loc main_arg1)) (m ((c : Thread nD τ).loc main_arg2)) := by
  refine (dats m 0 c).arrAt_eq_of_covers 3 _ (by decide +kernel) fun t hf y => ?_
  blk_simp
  rw [after0_3]
  idx_vars y
  refine (out_at _ _ _ y0 y1 y2).trans ?_
  refine Eq.trans ?_ (emb t y0 y1 y2 _).symm
  refine Eq.trans ?_ (ref_at _ _ _ _ y1 ⟨t.val % 4, by omega⟩ y2).symm
  blk_point [iblk, V, idx t]
end Ker

/-- The reference runs to its end and leaves its arguments as they were. -/
theorem frame_ref : Cert.quiescent_Reference25Ideal := fun m ρ _ =>
  (θ_run Cert.Reference25Ideal.defs _ _).mono (fun r h => ⟨fun c => (h c).2, sem_eq_zero_of_no_sems (by decide) r.2⟩) (Cert.Reference25Ideal.Value.run m ρ)

/-- The value claim: kernel and reference end with the same array. -/
theorem value : Cert.algebraic_Kernel25Ideal_Reference25Ideal := by
  intro m ρ m' ρ' _ hag
  refine ⟨fun c => REF (m ((c.tc : Thread Cert.Kernel25Ideal.nD Cert.Kernel25Ideal.τ).loc Cert.Kernel25Ideal.main_arg0)) (m ((c.tc : Thread Cert.Kernel25Ideal.nD Cert.Kernel25Ideal.τ).loc Cert.Kernel25Ideal.main_arg1)) (m ((c.tc : Thread Cert.Kernel25Ideal.nD Cert.Kernel25Ideal.τ).loc Cert.Kernel25Ideal.main_arg2)), ?_, ?_⟩
  · refine (θ_run Cert.Kernel25Ideal.defs _ _).mono (fun _ h c => ?_) (Cert.Kernel25Ideal.Value.run_blocks m ρ)
    exact ⟨(h c).1.trans (final m c), (h c).2⟩
  · refine (θ_run Cert.Reference25Ideal.defs _ _).mono (fun _ h c => ?_) (Cert.Reference25Ideal.Value.run m' ρ')
    obtain ⟨h0, h1, h2⟩ := hag c
    refine ⟨(h c).1.trans ?_, (h c).2⟩
    · show REF (m' ((c.tc : Thread Cert.Reference25Ideal.nD Cert.Reference25Ideal.τ).loc Cert.Reference25Ideal.main_arg0)) (m' ((c.tc : Thread Cert.Reference25Ideal.nD Cert.Reference25Ideal.τ).loc Cert.Reference25Ideal.main_arg1)) (m' ((c.tc : Thread Cert.Reference25Ideal.nD Cert.Reference25Ideal.τ).loc Cert.Reference25Ideal.main_arg2)) = REF (m ((c.tc : Thread Cert.Kernel25Ideal.nD Cert.Kernel25Ideal.τ).loc Cert.Kernel25Ideal.main_arg0)) (m ((c.tc : Thread Cert.Kernel25Ideal.nD Cert.Kernel25Ideal.τ).loc Cert.Kernel25Ideal.main_arg1)) (m ((c.tc : Thread Cert.Kernel25Ideal.nD Cert.Kernel25Ideal.τ).loc Cert.Kernel25Ideal.main_arg2))
      rw [h0, h1, h2]
end Cert.HeadNorm
end
-- ==== Proof.NormBwd.lean ====
/- What `ln_mod_bwd` leaves: through the norm and its modulation, the gradients of the input, the gain, the scale and the shift, and the gradient of the gate in front of it. -/
module

public import proofs.«01_k».proof.Proof.Gen.Kernel26Ideal.Value
public import proofs.«01_k».proof.Proof.Gen.Reference26Ideal.Run
public import Idealize.ShloMosaic.Lib.Pipeline.ReadBack
public import proofs.«01_k».proof.Proof.Norm
public import proofs.«01_k».proof.Defs
public import proofs.«01_k».proof.Proof.Gen.Pre_numbers
public import proofs.«01_k».proof.Proof.TwoAxes

@[expose] public section

set_option maxRecDepth 16384

noncomputable section

namespace Cert.NormBwd

open Idealize.ShloMosaic Idealize.ShloMosaic.TcCoe Idealize.SL.Sem
open Idealize.ShloMosaic.Pipeline (Dat)

section Ref
open Cert.Reference26Ideal Cert.Reference26Ideal.Gen
variable (X : FVec Ideal S2x2048x1024 .f32) (G : FVec Ideal S1x1024 .f32) (S : FVec Ideal S2x1x1024 .f32) (D E : FVec Ideal S2x2048x1024 .f32) (Y : FVec Ideal S2x2048x1024 .bf16)

/-- The mean squares of the rows, with the number under the root added. -/
def MS : FVec Ideal S2x2048x1 .f32 :=
  addf (Host.divf (broadcastInDim S2x2048x1 ![0, 1] bcast_S2x2048_S2x2048x1_0_1 (Host.reduceAdd (mulf X X) (constant S_ .f32 0x00000000#32) reducesTo_S2x2048x1024_S2x2048_d2 h_S_)) (broadcastInDim S2x2048x1 ![] bcast_S_S2x2048x1 (constant S_ .f32 0x44800000#32))) (broadcastInDim S2x2048x1 ![] bcast_S_S2x2048x1 (constant S_ .f32 0x358637BD#32))

/-- The normed rows. -/
def XN : FVec Ideal S2x2048x1024 .f32 := mulf X (broadcastInDim S2x2048x1024 ![0, 1, 2] bcast_S2x2048x1_S2x2048x1024_0_1_2 (Host.rsqrt (MS X)))

/-- The gain along the rows. -/
def GB : FVec Ideal S2x2048x1024 .f32 := broadcastInDim S2x2048x1024 ![0, 1, 2] bcast_S1x1x1024_S2x2048x1024_0_1_2 (broadcastInDim S1x1x1024 ![2] bcast_S1024_S1x1x1024_2 (shapeCast _ G shapeCasts_S1x1024_S1024))

/-- The cotangent of the normed and gained rows. -/
def CT : FVec Ideal S2x2048x1024 .f32 := mulf (shapeCast _ D shapeCasts_S2x2048x1024_S2x2048x1024) (broadcastInDim S2x2048x1024 ![0, 1, 2] bcast_S2x1x1024_S2x2048x1024_0_1_2 (addf (broadcastInDim S2x1x1024 ![] bcast_S_S2x1x1024 (constant S_ .f32 0x3F800000#32)) S))

/-- The cotangent of the normed rows. -/
def U : FVec Ideal S2x2048x1024 .f32 := mulf (CT S D) (GB G)

/-- The derivative of the mean square, for each row. -/
def DMS : FVec Ideal S2x2048x1024 .f32 :=
  broadcastInDim S2x2048x1024 ![0, 1] bcast_S2x2048_S2x2048x1024_0_1 (Host.reduceAdd (Host.divf (mulf (shapeCast _ (Host.reduceAdd (mulf X (U G S D)) (constant S_ .f32 0x00000000#32) reducesTo_S2x2048x1024_S2x2048_d2 h_S_) shapeCasts_S2x2048_S2x2048x1) (mulf (broadcastInDim S2x2048x1 ![] bcast_S_S2x2048x1 (constant S_ .f32 0xBF000000#32)) (Host.divf (Host.rsqrt (MS X)) (MS X)))) (broadcastInDim S2x2048x1 ![] bcast_S_S2x2048x1 (constant S_ .f32 0x44800000#32))) (constant S_ .f32 0x00000000#32) reducesTo_S2x2048x1_S2x2048_d2 h_S_)

/-- The gradient of the input: what the residual hands down, and through the norm. -/
def DX : FVec Ideal S2x2048x1024 .f32 :=
  addf E (addf (addf (mulf (U G S D) (broadcastInDim S2x2048x1024 ![0, 1, 2] bcast_S2x2048x1_S2x2048x1024_0_1_2 (Host.rsqrt (MS X)))) (mulf X (DMS X G S D))) (mulf (DMS X G S D) X))

/-- The gradient of the gain. -/
def DG : FVec Ideal S1x1024 .f32 :=
  broadcastInDim S1x1024 ![1] bcast_S1024_S1x1024_1 (Host.reduceAdd (shapeCast _ (Host.reduceAdd (mulf (XN X) (CT S D)) (constant S_ .f32 0x00000000#32) reducesTo_S2x2048x1024_S1024_d0_1 h_S_) shapeCasts_S1024_S1x1x1024) (constant S_ .f32 0x00000000#32) reducesTo_S1x1x1024_S1024_d0_1 h_S_)

/-- The gradient of the scale. -/
def DS : FVec Ideal S2x1x1024 .f32 :=
  shapeCast _ (Host.reduceAdd (mulf (mulf (XN X) (GB G)) (shapeCast _ D shapeCasts_S2x2048x1024_S2x2048x1024)) (constant S_ .f32 0x00000000#32) reducesTo_S2x2048x1024_S2x1024_d1 h_S_) shapeCasts_S2x1024_S2x1x1024

/-- The gradient of the shift. -/
def DH : FVec Ideal S2x1x1024 .f32 :=
  shapeCast _ (Host.reduceAdd D (constant S_ .f32 0x00000000#32) reducesTo_S2x2048x1024_S2x1024_d1 h_S_) shapeCasts_S2x1024_S2x1x1024

/-- The gradient of the gate. -/
def DY : FVec Ideal S2x1x1024 .f32 :=
  shapeCast _ (Host.reduceAdd (mulf (DX X G S D E) (extf .f32 Y bitsLt_bf16_f32)) (constant S_ .f32 0x00000000#32) reducesTo_S2x2048x1024_S2x1024_d1 h_S_) shapeCasts_S2x1024_S2x1x1024

/-- Row `t` of sequence `b`. -/
abbrev row (A : FVec Ideal S2x2048x1024 .f32) (b : Fin 2) (t : Fin 2048) : Fin 1024 → EReal := fun e => A (ix3 b t e)

/-- The cotangent of row `t`, normed. -/
abbrev cot (b : Fin 2) (t : Fin 2048) : Fin 1024 → EReal := fun e => D (ix3 b t e) * (1 + S (ix3 b 0 e)) * G (ix2 0 e)

variable (b : Fin 2) (t : Fin 2048) (k : Fin 1024)

theorem ms_at : MS X (ix3 b t 0) = Norm.ms Norm.width (row X b t) := by
  unfold Norm.ms row; pointwise [MS]; rfl

theorem u_at : U G S D (ix3 b t k) = cot G S D b t k := by
  unfold cot; pointwise [U, CT, GB]

theorem xn_at : XN X (ix3 b t k) = X (ix3 b t k) * Norm.rt Norm.width (row X b t) := by
  unfold Norm.rt; rw [← ms_at]; pointwise [XN]

theorem dms_at : DMS X G S D (ix3 b t k) = Norm.dms Norm.width (row X b t) (cot G S D b t) := by
  unfold Norm.dms Norm.rt; rw [← ms_at]
  simp only [← u_at]
  pointwise [DMS]
  exact Fin.sum_univ_one _

theorem dx_at : DX X G S D E (ix3 b t k) = E (ix3 b t k) + Norm.dref Norm.width (row X b t) (cot G S D b t) k := by
  unfold Norm.dref Norm.rt; rw [← dms_at X G S D b t k, ← ms_at, ← u_at]
  pointwise [DX]

theorem dg_at (z : Fin 1) : DG X S D (ix2 z k) = ∑ b : Fin 2, ∑ t : Fin 2048, X (ix3 b t k) * Norm.rt Norm.width (row X b t) * (D (ix3 b t k) * (1 + S (ix3 b 0 k))) := by
  simp only [← xn_at]
  unfold DG
  refine Eq.trans (b := Ideal.hostReduceAdd reducesTo_S1x1x1024_S1024_d0_1 (shapeCast S1x1x1024 (Host.reduceAdd (mulf (XN X) (CT S D)) (constant S_ .f32 0x00000000#32) reducesTo_S2x2048x1024_S1024_d0_1 h_S_) shapeCasts_S1024_S1x1x1024) 0 (ix1 k)) (by pointwise) ?_
  rw [TwoAxes.drop_two]
  refine (Fin.sum_univ_one _).trans ((Fin.sum_univ_one _).trans ?_)
  refine Eq.trans (b := Ideal.hostReduceAdd reducesTo_S2x2048x1024_S1024_d0_1 (mulf (XN X) (CT S D)) 0 (ix1 k)) (by pointwise) ?_
  rw [TwoAxes.drop_two]
  pointwise [CT]

theorem ds_at (z : Fin 1) : DS X G D (ix3 b z k) = ∑ t : Fin 2048, X (ix3 b t k) * Norm.rt Norm.width (row X b t) * G (ix2 0 k) * D (ix3 b t k) := by
  simp only [← xn_at]
  pointwise [DS, GB]

theorem dh_at (z : Fin 1) : DH D (ix3 b z k) = ∑ t : Fin 2048, D (ix3 b t k) := by
  pointwise [DH]

theorem dy_at (z : Fin 1) : DY X G S D E Y (ix3 b z k) = ∑ t : Fin 2048, DX X G S D E (ix3 b t k) * Y (ix3 b t k) := by
  pointwise [DY]
end Ref

section Ker
open Cert.Kernel26Ideal Cert.Kernel26Ideal.Gen

section Pay
variable (x : Vec Ideal S1x512x1024 .f32) (g : Vec Ideal S1x1024 .f32) (s : Vec Ideal S1x1x1024 .f32) (d e : Vec Ideal S1x512x1024 .f32) (y : Vec Ideal S1x512x1024 .bf16)

/-- A row of a block. -/
abbrev krow (x : Vec Ideal S1x512x1024 .f32) (r : Fin 512) : Fin 1024 → EReal := fun j => x (ix3 0 r j)

abbrev kcot (r : Fin 512) : Fin 1024 → EReal := fun j => d (ix3 0 r j) * (g (ix2 0 j) * (1 + s (ix3 0 0 j)))

/-- One step's part of the gradient of the normed rows' products with the cotangents. -/
def sxn (k : Fin 1024) : EReal := ∑ r : Fin 512, d (ix3 0 r k) * (x (ix3 0 r k) * Norm.rt Norm.width (krow x r))

variable (r : Fin 512) (k : Fin 1024)

theorem kcot_of (u v w : EReal) (hd : d (ix3 0 r k) = u) (hs : s (ix3 0 0 k) = v) (hg : g (ix2 0 k) = w) : kcot g s d r k = u * (1 + v) * w := by
  show d (ix3 0 r k) * (g (ix2 0 k) * (1 + s (ix3 0 0 k))) = _
  rw [hd, hs, hg, mul_comm w, ← mul_assoc]

theorem rt_at : k0_pay6 (F := Ideal) x (ix2 r 0) = Norm.rt Norm.width (krow x r) := by
  unfold Norm.rt Norm.ms krow; pointwise [k0_pay6, k0_pay3]; rfl

theorem kxn_at : k0_pay7 (F := Ideal) x (ix2 r k) = x (ix3 0 r k) * Norm.rt Norm.width (krow x r) := by
  rw [← rt_at]; pointwise [k0_pay7, k0_pay3]

theorem kdx_at : k0_pay8 (F := Ideal) x d g s e (ix2 r k) = e (ix3 0 r k) + Norm.dker Norm.width (krow x r) (kcot g s d r) k := by
  pointwise [k0_pay8, k0_pay4, k0_pay5]
  simp only [kxn_at, rt_at]
  rfl

theorem sxn_at : k0_pay10 (F := Ideal) (k0_pay4 d) (k0_pay7 x) (ix2 0 k) = sxn x d k := by
  pointwise [k0_pay10, k0_pay4]
  simp only [kxn_at]
  rfl

theorem dg_step (a : Vec Ideal S1x1024 .f32) : k0_pay1 (F := Ideal) (k0_pay10 (k0_pay4 d) (k0_pay7 x)) (k0_pay17 a) (k0_pay18 (k0_pay5 s)) (ix2 0 k) = a (ix2 0 k) + sxn x d k * (1 + s (ix3 0 0 k)) := by
  rw [← sxn_at]; pointwise [k0_pay1, k0_pay17, k0_pay18, k0_pay5]

theorem ds_step (a : Vec Ideal S1x1x1024 .f32) : k0_pay15 (F := Ideal) (k0_pay4 d) g (k0_pay7 x) a (ix3 0 0 k) = a (ix3 0 0 k) + sxn x d k * g (ix2 0 k) := by
  rw [← sxn_at]; pointwise [k0_pay15]

theorem dh_step (a : Vec Ideal S1x1x1024 .f32) : k0_pay16 (F := Ideal) (k0_pay4 d) a (ix3 0 0 k) = a (ix3 0 0 k) + ∑ r : Fin 512, d (ix3 0 r k) := by
  pointwise [k0_pay16, k0_pay4]

theorem dy_step (a : Vec Ideal S1x1x1024 .f32) : k0_pay2 (F := Ideal) (k0_pay8 x d g s e) a y (ix3 0 0 k) = a (ix3 0 0 k) + ∑ r : Fin 512, k0_pay8 (F := Ideal) x d g s e (ix2 r k) * y (ix3 0 r k) := by
  pointwise [k0_pay2]

theorem zero11 : k0_pay11 (F := Ideal) (ix3 0 0 k) = 0 := by pointwise [k0_pay11]
theorem zero12 : k0_pay12 (F := Ideal) (ix3 0 0 k) = 0 := by pointwise [k0_pay12]
theorem zero13 : k0_pay13 (F := Ideal) (ix3 0 0 k) = 0 := by pointwise [k0_pay13]
theorem zero14 : k0_pay14 (F := Ideal) (ix2 0 k) = 0 := by pointwise [k0_pay14]
end Pay
variable (m : (ℓ : Loc nD τ sig) → Buf (Elt Ideal) ℓ) (c : Dev nD)

/-- The windows' index maps, decided over the grid. -/
theorem idx : ∀ t : Fin cfg0.N, win0_0.index t = ![t.val / 4, t.val % 4, 0] ∧ win0_1.index t = ![0, 0] ∧ win0_2.index t = ![t.val / 4, 0, 0] ∧ win0_3.index t = ![t.val / 4, t.val % 4, 0] ∧ win0_4.index t = ![t.val / 4, t.val % 4, 0] ∧ win0_5.index t = ![t.val / 4, t.val % 4, 0] ∧ win0_6.index t = ![t.val / 4, t.val % 4, 0] ∧ win0_7.index t = ![0, 0] ∧ win0_8.index t = ![t.val / 4, 0, 0] ∧ win0_9.index t = ![t.val / 4, 0, 0] ∧ win0_10.index t = ![t.val / 4, 0, 0] ∧ t.val < 8 :=
  (by decide +kernel : ∀ t : Fin grid0.N, _)

theorem lt (t : Fin cfg0.N) : t.val < 8 := t.isLt

/-- The arrays the call reads. -/
abbrev AX : FVec Ideal S2x2048x1024 .f32 := m ((c : Thread nD τ).loc main_arg0)
abbrev AG : FVec Ideal S1x1024 .f32 := m ((c : Thread nD τ).loc main_arg1)
abbrev AS : FVec Ideal S2x1x1024 .f32 := m ((c : Thread nD τ).loc main_arg2)
abbrev AD : FVec Ideal S2x2048x1024 .f32 := m ((c : Thread nD τ).loc main_arg3)
abbrev AE : FVec Ideal S2x2048x1024 .f32 := m ((c : Thread nD τ).loc main_arg4)
abbrev AY : FVec Ideal S2x2048x1024 .bf16 := m ((c : Thread nD τ).loc main_arg5)

/-- The sequence a point works on. -/
abbrev sq (t : Fin cfg0.N) : Fin 2 := ⟨t.val / 4, by have := lt t; omega⟩

/-- The place in it of the block's row. -/
abbrev pl (t : Fin cfg0.N) (r : Fin 512) : Fin 2048 := ⟨t.val % 4 * 512 + r.val, by omega⟩

section Reads
variable (t : Fin cfg0.N) (r : Fin 512) (k : Fin 1024)
theorem x_at : iblk m c 0 t (ix3 0 r k) = AX m c (ix3 (sq t) (pl t r) k) := by blk_point [iblk, V, idx t]
theorem g_at : iblk m c 1 t (ix2 0 k) = AG m c (ix2 0 k) := by blk_point [iblk, V, idx t]
theorem s_at : iblk m c 2 t (ix3 0 0 k) = AS m c (ix3 (sq t) 0 k) := by blk_point [iblk, V, idx t]
theorem d_at : iblk m c 3 t (ix3 0 r k) = AD m c (ix3 (sq t) (pl t r) k) := by blk_point [iblk, V, idx t]
theorem e_at : iblk m c 4 t (ix3 0 r k) = AE m c (ix3 (sq t) (pl t r) k) := by blk_point [iblk, V, idx t]
theorem y_at : iblk m c 5 t (ix3 0 r k) = AY m c (ix3 (sq t) (pl t r) k) := by blk_point [iblk, V, idx t]

theorem row_at : krow (iblk m c 0 t) r = row (AX m c) (sq t) (pl t r) := funext fun j => x_at m c t r j

theorem cot_at : kcot (iblk m c 1 t) (iblk m c 2 t) (iblk m c 3 t) r = cot (AG m c) (AS m c) (AD m c) (sq t) (pl t r) := by
  funext j
  exact kcot_of _ _ _ r j _ _ _ (d_at m c t r j) (s_at m c t j) (g_at m c t j)

theorem dg_at' (a : Vec Ideal S1x1024 .f32) : k0_pay1 (F := Ideal) (k0_pay10 (k0_pay4 (iblk m c 3 t)) (k0_pay7 (iblk m c 0 t))) (k0_pay17 a) (k0_pay18 (k0_pay5 (iblk m c 2 t))) (ix2 0 k) = a (ix2 0 k) + sxn (iblk m c 0 t) (iblk m c 3 t) k * (1 + AS m c (ix3 (sq t) 0 k)) := by
  rw [← s_at]; exact dg_step _ _ _ _ _

theorem ds_at' (a : Vec Ideal S1x1x1024 .f32) : k0_pay15 (F := Ideal) (k0_pay4 (iblk m c 3 t)) (iblk m c 1 t) (k0_pay7 (iblk m c 0 t)) a (ix3 0 0 k) = a (ix3 0 0 k) + sxn (iblk m c 0 t) (iblk m c 3 t) k * AG m c (ix2 0 k) := by
  rw [← g_at m c t]; exact ds_step _ _ _ _ _

/-- What the precondition says: the gain, the scale and the cotangent are numbers. -/
def Nums : Prop := (∀ k, Norm.Num (AG m c (ix2 0 k))) ∧ (∀ b k, Norm.Num (AS m c (ix3 b 0 k))) ∧ ∀ b t k, Norm.Num (AD m c (ix3 b t k))

variable {m c} (hn : Nums m c)
include hn

theorem one_num (b : Fin 2) : Norm.Num (1 + AS m c (ix3 b 0 k)) := Norm.Num.add ⟨1, rfl⟩ (hn.2.1 b k)

theorem cot_num (b : Fin 2) (t : Fin 2048) : Norm.Num (cot (AG m c) (AS m c) (AD m c) b t k) :=
  ((hn.2.2 b t k).mul (one_num k hn b)).mul (hn.1 k)

/-- The block's entries of the input's gradient are the reference's. -/
theorem dx_block : k0_pay8 (F := Ideal) (iblk m c 0 t) (iblk m c 3 t) (iblk m c 1 t) (iblk m c 2 t) (iblk m c 4 t) (ix2 r k) = DX (AX m c) (AG m c) (AS m c) (AD m c) (AE m c) (ix3 (sq t) (pl t r) k) := by
  rw [kdx_at, row_at, cot_at, e_at, dx_at, Norm.dker_eq _ _ Norm.width_pos _ (fun e => cot_num e hn _ _)]

/-- A block's sum, times a number, is taken inside. -/
theorem sxn_block (a : EReal) (ha : Norm.Num a) : sxn (iblk m c 0 t) (iblk m c 3 t) k * a = ∑ r : Fin 512, AX m c (ix3 (sq t) (pl t r) k) * Norm.rt Norm.width (row (AX m c) (sq t) (pl t r)) * (AD m c (ix3 (sq t) (pl t r) k) * a) := by
  unfold sxn
  simp only [row_at, x_at, d_at]
  refine Eq.trans (Norm.sum_mul_num (f := fun r : Fin 512 => AD m c (ix3 (sq t) (pl t r) k) * (AX m c (ix3 (sq t) (pl t r) k) * Norm.rt Norm.width (row (AX m c) (sq t) (pl t r))))
    (fun r => (hn.2.2 _ _ _).mul (Norm.normed_num Norm.width (row (AX m c) (sq t) (pl t r)) Norm.width_pos k)) ha) ?_
  exact Finset.sum_congr rfl fun r _ => by rw [mul_comm (AD m c _), mul_assoc]
end Reads

/-- The precondition read at an entry. -/
theorem nums (h : Cert.Pre_numbers.fn (F := Ideal) (AX m c) (AG m c) (AS m c) (AD m c) (AE m c) (AY m c) = fun _ => 1#1) : Nums m c := by
  have key (b : Fin 2) (t : Fin 2048) (k : Fin 1024) : max (AG m c (ix2 0 k)) (-(AG m c (ix2 0 k))) < ⊤ ∧ max (AS m c (ix3 b 0 k)) (-(AS m c (ix3 b 0 k))) < ⊤ ∧ max (AD m c (ix3 b t k)) (-(AD m c (ix3 b t k))) < ⊤ := by
    have h1 := congrFun h (ix3 b t k)
    have h2 : Cert.Pre_numbers.fn (F := Ideal) (AX m c) (AG m c) (AS m c) (AD m c) (AE m c) (AY m c) (ix3 b t k) = ((Ideal.cmp .olt (max (AG m c (ix2 0 k)) (-(AG m c (ix2 0 k)))) ⊤) &&& (Ideal.cmp .olt (max (AS m c (ix3 b 0 k)) (-(AS m c (ix3 b 0 k)))) ⊤)) &&& (Ideal.cmp .olt (max (AD m c (ix3 b t k)) (-(AD m c (ix3 b t k)))) ⊤) := by
      have inf : (Ideal.ofBits .f32 0x7F800000#32 : EReal) = ⊤ := by simp [Ideal.ofBits, Ideal.ieee]
      pointwise [Cert.Pre_numbers.fn]
      rw [inf]
      rfl
    rw [h2] at h1
    have h3 : ∀ a b : BitVec 1, a &&& b = 1#1 → a = 1#1 ∧ b = 1#1 := by decide
    have h4 (a : EReal) (ha : Ideal.cmp .olt a ⊤ = 1#1) : a < ⊤ := by
      by_contra hc
      simp [Ideal.cmp, hc] at ha
    exact ⟨h4 _ (h3 _ _ (h3 _ _ h1).1).1, h4 _ (h3 _ _ (h3 _ _ h1).1).2, h4 _ (h3 _ _ h1).2⟩
  exact ⟨fun k => Norm.num_of_abs_lt (key 0 0 k).1, fun b k => Norm.num_of_abs_lt (key b 0 k).2.1, fun b t k => Norm.num_of_abs_lt (key b t k).2.2⟩

section Embs
variable (t : Fin cfg0.N) (f : S2x2048x1024.Idx → EReal) (g : S1x1024.Idx → EReal) (h : S2x1x1024.Idx → EReal)

/-- Where the entries of the blocks lie in the arrays. -/
theorem emb6 (y0 : Fin 1) (y1 : Fin 512) (y2 : Fin 1024) : f ((win0_6.blk t).view.emb (ix3 y0 y1 y2)) = f (ix3 (sq t) (pl t y1) y2) := by blk_point [idx t]
theorem emb7 (y0 : Fin 1) (y1 : Fin 1024) : g ((win0_7.blk t).view.emb (ix2 y0 y1)) = g (ix2 0 y1) := by blk_point [idx t]
theorem emb8 (y0 y1 : Fin 1) (y2 : Fin 1024) : h ((win0_8.blk t).view.emb (ix3 y0 y1 y2)) = h (ix3 (sq t) 0 y2) := by blk_point [idx t]
theorem emb9 (y0 y1 : Fin 1) (y2 : Fin 1024) : h ((win0_9.blk t).view.emb (ix3 y0 y1 y2)) = h (ix3 (sq t) 0 y2) := by blk_point [idx t]
theorem emb10 (y0 y1 : Fin 1) (y2 : Fin 1024) : h ((win0_10.blk t).view.emb (ix3 y0 y1 y2)) = h (ix3 (sq t) 0 y2) := by blk_point [idx t]
end Embs

section Finals
variable (t : Fin cfg0.N) (hp : Nums m c)

/-- The point of a run of four, in the run's terms. -/
theorem run_sq (t : Fin cfg0.N) (s : Fin 4) (hl : 4 * (t.val / 4) + s.val < cfg0.N) : sq ⟨4 * (t.val / 4) + s.val, hl⟩ = sq t :=
  Fin.ext (by show (4 * (t.val / 4) + s.val) / 4 = t.val / 4; omega)

theorem run_pl (t : Fin cfg0.N) (s : Fin 4) (hl : 4 * (t.val / 4) + s.val < cfg0.N) (r : Fin 512) (hr : s.val * 512 + r.val < 2048) : pl ⟨4 * (t.val / 4) + s.val, hl⟩ r = ⟨s.val * 512 + r.val, hr⟩ :=
  Fin.ext (by show (4 * (t.val / 4) + s.val) % 4 * 512 + r.val = s.val * 512 + r.val; omega)

include hp in
/-- The eight blocks' parts of the gain's gradient. -/
theorem dg_run (k : Fin 1024) (hl : ∀ s : Fin 8, 8 * (t.val / 8) + s.val < cfg0.N) :
    ∑ s : Fin 8, sxn (iblk m c 0 ⟨8 * (t.val / 8) + s.val, hl s⟩) (iblk m c 3 ⟨8 * (t.val / 8) + s.val, hl s⟩) k * (1 + AS m c (ix3 (sq ⟨8 * (t.val / 8) + s.val, hl s⟩) 0 k))
      = ∑ b : Fin 2, ∑ t : Fin 2048, AX m c (ix3 b t k) * Norm.rt Norm.width (row (AX m c) b t) * (AD m c (ix3 b t k) * (1 + AS m c (ix3 b 0 k))) := by
  refine Eq.trans (Finset.sum_congr rfl fun s _ => sxn_block _ _ hp _ (one_num _ hp _)) (TwoAxes.eight_blocks _ _ fun s r => ?_)
  have hs : sq ⟨8 * (t.val / 8) + s.val, hl s⟩ = ⟨s.val / 4, by omega⟩ :=
    Fin.ext (by have := lt t; show (8 * (t.val / 8) + s.val) / 4 = s.val / 4; omega)
  have hr : pl ⟨8 * (t.val / 8) + s.val, hl s⟩ r = ⟨s.val % 4 * 512 + r.val, by omega⟩ :=
    Fin.ext (by show (8 * (t.val / 8) + s.val) % 4 * 512 + r.val = s.val % 4 * 512 + r.val; omega)
  rw [hs, hr]

include hp in
/-- The four blocks' parts of the scale's gradient. -/
theorem ds_run (k : Fin 1024) (hl : ∀ s : Fin 4, 4 * (t.val / 4) + s.val < cfg0.N) :
    ∑ s : Fin 4, sxn (iblk m c 0 ⟨4 * (t.val / 4) + s.val, hl s⟩) (iblk m c 3 ⟨4 * (t.val / 4) + s.val, hl s⟩) k * AG m c (ix2 0 k)
      = ∑ t' : Fin 2048, AX m c (ix3 (sq t) t' k) * Norm.rt Norm.width (row (AX m c) (sq t) t') * AG m c (ix2 0 k) * AD m c (ix3 (sq t) t' k) := by
  refine Eq.trans (Finset.sum_congr rfl fun s _ => sxn_block _ _ hp _ (hp.1 _)) (Fin.sum_mul_add_congr fun s r hr => ?_)
  rw [run_sq, run_pl _ _ _ _ hr, mul_comm (AD m c _), ← mul_assoc]

include hp in
theorem final_dx : (dats m 0 c).arrAt 6 cfg0.N = DX (AX m c) (AG m c) (AS m c) (AD m c) (AE m c) := by
  refine (dats m 0 c).arrAt_eq_of_covers 6 _ (by decide +kernel) fun t hf y => ?_
  blk_simp
  rw [after0_6]
  have hl : (outsAt0 m c t.val t.isLt).1 = k0_pay9 (F := Ideal) (k0_pay8 (iblk m c 0 t) (iblk m c 3 t) (iblk m c 1 t) (iblk m c 2 t) (iblk m c 4 t)) := by
    by_cases h : t.val % 4 = 0
    · by_cases h' : t.val % 8 = 0
      · rw [outsAt0_A m c t h h']; frame_out
      · rw [outsAt0_C m c t h h']; frame_out
    · rw [outsAt0_B m c t h (by omega)]; frame_out
  rw [hl]
  idx_vars y
  refine Eq.trans ?_ (emb6 t _ y0 y1 y2).symm
  refine Eq.trans ?_ (dx_block t y1 y2 hp)
  pointwise [k0_pay9]

/-- The accumulated sums at a row-shaped block's entry. -/
theorem only3 (j : S1x1x1024.Idx) : j = ix3 0 0 (j 2) := by
  rw [eq_ix3 j]; congr 1 <;> exact Subsingleton.elim _ _

theorem only2 (j : S1x1024.Idx) : j = ix2 0 (j 1) := by
  rw [eq_ix2 j]; congr 1; exact Subsingleton.elim _ _

include hp in
theorem final_dg : (dats m 0 c).arrAt 7 cfg0.N = DG (AX m c) (AS m c) (AD m c) := by
  refine (dats m 0 c).arrAt_eq_of_covers 7 _ (by decide +kernel) fun t hf y => ?_
  blk_simp
  have h3 : t.val % 8 = 7 := (flush0_7 t).mp hf
  rw [after0_7, Pipeline.eq_sum_fin_of_reset_step_apply_of_flush (fun n h => (outsAt0 m c n h).2.1) 8 (fun _ => 0)
    (fun t j => sxn (iblk m c 0 t) (iblk m c 3 t) (j 1) * (1 + AS m c (ix3 (sq t) 0 (j 1))))
    (fun t h j => by
      rw [outsAt0_A m c t (by omega) h]; frame_out; rw [only2 j]
      exact (dg_at' m c t (j 1) _).trans (congrArg (· + _) (zero14 _)))
    (fun t h j => by
      rw [only2 j]
      by_cases h' : t.val % 4 = 0
      · rw [outsAt0_C m c t h' h]; frame_out; exact dg_at' m c t (j 1) _
      · rw [outsAt0_B m c t h' h]; frame_out; exact dg_at' m c t (j 1) _) t h3 _, zero_add]
  idx_vars y
  refine Eq.trans ?_ (emb7 t _ y0 y1).symm
  refine Eq.trans ?_ (dg_at _ _ _ _ _).symm
  exact dg_run m c t hp y1 _

include hp in
theorem final_ds : (dats m 0 c).arrAt 8 cfg0.N = DS (AX m c) (AG m c) (AD m c) := by
  refine (dats m 0 c).arrAt_eq_of_covers 8 _ (by decide +kernel) fun t hf y => ?_
  blk_simp
  have h3 : t.val % 4 = 3 := (flush0_8 t).mp hf
  rw [after0_8, Pipeline.eq_sum_fin_of_reset_step_apply_of_flush (fun n h => (outsAt0 m c n h).2.2.1) 4 (fun _ => 0)
    (fun t j => sxn (iblk m c 0 t) (iblk m c 3 t) (j 2) * AG m c (ix2 0 (j 2)))
    (fun t h j => by
      rw [only3 j]
      by_cases h' : t.val % 8 = 0
      · rw [outsAt0_A m c t h h']; frame_out
        exact (ds_at' m c t (j 2) _).trans (congrArg (· + _) (zero11 _))
      · rw [outsAt0_C m c t h h']; frame_out
        exact (ds_at' m c t (j 2) _).trans (congrArg (· + _) (zero11 _)))
    (fun t h j => by
      rw [only3 j, outsAt0_B m c t h (by omega)]; frame_out; exact ds_at' m c t (j 2) _) t h3 _, zero_add]
  idx_vars y
  refine Eq.trans ?_ (emb8 t _ y0 y1 y2).symm
  refine Eq.trans ?_ (ds_at _ _ _ _ _ _).symm
  exact ds_run m c t hp y2 _

theorem final_dh : (dats m 0 c).arrAt 9 cfg0.N = DH (AD m c) := by
  refine (dats m 0 c).arrAt_eq_of_covers 9 _ (by decide +kernel) fun t hf y => ?_
  blk_simp
  have h3 : t.val % 4 = 3 := (flush0_9 t).mp hf
  rw [after0_9, Pipeline.eq_sum_fin_of_reset_step_apply_of_flush (fun n h => (outsAt0 m c n h).2.2.2.1) 4 (fun _ => 0)
    (fun t j => ∑ r : Fin 512, iblk m c 3 t (ix3 0 r (j 2)))
    (fun t h j => by
      rw [only3 j]
      by_cases h' : t.val % 8 = 0
      · rw [outsAt0_A m c t h h']; frame_out
        exact (dh_step _ _ _).trans (congrArg (· + _) (zero12 _))
      · rw [outsAt0_C m c t h h']; frame_out
        exact (dh_step _ _ _).trans (congrArg (· + _) (zero12 _)))
    (fun t h j => by
      rw [only3 j, outsAt0_B m c t h (by omega)]; frame_out; exact dh_step _ _ _) t h3 _, zero_add]
  idx_vars y
  refine Eq.trans ?_ (emb9 t _ y0 y1 y2).symm
  refine Eq.trans ?_ (dh_at _ _ _ _).symm
  refine Fin.sum_mul_add_congr fun s k hl => ?_
  rw [d_at, run_sq, run_pl _ _ _ _ hl]

include hp in
theorem final_dy : (dats m 0 c).arrAt 10 cfg0.N = DY (AX m c) (AG m c) (AS m c) (AD m c) (AE m c) (AY m c) := by
  refine (dats m 0 c).arrAt_eq_of_covers 10 _ (by decide +kernel) fun t hf y => ?_
  blk_simp
  have h3 : t.val % 4 = 3 := (flush0_10 t).mp hf
  rw [after0_10, Pipeline.eq_sum_fin_of_reset_step_apply_of_flush (fun n h => (outsAt0 m c n h).2.2.2.2) 4 (fun _ => 0)
    (fun t j => ∑ r : Fin 512, k0_pay8 (F := Ideal) (iblk m c 0 t) (iblk m c 3 t) (iblk m c 1 t) (iblk m c 2 t) (iblk m c 4 t) (ix2 r (j 2)) * iblk m c 5 t (ix3 0 r (j 2)))
    (fun t h j => by
      rw [only3 j]
      by_cases h' : t.val % 8 = 0
      · rw [outsAt0_A m c t h h']; frame_out
        exact (dy_step _ _ _ _ _ _ _ _).trans (congrArg (· + _) (zero13 _))
      · rw [outsAt0_C m c t h h']; frame_out
        exact (dy_step _ _ _ _ _ _ _ _).trans (congrArg (· + _) (zero13 _)))
    (fun t h j => by
      rw [only3 j, outsAt0_B m c t h (by omega)]; frame_out; exact dy_step _ _ _ _ _ _ _ _) t h3 _, zero_add]
  idx_vars y
  refine Eq.trans ?_ (emb10 t _ y0 y1 y2).symm
  refine Eq.trans ?_ (dy_at _ _ _ _ _ _ _ _ _).symm
  refine Fin.sum_mul_add_congr fun s k hl => ?_
  rw [dx_block _ _ _ hp, y_at, run_sq, run_pl _ _ _ _ hl]
end Finals
end Ker

/-- The reference runs to its end and leaves its arguments as they were. -/
theorem frame_ref : Cert.quiescent_Reference26Ideal := fun m ρ _ =>
  (θ_run Cert.Reference26Ideal.defs _ _).mono (fun r h => ⟨fun c => (h c).2.2.2.2.2, sem_eq_zero_of_no_sems (by decide) r.2⟩) (Cert.Reference26Ideal.Value.run m ρ)

/-- The same where the precondition holds. -/
theorem frame_ref_pre : Cert.quiescent_Reference26Ideal_pre_numbers := fun m ρ _ => frame_ref m ρ trivial

/-- The value claim: kernel and reference end with the same arrays. -/
theorem value : Cert.algebraic_Kernel26Ideal_Reference26Ideal_pre_numbers := by
  intro m ρ m' ρ' hp hag
  refine ⟨fun c => DX (m ((c.tc : Thread Cert.Kernel26Ideal.nD Cert.Kernel26Ideal.τ).loc Cert.Kernel26Ideal.main_arg0)) (m ((c.tc : Thread Cert.Kernel26Ideal.nD Cert.Kernel26Ideal.τ).loc Cert.Kernel26Ideal.main_arg1)) (m ((c.tc : Thread Cert.Kernel26Ideal.nD Cert.Kernel26Ideal.τ).loc Cert.Kernel26Ideal.main_arg2)) (m ((c.tc : Thread Cert.Kernel26Ideal.nD Cert.Kernel26Ideal.τ).loc Cert.Kernel26Ideal.main_arg3)) (m ((c.tc : Thread Cert.Kernel26Ideal.nD Cert.Kernel26Ideal.τ).loc Cert.Kernel26Ideal.main_arg4)), fun c => DG (m ((c.tc : Thread Cert.Kernel26Ideal.nD Cert.Kernel26Ideal.τ).loc Cert.Kernel26Ideal.main_arg0)) (m ((c.tc : Thread Cert.Kernel26Ideal.nD Cert.Kernel26Ideal.τ).loc Cert.Kernel26Ideal.main_arg2)) (m ((c.tc : Thread Cert.Kernel26Ideal.nD Cert.Kernel26Ideal.τ).loc Cert.Kernel26Ideal.main_arg3)), fun c => DS (m ((c.tc : Thread Cert.Kernel26Ideal.nD Cert.Kernel26Ideal.τ).loc Cert.Kernel26Ideal.main_arg0)) (m ((c.tc : Thread Cert.Kernel26Ideal.nD Cert.Kernel26Ideal.τ).loc Cert.Kernel26Ideal.main_arg1)) (m ((c.tc : Thread Cert.Kernel26Ideal.nD Cert.Kernel26Ideal.τ).loc Cert.Kernel26Ideal.main_arg3)), fun c => DH (m ((c.tc : Thread Cert.Kernel26Ideal.nD Cert.Kernel26Ideal.τ).loc Cert.Kernel26Ideal.main_arg3)), fun c => DY (m ((c.tc : Thread Cert.Kernel26Ideal.nD Cert.Kernel26Ideal.τ).loc Cert.Kernel26Ideal.main_arg0)) (m ((c.tc : Thread Cert.Kernel26Ideal.nD Cert.Kernel26Ideal.τ).loc Cert.Kernel26Ideal.main_arg1)) (m ((c.tc : Thread Cert.Kernel26Ideal.nD Cert.Kernel26Ideal.τ).loc Cert.Kernel26Ideal.main_arg2)) (m ((c.tc : Thread Cert.Kernel26Ideal.nD Cert.Kernel26Ideal.τ).loc Cert.Kernel26Ideal.main_arg3)) (m ((c.tc : Thread Cert.Kernel26Ideal.nD Cert.Kernel26Ideal.τ).loc Cert.Kernel26Ideal.main_arg4)) (m ((c.tc : Thread Cert.Kernel26Ideal.nD Cert.Kernel26Ideal.τ).loc Cert.Kernel26Ideal.main_arg5)), ?_, ?_⟩
  · refine (θ_run Cert.Kernel26Ideal.defs _ _).mono (fun _ h c => ?_) (Cert.Kernel26Ideal.Value.run_blocks m ρ)
    exact ⟨(h c).1.trans (final_dx m c (nums m c (hp c))), (h c).2.1.trans (final_dg m c (nums m c (hp c))), (h c).2.2.1.trans (final_ds m c (nums m c (hp c))), (h c).2.2.2.1.trans (final_dh m c), (h c).2.2.2.2.1.trans (final_dy m c (nums m c (hp c))), (h c).2.2.2.2.2⟩
  · refine (θ_run Cert.Reference26Ideal.defs _ _).mono (fun _ h c => ?_) (Cert.Reference26Ideal.Value.run m' ρ')
    obtain ⟨h0, h1, h2, h3, h4, h5⟩ := hag c
    refine ⟨(h c).1.trans ?_, (h c).2.1.trans ?_, (h c).2.2.1.trans ?_, (h c).2.2.2.1.trans ?_, (h c).2.2.2.2.1.trans ?_, (h c).2.2.2.2.2⟩
    · show DX (m' ((c.tc : Thread Cert.Reference26Ideal.nD Cert.Reference26Ideal.τ).loc Cert.Reference26Ideal.main_arg0)) (m' ((c.tc : Thread Cert.Reference26Ideal.nD Cert.Reference26Ideal.τ).loc Cert.Reference26Ideal.main_arg1)) (m' ((c.tc : Thread Cert.Reference26Ideal.nD Cert.Reference26Ideal.τ).loc Cert.Reference26Ideal.main_arg2)) (m' ((c.tc : Thread Cert.Reference26Ideal.nD Cert.Reference26Ideal.τ).loc Cert.Reference26Ideal.main_arg3)) (m' ((c.tc : Thread Cert.Reference26Ideal.nD Cert.Reference26Ideal.τ).loc Cert.Reference26Ideal.main_arg4)) = DX (m ((c.tc : Thread Cert.Kernel26Ideal.nD Cert.Kernel26Ideal.τ).loc Cert.Kernel26Ideal.main_arg0)) (m ((c.tc : Thread Cert.Kernel26Ideal.nD Cert.Kernel26Ideal.τ).loc Cert.Kernel26Ideal.main_arg1)) (m ((c.tc : Thread Cert.Kernel26Ideal.nD Cert.Kernel26Ideal.τ).loc Cert.Kernel26Ideal.main_arg2)) (m ((c.tc : Thread Cert.Kernel26Ideal.nD Cert.Kernel26Ideal.τ).loc Cert.Kernel26Ideal.main_arg3)) (m ((c.tc : Thread Cert.Kernel26Ideal.nD Cert.Kernel26Ideal.τ).loc Cert.Kernel26Ideal.main_arg4))
      rw [h0, h1, h2, h3, h4]
    · show DG (m' ((c.tc : Thread Cert.Reference26Ideal.nD Cert.Reference26Ideal.τ).loc Cert.Reference26Ideal.main_arg0)) (m' ((c.tc : Thread Cert.Reference26Ideal.nD Cert.Reference26Ideal.τ).loc Cert.Reference26Ideal.main_arg2)) (m' ((c.tc : Thread Cert.Reference26Ideal.nD Cert.Reference26Ideal.τ).loc Cert.Reference26Ideal.main_arg3)) = DG (m ((c.tc : Thread Cert.Kernel26Ideal.nD Cert.Kernel26Ideal.τ).loc Cert.Kernel26Ideal.main_arg0)) (m ((c.tc : Thread Cert.Kernel26Ideal.nD Cert.Kernel26Ideal.τ).loc Cert.Kernel26Ideal.main_arg2)) (m ((c.tc : Thread Cert.Kernel26Ideal.nD Cert.Kernel26Ideal.τ).loc Cert.Kernel26Ideal.main_arg3))
      rw [h0, h2, h3]
    · show DS (m' ((c.tc : Thread Cert.Reference26Ideal.nD Cert.Reference26Ideal.τ).loc Cert.Reference26Ideal.main_arg0)) (m' ((c.tc : Thread Cert.Reference26Ideal.nD Cert.Reference26Ideal.τ).loc Cert.Reference26Ideal.main_arg1)) (m' ((c.tc : Thread Cert.Reference26Ideal.nD Cert.Reference26Ideal.τ).loc Cert.Reference26Ideal.main_arg3)) = DS (m ((c.tc : Thread Cert.Kernel26Ideal.nD Cert.Kernel26Ideal.τ).loc Cert.Kernel26Ideal.main_arg0)) (m ((c.tc : Thread Cert.Kernel26Ideal.nD Cert.Kernel26Ideal.τ).loc Cert.Kernel26Ideal.main_arg1)) (m ((c.tc : Thread Cert.Kernel26Ideal.nD Cert.Kernel26Ideal.τ).loc Cert.Kernel26Ideal.main_arg3))
      rw [h0, h1, h3]
    · show DH (m' ((c.tc : Thread Cert.Reference26Ideal.nD Cert.Reference26Ideal.τ).loc Cert.Reference26Ideal.main_arg3)) = DH (m ((c.tc : Thread Cert.Kernel26Ideal.nD Cert.Kernel26Ideal.τ).loc Cert.Kernel26Ideal.main_arg3))
      rw [h3]
    · show DY (m' ((c.tc : Thread Cert.Reference26Ideal.nD Cert.Reference26Ideal.τ).loc Cert.Reference26Ideal.main_arg0)) (m' ((c.tc : Thread Cert.Reference26Ideal.nD Cert.Reference26Ideal.τ).loc Cert.Reference26Ideal.main_arg1)) (m' ((c.tc : Thread Cert.Reference26Ideal.nD Cert.Reference26Ideal.τ).loc Cert.Reference26Ideal.main_arg2)) (m' ((c.tc : Thread Cert.Reference26Ideal.nD Cert.Reference26Ideal.τ).loc Cert.Reference26Ideal.main_arg3)) (m' ((c.tc : Thread Cert.Reference26Ideal.nD Cert.Reference26Ideal.τ).loc Cert.Reference26Ideal.main_arg4)) (m' ((c.tc : Thread Cert.Reference26Ideal.nD Cert.Reference26Ideal.τ).loc Cert.Reference26Ideal.main_arg5)) = DY (m ((c.tc : Thread Cert.Kernel26Ideal.nD Cert.Kernel26Ideal.τ).loc Cert.Kernel26Ideal.main_arg0)) (m ((c.tc : Thread Cert.Kernel26Ideal.nD Cert.Kernel26Ideal.τ).loc Cert.Kernel26Ideal.main_arg1)) (m ((c.tc : Thread Cert.Kernel26Ideal.nD Cert.Kernel26Ideal.τ).loc Cert.Kernel26Ideal.main_arg2)) (m ((c.tc : Thread Cert.Kernel26Ideal.nD Cert.Kernel26Ideal.τ).loc Cert.Kernel26Ideal.main_arg3)) (m ((c.tc : Thread Cert.Kernel26Ideal.nD Cert.Kernel26Ideal.τ).loc Cert.Kernel26Ideal.main_arg4)) (m ((c.tc : Thread Cert.Kernel26Ideal.nD Cert.Kernel26Ideal.τ).loc Cert.Kernel26Ideal.main_arg5))
      rw [h0, h1, h2, h3, h4, h5]
end Cert.NormBwd
end
-- ==== Proof.lean ====
/- The certificate of the backward and forward calls: the frames of every call, for each product call, each call of the optimiser, and the calls of the norms, the gate and the loss that kernel and reference agree, and for the attention's backward call that its gradient of the values is the reference's.
 -/
module

public import proofs.«01_k».proof.Defs
public import proofs.«01_k».proof.Proof.Gen.Kernel
public import proofs.«01_k».proof.Proof.Gen.KernelIdeal
public import proofs.«01_k».proof.Proof.Gen.Pre_gains_finite
public import proofs.«01_k».proof.Proof.Gen.ReferenceIdeal
public import proofs.«01_k».proof.Proof.Gen.ReferenceIdeal.Run
public import proofs.«01_k».proof.Proof.SbClaim
public import proofs.«01_k».proof.Proof.Gen.Kernel2
public import proofs.«01_k».proof.Proof.Gen.Kernel2.Frame
public import proofs.«01_k».proof.Proof.Gen.Kernel2Ideal
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Hidden
public import proofs.«01_k».proof.Proof.Gen.Kernel3
public import proofs.«01_k».proof.Proof.Gen.Kernel3.Frame
public import proofs.«01_k».proof.Proof.Gen.Kernel3Ideal
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.HiddenWeight
public import proofs.«01_k».proof.Proof.Gen.Kernel4
public import proofs.«01_k».proof.Proof.Gen.Kernel4.Frame
public import proofs.«01_k».proof.Proof.Gen.Kernel4Ideal
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.UpWeight
public import proofs.«01_k».proof.Proof.Gen.Kernel5
public import proofs.«01_k».proof.Proof.Gen.Kernel5.Frame
public import proofs.«01_k».proof.Proof.Gen.Kernel5Ideal
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run
public import proofs.«01_k».proof.Proof.UpInput
public import proofs.«01_k».proof.Proof.Gen.Kernel6
public import proofs.«01_k».proof.Proof.Gen.Kernel6.Frame
public import proofs.«01_k».proof.Proof.Gen.Kernel6Ideal
public import proofs.«01_k».proof.Proof.Gen.Kernel6Ideal.Frame
public import proofs.«01_k».proof.Proof.Gen.Kernel6Ideal.Value
public import proofs.«01_k».proof.Proof.Gen.Reference6Ideal
public import proofs.«01_k».proof.Proof.Gen.Reference6Ideal.Run
public import proofs.«01_k».proof.Proof.OutInput
public import proofs.«01_k».proof.Proof.Gen.Kernel7
public import proofs.«01_k».proof.Proof.Gen.Kernel7.Frame
public import proofs.«01_k».proof.Proof.Gen.Kernel7Ideal
public import proofs.«01_k».proof.Proof.Gen.Kernel7Ideal.Frame
public import proofs.«01_k».proof.Proof.Gen.Kernel7Ideal.Value
public import proofs.«01_k».proof.Proof.Gen.Reference7Ideal
public import proofs.«01_k».proof.Proof.Gen.Reference7Ideal.Run
public import proofs.«01_k».proof.Proof.OutWeight
public import proofs.«01_k».proof.Proof.Gen.Kernel8
public import proofs.«01_k».proof.Proof.Gen.Kernel8.Frame
public import proofs.«01_k».proof.Proof.Gen.Kernel8Ideal
public import proofs.«01_k».proof.Proof.Gen.Kernel8Ideal.Frame
public import proofs.«01_k».proof.Proof.Gen.Kernel8Ideal.Value
public import proofs.«01_k».proof.Proof.Gen.Reference8Ideal
public import proofs.«01_k».proof.Proof.Gen.Reference8Ideal.Run
public import proofs.«01_k».proof.Proof.ProjWeight
public import proofs.«01_k».proof.Proof.Gen.Kernel9
public import proofs.«01_k».proof.Proof.Gen.Kernel9.Frame
public import proofs.«01_k».proof.Proof.Gen.Kernel9Ideal
public import proofs.«01_k».proof.Proof.Gen.Kernel9Ideal.Frame
public import proofs.«01_k».proof.Proof.Gen.Kernel9Ideal.Value
public import proofs.«01_k».proof.Proof.Gen.Reference9Ideal
public import proofs.«01_k».proof.Proof.Gen.Reference9Ideal.Run
public import proofs.«01_k».proof.Proof.ProjInput
public import proofs.«01_k».proof.Proof.Gen.Kernel10
public import proofs.«01_k».proof.Proof.Gen.Kernel10.Frame
public import proofs.«01_k».proof.Proof.Gen.Kernel10Ideal
public import proofs.«01_k».proof.Proof.Gen.Kernel10Ideal.Frame
public import proofs.«01_k».proof.Proof.Gen.Kernel10Ideal.Value
public import proofs.«01_k».proof.Proof.Gen.Reference10Ideal
public import proofs.«01_k».proof.Proof.Gen.Reference10Ideal.Run
public import proofs.«01_k».proof.Proof.ProjFwd
public import proofs.«01_k».proof.Proof.Gen.Kernel11
public import proofs.«01_k».proof.Proof.Gen.Kernel11.Frame
public import proofs.«01_k».proof.Proof.Gen.Kernel11Ideal
public import proofs.«01_k».proof.Proof.Gen.Kernel11Ideal.Frame
public import proofs.«01_k».proof.Proof.Gen.Kernel11Ideal.Value
public import proofs.«01_k».proof.Proof.Gen.Reference11Ideal
public import proofs.«01_k».proof.Proof.Gen.Reference11Ideal.Run
public import proofs.«01_k».proof.Proof.OutFwd
public import proofs.«01_k».proof.Proof.Gen.Kernel12
public import proofs.«01_k».proof.Proof.Gen.Kernel12.Frame
public import proofs.«01_k».proof.Proof.Gen.Kernel12Ideal
public import proofs.«01_k».proof.Proof.Gen.Kernel12Ideal.Frame
public import proofs.«01_k».proof.Proof.Gen.Kernel12Ideal.Value
public import proofs.«01_k».proof.Proof.Gen.Reference12Ideal
public import proofs.«01_k».proof.Proof.Gen.Reference12Ideal.Run
public import proofs.«01_k».proof.Proof.UpFwd
public import proofs.«01_k».proof.Proof.Gen.Kernel13
public import proofs.«01_k».proof.Proof.Gen.Kernel13.Frame
public import proofs.«01_k».proof.Proof.Gen.Kernel13Ideal
public import proofs.«01_k».proof.Proof.Gen.Kernel13Ideal.Frame
public import proofs.«01_k».proof.Proof.Gen.Kernel13Ideal.Value
public import proofs.«01_k».proof.Proof.Gen.Reference13Ideal
public import proofs.«01_k».proof.Proof.Gen.Reference13Ideal.Run
public import proofs.«01_k».proof.Proof.DownFwd
public import proofs.«01_k».proof.Proof.Gen.Kernel14
public import proofs.«01_k».proof.Proof.Gen.Kernel14.Frame
public import proofs.«01_k».proof.Proof.Gen.Kernel14Ideal
public import proofs.«01_k».proof.Proof.Gen.Kernel14Ideal.Frame
public import proofs.«01_k».proof.Proof.Gen.Kernel14Ideal.Value
public import proofs.«01_k».proof.Proof.Gen.Reference14Ideal
public import proofs.«01_k».proof.Proof.Gen.Reference14Ideal.Run
public import proofs.«01_k».proof.Proof.AdamAda
public import proofs.«01_k».proof.Proof.Gen.Kernel15
public import proofs.«01_k».proof.Proof.Gen.Kernel15.Frame
public import proofs.«01_k».proof.Proof.Gen.Kernel15Ideal
public import proofs.«01_k».proof.Proof.Gen.Kernel15Ideal.Frame
public import proofs.«01_k».proof.Proof.Gen.Kernel15Ideal.Value
public import proofs.«01_k».proof.Proof.Gen.Reference15Ideal
public import proofs.«01_k».proof.Proof.Gen.Reference15Ideal.Run
public import proofs.«01_k».proof.Proof.AdamBias
public import proofs.«01_k».proof.Proof.Gen.Kernel16
public import proofs.«01_k».proof.Proof.Gen.Kernel16.Frame
public import proofs.«01_k».proof.Proof.Gen.Kernel16Ideal
public import proofs.«01_k».proof.Proof.Gen.Kernel16Ideal.Frame
public import proofs.«01_k».proof.Proof.Gen.Kernel16Ideal.Value
public import proofs.«01_k».proof.Proof.Gen.Reference16Ideal
public import proofs.«01_k».proof.Proof.Gen.Reference16Ideal.Run
public import proofs.«01_k».proof.Proof.AdamConv
public import proofs.«01_k».proof.Proof.Gen.Kernel17
public import proofs.«01_k».proof.Proof.Gen.Kernel17.Frame
public import proofs.«01_k».proof.Proof.Gen.Kernel17Ideal
public import proofs.«01_k».proof.Proof.Gen.Kernel17Ideal.Frame
public import proofs.«01_k».proof.Proof.Gen.Kernel17Ideal.Value
public import proofs.«01_k».proof.Proof.Gen.Reference17Ideal
public import proofs.«01_k».proof.Proof.Gen.Reference17Ideal.Run
public import proofs.«01_k».proof.Proof.AdamSmall
public import proofs.«01_k».proof.Proof.Gen.Kernel18
public import proofs.«01_k».proof.Proof.Gen.Kernel18.Frame
public import proofs.«01_k».proof.Proof.Gen.Kernel18Ideal
public import proofs.«01_k».proof.Proof.Gen.Kernel18Ideal.Frame
public import proofs.«01_k».proof.Proof.Gen.Kernel18Ideal.Value
public import proofs.«01_k».proof.Proof.Gen.Reference18Ideal
public import proofs.«01_k».proof.Proof.Gen.Reference18Ideal.Run
public import proofs.«01_k».proof.Proof.AdamIn
public import proofs.«01_k».proof.Proof.Gen.Kernel19
public import proofs.«01_k».proof.Proof.Gen.Kernel19.Frame
public import proofs.«01_k».proof.Proof.Gen.Kernel19Ideal
public import proofs.«01_k».proof.Proof.Gen.Kernel19Ideal.Frame
public import proofs.«01_k».proof.Proof.Gen.Kernel19Ideal.Value
public import proofs.«01_k».proof.Proof.Gen.Reference19Ideal
public import proofs.«01_k».proof.Proof.Gen.Reference19Ideal.Run
public import proofs.«01_k».proof.Proof.AdamOut
public import proofs.«01_k».proof.Proof.Gen.Kernel20
public import proofs.«01_k».proof.Proof.Gen.Kernel20.Frame
public import proofs.«01_k».proof.Proof.Gen.Kernel20Ideal
public import proofs.«01_k».proof.Proof.Gen.Kernel20Ideal.Frame
public import proofs.«01_k».proof.Proof.Gen.Kernel20Ideal.Value
public import proofs.«01_k».proof.Proof.Gen.Reference20Ideal
public import proofs.«01_k».proof.Proof.Gen.Reference20Ideal.Run
public import proofs.«01_k».proof.Proof.AdamUp
public import proofs.«01_k».proof.Proof.Gen.Kernel21
public import proofs.«01_k».proof.Proof.Gen.Kernel21.Frame
public import proofs.«01_k».proof.Proof.Gen.Kernel21Ideal
public import proofs.«01_k».proof.Proof.Gen.Kernel21Ideal.Frame
public import proofs.«01_k».proof.Proof.Gen.Kernel21Ideal.Value
public import proofs.«01_k».proof.Proof.Gen.Reference21Ideal
public import proofs.«01_k».proof.Proof.Gen.Reference21Ideal.Run
public import proofs.«01_k».proof.Proof.AdamDown
public import proofs.«01_k».proof.Proof.Gen.Kernel22
public import proofs.«01_k».proof.Proof.Gen.Kernel22.Frame
public import proofs.«01_k».proof.Proof.Gen.Kernel22Ideal
public import proofs.«01_k».proof.Proof.Gen.Kernel22Ideal.Frame
public import proofs.«01_k».proof.Proof.Gen.Kernel22Ideal.Value
public import proofs.«01_k».proof.Proof.Gen.Reference22Ideal
public import proofs.«01_k».proof.Proof.Gen.Reference22Ideal.Run
public import proofs.«01_k».proof.Proof.GateGrad
public import proofs.«01_k».proof.Proof.Gen.Kernel23
public import proofs.«01_k».proof.Proof.Gen.Kernel23.Frame
public import proofs.«01_k».proof.Proof.Gen.Kernel23Ideal
public import proofs.«01_k».proof.Proof.Gen.Kernel23Ideal.Frame
public import proofs.«01_k».proof.Proof.Gen.Kernel23Ideal.Value
public import proofs.«01_k».proof.Proof.Gen.Reference23Ideal
public import proofs.«01_k».proof.Proof.Gen.Reference23Ideal.Run
public import proofs.«01_k».proof.Proof.LossGrad
public import proofs.«01_k».proof.Proof.Gen.Kernel24
public import proofs.«01_k».proof.Proof.Gen.Kernel24.Frame
public import proofs.«01_k».proof.Proof.Gen.Kernel24Ideal
public import proofs.«01_k».proof.Proof.Gen.Kernel24Ideal.Frame
public import proofs.«01_k».proof.Proof.Gen.Kernel24Ideal.Value
public import proofs.«01_k».proof.Proof.Gen.Reference24Ideal
public import proofs.«01_k».proof.Proof.Gen.Reference24Ideal.Run
public import proofs.«01_k».proof.Proof.NormFwd
public import proofs.«01_k».proof.Proof.Gen.Kernel25
public import proofs.«01_k».proof.Proof.Gen.Kernel25.Frame
public import proofs.«01_k».proof.Proof.Gen.Kernel25Ideal
public import proofs.«01_k».proof.Proof.Gen.Kernel25Ideal.Frame
public import proofs.«01_k».proof.Proof.Gen.Kernel25Ideal.Value
public import proofs.«01_k».proof.Proof.Gen.Reference25Ideal
public import proofs.«01_k».proof.Proof.Gen.Reference25Ideal.Run
public import proofs.«01_k».proof.Proof.HeadNorm
public import proofs.«01_k».proof.Proof.Gen.Kernel26
public import proofs.«01_k».proof.Proof.Gen.Kernel26.Frame
public import proofs.«01_k».proof.Proof.Gen.Kernel26Ideal
public import proofs.«01_k».proof.Proof.Gen.Kernel26Ideal.Frame
public import proofs.«01_k».proof.Proof.Gen.Kernel26Ideal.Value
public import proofs.«01_k».proof.Proof.Gen.Reference26Ideal
public import proofs.«01_k».proof.Proof.Gen.Reference26Ideal.Run
public import proofs.«01_k».proof.Proof.NormBwd
public import proofs.«01_k».proof.Proof.Gen.Pre_numbers
public import Idealize.ShloMosaic.Adequacy
public import Idealize.ShloMosaic.Init

@[expose] public section

noncomputable section

namespace Cert.Proof

open Idealize.ShloMosaic Idealize.SL.Sem

/-- Everything the certificate claims, each part from its own module. -/
theorem claim : Cert.Claim :=
  ⟨Cert.Kernel.Gen.facts, Cert.KernelIdeal.Gen.facts, Cert.ReferenceIdeal.Gen.facts, Cert.Kernel2.Gen.facts, Cert.Kernel2Ideal.Gen.facts, Cert.Reference2Ideal.Gen.facts, Cert.Kernel3.Gen.facts, Cert.Kernel3Ideal.Gen.facts, Cert.Reference3Ideal.Gen.facts, Cert.Kernel4.Gen.facts, Cert.Kernel4Ideal.Gen.facts, Cert.Reference4Ideal.Gen.facts, Cert.Kernel5.Gen.facts, Cert.Kernel5Ideal.Gen.facts, Cert.Reference5Ideal.Gen.facts, Cert.Kernel6.Gen.facts, Cert.Kernel6Ideal.Gen.facts, Cert.Reference6Ideal.Gen.facts, Cert.Kernel7.Gen.facts, Cert.Kernel7Ideal.Gen.facts, Cert.Reference7Ideal.Gen.facts, Cert.Kernel8.Gen.facts, Cert.Kernel8Ideal.Gen.facts, Cert.Reference8Ideal.Gen.facts, Cert.Kernel9.Gen.facts, Cert.Kernel9Ideal.Gen.facts, Cert.Reference9Ideal.Gen.facts, Cert.Kernel10.Gen.facts, Cert.Kernel10Ideal.Gen.facts, Cert.Reference10Ideal.Gen.facts, Cert.Kernel11.Gen.facts, Cert.Kernel11Ideal.Gen.facts, Cert.Reference11Ideal.Gen.facts, Cert.Kernel12.Gen.facts, Cert.Kernel12Ideal.Gen.facts, Cert.Reference12Ideal.Gen.facts, Cert.Kernel13.Gen.facts, Cert.Kernel13Ideal.Gen.facts, Cert.Reference13Ideal.Gen.facts, Cert.Kernel14.Gen.facts, Cert.Kernel14Ideal.Gen.facts, Cert.Reference14Ideal.Gen.facts, Cert.Kernel15.Gen.facts, Cert.Kernel15Ideal.Gen.facts, Cert.Reference15Ideal.Gen.facts, Cert.Kernel16.Gen.facts, Cert.Kernel16Ideal.Gen.facts, Cert.Reference16Ideal.Gen.facts, Cert.Kernel17.Gen.facts, Cert.Kernel17Ideal.Gen.facts, Cert.Reference17Ideal.Gen.facts, Cert.Kernel18.Gen.facts, Cert.Kernel18Ideal.Gen.facts, Cert.Reference18Ideal.Gen.facts, Cert.Kernel19.Gen.facts, Cert.Kernel19Ideal.Gen.facts, Cert.Reference19Ideal.Gen.facts, Cert.Kernel20.Gen.facts, Cert.Kernel20Ideal.Gen.facts, Cert.Reference20Ideal.Gen.facts, Cert.Kernel21.Gen.facts, Cert.Kernel21Ideal.Gen.facts, Cert.Reference21Ideal.Gen.facts, Cert.Kernel22.Gen.facts, Cert.Kernel22Ideal.Gen.facts, Cert.Reference22Ideal.Gen.facts, Cert.Kernel23.Gen.facts, Cert.Kernel23Ideal.Gen.facts, Cert.Reference23Ideal.Gen.facts, Cert.Kernel24.Gen.facts, Cert.Kernel24Ideal.Gen.facts, Cert.Reference24Ideal.Gen.facts, Cert.Kernel25.Gen.facts, Cert.Kernel25Ideal.Gen.facts, Cert.Reference25Ideal.Gen.facts, Cert.Kernel26.Gen.facts, Cert.Kernel26Ideal.Gen.facts, Cert.Reference26Ideal.Gen.facts, Cert.Pre_gains_finite.Gen.facts, Cert.Pre_numbers.Gen.facts,
    Cert.SbClaim.frame_kernel,
    Cert.SbClaim.frame_kernel_ideal,
    Cert.SbClaim.frame_kernel_ideal_pre,
    Cert.SbClaim.frame_ref,
    Cert.SbClaim.frame_ref_pre,
    fun m ρ _ => Cert.Kernel2.Gen.frame m ρ,
    fun m ρ _ => Cert.Kernel2Ideal.Gen.frame m ρ,
    Cert.Hidden.frame_ref,
    fun m ρ _ => Cert.Kernel3.Gen.frame m ρ,
    fun m ρ _ => Cert.Kernel3Ideal.Gen.frame m ρ,
    Cert.HiddenWeight.frame_ref,
    fun m ρ _ => Cert.Kernel4.Gen.frame m ρ,
    fun m ρ _ => Cert.Kernel4Ideal.Gen.frame m ρ,
    Cert.UpWeight.frame_ref,
    fun m ρ _ => Cert.Kernel5.Gen.frame m ρ,
    fun m ρ _ => Cert.Kernel5Ideal.Gen.frame m ρ,
    Cert.UpInput.frame_ref,
    fun m ρ _ => Cert.Kernel6.Gen.frame m ρ,
    fun m ρ _ => Cert.Kernel6Ideal.Gen.frame m ρ,
    Cert.OutInput.frame_ref,
    fun m ρ _ => Cert.Kernel7.Gen.frame m ρ,
    fun m ρ _ => Cert.Kernel7Ideal.Gen.frame m ρ,
    Cert.OutWeight.frame_ref,
    fun m ρ _ => Cert.Kernel8.Gen.frame m ρ,
    fun m ρ _ => Cert.Kernel8Ideal.Gen.frame m ρ,
    Cert.ProjWeight.frame_ref,
    fun m ρ _ => Cert.Kernel9.Gen.frame m ρ,
    fun m ρ _ => Cert.Kernel9Ideal.Gen.frame m ρ,
    Cert.ProjInput.frame_ref,
    fun m ρ _ => Cert.Kernel10.Gen.frame m ρ,
    fun m ρ _ => Cert.Kernel10Ideal.Gen.frame m ρ,
    Cert.ProjFwd.frame_ref,
    fun m ρ _ => Cert.Kernel11.Gen.frame m ρ,
    fun m ρ _ => Cert.Kernel11Ideal.Gen.frame m ρ,
    Cert.OutFwd.frame_ref,
    fun m ρ _ => Cert.Kernel12.Gen.frame m ρ,
    fun m ρ _ => Cert.Kernel12Ideal.Gen.frame m ρ,
    Cert.UpFwd.frame_ref,
    fun m ρ _ => Cert.Kernel13.Gen.frame m ρ,
    fun m ρ _ => Cert.Kernel13Ideal.Gen.frame m ρ,
    Cert.DownFwd.frame_ref,
    fun m ρ _ => Cert.Kernel14.Gen.frame m ρ,
    fun m ρ _ => Cert.Kernel14Ideal.Gen.frame m ρ,
    Cert.AdamAda.frame_ref,
    fun m ρ _ => Cert.Kernel15.Gen.frame m ρ,
    fun m ρ _ => Cert.Kernel15Ideal.Gen.frame m ρ,
    Cert.AdamBias.frame_ref,
    fun m ρ _ => Cert.Kernel16.Gen.frame m ρ,
    fun m ρ _ => Cert.Kernel16Ideal.Gen.frame m ρ,
    Cert.AdamConv.frame_ref,
    fun m ρ _ => Cert.Kernel17.Gen.frame m ρ,
    fun m ρ _ => Cert.Kernel17Ideal.Gen.frame m ρ,
    Cert.AdamSmall.frame_ref,
    fun m ρ _ => Cert.Kernel18.Gen.frame m ρ,
    fun m ρ _ => Cert.Kernel18Ideal.Gen.frame m ρ,
    Cert.AdamIn.frame_ref,
    fun m ρ _ => Cert.Kernel19.Gen.frame m ρ,
    fun m ρ _ => Cert.Kernel19Ideal.Gen.frame m ρ,
    Cert.AdamOut.frame_ref,
    fun m ρ _ => Cert.Kernel20.Gen.frame m ρ,
    fun m ρ _ => Cert.Kernel20Ideal.Gen.frame m ρ,
    Cert.AdamUp.frame_ref,
    fun m ρ _ => Cert.Kernel21.Gen.frame m ρ,
    fun m ρ _ => Cert.Kernel21Ideal.Gen.frame m ρ,
    Cert.AdamDown.frame_ref,
    fun m ρ _ => Cert.Kernel22.Gen.frame m ρ,
    fun m ρ _ => Cert.Kernel22Ideal.Gen.frame m ρ,
    Cert.GateGrad.frame_ref,
    fun m ρ _ => Cert.Kernel23.Gen.frame m ρ,
    fun m ρ _ => Cert.Kernel23Ideal.Gen.frame m ρ,
    Cert.LossGrad.frame_ref,
    fun m ρ _ => Cert.Kernel24.Gen.frame m ρ,
    fun m ρ _ => Cert.Kernel24Ideal.Gen.frame m ρ,
    Cert.NormFwd.frame_ref,
    fun m ρ _ => Cert.Kernel25.Gen.frame m ρ,
    fun m ρ _ => Cert.Kernel25Ideal.Gen.frame m ρ,
    Cert.HeadNorm.frame_ref,
    fun m ρ _ => Cert.Kernel26.Gen.frame m ρ,
    fun m ρ _ => Cert.Kernel26Ideal.Gen.frame m ρ,
    fun m ρ _ => Cert.Kernel26Ideal.Gen.frame m ρ,
    Cert.NormBwd.frame_ref,
    Cert.NormBwd.frame_ref_pre,
    trivial,
    Cert.SbClaim.value,
    trivial,
    Cert.Hidden.value,
    trivial,
    Cert.HiddenWeight.value,
    trivial,
    Cert.UpWeight.value,
    trivial,
    Cert.UpInput.value,
    trivial,
    Cert.OutInput.value,
    trivial,
    Cert.OutWeight.value,
    trivial,
    Cert.ProjWeight.value,
    trivial,
    Cert.ProjInput.value,
    trivial,
    Cert.ProjFwd.value,
    trivial,
    Cert.OutFwd.value,
    trivial,
    Cert.UpFwd.value,
    trivial,
    Cert.DownFwd.value,
    trivial,
    Cert.AdamAda.value,
    trivial,
    Cert.AdamBias.value,
    trivial,
    Cert.AdamConv.value,
    trivial,
    Cert.AdamSmall.value,
    trivial,
    Cert.AdamIn.value,
    trivial,
    Cert.AdamOut.value,
    trivial,
    Cert.AdamUp.value,
    trivial,
    Cert.AdamDown.value,
    trivial,
    Cert.GateGrad.value,
    trivial,
    Cert.LossGrad.value,
    trivial,
    Cert.NormFwd.value,
    trivial,
    Cert.HeadNorm.value,
    trivial,
    Cert.NormBwd.value⟩

end Cert.Proof

end
